-- ==== Defs.lean ====
def Pre_Kernel [hPre_rows_exist : Cert.Pre_rows_exist.Facts] (m : (ℓ : Loc Cert.Kernel.nD Cert.Kernel.τ Cert.Kernel.sig) → Buf (Elt Bits) ℓ) : Prop :=
  ∀ c : Dev Cert.Kernel.nD,
    (Cert.Pre_rows_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_rows_exist : Cert.Pre_rows_exist.Facts] (m : (ℓ : Loc Cert.KernelIdeal.nD Cert.KernelIdeal.τ Cert.KernelIdeal.sig) → Buf (Elt Ideal) ℓ) : Prop :=
  ∀ c : Dev Cert.KernelIdeal.nD,
    (Cert.Pre_rows_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_rows_exist : Cert.Pre_rows_exist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_exist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] [hPre_rows_exist : Cert.Pre_rows_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] [hPre_rows_exist : Cert.Pre_rows_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] [hPre_rows_exist : Cert.Pre_rows_exist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_exist : Cert.Pre_rows_exist.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v19_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_rows_exist : Cert.Pre_rows_exist.Facts),
    quiescent_Kernel (hKernel := hKernel) (hPre_rows_exist := hPre_rows_exist)
    ∧ quiescent_KernelIdeal (hKernelIdeal := hKernelIdeal) (hPre_rows_exist := hPre_rows_exist)
    ∧ quiescent_ReferenceIdeal (hReferenceIdeal := hReferenceIdeal) (hPre_rows_exist := hPre_rows_exist)
    ∧ preserves_Kernel_KernelIdeal
    ∧ algebraic_KernelIdeal_ReferenceIdeal (hKernelIdeal := hKernelIdeal) (hReferenceIdeal := hReferenceIdeal) (hPre_rows_exist := hPre_rows_exist)
-- ==== Pre_rows_exist.lean ====
abbrev S1000000x256 : Shape := ⟨2, ![1000000, 256]⟩
abbrev S1000000 : Shape := ⟨1, ![1000000]⟩
abbrev S24x1536 : Shape := ⟨2, ![24, 1536]⟩
abbrev S24 : Shape := ⟨1, ![24]⟩
abbrev S1024x200 : Shape := ⟨2, ![1024, 200]⟩
abbrev S200 : Shape := ⟨1, ![200]⟩
abbrev S200x80 : Shape := ⟨2, ![200, 80]⟩
abbrev S80 : Shape := ⟨1, ![80]⟩
abbrev S1 : Shape := ⟨1, ![1]⟩
abbrev S_ : Shape := ⟨0, ![]⟩

class Facts : Prop where
  bcast_S_S24x1536 : S_.BroadcastsInDim S24x1536 (![] : Fin 0 → Fin S24x1536.rank)
  reducesTo_S24x1536_S_d0_1 : S24x1536.ReducesTo [0, 1] S_
  h_S_ : 0 < S_.numel
  bcast_S_S24 : S_.BroadcastsInDim S24 (![] : Fin 0 → Fin S24.rank)
  reducesTo_S24_S_d0 : S24.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : IVec S1000000x256 8) (main_arg1 : FVec F S1000000 .f32) (main_arg2 : IVec S24x1536 32) (main_arg3 : IVec S24 32) (main_arg4 : IVec S24 32) (main_arg5 : FVec F S1024x200 .bf16) (main_arg6 : FVec F S200 .f32) (main_arg7 : FVec F S200 .f32) (main_arg8 : FVec F S200x80 .bf16) (main_arg9 : FVec F S80 .f32) (main_arg10 : FVec F S80 .f32) (main_arg11 : FVec F S80 .bf16) (main_arg12 : FVec F S1 .f32) : IVec S_ 1 :=
  let main_c : IVec S_ 32 := constantI S_ 32 0#32
  let main_v0 : IVec S24x1536 32 := broadcastInDim S24x1536 ![] bcast_S_S24x1536 main_c
  let main_v1 : IVec S24x1536 1 := cmpi .sge main_arg2 main_v0
  let main_c_0 : IVec S_ 32 := constantI S_ 32 999936#32
  let main_v2 : IVec S24x1536 32 := broadcastInDim S24x1536 ![] bcast_S_S24x1536 main_c_0
  let main_v3 : IVec S24x1536 1 := cmpi .slt main_arg2 main_v2
  let main_v4 : IVec S24x1536 1 := andi main_v1 main_v3
  let main_c_1 : IVec S_ 1 := constantI S_ 1 1#1
  let main_v5 : IVec S_ 1 := (fun x v => Host.reduce IntOp.andi x v reducesTo_S24x1536_S_d0_1 h_S_) main_v4 main_c_1
  let main_c_2 : IVec S_ 32 := constantI S_ 32 0#32
  let main_v6 : IVec S24 32 := broadcastInDim S24 ![] bcast_S_S24 main_c_2
  let main_v7 : IVec S24 1 := cmpi .sge main_arg4 main_v6
  let main_c_3 : IVec S_ 32 := constantI S_ 32 999936#32
  let main_v8 : IVec S24 32 := broadcastInDim S24 ![] bcast_S_S24 main_c_3
  let main_v9 : IVec S24 1 := cmpi .slt main_arg4 main_v8
  let main_v10 : IVec S24 1 := andi main_v7 main_v9
  let main_c_4 : IVec S_ 1 := constantI S_ 1 1#1
  let main_v11 : IVec S_ 1 := (fun x v => Host.reduce IntOp.andi x v reducesTo_S24_S_d0 h_S_) main_v10 main_c_4
  let main_v12 : IVec S_ 1 := andi main_v5 main_v11
  let main_c_5 : IVec S_ 32 := constantI S_ 32 1536#32
  let main_v13 : IVec S24 32 := broadcastInDim S24 ![] bcast_S_S24 main_c_5
  let main_v14 : IVec S24 1 := cmpi .sle main_arg3 main_v13
  let main_c_6 : IVec S_ 1 := constantI S_ 1 1#1
  let main_v15 : IVec S_ 1 := (fun x v => Host.reduce IntOp.andi x v reducesTo_S24_S_d0 h_S_) main_v14 main_c_6
  fn_part1 (F := F) main_v12 main_v15
-- ==== Kernel.lean ====
abbrev S1000000x256 : Shape := ⟨2, ![1000000, 256]⟩
abbrev S1000000 : Shape := ⟨1, ![1000000]⟩
abbrev S24x1536 : Shape := ⟨2, ![24, 1536]⟩
abbrev S24 : Shape := ⟨1, ![24]⟩
abbrev S1024x200 : Shape := ⟨2, ![1024, 200]⟩
abbrev S200 : Shape := ⟨1, ![200]⟩
abbrev S200x80 : Shape := ⟨2, ![200, 80]⟩
abbrev S80 : Shape := ⟨1, ![80]⟩
abbrev S1 : Shape := ⟨1, ![1]⟩
abbrev S250000x4x256 : Shape := ⟨3, ![250000, 4, 256]⟩
abbrev S250000x256x4 : Shape := ⟨3, ![250000, 256, 4]⟩
abbrev S250000x256 : Shape := ⟨2, ![250000, 256]⟩
abbrev S24x12x128 : Shape := ⟨3, ![24, 12, 128]⟩
abbrev S_ : Shape := ⟨0, ![]⟩
abbrev S128 : Shape := ⟨1, ![128]⟩
abbrev S1x128 : Shape := ⟨2, ![1, 128]⟩
abbrev S1024x256 : Shape := ⟨2, ![1024, 256]⟩
abbrev S256 : Shape := ⟨1, ![256]⟩
abbrev S1x256 : Shape := ⟨2, ![1, 256]⟩
abbrev S256x128 : Shape := ⟨2, ![256, 128]⟩
abbrev S1x80 : Shape := ⟨2, ![1, 80]⟩
abbrev S8x128 : Shape := ⟨2, ![8, 128]⟩
abbrev S1x1 : Shape := ⟨2, ![1, 1]⟩
abbrev S24x256 : Shape := ⟨2, ![24, 256]⟩
abbrev S3x256x256 : Shape := ⟨3, ![3, 256, 256]⟩
abbrev S32x256 : Shape := ⟨2, ![32, 256]⟩
abbrev S3 : Shape := ⟨1, ![3]⟩
abbrev S1x1x256 : Shape := ⟨3, ![1, 1, 256]⟩
abbrev S7x128 : Shape := ⟨2, ![7, 128]⟩
abbrev S128x8 : Shape := ⟨2, ![128, 8]⟩
abbrev S128x1 : Shape := ⟨2, ![128, 1]⟩
abbrev S32x1 : Shape := ⟨2, ![32, 1]⟩
abbrev S1x32x256 : Shape := ⟨3, ![1, 32, 256]⟩
abbrev S32x128 : Shape := ⟨2, ![32, 128]⟩
abbrev S32 : Shape := ⟨1, ![32]⟩
abbrev S256x256 : Shape := ⟨2, ![256, 256]⟩
abbrev S256x1 : Shape := ⟨2, ![256, 1]⟩
abbrev S1x2x128 : Shape := ⟨3, ![1, 2, 128]⟩
abbrev S2x128 : Shape := ⟨2, ![2, 128]⟩
abbrev S6x128 : Shape := ⟨2, ![6, 128]⟩
abbrev S1x256x256 : Shape := ⟨3, ![1, 256, 256]⟩
abbrev S8x256 : Shape := ⟨2, ![8, 256]⟩
abbrev S5x256 : Shape := ⟨2, ![5, 256]⟩

abbrev nBuf : Space → Nat
  | .hbm => 50
  | .vmem => 16
  | .smem => 4
  | _ => 0

abbrev bufTy : (tb : Table) → Fin (tcTables nBuf tb) → BufTy
  | .hbm, ⟨0, _⟩ => ⟨S1000000x256, .i8⟩
  | .hbm, ⟨1, _⟩ => ⟨S1000000, .f32⟩
  | .hbm, ⟨2, _⟩ => ⟨S24x1536, .i32⟩
  | .hbm, ⟨3, _⟩ => ⟨S24, .i32⟩
  | .hbm, ⟨4, _⟩ => ⟨S24, .i32⟩
  | .hbm, ⟨5, _⟩ => ⟨S1024x200, .bf16⟩
  | .hbm, ⟨6, _⟩ => ⟨S200, .f32⟩
  | .hbm, ⟨7, _⟩ => ⟨S200, .f32⟩
  | .hbm, ⟨8, _⟩ => ⟨S200x80, .bf16⟩
  | .hbm, ⟨9, _⟩ => ⟨S80, .f32⟩
  | .hbm, ⟨10, _⟩ => ⟨S80, .f32⟩
  | .hbm, ⟨11, _⟩ => ⟨S80, .bf16⟩
  | .hbm, ⟨12, _⟩ => ⟨S1, .f32⟩
  | .hbm, ⟨13, _⟩ => ⟨S250000x4x256, .i8⟩
  | .hbm, ⟨14, _⟩ => ⟨S250000x256x4, .i8⟩
  | .hbm, ⟨15, _⟩ => ⟨S250000x256, .i32⟩
  | .hbm, ⟨16, _⟩ => ⟨S24x12x128, .i32⟩
  | .hbm, ⟨17, _⟩ => ⟨S_, .i32⟩
  | .hbm, ⟨18, _⟩ => ⟨S_, .i32⟩
  | .hbm, ⟨19, _⟩ => ⟨S128, .i32⟩
  | .hbm, ⟨20, _⟩ => ⟨S1x128, .i32⟩
  | .hbm, ⟨21, _⟩ => ⟨S_, .i32⟩
  | .hbm, ⟨22, _⟩ => ⟨S_, .bf16⟩
  | .hbm, ⟨23, _⟩ => ⟨S1024x256, .bf16⟩
  | .hbm, ⟨24, _⟩ => ⟨S_, .i32⟩
  | .hbm, ⟨25, _⟩ => ⟨S_, .f32⟩
  | .hbm, ⟨26, _⟩ => ⟨S256, .f32⟩
  | .hbm, ⟨27, _⟩ => ⟨S1x256, .f32⟩
  | .hbm, ⟨28, _⟩ => ⟨S_, .i32⟩
  | .hbm, ⟨29, _⟩ => ⟨S_, .f32⟩
  | .hbm, ⟨30, _⟩ => ⟨S256, .f32⟩
  | .hbm, ⟨31, _⟩ => ⟨S1x256, .f32⟩
  | .hbm, ⟨32, _⟩ => ⟨S_, .i32⟩
  | .hbm, ⟨33, _⟩ => ⟨S_, .bf16⟩
  | .hbm, ⟨34, _⟩ => ⟨S256x128, .bf16⟩
  | .hbm, ⟨35, _⟩ => ⟨S_, .i32⟩
  | .hbm, ⟨36, _⟩ => ⟨S_, .f32⟩
  | .hbm, ⟨37, _⟩ => ⟨S128, .f32⟩
  | .hbm, ⟨38, _⟩ => ⟨S1x128, .f32⟩
  | .hbm, ⟨39, _⟩ => ⟨S_, .i32⟩
  | .hbm, ⟨40, _⟩ => ⟨S_, .f32⟩
  | .hbm, ⟨41, _⟩ => ⟨S128, .f32⟩
  | .hbm, ⟨42, _⟩ => ⟨S1x128, .f32⟩
  | .hbm, ⟨43, _⟩ => ⟨S1x80, .bf16⟩
  | .hbm, ⟨44, _⟩ => ⟨S_, .i32⟩
  | .hbm, ⟨45, _⟩ => ⟨S_, .bf16⟩
  | .hbm, ⟨46, _⟩ => ⟨S8x128, .bf16⟩
  | .hbm, ⟨47, _⟩ => ⟨S1x1, .f32⟩
  | .hbm, ⟨48, _⟩ => ⟨S24x256, .f32⟩
  | .hbm, ⟨49, _⟩ => ⟨S24x1536, .f32⟩
  | .local _ .vmem, ⟨0, _⟩ => ⟨S24x12x128, .i32⟩
  | .local _ .vmem, ⟨1, _⟩ => ⟨S1x128, .i32⟩
  | .local _ .vmem, ⟨2, _⟩ => ⟨S1024x256, .bf16⟩
  | .local _ .vmem, ⟨3, _⟩ => ⟨S1x256, .f32⟩
  | .local _ .vmem, ⟨4, _⟩ => ⟨S1x256, .f32⟩
  | .local _ .vmem, ⟨5, _⟩ => ⟨S256x128, .bf16⟩
  | .local _ .vmem, ⟨6, _⟩ => ⟨S1x128, .f32⟩
  | .local _ .vmem, ⟨7, _⟩ => ⟨S1x128, .f32⟩
  | .local _ .vmem, ⟨8, _⟩ => ⟨S8x128, .bf16⟩
  | .local _ .vmem, ⟨9, _⟩ => ⟨S24x256, .f32⟩
  | .local _ .vmem, ⟨10, _⟩ => ⟨S24x1536, .f32⟩
  | .local _ .vmem, ⟨11, _⟩ => ⟨S3x256x256, .i32⟩
  | .local _ .vmem, ⟨12, _⟩ => ⟨S256x128, .f32⟩
  | .local _ .vmem, ⟨13, _⟩ => ⟨S1000000, .f32⟩
  | .local _ .vmem, ⟨14, _⟩ => ⟨S32x256, .f32⟩
  | .local _ .vmem, ⟨15, _⟩ => ⟨S32x256, .f32⟩
  | .local _ .smem, ⟨0, _⟩ => ⟨S24, .i32⟩
  | .local _ .smem, ⟨1, _⟩ => ⟨S24x1536, .i32⟩
  | .local _ .smem, ⟨2, _⟩ => ⟨S24, .i32⟩
  | .local _ .smem, ⟨3, _⟩ => ⟨S1x1, .f32⟩
  | _, _ => ⟨S1000000x256, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_call0_v0 : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_call1_v0 : Ref sig .tc := ⟨.hbm, 22, rfl⟩
abbrev main_v6 : Ref sig .tc := ⟨.hbm, 23, rfl⟩
abbrev main_c_1 : Ref sig .tc := ⟨.hbm, 24, rfl⟩
abbrev main_call2_v0 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_call3_v0 : Ref sig .tc := ⟨.hbm, 29, rfl⟩
abbrev main_v9 : Ref sig .tc := ⟨.hbm, 30, rfl⟩
abbrev main_v10 : Ref sig .tc := ⟨.hbm, 31, rfl⟩
abbrev main_c_3 : Ref sig .tc := ⟨.hbm, 32, rfl⟩
abbrev main_call4_v0 : Ref sig .tc := ⟨.hbm, 33, rfl⟩
abbrev main_v11 : Ref sig .tc := ⟨.hbm, 34, rfl⟩
abbrev main_c_4 : Ref sig .tc := ⟨.hbm, 35, rfl⟩
abbrev main_call5_v0 : Ref sig .tc := ⟨.hbm, 36, rfl⟩
abbrev main_v12 : Ref sig .tc := ⟨.hbm, 37, rfl⟩
abbrev main_v13 : Ref sig .tc := ⟨.hbm, 38, rfl⟩
abbrev main_c_5 : Ref sig .tc := ⟨.hbm, 39, rfl⟩
abbrev main_call6_v0 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_c_6 : Ref sig .tc := ⟨.hbm, 44, rfl⟩
abbrev main_call7_v0 : Ref sig .tc := ⟨.hbm, 45, rfl⟩
abbrev main_v17 : Ref sig .tc := ⟨.hbm, 46, rfl⟩
abbrev main_v18 : Ref sig .tc := ⟨.hbm, 47, rfl⟩
abbrev main_v19_0 : Ref sig .tc := ⟨.hbm, 48, rfl⟩
abbrev main_v19_1 : Ref sig .tc := ⟨.hbm, 49, rfl⟩
abbrev cc0_stg3_0 : Ref sig .tc := ⟨.vmem, 0, rfl⟩
abbrev cc0_stg4_0 : Ref sig .tc := ⟨.vmem, 1, rfl⟩
abbrev cc0_stg5_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_stg9_0 : Ref sig .tc := ⟨.vmem, 6, rfl⟩
abbrev cc0_stg10_0 : Ref sig .tc := ⟨.vmem, 7, rfl⟩
abbrev cc0_stg11_0 : Ref sig .tc := ⟨.vmem, 8, rfl⟩
abbrev cc0_stg13_0 : Ref sig .tc := ⟨.vmem, 9, rfl⟩
abbrev cc0_stg14_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg12_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

def k0_off1 (v8 : BitVec 32) : Fin 2 → Nat :=
  let c2_i32 : BitVec 32 := 2#32
  let v9 : BitVec 32 := Scalar.shrui v8 c2_i32
  let c0_i32_12 : BitVec 32 := 0#32
  ![v9.toNat, 0]

def k0_chk1 (v8 : BitVec 32) : Prop :=
  (∀ a, (k0_off1 v8) a + S1x256.size a ≤ S250000x256.size a)
theorem k0_off1_inb : ∀ (v8 : BitVec 32) (k0_hw1 : k0_chk1 v8), ∀ a, (k0_off1 v8) a + S1x256.size a ≤ S250000x256.size a := fun v8 k0_hw1 => k0_hw1

def k0_off2 (v15 : BitVec 32) : Fin 2 → Nat :=
  let c2_i32_13 : BitVec 32 := 2#32
  let v16 : BitVec 32 := Scalar.shrui v15 c2_i32_13
  let c0_i32_17 : BitVec 32 := 0#32
  ![v16.toNat, 0]

def k0_chk2 (v15 : BitVec 32) : Prop :=
  (∀ a, (k0_off2 v15) a + S1x256.size a ≤ S250000x256.size a)
theorem k0_off2_inb : ∀ (v15 : BitVec 32) (k0_hw2 : k0_chk2 v15), ∀ a, (k0_off2 v15) a + S1x256.size a ≤ S250000x256.size a := fun v15 k0_hw2 => k0_hw2

def k0_off3 (v22 : BitVec 32) : Fin 2 → Nat :=
  let c2_i32_18 : BitVec 32 := 2#32
  let v23 : BitVec 32 := Scalar.shrui v22 c2_i32_18
  let c0_i32_23 : BitVec 32 := 0#32
  ![v23.toNat, 0]

def k0_chk3 (v22 : BitVec 32) : Prop :=
  (∀ a, (k0_off3 v22) a + S1x256.size a ≤ S250000x256.size a)
theorem k0_off3_inb : ∀ (v22 : BitVec 32) (k0_hw3 : k0_chk3 v22), ∀ a, (k0_off3 v22) a + S1x256.size a ≤ S250000x256.size a := fun v22 k0_hw3 => k0_hw3

def k0_off4 (v29 : BitVec 32) : Fin 2 → Nat :=
  let c2_i32_24 : BitVec 32 := 2#32
  let v30 : BitVec 32 := Scalar.shrui v29 c2_i32_24
  let c0_i32_28 : BitVec 32 := 0#32
  ![v30.toNat, 0]

def k0_chk4 (v29 : BitVec 32) : Prop :=
  (∀ a, (k0_off4 v29) a + S1x256.size a ≤ S250000x256.size a)
theorem k0_off4_inb : ∀ (v29 : BitVec 32) (k0_hw4 : k0_chk4 v29), ∀ a, (k0_off4 v29) a + S1x256.size a ≤ S250000x256.size a := fun v29 k0_hw4 => k0_hw4

def k0_off5 (v36 : BitVec 32) : Fin 2 → Nat :=
  let c2_i32_29 : BitVec 32 := 2#32
  let v37 : BitVec 32 := Scalar.shrui v36 c2_i32_29
  let c0_i32_33 : BitVec 32 := 0#32
  ![v37.toNat, 0]

def k0_chk5 (v36 : BitVec 32) : Prop :=
  (∀ a, (k0_off5 v36) a + S1x256.size a ≤ S250000x256.size a)
theorem k0_off5_inb : ∀ (v36 : BitVec 32) (k0_hw5 : k0_chk5 v36), ∀ a, (k0_off5 v36) a + S1x256.size a ≤ S250000x256.size a := fun v36 k0_hw5 => k0_hw5

def k0_off6 (v43 : BitVec 32) : Fin 2 → Nat :=
  let c2_i32_34 : BitVec 32 := 2#32
  let v44 : BitVec 32 := Scalar.shrui v43 c2_i32_34
  let c0_i32_38 : BitVec 32 := 0#32
  ![v44.toNat, 0]

def k0_chk6 (v43 : BitVec 32) : Prop :=
  (∀ a, (k0_off6 v43) a + S1x256.size a ≤ S250000x256.size a)
theorem k0_off6_inb : ∀ (v43 : BitVec 32) (k0_hw6 : k0_chk6 v43), ∀ a, (k0_off6 v43) a + S1x256.size a ≤ S250000x256.size a := fun v43 k0_hw6 => k0_hw6

def k0_off7 (v50 : BitVec 32) : Fin 2 → Nat :=
  let c2_i32_39 : BitVec 32 := 2#32
  let v51 : BitVec 32 := Scalar.shrui v50 c2_i32_39
  let c0_i32_43 : BitVec 32 := 0#32
  ![v51.toNat, 0]

def k0_chk7 (v50 : BitVec 32) : Prop :=
  (∀ a, (k0_off7 v50) a + S1x256.size a ≤ S250000x256.size a)
theorem k0_off7_inb : ∀ (v50 : BitVec 32) (k0_hw7 : k0_chk7 v50), ∀ a, (k0_off7 v50) a + S1x256.size a ≤ S250000x256.size a := fun v50 k0_hw7 => k0_hw7

def k0_off8 (v57 : BitVec 32) : Fin 2 → Nat :=
  let c2_i32_44 : BitVec 32 := 2#32
  let v58 : BitVec 32 := Scalar.shrui v57 c2_i32_44
  let c0_i32_48 : BitVec 32 := 0#32
  ![v58.toNat, 0]

def k0_chk8 (v57 : BitVec 32) : Prop :=
  (∀ a, (k0_off8 v57) a + S1x256.size a ≤ S250000x256.size a)
theorem k0_off8_inb : ∀ (v57 : BitVec 32) (k0_hw8 : k0_chk8 v57), ∀ a, (k0_off8 v57) a + S1x256.size a ≤ S250000x256.size a := fun v57 k0_hw8 => k0_hw8

def k0_off9 (v64 : BitVec 32) : Fin 2 → Nat :=
  let c2_i32_49 : BitVec 32 := 2#32
  let v65 : BitVec 32 := Scalar.shrui v64 c2_i32_49
  let c0_i32_53 : BitVec 32 := 0#32
  ![v65.toNat, 0]

def k0_chk9 (v64 : BitVec 32) : Prop :=
  (∀ a, (k0_off9 v64) a + S1x256.size a ≤ S250000x256.size a)
theorem k0_off9_inb : ∀ (v64 : BitVec 32) (k0_hw9 : k0_chk9 v64), ∀ a, (k0_off9 v64) a + S1x256.size a ≤ S250000x256.size a := fun v64 k0_hw9 => k0_hw9

def k0_off10 (v71 : BitVec 32) : Fin 2 → Nat :=
  let c2_i32_54 : BitVec 32 := 2#32
  let v72 : BitVec 32 := Scalar.shrui v71 c2_i32_54
  let c0_i32_58 : BitVec 32 := 0#32
  ![v72.toNat, 0]

def k0_chk10 (v71 : BitVec 32) : Prop :=
  (∀ a, (k0_off10 v71) a + S1x256.size a ≤ S250000x256.size a)
theorem k0_off10_inb : ∀ (v71 : BitVec 32) (k0_hw10 : k0_chk10 v71), ∀ a, (k0_off10 v71) a + S1x256.size a ≤ S250000x256.size a := fun v71 k0_hw10 => k0_hw10

def k0_off11 (v78 : BitVec 32) : Fin 2 → Nat :=
  let c2_i32_59 : BitVec 32 := 2#32
  let v79 : BitVec 32 := Scalar.shrui v78 c2_i32_59
  let c0_i32_63 : BitVec 32 := 0#32
  ![v79.toNat, 0]

def k0_chk11 (v78 : BitVec 32) : Prop :=
  (∀ a, (k0_off11 v78) a + S1x256.size a ≤ S250000x256.size a)
theorem k0_off11_inb : ∀ (v78 : BitVec 32) (k0_hw11 : k0_chk11 v78), ∀ a, (k0_off11 v78) a + S1x256.size a ≤ S250000x256.size a := fun v78 k0_hw11 => k0_hw11

def k0_off12 (v85 : BitVec 32) : Fin 2 → Nat :=
  let c2_i32_64 : BitVec 32 := 2#32
  let v86 : BitVec 32 := Scalar.shrui v85 c2_i32_64
  let c0_i32_68 : BitVec 32 := 0#32
  ![v86.toNat, 0]

def k0_chk12 (v85 : BitVec 32) : Prop :=
  (∀ a, (k0_off12 v85) a + S1x256.size a ≤ S250000x256.size a)
theorem k0_off12_inb : ∀ (v85 : BitVec 32) (k0_hw12 : k0_chk12 v85), ∀ a, (k0_off12 v85) a + S1x256.size a ≤ S250000x256.size a := fun v85 k0_hw12 => k0_hw12

def k0_off13 (v92 : BitVec 32) : Fin 2 → Nat :=
  let c2_i32_69 : BitVec 32 := 2#32
  let v93 : BitVec 32 := Scalar.shrui v92 c2_i32_69
  let c0_i32_73 : BitVec 32 := 0#32
  ![v93.toNat, 0]

def k0_chk13 (v92 : BitVec 32) : Prop :=
  (∀ a, (k0_off13 v92) a + S1x256.size a ≤ S250000x256.size a)
theorem k0_off13_inb : ∀ (v92 : BitVec 32) (k0_hw13 : k0_chk13 v92), ∀ a, (k0_off13 v92) a + S1x256.size a ≤ S250000x256.size a := fun v92 k0_hw13 => k0_hw13

def k0_off14 (v99 : BitVec 32) : Fin 2 → Nat :=
  let c2_i32_74 : BitVec 32 := 2#32
  let v100 : BitVec 32 := Scalar.shrui v99 c2_i32_74
  let c0_i32_78 : BitVec 32 := 0#32
  ![v100.toNat, 0]

def k0_chk14 (v99 : BitVec 32) : Prop :=
  (∀ a, (k0_off14 v99) a + S1x256.size a ≤ S250000x256.size a)
theorem k0_off14_inb : ∀ (v99 : BitVec 32) (k0_hw14 : k0_chk14 v99), ∀ a, (k0_off14 v99) a + S1x256.size a ≤ S250000x256.size a := fun v99 k0_hw14 => k0_hw14

def k0_off15 (v106 : BitVec 32) : Fin 2 → Nat :=
  let c2_i32_79 : BitVec 32 := 2#32
  let v107 : BitVec 32 := Scalar.shrui v106 c2_i32_79
  let c0_i32_83 : BitVec 32 := 0#32
  ![v107.toNat, 0]

def k0_chk15 (v106 : BitVec 32) : Prop :=
  (∀ a, (k0_off15 v106) a + S1x256.size a ≤ S250000x256.size a)
theorem k0_off15_inb : ∀ (v106 : BitVec 32) (k0_hw15 : k0_chk15 v106), ∀ a, (k0_off15 v106) a + S1x256.size a ≤ S250000x256.size a := fun v106 k0_hw15 => k0_hw15

def k0_off16 (v113 : BitVec 32) : Fin 2 → Nat :=
  let c2_i32_84 : BitVec 32 := 2#32
  let v114 : BitVec 32 := Scalar.shrui v113 c2_i32_84
  let c0_i32_88 : BitVec 32 := 0#32
  ![v114.toNat, 0]

def k0_chk16 (v113 : BitVec 32) : Prop :=
  (∀ a, (k0_off16 v113) a + S1x256.size a ≤ S250000x256.size a)
theorem k0_off16_inb : ∀ (v113 : BitVec 32) (k0_hw16 : k0_chk16 v113), ∀ a, (k0_off16 v113) a + S1x256.size a ≤ S250000x256.size a := fun v113 k0_hw16 => k0_hw16

def k0_off17 (v120 : BitVec 32) : Fin 2 → Nat :=
  let c2_i32_89 : BitVec 32 := 2#32
  let v121 : BitVec 32 := Scalar.shrui v120 c2_i32_89
  let c0_i32_93 : BitVec 32 := 0#32
  ![v121.toNat, 0]

def k0_chk17 (v120 : BitVec 32) : Prop :=
  (∀ a, (k0_off17 v120) a + S1x256.size a ≤ S250000x256.size a)
theorem k0_off17_inb : ∀ (v120 : BitVec 32) (k0_hw17 : k0_chk17 v120), ∀ a, (k0_off17 v120) a + S1x256.size a ≤ S250000x256.size a := fun v120 k0_hw17 => k0_hw17

def k0_off18 (v127 : BitVec 32) : Fin 2 → Nat :=
  let c2_i32_94 : BitVec 32 := 2#32
  let v128 : BitVec 32 := Scalar.shrui v127 c2_i32_94
  let c0_i32_98 : BitVec 32 := 0#32
  ![v128.toNat, 0]

def k0_chk18 (v127 : BitVec 32) : Prop :=
  (∀ a, (k0_off18 v127) a + S1x256.size a ≤ S250000x256.size a)
theorem k0_off18_inb : ∀ (v127 : BitVec 32) (k0_hw18 : k0_chk18 v127), ∀ a, (k0_off18 v127) a + S1x256.size a ≤ S250000x256.size a := fun v127 k0_hw18 => k0_hw18

def k0_off19 (v134 : BitVec 32) : Fin 2 → Nat :=
  let c2_i32_99 : BitVec 32 := 2#32
  let v135 : BitVec 32 := Scalar.shrui v134 c2_i32_99
  let c0_i32_103 : BitVec 32 := 0#32
  ![v135.toNat, 0]

def k0_chk19 (v134 : BitVec 32) : Prop :=
  (∀ a, (k0_off19 v134) a + S1x256.size a ≤ S250000x256.size a)
theorem k0_off19_inb : ∀ (v134 : BitVec 32) (k0_hw19 : k0_chk19 v134), ∀ a, (k0_off19 v134) a + S1x256.size a ≤ S250000x256.size a := fun v134 k0_hw19 => k0_hw19

def k0_off20 (v141 : BitVec 32) : Fin 2 → Nat :=
  let c2_i32_104 : BitVec 32 := 2#32
  let v142 : BitVec 32 := Scalar.shrui v141 c2_i32_104
  let c0_i32_108 : BitVec 32 := 0#32
  ![v142.toNat, 0]

def k0_chk20 (v141 : BitVec 32) : Prop :=
  (∀ a, (k0_off20 v141) a + S1x256.size a ≤ S250000x256.size a)
theorem k0_off20_inb : ∀ (v141 : BitVec 32) (k0_hw20 : k0_chk20 v141), ∀ a, (k0_off20 v141) a + S1x256.size a ≤ S250000x256.size a := fun v141 k0_hw20 => k0_hw20

def k0_off21 (v148 : BitVec 32) : Fin 2 → Nat :=
  let c2_i32_109 : BitVec 32 := 2#32
  let v149 : BitVec 32 := Scalar.shrui v148 c2_i32_109
  let c0_i32_113 : BitVec 32 := 0#32
  ![v149.toNat, 0]

def k0_chk21 (v148 : BitVec 32) : Prop :=
  (∀ a, (k0_off21 v148) a + S1x256.size a ≤ S250000x256.size a)
theorem k0_off21_inb : ∀ (v148 : BitVec 32) (k0_hw21 : k0_chk21 v148), ∀ a, (k0_off21 v148) a + S1x256.size a ≤ S250000x256.size a := fun v148 k0_hw21 => k0_hw21

def k0_off22 (v155 : BitVec 32) : Fin 2 → Nat :=
  let c2_i32_114 : BitVec 32 := 2#32
  let v156 : BitVec 32 := Scalar.shrui v155 c2_i32_114
  let c0_i32_118 : BitVec 32 := 0#32
  ![v156.toNat, 0]

def k0_chk22 (v155 : BitVec 32) : Prop :=
  (∀ a, (k0_off22 v155) a + S1x256.size a ≤ S250000x256.size a)
theorem k0_off22_inb : ∀ (v155 : BitVec 32) (k0_hw22 : k0_chk22 v155), ∀ a, (k0_off22 v155) a + S1x256.size a ≤ S250000x256.size a := fun v155 k0_hw22 => k0_hw22

def k0_off23 (v162 : BitVec 32) : Fin 2 → Nat :=
  let c2_i32_119 : BitVec 32 := 2#32
  let v163 : BitVec 32 := Scalar.shrui v162 c2_i32_119
  let c0_i32_123 : BitVec 32 := 0#32
  ![v163.toNat, 0]

def k0_chk23 (v162 : BitVec 32) : Prop :=
  (∀ a, (k0_off23 v162) a + S1x256.size a ≤ S250000x256.size a)
theorem k0_off23_inb : ∀ (v162 : BitVec 32) (k0_hw23 : k0_chk23 v162), ∀ a, (k0_off23 v162) a + S1x256.size a ≤ S250000x256.size a := fun v162 k0_hw23 => k0_hw23

def k0_off24 (v169 : BitVec 32) : Fin 2 → Nat :=
  let c2_i32_124 : BitVec 32 := 2#32
  let v170 : BitVec 32 := Scalar.shrui v169 c2_i32_124
  let c0_i32_128 : BitVec 32 := 0#32
  ![v170.toNat, 0]

def k0_chk24 (v169 : BitVec 32) : Prop :=
  (∀ a, (k0_off24 v169) a + S1x256.size a ≤ S250000x256.size a)
theorem k0_off24_inb : ∀ (v169 : BitVec 32) (k0_hw24 : k0_chk24 v169), ∀ a, (k0_off24 v169) a + S1x256.size a ≤ S250000x256.size a := fun v169 k0_hw24 => k0_hw24

def k0_mult1 (v176 : BitVec 32) : BitVec 32 :=
  let c7_i32_130 : BitVec 32 := 7#32
  let v177 : BitVec 32 := Scalar.shrui v176 c7_i32_130
  let c128_i32 : BitVec 32 := 128#32
  let v178 : BitVec 32 := Scalar.muli v177 c128_i32
  v178

def k0_off25 (v176 : BitVec 32) : Fin 1 → Nat :=
  let c7_i32_130 : BitVec 32 := 7#32
  let v177 : BitVec 32 := Scalar.shrui v176 c7_i32_130
  let c128_i32 : BitVec 32 := 128#32
  let v178 : BitVec 32 := Scalar.muli v177 c128_i32
  let v179 : BitVec 32 := v178
  let v180 : Index := Scalar.indexCast v179
  ![v180.toNat]

def k0_chk25 (v176 : BitVec 32) : Prop :=
  (128 ∣ (k0_mult1 v176).toNat) ∧
  (∀ a, (k0_off25 v176) a + S128.size a ≤ S1000000.size a)
theorem k0_mult1_dvd : ∀ (v176 : BitVec 32) (k0_hw25 : k0_chk25 v176), 128 ∣ (k0_mult1 v176).toNat := fun v176 k0_hw25 => k0_hw25.1
theorem k0_off25_inb : ∀ (v176 : BitVec 32) (k0_hw25 : k0_chk25 v176), ∀ a, (k0_off25 v176) a + S128.size a ≤ S1000000.size a := fun v176 k0_hw25 => k0_hw25.2

def k0_mult2 (v186 : BitVec 32) : BitVec 32 :=
  let c7_i32_134 : BitVec 32 := 7#32
  let v187 : BitVec 32 := Scalar.shrui v186 c7_i32_134
  let c128_i32_135 : BitVec 32 := 128#32
  let v188 : BitVec 32 := Scalar.muli v187 c128_i32_135
  v188

def k0_off26 (v186 : BitVec 32) : Fin 1 → Nat :=
  let c7_i32_134 : BitVec 32 := 7#32
  let v187 : BitVec 32 := Scalar.shrui v186 c7_i32_134
  let c128_i32_135 : BitVec 32 := 128#32
  let v188 : BitVec 32 := Scalar.muli v187 c128_i32_135
  let v189 : BitVec 32 := v188
  let v190 : Index := Scalar.indexCast v189
  ![v190.toNat]

def k0_chk26 (v186 : BitVec 32) : Prop :=
  (128 ∣ (k0_mult2 v186).toNat) ∧
  (∀ a, (k0_off26 v186) a + S128.size a ≤ S1000000.size a)
theorem k0_mult2_dvd : ∀ (v186 : BitVec 32) (k0_hw26 : k0_chk26 v186), 128 ∣ (k0_mult2 v186).toNat := fun v186 k0_hw26 => k0_hw26.1
theorem k0_off26_inb : ∀ (v186 : BitVec 32) (k0_hw26 : k0_chk26 v186), ∀ a, (k0_off26 v186) a + S128.size a ≤ S1000000.size a := fun v186 k0_hw26 => k0_hw26.2

def k0_mult3 (v196 : BitVec 32) : BitVec 32 :=
  let c7_i32_139 : BitVec 32 := 7#32
  let v197 : BitVec 32 := Scalar.shrui v196 c7_i32_139
  let c128_i32_140 : BitVec 32 := 128#32
  let v198 : BitVec 32 := Scalar.muli v197 c128_i32_140
  v198

def k0_off27 (v196 : BitVec 32) : Fin 1 → Nat :=
  let c7_i32_139 : BitVec 32 := 7#32
  let v197 : BitVec 32 := Scalar.shrui v196 c7_i32_139
  let c128_i32_140 : BitVec 32 := 128#32
  let v198 : BitVec 32 := Scalar.muli v197 c128_i32_140
  let v199 : BitVec 32 := v198
  let v200 : Index := Scalar.indexCast v199
  ![v200.toNat]

def k0_chk27 (v196 : BitVec 32) : Prop :=
  (128 ∣ (k0_mult3 v196).toNat) ∧
  (∀ a, (k0_off27 v196) a + S128.size a ≤ S1000000.size a)
theorem k0_mult3_dvd : ∀ (v196 : BitVec 32) (k0_hw27 : k0_chk27 v196), 128 ∣ (k0_mult3 v196).toNat := fun v196 k0_hw27 => k0_hw27.1
theorem k0_off27_inb : ∀ (v196 : BitVec 32) (k0_hw27 : k0_chk27 v196), ∀ a, (k0_off27 v196) a + S128.size a ≤ S1000000.size a := fun v196 k0_hw27 => k0_hw27.2

def k0_mult4 (v206 : BitVec 32) : BitVec 32 :=
  let c7_i32_144 : BitVec 32 := 7#32
  let v207 : BitVec 32 := Scalar.shrui v206 c7_i32_144
  let c128_i32_145 : BitVec 32 := 128#32
  let v208 : BitVec 32 := Scalar.muli v207 c128_i32_145
  v208

def k0_off28 (v206 : BitVec 32) : Fin 1 → Nat :=
  let c7_i32_144 : BitVec 32 := 7#32
  let v207 : BitVec 32 := Scalar.shrui v206 c7_i32_144
  let c128_i32_145 : BitVec 32 := 128#32
  let v208 : BitVec 32 := Scalar.muli v207 c128_i32_145
  let v209 : BitVec 32 := v208
  let v210 : Index := Scalar.indexCast v209
  ![v210.toNat]

def k0_chk28 (v206 : BitVec 32) : Prop :=
  (128 ∣ (k0_mult4 v206).toNat) ∧
  (∀ a, (k0_off28 v206) a + S128.size a ≤ S1000000.size a)
theorem k0_mult4_dvd : ∀ (v206 : BitVec 32) (k0_hw28 : k0_chk28 v206), 128 ∣ (k0_mult4 v206).toNat := fun v206 k0_hw28 => k0_hw28.1
theorem k0_off28_inb : ∀ (v206 : BitVec 32) (k0_hw28 : k0_chk28 v206), ∀ a, (k0_off28 v206) a + S128.size a ≤ S1000000.size a := fun v206 k0_hw28 => k0_hw28.2

def k0_mult5 (v216 : BitVec 32) : BitVec 32 :=
  let c7_i32_149 : BitVec 32 := 7#32
  let v217 : BitVec 32 := Scalar.shrui v216 c7_i32_149
  let c128_i32_150 : BitVec 32 := 128#32
  let v218 : BitVec 32 := Scalar.muli v217 c128_i32_150
  v218

def k0_off29 (v216 : BitVec 32) : Fin 1 → Nat :=
  let c7_i32_149 : BitVec 32 := 7#32
  let v217 : BitVec 32 := Scalar.shrui v216 c7_i32_149
  let c128_i32_150 : BitVec 32 := 128#32
  let v218 : BitVec 32 := Scalar.muli v217 c128_i32_150
  let v219 : BitVec 32 := v218
  let v220 : Index := Scalar.indexCast v219
  ![v220.toNat]

def k0_chk29 (v216 : BitVec 32) : Prop :=
  (128 ∣ (k0_mult5 v216).toNat) ∧
  (∀ a, (k0_off29 v216) a + S128.size a ≤ S1000000.size a)
theorem k0_mult5_dvd : ∀ (v216 : BitVec 32) (k0_hw29 : k0_chk29 v216), 128 ∣ (k0_mult5 v216).toNat := fun v216 k0_hw29 => k0_hw29.1
theorem k0_off29_inb : ∀ (v216 : BitVec 32) (k0_hw29 : k0_chk29 v216), ∀ a, (k0_off29 v216) a + S128.size a ≤ S1000000.size a := fun v216 k0_hw29 => k0_hw29.2

def k0_mult6 (v226 : BitVec 32) : BitVec 32 :=
  let c7_i32_154 : BitVec 32 := 7#32
  let v227 : BitVec 32 := Scalar.shrui v226 c7_i32_154
  let c128_i32_155 : BitVec 32 := 128#32
  let v228 : BitVec 32 := Scalar.muli v227 c128_i32_155
  v228

def k0_off30 (v226 : BitVec 32) : Fin 1 → Nat :=
  let c7_i32_154 : BitVec 32 := 7#32
  let v227 : BitVec 32 := Scalar.shrui v226 c7_i32_154
  let c128_i32_155 : BitVec 32 := 128#32
  let v228 : BitVec 32 := Scalar.muli v227 c128_i32_155
  let v229 : BitVec 32 := v228
  let v230 : Index := Scalar.indexCast v229
  ![v230.toNat]

def k0_chk30 (v226 : BitVec 32) : Prop :=
  (128 ∣ (k0_mult6 v226).toNat) ∧
  (∀ a, (k0_off30 v226) a + S128.size a ≤ S1000000.size a)
theorem k0_mult6_dvd : ∀ (v226 : BitVec 32) (k0_hw30 : k0_chk30 v226), 128 ∣ (k0_mult6 v226).toNat := fun v226 k0_hw30 => k0_hw30.1
theorem k0_off30_inb : ∀ (v226 : BitVec 32) (k0_hw30 : k0_chk30 v226), ∀ a, (k0_off30 v226) a + S128.size a ≤ S1000000.size a := fun v226 k0_hw30 => k0_hw30.2

def k0_mult7 (v236 : BitVec 32) : BitVec 32 :=
  let c7_i32_159 : BitVec 32 := 7#32
  let v237 : BitVec 32 := Scalar.shrui v236 c7_i32_159
  let c128_i32_160 : BitVec 32 := 128#32
  let v238 : BitVec 32 := Scalar.muli v237 c128_i32_160
  v238

def k0_off31 (v236 : BitVec 32) : Fin 1 → Nat :=
  let c7_i32_159 : BitVec 32 := 7#32
  let v237 : BitVec 32 := Scalar.shrui v236 c7_i32_159
  let c128_i32_160 : BitVec 32 := 128#32
  let v238 : BitVec 32 := Scalar.muli v237 c128_i32_160
  let v239 : BitVec 32 := v238
  let v240 : Index := Scalar.indexCast v239
  ![v240.toNat]

def k0_chk31 (v236 : BitVec 32) : Prop :=
  (128 ∣ (k0_mult7 v236).toNat) ∧
  (∀ a, (k0_off31 v236) a + S128.size a ≤ S1000000.size a)
theorem k0_mult7_dvd : ∀ (v236 : BitVec 32) (k0_hw31 : k0_chk31 v236), 128 ∣ (k0_mult7 v236).toNat := fun v236 k0_hw31 => k0_hw31.1
theorem k0_off31_inb : ∀ (v236 : BitVec 32) (k0_hw31 : k0_chk31 v236), ∀ a, (k0_off31 v236) a + S128.size a ≤ S1000000.size a := fun v236 k0_hw31 => k0_hw31.2

def k0_mult8 (v246 : BitVec 32) : BitVec 32 :=
  let c7_i32_164 : BitVec 32 := 7#32
  let v247 : BitVec 32 := Scalar.shrui v246 c7_i32_164
  let c128_i32_165 : BitVec 32 := 128#32
  let v248 : BitVec 32 := Scalar.muli v247 c128_i32_165
  v248

def k0_off32 (v246 : BitVec 32) : Fin 1 → Nat :=
  let c7_i32_164 : BitVec 32 := 7#32
  let v247 : BitVec 32 := Scalar.shrui v246 c7_i32_164
  let c128_i32_165 : BitVec 32 := 128#32
  let v248 : BitVec 32 := Scalar.muli v247 c128_i32_165
  let v249 : BitVec 32 := v248
  let v250 : Index := Scalar.indexCast v249
  ![v250.toNat]

def k0_chk32 (v246 : BitVec 32) : Prop :=
  (128 ∣ (k0_mult8 v246).toNat) ∧
  (∀ a, (k0_off32 v246) a + S128.size a ≤ S1000000.size a)
theorem k0_mult8_dvd : ∀ (v246 : BitVec 32) (k0_hw32 : k0_chk32 v246), 128 ∣ (k0_mult8 v246).toNat := fun v246 k0_hw32 => k0_hw32.1
theorem k0_off32_inb : ∀ (v246 : BitVec 32) (k0_hw32 : k0_chk32 v246), ∀ a, (k0_off32 v246) a + S128.size a ≤ S1000000.size a := fun v246 k0_hw32 => k0_hw32.2

def k0_mult9 (v256 : BitVec 32) : BitVec 32 :=
  let c7_i32_169 : BitVec 32 := 7#32
  let v257 : BitVec 32 := Scalar.shrui v256 c7_i32_169
  let c128_i32_170 : BitVec 32 := 128#32
  let v258 : BitVec 32 := Scalar.muli v257 c128_i32_170
  v258

def k0_off33 (v256 : BitVec 32) : Fin 1 → Nat :=
  let c7_i32_169 : BitVec 32 := 7#32
  let v257 : BitVec 32 := Scalar.shrui v256 c7_i32_169
  let c128_i32_170 : BitVec 32 := 128#32
  let v258 : BitVec 32 := Scalar.muli v257 c128_i32_170
  let v259 : BitVec 32 := v258
  let v260 : Index := Scalar.indexCast v259
  ![v260.toNat]

def k0_chk33 (v256 : BitVec 32) : Prop :=
  (128 ∣ (k0_mult9 v256).toNat) ∧
  (∀ a, (k0_off33 v256) a + S128.size a ≤ S1000000.size a)
theorem k0_mult9_dvd : ∀ (v256 : BitVec 32) (k0_hw33 : k0_chk33 v256), 128 ∣ (k0_mult9 v256).toNat := fun v256 k0_hw33 => k0_hw33.1
theorem k0_off33_inb : ∀ (v256 : BitVec 32) (k0_hw33 : k0_chk33 v256), ∀ a, (k0_off33 v256) a + S128.size a ≤ S1000000.size a := fun v256 k0_hw33 => k0_hw33.2

def k0_mult10 (v266 : BitVec 32) : BitVec 32 :=
  let c7_i32_174 : BitVec 32 := 7#32
  let v267 : BitVec 32 := Scalar.shrui v266 c7_i32_174
  let c128_i32_175 : BitVec 32 := 128#32
  let v268 : BitVec 32 := Scalar.muli v267 c128_i32_175
  v268

def k0_off34 (v266 : BitVec 32) : Fin 1 → Nat :=
  let c7_i32_174 : BitVec 32 := 7#32
  let v267 : BitVec 32 := Scalar.shrui v266 c7_i32_174
  let c128_i32_175 : BitVec 32 := 128#32
  let v268 : BitVec 32 := Scalar.muli v267 c128_i32_175
  let v269 : BitVec 32 := v268
  let v270 : Index := Scalar.indexCast v269
  ![v270.toNat]

def k0_chk34 (v266 : BitVec 32) : Prop :=
  (128 ∣ (k0_mult10 v266).toNat) ∧
  (∀ a, (k0_off34 v266) a + S128.size a ≤ S1000000.size a)
theorem k0_mult10_dvd : ∀ (v266 : BitVec 32) (k0_hw34 : k0_chk34 v266), 128 ∣ (k0_mult10 v266).toNat := fun v266 k0_hw34 => k0_hw34.1
theorem k0_off34_inb : ∀ (v266 : BitVec 32) (k0_hw34 : k0_chk34 v266), ∀ a, (k0_off34 v266) a + S128.size a ≤ S1000000.size a := fun v266 k0_hw34 => k0_hw34.2

def k0_mult11 (v276 : BitVec 32) : BitVec 32 :=
  let c7_i32_179 : BitVec 32 := 7#32
  let v277 : BitVec 32 := Scalar.shrui v276 c7_i32_179
  let c128_i32_180 : BitVec 32 := 128#32
  let v278 : BitVec 32 := Scalar.muli v277 c128_i32_180
  v278

def k0_off35 (v276 : BitVec 32) : Fin 1 → Nat :=
  let c7_i32_179 : BitVec 32 := 7#32
  let v277 : BitVec 32 := Scalar.shrui v276 c7_i32_179
  let c128_i32_180 : BitVec 32 := 128#32
  let v278 : BitVec 32 := Scalar.muli v277 c128_i32_180
  let v279 : BitVec 32 := v278
  let v280 : Index := Scalar.indexCast v279
  ![v280.toNat]

def k0_chk35 (v276 : BitVec 32) : Prop :=
  (128 ∣ (k0_mult11 v276).toNat) ∧
  (∀ a, (k0_off35 v276) a + S128.size a ≤ S1000000.size a)
theorem k0_mult11_dvd : ∀ (v276 : BitVec 32) (k0_hw35 : k0_chk35 v276), 128 ∣ (k0_mult11 v276).toNat := fun v276 k0_hw35 => k0_hw35.1
theorem k0_off35_inb : ∀ (v276 : BitVec 32) (k0_hw35 : k0_chk35 v276), ∀ a, (k0_off35 v276) a + S128.size a ≤ S1000000.size a := fun v276 k0_hw35 => k0_hw35.2

def k0_mult12 (v286 : BitVec 32) : BitVec 32 :=
  let c7_i32_184 : BitVec 32 := 7#32
  let v287 : BitVec 32 := Scalar.shrui v286 c7_i32_184
  let c128_i32_185 : BitVec 32 := 128#32
  let v288 : BitVec 32 := Scalar.muli v287 c128_i32_185
  v288

def k0_off36 (v286 : BitVec 32) : Fin 1 → Nat :=
  let c7_i32_184 : BitVec 32 := 7#32
  let v287 : BitVec 32 := Scalar.shrui v286 c7_i32_184
  let c128_i32_185 : BitVec 32 := 128#32
  let v288 : BitVec 32 := Scalar.muli v287 c128_i32_185
  let v289 : BitVec 32 := v288
  let v290 : Index := Scalar.indexCast v289
  ![v290.toNat]

def k0_chk36 (v286 : BitVec 32) : Prop :=
  (128 ∣ (k0_mult12 v286).toNat) ∧
  (∀ a, (k0_off36 v286) a + S128.size a ≤ S1000000.size a)
theorem k0_mult12_dvd : ∀ (v286 : BitVec 32) (k0_hw36 : k0_chk36 v286), 128 ∣ (k0_mult12 v286).toNat := fun v286 k0_hw36 => k0_hw36.1
theorem k0_off36_inb : ∀ (v286 : BitVec 32) (k0_hw36 : k0_chk36 v286), ∀ a, (k0_off36 v286) a + S128.size a ≤ S1000000.size a := fun v286 k0_hw36 => k0_hw36.2

def k0_mult13 (v296 : BitVec 32) : BitVec 32 :=
  let c7_i32_189 : BitVec 32 := 7#32
  let v297 : BitVec 32 := Scalar.shrui v296 c7_i32_189
  let c128_i32_190 : BitVec 32 := 128#32
  let v298 : BitVec 32 := Scalar.muli v297 c128_i32_190
  v298

def k0_off37 (v296 : BitVec 32) : Fin 1 → Nat :=
  let c7_i32_189 : BitVec 32 := 7#32
  let v297 : BitVec 32 := Scalar.shrui v296 c7_i32_189
  let c128_i32_190 : BitVec 32 := 128#32
  let v298 : BitVec 32 := Scalar.muli v297 c128_i32_190
  let v299 : BitVec 32 := v298
  let v300 : Index := Scalar.indexCast v299
  ![v300.toNat]

def k0_chk37 (v296 : BitVec 32) : Prop :=
  (128 ∣ (k0_mult13 v296).toNat) ∧
  (∀ a, (k0_off37 v296) a + S128.size a ≤ S1000000.size a)
theorem k0_mult13_dvd : ∀ (v296 : BitVec 32) (k0_hw37 : k0_chk37 v296), 128 ∣ (k0_mult13 v296).toNat := fun v296 k0_hw37 => k0_hw37.1
theorem k0_off37_inb : ∀ (v296 : BitVec 32) (k0_hw37 : k0_chk37 v296), ∀ a, (k0_off37 v296) a + S128.size a ≤ S1000000.size a := fun v296 k0_hw37 => k0_hw37.2

def k0_mult14 (v306 : BitVec 32) : BitVec 32 :=
  let c7_i32_194 : BitVec 32 := 7#32
  let v307 : BitVec 32 := Scalar.shrui v306 c7_i32_194
  let c128_i32_195 : BitVec 32 := 128#32
  let v308 : BitVec 32 := Scalar.muli v307 c128_i32_195
  v308

def k0_off38 (v306 : BitVec 32) : Fin 1 → Nat :=
  let c7_i32_194 : BitVec 32 := 7#32
  let v307 : BitVec 32 := Scalar.shrui v306 c7_i32_194
  let c128_i32_195 : BitVec 32 := 128#32
  let v308 : BitVec 32 := Scalar.muli v307 c128_i32_195
  let v309 : BitVec 32 := v308
  let v310 : Index := Scalar.indexCast v309
  ![v310.toNat]

def k0_chk38 (v306 : BitVec 32) : Prop :=
  (128 ∣ (k0_mult14 v306).toNat) ∧
  (∀ a, (k0_off38 v306) a + S128.size a ≤ S1000000.size a)
theorem k0_mult14_dvd : ∀ (v306 : BitVec 32) (k0_hw38 : k0_chk38 v306), 128 ∣ (k0_mult14 v306).toNat := fun v306 k0_hw38 => k0_hw38.1
theorem k0_off38_inb : ∀ (v306 : BitVec 32) (k0_hw38 : k0_chk38 v306), ∀ a, (k0_off38 v306) a + S128.size a ≤ S1000000.size a := fun v306 k0_hw38 => k0_hw38.2

def k0_mult15 (v316 : BitVec 32) : BitVec 32 :=
  let c7_i32_199 : BitVec 32 := 7#32
  let v317 : BitVec 32 := Scalar.shrui v316 c7_i32_199
  let c128_i32_200 : BitVec 32 := 128#32
  let v318 : BitVec 32 := Scalar.muli v317 c128_i32_200
  v318

def k0_off39 (v316 : BitVec 32) : Fin 1 → Nat :=
  let c7_i32_199 : BitVec 32 := 7#32
  let v317 : BitVec 32 := Scalar.shrui v316 c7_i32_199
  let c128_i32_200 : BitVec 32 := 128#32
  let v318 : BitVec 32 := Scalar.muli v317 c128_i32_200
  let v319 : BitVec 32 := v318
  let v320 : Index := Scalar.indexCast v319
  ![v320.toNat]

def k0_chk39 (v316 : BitVec 32) : Prop :=
  (128 ∣ (k0_mult15 v316).toNat) ∧
  (∀ a, (k0_off39 v316) a + S128.size a ≤ S1000000.size a)
theorem k0_mult15_dvd : ∀ (v316 : BitVec 32) (k0_hw39 : k0_chk39 v316), 128 ∣ (k0_mult15 v316).toNat := fun v316 k0_hw39 => k0_hw39.1
theorem k0_off39_inb : ∀ (v316 : BitVec 32) (k0_hw39 : k0_chk39 v316), ∀ a, (k0_off39 v316) a + S128.size a ≤ S1000000.size a := fun v316 k0_hw39 => k0_hw39.2

def k0_mult16 (v326 : BitVec 32) : BitVec 32 :=
  let c7_i32_204 : BitVec 32 := 7#32
  let v327 : BitVec 32 := Scalar.shrui v326 c7_i32_204
  let c128_i32_205 : BitVec 32 := 128#32
  let v328 : BitVec 32 := Scalar.muli v327 c128_i32_205
  v328

def k0_off40 (v326 : BitVec 32) : Fin 1 → Nat :=
  let c7_i32_204 : BitVec 32 := 7#32
  let v327 : BitVec 32 := Scalar.shrui v326 c7_i32_204
  let c128_i32_205 : BitVec 32 := 128#32
  let v328 : BitVec 32 := Scalar.muli v327 c128_i32_205
  let v329 : BitVec 32 := v328
  let v330 : Index := Scalar.indexCast v329
  ![v330.toNat]

def k0_chk40 (v326 : BitVec 32) : Prop :=
  (128 ∣ (k0_mult16 v326).toNat) ∧
  (∀ a, (k0_off40 v326) a + S128.size a ≤ S1000000.size a)
theorem k0_mult16_dvd : ∀ (v326 : BitVec 32) (k0_hw40 : k0_chk40 v326), 128 ∣ (k0_mult16 v326).toNat := fun v326 k0_hw40 => k0_hw40.1
theorem k0_off40_inb : ∀ (v326 : BitVec 32) (k0_hw40 : k0_chk40 v326), ∀ a, (k0_off40 v326) a + S128.size a ≤ S1000000.size a := fun v326 k0_hw40 => k0_hw40.2

def k0_mult17 (v336 : BitVec 32) : BitVec 32 :=
  let c7_i32_209 : BitVec 32 := 7#32
  let v337 : BitVec 32 := Scalar.shrui v336 c7_i32_209
  let c128_i32_210 : BitVec 32 := 128#32
  let v338 : BitVec 32 := Scalar.muli v337 c128_i32_210
  v338

def k0_off41 (v336 : BitVec 32) : Fin 1 → Nat :=
  let c7_i32_209 : BitVec 32 := 7#32
  let v337 : BitVec 32 := Scalar.shrui v336 c7_i32_209
  let c128_i32_210 : BitVec 32 := 128#32
  let v338 : BitVec 32 := Scalar.muli v337 c128_i32_210
  let v339 : BitVec 32 := v338
  let v340 : Index := Scalar.indexCast v339
  ![v340.toNat]

def k0_chk41 (v336 : BitVec 32) : Prop :=
  (128 ∣ (k0_mult17 v336).toNat) ∧
  (∀ a, (k0_off41 v336) a + S128.size a ≤ S1000000.size a)
theorem k0_mult17_dvd : ∀ (v336 : BitVec 32) (k0_hw41 : k0_chk41 v336), 128 ∣ (k0_mult17 v336).toNat := fun v336 k0_hw41 => k0_hw41.1
theorem k0_off41_inb : ∀ (v336 : BitVec 32) (k0_hw41 : k0_chk41 v336), ∀ a, (k0_off41 v336) a + S128.size a ≤ S1000000.size a := fun v336 k0_hw41 => k0_hw41.2

def k0_mult18 (v346 : BitVec 32) : BitVec 32 :=
  let c7_i32_214 : BitVec 32 := 7#32
  let v347 : BitVec 32 := Scalar.shrui v346 c7_i32_214
  let c128_i32_215 : BitVec 32 := 128#32
  let v348 : BitVec 32 := Scalar.muli v347 c128_i32_215
  v348

def k0_off42 (v346 : BitVec 32) : Fin 1 → Nat :=
  let c7_i32_214 : BitVec 32 := 7#32
  let v347 : BitVec 32 := Scalar.shrui v346 c7_i32_214
  let c128_i32_215 : BitVec 32 := 128#32
  let v348 : BitVec 32 := Scalar.muli v347 c128_i32_215
  let v349 : BitVec 32 := v348
  let v350 : Index := Scalar.indexCast v349
  ![v350.toNat]

def k0_chk42 (v346 : BitVec 32) : Prop :=
  (128 ∣ (k0_mult18 v346).toNat) ∧
  (∀ a, (k0_off42 v346) a + S128.size a ≤ S1000000.size a)
theorem k0_mult18_dvd : ∀ (v346 : BitVec 32) (k0_hw42 : k0_chk42 v346), 128 ∣ (k0_mult18 v346).toNat := fun v346 k0_hw42 => k0_hw42.1
theorem k0_off42_inb : ∀ (v346 : BitVec 32) (k0_hw42 : k0_chk42 v346), ∀ a, (k0_off42 v346) a + S128.size a ≤ S1000000.size a := fun v346 k0_hw42 => k0_hw42.2

def k0_mult19 (v356 : BitVec 32) : BitVec 32 :=
  let c7_i32_219 : BitVec 32 := 7#32
  let v357 : BitVec 32 := Scalar.shrui v356 c7_i32_219
  let c128_i32_220 : BitVec 32 := 128#32
  let v358 : BitVec 32 := Scalar.muli v357 c128_i32_220
  v358

def k0_off43 (v356 : BitVec 32) : Fin 1 → Nat :=
  let c7_i32_219 : BitVec 32 := 7#32
  let v357 : BitVec 32 := Scalar.shrui v356 c7_i32_219
  let c128_i32_220 : BitVec 32 := 128#32
  let v358 : BitVec 32 := Scalar.muli v357 c128_i32_220
  let v359 : BitVec 32 := v358
  let v360 : Index := Scalar.indexCast v359
  ![v360.toNat]

def k0_chk43 (v356 : BitVec 32) : Prop :=
  (128 ∣ (k0_mult19 v356).toNat) ∧
  (∀ a, (k0_off43 v356) a + S128.size a ≤ S1000000.size a)
theorem k0_mult19_dvd : ∀ (v356 : BitVec 32) (k0_hw43 : k0_chk43 v356), 128 ∣ (k0_mult19 v356).toNat := fun v356 k0_hw43 => k0_hw43.1
theorem k0_off43_inb : ∀ (v356 : BitVec 32) (k0_hw43 : k0_chk43 v356), ∀ a, (k0_off43 v356) a + S128.size a ≤ S1000000.size a := fun v356 k0_hw43 => k0_hw43.2

def k0_mult20 (v366 : BitVec 32) : BitVec 32 :=
  let c7_i32_224 : BitVec 32 := 7#32
  let v367 : BitVec 32 := Scalar.shrui v366 c7_i32_224
  let c128_i32_225 : BitVec 32 := 128#32
  let v368 : BitVec 32 := Scalar.muli v367 c128_i32_225
  v368

def k0_off44 (v366 : BitVec 32) : Fin 1 → Nat :=
  let c7_i32_224 : BitVec 32 := 7#32
  let v367 : BitVec 32 := Scalar.shrui v366 c7_i32_224
  let c128_i32_225 : BitVec 32 := 128#32
  let v368 : BitVec 32 := Scalar.muli v367 c128_i32_225
  let v369 : BitVec 32 := v368
  let v370 : Index := Scalar.indexCast v369
  ![v370.toNat]

def k0_chk44 (v366 : BitVec 32) : Prop :=
  (128 ∣ (k0_mult20 v366).toNat) ∧
  (∀ a, (k0_off44 v366) a + S128.size a ≤ S1000000.size a)
theorem k0_mult20_dvd : ∀ (v366 : BitVec 32) (k0_hw44 : k0_chk44 v366), 128 ∣ (k0_mult20 v366).toNat := fun v366 k0_hw44 => k0_hw44.1
theorem k0_off44_inb : ∀ (v366 : BitVec 32) (k0_hw44 : k0_chk44 v366), ∀ a, (k0_off44 v366) a + S128.size a ≤ S1000000.size a := fun v366 k0_hw44 => k0_hw44.2

def k0_mult21 (v376 : BitVec 32) : BitVec 32 :=
  let c7_i32_229 : BitVec 32 := 7#32
  let v377 : BitVec 32 := Scalar.shrui v376 c7_i32_229
  let c128_i32_230 : BitVec 32 := 128#32
  let v378 : BitVec 32 := Scalar.muli v377 c128_i32_230
  v378

def k0_off45 (v376 : BitVec 32) : Fin 1 → Nat :=
  let c7_i32_229 : BitVec 32 := 7#32
  let v377 : BitVec 32 := Scalar.shrui v376 c7_i32_229
  let c128_i32_230 : BitVec 32 := 128#32
  let v378 : BitVec 32 := Scalar.muli v377 c128_i32_230
  let v379 : BitVec 32 := v378
  let v380 : Index := Scalar.indexCast v379
  ![v380.toNat]

def k0_chk45 (v376 : BitVec 32) : Prop :=
  (128 ∣ (k0_mult21 v376).toNat) ∧
  (∀ a, (k0_off45 v376) a + S128.size a ≤ S1000000.size a)
theorem k0_mult21_dvd : ∀ (v376 : BitVec 32) (k0_hw45 : k0_chk45 v376), 128 ∣ (k0_mult21 v376).toNat := fun v376 k0_hw45 => k0_hw45.1
theorem k0_off45_inb : ∀ (v376 : BitVec 32) (k0_hw45 : k0_chk45 v376), ∀ a, (k0_off45 v376) a + S128.size a ≤ S1000000.size a := fun v376 k0_hw45 => k0_hw45.2

def k0_mult22 (v386 : BitVec 32) : BitVec 32 :=
  let c7_i32_234 : BitVec 32 := 7#32
  let v387 : BitVec 32 := Scalar.shrui v386 c7_i32_234
  let c128_i32_235 : BitVec 32 := 128#32
  let v388 : BitVec 32 := Scalar.muli v387 c128_i32_235
  v388

def k0_off46 (v386 : BitVec 32) : Fin 1 → Nat :=
  let c7_i32_234 : BitVec 32 := 7#32
  let v387 : BitVec 32 := Scalar.shrui v386 c7_i32_234
  let c128_i32_235 : BitVec 32 := 128#32
  let v388 : BitVec 32 := Scalar.muli v387 c128_i32_235
  let v389 : BitVec 32 := v388
  let v390 : Index := Scalar.indexCast v389
  ![v390.toNat]

def k0_chk46 (v386 : BitVec 32) : Prop :=
  (128 ∣ (k0_mult22 v386).toNat) ∧
  (∀ a, (k0_off46 v386) a + S128.size a ≤ S1000000.size a)
theorem k0_mult22_dvd : ∀ (v386 : BitVec 32) (k0_hw46 : k0_chk46 v386), 128 ∣ (k0_mult22 v386).toNat := fun v386 k0_hw46 => k0_hw46.1
theorem k0_off46_inb : ∀ (v386 : BitVec 32) (k0_hw46 : k0_chk46 v386), ∀ a, (k0_off46 v386) a + S128.size a ≤ S1000000.size a := fun v386 k0_hw46 => k0_hw46.2

def k0_mult23 (v396 : BitVec 32) : BitVec 32 :=
  let c7_i32_239 : BitVec 32 := 7#32
  let v397 : BitVec 32 := Scalar.shrui v396 c7_i32_239
  let c128_i32_240 : BitVec 32 := 128#32
  let v398 : BitVec 32 := Scalar.muli v397 c128_i32_240
  v398

def k0_off47 (v396 : BitVec 32) : Fin 1 → Nat :=
  let c7_i32_239 : BitVec 32 := 7#32
  let v397 : BitVec 32 := Scalar.shrui v396 c7_i32_239
  let c128_i32_240 : BitVec 32 := 128#32
  let v398 : BitVec 32 := Scalar.muli v397 c128_i32_240
  let v399 : BitVec 32 := v398
  let v400 : Index := Scalar.indexCast v399
  ![v400.toNat]

def k0_chk47 (v396 : BitVec 32) : Prop :=
  (128 ∣ (k0_mult23 v396).toNat) ∧
  (∀ a, (k0_off47 v396) a + S128.size a ≤ S1000000.size a)
theorem k0_mult23_dvd : ∀ (v396 : BitVec 32) (k0_hw47 : k0_chk47 v396), 128 ∣ (k0_mult23 v396).toNat := fun v396 k0_hw47 => k0_hw47.1
theorem k0_off47_inb : ∀ (v396 : BitVec 32) (k0_hw47 : k0_chk47 v396), ∀ a, (k0_off47 v396) a + S128.size a ≤ S1000000.size a := fun v396 k0_hw47 => k0_hw47.2

def k0_mult24 (v406 : BitVec 32) : BitVec 32 :=
  let c7_i32_244 : BitVec 32 := 7#32
  let v407 : BitVec 32 := Scalar.shrui v406 c7_i32_244
  let c128_i32_245 : BitVec 32 := 128#32
  let v408 : BitVec 32 := Scalar.muli v407 c128_i32_245
  v408

def k0_off48 (v406 : BitVec 32) : Fin 1 → Nat :=
  let c7_i32_244 : BitVec 32 := 7#32
  let v407 : BitVec 32 := Scalar.shrui v406 c7_i32_244
  let c128_i32_245 : BitVec 32 := 128#32
  let v408 : BitVec 32 := Scalar.muli v407 c128_i32_245
  let v409 : BitVec 32 := v408
  let v410 : Index := Scalar.indexCast v409
  ![v410.toNat]

def k0_chk48 (v406 : BitVec 32) : Prop :=
  (128 ∣ (k0_mult24 v406).toNat) ∧
  (∀ a, (k0_off48 v406) a + S128.size a ≤ S1000000.size a)
theorem k0_mult24_dvd : ∀ (v406 : BitVec 32) (k0_hw48 : k0_chk48 v406), 128 ∣ (k0_mult24 v406).toNat := fun v406 k0_hw48 => k0_hw48.1
theorem k0_off48_inb : ∀ (v406 : BitVec 32) (k0_hw48 : k0_chk48 v406), ∀ a, (k0_off48 v406) a + S128.size a ≤ S1000000.size a := fun v406 k0_hw48 => k0_hw48.2

def k0_off49 : Fin 2 → Nat :=
  let c0_i32_248 : BitVec 32 := 0#32
  let c2_i32_249 : BitVec 32 := 2#32
  let v416 : BitVec 32 := Scalar.shrui c0_i32_248 c2_i32_249
  let c0_i32_254 : BitVec 32 := 0#32
  ![v416.toNat, 0]
@[reducible] def k0_t1_loop : Scf.Loop 32 :=
  let c0_i32_440 : BitVec 32 := 0#32
  let c24_i32_441 : BitVec 32 := 24#32
  let v615 : BitVec 32 := Scalar.addi c0_i32_440 c24_i32_441
  let c1_i32_442 : BitVec 32 := 1#32
  ⟨c0_i32_440, v615, c1_i32_442⟩
def k0_off50 (k0_t1 : Fin k0_t1_loop.trips) : Fin 1 → Nat :=
  let c0_i32_440 : BitVec 32 := 0#32
  let c1_i32_442 : BitVec 32 := 1#32
  let arg24 : BitVec 32 := Scf.iv c0_i32_440 c1_i32_442 k0_t1
  let v662 : Index := Scalar.indexCast arg24
  ![v662.toNat]
@[reducible] def k0_t2_loop (v617 : BitVec 32) : Scf.Loop 32 :=
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_456 : BitVec 32 := 1#32
  ⟨c0_i32_454, v630, c1_i32_456⟩

def k0_off51 (v617 : BitVec 32) (k0_t2 : Fin (k0_t2_loop v617).trips) : Fin 2 → Nat :=
  let c0_487 : Index := 0#32
  let c0_i32_486 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_484 : BitVec 32 := 16#32
  let v664 : BitVec 32 := Scalar.muli v663 c16_i32_484
  let c0_i32_485 : BitVec 32 := 0#32
  let v665 : BitVec 32 := Scalar.addi v664 c0_i32_485
  let v666 : BitVec 32 := Scalar.addi c0_i32_486 v665
  let v667 : Index := Scalar.indexCast v666
  ![0, v667.toNat]
def k0_off52 (v617 : BitVec 32) (k0_t2 : Fin (k0_t2_loop v617).trips) : Fin 3 → Nat :=
  let c0_i32_489 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_484 : BitVec 32 := 16#32
  let v664 : BitVec 32 := Scalar.muli v663 c16_i32_484
  let c0_i32_485 : BitVec 32 := 0#32
  let v665 : BitVec 32 := Scalar.addi v664 c0_i32_485
  let c0_i32_491 : BitVec 32 := 0#32
  ![0, v665.toNat, 0]
def k0_off53 (v668 : BitVec 32) : Fin 2 → Nat :=
  let c2_i32_488 : BitVec 32 := 2#32
  let v669 : BitVec 32 := Scalar.shrui v668 c2_i32_488
  let c0_i32_492 : BitVec 32 := 0#32
  ![v669.toNat, 0]

def k0_chk50 (v668 : BitVec 32) : Prop :=
  (∀ a, (k0_off53 v668) a + S1x256.size a ≤ S250000x256.size a)
theorem k0_off53_inb : ∀ (v668 : BitVec 32) (k0_hw50 : k0_chk50 v668), ∀ a, (k0_off53 v668) a + S1x256.size a ≤ S250000x256.size a := fun v668 k0_hw50 => k0_hw50

def k0_off54 (v617 : BitVec 32) (k0_t2 : Fin (k0_t2_loop v617).trips) : Fin 2 → Nat :=
  let c0_496 : Index := 0#32
  let c0_i32_495 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_493 : BitVec 32 := 16#32
  let v675 : BitVec 32 := Scalar.muli v663 c16_i32_493
  let c1_i32_494 : BitVec 32 := 1#32
  let v676 : BitVec 32 := Scalar.addi v675 c1_i32_494
  let v677 : BitVec 32 := Scalar.addi c0_i32_495 v676
  let v678 : Index := Scalar.indexCast v677
  ![0, v678.toNat]
def k0_off55 (v617 : BitVec 32) (k0_t2 : Fin (k0_t2_loop v617).trips) : Fin 3 → Nat :=
  let c0_i32_498 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_493 : BitVec 32 := 16#32
  let v675 : BitVec 32 := Scalar.muli v663 c16_i32_493
  let c1_i32_494 : BitVec 32 := 1#32
  let v676 : BitVec 32 := Scalar.addi v675 c1_i32_494
  let c0_i32_500 : BitVec 32 := 0#32
  ![0, v676.toNat, 0]
def k0_off56 (v679 : BitVec 32) : Fin 2 → Nat :=
  let c2_i32_497 : BitVec 32 := 2#32
  let v680 : BitVec 32 := Scalar.shrui v679 c2_i32_497
  let c0_i32_501 : BitVec 32 := 0#32
  ![v680.toNat, 0]

def k0_chk51 (v679 : BitVec 32) : Prop :=
  (∀ a, (k0_off56 v679) a + S1x256.size a ≤ S250000x256.size a)
theorem k0_off56_inb : ∀ (v679 : BitVec 32) (k0_hw51 : k0_chk51 v679), ∀ a, (k0_off56 v679) a + S1x256.size a ≤ S250000x256.size a := fun v679 k0_hw51 => k0_hw51

def k0_off57 (v617 : BitVec 32) (k0_t2 : Fin (k0_t2_loop v617).trips) : Fin 2 → Nat :=
  let c0_505 : Index := 0#32
  let c0_i32_504 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_502 : BitVec 32 := 16#32
  let v686 : BitVec 32 := Scalar.muli v663 c16_i32_502
  let c2_i32_503 : BitVec 32 := 2#32
  let v687 : BitVec 32 := Scalar.addi v686 c2_i32_503
  let v688 : BitVec 32 := Scalar.addi c0_i32_504 v687
  let v689 : Index := Scalar.indexCast v688
  ![0, v689.toNat]
def k0_off58 (v617 : BitVec 32) (k0_t2 : Fin (k0_t2_loop v617).trips) : Fin 3 → Nat :=
  let c0_i32_507 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_502 : BitVec 32 := 16#32
  let v686 : BitVec 32 := Scalar.muli v663 c16_i32_502
  let c2_i32_503 : BitVec 32 := 2#32
  let v687 : BitVec 32 := Scalar.addi v686 c2_i32_503
  let c0_i32_509 : BitVec 32 := 0#32
  ![0, v687.toNat, 0]
def k0_off59 (v690 : BitVec 32) : Fin 2 → Nat :=
  let c2_i32_506 : BitVec 32 := 2#32
  let v691 : BitVec 32 := Scalar.shrui v690 c2_i32_506
  let c0_i32_510 : BitVec 32 := 0#32
  ![v691.toNat, 0]

def k0_chk52 (v690 : BitVec 32) : Prop :=
  (∀ a, (k0_off59 v690) a + S1x256.size a ≤ S250000x256.size a)
theorem k0_off59_inb : ∀ (v690 : BitVec 32) (k0_hw52 : k0_chk52 v690), ∀ a, (k0_off59 v690) a + S1x256.size a ≤ S250000x256.size a := fun v690 k0_hw52 => k0_hw52

def k0_off60 (v617 : BitVec 32) (k0_t2 : Fin (k0_t2_loop v617).trips) : Fin 2 → Nat :=
  let c0_514 : Index := 0#32
  let c0_i32_513 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_511 : BitVec 32 := 16#32
  let v697 : BitVec 32 := Scalar.muli v663 c16_i32_511
  let c3_i32_512 : BitVec 32 := 3#32
  let v698 : BitVec 32 := Scalar.addi v697 c3_i32_512
  let v699 : BitVec 32 := Scalar.addi c0_i32_513 v698
  let v700 : Index := Scalar.indexCast v699
  ![0, v700.toNat]
def k0_off61 (v617 : BitVec 32) (k0_t2 : Fin (k0_t2_loop v617).trips) : Fin 3 → Nat :=
  let c0_i32_516 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_511 : BitVec 32 := 16#32
  let v697 : BitVec 32 := Scalar.muli v663 c16_i32_511
  let c3_i32_512 : BitVec 32 := 3#32
  let v698 : BitVec 32 := Scalar.addi v697 c3_i32_512
  let c0_i32_518 : BitVec 32 := 0#32
  ![0, v698.toNat, 0]
def k0_off62 (v701 : BitVec 32) : Fin 2 → Nat :=
  let c2_i32_515 : BitVec 32 := 2#32
  let v702 : BitVec 32 := Scalar.shrui v701 c2_i32_515
  let c0_i32_519 : BitVec 32 := 0#32
  ![v702.toNat, 0]

def k0_chk53 (v701 : BitVec 32) : Prop :=
  (∀ a, (k0_off62 v701) a + S1x256.size a ≤ S250000x256.size a)
theorem k0_off62_inb : ∀ (v701 : BitVec 32) (k0_hw53 : k0_chk53 v701), ∀ a, (k0_off62 v701) a + S1x256.size a ≤ S250000x256.size a := fun v701 k0_hw53 => k0_hw53

def k0_off63 (v617 : BitVec 32) (k0_t2 : Fin (k0_t2_loop v617).trips) : Fin 2 → Nat :=
  let c0_523 : Index := 0#32
  let c0_i32_522 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_520 : BitVec 32 := 16#32
  let v708 : BitVec 32 := Scalar.muli v663 c16_i32_520
  let c4_i32_521 : BitVec 32 := 4#32
  let v709 : BitVec 32 := Scalar.addi v708 c4_i32_521
  let v710 : BitVec 32 := Scalar.addi c0_i32_522 v709
  let v711 : Index := Scalar.indexCast v710
  ![0, v711.toNat]
def k0_off64 (v617 : BitVec 32) (k0_t2 : Fin (k0_t2_loop v617).trips) : Fin 3 → Nat :=
  let c0_i32_525 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_520 : BitVec 32 := 16#32
  let v708 : BitVec 32 := Scalar.muli v663 c16_i32_520
  let c4_i32_521 : BitVec 32 := 4#32
  let v709 : BitVec 32 := Scalar.addi v708 c4_i32_521
  let c0_i32_527 : BitVec 32 := 0#32
  ![0, v709.toNat, 0]
def k0_off65 (v712 : BitVec 32) : Fin 2 → Nat :=
  let c2_i32_524 : BitVec 32 := 2#32
  let v713 : BitVec 32 := Scalar.shrui v712 c2_i32_524
  let c0_i32_528 : BitVec 32 := 0#32
  ![v713.toNat, 0]

def k0_chk54 (v712 : BitVec 32) : Prop :=
  (∀ a, (k0_off65 v712) a + S1x256.size a ≤ S250000x256.size a)
theorem k0_off65_inb : ∀ (v712 : BitVec 32) (k0_hw54 : k0_chk54 v712), ∀ a, (k0_off65 v712) a + S1x256.size a ≤ S250000x256.size a := fun v712 k0_hw54 => k0_hw54

def k0_off66 (v617 : BitVec 32) (k0_t2 : Fin (k0_t2_loop v617).trips) : Fin 2 → Nat :=
  let c0_532 : Index := 0#32
  let c0_i32_531 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_529 : BitVec 32 := 16#32
  let v719 : BitVec 32 := Scalar.muli v663 c16_i32_529
  let c5_i32_530 : BitVec 32 := 5#32
  let v720 : BitVec 32 := Scalar.addi v719 c5_i32_530
  let v721 : BitVec 32 := Scalar.addi c0_i32_531 v720
  let v722 : Index := Scalar.indexCast v721
  ![0, v722.toNat]
def k0_off67 (v617 : BitVec 32) (k0_t2 : Fin (k0_t2_loop v617).trips) : Fin 3 → Nat :=
  let c0_i32_534 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_529 : BitVec 32 := 16#32
  let v719 : BitVec 32 := Scalar.muli v663 c16_i32_529
  let c5_i32_530 : BitVec 32 := 5#32
  let v720 : BitVec 32 := Scalar.addi v719 c5_i32_530
  let c0_i32_536 : BitVec 32 := 0#32
  ![0, v720.toNat, 0]
def k0_off68 (v723 : BitVec 32) : Fin 2 → Nat :=
  let c2_i32_533 : BitVec 32 := 2#32
  let v724 : BitVec 32 := Scalar.shrui v723 c2_i32_533
  let c0_i32_537 : BitVec 32 := 0#32
  ![v724.toNat, 0]

def k0_chk55 (v723 : BitVec 32) : Prop :=
  (∀ a, (k0_off68 v723) a + S1x256.size a ≤ S250000x256.size a)
theorem k0_off68_inb : ∀ (v723 : BitVec 32) (k0_hw55 : k0_chk55 v723), ∀ a, (k0_off68 v723) a + S1x256.size a ≤ S250000x256.size a := fun v723 k0_hw55 => k0_hw55

def k0_off69 (v617 : BitVec 32) (k0_t2 : Fin (k0_t2_loop v617).trips) : Fin 2 → Nat :=
  let c0_541 : Index := 0#32
  let c0_i32_540 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_538 : BitVec 32 := 16#32
  let v730 : BitVec 32 := Scalar.muli v663 c16_i32_538
  let c6_i32_539 : BitVec 32 := 6#32
  let v731 : BitVec 32 := Scalar.addi v730 c6_i32_539
  let v732 : BitVec 32 := Scalar.addi c0_i32_540 v731
  let v733 : Index := Scalar.indexCast v732
  ![0, v733.toNat]
def k0_off70 (v617 : BitVec 32) (k0_t2 : Fin (k0_t2_loop v617).trips) : Fin 3 → Nat :=
  let c0_i32_543 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_538 : BitVec 32 := 16#32
  let v730 : BitVec 32 := Scalar.muli v663 c16_i32_538
  let c6_i32_539 : BitVec 32 := 6#32
  let v731 : BitVec 32 := Scalar.addi v730 c6_i32_539
  let c0_i32_545 : BitVec 32 := 0#32
  ![0, v731.toNat, 0]
def k0_off71 (v734 : BitVec 32) : Fin 2 → Nat :=
  let c2_i32_542 : BitVec 32 := 2#32
  let v735 : BitVec 32 := Scalar.shrui v734 c2_i32_542
  let c0_i32_546 : BitVec 32 := 0#32
  ![v735.toNat, 0]

def k0_chk56 (v734 : BitVec 32) : Prop :=
  (∀ a, (k0_off71 v734) a + S1x256.size a ≤ S250000x256.size a)
theorem k0_off71_inb : ∀ (v734 : BitVec 32) (k0_hw56 : k0_chk56 v734), ∀ a, (k0_off71 v734) a + S1x256.size a ≤ S250000x256.size a := fun v734 k0_hw56 => k0_hw56

def k0_off72 (v617 : BitVec 32) (k0_t2 : Fin (k0_t2_loop v617).trips) : Fin 2 → Nat :=
  let c0_550 : Index := 0#32
  let c0_i32_549 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_547 : BitVec 32 := 16#32
  let v741 : BitVec 32 := Scalar.muli v663 c16_i32_547
  let c7_i32_548 : BitVec 32 := 7#32
  let v742 : BitVec 32 := Scalar.addi v741 c7_i32_548
  let v743 : BitVec 32 := Scalar.addi c0_i32_549 v742
  let v744 : Index := Scalar.indexCast v743
  ![0, v744.toNat]
def k0_off73 (v617 : BitVec 32) (k0_t2 : Fin (k0_t2_loop v617).trips) : Fin 3 → Nat :=
  let c0_i32_552 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_547 : BitVec 32 := 16#32
  let v741 : BitVec 32 := Scalar.muli v663 c16_i32_547
  let c7_i32_548 : BitVec 32 := 7#32
  let v742 : BitVec 32 := Scalar.addi v741 c7_i32_548
  let c0_i32_554 : BitVec 32 := 0#32
  ![0, v742.toNat, 0]
def k0_off74 (v745 : BitVec 32) : Fin 2 → Nat :=
  let c2_i32_551 : BitVec 32 := 2#32
  let v746 : BitVec 32 := Scalar.shrui v745 c2_i32_551
  let c0_i32_555 : BitVec 32 := 0#32
  ![v746.toNat, 0]

def k0_chk57 (v745 : BitVec 32) : Prop :=
  (∀ a, (k0_off74 v745) a + S1x256.size a ≤ S250000x256.size a)
theorem k0_off74_inb : ∀ (v745 : BitVec 32) (k0_hw57 : k0_chk57 v745), ∀ a, (k0_off74 v745) a + S1x256.size a ≤ S250000x256.size a := fun v745 k0_hw57 => k0_hw57

def k0_off75 (v617 : BitVec 32) (k0_t2 : Fin (k0_t2_loop v617).trips) : Fin 2 → Nat :=
  let c0_559 : Index := 0#32
  let c0_i32_558 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_556 : BitVec 32 := 16#32
  let v752 : BitVec 32 := Scalar.muli v663 c16_i32_556
  let c8_i32_557 : BitVec 32 := 8#32
  let v753 : BitVec 32 := Scalar.addi v752 c8_i32_557
  let v754 : BitVec 32 := Scalar.addi c0_i32_558 v753
  let v755 : Index := Scalar.indexCast v754
  ![0, v755.toNat]
def k0_off76 (v617 : BitVec 32) (k0_t2 : Fin (k0_t2_loop v617).trips) : Fin 3 → Nat :=
  let c0_i32_561 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_556 : BitVec 32 := 16#32
  let v752 : BitVec 32 := Scalar.muli v663 c16_i32_556
  let c8_i32_557 : BitVec 32 := 8#32
  let v753 : BitVec 32 := Scalar.addi v752 c8_i32_557
  let c0_i32_563 : BitVec 32 := 0#32
  ![0, v753.toNat, 0]
def k0_off77 (v756 : BitVec 32) : Fin 2 → Nat :=
  let c2_i32_560 : BitVec 32 := 2#32
  let v757 : BitVec 32 := Scalar.shrui v756 c2_i32_560
  let c0_i32_564 : BitVec 32 := 0#32
  ![v757.toNat, 0]

def k0_chk58 (v756 : BitVec 32) : Prop :=
  (∀ a, (k0_off77 v756) a + S1x256.size a ≤ S250000x256.size a)
theorem k0_off77_inb : ∀ (v756 : BitVec 32) (k0_hw58 : k0_chk58 v756), ∀ a, (k0_off77 v756) a + S1x256.size a ≤ S250000x256.size a := fun v756 k0_hw58 => k0_hw58

def k0_off78 (v617 : BitVec 32) (k0_t2 : Fin (k0_t2_loop v617).trips) : Fin 2 → Nat :=
  let c0_568 : Index := 0#32
  let c0_i32_567 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_565 : BitVec 32 := 16#32
  let v763 : BitVec 32 := Scalar.muli v663 c16_i32_565
  let c9_i32_566 : BitVec 32 := 9#32
  let v764 : BitVec 32 := Scalar.addi v763 c9_i32_566
  let v765 : BitVec 32 := Scalar.addi c0_i32_567 v764
  let v766 : Index := Scalar.indexCast v765
  ![0, v766.toNat]
def k0_off79 (v617 : BitVec 32) (k0_t2 : Fin (k0_t2_loop v617).trips) : Fin 3 → Nat :=
  let c0_i32_570 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_565 : BitVec 32 := 16#32
  let v763 : BitVec 32 := Scalar.muli v663 c16_i32_565
  let c9_i32_566 : BitVec 32 := 9#32
  let v764 : BitVec 32 := Scalar.addi v763 c9_i32_566
  let c0_i32_572 : BitVec 32 := 0#32
  ![0, v764.toNat, 0]
def k0_off80 (v767 : BitVec 32) : Fin 2 → Nat :=
  let c2_i32_569 : BitVec 32 := 2#32
  let v768 : BitVec 32 := Scalar.shrui v767 c2_i32_569
  let c0_i32_573 : BitVec 32 := 0#32
  ![v768.toNat, 0]

def k0_chk59 (v767 : BitVec 32) : Prop :=
  (∀ a, (k0_off80 v767) a + S1x256.size a ≤ S250000x256.size a)
theorem k0_off80_inb : ∀ (v767 : BitVec 32) (k0_hw59 : k0_chk59 v767), ∀ a, (k0_off80 v767) a + S1x256.size a ≤ S250000x256.size a := fun v767 k0_hw59 => k0_hw59

def k0_off81 (v617 : BitVec 32) (k0_t2 : Fin (k0_t2_loop v617).trips) : Fin 2 → Nat :=
  let c0_577 : Index := 0#32
  let c0_i32_576 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_574 : BitVec 32 := 16#32
  let v774 : BitVec 32 := Scalar.muli v663 c16_i32_574
  let c10_i32_575 : BitVec 32 := 10#32
  let v775 : BitVec 32 := Scalar.addi v774 c10_i32_575
  let v776 : BitVec 32 := Scalar.addi c0_i32_576 v775
  let v777 : Index := Scalar.indexCast v776
  ![0, v777.toNat]
def k0_off82 (v617 : BitVec 32) (k0_t2 : Fin (k0_t2_loop v617).trips) : Fin 3 → Nat :=
  let c0_i32_579 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_574 : BitVec 32 := 16#32
  let v774 : BitVec 32 := Scalar.muli v663 c16_i32_574
  let c10_i32_575 : BitVec 32 := 10#32
  let v775 : BitVec 32 := Scalar.addi v774 c10_i32_575
  let c0_i32_581 : BitVec 32 := 0#32
  ![0, v775.toNat, 0]
def k0_off83 (v778 : BitVec 32) : Fin 2 → Nat :=
  let c2_i32_578 : BitVec 32 := 2#32
  let v779 : BitVec 32 := Scalar.shrui v778 c2_i32_578
  let c0_i32_582 : BitVec 32 := 0#32
  ![v779.toNat, 0]

def k0_chk60 (v778 : BitVec 32) : Prop :=
  (∀ a, (k0_off83 v778) a + S1x256.size a ≤ S250000x256.size a)
theorem k0_off83_inb : ∀ (v778 : BitVec 32) (k0_hw60 : k0_chk60 v778), ∀ a, (k0_off83 v778) a + S1x256.size a ≤ S250000x256.size a := fun v778 k0_hw60 => k0_hw60

def k0_off84 (v617 : BitVec 32) (k0_t2 : Fin (k0_t2_loop v617).trips) : Fin 2 → Nat :=
  let c0_586 : Index := 0#32
  let c0_i32_585 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_583 : BitVec 32 := 16#32
  let v785 : BitVec 32 := Scalar.muli v663 c16_i32_583
  let c11_i32_584 : BitVec 32 := 11#32
  let v786 : BitVec 32 := Scalar.addi v785 c11_i32_584
  let v787 : BitVec 32 := Scalar.addi c0_i32_585 v786
  let v788 : Index := Scalar.indexCast v787
  ![0, v788.toNat]
def k0_off85 (v617 : BitVec 32) (k0_t2 : Fin (k0_t2_loop v617).trips) : Fin 3 → Nat :=
  let c0_i32_588 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_583 : BitVec 32 := 16#32
  let v785 : BitVec 32 := Scalar.muli v663 c16_i32_583
  let c11_i32_584 : BitVec 32 := 11#32
  let v786 : BitVec 32 := Scalar.addi v785 c11_i32_584
  let c0_i32_590 : BitVec 32 := 0#32
  ![0, v786.toNat, 0]
def k0_off86 (v789 : BitVec 32) : Fin 2 → Nat :=
  let c2_i32_587 : BitVec 32 := 2#32
  let v790 : BitVec 32 := Scalar.shrui v789 c2_i32_587
  let c0_i32_591 : BitVec 32 := 0#32
  ![v790.toNat, 0]

def k0_chk61 (v789 : BitVec 32) : Prop :=
  (∀ a, (k0_off86 v789) a + S1x256.size a ≤ S250000x256.size a)
theorem k0_off86_inb : ∀ (v789 : BitVec 32) (k0_hw61 : k0_chk61 v789), ∀ a, (k0_off86 v789) a + S1x256.size a ≤ S250000x256.size a := fun v789 k0_hw61 => k0_hw61

def k0_off87 (v617 : BitVec 32) (k0_t2 : Fin (k0_t2_loop v617).trips) : Fin 2 → Nat :=
  let c0_595 : Index := 0#32
  let c0_i32_594 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_592 : BitVec 32 := 16#32
  let v796 : BitVec 32 := Scalar.muli v663 c16_i32_592
  let c12_i32_593 : BitVec 32 := 12#32
  let v797 : BitVec 32 := Scalar.addi v796 c12_i32_593
  let v798 : BitVec 32 := Scalar.addi c0_i32_594 v797
  let v799 : Index := Scalar.indexCast v798
  ![0, v799.toNat]
def k0_off88 (v617 : BitVec 32) (k0_t2 : Fin (k0_t2_loop v617).trips) : Fin 3 → Nat :=
  let c0_i32_597 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_592 : BitVec 32 := 16#32
  let v796 : BitVec 32 := Scalar.muli v663 c16_i32_592
  let c12_i32_593 : BitVec 32 := 12#32
  let v797 : BitVec 32 := Scalar.addi v796 c12_i32_593
  let c0_i32_599 : BitVec 32 := 0#32
  ![0, v797.toNat, 0]
def k0_off89 (v800 : BitVec 32) : Fin 2 → Nat :=
  let c2_i32_596 : BitVec 32 := 2#32
  let v801 : BitVec 32 := Scalar.shrui v800 c2_i32_596
  let c0_i32_600 : BitVec 32 := 0#32
  ![v801.toNat, 0]

def k0_chk62 (v800 : BitVec 32) : Prop :=
  (∀ a, (k0_off89 v800) a + S1x256.size a ≤ S250000x256.size a)
theorem k0_off89_inb : ∀ (v800 : BitVec 32) (k0_hw62 : k0_chk62 v800), ∀ a, (k0_off89 v800) a + S1x256.size a ≤ S250000x256.size a := fun v800 k0_hw62 => k0_hw62

def k0_off90 (v617 : BitVec 32) (k0_t2 : Fin (k0_t2_loop v617).trips) : Fin 2 → Nat :=
  let c0_604 : Index := 0#32
  let c0_i32_603 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_601 : BitVec 32 := 16#32
  let v807 : BitVec 32 := Scalar.muli v663 c16_i32_601
  let c13_i32_602 : BitVec 32 := 13#32
  let v808 : BitVec 32 := Scalar.addi v807 c13_i32_602
  let v809 : BitVec 32 := Scalar.addi c0_i32_603 v808
  let v810 : Index := Scalar.indexCast v809
  ![0, v810.toNat]
def k0_off91 (v617 : BitVec 32) (k0_t2 : Fin (k0_t2_loop v617).trips) : Fin 3 → Nat :=
  let c0_i32_606 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_601 : BitVec 32 := 16#32
  let v807 : BitVec 32 := Scalar.muli v663 c16_i32_601
  let c13_i32_602 : BitVec 32 := 13#32
  let v808 : BitVec 32 := Scalar.addi v807 c13_i32_602
  let c0_i32_608 : BitVec 32 := 0#32
  ![0, v808.toNat, 0]
def k0_off92 (v811 : BitVec 32) : Fin 2 → Nat :=
  let c2_i32_605 : BitVec 32 := 2#32
  let v812 : BitVec 32 := Scalar.shrui v811 c2_i32_605
  let c0_i32_609 : BitVec 32 := 0#32
  ![v812.toNat, 0]

def k0_chk63 (v811 : BitVec 32) : Prop :=
  (∀ a, (k0_off92 v811) a + S1x256.size a ≤ S250000x256.size a)
theorem k0_off92_inb : ∀ (v811 : BitVec 32) (k0_hw63 : k0_chk63 v811), ∀ a, (k0_off92 v811) a + S1x256.size a ≤ S250000x256.size a := fun v811 k0_hw63 => k0_hw63

def k0_off93 (v617 : BitVec 32) (k0_t2 : Fin (k0_t2_loop v617).trips) : Fin 2 → Nat :=
  let c0_613 : Index := 0#32
  let c0_i32_612 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_610 : BitVec 32 := 16#32
  let v818 : BitVec 32 := Scalar.muli v663 c16_i32_610
  let c14_i32_611 : BitVec 32 := 14#32
  let v819 : BitVec 32 := Scalar.addi v818 c14_i32_611
  let v820 : BitVec 32 := Scalar.addi c0_i32_612 v819
  let v821 : Index := Scalar.indexCast v820
  ![0, v821.toNat]
def k0_off94 (v617 : BitVec 32) (k0_t2 : Fin (k0_t2_loop v617).trips) : Fin 3 → Nat :=
  let c0_i32_615 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_610 : BitVec 32 := 16#32
  let v818 : BitVec 32 := Scalar.muli v663 c16_i32_610
  let c14_i32_611 : BitVec 32 := 14#32
  let v819 : BitVec 32 := Scalar.addi v818 c14_i32_611
  let c0_i32_617 : BitVec 32 := 0#32
  ![0, v819.toNat, 0]
def k0_off95 (v822 : BitVec 32) : Fin 2 → Nat :=
  let c2_i32_614 : BitVec 32 := 2#32
  let v823 : BitVec 32 := Scalar.shrui v822 c2_i32_614
  let c0_i32_618 : BitVec 32 := 0#32
  ![v823.toNat, 0]

def k0_chk64 (v822 : BitVec 32) : Prop :=
  (∀ a, (k0_off95 v822) a + S1x256.size a ≤ S250000x256.size a)
theorem k0_off95_inb : ∀ (v822 : BitVec 32) (k0_hw64 : k0_chk64 v822), ∀ a, (k0_off95 v822) a + S1x256.size a ≤ S250000x256.size a := fun v822 k0_hw64 => k0_hw64

def k0_off96 (v617 : BitVec 32) (k0_t2 : Fin (k0_t2_loop v617).trips) : Fin 2 → Nat :=
  let c0_622 : Index := 0#32
  let c0_i32_621 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_619 : BitVec 32 := 16#32
  let v829 : BitVec 32 := Scalar.muli v663 c16_i32_619
  let c15_i32_620 : BitVec 32 := 15#32
  let v830 : BitVec 32 := Scalar.addi v829 c15_i32_620
  let v831 : BitVec 32 := Scalar.addi c0_i32_621 v830
  let v832 : Index := Scalar.indexCast v831
  ![0, v832.toNat]
def k0_off97 (v617 : BitVec 32) (k0_t2 : Fin (k0_t2_loop v617).trips) : Fin 3 → Nat :=
  let c0_i32_624 : BitVec 32 := 0#32
  let c0_i32_453 : BitVec 32 := 0#32
  let c0_i32_454 : BitVec 32 := 0#32
  let c1_i32_456 : BitVec 32 := 1#32
  let arg24 : BitVec 32 := Scf.iv c0_i32_454 c1_i32_456 k0_t2
  let c1_i32_452 : BitVec 32 := 1#32
  let v662 : BitVec 32 := Scalar.muli arg24 c1_i32_452
  let v663 : BitVec 32 := Scalar.addi c0_i32_453 v662
  let c16_i32_619 : BitVec 32 := 16#32
  let v829 : BitVec 32 := Scalar.muli v663 c16_i32_619
  let c15_i32_620 : BitVec 32 := 15#32
  let v830 : BitVec 32 := Scalar.addi v829 c15_i32_620
  let c0_i32_626 : BitVec 32 := 0#32
  ![0, v830.toNat, 0]
def k0_off98 (v833 : BitVec 32) : Fin 2 → Nat :=
  let c2_i32_623 : BitVec 32 := 2#32
  let v834 : BitVec 32 := Scalar.shrui v833 c2_i32_623
  let c0_i32_627 : BitVec 32 := 0#32
  ![v834.toNat, 0]

def k0_chk65 (v833 : BitVec 32) : Prop :=
  (∀ a, (k0_off98 v833) a + S1x256.size a ≤ S250000x256.size a)
theorem k0_off98_inb : ∀ (v833 : BitVec 32) (k0_hw65 : k0_chk65 v833), ∀ a, (k0_off98 v833) a + S1x256.size a ≤ S250000x256.size a := fun v833 k0_hw65 => k0_hw65

@[reducible] def k0_t3_loop (v617 : BitVec 32) : Scf.Loop 32 :=
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let v627 : BitVec 32 := Scalar.addi c0_i32_454 v626
  let c1_i32_457 : BitVec 32 := 1#32
  ⟨v630, v627, c1_i32_457⟩
def k0_off99 (v617 : BitVec 32) (k0_t3 : Fin (k0_t3_loop v617).trips) : Fin 2 → Nat :=
  let c0_487 : Index := 0#32
  let c0_i32_486 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_484 : BitVec 32 := 16#32
  let v664 : BitVec 32 := Scalar.muli v663 c16_i32_484
  let c0_i32_485 : BitVec 32 := 0#32
  let v665 : BitVec 32 := Scalar.addi v664 c0_i32_485
  let v666 : BitVec 32 := Scalar.addi c0_i32_486 v665
  let v667 : Index := Scalar.indexCast v666
  ![0, v667.toNat]
def k0_off100 (v617 : BitVec 32) (k0_t3 : Fin (k0_t3_loop v617).trips) : Fin 3 → Nat :=
  let c0_i32_489 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_484 : BitVec 32 := 16#32
  let v664 : BitVec 32 := Scalar.muli v663 c16_i32_484
  let c0_i32_485 : BitVec 32 := 0#32
  let v665 : BitVec 32 := Scalar.addi v664 c0_i32_485
  let c0_i32_491 : BitVec 32 := 0#32
  ![0, v665.toNat, 0]
def k0_off101 (v668 : BitVec 32) : Fin 2 → Nat :=
  let c2_i32_488 : BitVec 32 := 2#32
  let v669 : BitVec 32 := Scalar.shrui v668 c2_i32_488
  let c0_i32_492 : BitVec 32 := 0#32
  ![v669.toNat, 0]

def k0_chk66 (v668 : BitVec 32) : Prop :=
  (∀ a, (k0_off101 v668) a + S1x256.size a ≤ S250000x256.size a)
theorem k0_off101_inb : ∀ (v668 : BitVec 32) (k0_hw66 : k0_chk66 v668), ∀ a, (k0_off101 v668) a + S1x256.size a ≤ S250000x256.size a := fun v668 k0_hw66 => k0_hw66

def k0_off102 (v617 : BitVec 32) (k0_t3 : Fin (k0_t3_loop v617).trips) : Fin 2 → Nat :=
  let c0_496 : Index := 0#32
  let c0_i32_495 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_493 : BitVec 32 := 16#32
  let v675 : BitVec 32 := Scalar.muli v663 c16_i32_493
  let c1_i32_494 : BitVec 32 := 1#32
  let v676 : BitVec 32 := Scalar.addi v675 c1_i32_494
  let v677 : BitVec 32 := Scalar.addi c0_i32_495 v676
  let v678 : Index := Scalar.indexCast v677
  ![0, v678.toNat]
def k0_off103 (v617 : BitVec 32) (k0_t3 : Fin (k0_t3_loop v617).trips) : Fin 3 → Nat :=
  let c0_i32_498 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_493 : BitVec 32 := 16#32
  let v675 : BitVec 32 := Scalar.muli v663 c16_i32_493
  let c1_i32_494 : BitVec 32 := 1#32
  let v676 : BitVec 32 := Scalar.addi v675 c1_i32_494
  let c0_i32_500 : BitVec 32 := 0#32
  ![0, v676.toNat, 0]
def k0_off104 (v679 : BitVec 32) : Fin 2 → Nat :=
  let c2_i32_497 : BitVec 32 := 2#32
  let v680 : BitVec 32 := Scalar.shrui v679 c2_i32_497
  let c0_i32_501 : BitVec 32 := 0#32
  ![v680.toNat, 0]

def k0_chk67 (v679 : BitVec 32) : Prop :=
  (∀ a, (k0_off104 v679) a + S1x256.size a ≤ S250000x256.size a)
theorem k0_off104_inb : ∀ (v679 : BitVec 32) (k0_hw67 : k0_chk67 v679), ∀ a, (k0_off104 v679) a + S1x256.size a ≤ S250000x256.size a := fun v679 k0_hw67 => k0_hw67

def k0_off105 (v617 : BitVec 32) (k0_t3 : Fin (k0_t3_loop v617).trips) : Fin 2 → Nat :=
  let c0_505 : Index := 0#32
  let c0_i32_504 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_502 : BitVec 32 := 16#32
  let v686 : BitVec 32 := Scalar.muli v663 c16_i32_502
  let c2_i32_503 : BitVec 32 := 2#32
  let v687 : BitVec 32 := Scalar.addi v686 c2_i32_503
  let v688 : BitVec 32 := Scalar.addi c0_i32_504 v687
  let v689 : Index := Scalar.indexCast v688
  ![0, v689.toNat]
def k0_off106 (v617 : BitVec 32) (k0_t3 : Fin (k0_t3_loop v617).trips) : Fin 3 → Nat :=
  let c0_i32_507 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_502 : BitVec 32 := 16#32
  let v686 : BitVec 32 := Scalar.muli v663 c16_i32_502
  let c2_i32_503 : BitVec 32 := 2#32
  let v687 : BitVec 32 := Scalar.addi v686 c2_i32_503
  let c0_i32_509 : BitVec 32 := 0#32
  ![0, v687.toNat, 0]
def k0_off107 (v690 : BitVec 32) : Fin 2 → Nat :=
  let c2_i32_506 : BitVec 32 := 2#32
  let v691 : BitVec 32 := Scalar.shrui v690 c2_i32_506
  let c0_i32_510 : BitVec 32 := 0#32
  ![v691.toNat, 0]

def k0_chk68 (v690 : BitVec 32) : Prop :=
  (∀ a, (k0_off107 v690) a + S1x256.size a ≤ S250000x256.size a)
theorem k0_off107_inb : ∀ (v690 : BitVec 32) (k0_hw68 : k0_chk68 v690), ∀ a, (k0_off107 v690) a + S1x256.size a ≤ S250000x256.size a := fun v690 k0_hw68 => k0_hw68

def k0_off108 (v617 : BitVec 32) (k0_t3 : Fin (k0_t3_loop v617).trips) : Fin 2 → Nat :=
  let c0_514 : Index := 0#32
  let c0_i32_513 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_511 : BitVec 32 := 16#32
  let v697 : BitVec 32 := Scalar.muli v663 c16_i32_511
  let c3_i32_512 : BitVec 32 := 3#32
  let v698 : BitVec 32 := Scalar.addi v697 c3_i32_512
  let v699 : BitVec 32 := Scalar.addi c0_i32_513 v698
  let v700 : Index := Scalar.indexCast v699
  ![0, v700.toNat]
def k0_off109 (v617 : BitVec 32) (k0_t3 : Fin (k0_t3_loop v617).trips) : Fin 3 → Nat :=
  let c0_i32_516 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_511 : BitVec 32 := 16#32
  let v697 : BitVec 32 := Scalar.muli v663 c16_i32_511
  let c3_i32_512 : BitVec 32 := 3#32
  let v698 : BitVec 32 := Scalar.addi v697 c3_i32_512
  let c0_i32_518 : BitVec 32 := 0#32
  ![0, v698.toNat, 0]
def k0_off110 (v701 : BitVec 32) : Fin 2 → Nat :=
  let c2_i32_515 : BitVec 32 := 2#32
  let v702 : BitVec 32 := Scalar.shrui v701 c2_i32_515
  let c0_i32_519 : BitVec 32 := 0#32
  ![v702.toNat, 0]

def k0_chk69 (v701 : BitVec 32) : Prop :=
  (∀ a, (k0_off110 v701) a + S1x256.size a ≤ S250000x256.size a)
theorem k0_off110_inb : ∀ (v701 : BitVec 32) (k0_hw69 : k0_chk69 v701), ∀ a, (k0_off110 v701) a + S1x256.size a ≤ S250000x256.size a := fun v701 k0_hw69 => k0_hw69

def k0_off111 (v617 : BitVec 32) (k0_t3 : Fin (k0_t3_loop v617).trips) : Fin 2 → Nat :=
  let c0_523 : Index := 0#32
  let c0_i32_522 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_520 : BitVec 32 := 16#32
  let v708 : BitVec 32 := Scalar.muli v663 c16_i32_520
  let c4_i32_521 : BitVec 32 := 4#32
  let v709 : BitVec 32 := Scalar.addi v708 c4_i32_521
  let v710 : BitVec 32 := Scalar.addi c0_i32_522 v709
  let v711 : Index := Scalar.indexCast v710
  ![0, v711.toNat]
def k0_off112 (v617 : BitVec 32) (k0_t3 : Fin (k0_t3_loop v617).trips) : Fin 3 → Nat :=
  let c0_i32_525 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_520 : BitVec 32 := 16#32
  let v708 : BitVec 32 := Scalar.muli v663 c16_i32_520
  let c4_i32_521 : BitVec 32 := 4#32
  let v709 : BitVec 32 := Scalar.addi v708 c4_i32_521
  let c0_i32_527 : BitVec 32 := 0#32
  ![0, v709.toNat, 0]
def k0_off113 (v712 : BitVec 32) : Fin 2 → Nat :=
  let c2_i32_524 : BitVec 32 := 2#32
  let v713 : BitVec 32 := Scalar.shrui v712 c2_i32_524
  let c0_i32_528 : BitVec 32 := 0#32
  ![v713.toNat, 0]

def k0_chk70 (v712 : BitVec 32) : Prop :=
  (∀ a, (k0_off113 v712) a + S1x256.size a ≤ S250000x256.size a)
theorem k0_off113_inb : ∀ (v712 : BitVec 32) (k0_hw70 : k0_chk70 v712), ∀ a, (k0_off113 v712) a + S1x256.size a ≤ S250000x256.size a := fun v712 k0_hw70 => k0_hw70

def k0_off114 (v617 : BitVec 32) (k0_t3 : Fin (k0_t3_loop v617).trips) : Fin 2 → Nat :=
  let c0_532 : Index := 0#32
  let c0_i32_531 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_529 : BitVec 32 := 16#32
  let v719 : BitVec 32 := Scalar.muli v663 c16_i32_529
  let c5_i32_530 : BitVec 32 := 5#32
  let v720 : BitVec 32 := Scalar.addi v719 c5_i32_530
  let v721 : BitVec 32 := Scalar.addi c0_i32_531 v720
  let v722 : Index := Scalar.indexCast v721
  ![0, v722.toNat]
def k0_off115 (v617 : BitVec 32) (k0_t3 : Fin (k0_t3_loop v617).trips) : Fin 3 → Nat :=
  let c0_i32_534 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_529 : BitVec 32 := 16#32
  let v719 : BitVec 32 := Scalar.muli v663 c16_i32_529
  let c5_i32_530 : BitVec 32 := 5#32
  let v720 : BitVec 32 := Scalar.addi v719 c5_i32_530
  let c0_i32_536 : BitVec 32 := 0#32
  ![0, v720.toNat, 0]
def k0_off116 (v723 : BitVec 32) : Fin 2 → Nat :=
  let c2_i32_533 : BitVec 32 := 2#32
  let v724 : BitVec 32 := Scalar.shrui v723 c2_i32_533
  let c0_i32_537 : BitVec 32 := 0#32
  ![v724.toNat, 0]

def k0_chk71 (v723 : BitVec 32) : Prop :=
  (∀ a, (k0_off116 v723) a + S1x256.size a ≤ S250000x256.size a)
theorem k0_off116_inb : ∀ (v723 : BitVec 32) (k0_hw71 : k0_chk71 v723), ∀ a, (k0_off116 v723) a + S1x256.size a ≤ S250000x256.size a := fun v723 k0_hw71 => k0_hw71

def k0_off117 (v617 : BitVec 32) (k0_t3 : Fin (k0_t3_loop v617).trips) : Fin 2 → Nat :=
  let c0_541 : Index := 0#32
  let c0_i32_540 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_538 : BitVec 32 := 16#32
  let v730 : BitVec 32 := Scalar.muli v663 c16_i32_538
  let c6_i32_539 : BitVec 32 := 6#32
  let v731 : BitVec 32 := Scalar.addi v730 c6_i32_539
  let v732 : BitVec 32 := Scalar.addi c0_i32_540 v731
  let v733 : Index := Scalar.indexCast v732
  ![0, v733.toNat]
def k0_off118 (v617 : BitVec 32) (k0_t3 : Fin (k0_t3_loop v617).trips) : Fin 3 → Nat :=
  let c0_i32_543 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_538 : BitVec 32 := 16#32
  let v730 : BitVec 32 := Scalar.muli v663 c16_i32_538
  let c6_i32_539 : BitVec 32 := 6#32
  let v731 : BitVec 32 := Scalar.addi v730 c6_i32_539
  let c0_i32_545 : BitVec 32 := 0#32
  ![0, v731.toNat, 0]
def k0_off119 (v734 : BitVec 32) : Fin 2 → Nat :=
  let c2_i32_542 : BitVec 32 := 2#32
  let v735 : BitVec 32 := Scalar.shrui v734 c2_i32_542
  let c0_i32_546 : BitVec 32 := 0#32
  ![v735.toNat, 0]

def k0_chk72 (v734 : BitVec 32) : Prop :=
  (∀ a, (k0_off119 v734) a + S1x256.size a ≤ S250000x256.size a)
theorem k0_off119_inb : ∀ (v734 : BitVec 32) (k0_hw72 : k0_chk72 v734), ∀ a, (k0_off119 v734) a + S1x256.size a ≤ S250000x256.size a := fun v734 k0_hw72 => k0_hw72

def k0_off120 (v617 : BitVec 32) (k0_t3 : Fin (k0_t3_loop v617).trips) : Fin 2 → Nat :=
  let c0_550 : Index := 0#32
  let c0_i32_549 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_547 : BitVec 32 := 16#32
  let v741 : BitVec 32 := Scalar.muli v663 c16_i32_547
  let c7_i32_548 : BitVec 32 := 7#32
  let v742 : BitVec 32 := Scalar.addi v741 c7_i32_548
  let v743 : BitVec 32 := Scalar.addi c0_i32_549 v742
  let v744 : Index := Scalar.indexCast v743
  ![0, v744.toNat]
def k0_off121 (v617 : BitVec 32) (k0_t3 : Fin (k0_t3_loop v617).trips) : Fin 3 → Nat :=
  let c0_i32_552 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_547 : BitVec 32 := 16#32
  let v741 : BitVec 32 := Scalar.muli v663 c16_i32_547
  let c7_i32_548 : BitVec 32 := 7#32
  let v742 : BitVec 32 := Scalar.addi v741 c7_i32_548
  let c0_i32_554 : BitVec 32 := 0#32
  ![0, v742.toNat, 0]
def k0_off122 (v745 : BitVec 32) : Fin 2 → Nat :=
  let c2_i32_551 : BitVec 32 := 2#32
  let v746 : BitVec 32 := Scalar.shrui v745 c2_i32_551
  let c0_i32_555 : BitVec 32 := 0#32
  ![v746.toNat, 0]

def k0_chk73 (v745 : BitVec 32) : Prop :=
  (∀ a, (k0_off122 v745) a + S1x256.size a ≤ S250000x256.size a)
theorem k0_off122_inb : ∀ (v745 : BitVec 32) (k0_hw73 : k0_chk73 v745), ∀ a, (k0_off122 v745) a + S1x256.size a ≤ S250000x256.size a := fun v745 k0_hw73 => k0_hw73

def k0_off123 (v617 : BitVec 32) (k0_t3 : Fin (k0_t3_loop v617).trips) : Fin 2 → Nat :=
  let c0_559 : Index := 0#32
  let c0_i32_558 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_556 : BitVec 32 := 16#32
  let v752 : BitVec 32 := Scalar.muli v663 c16_i32_556
  let c8_i32_557 : BitVec 32 := 8#32
  let v753 : BitVec 32 := Scalar.addi v752 c8_i32_557
  let v754 : BitVec 32 := Scalar.addi c0_i32_558 v753
  let v755 : Index := Scalar.indexCast v754
  ![0, v755.toNat]
def k0_off124 (v617 : BitVec 32) (k0_t3 : Fin (k0_t3_loop v617).trips) : Fin 3 → Nat :=
  let c0_i32_561 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_556 : BitVec 32 := 16#32
  let v752 : BitVec 32 := Scalar.muli v663 c16_i32_556
  let c8_i32_557 : BitVec 32 := 8#32
  let v753 : BitVec 32 := Scalar.addi v752 c8_i32_557
  let c0_i32_563 : BitVec 32 := 0#32
  ![0, v753.toNat, 0]
def k0_off125 (v756 : BitVec 32) : Fin 2 → Nat :=
  let c2_i32_560 : BitVec 32 := 2#32
  let v757 : BitVec 32 := Scalar.shrui v756 c2_i32_560
  let c0_i32_564 : BitVec 32 := 0#32
  ![v757.toNat, 0]

def k0_chk74 (v756 : BitVec 32) : Prop :=
  (∀ a, (k0_off125 v756) a + S1x256.size a ≤ S250000x256.size a)
theorem k0_off125_inb : ∀ (v756 : BitVec 32) (k0_hw74 : k0_chk74 v756), ∀ a, (k0_off125 v756) a + S1x256.size a ≤ S250000x256.size a := fun v756 k0_hw74 => k0_hw74

def k0_off126 (v617 : BitVec 32) (k0_t3 : Fin (k0_t3_loop v617).trips) : Fin 2 → Nat :=
  let c0_568 : Index := 0#32
  let c0_i32_567 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_565 : BitVec 32 := 16#32
  let v763 : BitVec 32 := Scalar.muli v663 c16_i32_565
  let c9_i32_566 : BitVec 32 := 9#32
  let v764 : BitVec 32 := Scalar.addi v763 c9_i32_566
  let v765 : BitVec 32 := Scalar.addi c0_i32_567 v764
  let v766 : Index := Scalar.indexCast v765
  ![0, v766.toNat]
def k0_off127 (v617 : BitVec 32) (k0_t3 : Fin (k0_t3_loop v617).trips) : Fin 3 → Nat :=
  let c0_i32_570 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_565 : BitVec 32 := 16#32
  let v763 : BitVec 32 := Scalar.muli v663 c16_i32_565
  let c9_i32_566 : BitVec 32 := 9#32
  let v764 : BitVec 32 := Scalar.addi v763 c9_i32_566
  let c0_i32_572 : BitVec 32 := 0#32
  ![0, v764.toNat, 0]
def k0_off128 (v767 : BitVec 32) : Fin 2 → Nat :=
  let c2_i32_569 : BitVec 32 := 2#32
  let v768 : BitVec 32 := Scalar.shrui v767 c2_i32_569
  let c0_i32_573 : BitVec 32 := 0#32
  ![v768.toNat, 0]

def k0_chk75 (v767 : BitVec 32) : Prop :=
  (∀ a, (k0_off128 v767) a + S1x256.size a ≤ S250000x256.size a)
theorem k0_off128_inb : ∀ (v767 : BitVec 32) (k0_hw75 : k0_chk75 v767), ∀ a, (k0_off128 v767) a + S1x256.size a ≤ S250000x256.size a := fun v767 k0_hw75 => k0_hw75

def k0_off129 (v617 : BitVec 32) (k0_t3 : Fin (k0_t3_loop v617).trips) : Fin 2 → Nat :=
  let c0_577 : Index := 0#32
  let c0_i32_576 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_574 : BitVec 32 := 16#32
  let v774 : BitVec 32 := Scalar.muli v663 c16_i32_574
  let c10_i32_575 : BitVec 32 := 10#32
  let v775 : BitVec 32 := Scalar.addi v774 c10_i32_575
  let v776 : BitVec 32 := Scalar.addi c0_i32_576 v775
  let v777 : Index := Scalar.indexCast v776
  ![0, v777.toNat]
def k0_off130 (v617 : BitVec 32) (k0_t3 : Fin (k0_t3_loop v617).trips) : Fin 3 → Nat :=
  let c0_i32_579 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_574 : BitVec 32 := 16#32
  let v774 : BitVec 32 := Scalar.muli v663 c16_i32_574
  let c10_i32_575 : BitVec 32 := 10#32
  let v775 : BitVec 32 := Scalar.addi v774 c10_i32_575
  let c0_i32_581 : BitVec 32 := 0#32
  ![0, v775.toNat, 0]
def k0_off131 (v778 : BitVec 32) : Fin 2 → Nat :=
  let c2_i32_578 : BitVec 32 := 2#32
  let v779 : BitVec 32 := Scalar.shrui v778 c2_i32_578
  let c0_i32_582 : BitVec 32 := 0#32
  ![v779.toNat, 0]

def k0_chk76 (v778 : BitVec 32) : Prop :=
  (∀ a, (k0_off131 v778) a + S1x256.size a ≤ S250000x256.size a)
theorem k0_off131_inb : ∀ (v778 : BitVec 32) (k0_hw76 : k0_chk76 v778), ∀ a, (k0_off131 v778) a + S1x256.size a ≤ S250000x256.size a := fun v778 k0_hw76 => k0_hw76

def k0_off132 (v617 : BitVec 32) (k0_t3 : Fin (k0_t3_loop v617).trips) : Fin 2 → Nat :=
  let c0_586 : Index := 0#32
  let c0_i32_585 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_583 : BitVec 32 := 16#32
  let v785 : BitVec 32 := Scalar.muli v663 c16_i32_583
  let c11_i32_584 : BitVec 32 := 11#32
  let v786 : BitVec 32 := Scalar.addi v785 c11_i32_584
  let v787 : BitVec 32 := Scalar.addi c0_i32_585 v786
  let v788 : Index := Scalar.indexCast v787
  ![0, v788.toNat]
def k0_off133 (v617 : BitVec 32) (k0_t3 : Fin (k0_t3_loop v617).trips) : Fin 3 → Nat :=
  let c0_i32_588 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_583 : BitVec 32 := 16#32
  let v785 : BitVec 32 := Scalar.muli v663 c16_i32_583
  let c11_i32_584 : BitVec 32 := 11#32
  let v786 : BitVec 32 := Scalar.addi v785 c11_i32_584
  let c0_i32_590 : BitVec 32 := 0#32
  ![0, v786.toNat, 0]
def k0_off134 (v789 : BitVec 32) : Fin 2 → Nat :=
  let c2_i32_587 : BitVec 32 := 2#32
  let v790 : BitVec 32 := Scalar.shrui v789 c2_i32_587
  let c0_i32_591 : BitVec 32 := 0#32
  ![v790.toNat, 0]

def k0_chk77 (v789 : BitVec 32) : Prop :=
  (∀ a, (k0_off134 v789) a + S1x256.size a ≤ S250000x256.size a)
theorem k0_off134_inb : ∀ (v789 : BitVec 32) (k0_hw77 : k0_chk77 v789), ∀ a, (k0_off134 v789) a + S1x256.size a ≤ S250000x256.size a := fun v789 k0_hw77 => k0_hw77

def k0_off135 (v617 : BitVec 32) (k0_t3 : Fin (k0_t3_loop v617).trips) : Fin 2 → Nat :=
  let c0_595 : Index := 0#32
  let c0_i32_594 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_592 : BitVec 32 := 16#32
  let v796 : BitVec 32 := Scalar.muli v663 c16_i32_592
  let c12_i32_593 : BitVec 32 := 12#32
  let v797 : BitVec 32 := Scalar.addi v796 c12_i32_593
  let v798 : BitVec 32 := Scalar.addi c0_i32_594 v797
  let v799 : Index := Scalar.indexCast v798
  ![0, v799.toNat]
def k0_off136 (v617 : BitVec 32) (k0_t3 : Fin (k0_t3_loop v617).trips) : Fin 3 → Nat :=
  let c0_i32_597 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_592 : BitVec 32 := 16#32
  let v796 : BitVec 32 := Scalar.muli v663 c16_i32_592
  let c12_i32_593 : BitVec 32 := 12#32
  let v797 : BitVec 32 := Scalar.addi v796 c12_i32_593
  let c0_i32_599 : BitVec 32 := 0#32
  ![0, v797.toNat, 0]
def k0_off137 (v800 : BitVec 32) : Fin 2 → Nat :=
  let c2_i32_596 : BitVec 32 := 2#32
  let v801 : BitVec 32 := Scalar.shrui v800 c2_i32_596
  let c0_i32_600 : BitVec 32 := 0#32
  ![v801.toNat, 0]

def k0_chk78 (v800 : BitVec 32) : Prop :=
  (∀ a, (k0_off137 v800) a + S1x256.size a ≤ S250000x256.size a)
theorem k0_off137_inb : ∀ (v800 : BitVec 32) (k0_hw78 : k0_chk78 v800), ∀ a, (k0_off137 v800) a + S1x256.size a ≤ S250000x256.size a := fun v800 k0_hw78 => k0_hw78

def k0_off138 (v617 : BitVec 32) (k0_t3 : Fin (k0_t3_loop v617).trips) : Fin 2 → Nat :=
  let c0_604 : Index := 0#32
  let c0_i32_603 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_601 : BitVec 32 := 16#32
  let v807 : BitVec 32 := Scalar.muli v663 c16_i32_601
  let c13_i32_602 : BitVec 32 := 13#32
  let v808 : BitVec 32 := Scalar.addi v807 c13_i32_602
  let v809 : BitVec 32 := Scalar.addi c0_i32_603 v808
  let v810 : Index := Scalar.indexCast v809
  ![0, v810.toNat]
def k0_off139 (v617 : BitVec 32) (k0_t3 : Fin (k0_t3_loop v617).trips) : Fin 3 → Nat :=
  let c0_i32_606 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_601 : BitVec 32 := 16#32
  let v807 : BitVec 32 := Scalar.muli v663 c16_i32_601
  let c13_i32_602 : BitVec 32 := 13#32
  let v808 : BitVec 32 := Scalar.addi v807 c13_i32_602
  let c0_i32_608 : BitVec 32 := 0#32
  ![0, v808.toNat, 0]
def k0_off140 (v811 : BitVec 32) : Fin 2 → Nat :=
  let c2_i32_605 : BitVec 32 := 2#32
  let v812 : BitVec 32 := Scalar.shrui v811 c2_i32_605
  let c0_i32_609 : BitVec 32 := 0#32
  ![v812.toNat, 0]

def k0_chk79 (v811 : BitVec 32) : Prop :=
  (∀ a, (k0_off140 v811) a + S1x256.size a ≤ S250000x256.size a)
theorem k0_off140_inb : ∀ (v811 : BitVec 32) (k0_hw79 : k0_chk79 v811), ∀ a, (k0_off140 v811) a + S1x256.size a ≤ S250000x256.size a := fun v811 k0_hw79 => k0_hw79

def k0_off141 (v617 : BitVec 32) (k0_t3 : Fin (k0_t3_loop v617).trips) : Fin 2 → Nat :=
  let c0_613 : Index := 0#32
  let c0_i32_612 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_610 : BitVec 32 := 16#32
  let v818 : BitVec 32 := Scalar.muli v663 c16_i32_610
  let c14_i32_611 : BitVec 32 := 14#32
  let v819 : BitVec 32 := Scalar.addi v818 c14_i32_611
  let v820 : BitVec 32 := Scalar.addi c0_i32_612 v819
  let v821 : Index := Scalar.indexCast v820
  ![0, v821.toNat]
def k0_off142 (v617 : BitVec 32) (k0_t3 : Fin (k0_t3_loop v617).trips) : Fin 3 → Nat :=
  let c0_i32_615 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_610 : BitVec 32 := 16#32
  let v818 : BitVec 32 := Scalar.muli v663 c16_i32_610
  let c14_i32_611 : BitVec 32 := 14#32
  let v819 : BitVec 32 := Scalar.addi v818 c14_i32_611
  let c0_i32_617 : BitVec 32 := 0#32
  ![0, v819.toNat, 0]
def k0_off143 (v822 : BitVec 32) : Fin 2 → Nat :=
  let c2_i32_614 : BitVec 32 := 2#32
  let v823 : BitVec 32 := Scalar.shrui v822 c2_i32_614
  let c0_i32_618 : BitVec 32 := 0#32
  ![v823.toNat, 0]

def k0_chk80 (v822 : BitVec 32) : Prop :=
  (∀ a, (k0_off143 v822) a + S1x256.size a ≤ S250000x256.size a)
theorem k0_off143_inb : ∀ (v822 : BitVec 32) (k0_hw80 : k0_chk80 v822), ∀ a, (k0_off143 v822) a + S1x256.size a ≤ S250000x256.size a := fun v822 k0_hw80 => k0_hw80

def k0_off144 (v617 : BitVec 32) (k0_t3 : Fin (k0_t3_loop v617).trips) : Fin 2 → Nat :=
  let c0_622 : Index := 0#32
  let c0_i32_621 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_619 : BitVec 32 := 16#32
  let v829 : BitVec 32 := Scalar.muli v663 c16_i32_619
  let c15_i32_620 : BitVec 32 := 15#32
  let v830 : BitVec 32 := Scalar.addi v829 c15_i32_620
  let v831 : BitVec 32 := Scalar.addi c0_i32_621 v830
  let v832 : Index := Scalar.indexCast v831
  ![0, v832.toNat]
def k0_off145 (v617 : BitVec 32) (k0_t3 : Fin (k0_t3_loop v617).trips) : Fin 3 → Nat :=
  let c0_i32_624 : BitVec 32 := 0#32
  let c0_i32_453 : BitVec 32 := 0#32
  let c0_i32_454 : BitVec 32 := 0#32
  let c0_i32_445 : BitVec 32 := 0#32
  let v618 : BitVec 32 := Scalar.subi v617 c0_i32_445
  let c256_i32 : BitVec 32 := 256#32
  let v619 : BitVec 32 := Scalar.minsi v618 c256_i32
  let c15_i32_446 : BitVec 32 := 15#32
  let v620 : BitVec 32 := Scalar.addi v619 c15_i32_446
  let c16_i32_447 : BitVec 32 := 16#32
  let v621 : BitVec 32 := Scalar.divsi v620 c16_i32_447
  let c0_i32_448 : BitVec 32 := 0#32
  let v622 : BitVec 32 := Scalar.subi v621 c0_i32_448
  let c1_i32_449 : BitVec 32 := 1#32
  let c1_i32_450 : BitVec 32 := 1#32
  let v623 : BitVec 32 := Scalar.subi c1_i32_449 c1_i32_450
  let v624 : BitVec 32 := Scalar.addi v622 v623
  let c1_i32_451 : BitVec 32 := 1#32
  let v625 : BitVec 32 := Scalar.divsi v624 c1_i32_451
  let v626 : BitVec 32 := Scalar.subi v625 c0_i32_454
  let c1_i32_455 : BitVec 32 := 1#32
  let v628 : BitVec 32 := Scalar.divsi v626 c1_i32_455
  let v629 : BitVec 32 := Scalar.muli v628 c1_i32_455
  let v630 : BitVec 32 := Scalar.addi c0_i32_454 v629
  let c1_i32_457 : BitVec 32 := 1#32
  let arg24 : BitVec 32 := Scf.iv v630 c1_i32_457 k0_t3
  let c1_i32_452 : BitVec 32 := 1#32
  let v662 : BitVec 32 := Scalar.muli arg24 c1_i32_452
  let v663 : BitVec 32 := Scalar.addi c0_i32_453 v662
  let c16_i32_619 : BitVec 32 := 16#32
  let v829 : BitVec 32 := Scalar.muli v663 c16_i32_619
  let c15_i32_620 : BitVec 32 := 15#32
  let v830 : BitVec 32 := Scalar.addi v829 c15_i32_620
  let c0_i32_626 : BitVec 32 := 0#32
  ![0, v830.toNat, 0]

def k0_chk49_0 (v617 : BitVec 32) : Prop :=
  ((k0_t2_loop v617).OK) ∧
  (∀ k0_t2 : Fin (k0_t2_loop v617).trips, ∀ a, (k0_off51 v617 k0_t2) a + S1x1.size a ≤ S24x1536.size a) ∧
  (∀ k0_t2 : Fin (k0_t2_loop v617).trips, ∀ a, (k0_off52 v617 k0_t2) a + S1x1x256.size a ≤ S3x256x256.size a) ∧
  (∀ k0_t2 : Fin (k0_t2_loop v617).trips, ∀ a, (k0_off54 v617 k0_t2) a + S1x1.size a ≤ S24x1536.size a) ∧
  (∀ k0_t2 : Fin (k0_t2_loop v617).trips, ∀ a, (k0_off55 v617 k0_t2) a + S1x1x256.size a ≤ S3x256x256.size a) ∧
  (∀ k0_t2 : Fin (k0_t2_loop v617).trips, ∀ a, (k0_off57 v617 k0_t2) a + S1x1.size a ≤ S24x1536.size a) ∧
  (∀ k0_t2 : Fin (k0_t2_loop v617).trips, ∀ a, (k0_off58 v617 k0_t2) a + S1x1x256.size a ≤ S3x256x256.size a) ∧
  (∀ k0_t2 : Fin (k0_t2_loop v617).trips, ∀ a, (k0_off60 v617 k0_t2) a + S1x1.size a ≤ S24x1536.size a) ∧
  (∀ k0_t2 : Fin (k0_t2_loop v617).trips, ∀ a, (k0_off61 v617 k0_t2) a + S1x1x256.size a ≤ S3x256x256.size a) ∧
  (∀ k0_t2 : Fin (k0_t2_loop v617).trips, ∀ a, (k0_off63 v617 k0_t2) a + S1x1.size a ≤ S24x1536.size a) ∧
  (∀ k0_t2 : Fin (k0_t2_loop v617).trips, ∀ a, (k0_off64 v617 k0_t2) a + S1x1x256.size a ≤ S3x256x256.size a) ∧
  (∀ k0_t2 : Fin (k0_t2_loop v617).trips, ∀ a, (k0_off66 v617 k0_t2) a + S1x1.size a ≤ S24x1536.size a) ∧
  (∀ k0_t2 : Fin (k0_t2_loop v617).trips, ∀ a, (k0_off67 v617 k0_t2) a + S1x1x256.size a ≤ S3x256x256.size a) ∧
  (∀ k0_t2 : Fin (k0_t2_loop v617).trips, ∀ a, (k0_off69 v617 k0_t2) a + S1x1.size a ≤ S24x1536.size a) ∧
  (∀ k0_t2 : Fin (k0_t2_loop v617).trips, ∀ a, (k0_off70 v617 k0_t2) a + S1x1x256.size a ≤ S3x256x256.size a) ∧
  (∀ k0_t2 : Fin (k0_t2_loop v617).trips, ∀ a, (k0_off72 v617 k0_t2) a + S1x1.size a ≤ S24x1536.size a) ∧
  (∀ k0_t2 : Fin (k0_t2_loop v617).trips, ∀ a, (k0_off73 v617 k0_t2) a + S1x1x256.size a ≤ S3x256x256.size a) ∧
  (∀ k0_t2 : Fin (k0_t2_loop v617).trips, ∀ a, (k0_off75 v617 k0_t2) a + S1x1.size a ≤ S24x1536.size a) ∧
  (∀ k0_t2 : Fin (k0_t2_loop v617).trips, ∀ a, (k0_off76 v617 k0_t2) a + S1x1x256.size a ≤ S3x256x256.size a) ∧
  (∀ k0_t2 : Fin (k0_t2_loop v617).trips, ∀ a, (k0_off78 v617 k0_t2) a + S1x1.size a ≤ S24x1536.size a) ∧
  (∀ k0_t2 : Fin (k0_t2_loop v617).trips, ∀ a, (k0_off79 v617 k0_t2) a + S1x1x256.size a ≤ S3x256x256.size a) ∧
  (∀ k0_t2 : Fin (k0_t2_loop v617).trips, ∀ a, (k0_off81 v617 k0_t2) a + S1x1.size a ≤ S24x1536.size a) ∧
  (∀ k0_t2 : Fin (k0_t2_loop v617).trips, ∀ a, (k0_off82 v617 k0_t2) a + S1x1x256.size a ≤ S3x256x256.size a) ∧
  (∀ k0_t2 : Fin (k0_t2_loop v617).trips, ∀ a, (k0_off84 v617 k0_t2) a + S1x1.size a ≤ S24x1536.size a) ∧
  (∀ k0_t2 : Fin (k0_t2_loop v617).trips, ∀ a, (k0_off85 v617 k0_t2) a + S1x1x256.size a ≤ S3x256x256.size a) ∧
  (∀ k0_t2 : Fin (k0_t2_loop v617).trips, ∀ a, (k0_off87 v617 k0_t2) a + S1x1.size a ≤ S24x1536.size a) ∧
  (∀ k0_t2 : Fin (k0_t2_loop v617).trips, ∀ a, (k0_off88 v617 k0_t2) a + S1x1x256.size a ≤ S3x256x256.size a) ∧
  (∀ k0_t2 : Fin (k0_t2_loop v617).trips, ∀ a, (k0_off90 v617 k0_t2) a + S1x1.size a ≤ S24x1536.size a) ∧
  (∀ k0_t2 : Fin (k0_t2_loop v617).trips, ∀ a, (k0_off91 v617 k0_t2) a + S1x1x256.size a ≤ S3x256x256.size a) ∧
  (∀ k0_t2 : Fin (k0_t2_loop v617).trips, ∀ a, (k0_off93 v617 k0_t2) a + S1x1.size a ≤ S24x1536.size a) ∧
  (∀ k0_t2 : Fin (k0_t2_loop v617).trips, ∀ a, (k0_off94 v617 k0_t2) a + S1x1x256.size a ≤ S3x256x256.size a) ∧
  (∀ k0_t2 : Fin (k0_t2_loop v617).trips, ∀ a, (k0_off96 v617 k0_t2) a + S1x1.size a ≤ S24x1536.size a)
def k0_chk49_1 (v617 : BitVec 32) : Prop :=
  (∀ k0_t2 : Fin (k0_t2_loop v617).trips, ∀ a, (k0_off97 v617 k0_t2) a + S1x1x256.size a ≤ S3x256x256.size a) ∧
  ((k0_t3_loop v617).OK) ∧
  (∀ k0_t3 : Fin (k0_t3_loop v617).trips, ∀ a, (k0_off99 v617 k0_t3) a + S1x1.size a ≤ S24x1536.size a) ∧
  (∀ k0_t3 : Fin (k0_t3_loop v617).trips, ∀ a, (k0_off100 v617 k0_t3) a + S1x1x256.size a ≤ S3x256x256.size a) ∧
  (∀ k0_t3 : Fin (k0_t3_loop v617).trips, ∀ a, (k0_off102 v617 k0_t3) a + S1x1.size a ≤ S24x1536.size a) ∧
  (∀ k0_t3 : Fin (k0_t3_loop v617).trips, ∀ a, (k0_off103 v617 k0_t3) a + S1x1x256.size a ≤ S3x256x256.size a) ∧
  (∀ k0_t3 : Fin (k0_t3_loop v617).trips, ∀ a, (k0_off105 v617 k0_t3) a + S1x1.size a ≤ S24x1536.size a) ∧
  (∀ k0_t3 : Fin (k0_t3_loop v617).trips, ∀ a, (k0_off106 v617 k0_t3) a + S1x1x256.size a ≤ S3x256x256.size a) ∧
  (∀ k0_t3 : Fin (k0_t3_loop v617).trips, ∀ a, (k0_off108 v617 k0_t3) a + S1x1.size a ≤ S24x1536.size a) ∧
  (∀ k0_t3 : Fin (k0_t3_loop v617).trips, ∀ a, (k0_off109 v617 k0_t3) a + S1x1x256.size a ≤ S3x256x256.size a) ∧
  (∀ k0_t3 : Fin (k0_t3_loop v617).trips, ∀ a, (k0_off111 v617 k0_t3) a + S1x1.size a ≤ S24x1536.size a) ∧
  (∀ k0_t3 : Fin (k0_t3_loop v617).trips, ∀ a, (k0_off112 v617 k0_t3) a + S1x1x256.size a ≤ S3x256x256.size a) ∧
  (∀ k0_t3 : Fin (k0_t3_loop v617).trips, ∀ a, (k0_off114 v617 k0_t3) a + S1x1.size a ≤ S24x1536.size a) ∧
  (∀ k0_t3 : Fin (k0_t3_loop v617).trips, ∀ a, (k0_off115 v617 k0_t3) a + S1x1x256.size a ≤ S3x256x256.size a) ∧
  (∀ k0_t3 : Fin (k0_t3_loop v617).trips, ∀ a, (k0_off117 v617 k0_t3) a + S1x1.size a ≤ S24x1536.size a) ∧
  (∀ k0_t3 : Fin (k0_t3_loop v617).trips, ∀ a, (k0_off118 v617 k0_t3) a + S1x1x256.size a ≤ S3x256x256.size a) ∧
  (∀ k0_t3 : Fin (k0_t3_loop v617).trips, ∀ a, (k0_off120 v617 k0_t3) a + S1x1.size a ≤ S24x1536.size a) ∧
  (∀ k0_t3 : Fin (k0_t3_loop v617).trips, ∀ a, (k0_off121 v617 k0_t3) a + S1x1x256.size a ≤ S3x256x256.size a) ∧
  (∀ k0_t3 : Fin (k0_t3_loop v617).trips, ∀ a, (k0_off123 v617 k0_t3) a + S1x1.size a ≤ S24x1536.size a) ∧
  (∀ k0_t3 : Fin (k0_t3_loop v617).trips, ∀ a, (k0_off124 v617 k0_t3) a + S1x1x256.size a ≤ S3x256x256.size a) ∧
  (∀ k0_t3 : Fin (k0_t3_loop v617).trips, ∀ a, (k0_off126 v617 k0_t3) a + S1x1.size a ≤ S24x1536.size a) ∧
  (∀ k0_t3 : Fin (k0_t3_loop v617).trips, ∀ a, (k0_off127 v617 k0_t3) a + S1x1x256.size a ≤ S3x256x256.size a) ∧
  (∀ k0_t3 : Fin (k0_t3_loop v617).trips, ∀ a, (k0_off129 v617 k0_t3) a + S1x1.size a ≤ S24x1536.size a) ∧
  (∀ k0_t3 : Fin (k0_t3_loop v617).trips, ∀ a, (k0_off130 v617 k0_t3) a + S1x1x256.size a ≤ S3x256x256.size a) ∧
  (∀ k0_t3 : Fin (k0_t3_loop v617).trips, ∀ a, (k0_off132 v617 k0_t3) a + S1x1.size a ≤ S24x1536.size a) ∧
  (∀ k0_t3 : Fin (k0_t3_loop v617).trips, ∀ a, (k0_off133 v617 k0_t3) a + S1x1x256.size a ≤ S3x256x256.size a) ∧
  (∀ k0_t3 : Fin (k0_t3_loop v617).trips, ∀ a, (k0_off135 v617 k0_t3) a + S1x1.size a ≤ S24x1536.size a) ∧
  (∀ k0_t3 : Fin (k0_t3_loop v617).trips, ∀ a, (k0_off136 v617 k0_t3) a + S1x1x256.size a ≤ S3x256x256.size a) ∧
  (∀ k0_t3 : Fin (k0_t3_loop v617).trips, ∀ a, (k0_off138 v617 k0_t3) a + S1x1.size a ≤ S24x1536.size a) ∧
  (∀ k0_t3 : Fin (k0_t3_loop v617).trips, ∀ a, (k0_off139 v617 k0_t3) a + S1x1x256.size a ≤ S3x256x256.size a) ∧
  (∀ k0_t3 : Fin (k0_t3_loop v617).trips, ∀ a, (k0_off141 v617 k0_t3) a + S1x1.size a ≤ S24x1536.size a) ∧
  (∀ k0_t3 : Fin (k0_t3_loop v617).trips, ∀ a, (k0_off142 v617 k0_t3) a + S1x1x256.size a ≤ S3x256x256.size a)
def k0_chk49_2 (v617 : BitVec 32) : Prop :=
  (∀ k0_t3 : Fin (k0_t3_loop v617).trips, ∀ a, (k0_off144 v617 k0_t3) a + S1x1.size a ≤ S24x1536.size a) ∧
  (∀ k0_t3 : Fin (k0_t3_loop v617).trips, ∀ a, (k0_off145 v617 k0_t3) a + S1x1x256.size a ≤ S3x256x256.size a)
def k0_chk49 (v617 : BitVec 32) : Prop :=
  k0_chk49_0 v617 ∧
  k0_chk49_1 v617 ∧
  k0_chk49_2 v617
theorem k0_t2_ok : ∀ (v617 : BitVec 32) (k0_hw49 : k0_chk49 v617), (k0_t2_loop v617).OK := fun v617 k0_hw49 => k0_hw49.1.1
theorem k0_off51_inb : ∀ (v617 : BitVec 32) (k0_hw49 : k0_chk49 v617) (k0_t2 : Fin (k0_t2_loop v617).trips), ∀ a, (k0_off51 v617 k0_t2) a + S1x1.size a ≤ S24x1536.size a := fun v617 k0_hw49 k0_t2 => k0_hw49.1.2.1 k0_t2
theorem k0_off52_inb : ∀ (v617 : BitVec 32) (k0_hw49 : k0_chk49 v617) (k0_t2 : Fin (k0_t2_loop v617).trips), ∀ a, (k0_off52 v617 k0_t2) a + S1x1x256.size a ≤ S3x256x256.size a := fun v617 k0_hw49 k0_t2 => k0_hw49.1.2.2.1 k0_t2
theorem k0_off54_inb : ∀ (v617 : BitVec 32) (k0_hw49 : k0_chk49 v617) (k0_t2 : Fin (k0_t2_loop v617).trips), ∀ a, (k0_off54 v617 k0_t2) a + S1x1.size a ≤ S24x1536.size a := fun v617 k0_hw49 k0_t2 => k0_hw49.1.2.2.2.1 k0_t2
theorem k0_off55_inb : ∀ (v617 : BitVec 32) (k0_hw49 : k0_chk49 v617) (k0_t2 : Fin (k0_t2_loop v617).trips), ∀ a, (k0_off55 v617 k0_t2) a + S1x1x256.size a ≤ S3x256x256.size a := fun v617 k0_hw49 k0_t2 => k0_hw49.1.2.2.2.2.1 k0_t2
theorem k0_off57_inb : ∀ (v617 : BitVec 32) (k0_hw49 : k0_chk49 v617) (k0_t2 : Fin (k0_t2_loop v617).trips), ∀ a, (k0_off57 v617 k0_t2) a + S1x1.size a ≤ S24x1536.size a := fun v617 k0_hw49 k0_t2 => k0_hw49.1.2.2.2.2.2.1 k0_t2
theorem k0_off58_inb : ∀ (v617 : BitVec 32) (k0_hw49 : k0_chk49 v617) (k0_t2 : Fin (k0_t2_loop v617).trips), ∀ a, (k0_off58 v617 k0_t2) a + S1x1x256.size a ≤ S3x256x256.size a := fun v617 k0_hw49 k0_t2 => k0_hw49.1.2.2.2.2.2.2.1 k0_t2
theorem k0_off60_inb : ∀ (v617 : BitVec 32) (k0_hw49 : k0_chk49 v617) (k0_t2 : Fin (k0_t2_loop v617).trips), ∀ a, (k0_off60 v617 k0_t2) a + S1x1.size a ≤ S24x1536.size a := fun v617 k0_hw49 k0_t2 => k0_hw49.1.2.2.2.2.2.2.2.1 k0_t2
theorem k0_off61_inb : ∀ (v617 : BitVec 32) (k0_hw49 : k0_chk49 v617) (k0_t2 : Fin (k0_t2_loop v617).trips), ∀ a, (k0_off61 v617 k0_t2) a + S1x1x256.size a ≤ S3x256x256.size a := fun v617 k0_hw49 k0_t2 => k0_hw49.1.2.2.2.2.2.2.2.2.1 k0_t2
theorem k0_off63_inb : ∀ (v617 : BitVec 32) (k0_hw49 : k0_chk49 v617) (k0_t2 : Fin (k0_t2_loop v617).trips), ∀ a, (k0_off63 v617 k0_t2) a + S1x1.size a ≤ S24x1536.size a := fun v617 k0_hw49 k0_t2 => k0_hw49.1.2.2.2.2.2.2.2.2.2.1 k0_t2
theorem k0_off64_inb : ∀ (v617 : BitVec 32) (k0_hw49 : k0_chk49 v617) (k0_t2 : Fin (k0_t2_loop v617).trips), ∀ a, (k0_off64 v617 k0_t2) a + S1x1x256.size a ≤ S3x256x256.size a := fun v617 k0_hw49 k0_t2 => k0_hw49.1.2.2.2.2.2.2.2.2.2.2.1 k0_t2
theorem k0_off66_inb : ∀ (v617 : BitVec 32) (k0_hw49 : k0_chk49 v617) (k0_t2 : Fin (k0_t2_loop v617).trips), ∀ a, (k0_off66 v617 k0_t2) a + S1x1.size a ≤ S24x1536.size a := fun v617 k0_hw49 k0_t2 => k0_hw49.1.2.2.2.2.2.2.2.2.2.2.2.1 k0_t2
theorem k0_off67_inb : ∀ (v617 : BitVec 32) (k0_hw49 : k0_chk49 v617) (k0_t2 : Fin (k0_t2_loop v617).trips), ∀ a, (k0_off67 v617 k0_t2) a + S1x1x256.size a ≤ S3x256x256.size a := fun v617 k0_hw49 k0_t2 => k0_hw49.1.2.2.2.2.2.2.2.2.2.2.2.2.1 k0_t2
theorem k0_off69_inb : ∀ (v617 : BitVec 32) (k0_hw49 : k0_chk49 v617) (k0_t2 : Fin (k0_t2_loop v617).trips), ∀ a, (k0_off69 v617 k0_t2) a + S1x1.size a ≤ S24x1536.size a := fun v617 k0_hw49 k0_t2 => k0_hw49.1.2.2.2.2.2.2.2.2.2.2.2.2.2.1 k0_t2
theorem k0_off70_inb : ∀ (v617 : BitVec 32) (k0_hw49 : k0_chk49 v617) (k0_t2 : Fin (k0_t2_loop v617).trips), ∀ a, (k0_off70 v617 k0_t2) a + S1x1x256.size a ≤ S3x256x256.size a := fun v617 k0_hw49 k0_t2 => k0_hw49.1.2.2.2.2.2.2.2.2.2.2.2.2.2.2.1 k0_t2
theorem k0_off72_inb : ∀ (v617 : BitVec 32) (k0_hw49 : k0_chk49 v617) (k0_t2 : Fin (k0_t2_loop v617).trips), ∀ a, (k0_off72 v617 k0_t2) a + S1x1.size a ≤ S24x1536.size a := fun v617 k0_hw49 k0_t2 => k0_hw49.1.2.2.2.2.2.2.2.2.2.2.2.2.2.2.2.1 k0_t2
theorem k0_off73_inb : ∀ (v617 : BitVec 32) (k0_hw49 : k0_chk49 v617) (k0_t2 : Fin (k0_t2_loop v617).trips), ∀ a, (k0_off73 v617 k0_t2) a + S1x1x256.size a ≤ S3x256x256.size a := fun v617 k0_hw49 k0_t2 => k0_hw49.1.2.2.2.2.2.2.2.2.2.2.2.2.2.2.2.2.1 k0_t2
theorem k0_off75_inb : ∀ (v617 : BitVec 32) (k0_hw49 : k0_chk49 v617) (k0_t2 : Fin (k0_t2_loop v617).trips), ∀ a, (k0_off75 v617 k0_t2) a + S1x1.size a ≤ S24x1536.size a := fun v617 k0_hw49 k0_t2 => k0_hw49.1.2.2.2.2.2.2.2.2.2.2.2.2.2.2.2.2.2.1 k0_t2
theorem k0_off76_inb : ∀ (v617 : BitVec 32) (k0_hw49 : k0_chk49 v617) (k0_t2 : Fin (k0_t2_loop v617).trips), ∀ a, (k0_off76 v617 k0_t2) a + S1x1x256.size a ≤ S3x256x256.size a := fun v617 k0_hw49 k0_t2 => k0_hw49.1.2.2.2.2.2.2.2.2.2.2.2.2.2.2.2.2.2.2.1 k0_t2
theorem k0_off78_inb : ∀ (v617 : BitVec 32) (k0_hw49 : k0_chk49 v617) (k0_t2 : Fin (k0_t2_loop v617).trips), ∀ a, (k0_off78 v617 k0_t2) a + S1x1.size a ≤ S24x1536.size a := fun v617 k0_hw49 k0_t2 => k0_hw49.1.2.2.2.2.2.2.2.2.2.2.2.2.2.2.2.2.2.2.2.1 k0_t2
theorem k0_off79_inb : ∀ (v617 : BitVec 32) (k0_hw49 : k0_chk49 v617) (k0_t2 : Fin (k0_t2_loop v617).trips), ∀ a, (k0_off79 v617 k0_t2) a + S1x1x256.size a ≤ S3x256x256.size a := fun v617 k0_hw49 k0_t2 => k0_hw49.1.2.2.2.2.2.2.2.2.2.2.2.2.2.2.2.2.2.2.2.2.1 k0_t2
theorem k0_off81_inb : ∀ (v617 : BitVec 32) (k0_hw49 : k0_chk49 v617) (k0_t2 : Fin (k0_t2_loop v617).trips), ∀ a, (k0_off81 v617 k0_t2) a + S1x1.size a ≤ S24x1536.size a := fun v617 k0_hw49 k0_t2 => k0_hw49.1.2.2.2.2.2.2.2.2.2.2.2.2.2.2.2.2.2.2.2.2.2.1 k0_t2
theorem k0_off82_inb : ∀ (v617 : BitVec 32) (k0_hw49 : k0_chk49 v617) (k0_t2 : Fin (k0_t2_loop v617).trips), ∀ a, (k0_off82 v617 k0_t2) a + S1x1x256.size a ≤ S3x256x256.size a := fun v617 k0_hw49 k0_t2 => k0_hw49.1.2.2.2.2.2.2.2.2.2.2.2.2.2.2.2.2.2.2.2.2.2.2.1 k0_t2
theorem k0_off84_inb : ∀ (v617 : BitVec 32) (k0_hw49 : k0_chk49 v617) (k0_t2 : Fin (k0_t2_loop v617).trips), ∀ a, (k0_off84 v617 k0_t2) a + S1x1.size a ≤ S24x1536.size a := fun v617 k0_hw49 k0_t2 => k0_hw49.1.2.2.2.2.2.2.2.2.2.2.2.2.2.2.2.2.2.2.2.2.2.2.2.1 k0_t2
theorem k0_off85_inb : ∀ (v617 : BitVec 32) (k0_hw49 : k0_chk49 v617) (k0_t2 : Fin (k0_t2_loop v617).trips), ∀ a, (k0_off85 v617 k0_t2) a + S1x1x256.size a ≤ S3x256x256.size a := fun v617 k0_hw49 k0_t2 => k0_hw49.1.2.2.2.2.2.2.2.2.2.2.2.2.2.2.2.2.2.2.2.2.2.2.2.2.1 k0_t2
theorem k0_off87_inb : ∀ (v617 : BitVec 32) (k0_hw49 : k0_chk49 v617) (k0_t2 : Fin (k0_t2_loop v617).trips), ∀ a, (k0_off87 v617 k0_t2) a + S1x1.size a ≤ S24x1536.size a := fun v617 k0_hw49 k0_t2 => k0_hw49.1.2.2.2.2.2.2.2.2.2.2.2.2.2.2.2.2.2.2.2.2.2.2.2.2.2.1 k0_t2
theorem k0_off88_inb : ∀ (v617 : BitVec 32) (k0_hw49 : k0_chk49 v617) (k0_t2 : Fin (k0_t2_loop v617).trips), ∀ a, (k0_off88 v617 k0_t2) a + S1x1x256.size a ≤ S3x256x256.size a := fun v617 k0_hw49 k0_t2 => k0_hw49.1.2.2.2.2.2.2.2.2.2.2.2.2.2.2.2.2.2.2.2.2.2.2.2.2.2.2.1 k0_t2
theorem k0_off90_inb : ∀ (v617 : BitVec 32) (k0_hw49 : k0_chk49 v617) (k0_t2 : Fin (k0_t2_loop v617).trips), ∀ a, (k0_off90 v617 k0_t2) a + S1x1.size a ≤ S24x1536.size a := fun v617 k0_hw49 k0_t2 => k0_hw49.1.2.2.2.2.2.2.2.2.2.2.2.2.2.2.2.2.2.2.2.2.2.2.2.2.2.2.2.1 k0_t2
theorem k0_off91_inb : ∀ (v617 : BitVec 32) (k0_hw49 : k0_chk49 v617) (k0_t2 : Fin (k0_t2_loop v617).trips), ∀ a, (k0_off91 v617 k0_t2) a + S1x1x256.size a ≤ S3x256x256.size a := fun v617 k0_hw49 k0_t2 => k0_hw49.1.2.2.2.2.2.2.2.2.2.2.2.2.2.2.2.2.2.2.2.2.2.2.2.2.2.2.2.2.1 k0_t2
theorem k0_off93_inb : ∀ (v617 : BitVec 32) (k0_hw49 : k0_chk49 v617) (k0_t2 : Fin (k0_t2_loop v617).trips), ∀ a, (k0_off93 v617 k0_t2) a + S1x1.size a ≤ S24x1536.size a := fun v617 k0_hw49 k0_t2 => k0_hw49.1.2.2.2.2.2.2.2.2.2.2.2.2.2.2.2.2.2.2.2.2.2.2.2.2.2.2.2.2.2.1 k0_t2
theorem k0_off94_inb : ∀ (v617 : BitVec 32) (k0_hw49 : k0_chk49 v617) (k0_t2 : Fin (k0_t2_loop v617).trips), ∀ a, (k0_off94 v617 k0_t2) a + S1x1x256.size a ≤ S3x256x256.size a := fun v617 k0_hw49 k0_t2 => k0_hw49.1.2.2.2.2.2.2.2.2.2.2.2.2.2.2.2.2.2.2.2.2.2.2.2.2.2.2.2.2.2.2.1 k0_t2
theorem k0_off96_inb : ∀ (v617 : BitVec 32) (k0_hw49 : k0_chk49 v617) (k0_t2 : Fin (k0_t2_loop v617).trips), ∀ a, (k0_off96 v617 k0_t2) a + S1x1.size a ≤ S24x1536.size a := fun v617 k0_hw49 k0_t2 => k0_hw49.1.2.2.2.2.2.2.2.2.2.2.2.2.2.2.2.2.2.2.2.2.2.2.2.2.2.2.2.2.2.2.2 k0_t2
theorem k0_off97_inb : ∀ (v617 : BitVec 32) (k0_hw49 : k0_chk49 v617) (k0_t2 : Fin (k0_t2_loop v617).trips), ∀ a, (k0_off97 v617 k0_t2) a + S1x1x256.size a ≤ S3x256x256.size a := fun v617 k0_hw49 k0_t2 => k0_hw49.2.1.1 k0_t2
theorem k0_t3_ok : ∀ (v617 : BitVec 32) (k0_hw49 : k0_chk49 v617), (k0_t3_loop v617).OK := fun v617 k0_hw49 => k0_hw49.2.1.2.1
theorem k0_off99_inb : ∀ (v617 : BitVec 32) (k0_hw49 : k0_chk49 v617) (k0_t3 : Fin (k0_t3_loop v617).trips), ∀ a, (k0_off99 v617 k0_t3) a + S1x1.size a ≤ S24x1536.size a := fun v617 k0_hw49 k0_t3 => k0_hw49.2.1.2.2.1 k0_t3
theorem k0_off100_inb : ∀ (v617 : BitVec 32) (k0_hw49 : k0_chk49 v617) (k0_t3 : Fin (k0_t3_loop v617).trips), ∀ a, (k0_off100 v617 k0_t3) a + S1x1x256.size a ≤ S3x256x256.size a := fun v617 k0_hw49 k0_t3 => k0_hw49.2.1.2.2.2.1 k0_t3
theorem k0_off102_inb : ∀ (v617 : BitVec 32) (k0_hw49 : k0_chk49 v617) (k0_t3 : Fin (k0_t3_loop v617).trips), ∀ a, (k0_off102 v617 k0_t3) a + S1x1.size a ≤ S24x1536.size a := fun v617 k0_hw49 k0_t3 => k0_hw49.2.1.2.2.2.2.1 k0_t3
theorem k0_off103_inb : ∀ (v617 : BitVec 32) (k0_hw49 : k0_chk49 v617) (k0_t3 : Fin (k0_t3_loop v617).trips), ∀ a, (k0_off103 v617 k0_t3) a + S1x1x256.size a ≤ S3x256x256.size a := fun v617 k0_hw49 k0_t3 => k0_hw49.2.1.2.2.2.2.2.1 k0_t3
theorem k0_off105_inb : ∀ (v617 : BitVec 32) (k0_hw49 : k0_chk49 v617) (k0_t3 : Fin (k0_t3_loop v617).trips), ∀ a, (k0_off105 v617 k0_t3) a + S1x1.size a ≤ S24x1536.size a := fun v617 k0_hw49 k0_t3 => k0_hw49.2.1.2.2.2.2.2.2.1 k0_t3
theorem k0_off106_inb : ∀ (v617 : BitVec 32) (k0_hw49 : k0_chk49 v617) (k0_t3 : Fin (k0_t3_loop v617).trips), ∀ a, (k0_off106 v617 k0_t3) a + S1x1x256.size a ≤ S3x256x256.size a := fun v617 k0_hw49 k0_t3 => k0_hw49.2.1.2.2.2.2.2.2.2.1 k0_t3
theorem k0_off108_inb : ∀ (v617 : BitVec 32) (k0_hw49 : k0_chk49 v617) (k0_t3 : Fin (k0_t3_loop v617).trips), ∀ a, (k0_off108 v617 k0_t3) a + S1x1.size a ≤ S24x1536.size a := fun v617 k0_hw49 k0_t3 => k0_hw49.2.1.2.2.2.2.2.2.2.2.1 k0_t3
theorem k0_off109_inb : ∀ (v617 : BitVec 32) (k0_hw49 : k0_chk49 v617) (k0_t3 : Fin (k0_t3_loop v617).trips), ∀ a, (k0_off109 v617 k0_t3) a + S1x1x256.size a ≤ S3x256x256.size a := fun v617 k0_hw49 k0_t3 => k0_hw49.2.1.2.2.2.2.2.2.2.2.2.1 k0_t3
theorem k0_off111_inb : ∀ (v617 : BitVec 32) (k0_hw49 : k0_chk49 v617) (k0_t3 : Fin (k0_t3_loop v617).trips), ∀ a, (k0_off111 v617 k0_t3) a + S1x1.size a ≤ S24x1536.size a := fun v617 k0_hw49 k0_t3 => k0_hw49.2.1.2.2.2.2.2.2.2.2.2.2.1 k0_t3
theorem k0_off112_inb : ∀ (v617 : BitVec 32) (k0_hw49 : k0_chk49 v617) (k0_t3 : Fin (k0_t3_loop v617).trips), ∀ a, (k0_off112 v617 k0_t3) a + S1x1x256.size a ≤ S3x256x256.size a := fun v617 k0_hw49 k0_t3 => k0_hw49.2.1.2.2.2.2.2.2.2.2.2.2.2.1 k0_t3
theorem k0_off114_inb : ∀ (v617 : BitVec 32) (k0_hw49 : k0_chk49 v617) (k0_t3 : Fin (k0_t3_loop v617).trips), ∀ a, (k0_off114 v617 k0_t3) a + S1x1.size a ≤ S24x1536.size a := fun v617 k0_hw49 k0_t3 => k0_hw49.2.1.2.2.2.2.2.2.2.2.2.2.2.2.1 k0_t3
theorem k0_off115_inb : ∀ (v617 : BitVec 32) (k0_hw49 : k0_chk49 v617) (k0_t3 : Fin (k0_t3_loop v617).trips), ∀ a, (k0_off115 v617 k0_t3) a + S1x1x256.size a ≤ S3x256x256.size a := fun v617 k0_hw49 k0_t3 => k0_hw49.2.1.2.2.2.2.2.2.2.2.2.2.2.2.2.1 k0_t3
theorem k0_off117_inb : ∀ (v617 : BitVec 32) (k0_hw49 : k0_chk49 v617) (k0_t3 : Fin (k0_t3_loop v617).trips), ∀ a, (k0_off117 v617 k0_t3) a + S1x1.size a ≤ S24x1536.size a := fun v617 k0_hw49 k0_t3 => k0_hw49.2.1.2.2.2.2.2.2.2.2.2.2.2.2.2.2.1 k0_t3
theorem k0_off118_inb : ∀ (v617 : BitVec 32) (k0_hw49 : k0_chk49 v617) (k0_t3 : Fin (k0_t3_loop v617).trips), ∀ a, (k0_off118 v617 k0_t3) a + S1x1x256.size a ≤ S3x256x256.size a := fun v617 k0_hw49 k0_t3 => k0_hw49.2.1.2.2.2.2.2.2.2.2.2.2.2.2.2.2.2.1 k0_t3
theorem k0_off120_inb : ∀ (v617 : BitVec 32) (k0_hw49 : k0_chk49 v617) (k0_t3 : Fin (k0_t3_loop v617).trips), ∀ a, (k0_off120 v617 k0_t3) a + S1x1.size a ≤ S24x1536.size a := fun v617 k0_hw49 k0_t3 => k0_hw49.2.1.2.2.2.2.2.2.2.2.2.2.2.2.2.2.2.2.1 k0_t3
theorem k0_off121_inb : ∀ (v617 : BitVec 32) (k0_hw49 : k0_chk49 v617) (k0_t3 : Fin (k0_t3_loop v617).trips), ∀ a, (k0_off121 v617 k0_t3) a + S1x1x256.size a ≤ S3x256x256.size a := fun v617 k0_hw49 k0_t3 => k0_hw49.2.1.2.2.2.2.2.2.2.2.2.2.2.2.2.2.2.2.2.1 k0_t3
theorem k0_off123_inb : ∀ (v617 : BitVec 32) (k0_hw49 : k0_chk49 v617) (k0_t3 : Fin (k0_t3_loop v617).trips), ∀ a, (k0_off123 v617 k0_t3) a + S1x1.size a ≤ S24x1536.size a := fun v617 k0_hw49 k0_t3 => k0_hw49.2.1.2.2.2.2.2.2.2.2.2.2.2.2.2.2.2.2.2.2.1 k0_t3
theorem k0_off124_inb : ∀ (v617 : BitVec 32) (k0_hw49 : k0_chk49 v617) (k0_t3 : Fin (k0_t3_loop v617).trips), ∀ a, (k0_off124 v617 k0_t3) a + S1x1x256.size a ≤ S3x256x256.size a := fun v617 k0_hw49 k0_t3 => k0_hw49.2.1.2.2.2.2.2.2.2.2.2.2.2.2.2.2.2.2.2.2.2.1 k0_t3
theorem k0_off126_inb : ∀ (v617 : BitVec 32) (k0_hw49 : k0_chk49 v617) (k0_t3 : Fin (k0_t3_loop v617).trips), ∀ a, (k0_off126 v617 k0_t3) a + S1x1.size a ≤ S24x1536.size a := fun v617 k0_hw49 k0_t3 => k0_hw49.2.1.2.2.2.2.2.2.2.2.2.2.2.2.2.2.2.2.2.2.2.2.1 k0_t3
theorem k0_off127_inb : ∀ (v617 : BitVec 32) (k0_hw49 : k0_chk49 v617) (k0_t3 : Fin (k0_t3_loop v617).trips), ∀ a, (k0_off127 v617 k0_t3) a + S1x1x256.size a ≤ S3x256x256.size a := fun v617 k0_hw49 k0_t3 => k0_hw49.2.1.2.2.2.2.2.2.2.2.2.2.2.2.2.2.2.2.2.2.2.2.2.1 k0_t3
theorem k0_off129_inb : ∀ (v617 : BitVec 32) (k0_hw49 : k0_chk49 v617) (k0_t3 : Fin (k0_t3_loop v617).trips), ∀ a, (k0_off129 v617 k0_t3) a + S1x1.size a ≤ S24x1536.size a := fun v617 k0_hw49 k0_t3 => k0_hw49.2.1.2.2.2.2.2.2.2.2.2.2.2.2.2.2.2.2.2.2.2.2.2.2.1 k0_t3
theorem k0_off130_inb : ∀ (v617 : BitVec 32) (k0_hw49 : k0_chk49 v617) (k0_t3 : Fin (k0_t3_loop v617).trips), ∀ a, (k0_off130 v617 k0_t3) a + S1x1x256.size a ≤ S3x256x256.size a := fun v617 k0_hw49 k0_t3 => k0_hw49.2.1.2.2.2.2.2.2.2.2.2.2.2.2.2.2.2.2.2.2.2.2.2.2.2.1 k0_t3
theorem k0_off132_inb : ∀ (v617 : BitVec 32) (k0_hw49 : k0_chk49 v617) (k0_t3 : Fin (k0_t3_loop v617).trips), ∀ a, (k0_off132 v617 k0_t3) a + S1x1.size a ≤ S24x1536.size a := fun v617 k0_hw49 k0_t3 => k0_hw49.2.1.2.2.2.2.2.2.2.2.2.2.2.2.2.2.2.2.2.2.2.2.2.2.2.2.1 k0_t3
theorem k0_off133_inb : ∀ (v617 : BitVec 32) (k0_hw49 : k0_chk49 v617) (k0_t3 : Fin (k0_t3_loop v617).trips), ∀ a, (k0_off133 v617 k0_t3) a + S1x1x256.size a ≤ S3x256x256.size a := fun v617 k0_hw49 k0_t3 => k0_hw49.2.1.2.2.2.2.2.2.2.2.2.2.2.2.2.2.2.2.2.2.2.2.2.2.2.2.2.1 k0_t3
theorem k0_off135_inb : ∀ (v617 : BitVec 32) (k0_hw49 : k0_chk49 v617) (k0_t3 : Fin (k0_t3_loop v617).trips), ∀ a, (k0_off135 v617 k0_t3) a + S1x1.size a ≤ S24x1536.size a := fun v617 k0_hw49 k0_t3 => k0_hw49.2.1.2.2.2.2.2.2.2.2.2.2.2.2.2.2.2.2.2.2.2.2.2.2.2.2.2.2.1 k0_t3
theorem k0_off136_inb : ∀ (v617 : BitVec 32) (k0_hw49 : k0_chk49 v617) (k0_t3 : Fin (k0_t3_loop v617).trips), ∀ a, (k0_off136 v617 k0_t3) a + S1x1x256.size a ≤ S3x256x256.size a := fun v617 k0_hw49 k0_t3 => k0_hw49.2.1.2.2.2.2.2.2.2.2.2.2.2.2.2.2.2.2.2.2.2.2.2.2.2.2.2.2.2.1 k0_t3
theorem k0_off138_inb : ∀ (v617 : BitVec 32) (k0_hw49 : k0_chk49 v617) (k0_t3 : Fin (k0_t3_loop v617).trips), ∀ a, (k0_off138 v617 k0_t3) a + S1x1.size a ≤ S24x1536.size a := fun v617 k0_hw49 k0_t3 => k0_hw49.2.1.2.2.2.2.2.2.2.2.2.2.2.2.2.2.2.2.2.2.2.2.2.2.2.2.2.2.2.2.1 k0_t3
theorem k0_off139_inb : ∀ (v617 : BitVec 32) (k0_hw49 : k0_chk49 v617) (k0_t3 : Fin (k0_t3_loop v617).trips), ∀ a, (k0_off139 v617 k0_t3) a + S1x1x256.size a ≤ S3x256x256.size a := fun v617 k0_hw49 k0_t3 => k0_hw49.2.1.2.2.2.2.2.2.2.2.2.2.2.2.2.2.2.2.2.2.2.2.2.2.2.2.2.2.2.2.2.1 k0_t3
theorem k0_off141_inb : ∀ (v617 : BitVec 32) (k0_hw49 : k0_chk49 v617) (k0_t3 : Fin (k0_t3_loop v617).trips), ∀ a, (k0_off141 v617 k0_t3) a + S1x1.size a ≤ S24x1536.size a := fun v617 k0_hw49 k0_t3 => k0_hw49.2.1.2.2.2.2.2.2.2.2.2.2.2.2.2.2.2.2.2.2.2.2.2.2.2.2.2.2.2.2.2.2.1 k0_t3
theorem k0_off142_inb : ∀ (v617 : BitVec 32) (k0_hw49 : k0_chk49 v617) (k0_t3 : Fin (k0_t3_loop v617).trips), ∀ a, (k0_off142 v617 k0_t3) a + S1x1x256.size a ≤ S3x256x256.size a := fun v617 k0_hw49 k0_t3 => k0_hw49.2.1.2.2.2.2.2.2.2.2.2.2.2.2.2.2.2.2.2.2.2.2.2.2.2.2.2.2.2.2.2.2.2 k0_t3
theorem k0_off144_inb : ∀ (v617 : BitVec 32) (k0_hw49 : k0_chk49 v617) (k0_t3 : Fin (k0_t3_loop v617).trips), ∀ a, (k0_off144 v617 k0_t3) a + S1x1.size a ≤ S24x1536.size a := fun v617 k0_hw49 k0_t3 => k0_hw49.2.2.1 k0_t3
theorem k0_off145_inb : ∀ (v617 : BitVec 32) (k0_hw49 : k0_chk49 v617) (k0_t3 : Fin (k0_t3_loop v617).trips), ∀ a, (k0_off145 v617 k0_t3) a + S1x1x256.size a ≤ S3x256x256.size a := fun v617 k0_hw49 k0_t3 => k0_hw49.2.2.2 k0_t3

def k0_off146 (v833 : BitVec 32) : Fin 2 → Nat :=
  let c2_i32_623 : BitVec 32 := 2#32
  let v834 : BitVec 32 := Scalar.shrui v833 c2_i32_623
  let c0_i32_627 : BitVec 32 := 0#32
  ![v834.toNat, 0]

def k0_chk81 (v833 : BitVec 32) : Prop :=
  (∀ a, (k0_off146 v833) a + S1x256.size a ≤ S250000x256.size a)
theorem k0_off146_inb : ∀ (v833 : BitVec 32) (k0_hw81 : k0_chk81 v833), ∀ a, (k0_off146 v833) a + S1x256.size a ≤ S250000x256.size a := fun v833 k0_hw81 => k0_hw81

def k0_off147 (v631 : BitVec 32) : Fin 1 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v662 : Index := Scalar.indexCast v636
  ![v662.toNat]
def k0_cond1 (v631 : BitVec 32) : BitVec 1 :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let c24_i32_466 : BitVec 32 := 24#32
  let v638 : BitVec 1 := Scalar.cmpi .slt v636 c24_i32_466
  let v639 : BitVec 32 := Scalar.extui v638
  let c0_i32_467 : BitVec 32 := 0#32
  let v640 : BitVec 1 := Scalar.cmpi .ne v639 c0_i32_467
  v640

@[reducible] def k0_t4_loop (v631 : BitVec 32) (v663 : BitVec 32) : Scf.Loop 32 :=
  let c0_i32_494 : BitVec 32 := 0#32
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c0_i32_464 : BitVec 32 := 0#32
  let c1_i32_465 : BitVec 32 := 1#32
  let v637 : BitVec 32 := Scalar.select v635 c0_i32_464 c1_i32_465
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_496 : BitVec 32 := 1#32
  ⟨c0_i32_494, v677, c1_i32_496⟩

def k0_off148 (v631 : BitVec 32) (v663 : BitVec 32) (k0_t4 : Fin (k0_t4_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v684 : Index := Scalar.indexCast v636
  let c0_i32_464 : BitVec 32 := 0#32
  let c1_i32_465 : BitVec 32 := 1#32
  let v637 : BitVec 32 := Scalar.select v635 c0_i32_464 c1_i32_465
  let c256_i32_500 : BitVec 32 := 256#32
  let v682 : BitVec 32 := Scalar.muli v637 c256_i32_500
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_498 : BitVec 32 := 16#32
  let v680 : BitVec 32 := Scalar.muli v679 c16_i32_498
  let c0_i32_499 : BitVec 32 := 0#32
  let v681 : BitVec 32 := Scalar.addi v680 c0_i32_499
  let v683 : BitVec 32 := Scalar.addi v682 v681
  let v685 : Index := Scalar.indexCast v683
  ![v684.toNat, v685.toNat]
def k0_off149 (v631 : BitVec 32) (v663 : BitVec 32) (k0_t4 : Fin (k0_t4_loop v631 v663).trips) : Fin 3 → Nat :=
  let c1_i32_502 : BitVec 32 := 1#32
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_498 : BitVec 32 := 16#32
  let v680 : BitVec 32 := Scalar.muli v679 c16_i32_498
  let c0_i32_499 : BitVec 32 := 0#32
  let v681 : BitVec 32 := Scalar.addi v680 c0_i32_499
  let c0_i32_504 : BitVec 32 := 0#32
  ![1, v681.toNat, 0]
def k0_off150 (v686 : BitVec 32) : Fin 2 → Nat :=
  let c2_i32_501 : BitVec 32 := 2#32
  let v687 : BitVec 32 := Scalar.shrui v686 c2_i32_501
  let c0_i32_505 : BitVec 32 := 0#32
  ![v687.toNat, 0]

def k0_chk84 (v631 : BitVec 32) (v686 : BitVec 32) : Prop :=
  (∀ (k0_h1 : k0_cond1 v631 = 1#1), ∀ a, (k0_off150 v686) a + S1x256.size a ≤ S250000x256.size a)
theorem k0_off150_inb : ∀ (v631 : BitVec 32) (v686 : BitVec 32) (k0_hw84 : k0_chk84 v631 v686), ∀ (k0_h1 : k0_cond1 v631 = 1#1), ∀ a, (k0_off150 v686) a + S1x256.size a ≤ S250000x256.size a := fun v631 v686 k0_hw84 k0_h1 => k0_hw84 k0_h1

def k0_off151 (v631 : BitVec 32) (v663 : BitVec 32) (k0_t4 : Fin (k0_t4_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v697 : Index := Scalar.indexCast v636
  let c0_i32_464 : BitVec 32 := 0#32
  let c1_i32_465 : BitVec 32 := 1#32
  let v637 : BitVec 32 := Scalar.select v635 c0_i32_464 c1_i32_465
  let c256_i32_508 : BitVec 32 := 256#32
  let v695 : BitVec 32 := Scalar.muli v637 c256_i32_508
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_506 : BitVec 32 := 16#32
  let v693 : BitVec 32 := Scalar.muli v679 c16_i32_506
  let c1_i32_507 : BitVec 32 := 1#32
  let v694 : BitVec 32 := Scalar.addi v693 c1_i32_507
  let v696 : BitVec 32 := Scalar.addi v695 v694
  let v698 : Index := Scalar.indexCast v696
  ![v697.toNat, v698.toNat]
def k0_off152 (v631 : BitVec 32) (v663 : BitVec 32) (k0_t4 : Fin (k0_t4_loop v631 v663).trips) : Fin 3 → Nat :=
  let c1_i32_510 : BitVec 32 := 1#32
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_506 : BitVec 32 := 16#32
  let v693 : BitVec 32 := Scalar.muli v679 c16_i32_506
  let c1_i32_507 : BitVec 32 := 1#32
  let v694 : BitVec 32 := Scalar.addi v693 c1_i32_507
  let c0_i32_512 : BitVec 32 := 0#32
  ![1, v694.toNat, 0]
def k0_off153 (v699 : BitVec 32) : Fin 2 → Nat :=
  let c2_i32_509 : BitVec 32 := 2#32
  let v700 : BitVec 32 := Scalar.shrui v699 c2_i32_509
  let c0_i32_513 : BitVec 32 := 0#32
  ![v700.toNat, 0]

def k0_chk85 (v631 : BitVec 32) (v699 : BitVec 32) : Prop :=
  (∀ (k0_h1 : k0_cond1 v631 = 1#1), ∀ a, (k0_off153 v699) a + S1x256.size a ≤ S250000x256.size a)
theorem k0_off153_inb : ∀ (v631 : BitVec 32) (v699 : BitVec 32) (k0_hw85 : k0_chk85 v631 v699), ∀ (k0_h1 : k0_cond1 v631 = 1#1), ∀ a, (k0_off153 v699) a + S1x256.size a ≤ S250000x256.size a := fun v631 v699 k0_hw85 k0_h1 => k0_hw85 k0_h1

def k0_off154 (v631 : BitVec 32) (v663 : BitVec 32) (k0_t4 : Fin (k0_t4_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v710 : Index := Scalar.indexCast v636
  let c0_i32_464 : BitVec 32 := 0#32
  let c1_i32_465 : BitVec 32 := 1#32
  let v637 : BitVec 32 := Scalar.select v635 c0_i32_464 c1_i32_465
  let c256_i32_516 : BitVec 32 := 256#32
  let v708 : BitVec 32 := Scalar.muli v637 c256_i32_516
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_514 : BitVec 32 := 16#32
  let v706 : BitVec 32 := Scalar.muli v679 c16_i32_514
  let c2_i32_515 : BitVec 32 := 2#32
  let v707 : BitVec 32 := Scalar.addi v706 c2_i32_515
  let v709 : BitVec 32 := Scalar.addi v708 v707
  let v711 : Index := Scalar.indexCast v709
  ![v710.toNat, v711.toNat]
def k0_off155 (v631 : BitVec 32) (v663 : BitVec 32) (k0_t4 : Fin (k0_t4_loop v631 v663).trips) : Fin 3 → Nat :=
  let c1_i32_518 : BitVec 32 := 1#32
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_514 : BitVec 32 := 16#32
  let v706 : BitVec 32 := Scalar.muli v679 c16_i32_514
  let c2_i32_515 : BitVec 32 := 2#32
  let v707 : BitVec 32 := Scalar.addi v706 c2_i32_515
  let c0_i32_520 : BitVec 32 := 0#32
  ![1, v707.toNat, 0]
def k0_off156 (v712 : BitVec 32) : Fin 2 → Nat :=
  let c2_i32_517 : BitVec 32 := 2#32
  let v713 : BitVec 32 := Scalar.shrui v712 c2_i32_517
  let c0_i32_521 : BitVec 32 := 0#32
  ![v713.toNat, 0]

def k0_chk86 (v631 : BitVec 32) (v712 : BitVec 32) : Prop :=
  (∀ (k0_h1 : k0_cond1 v631 = 1#1), ∀ a, (k0_off156 v712) a + S1x256.size a ≤ S250000x256.size a)
theorem k0_off156_inb : ∀ (v631 : BitVec 32) (v712 : BitVec 32) (k0_hw86 : k0_chk86 v631 v712), ∀ (k0_h1 : k0_cond1 v631 = 1#1), ∀ a, (k0_off156 v712) a + S1x256.size a ≤ S250000x256.size a := fun v631 v712 k0_hw86 k0_h1 => k0_hw86 k0_h1

def k0_off157 (v631 : BitVec 32) (v663 : BitVec 32) (k0_t4 : Fin (k0_t4_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v723 : Index := Scalar.indexCast v636
  let c0_i32_464 : BitVec 32 := 0#32
  let c1_i32_465 : BitVec 32 := 1#32
  let v637 : BitVec 32 := Scalar.select v635 c0_i32_464 c1_i32_465
  let c256_i32_524 : BitVec 32 := 256#32
  let v721 : BitVec 32 := Scalar.muli v637 c256_i32_524
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_522 : BitVec 32 := 16#32
  let v719 : BitVec 32 := Scalar.muli v679 c16_i32_522
  let c3_i32_523 : BitVec 32 := 3#32
  let v720 : BitVec 32 := Scalar.addi v719 c3_i32_523
  let v722 : BitVec 32 := Scalar.addi v721 v720
  let v724 : Index := Scalar.indexCast v722
  ![v723.toNat, v724.toNat]
def k0_off158 (v631 : BitVec 32) (v663 : BitVec 32) (k0_t4 : Fin (k0_t4_loop v631 v663).trips) : Fin 3 → Nat :=
  let c1_i32_526 : BitVec 32 := 1#32
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_522 : BitVec 32 := 16#32
  let v719 : BitVec 32 := Scalar.muli v679 c16_i32_522
  let c3_i32_523 : BitVec 32 := 3#32
  let v720 : BitVec 32 := Scalar.addi v719 c3_i32_523
  let c0_i32_528 : BitVec 32 := 0#32
  ![1, v720.toNat, 0]
def k0_off159 (v725 : BitVec 32) : Fin 2 → Nat :=
  let c2_i32_525 : BitVec 32 := 2#32
  let v726 : BitVec 32 := Scalar.shrui v725 c2_i32_525
  let c0_i32_529 : BitVec 32 := 0#32
  ![v726.toNat, 0]

def k0_chk87 (v631 : BitVec 32) (v725 : BitVec 32) : Prop :=
  (∀ (k0_h1 : k0_cond1 v631 = 1#1), ∀ a, (k0_off159 v725) a + S1x256.size a ≤ S250000x256.size a)
theorem k0_off159_inb : ∀ (v631 : BitVec 32) (v725 : BitVec 32) (k0_hw87 : k0_chk87 v631 v725), ∀ (k0_h1 : k0_cond1 v631 = 1#1), ∀ a, (k0_off159 v725) a + S1x256.size a ≤ S250000x256.size a := fun v631 v725 k0_hw87 k0_h1 => k0_hw87 k0_h1

def k0_off160 (v631 : BitVec 32) (v663 : BitVec 32) (k0_t4 : Fin (k0_t4_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v736 : Index := Scalar.indexCast v636
  let c0_i32_464 : BitVec 32 := 0#32
  let c1_i32_465 : BitVec 32 := 1#32
  let v637 : BitVec 32 := Scalar.select v635 c0_i32_464 c1_i32_465
  let c256_i32_532 : BitVec 32 := 256#32
  let v734 : BitVec 32 := Scalar.muli v637 c256_i32_532
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_530 : BitVec 32 := 16#32
  let v732 : BitVec 32 := Scalar.muli v679 c16_i32_530
  let c4_i32_531 : BitVec 32 := 4#32
  let v733 : BitVec 32 := Scalar.addi v732 c4_i32_531
  let v735 : BitVec 32 := Scalar.addi v734 v733
  let v737 : Index := Scalar.indexCast v735
  ![v736.toNat, v737.toNat]
def k0_off161 (v631 : BitVec 32) (v663 : BitVec 32) (k0_t4 : Fin (k0_t4_loop v631 v663).trips) : Fin 3 → Nat :=
  let c1_i32_534 : BitVec 32 := 1#32
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_530 : BitVec 32 := 16#32
  let v732 : BitVec 32 := Scalar.muli v679 c16_i32_530
  let c4_i32_531 : BitVec 32 := 4#32
  let v733 : BitVec 32 := Scalar.addi v732 c4_i32_531
  let c0_i32_536 : BitVec 32 := 0#32
  ![1, v733.toNat, 0]
def k0_off162 (v738 : BitVec 32) : Fin 2 → Nat :=
  let c2_i32_533 : BitVec 32 := 2#32
  let v739 : BitVec 32 := Scalar.shrui v738 c2_i32_533
  let c0_i32_537 : BitVec 32 := 0#32
  ![v739.toNat, 0]

def k0_chk88 (v631 : BitVec 32) (v738 : BitVec 32) : Prop :=
  (∀ (k0_h1 : k0_cond1 v631 = 1#1), ∀ a, (k0_off162 v738) a + S1x256.size a ≤ S250000x256.size a)
theorem k0_off162_inb : ∀ (v631 : BitVec 32) (v738 : BitVec 32) (k0_hw88 : k0_chk88 v631 v738), ∀ (k0_h1 : k0_cond1 v631 = 1#1), ∀ a, (k0_off162 v738) a + S1x256.size a ≤ S250000x256.size a := fun v631 v738 k0_hw88 k0_h1 => k0_hw88 k0_h1

def k0_off163 (v631 : BitVec 32) (v663 : BitVec 32) (k0_t4 : Fin (k0_t4_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v749 : Index := Scalar.indexCast v636
  let c0_i32_464 : BitVec 32 := 0#32
  let c1_i32_465 : BitVec 32 := 1#32
  let v637 : BitVec 32 := Scalar.select v635 c0_i32_464 c1_i32_465
  let c256_i32_540 : BitVec 32 := 256#32
  let v747 : BitVec 32 := Scalar.muli v637 c256_i32_540
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_538 : BitVec 32 := 16#32
  let v745 : BitVec 32 := Scalar.muli v679 c16_i32_538
  let c5_i32_539 : BitVec 32 := 5#32
  let v746 : BitVec 32 := Scalar.addi v745 c5_i32_539
  let v748 : BitVec 32 := Scalar.addi v747 v746
  let v750 : Index := Scalar.indexCast v748
  ![v749.toNat, v750.toNat]
def k0_off164 (v631 : BitVec 32) (v663 : BitVec 32) (k0_t4 : Fin (k0_t4_loop v631 v663).trips) : Fin 3 → Nat :=
  let c1_i32_542 : BitVec 32 := 1#32
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_538 : BitVec 32 := 16#32
  let v745 : BitVec 32 := Scalar.muli v679 c16_i32_538
  let c5_i32_539 : BitVec 32 := 5#32
  let v746 : BitVec 32 := Scalar.addi v745 c5_i32_539
  let c0_i32_544 : BitVec 32 := 0#32
  ![1, v746.toNat, 0]
def k0_off165 (v751 : BitVec 32) : Fin 2 → Nat :=
  let c2_i32_541 : BitVec 32 := 2#32
  let v752 : BitVec 32 := Scalar.shrui v751 c2_i32_541
  let c0_i32_545 : BitVec 32 := 0#32
  ![v752.toNat, 0]

def k0_chk89 (v631 : BitVec 32) (v751 : BitVec 32) : Prop :=
  (∀ (k0_h1 : k0_cond1 v631 = 1#1), ∀ a, (k0_off165 v751) a + S1x256.size a ≤ S250000x256.size a)
theorem k0_off165_inb : ∀ (v631 : BitVec 32) (v751 : BitVec 32) (k0_hw89 : k0_chk89 v631 v751), ∀ (k0_h1 : k0_cond1 v631 = 1#1), ∀ a, (k0_off165 v751) a + S1x256.size a ≤ S250000x256.size a := fun v631 v751 k0_hw89 k0_h1 => k0_hw89 k0_h1

def k0_off166 (v631 : BitVec 32) (v663 : BitVec 32) (k0_t4 : Fin (k0_t4_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v762 : Index := Scalar.indexCast v636
  let c0_i32_464 : BitVec 32 := 0#32
  let c1_i32_465 : BitVec 32 := 1#32
  let v637 : BitVec 32 := Scalar.select v635 c0_i32_464 c1_i32_465
  let c256_i32_548 : BitVec 32 := 256#32
  let v760 : BitVec 32 := Scalar.muli v637 c256_i32_548
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_546 : BitVec 32 := 16#32
  let v758 : BitVec 32 := Scalar.muli v679 c16_i32_546
  let c6_i32_547 : BitVec 32 := 6#32
  let v759 : BitVec 32 := Scalar.addi v758 c6_i32_547
  let v761 : BitVec 32 := Scalar.addi v760 v759
  let v763 : Index := Scalar.indexCast v761
  ![v762.toNat, v763.toNat]
def k0_off167 (v631 : BitVec 32) (v663 : BitVec 32) (k0_t4 : Fin (k0_t4_loop v631 v663).trips) : Fin 3 → Nat :=
  let c1_i32_550 : BitVec 32 := 1#32
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_546 : BitVec 32 := 16#32
  let v758 : BitVec 32 := Scalar.muli v679 c16_i32_546
  let c6_i32_547 : BitVec 32 := 6#32
  let v759 : BitVec 32 := Scalar.addi v758 c6_i32_547
  let c0_i32_552 : BitVec 32 := 0#32
  ![1, v759.toNat, 0]
def k0_off168 (v764 : BitVec 32) : Fin 2 → Nat :=
  let c2_i32_549 : BitVec 32 := 2#32
  let v765 : BitVec 32 := Scalar.shrui v764 c2_i32_549
  let c0_i32_553 : BitVec 32 := 0#32
  ![v765.toNat, 0]

def k0_chk90 (v631 : BitVec 32) (v764 : BitVec 32) : Prop :=
  (∀ (k0_h1 : k0_cond1 v631 = 1#1), ∀ a, (k0_off168 v764) a + S1x256.size a ≤ S250000x256.size a)
theorem k0_off168_inb : ∀ (v631 : BitVec 32) (v764 : BitVec 32) (k0_hw90 : k0_chk90 v631 v764), ∀ (k0_h1 : k0_cond1 v631 = 1#1), ∀ a, (k0_off168 v764) a + S1x256.size a ≤ S250000x256.size a := fun v631 v764 k0_hw90 k0_h1 => k0_hw90 k0_h1

def k0_off169 (v631 : BitVec 32) (v663 : BitVec 32) (k0_t4 : Fin (k0_t4_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v775 : Index := Scalar.indexCast v636
  let c0_i32_464 : BitVec 32 := 0#32
  let c1_i32_465 : BitVec 32 := 1#32
  let v637 : BitVec 32 := Scalar.select v635 c0_i32_464 c1_i32_465
  let c256_i32_556 : BitVec 32 := 256#32
  let v773 : BitVec 32 := Scalar.muli v637 c256_i32_556
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_554 : BitVec 32 := 16#32
  let v771 : BitVec 32 := Scalar.muli v679 c16_i32_554
  let c7_i32_555 : BitVec 32 := 7#32
  let v772 : BitVec 32 := Scalar.addi v771 c7_i32_555
  let v774 : BitVec 32 := Scalar.addi v773 v772
  let v776 : Index := Scalar.indexCast v774
  ![v775.toNat, v776.toNat]
def k0_off170 (v631 : BitVec 32) (v663 : BitVec 32) (k0_t4 : Fin (k0_t4_loop v631 v663).trips) : Fin 3 → Nat :=
  let c1_i32_558 : BitVec 32 := 1#32
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_554 : BitVec 32 := 16#32
  let v771 : BitVec 32 := Scalar.muli v679 c16_i32_554
  let c7_i32_555 : BitVec 32 := 7#32
  let v772 : BitVec 32 := Scalar.addi v771 c7_i32_555
  let c0_i32_560 : BitVec 32 := 0#32
  ![1, v772.toNat, 0]
def k0_off171 (v777 : BitVec 32) : Fin 2 → Nat :=
  let c2_i32_557 : BitVec 32 := 2#32
  let v778 : BitVec 32 := Scalar.shrui v777 c2_i32_557
  let c0_i32_561 : BitVec 32 := 0#32
  ![v778.toNat, 0]

def k0_chk91 (v631 : BitVec 32) (v777 : BitVec 32) : Prop :=
  (∀ (k0_h1 : k0_cond1 v631 = 1#1), ∀ a, (k0_off171 v777) a + S1x256.size a ≤ S250000x256.size a)
theorem k0_off171_inb : ∀ (v631 : BitVec 32) (v777 : BitVec 32) (k0_hw91 : k0_chk91 v631 v777), ∀ (k0_h1 : k0_cond1 v631 = 1#1), ∀ a, (k0_off171 v777) a + S1x256.size a ≤ S250000x256.size a := fun v631 v777 k0_hw91 k0_h1 => k0_hw91 k0_h1

def k0_off172 (v631 : BitVec 32) (v663 : BitVec 32) (k0_t4 : Fin (k0_t4_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v788 : Index := Scalar.indexCast v636
  let c0_i32_464 : BitVec 32 := 0#32
  let c1_i32_465 : BitVec 32 := 1#32
  let v637 : BitVec 32 := Scalar.select v635 c0_i32_464 c1_i32_465
  let c256_i32_564 : BitVec 32 := 256#32
  let v786 : BitVec 32 := Scalar.muli v637 c256_i32_564
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_562 : BitVec 32 := 16#32
  let v784 : BitVec 32 := Scalar.muli v679 c16_i32_562
  let c8_i32_563 : BitVec 32 := 8#32
  let v785 : BitVec 32 := Scalar.addi v784 c8_i32_563
  let v787 : BitVec 32 := Scalar.addi v786 v785
  let v789 : Index := Scalar.indexCast v787
  ![v788.toNat, v789.toNat]
def k0_off173 (v631 : BitVec 32) (v663 : BitVec 32) (k0_t4 : Fin (k0_t4_loop v631 v663).trips) : Fin 3 → Nat :=
  let c1_i32_566 : BitVec 32 := 1#32
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_562 : BitVec 32 := 16#32
  let v784 : BitVec 32 := Scalar.muli v679 c16_i32_562
  let c8_i32_563 : BitVec 32 := 8#32
  let v785 : BitVec 32 := Scalar.addi v784 c8_i32_563
  let c0_i32_568 : BitVec 32 := 0#32
  ![1, v785.toNat, 0]
def k0_off174 (v790 : BitVec 32) : Fin 2 → Nat :=
  let c2_i32_565 : BitVec 32 := 2#32
  let v791 : BitVec 32 := Scalar.shrui v790 c2_i32_565
  let c0_i32_569 : BitVec 32 := 0#32
  ![v791.toNat, 0]

def k0_chk92 (v631 : BitVec 32) (v790 : BitVec 32) : Prop :=
  (∀ (k0_h1 : k0_cond1 v631 = 1#1), ∀ a, (k0_off174 v790) a + S1x256.size a ≤ S250000x256.size a)
theorem k0_off174_inb : ∀ (v631 : BitVec 32) (v790 : BitVec 32) (k0_hw92 : k0_chk92 v631 v790), ∀ (k0_h1 : k0_cond1 v631 = 1#1), ∀ a, (k0_off174 v790) a + S1x256.size a ≤ S250000x256.size a := fun v631 v790 k0_hw92 k0_h1 => k0_hw92 k0_h1

def k0_off175 (v631 : BitVec 32) (v663 : BitVec 32) (k0_t4 : Fin (k0_t4_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v801 : Index := Scalar.indexCast v636
  let c0_i32_464 : BitVec 32 := 0#32
  let c1_i32_465 : BitVec 32 := 1#32
  let v637 : BitVec 32 := Scalar.select v635 c0_i32_464 c1_i32_465
  let c256_i32_572 : BitVec 32 := 256#32
  let v799 : BitVec 32 := Scalar.muli v637 c256_i32_572
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_570 : BitVec 32 := 16#32
  let v797 : BitVec 32 := Scalar.muli v679 c16_i32_570
  let c9_i32_571 : BitVec 32 := 9#32
  let v798 : BitVec 32 := Scalar.addi v797 c9_i32_571
  let v800 : BitVec 32 := Scalar.addi v799 v798
  let v802 : Index := Scalar.indexCast v800
  ![v801.toNat, v802.toNat]
def k0_off176 (v631 : BitVec 32) (v663 : BitVec 32) (k0_t4 : Fin (k0_t4_loop v631 v663).trips) : Fin 3 → Nat :=
  let c1_i32_574 : BitVec 32 := 1#32
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_570 : BitVec 32 := 16#32
  let v797 : BitVec 32 := Scalar.muli v679 c16_i32_570
  let c9_i32_571 : BitVec 32 := 9#32
  let v798 : BitVec 32 := Scalar.addi v797 c9_i32_571
  let c0_i32_576 : BitVec 32 := 0#32
  ![1, v798.toNat, 0]
def k0_off177 (v803 : BitVec 32) : Fin 2 → Nat :=
  let c2_i32_573 : BitVec 32 := 2#32
  let v804 : BitVec 32 := Scalar.shrui v803 c2_i32_573
  let c0_i32_577 : BitVec 32 := 0#32
  ![v804.toNat, 0]

def k0_chk93 (v631 : BitVec 32) (v803 : BitVec 32) : Prop :=
  (∀ (k0_h1 : k0_cond1 v631 = 1#1), ∀ a, (k0_off177 v803) a + S1x256.size a ≤ S250000x256.size a)
theorem k0_off177_inb : ∀ (v631 : BitVec 32) (v803 : BitVec 32) (k0_hw93 : k0_chk93 v631 v803), ∀ (k0_h1 : k0_cond1 v631 = 1#1), ∀ a, (k0_off177 v803) a + S1x256.size a ≤ S250000x256.size a := fun v631 v803 k0_hw93 k0_h1 => k0_hw93 k0_h1

def k0_off178 (v631 : BitVec 32) (v663 : BitVec 32) (k0_t4 : Fin (k0_t4_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v814 : Index := Scalar.indexCast v636
  let c0_i32_464 : BitVec 32 := 0#32
  let c1_i32_465 : BitVec 32 := 1#32
  let v637 : BitVec 32 := Scalar.select v635 c0_i32_464 c1_i32_465
  let c256_i32_580 : BitVec 32 := 256#32
  let v812 : BitVec 32 := Scalar.muli v637 c256_i32_580
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_578 : BitVec 32 := 16#32
  let v810 : BitVec 32 := Scalar.muli v679 c16_i32_578
  let c10_i32_579 : BitVec 32 := 10#32
  let v811 : BitVec 32 := Scalar.addi v810 c10_i32_579
  let v813 : BitVec 32 := Scalar.addi v812 v811
  let v815 : Index := Scalar.indexCast v813
  ![v814.toNat, v815.toNat]
def k0_off179 (v631 : BitVec 32) (v663 : BitVec 32) (k0_t4 : Fin (k0_t4_loop v631 v663).trips) : Fin 3 → Nat :=
  let c1_i32_582 : BitVec 32 := 1#32
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_578 : BitVec 32 := 16#32
  let v810 : BitVec 32 := Scalar.muli v679 c16_i32_578
  let c10_i32_579 : BitVec 32 := 10#32
  let v811 : BitVec 32 := Scalar.addi v810 c10_i32_579
  let c0_i32_584 : BitVec 32 := 0#32
  ![1, v811.toNat, 0]
def k0_off180 (v816 : BitVec 32) : Fin 2 → Nat :=
  let c2_i32_581 : BitVec 32 := 2#32
  let v817 : BitVec 32 := Scalar.shrui v816 c2_i32_581
  let c0_i32_585 : BitVec 32 := 0#32
  ![v817.toNat, 0]

def k0_chk94 (v631 : BitVec 32) (v816 : BitVec 32) : Prop :=
  (∀ (k0_h1 : k0_cond1 v631 = 1#1), ∀ a, (k0_off180 v816) a + S1x256.size a ≤ S250000x256.size a)
theorem k0_off180_inb : ∀ (v631 : BitVec 32) (v816 : BitVec 32) (k0_hw94 : k0_chk94 v631 v816), ∀ (k0_h1 : k0_cond1 v631 = 1#1), ∀ a, (k0_off180 v816) a + S1x256.size a ≤ S250000x256.size a := fun v631 v816 k0_hw94 k0_h1 => k0_hw94 k0_h1

def k0_off181 (v631 : BitVec 32) (v663 : BitVec 32) (k0_t4 : Fin (k0_t4_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v827 : Index := Scalar.indexCast v636
  let c0_i32_464 : BitVec 32 := 0#32
  let c1_i32_465 : BitVec 32 := 1#32
  let v637 : BitVec 32 := Scalar.select v635 c0_i32_464 c1_i32_465
  let c256_i32_588 : BitVec 32 := 256#32
  let v825 : BitVec 32 := Scalar.muli v637 c256_i32_588
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_586 : BitVec 32 := 16#32
  let v823 : BitVec 32 := Scalar.muli v679 c16_i32_586
  let c11_i32_587 : BitVec 32 := 11#32
  let v824 : BitVec 32 := Scalar.addi v823 c11_i32_587
  let v826 : BitVec 32 := Scalar.addi v825 v824
  let v828 : Index := Scalar.indexCast v826
  ![v827.toNat, v828.toNat]
def k0_off182 (v631 : BitVec 32) (v663 : BitVec 32) (k0_t4 : Fin (k0_t4_loop v631 v663).trips) : Fin 3 → Nat :=
  let c1_i32_590 : BitVec 32 := 1#32
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_586 : BitVec 32 := 16#32
  let v823 : BitVec 32 := Scalar.muli v679 c16_i32_586
  let c11_i32_587 : BitVec 32 := 11#32
  let v824 : BitVec 32 := Scalar.addi v823 c11_i32_587
  let c0_i32_592 : BitVec 32 := 0#32
  ![1, v824.toNat, 0]
def k0_off183 (v829 : BitVec 32) : Fin 2 → Nat :=
  let c2_i32_589 : BitVec 32 := 2#32
  let v830 : BitVec 32 := Scalar.shrui v829 c2_i32_589
  let c0_i32_593 : BitVec 32 := 0#32
  ![v830.toNat, 0]

def k0_chk95 (v631 : BitVec 32) (v829 : BitVec 32) : Prop :=
  (∀ (k0_h1 : k0_cond1 v631 = 1#1), ∀ a, (k0_off183 v829) a + S1x256.size a ≤ S250000x256.size a)
theorem k0_off183_inb : ∀ (v631 : BitVec 32) (v829 : BitVec 32) (k0_hw95 : k0_chk95 v631 v829), ∀ (k0_h1 : k0_cond1 v631 = 1#1), ∀ a, (k0_off183 v829) a + S1x256.size a ≤ S250000x256.size a := fun v631 v829 k0_hw95 k0_h1 => k0_hw95 k0_h1

def k0_off184 (v631 : BitVec 32) (v663 : BitVec 32) (k0_t4 : Fin (k0_t4_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v840 : Index := Scalar.indexCast v636
  let c0_i32_464 : BitVec 32 := 0#32
  let c1_i32_465 : BitVec 32 := 1#32
  let v637 : BitVec 32 := Scalar.select v635 c0_i32_464 c1_i32_465
  let c256_i32_596 : BitVec 32 := 256#32
  let v838 : BitVec 32 := Scalar.muli v637 c256_i32_596
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_594 : BitVec 32 := 16#32
  let v836 : BitVec 32 := Scalar.muli v679 c16_i32_594
  let c12_i32_595 : BitVec 32 := 12#32
  let v837 : BitVec 32 := Scalar.addi v836 c12_i32_595
  let v839 : BitVec 32 := Scalar.addi v838 v837
  let v841 : Index := Scalar.indexCast v839
  ![v840.toNat, v841.toNat]
def k0_off185 (v631 : BitVec 32) (v663 : BitVec 32) (k0_t4 : Fin (k0_t4_loop v631 v663).trips) : Fin 3 → Nat :=
  let c1_i32_598 : BitVec 32 := 1#32
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_594 : BitVec 32 := 16#32
  let v836 : BitVec 32 := Scalar.muli v679 c16_i32_594
  let c12_i32_595 : BitVec 32 := 12#32
  let v837 : BitVec 32 := Scalar.addi v836 c12_i32_595
  let c0_i32_600 : BitVec 32 := 0#32
  ![1, v837.toNat, 0]
def k0_off186 (v842 : BitVec 32) : Fin 2 → Nat :=
  let c2_i32_597 : BitVec 32 := 2#32
  let v843 : BitVec 32 := Scalar.shrui v842 c2_i32_597
  let c0_i32_601 : BitVec 32 := 0#32
  ![v843.toNat, 0]

def k0_chk96 (v631 : BitVec 32) (v842 : BitVec 32) : Prop :=
  (∀ (k0_h1 : k0_cond1 v631 = 1#1), ∀ a, (k0_off186 v842) a + S1x256.size a ≤ S250000x256.size a)
theorem k0_off186_inb : ∀ (v631 : BitVec 32) (v842 : BitVec 32) (k0_hw96 : k0_chk96 v631 v842), ∀ (k0_h1 : k0_cond1 v631 = 1#1), ∀ a, (k0_off186 v842) a + S1x256.size a ≤ S250000x256.size a := fun v631 v842 k0_hw96 k0_h1 => k0_hw96 k0_h1

def k0_off187 (v631 : BitVec 32) (v663 : BitVec 32) (k0_t4 : Fin (k0_t4_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v853 : Index := Scalar.indexCast v636
  let c0_i32_464 : BitVec 32 := 0#32
  let c1_i32_465 : BitVec 32 := 1#32
  let v637 : BitVec 32 := Scalar.select v635 c0_i32_464 c1_i32_465
  let c256_i32_604 : BitVec 32 := 256#32
  let v851 : BitVec 32 := Scalar.muli v637 c256_i32_604
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_602 : BitVec 32 := 16#32
  let v849 : BitVec 32 := Scalar.muli v679 c16_i32_602
  let c13_i32_603 : BitVec 32 := 13#32
  let v850 : BitVec 32 := Scalar.addi v849 c13_i32_603
  let v852 : BitVec 32 := Scalar.addi v851 v850
  let v854 : Index := Scalar.indexCast v852
  ![v853.toNat, v854.toNat]
def k0_off188 (v631 : BitVec 32) (v663 : BitVec 32) (k0_t4 : Fin (k0_t4_loop v631 v663).trips) : Fin 3 → Nat :=
  let c1_i32_606 : BitVec 32 := 1#32
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_602 : BitVec 32 := 16#32
  let v849 : BitVec 32 := Scalar.muli v679 c16_i32_602
  let c13_i32_603 : BitVec 32 := 13#32
  let v850 : BitVec 32 := Scalar.addi v849 c13_i32_603
  let c0_i32_608 : BitVec 32 := 0#32
  ![1, v850.toNat, 0]
def k0_off189 (v855 : BitVec 32) : Fin 2 → Nat :=
  let c2_i32_605 : BitVec 32 := 2#32
  let v856 : BitVec 32 := Scalar.shrui v855 c2_i32_605
  let c0_i32_609 : BitVec 32 := 0#32
  ![v856.toNat, 0]

def k0_chk97 (v631 : BitVec 32) (v855 : BitVec 32) : Prop :=
  (∀ (k0_h1 : k0_cond1 v631 = 1#1), ∀ a, (k0_off189 v855) a + S1x256.size a ≤ S250000x256.size a)
theorem k0_off189_inb : ∀ (v631 : BitVec 32) (v855 : BitVec 32) (k0_hw97 : k0_chk97 v631 v855), ∀ (k0_h1 : k0_cond1 v631 = 1#1), ∀ a, (k0_off189 v855) a + S1x256.size a ≤ S250000x256.size a := fun v631 v855 k0_hw97 k0_h1 => k0_hw97 k0_h1

def k0_off190 (v631 : BitVec 32) (v663 : BitVec 32) (k0_t4 : Fin (k0_t4_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v866 : Index := Scalar.indexCast v636
  let c0_i32_464 : BitVec 32 := 0#32
  let c1_i32_465 : BitVec 32 := 1#32
  let v637 : BitVec 32 := Scalar.select v635 c0_i32_464 c1_i32_465
  let c256_i32_612 : BitVec 32 := 256#32
  let v864 : BitVec 32 := Scalar.muli v637 c256_i32_612
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_610 : BitVec 32 := 16#32
  let v862 : BitVec 32 := Scalar.muli v679 c16_i32_610
  let c14_i32_611 : BitVec 32 := 14#32
  let v863 : BitVec 32 := Scalar.addi v862 c14_i32_611
  let v865 : BitVec 32 := Scalar.addi v864 v863
  let v867 : Index := Scalar.indexCast v865
  ![v866.toNat, v867.toNat]
def k0_off191 (v631 : BitVec 32) (v663 : BitVec 32) (k0_t4 : Fin (k0_t4_loop v631 v663).trips) : Fin 3 → Nat :=
  let c1_i32_614 : BitVec 32 := 1#32
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_610 : BitVec 32 := 16#32
  let v862 : BitVec 32 := Scalar.muli v679 c16_i32_610
  let c14_i32_611 : BitVec 32 := 14#32
  let v863 : BitVec 32 := Scalar.addi v862 c14_i32_611
  let c0_i32_616 : BitVec 32 := 0#32
  ![1, v863.toNat, 0]
def k0_off192 (v868 : BitVec 32) : Fin 2 → Nat :=
  let c2_i32_613 : BitVec 32 := 2#32
  let v869 : BitVec 32 := Scalar.shrui v868 c2_i32_613
  let c0_i32_617 : BitVec 32 := 0#32
  ![v869.toNat, 0]

def k0_chk98 (v631 : BitVec 32) (v868 : BitVec 32) : Prop :=
  (∀ (k0_h1 : k0_cond1 v631 = 1#1), ∀ a, (k0_off192 v868) a + S1x256.size a ≤ S250000x256.size a)
theorem k0_off192_inb : ∀ (v631 : BitVec 32) (v868 : BitVec 32) (k0_hw98 : k0_chk98 v631 v868), ∀ (k0_h1 : k0_cond1 v631 = 1#1), ∀ a, (k0_off192 v868) a + S1x256.size a ≤ S250000x256.size a := fun v631 v868 k0_hw98 k0_h1 => k0_hw98 k0_h1

def k0_off193 (v631 : BitVec 32) (v663 : BitVec 32) (k0_t4 : Fin (k0_t4_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v879 : Index := Scalar.indexCast v636
  let c0_i32_464 : BitVec 32 := 0#32
  let c1_i32_465 : BitVec 32 := 1#32
  let v637 : BitVec 32 := Scalar.select v635 c0_i32_464 c1_i32_465
  let c256_i32_620 : BitVec 32 := 256#32
  let v877 : BitVec 32 := Scalar.muli v637 c256_i32_620
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_618 : BitVec 32 := 16#32
  let v875 : BitVec 32 := Scalar.muli v679 c16_i32_618
  let c15_i32_619 : BitVec 32 := 15#32
  let v876 : BitVec 32 := Scalar.addi v875 c15_i32_619
  let v878 : BitVec 32 := Scalar.addi v877 v876
  let v880 : Index := Scalar.indexCast v878
  ![v879.toNat, v880.toNat]
def k0_off194 (v631 : BitVec 32) (v663 : BitVec 32) (k0_t4 : Fin (k0_t4_loop v631 v663).trips) : Fin 3 → Nat :=
  let c1_i32_622 : BitVec 32 := 1#32
  let c0_i32_493 : BitVec 32 := 0#32
  let c0_i32_494 : BitVec 32 := 0#32
  let c1_i32_496 : BitVec 32 := 1#32
  let arg24 : BitVec 32 := Scf.iv c0_i32_494 c1_i32_496 k0_t4
  let c1_i32_492 : BitVec 32 := 1#32
  let v678 : BitVec 32 := Scalar.muli arg24 c1_i32_492
  let v679 : BitVec 32 := Scalar.addi c0_i32_493 v678
  let c16_i32_618 : BitVec 32 := 16#32
  let v875 : BitVec 32 := Scalar.muli v679 c16_i32_618
  let c15_i32_619 : BitVec 32 := 15#32
  let v876 : BitVec 32 := Scalar.addi v875 c15_i32_619
  let c0_i32_624 : BitVec 32 := 0#32
  ![1, v876.toNat, 0]
def k0_off195 (v881 : BitVec 32) : Fin 2 → Nat :=
  let c2_i32_621 : BitVec 32 := 2#32
  let v882 : BitVec 32 := Scalar.shrui v881 c2_i32_621
  let c0_i32_625 : BitVec 32 := 0#32
  ![v882.toNat, 0]

def k0_chk99 (v631 : BitVec 32) (v881 : BitVec 32) : Prop :=
  (∀ (k0_h1 : k0_cond1 v631 = 1#1), ∀ a, (k0_off195 v881) a + S1x256.size a ≤ S250000x256.size a)
theorem k0_off195_inb : ∀ (v631 : BitVec 32) (v881 : BitVec 32) (k0_hw99 : k0_chk99 v631 v881), ∀ (k0_h1 : k0_cond1 v631 = 1#1), ∀ a, (k0_off195 v881) a + S1x256.size a ≤ S250000x256.size a := fun v631 v881 k0_hw99 k0_h1 => k0_hw99 k0_h1

@[reducible] def k0_t5_loop (v631 : BitVec 32) (v663 : BitVec 32) : Scf.Loop 32 :=
  let c0_i32_494 : BitVec 32 := 0#32
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c0_i32_464 : BitVec 32 := 0#32
  let c1_i32_465 : BitVec 32 := 1#32
  let v637 : BitVec 32 := Scalar.select v635 c0_i32_464 c1_i32_465
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let v674 : BitVec 32 := Scalar.addi c0_i32_494 v673
  let c1_i32_497 : BitVec 32 := 1#32
  ⟨v677, v674, c1_i32_497⟩
def k0_off196 (v631 : BitVec 32) (v663 : BitVec 32) (k0_t5 : Fin (k0_t5_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v684 : Index := Scalar.indexCast v636
  let c0_i32_464 : BitVec 32 := 0#32
  let c1_i32_465 : BitVec 32 := 1#32
  let v637 : BitVec 32 := Scalar.select v635 c0_i32_464 c1_i32_465
  let c256_i32_500 : BitVec 32 := 256#32
  let v682 : BitVec 32 := Scalar.muli v637 c256_i32_500
  let c0_i32_493 : BitVec 32 := 0#32
  let c0_i32_494 : BitVec 32 := 0#32
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_498 : BitVec 32 := 16#32
  let v680 : BitVec 32 := Scalar.muli v679 c16_i32_498
  let c0_i32_499 : BitVec 32 := 0#32
  let v681 : BitVec 32 := Scalar.addi v680 c0_i32_499
  let v683 : BitVec 32 := Scalar.addi v682 v681
  let v685 : Index := Scalar.indexCast v683
  ![v684.toNat, v685.toNat]
def k0_off197 (v631 : BitVec 32) (v663 : BitVec 32) (k0_t5 : Fin (k0_t5_loop v631 v663).trips) : Fin 3 → Nat :=
  let c1_i32_502 : BitVec 32 := 1#32
  let c0_i32_493 : BitVec 32 := 0#32
  let c0_i32_494 : BitVec 32 := 0#32
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c0_i32_464 : BitVec 32 := 0#32
  let c1_i32_465 : BitVec 32 := 1#32
  let v637 : BitVec 32 := Scalar.select v635 c0_i32_464 c1_i32_465
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_498 : BitVec 32 := 16#32
  let v680 : BitVec 32 := Scalar.muli v679 c16_i32_498
  let c0_i32_499 : BitVec 32 := 0#32
  let v681 : BitVec 32 := Scalar.addi v680 c0_i32_499
  let c0_i32_504 : BitVec 32 := 0#32
  ![1, v681.toNat, 0]
def k0_off198 (v686 : BitVec 32) : Fin 2 → Nat :=
  let c2_i32_501 : BitVec 32 := 2#32
  let v687 : BitVec 32 := Scalar.shrui v686 c2_i32_501
  let c0_i32_505 : BitVec 32 := 0#32
  ![v687.toNat, 0]

def k0_chk100 (v631 : BitVec 32) (v686 : BitVec 32) : Prop :=
  (∀ (k0_h1 : k0_cond1 v631 = 1#1), ∀ a, (k0_off198 v686) a + S1x256.size a ≤ S250000x256.size a)
theorem k0_off198_inb : ∀ (v631 : BitVec 32) (v686 : BitVec 32) (k0_hw100 : k0_chk100 v631 v686), ∀ (k0_h1 : k0_cond1 v631 = 1#1), ∀ a, (k0_off198 v686) a + S1x256.size a ≤ S250000x256.size a := fun v631 v686 k0_hw100 k0_h1 => k0_hw100 k0_h1

def k0_off199 (v631 : BitVec 32) (v663 : BitVec 32) (k0_t5 : Fin (k0_t5_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v697 : Index := Scalar.indexCast v636
  let c0_i32_464 : BitVec 32 := 0#32
  let c1_i32_465 : BitVec 32 := 1#32
  let v637 : BitVec 32 := Scalar.select v635 c0_i32_464 c1_i32_465
  let c256_i32_508 : BitVec 32 := 256#32
  let v695 : BitVec 32 := Scalar.muli v637 c256_i32_508
  let c0_i32_493 : BitVec 32 := 0#32
  let c0_i32_494 : BitVec 32 := 0#32
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_506 : BitVec 32 := 16#32
  let v693 : BitVec 32 := Scalar.muli v679 c16_i32_506
  let c1_i32_507 : BitVec 32 := 1#32
  let v694 : BitVec 32 := Scalar.addi v693 c1_i32_507
  let v696 : BitVec 32 := Scalar.addi v695 v694
  let v698 : Index := Scalar.indexCast v696
  ![v697.toNat, v698.toNat]
def k0_off200 (v631 : BitVec 32) (v663 : BitVec 32) (k0_t5 : Fin (k0_t5_loop v631 v663).trips) : Fin 3 → Nat :=
  let c1_i32_510 : BitVec 32 := 1#32
  let c0_i32_493 : BitVec 32 := 0#32
  let c0_i32_494 : BitVec 32 := 0#32
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c0_i32_464 : BitVec 32 := 0#32
  let c1_i32_465 : BitVec 32 := 1#32
  let v637 : BitVec 32 := Scalar.select v635 c0_i32_464 c1_i32_465
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_506 : BitVec 32 := 16#32
  let v693 : BitVec 32 := Scalar.muli v679 c16_i32_506
  let c1_i32_507 : BitVec 32 := 1#32
  let v694 : BitVec 32 := Scalar.addi v693 c1_i32_507
  let c0_i32_512 : BitVec 32 := 0#32
  ![1, v694.toNat, 0]
def k0_off201 (v699 : BitVec 32) : Fin 2 → Nat :=
  let c2_i32_509 : BitVec 32 := 2#32
  let v700 : BitVec 32 := Scalar.shrui v699 c2_i32_509
  let c0_i32_513 : BitVec 32 := 0#32
  ![v700.toNat, 0]

def k0_chk101 (v631 : BitVec 32) (v699 : BitVec 32) : Prop :=
  (∀ (k0_h1 : k0_cond1 v631 = 1#1), ∀ a, (k0_off201 v699) a + S1x256.size a ≤ S250000x256.size a)
theorem k0_off201_inb : ∀ (v631 : BitVec 32) (v699 : BitVec 32) (k0_hw101 : k0_chk101 v631 v699), ∀ (k0_h1 : k0_cond1 v631 = 1#1), ∀ a, (k0_off201 v699) a + S1x256.size a ≤ S250000x256.size a := fun v631 v699 k0_hw101 k0_h1 => k0_hw101 k0_h1

def k0_off202 (v631 : BitVec 32) (v663 : BitVec 32) (k0_t5 : Fin (k0_t5_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v710 : Index := Scalar.indexCast v636
  let c0_i32_464 : BitVec 32 := 0#32
  let c1_i32_465 : BitVec 32 := 1#32
  let v637 : BitVec 32 := Scalar.select v635 c0_i32_464 c1_i32_465
  let c256_i32_516 : BitVec 32 := 256#32
  let v708 : BitVec 32 := Scalar.muli v637 c256_i32_516
  let c0_i32_493 : BitVec 32 := 0#32
  let c0_i32_494 : BitVec 32 := 0#32
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_514 : BitVec 32 := 16#32
  let v706 : BitVec 32 := Scalar.muli v679 c16_i32_514
  let c2_i32_515 : BitVec 32 := 2#32
  let v707 : BitVec 32 := Scalar.addi v706 c2_i32_515
  let v709 : BitVec 32 := Scalar.addi v708 v707
  let v711 : Index := Scalar.indexCast v709
  ![v710.toNat, v711.toNat]
def k0_off203 (v631 : BitVec 32) (v663 : BitVec 32) (k0_t5 : Fin (k0_t5_loop v631 v663).trips) : Fin 3 → Nat :=
  let c1_i32_518 : BitVec 32 := 1#32
  let c0_i32_493 : BitVec 32 := 0#32
  let c0_i32_494 : BitVec 32 := 0#32
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c0_i32_464 : BitVec 32 := 0#32
  let c1_i32_465 : BitVec 32 := 1#32
  let v637 : BitVec 32 := Scalar.select v635 c0_i32_464 c1_i32_465
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_514 : BitVec 32 := 16#32
  let v706 : BitVec 32 := Scalar.muli v679 c16_i32_514
  let c2_i32_515 : BitVec 32 := 2#32
  let v707 : BitVec 32 := Scalar.addi v706 c2_i32_515
  let c0_i32_520 : BitVec 32 := 0#32
  ![1, v707.toNat, 0]
def k0_off204 (v712 : BitVec 32) : Fin 2 → Nat :=
  let c2_i32_517 : BitVec 32 := 2#32
  let v713 : BitVec 32 := Scalar.shrui v712 c2_i32_517
  let c0_i32_521 : BitVec 32 := 0#32
  ![v713.toNat, 0]

def k0_chk102 (v631 : BitVec 32) (v712 : BitVec 32) : Prop :=
  (∀ (k0_h1 : k0_cond1 v631 = 1#1), ∀ a, (k0_off204 v712) a + S1x256.size a ≤ S250000x256.size a)
theorem k0_off204_inb : ∀ (v631 : BitVec 32) (v712 : BitVec 32) (k0_hw102 : k0_chk102 v631 v712), ∀ (k0_h1 : k0_cond1 v631 = 1#1), ∀ a, (k0_off204 v712) a + S1x256.size a ≤ S250000x256.size a := fun v631 v712 k0_hw102 k0_h1 => k0_hw102 k0_h1

def k0_off205 (v631 : BitVec 32) (v663 : BitVec 32) (k0_t5 : Fin (k0_t5_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v723 : Index := Scalar.indexCast v636
  let c0_i32_464 : BitVec 32 := 0#32
  let c1_i32_465 : BitVec 32 := 1#32
  let v637 : BitVec 32 := Scalar.select v635 c0_i32_464 c1_i32_465
  let c256_i32_524 : BitVec 32 := 256#32
  let v721 : BitVec 32 := Scalar.muli v637 c256_i32_524
  let c0_i32_493 : BitVec 32 := 0#32
  let c0_i32_494 : BitVec 32 := 0#32
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_522 : BitVec 32 := 16#32
  let v719 : BitVec 32 := Scalar.muli v679 c16_i32_522
  let c3_i32_523 : BitVec 32 := 3#32
  let v720 : BitVec 32 := Scalar.addi v719 c3_i32_523
  let v722 : BitVec 32 := Scalar.addi v721 v720
  let v724 : Index := Scalar.indexCast v722
  ![v723.toNat, v724.toNat]
def k0_off206 (v631 : BitVec 32) (v663 : BitVec 32) (k0_t5 : Fin (k0_t5_loop v631 v663).trips) : Fin 3 → Nat :=
  let c1_i32_526 : BitVec 32 := 1#32
  let c0_i32_493 : BitVec 32 := 0#32
  let c0_i32_494 : BitVec 32 := 0#32
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c0_i32_464 : BitVec 32 := 0#32
  let c1_i32_465 : BitVec 32 := 1#32
  let v637 : BitVec 32 := Scalar.select v635 c0_i32_464 c1_i32_465
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_522 : BitVec 32 := 16#32
  let v719 : BitVec 32 := Scalar.muli v679 c16_i32_522
  let c3_i32_523 : BitVec 32 := 3#32
  let v720 : BitVec 32 := Scalar.addi v719 c3_i32_523
  let c0_i32_528 : BitVec 32 := 0#32
  ![1, v720.toNat, 0]
def k0_off207 (v725 : BitVec 32) : Fin 2 → Nat :=
  let c2_i32_525 : BitVec 32 := 2#32
  let v726 : BitVec 32 := Scalar.shrui v725 c2_i32_525
  let c0_i32_529 : BitVec 32 := 0#32
  ![v726.toNat, 0]

def k0_chk103 (v631 : BitVec 32) (v725 : BitVec 32) : Prop :=
  (∀ (k0_h1 : k0_cond1 v631 = 1#1), ∀ a, (k0_off207 v725) a + S1x256.size a ≤ S250000x256.size a)
theorem k0_off207_inb : ∀ (v631 : BitVec 32) (v725 : BitVec 32) (k0_hw103 : k0_chk103 v631 v725), ∀ (k0_h1 : k0_cond1 v631 = 1#1), ∀ a, (k0_off207 v725) a + S1x256.size a ≤ S250000x256.size a := fun v631 v725 k0_hw103 k0_h1 => k0_hw103 k0_h1

def k0_off208 (v631 : BitVec 32) (v663 : BitVec 32) (k0_t5 : Fin (k0_t5_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v736 : Index := Scalar.indexCast v636
  let c0_i32_464 : BitVec 32 := 0#32
  let c1_i32_465 : BitVec 32 := 1#32
  let v637 : BitVec 32 := Scalar.select v635 c0_i32_464 c1_i32_465
  let c256_i32_532 : BitVec 32 := 256#32
  let v734 : BitVec 32 := Scalar.muli v637 c256_i32_532
  let c0_i32_493 : BitVec 32 := 0#32
  let c0_i32_494 : BitVec 32 := 0#32
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_530 : BitVec 32 := 16#32
  let v732 : BitVec 32 := Scalar.muli v679 c16_i32_530
  let c4_i32_531 : BitVec 32 := 4#32
  let v733 : BitVec 32 := Scalar.addi v732 c4_i32_531
  let v735 : BitVec 32 := Scalar.addi v734 v733
  let v737 : Index := Scalar.indexCast v735
  ![v736.toNat, v737.toNat]
def k0_off209 (v631 : BitVec 32) (v663 : BitVec 32) (k0_t5 : Fin (k0_t5_loop v631 v663).trips) : Fin 3 → Nat :=
  let c1_i32_534 : BitVec 32 := 1#32
  let c0_i32_493 : BitVec 32 := 0#32
  let c0_i32_494 : BitVec 32 := 0#32
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c0_i32_464 : BitVec 32 := 0#32
  let c1_i32_465 : BitVec 32 := 1#32
  let v637 : BitVec 32 := Scalar.select v635 c0_i32_464 c1_i32_465
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_530 : BitVec 32 := 16#32
  let v732 : BitVec 32 := Scalar.muli v679 c16_i32_530
  let c4_i32_531 : BitVec 32 := 4#32
  let v733 : BitVec 32 := Scalar.addi v732 c4_i32_531
  let c0_i32_536 : BitVec 32 := 0#32
  ![1, v733.toNat, 0]
def k0_off210 (v738 : BitVec 32) : Fin 2 → Nat :=
  let c2_i32_533 : BitVec 32 := 2#32
  let v739 : BitVec 32 := Scalar.shrui v738 c2_i32_533
  let c0_i32_537 : BitVec 32 := 0#32
  ![v739.toNat, 0]

def k0_chk104 (v631 : BitVec 32) (v738 : BitVec 32) : Prop :=
  (∀ (k0_h1 : k0_cond1 v631 = 1#1), ∀ a, (k0_off210 v738) a + S1x256.size a ≤ S250000x256.size a)
theorem k0_off210_inb : ∀ (v631 : BitVec 32) (v738 : BitVec 32) (k0_hw104 : k0_chk104 v631 v738), ∀ (k0_h1 : k0_cond1 v631 = 1#1), ∀ a, (k0_off210 v738) a + S1x256.size a ≤ S250000x256.size a := fun v631 v738 k0_hw104 k0_h1 => k0_hw104 k0_h1

def k0_off211 (v631 : BitVec 32) (v663 : BitVec 32) (k0_t5 : Fin (k0_t5_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v749 : Index := Scalar.indexCast v636
  let c0_i32_464 : BitVec 32 := 0#32
  let c1_i32_465 : BitVec 32 := 1#32
  let v637 : BitVec 32 := Scalar.select v635 c0_i32_464 c1_i32_465
  let c256_i32_540 : BitVec 32 := 256#32
  let v747 : BitVec 32 := Scalar.muli v637 c256_i32_540
  let c0_i32_493 : BitVec 32 := 0#32
  let c0_i32_494 : BitVec 32 := 0#32
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_538 : BitVec 32 := 16#32
  let v745 : BitVec 32 := Scalar.muli v679 c16_i32_538
  let c5_i32_539 : BitVec 32 := 5#32
  let v746 : BitVec 32 := Scalar.addi v745 c5_i32_539
  let v748 : BitVec 32 := Scalar.addi v747 v746
  let v750 : Index := Scalar.indexCast v748
  ![v749.toNat, v750.toNat]
def k0_off212 (v631 : BitVec 32) (v663 : BitVec 32) (k0_t5 : Fin (k0_t5_loop v631 v663).trips) : Fin 3 → Nat :=
  let c1_i32_542 : BitVec 32 := 1#32
  let c0_i32_493 : BitVec 32 := 0#32
  let c0_i32_494 : BitVec 32 := 0#32
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c0_i32_464 : BitVec 32 := 0#32
  let c1_i32_465 : BitVec 32 := 1#32
  let v637 : BitVec 32 := Scalar.select v635 c0_i32_464 c1_i32_465
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_538 : BitVec 32 := 16#32
  let v745 : BitVec 32 := Scalar.muli v679 c16_i32_538
  let c5_i32_539 : BitVec 32 := 5#32
  let v746 : BitVec 32 := Scalar.addi v745 c5_i32_539
  let c0_i32_544 : BitVec 32 := 0#32
  ![1, v746.toNat, 0]
def k0_off213 (v751 : BitVec 32) : Fin 2 → Nat :=
  let c2_i32_541 : BitVec 32 := 2#32
  let v752 : BitVec 32 := Scalar.shrui v751 c2_i32_541
  let c0_i32_545 : BitVec 32 := 0#32
  ![v752.toNat, 0]

def k0_chk105 (v631 : BitVec 32) (v751 : BitVec 32) : Prop :=
  (∀ (k0_h1 : k0_cond1 v631 = 1#1), ∀ a, (k0_off213 v751) a + S1x256.size a ≤ S250000x256.size a)
theorem k0_off213_inb : ∀ (v631 : BitVec 32) (v751 : BitVec 32) (k0_hw105 : k0_chk105 v631 v751), ∀ (k0_h1 : k0_cond1 v631 = 1#1), ∀ a, (k0_off213 v751) a + S1x256.size a ≤ S250000x256.size a := fun v631 v751 k0_hw105 k0_h1 => k0_hw105 k0_h1

def k0_off214 (v631 : BitVec 32) (v663 : BitVec 32) (k0_t5 : Fin (k0_t5_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v762 : Index := Scalar.indexCast v636
  let c0_i32_464 : BitVec 32 := 0#32
  let c1_i32_465 : BitVec 32 := 1#32
  let v637 : BitVec 32 := Scalar.select v635 c0_i32_464 c1_i32_465
  let c256_i32_548 : BitVec 32 := 256#32
  let v760 : BitVec 32 := Scalar.muli v637 c256_i32_548
  let c0_i32_493 : BitVec 32 := 0#32
  let c0_i32_494 : BitVec 32 := 0#32
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_546 : BitVec 32 := 16#32
  let v758 : BitVec 32 := Scalar.muli v679 c16_i32_546
  let c6_i32_547 : BitVec 32 := 6#32
  let v759 : BitVec 32 := Scalar.addi v758 c6_i32_547
  let v761 : BitVec 32 := Scalar.addi v760 v759
  let v763 : Index := Scalar.indexCast v761
  ![v762.toNat, v763.toNat]
def k0_off215 (v631 : BitVec 32) (v663 : BitVec 32) (k0_t5 : Fin (k0_t5_loop v631 v663).trips) : Fin 3 → Nat :=
  let c1_i32_550 : BitVec 32 := 1#32
  let c0_i32_493 : BitVec 32 := 0#32
  let c0_i32_494 : BitVec 32 := 0#32
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c0_i32_464 : BitVec 32 := 0#32
  let c1_i32_465 : BitVec 32 := 1#32
  let v637 : BitVec 32 := Scalar.select v635 c0_i32_464 c1_i32_465
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_546 : BitVec 32 := 16#32
  let v758 : BitVec 32 := Scalar.muli v679 c16_i32_546
  let c6_i32_547 : BitVec 32 := 6#32
  let v759 : BitVec 32 := Scalar.addi v758 c6_i32_547
  let c0_i32_552 : BitVec 32 := 0#32
  ![1, v759.toNat, 0]
def k0_off216 (v764 : BitVec 32) : Fin 2 → Nat :=
  let c2_i32_549 : BitVec 32 := 2#32
  let v765 : BitVec 32 := Scalar.shrui v764 c2_i32_549
  let c0_i32_553 : BitVec 32 := 0#32
  ![v765.toNat, 0]

def k0_chk106 (v631 : BitVec 32) (v764 : BitVec 32) : Prop :=
  (∀ (k0_h1 : k0_cond1 v631 = 1#1), ∀ a, (k0_off216 v764) a + S1x256.size a ≤ S250000x256.size a)
theorem k0_off216_inb : ∀ (v631 : BitVec 32) (v764 : BitVec 32) (k0_hw106 : k0_chk106 v631 v764), ∀ (k0_h1 : k0_cond1 v631 = 1#1), ∀ a, (k0_off216 v764) a + S1x256.size a ≤ S250000x256.size a := fun v631 v764 k0_hw106 k0_h1 => k0_hw106 k0_h1

def k0_off217 (v631 : BitVec 32) (v663 : BitVec 32) (k0_t5 : Fin (k0_t5_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v775 : Index := Scalar.indexCast v636
  let c0_i32_464 : BitVec 32 := 0#32
  let c1_i32_465 : BitVec 32 := 1#32
  let v637 : BitVec 32 := Scalar.select v635 c0_i32_464 c1_i32_465
  let c256_i32_556 : BitVec 32 := 256#32
  let v773 : BitVec 32 := Scalar.muli v637 c256_i32_556
  let c0_i32_493 : BitVec 32 := 0#32
  let c0_i32_494 : BitVec 32 := 0#32
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_554 : BitVec 32 := 16#32
  let v771 : BitVec 32 := Scalar.muli v679 c16_i32_554
  let c7_i32_555 : BitVec 32 := 7#32
  let v772 : BitVec 32 := Scalar.addi v771 c7_i32_555
  let v774 : BitVec 32 := Scalar.addi v773 v772
  let v776 : Index := Scalar.indexCast v774
  ![v775.toNat, v776.toNat]
def k0_off218 (v631 : BitVec 32) (v663 : BitVec 32) (k0_t5 : Fin (k0_t5_loop v631 v663).trips) : Fin 3 → Nat :=
  let c1_i32_558 : BitVec 32 := 1#32
  let c0_i32_493 : BitVec 32 := 0#32
  let c0_i32_494 : BitVec 32 := 0#32
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c0_i32_464 : BitVec 32 := 0#32
  let c1_i32_465 : BitVec 32 := 1#32
  let v637 : BitVec 32 := Scalar.select v635 c0_i32_464 c1_i32_465
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_554 : BitVec 32 := 16#32
  let v771 : BitVec 32 := Scalar.muli v679 c16_i32_554
  let c7_i32_555 : BitVec 32 := 7#32
  let v772 : BitVec 32 := Scalar.addi v771 c7_i32_555
  let c0_i32_560 : BitVec 32 := 0#32
  ![1, v772.toNat, 0]
def k0_off219 (v777 : BitVec 32) : Fin 2 → Nat :=
  let c2_i32_557 : BitVec 32 := 2#32
  let v778 : BitVec 32 := Scalar.shrui v777 c2_i32_557
  let c0_i32_561 : BitVec 32 := 0#32
  ![v778.toNat, 0]

def k0_chk107 (v631 : BitVec 32) (v777 : BitVec 32) : Prop :=
  (∀ (k0_h1 : k0_cond1 v631 = 1#1), ∀ a, (k0_off219 v777) a + S1x256.size a ≤ S250000x256.size a)
theorem k0_off219_inb : ∀ (v631 : BitVec 32) (v777 : BitVec 32) (k0_hw107 : k0_chk107 v631 v777), ∀ (k0_h1 : k0_cond1 v631 = 1#1), ∀ a, (k0_off219 v777) a + S1x256.size a ≤ S250000x256.size a := fun v631 v777 k0_hw107 k0_h1 => k0_hw107 k0_h1

def k0_off220 (v631 : BitVec 32) (v663 : BitVec 32) (k0_t5 : Fin (k0_t5_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v788 : Index := Scalar.indexCast v636
  let c0_i32_464 : BitVec 32 := 0#32
  let c1_i32_465 : BitVec 32 := 1#32
  let v637 : BitVec 32 := Scalar.select v635 c0_i32_464 c1_i32_465
  let c256_i32_564 : BitVec 32 := 256#32
  let v786 : BitVec 32 := Scalar.muli v637 c256_i32_564
  let c0_i32_493 : BitVec 32 := 0#32
  let c0_i32_494 : BitVec 32 := 0#32
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_562 : BitVec 32 := 16#32
  let v784 : BitVec 32 := Scalar.muli v679 c16_i32_562
  let c8_i32_563 : BitVec 32 := 8#32
  let v785 : BitVec 32 := Scalar.addi v784 c8_i32_563
  let v787 : BitVec 32 := Scalar.addi v786 v785
  let v789 : Index := Scalar.indexCast v787
  ![v788.toNat, v789.toNat]
def k0_off221 (v631 : BitVec 32) (v663 : BitVec 32) (k0_t5 : Fin (k0_t5_loop v631 v663).trips) : Fin 3 → Nat :=
  let c1_i32_566 : BitVec 32 := 1#32
  let c0_i32_493 : BitVec 32 := 0#32
  let c0_i32_494 : BitVec 32 := 0#32
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c0_i32_464 : BitVec 32 := 0#32
  let c1_i32_465 : BitVec 32 := 1#32
  let v637 : BitVec 32 := Scalar.select v635 c0_i32_464 c1_i32_465
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_562 : BitVec 32 := 16#32
  let v784 : BitVec 32 := Scalar.muli v679 c16_i32_562
  let c8_i32_563 : BitVec 32 := 8#32
  let v785 : BitVec 32 := Scalar.addi v784 c8_i32_563
  let c0_i32_568 : BitVec 32 := 0#32
  ![1, v785.toNat, 0]
def k0_off222 (v790 : BitVec 32) : Fin 2 → Nat :=
  let c2_i32_565 : BitVec 32 := 2#32
  let v791 : BitVec 32 := Scalar.shrui v790 c2_i32_565
  let c0_i32_569 : BitVec 32 := 0#32
  ![v791.toNat, 0]

def k0_chk108 (v631 : BitVec 32) (v790 : BitVec 32) : Prop :=
  (∀ (k0_h1 : k0_cond1 v631 = 1#1), ∀ a, (k0_off222 v790) a + S1x256.size a ≤ S250000x256.size a)
theorem k0_off222_inb : ∀ (v631 : BitVec 32) (v790 : BitVec 32) (k0_hw108 : k0_chk108 v631 v790), ∀ (k0_h1 : k0_cond1 v631 = 1#1), ∀ a, (k0_off222 v790) a + S1x256.size a ≤ S250000x256.size a := fun v631 v790 k0_hw108 k0_h1 => k0_hw108 k0_h1

def k0_off223 (v631 : BitVec 32) (v663 : BitVec 32) (k0_t5 : Fin (k0_t5_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v801 : Index := Scalar.indexCast v636
  let c0_i32_464 : BitVec 32 := 0#32
  let c1_i32_465 : BitVec 32 := 1#32
  let v637 : BitVec 32 := Scalar.select v635 c0_i32_464 c1_i32_465
  let c256_i32_572 : BitVec 32 := 256#32
  let v799 : BitVec 32 := Scalar.muli v637 c256_i32_572
  let c0_i32_493 : BitVec 32 := 0#32
  let c0_i32_494 : BitVec 32 := 0#32
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_570 : BitVec 32 := 16#32
  let v797 : BitVec 32 := Scalar.muli v679 c16_i32_570
  let c9_i32_571 : BitVec 32 := 9#32
  let v798 : BitVec 32 := Scalar.addi v797 c9_i32_571
  let v800 : BitVec 32 := Scalar.addi v799 v798
  let v802 : Index := Scalar.indexCast v800
  ![v801.toNat, v802.toNat]
def k0_off224 (v631 : BitVec 32) (v663 : BitVec 32) (k0_t5 : Fin (k0_t5_loop v631 v663).trips) : Fin 3 → Nat :=
  let c1_i32_574 : BitVec 32 := 1#32
  let c0_i32_493 : BitVec 32 := 0#32
  let c0_i32_494 : BitVec 32 := 0#32
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c0_i32_464 : BitVec 32 := 0#32
  let c1_i32_465 : BitVec 32 := 1#32
  let v637 : BitVec 32 := Scalar.select v635 c0_i32_464 c1_i32_465
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_570 : BitVec 32 := 16#32
  let v797 : BitVec 32 := Scalar.muli v679 c16_i32_570
  let c9_i32_571 : BitVec 32 := 9#32
  let v798 : BitVec 32 := Scalar.addi v797 c9_i32_571
  let c0_i32_576 : BitVec 32 := 0#32
  ![1, v798.toNat, 0]
def k0_off225 (v803 : BitVec 32) : Fin 2 → Nat :=
  let c2_i32_573 : BitVec 32 := 2#32
  let v804 : BitVec 32 := Scalar.shrui v803 c2_i32_573
  let c0_i32_577 : BitVec 32 := 0#32
  ![v804.toNat, 0]

def k0_chk109 (v631 : BitVec 32) (v803 : BitVec 32) : Prop :=
  (∀ (k0_h1 : k0_cond1 v631 = 1#1), ∀ a, (k0_off225 v803) a + S1x256.size a ≤ S250000x256.size a)
theorem k0_off225_inb : ∀ (v631 : BitVec 32) (v803 : BitVec 32) (k0_hw109 : k0_chk109 v631 v803), ∀ (k0_h1 : k0_cond1 v631 = 1#1), ∀ a, (k0_off225 v803) a + S1x256.size a ≤ S250000x256.size a := fun v631 v803 k0_hw109 k0_h1 => k0_hw109 k0_h1

def k0_off226 (v631 : BitVec 32) (v663 : BitVec 32) (k0_t5 : Fin (k0_t5_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v814 : Index := Scalar.indexCast v636
  let c0_i32_464 : BitVec 32 := 0#32
  let c1_i32_465 : BitVec 32 := 1#32
  let v637 : BitVec 32 := Scalar.select v635 c0_i32_464 c1_i32_465
  let c256_i32_580 : BitVec 32 := 256#32
  let v812 : BitVec 32 := Scalar.muli v637 c256_i32_580
  let c0_i32_493 : BitVec 32 := 0#32
  let c0_i32_494 : BitVec 32 := 0#32
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_578 : BitVec 32 := 16#32
  let v810 : BitVec 32 := Scalar.muli v679 c16_i32_578
  let c10_i32_579 : BitVec 32 := 10#32
  let v811 : BitVec 32 := Scalar.addi v810 c10_i32_579
  let v813 : BitVec 32 := Scalar.addi v812 v811
  let v815 : Index := Scalar.indexCast v813
  ![v814.toNat, v815.toNat]
def k0_off227 (v631 : BitVec 32) (v663 : BitVec 32) (k0_t5 : Fin (k0_t5_loop v631 v663).trips) : Fin 3 → Nat :=
  let c1_i32_582 : BitVec 32 := 1#32
  let c0_i32_493 : BitVec 32 := 0#32
  let c0_i32_494 : BitVec 32 := 0#32
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c0_i32_464 : BitVec 32 := 0#32
  let c1_i32_465 : BitVec 32 := 1#32
  let v637 : BitVec 32 := Scalar.select v635 c0_i32_464 c1_i32_465
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_578 : BitVec 32 := 16#32
  let v810 : BitVec 32 := Scalar.muli v679 c16_i32_578
  let c10_i32_579 : BitVec 32 := 10#32
  let v811 : BitVec 32 := Scalar.addi v810 c10_i32_579
  let c0_i32_584 : BitVec 32 := 0#32
  ![1, v811.toNat, 0]
def k0_off228 (v816 : BitVec 32) : Fin 2 → Nat :=
  let c2_i32_581 : BitVec 32 := 2#32
  let v817 : BitVec 32 := Scalar.shrui v816 c2_i32_581
  let c0_i32_585 : BitVec 32 := 0#32
  ![v817.toNat, 0]

def k0_chk110 (v631 : BitVec 32) (v816 : BitVec 32) : Prop :=
  (∀ (k0_h1 : k0_cond1 v631 = 1#1), ∀ a, (k0_off228 v816) a + S1x256.size a ≤ S250000x256.size a)
theorem k0_off228_inb : ∀ (v631 : BitVec 32) (v816 : BitVec 32) (k0_hw110 : k0_chk110 v631 v816), ∀ (k0_h1 : k0_cond1 v631 = 1#1), ∀ a, (k0_off228 v816) a + S1x256.size a ≤ S250000x256.size a := fun v631 v816 k0_hw110 k0_h1 => k0_hw110 k0_h1

def k0_off229 (v631 : BitVec 32) (v663 : BitVec 32) (k0_t5 : Fin (k0_t5_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v827 : Index := Scalar.indexCast v636
  let c0_i32_464 : BitVec 32 := 0#32
  let c1_i32_465 : BitVec 32 := 1#32
  let v637 : BitVec 32 := Scalar.select v635 c0_i32_464 c1_i32_465
  let c256_i32_588 : BitVec 32 := 256#32
  let v825 : BitVec 32 := Scalar.muli v637 c256_i32_588
  let c0_i32_493 : BitVec 32 := 0#32
  let c0_i32_494 : BitVec 32 := 0#32
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_586 : BitVec 32 := 16#32
  let v823 : BitVec 32 := Scalar.muli v679 c16_i32_586
  let c11_i32_587 : BitVec 32 := 11#32
  let v824 : BitVec 32 := Scalar.addi v823 c11_i32_587
  let v826 : BitVec 32 := Scalar.addi v825 v824
  let v828 : Index := Scalar.indexCast v826
  ![v827.toNat, v828.toNat]
def k0_off230 (v631 : BitVec 32) (v663 : BitVec 32) (k0_t5 : Fin (k0_t5_loop v631 v663).trips) : Fin 3 → Nat :=
  let c1_i32_590 : BitVec 32 := 1#32
  let c0_i32_493 : BitVec 32 := 0#32
  let c0_i32_494 : BitVec 32 := 0#32
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c0_i32_464 : BitVec 32 := 0#32
  let c1_i32_465 : BitVec 32 := 1#32
  let v637 : BitVec 32 := Scalar.select v635 c0_i32_464 c1_i32_465
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_586 : BitVec 32 := 16#32
  let v823 : BitVec 32 := Scalar.muli v679 c16_i32_586
  let c11_i32_587 : BitVec 32 := 11#32
  let v824 : BitVec 32 := Scalar.addi v823 c11_i32_587
  let c0_i32_592 : BitVec 32 := 0#32
  ![1, v824.toNat, 0]
def k0_off231 (v829 : BitVec 32) : Fin 2 → Nat :=
  let c2_i32_589 : BitVec 32 := 2#32
  let v830 : BitVec 32 := Scalar.shrui v829 c2_i32_589
  let c0_i32_593 : BitVec 32 := 0#32
  ![v830.toNat, 0]

def k0_chk111 (v631 : BitVec 32) (v829 : BitVec 32) : Prop :=
  (∀ (k0_h1 : k0_cond1 v631 = 1#1), ∀ a, (k0_off231 v829) a + S1x256.size a ≤ S250000x256.size a)
theorem k0_off231_inb : ∀ (v631 : BitVec 32) (v829 : BitVec 32) (k0_hw111 : k0_chk111 v631 v829), ∀ (k0_h1 : k0_cond1 v631 = 1#1), ∀ a, (k0_off231 v829) a + S1x256.size a ≤ S250000x256.size a := fun v631 v829 k0_hw111 k0_h1 => k0_hw111 k0_h1

def k0_off232 (v631 : BitVec 32) (v663 : BitVec 32) (k0_t5 : Fin (k0_t5_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v840 : Index := Scalar.indexCast v636
  let c0_i32_464 : BitVec 32 := 0#32
  let c1_i32_465 : BitVec 32 := 1#32
  let v637 : BitVec 32 := Scalar.select v635 c0_i32_464 c1_i32_465
  let c256_i32_596 : BitVec 32 := 256#32
  let v838 : BitVec 32 := Scalar.muli v637 c256_i32_596
  let c0_i32_493 : BitVec 32 := 0#32
  let c0_i32_494 : BitVec 32 := 0#32
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_594 : BitVec 32 := 16#32
  let v836 : BitVec 32 := Scalar.muli v679 c16_i32_594
  let c12_i32_595 : BitVec 32 := 12#32
  let v837 : BitVec 32 := Scalar.addi v836 c12_i32_595
  let v839 : BitVec 32 := Scalar.addi v838 v837
  let v841 : Index := Scalar.indexCast v839
  ![v840.toNat, v841.toNat]
def k0_off233 (v631 : BitVec 32) (v663 : BitVec 32) (k0_t5 : Fin (k0_t5_loop v631 v663).trips) : Fin 3 → Nat :=
  let c1_i32_598 : BitVec 32 := 1#32
  let c0_i32_493 : BitVec 32 := 0#32
  let c0_i32_494 : BitVec 32 := 0#32
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c0_i32_464 : BitVec 32 := 0#32
  let c1_i32_465 : BitVec 32 := 1#32
  let v637 : BitVec 32 := Scalar.select v635 c0_i32_464 c1_i32_465
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_594 : BitVec 32 := 16#32
  let v836 : BitVec 32 := Scalar.muli v679 c16_i32_594
  let c12_i32_595 : BitVec 32 := 12#32
  let v837 : BitVec 32 := Scalar.addi v836 c12_i32_595
  let c0_i32_600 : BitVec 32 := 0#32
  ![1, v837.toNat, 0]
def k0_off234 (v842 : BitVec 32) : Fin 2 → Nat :=
  let c2_i32_597 : BitVec 32 := 2#32
  let v843 : BitVec 32 := Scalar.shrui v842 c2_i32_597
  let c0_i32_601 : BitVec 32 := 0#32
  ![v843.toNat, 0]

def k0_chk112 (v631 : BitVec 32) (v842 : BitVec 32) : Prop :=
  (∀ (k0_h1 : k0_cond1 v631 = 1#1), ∀ a, (k0_off234 v842) a + S1x256.size a ≤ S250000x256.size a)
theorem k0_off234_inb : ∀ (v631 : BitVec 32) (v842 : BitVec 32) (k0_hw112 : k0_chk112 v631 v842), ∀ (k0_h1 : k0_cond1 v631 = 1#1), ∀ a, (k0_off234 v842) a + S1x256.size a ≤ S250000x256.size a := fun v631 v842 k0_hw112 k0_h1 => k0_hw112 k0_h1

def k0_off235 (v631 : BitVec 32) (v663 : BitVec 32) (k0_t5 : Fin (k0_t5_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v853 : Index := Scalar.indexCast v636
  let c0_i32_464 : BitVec 32 := 0#32
  let c1_i32_465 : BitVec 32 := 1#32
  let v637 : BitVec 32 := Scalar.select v635 c0_i32_464 c1_i32_465
  let c256_i32_604 : BitVec 32 := 256#32
  let v851 : BitVec 32 := Scalar.muli v637 c256_i32_604
  let c0_i32_493 : BitVec 32 := 0#32
  let c0_i32_494 : BitVec 32 := 0#32
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_602 : BitVec 32 := 16#32
  let v849 : BitVec 32 := Scalar.muli v679 c16_i32_602
  let c13_i32_603 : BitVec 32 := 13#32
  let v850 : BitVec 32 := Scalar.addi v849 c13_i32_603
  let v852 : BitVec 32 := Scalar.addi v851 v850
  let v854 : Index := Scalar.indexCast v852
  ![v853.toNat, v854.toNat]
def k0_off236 (v631 : BitVec 32) (v663 : BitVec 32) (k0_t5 : Fin (k0_t5_loop v631 v663).trips) : Fin 3 → Nat :=
  let c1_i32_606 : BitVec 32 := 1#32
  let c0_i32_493 : BitVec 32 := 0#32
  let c0_i32_494 : BitVec 32 := 0#32
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c0_i32_464 : BitVec 32 := 0#32
  let c1_i32_465 : BitVec 32 := 1#32
  let v637 : BitVec 32 := Scalar.select v635 c0_i32_464 c1_i32_465
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_602 : BitVec 32 := 16#32
  let v849 : BitVec 32 := Scalar.muli v679 c16_i32_602
  let c13_i32_603 : BitVec 32 := 13#32
  let v850 : BitVec 32 := Scalar.addi v849 c13_i32_603
  let c0_i32_608 : BitVec 32 := 0#32
  ![1, v850.toNat, 0]
def k0_off237 (v855 : BitVec 32) : Fin 2 → Nat :=
  let c2_i32_605 : BitVec 32 := 2#32
  let v856 : BitVec 32 := Scalar.shrui v855 c2_i32_605
  let c0_i32_609 : BitVec 32 := 0#32
  ![v856.toNat, 0]

def k0_chk113 (v631 : BitVec 32) (v855 : BitVec 32) : Prop :=
  (∀ (k0_h1 : k0_cond1 v631 = 1#1), ∀ a, (k0_off237 v855) a + S1x256.size a ≤ S250000x256.size a)
theorem k0_off237_inb : ∀ (v631 : BitVec 32) (v855 : BitVec 32) (k0_hw113 : k0_chk113 v631 v855), ∀ (k0_h1 : k0_cond1 v631 = 1#1), ∀ a, (k0_off237 v855) a + S1x256.size a ≤ S250000x256.size a := fun v631 v855 k0_hw113 k0_h1 => k0_hw113 k0_h1

def k0_off238 (v631 : BitVec 32) (v663 : BitVec 32) (k0_t5 : Fin (k0_t5_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v866 : Index := Scalar.indexCast v636
  let c0_i32_464 : BitVec 32 := 0#32
  let c1_i32_465 : BitVec 32 := 1#32
  let v637 : BitVec 32 := Scalar.select v635 c0_i32_464 c1_i32_465
  let c256_i32_612 : BitVec 32 := 256#32
  let v864 : BitVec 32 := Scalar.muli v637 c256_i32_612
  let c0_i32_493 : BitVec 32 := 0#32
  let c0_i32_494 : BitVec 32 := 0#32
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_610 : BitVec 32 := 16#32
  let v862 : BitVec 32 := Scalar.muli v679 c16_i32_610
  let c14_i32_611 : BitVec 32 := 14#32
  let v863 : BitVec 32 := Scalar.addi v862 c14_i32_611
  let v865 : BitVec 32 := Scalar.addi v864 v863
  let v867 : Index := Scalar.indexCast v865
  ![v866.toNat, v867.toNat]
def k0_off239 (v631 : BitVec 32) (v663 : BitVec 32) (k0_t5 : Fin (k0_t5_loop v631 v663).trips) : Fin 3 → Nat :=
  let c1_i32_614 : BitVec 32 := 1#32
  let c0_i32_493 : BitVec 32 := 0#32
  let c0_i32_494 : BitVec 32 := 0#32
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c0_i32_464 : BitVec 32 := 0#32
  let c1_i32_465 : BitVec 32 := 1#32
  let v637 : BitVec 32 := Scalar.select v635 c0_i32_464 c1_i32_465
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_610 : BitVec 32 := 16#32
  let v862 : BitVec 32 := Scalar.muli v679 c16_i32_610
  let c14_i32_611 : BitVec 32 := 14#32
  let v863 : BitVec 32 := Scalar.addi v862 c14_i32_611
  let c0_i32_616 : BitVec 32 := 0#32
  ![1, v863.toNat, 0]
def k0_off240 (v868 : BitVec 32) : Fin 2 → Nat :=
  let c2_i32_613 : BitVec 32 := 2#32
  let v869 : BitVec 32 := Scalar.shrui v868 c2_i32_613
  let c0_i32_617 : BitVec 32 := 0#32
  ![v869.toNat, 0]

def k0_chk114 (v631 : BitVec 32) (v868 : BitVec 32) : Prop :=
  (∀ (k0_h1 : k0_cond1 v631 = 1#1), ∀ a, (k0_off240 v868) a + S1x256.size a ≤ S250000x256.size a)
theorem k0_off240_inb : ∀ (v631 : BitVec 32) (v868 : BitVec 32) (k0_hw114 : k0_chk114 v631 v868), ∀ (k0_h1 : k0_cond1 v631 = 1#1), ∀ a, (k0_off240 v868) a + S1x256.size a ≤ S250000x256.size a := fun v631 v868 k0_hw114 k0_h1 => k0_hw114 k0_h1

def k0_off241 (v631 : BitVec 32) (v663 : BitVec 32) (k0_t5 : Fin (k0_t5_loop v631 v663).trips) : Fin 2 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let v879 : Index := Scalar.indexCast v636
  let c0_i32_464 : BitVec 32 := 0#32
  let c1_i32_465 : BitVec 32 := 1#32
  let v637 : BitVec 32 := Scalar.select v635 c0_i32_464 c1_i32_465
  let c256_i32_620 : BitVec 32 := 256#32
  let v877 : BitVec 32 := Scalar.muli v637 c256_i32_620
  let c0_i32_493 : BitVec 32 := 0#32
  let c0_i32_494 : BitVec 32 := 0#32
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_618 : BitVec 32 := 16#32
  let v875 : BitVec 32 := Scalar.muli v679 c16_i32_618
  let c15_i32_619 : BitVec 32 := 15#32
  let v876 : BitVec 32 := Scalar.addi v875 c15_i32_619
  let v878 : BitVec 32 := Scalar.addi v877 v876
  let v880 : Index := Scalar.indexCast v878
  ![v879.toNat, v880.toNat]
def k0_off242 (v631 : BitVec 32) (v663 : BitVec 32) (k0_t5 : Fin (k0_t5_loop v631 v663).trips) : Fin 3 → Nat :=
  let c1_i32_622 : BitVec 32 := 1#32
  let c0_i32_493 : BitVec 32 := 0#32
  let c0_i32_494 : BitVec 32 := 0#32
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c0_i32_464 : BitVec 32 := 0#32
  let c1_i32_465 : BitVec 32 := 1#32
  let v637 : BitVec 32 := Scalar.select v635 c0_i32_464 c1_i32_465
  let c256_i32_484 : BitVec 32 := 256#32
  let v664 : BitVec 32 := Scalar.muli v637 c256_i32_484
  let v665 : BitVec 32 := Scalar.subi v663 v664
  let c256_i32_485 : BitVec 32 := 256#32
  let v666 : BitVec 32 := Scalar.minsi v665 c256_i32_485
  let c15_i32_486 : BitVec 32 := 15#32
  let v667 : BitVec 32 := Scalar.addi v666 c15_i32_486
  let c16_i32_487 : BitVec 32 := 16#32
  let v668 : BitVec 32 := Scalar.divsi v667 c16_i32_487
  let c0_i32_488 : BitVec 32 := 0#32
  let v669 : BitVec 32 := Scalar.subi v668 c0_i32_488
  let c1_i32_489 : BitVec 32 := 1#32
  let c1_i32_490 : BitVec 32 := 1#32
  let v670 : BitVec 32 := Scalar.subi c1_i32_489 c1_i32_490
  let v671 : BitVec 32 := Scalar.addi v669 v670
  let c1_i32_491 : BitVec 32 := 1#32
  let v672 : BitVec 32 := Scalar.divsi v671 c1_i32_491
  let v673 : BitVec 32 := Scalar.subi v672 c0_i32_494
  let c1_i32_495 : BitVec 32 := 1#32
  let v675 : BitVec 32 := Scalar.divsi v673 c1_i32_495
  let v676 : BitVec 32 := Scalar.muli v675 c1_i32_495
  let v677 : BitVec 32 := Scalar.addi c0_i32_494 v676
  let c1_i32_497 : BitVec 32 := 1#32
  let arg24 : BitVec 32 := Scf.iv v677 c1_i32_497 k0_t5
  let c1_i32_492 : BitVec 32 := 1#32
  let v678 : BitVec 32 := Scalar.muli arg24 c1_i32_492
  let v679 : BitVec 32 := Scalar.addi c0_i32_493 v678
  let c16_i32_618 : BitVec 32 := 16#32
  let v875 : BitVec 32 := Scalar.muli v679 c16_i32_618
  let c15_i32_619 : BitVec 32 := 15#32
  let v876 : BitVec 32 := Scalar.addi v875 c15_i32_619
  let c0_i32_624 : BitVec 32 := 0#32
  ![1, v876.toNat, 0]

def k0_chk83_0 (v631 : BitVec 32) (v663 : BitVec 32) : Prop :=
  (∀ (k0_h1 : k0_cond1 v631 = 1#1), (k0_t4_loop v631 v663).OK) ∧
  (∀ k0_t4 : Fin (k0_t4_loop v631 v663).trips, ∀ (k0_h1 : k0_cond1 v631 = 1#1), ∀ a, (k0_off148 v631 v663 k0_t4) a + S1x1.size a ≤ S24x1536.size a) ∧
  (∀ k0_t4 : Fin (k0_t4_loop v631 v663).trips, ∀ (k0_h1 : k0_cond1 v631 = 1#1), ∀ a, (k0_off149 v631 v663 k0_t4) a + S1x1x256.size a ≤ S3x256x256.size a) ∧
  (∀ k0_t4 : Fin (k0_t4_loop v631 v663).trips, ∀ (k0_h1 : k0_cond1 v631 = 1#1), ∀ a, (k0_off151 v631 v663 k0_t4) a + S1x1.size a ≤ S24x1536.size a) ∧
  (∀ k0_t4 : Fin (k0_t4_loop v631 v663).trips, ∀ (k0_h1 : k0_cond1 v631 = 1#1), ∀ a, (k0_off152 v631 v663 k0_t4) a + S1x1x256.size a ≤ S3x256x256.size a) ∧
  (∀ k0_t4 : Fin (k0_t4_loop v631 v663).trips, ∀ (k0_h1 : k0_cond1 v631 = 1#1), ∀ a, (k0_off154 v631 v663 k0_t4) a + S1x1.size a ≤ S24x1536.size a) ∧
  (∀ k0_t4 : Fin (k0_t4_loop v631 v663).trips, ∀ (k0_h1 : k0_cond1 v631 = 1#1), ∀ a, (k0_off155 v631 v663 k0_t4) a + S1x1x256.size a ≤ S3x256x256.size a) ∧
  (∀ k0_t4 : Fin (k0_t4_loop v631 v663).trips, ∀ (k0_h1 : k0_cond1 v631 = 1#1), ∀ a, (k0_off157 v631 v663 k0_t4) a + S1x1.size a ≤ S24x1536.size a) ∧
  (∀ k0_t4 : Fin (k0_t4_loop v631 v663).trips, ∀ (k0_h1 : k0_cond1 v631 = 1#1), ∀ a, (k0_off158 v631 v663 k0_t4) a + S1x1x256.size a ≤ S3x256x256.size a) ∧
  (∀ k0_t4 : Fin (k0_t4_loop v631 v663).trips, ∀ (k0_h1 : k0_cond1 v631 = 1#1), ∀ a, (k0_off160 v631 v663 k0_t4) a + S1x1.size a ≤ S24x1536.size a) ∧
  (∀ k0_t4 : Fin (k0_t4_loop v631 v663).trips, ∀ (k0_h1 : k0_cond1 v631 = 1#1), ∀ a, (k0_off161 v631 v663 k0_t4) a + S1x1x256.size a ≤ S3x256x256.size a) ∧
  (∀ k0_t4 : Fin (k0_t4_loop v631 v663).trips, ∀ (k0_h1 : k0_cond1 v631 = 1#1), ∀ a, (k0_off163 v631 v663 k0_t4) a + S1x1.size a ≤ S24x1536.size a) ∧
  (∀ k0_t4 : Fin (k0_t4_loop v631 v663).trips, ∀ (k0_h1 : k0_cond1 v631 = 1#1), ∀ a, (k0_off164 v631 v663 k0_t4) a + S1x1x256.size a ≤ S3x256x256.size a) ∧
  (∀ k0_t4 : Fin (k0_t4_loop v631 v663).trips, ∀ (k0_h1 : k0_cond1 v631 = 1#1), ∀ a, (k0_off166 v631 v663 k0_t4) a + S1x1.size a ≤ S24x1536.size a) ∧
  (∀ k0_t4 : Fin (k0_t4_loop v631 v663).trips, ∀ (k0_h1 : k0_cond1 v631 = 1#1), ∀ a, (k0_off167 v631 v663 k0_t4) a + S1x1x256.size a ≤ S3x256x256.size a) ∧
  (∀ k0_t4 : Fin (k0_t4_loop v631 v663).trips, ∀ (k0_h1 : k0_cond1 v631 = 1#1), ∀ a, (k0_off169 v631 v663 k0_t4) a + S1x1.size a ≤ S24x1536.size a) ∧
  (∀ k0_t4 : Fin (k0_t4_loop v631 v663).trips, ∀ (k0_h1 : k0_cond1 v631 = 1#1), ∀ a, (k0_off170 v631 v663 k0_t4) a + S1x1x256.size a ≤ S3x256x256.size a) ∧
  (∀ k0_t4 : Fin (k0_t4_loop v631 v663).trips, ∀ (k0_h1 : k0_cond1 v631 = 1#1), ∀ a, (k0_off172 v631 v663 k0_t4) a + S1x1.size a ≤ S24x1536.size a) ∧
  (∀ k0_t4 : Fin (k0_t4_loop v631 v663).trips, ∀ (k0_h1 : k0_cond1 v631 = 1#1), ∀ a, (k0_off173 v631 v663 k0_t4) a + S1x1x256.size a ≤ S3x256x256.size a) ∧
  (∀ k0_t4 : Fin (k0_t4_loop v631 v663).trips, ∀ (k0_h1 : k0_cond1 v631 = 1#1), ∀ a, (k0_off175 v631 v663 k0_t4) a + S1x1.size a ≤ S24x1536.size a) ∧
  (∀ k0_t4 : Fin (k0_t4_loop v631 v663).trips, ∀ (k0_h1 : k0_cond1 v631 = 1#1), ∀ a, (k0_off176 v631 v663 k0_t4) a + S1x1x256.size a ≤ S3x256x256.size a) ∧
  (∀ k0_t4 : Fin (k0_t4_loop v631 v663).trips, ∀ (k0_h1 : k0_cond1 v631 = 1#1), ∀ a, (k0_off178 v631 v663 k0_t4) a + S1x1.size a ≤ S24x1536.size a) ∧
  (∀ k0_t4 : Fin (k0_t4_loop v631 v663).trips, ∀ (k0_h1 : k0_cond1 v631 = 1#1), ∀ a, (k0_off179 v631 v663 k0_t4) a + S1x1x256.size a ≤ S3x256x256.size a) ∧
  (∀ k0_t4 : Fin (k0_t4_loop v631 v663).trips, ∀ (k0_h1 : k0_cond1 v631 = 1#1), ∀ a, (k0_off181 v631 v663 k0_t4) a + S1x1.size a ≤ S24x1536.size a) ∧
  (∀ k0_t4 : Fin (k0_t4_loop v631 v663).trips, ∀ (k0_h1 : k0_cond1 v631 = 1#1), ∀ a, (k0_off182 v631 v663 k0_t4) a + S1x1x256.size a ≤ S3x256x256.size a) ∧
  (∀ k0_t4 : Fin (k0_t4_loop v631 v663).trips, ∀ (k0_h1 : k0_cond1 v631 = 1#1), ∀ a, (k0_off184 v631 v663 k0_t4) a + S1x1.size a ≤ S24x1536.size a) ∧
  (∀ k0_t4 : Fin (k0_t4_loop v631 v663).trips, ∀ (k0_h1 : k0_cond1 v631 = 1#1), ∀ a, (k0_off185 v631 v663 k0_t4) a + S1x1x256.size a ≤ S3x256x256.size a) ∧
  (∀ k0_t4 : Fin (k0_t4_loop v631 v663).trips, ∀ (k0_h1 : k0_cond1 v631 = 1#1), ∀ a, (k0_off187 v631 v663 k0_t4) a + S1x1.size a ≤ S24x1536.size a) ∧
  (∀ k0_t4 : Fin (k0_t4_loop v631 v663).trips, ∀ (k0_h1 : k0_cond1 v631 = 1#1), ∀ a, (k0_off188 v631 v663 k0_t4) a + S1x1x256.size a ≤ S3x256x256.size a) ∧
  (∀ k0_t4 : Fin (k0_t4_loop v631 v663).trips, ∀ (k0_h1 : k0_cond1 v631 = 1#1), ∀ a, (k0_off190 v631 v663 k0_t4) a + S1x1.size a ≤ S24x1536.size a) ∧
  (∀ k0_t4 : Fin (k0_t4_loop v631 v663).trips, ∀ (k0_h1 : k0_cond1 v631 = 1#1), ∀ a, (k0_off191 v631 v663 k0_t4) a + S1x1x256.size a ≤ S3x256x256.size a) ∧
  (∀ k0_t4 : Fin (k0_t4_loop v631 v663).trips, ∀ (k0_h1 : k0_cond1 v631 = 1#1), ∀ a, (k0_off193 v631 v663 k0_t4) a + S1x1.size a ≤ S24x1536.size a)
def k0_chk83_1 (v631 : BitVec 32) (v663 : BitVec 32) : Prop :=
  (∀ k0_t4 : Fin (k0_t4_loop v631 v663).trips, ∀ (k0_h1 : k0_cond1 v631 = 1#1), ∀ a, (k0_off194 v631 v663 k0_t4) a + S1x1x256.size a ≤ S3x256x256.size a) ∧
  (∀ (k0_h1 : k0_cond1 v631 = 1#1), (k0_t5_loop v631 v663).OK) ∧
  (∀ k0_t5 : Fin (k0_t5_loop v631 v663).trips, ∀ (k0_h1 : k0_cond1 v631 = 1#1), ∀ a, (k0_off196 v631 v663 k0_t5) a + S1x1.size a ≤ S24x1536.size a) ∧
  (∀ k0_t5 : Fin (k0_t5_loop v631 v663).trips, ∀ (k0_h1 : k0_cond1 v631 = 1#1), ∀ a, (k0_off197 v631 v663 k0_t5) a + S1x1x256.size a ≤ S3x256x256.size a) ∧
  (∀ k0_t5 : Fin (k0_t5_loop v631 v663).trips, ∀ (k0_h1 : k0_cond1 v631 = 1#1), ∀ a, (k0_off199 v631 v663 k0_t5) a + S1x1.size a ≤ S24x1536.size a) ∧
  (∀ k0_t5 : Fin (k0_t5_loop v631 v663).trips, ∀ (k0_h1 : k0_cond1 v631 = 1#1), ∀ a, (k0_off200 v631 v663 k0_t5) a + S1x1x256.size a ≤ S3x256x256.size a) ∧
  (∀ k0_t5 : Fin (k0_t5_loop v631 v663).trips, ∀ (k0_h1 : k0_cond1 v631 = 1#1), ∀ a, (k0_off202 v631 v663 k0_t5) a + S1x1.size a ≤ S24x1536.size a) ∧
  (∀ k0_t5 : Fin (k0_t5_loop v631 v663).trips, ∀ (k0_h1 : k0_cond1 v631 = 1#1), ∀ a, (k0_off203 v631 v663 k0_t5) a + S1x1x256.size a ≤ S3x256x256.size a) ∧
  (∀ k0_t5 : Fin (k0_t5_loop v631 v663).trips, ∀ (k0_h1 : k0_cond1 v631 = 1#1), ∀ a, (k0_off205 v631 v663 k0_t5) a + S1x1.size a ≤ S24x1536.size a) ∧
  (∀ k0_t5 : Fin (k0_t5_loop v631 v663).trips, ∀ (k0_h1 : k0_cond1 v631 = 1#1), ∀ a, (k0_off206 v631 v663 k0_t5) a + S1x1x256.size a ≤ S3x256x256.size a) ∧
  (∀ k0_t5 : Fin (k0_t5_loop v631 v663).trips, ∀ (k0_h1 : k0_cond1 v631 = 1#1), ∀ a, (k0_off208 v631 v663 k0_t5) a + S1x1.size a ≤ S24x1536.size a) ∧
  (∀ k0_t5 : Fin (k0_t5_loop v631 v663).trips, ∀ (k0_h1 : k0_cond1 v631 = 1#1), ∀ a, (k0_off209 v631 v663 k0_t5) a + S1x1x256.size a ≤ S3x256x256.size a) ∧
  (∀ k0_t5 : Fin (k0_t5_loop v631 v663).trips, ∀ (k0_h1 : k0_cond1 v631 = 1#1), ∀ a, (k0_off211 v631 v663 k0_t5) a + S1x1.size a ≤ S24x1536.size a) ∧
  (∀ k0_t5 : Fin (k0_t5_loop v631 v663).trips, ∀ (k0_h1 : k0_cond1 v631 = 1#1), ∀ a, (k0_off212 v631 v663 k0_t5) a + S1x1x256.size a ≤ S3x256x256.size a) ∧
  (∀ k0_t5 : Fin (k0_t5_loop v631 v663).trips, ∀ (k0_h1 : k0_cond1 v631 = 1#1), ∀ a, (k0_off214 v631 v663 k0_t5) a + S1x1.size a ≤ S24x1536.size a) ∧
  (∀ k0_t5 : Fin (k0_t5_loop v631 v663).trips, ∀ (k0_h1 : k0_cond1 v631 = 1#1), ∀ a, (k0_off215 v631 v663 k0_t5) a + S1x1x256.size a ≤ S3x256x256.size a) ∧
  (∀ k0_t5 : Fin (k0_t5_loop v631 v663).trips, ∀ (k0_h1 : k0_cond1 v631 = 1#1), ∀ a, (k0_off217 v631 v663 k0_t5) a + S1x1.size a ≤ S24x1536.size a) ∧
  (∀ k0_t5 : Fin (k0_t5_loop v631 v663).trips, ∀ (k0_h1 : k0_cond1 v631 = 1#1), ∀ a, (k0_off218 v631 v663 k0_t5) a + S1x1x256.size a ≤ S3x256x256.size a) ∧
  (∀ k0_t5 : Fin (k0_t5_loop v631 v663).trips, ∀ (k0_h1 : k0_cond1 v631 = 1#1), ∀ a, (k0_off220 v631 v663 k0_t5) a + S1x1.size a ≤ S24x1536.size a) ∧
  (∀ k0_t5 : Fin (k0_t5_loop v631 v663).trips, ∀ (k0_h1 : k0_cond1 v631 = 1#1), ∀ a, (k0_off221 v631 v663 k0_t5) a + S1x1x256.size a ≤ S3x256x256.size a) ∧
  (∀ k0_t5 : Fin (k0_t5_loop v631 v663).trips, ∀ (k0_h1 : k0_cond1 v631 = 1#1), ∀ a, (k0_off223 v631 v663 k0_t5) a + S1x1.size a ≤ S24x1536.size a) ∧
  (∀ k0_t5 : Fin (k0_t5_loop v631 v663).trips, ∀ (k0_h1 : k0_cond1 v631 = 1#1), ∀ a, (k0_off224 v631 v663 k0_t5) a + S1x1x256.size a ≤ S3x256x256.size a) ∧
  (∀ k0_t5 : Fin (k0_t5_loop v631 v663).trips, ∀ (k0_h1 : k0_cond1 v631 = 1#1), ∀ a, (k0_off226 v631 v663 k0_t5) a + S1x1.size a ≤ S24x1536.size a) ∧
  (∀ k0_t5 : Fin (k0_t5_loop v631 v663).trips, ∀ (k0_h1 : k0_cond1 v631 = 1#1), ∀ a, (k0_off227 v631 v663 k0_t5) a + S1x1x256.size a ≤ S3x256x256.size a) ∧
  (∀ k0_t5 : Fin (k0_t5_loop v631 v663).trips, ∀ (k0_h1 : k0_cond1 v631 = 1#1), ∀ a, (k0_off229 v631 v663 k0_t5) a + S1x1.size a ≤ S24x1536.size a) ∧
  (∀ k0_t5 : Fin (k0_t5_loop v631 v663).trips, ∀ (k0_h1 : k0_cond1 v631 = 1#1), ∀ a, (k0_off230 v631 v663 k0_t5) a + S1x1x256.size a ≤ S3x256x256.size a) ∧
  (∀ k0_t5 : Fin (k0_t5_loop v631 v663).trips, ∀ (k0_h1 : k0_cond1 v631 = 1#1), ∀ a, (k0_off232 v631 v663 k0_t5) a + S1x1.size a ≤ S24x1536.size a) ∧
  (∀ k0_t5 : Fin (k0_t5_loop v631 v663).trips, ∀ (k0_h1 : k0_cond1 v631 = 1#1), ∀ a, (k0_off233 v631 v663 k0_t5) a + S1x1x256.size a ≤ S3x256x256.size a) ∧
  (∀ k0_t5 : Fin (k0_t5_loop v631 v663).trips, ∀ (k0_h1 : k0_cond1 v631 = 1#1), ∀ a, (k0_off235 v631 v663 k0_t5) a + S1x1.size a ≤ S24x1536.size a) ∧
  (∀ k0_t5 : Fin (k0_t5_loop v631 v663).trips, ∀ (k0_h1 : k0_cond1 v631 = 1#1), ∀ a, (k0_off236 v631 v663 k0_t5) a + S1x1x256.size a ≤ S3x256x256.size a) ∧
  (∀ k0_t5 : Fin (k0_t5_loop v631 v663).trips, ∀ (k0_h1 : k0_cond1 v631 = 1#1), ∀ a, (k0_off238 v631 v663 k0_t5) a + S1x1.size a ≤ S24x1536.size a) ∧
  (∀ k0_t5 : Fin (k0_t5_loop v631 v663).trips, ∀ (k0_h1 : k0_cond1 v631 = 1#1), ∀ a, (k0_off239 v631 v663 k0_t5) a + S1x1x256.size a ≤ S3x256x256.size a)
def k0_chk83_2 (v631 : BitVec 32) (v663 : BitVec 32) : Prop :=
  (∀ k0_t5 : Fin (k0_t5_loop v631 v663).trips, ∀ (k0_h1 : k0_cond1 v631 = 1#1), ∀ a, (k0_off241 v631 v663 k0_t5) a + S1x1.size a ≤ S24x1536.size a) ∧
  (∀ k0_t5 : Fin (k0_t5_loop v631 v663).trips, ∀ (k0_h1 : k0_cond1 v631 = 1#1), ∀ a, (k0_off242 v631 v663 k0_t5) a + S1x1x256.size a ≤ S3x256x256.size a)
def k0_chk83 (v631 : BitVec 32) (v663 : BitVec 32) : Prop :=
  k0_chk83_0 v631 v663 ∧
  k0_chk83_1 v631 v663 ∧
  k0_chk83_2 v631 v663
theorem k0_t4_ok : ∀ (v631 : BitVec 32) (v663 : BitVec 32) (k0_hw83 : k0_chk83 v631 v663), ∀ (k0_h1 : k0_cond1 v631 = 1#1), (k0_t4_loop v631 v663).OK := fun v631 v663 k0_hw83 k0_h1 => k0_hw83.1.1 k0_h1
theorem k0_off148_inb : ∀ (v631 : BitVec 32) (v663 : BitVec 32) (k0_hw83 : k0_chk83 v631 v663) (k0_t4 : Fin (k0_t4_loop v631 v663).trips), ∀ (k0_h1 : k0_cond1 v631 = 1#1), ∀ a, (k0_off148 v631 v663 k0_t4) a + S1x1.size a ≤ S24x1536.size a := fun v631 v663 k0_hw83 k0_t4 k0_h1 => k0_hw83.1.2.1 k0_t4 k0_h1
theorem k0_off149_inb : ∀ (v631 : BitVec 32) (v663 : BitVec 32) (k0_hw83 : k0_chk83 v631 v663) (k0_t4 : Fin (k0_t4_loop v631 v663).trips), ∀ (k0_h1 : k0_cond1 v631 = 1#1), ∀ a, (k0_off149 v631 v663 k0_t4) a + S1x1x256.size a ≤ S3x256x256.size a := fun v631 v663 k0_hw83 k0_t4 k0_h1 => k0_hw83.1.2.2.1 k0_t4 k0_h1
theorem k0_off151_inb : ∀ (v631 : BitVec 32) (v663 : BitVec 32) (k0_hw83 : k0_chk83 v631 v663) (k0_t4 : Fin (k0_t4_loop v631 v663).trips), ∀ (k0_h1 : k0_cond1 v631 = 1#1), ∀ a, (k0_off151 v631 v663 k0_t4) a + S1x1.size a ≤ S24x1536.size a := fun v631 v663 k0_hw83 k0_t4 k0_h1 => k0_hw83.1.2.2.2.1 k0_t4 k0_h1
theorem k0_off152_inb : ∀ (v631 : BitVec 32) (v663 : BitVec 32) (k0_hw83 : k0_chk83 v631 v663) (k0_t4 : Fin (k0_t4_loop v631 v663).trips), ∀ (k0_h1 : k0_cond1 v631 = 1#1), ∀ a, (k0_off152 v631 v663 k0_t4) a + S1x1x256.size a ≤ S3x256x256.size a := fun v631 v663 k0_hw83 k0_t4 k0_h1 => k0_hw83.1.2.2.2.2.1 k0_t4 k0_h1
theorem k0_off154_inb : ∀ (v631 : BitVec 32) (v663 : BitVec 32) (k0_hw83 : k0_chk83 v631 v663) (k0_t4 : Fin (k0_t4_loop v631 v663).trips), ∀ (k0_h1 : k0_cond1 v631 = 1#1), ∀ a, (k0_off154 v631 v663 k0_t4) a + S1x1.size a ≤ S24x1536.size a := fun v631 v663 k0_hw83 k0_t4 k0_h1 => k0_hw83.1.2.2.2.2.2.1 k0_t4 k0_h1
theorem k0_off155_inb : ∀ (v631 : BitVec 32) (v663 : BitVec 32) (k0_hw83 : k0_chk83 v631 v663) (k0_t4 : Fin (k0_t4_loop v631 v663).trips), ∀ (k0_h1 : k0_cond1 v631 = 1#1), ∀ a, (k0_off155 v631 v663 k0_t4) a + S1x1x256.size a ≤ S3x256x256.size a := fun v631 v663 k0_hw83 k0_t4 k0_h1 => k0_hw83.1.2.2.2.2.2.2.1 k0_t4 k0_h1
theorem k0_off157_inb : ∀ (v631 : BitVec 32) (v663 : BitVec 32) (k0_hw83 : k0_chk83 v631 v663) (k0_t4 : Fin (k0_t4_loop v631 v663).trips), ∀ (k0_h1 : k0_cond1 v631 = 1#1), ∀ a, (k0_off157 v631 v663 k0_t4) a + S1x1.size a ≤ S24x1536.size a := fun v631 v663 k0_hw83 k0_t4 k0_h1 => k0_hw83.1.2.2.2.2.2.2.2.1 k0_t4 k0_h1
theorem k0_off158_inb : ∀ (v631 : BitVec 32) (v663 : BitVec 32) (k0_hw83 : k0_chk83 v631 v663) (k0_t4 : Fin (k0_t4_loop v631 v663).trips), ∀ (k0_h1 : k0_cond1 v631 = 1#1), ∀ a, (k0_off158 v631 v663 k0_t4) a + S1x1x256.size a ≤ S3x256x256.size a := fun v631 v663 k0_hw83 k0_t4 k0_h1 => k0_hw83.1.2.2.2.2.2.2.2.2.1 k0_t4 k0_h1
theorem k0_off160_inb : ∀ (v631 : BitVec 32) (v663 : BitVec 32) (k0_hw83 : k0_chk83 v631 v663) (k0_t4 : Fin (k0_t4_loop v631 v663).trips), ∀ (k0_h1 : k0_cond1 v631 = 1#1), ∀ a, (k0_off160 v631 v663 k0_t4) a + S1x1.size a ≤ S24x1536.size a := fun v631 v663 k0_hw83 k0_t4 k0_h1 => k0_hw83.1.2.2.2.2.2.2.2.2.2.1 k0_t4 k0_h1
theorem k0_off161_inb : ∀ (v631 : BitVec 32) (v663 : BitVec 32) (k0_hw83 : k0_chk83 v631 v663) (k0_t4 : Fin (k0_t4_loop v631 v663).trips), ∀ (k0_h1 : k0_cond1 v631 = 1#1), ∀ a, (k0_off161 v631 v663 k0_t4) a + S1x1x256.size a ≤ S3x256x256.size a := fun v631 v663 k0_hw83 k0_t4 k0_h1 => k0_hw83.1.2.2.2.2.2.2.2.2.2.2.1 k0_t4 k0_h1
theorem k0_off163_inb : ∀ (v631 : BitVec 32) (v663 : BitVec 32) (k0_hw83 : k0_chk83 v631 v663) (k0_t4 : Fin (k0_t4_loop v631 v663).trips), ∀ (k0_h1 : k0_cond1 v631 = 1#1), ∀ a, (k0_off163 v631 v663 k0_t4) a + S1x1.size a ≤ S24x1536.size a := fun v631 v663 k0_hw83 k0_t4 k0_h1 => k0_hw83.1.2.2.2.2.2.2.2.2.2.2.2.1 k0_t4 k0_h1
theorem k0_off164_inb : ∀ (v631 : BitVec 32) (v663 : BitVec 32) (k0_hw83 : k0_chk83 v631 v663) (k0_t4 : Fin (k0_t4_loop v631 v663).trips), ∀ (k0_h1 : k0_cond1 v631 = 1#1), ∀ a, (k0_off164 v631 v663 k0_t4) a + S1x1x256.size a ≤ S3x256x256.size a := fun v631 v663 k0_hw83 k0_t4 k0_h1 => k0_hw83.1.2.2.2.2.2.2.2.2.2.2.2.2.1 k0_t4 k0_h1
theorem k0_off166_inb : ∀ (v631 : BitVec 32) (v663 : BitVec 32) (k0_hw83 : k0_chk83 v631 v663) (k0_t4 : Fin (k0_t4_loop v631 v663).trips), ∀ (k0_h1 : k0_cond1 v631 = 1#1), ∀ a, (k0_off166 v631 v663 k0_t4) a + S1x1.size a ≤ S24x1536.size a := fun v631 v663 k0_hw83 k0_t4 k0_h1 => k0_hw83.1.2.2.2.2.2.2.2.2.2.2.2.2.2.1 k0_t4 k0_h1
theorem k0_off167_inb : ∀ (v631 : BitVec 32) (v663 : BitVec 32) (k0_hw83 : k0_chk83 v631 v663) (k0_t4 : Fin (k0_t4_loop v631 v663).trips), ∀ (k0_h1 : k0_cond1 v631 = 1#1), ∀ a, (k0_off167 v631 v663 k0_t4) a + S1x1x256.size a ≤ S3x256x256.size a := fun v631 v663 k0_hw83 k0_t4 k0_h1 => k0_hw83.1.2.2.2.2.2.2.2.2.2.2.2.2.2.2.1 k0_t4 k0_h1
theorem k0_off169_inb : ∀ (v631 : BitVec 32) (v663 : BitVec 32) (k0_hw83 : k0_chk83 v631 v663) (k0_t4 : Fin (k0_t4_loop v631 v663).trips), ∀ (k0_h1 : k0_cond1 v631 = 1#1), ∀ a, (k0_off169 v631 v663 k0_t4) a + S1x1.size a ≤ S24x1536.size a := fun v631 v663 k0_hw83 k0_t4 k0_h1 => k0_hw83.1.2.2.2.2.2.2.2.2.2.2.2.2.2.2.2.1 k0_t4 k0_h1
theorem k0_off170_inb : ∀ (v631 : BitVec 32) (v663 : BitVec 32) (k0_hw83 : k0_chk83 v631 v663) (k0_t4 : Fin (k0_t4_loop v631 v663).trips), ∀ (k0_h1 : k0_cond1 v631 = 1#1), ∀ a, (k0_off170 v631 v663 k0_t4) a + S1x1x256.size a ≤ S3x256x256.size a := fun v631 v663 k0_hw83 k0_t4 k0_h1 => k0_hw83.1.2.2.2.2.2.2.2.2.2.2.2.2.2.2.2.2.1 k0_t4 k0_h1
theorem k0_off172_inb : ∀ (v631 : BitVec 32) (v663 : BitVec 32) (k0_hw83 : k0_chk83 v631 v663) (k0_t4 : Fin (k0_t4_loop v631 v663).trips), ∀ (k0_h1 : k0_cond1 v631 = 1#1), ∀ a, (k0_off172 v631 v663 k0_t4) a + S1x1.size a ≤ S24x1536.size a := fun v631 v663 k0_hw83 k0_t4 k0_h1 => k0_hw83.1.2.2.2.2.2.2.2.2.2.2.2.2.2.2.2.2.2.1 k0_t4 k0_h1
theorem k0_off173_inb : ∀ (v631 : BitVec 32) (v663 : BitVec 32) (k0_hw83 : k0_chk83 v631 v663) (k0_t4 : Fin (k0_t4_loop v631 v663).trips), ∀ (k0_h1 : k0_cond1 v631 = 1#1), ∀ a, (k0_off173 v631 v663 k0_t4) a + S1x1x256.size a ≤ S3x256x256.size a := fun v631 v663 k0_hw83 k0_t4 k0_h1 => k0_hw83.1.2.2.2.2.2.2.2.2.2.2.2.2.2.2.2.2.2.2.1 k0_t4 k0_h1
theorem k0_off175_inb : ∀ (v631 : BitVec 32) (v663 : BitVec 32) (k0_hw83 : k0_chk83 v631 v663) (k0_t4 : Fin (k0_t4_loop v631 v663).trips), ∀ (k0_h1 : k0_cond1 v631 = 1#1), ∀ a, (k0_off175 v631 v663 k0_t4) a + S1x1.size a ≤ S24x1536.size a := fun v631 v663 k0_hw83 k0_t4 k0_h1 => k0_hw83.1.2.2.2.2.2.2.2.2.2.2.2.2.2.2.2.2.2.2.2.1 k0_t4 k0_h1
theorem k0_off176_inb : ∀ (v631 : BitVec 32) (v663 : BitVec 32) (k0_hw83 : k0_chk83 v631 v663) (k0_t4 : Fin (k0_t4_loop v631 v663).trips), ∀ (k0_h1 : k0_cond1 v631 = 1#1), ∀ a, (k0_off176 v631 v663 k0_t4) a + S1x1x256.size a ≤ S3x256x256.size a := fun v631 v663 k0_hw83 k0_t4 k0_h1 => k0_hw83.1.2.2.2.2.2.2.2.2.2.2.2.2.2.2.2.2.2.2.2.2.1 k0_t4 k0_h1
theorem k0_off178_inb : ∀ (v631 : BitVec 32) (v663 : BitVec 32) (k0_hw83 : k0_chk83 v631 v663) (k0_t4 : Fin (k0_t4_loop v631 v663).trips), ∀ (k0_h1 : k0_cond1 v631 = 1#1), ∀ a, (k0_off178 v631 v663 k0_t4) a + S1x1.size a ≤ S24x1536.size a := fun v631 v663 k0_hw83 k0_t4 k0_h1 => k0_hw83.1.2.2.2.2.2.2.2.2.2.2.2.2.2.2.2.2.2.2.2.2.2.1 k0_t4 k0_h1
theorem k0_off179_inb : ∀ (v631 : BitVec 32) (v663 : BitVec 32) (k0_hw83 : k0_chk83 v631 v663) (k0_t4 : Fin (k0_t4_loop v631 v663).trips), ∀ (k0_h1 : k0_cond1 v631 = 1#1), ∀ a, (k0_off179 v631 v663 k0_t4) a + S1x1x256.size a ≤ S3x256x256.size a := fun v631 v663 k0_hw83 k0_t4 k0_h1 => k0_hw83.1.2.2.2.2.2.2.2.2.2.2.2.2.2.2.2.2.2.2.2.2.2.2.1 k0_t4 k0_h1
theorem k0_off181_inb : ∀ (v631 : BitVec 32) (v663 : BitVec 32) (k0_hw83 : k0_chk83 v631 v663) (k0_t4 : Fin (k0_t4_loop v631 v663).trips), ∀ (k0_h1 : k0_cond1 v631 = 1#1), ∀ a, (k0_off181 v631 v663 k0_t4) a + S1x1.size a ≤ S24x1536.size a := fun v631 v663 k0_hw83 k0_t4 k0_h1 => k0_hw83.1.2.2.2.2.2.2.2.2.2.2.2.2.2.2.2.2.2.2.2.2.2.2.2.1 k0_t4 k0_h1
theorem k0_off182_inb : ∀ (v631 : BitVec 32) (v663 : BitVec 32) (k0_hw83 : k0_chk83 v631 v663) (k0_t4 : Fin (k0_t4_loop v631 v663).trips), ∀ (k0_h1 : k0_cond1 v631 = 1#1), ∀ a, (k0_off182 v631 v663 k0_t4) a + S1x1x256.size a ≤ S3x256x256.size a := fun v631 v663 k0_hw83 k0_t4 k0_h1 => k0_hw83.1.2.2.2.2.2.2.2.2.2.2.2.2.2.2.2.2.2.2.2.2.2.2.2.2.1 k0_t4 k0_h1
theorem k0_off184_inb : ∀ (v631 : BitVec 32) (v663 : BitVec 32) (k0_hw83 : k0_chk83 v631 v663) (k0_t4 : Fin (k0_t4_loop v631 v663).trips), ∀ (k0_h1 : k0_cond1 v631 = 1#1), ∀ a, (k0_off184 v631 v663 k0_t4) a + S1x1.size a ≤ S24x1536.size a := fun v631 v663 k0_hw83 k0_t4 k0_h1 => k0_hw83.1.2.2.2.2.2.2.2.2.2.2.2.2.2.2.2.2.2.2.2.2.2.2.2.2.2.1 k0_t4 k0_h1
theorem k0_off185_inb : ∀ (v631 : BitVec 32) (v663 : BitVec 32) (k0_hw83 : k0_chk83 v631 v663) (k0_t4 : Fin (k0_t4_loop v631 v663).trips), ∀ (k0_h1 : k0_cond1 v631 = 1#1), ∀ a, (k0_off185 v631 v663 k0_t4) a + S1x1x256.size a ≤ S3x256x256.size a := fun v631 v663 k0_hw83 k0_t4 k0_h1 => k0_hw83.1.2.2.2.2.2.2.2.2.2.2.2.2.2.2.2.2.2.2.2.2.2.2.2.2.2.2.1 k0_t4 k0_h1
theorem k0_off187_inb : ∀ (v631 : BitVec 32) (v663 : BitVec 32) (k0_hw83 : k0_chk83 v631 v663) (k0_t4 : Fin (k0_t4_loop v631 v663).trips), ∀ (k0_h1 : k0_cond1 v631 = 1#1), ∀ a, (k0_off187 v631 v663 k0_t4) a + S1x1.size a ≤ S24x1536.size a := fun v631 v663 k0_hw83 k0_t4 k0_h1 => k0_hw83.1.2.2.2.2.2.2.2.2.2.2.2.2.2.2.2.2.2.2.2.2.2.2.2.2.2.2.2.1 k0_t4 k0_h1
theorem k0_off188_inb : ∀ (v631 : BitVec 32) (v663 : BitVec 32) (k0_hw83 : k0_chk83 v631 v663) (k0_t4 : Fin (k0_t4_loop v631 v663).trips), ∀ (k0_h1 : k0_cond1 v631 = 1#1), ∀ a, (k0_off188 v631 v663 k0_t4) a + S1x1x256.size a ≤ S3x256x256.size a := fun v631 v663 k0_hw83 k0_t4 k0_h1 => k0_hw83.1.2.2.2.2.2.2.2.2.2.2.2.2.2.2.2.2.2.2.2.2.2.2.2.2.2.2.2.2.1 k0_t4 k0_h1
theorem k0_off190_inb : ∀ (v631 : BitVec 32) (v663 : BitVec 32) (k0_hw83 : k0_chk83 v631 v663) (k0_t4 : Fin (k0_t4_loop v631 v663).trips), ∀ (k0_h1 : k0_cond1 v631 = 1#1), ∀ a, (k0_off190 v631 v663 k0_t4) a + S1x1.size a ≤ S24x1536.size a := fun v631 v663 k0_hw83 k0_t4 k0_h1 => k0_hw83.1.2.2.2.2.2.2.2.2.2.2.2.2.2.2.2.2.2.2.2.2.2.2.2.2.2.2.2.2.2.1 k0_t4 k0_h1
theorem k0_off191_inb : ∀ (v631 : BitVec 32) (v663 : BitVec 32) (k0_hw83 : k0_chk83 v631 v663) (k0_t4 : Fin (k0_t4_loop v631 v663).trips), ∀ (k0_h1 : k0_cond1 v631 = 1#1), ∀ a, (k0_off191 v631 v663 k0_t4) a + S1x1x256.size a ≤ S3x256x256.size a := fun v631 v663 k0_hw83 k0_t4 k0_h1 => k0_hw83.1.2.2.2.2.2.2.2.2.2.2.2.2.2.2.2.2.2.2.2.2.2.2.2.2.2.2.2.2.2.2.1 k0_t4 k0_h1
theorem k0_off193_inb : ∀ (v631 : BitVec 32) (v663 : BitVec 32) (k0_hw83 : k0_chk83 v631 v663) (k0_t4 : Fin (k0_t4_loop v631 v663).trips), ∀ (k0_h1 : k0_cond1 v631 = 1#1), ∀ a, (k0_off193 v631 v663 k0_t4) a + S1x1.size a ≤ S24x1536.size a := fun v631 v663 k0_hw83 k0_t4 k0_h1 => k0_hw83.1.2.2.2.2.2.2.2.2.2.2.2.2.2.2.2.2.2.2.2.2.2.2.2.2.2.2.2.2.2.2.2 k0_t4 k0_h1
theorem k0_off194_inb : ∀ (v631 : BitVec 32) (v663 : BitVec 32) (k0_hw83 : k0_chk83 v631 v663) (k0_t4 : Fin (k0_t4_loop v631 v663).trips), ∀ (k0_h1 : k0_cond1 v631 = 1#1), ∀ a, (k0_off194 v631 v663 k0_t4) a + S1x1x256.size a ≤ S3x256x256.size a := fun v631 v663 k0_hw83 k0_t4 k0_h1 => k0_hw83.2.1.1 k0_t4 k0_h1
theorem k0_t5_ok : ∀ (v631 : BitVec 32) (v663 : BitVec 32) (k0_hw83 : k0_chk83 v631 v663), ∀ (k0_h1 : k0_cond1 v631 = 1#1), (k0_t5_loop v631 v663).OK := fun v631 v663 k0_hw83 k0_h1 => k0_hw83.2.1.2.1 k0_h1
theorem k0_off196_inb : ∀ (v631 : BitVec 32) (v663 : BitVec 32) (k0_hw83 : k0_chk83 v631 v663) (k0_t5 : Fin (k0_t5_loop v631 v663).trips), ∀ (k0_h1 : k0_cond1 v631 = 1#1), ∀ a, (k0_off196 v631 v663 k0_t5) a + S1x1.size a ≤ S24x1536.size a := fun v631 v663 k0_hw83 k0_t5 k0_h1 => k0_hw83.2.1.2.2.1 k0_t5 k0_h1
theorem k0_off197_inb : ∀ (v631 : BitVec 32) (v663 : BitVec 32) (k0_hw83 : k0_chk83 v631 v663) (k0_t5 : Fin (k0_t5_loop v631 v663).trips), ∀ (k0_h1 : k0_cond1 v631 = 1#1), ∀ a, (k0_off197 v631 v663 k0_t5) a + S1x1x256.size a ≤ S3x256x256.size a := fun v631 v663 k0_hw83 k0_t5 k0_h1 => k0_hw83.2.1.2.2.2.1 k0_t5 k0_h1
theorem k0_off199_inb : ∀ (v631 : BitVec 32) (v663 : BitVec 32) (k0_hw83 : k0_chk83 v631 v663) (k0_t5 : Fin (k0_t5_loop v631 v663).trips), ∀ (k0_h1 : k0_cond1 v631 = 1#1), ∀ a, (k0_off199 v631 v663 k0_t5) a + S1x1.size a ≤ S24x1536.size a := fun v631 v663 k0_hw83 k0_t5 k0_h1 => k0_hw83.2.1.2.2.2.2.1 k0_t5 k0_h1
theorem k0_off200_inb : ∀ (v631 : BitVec 32) (v663 : BitVec 32) (k0_hw83 : k0_chk83 v631 v663) (k0_t5 : Fin (k0_t5_loop v631 v663).trips), ∀ (k0_h1 : k0_cond1 v631 = 1#1), ∀ a, (k0_off200 v631 v663 k0_t5) a + S1x1x256.size a ≤ S3x256x256.size a := fun v631 v663 k0_hw83 k0_t5 k0_h1 => k0_hw83.2.1.2.2.2.2.2.1 k0_t5 k0_h1
theorem k0_off202_inb : ∀ (v631 : BitVec 32) (v663 : BitVec 32) (k0_hw83 : k0_chk83 v631 v663) (k0_t5 : Fin (k0_t5_loop v631 v663).trips), ∀ (k0_h1 : k0_cond1 v631 = 1#1), ∀ a, (k0_off202 v631 v663 k0_t5) a + S1x1.size a ≤ S24x1536.size a := fun v631 v663 k0_hw83 k0_t5 k0_h1 => k0_hw83.2.1.2.2.2.2.2.2.1 k0_t5 k0_h1
theorem k0_off203_inb : ∀ (v631 : BitVec 32) (v663 : BitVec 32) (k0_hw83 : k0_chk83 v631 v663) (k0_t5 : Fin (k0_t5_loop v631 v663).trips), ∀ (k0_h1 : k0_cond1 v631 = 1#1), ∀ a, (k0_off203 v631 v663 k0_t5) a + S1x1x256.size a ≤ S3x256x256.size a := fun v631 v663 k0_hw83 k0_t5 k0_h1 => k0_hw83.2.1.2.2.2.2.2.2.2.1 k0_t5 k0_h1
theorem k0_off205_inb : ∀ (v631 : BitVec 32) (v663 : BitVec 32) (k0_hw83 : k0_chk83 v631 v663) (k0_t5 : Fin (k0_t5_loop v631 v663).trips), ∀ (k0_h1 : k0_cond1 v631 = 1#1), ∀ a, (k0_off205 v631 v663 k0_t5) a + S1x1.size a ≤ S24x1536.size a := fun v631 v663 k0_hw83 k0_t5 k0_h1 => k0_hw83.2.1.2.2.2.2.2.2.2.2.1 k0_t5 k0_h1
theorem k0_off206_inb : ∀ (v631 : BitVec 32) (v663 : BitVec 32) (k0_hw83 : k0_chk83 v631 v663) (k0_t5 : Fin (k0_t5_loop v631 v663).trips), ∀ (k0_h1 : k0_cond1 v631 = 1#1), ∀ a, (k0_off206 v631 v663 k0_t5) a + S1x1x256.size a ≤ S3x256x256.size a := fun v631 v663 k0_hw83 k0_t5 k0_h1 => k0_hw83.2.1.2.2.2.2.2.2.2.2.2.1 k0_t5 k0_h1
theorem k0_off208_inb : ∀ (v631 : BitVec 32) (v663 : BitVec 32) (k0_hw83 : k0_chk83 v631 v663) (k0_t5 : Fin (k0_t5_loop v631 v663).trips), ∀ (k0_h1 : k0_cond1 v631 = 1#1), ∀ a, (k0_off208 v631 v663 k0_t5) a + S1x1.size a ≤ S24x1536.size a := fun v631 v663 k0_hw83 k0_t5 k0_h1 => k0_hw83.2.1.2.2.2.2.2.2.2.2.2.2.1 k0_t5 k0_h1
theorem k0_off209_inb : ∀ (v631 : BitVec 32) (v663 : BitVec 32) (k0_hw83 : k0_chk83 v631 v663) (k0_t5 : Fin (k0_t5_loop v631 v663).trips), ∀ (k0_h1 : k0_cond1 v631 = 1#1), ∀ a, (k0_off209 v631 v663 k0_t5) a + S1x1x256.size a ≤ S3x256x256.size a := fun v631 v663 k0_hw83 k0_t5 k0_h1 => k0_hw83.2.1.2.2.2.2.2.2.2.2.2.2.2.1 k0_t5 k0_h1
theorem k0_off211_inb : ∀ (v631 : BitVec 32) (v663 : BitVec 32) (k0_hw83 : k0_chk83 v631 v663) (k0_t5 : Fin (k0_t5_loop v631 v663).trips), ∀ (k0_h1 : k0_cond1 v631 = 1#1), ∀ a, (k0_off211 v631 v663 k0_t5) a + S1x1.size a ≤ S24x1536.size a := fun v631 v663 k0_hw83 k0_t5 k0_h1 => k0_hw83.2.1.2.2.2.2.2.2.2.2.2.2.2.2.1 k0_t5 k0_h1
theorem k0_off212_inb : ∀ (v631 : BitVec 32) (v663 : BitVec 32) (k0_hw83 : k0_chk83 v631 v663) (k0_t5 : Fin (k0_t5_loop v631 v663).trips), ∀ (k0_h1 : k0_cond1 v631 = 1#1), ∀ a, (k0_off212 v631 v663 k0_t5) a + S1x1x256.size a ≤ S3x256x256.size a := fun v631 v663 k0_hw83 k0_t5 k0_h1 => k0_hw83.2.1.2.2.2.2.2.2.2.2.2.2.2.2.2.1 k0_t5 k0_h1
theorem k0_off214_inb : ∀ (v631 : BitVec 32) (v663 : BitVec 32) (k0_hw83 : k0_chk83 v631 v663) (k0_t5 : Fin (k0_t5_loop v631 v663).trips), ∀ (k0_h1 : k0_cond1 v631 = 1#1), ∀ a, (k0_off214 v631 v663 k0_t5) a + S1x1.size a ≤ S24x1536.size a := fun v631 v663 k0_hw83 k0_t5 k0_h1 => k0_hw83.2.1.2.2.2.2.2.2.2.2.2.2.2.2.2.2.1 k0_t5 k0_h1
theorem k0_off215_inb : ∀ (v631 : BitVec 32) (v663 : BitVec 32) (k0_hw83 : k0_chk83 v631 v663) (k0_t5 : Fin (k0_t5_loop v631 v663).trips), ∀ (k0_h1 : k0_cond1 v631 = 1#1), ∀ a, (k0_off215 v631 v663 k0_t5) a + S1x1x256.size a ≤ S3x256x256.size a := fun v631 v663 k0_hw83 k0_t5 k0_h1 => k0_hw83.2.1.2.2.2.2.2.2.2.2.2.2.2.2.2.2.2.1 k0_t5 k0_h1
theorem k0_off217_inb : ∀ (v631 : BitVec 32) (v663 : BitVec 32) (k0_hw83 : k0_chk83 v631 v663) (k0_t5 : Fin (k0_t5_loop v631 v663).trips), ∀ (k0_h1 : k0_cond1 v631 = 1#1), ∀ a, (k0_off217 v631 v663 k0_t5) a + S1x1.size a ≤ S24x1536.size a := fun v631 v663 k0_hw83 k0_t5 k0_h1 => k0_hw83.2.1.2.2.2.2.2.2.2.2.2.2.2.2.2.2.2.2.1 k0_t5 k0_h1
theorem k0_off218_inb : ∀ (v631 : BitVec 32) (v663 : BitVec 32) (k0_hw83 : k0_chk83 v631 v663) (k0_t5 : Fin (k0_t5_loop v631 v663).trips), ∀ (k0_h1 : k0_cond1 v631 = 1#1), ∀ a, (k0_off218 v631 v663 k0_t5) a + S1x1x256.size a ≤ S3x256x256.size a := fun v631 v663 k0_hw83 k0_t5 k0_h1 => k0_hw83.2.1.2.2.2.2.2.2.2.2.2.2.2.2.2.2.2.2.2.1 k0_t5 k0_h1
theorem k0_off220_inb : ∀ (v631 : BitVec 32) (v663 : BitVec 32) (k0_hw83 : k0_chk83 v631 v663) (k0_t5 : Fin (k0_t5_loop v631 v663).trips), ∀ (k0_h1 : k0_cond1 v631 = 1#1), ∀ a, (k0_off220 v631 v663 k0_t5) a + S1x1.size a ≤ S24x1536.size a := fun v631 v663 k0_hw83 k0_t5 k0_h1 => k0_hw83.2.1.2.2.2.2.2.2.2.2.2.2.2.2.2.2.2.2.2.2.1 k0_t5 k0_h1
theorem k0_off221_inb : ∀ (v631 : BitVec 32) (v663 : BitVec 32) (k0_hw83 : k0_chk83 v631 v663) (k0_t5 : Fin (k0_t5_loop v631 v663).trips), ∀ (k0_h1 : k0_cond1 v631 = 1#1), ∀ a, (k0_off221 v631 v663 k0_t5) a + S1x1x256.size a ≤ S3x256x256.size a := fun v631 v663 k0_hw83 k0_t5 k0_h1 => k0_hw83.2.1.2.2.2.2.2.2.2.2.2.2.2.2.2.2.2.2.2.2.2.1 k0_t5 k0_h1
theorem k0_off223_inb : ∀ (v631 : BitVec 32) (v663 : BitVec 32) (k0_hw83 : k0_chk83 v631 v663) (k0_t5 : Fin (k0_t5_loop v631 v663).trips), ∀ (k0_h1 : k0_cond1 v631 = 1#1), ∀ a, (k0_off223 v631 v663 k0_t5) a + S1x1.size a ≤ S24x1536.size a := fun v631 v663 k0_hw83 k0_t5 k0_h1 => k0_hw83.2.1.2.2.2.2.2.2.2.2.2.2.2.2.2.2.2.2.2.2.2.2.1 k0_t5 k0_h1
theorem k0_off224_inb : ∀ (v631 : BitVec 32) (v663 : BitVec 32) (k0_hw83 : k0_chk83 v631 v663) (k0_t5 : Fin (k0_t5_loop v631 v663).trips), ∀ (k0_h1 : k0_cond1 v631 = 1#1), ∀ a, (k0_off224 v631 v663 k0_t5) a + S1x1x256.size a ≤ S3x256x256.size a := fun v631 v663 k0_hw83 k0_t5 k0_h1 => k0_hw83.2.1.2.2.2.2.2.2.2.2.2.2.2.2.2.2.2.2.2.2.2.2.2.1 k0_t5 k0_h1
theorem k0_off226_inb : ∀ (v631 : BitVec 32) (v663 : BitVec 32) (k0_hw83 : k0_chk83 v631 v663) (k0_t5 : Fin (k0_t5_loop v631 v663).trips), ∀ (k0_h1 : k0_cond1 v631 = 1#1), ∀ a, (k0_off226 v631 v663 k0_t5) a + S1x1.size a ≤ S24x1536.size a := fun v631 v663 k0_hw83 k0_t5 k0_h1 => k0_hw83.2.1.2.2.2.2.2.2.2.2.2.2.2.2.2.2.2.2.2.2.2.2.2.2.1 k0_t5 k0_h1
theorem k0_off227_inb : ∀ (v631 : BitVec 32) (v663 : BitVec 32) (k0_hw83 : k0_chk83 v631 v663) (k0_t5 : Fin (k0_t5_loop v631 v663).trips), ∀ (k0_h1 : k0_cond1 v631 = 1#1), ∀ a, (k0_off227 v631 v663 k0_t5) a + S1x1x256.size a ≤ S3x256x256.size a := fun v631 v663 k0_hw83 k0_t5 k0_h1 => k0_hw83.2.1.2.2.2.2.2.2.2.2.2.2.2.2.2.2.2.2.2.2.2.2.2.2.2.1 k0_t5 k0_h1
theorem k0_off229_inb : ∀ (v631 : BitVec 32) (v663 : BitVec 32) (k0_hw83 : k0_chk83 v631 v663) (k0_t5 : Fin (k0_t5_loop v631 v663).trips), ∀ (k0_h1 : k0_cond1 v631 = 1#1), ∀ a, (k0_off229 v631 v663 k0_t5) a + S1x1.size a ≤ S24x1536.size a := fun v631 v663 k0_hw83 k0_t5 k0_h1 => k0_hw83.2.1.2.2.2.2.2.2.2.2.2.2.2.2.2.2.2.2.2.2.2.2.2.2.2.2.1 k0_t5 k0_h1
theorem k0_off230_inb : ∀ (v631 : BitVec 32) (v663 : BitVec 32) (k0_hw83 : k0_chk83 v631 v663) (k0_t5 : Fin (k0_t5_loop v631 v663).trips), ∀ (k0_h1 : k0_cond1 v631 = 1#1), ∀ a, (k0_off230 v631 v663 k0_t5) a + S1x1x256.size a ≤ S3x256x256.size a := fun v631 v663 k0_hw83 k0_t5 k0_h1 => k0_hw83.2.1.2.2.2.2.2.2.2.2.2.2.2.2.2.2.2.2.2.2.2.2.2.2.2.2.2.1 k0_t5 k0_h1
theorem k0_off232_inb : ∀ (v631 : BitVec 32) (v663 : BitVec 32) (k0_hw83 : k0_chk83 v631 v663) (k0_t5 : Fin (k0_t5_loop v631 v663).trips), ∀ (k0_h1 : k0_cond1 v631 = 1#1), ∀ a, (k0_off232 v631 v663 k0_t5) a + S1x1.size a ≤ S24x1536.size a := fun v631 v663 k0_hw83 k0_t5 k0_h1 => k0_hw83.2.1.2.2.2.2.2.2.2.2.2.2.2.2.2.2.2.2.2.2.2.2.2.2.2.2.2.2.1 k0_t5 k0_h1
theorem k0_off233_inb : ∀ (v631 : BitVec 32) (v663 : BitVec 32) (k0_hw83 : k0_chk83 v631 v663) (k0_t5 : Fin (k0_t5_loop v631 v663).trips), ∀ (k0_h1 : k0_cond1 v631 = 1#1), ∀ a, (k0_off233 v631 v663 k0_t5) a + S1x1x256.size a ≤ S3x256x256.size a := fun v631 v663 k0_hw83 k0_t5 k0_h1 => k0_hw83.2.1.2.2.2.2.2.2.2.2.2.2.2.2.2.2.2.2.2.2.2.2.2.2.2.2.2.2.2.1 k0_t5 k0_h1
theorem k0_off235_inb : ∀ (v631 : BitVec 32) (v663 : BitVec 32) (k0_hw83 : k0_chk83 v631 v663) (k0_t5 : Fin (k0_t5_loop v631 v663).trips), ∀ (k0_h1 : k0_cond1 v631 = 1#1), ∀ a, (k0_off235 v631 v663 k0_t5) a + S1x1.size a ≤ S24x1536.size a := fun v631 v663 k0_hw83 k0_t5 k0_h1 => k0_hw83.2.1.2.2.2.2.2.2.2.2.2.2.2.2.2.2.2.2.2.2.2.2.2.2.2.2.2.2.2.2.1 k0_t5 k0_h1
theorem k0_off236_inb : ∀ (v631 : BitVec 32) (v663 : BitVec 32) (k0_hw83 : k0_chk83 v631 v663) (k0_t5 : Fin (k0_t5_loop v631 v663).trips), ∀ (k0_h1 : k0_cond1 v631 = 1#1), ∀ a, (k0_off236 v631 v663 k0_t5) a + S1x1x256.size a ≤ S3x256x256.size a := fun v631 v663 k0_hw83 k0_t5 k0_h1 => k0_hw83.2.1.2.2.2.2.2.2.2.2.2.2.2.2.2.2.2.2.2.2.2.2.2.2.2.2.2.2.2.2.2.1 k0_t5 k0_h1
theorem k0_off238_inb : ∀ (v631 : BitVec 32) (v663 : BitVec 32) (k0_hw83 : k0_chk83 v631 v663) (k0_t5 : Fin (k0_t5_loop v631 v663).trips), ∀ (k0_h1 : k0_cond1 v631 = 1#1), ∀ a, (k0_off238 v631 v663 k0_t5) a + S1x1.size a ≤ S24x1536.size a := fun v631 v663 k0_hw83 k0_t5 k0_h1 => k0_hw83.2.1.2.2.2.2.2.2.2.2.2.2.2.2.2.2.2.2.2.2.2.2.2.2.2.2.2.2.2.2.2.2.1 k0_t5 k0_h1
theorem k0_off239_inb : ∀ (v631 : BitVec 32) (v663 : BitVec 32) (k0_hw83 : k0_chk83 v631 v663) (k0_t5 : Fin (k0_t5_loop v631 v663).trips), ∀ (k0_h1 : k0_cond1 v631 = 1#1), ∀ a, (k0_off239 v631 v663 k0_t5) a + S1x1x256.size a ≤ S3x256x256.size a := fun v631 v663 k0_hw83 k0_t5 k0_h1 => k0_hw83.2.1.2.2.2.2.2.2.2.2.2.2.2.2.2.2.2.2.2.2.2.2.2.2.2.2.2.2.2.2.2.2.2 k0_t5 k0_h1
theorem k0_off241_inb : ∀ (v631 : BitVec 32) (v663 : BitVec 32) (k0_hw83 : k0_chk83 v631 v663) (k0_t5 : Fin (k0_t5_loop v631 v663).trips), ∀ (k0_h1 : k0_cond1 v631 = 1#1), ∀ a, (k0_off241 v631 v663 k0_t5) a + S1x1.size a ≤ S24x1536.size a := fun v631 v663 k0_hw83 k0_t5 k0_h1 => k0_hw83.2.2.1 k0_t5 k0_h1
theorem k0_off242_inb : ∀ (v631 : BitVec 32) (v663 : BitVec 32) (k0_hw83 : k0_chk83 v631 v663) (k0_t5 : Fin (k0_t5_loop v631 v663).trips), ∀ (k0_h1 : k0_cond1 v631 = 1#1), ∀ a, (k0_off242 v631 v663 k0_t5) a + S1x1x256.size a ≤ S3x256x256.size a := fun v631 v663 k0_hw83 k0_t5 k0_h1 => k0_hw83.2.2.2 k0_t5 k0_h1

def k0_off243 (v881 : BitVec 32) : Fin 2 → Nat :=
  let c2_i32_621 : BitVec 32 := 2#32
  let v882 : BitVec 32 := Scalar.shrui v881 c2_i32_621
  let c0_i32_625 : BitVec 32 := 0#32
  ![v882.toNat, 0]

def k0_chk115 (v631 : BitVec 32) (v881 : BitVec 32) : Prop :=
  (∀ (k0_h1 : k0_cond1 v631 = 1#1), ∀ a, (k0_off243 v881) a + S1x256.size a ≤ S250000x256.size a)
theorem k0_off243_inb : ∀ (v631 : BitVec 32) (v881 : BitVec 32) (k0_hw115 : k0_chk115 v631 v881), ∀ (k0_h1 : k0_cond1 v631 = 1#1), ∀ a, (k0_off243 v881) a + S1x256.size a ≤ S250000x256.size a := fun v631 v881 k0_hw115 k0_h1 => k0_hw115 k0_h1

def k0_off244 (v631 : BitVec 32) : Fin 1 → Nat :=
  let c255_i32 : BitVec 32 := 255#32
  let v632 : BitVec 32 := Scalar.addi v631 c255_i32
  let c256_i32_459 : BitVec 32 := 256#32
  let v633 : BitVec 32 := Scalar.divsi v632 c256_i32_459
  let c1_i32_460 : BitVec 32 := 1#32
  let v634 : BitVec 32 := Scalar.maxsi v633 c1_i32_460
  let c1_i32_461 : BitVec 32 := 1#32
  let v635 : BitVec 1 := Scalar.cmpi .sle v634 c1_i32_461
  let c1_i32_462 : BitVec 32 := 1#32
  let c0_i32_463 : BitVec 32 := 0#32
  let v636 : BitVec 32 := Scalar.select v635 c1_i32_462 c0_i32_463
  let c23_i32_468 : BitVec 32 := 23#32
  let v641 : BitVec 32 := Scalar.minsi v636 c23_i32_468
  let v643 : Index := Scalar.indexCast v641
  ![v643.toNat]

def k0_chk82 (v631 : BitVec 32) : Prop :=
  (∀ (k0_h1 : k0_cond1 v631 = 1#1), ∀ a, (k0_off147 v631) a + S1.size a ≤ S24.size a) ∧
  (∀ a, (k0_off244 v631) a + S1.size a ≤ S24.size a)
theorem k0_off147_inb : ∀ (v631 : BitVec 32) (k0_hw82 : k0_chk82 v631), ∀ (k0_h1 : k0_cond1 v631 = 1#1), ∀ a, (k0_off147 v631) a + S1.size a ≤ S24.size a := fun v631 k0_hw82 k0_h1 => k0_hw82.1 k0_h1
theorem k0_off244_inb : ∀ (v631 : BitVec 32) (k0_hw82 : k0_chk82 v631), ∀ a, (k0_off244 v631) a + S1.size a ≤ S24.size a := fun v631 k0_hw82 => k0_hw82.2

@[reducible] def k0_t6_loop (v616 : BitVec 32) : Scf.Loop 32 :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_482 : BitVec 32 := 1#32
  ⟨c0_i32_478, v659, c1_i32_482⟩

def k0_off245 (arg29 : BitVec 32) : Fin 1 → Nat :=
  let v848 : Index := Scalar.indexCast arg29
  ![v848.toNat]
def k0_cond2 (arg29 : BitVec 32) : BitVec 1 :=
  let c24_i32_485 : BitVec 32 := 24#32
  let v663 : BitVec 1 := Scalar.cmpi .slt arg29 c24_i32_485
  let v664 : BitVec 32 := Scalar.extui v663
  let c0_i32_486 : BitVec 32 := 0#32
  let v665 : BitVec 1 := Scalar.cmpi .ne v664 c0_i32_486
  v665

@[reducible] def k0_t7_loop (arg30 : BitVec 32) (v849 : BitVec 32) : Scf.Loop 32 :=
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_588 : BitVec 32 := 1#32
  ⟨c0_i32_586, v863, c1_i32_588⟩

def k0_off246 (arg29 : BitVec 32) (arg30 : BitVec 32) (v849 : BitVec 32) (k0_t7 : Fin (k0_t7_loop arg30 v849).trips) : Fin 2 → Nat :=
  let v870 : Index := Scalar.indexCast arg29
  let c256_i32_592 : BitVec 32 := 256#32
  let v868 : BitVec 32 := Scalar.muli arg30 c256_i32_592
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_590 : BitVec 32 := 16#32
  let v866 : BitVec 32 := Scalar.muli v865 c16_i32_590
  let c0_i32_591 : BitVec 32 := 0#32
  let v867 : BitVec 32 := Scalar.addi v866 c0_i32_591
  let v869 : BitVec 32 := Scalar.addi v868 v867
  let v871 : Index := Scalar.indexCast v869
  ![v870.toNat, v871.toNat]
def k0_off247 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off248 (v616 : BitVec 32) (k0_t6 : Fin (k0_t6_loop v616).trips) (arg30 : BitVec 32) (v849 : BitVec 32) (k0_t7 : Fin (k0_t7_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_590 : BitVec 32 := 16#32
  let v866 : BitVec 32 := Scalar.muli v865 c16_i32_590
  let c0_i32_591 : BitVec 32 := 0#32
  let v867 : BitVec 32 := Scalar.addi v866 c0_i32_591
  let c0_i32_594 : BitVec 32 := 0#32
  ![v847.toNat, v867.toNat, 0]
def k0_off249 (v872 : BitVec 32) : Fin 2 → Nat :=
  let c2_i32_593 : BitVec 32 := 2#32
  let v873 : BitVec 32 := Scalar.shrui v872 c2_i32_593
  let c0_i32_595 : BitVec 32 := 0#32
  ![v873.toNat, 0]

def k0_chk119 (arg29 : BitVec 32) (v872 : BitVec 32) : Prop :=
  (∀ (k0_h2 : k0_cond2 arg29 = 1#1), ∀ a, (k0_off249 v872) a + S1x256.size a ≤ S250000x256.size a)
theorem k0_off249_inb : ∀ (arg29 : BitVec 32) (v872 : BitVec 32) (k0_hw119 : k0_chk119 arg29 v872), ∀ (k0_h2 : k0_cond2 arg29 = 1#1), ∀ a, (k0_off249 v872) a + S1x256.size a ≤ S250000x256.size a := fun arg29 v872 k0_hw119 k0_h2 => k0_hw119 k0_h2

def k0_off250 (arg29 : BitVec 32) (arg30 : BitVec 32) (v849 : BitVec 32) (k0_t7 : Fin (k0_t7_loop arg30 v849).trips) : Fin 2 → Nat :=
  let v883 : Index := Scalar.indexCast arg29
  let c256_i32_598 : BitVec 32 := 256#32
  let v881 : BitVec 32 := Scalar.muli arg30 c256_i32_598
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_596 : BitVec 32 := 16#32
  let v879 : BitVec 32 := Scalar.muli v865 c16_i32_596
  let c1_i32_597 : BitVec 32 := 1#32
  let v880 : BitVec 32 := Scalar.addi v879 c1_i32_597
  let v882 : BitVec 32 := Scalar.addi v881 v880
  let v884 : Index := Scalar.indexCast v882
  ![v883.toNat, v884.toNat]
def k0_off251 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off252 (v616 : BitVec 32) (k0_t6 : Fin (k0_t6_loop v616).trips) (arg30 : BitVec 32) (v849 : BitVec 32) (k0_t7 : Fin (k0_t7_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_596 : BitVec 32 := 16#32
  let v879 : BitVec 32 := Scalar.muli v865 c16_i32_596
  let c1_i32_597 : BitVec 32 := 1#32
  let v880 : BitVec 32 := Scalar.addi v879 c1_i32_597
  let c0_i32_600 : BitVec 32 := 0#32
  ![v847.toNat, v880.toNat, 0]
def k0_off253 (v885 : BitVec 32) : Fin 2 → Nat :=
  let c2_i32_599 : BitVec 32 := 2#32
  let v886 : BitVec 32 := Scalar.shrui v885 c2_i32_599
  let c0_i32_601 : BitVec 32 := 0#32
  ![v886.toNat, 0]

def k0_chk120 (arg29 : BitVec 32) (v885 : BitVec 32) : Prop :=
  (∀ (k0_h2 : k0_cond2 arg29 = 1#1), ∀ a, (k0_off253 v885) a + S1x256.size a ≤ S250000x256.size a)
theorem k0_off253_inb : ∀ (arg29 : BitVec 32) (v885 : BitVec 32) (k0_hw120 : k0_chk120 arg29 v885), ∀ (k0_h2 : k0_cond2 arg29 = 1#1), ∀ a, (k0_off253 v885) a + S1x256.size a ≤ S250000x256.size a := fun arg29 v885 k0_hw120 k0_h2 => k0_hw120 k0_h2

def k0_off254 (arg29 : BitVec 32) (arg30 : BitVec 32) (v849 : BitVec 32) (k0_t7 : Fin (k0_t7_loop arg30 v849).trips) : Fin 2 → Nat :=
  let v896 : Index := Scalar.indexCast arg29
  let c256_i32_604 : BitVec 32 := 256#32
  let v894 : BitVec 32 := Scalar.muli arg30 c256_i32_604
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_602 : BitVec 32 := 16#32
  let v892 : BitVec 32 := Scalar.muli v865 c16_i32_602
  let c2_i32_603 : BitVec 32 := 2#32
  let v893 : BitVec 32 := Scalar.addi v892 c2_i32_603
  let v895 : BitVec 32 := Scalar.addi v894 v893
  let v897 : Index := Scalar.indexCast v895
  ![v896.toNat, v897.toNat]
def k0_off255 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off256 (v616 : BitVec 32) (k0_t6 : Fin (k0_t6_loop v616).trips) (arg30 : BitVec 32) (v849 : BitVec 32) (k0_t7 : Fin (k0_t7_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_602 : BitVec 32 := 16#32
  let v892 : BitVec 32 := Scalar.muli v865 c16_i32_602
  let c2_i32_603 : BitVec 32 := 2#32
  let v893 : BitVec 32 := Scalar.addi v892 c2_i32_603
  let c0_i32_606 : BitVec 32 := 0#32
  ![v847.toNat, v893.toNat, 0]
def k0_off257 (v898 : BitVec 32) : Fin 2 → Nat :=
  let c2_i32_605 : BitVec 32 := 2#32
  let v899 : BitVec 32 := Scalar.shrui v898 c2_i32_605
  let c0_i32_607 : BitVec 32 := 0#32
  ![v899.toNat, 0]

def k0_chk121 (arg29 : BitVec 32) (v898 : BitVec 32) : Prop :=
  (∀ (k0_h2 : k0_cond2 arg29 = 1#1), ∀ a, (k0_off257 v898) a + S1x256.size a ≤ S250000x256.size a)
theorem k0_off257_inb : ∀ (arg29 : BitVec 32) (v898 : BitVec 32) (k0_hw121 : k0_chk121 arg29 v898), ∀ (k0_h2 : k0_cond2 arg29 = 1#1), ∀ a, (k0_off257 v898) a + S1x256.size a ≤ S250000x256.size a := fun arg29 v898 k0_hw121 k0_h2 => k0_hw121 k0_h2

def k0_off258 (arg29 : BitVec 32) (arg30 : BitVec 32) (v849 : BitVec 32) (k0_t7 : Fin (k0_t7_loop arg30 v849).trips) : Fin 2 → Nat :=
  let v909 : Index := Scalar.indexCast arg29
  let c256_i32_610 : BitVec 32 := 256#32
  let v907 : BitVec 32 := Scalar.muli arg30 c256_i32_610
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_608 : BitVec 32 := 16#32
  let v905 : BitVec 32 := Scalar.muli v865 c16_i32_608
  let c3_i32_609 : BitVec 32 := 3#32
  let v906 : BitVec 32 := Scalar.addi v905 c3_i32_609
  let v908 : BitVec 32 := Scalar.addi v907 v906
  let v910 : Index := Scalar.indexCast v908
  ![v909.toNat, v910.toNat]
def k0_off259 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off260 (v616 : BitVec 32) (k0_t6 : Fin (k0_t6_loop v616).trips) (arg30 : BitVec 32) (v849 : BitVec 32) (k0_t7 : Fin (k0_t7_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_608 : BitVec 32 := 16#32
  let v905 : BitVec 32 := Scalar.muli v865 c16_i32_608
  let c3_i32_609 : BitVec 32 := 3#32
  let v906 : BitVec 32 := Scalar.addi v905 c3_i32_609
  let c0_i32_612 : BitVec 32 := 0#32
  ![v847.toNat, v906.toNat, 0]
def k0_off261 (v911 : BitVec 32) : Fin 2 → Nat :=
  let c2_i32_611 : BitVec 32 := 2#32
  let v912 : BitVec 32 := Scalar.shrui v911 c2_i32_611
  let c0_i32_613 : BitVec 32 := 0#32
  ![v912.toNat, 0]

def k0_chk122 (arg29 : BitVec 32) (v911 : BitVec 32) : Prop :=
  (∀ (k0_h2 : k0_cond2 arg29 = 1#1), ∀ a, (k0_off261 v911) a + S1x256.size a ≤ S250000x256.size a)
theorem k0_off261_inb : ∀ (arg29 : BitVec 32) (v911 : BitVec 32) (k0_hw122 : k0_chk122 arg29 v911), ∀ (k0_h2 : k0_cond2 arg29 = 1#1), ∀ a, (k0_off261 v911) a + S1x256.size a ≤ S250000x256.size a := fun arg29 v911 k0_hw122 k0_h2 => k0_hw122 k0_h2

def k0_off262 (arg29 : BitVec 32) (arg30 : BitVec 32) (v849 : BitVec 32) (k0_t7 : Fin (k0_t7_loop arg30 v849).trips) : Fin 2 → Nat :=
  let v922 : Index := Scalar.indexCast arg29
  let c256_i32_616 : BitVec 32 := 256#32
  let v920 : BitVec 32 := Scalar.muli arg30 c256_i32_616
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_614 : BitVec 32 := 16#32
  let v918 : BitVec 32 := Scalar.muli v865 c16_i32_614
  let c4_i32_615 : BitVec 32 := 4#32
  let v919 : BitVec 32 := Scalar.addi v918 c4_i32_615
  let v921 : BitVec 32 := Scalar.addi v920 v919
  let v923 : Index := Scalar.indexCast v921
  ![v922.toNat, v923.toNat]
def k0_off263 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off264 (v616 : BitVec 32) (k0_t6 : Fin (k0_t6_loop v616).trips) (arg30 : BitVec 32) (v849 : BitVec 32) (k0_t7 : Fin (k0_t7_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_614 : BitVec 32 := 16#32
  let v918 : BitVec 32 := Scalar.muli v865 c16_i32_614
  let c4_i32_615 : BitVec 32 := 4#32
  let v919 : BitVec 32 := Scalar.addi v918 c4_i32_615
  let c0_i32_618 : BitVec 32 := 0#32
  ![v847.toNat, v919.toNat, 0]
def k0_off265 (v924 : BitVec 32) : Fin 2 → Nat :=
  let c2_i32_617 : BitVec 32 := 2#32
  let v925 : BitVec 32 := Scalar.shrui v924 c2_i32_617
  let c0_i32_619 : BitVec 32 := 0#32
  ![v925.toNat, 0]

def k0_chk123 (arg29 : BitVec 32) (v924 : BitVec 32) : Prop :=
  (∀ (k0_h2 : k0_cond2 arg29 = 1#1), ∀ a, (k0_off265 v924) a + S1x256.size a ≤ S250000x256.size a)
theorem k0_off265_inb : ∀ (arg29 : BitVec 32) (v924 : BitVec 32) (k0_hw123 : k0_chk123 arg29 v924), ∀ (k0_h2 : k0_cond2 arg29 = 1#1), ∀ a, (k0_off265 v924) a + S1x256.size a ≤ S250000x256.size a := fun arg29 v924 k0_hw123 k0_h2 => k0_hw123 k0_h2

def k0_off266 (arg29 : BitVec 32) (arg30 : BitVec 32) (v849 : BitVec 32) (k0_t7 : Fin (k0_t7_loop arg30 v849).trips) : Fin 2 → Nat :=
  let v935 : Index := Scalar.indexCast arg29
  let c256_i32_622 : BitVec 32 := 256#32
  let v933 : BitVec 32 := Scalar.muli arg30 c256_i32_622
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_620 : BitVec 32 := 16#32
  let v931 : BitVec 32 := Scalar.muli v865 c16_i32_620
  let c5_i32_621 : BitVec 32 := 5#32
  let v932 : BitVec 32 := Scalar.addi v931 c5_i32_621
  let v934 : BitVec 32 := Scalar.addi v933 v932
  let v936 : Index := Scalar.indexCast v934
  ![v935.toNat, v936.toNat]
def k0_off267 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off268 (v616 : BitVec 32) (k0_t6 : Fin (k0_t6_loop v616).trips) (arg30 : BitVec 32) (v849 : BitVec 32) (k0_t7 : Fin (k0_t7_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_620 : BitVec 32 := 16#32
  let v931 : BitVec 32 := Scalar.muli v865 c16_i32_620
  let c5_i32_621 : BitVec 32 := 5#32
  let v932 : BitVec 32 := Scalar.addi v931 c5_i32_621
  let c0_i32_624 : BitVec 32 := 0#32
  ![v847.toNat, v932.toNat, 0]
def k0_off269 (v937 : BitVec 32) : Fin 2 → Nat :=
  let c2_i32_623 : BitVec 32 := 2#32
  let v938 : BitVec 32 := Scalar.shrui v937 c2_i32_623
  let c0_i32_625 : BitVec 32 := 0#32
  ![v938.toNat, 0]

def k0_chk124 (arg29 : BitVec 32) (v937 : BitVec 32) : Prop :=
  (∀ (k0_h2 : k0_cond2 arg29 = 1#1), ∀ a, (k0_off269 v937) a + S1x256.size a ≤ S250000x256.size a)
theorem k0_off269_inb : ∀ (arg29 : BitVec 32) (v937 : BitVec 32) (k0_hw124 : k0_chk124 arg29 v937), ∀ (k0_h2 : k0_cond2 arg29 = 1#1), ∀ a, (k0_off269 v937) a + S1x256.size a ≤ S250000x256.size a := fun arg29 v937 k0_hw124 k0_h2 => k0_hw124 k0_h2

def k0_off270 (arg29 : BitVec 32) (arg30 : BitVec 32) (v849 : BitVec 32) (k0_t7 : Fin (k0_t7_loop arg30 v849).trips) : Fin 2 → Nat :=
  let v948 : Index := Scalar.indexCast arg29
  let c256_i32_628 : BitVec 32 := 256#32
  let v946 : BitVec 32 := Scalar.muli arg30 c256_i32_628
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_626 : BitVec 32 := 16#32
  let v944 : BitVec 32 := Scalar.muli v865 c16_i32_626
  let c6_i32_627 : BitVec 32 := 6#32
  let v945 : BitVec 32 := Scalar.addi v944 c6_i32_627
  let v947 : BitVec 32 := Scalar.addi v946 v945
  let v949 : Index := Scalar.indexCast v947
  ![v948.toNat, v949.toNat]
def k0_off271 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off272 (v616 : BitVec 32) (k0_t6 : Fin (k0_t6_loop v616).trips) (arg30 : BitVec 32) (v849 : BitVec 32) (k0_t7 : Fin (k0_t7_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_626 : BitVec 32 := 16#32
  let v944 : BitVec 32 := Scalar.muli v865 c16_i32_626
  let c6_i32_627 : BitVec 32 := 6#32
  let v945 : BitVec 32 := Scalar.addi v944 c6_i32_627
  let c0_i32_630 : BitVec 32 := 0#32
  ![v847.toNat, v945.toNat, 0]
def k0_off273 (v950 : BitVec 32) : Fin 2 → Nat :=
  let c2_i32_629 : BitVec 32 := 2#32
  let v951 : BitVec 32 := Scalar.shrui v950 c2_i32_629
  let c0_i32_631 : BitVec 32 := 0#32
  ![v951.toNat, 0]

def k0_chk125 (arg29 : BitVec 32) (v950 : BitVec 32) : Prop :=
  (∀ (k0_h2 : k0_cond2 arg29 = 1#1), ∀ a, (k0_off273 v950) a + S1x256.size a ≤ S250000x256.size a)
theorem k0_off273_inb : ∀ (arg29 : BitVec 32) (v950 : BitVec 32) (k0_hw125 : k0_chk125 arg29 v950), ∀ (k0_h2 : k0_cond2 arg29 = 1#1), ∀ a, (k0_off273 v950) a + S1x256.size a ≤ S250000x256.size a := fun arg29 v950 k0_hw125 k0_h2 => k0_hw125 k0_h2

def k0_off274 (arg29 : BitVec 32) (arg30 : BitVec 32) (v849 : BitVec 32) (k0_t7 : Fin (k0_t7_loop arg30 v849).trips) : Fin 2 → Nat :=
  let v961 : Index := Scalar.indexCast arg29
  let c256_i32_634 : BitVec 32 := 256#32
  let v959 : BitVec 32 := Scalar.muli arg30 c256_i32_634
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_632 : BitVec 32 := 16#32
  let v957 : BitVec 32 := Scalar.muli v865 c16_i32_632
  let c7_i32_633 : BitVec 32 := 7#32
  let v958 : BitVec 32 := Scalar.addi v957 c7_i32_633
  let v960 : BitVec 32 := Scalar.addi v959 v958
  let v962 : Index := Scalar.indexCast v960
  ![v961.toNat, v962.toNat]
def k0_off275 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off276 (v616 : BitVec 32) (k0_t6 : Fin (k0_t6_loop v616).trips) (arg30 : BitVec 32) (v849 : BitVec 32) (k0_t7 : Fin (k0_t7_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_632 : BitVec 32 := 16#32
  let v957 : BitVec 32 := Scalar.muli v865 c16_i32_632
  let c7_i32_633 : BitVec 32 := 7#32
  let v958 : BitVec 32 := Scalar.addi v957 c7_i32_633
  let c0_i32_636 : BitVec 32 := 0#32
  ![v847.toNat, v958.toNat, 0]
def k0_off277 (v963 : BitVec 32) : Fin 2 → Nat :=
  let c2_i32_635 : BitVec 32 := 2#32
  let v964 : BitVec 32 := Scalar.shrui v963 c2_i32_635
  let c0_i32_637 : BitVec 32 := 0#32
  ![v964.toNat, 0]

def k0_chk126 (arg29 : BitVec 32) (v963 : BitVec 32) : Prop :=
  (∀ (k0_h2 : k0_cond2 arg29 = 1#1), ∀ a, (k0_off277 v963) a + S1x256.size a ≤ S250000x256.size a)
theorem k0_off277_inb : ∀ (arg29 : BitVec 32) (v963 : BitVec 32) (k0_hw126 : k0_chk126 arg29 v963), ∀ (k0_h2 : k0_cond2 arg29 = 1#1), ∀ a, (k0_off277 v963) a + S1x256.size a ≤ S250000x256.size a := fun arg29 v963 k0_hw126 k0_h2 => k0_hw126 k0_h2

def k0_off278 (arg29 : BitVec 32) (arg30 : BitVec 32) (v849 : BitVec 32) (k0_t7 : Fin (k0_t7_loop arg30 v849).trips) : Fin 2 → Nat :=
  let v974 : Index := Scalar.indexCast arg29
  let c256_i32_640 : BitVec 32 := 256#32
  let v972 : BitVec 32 := Scalar.muli arg30 c256_i32_640
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_638 : BitVec 32 := 16#32
  let v970 : BitVec 32 := Scalar.muli v865 c16_i32_638
  let c8_i32_639 : BitVec 32 := 8#32
  let v971 : BitVec 32 := Scalar.addi v970 c8_i32_639
  let v973 : BitVec 32 := Scalar.addi v972 v971
  let v975 : Index := Scalar.indexCast v973
  ![v974.toNat, v975.toNat]
def k0_off279 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off280 (v616 : BitVec 32) (k0_t6 : Fin (k0_t6_loop v616).trips) (arg30 : BitVec 32) (v849 : BitVec 32) (k0_t7 : Fin (k0_t7_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_638 : BitVec 32 := 16#32
  let v970 : BitVec 32 := Scalar.muli v865 c16_i32_638
  let c8_i32_639 : BitVec 32 := 8#32
  let v971 : BitVec 32 := Scalar.addi v970 c8_i32_639
  let c0_i32_642 : BitVec 32 := 0#32
  ![v847.toNat, v971.toNat, 0]
def k0_off281 (v976 : BitVec 32) : Fin 2 → Nat :=
  let c2_i32_641 : BitVec 32 := 2#32
  let v977 : BitVec 32 := Scalar.shrui v976 c2_i32_641
  let c0_i32_643 : BitVec 32 := 0#32
  ![v977.toNat, 0]

def k0_chk127 (arg29 : BitVec 32) (v976 : BitVec 32) : Prop :=
  (∀ (k0_h2 : k0_cond2 arg29 = 1#1), ∀ a, (k0_off281 v976) a + S1x256.size a ≤ S250000x256.size a)
theorem k0_off281_inb : ∀ (arg29 : BitVec 32) (v976 : BitVec 32) (k0_hw127 : k0_chk127 arg29 v976), ∀ (k0_h2 : k0_cond2 arg29 = 1#1), ∀ a, (k0_off281 v976) a + S1x256.size a ≤ S250000x256.size a := fun arg29 v976 k0_hw127 k0_h2 => k0_hw127 k0_h2

def k0_off282 (arg29 : BitVec 32) (arg30 : BitVec 32) (v849 : BitVec 32) (k0_t7 : Fin (k0_t7_loop arg30 v849).trips) : Fin 2 → Nat :=
  let v987 : Index := Scalar.indexCast arg29
  let c256_i32_646 : BitVec 32 := 256#32
  let v985 : BitVec 32 := Scalar.muli arg30 c256_i32_646
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_644 : BitVec 32 := 16#32
  let v983 : BitVec 32 := Scalar.muli v865 c16_i32_644
  let c9_i32_645 : BitVec 32 := 9#32
  let v984 : BitVec 32 := Scalar.addi v983 c9_i32_645
  let v986 : BitVec 32 := Scalar.addi v985 v984
  let v988 : Index := Scalar.indexCast v986
  ![v987.toNat, v988.toNat]
def k0_off283 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off284 (v616 : BitVec 32) (k0_t6 : Fin (k0_t6_loop v616).trips) (arg30 : BitVec 32) (v849 : BitVec 32) (k0_t7 : Fin (k0_t7_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_644 : BitVec 32 := 16#32
  let v983 : BitVec 32 := Scalar.muli v865 c16_i32_644
  let c9_i32_645 : BitVec 32 := 9#32
  let v984 : BitVec 32 := Scalar.addi v983 c9_i32_645
  let c0_i32_648 : BitVec 32 := 0#32
  ![v847.toNat, v984.toNat, 0]
def k0_off285 (v989 : BitVec 32) : Fin 2 → Nat :=
  let c2_i32_647 : BitVec 32 := 2#32
  let v990 : BitVec 32 := Scalar.shrui v989 c2_i32_647
  let c0_i32_649 : BitVec 32 := 0#32
  ![v990.toNat, 0]

def k0_chk128 (arg29 : BitVec 32) (v989 : BitVec 32) : Prop :=
  (∀ (k0_h2 : k0_cond2 arg29 = 1#1), ∀ a, (k0_off285 v989) a + S1x256.size a ≤ S250000x256.size a)
theorem k0_off285_inb : ∀ (arg29 : BitVec 32) (v989 : BitVec 32) (k0_hw128 : k0_chk128 arg29 v989), ∀ (k0_h2 : k0_cond2 arg29 = 1#1), ∀ a, (k0_off285 v989) a + S1x256.size a ≤ S250000x256.size a := fun arg29 v989 k0_hw128 k0_h2 => k0_hw128 k0_h2

def k0_off286 (arg29 : BitVec 32) (arg30 : BitVec 32) (v849 : BitVec 32) (k0_t7 : Fin (k0_t7_loop arg30 v849).trips) : Fin 2 → Nat :=
  let v1000 : Index := Scalar.indexCast arg29
  let c256_i32_652 : BitVec 32 := 256#32
  let v998 : BitVec 32 := Scalar.muli arg30 c256_i32_652
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_650 : BitVec 32 := 16#32
  let v996 : BitVec 32 := Scalar.muli v865 c16_i32_650
  let c10_i32_651 : BitVec 32 := 10#32
  let v997 : BitVec 32 := Scalar.addi v996 c10_i32_651
  let v999 : BitVec 32 := Scalar.addi v998 v997
  let v1001 : Index := Scalar.indexCast v999
  ![v1000.toNat, v1001.toNat]
def k0_off287 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off288 (v616 : BitVec 32) (k0_t6 : Fin (k0_t6_loop v616).trips) (arg30 : BitVec 32) (v849 : BitVec 32) (k0_t7 : Fin (k0_t7_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_650 : BitVec 32 := 16#32
  let v996 : BitVec 32 := Scalar.muli v865 c16_i32_650
  let c10_i32_651 : BitVec 32 := 10#32
  let v997 : BitVec 32 := Scalar.addi v996 c10_i32_651
  let c0_i32_654 : BitVec 32 := 0#32
  ![v847.toNat, v997.toNat, 0]
def k0_off289 (v1002 : BitVec 32) : Fin 2 → Nat :=
  let c2_i32_653 : BitVec 32 := 2#32
  let v1003 : BitVec 32 := Scalar.shrui v1002 c2_i32_653
  let c0_i32_655 : BitVec 32 := 0#32
  ![v1003.toNat, 0]

def k0_chk129 (arg29 : BitVec 32) (v1002 : BitVec 32) : Prop :=
  (∀ (k0_h2 : k0_cond2 arg29 = 1#1), ∀ a, (k0_off289 v1002) a + S1x256.size a ≤ S250000x256.size a)
theorem k0_off289_inb : ∀ (arg29 : BitVec 32) (v1002 : BitVec 32) (k0_hw129 : k0_chk129 arg29 v1002), ∀ (k0_h2 : k0_cond2 arg29 = 1#1), ∀ a, (k0_off289 v1002) a + S1x256.size a ≤ S250000x256.size a := fun arg29 v1002 k0_hw129 k0_h2 => k0_hw129 k0_h2

def k0_off290 (arg29 : BitVec 32) (arg30 : BitVec 32) (v849 : BitVec 32) (k0_t7 : Fin (k0_t7_loop arg30 v849).trips) : Fin 2 → Nat :=
  let v1013 : Index := Scalar.indexCast arg29
  let c256_i32_658 : BitVec 32 := 256#32
  let v1011 : BitVec 32 := Scalar.muli arg30 c256_i32_658
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_656 : BitVec 32 := 16#32
  let v1009 : BitVec 32 := Scalar.muli v865 c16_i32_656
  let c11_i32_657 : BitVec 32 := 11#32
  let v1010 : BitVec 32 := Scalar.addi v1009 c11_i32_657
  let v1012 : BitVec 32 := Scalar.addi v1011 v1010
  let v1014 : Index := Scalar.indexCast v1012
  ![v1013.toNat, v1014.toNat]
def k0_off291 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off292 (v616 : BitVec 32) (k0_t6 : Fin (k0_t6_loop v616).trips) (arg30 : BitVec 32) (v849 : BitVec 32) (k0_t7 : Fin (k0_t7_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_656 : BitVec 32 := 16#32
  let v1009 : BitVec 32 := Scalar.muli v865 c16_i32_656
  let c11_i32_657 : BitVec 32 := 11#32
  let v1010 : BitVec 32 := Scalar.addi v1009 c11_i32_657
  let c0_i32_660 : BitVec 32 := 0#32
  ![v847.toNat, v1010.toNat, 0]
def k0_off293 (v1015 : BitVec 32) : Fin 2 → Nat :=
  let c2_i32_659 : BitVec 32 := 2#32
  let v1016 : BitVec 32 := Scalar.shrui v1015 c2_i32_659
  let c0_i32_661 : BitVec 32 := 0#32
  ![v1016.toNat, 0]

def k0_chk130 (arg29 : BitVec 32) (v1015 : BitVec 32) : Prop :=
  (∀ (k0_h2 : k0_cond2 arg29 = 1#1), ∀ a, (k0_off293 v1015) a + S1x256.size a ≤ S250000x256.size a)
theorem k0_off293_inb : ∀ (arg29 : BitVec 32) (v1015 : BitVec 32) (k0_hw130 : k0_chk130 arg29 v1015), ∀ (k0_h2 : k0_cond2 arg29 = 1#1), ∀ a, (k0_off293 v1015) a + S1x256.size a ≤ S250000x256.size a := fun arg29 v1015 k0_hw130 k0_h2 => k0_hw130 k0_h2

def k0_off294 (arg29 : BitVec 32) (arg30 : BitVec 32) (v849 : BitVec 32) (k0_t7 : Fin (k0_t7_loop arg30 v849).trips) : Fin 2 → Nat :=
  let v1026 : Index := Scalar.indexCast arg29
  let c256_i32_664 : BitVec 32 := 256#32
  let v1024 : BitVec 32 := Scalar.muli arg30 c256_i32_664
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_662 : BitVec 32 := 16#32
  let v1022 : BitVec 32 := Scalar.muli v865 c16_i32_662
  let c12_i32_663 : BitVec 32 := 12#32
  let v1023 : BitVec 32 := Scalar.addi v1022 c12_i32_663
  let v1025 : BitVec 32 := Scalar.addi v1024 v1023
  let v1027 : Index := Scalar.indexCast v1025
  ![v1026.toNat, v1027.toNat]
def k0_off295 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off296 (v616 : BitVec 32) (k0_t6 : Fin (k0_t6_loop v616).trips) (arg30 : BitVec 32) (v849 : BitVec 32) (k0_t7 : Fin (k0_t7_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_662 : BitVec 32 := 16#32
  let v1022 : BitVec 32 := Scalar.muli v865 c16_i32_662
  let c12_i32_663 : BitVec 32 := 12#32
  let v1023 : BitVec 32 := Scalar.addi v1022 c12_i32_663
  let c0_i32_666 : BitVec 32 := 0#32
  ![v847.toNat, v1023.toNat, 0]
def k0_off297 (v1028 : BitVec 32) : Fin 2 → Nat :=
  let c2_i32_665 : BitVec 32 := 2#32
  let v1029 : BitVec 32 := Scalar.shrui v1028 c2_i32_665
  let c0_i32_667 : BitVec 32 := 0#32
  ![v1029.toNat, 0]

def k0_chk131 (arg29 : BitVec 32) (v1028 : BitVec 32) : Prop :=
  (∀ (k0_h2 : k0_cond2 arg29 = 1#1), ∀ a, (k0_off297 v1028) a + S1x256.size a ≤ S250000x256.size a)
theorem k0_off297_inb : ∀ (arg29 : BitVec 32) (v1028 : BitVec 32) (k0_hw131 : k0_chk131 arg29 v1028), ∀ (k0_h2 : k0_cond2 arg29 = 1#1), ∀ a, (k0_off297 v1028) a + S1x256.size a ≤ S250000x256.size a := fun arg29 v1028 k0_hw131 k0_h2 => k0_hw131 k0_h2

def k0_off298 (arg29 : BitVec 32) (arg30 : BitVec 32) (v849 : BitVec 32) (k0_t7 : Fin (k0_t7_loop arg30 v849).trips) : Fin 2 → Nat :=
  let v1039 : Index := Scalar.indexCast arg29
  let c256_i32_670 : BitVec 32 := 256#32
  let v1037 : BitVec 32 := Scalar.muli arg30 c256_i32_670
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_668 : BitVec 32 := 16#32
  let v1035 : BitVec 32 := Scalar.muli v865 c16_i32_668
  let c13_i32_669 : BitVec 32 := 13#32
  let v1036 : BitVec 32 := Scalar.addi v1035 c13_i32_669
  let v1038 : BitVec 32 := Scalar.addi v1037 v1036
  let v1040 : Index := Scalar.indexCast v1038
  ![v1039.toNat, v1040.toNat]
def k0_off299 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off300 (v616 : BitVec 32) (k0_t6 : Fin (k0_t6_loop v616).trips) (arg30 : BitVec 32) (v849 : BitVec 32) (k0_t7 : Fin (k0_t7_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_668 : BitVec 32 := 16#32
  let v1035 : BitVec 32 := Scalar.muli v865 c16_i32_668
  let c13_i32_669 : BitVec 32 := 13#32
  let v1036 : BitVec 32 := Scalar.addi v1035 c13_i32_669
  let c0_i32_672 : BitVec 32 := 0#32
  ![v847.toNat, v1036.toNat, 0]
def k0_off301 (v1041 : BitVec 32) : Fin 2 → Nat :=
  let c2_i32_671 : BitVec 32 := 2#32
  let v1042 : BitVec 32 := Scalar.shrui v1041 c2_i32_671
  let c0_i32_673 : BitVec 32 := 0#32
  ![v1042.toNat, 0]

def k0_chk132 (arg29 : BitVec 32) (v1041 : BitVec 32) : Prop :=
  (∀ (k0_h2 : k0_cond2 arg29 = 1#1), ∀ a, (k0_off301 v1041) a + S1x256.size a ≤ S250000x256.size a)
theorem k0_off301_inb : ∀ (arg29 : BitVec 32) (v1041 : BitVec 32) (k0_hw132 : k0_chk132 arg29 v1041), ∀ (k0_h2 : k0_cond2 arg29 = 1#1), ∀ a, (k0_off301 v1041) a + S1x256.size a ≤ S250000x256.size a := fun arg29 v1041 k0_hw132 k0_h2 => k0_hw132 k0_h2

def k0_off302 (arg29 : BitVec 32) (arg30 : BitVec 32) (v849 : BitVec 32) (k0_t7 : Fin (k0_t7_loop arg30 v849).trips) : Fin 2 → Nat :=
  let v1052 : Index := Scalar.indexCast arg29
  let c256_i32_676 : BitVec 32 := 256#32
  let v1050 : BitVec 32 := Scalar.muli arg30 c256_i32_676
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_674 : BitVec 32 := 16#32
  let v1048 : BitVec 32 := Scalar.muli v865 c16_i32_674
  let c14_i32_675 : BitVec 32 := 14#32
  let v1049 : BitVec 32 := Scalar.addi v1048 c14_i32_675
  let v1051 : BitVec 32 := Scalar.addi v1050 v1049
  let v1053 : Index := Scalar.indexCast v1051
  ![v1052.toNat, v1053.toNat]
def k0_off303 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off304 (v616 : BitVec 32) (k0_t6 : Fin (k0_t6_loop v616).trips) (arg30 : BitVec 32) (v849 : BitVec 32) (k0_t7 : Fin (k0_t7_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_674 : BitVec 32 := 16#32
  let v1048 : BitVec 32 := Scalar.muli v865 c16_i32_674
  let c14_i32_675 : BitVec 32 := 14#32
  let v1049 : BitVec 32 := Scalar.addi v1048 c14_i32_675
  let c0_i32_678 : BitVec 32 := 0#32
  ![v847.toNat, v1049.toNat, 0]
def k0_off305 (v1054 : BitVec 32) : Fin 2 → Nat :=
  let c2_i32_677 : BitVec 32 := 2#32
  let v1055 : BitVec 32 := Scalar.shrui v1054 c2_i32_677
  let c0_i32_679 : BitVec 32 := 0#32
  ![v1055.toNat, 0]

def k0_chk133 (arg29 : BitVec 32) (v1054 : BitVec 32) : Prop :=
  (∀ (k0_h2 : k0_cond2 arg29 = 1#1), ∀ a, (k0_off305 v1054) a + S1x256.size a ≤ S250000x256.size a)
theorem k0_off305_inb : ∀ (arg29 : BitVec 32) (v1054 : BitVec 32) (k0_hw133 : k0_chk133 arg29 v1054), ∀ (k0_h2 : k0_cond2 arg29 = 1#1), ∀ a, (k0_off305 v1054) a + S1x256.size a ≤ S250000x256.size a := fun arg29 v1054 k0_hw133 k0_h2 => k0_hw133 k0_h2

def k0_off306 (arg29 : BitVec 32) (arg30 : BitVec 32) (v849 : BitVec 32) (k0_t7 : Fin (k0_t7_loop arg30 v849).trips) : Fin 2 → Nat :=
  let v1065 : Index := Scalar.indexCast arg29
  let c256_i32_682 : BitVec 32 := 256#32
  let v1063 : BitVec 32 := Scalar.muli arg30 c256_i32_682
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_680 : BitVec 32 := 16#32
  let v1061 : BitVec 32 := Scalar.muli v865 c16_i32_680
  let c15_i32_681 : BitVec 32 := 15#32
  let v1062 : BitVec 32 := Scalar.addi v1061 c15_i32_681
  let v1064 : BitVec 32 := Scalar.addi v1063 v1062
  let v1066 : Index := Scalar.indexCast v1064
  ![v1065.toNat, v1066.toNat]
def k0_off307 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off308 (v616 : BitVec 32) (k0_t6 : Fin (k0_t6_loop v616).trips) (arg30 : BitVec 32) (v849 : BitVec 32) (k0_t7 : Fin (k0_t7_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t7
  let c1_i32_584 : BitVec 32 := 1#32
  let v864 : BitVec 32 := Scalar.muli arg31 c1_i32_584
  let v865 : BitVec 32 := Scalar.addi c0_i32_585 v864
  let c16_i32_680 : BitVec 32 := 16#32
  let v1061 : BitVec 32 := Scalar.muli v865 c16_i32_680
  let c15_i32_681 : BitVec 32 := 15#32
  let v1062 : BitVec 32 := Scalar.addi v1061 c15_i32_681
  let c0_i32_684 : BitVec 32 := 0#32
  ![v847.toNat, v1062.toNat, 0]
def k0_off309 (v1067 : BitVec 32) : Fin 2 → Nat :=
  let c2_i32_683 : BitVec 32 := 2#32
  let v1068 : BitVec 32 := Scalar.shrui v1067 c2_i32_683
  let c0_i32_685 : BitVec 32 := 0#32
  ![v1068.toNat, 0]

def k0_chk134 (arg29 : BitVec 32) (v1067 : BitVec 32) : Prop :=
  (∀ (k0_h2 : k0_cond2 arg29 = 1#1), ∀ a, (k0_off309 v1067) a + S1x256.size a ≤ S250000x256.size a)
theorem k0_off309_inb : ∀ (arg29 : BitVec 32) (v1067 : BitVec 32) (k0_hw134 : k0_chk134 arg29 v1067), ∀ (k0_h2 : k0_cond2 arg29 = 1#1), ∀ a, (k0_off309 v1067) a + S1x256.size a ≤ S250000x256.size a := fun arg29 v1067 k0_hw134 k0_h2 => k0_hw134 k0_h2

@[reducible] def k0_t8_loop (arg30 : BitVec 32) (v849 : BitVec 32) : Scf.Loop 32 :=
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let v860 : BitVec 32 := Scalar.addi c0_i32_586 v859
  let c1_i32_589 : BitVec 32 := 1#32
  ⟨v863, v860, c1_i32_589⟩
def k0_off310 (arg29 : BitVec 32) (arg30 : BitVec 32) (v849 : BitVec 32) (k0_t8 : Fin (k0_t8_loop arg30 v849).trips) : Fin 2 → Nat :=
  let v870 : Index := Scalar.indexCast arg29
  let c256_i32_592 : BitVec 32 := 256#32
  let v868 : BitVec 32 := Scalar.muli arg30 c256_i32_592
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_590 : BitVec 32 := 16#32
  let v866 : BitVec 32 := Scalar.muli v865 c16_i32_590
  let c0_i32_591 : BitVec 32 := 0#32
  let v867 : BitVec 32 := Scalar.addi v866 c0_i32_591
  let v869 : BitVec 32 := Scalar.addi v868 v867
  let v871 : Index := Scalar.indexCast v869
  ![v870.toNat, v871.toNat]
def k0_off311 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off312 (v616 : BitVec 32) (k0_t6 : Fin (k0_t6_loop v616).trips) (arg30 : BitVec 32) (v849 : BitVec 32) (k0_t8 : Fin (k0_t8_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_590 : BitVec 32 := 16#32
  let v866 : BitVec 32 := Scalar.muli v865 c16_i32_590
  let c0_i32_591 : BitVec 32 := 0#32
  let v867 : BitVec 32 := Scalar.addi v866 c0_i32_591
  let c0_i32_594 : BitVec 32 := 0#32
  ![v847.toNat, v867.toNat, 0]
def k0_off313 (v872 : BitVec 32) : Fin 2 → Nat :=
  let c2_i32_593 : BitVec 32 := 2#32
  let v873 : BitVec 32 := Scalar.shrui v872 c2_i32_593
  let c0_i32_595 : BitVec 32 := 0#32
  ![v873.toNat, 0]

def k0_chk135 (arg29 : BitVec 32) (v872 : BitVec 32) : Prop :=
  (∀ (k0_h2 : k0_cond2 arg29 = 1#1), ∀ a, (k0_off313 v872) a + S1x256.size a ≤ S250000x256.size a)
theorem k0_off313_inb : ∀ (arg29 : BitVec 32) (v872 : BitVec 32) (k0_hw135 : k0_chk135 arg29 v872), ∀ (k0_h2 : k0_cond2 arg29 = 1#1), ∀ a, (k0_off313 v872) a + S1x256.size a ≤ S250000x256.size a := fun arg29 v872 k0_hw135 k0_h2 => k0_hw135 k0_h2

def k0_off314 (arg29 : BitVec 32) (arg30 : BitVec 32) (v849 : BitVec 32) (k0_t8 : Fin (k0_t8_loop arg30 v849).trips) : Fin 2 → Nat :=
  let v883 : Index := Scalar.indexCast arg29
  let c256_i32_598 : BitVec 32 := 256#32
  let v881 : BitVec 32 := Scalar.muli arg30 c256_i32_598
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_596 : BitVec 32 := 16#32
  let v879 : BitVec 32 := Scalar.muli v865 c16_i32_596
  let c1_i32_597 : BitVec 32 := 1#32
  let v880 : BitVec 32 := Scalar.addi v879 c1_i32_597
  let v882 : BitVec 32 := Scalar.addi v881 v880
  let v884 : Index := Scalar.indexCast v882
  ![v883.toNat, v884.toNat]
def k0_off315 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off316 (v616 : BitVec 32) (k0_t6 : Fin (k0_t6_loop v616).trips) (arg30 : BitVec 32) (v849 : BitVec 32) (k0_t8 : Fin (k0_t8_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_596 : BitVec 32 := 16#32
  let v879 : BitVec 32 := Scalar.muli v865 c16_i32_596
  let c1_i32_597 : BitVec 32 := 1#32
  let v880 : BitVec 32 := Scalar.addi v879 c1_i32_597
  let c0_i32_600 : BitVec 32 := 0#32
  ![v847.toNat, v880.toNat, 0]
def k0_off317 (v885 : BitVec 32) : Fin 2 → Nat :=
  let c2_i32_599 : BitVec 32 := 2#32
  let v886 : BitVec 32 := Scalar.shrui v885 c2_i32_599
  let c0_i32_601 : BitVec 32 := 0#32
  ![v886.toNat, 0]

def k0_chk136 (arg29 : BitVec 32) (v885 : BitVec 32) : Prop :=
  (∀ (k0_h2 : k0_cond2 arg29 = 1#1), ∀ a, (k0_off317 v885) a + S1x256.size a ≤ S250000x256.size a)
theorem k0_off317_inb : ∀ (arg29 : BitVec 32) (v885 : BitVec 32) (k0_hw136 : k0_chk136 arg29 v885), ∀ (k0_h2 : k0_cond2 arg29 = 1#1), ∀ a, (k0_off317 v885) a + S1x256.size a ≤ S250000x256.size a := fun arg29 v885 k0_hw136 k0_h2 => k0_hw136 k0_h2

def k0_off318 (arg29 : BitVec 32) (arg30 : BitVec 32) (v849 : BitVec 32) (k0_t8 : Fin (k0_t8_loop arg30 v849).trips) : Fin 2 → Nat :=
  let v896 : Index := Scalar.indexCast arg29
  let c256_i32_604 : BitVec 32 := 256#32
  let v894 : BitVec 32 := Scalar.muli arg30 c256_i32_604
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_602 : BitVec 32 := 16#32
  let v892 : BitVec 32 := Scalar.muli v865 c16_i32_602
  let c2_i32_603 : BitVec 32 := 2#32
  let v893 : BitVec 32 := Scalar.addi v892 c2_i32_603
  let v895 : BitVec 32 := Scalar.addi v894 v893
  let v897 : Index := Scalar.indexCast v895
  ![v896.toNat, v897.toNat]
def k0_off319 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off320 (v616 : BitVec 32) (k0_t6 : Fin (k0_t6_loop v616).trips) (arg30 : BitVec 32) (v849 : BitVec 32) (k0_t8 : Fin (k0_t8_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_602 : BitVec 32 := 16#32
  let v892 : BitVec 32 := Scalar.muli v865 c16_i32_602
  let c2_i32_603 : BitVec 32 := 2#32
  let v893 : BitVec 32 := Scalar.addi v892 c2_i32_603
  let c0_i32_606 : BitVec 32 := 0#32
  ![v847.toNat, v893.toNat, 0]
def k0_off321 (v898 : BitVec 32) : Fin 2 → Nat :=
  let c2_i32_605 : BitVec 32 := 2#32
  let v899 : BitVec 32 := Scalar.shrui v898 c2_i32_605
  let c0_i32_607 : BitVec 32 := 0#32
  ![v899.toNat, 0]

def k0_chk137 (arg29 : BitVec 32) (v898 : BitVec 32) : Prop :=
  (∀ (k0_h2 : k0_cond2 arg29 = 1#1), ∀ a, (k0_off321 v898) a + S1x256.size a ≤ S250000x256.size a)
theorem k0_off321_inb : ∀ (arg29 : BitVec 32) (v898 : BitVec 32) (k0_hw137 : k0_chk137 arg29 v898), ∀ (k0_h2 : k0_cond2 arg29 = 1#1), ∀ a, (k0_off321 v898) a + S1x256.size a ≤ S250000x256.size a := fun arg29 v898 k0_hw137 k0_h2 => k0_hw137 k0_h2

def k0_off322 (arg29 : BitVec 32) (arg30 : BitVec 32) (v849 : BitVec 32) (k0_t8 : Fin (k0_t8_loop arg30 v849).trips) : Fin 2 → Nat :=
  let v909 : Index := Scalar.indexCast arg29
  let c256_i32_610 : BitVec 32 := 256#32
  let v907 : BitVec 32 := Scalar.muli arg30 c256_i32_610
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_608 : BitVec 32 := 16#32
  let v905 : BitVec 32 := Scalar.muli v865 c16_i32_608
  let c3_i32_609 : BitVec 32 := 3#32
  let v906 : BitVec 32 := Scalar.addi v905 c3_i32_609
  let v908 : BitVec 32 := Scalar.addi v907 v906
  let v910 : Index := Scalar.indexCast v908
  ![v909.toNat, v910.toNat]
def k0_off323 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off324 (v616 : BitVec 32) (k0_t6 : Fin (k0_t6_loop v616).trips) (arg30 : BitVec 32) (v849 : BitVec 32) (k0_t8 : Fin (k0_t8_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_608 : BitVec 32 := 16#32
  let v905 : BitVec 32 := Scalar.muli v865 c16_i32_608
  let c3_i32_609 : BitVec 32 := 3#32
  let v906 : BitVec 32 := Scalar.addi v905 c3_i32_609
  let c0_i32_612 : BitVec 32 := 0#32
  ![v847.toNat, v906.toNat, 0]
def k0_off325 (v911 : BitVec 32) : Fin 2 → Nat :=
  let c2_i32_611 : BitVec 32 := 2#32
  let v912 : BitVec 32 := Scalar.shrui v911 c2_i32_611
  let c0_i32_613 : BitVec 32 := 0#32
  ![v912.toNat, 0]

def k0_chk138 (arg29 : BitVec 32) (v911 : BitVec 32) : Prop :=
  (∀ (k0_h2 : k0_cond2 arg29 = 1#1), ∀ a, (k0_off325 v911) a + S1x256.size a ≤ S250000x256.size a)
theorem k0_off325_inb : ∀ (arg29 : BitVec 32) (v911 : BitVec 32) (k0_hw138 : k0_chk138 arg29 v911), ∀ (k0_h2 : k0_cond2 arg29 = 1#1), ∀ a, (k0_off325 v911) a + S1x256.size a ≤ S250000x256.size a := fun arg29 v911 k0_hw138 k0_h2 => k0_hw138 k0_h2

def k0_off326 (arg29 : BitVec 32) (arg30 : BitVec 32) (v849 : BitVec 32) (k0_t8 : Fin (k0_t8_loop arg30 v849).trips) : Fin 2 → Nat :=
  let v922 : Index := Scalar.indexCast arg29
  let c256_i32_616 : BitVec 32 := 256#32
  let v920 : BitVec 32 := Scalar.muli arg30 c256_i32_616
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_614 : BitVec 32 := 16#32
  let v918 : BitVec 32 := Scalar.muli v865 c16_i32_614
  let c4_i32_615 : BitVec 32 := 4#32
  let v919 : BitVec 32 := Scalar.addi v918 c4_i32_615
  let v921 : BitVec 32 := Scalar.addi v920 v919
  let v923 : Index := Scalar.indexCast v921
  ![v922.toNat, v923.toNat]
def k0_off327 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off328 (v616 : BitVec 32) (k0_t6 : Fin (k0_t6_loop v616).trips) (arg30 : BitVec 32) (v849 : BitVec 32) (k0_t8 : Fin (k0_t8_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_614 : BitVec 32 := 16#32
  let v918 : BitVec 32 := Scalar.muli v865 c16_i32_614
  let c4_i32_615 : BitVec 32 := 4#32
  let v919 : BitVec 32 := Scalar.addi v918 c4_i32_615
  let c0_i32_618 : BitVec 32 := 0#32
  ![v847.toNat, v919.toNat, 0]
def k0_off329 (v924 : BitVec 32) : Fin 2 → Nat :=
  let c2_i32_617 : BitVec 32 := 2#32
  let v925 : BitVec 32 := Scalar.shrui v924 c2_i32_617
  let c0_i32_619 : BitVec 32 := 0#32
  ![v925.toNat, 0]

def k0_chk139 (arg29 : BitVec 32) (v924 : BitVec 32) : Prop :=
  (∀ (k0_h2 : k0_cond2 arg29 = 1#1), ∀ a, (k0_off329 v924) a + S1x256.size a ≤ S250000x256.size a)
theorem k0_off329_inb : ∀ (arg29 : BitVec 32) (v924 : BitVec 32) (k0_hw139 : k0_chk139 arg29 v924), ∀ (k0_h2 : k0_cond2 arg29 = 1#1), ∀ a, (k0_off329 v924) a + S1x256.size a ≤ S250000x256.size a := fun arg29 v924 k0_hw139 k0_h2 => k0_hw139 k0_h2

def k0_off330 (arg29 : BitVec 32) (arg30 : BitVec 32) (v849 : BitVec 32) (k0_t8 : Fin (k0_t8_loop arg30 v849).trips) : Fin 2 → Nat :=
  let v935 : Index := Scalar.indexCast arg29
  let c256_i32_622 : BitVec 32 := 256#32
  let v933 : BitVec 32 := Scalar.muli arg30 c256_i32_622
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_620 : BitVec 32 := 16#32
  let v931 : BitVec 32 := Scalar.muli v865 c16_i32_620
  let c5_i32_621 : BitVec 32 := 5#32
  let v932 : BitVec 32 := Scalar.addi v931 c5_i32_621
  let v934 : BitVec 32 := Scalar.addi v933 v932
  let v936 : Index := Scalar.indexCast v934
  ![v935.toNat, v936.toNat]
def k0_off331 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off332 (v616 : BitVec 32) (k0_t6 : Fin (k0_t6_loop v616).trips) (arg30 : BitVec 32) (v849 : BitVec 32) (k0_t8 : Fin (k0_t8_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_620 : BitVec 32 := 16#32
  let v931 : BitVec 32 := Scalar.muli v865 c16_i32_620
  let c5_i32_621 : BitVec 32 := 5#32
  let v932 : BitVec 32 := Scalar.addi v931 c5_i32_621
  let c0_i32_624 : BitVec 32 := 0#32
  ![v847.toNat, v932.toNat, 0]
def k0_off333 (v937 : BitVec 32) : Fin 2 → Nat :=
  let c2_i32_623 : BitVec 32 := 2#32
  let v938 : BitVec 32 := Scalar.shrui v937 c2_i32_623
  let c0_i32_625 : BitVec 32 := 0#32
  ![v938.toNat, 0]

def k0_chk140 (arg29 : BitVec 32) (v937 : BitVec 32) : Prop :=
  (∀ (k0_h2 : k0_cond2 arg29 = 1#1), ∀ a, (k0_off333 v937) a + S1x256.size a ≤ S250000x256.size a)
theorem k0_off333_inb : ∀ (arg29 : BitVec 32) (v937 : BitVec 32) (k0_hw140 : k0_chk140 arg29 v937), ∀ (k0_h2 : k0_cond2 arg29 = 1#1), ∀ a, (k0_off333 v937) a + S1x256.size a ≤ S250000x256.size a := fun arg29 v937 k0_hw140 k0_h2 => k0_hw140 k0_h2

def k0_off334 (arg29 : BitVec 32) (arg30 : BitVec 32) (v849 : BitVec 32) (k0_t8 : Fin (k0_t8_loop arg30 v849).trips) : Fin 2 → Nat :=
  let v948 : Index := Scalar.indexCast arg29
  let c256_i32_628 : BitVec 32 := 256#32
  let v946 : BitVec 32 := Scalar.muli arg30 c256_i32_628
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_626 : BitVec 32 := 16#32
  let v944 : BitVec 32 := Scalar.muli v865 c16_i32_626
  let c6_i32_627 : BitVec 32 := 6#32
  let v945 : BitVec 32 := Scalar.addi v944 c6_i32_627
  let v947 : BitVec 32 := Scalar.addi v946 v945
  let v949 : Index := Scalar.indexCast v947
  ![v948.toNat, v949.toNat]
def k0_off335 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off336 (v616 : BitVec 32) (k0_t6 : Fin (k0_t6_loop v616).trips) (arg30 : BitVec 32) (v849 : BitVec 32) (k0_t8 : Fin (k0_t8_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_626 : BitVec 32 := 16#32
  let v944 : BitVec 32 := Scalar.muli v865 c16_i32_626
  let c6_i32_627 : BitVec 32 := 6#32
  let v945 : BitVec 32 := Scalar.addi v944 c6_i32_627
  let c0_i32_630 : BitVec 32 := 0#32
  ![v847.toNat, v945.toNat, 0]
def k0_off337 (v950 : BitVec 32) : Fin 2 → Nat :=
  let c2_i32_629 : BitVec 32 := 2#32
  let v951 : BitVec 32 := Scalar.shrui v950 c2_i32_629
  let c0_i32_631 : BitVec 32 := 0#32
  ![v951.toNat, 0]

def k0_chk141 (arg29 : BitVec 32) (v950 : BitVec 32) : Prop :=
  (∀ (k0_h2 : k0_cond2 arg29 = 1#1), ∀ a, (k0_off337 v950) a + S1x256.size a ≤ S250000x256.size a)
theorem k0_off337_inb : ∀ (arg29 : BitVec 32) (v950 : BitVec 32) (k0_hw141 : k0_chk141 arg29 v950), ∀ (k0_h2 : k0_cond2 arg29 = 1#1), ∀ a, (k0_off337 v950) a + S1x256.size a ≤ S250000x256.size a := fun arg29 v950 k0_hw141 k0_h2 => k0_hw141 k0_h2

def k0_off338 (arg29 : BitVec 32) (arg30 : BitVec 32) (v849 : BitVec 32) (k0_t8 : Fin (k0_t8_loop arg30 v849).trips) : Fin 2 → Nat :=
  let v961 : Index := Scalar.indexCast arg29
  let c256_i32_634 : BitVec 32 := 256#32
  let v959 : BitVec 32 := Scalar.muli arg30 c256_i32_634
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_632 : BitVec 32 := 16#32
  let v957 : BitVec 32 := Scalar.muli v865 c16_i32_632
  let c7_i32_633 : BitVec 32 := 7#32
  let v958 : BitVec 32 := Scalar.addi v957 c7_i32_633
  let v960 : BitVec 32 := Scalar.addi v959 v958
  let v962 : Index := Scalar.indexCast v960
  ![v961.toNat, v962.toNat]
def k0_off339 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off340 (v616 : BitVec 32) (k0_t6 : Fin (k0_t6_loop v616).trips) (arg30 : BitVec 32) (v849 : BitVec 32) (k0_t8 : Fin (k0_t8_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_632 : BitVec 32 := 16#32
  let v957 : BitVec 32 := Scalar.muli v865 c16_i32_632
  let c7_i32_633 : BitVec 32 := 7#32
  let v958 : BitVec 32 := Scalar.addi v957 c7_i32_633
  let c0_i32_636 : BitVec 32 := 0#32
  ![v847.toNat, v958.toNat, 0]
def k0_off341 (v963 : BitVec 32) : Fin 2 → Nat :=
  let c2_i32_635 : BitVec 32 := 2#32
  let v964 : BitVec 32 := Scalar.shrui v963 c2_i32_635
  let c0_i32_637 : BitVec 32 := 0#32
  ![v964.toNat, 0]

def k0_chk142 (arg29 : BitVec 32) (v963 : BitVec 32) : Prop :=
  (∀ (k0_h2 : k0_cond2 arg29 = 1#1), ∀ a, (k0_off341 v963) a + S1x256.size a ≤ S250000x256.size a)
theorem k0_off341_inb : ∀ (arg29 : BitVec 32) (v963 : BitVec 32) (k0_hw142 : k0_chk142 arg29 v963), ∀ (k0_h2 : k0_cond2 arg29 = 1#1), ∀ a, (k0_off341 v963) a + S1x256.size a ≤ S250000x256.size a := fun arg29 v963 k0_hw142 k0_h2 => k0_hw142 k0_h2

def k0_off342 (arg29 : BitVec 32) (arg30 : BitVec 32) (v849 : BitVec 32) (k0_t8 : Fin (k0_t8_loop arg30 v849).trips) : Fin 2 → Nat :=
  let v974 : Index := Scalar.indexCast arg29
  let c256_i32_640 : BitVec 32 := 256#32
  let v972 : BitVec 32 := Scalar.muli arg30 c256_i32_640
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_638 : BitVec 32 := 16#32
  let v970 : BitVec 32 := Scalar.muli v865 c16_i32_638
  let c8_i32_639 : BitVec 32 := 8#32
  let v971 : BitVec 32 := Scalar.addi v970 c8_i32_639
  let v973 : BitVec 32 := Scalar.addi v972 v971
  let v975 : Index := Scalar.indexCast v973
  ![v974.toNat, v975.toNat]
def k0_off343 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off344 (v616 : BitVec 32) (k0_t6 : Fin (k0_t6_loop v616).trips) (arg30 : BitVec 32) (v849 : BitVec 32) (k0_t8 : Fin (k0_t8_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_638 : BitVec 32 := 16#32
  let v970 : BitVec 32 := Scalar.muli v865 c16_i32_638
  let c8_i32_639 : BitVec 32 := 8#32
  let v971 : BitVec 32 := Scalar.addi v970 c8_i32_639
  let c0_i32_642 : BitVec 32 := 0#32
  ![v847.toNat, v971.toNat, 0]
def k0_off345 (v976 : BitVec 32) : Fin 2 → Nat :=
  let c2_i32_641 : BitVec 32 := 2#32
  let v977 : BitVec 32 := Scalar.shrui v976 c2_i32_641
  let c0_i32_643 : BitVec 32 := 0#32
  ![v977.toNat, 0]

def k0_chk143 (arg29 : BitVec 32) (v976 : BitVec 32) : Prop :=
  (∀ (k0_h2 : k0_cond2 arg29 = 1#1), ∀ a, (k0_off345 v976) a + S1x256.size a ≤ S250000x256.size a)
theorem k0_off345_inb : ∀ (arg29 : BitVec 32) (v976 : BitVec 32) (k0_hw143 : k0_chk143 arg29 v976), ∀ (k0_h2 : k0_cond2 arg29 = 1#1), ∀ a, (k0_off345 v976) a + S1x256.size a ≤ S250000x256.size a := fun arg29 v976 k0_hw143 k0_h2 => k0_hw143 k0_h2

def k0_off346 (arg29 : BitVec 32) (arg30 : BitVec 32) (v849 : BitVec 32) (k0_t8 : Fin (k0_t8_loop arg30 v849).trips) : Fin 2 → Nat :=
  let v987 : Index := Scalar.indexCast arg29
  let c256_i32_646 : BitVec 32 := 256#32
  let v985 : BitVec 32 := Scalar.muli arg30 c256_i32_646
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_644 : BitVec 32 := 16#32
  let v983 : BitVec 32 := Scalar.muli v865 c16_i32_644
  let c9_i32_645 : BitVec 32 := 9#32
  let v984 : BitVec 32 := Scalar.addi v983 c9_i32_645
  let v986 : BitVec 32 := Scalar.addi v985 v984
  let v988 : Index := Scalar.indexCast v986
  ![v987.toNat, v988.toNat]
def k0_off347 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off348 (v616 : BitVec 32) (k0_t6 : Fin (k0_t6_loop v616).trips) (arg30 : BitVec 32) (v849 : BitVec 32) (k0_t8 : Fin (k0_t8_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_644 : BitVec 32 := 16#32
  let v983 : BitVec 32 := Scalar.muli v865 c16_i32_644
  let c9_i32_645 : BitVec 32 := 9#32
  let v984 : BitVec 32 := Scalar.addi v983 c9_i32_645
  let c0_i32_648 : BitVec 32 := 0#32
  ![v847.toNat, v984.toNat, 0]
def k0_off349 (v989 : BitVec 32) : Fin 2 → Nat :=
  let c2_i32_647 : BitVec 32 := 2#32
  let v990 : BitVec 32 := Scalar.shrui v989 c2_i32_647
  let c0_i32_649 : BitVec 32 := 0#32
  ![v990.toNat, 0]

def k0_chk144 (arg29 : BitVec 32) (v989 : BitVec 32) : Prop :=
  (∀ (k0_h2 : k0_cond2 arg29 = 1#1), ∀ a, (k0_off349 v989) a + S1x256.size a ≤ S250000x256.size a)
theorem k0_off349_inb : ∀ (arg29 : BitVec 32) (v989 : BitVec 32) (k0_hw144 : k0_chk144 arg29 v989), ∀ (k0_h2 : k0_cond2 arg29 = 1#1), ∀ a, (k0_off349 v989) a + S1x256.size a ≤ S250000x256.size a := fun arg29 v989 k0_hw144 k0_h2 => k0_hw144 k0_h2

def k0_off350 (arg29 : BitVec 32) (arg30 : BitVec 32) (v849 : BitVec 32) (k0_t8 : Fin (k0_t8_loop arg30 v849).trips) : Fin 2 → Nat :=
  let v1000 : Index := Scalar.indexCast arg29
  let c256_i32_652 : BitVec 32 := 256#32
  let v998 : BitVec 32 := Scalar.muli arg30 c256_i32_652
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_650 : BitVec 32 := 16#32
  let v996 : BitVec 32 := Scalar.muli v865 c16_i32_650
  let c10_i32_651 : BitVec 32 := 10#32
  let v997 : BitVec 32 := Scalar.addi v996 c10_i32_651
  let v999 : BitVec 32 := Scalar.addi v998 v997
  let v1001 : Index := Scalar.indexCast v999
  ![v1000.toNat, v1001.toNat]
def k0_off351 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off352 (v616 : BitVec 32) (k0_t6 : Fin (k0_t6_loop v616).trips) (arg30 : BitVec 32) (v849 : BitVec 32) (k0_t8 : Fin (k0_t8_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_650 : BitVec 32 := 16#32
  let v996 : BitVec 32 := Scalar.muli v865 c16_i32_650
  let c10_i32_651 : BitVec 32 := 10#32
  let v997 : BitVec 32 := Scalar.addi v996 c10_i32_651
  let c0_i32_654 : BitVec 32 := 0#32
  ![v847.toNat, v997.toNat, 0]
def k0_off353 (v1002 : BitVec 32) : Fin 2 → Nat :=
  let c2_i32_653 : BitVec 32 := 2#32
  let v1003 : BitVec 32 := Scalar.shrui v1002 c2_i32_653
  let c0_i32_655 : BitVec 32 := 0#32
  ![v1003.toNat, 0]

def k0_chk145 (arg29 : BitVec 32) (v1002 : BitVec 32) : Prop :=
  (∀ (k0_h2 : k0_cond2 arg29 = 1#1), ∀ a, (k0_off353 v1002) a + S1x256.size a ≤ S250000x256.size a)
theorem k0_off353_inb : ∀ (arg29 : BitVec 32) (v1002 : BitVec 32) (k0_hw145 : k0_chk145 arg29 v1002), ∀ (k0_h2 : k0_cond2 arg29 = 1#1), ∀ a, (k0_off353 v1002) a + S1x256.size a ≤ S250000x256.size a := fun arg29 v1002 k0_hw145 k0_h2 => k0_hw145 k0_h2

def k0_off354 (arg29 : BitVec 32) (arg30 : BitVec 32) (v849 : BitVec 32) (k0_t8 : Fin (k0_t8_loop arg30 v849).trips) : Fin 2 → Nat :=
  let v1013 : Index := Scalar.indexCast arg29
  let c256_i32_658 : BitVec 32 := 256#32
  let v1011 : BitVec 32 := Scalar.muli arg30 c256_i32_658
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_656 : BitVec 32 := 16#32
  let v1009 : BitVec 32 := Scalar.muli v865 c16_i32_656
  let c11_i32_657 : BitVec 32 := 11#32
  let v1010 : BitVec 32 := Scalar.addi v1009 c11_i32_657
  let v1012 : BitVec 32 := Scalar.addi v1011 v1010
  let v1014 : Index := Scalar.indexCast v1012
  ![v1013.toNat, v1014.toNat]
def k0_off355 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off356 (v616 : BitVec 32) (k0_t6 : Fin (k0_t6_loop v616).trips) (arg30 : BitVec 32) (v849 : BitVec 32) (k0_t8 : Fin (k0_t8_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_656 : BitVec 32 := 16#32
  let v1009 : BitVec 32 := Scalar.muli v865 c16_i32_656
  let c11_i32_657 : BitVec 32 := 11#32
  let v1010 : BitVec 32 := Scalar.addi v1009 c11_i32_657
  let c0_i32_660 : BitVec 32 := 0#32
  ![v847.toNat, v1010.toNat, 0]
def k0_off357 (v1015 : BitVec 32) : Fin 2 → Nat :=
  let c2_i32_659 : BitVec 32 := 2#32
  let v1016 : BitVec 32 := Scalar.shrui v1015 c2_i32_659
  let c0_i32_661 : BitVec 32 := 0#32
  ![v1016.toNat, 0]

def k0_chk146 (arg29 : BitVec 32) (v1015 : BitVec 32) : Prop :=
  (∀ (k0_h2 : k0_cond2 arg29 = 1#1), ∀ a, (k0_off357 v1015) a + S1x256.size a ≤ S250000x256.size a)
theorem k0_off357_inb : ∀ (arg29 : BitVec 32) (v1015 : BitVec 32) (k0_hw146 : k0_chk146 arg29 v1015), ∀ (k0_h2 : k0_cond2 arg29 = 1#1), ∀ a, (k0_off357 v1015) a + S1x256.size a ≤ S250000x256.size a := fun arg29 v1015 k0_hw146 k0_h2 => k0_hw146 k0_h2

def k0_off358 (arg29 : BitVec 32) (arg30 : BitVec 32) (v849 : BitVec 32) (k0_t8 : Fin (k0_t8_loop arg30 v849).trips) : Fin 2 → Nat :=
  let v1026 : Index := Scalar.indexCast arg29
  let c256_i32_664 : BitVec 32 := 256#32
  let v1024 : BitVec 32 := Scalar.muli arg30 c256_i32_664
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_662 : BitVec 32 := 16#32
  let v1022 : BitVec 32 := Scalar.muli v865 c16_i32_662
  let c12_i32_663 : BitVec 32 := 12#32
  let v1023 : BitVec 32 := Scalar.addi v1022 c12_i32_663
  let v1025 : BitVec 32 := Scalar.addi v1024 v1023
  let v1027 : Index := Scalar.indexCast v1025
  ![v1026.toNat, v1027.toNat]
def k0_off359 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off360 (v616 : BitVec 32) (k0_t6 : Fin (k0_t6_loop v616).trips) (arg30 : BitVec 32) (v849 : BitVec 32) (k0_t8 : Fin (k0_t8_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_662 : BitVec 32 := 16#32
  let v1022 : BitVec 32 := Scalar.muli v865 c16_i32_662
  let c12_i32_663 : BitVec 32 := 12#32
  let v1023 : BitVec 32 := Scalar.addi v1022 c12_i32_663
  let c0_i32_666 : BitVec 32 := 0#32
  ![v847.toNat, v1023.toNat, 0]
def k0_off361 (v1028 : BitVec 32) : Fin 2 → Nat :=
  let c2_i32_665 : BitVec 32 := 2#32
  let v1029 : BitVec 32 := Scalar.shrui v1028 c2_i32_665
  let c0_i32_667 : BitVec 32 := 0#32
  ![v1029.toNat, 0]

def k0_chk147 (arg29 : BitVec 32) (v1028 : BitVec 32) : Prop :=
  (∀ (k0_h2 : k0_cond2 arg29 = 1#1), ∀ a, (k0_off361 v1028) a + S1x256.size a ≤ S250000x256.size a)
theorem k0_off361_inb : ∀ (arg29 : BitVec 32) (v1028 : BitVec 32) (k0_hw147 : k0_chk147 arg29 v1028), ∀ (k0_h2 : k0_cond2 arg29 = 1#1), ∀ a, (k0_off361 v1028) a + S1x256.size a ≤ S250000x256.size a := fun arg29 v1028 k0_hw147 k0_h2 => k0_hw147 k0_h2

def k0_off362 (arg29 : BitVec 32) (arg30 : BitVec 32) (v849 : BitVec 32) (k0_t8 : Fin (k0_t8_loop arg30 v849).trips) : Fin 2 → Nat :=
  let v1039 : Index := Scalar.indexCast arg29
  let c256_i32_670 : BitVec 32 := 256#32
  let v1037 : BitVec 32 := Scalar.muli arg30 c256_i32_670
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_668 : BitVec 32 := 16#32
  let v1035 : BitVec 32 := Scalar.muli v865 c16_i32_668
  let c13_i32_669 : BitVec 32 := 13#32
  let v1036 : BitVec 32 := Scalar.addi v1035 c13_i32_669
  let v1038 : BitVec 32 := Scalar.addi v1037 v1036
  let v1040 : Index := Scalar.indexCast v1038
  ![v1039.toNat, v1040.toNat]
def k0_off363 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off364 (v616 : BitVec 32) (k0_t6 : Fin (k0_t6_loop v616).trips) (arg30 : BitVec 32) (v849 : BitVec 32) (k0_t8 : Fin (k0_t8_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_668 : BitVec 32 := 16#32
  let v1035 : BitVec 32 := Scalar.muli v865 c16_i32_668
  let c13_i32_669 : BitVec 32 := 13#32
  let v1036 : BitVec 32 := Scalar.addi v1035 c13_i32_669
  let c0_i32_672 : BitVec 32 := 0#32
  ![v847.toNat, v1036.toNat, 0]
def k0_off365 (v1041 : BitVec 32) : Fin 2 → Nat :=
  let c2_i32_671 : BitVec 32 := 2#32
  let v1042 : BitVec 32 := Scalar.shrui v1041 c2_i32_671
  let c0_i32_673 : BitVec 32 := 0#32
  ![v1042.toNat, 0]

def k0_chk148 (arg29 : BitVec 32) (v1041 : BitVec 32) : Prop :=
  (∀ (k0_h2 : k0_cond2 arg29 = 1#1), ∀ a, (k0_off365 v1041) a + S1x256.size a ≤ S250000x256.size a)
theorem k0_off365_inb : ∀ (arg29 : BitVec 32) (v1041 : BitVec 32) (k0_hw148 : k0_chk148 arg29 v1041), ∀ (k0_h2 : k0_cond2 arg29 = 1#1), ∀ a, (k0_off365 v1041) a + S1x256.size a ≤ S250000x256.size a := fun arg29 v1041 k0_hw148 k0_h2 => k0_hw148 k0_h2

def k0_off366 (arg29 : BitVec 32) (arg30 : BitVec 32) (v849 : BitVec 32) (k0_t8 : Fin (k0_t8_loop arg30 v849).trips) : Fin 2 → Nat :=
  let v1052 : Index := Scalar.indexCast arg29
  let c256_i32_676 : BitVec 32 := 256#32
  let v1050 : BitVec 32 := Scalar.muli arg30 c256_i32_676
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_674 : BitVec 32 := 16#32
  let v1048 : BitVec 32 := Scalar.muli v865 c16_i32_674
  let c14_i32_675 : BitVec 32 := 14#32
  let v1049 : BitVec 32 := Scalar.addi v1048 c14_i32_675
  let v1051 : BitVec 32 := Scalar.addi v1050 v1049
  let v1053 : Index := Scalar.indexCast v1051
  ![v1052.toNat, v1053.toNat]
def k0_off367 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off368 (v616 : BitVec 32) (k0_t6 : Fin (k0_t6_loop v616).trips) (arg30 : BitVec 32) (v849 : BitVec 32) (k0_t8 : Fin (k0_t8_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_674 : BitVec 32 := 16#32
  let v1048 : BitVec 32 := Scalar.muli v865 c16_i32_674
  let c14_i32_675 : BitVec 32 := 14#32
  let v1049 : BitVec 32 := Scalar.addi v1048 c14_i32_675
  let c0_i32_678 : BitVec 32 := 0#32
  ![v847.toNat, v1049.toNat, 0]
def k0_off369 (v1054 : BitVec 32) : Fin 2 → Nat :=
  let c2_i32_677 : BitVec 32 := 2#32
  let v1055 : BitVec 32 := Scalar.shrui v1054 c2_i32_677
  let c0_i32_679 : BitVec 32 := 0#32
  ![v1055.toNat, 0]

def k0_chk149 (arg29 : BitVec 32) (v1054 : BitVec 32) : Prop :=
  (∀ (k0_h2 : k0_cond2 arg29 = 1#1), ∀ a, (k0_off369 v1054) a + S1x256.size a ≤ S250000x256.size a)
theorem k0_off369_inb : ∀ (arg29 : BitVec 32) (v1054 : BitVec 32) (k0_hw149 : k0_chk149 arg29 v1054), ∀ (k0_h2 : k0_cond2 arg29 = 1#1), ∀ a, (k0_off369 v1054) a + S1x256.size a ≤ S250000x256.size a := fun arg29 v1054 k0_hw149 k0_h2 => k0_hw149 k0_h2

def k0_off370 (arg29 : BitVec 32) (arg30 : BitVec 32) (v849 : BitVec 32) (k0_t8 : Fin (k0_t8_loop arg30 v849).trips) : Fin 2 → Nat :=
  let v1065 : Index := Scalar.indexCast arg29
  let c256_i32_682 : BitVec 32 := 256#32
  let v1063 : BitVec 32 := Scalar.muli arg30 c256_i32_682
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_680 : BitVec 32 := 16#32
  let v1061 : BitVec 32 := Scalar.muli v865 c16_i32_680
  let c15_i32_681 : BitVec 32 := 15#32
  let v1062 : BitVec 32 := Scalar.addi v1061 c15_i32_681
  let v1064 : BitVec 32 := Scalar.addi v1063 v1062
  let v1066 : Index := Scalar.indexCast v1064
  ![v1065.toNat, v1066.toNat]
def k0_off371 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off372 (v616 : BitVec 32) (k0_t6 : Fin (k0_t6_loop v616).trips) (arg30 : BitVec 32) (v849 : BitVec 32) (k0_t8 : Fin (k0_t8_loop arg30 v849).trips) : Fin 3 → Nat :=
  let c0_i32_478 : BitVec 32 := 0#32
  let c1_i32_482 : BitVec 32 := 1#32
  let arg24 : BitVec 32 := Scf.iv c0_i32_478 c1_i32_482 k0_t6
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t8
  let c1_i32_584 : BitVec 32 := 1#32
  let v864 : BitVec 32 := Scalar.muli arg31 c1_i32_584
  let v865 : BitVec 32 := Scalar.addi c0_i32_585 v864
  let c16_i32_680 : BitVec 32 := 16#32
  let v1061 : BitVec 32 := Scalar.muli v865 c16_i32_680
  let c15_i32_681 : BitVec 32 := 15#32
  let v1062 : BitVec 32 := Scalar.addi v1061 c15_i32_681
  let c0_i32_684 : BitVec 32 := 0#32
  ![v847.toNat, v1062.toNat, 0]

def k0_chk118_0 (v616 : BitVec 32) (k0_t6 : Fin (k0_t6_loop v616).trips) (arg29 : BitVec 32) (arg30 : BitVec 32) (v849 : BitVec 32) : Prop :=
  (∀ (k0_h2 : k0_cond2 arg29 = 1#1), (k0_t7_loop arg30 v849).OK) ∧
  (∀ k0_t7 : Fin (k0_t7_loop arg30 v849).trips, ∀ (k0_h2 : k0_cond2 arg29 = 1#1), ∀ a, (k0_off246 arg29 arg30 v849 k0_t7) a + S1x1.size a ≤ S24x1536.size a) ∧
  (∀ k0_t7 : Fin (k0_t7_loop arg30 v849).trips, ∀ (k0_h2 : k0_cond2 arg29 = 1#1), ∀ a, (k0_off247 v616 k0_t6) a + S1.size a ≤ S3.size a) ∧
  (∀ k0_t7 : Fin (k0_t7_loop arg30 v849).trips, ∀ (k0_h2 : k0_cond2 arg29 = 1#1), ∀ a, (k0_off248 v616 k0_t6 arg30 v849 k0_t7) a + S1x1x256.size a ≤ S3x256x256.size a) ∧
  (∀ k0_t7 : Fin (k0_t7_loop arg30 v849).trips, ∀ (k0_h2 : k0_cond2 arg29 = 1#1), ∀ a, (k0_off250 arg29 arg30 v849 k0_t7) a + S1x1.size a ≤ S24x1536.size a) ∧
  (∀ k0_t7 : Fin (k0_t7_loop arg30 v849).trips, ∀ (k0_h2 : k0_cond2 arg29 = 1#1), ∀ a, (k0_off251 v616 k0_t6) a + S1.size a ≤ S3.size a) ∧
  (∀ k0_t7 : Fin (k0_t7_loop arg30 v849).trips, ∀ (k0_h2 : k0_cond2 arg29 = 1#1), ∀ a, (k0_off252 v616 k0_t6 arg30 v849 k0_t7) a + S1x1x256.size a ≤ S3x256x256.size a) ∧
  (∀ k0_t7 : Fin (k0_t7_loop arg30 v849).trips, ∀ (k0_h2 : k0_cond2 arg29 = 1#1), ∀ a, (k0_off254 arg29 arg30 v849 k0_t7) a + S1x1.size a ≤ S24x1536.size a) ∧
  (∀ k0_t7 : Fin (k0_t7_loop arg30 v849).trips, ∀ (k0_h2 : k0_cond2 arg29 = 1#1), ∀ a, (k0_off255 v616 k0_t6) a + S1.size a ≤ S3.size a) ∧
  (∀ k0_t7 : Fin (k0_t7_loop arg30 v849).trips, ∀ (k0_h2 : k0_cond2 arg29 = 1#1), ∀ a, (k0_off256 v616 k0_t6 arg30 v849 k0_t7) a + S1x1x256.size a ≤ S3x256x256.size a) ∧
  (∀ k0_t7 : Fin (k0_t7_loop arg30 v849).trips, ∀ (k0_h2 : k0_cond2 arg29 = 1#1), ∀ a, (k0_off258 arg29 arg30 v849 k0_t7) a + S1x1.size a ≤ S24x1536.size a) ∧
  (∀ k0_t7 : Fin (k0_t7_loop arg30 v849).trips, ∀ (k0_h2 : k0_cond2 arg29 = 1#1), ∀ a, (k0_off259 v616 k0_t6) a + S1.size a ≤ S3.size a) ∧
  (∀ k0_t7 : Fin (k0_t7_loop arg30 v849).trips, ∀ (k0_h2 : k0_cond2 arg29 = 1#1), ∀ a, (k0_off260 v616 k0_t6 arg30 v849 k0_t7) a + S1x1x256.size a ≤ S3x256x256.size a) ∧
  (∀ k0_t7 : Fin (k0_t7_loop arg30 v849).trips, ∀ (k0_h2 : k0_cond2 arg29 = 1#1), ∀ a, (k0_off262 arg29 arg30 v849 k0_t7) a + S1x1.size a ≤ S24x1536.size a) ∧
  (∀ k0_t7 : Fin (k0_t7_loop arg30 v849).trips, ∀ (k0_h2 : k0_cond2 arg29 = 1#1), ∀ a, (k0_off263 v616 k0_t6) a + S1.size a ≤ S3.size a) ∧
  (∀ k0_t7 : Fin (k0_t7_loop arg30 v849).trips, ∀ (k0_h2 : k0_cond2 arg29 = 1#1), ∀ a, (k0_off264 v616 k0_t6 arg30 v849 k0_t7) a + S1x1x256.size a ≤ S3x256x256.size a) ∧
  (∀ k0_t7 : Fin (k0_t7_loop arg30 v849).trips, ∀ (k0_h2 : k0_cond2 arg29 = 1#1), ∀ a, (k0_off266 arg29 arg30 v849 k0_t7) a + S1x1.size a ≤ S24x1536.size a) ∧
  (∀ k0_t7 : Fin (k0_t7_loop arg30 v849).trips, ∀ (k0_h2 : k0_cond2 arg29 = 1#1), ∀ a, (k0_off267 v616 k0_t6) a + S1.size a ≤ S3.size a) ∧
  (∀ k0_t7 : Fin (k0_t7_loop arg30 v849).trips, ∀ (k0_h2 : k0_cond2 arg29 = 1#1), ∀ a, (k0_off268 v616 k0_t6 arg30 v849 k0_t7) a + S1x1x256.size a ≤ S3x256x256.size a) ∧
  (∀ k0_t7 : Fin (k0_t7_loop arg30 v849).trips, ∀ (k0_h2 : k0_cond2 arg29 = 1#1), ∀ a, (k0_off270 arg29 arg30 v849 k0_t7) a + S1x1.size a ≤ S24x1536.size a) ∧
  (∀ k0_t7 : Fin (k0_t7_loop arg30 v849).trips, ∀ (k0_h2 : k0_cond2 arg29 = 1#1), ∀ a, (k0_off271 v616 k0_t6) a + S1.size a ≤ S3.size a) ∧
  (∀ k0_t7 : Fin (k0_t7_loop arg30 v849).trips, ∀ (k0_h2 : k0_cond2 arg29 = 1#1), ∀ a, (k0_off272 v616 k0_t6 arg30 v849 k0_t7) a + S1x1x256.size a ≤ S3x256x256.size a) ∧
  (∀ k0_t7 : Fin (k0_t7_loop arg30 v849).trips, ∀ (k0_h2 : k0_cond2 arg29 = 1#1), ∀ a, (k0_off274 arg29 arg30 v849 k0_t7) a + S1x1.size a ≤ S24x1536.size a) ∧
  (∀ k0_t7 : Fin (k0_t7_loop arg30 v849).trips, ∀ (k0_h2 : k0_cond2 arg29 = 1#1), ∀ a, (k0_off275 v616 k0_t6) a + S1.size a ≤ S3.size a) ∧
  (∀ k0_t7 : Fin (k0_t7_loop arg30 v849).trips, ∀ (k0_h2 : k0_cond2 arg29 = 1#1), ∀ a, (k0_off276 v616 k0_t6 arg30 v849 k0_t7) a + S1x1x256.size a ≤ S3x256x256.size a) ∧
  (∀ k0_t7 : Fin (k0_t7_loop arg30 v849).trips, ∀ (k0_h2 : k0_cond2 arg29 = 1#1), ∀ a, (k0_off278 arg29 arg30 v849 k0_t7) a + S1x1.size a ≤ S24x1536.size a) ∧
  (∀ k0_t7 : Fin (k0_t7_loop arg30 v849).trips, ∀ (k0_h2 : k0_cond2 arg29 = 1#1), ∀ a, (k0_off279 v616 k0_t6) a + S1.size a ≤ S3.size a) ∧
  (∀ k0_t7 : Fin (k0_t7_loop arg30 v849).trips, ∀ (k0_h2 : k0_cond2 arg29 = 1#1), ∀ a, (k0_off280 v616 k0_t6 arg30 v849 k0_t7) a + S1x1x256.size a ≤ S3x256x256.size a) ∧
  (∀ k0_t7 : Fin (k0_t7_loop arg30 v849).trips, ∀ (k0_h2 : k0_cond2 arg29 = 1#1), ∀ a, (k0_off282 arg29 arg30 v849 k0_t7) a + S1x1.size a ≤ S24x1536.size a) ∧
  (∀ k0_t7 : Fin (k0_t7_loop arg30 v849).trips, ∀ (k0_h2 : k0_cond2 arg29 = 1#1), ∀ a, (k0_off283 v616 k0_t6) a + S1.size a ≤ S3.size a) ∧
  (∀ k0_t7 : Fin (k0_t7_loop arg30 v849).trips, ∀ (k0_h2 : k0_cond2 arg29 = 1#1), ∀ a, (k0_off284 v616 k0_t6 arg30 v849 k0_t7) a + S1x1x256.size a ≤ S3x256x256.size a) ∧
  (∀ k0_t7 : Fin (k0_t7_loop arg30 v849).trips, ∀ (k0_h2 : k0_cond2 arg29 = 1#1), ∀ a, (k0_off286 arg29 arg30 v849 k0_t7) a + S1x1.size a ≤ S24x1536.size a)
def k0_chk118_1 (v616 : BitVec 32) (k0_t6 : Fin (k0_t6_loop v616).trips) (arg29 : BitVec 32) (arg30 : BitVec 32) (v849 : BitVec 32) : Prop :=
  (∀ k0_t7 : Fin (k0_t7_loop arg30 v849).trips, ∀ (k0_h2 : k0_cond2 arg29 = 1#1), ∀ a, (k0_off287 v616 k0_t6) a + S1.size a ≤ S3.size a) ∧
  (∀ k0_t7 : Fin (k0_t7_loop arg30 v849).trips, ∀ (k0_h2 : k0_cond2 arg29 = 1#1), ∀ a, (k0_off288 v616 k0_t6 arg30 v849 k0_t7) a + S1x1x256.size a ≤ S3x256x256.size a) ∧
  (∀ k0_t7 : Fin (k0_t7_loop arg30 v849).trips, ∀ (k0_h2 : k0_cond2 arg29 = 1#1), ∀ a, (k0_off290 arg29 arg30 v849 k0_t7) a + S1x1.size a ≤ S24x1536.size a) ∧
  (∀ k0_t7 : Fin (k0_t7_loop arg30 v849).trips, ∀ (k0_h2 : k0_cond2 arg29 = 1#1), ∀ a, (k0_off291 v616 k0_t6) a + S1.size a ≤ S3.size a) ∧
  (∀ k0_t7 : Fin (k0_t7_loop arg30 v849).trips, ∀ (k0_h2 : k0_cond2 arg29 = 1#1), ∀ a, (k0_off292 v616 k0_t6 arg30 v849 k0_t7) a + S1x1x256.size a ≤ S3x256x256.size a) ∧
  (∀ k0_t7 : Fin (k0_t7_loop arg30 v849).trips, ∀ (k0_h2 : k0_cond2 arg29 = 1#1), ∀ a, (k0_off294 arg29 arg30 v849 k0_t7) a + S1x1.size a ≤ S24x1536.size a) ∧
  (∀ k0_t7 : Fin (k0_t7_loop arg30 v849).trips, ∀ (k0_h2 : k0_cond2 arg29 = 1#1), ∀ a, (k0_off295 v616 k0_t6) a + S1.size a ≤ S3.size a) ∧
  (∀ k0_t7 : Fin (k0_t7_loop arg30 v849).trips, ∀ (k0_h2 : k0_cond2 arg29 = 1#1), ∀ a, (k0_off296 v616 k0_t6 arg30 v849 k0_t7) a + S1x1x256.size a ≤ S3x256x256.size a) ∧
  (∀ k0_t7 : Fin (k0_t7_loop arg30 v849).trips, ∀ (k0_h2 : k0_cond2 arg29 = 1#1), ∀ a, (k0_off298 arg29 arg30 v849 k0_t7) a + S1x1.size a ≤ S24x1536.size a) ∧
  (∀ k0_t7 : Fin (k0_t7_loop arg30 v849).trips, ∀ (k0_h2 : k0_cond2 arg29 = 1#1), ∀ a, (k0_off299 v616 k0_t6) a + S1.size a ≤ S3.size a) ∧
  (∀ k0_t7 : Fin (k0_t7_loop arg30 v849).trips, ∀ (k0_h2 : k0_cond2 arg29 = 1#1), ∀ a, (k0_off300 v616 k0_t6 arg30 v849 k0_t7) a + S1x1x256.size a ≤ S3x256x256.size a) ∧
  (∀ k0_t7 : Fin (k0_t7_loop arg30 v849).trips, ∀ (k0_h2 : k0_cond2 arg29 = 1#1), ∀ a, (k0_off302 arg29 arg30 v849 k0_t7) a + S1x1.size a ≤ S24x1536.size a) ∧
  (∀ k0_t7 : Fin (k0_t7_loop arg30 v849).trips, ∀ (k0_h2 : k0_cond2 arg29 = 1#1), ∀ a, (k0_off303 v616 k0_t6) a + S1.size a ≤ S3.size a) ∧
  (∀ k0_t7 : Fin (k0_t7_loop arg30 v849).trips, ∀ (k0_h2 : k0_cond2 arg29 = 1#1), ∀ a, (k0_off304 v616 k0_t6 arg30 v849 k0_t7) a + S1x1x256.size a ≤ S3x256x256.size a) ∧
  (∀ k0_t7 : Fin (k0_t7_loop arg30 v849).trips, ∀ (k0_h2 : k0_cond2 arg29 = 1#1), ∀ a, (k0_off306 arg29 arg30 v849 k0_t7) a + S1x1.size a ≤ S24x1536.size a) ∧
  (∀ k0_t7 : Fin (k0_t7_loop arg30 v849).trips, ∀ (k0_h2 : k0_cond2 arg29 = 1#1), ∀ a, (k0_off307 v616 k0_t6) a + S1.size a ≤ S3.size a) ∧
  (∀ k0_t7 : Fin (k0_t7_loop arg30 v849).trips, ∀ (k0_h2 : k0_cond2 arg29 = 1#1), ∀ a, (k0_off308 v616 k0_t6 arg30 v849 k0_t7) a + S1x1x256.size a ≤ S3x256x256.size a) ∧
  (∀ (k0_h2 : k0_cond2 arg29 = 1#1), (k0_t8_loop arg30 v849).OK) ∧
  (∀ k0_t8 : Fin (k0_t8_loop arg30 v849).trips, ∀ (k0_h2 : k0_cond2 arg29 = 1#1), ∀ a, (k0_off310 arg29 arg30 v849 k0_t8) a + S1x1.size a ≤ S24x1536.size a) ∧
  (∀ k0_t8 : Fin (k0_t8_loop arg30 v849).trips, ∀ (k0_h2 : k0_cond2 arg29 = 1#1), ∀ a, (k0_off311 v616 k0_t6) a + S1.size a ≤ S3.size a) ∧
  (∀ k0_t8 : Fin (k0_t8_loop arg30 v849).trips, ∀ (k0_h2 : k0_cond2 arg29 = 1#1), ∀ a, (k0_off312 v616 k0_t6 arg30 v849 k0_t8) a + S1x1x256.size a ≤ S3x256x256.size a) ∧
  (∀ k0_t8 : Fin (k0_t8_loop arg30 v849).trips, ∀ (k0_h2 : k0_cond2 arg29 = 1#1), ∀ a, (k0_off314 arg29 arg30 v849 k0_t8) a + S1x1.size a ≤ S24x1536.size a) ∧
  (∀ k0_t8 : Fin (k0_t8_loop arg30 v849).trips, ∀ (k0_h2 : k0_cond2 arg29 = 1#1), ∀ a, (k0_off315 v616 k0_t6) a + S1.size a ≤ S3.size a) ∧
  (∀ k0_t8 : Fin (k0_t8_loop arg30 v849).trips, ∀ (k0_h2 : k0_cond2 arg29 = 1#1), ∀ a, (k0_off316 v616 k0_t6 arg30 v849 k0_t8) a + S1x1x256.size a ≤ S3x256x256.size a) ∧
  (∀ k0_t8 : Fin (k0_t8_loop arg30 v849).trips, ∀ (k0_h2 : k0_cond2 arg29 = 1#1), ∀ a, (k0_off318 arg29 arg30 v849 k0_t8) a + S1x1.size a ≤ S24x1536.size a) ∧
  (∀ k0_t8 : Fin (k0_t8_loop arg30 v849).trips, ∀ (k0_h2 : k0_cond2 arg29 = 1#1), ∀ a, (k0_off319 v616 k0_t6) a + S1.size a ≤ S3.size a) ∧
  (∀ k0_t8 : Fin (k0_t8_loop arg30 v849).trips, ∀ (k0_h2 : k0_cond2 arg29 = 1#1), ∀ a, (k0_off320 v616 k0_t6 arg30 v849 k0_t8) a + S1x1x256.size a ≤ S3x256x256.size a) ∧
  (∀ k0_t8 : Fin (k0_t8_loop arg30 v849).trips, ∀ (k0_h2 : k0_cond2 arg29 = 1#1), ∀ a, (k0_off322 arg29 arg30 v849 k0_t8) a + S1x1.size a ≤ S24x1536.size a) ∧
  (∀ k0_t8 : Fin (k0_t8_loop arg30 v849).trips, ∀ (k0_h2 : k0_cond2 arg29 = 1#1), ∀ a, (k0_off323 v616 k0_t6) a + S1.size a ≤ S3.size a) ∧
  (∀ k0_t8 : Fin (k0_t8_loop arg30 v849).trips, ∀ (k0_h2 : k0_cond2 arg29 = 1#1), ∀ a, (k0_off324 v616 k0_t6 arg30 v849 k0_t8) a + S1x1x256.size a ≤ S3x256x256.size a) ∧
  (∀ k0_t8 : Fin (k0_t8_loop arg30 v849).trips, ∀ (k0_h2 : k0_cond2 arg29 = 1#1), ∀ a, (k0_off326 arg29 arg30 v849 k0_t8) a + S1x1.size a ≤ S24x1536.size a) ∧
  (∀ k0_t8 : Fin (k0_t8_loop arg30 v849).trips, ∀ (k0_h2 : k0_cond2 arg29 = 1#1), ∀ a, (k0_off327 v616 k0_t6) a + S1.size a ≤ S3.size a)
def k0_chk118_2 (v616 : BitVec 32) (k0_t6 : Fin (k0_t6_loop v616).trips) (arg29 : BitVec 32) (arg30 : BitVec 32) (v849 : BitVec 32) : Prop :=
  (∀ k0_t8 : Fin (k0_t8_loop arg30 v849).trips, ∀ (k0_h2 : k0_cond2 arg29 = 1#1), ∀ a, (k0_off328 v616 k0_t6 arg30 v849 k0_t8) a + S1x1x256.size a ≤ S3x256x256.size a) ∧
  (∀ k0_t8 : Fin (k0_t8_loop arg30 v849).trips, ∀ (k0_h2 : k0_cond2 arg29 = 1#1), ∀ a, (k0_off330 arg29 arg30 v849 k0_t8) a + S1x1.size a ≤ S24x1536.size a) ∧
  (∀ k0_t8 : Fin (k0_t8_loop arg30 v849).trips, ∀ (k0_h2 : k0_cond2 arg29 = 1#1), ∀ a, (k0_off331 v616 k0_t6) a + S1.size a ≤ S3.size a) ∧
  (∀ k0_t8 : Fin (k0_t8_loop arg30 v849).trips, ∀ (k0_h2 : k0_cond2 arg29 = 1#1), ∀ a, (k0_off332 v616 k0_t6 arg30 v849 k0_t8) a + S1x1x256.size a ≤ S3x256x256.size a) ∧
  (∀ k0_t8 : Fin (k0_t8_loop arg30 v849).trips, ∀ (k0_h2 : k0_cond2 arg29 = 1#1), ∀ a, (k0_off334 arg29 arg30 v849 k0_t8) a + S1x1.size a ≤ S24x1536.size a) ∧
  (∀ k0_t8 : Fin (k0_t8_loop arg30 v849).trips, ∀ (k0_h2 : k0_cond2 arg29 = 1#1), ∀ a, (k0_off335 v616 k0_t6) a + S1.size a ≤ S3.size a) ∧
  (∀ k0_t8 : Fin (k0_t8_loop arg30 v849).trips, ∀ (k0_h2 : k0_cond2 arg29 = 1#1), ∀ a, (k0_off336 v616 k0_t6 arg30 v849 k0_t8) a + S1x1x256.size a ≤ S3x256x256.size a) ∧
  (∀ k0_t8 : Fin (k0_t8_loop arg30 v849).trips, ∀ (k0_h2 : k0_cond2 arg29 = 1#1), ∀ a, (k0_off338 arg29 arg30 v849 k0_t8) a + S1x1.size a ≤ S24x1536.size a) ∧
  (∀ k0_t8 : Fin (k0_t8_loop arg30 v849).trips, ∀ (k0_h2 : k0_cond2 arg29 = 1#1), ∀ a, (k0_off339 v616 k0_t6) a + S1.size a ≤ S3.size a) ∧
  (∀ k0_t8 : Fin (k0_t8_loop arg30 v849).trips, ∀ (k0_h2 : k0_cond2 arg29 = 1#1), ∀ a, (k0_off340 v616 k0_t6 arg30 v849 k0_t8) a + S1x1x256.size a ≤ S3x256x256.size a) ∧
  (∀ k0_t8 : Fin (k0_t8_loop arg30 v849).trips, ∀ (k0_h2 : k0_cond2 arg29 = 1#1), ∀ a, (k0_off342 arg29 arg30 v849 k0_t8) a + S1x1.size a ≤ S24x1536.size a) ∧
  (∀ k0_t8 : Fin (k0_t8_loop arg30 v849).trips, ∀ (k0_h2 : k0_cond2 arg29 = 1#1), ∀ a, (k0_off343 v616 k0_t6) a + S1.size a ≤ S3.size a) ∧
  (∀ k0_t8 : Fin (k0_t8_loop arg30 v849).trips, ∀ (k0_h2 : k0_cond2 arg29 = 1#1), ∀ a, (k0_off344 v616 k0_t6 arg30 v849 k0_t8) a + S1x1x256.size a ≤ S3x256x256.size a) ∧
  (∀ k0_t8 : Fin (k0_t8_loop arg30 v849).trips, ∀ (k0_h2 : k0_cond2 arg29 = 1#1), ∀ a, (k0_off346 arg29 arg30 v849 k0_t8) a + S1x1.size a ≤ S24x1536.size a) ∧
  (∀ k0_t8 : Fin (k0_t8_loop arg30 v849).trips, ∀ (k0_h2 : k0_cond2 arg29 = 1#1), ∀ a, (k0_off347 v616 k0_t6) a + S1.size a ≤ S3.size a) ∧
  (∀ k0_t8 : Fin (k0_t8_loop arg30 v849).trips, ∀ (k0_h2 : k0_cond2 arg29 = 1#1), ∀ a, (k0_off348 v616 k0_t6 arg30 v849 k0_t8) a + S1x1x256.size a ≤ S3x256x256.size a) ∧
  (∀ k0_t8 : Fin (k0_t8_loop arg30 v849).trips, ∀ (k0_h2 : k0_cond2 arg29 = 1#1), ∀ a, (k0_off350 arg29 arg30 v849 k0_t8) a + S1x1.size a ≤ S24x1536.size a) ∧
  (∀ k0_t8 : Fin (k0_t8_loop arg30 v849).trips, ∀ (k0_h2 : k0_cond2 arg29 = 1#1), ∀ a, (k0_off351 v616 k0_t6) a + S1.size a ≤ S3.size a) ∧
  (∀ k0_t8 : Fin (k0_t8_loop arg30 v849).trips, ∀ (k0_h2 : k0_cond2 arg29 = 1#1), ∀ a, (k0_off352 v616 k0_t6 arg30 v849 k0_t8) a + S1x1x256.size a ≤ S3x256x256.size a) ∧
  (∀ k0_t8 : Fin (k0_t8_loop arg30 v849).trips, ∀ (k0_h2 : k0_cond2 arg29 = 1#1), ∀ a, (k0_off354 arg29 arg30 v849 k0_t8) a + S1x1.size a ≤ S24x1536.size a) ∧
  (∀ k0_t8 : Fin (k0_t8_loop arg30 v849).trips, ∀ (k0_h2 : k0_cond2 arg29 = 1#1), ∀ a, (k0_off355 v616 k0_t6) a + S1.size a ≤ S3.size a) ∧
  (∀ k0_t8 : Fin (k0_t8_loop arg30 v849).trips, ∀ (k0_h2 : k0_cond2 arg29 = 1#1), ∀ a, (k0_off356 v616 k0_t6 arg30 v849 k0_t8) a + S1x1x256.size a ≤ S3x256x256.size a) ∧
  (∀ k0_t8 : Fin (k0_t8_loop arg30 v849).trips, ∀ (k0_h2 : k0_cond2 arg29 = 1#1), ∀ a, (k0_off358 arg29 arg30 v849 k0_t8) a + S1x1.size a ≤ S24x1536.size a) ∧
  (∀ k0_t8 : Fin (k0_t8_loop arg30 v849).trips, ∀ (k0_h2 : k0_cond2 arg29 = 1#1), ∀ a, (k0_off359 v616 k0_t6) a + S1.size a ≤ S3.size a) ∧
  (∀ k0_t8 : Fin (k0_t8_loop arg30 v849).trips, ∀ (k0_h2 : k0_cond2 arg29 = 1#1), ∀ a, (k0_off360 v616 k0_t6 arg30 v849 k0_t8) a + S1x1x256.size a ≤ S3x256x256.size a) ∧
  (∀ k0_t8 : Fin (k0_t8_loop arg30 v849).trips, ∀ (k0_h2 : k0_cond2 arg29 = 1#1), ∀ a, (k0_off362 arg29 arg30 v849 k0_t8) a + S1x1.size a ≤ S24x1536.size a) ∧
  (∀ k0_t8 : Fin (k0_t8_loop arg30 v849).trips, ∀ (k0_h2 : k0_cond2 arg29 = 1#1), ∀ a, (k0_off363 v616 k0_t6) a + S1.size a ≤ S3.size a) ∧
  (∀ k0_t8 : Fin (k0_t8_loop arg30 v849).trips, ∀ (k0_h2 : k0_cond2 arg29 = 1#1), ∀ a, (k0_off364 v616 k0_t6 arg30 v849 k0_t8) a + S1x1x256.size a ≤ S3x256x256.size a) ∧
  (∀ k0_t8 : Fin (k0_t8_loop arg30 v849).trips, ∀ (k0_h2 : k0_cond2 arg29 = 1#1), ∀ a, (k0_off366 arg29 arg30 v849 k0_t8) a + S1x1.size a ≤ S24x1536.size a) ∧
  (∀ k0_t8 : Fin (k0_t8_loop arg30 v849).trips, ∀ (k0_h2 : k0_cond2 arg29 = 1#1), ∀ a, (k0_off367 v616 k0_t6) a + S1.size a ≤ S3.size a) ∧
  (∀ k0_t8 : Fin (k0_t8_loop arg30 v849).trips, ∀ (k0_h2 : k0_cond2 arg29 = 1#1), ∀ a, (k0_off368 v616 k0_t6 arg30 v849 k0_t8) a + S1x1x256.size a ≤ S3x256x256.size a) ∧
  (∀ k0_t8 : Fin (k0_t8_loop arg30 v849).trips, ∀ (k0_h2 : k0_cond2 arg29 = 1#1), ∀ a, (k0_off370 arg29 arg30 v849 k0_t8) a + S1x1.size a ≤ S24x1536.size a)
def k0_chk118_3 (v616 : BitVec 32) (k0_t6 : Fin (k0_t6_loop v616).trips) (arg29 : BitVec 32) (arg30 : BitVec 32) (v849 : BitVec 32) : Prop :=
  (∀ k0_t8 : Fin (k0_t8_loop arg30 v849).trips, ∀ (k0_h2 : k0_cond2 arg29 = 1#1), ∀ a, (k0_off371 v616 k0_t6) a + S1.size a ≤ S3.size a) ∧
  (∀ k0_t8 : Fin (k0_t8_loop arg30 v849).trips, ∀ (k0_h2 : k0_cond2 arg29 = 1#1), ∀ a, (k0_off372 v616 k0_t6 arg30 v849 k0_t8) a + S1x1x256.size a ≤ S3x256x256.size a)
def k0_chk118 (v616 : BitVec 32) (k0_t6 : Fin (k0_t6_loop v616).trips) (arg29 : BitVec 32) (arg30 : BitVec 32) (v849 : BitVec 32) : Prop :=
  k0_chk118_0 v616 k0_t6 arg29 arg30 v849 ∧
  k0_chk118_1 v616 k0_t6 arg29 arg30 v849 ∧
  k0_chk118_2 v616 k0_t6 arg29 arg30 v849 ∧
  k0_chk118_3 v616 k0_t6 arg29 arg30 v849
theorem k0_t7_ok : ∀ (v616 : BitVec 32) (k0_t6 : Fin (k0_t6_loop v616).trips) (arg29 : BitVec 32) (arg30 : BitVec 32) (v849 : BitVec 32) (k0_hw118 : k0_chk118 v616 k0_t6 arg29 arg30 v849), ∀ (k0_h2 : k0_cond2 arg29 = 1#1), (k0_t7_loop arg30 v849).OK := fun v616 k0_t6 arg29 arg30 v849 k0_hw118 k0_h2 => k0_hw118.1.1 k0_h2
theorem k0_off246_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off246 arg29 arg30 v849 k0_t7) a + S1x1.size a ≤ S24x1536.size a := fun v616 k0_t6 arg29 arg30 v849 k0_hw118 k0_t7 k0_h2 => k0_hw118.1.2.1 k0_t7 k0_h2
theorem k0_off247_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off247 v616 k0_t6) a + S1.size a ≤ S3.size a := fun v616 k0_t6 arg29 arg30 v849 k0_hw118 k0_t7 k0_h2 => k0_hw118.1.2.2.1 k0_t7 k0_h2
theorem k0_off248_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off248 v616 k0_t6 arg30 v849 k0_t7) a + S1x1x256.size a ≤ S3x256x256.size a := fun v616 k0_t6 arg29 arg30 v849 k0_hw118 k0_t7 k0_h2 => k0_hw118.1.2.2.2.1 k0_t7 k0_h2
theorem k0_off250_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off250 arg29 arg30 v849 k0_t7) a + S1x1.size a ≤ S24x1536.size a := fun v616 k0_t6 arg29 arg30 v849 k0_hw118 k0_t7 k0_h2 => k0_hw118.1.2.2.2.2.1 k0_t7 k0_h2
theorem k0_off251_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off251 v616 k0_t6) a + S1.size a ≤ S3.size a := fun v616 k0_t6 arg29 arg30 v849 k0_hw118 k0_t7 k0_h2 => k0_hw118.1.2.2.2.2.2.1 k0_t7 k0_h2
theorem k0_off252_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off252 v616 k0_t6 arg30 v849 k0_t7) a + S1x1x256.size a ≤ S3x256x256.size a := fun v616 k0_t6 arg29 arg30 v849 k0_hw118 k0_t7 k0_h2 => k0_hw118.1.2.2.2.2.2.2.1 k0_t7 k0_h2
theorem k0_off254_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off254 arg29 arg30 v849 k0_t7) a + S1x1.size a ≤ S24x1536.size a := fun v616 k0_t6 arg29 arg30 v849 k0_hw118 k0_t7 k0_h2 => k0_hw118.1.2.2.2.2.2.2.2.1 k0_t7 k0_h2
theorem k0_off255_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off255 v616 k0_t6) a + S1.size a ≤ S3.size a := fun v616 k0_t6 arg29 arg30 v849 k0_hw118 k0_t7 k0_h2 => k0_hw118.1.2.2.2.2.2.2.2.2.1 k0_t7 k0_h2
theorem k0_off256_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off256 v616 k0_t6 arg30 v849 k0_t7) a + S1x1x256.size a ≤ S3x256x256.size a := fun v616 k0_t6 arg29 arg30 v849 k0_hw118 k0_t7 k0_h2 => k0_hw118.1.2.2.2.2.2.2.2.2.2.1 k0_t7 k0_h2
theorem k0_off258_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off258 arg29 arg30 v849 k0_t7) a + S1x1.size a ≤ S24x1536.size a := fun v616 k0_t6 arg29 arg30 v849 k0_hw118 k0_t7 k0_h2 => k0_hw118.1.2.2.2.2.2.2.2.2.2.2.1 k0_t7 k0_h2
theorem k0_off259_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off259 v616 k0_t6) a + S1.size a ≤ S3.size a := fun v616 k0_t6 arg29 arg30 v849 k0_hw118 k0_t7 k0_h2 => k0_hw118.1.2.2.2.2.2.2.2.2.2.2.2.1 k0_t7 k0_h2
theorem k0_off260_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off260 v616 k0_t6 arg30 v849 k0_t7) a + S1x1x256.size a ≤ S3x256x256.size a := fun v616 k0_t6 arg29 arg30 v849 k0_hw118 k0_t7 k0_h2 => k0_hw118.1.2.2.2.2.2.2.2.2.2.2.2.2.1 k0_t7 k0_h2
theorem k0_off262_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off262 arg29 arg30 v849 k0_t7) a + S1x1.size a ≤ S24x1536.size a := fun v616 k0_t6 arg29 arg30 v849 k0_hw118 k0_t7 k0_h2 => k0_hw118.1.2.2.2.2.2.2.2.2.2.2.2.2.2.1 k0_t7 k0_h2
theorem k0_off263_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off263 v616 k0_t6) a + S1.size a ≤ S3.size a := fun v616 k0_t6 arg29 arg30 v849 k0_hw118 k0_t7 k0_h2 => k0_hw118.1.2.2.2.2.2.2.2.2.2.2.2.2.2.2.1 k0_t7 k0_h2
theorem k0_off264_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off264 v616 k0_t6 arg30 v849 k0_t7) a + S1x1x256.size a ≤ S3x256x256.size a := fun v616 k0_t6 arg29 arg30 v849 k0_hw118 k0_t7 k0_h2 => k0_hw118.1.2.2.2.2.2.2.2.2.2.2.2.2.2.2.2.1 k0_t7 k0_h2
theorem k0_off266_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off266 arg29 arg30 v849 k0_t7) a + S1x1.size a ≤ S24x1536.size a := fun v616 k0_t6 arg29 arg30 v849 k0_hw118 k0_t7 k0_h2 => k0_hw118.1.2.2.2.2.2.2.2.2.2.2.2.2.2.2.2.2.1 k0_t7 k0_h2
theorem k0_off267_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off267 v616 k0_t6) a + S1.size a ≤ S3.size a := fun v616 k0_t6 arg29 arg30 v849 k0_hw118 k0_t7 k0_h2 => k0_hw118.1.2.2.2.2.2.2.2.2.2.2.2.2.2.2.2.2.2.1 k0_t7 k0_h2
theorem k0_off268_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off268 v616 k0_t6 arg30 v849 k0_t7) a + S1x1x256.size a ≤ S3x256x256.size a := fun v616 k0_t6 arg29 arg30 v849 k0_hw118 k0_t7 k0_h2 => k0_hw118.1.2.2.2.2.2.2.2.2.2.2.2.2.2.2.2.2.2.2.1 k0_t7 k0_h2
theorem k0_off270_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off270 arg29 arg30 v849 k0_t7) a + S1x1.size a ≤ S24x1536.size a := fun v616 k0_t6 arg29 arg30 v849 k0_hw118 k0_t7 k0_h2 => k0_hw118.1.2.2.2.2.2.2.2.2.2.2.2.2.2.2.2.2.2.2.2.1 k0_t7 k0_h2
theorem k0_off271_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off271 v616 k0_t6) a + S1.size a ≤ S3.size a := fun v616 k0_t6 arg29 arg30 v849 k0_hw118 k0_t7 k0_h2 => k0_hw118.1.2.2.2.2.2.2.2.2.2.2.2.2.2.2.2.2.2.2.2.2.1 k0_t7 k0_h2
theorem k0_off272_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off272 v616 k0_t6 arg30 v849 k0_t7) a + S1x1x256.size a ≤ S3x256x256.size a := fun v616 k0_t6 arg29 arg30 v849 k0_hw118 k0_t7 k0_h2 => k0_hw118.1.2.2.2.2.2.2.2.2.2.2.2.2.2.2.2.2.2.2.2.2.2.1 k0_t7 k0_h2
theorem k0_off274_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off274 arg29 arg30 v849 k0_t7) a + S1x1.size a ≤ S24x1536.size a := fun v616 k0_t6 arg29 arg30 v849 k0_hw118 k0_t7 k0_h2 => k0_hw118.1.2.2.2.2.2.2.2.2.2.2.2.2.2.2.2.2.2.2.2.2.2.2.1 k0_t7 k0_h2
theorem k0_off275_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off275 v616 k0_t6) a + S1.size a ≤ S3.size a := fun v616 k0_t6 arg29 arg30 v849 k0_hw118 k0_t7 k0_h2 => k0_hw118.1.2.2.2.2.2.2.2.2.2.2.2.2.2.2.2.2.2.2.2.2.2.2.2.1 k0_t7 k0_h2
theorem k0_off276_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off276 v616 k0_t6 arg30 v849 k0_t7) a + S1x1x256.size a ≤ S3x256x256.size a := fun v616 k0_t6 arg29 arg30 v849 k0_hw118 k0_t7 k0_h2 => k0_hw118.1.2.2.2.2.2.2.2.2.2.2.2.2.2.2.2.2.2.2.2.2.2.2.2.2.1 k0_t7 k0_h2
theorem k0_off278_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off278 arg29 arg30 v849 k0_t7) a + S1x1.size a ≤ S24x1536.size a := fun v616 k0_t6 arg29 arg30 v849 k0_hw118 k0_t7 k0_h2 => k0_hw118.1.2.2.2.2.2.2.2.2.2.2.2.2.2.2.2.2.2.2.2.2.2.2.2.2.2.1 k0_t7 k0_h2
theorem k0_off279_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off279 v616 k0_t6) a + S1.size a ≤ S3.size a := fun v616 k0_t6 arg29 arg30 v849 k0_hw118 k0_t7 k0_h2 => k0_hw118.1.2.2.2.2.2.2.2.2.2.2.2.2.2.2.2.2.2.2.2.2.2.2.2.2.2.2.1 k0_t7 k0_h2
theorem k0_off280_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off280 v616 k0_t6 arg30 v849 k0_t7) a + S1x1x256.size a ≤ S3x256x256.size a := fun v616 k0_t6 arg29 arg30 v849 k0_hw118 k0_t7 k0_h2 => k0_hw118.1.2.2.2.2.2.2.2.2.2.2.2.2.2.2.2.2.2.2.2.2.2.2.2.2.2.2.2.1 k0_t7 k0_h2
theorem k0_off282_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off282 arg29 arg30 v849 k0_t7) a + S1x1.size a ≤ S24x1536.size a := fun v616 k0_t6 arg29 arg30 v849 k0_hw118 k0_t7 k0_h2 => k0_hw118.1.2.2.2.2.2.2.2.2.2.2.2.2.2.2.2.2.2.2.2.2.2.2.2.2.2.2.2.2.1 k0_t7 k0_h2
theorem k0_off283_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off283 v616 k0_t6) a + S1.size a ≤ S3.size a := fun v616 k0_t6 arg29 arg30 v849 k0_hw118 k0_t7 k0_h2 => k0_hw118.1.2.2.2.2.2.2.2.2.2.2.2.2.2.2.2.2.2.2.2.2.2.2.2.2.2.2.2.2.2.1 k0_t7 k0_h2
theorem k0_off284_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off284 v616 k0_t6 arg30 v849 k0_t7) a + S1x1x256.size a ≤ S3x256x256.size a := fun v616 k0_t6 arg29 arg30 v849 k0_hw118 k0_t7 k0_h2 => k0_hw118.1.2.2.2.2.2.2.2.2.2.2.2.2.2.2.2.2.2.2.2.2.2.2.2.2.2.2.2.2.2.2.1 k0_t7 k0_h2
theorem k0_off286_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off286 arg29 arg30 v849 k0_t7) a + S1x1.size a ≤ S24x1536.size a := fun v616 k0_t6 arg29 arg30 v849 k0_hw118 k0_t7 k0_h2 => k0_hw118.1.2.2.2.2.2.2.2.2.2.2.2.2.2.2.2.2.2.2.2.2.2.2.2.2.2.2.2.2.2.2.2 k0_t7 k0_h2
theorem k0_off287_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off287 v616 k0_t6) a + S1.size a ≤ S3.size a := fun v616 k0_t6 arg29 arg30 v849 k0_hw118 k0_t7 k0_h2 => k0_hw118.2.1.1 k0_t7 k0_h2
theorem k0_off288_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off288 v616 k0_t6 arg30 v849 k0_t7) a + S1x1x256.size a ≤ S3x256x256.size a := fun v616 k0_t6 arg29 arg30 v849 k0_hw118 k0_t7 k0_h2 => k0_hw118.2.1.2.1 k0_t7 k0_h2
theorem k0_off290_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off290 arg29 arg30 v849 k0_t7) a + S1x1.size a ≤ S24x1536.size a := fun v616 k0_t6 arg29 arg30 v849 k0_hw118 k0_t7 k0_h2 => k0_hw118.2.1.2.2.1 k0_t7 k0_h2
theorem k0_off291_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off291 v616 k0_t6) a + S1.size a ≤ S3.size a := fun v616 k0_t6 arg29 arg30 v849 k0_hw118 k0_t7 k0_h2 => k0_hw118.2.1.2.2.2.1 k0_t7 k0_h2
theorem k0_off292_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off292 v616 k0_t6 arg30 v849 k0_t7) a + S1x1x256.size a ≤ S3x256x256.size a := fun v616 k0_t6 arg29 arg30 v849 k0_hw118 k0_t7 k0_h2 => k0_hw118.2.1.2.2.2.2.1 k0_t7 k0_h2
theorem k0_off294_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off294 arg29 arg30 v849 k0_t7) a + S1x1.size a ≤ S24x1536.size a := fun v616 k0_t6 arg29 arg30 v849 k0_hw118 k0_t7 k0_h2 => k0_hw118.2.1.2.2.2.2.2.1 k0_t7 k0_h2
theorem k0_off295_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off295 v616 k0_t6) a + S1.size a ≤ S3.size a := fun v616 k0_t6 arg29 arg30 v849 k0_hw118 k0_t7 k0_h2 => k0_hw118.2.1.2.2.2.2.2.2.1 k0_t7 k0_h2
theorem k0_off296_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off296 v616 k0_t6 arg30 v849 k0_t7) a + S1x1x256.size a ≤ S3x256x256.size a := fun v616 k0_t6 arg29 arg30 v849 k0_hw118 k0_t7 k0_h2 => k0_hw118.2.1.2.2.2.2.2.2.2.1 k0_t7 k0_h2
theorem k0_off298_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off298 arg29 arg30 v849 k0_t7) a + S1x1.size a ≤ S24x1536.size a := fun v616 k0_t6 arg29 arg30 v849 k0_hw118 k0_t7 k0_h2 => k0_hw118.2.1.2.2.2.2.2.2.2.2.1 k0_t7 k0_h2
theorem k0_off299_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off299 v616 k0_t6) a + S1.size a ≤ S3.size a := fun v616 k0_t6 arg29 arg30 v849 k0_hw118 k0_t7 k0_h2 => k0_hw118.2.1.2.2.2.2.2.2.2.2.2.1 k0_t7 k0_h2
theorem k0_off300_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off300 v616 k0_t6 arg30 v849 k0_t7) a + S1x1x256.size a ≤ S3x256x256.size a := fun v616 k0_t6 arg29 arg30 v849 k0_hw118 k0_t7 k0_h2 => k0_hw118.2.1.2.2.2.2.2.2.2.2.2.2.1 k0_t7 k0_h2
theorem k0_off302_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off302 arg29 arg30 v849 k0_t7) a + S1x1.size a ≤ S24x1536.size a := fun v616 k0_t6 arg29 arg30 v849 k0_hw118 k0_t7 k0_h2 => k0_hw118.2.1.2.2.2.2.2.2.2.2.2.2.2.1 k0_t7 k0_h2
theorem k0_off303_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off303 v616 k0_t6) a + S1.size a ≤ S3.size a := fun v616 k0_t6 arg29 arg30 v849 k0_hw118 k0_t7 k0_h2 => k0_hw118.2.1.2.2.2.2.2.2.2.2.2.2.2.2.1 k0_t7 k0_h2
theorem k0_off304_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off304 v616 k0_t6 arg30 v849 k0_t7) a + S1x1x256.size a ≤ S3x256x256.size a := fun v616 k0_t6 arg29 arg30 v849 k0_hw118 k0_t7 k0_h2 => k0_hw118.2.1.2.2.2.2.2.2.2.2.2.2.2.2.2.1 k0_t7 k0_h2
theorem k0_off306_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off306 arg29 arg30 v849 k0_t7) a + S1x1.size a ≤ S24x1536.size a := fun v616 k0_t6 arg29 arg30 v849 k0_hw118 k0_t7 k0_h2 => k0_hw118.2.1.2.2.2.2.2.2.2.2.2.2.2.2.2.2.1 k0_t7 k0_h2
theorem k0_off307_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off307 v616 k0_t6) a + S1.size a ≤ S3.size a := fun v616 k0_t6 arg29 arg30 v849 k0_hw118 k0_t7 k0_h2 => k0_hw118.2.1.2.2.2.2.2.2.2.2.2.2.2.2.2.2.2.1 k0_t7 k0_h2
theorem k0_off308_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t7 : Fin (k0_t7_loop arg30 v849).trips), ∀ (k0_h2 : k0_cond2 arg29 = 1#1), ∀ a, (k0_off308 v616 k0_t6 arg30 v849 k0_t7) a + S1x1x256.size a ≤ S3x256x256.size a := fun v616 k0_t6 arg29 arg30 v849 k0_hw118 k0_t7 k0_h2 => k0_hw118.2.1.2.2.2.2.2.2.2.2.2.2.2.2.2.2.2.2.1 k0_t7 k0_h2
theorem k0_t8_ok : ∀ (v616 : BitVec 32) (k0_t6 : Fin (k0_t6_loop v616).trips) (arg29 : BitVec 32) (arg30 : BitVec 32) (v849 : BitVec 32) (k0_hw118 : k0_chk118 v616 k0_t6 arg29 arg30 v849), ∀ (k0_h2 : k0_cond2 arg29 = 1#1), (k0_t8_loop arg30 v849).OK := fun v616 k0_t6 arg29 arg30 v849 k0_hw118 k0_h2 => k0_hw118.2.1.2.2.2.2.2.2.2.2.2.2.2.2.2.2.2.2.2.1 k0_h2
theorem k0_off310_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off310 arg29 arg30 v849 k0_t8) a + S1x1.size a ≤ S24x1536.size a := fun v616 k0_t6 arg29 arg30 v849 k0_hw118 k0_t8 k0_h2 => k0_hw118.2.1.2.2.2.2.2.2.2.2.2.2.2.2.2.2.2.2.2.2.1 k0_t8 k0_h2
theorem k0_off311_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off311 v616 k0_t6) a + S1.size a ≤ S3.size a := fun v616 k0_t6 arg29 arg30 v849 k0_hw118 k0_t8 k0_h2 => k0_hw118.2.1.2.2.2.2.2.2.2.2.2.2.2.2.2.2.2.2.2.2.2.1 k0_t8 k0_h2
theorem k0_off312_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off312 v616 k0_t6 arg30 v849 k0_t8) a + S1x1x256.size a ≤ S3x256x256.size a := fun v616 k0_t6 arg29 arg30 v849 k0_hw118 k0_t8 k0_h2 => k0_hw118.2.1.2.2.2.2.2.2.2.2.2.2.2.2.2.2.2.2.2.2.2.2.1 k0_t8 k0_h2
theorem k0_off314_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off314 arg29 arg30 v849 k0_t8) a + S1x1.size a ≤ S24x1536.size a := fun v616 k0_t6 arg29 arg30 v849 k0_hw118 k0_t8 k0_h2 => k0_hw118.2.1.2.2.2.2.2.2.2.2.2.2.2.2.2.2.2.2.2.2.2.2.2.1 k0_t8 k0_h2
theorem k0_off315_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off315 v616 k0_t6) a + S1.size a ≤ S3.size a := fun v616 k0_t6 arg29 arg30 v849 k0_hw118 k0_t8 k0_h2 => k0_hw118.2.1.2.2.2.2.2.2.2.2.2.2.2.2.2.2.2.2.2.2.2.2.2.2.1 k0_t8 k0_h2
theorem k0_off316_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off316 v616 k0_t6 arg30 v849 k0_t8) a + S1x1x256.size a ≤ S3x256x256.size a := fun v616 k0_t6 arg29 arg30 v849 k0_hw118 k0_t8 k0_h2 => k0_hw118.2.1.2.2.2.2.2.2.2.2.2.2.2.2.2.2.2.2.2.2.2.2.2.2.2.1 k0_t8 k0_h2
theorem k0_off318_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off318 arg29 arg30 v849 k0_t8) a + S1x1.size a ≤ S24x1536.size a := fun v616 k0_t6 arg29 arg30 v849 k0_hw118 k0_t8 k0_h2 => k0_hw118.2.1.2.2.2.2.2.2.2.2.2.2.2.2.2.2.2.2.2.2.2.2.2.2.2.2.1 k0_t8 k0_h2
theorem k0_off319_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off319 v616 k0_t6) a + S1.size a ≤ S3.size a := fun v616 k0_t6 arg29 arg30 v849 k0_hw118 k0_t8 k0_h2 => k0_hw118.2.1.2.2.2.2.2.2.2.2.2.2.2.2.2.2.2.2.2.2.2.2.2.2.2.2.2.1 k0_t8 k0_h2
theorem k0_off320_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off320 v616 k0_t6 arg30 v849 k0_t8) a + S1x1x256.size a ≤ S3x256x256.size a := fun v616 k0_t6 arg29 arg30 v849 k0_hw118 k0_t8 k0_h2 => k0_hw118.2.1.2.2.2.2.2.2.2.2.2.2.2.2.2.2.2.2.2.2.2.2.2.2.2.2.2.2.1 k0_t8 k0_h2
theorem k0_off322_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off322 arg29 arg30 v849 k0_t8) a + S1x1.size a ≤ S24x1536.size a := fun v616 k0_t6 arg29 arg30 v849 k0_hw118 k0_t8 k0_h2 => k0_hw118.2.1.2.2.2.2.2.2.2.2.2.2.2.2.2.2.2.2.2.2.2.2.2.2.2.2.2.2.2.1 k0_t8 k0_h2
theorem k0_off323_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off323 v616 k0_t6) a + S1.size a ≤ S3.size a := fun v616 k0_t6 arg29 arg30 v849 k0_hw118 k0_t8 k0_h2 => k0_hw118.2.1.2.2.2.2.2.2.2.2.2.2.2.2.2.2.2.2.2.2.2.2.2.2.2.2.2.2.2.2.1 k0_t8 k0_h2
theorem k0_off324_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off324 v616 k0_t6 arg30 v849 k0_t8) a + S1x1x256.size a ≤ S3x256x256.size a := fun v616 k0_t6 arg29 arg30 v849 k0_hw118 k0_t8 k0_h2 => k0_hw118.2.1.2.2.2.2.2.2.2.2.2.2.2.2.2.2.2.2.2.2.2.2.2.2.2.2.2.2.2.2.2.1 k0_t8 k0_h2
theorem k0_off326_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off326 arg29 arg30 v849 k0_t8) a + S1x1.size a ≤ S24x1536.size a := fun v616 k0_t6 arg29 arg30 v849 k0_hw118 k0_t8 k0_h2 => k0_hw118.2.1.2.2.2.2.2.2.2.2.2.2.2.2.2.2.2.2.2.2.2.2.2.2.2.2.2.2.2.2.2.2.1 k0_t8 k0_h2
theorem k0_off327_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off327 v616 k0_t6) a + S1.size a ≤ S3.size a := fun v616 k0_t6 arg29 arg30 v849 k0_hw118 k0_t8 k0_h2 => k0_hw118.2.1.2.2.2.2.2.2.2.2.2.2.2.2.2.2.2.2.2.2.2.2.2.2.2.2.2.2.2.2.2.2.2 k0_t8 k0_h2
theorem k0_off328_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off328 v616 k0_t6 arg30 v849 k0_t8) a + S1x1x256.size a ≤ S3x256x256.size a := fun v616 k0_t6 arg29 arg30 v849 k0_hw118 k0_t8 k0_h2 => k0_hw118.2.2.1.1 k0_t8 k0_h2
theorem k0_off330_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off330 arg29 arg30 v849 k0_t8) a + S1x1.size a ≤ S24x1536.size a := fun v616 k0_t6 arg29 arg30 v849 k0_hw118 k0_t8 k0_h2 => k0_hw118.2.2.1.2.1 k0_t8 k0_h2
theorem k0_off331_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off331 v616 k0_t6) a + S1.size a ≤ S3.size a := fun v616 k0_t6 arg29 arg30 v849 k0_hw118 k0_t8 k0_h2 => k0_hw118.2.2.1.2.2.1 k0_t8 k0_h2
theorem k0_off332_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off332 v616 k0_t6 arg30 v849 k0_t8) a + S1x1x256.size a ≤ S3x256x256.size a := fun v616 k0_t6 arg29 arg30 v849 k0_hw118 k0_t8 k0_h2 => k0_hw118.2.2.1.2.2.2.1 k0_t8 k0_h2
theorem k0_off334_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off334 arg29 arg30 v849 k0_t8) a + S1x1.size a ≤ S24x1536.size a := fun v616 k0_t6 arg29 arg30 v849 k0_hw118 k0_t8 k0_h2 => k0_hw118.2.2.1.2.2.2.2.1 k0_t8 k0_h2
theorem k0_off335_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off335 v616 k0_t6) a + S1.size a ≤ S3.size a := fun v616 k0_t6 arg29 arg30 v849 k0_hw118 k0_t8 k0_h2 => k0_hw118.2.2.1.2.2.2.2.2.1 k0_t8 k0_h2
theorem k0_off336_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off336 v616 k0_t6 arg30 v849 k0_t8) a + S1x1x256.size a ≤ S3x256x256.size a := fun v616 k0_t6 arg29 arg30 v849 k0_hw118 k0_t8 k0_h2 => k0_hw118.2.2.1.2.2.2.2.2.2.1 k0_t8 k0_h2
theorem k0_off338_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off338 arg29 arg30 v849 k0_t8) a + S1x1.size a ≤ S24x1536.size a := fun v616 k0_t6 arg29 arg30 v849 k0_hw118 k0_t8 k0_h2 => k0_hw118.2.2.1.2.2.2.2.2.2.2.1 k0_t8 k0_h2
theorem k0_off339_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off339 v616 k0_t6) a + S1.size a ≤ S3.size a := fun v616 k0_t6 arg29 arg30 v849 k0_hw118 k0_t8 k0_h2 => k0_hw118.2.2.1.2.2.2.2.2.2.2.2.1 k0_t8 k0_h2
theorem k0_off340_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off340 v616 k0_t6 arg30 v849 k0_t8) a + S1x1x256.size a ≤ S3x256x256.size a := fun v616 k0_t6 arg29 arg30 v849 k0_hw118 k0_t8 k0_h2 => k0_hw118.2.2.1.2.2.2.2.2.2.2.2.2.1 k0_t8 k0_h2
theorem k0_off342_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off342 arg29 arg30 v849 k0_t8) a + S1x1.size a ≤ S24x1536.size a := fun v616 k0_t6 arg29 arg30 v849 k0_hw118 k0_t8 k0_h2 => k0_hw118.2.2.1.2.2.2.2.2.2.2.2.2.2.1 k0_t8 k0_h2
theorem k0_off343_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off343 v616 k0_t6) a + S1.size a ≤ S3.size a := fun v616 k0_t6 arg29 arg30 v849 k0_hw118 k0_t8 k0_h2 => k0_hw118.2.2.1.2.2.2.2.2.2.2.2.2.2.2.1 k0_t8 k0_h2
theorem k0_off344_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off344 v616 k0_t6 arg30 v849 k0_t8) a + S1x1x256.size a ≤ S3x256x256.size a := fun v616 k0_t6 arg29 arg30 v849 k0_hw118 k0_t8 k0_h2 => k0_hw118.2.2.1.2.2.2.2.2.2.2.2.2.2.2.2.1 k0_t8 k0_h2
theorem k0_off346_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off346 arg29 arg30 v849 k0_t8) a + S1x1.size a ≤ S24x1536.size a := fun v616 k0_t6 arg29 arg30 v849 k0_hw118 k0_t8 k0_h2 => k0_hw118.2.2.1.2.2.2.2.2.2.2.2.2.2.2.2.2.1 k0_t8 k0_h2
theorem k0_off347_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off347 v616 k0_t6) a + S1.size a ≤ S3.size a := fun v616 k0_t6 arg29 arg30 v849 k0_hw118 k0_t8 k0_h2 => k0_hw118.2.2.1.2.2.2.2.2.2.2.2.2.2.2.2.2.2.1 k0_t8 k0_h2
theorem k0_off348_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off348 v616 k0_t6 arg30 v849 k0_t8) a + S1x1x256.size a ≤ S3x256x256.size a := fun v616 k0_t6 arg29 arg30 v849 k0_hw118 k0_t8 k0_h2 => k0_hw118.2.2.1.2.2.2.2.2.2.2.2.2.2.2.2.2.2.2.1 k0_t8 k0_h2
theorem k0_off350_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off350 arg29 arg30 v849 k0_t8) a + S1x1.size a ≤ S24x1536.size a := fun v616 k0_t6 arg29 arg30 v849 k0_hw118 k0_t8 k0_h2 => k0_hw118.2.2.1.2.2.2.2.2.2.2.2.2.2.2.2.2.2.2.2.1 k0_t8 k0_h2
theorem k0_off351_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off351 v616 k0_t6) a + S1.size a ≤ S3.size a := fun v616 k0_t6 arg29 arg30 v849 k0_hw118 k0_t8 k0_h2 => k0_hw118.2.2.1.2.2.2.2.2.2.2.2.2.2.2.2.2.2.2.2.2.1 k0_t8 k0_h2
theorem k0_off352_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off352 v616 k0_t6 arg30 v849 k0_t8) a + S1x1x256.size a ≤ S3x256x256.size a := fun v616 k0_t6 arg29 arg30 v849 k0_hw118 k0_t8 k0_h2 => k0_hw118.2.2.1.2.2.2.2.2.2.2.2.2.2.2.2.2.2.2.2.2.2.1 k0_t8 k0_h2
theorem k0_off354_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off354 arg29 arg30 v849 k0_t8) a + S1x1.size a ≤ S24x1536.size a := fun v616 k0_t6 arg29 arg30 v849 k0_hw118 k0_t8 k0_h2 => k0_hw118.2.2.1.2.2.2.2.2.2.2.2.2.2.2.2.2.2.2.2.2.2.2.1 k0_t8 k0_h2
theorem k0_off355_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off355 v616 k0_t6) a + S1.size a ≤ S3.size a := fun v616 k0_t6 arg29 arg30 v849 k0_hw118 k0_t8 k0_h2 => k0_hw118.2.2.1.2.2.2.2.2.2.2.2.2.2.2.2.2.2.2.2.2.2.2.2.1 k0_t8 k0_h2
theorem k0_off356_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off356 v616 k0_t6 arg30 v849 k0_t8) a + S1x1x256.size a ≤ S3x256x256.size a := fun v616 k0_t6 arg29 arg30 v849 k0_hw118 k0_t8 k0_h2 => k0_hw118.2.2.1.2.2.2.2.2.2.2.2.2.2.2.2.2.2.2.2.2.2.2.2.2.1 k0_t8 k0_h2
theorem k0_off358_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off358 arg29 arg30 v849 k0_t8) a + S1x1.size a ≤ S24x1536.size a := fun v616 k0_t6 arg29 arg30 v849 k0_hw118 k0_t8 k0_h2 => k0_hw118.2.2.1.2.2.2.2.2.2.2.2.2.2.2.2.2.2.2.2.2.2.2.2.2.2.1 k0_t8 k0_h2
theorem k0_off359_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off359 v616 k0_t6) a + S1.size a ≤ S3.size a := fun v616 k0_t6 arg29 arg30 v849 k0_hw118 k0_t8 k0_h2 => k0_hw118.2.2.1.2.2.2.2.2.2.2.2.2.2.2.2.2.2.2.2.2.2.2.2.2.2.2.1 k0_t8 k0_h2
theorem k0_off360_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off360 v616 k0_t6 arg30 v849 k0_t8) a + S1x1x256.size a ≤ S3x256x256.size a := fun v616 k0_t6 arg29 arg30 v849 k0_hw118 k0_t8 k0_h2 => k0_hw118.2.2.1.2.2.2.2.2.2.2.2.2.2.2.2.2.2.2.2.2.2.2.2.2.2.2.2.1 k0_t8 k0_h2
theorem k0_off362_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off362 arg29 arg30 v849 k0_t8) a + S1x1.size a ≤ S24x1536.size a := fun v616 k0_t6 arg29 arg30 v849 k0_hw118 k0_t8 k0_h2 => k0_hw118.2.2.1.2.2.2.2.2.2.2.2.2.2.2.2.2.2.2.2.2.2.2.2.2.2.2.2.2.1 k0_t8 k0_h2
theorem k0_off363_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off363 v616 k0_t6) a + S1.size a ≤ S3.size a := fun v616 k0_t6 arg29 arg30 v849 k0_hw118 k0_t8 k0_h2 => k0_hw118.2.2.1.2.2.2.2.2.2.2.2.2.2.2.2.2.2.2.2.2.2.2.2.2.2.2.2.2.2.1 k0_t8 k0_h2
theorem k0_off364_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off364 v616 k0_t6 arg30 v849 k0_t8) a + S1x1x256.size a ≤ S3x256x256.size a := fun v616 k0_t6 arg29 arg30 v849 k0_hw118 k0_t8 k0_h2 => k0_hw118.2.2.1.2.2.2.2.2.2.2.2.2.2.2.2.2.2.2.2.2.2.2.2.2.2.2.2.2.2.2.1 k0_t8 k0_h2
theorem k0_off366_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off366 arg29 arg30 v849 k0_t8) a + S1x1.size a ≤ S24x1536.size a := fun v616 k0_t6 arg29 arg30 v849 k0_hw118 k0_t8 k0_h2 => k0_hw118.2.2.1.2.2.2.2.2.2.2.2.2.2.2.2.2.2.2.2.2.2.2.2.2.2.2.2.2.2.2.2.1 k0_t8 k0_h2
theorem k0_off367_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off367 v616 k0_t6) a + S1.size a ≤ S3.size a := fun v616 k0_t6 arg29 arg30 v849 k0_hw118 k0_t8 k0_h2 => k0_hw118.2.2.1.2.2.2.2.2.2.2.2.2.2.2.2.2.2.2.2.2.2.2.2.2.2.2.2.2.2.2.2.2.1 k0_t8 k0_h2
theorem k0_off368_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off368 v616 k0_t6 arg30 v849 k0_t8) a + S1x1x256.size a ≤ S3x256x256.size a := fun v616 k0_t6 arg29 arg30 v849 k0_hw118 k0_t8 k0_h2 => k0_hw118.2.2.1.2.2.2.2.2.2.2.2.2.2.2.2.2.2.2.2.2.2.2.2.2.2.2.2.2.2.2.2.2.2.1 k0_t8 k0_h2
theorem k0_off370_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off370 arg29 arg30 v849 k0_t8) a + S1x1.size a ≤ S24x1536.size a := fun v616 k0_t6 arg29 arg30 v849 k0_hw118 k0_t8 k0_h2 => k0_hw118.2.2.1.2.2.2.2.2.2.2.2.2.2.2.2.2.2.2.2.2.2.2.2.2.2.2.2.2.2.2.2.2.2.2 k0_t8 k0_h2
theorem k0_off371_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off371 v616 k0_t6) a + S1.size a ≤ S3.size a := fun v616 k0_t6 arg29 arg30 v849 k0_hw118 k0_t8 k0_h2 => k0_hw118.2.2.2.1 k0_t8 k0_h2
theorem k0_off372_inb : ∀ (v616 : BitVec 32) (k0_t6 : Fin (k0_t6_loop v616).trips) (arg29 : BitVec 32) (arg30 : BitVec 32) (v849 : BitVec 32) (k0_hw118 : k0_chk118 v616 k0_t6 arg29 arg30 v849) (k0_t8 : Fin (k0_t8_loop arg30 v849).trips), ∀ (k0_h2 : k0_cond2 arg29 = 1#1), ∀ a, (k0_off372 v616 k0_t6 arg30 v849 k0_t8) a + S1x1x256.size a ≤ S3x256x256.size a := fun v616 k0_t6 arg29 arg30 v849 k0_hw118 k0_t8 k0_h2 => k0_hw118.2.2.2.2 k0_t8 k0_h2

def k0_off373 (v1067 : BitVec 32) : Fin 2 → Nat :=
  let c2_i32_683 : BitVec 32 := 2#32
  let v1068 : BitVec 32 := Scalar.shrui v1067 c2_i32_683
  let c0_i32_685 : BitVec 32 := 0#32
  ![v1068.toNat, 0]

def k0_chk150 (arg29 : BitVec 32) (v1067 : BitVec 32) : Prop :=
  (∀ (k0_h2 : k0_cond2 arg29 = 1#1), ∀ a, (k0_off373 v1067) a + S1x256.size a ≤ S250000x256.size a)
theorem k0_off373_inb : ∀ (arg29 : BitVec 32) (v1067 : BitVec 32) (k0_hw150 : k0_chk150 arg29 v1067), ∀ (k0_h2 : k0_cond2 arg29 = 1#1), ∀ a, (k0_off373 v1067) a + S1x256.size a ≤ S250000x256.size a := fun arg29 v1067 k0_hw150 k0_h2 => k0_hw150 k0_h2

def k0_off374 (arg25 : BitVec 32) : Fin 1 → Nat :=
  let v666 : Index := Scalar.indexCast arg25
  ![v666.toNat]

@[reducible] def k0_t9_loop (arg26 : BitVec 32) (v667 : BitVec 32) : Scf.Loop 32 :=
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_499 : BitVec 32 := 1#32
  ⟨c0_i32_497, v681, c1_i32_499⟩

def k0_off375 (arg25 : BitVec 32) (arg26 : BitVec 32) (v667 : BitVec 32) (k0_t9 : Fin (k0_t9_loop arg26 v667).trips) : Fin 2 → Nat :=
  let v852 : Index := Scalar.indexCast arg25
  let c256_i32_576 : BitVec 32 := 256#32
  let v850 : BitVec 32 := Scalar.muli arg26 c256_i32_576
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_574 : BitVec 32 := 16#32
  let v848 : BitVec 32 := Scalar.muli v847 c16_i32_574
  let c0_i32_575 : BitVec 32 := 0#32
  let v849 : BitVec 32 := Scalar.addi v848 c0_i32_575
  let v851 : BitVec 32 := Scalar.addi v850 v849
  let v853 : Index := Scalar.indexCast v851
  ![v852.toNat, v853.toNat]
def k0_mult25 (v854 : BitVec 32) : BitVec 32 :=
  let c7_i32_577 : BitVec 32 := 7#32
  let v855 : BitVec 32 := Scalar.shrui v854 c7_i32_577
  let c128_i32_578 : BitVec 32 := 128#32
  let v856 : BitVec 32 := Scalar.muli v855 c128_i32_578
  v856

def k0_off376 (v854 : BitVec 32) : Fin 1 → Nat :=
  let c7_i32_577 : BitVec 32 := 7#32
  let v855 : BitVec 32 := Scalar.shrui v854 c7_i32_577
  let c128_i32_578 : BitVec 32 := 128#32
  let v856 : BitVec 32 := Scalar.muli v855 c128_i32_578
  let v857 : BitVec 32 := v856
  let v858 : Index := Scalar.indexCast v857
  ![v858.toNat]

def k0_chk153 (v854 : BitVec 32) : Prop :=
  (128 ∣ (k0_mult25 v854).toNat) ∧
  (∀ a, (k0_off376 v854) a + S128.size a ≤ S1000000.size a)
theorem k0_mult25_dvd : ∀ (v854 : BitVec 32) (k0_hw153 : k0_chk153 v854), 128 ∣ (k0_mult25 v854).toNat := fun v854 k0_hw153 => k0_hw153.1
theorem k0_off376_inb : ∀ (v854 : BitVec 32) (k0_hw153 : k0_chk153 v854), ∀ a, (k0_off376 v854) a + S128.size a ≤ S1000000.size a := fun v854 k0_hw153 => k0_hw153.2

def k0_off377 (arg26 : BitVec 32) (v667 : BitVec 32) (k0_t9 : Fin (k0_t9_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_574 : BitVec 32 := 16#32
  let v848 : BitVec 32 := Scalar.muli v847 c16_i32_574
  let c0_i32_575 : BitVec 32 := 0#32
  let v849 : BitVec 32 := Scalar.addi v848 c0_i32_575
  let v861 : Index := Scalar.indexCast v849
  let c0_579 : Index := 0#32
  ![v861.toNat, 0]
def k0_off378 (arg25 : BitVec 32) (arg26 : BitVec 32) (v667 : BitVec 32) (k0_t9 : Fin (k0_t9_loop arg26 v667).trips) : Fin 2 → Nat :=
  let v869 : Index := Scalar.indexCast arg25
  let c256_i32_582 : BitVec 32 := 256#32
  let v867 : BitVec 32 := Scalar.muli arg26 c256_i32_582
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_580 : BitVec 32 := 16#32
  let v865 : BitVec 32 := Scalar.muli v847 c16_i32_580
  let c1_i32_581 : BitVec 32 := 1#32
  let v866 : BitVec 32 := Scalar.addi v865 c1_i32_581
  let v868 : BitVec 32 := Scalar.addi v867 v866
  let v870 : Index := Scalar.indexCast v868
  ![v869.toNat, v870.toNat]
def k0_mult26 (v871 : BitVec 32) : BitVec 32 :=
  let c7_i32_583 : BitVec 32 := 7#32
  let v872 : BitVec 32 := Scalar.shrui v871 c7_i32_583
  let c128_i32_584 : BitVec 32 := 128#32
  let v873 : BitVec 32 := Scalar.muli v872 c128_i32_584
  v873

def k0_off379 (v871 : BitVec 32) : Fin 1 → Nat :=
  let c7_i32_583 : BitVec 32 := 7#32
  let v872 : BitVec 32 := Scalar.shrui v871 c7_i32_583
  let c128_i32_584 : BitVec 32 := 128#32
  let v873 : BitVec 32 := Scalar.muli v872 c128_i32_584
  let v874 : BitVec 32 := v873
  let v875 : Index := Scalar.indexCast v874
  ![v875.toNat]

def k0_chk154 (v871 : BitVec 32) : Prop :=
  (128 ∣ (k0_mult26 v871).toNat) ∧
  (∀ a, (k0_off379 v871) a + S128.size a ≤ S1000000.size a)
theorem k0_mult26_dvd : ∀ (v871 : BitVec 32) (k0_hw154 : k0_chk154 v871), 128 ∣ (k0_mult26 v871).toNat := fun v871 k0_hw154 => k0_hw154.1
theorem k0_off379_inb : ∀ (v871 : BitVec 32) (k0_hw154 : k0_chk154 v871), ∀ a, (k0_off379 v871) a + S128.size a ≤ S1000000.size a := fun v871 k0_hw154 => k0_hw154.2

def k0_off380 (arg26 : BitVec 32) (v667 : BitVec 32) (k0_t9 : Fin (k0_t9_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_580 : BitVec 32 := 16#32
  let v865 : BitVec 32 := Scalar.muli v847 c16_i32_580
  let c1_i32_581 : BitVec 32 := 1#32
  let v866 : BitVec 32 := Scalar.addi v865 c1_i32_581
  let v878 : Index := Scalar.indexCast v866
  let c0_585 : Index := 0#32
  ![v878.toNat, 0]
def k0_off381 (arg25 : BitVec 32) (arg26 : BitVec 32) (v667 : BitVec 32) (k0_t9 : Fin (k0_t9_loop arg26 v667).trips) : Fin 2 → Nat :=
  let v886 : Index := Scalar.indexCast arg25
  let c256_i32_588 : BitVec 32 := 256#32
  let v884 : BitVec 32 := Scalar.muli arg26 c256_i32_588
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_586 : BitVec 32 := 16#32
  let v882 : BitVec 32 := Scalar.muli v847 c16_i32_586
  let c2_i32_587 : BitVec 32 := 2#32
  let v883 : BitVec 32 := Scalar.addi v882 c2_i32_587
  let v885 : BitVec 32 := Scalar.addi v884 v883
  let v887 : Index := Scalar.indexCast v885
  ![v886.toNat, v887.toNat]
def k0_mult27 (v888 : BitVec 32) : BitVec 32 :=
  let c7_i32_589 : BitVec 32 := 7#32
  let v889 : BitVec 32 := Scalar.shrui v888 c7_i32_589
  let c128_i32_590 : BitVec 32 := 128#32
  let v890 : BitVec 32 := Scalar.muli v889 c128_i32_590
  v890

def k0_off382 (v888 : BitVec 32) : Fin 1 → Nat :=
  let c7_i32_589 : BitVec 32 := 7#32
  let v889 : BitVec 32 := Scalar.shrui v888 c7_i32_589
  let c128_i32_590 : BitVec 32 := 128#32
  let v890 : BitVec 32 := Scalar.muli v889 c128_i32_590
  let v891 : BitVec 32 := v890
  let v892 : Index := Scalar.indexCast v891
  ![v892.toNat]

def k0_chk155 (v888 : BitVec 32) : Prop :=
  (128 ∣ (k0_mult27 v888).toNat) ∧
  (∀ a, (k0_off382 v888) a + S128.size a ≤ S1000000.size a)
theorem k0_mult27_dvd : ∀ (v888 : BitVec 32) (k0_hw155 : k0_chk155 v888), 128 ∣ (k0_mult27 v888).toNat := fun v888 k0_hw155 => k0_hw155.1
theorem k0_off382_inb : ∀ (v888 : BitVec 32) (k0_hw155 : k0_chk155 v888), ∀ a, (k0_off382 v888) a + S128.size a ≤ S1000000.size a := fun v888 k0_hw155 => k0_hw155.2

def k0_off383 (arg26 : BitVec 32) (v667 : BitVec 32) (k0_t9 : Fin (k0_t9_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_586 : BitVec 32 := 16#32
  let v882 : BitVec 32 := Scalar.muli v847 c16_i32_586
  let c2_i32_587 : BitVec 32 := 2#32
  let v883 : BitVec 32 := Scalar.addi v882 c2_i32_587
  let v895 : Index := Scalar.indexCast v883
  let c0_591 : Index := 0#32
  ![v895.toNat, 0]
def k0_off384 (arg25 : BitVec 32) (arg26 : BitVec 32) (v667 : BitVec 32) (k0_t9 : Fin (k0_t9_loop arg26 v667).trips) : Fin 2 → Nat :=
  let v903 : Index := Scalar.indexCast arg25
  let c256_i32_594 : BitVec 32 := 256#32
  let v901 : BitVec 32 := Scalar.muli arg26 c256_i32_594
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_592 : BitVec 32 := 16#32
  let v899 : BitVec 32 := Scalar.muli v847 c16_i32_592
  let c3_i32_593 : BitVec 32 := 3#32
  let v900 : BitVec 32 := Scalar.addi v899 c3_i32_593
  let v902 : BitVec 32 := Scalar.addi v901 v900
  let v904 : Index := Scalar.indexCast v902
  ![v903.toNat, v904.toNat]
def k0_mult28 (v905 : BitVec 32) : BitVec 32 :=
  let c7_i32_595 : BitVec 32 := 7#32
  let v906 : BitVec 32 := Scalar.shrui v905 c7_i32_595
  let c128_i32_596 : BitVec 32 := 128#32
  let v907 : BitVec 32 := Scalar.muli v906 c128_i32_596
  v907

def k0_off385 (v905 : BitVec 32) : Fin 1 → Nat :=
  let c7_i32_595 : BitVec 32 := 7#32
  let v906 : BitVec 32 := Scalar.shrui v905 c7_i32_595
  let c128_i32_596 : BitVec 32 := 128#32
  let v907 : BitVec 32 := Scalar.muli v906 c128_i32_596
  let v908 : BitVec 32 := v907
  let v909 : Index := Scalar.indexCast v908
  ![v909.toNat]

def k0_chk156 (v905 : BitVec 32) : Prop :=
  (128 ∣ (k0_mult28 v905).toNat) ∧
  (∀ a, (k0_off385 v905) a + S128.size a ≤ S1000000.size a)
theorem k0_mult28_dvd : ∀ (v905 : BitVec 32) (k0_hw156 : k0_chk156 v905), 128 ∣ (k0_mult28 v905).toNat := fun v905 k0_hw156 => k0_hw156.1
theorem k0_off385_inb : ∀ (v905 : BitVec 32) (k0_hw156 : k0_chk156 v905), ∀ a, (k0_off385 v905) a + S128.size a ≤ S1000000.size a := fun v905 k0_hw156 => k0_hw156.2

def k0_off386 (arg26 : BitVec 32) (v667 : BitVec 32) (k0_t9 : Fin (k0_t9_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_592 : BitVec 32 := 16#32
  let v899 : BitVec 32 := Scalar.muli v847 c16_i32_592
  let c3_i32_593 : BitVec 32 := 3#32
  let v900 : BitVec 32 := Scalar.addi v899 c3_i32_593
  let v912 : Index := Scalar.indexCast v900
  let c0_597 : Index := 0#32
  ![v912.toNat, 0]
def k0_off387 (arg25 : BitVec 32) (arg26 : BitVec 32) (v667 : BitVec 32) (k0_t9 : Fin (k0_t9_loop arg26 v667).trips) : Fin 2 → Nat :=
  let v920 : Index := Scalar.indexCast arg25
  let c256_i32_600 : BitVec 32 := 256#32
  let v918 : BitVec 32 := Scalar.muli arg26 c256_i32_600
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_598 : BitVec 32 := 16#32
  let v916 : BitVec 32 := Scalar.muli v847 c16_i32_598
  let c4_i32_599 : BitVec 32 := 4#32
  let v917 : BitVec 32 := Scalar.addi v916 c4_i32_599
  let v919 : BitVec 32 := Scalar.addi v918 v917
  let v921 : Index := Scalar.indexCast v919
  ![v920.toNat, v921.toNat]
def k0_mult29 (v922 : BitVec 32) : BitVec 32 :=
  let c7_i32_601 : BitVec 32 := 7#32
  let v923 : BitVec 32 := Scalar.shrui v922 c7_i32_601
  let c128_i32_602 : BitVec 32 := 128#32
  let v924 : BitVec 32 := Scalar.muli v923 c128_i32_602
  v924

def k0_off388 (v922 : BitVec 32) : Fin 1 → Nat :=
  let c7_i32_601 : BitVec 32 := 7#32
  let v923 : BitVec 32 := Scalar.shrui v922 c7_i32_601
  let c128_i32_602 : BitVec 32 := 128#32
  let v924 : BitVec 32 := Scalar.muli v923 c128_i32_602
  let v925 : BitVec 32 := v924
  let v926 : Index := Scalar.indexCast v925
  ![v926.toNat]

def k0_chk157 (v922 : BitVec 32) : Prop :=
  (128 ∣ (k0_mult29 v922).toNat) ∧
  (∀ a, (k0_off388 v922) a + S128.size a ≤ S1000000.size a)
theorem k0_mult29_dvd : ∀ (v922 : BitVec 32) (k0_hw157 : k0_chk157 v922), 128 ∣ (k0_mult29 v922).toNat := fun v922 k0_hw157 => k0_hw157.1
theorem k0_off388_inb : ∀ (v922 : BitVec 32) (k0_hw157 : k0_chk157 v922), ∀ a, (k0_off388 v922) a + S128.size a ≤ S1000000.size a := fun v922 k0_hw157 => k0_hw157.2

def k0_off389 (arg26 : BitVec 32) (v667 : BitVec 32) (k0_t9 : Fin (k0_t9_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_598 : BitVec 32 := 16#32
  let v916 : BitVec 32 := Scalar.muli v847 c16_i32_598
  let c4_i32_599 : BitVec 32 := 4#32
  let v917 : BitVec 32 := Scalar.addi v916 c4_i32_599
  let v929 : Index := Scalar.indexCast v917
  let c0_603 : Index := 0#32
  ![v929.toNat, 0]
def k0_off390 (arg25 : BitVec 32) (arg26 : BitVec 32) (v667 : BitVec 32) (k0_t9 : Fin (k0_t9_loop arg26 v667).trips) : Fin 2 → Nat :=
  let v937 : Index := Scalar.indexCast arg25
  let c256_i32_606 : BitVec 32 := 256#32
  let v935 : BitVec 32 := Scalar.muli arg26 c256_i32_606
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_604 : BitVec 32 := 16#32
  let v933 : BitVec 32 := Scalar.muli v847 c16_i32_604
  let c5_i32_605 : BitVec 32 := 5#32
  let v934 : BitVec 32 := Scalar.addi v933 c5_i32_605
  let v936 : BitVec 32 := Scalar.addi v935 v934
  let v938 : Index := Scalar.indexCast v936
  ![v937.toNat, v938.toNat]
def k0_mult30 (v939 : BitVec 32) : BitVec 32 :=
  let c7_i32_607 : BitVec 32 := 7#32
  let v940 : BitVec 32 := Scalar.shrui v939 c7_i32_607
  let c128_i32_608 : BitVec 32 := 128#32
  let v941 : BitVec 32 := Scalar.muli v940 c128_i32_608
  v941

def k0_off391 (v939 : BitVec 32) : Fin 1 → Nat :=
  let c7_i32_607 : BitVec 32 := 7#32
  let v940 : BitVec 32 := Scalar.shrui v939 c7_i32_607
  let c128_i32_608 : BitVec 32 := 128#32
  let v941 : BitVec 32 := Scalar.muli v940 c128_i32_608
  let v942 : BitVec 32 := v941
  let v943 : Index := Scalar.indexCast v942
  ![v943.toNat]

def k0_chk158 (v939 : BitVec 32) : Prop :=
  (128 ∣ (k0_mult30 v939).toNat) ∧
  (∀ a, (k0_off391 v939) a + S128.size a ≤ S1000000.size a)
theorem k0_mult30_dvd : ∀ (v939 : BitVec 32) (k0_hw158 : k0_chk158 v939), 128 ∣ (k0_mult30 v939).toNat := fun v939 k0_hw158 => k0_hw158.1
theorem k0_off391_inb : ∀ (v939 : BitVec 32) (k0_hw158 : k0_chk158 v939), ∀ a, (k0_off391 v939) a + S128.size a ≤ S1000000.size a := fun v939 k0_hw158 => k0_hw158.2

def k0_off392 (arg26 : BitVec 32) (v667 : BitVec 32) (k0_t9 : Fin (k0_t9_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_604 : BitVec 32 := 16#32
  let v933 : BitVec 32 := Scalar.muli v847 c16_i32_604
  let c5_i32_605 : BitVec 32 := 5#32
  let v934 : BitVec 32 := Scalar.addi v933 c5_i32_605
  let v946 : Index := Scalar.indexCast v934
  let c0_609 : Index := 0#32
  ![v946.toNat, 0]
def k0_off393 (arg25 : BitVec 32) (arg26 : BitVec 32) (v667 : BitVec 32) (k0_t9 : Fin (k0_t9_loop arg26 v667).trips) : Fin 2 → Nat :=
  let v954 : Index := Scalar.indexCast arg25
  let c256_i32_612 : BitVec 32 := 256#32
  let v952 : BitVec 32 := Scalar.muli arg26 c256_i32_612
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_610 : BitVec 32 := 16#32
  let v950 : BitVec 32 := Scalar.muli v847 c16_i32_610
  let c6_i32_611 : BitVec 32 := 6#32
  let v951 : BitVec 32 := Scalar.addi v950 c6_i32_611
  let v953 : BitVec 32 := Scalar.addi v952 v951
  let v955 : Index := Scalar.indexCast v953
  ![v954.toNat, v955.toNat]
def k0_mult31 (v956 : BitVec 32) : BitVec 32 :=
  let c7_i32_613 : BitVec 32 := 7#32
  let v957 : BitVec 32 := Scalar.shrui v956 c7_i32_613
  let c128_i32_614 : BitVec 32 := 128#32
  let v958 : BitVec 32 := Scalar.muli v957 c128_i32_614
  v958

def k0_off394 (v956 : BitVec 32) : Fin 1 → Nat :=
  let c7_i32_613 : BitVec 32 := 7#32
  let v957 : BitVec 32 := Scalar.shrui v956 c7_i32_613
  let c128_i32_614 : BitVec 32 := 128#32
  let v958 : BitVec 32 := Scalar.muli v957 c128_i32_614
  let v959 : BitVec 32 := v958
  let v960 : Index := Scalar.indexCast v959
  ![v960.toNat]

def k0_chk159 (v956 : BitVec 32) : Prop :=
  (128 ∣ (k0_mult31 v956).toNat) ∧
  (∀ a, (k0_off394 v956) a + S128.size a ≤ S1000000.size a)
theorem k0_mult31_dvd : ∀ (v956 : BitVec 32) (k0_hw159 : k0_chk159 v956), 128 ∣ (k0_mult31 v956).toNat := fun v956 k0_hw159 => k0_hw159.1
theorem k0_off394_inb : ∀ (v956 : BitVec 32) (k0_hw159 : k0_chk159 v956), ∀ a, (k0_off394 v956) a + S128.size a ≤ S1000000.size a := fun v956 k0_hw159 => k0_hw159.2

def k0_off395 (arg26 : BitVec 32) (v667 : BitVec 32) (k0_t9 : Fin (k0_t9_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_610 : BitVec 32 := 16#32
  let v950 : BitVec 32 := Scalar.muli v847 c16_i32_610
  let c6_i32_611 : BitVec 32 := 6#32
  let v951 : BitVec 32 := Scalar.addi v950 c6_i32_611
  let v963 : Index := Scalar.indexCast v951
  let c0_615 : Index := 0#32
  ![v963.toNat, 0]
def k0_off396 (arg25 : BitVec 32) (arg26 : BitVec 32) (v667 : BitVec 32) (k0_t9 : Fin (k0_t9_loop arg26 v667).trips) : Fin 2 → Nat :=
  let v971 : Index := Scalar.indexCast arg25
  let c256_i32_618 : BitVec 32 := 256#32
  let v969 : BitVec 32 := Scalar.muli arg26 c256_i32_618
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_616 : BitVec 32 := 16#32
  let v967 : BitVec 32 := Scalar.muli v847 c16_i32_616
  let c7_i32_617 : BitVec 32 := 7#32
  let v968 : BitVec 32 := Scalar.addi v967 c7_i32_617
  let v970 : BitVec 32 := Scalar.addi v969 v968
  let v972 : Index := Scalar.indexCast v970
  ![v971.toNat, v972.toNat]
def k0_mult32 (v973 : BitVec 32) : BitVec 32 :=
  let c7_i32_619 : BitVec 32 := 7#32
  let v974 : BitVec 32 := Scalar.shrui v973 c7_i32_619
  let c128_i32_620 : BitVec 32 := 128#32
  let v975 : BitVec 32 := Scalar.muli v974 c128_i32_620
  v975

def k0_off397 (v973 : BitVec 32) : Fin 1 → Nat :=
  let c7_i32_619 : BitVec 32 := 7#32
  let v974 : BitVec 32 := Scalar.shrui v973 c7_i32_619
  let c128_i32_620 : BitVec 32 := 128#32
  let v975 : BitVec 32 := Scalar.muli v974 c128_i32_620
  let v976 : BitVec 32 := v975
  let v977 : Index := Scalar.indexCast v976
  ![v977.toNat]

def k0_chk160 (v973 : BitVec 32) : Prop :=
  (128 ∣ (k0_mult32 v973).toNat) ∧
  (∀ a, (k0_off397 v973) a + S128.size a ≤ S1000000.size a)
theorem k0_mult32_dvd : ∀ (v973 : BitVec 32) (k0_hw160 : k0_chk160 v973), 128 ∣ (k0_mult32 v973).toNat := fun v973 k0_hw160 => k0_hw160.1
theorem k0_off397_inb : ∀ (v973 : BitVec 32) (k0_hw160 : k0_chk160 v973), ∀ a, (k0_off397 v973) a + S128.size a ≤ S1000000.size a := fun v973 k0_hw160 => k0_hw160.2

def k0_off398 (arg26 : BitVec 32) (v667 : BitVec 32) (k0_t9 : Fin (k0_t9_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_616 : BitVec 32 := 16#32
  let v967 : BitVec 32 := Scalar.muli v847 c16_i32_616
  let c7_i32_617 : BitVec 32 := 7#32
  let v968 : BitVec 32 := Scalar.addi v967 c7_i32_617
  let v980 : Index := Scalar.indexCast v968
  let c0_621 : Index := 0#32
  ![v980.toNat, 0]
def k0_off399 (arg25 : BitVec 32) (arg26 : BitVec 32) (v667 : BitVec 32) (k0_t9 : Fin (k0_t9_loop arg26 v667).trips) : Fin 2 → Nat :=
  let v988 : Index := Scalar.indexCast arg25
  let c256_i32_624 : BitVec 32 := 256#32
  let v986 : BitVec 32 := Scalar.muli arg26 c256_i32_624
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_622 : BitVec 32 := 16#32
  let v984 : BitVec 32 := Scalar.muli v847 c16_i32_622
  let c8_i32_623 : BitVec 32 := 8#32
  let v985 : BitVec 32 := Scalar.addi v984 c8_i32_623
  let v987 : BitVec 32 := Scalar.addi v986 v985
  let v989 : Index := Scalar.indexCast v987
  ![v988.toNat, v989.toNat]
def k0_mult33 (v990 : BitVec 32) : BitVec 32 :=
  let c7_i32_625 : BitVec 32 := 7#32
  let v991 : BitVec 32 := Scalar.shrui v990 c7_i32_625
  let c128_i32_626 : BitVec 32 := 128#32
  let v992 : BitVec 32 := Scalar.muli v991 c128_i32_626
  v992

def k0_off400 (v990 : BitVec 32) : Fin 1 → Nat :=
  let c7_i32_625 : BitVec 32 := 7#32
  let v991 : BitVec 32 := Scalar.shrui v990 c7_i32_625
  let c128_i32_626 : BitVec 32 := 128#32
  let v992 : BitVec 32 := Scalar.muli v991 c128_i32_626
  let v993 : BitVec 32 := v992
  let v994 : Index := Scalar.indexCast v993
  ![v994.toNat]

def k0_chk161 (v990 : BitVec 32) : Prop :=
  (128 ∣ (k0_mult33 v990).toNat) ∧
  (∀ a, (k0_off400 v990) a + S128.size a ≤ S1000000.size a)
theorem k0_mult33_dvd : ∀ (v990 : BitVec 32) (k0_hw161 : k0_chk161 v990), 128 ∣ (k0_mult33 v990).toNat := fun v990 k0_hw161 => k0_hw161.1
theorem k0_off400_inb : ∀ (v990 : BitVec 32) (k0_hw161 : k0_chk161 v990), ∀ a, (k0_off400 v990) a + S128.size a ≤ S1000000.size a := fun v990 k0_hw161 => k0_hw161.2

def k0_off401 (arg26 : BitVec 32) (v667 : BitVec 32) (k0_t9 : Fin (k0_t9_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_622 : BitVec 32 := 16#32
  let v984 : BitVec 32 := Scalar.muli v847 c16_i32_622
  let c8_i32_623 : BitVec 32 := 8#32
  let v985 : BitVec 32 := Scalar.addi v984 c8_i32_623
  let v997 : Index := Scalar.indexCast v985
  let c0_627 : Index := 0#32
  ![v997.toNat, 0]
def k0_off402 (arg25 : BitVec 32) (arg26 : BitVec 32) (v667 : BitVec 32) (k0_t9 : Fin (k0_t9_loop arg26 v667).trips) : Fin 2 → Nat :=
  let v1005 : Index := Scalar.indexCast arg25
  let c256_i32_630 : BitVec 32 := 256#32
  let v1003 : BitVec 32 := Scalar.muli arg26 c256_i32_630
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_628 : BitVec 32 := 16#32
  let v1001 : BitVec 32 := Scalar.muli v847 c16_i32_628
  let c9_i32_629 : BitVec 32 := 9#32
  let v1002 : BitVec 32 := Scalar.addi v1001 c9_i32_629
  let v1004 : BitVec 32 := Scalar.addi v1003 v1002
  let v1006 : Index := Scalar.indexCast v1004
  ![v1005.toNat, v1006.toNat]
def k0_mult34 (v1007 : BitVec 32) : BitVec 32 :=
  let c7_i32_631 : BitVec 32 := 7#32
  let v1008 : BitVec 32 := Scalar.shrui v1007 c7_i32_631
  let c128_i32_632 : BitVec 32 := 128#32
  let v1009 : BitVec 32 := Scalar.muli v1008 c128_i32_632
  v1009

def k0_off403 (v1007 : BitVec 32) : Fin 1 → Nat :=
  let c7_i32_631 : BitVec 32 := 7#32
  let v1008 : BitVec 32 := Scalar.shrui v1007 c7_i32_631
  let c128_i32_632 : BitVec 32 := 128#32
  let v1009 : BitVec 32 := Scalar.muli v1008 c128_i32_632
  let v1010 : BitVec 32 := v1009
  let v1011 : Index := Scalar.indexCast v1010
  ![v1011.toNat]

def k0_chk162 (v1007 : BitVec 32) : Prop :=
  (128 ∣ (k0_mult34 v1007).toNat) ∧
  (∀ a, (k0_off403 v1007) a + S128.size a ≤ S1000000.size a)
theorem k0_mult34_dvd : ∀ (v1007 : BitVec 32) (k0_hw162 : k0_chk162 v1007), 128 ∣ (k0_mult34 v1007).toNat := fun v1007 k0_hw162 => k0_hw162.1
theorem k0_off403_inb : ∀ (v1007 : BitVec 32) (k0_hw162 : k0_chk162 v1007), ∀ a, (k0_off403 v1007) a + S128.size a ≤ S1000000.size a := fun v1007 k0_hw162 => k0_hw162.2

def k0_off404 (arg26 : BitVec 32) (v667 : BitVec 32) (k0_t9 : Fin (k0_t9_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_628 : BitVec 32 := 16#32
  let v1001 : BitVec 32 := Scalar.muli v847 c16_i32_628
  let c9_i32_629 : BitVec 32 := 9#32
  let v1002 : BitVec 32 := Scalar.addi v1001 c9_i32_629
  let v1014 : Index := Scalar.indexCast v1002
  let c0_633 : Index := 0#32
  ![v1014.toNat, 0]
def k0_off405 (arg25 : BitVec 32) (arg26 : BitVec 32) (v667 : BitVec 32) (k0_t9 : Fin (k0_t9_loop arg26 v667).trips) : Fin 2 → Nat :=
  let v1022 : Index := Scalar.indexCast arg25
  let c256_i32_636 : BitVec 32 := 256#32
  let v1020 : BitVec 32 := Scalar.muli arg26 c256_i32_636
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_634 : BitVec 32 := 16#32
  let v1018 : BitVec 32 := Scalar.muli v847 c16_i32_634
  let c10_i32_635 : BitVec 32 := 10#32
  let v1019 : BitVec 32 := Scalar.addi v1018 c10_i32_635
  let v1021 : BitVec 32 := Scalar.addi v1020 v1019
  let v1023 : Index := Scalar.indexCast v1021
  ![v1022.toNat, v1023.toNat]
def k0_mult35 (v1024 : BitVec 32) : BitVec 32 :=
  let c7_i32_637 : BitVec 32 := 7#32
  let v1025 : BitVec 32 := Scalar.shrui v1024 c7_i32_637
  let c128_i32_638 : BitVec 32 := 128#32
  let v1026 : BitVec 32 := Scalar.muli v1025 c128_i32_638
  v1026

def k0_off406 (v1024 : BitVec 32) : Fin 1 → Nat :=
  let c7_i32_637 : BitVec 32 := 7#32
  let v1025 : BitVec 32 := Scalar.shrui v1024 c7_i32_637
  let c128_i32_638 : BitVec 32 := 128#32
  let v1026 : BitVec 32 := Scalar.muli v1025 c128_i32_638
  let v1027 : BitVec 32 := v1026
  let v1028 : Index := Scalar.indexCast v1027
  ![v1028.toNat]

def k0_chk163 (v1024 : BitVec 32) : Prop :=
  (128 ∣ (k0_mult35 v1024).toNat) ∧
  (∀ a, (k0_off406 v1024) a + S128.size a ≤ S1000000.size a)
theorem k0_mult35_dvd : ∀ (v1024 : BitVec 32) (k0_hw163 : k0_chk163 v1024), 128 ∣ (k0_mult35 v1024).toNat := fun v1024 k0_hw163 => k0_hw163.1
theorem k0_off406_inb : ∀ (v1024 : BitVec 32) (k0_hw163 : k0_chk163 v1024), ∀ a, (k0_off406 v1024) a + S128.size a ≤ S1000000.size a := fun v1024 k0_hw163 => k0_hw163.2

def k0_off407 (arg26 : BitVec 32) (v667 : BitVec 32) (k0_t9 : Fin (k0_t9_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_634 : BitVec 32 := 16#32
  let v1018 : BitVec 32 := Scalar.muli v847 c16_i32_634
  let c10_i32_635 : BitVec 32 := 10#32
  let v1019 : BitVec 32 := Scalar.addi v1018 c10_i32_635
  let v1031 : Index := Scalar.indexCast v1019
  let c0_639 : Index := 0#32
  ![v1031.toNat, 0]
def k0_off408 (arg25 : BitVec 32) (arg26 : BitVec 32) (v667 : BitVec 32) (k0_t9 : Fin (k0_t9_loop arg26 v667).trips) : Fin 2 → Nat :=
  let v1039 : Index := Scalar.indexCast arg25
  let c256_i32_642 : BitVec 32 := 256#32
  let v1037 : BitVec 32 := Scalar.muli arg26 c256_i32_642
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_640 : BitVec 32 := 16#32
  let v1035 : BitVec 32 := Scalar.muli v847 c16_i32_640
  let c11_i32_641 : BitVec 32 := 11#32
  let v1036 : BitVec 32 := Scalar.addi v1035 c11_i32_641
  let v1038 : BitVec 32 := Scalar.addi v1037 v1036
  let v1040 : Index := Scalar.indexCast v1038
  ![v1039.toNat, v1040.toNat]
def k0_mult36 (v1041 : BitVec 32) : BitVec 32 :=
  let c7_i32_643 : BitVec 32 := 7#32
  let v1042 : BitVec 32 := Scalar.shrui v1041 c7_i32_643
  let c128_i32_644 : BitVec 32 := 128#32
  let v1043 : BitVec 32 := Scalar.muli v1042 c128_i32_644
  v1043

def k0_off409 (v1041 : BitVec 32) : Fin 1 → Nat :=
  let c7_i32_643 : BitVec 32 := 7#32
  let v1042 : BitVec 32 := Scalar.shrui v1041 c7_i32_643
  let c128_i32_644 : BitVec 32 := 128#32
  let v1043 : BitVec 32 := Scalar.muli v1042 c128_i32_644
  let v1044 : BitVec 32 := v1043
  let v1045 : Index := Scalar.indexCast v1044
  ![v1045.toNat]

def k0_chk164 (v1041 : BitVec 32) : Prop :=
  (128 ∣ (k0_mult36 v1041).toNat) ∧
  (∀ a, (k0_off409 v1041) a + S128.size a ≤ S1000000.size a)
theorem k0_mult36_dvd : ∀ (v1041 : BitVec 32) (k0_hw164 : k0_chk164 v1041), 128 ∣ (k0_mult36 v1041).toNat := fun v1041 k0_hw164 => k0_hw164.1
theorem k0_off409_inb : ∀ (v1041 : BitVec 32) (k0_hw164 : k0_chk164 v1041), ∀ a, (k0_off409 v1041) a + S128.size a ≤ S1000000.size a := fun v1041 k0_hw164 => k0_hw164.2

def k0_off410 (arg26 : BitVec 32) (v667 : BitVec 32) (k0_t9 : Fin (k0_t9_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_640 : BitVec 32 := 16#32
  let v1035 : BitVec 32 := Scalar.muli v847 c16_i32_640
  let c11_i32_641 : BitVec 32 := 11#32
  let v1036 : BitVec 32 := Scalar.addi v1035 c11_i32_641
  let v1048 : Index := Scalar.indexCast v1036
  let c0_645 : Index := 0#32
  ![v1048.toNat, 0]
def k0_off411 (arg25 : BitVec 32) (arg26 : BitVec 32) (v667 : BitVec 32) (k0_t9 : Fin (k0_t9_loop arg26 v667).trips) : Fin 2 → Nat :=
  let v1056 : Index := Scalar.indexCast arg25
  let c256_i32_648 : BitVec 32 := 256#32
  let v1054 : BitVec 32 := Scalar.muli arg26 c256_i32_648
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_646 : BitVec 32 := 16#32
  let v1052 : BitVec 32 := Scalar.muli v847 c16_i32_646
  let c12_i32_647 : BitVec 32 := 12#32
  let v1053 : BitVec 32 := Scalar.addi v1052 c12_i32_647
  let v1055 : BitVec 32 := Scalar.addi v1054 v1053
  let v1057 : Index := Scalar.indexCast v1055
  ![v1056.toNat, v1057.toNat]
def k0_mult37 (v1058 : BitVec 32) : BitVec 32 :=
  let c7_i32_649 : BitVec 32 := 7#32
  let v1059 : BitVec 32 := Scalar.shrui v1058 c7_i32_649
  let c128_i32_650 : BitVec 32 := 128#32
  let v1060 : BitVec 32 := Scalar.muli v1059 c128_i32_650
  v1060

def k0_off412 (v1058 : BitVec 32) : Fin 1 → Nat :=
  let c7_i32_649 : BitVec 32 := 7#32
  let v1059 : BitVec 32 := Scalar.shrui v1058 c7_i32_649
  let c128_i32_650 : BitVec 32 := 128#32
  let v1060 : BitVec 32 := Scalar.muli v1059 c128_i32_650
  let v1061 : BitVec 32 := v1060
  let v1062 : Index := Scalar.indexCast v1061
  ![v1062.toNat]

def k0_chk165 (v1058 : BitVec 32) : Prop :=
  (128 ∣ (k0_mult37 v1058).toNat) ∧
  (∀ a, (k0_off412 v1058) a + S128.size a ≤ S1000000.size a)
theorem k0_mult37_dvd : ∀ (v1058 : BitVec 32) (k0_hw165 : k0_chk165 v1058), 128 ∣ (k0_mult37 v1058).toNat := fun v1058 k0_hw165 => k0_hw165.1
theorem k0_off412_inb : ∀ (v1058 : BitVec 32) (k0_hw165 : k0_chk165 v1058), ∀ a, (k0_off412 v1058) a + S128.size a ≤ S1000000.size a := fun v1058 k0_hw165 => k0_hw165.2

def k0_off413 (arg26 : BitVec 32) (v667 : BitVec 32) (k0_t9 : Fin (k0_t9_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_646 : BitVec 32 := 16#32
  let v1052 : BitVec 32 := Scalar.muli v847 c16_i32_646
  let c12_i32_647 : BitVec 32 := 12#32
  let v1053 : BitVec 32 := Scalar.addi v1052 c12_i32_647
  let v1065 : Index := Scalar.indexCast v1053
  let c0_651 : Index := 0#32
  ![v1065.toNat, 0]
def k0_off414 (arg25 : BitVec 32) (arg26 : BitVec 32) (v667 : BitVec 32) (k0_t9 : Fin (k0_t9_loop arg26 v667).trips) : Fin 2 → Nat :=
  let v1073 : Index := Scalar.indexCast arg25
  let c256_i32_654 : BitVec 32 := 256#32
  let v1071 : BitVec 32 := Scalar.muli arg26 c256_i32_654
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_652 : BitVec 32 := 16#32
  let v1069 : BitVec 32 := Scalar.muli v847 c16_i32_652
  let c13_i32_653 : BitVec 32 := 13#32
  let v1070 : BitVec 32 := Scalar.addi v1069 c13_i32_653
  let v1072 : BitVec 32 := Scalar.addi v1071 v1070
  let v1074 : Index := Scalar.indexCast v1072
  ![v1073.toNat, v1074.toNat]
def k0_mult38 (v1075 : BitVec 32) : BitVec 32 :=
  let c7_i32_655 : BitVec 32 := 7#32
  let v1076 : BitVec 32 := Scalar.shrui v1075 c7_i32_655
  let c128_i32_656 : BitVec 32 := 128#32
  let v1077 : BitVec 32 := Scalar.muli v1076 c128_i32_656
  v1077

def k0_off415 (v1075 : BitVec 32) : Fin 1 → Nat :=
  let c7_i32_655 : BitVec 32 := 7#32
  let v1076 : BitVec 32 := Scalar.shrui v1075 c7_i32_655
  let c128_i32_656 : BitVec 32 := 128#32
  let v1077 : BitVec 32 := Scalar.muli v1076 c128_i32_656
  let v1078 : BitVec 32 := v1077
  let v1079 : Index := Scalar.indexCast v1078
  ![v1079.toNat]

def k0_chk166 (v1075 : BitVec 32) : Prop :=
  (128 ∣ (k0_mult38 v1075).toNat) ∧
  (∀ a, (k0_off415 v1075) a + S128.size a ≤ S1000000.size a)
theorem k0_mult38_dvd : ∀ (v1075 : BitVec 32) (k0_hw166 : k0_chk166 v1075), 128 ∣ (k0_mult38 v1075).toNat := fun v1075 k0_hw166 => k0_hw166.1
theorem k0_off415_inb : ∀ (v1075 : BitVec 32) (k0_hw166 : k0_chk166 v1075), ∀ a, (k0_off415 v1075) a + S128.size a ≤ S1000000.size a := fun v1075 k0_hw166 => k0_hw166.2

def k0_off416 (arg26 : BitVec 32) (v667 : BitVec 32) (k0_t9 : Fin (k0_t9_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_652 : BitVec 32 := 16#32
  let v1069 : BitVec 32 := Scalar.muli v847 c16_i32_652
  let c13_i32_653 : BitVec 32 := 13#32
  let v1070 : BitVec 32 := Scalar.addi v1069 c13_i32_653
  let v1082 : Index := Scalar.indexCast v1070
  let c0_657 : Index := 0#32
  ![v1082.toNat, 0]
def k0_off417 (arg25 : BitVec 32) (arg26 : BitVec 32) (v667 : BitVec 32) (k0_t9 : Fin (k0_t9_loop arg26 v667).trips) : Fin 2 → Nat :=
  let v1090 : Index := Scalar.indexCast arg25
  let c256_i32_660 : BitVec 32 := 256#32
  let v1088 : BitVec 32 := Scalar.muli arg26 c256_i32_660
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_658 : BitVec 32 := 16#32
  let v1086 : BitVec 32 := Scalar.muli v847 c16_i32_658
  let c14_i32_659 : BitVec 32 := 14#32
  let v1087 : BitVec 32 := Scalar.addi v1086 c14_i32_659
  let v1089 : BitVec 32 := Scalar.addi v1088 v1087
  let v1091 : Index := Scalar.indexCast v1089
  ![v1090.toNat, v1091.toNat]
def k0_mult39 (v1092 : BitVec 32) : BitVec 32 :=
  let c7_i32_661 : BitVec 32 := 7#32
  let v1093 : BitVec 32 := Scalar.shrui v1092 c7_i32_661
  let c128_i32_662 : BitVec 32 := 128#32
  let v1094 : BitVec 32 := Scalar.muli v1093 c128_i32_662
  v1094

def k0_off418 (v1092 : BitVec 32) : Fin 1 → Nat :=
  let c7_i32_661 : BitVec 32 := 7#32
  let v1093 : BitVec 32 := Scalar.shrui v1092 c7_i32_661
  let c128_i32_662 : BitVec 32 := 128#32
  let v1094 : BitVec 32 := Scalar.muli v1093 c128_i32_662
  let v1095 : BitVec 32 := v1094
  let v1096 : Index := Scalar.indexCast v1095
  ![v1096.toNat]

def k0_chk167 (v1092 : BitVec 32) : Prop :=
  (128 ∣ (k0_mult39 v1092).toNat) ∧
  (∀ a, (k0_off418 v1092) a + S128.size a ≤ S1000000.size a)
theorem k0_mult39_dvd : ∀ (v1092 : BitVec 32) (k0_hw167 : k0_chk167 v1092), 128 ∣ (k0_mult39 v1092).toNat := fun v1092 k0_hw167 => k0_hw167.1
theorem k0_off418_inb : ∀ (v1092 : BitVec 32) (k0_hw167 : k0_chk167 v1092), ∀ a, (k0_off418 v1092) a + S128.size a ≤ S1000000.size a := fun v1092 k0_hw167 => k0_hw167.2

def k0_off419 (arg26 : BitVec 32) (v667 : BitVec 32) (k0_t9 : Fin (k0_t9_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_658 : BitVec 32 := 16#32
  let v1086 : BitVec 32 := Scalar.muli v847 c16_i32_658
  let c14_i32_659 : BitVec 32 := 14#32
  let v1087 : BitVec 32 := Scalar.addi v1086 c14_i32_659
  let v1099 : Index := Scalar.indexCast v1087
  let c0_663 : Index := 0#32
  ![v1099.toNat, 0]
def k0_off420 (arg25 : BitVec 32) (arg26 : BitVec 32) (v667 : BitVec 32) (k0_t9 : Fin (k0_t9_loop arg26 v667).trips) : Fin 2 → Nat :=
  let v1107 : Index := Scalar.indexCast arg25
  let c256_i32_666 : BitVec 32 := 256#32
  let v1105 : BitVec 32 := Scalar.muli arg26 c256_i32_666
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_664 : BitVec 32 := 16#32
  let v1103 : BitVec 32 := Scalar.muli v847 c16_i32_664
  let c15_i32_665 : BitVec 32 := 15#32
  let v1104 : BitVec 32 := Scalar.addi v1103 c15_i32_665
  let v1106 : BitVec 32 := Scalar.addi v1105 v1104
  let v1108 : Index := Scalar.indexCast v1106
  ![v1107.toNat, v1108.toNat]
def k0_mult40 (v1109 : BitVec 32) : BitVec 32 :=
  let c7_i32_667 : BitVec 32 := 7#32
  let v1110 : BitVec 32 := Scalar.shrui v1109 c7_i32_667
  let c128_i32_668 : BitVec 32 := 128#32
  let v1111 : BitVec 32 := Scalar.muli v1110 c128_i32_668
  v1111

def k0_off421 (v1109 : BitVec 32) : Fin 1 → Nat :=
  let c7_i32_667 : BitVec 32 := 7#32
  let v1110 : BitVec 32 := Scalar.shrui v1109 c7_i32_667
  let c128_i32_668 : BitVec 32 := 128#32
  let v1111 : BitVec 32 := Scalar.muli v1110 c128_i32_668
  let v1112 : BitVec 32 := v1111
  let v1113 : Index := Scalar.indexCast v1112
  ![v1113.toNat]

def k0_chk168 (v1109 : BitVec 32) : Prop :=
  (128 ∣ (k0_mult40 v1109).toNat) ∧
  (∀ a, (k0_off421 v1109) a + S128.size a ≤ S1000000.size a)
theorem k0_mult40_dvd : ∀ (v1109 : BitVec 32) (k0_hw168 : k0_chk168 v1109), 128 ∣ (k0_mult40 v1109).toNat := fun v1109 k0_hw168 => k0_hw168.1
theorem k0_off421_inb : ∀ (v1109 : BitVec 32) (k0_hw168 : k0_chk168 v1109), ∀ a, (k0_off421 v1109) a + S128.size a ≤ S1000000.size a := fun v1109 k0_hw168 => k0_hw168.2

def k0_off422 (arg26 : BitVec 32) (v667 : BitVec 32) (k0_t9 : Fin (k0_t9_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t9
  let c1_i32_495 : BitVec 32 := 1#32
  let v846 : BitVec 32 := Scalar.muli arg31 c1_i32_495
  let v847 : BitVec 32 := Scalar.addi c0_i32_496 v846
  let c16_i32_664 : BitVec 32 := 16#32
  let v1103 : BitVec 32 := Scalar.muli v847 c16_i32_664
  let c15_i32_665 : BitVec 32 := 15#32
  let v1104 : BitVec 32 := Scalar.addi v1103 c15_i32_665
  let v1116 : Index := Scalar.indexCast v1104
  let c0_669 : Index := 0#32
  ![v1116.toNat, 0]
@[reducible] def k0_t10_loop (arg26 : BitVec 32) (v667 : BitVec 32) : Scf.Loop 32 :=
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let v678 : BitVec 32 := Scalar.addi c0_i32_497 v677
  let c1_i32_500 : BitVec 32 := 1#32
  ⟨v681, v678, c1_i32_500⟩
def k0_off423 (arg25 : BitVec 32) (arg26 : BitVec 32) (v667 : BitVec 32) (k0_t10 : Fin (k0_t10_loop arg26 v667).trips) : Fin 2 → Nat :=
  let v852 : Index := Scalar.indexCast arg25
  let c256_i32_576 : BitVec 32 := 256#32
  let v850 : BitVec 32 := Scalar.muli arg26 c256_i32_576
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_574 : BitVec 32 := 16#32
  let v848 : BitVec 32 := Scalar.muli v847 c16_i32_574
  let c0_i32_575 : BitVec 32 := 0#32
  let v849 : BitVec 32 := Scalar.addi v848 c0_i32_575
  let v851 : BitVec 32 := Scalar.addi v850 v849
  let v853 : Index := Scalar.indexCast v851
  ![v852.toNat, v853.toNat]
def k0_mult41 (v854 : BitVec 32) : BitVec 32 :=
  let c7_i32_577 : BitVec 32 := 7#32
  let v855 : BitVec 32 := Scalar.shrui v854 c7_i32_577
  let c128_i32_578 : BitVec 32 := 128#32
  let v856 : BitVec 32 := Scalar.muli v855 c128_i32_578
  v856

def k0_off424 (v854 : BitVec 32) : Fin 1 → Nat :=
  let c7_i32_577 : BitVec 32 := 7#32
  let v855 : BitVec 32 := Scalar.shrui v854 c7_i32_577
  let c128_i32_578 : BitVec 32 := 128#32
  let v856 : BitVec 32 := Scalar.muli v855 c128_i32_578
  let v857 : BitVec 32 := v856
  let v858 : Index := Scalar.indexCast v857
  ![v858.toNat]

def k0_chk169 (v854 : BitVec 32) : Prop :=
  (128 ∣ (k0_mult41 v854).toNat) ∧
  (∀ a, (k0_off424 v854) a + S128.size a ≤ S1000000.size a)
theorem k0_mult41_dvd : ∀ (v854 : BitVec 32) (k0_hw169 : k0_chk169 v854), 128 ∣ (k0_mult41 v854).toNat := fun v854 k0_hw169 => k0_hw169.1
theorem k0_off424_inb : ∀ (v854 : BitVec 32) (k0_hw169 : k0_chk169 v854), ∀ a, (k0_off424 v854) a + S128.size a ≤ S1000000.size a := fun v854 k0_hw169 => k0_hw169.2

def k0_off425 (arg26 : BitVec 32) (v667 : BitVec 32) (k0_t10 : Fin (k0_t10_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_574 : BitVec 32 := 16#32
  let v848 : BitVec 32 := Scalar.muli v847 c16_i32_574
  let c0_i32_575 : BitVec 32 := 0#32
  let v849 : BitVec 32 := Scalar.addi v848 c0_i32_575
  let v861 : Index := Scalar.indexCast v849
  let c0_579 : Index := 0#32
  ![v861.toNat, 0]
def k0_off426 (arg25 : BitVec 32) (arg26 : BitVec 32) (v667 : BitVec 32) (k0_t10 : Fin (k0_t10_loop arg26 v667).trips) : Fin 2 → Nat :=
  let v869 : Index := Scalar.indexCast arg25
  let c256_i32_582 : BitVec 32 := 256#32
  let v867 : BitVec 32 := Scalar.muli arg26 c256_i32_582
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_580 : BitVec 32 := 16#32
  let v865 : BitVec 32 := Scalar.muli v847 c16_i32_580
  let c1_i32_581 : BitVec 32 := 1#32
  let v866 : BitVec 32 := Scalar.addi v865 c1_i32_581
  let v868 : BitVec 32 := Scalar.addi v867 v866
  let v870 : Index := Scalar.indexCast v868
  ![v869.toNat, v870.toNat]
def k0_mult42 (v871 : BitVec 32) : BitVec 32 :=
  let c7_i32_583 : BitVec 32 := 7#32
  let v872 : BitVec 32 := Scalar.shrui v871 c7_i32_583
  let c128_i32_584 : BitVec 32 := 128#32
  let v873 : BitVec 32 := Scalar.muli v872 c128_i32_584
  v873

def k0_off427 (v871 : BitVec 32) : Fin 1 → Nat :=
  let c7_i32_583 : BitVec 32 := 7#32
  let v872 : BitVec 32 := Scalar.shrui v871 c7_i32_583
  let c128_i32_584 : BitVec 32 := 128#32
  let v873 : BitVec 32 := Scalar.muli v872 c128_i32_584
  let v874 : BitVec 32 := v873
  let v875 : Index := Scalar.indexCast v874
  ![v875.toNat]

def k0_chk170 (v871 : BitVec 32) : Prop :=
  (128 ∣ (k0_mult42 v871).toNat) ∧
  (∀ a, (k0_off427 v871) a + S128.size a ≤ S1000000.size a)
theorem k0_mult42_dvd : ∀ (v871 : BitVec 32) (k0_hw170 : k0_chk170 v871), 128 ∣ (k0_mult42 v871).toNat := fun v871 k0_hw170 => k0_hw170.1
theorem k0_off427_inb : ∀ (v871 : BitVec 32) (k0_hw170 : k0_chk170 v871), ∀ a, (k0_off427 v871) a + S128.size a ≤ S1000000.size a := fun v871 k0_hw170 => k0_hw170.2

def k0_off428 (arg26 : BitVec 32) (v667 : BitVec 32) (k0_t10 : Fin (k0_t10_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_580 : BitVec 32 := 16#32
  let v865 : BitVec 32 := Scalar.muli v847 c16_i32_580
  let c1_i32_581 : BitVec 32 := 1#32
  let v866 : BitVec 32 := Scalar.addi v865 c1_i32_581
  let v878 : Index := Scalar.indexCast v866
  let c0_585 : Index := 0#32
  ![v878.toNat, 0]
def k0_off429 (arg25 : BitVec 32) (arg26 : BitVec 32) (v667 : BitVec 32) (k0_t10 : Fin (k0_t10_loop arg26 v667).trips) : Fin 2 → Nat :=
  let v886 : Index := Scalar.indexCast arg25
  let c256_i32_588 : BitVec 32 := 256#32
  let v884 : BitVec 32 := Scalar.muli arg26 c256_i32_588
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_586 : BitVec 32 := 16#32
  let v882 : BitVec 32 := Scalar.muli v847 c16_i32_586
  let c2_i32_587 : BitVec 32 := 2#32
  let v883 : BitVec 32 := Scalar.addi v882 c2_i32_587
  let v885 : BitVec 32 := Scalar.addi v884 v883
  let v887 : Index := Scalar.indexCast v885
  ![v886.toNat, v887.toNat]
def k0_mult43 (v888 : BitVec 32) : BitVec 32 :=
  let c7_i32_589 : BitVec 32 := 7#32
  let v889 : BitVec 32 := Scalar.shrui v888 c7_i32_589
  let c128_i32_590 : BitVec 32 := 128#32
  let v890 : BitVec 32 := Scalar.muli v889 c128_i32_590
  v890

def k0_off430 (v888 : BitVec 32) : Fin 1 → Nat :=
  let c7_i32_589 : BitVec 32 := 7#32
  let v889 : BitVec 32 := Scalar.shrui v888 c7_i32_589
  let c128_i32_590 : BitVec 32 := 128#32
  let v890 : BitVec 32 := Scalar.muli v889 c128_i32_590
  let v891 : BitVec 32 := v890
  let v892 : Index := Scalar.indexCast v891
  ![v892.toNat]

def k0_chk171 (v888 : BitVec 32) : Prop :=
  (128 ∣ (k0_mult43 v888).toNat) ∧
  (∀ a, (k0_off430 v888) a + S128.size a ≤ S1000000.size a)
theorem k0_mult43_dvd : ∀ (v888 : BitVec 32) (k0_hw171 : k0_chk171 v888), 128 ∣ (k0_mult43 v888).toNat := fun v888 k0_hw171 => k0_hw171.1
theorem k0_off430_inb : ∀ (v888 : BitVec 32) (k0_hw171 : k0_chk171 v888), ∀ a, (k0_off430 v888) a + S128.size a ≤ S1000000.size a := fun v888 k0_hw171 => k0_hw171.2

def k0_off431 (arg26 : BitVec 32) (v667 : BitVec 32) (k0_t10 : Fin (k0_t10_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_586 : BitVec 32 := 16#32
  let v882 : BitVec 32 := Scalar.muli v847 c16_i32_586
  let c2_i32_587 : BitVec 32 := 2#32
  let v883 : BitVec 32 := Scalar.addi v882 c2_i32_587
  let v895 : Index := Scalar.indexCast v883
  let c0_591 : Index := 0#32
  ![v895.toNat, 0]
def k0_off432 (arg25 : BitVec 32) (arg26 : BitVec 32) (v667 : BitVec 32) (k0_t10 : Fin (k0_t10_loop arg26 v667).trips) : Fin 2 → Nat :=
  let v903 : Index := Scalar.indexCast arg25
  let c256_i32_594 : BitVec 32 := 256#32
  let v901 : BitVec 32 := Scalar.muli arg26 c256_i32_594
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_592 : BitVec 32 := 16#32
  let v899 : BitVec 32 := Scalar.muli v847 c16_i32_592
  let c3_i32_593 : BitVec 32 := 3#32
  let v900 : BitVec 32 := Scalar.addi v899 c3_i32_593
  let v902 : BitVec 32 := Scalar.addi v901 v900
  let v904 : Index := Scalar.indexCast v902
  ![v903.toNat, v904.toNat]
def k0_mult44 (v905 : BitVec 32) : BitVec 32 :=
  let c7_i32_595 : BitVec 32 := 7#32
  let v906 : BitVec 32 := Scalar.shrui v905 c7_i32_595
  let c128_i32_596 : BitVec 32 := 128#32
  let v907 : BitVec 32 := Scalar.muli v906 c128_i32_596
  v907

def k0_off433 (v905 : BitVec 32) : Fin 1 → Nat :=
  let c7_i32_595 : BitVec 32 := 7#32
  let v906 : BitVec 32 := Scalar.shrui v905 c7_i32_595
  let c128_i32_596 : BitVec 32 := 128#32
  let v907 : BitVec 32 := Scalar.muli v906 c128_i32_596
  let v908 : BitVec 32 := v907
  let v909 : Index := Scalar.indexCast v908
  ![v909.toNat]

def k0_chk172 (v905 : BitVec 32) : Prop :=
  (128 ∣ (k0_mult44 v905).toNat) ∧
  (∀ a, (k0_off433 v905) a + S128.size a ≤ S1000000.size a)
theorem k0_mult44_dvd : ∀ (v905 : BitVec 32) (k0_hw172 : k0_chk172 v905), 128 ∣ (k0_mult44 v905).toNat := fun v905 k0_hw172 => k0_hw172.1
theorem k0_off433_inb : ∀ (v905 : BitVec 32) (k0_hw172 : k0_chk172 v905), ∀ a, (k0_off433 v905) a + S128.size a ≤ S1000000.size a := fun v905 k0_hw172 => k0_hw172.2

def k0_off434 (arg26 : BitVec 32) (v667 : BitVec 32) (k0_t10 : Fin (k0_t10_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_592 : BitVec 32 := 16#32
  let v899 : BitVec 32 := Scalar.muli v847 c16_i32_592
  let c3_i32_593 : BitVec 32 := 3#32
  let v900 : BitVec 32 := Scalar.addi v899 c3_i32_593
  let v912 : Index := Scalar.indexCast v900
  let c0_597 : Index := 0#32
  ![v912.toNat, 0]
def k0_off435 (arg25 : BitVec 32) (arg26 : BitVec 32) (v667 : BitVec 32) (k0_t10 : Fin (k0_t10_loop arg26 v667).trips) : Fin 2 → Nat :=
  let v920 : Index := Scalar.indexCast arg25
  let c256_i32_600 : BitVec 32 := 256#32
  let v918 : BitVec 32 := Scalar.muli arg26 c256_i32_600
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_598 : BitVec 32 := 16#32
  let v916 : BitVec 32 := Scalar.muli v847 c16_i32_598
  let c4_i32_599 : BitVec 32 := 4#32
  let v917 : BitVec 32 := Scalar.addi v916 c4_i32_599
  let v919 : BitVec 32 := Scalar.addi v918 v917
  let v921 : Index := Scalar.indexCast v919
  ![v920.toNat, v921.toNat]
def k0_mult45 (v922 : BitVec 32) : BitVec 32 :=
  let c7_i32_601 : BitVec 32 := 7#32
  let v923 : BitVec 32 := Scalar.shrui v922 c7_i32_601
  let c128_i32_602 : BitVec 32 := 128#32
  let v924 : BitVec 32 := Scalar.muli v923 c128_i32_602
  v924

def k0_off436 (v922 : BitVec 32) : Fin 1 → Nat :=
  let c7_i32_601 : BitVec 32 := 7#32
  let v923 : BitVec 32 := Scalar.shrui v922 c7_i32_601
  let c128_i32_602 : BitVec 32 := 128#32
  let v924 : BitVec 32 := Scalar.muli v923 c128_i32_602
  let v925 : BitVec 32 := v924
  let v926 : Index := Scalar.indexCast v925
  ![v926.toNat]

def k0_chk173 (v922 : BitVec 32) : Prop :=
  (128 ∣ (k0_mult45 v922).toNat) ∧
  (∀ a, (k0_off436 v922) a + S128.size a ≤ S1000000.size a)
theorem k0_mult45_dvd : ∀ (v922 : BitVec 32) (k0_hw173 : k0_chk173 v922), 128 ∣ (k0_mult45 v922).toNat := fun v922 k0_hw173 => k0_hw173.1
theorem k0_off436_inb : ∀ (v922 : BitVec 32) (k0_hw173 : k0_chk173 v922), ∀ a, (k0_off436 v922) a + S128.size a ≤ S1000000.size a := fun v922 k0_hw173 => k0_hw173.2

def k0_off437 (arg26 : BitVec 32) (v667 : BitVec 32) (k0_t10 : Fin (k0_t10_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_598 : BitVec 32 := 16#32
  let v916 : BitVec 32 := Scalar.muli v847 c16_i32_598
  let c4_i32_599 : BitVec 32 := 4#32
  let v917 : BitVec 32 := Scalar.addi v916 c4_i32_599
  let v929 : Index := Scalar.indexCast v917
  let c0_603 : Index := 0#32
  ![v929.toNat, 0]
def k0_off438 (arg25 : BitVec 32) (arg26 : BitVec 32) (v667 : BitVec 32) (k0_t10 : Fin (k0_t10_loop arg26 v667).trips) : Fin 2 → Nat :=
  let v937 : Index := Scalar.indexCast arg25
  let c256_i32_606 : BitVec 32 := 256#32
  let v935 : BitVec 32 := Scalar.muli arg26 c256_i32_606
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_604 : BitVec 32 := 16#32
  let v933 : BitVec 32 := Scalar.muli v847 c16_i32_604
  let c5_i32_605 : BitVec 32 := 5#32
  let v934 : BitVec 32 := Scalar.addi v933 c5_i32_605
  let v936 : BitVec 32 := Scalar.addi v935 v934
  let v938 : Index := Scalar.indexCast v936
  ![v937.toNat, v938.toNat]
def k0_mult46 (v939 : BitVec 32) : BitVec 32 :=
  let c7_i32_607 : BitVec 32 := 7#32
  let v940 : BitVec 32 := Scalar.shrui v939 c7_i32_607
  let c128_i32_608 : BitVec 32 := 128#32
  let v941 : BitVec 32 := Scalar.muli v940 c128_i32_608
  v941

def k0_off439 (v939 : BitVec 32) : Fin 1 → Nat :=
  let c7_i32_607 : BitVec 32 := 7#32
  let v940 : BitVec 32 := Scalar.shrui v939 c7_i32_607
  let c128_i32_608 : BitVec 32 := 128#32
  let v941 : BitVec 32 := Scalar.muli v940 c128_i32_608
  let v942 : BitVec 32 := v941
  let v943 : Index := Scalar.indexCast v942
  ![v943.toNat]

def k0_chk174 (v939 : BitVec 32) : Prop :=
  (128 ∣ (k0_mult46 v939).toNat) ∧
  (∀ a, (k0_off439 v939) a + S128.size a ≤ S1000000.size a)
theorem k0_mult46_dvd : ∀ (v939 : BitVec 32) (k0_hw174 : k0_chk174 v939), 128 ∣ (k0_mult46 v939).toNat := fun v939 k0_hw174 => k0_hw174.1
theorem k0_off439_inb : ∀ (v939 : BitVec 32) (k0_hw174 : k0_chk174 v939), ∀ a, (k0_off439 v939) a + S128.size a ≤ S1000000.size a := fun v939 k0_hw174 => k0_hw174.2

def k0_off440 (arg26 : BitVec 32) (v667 : BitVec 32) (k0_t10 : Fin (k0_t10_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_604 : BitVec 32 := 16#32
  let v933 : BitVec 32 := Scalar.muli v847 c16_i32_604
  let c5_i32_605 : BitVec 32 := 5#32
  let v934 : BitVec 32 := Scalar.addi v933 c5_i32_605
  let v946 : Index := Scalar.indexCast v934
  let c0_609 : Index := 0#32
  ![v946.toNat, 0]
def k0_off441 (arg25 : BitVec 32) (arg26 : BitVec 32) (v667 : BitVec 32) (k0_t10 : Fin (k0_t10_loop arg26 v667).trips) : Fin 2 → Nat :=
  let v954 : Index := Scalar.indexCast arg25
  let c256_i32_612 : BitVec 32 := 256#32
  let v952 : BitVec 32 := Scalar.muli arg26 c256_i32_612
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_610 : BitVec 32 := 16#32
  let v950 : BitVec 32 := Scalar.muli v847 c16_i32_610
  let c6_i32_611 : BitVec 32 := 6#32
  let v951 : BitVec 32 := Scalar.addi v950 c6_i32_611
  let v953 : BitVec 32 := Scalar.addi v952 v951
  let v955 : Index := Scalar.indexCast v953
  ![v954.toNat, v955.toNat]
def k0_mult47 (v956 : BitVec 32) : BitVec 32 :=
  let c7_i32_613 : BitVec 32 := 7#32
  let v957 : BitVec 32 := Scalar.shrui v956 c7_i32_613
  let c128_i32_614 : BitVec 32 := 128#32
  let v958 : BitVec 32 := Scalar.muli v957 c128_i32_614
  v958

def k0_off442 (v956 : BitVec 32) : Fin 1 → Nat :=
  let c7_i32_613 : BitVec 32 := 7#32
  let v957 : BitVec 32 := Scalar.shrui v956 c7_i32_613
  let c128_i32_614 : BitVec 32 := 128#32
  let v958 : BitVec 32 := Scalar.muli v957 c128_i32_614
  let v959 : BitVec 32 := v958
  let v960 : Index := Scalar.indexCast v959
  ![v960.toNat]

def k0_chk175 (v956 : BitVec 32) : Prop :=
  (128 ∣ (k0_mult47 v956).toNat) ∧
  (∀ a, (k0_off442 v956) a + S128.size a ≤ S1000000.size a)
theorem k0_mult47_dvd : ∀ (v956 : BitVec 32) (k0_hw175 : k0_chk175 v956), 128 ∣ (k0_mult47 v956).toNat := fun v956 k0_hw175 => k0_hw175.1
theorem k0_off442_inb : ∀ (v956 : BitVec 32) (k0_hw175 : k0_chk175 v956), ∀ a, (k0_off442 v956) a + S128.size a ≤ S1000000.size a := fun v956 k0_hw175 => k0_hw175.2

def k0_off443 (arg26 : BitVec 32) (v667 : BitVec 32) (k0_t10 : Fin (k0_t10_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_610 : BitVec 32 := 16#32
  let v950 : BitVec 32 := Scalar.muli v847 c16_i32_610
  let c6_i32_611 : BitVec 32 := 6#32
  let v951 : BitVec 32 := Scalar.addi v950 c6_i32_611
  let v963 : Index := Scalar.indexCast v951
  let c0_615 : Index := 0#32
  ![v963.toNat, 0]
def k0_off444 (arg25 : BitVec 32) (arg26 : BitVec 32) (v667 : BitVec 32) (k0_t10 : Fin (k0_t10_loop arg26 v667).trips) : Fin 2 → Nat :=
  let v971 : Index := Scalar.indexCast arg25
  let c256_i32_618 : BitVec 32 := 256#32
  let v969 : BitVec 32 := Scalar.muli arg26 c256_i32_618
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_616 : BitVec 32 := 16#32
  let v967 : BitVec 32 := Scalar.muli v847 c16_i32_616
  let c7_i32_617 : BitVec 32 := 7#32
  let v968 : BitVec 32 := Scalar.addi v967 c7_i32_617
  let v970 : BitVec 32 := Scalar.addi v969 v968
  let v972 : Index := Scalar.indexCast v970
  ![v971.toNat, v972.toNat]
def k0_mult48 (v973 : BitVec 32) : BitVec 32 :=
  let c7_i32_619 : BitVec 32 := 7#32
  let v974 : BitVec 32 := Scalar.shrui v973 c7_i32_619
  let c128_i32_620 : BitVec 32 := 128#32
  let v975 : BitVec 32 := Scalar.muli v974 c128_i32_620
  v975

def k0_off445 (v973 : BitVec 32) : Fin 1 → Nat :=
  let c7_i32_619 : BitVec 32 := 7#32
  let v974 : BitVec 32 := Scalar.shrui v973 c7_i32_619
  let c128_i32_620 : BitVec 32 := 128#32
  let v975 : BitVec 32 := Scalar.muli v974 c128_i32_620
  let v976 : BitVec 32 := v975
  let v977 : Index := Scalar.indexCast v976
  ![v977.toNat]

def k0_chk176 (v973 : BitVec 32) : Prop :=
  (128 ∣ (k0_mult48 v973).toNat) ∧
  (∀ a, (k0_off445 v973) a + S128.size a ≤ S1000000.size a)
theorem k0_mult48_dvd : ∀ (v973 : BitVec 32) (k0_hw176 : k0_chk176 v973), 128 ∣ (k0_mult48 v973).toNat := fun v973 k0_hw176 => k0_hw176.1
theorem k0_off445_inb : ∀ (v973 : BitVec 32) (k0_hw176 : k0_chk176 v973), ∀ a, (k0_off445 v973) a + S128.size a ≤ S1000000.size a := fun v973 k0_hw176 => k0_hw176.2

def k0_off446 (arg26 : BitVec 32) (v667 : BitVec 32) (k0_t10 : Fin (k0_t10_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_616 : BitVec 32 := 16#32
  let v967 : BitVec 32 := Scalar.muli v847 c16_i32_616
  let c7_i32_617 : BitVec 32 := 7#32
  let v968 : BitVec 32 := Scalar.addi v967 c7_i32_617
  let v980 : Index := Scalar.indexCast v968
  let c0_621 : Index := 0#32
  ![v980.toNat, 0]
def k0_off447 (arg25 : BitVec 32) (arg26 : BitVec 32) (v667 : BitVec 32) (k0_t10 : Fin (k0_t10_loop arg26 v667).trips) : Fin 2 → Nat :=
  let v988 : Index := Scalar.indexCast arg25
  let c256_i32_624 : BitVec 32 := 256#32
  let v986 : BitVec 32 := Scalar.muli arg26 c256_i32_624
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_622 : BitVec 32 := 16#32
  let v984 : BitVec 32 := Scalar.muli v847 c16_i32_622
  let c8_i32_623 : BitVec 32 := 8#32
  let v985 : BitVec 32 := Scalar.addi v984 c8_i32_623
  let v987 : BitVec 32 := Scalar.addi v986 v985
  let v989 : Index := Scalar.indexCast v987
  ![v988.toNat, v989.toNat]
def k0_mult49 (v990 : BitVec 32) : BitVec 32 :=
  let c7_i32_625 : BitVec 32 := 7#32
  let v991 : BitVec 32 := Scalar.shrui v990 c7_i32_625
  let c128_i32_626 : BitVec 32 := 128#32
  let v992 : BitVec 32 := Scalar.muli v991 c128_i32_626
  v992

def k0_off448 (v990 : BitVec 32) : Fin 1 → Nat :=
  let c7_i32_625 : BitVec 32 := 7#32
  let v991 : BitVec 32 := Scalar.shrui v990 c7_i32_625
  let c128_i32_626 : BitVec 32 := 128#32
  let v992 : BitVec 32 := Scalar.muli v991 c128_i32_626
  let v993 : BitVec 32 := v992
  let v994 : Index := Scalar.indexCast v993
  ![v994.toNat]

def k0_chk177 (v990 : BitVec 32) : Prop :=
  (128 ∣ (k0_mult49 v990).toNat) ∧
  (∀ a, (k0_off448 v990) a + S128.size a ≤ S1000000.size a)
theorem k0_mult49_dvd : ∀ (v990 : BitVec 32) (k0_hw177 : k0_chk177 v990), 128 ∣ (k0_mult49 v990).toNat := fun v990 k0_hw177 => k0_hw177.1
theorem k0_off448_inb : ∀ (v990 : BitVec 32) (k0_hw177 : k0_chk177 v990), ∀ a, (k0_off448 v990) a + S128.size a ≤ S1000000.size a := fun v990 k0_hw177 => k0_hw177.2

def k0_off449 (arg26 : BitVec 32) (v667 : BitVec 32) (k0_t10 : Fin (k0_t10_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_622 : BitVec 32 := 16#32
  let v984 : BitVec 32 := Scalar.muli v847 c16_i32_622
  let c8_i32_623 : BitVec 32 := 8#32
  let v985 : BitVec 32 := Scalar.addi v984 c8_i32_623
  let v997 : Index := Scalar.indexCast v985
  let c0_627 : Index := 0#32
  ![v997.toNat, 0]
def k0_off450 (arg25 : BitVec 32) (arg26 : BitVec 32) (v667 : BitVec 32) (k0_t10 : Fin (k0_t10_loop arg26 v667).trips) : Fin 2 → Nat :=
  let v1005 : Index := Scalar.indexCast arg25
  let c256_i32_630 : BitVec 32 := 256#32
  let v1003 : BitVec 32 := Scalar.muli arg26 c256_i32_630
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_628 : BitVec 32 := 16#32
  let v1001 : BitVec 32 := Scalar.muli v847 c16_i32_628
  let c9_i32_629 : BitVec 32 := 9#32
  let v1002 : BitVec 32 := Scalar.addi v1001 c9_i32_629
  let v1004 : BitVec 32 := Scalar.addi v1003 v1002
  let v1006 : Index := Scalar.indexCast v1004
  ![v1005.toNat, v1006.toNat]
def k0_mult50 (v1007 : BitVec 32) : BitVec 32 :=
  let c7_i32_631 : BitVec 32 := 7#32
  let v1008 : BitVec 32 := Scalar.shrui v1007 c7_i32_631
  let c128_i32_632 : BitVec 32 := 128#32
  let v1009 : BitVec 32 := Scalar.muli v1008 c128_i32_632
  v1009

def k0_off451 (v1007 : BitVec 32) : Fin 1 → Nat :=
  let c7_i32_631 : BitVec 32 := 7#32
  let v1008 : BitVec 32 := Scalar.shrui v1007 c7_i32_631
  let c128_i32_632 : BitVec 32 := 128#32
  let v1009 : BitVec 32 := Scalar.muli v1008 c128_i32_632
  let v1010 : BitVec 32 := v1009
  let v1011 : Index := Scalar.indexCast v1010
  ![v1011.toNat]

def k0_chk178 (v1007 : BitVec 32) : Prop :=
  (128 ∣ (k0_mult50 v1007).toNat) ∧
  (∀ a, (k0_off451 v1007) a + S128.size a ≤ S1000000.size a)
theorem k0_mult50_dvd : ∀ (v1007 : BitVec 32) (k0_hw178 : k0_chk178 v1007), 128 ∣ (k0_mult50 v1007).toNat := fun v1007 k0_hw178 => k0_hw178.1
theorem k0_off451_inb : ∀ (v1007 : BitVec 32) (k0_hw178 : k0_chk178 v1007), ∀ a, (k0_off451 v1007) a + S128.size a ≤ S1000000.size a := fun v1007 k0_hw178 => k0_hw178.2

def k0_off452 (arg26 : BitVec 32) (v667 : BitVec 32) (k0_t10 : Fin (k0_t10_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_628 : BitVec 32 := 16#32
  let v1001 : BitVec 32 := Scalar.muli v847 c16_i32_628
  let c9_i32_629 : BitVec 32 := 9#32
  let v1002 : BitVec 32 := Scalar.addi v1001 c9_i32_629
  let v1014 : Index := Scalar.indexCast v1002
  let c0_633 : Index := 0#32
  ![v1014.toNat, 0]
def k0_off453 (arg25 : BitVec 32) (arg26 : BitVec 32) (v667 : BitVec 32) (k0_t10 : Fin (k0_t10_loop arg26 v667).trips) : Fin 2 → Nat :=
  let v1022 : Index := Scalar.indexCast arg25
  let c256_i32_636 : BitVec 32 := 256#32
  let v1020 : BitVec 32 := Scalar.muli arg26 c256_i32_636
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_634 : BitVec 32 := 16#32
  let v1018 : BitVec 32 := Scalar.muli v847 c16_i32_634
  let c10_i32_635 : BitVec 32 := 10#32
  let v1019 : BitVec 32 := Scalar.addi v1018 c10_i32_635
  let v1021 : BitVec 32 := Scalar.addi v1020 v1019
  let v1023 : Index := Scalar.indexCast v1021
  ![v1022.toNat, v1023.toNat]
def k0_mult51 (v1024 : BitVec 32) : BitVec 32 :=
  let c7_i32_637 : BitVec 32 := 7#32
  let v1025 : BitVec 32 := Scalar.shrui v1024 c7_i32_637
  let c128_i32_638 : BitVec 32 := 128#32
  let v1026 : BitVec 32 := Scalar.muli v1025 c128_i32_638
  v1026

def k0_off454 (v1024 : BitVec 32) : Fin 1 → Nat :=
  let c7_i32_637 : BitVec 32 := 7#32
  let v1025 : BitVec 32 := Scalar.shrui v1024 c7_i32_637
  let c128_i32_638 : BitVec 32 := 128#32
  let v1026 : BitVec 32 := Scalar.muli v1025 c128_i32_638
  let v1027 : BitVec 32 := v1026
  let v1028 : Index := Scalar.indexCast v1027
  ![v1028.toNat]

def k0_chk179 (v1024 : BitVec 32) : Prop :=
  (128 ∣ (k0_mult51 v1024).toNat) ∧
  (∀ a, (k0_off454 v1024) a + S128.size a ≤ S1000000.size a)
theorem k0_mult51_dvd : ∀ (v1024 : BitVec 32) (k0_hw179 : k0_chk179 v1024), 128 ∣ (k0_mult51 v1024).toNat := fun v1024 k0_hw179 => k0_hw179.1
theorem k0_off454_inb : ∀ (v1024 : BitVec 32) (k0_hw179 : k0_chk179 v1024), ∀ a, (k0_off454 v1024) a + S128.size a ≤ S1000000.size a := fun v1024 k0_hw179 => k0_hw179.2

def k0_off455 (arg26 : BitVec 32) (v667 : BitVec 32) (k0_t10 : Fin (k0_t10_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_634 : BitVec 32 := 16#32
  let v1018 : BitVec 32 := Scalar.muli v847 c16_i32_634
  let c10_i32_635 : BitVec 32 := 10#32
  let v1019 : BitVec 32 := Scalar.addi v1018 c10_i32_635
  let v1031 : Index := Scalar.indexCast v1019
  let c0_639 : Index := 0#32
  ![v1031.toNat, 0]
def k0_off456 (arg25 : BitVec 32) (arg26 : BitVec 32) (v667 : BitVec 32) (k0_t10 : Fin (k0_t10_loop arg26 v667).trips) : Fin 2 → Nat :=
  let v1039 : Index := Scalar.indexCast arg25
  let c256_i32_642 : BitVec 32 := 256#32
  let v1037 : BitVec 32 := Scalar.muli arg26 c256_i32_642
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_640 : BitVec 32 := 16#32
  let v1035 : BitVec 32 := Scalar.muli v847 c16_i32_640
  let c11_i32_641 : BitVec 32 := 11#32
  let v1036 : BitVec 32 := Scalar.addi v1035 c11_i32_641
  let v1038 : BitVec 32 := Scalar.addi v1037 v1036
  let v1040 : Index := Scalar.indexCast v1038
  ![v1039.toNat, v1040.toNat]
def k0_mult52 (v1041 : BitVec 32) : BitVec 32 :=
  let c7_i32_643 : BitVec 32 := 7#32
  let v1042 : BitVec 32 := Scalar.shrui v1041 c7_i32_643
  let c128_i32_644 : BitVec 32 := 128#32
  let v1043 : BitVec 32 := Scalar.muli v1042 c128_i32_644
  v1043

def k0_off457 (v1041 : BitVec 32) : Fin 1 → Nat :=
  let c7_i32_643 : BitVec 32 := 7#32
  let v1042 : BitVec 32 := Scalar.shrui v1041 c7_i32_643
  let c128_i32_644 : BitVec 32 := 128#32
  let v1043 : BitVec 32 := Scalar.muli v1042 c128_i32_644
  let v1044 : BitVec 32 := v1043
  let v1045 : Index := Scalar.indexCast v1044
  ![v1045.toNat]

def k0_chk180 (v1041 : BitVec 32) : Prop :=
  (128 ∣ (k0_mult52 v1041).toNat) ∧
  (∀ a, (k0_off457 v1041) a + S128.size a ≤ S1000000.size a)
theorem k0_mult52_dvd : ∀ (v1041 : BitVec 32) (k0_hw180 : k0_chk180 v1041), 128 ∣ (k0_mult52 v1041).toNat := fun v1041 k0_hw180 => k0_hw180.1
theorem k0_off457_inb : ∀ (v1041 : BitVec 32) (k0_hw180 : k0_chk180 v1041), ∀ a, (k0_off457 v1041) a + S128.size a ≤ S1000000.size a := fun v1041 k0_hw180 => k0_hw180.2

def k0_off458 (arg26 : BitVec 32) (v667 : BitVec 32) (k0_t10 : Fin (k0_t10_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_640 : BitVec 32 := 16#32
  let v1035 : BitVec 32 := Scalar.muli v847 c16_i32_640
  let c11_i32_641 : BitVec 32 := 11#32
  let v1036 : BitVec 32 := Scalar.addi v1035 c11_i32_641
  let v1048 : Index := Scalar.indexCast v1036
  let c0_645 : Index := 0#32
  ![v1048.toNat, 0]
def k0_off459 (arg25 : BitVec 32) (arg26 : BitVec 32) (v667 : BitVec 32) (k0_t10 : Fin (k0_t10_loop arg26 v667).trips) : Fin 2 → Nat :=
  let v1056 : Index := Scalar.indexCast arg25
  let c256_i32_648 : BitVec 32 := 256#32
  let v1054 : BitVec 32 := Scalar.muli arg26 c256_i32_648
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_646 : BitVec 32 := 16#32
  let v1052 : BitVec 32 := Scalar.muli v847 c16_i32_646
  let c12_i32_647 : BitVec 32 := 12#32
  let v1053 : BitVec 32 := Scalar.addi v1052 c12_i32_647
  let v1055 : BitVec 32 := Scalar.addi v1054 v1053
  let v1057 : Index := Scalar.indexCast v1055
  ![v1056.toNat, v1057.toNat]
def k0_mult53 (v1058 : BitVec 32) : BitVec 32 :=
  let c7_i32_649 : BitVec 32 := 7#32
  let v1059 : BitVec 32 := Scalar.shrui v1058 c7_i32_649
  let c128_i32_650 : BitVec 32 := 128#32
  let v1060 : BitVec 32 := Scalar.muli v1059 c128_i32_650
  v1060

def k0_off460 (v1058 : BitVec 32) : Fin 1 → Nat :=
  let c7_i32_649 : BitVec 32 := 7#32
  let v1059 : BitVec 32 := Scalar.shrui v1058 c7_i32_649
  let c128_i32_650 : BitVec 32 := 128#32
  let v1060 : BitVec 32 := Scalar.muli v1059 c128_i32_650
  let v1061 : BitVec 32 := v1060
  let v1062 : Index := Scalar.indexCast v1061
  ![v1062.toNat]

def k0_chk181 (v1058 : BitVec 32) : Prop :=
  (128 ∣ (k0_mult53 v1058).toNat) ∧
  (∀ a, (k0_off460 v1058) a + S128.size a ≤ S1000000.size a)
theorem k0_mult53_dvd : ∀ (v1058 : BitVec 32) (k0_hw181 : k0_chk181 v1058), 128 ∣ (k0_mult53 v1058).toNat := fun v1058 k0_hw181 => k0_hw181.1
theorem k0_off460_inb : ∀ (v1058 : BitVec 32) (k0_hw181 : k0_chk181 v1058), ∀ a, (k0_off460 v1058) a + S128.size a ≤ S1000000.size a := fun v1058 k0_hw181 => k0_hw181.2

def k0_off461 (arg26 : BitVec 32) (v667 : BitVec 32) (k0_t10 : Fin (k0_t10_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_646 : BitVec 32 := 16#32
  let v1052 : BitVec 32 := Scalar.muli v847 c16_i32_646
  let c12_i32_647 : BitVec 32 := 12#32
  let v1053 : BitVec 32 := Scalar.addi v1052 c12_i32_647
  let v1065 : Index := Scalar.indexCast v1053
  let c0_651 : Index := 0#32
  ![v1065.toNat, 0]
def k0_off462 (arg25 : BitVec 32) (arg26 : BitVec 32) (v667 : BitVec 32) (k0_t10 : Fin (k0_t10_loop arg26 v667).trips) : Fin 2 → Nat :=
  let v1073 : Index := Scalar.indexCast arg25
  let c256_i32_654 : BitVec 32 := 256#32
  let v1071 : BitVec 32 := Scalar.muli arg26 c256_i32_654
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_652 : BitVec 32 := 16#32
  let v1069 : BitVec 32 := Scalar.muli v847 c16_i32_652
  let c13_i32_653 : BitVec 32 := 13#32
  let v1070 : BitVec 32 := Scalar.addi v1069 c13_i32_653
  let v1072 : BitVec 32 := Scalar.addi v1071 v1070
  let v1074 : Index := Scalar.indexCast v1072
  ![v1073.toNat, v1074.toNat]
def k0_mult54 (v1075 : BitVec 32) : BitVec 32 :=
  let c7_i32_655 : BitVec 32 := 7#32
  let v1076 : BitVec 32 := Scalar.shrui v1075 c7_i32_655
  let c128_i32_656 : BitVec 32 := 128#32
  let v1077 : BitVec 32 := Scalar.muli v1076 c128_i32_656
  v1077

def k0_off463 (v1075 : BitVec 32) : Fin 1 → Nat :=
  let c7_i32_655 : BitVec 32 := 7#32
  let v1076 : BitVec 32 := Scalar.shrui v1075 c7_i32_655
  let c128_i32_656 : BitVec 32 := 128#32
  let v1077 : BitVec 32 := Scalar.muli v1076 c128_i32_656
  let v1078 : BitVec 32 := v1077
  let v1079 : Index := Scalar.indexCast v1078
  ![v1079.toNat]

def k0_chk182 (v1075 : BitVec 32) : Prop :=
  (128 ∣ (k0_mult54 v1075).toNat) ∧
  (∀ a, (k0_off463 v1075) a + S128.size a ≤ S1000000.size a)
theorem k0_mult54_dvd : ∀ (v1075 : BitVec 32) (k0_hw182 : k0_chk182 v1075), 128 ∣ (k0_mult54 v1075).toNat := fun v1075 k0_hw182 => k0_hw182.1
theorem k0_off463_inb : ∀ (v1075 : BitVec 32) (k0_hw182 : k0_chk182 v1075), ∀ a, (k0_off463 v1075) a + S128.size a ≤ S1000000.size a := fun v1075 k0_hw182 => k0_hw182.2

def k0_off464 (arg26 : BitVec 32) (v667 : BitVec 32) (k0_t10 : Fin (k0_t10_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_652 : BitVec 32 := 16#32
  let v1069 : BitVec 32 := Scalar.muli v847 c16_i32_652
  let c13_i32_653 : BitVec 32 := 13#32
  let v1070 : BitVec 32 := Scalar.addi v1069 c13_i32_653
  let v1082 : Index := Scalar.indexCast v1070
  let c0_657 : Index := 0#32
  ![v1082.toNat, 0]
def k0_off465 (arg25 : BitVec 32) (arg26 : BitVec 32) (v667 : BitVec 32) (k0_t10 : Fin (k0_t10_loop arg26 v667).trips) : Fin 2 → Nat :=
  let v1090 : Index := Scalar.indexCast arg25
  let c256_i32_660 : BitVec 32 := 256#32
  let v1088 : BitVec 32 := Scalar.muli arg26 c256_i32_660
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_658 : BitVec 32 := 16#32
  let v1086 : BitVec 32 := Scalar.muli v847 c16_i32_658
  let c14_i32_659 : BitVec 32 := 14#32
  let v1087 : BitVec 32 := Scalar.addi v1086 c14_i32_659
  let v1089 : BitVec 32 := Scalar.addi v1088 v1087
  let v1091 : Index := Scalar.indexCast v1089
  ![v1090.toNat, v1091.toNat]
def k0_mult55 (v1092 : BitVec 32) : BitVec 32 :=
  let c7_i32_661 : BitVec 32 := 7#32
  let v1093 : BitVec 32 := Scalar.shrui v1092 c7_i32_661
  let c128_i32_662 : BitVec 32 := 128#32
  let v1094 : BitVec 32 := Scalar.muli v1093 c128_i32_662
  v1094

def k0_off466 (v1092 : BitVec 32) : Fin 1 → Nat :=
  let c7_i32_661 : BitVec 32 := 7#32
  let v1093 : BitVec 32 := Scalar.shrui v1092 c7_i32_661
  let c128_i32_662 : BitVec 32 := 128#32
  let v1094 : BitVec 32 := Scalar.muli v1093 c128_i32_662
  let v1095 : BitVec 32 := v1094
  let v1096 : Index := Scalar.indexCast v1095
  ![v1096.toNat]

def k0_chk183 (v1092 : BitVec 32) : Prop :=
  (128 ∣ (k0_mult55 v1092).toNat) ∧
  (∀ a, (k0_off466 v1092) a + S128.size a ≤ S1000000.size a)
theorem k0_mult55_dvd : ∀ (v1092 : BitVec 32) (k0_hw183 : k0_chk183 v1092), 128 ∣ (k0_mult55 v1092).toNat := fun v1092 k0_hw183 => k0_hw183.1
theorem k0_off466_inb : ∀ (v1092 : BitVec 32) (k0_hw183 : k0_chk183 v1092), ∀ a, (k0_off466 v1092) a + S128.size a ≤ S1000000.size a := fun v1092 k0_hw183 => k0_hw183.2

def k0_off467 (arg26 : BitVec 32) (v667 : BitVec 32) (k0_t10 : Fin (k0_t10_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_658 : BitVec 32 := 16#32
  let v1086 : BitVec 32 := Scalar.muli v847 c16_i32_658
  let c14_i32_659 : BitVec 32 := 14#32
  let v1087 : BitVec 32 := Scalar.addi v1086 c14_i32_659
  let v1099 : Index := Scalar.indexCast v1087
  let c0_663 : Index := 0#32
  ![v1099.toNat, 0]
def k0_off468 (arg25 : BitVec 32) (arg26 : BitVec 32) (v667 : BitVec 32) (k0_t10 : Fin (k0_t10_loop arg26 v667).trips) : Fin 2 → Nat :=
  let v1107 : Index := Scalar.indexCast arg25
  let c256_i32_666 : BitVec 32 := 256#32
  let v1105 : BitVec 32 := Scalar.muli arg26 c256_i32_666
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_664 : BitVec 32 := 16#32
  let v1103 : BitVec 32 := Scalar.muli v847 c16_i32_664
  let c15_i32_665 : BitVec 32 := 15#32
  let v1104 : BitVec 32 := Scalar.addi v1103 c15_i32_665
  let v1106 : BitVec 32 := Scalar.addi v1105 v1104
  let v1108 : Index := Scalar.indexCast v1106
  ![v1107.toNat, v1108.toNat]
def k0_mult56 (v1109 : BitVec 32) : BitVec 32 :=
  let c7_i32_667 : BitVec 32 := 7#32
  let v1110 : BitVec 32 := Scalar.shrui v1109 c7_i32_667
  let c128_i32_668 : BitVec 32 := 128#32
  let v1111 : BitVec 32 := Scalar.muli v1110 c128_i32_668
  v1111

def k0_off469 (v1109 : BitVec 32) : Fin 1 → Nat :=
  let c7_i32_667 : BitVec 32 := 7#32
  let v1110 : BitVec 32 := Scalar.shrui v1109 c7_i32_667
  let c128_i32_668 : BitVec 32 := 128#32
  let v1111 : BitVec 32 := Scalar.muli v1110 c128_i32_668
  let v1112 : BitVec 32 := v1111
  let v1113 : Index := Scalar.indexCast v1112
  ![v1113.toNat]

def k0_chk184 (v1109 : BitVec 32) : Prop :=
  (128 ∣ (k0_mult56 v1109).toNat) ∧
  (∀ a, (k0_off469 v1109) a + S128.size a ≤ S1000000.size a)
theorem k0_mult56_dvd : ∀ (v1109 : BitVec 32) (k0_hw184 : k0_chk184 v1109), 128 ∣ (k0_mult56 v1109).toNat := fun v1109 k0_hw184 => k0_hw184.1
theorem k0_off469_inb : ∀ (v1109 : BitVec 32) (k0_hw184 : k0_chk184 v1109), ∀ a, (k0_off469 v1109) a + S128.size a ≤ S1000000.size a := fun v1109 k0_hw184 => k0_hw184.2

def k0_off470 (arg26 : BitVec 32) (v667 : BitVec 32) (k0_t10 : Fin (k0_t10_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t10
  let c1_i32_495 : BitVec 32 := 1#32
  let v846 : BitVec 32 := Scalar.muli arg31 c1_i32_495
  let v847 : BitVec 32 := Scalar.addi c0_i32_496 v846
  let c16_i32_664 : BitVec 32 := 16#32
  let v1103 : BitVec 32 := Scalar.muli v847 c16_i32_664
  let c15_i32_665 : BitVec 32 := 15#32
  let v1104 : BitVec 32 := Scalar.addi v1103 c15_i32_665
  let v1116 : Index := Scalar.indexCast v1104
  let c0_669 : Index := 0#32
  ![v1116.toNat, 0]

def k0_chk152_0 (arg25 : BitVec 32) (arg26 : BitVec 32) (v667 : BitVec 32) : Prop :=
  ((k0_t9_loop arg26 v667).OK) ∧
  (∀ k0_t9 : Fin (k0_t9_loop arg26 v667).trips, ∀ a, (k0_off375 arg25 arg26 v667 k0_t9) a + S1x1.size a ≤ S24x1536.size a) ∧
  (∀ k0_t9 : Fin (k0_t9_loop arg26 v667).trips, ∀ a, (k0_off377 arg26 v667 k0_t9) a + S1x128.size a ≤ S256x128.size a) ∧
  (∀ k0_t9 : Fin (k0_t9_loop arg26 v667).trips, ∀ a, (k0_off378 arg25 arg26 v667 k0_t9) a + S1x1.size a ≤ S24x1536.size a) ∧
  (∀ k0_t9 : Fin (k0_t9_loop arg26 v667).trips, ∀ a, (k0_off380 arg26 v667 k0_t9) a + S1x128.size a ≤ S256x128.size a) ∧
  (∀ k0_t9 : Fin (k0_t9_loop arg26 v667).trips, ∀ a, (k0_off381 arg25 arg26 v667 k0_t9) a + S1x1.size a ≤ S24x1536.size a) ∧
  (∀ k0_t9 : Fin (k0_t9_loop arg26 v667).trips, ∀ a, (k0_off383 arg26 v667 k0_t9) a + S1x128.size a ≤ S256x128.size a) ∧
  (∀ k0_t9 : Fin (k0_t9_loop arg26 v667).trips, ∀ a, (k0_off384 arg25 arg26 v667 k0_t9) a + S1x1.size a ≤ S24x1536.size a) ∧
  (∀ k0_t9 : Fin (k0_t9_loop arg26 v667).trips, ∀ a, (k0_off386 arg26 v667 k0_t9) a + S1x128.size a ≤ S256x128.size a) ∧
  (∀ k0_t9 : Fin (k0_t9_loop arg26 v667).trips, ∀ a, (k0_off387 arg25 arg26 v667 k0_t9) a + S1x1.size a ≤ S24x1536.size a) ∧
  (∀ k0_t9 : Fin (k0_t9_loop arg26 v667).trips, ∀ a, (k0_off389 arg26 v667 k0_t9) a + S1x128.size a ≤ S256x128.size a) ∧
  (∀ k0_t9 : Fin (k0_t9_loop arg26 v667).trips, ∀ a, (k0_off390 arg25 arg26 v667 k0_t9) a + S1x1.size a ≤ S24x1536.size a) ∧
  (∀ k0_t9 : Fin (k0_t9_loop arg26 v667).trips, ∀ a, (k0_off392 arg26 v667 k0_t9) a + S1x128.size a ≤ S256x128.size a) ∧
  (∀ k0_t9 : Fin (k0_t9_loop arg26 v667).trips, ∀ a, (k0_off393 arg25 arg26 v667 k0_t9) a + S1x1.size a ≤ S24x1536.size a) ∧
  (∀ k0_t9 : Fin (k0_t9_loop arg26 v667).trips, ∀ a, (k0_off395 arg26 v667 k0_t9) a + S1x128.size a ≤ S256x128.size a) ∧
  (∀ k0_t9 : Fin (k0_t9_loop arg26 v667).trips, ∀ a, (k0_off396 arg25 arg26 v667 k0_t9) a + S1x1.size a ≤ S24x1536.size a) ∧
  (∀ k0_t9 : Fin (k0_t9_loop arg26 v667).trips, ∀ a, (k0_off398 arg26 v667 k0_t9) a + S1x128.size a ≤ S256x128.size a) ∧
  (∀ k0_t9 : Fin (k0_t9_loop arg26 v667).trips, ∀ a, (k0_off399 arg25 arg26 v667 k0_t9) a + S1x1.size a ≤ S24x1536.size a) ∧
  (∀ k0_t9 : Fin (k0_t9_loop arg26 v667).trips, ∀ a, (k0_off401 arg26 v667 k0_t9) a + S1x128.size a ≤ S256x128.size a) ∧
  (∀ k0_t9 : Fin (k0_t9_loop arg26 v667).trips, ∀ a, (k0_off402 arg25 arg26 v667 k0_t9) a + S1x1.size a ≤ S24x1536.size a) ∧
  (∀ k0_t9 : Fin (k0_t9_loop arg26 v667).trips, ∀ a, (k0_off404 arg26 v667 k0_t9) a + S1x128.size a ≤ S256x128.size a) ∧
  (∀ k0_t9 : Fin (k0_t9_loop arg26 v667).trips, ∀ a, (k0_off405 arg25 arg26 v667 k0_t9) a + S1x1.size a ≤ S24x1536.size a) ∧
  (∀ k0_t9 : Fin (k0_t9_loop arg26 v667).trips, ∀ a, (k0_off407 arg26 v667 k0_t9) a + S1x128.size a ≤ S256x128.size a) ∧
  (∀ k0_t9 : Fin (k0_t9_loop arg26 v667).trips, ∀ a, (k0_off408 arg25 arg26 v667 k0_t9) a + S1x1.size a ≤ S24x1536.size a) ∧
  (∀ k0_t9 : Fin (k0_t9_loop arg26 v667).trips, ∀ a, (k0_off410 arg26 v667 k0_t9) a + S1x128.size a ≤ S256x128.size a) ∧
  (∀ k0_t9 : Fin (k0_t9_loop arg26 v667).trips, ∀ a, (k0_off411 arg25 arg26 v667 k0_t9) a + S1x1.size a ≤ S24x1536.size a) ∧
  (∀ k0_t9 : Fin (k0_t9_loop arg26 v667).trips, ∀ a, (k0_off413 arg26 v667 k0_t9) a + S1x128.size a ≤ S256x128.size a) ∧
  (∀ k0_t9 : Fin (k0_t9_loop arg26 v667).trips, ∀ a, (k0_off414 arg25 arg26 v667 k0_t9) a + S1x1.size a ≤ S24x1536.size a) ∧
  (∀ k0_t9 : Fin (k0_t9_loop arg26 v667).trips, ∀ a, (k0_off416 arg26 v667 k0_t9) a + S1x128.size a ≤ S256x128.size a) ∧
  (∀ k0_t9 : Fin (k0_t9_loop arg26 v667).trips, ∀ a, (k0_off417 arg25 arg26 v667 k0_t9) a + S1x1.size a ≤ S24x1536.size a) ∧
  (∀ k0_t9 : Fin (k0_t9_loop arg26 v667).trips, ∀ a, (k0_off419 arg26 v667 k0_t9) a + S1x128.size a ≤ S256x128.size a) ∧
  (∀ k0_t9 : Fin (k0_t9_loop arg26 v667).trips, ∀ a, (k0_off420 arg25 arg26 v667 k0_t9) a + S1x1.size a ≤ S24x1536.size a)
def k0_chk152_1 (arg25 : BitVec 32) (arg26 : BitVec 32) (v667 : BitVec 32) : Prop :=
  (∀ k0_t9 : Fin (k0_t9_loop arg26 v667).trips, ∀ a, (k0_off422 arg26 v667 k0_t9) a + S1x128.size a ≤ S256x128.size a) ∧
  ((k0_t10_loop arg26 v667).OK) ∧
  (∀ k0_t10 : Fin (k0_t10_loop arg26 v667).trips, ∀ a, (k0_off423 arg25 arg26 v667 k0_t10) a + S1x1.size a ≤ S24x1536.size a) ∧
  (∀ k0_t10 : Fin (k0_t10_loop arg26 v667).trips, ∀ a, (k0_off425 arg26 v667 k0_t10) a + S1x128.size a ≤ S256x128.size a) ∧
  (∀ k0_t10 : Fin (k0_t10_loop arg26 v667).trips, ∀ a, (k0_off426 arg25 arg26 v667 k0_t10) a + S1x1.size a ≤ S24x1536.size a) ∧
  (∀ k0_t10 : Fin (k0_t10_loop arg26 v667).trips, ∀ a, (k0_off428 arg26 v667 k0_t10) a + S1x128.size a ≤ S256x128.size a) ∧
  (∀ k0_t10 : Fin (k0_t10_loop arg26 v667).trips, ∀ a, (k0_off429 arg25 arg26 v667 k0_t10) a + S1x1.size a ≤ S24x1536.size a) ∧
  (∀ k0_t10 : Fin (k0_t10_loop arg26 v667).trips, ∀ a, (k0_off431 arg26 v667 k0_t10) a + S1x128.size a ≤ S256x128.size a) ∧
  (∀ k0_t10 : Fin (k0_t10_loop arg26 v667).trips, ∀ a, (k0_off432 arg25 arg26 v667 k0_t10) a + S1x1.size a ≤ S24x1536.size a) ∧
  (∀ k0_t10 : Fin (k0_t10_loop arg26 v667).trips, ∀ a, (k0_off434 arg26 v667 k0_t10) a + S1x128.size a ≤ S256x128.size a) ∧
  (∀ k0_t10 : Fin (k0_t10_loop arg26 v667).trips, ∀ a, (k0_off435 arg25 arg26 v667 k0_t10) a + S1x1.size a ≤ S24x1536.size a) ∧
  (∀ k0_t10 : Fin (k0_t10_loop arg26 v667).trips, ∀ a, (k0_off437 arg26 v667 k0_t10) a + S1x128.size a ≤ S256x128.size a) ∧
  (∀ k0_t10 : Fin (k0_t10_loop arg26 v667).trips, ∀ a, (k0_off438 arg25 arg26 v667 k0_t10) a + S1x1.size a ≤ S24x1536.size a) ∧
  (∀ k0_t10 : Fin (k0_t10_loop arg26 v667).trips, ∀ a, (k0_off440 arg26 v667 k0_t10) a + S1x128.size a ≤ S256x128.size a) ∧
  (∀ k0_t10 : Fin (k0_t10_loop arg26 v667).trips, ∀ a, (k0_off441 arg25 arg26 v667 k0_t10) a + S1x1.size a ≤ S24x1536.size a) ∧
  (∀ k0_t10 : Fin (k0_t10_loop arg26 v667).trips, ∀ a, (k0_off443 arg26 v667 k0_t10) a + S1x128.size a ≤ S256x128.size a) ∧
  (∀ k0_t10 : Fin (k0_t10_loop arg26 v667).trips, ∀ a, (k0_off444 arg25 arg26 v667 k0_t10) a + S1x1.size a ≤ S24x1536.size a) ∧
  (∀ k0_t10 : Fin (k0_t10_loop arg26 v667).trips, ∀ a, (k0_off446 arg26 v667 k0_t10) a + S1x128.size a ≤ S256x128.size a) ∧
  (∀ k0_t10 : Fin (k0_t10_loop arg26 v667).trips, ∀ a, (k0_off447 arg25 arg26 v667 k0_t10) a + S1x1.size a ≤ S24x1536.size a) ∧
  (∀ k0_t10 : Fin (k0_t10_loop arg26 v667).trips, ∀ a, (k0_off449 arg26 v667 k0_t10) a + S1x128.size a ≤ S256x128.size a) ∧
  (∀ k0_t10 : Fin (k0_t10_loop arg26 v667).trips, ∀ a, (k0_off450 arg25 arg26 v667 k0_t10) a + S1x1.size a ≤ S24x1536.size a) ∧
  (∀ k0_t10 : Fin (k0_t10_loop arg26 v667).trips, ∀ a, (k0_off452 arg26 v667 k0_t10) a + S1x128.size a ≤ S256x128.size a) ∧
  (∀ k0_t10 : Fin (k0_t10_loop arg26 v667).trips, ∀ a, (k0_off453 arg25 arg26 v667 k0_t10) a + S1x1.size a ≤ S24x1536.size a) ∧
  (∀ k0_t10 : Fin (k0_t10_loop arg26 v667).trips, ∀ a, (k0_off455 arg26 v667 k0_t10) a + S1x128.size a ≤ S256x128.size a) ∧
  (∀ k0_t10 : Fin (k0_t10_loop arg26 v667).trips, ∀ a, (k0_off456 arg25 arg26 v667 k0_t10) a + S1x1.size a ≤ S24x1536.size a) ∧
  (∀ k0_t10 : Fin (k0_t10_loop arg26 v667).trips, ∀ a, (k0_off458 arg26 v667 k0_t10) a + S1x128.size a ≤ S256x128.size a) ∧
  (∀ k0_t10 : Fin (k0_t10_loop arg26 v667).trips, ∀ a, (k0_off459 arg25 arg26 v667 k0_t10) a + S1x1.size a ≤ S24x1536.size a) ∧
  (∀ k0_t10 : Fin (k0_t10_loop arg26 v667).trips, ∀ a, (k0_off461 arg26 v667 k0_t10) a + S1x128.size a ≤ S256x128.size a) ∧
  (∀ k0_t10 : Fin (k0_t10_loop arg26 v667).trips, ∀ a, (k0_off462 arg25 arg26 v667 k0_t10) a + S1x1.size a ≤ S24x1536.size a) ∧
  (∀ k0_t10 : Fin (k0_t10_loop arg26 v667).trips, ∀ a, (k0_off464 arg26 v667 k0_t10) a + S1x128.size a ≤ S256x128.size a) ∧
  (∀ k0_t10 : Fin (k0_t10_loop arg26 v667).trips, ∀ a, (k0_off465 arg25 arg26 v667 k0_t10) a + S1x1.size a ≤ S24x1536.size a) ∧
  (∀ k0_t10 : Fin (k0_t10_loop arg26 v667).trips, ∀ a, (k0_off467 arg26 v667 k0_t10) a + S1x128.size a ≤ S256x128.size a)
def k0_chk152_2 (arg25 : BitVec 32) (arg26 : BitVec 32) (v667 : BitVec 32) : Prop :=
  (∀ k0_t10 : Fin (k0_t10_loop arg26 v667).trips, ∀ a, (k0_off468 arg25 arg26 v667 k0_t10) a + S1x1.size a ≤ S24x1536.size a) ∧
  (∀ k0_t10 : Fin (k0_t10_loop arg26 v667).trips, ∀ a, (k0_off470 arg26 v667 k0_t10) a + S1x128.size a ≤ S256x128.size a)
def k0_chk152 (arg25 : BitVec 32) (arg26 : BitVec 32) (v667 : BitVec 32) : Prop :=
  k0_chk152_0 arg25 arg26 v667 ∧
  k0_chk152_1 arg25 arg26 v667 ∧
  k0_chk152_2 arg25 arg26 v667
theorem k0_t9_ok : ∀ (arg25 : BitVec 32) (arg26 : BitVec 32) (v667 : BitVec 32) (k0_hw152 : k0_chk152 arg25 arg26 v667), (k0_t9_loop arg26 v667).OK := fun arg25 arg26 v667 k0_hw152 => k0_hw152.1.1
theorem k0_off375_inb : ∀ (arg25 : BitVec 32) (arg26 : BitVec 32) (v667 : BitVec 32) (k0_hw152 : k0_chk152 arg25 arg26 v667) (k0_t9 : Fin (k0_t9_loop arg26 v667).trips), ∀ a, (k0_off375 arg25 arg26 v667 k0_t9) a + S1x1.size a ≤ S24x1536.size a := fun arg25 arg26 v667 k0_hw152 k0_t9 => k0_hw152.1.2.1 k0_t9
theorem k0_off377_inb : ∀ (arg25 : BitVec 32) (arg26 : BitVec 32) (v667 : BitVec 32) (k0_hw152 : k0_chk152 arg25 arg26 v667) (k0_t9 : Fin (k0_t9_loop arg26 v667).trips), ∀ a, (k0_off377 arg26 v667 k0_t9) a + S1x128.size a ≤ S256x128.size a := fun arg25 arg26 v667 k0_hw152 k0_t9 => k0_hw152.1.2.2.1 k0_t9
theorem k0_off378_inb : ∀ (arg25 : BitVec 32) (arg26 : BitVec 32) (v667 : BitVec 32) (k0_hw152 : k0_chk152 arg25 arg26 v667) (k0_t9 : Fin (k0_t9_loop arg26 v667).trips), ∀ a, (k0_off378 arg25 arg26 v667 k0_t9) a + S1x1.size a ≤ S24x1536.size a := fun arg25 arg26 v667 k0_hw152 k0_t9 => k0_hw152.1.2.2.2.1 k0_t9
theorem k0_off380_inb : ∀ (arg25 : BitVec 32) (arg26 : BitVec 32) (v667 : BitVec 32) (k0_hw152 : k0_chk152 arg25 arg26 v667) (k0_t9 : Fin (k0_t9_loop arg26 v667).trips), ∀ a, (k0_off380 arg26 v667 k0_t9) a + S1x128.size a ≤ S256x128.size a := fun arg25 arg26 v667 k0_hw152 k0_t9 => k0_hw152.1.2.2.2.2.1 k0_t9
theorem k0_off381_inb : ∀ (arg25 : BitVec 32) (arg26 : BitVec 32) (v667 : BitVec 32) (k0_hw152 : k0_chk152 arg25 arg26 v667) (k0_t9 : Fin (k0_t9_loop arg26 v667).trips), ∀ a, (k0_off381 arg25 arg26 v667 k0_t9) a + S1x1.size a ≤ S24x1536.size a := fun arg25 arg26 v667 k0_hw152 k0_t9 => k0_hw152.1.2.2.2.2.2.1 k0_t9
theorem k0_off383_inb : ∀ (arg25 : BitVec 32) (arg26 : BitVec 32) (v667 : BitVec 32) (k0_hw152 : k0_chk152 arg25 arg26 v667) (k0_t9 : Fin (k0_t9_loop arg26 v667).trips), ∀ a, (k0_off383 arg26 v667 k0_t9) a + S1x128.size a ≤ S256x128.size a := fun arg25 arg26 v667 k0_hw152 k0_t9 => k0_hw152.1.2.2.2.2.2.2.1 k0_t9
theorem k0_off384_inb : ∀ (arg25 : BitVec 32) (arg26 : BitVec 32) (v667 : BitVec 32) (k0_hw152 : k0_chk152 arg25 arg26 v667) (k0_t9 : Fin (k0_t9_loop arg26 v667).trips), ∀ a, (k0_off384 arg25 arg26 v667 k0_t9) a + S1x1.size a ≤ S24x1536.size a := fun arg25 arg26 v667 k0_hw152 k0_t9 => k0_hw152.1.2.2.2.2.2.2.2.1 k0_t9
theorem k0_off386_inb : ∀ (arg25 : BitVec 32) (arg26 : BitVec 32) (v667 : BitVec 32) (k0_hw152 : k0_chk152 arg25 arg26 v667) (k0_t9 : Fin (k0_t9_loop arg26 v667).trips), ∀ a, (k0_off386 arg26 v667 k0_t9) a + S1x128.size a ≤ S256x128.size a := fun arg25 arg26 v667 k0_hw152 k0_t9 => k0_hw152.1.2.2.2.2.2.2.2.2.1 k0_t9
theorem k0_off387_inb : ∀ (arg25 : BitVec 32) (arg26 : BitVec 32) (v667 : BitVec 32) (k0_hw152 : k0_chk152 arg25 arg26 v667) (k0_t9 : Fin (k0_t9_loop arg26 v667).trips), ∀ a, (k0_off387 arg25 arg26 v667 k0_t9) a + S1x1.size a ≤ S24x1536.size a := fun arg25 arg26 v667 k0_hw152 k0_t9 => k0_hw152.1.2.2.2.2.2.2.2.2.2.1 k0_t9
theorem k0_off389_inb : ∀ (arg25 : BitVec 32) (arg26 : BitVec 32) (v667 : BitVec 32) (k0_hw152 : k0_chk152 arg25 arg26 v667) (k0_t9 : Fin (k0_t9_loop arg26 v667).trips), ∀ a, (k0_off389 arg26 v667 k0_t9) a + S1x128.size a ≤ S256x128.size a := fun arg25 arg26 v667 k0_hw152 k0_t9 => k0_hw152.1.2.2.2.2.2.2.2.2.2.2.1 k0_t9
theorem k0_off390_inb : ∀ (arg25 : BitVec 32) (arg26 : BitVec 32) (v667 : BitVec 32) (k0_hw152 : k0_chk152 arg25 arg26 v667) (k0_t9 : Fin (k0_t9_loop arg26 v667).trips), ∀ a, (k0_off390 arg25 arg26 v667 k0_t9) a + S1x1.size a ≤ S24x1536.size a := fun arg25 arg26 v667 k0_hw152 k0_t9 => k0_hw152.1.2.2.2.2.2.2.2.2.2.2.2.1 k0_t9
theorem k0_off392_inb : ∀ (arg25 : BitVec 32) (arg26 : BitVec 32) (v667 : BitVec 32) (k0_hw152 : k0_chk152 arg25 arg26 v667) (k0_t9 : Fin (k0_t9_loop arg26 v667).trips), ∀ a, (k0_off392 arg26 v667 k0_t9) a + S1x128.size a ≤ S256x128.size a := fun arg25 arg26 v667 k0_hw152 k0_t9 => k0_hw152.1.2.2.2.2.2.2.2.2.2.2.2.2.1 k0_t9
theorem k0_off393_inb : ∀ (arg25 : BitVec 32) (arg26 : BitVec 32) (v667 : BitVec 32) (k0_hw152 : k0_chk152 arg25 arg26 v667) (k0_t9 : Fin (k0_t9_loop arg26 v667).trips), ∀ a, (k0_off393 arg25 arg26 v667 k0_t9) a + S1x1.size a ≤ S24x1536.size a := fun arg25 arg26 v667 k0_hw152 k0_t9 => k0_hw152.1.2.2.2.2.2.2.2.2.2.2.2.2.2.1 k0_t9
theorem k0_off395_inb : ∀ (arg25 : BitVec 32) (arg26 : BitVec 32) (v667 : BitVec 32) (k0_hw152 : k0_chk152 arg25 arg26 v667) (k0_t9 : Fin (k0_t9_loop arg26 v667).trips), ∀ a, (k0_off395 arg26 v667 k0_t9) a + S1x128.size a ≤ S256x128.size a := fun arg25 arg26 v667 k0_hw152 k0_t9 => k0_hw152.1.2.2.2.2.2.2.2.2.2.2.2.2.2.2.1 k0_t9
theorem k0_off396_inb : ∀ (arg25 : BitVec 32) (arg26 : BitVec 32) (v667 : BitVec 32) (k0_hw152 : k0_chk152 arg25 arg26 v667) (k0_t9 : Fin (k0_t9_loop arg26 v667).trips), ∀ a, (k0_off396 arg25 arg26 v667 k0_t9) a + S1x1.size a ≤ S24x1536.size a := fun arg25 arg26 v667 k0_hw152 k0_t9 => k0_hw152.1.2.2.2.2.2.2.2.2.2.2.2.2.2.2.2.1 k0_t9
theorem k0_off398_inb : ∀ (arg25 : BitVec 32) (arg26 : BitVec 32) (v667 : BitVec 32) (k0_hw152 : k0_chk152 arg25 arg26 v667) (k0_t9 : Fin (k0_t9_loop arg26 v667).trips), ∀ a, (k0_off398 arg26 v667 k0_t9) a + S1x128.size a ≤ S256x128.size a := fun arg25 arg26 v667 k0_hw152 k0_t9 => k0_hw152.1.2.2.2.2.2.2.2.2.2.2.2.2.2.2.2.2.1 k0_t9
theorem k0_off399_inb : ∀ (arg25 : BitVec 32) (arg26 : BitVec 32) (v667 : BitVec 32) (k0_hw152 : k0_chk152 arg25 arg26 v667) (k0_t9 : Fin (k0_t9_loop arg26 v667).trips), ∀ a, (k0_off399 arg25 arg26 v667 k0_t9) a + S1x1.size a ≤ S24x1536.size a := fun arg25 arg26 v667 k0_hw152 k0_t9 => k0_hw152.1.2.2.2.2.2.2.2.2.2.2.2.2.2.2.2.2.2.1 k0_t9
theorem k0_off401_inb : ∀ (arg25 : BitVec 32) (arg26 : BitVec 32) (v667 : BitVec 32) (k0_hw152 : k0_chk152 arg25 arg26 v667) (k0_t9 : Fin (k0_t9_loop arg26 v667).trips), ∀ a, (k0_off401 arg26 v667 k0_t9) a + S1x128.size a ≤ S256x128.size a := fun arg25 arg26 v667 k0_hw152 k0_t9 => k0_hw152.1.2.2.2.2.2.2.2.2.2.2.2.2.2.2.2.2.2.2.1 k0_t9
theorem k0_off402_inb : ∀ (arg25 : BitVec 32) (arg26 : BitVec 32) (v667 : BitVec 32) (k0_hw152 : k0_chk152 arg25 arg26 v667) (k0_t9 : Fin (k0_t9_loop arg26 v667).trips), ∀ a, (k0_off402 arg25 arg26 v667 k0_t9) a + S1x1.size a ≤ S24x1536.size a := fun arg25 arg26 v667 k0_hw152 k0_t9 => k0_hw152.1.2.2.2.2.2.2.2.2.2.2.2.2.2.2.2.2.2.2.2.1 k0_t9
theorem k0_off404_inb : ∀ (arg25 : BitVec 32) (arg26 : BitVec 32) (v667 : BitVec 32) (k0_hw152 : k0_chk152 arg25 arg26 v667) (k0_t9 : Fin (k0_t9_loop arg26 v667).trips), ∀ a, (k0_off404 arg26 v667 k0_t9) a + S1x128.size a ≤ S256x128.size a := fun arg25 arg26 v667 k0_hw152 k0_t9 => k0_hw152.1.2.2.2.2.2.2.2.2.2.2.2.2.2.2.2.2.2.2.2.2.1 k0_t9
theorem k0_off405_inb : ∀ (arg25 : BitVec 32) (arg26 : BitVec 32) (v667 : BitVec 32) (k0_hw152 : k0_chk152 arg25 arg26 v667) (k0_t9 : Fin (k0_t9_loop arg26 v667).trips), ∀ a, (k0_off405 arg25 arg26 v667 k0_t9) a + S1x1.size a ≤ S24x1536.size a := fun arg25 arg26 v667 k0_hw152 k0_t9 => k0_hw152.1.2.2.2.2.2.2.2.2.2.2.2.2.2.2.2.2.2.2.2.2.2.1 k0_t9
theorem k0_off407_inb : ∀ (arg25 : BitVec 32) (arg26 : BitVec 32) (v667 : BitVec 32) (k0_hw152 : k0_chk152 arg25 arg26 v667) (k0_t9 : Fin (k0_t9_loop arg26 v667).trips), ∀ a, (k0_off407 arg26 v667 k0_t9) a + S1x128.size a ≤ S256x128.size a := fun arg25 arg26 v667 k0_hw152 k0_t9 => k0_hw152.1.2.2.2.2.2.2.2.2.2.2.2.2.2.2.2.2.2.2.2.2.2.2.1 k0_t9
theorem k0_off408_inb : ∀ (arg25 : BitVec 32) (arg26 : BitVec 32) (v667 : BitVec 32) (k0_hw152 : k0_chk152 arg25 arg26 v667) (k0_t9 : Fin (k0_t9_loop arg26 v667).trips), ∀ a, (k0_off408 arg25 arg26 v667 k0_t9) a + S1x1.size a ≤ S24x1536.size a := fun arg25 arg26 v667 k0_hw152 k0_t9 => k0_hw152.1.2.2.2.2.2.2.2.2.2.2.2.2.2.2.2.2.2.2.2.2.2.2.2.1 k0_t9
theorem k0_off410_inb : ∀ (arg25 : BitVec 32) (arg26 : BitVec 32) (v667 : BitVec 32) (k0_hw152 : k0_chk152 arg25 arg26 v667) (k0_t9 : Fin (k0_t9_loop arg26 v667).trips), ∀ a, (k0_off410 arg26 v667 k0_t9) a + S1x128.size a ≤ S256x128.size a := fun arg25 arg26 v667 k0_hw152 k0_t9 => k0_hw152.1.2.2.2.2.2.2.2.2.2.2.2.2.2.2.2.2.2.2.2.2.2.2.2.2.1 k0_t9
theorem k0_off411_inb : ∀ (arg25 : BitVec 32) (arg26 : BitVec 32) (v667 : BitVec 32) (k0_hw152 : k0_chk152 arg25 arg26 v667) (k0_t9 : Fin (k0_t9_loop arg26 v667).trips), ∀ a, (k0_off411 arg25 arg26 v667 k0_t9) a + S1x1.size a ≤ S24x1536.size a := fun arg25 arg26 v667 k0_hw152 k0_t9 => k0_hw152.1.2.2.2.2.2.2.2.2.2.2.2.2.2.2.2.2.2.2.2.2.2.2.2.2.2.1 k0_t9
theorem k0_off413_inb : ∀ (arg25 : BitVec 32) (arg26 : BitVec 32) (v667 : BitVec 32) (k0_hw152 : k0_chk152 arg25 arg26 v667) (k0_t9 : Fin (k0_t9_loop arg26 v667).trips), ∀ a, (k0_off413 arg26 v667 k0_t9) a + S1x128.size a ≤ S256x128.size a := fun arg25 arg26 v667 k0_hw152 k0_t9 => k0_hw152.1.2.2.2.2.2.2.2.2.2.2.2.2.2.2.2.2.2.2.2.2.2.2.2.2.2.2.1 k0_t9
theorem k0_off414_inb : ∀ (arg25 : BitVec 32) (arg26 : BitVec 32) (v667 : BitVec 32) (k0_hw152 : k0_chk152 arg25 arg26 v667) (k0_t9 : Fin (k0_t9_loop arg26 v667).trips), ∀ a, (k0_off414 arg25 arg26 v667 k0_t9) a + S1x1.size a ≤ S24x1536.size a := fun arg25 arg26 v667 k0_hw152 k0_t9 => k0_hw152.1.2.2.2.2.2.2.2.2.2.2.2.2.2.2.2.2.2.2.2.2.2.2.2.2.2.2.2.1 k0_t9
theorem k0_off416_inb : ∀ (arg25 : BitVec 32) (arg26 : BitVec 32) (v667 : BitVec 32) (k0_hw152 : k0_chk152 arg25 arg26 v667) (k0_t9 : Fin (k0_t9_loop arg26 v667).trips), ∀ a, (k0_off416 arg26 v667 k0_t9) a + S1x128.size a ≤ S256x128.size a := fun arg25 arg26 v667 k0_hw152 k0_t9 => k0_hw152.1.2.2.2.2.2.2.2.2.2.2.2.2.2.2.2.2.2.2.2.2.2.2.2.2.2.2.2.2.1 k0_t9
theorem k0_off417_inb : ∀ (arg25 : BitVec 32) (arg26 : BitVec 32) (v667 : BitVec 32) (k0_hw152 : k0_chk152 arg25 arg26 v667) (k0_t9 : Fin (k0_t9_loop arg26 v667).trips), ∀ a, (k0_off417 arg25 arg26 v667 k0_t9) a + S1x1.size a ≤ S24x1536.size a := fun arg25 arg26 v667 k0_hw152 k0_t9 => k0_hw152.1.2.2.2.2.2.2.2.2.2.2.2.2.2.2.2.2.2.2.2.2.2.2.2.2.2.2.2.2.2.1 k0_t9
theorem k0_off419_inb : ∀ (arg25 : BitVec 32) (arg26 : BitVec 32) (v667 : BitVec 32) (k0_hw152 : k0_chk152 arg25 arg26 v667) (k0_t9 : Fin (k0_t9_loop arg26 v667).trips), ∀ a, (k0_off419 arg26 v667 k0_t9) a + S1x128.size a ≤ S256x128.size a := fun arg25 arg26 v667 k0_hw152 k0_t9 => k0_hw152.1.2.2.2.2.2.2.2.2.2.2.2.2.2.2.2.2.2.2.2.2.2.2.2.2.2.2.2.2.2.2.1 k0_t9
theorem k0_off420_inb : ∀ (arg25 : BitVec 32) (arg26 : BitVec 32) (v667 : BitVec 32) (k0_hw152 : k0_chk152 arg25 arg26 v667) (k0_t9 : Fin (k0_t9_loop arg26 v667).trips), ∀ a, (k0_off420 arg25 arg26 v667 k0_t9) a + S1x1.size a ≤ S24x1536.size a := fun arg25 arg26 v667 k0_hw152 k0_t9 => k0_hw152.1.2.2.2.2.2.2.2.2.2.2.2.2.2.2.2.2.2.2.2.2.2.2.2.2.2.2.2.2.2.2.2 k0_t9
theorem k0_off422_inb : ∀ (arg25 : BitVec 32) (arg26 : BitVec 32) (v667 : BitVec 32) (k0_hw152 : k0_chk152 arg25 arg26 v667) (k0_t9 : Fin (k0_t9_loop arg26 v667).trips), ∀ a, (k0_off422 arg26 v667 k0_t9) a + S1x128.size a ≤ S256x128.size a := fun arg25 arg26 v667 k0_hw152 k0_t9 => k0_hw152.2.1.1 k0_t9
theorem k0_t10_ok : ∀ (arg25 : BitVec 32) (arg26 : BitVec 32) (v667 : BitVec 32) (k0_hw152 : k0_chk152 arg25 arg26 v667), (k0_t10_loop arg26 v667).OK := fun arg25 arg26 v667 k0_hw152 => k0_hw152.2.1.2.1
theorem k0_off423_inb : ∀ (arg25 : BitVec 32) (arg26 : BitVec 32) (v667 : BitVec 32) (k0_hw152 : k0_chk152 arg25 arg26 v667) (k0_t10 : Fin (k0_t10_loop arg26 v667).trips), ∀ a, (k0_off423 arg25 arg26 v667 k0_t10) a + S1x1.size a ≤ S24x1536.size a := fun arg25 arg26 v667 k0_hw152 k0_t10 => k0_hw152.2.1.2.2.1 k0_t10
theorem k0_off425_inb : ∀ (arg25 : BitVec 32) (arg26 : BitVec 32) (v667 : BitVec 32) (k0_hw152 : k0_chk152 arg25 arg26 v667) (k0_t10 : Fin (k0_t10_loop arg26 v667).trips), ∀ a, (k0_off425 arg26 v667 k0_t10) a + S1x128.size a ≤ S256x128.size a := fun arg25 arg26 v667 k0_hw152 k0_t10 => k0_hw152.2.1.2.2.2.1 k0_t10
theorem k0_off426_inb : ∀ (arg25 : BitVec 32) (arg26 : BitVec 32) (v667 : BitVec 32) (k0_hw152 : k0_chk152 arg25 arg26 v667) (k0_t10 : Fin (k0_t10_loop arg26 v667).trips), ∀ a, (k0_off426 arg25 arg26 v667 k0_t10) a + S1x1.size a ≤ S24x1536.size a := fun arg25 arg26 v667 k0_hw152 k0_t10 => k0_hw152.2.1.2.2.2.2.1 k0_t10
theorem k0_off428_inb : ∀ (arg25 : BitVec 32) (arg26 : BitVec 32) (v667 : BitVec 32) (k0_hw152 : k0_chk152 arg25 arg26 v667) (k0_t10 : Fin (k0_t10_loop arg26 v667).trips), ∀ a, (k0_off428 arg26 v667 k0_t10) a + S1x128.size a ≤ S256x128.size a := fun arg25 arg26 v667 k0_hw152 k0_t10 => k0_hw152.2.1.2.2.2.2.2.1 k0_t10
theorem k0_off429_inb : ∀ (arg25 : BitVec 32) (arg26 : BitVec 32) (v667 : BitVec 32) (k0_hw152 : k0_chk152 arg25 arg26 v667) (k0_t10 : Fin (k0_t10_loop arg26 v667).trips), ∀ a, (k0_off429 arg25 arg26 v667 k0_t10) a + S1x1.size a ≤ S24x1536.size a := fun arg25 arg26 v667 k0_hw152 k0_t10 => k0_hw152.2.1.2.2.2.2.2.2.1 k0_t10
theorem k0_off431_inb : ∀ (arg25 : BitVec 32) (arg26 : BitVec 32) (v667 : BitVec 32) (k0_hw152 : k0_chk152 arg25 arg26 v667) (k0_t10 : Fin (k0_t10_loop arg26 v667).trips), ∀ a, (k0_off431 arg26 v667 k0_t10) a + S1x128.size a ≤ S256x128.size a := fun arg25 arg26 v667 k0_hw152 k0_t10 => k0_hw152.2.1.2.2.2.2.2.2.2.1 k0_t10
theorem k0_off432_inb : ∀ (arg25 : BitVec 32) (arg26 : BitVec 32) (v667 : BitVec 32) (k0_hw152 : k0_chk152 arg25 arg26 v667) (k0_t10 : Fin (k0_t10_loop arg26 v667).trips), ∀ a, (k0_off432 arg25 arg26 v667 k0_t10) a + S1x1.size a ≤ S24x1536.size a := fun arg25 arg26 v667 k0_hw152 k0_t10 => k0_hw152.2.1.2.2.2.2.2.2.2.2.1 k0_t10
theorem k0_off434_inb : ∀ (arg25 : BitVec 32) (arg26 : BitVec 32) (v667 : BitVec 32) (k0_hw152 : k0_chk152 arg25 arg26 v667) (k0_t10 : Fin (k0_t10_loop arg26 v667).trips), ∀ a, (k0_off434 arg26 v667 k0_t10) a + S1x128.size a ≤ S256x128.size a := fun arg25 arg26 v667 k0_hw152 k0_t10 => k0_hw152.2.1.2.2.2.2.2.2.2.2.2.1 k0_t10
theorem k0_off435_inb : ∀ (arg25 : BitVec 32) (arg26 : BitVec 32) (v667 : BitVec 32) (k0_hw152 : k0_chk152 arg25 arg26 v667) (k0_t10 : Fin (k0_t10_loop arg26 v667).trips), ∀ a, (k0_off435 arg25 arg26 v667 k0_t10) a + S1x1.size a ≤ S24x1536.size a := fun arg25 arg26 v667 k0_hw152 k0_t10 => k0_hw152.2.1.2.2.2.2.2.2.2.2.2.2.1 k0_t10
theorem k0_off437_inb : ∀ (arg25 : BitVec 32) (arg26 : BitVec 32) (v667 : BitVec 32) (k0_hw152 : k0_chk152 arg25 arg26 v667) (k0_t10 : Fin (k0_t10_loop arg26 v667).trips), ∀ a, (k0_off437 arg26 v667 k0_t10) a + S1x128.size a ≤ S256x128.size a := fun arg25 arg26 v667 k0_hw152 k0_t10 => k0_hw152.2.1.2.2.2.2.2.2.2.2.2.2.2.1 k0_t10
theorem k0_off438_inb : ∀ (arg25 : BitVec 32) (arg26 : BitVec 32) (v667 : BitVec 32) (k0_hw152 : k0_chk152 arg25 arg26 v667) (k0_t10 : Fin (k0_t10_loop arg26 v667).trips), ∀ a, (k0_off438 arg25 arg26 v667 k0_t10) a + S1x1.size a ≤ S24x1536.size a := fun arg25 arg26 v667 k0_hw152 k0_t10 => k0_hw152.2.1.2.2.2.2.2.2.2.2.2.2.2.2.1 k0_t10
theorem k0_off440_inb : ∀ (arg25 : BitVec 32) (arg26 : BitVec 32) (v667 : BitVec 32) (k0_hw152 : k0_chk152 arg25 arg26 v667) (k0_t10 : Fin (k0_t10_loop arg26 v667).trips), ∀ a, (k0_off440 arg26 v667 k0_t10) a + S1x128.size a ≤ S256x128.size a := fun arg25 arg26 v667 k0_hw152 k0_t10 => k0_hw152.2.1.2.2.2.2.2.2.2.2.2.2.2.2.2.1 k0_t10
theorem k0_off441_inb : ∀ (arg25 : BitVec 32) (arg26 : BitVec 32) (v667 : BitVec 32) (k0_hw152 : k0_chk152 arg25 arg26 v667) (k0_t10 : Fin (k0_t10_loop arg26 v667).trips), ∀ a, (k0_off441 arg25 arg26 v667 k0_t10) a + S1x1.size a ≤ S24x1536.size a := fun arg25 arg26 v667 k0_hw152 k0_t10 => k0_hw152.2.1.2.2.2.2.2.2.2.2.2.2.2.2.2.2.1 k0_t10
theorem k0_off443_inb : ∀ (arg25 : BitVec 32) (arg26 : BitVec 32) (v667 : BitVec 32) (k0_hw152 : k0_chk152 arg25 arg26 v667) (k0_t10 : Fin (k0_t10_loop arg26 v667).trips), ∀ a, (k0_off443 arg26 v667 k0_t10) a + S1x128.size a ≤ S256x128.size a := fun arg25 arg26 v667 k0_hw152 k0_t10 => k0_hw152.2.1.2.2.2.2.2.2.2.2.2.2.2.2.2.2.2.1 k0_t10
theorem k0_off444_inb : ∀ (arg25 : BitVec 32) (arg26 : BitVec 32) (v667 : BitVec 32) (k0_hw152 : k0_chk152 arg25 arg26 v667) (k0_t10 : Fin (k0_t10_loop arg26 v667).trips), ∀ a, (k0_off444 arg25 arg26 v667 k0_t10) a + S1x1.size a ≤ S24x1536.size a := fun arg25 arg26 v667 k0_hw152 k0_t10 => k0_hw152.2.1.2.2.2.2.2.2.2.2.2.2.2.2.2.2.2.2.1 k0_t10
theorem k0_off446_inb : ∀ (arg25 : BitVec 32) (arg26 : BitVec 32) (v667 : BitVec 32) (k0_hw152 : k0_chk152 arg25 arg26 v667) (k0_t10 : Fin (k0_t10_loop arg26 v667).trips), ∀ a, (k0_off446 arg26 v667 k0_t10) a + S1x128.size a ≤ S256x128.size a := fun arg25 arg26 v667 k0_hw152 k0_t10 => k0_hw152.2.1.2.2.2.2.2.2.2.2.2.2.2.2.2.2.2.2.2.1 k0_t10
theorem k0_off447_inb : ∀ (arg25 : BitVec 32) (arg26 : BitVec 32) (v667 : BitVec 32) (k0_hw152 : k0_chk152 arg25 arg26 v667) (k0_t10 : Fin (k0_t10_loop arg26 v667).trips), ∀ a, (k0_off447 arg25 arg26 v667 k0_t10) a + S1x1.size a ≤ S24x1536.size a := fun arg25 arg26 v667 k0_hw152 k0_t10 => k0_hw152.2.1.2.2.2.2.2.2.2.2.2.2.2.2.2.2.2.2.2.2.1 k0_t10
theorem k0_off449_inb : ∀ (arg25 : BitVec 32) (arg26 : BitVec 32) (v667 : BitVec 32) (k0_hw152 : k0_chk152 arg25 arg26 v667) (k0_t10 : Fin (k0_t10_loop arg26 v667).trips), ∀ a, (k0_off449 arg26 v667 k0_t10) a + S1x128.size a ≤ S256x128.size a := fun arg25 arg26 v667 k0_hw152 k0_t10 => k0_hw152.2.1.2.2.2.2.2.2.2.2.2.2.2.2.2.2.2.2.2.2.2.1 k0_t10
theorem k0_off450_inb : ∀ (arg25 : BitVec 32) (arg26 : BitVec 32) (v667 : BitVec 32) (k0_hw152 : k0_chk152 arg25 arg26 v667) (k0_t10 : Fin (k0_t10_loop arg26 v667).trips), ∀ a, (k0_off450 arg25 arg26 v667 k0_t10) a + S1x1.size a ≤ S24x1536.size a := fun arg25 arg26 v667 k0_hw152 k0_t10 => k0_hw152.2.1.2.2.2.2.2.2.2.2.2.2.2.2.2.2.2.2.2.2.2.2.1 k0_t10
theorem k0_off452_inb : ∀ (arg25 : BitVec 32) (arg26 : BitVec 32) (v667 : BitVec 32) (k0_hw152 : k0_chk152 arg25 arg26 v667) (k0_t10 : Fin (k0_t10_loop arg26 v667).trips), ∀ a, (k0_off452 arg26 v667 k0_t10) a + S1x128.size a ≤ S256x128.size a := fun arg25 arg26 v667 k0_hw152 k0_t10 => k0_hw152.2.1.2.2.2.2.2.2.2.2.2.2.2.2.2.2.2.2.2.2.2.2.2.1 k0_t10
theorem k0_off453_inb : ∀ (arg25 : BitVec 32) (arg26 : BitVec 32) (v667 : BitVec 32) (k0_hw152 : k0_chk152 arg25 arg26 v667) (k0_t10 : Fin (k0_t10_loop arg26 v667).trips), ∀ a, (k0_off453 arg25 arg26 v667 k0_t10) a + S1x1.size a ≤ S24x1536.size a := fun arg25 arg26 v667 k0_hw152 k0_t10 => k0_hw152.2.1.2.2.2.2.2.2.2.2.2.2.2.2.2.2.2.2.2.2.2.2.2.2.1 k0_t10
theorem k0_off455_inb : ∀ (arg25 : BitVec 32) (arg26 : BitVec 32) (v667 : BitVec 32) (k0_hw152 : k0_chk152 arg25 arg26 v667) (k0_t10 : Fin (k0_t10_loop arg26 v667).trips), ∀ a, (k0_off455 arg26 v667 k0_t10) a + S1x128.size a ≤ S256x128.size a := fun arg25 arg26 v667 k0_hw152 k0_t10 => k0_hw152.2.1.2.2.2.2.2.2.2.2.2.2.2.2.2.2.2.2.2.2.2.2.2.2.2.1 k0_t10
theorem k0_off456_inb : ∀ (arg25 : BitVec 32) (arg26 : BitVec 32) (v667 : BitVec 32) (k0_hw152 : k0_chk152 arg25 arg26 v667) (k0_t10 : Fin (k0_t10_loop arg26 v667).trips), ∀ a, (k0_off456 arg25 arg26 v667 k0_t10) a + S1x1.size a ≤ S24x1536.size a := fun arg25 arg26 v667 k0_hw152 k0_t10 => k0_hw152.2.1.2.2.2.2.2.2.2.2.2.2.2.2.2.2.2.2.2.2.2.2.2.2.2.2.1 k0_t10
theorem k0_off458_inb : ∀ (arg25 : BitVec 32) (arg26 : BitVec 32) (v667 : BitVec 32) (k0_hw152 : k0_chk152 arg25 arg26 v667) (k0_t10 : Fin (k0_t10_loop arg26 v667).trips), ∀ a, (k0_off458 arg26 v667 k0_t10) a + S1x128.size a ≤ S256x128.size a := fun arg25 arg26 v667 k0_hw152 k0_t10 => k0_hw152.2.1.2.2.2.2.2.2.2.2.2.2.2.2.2.2.2.2.2.2.2.2.2.2.2.2.2.1 k0_t10
theorem k0_off459_inb : ∀ (arg25 : BitVec 32) (arg26 : BitVec 32) (v667 : BitVec 32) (k0_hw152 : k0_chk152 arg25 arg26 v667) (k0_t10 : Fin (k0_t10_loop arg26 v667).trips), ∀ a, (k0_off459 arg25 arg26 v667 k0_t10) a + S1x1.size a ≤ S24x1536.size a := fun arg25 arg26 v667 k0_hw152 k0_t10 => k0_hw152.2.1.2.2.2.2.2.2.2.2.2.2.2.2.2.2.2.2.2.2.2.2.2.2.2.2.2.2.1 k0_t10
theorem k0_off461_inb : ∀ (arg25 : BitVec 32) (arg26 : BitVec 32) (v667 : BitVec 32) (k0_hw152 : k0_chk152 arg25 arg26 v667) (k0_t10 : Fin (k0_t10_loop arg26 v667).trips), ∀ a, (k0_off461 arg26 v667 k0_t10) a + S1x128.size a ≤ S256x128.size a := fun arg25 arg26 v667 k0_hw152 k0_t10 => k0_hw152.2.1.2.2.2.2.2.2.2.2.2.2.2.2.2.2.2.2.2.2.2.2.2.2.2.2.2.2.2.1 k0_t10
theorem k0_off462_inb : ∀ (arg25 : BitVec 32) (arg26 : BitVec 32) (v667 : BitVec 32) (k0_hw152 : k0_chk152 arg25 arg26 v667) (k0_t10 : Fin (k0_t10_loop arg26 v667).trips), ∀ a, (k0_off462 arg25 arg26 v667 k0_t10) a + S1x1.size a ≤ S24x1536.size a := fun arg25 arg26 v667 k0_hw152 k0_t10 => k0_hw152.2.1.2.2.2.2.2.2.2.2.2.2.2.2.2.2.2.2.2.2.2.2.2.2.2.2.2.2.2.2.1 k0_t10
theorem k0_off464_inb : ∀ (arg25 : BitVec 32) (arg26 : BitVec 32) (v667 : BitVec 32) (k0_hw152 : k0_chk152 arg25 arg26 v667) (k0_t10 : Fin (k0_t10_loop arg26 v667).trips), ∀ a, (k0_off464 arg26 v667 k0_t10) a + S1x128.size a ≤ S256x128.size a := fun arg25 arg26 v667 k0_hw152 k0_t10 => k0_hw152.2.1.2.2.2.2.2.2.2.2.2.2.2.2.2.2.2.2.2.2.2.2.2.2.2.2.2.2.2.2.2.1 k0_t10
theorem k0_off465_inb : ∀ (arg25 : BitVec 32) (arg26 : BitVec 32) (v667 : BitVec 32) (k0_hw152 : k0_chk152 arg25 arg26 v667) (k0_t10 : Fin (k0_t10_loop arg26 v667).trips), ∀ a, (k0_off465 arg25 arg26 v667 k0_t10) a + S1x1.size a ≤ S24x1536.size a := fun arg25 arg26 v667 k0_hw152 k0_t10 => k0_hw152.2.1.2.2.2.2.2.2.2.2.2.2.2.2.2.2.2.2.2.2.2.2.2.2.2.2.2.2.2.2.2.2.1 k0_t10
theorem k0_off467_inb : ∀ (arg25 : BitVec 32) (arg26 : BitVec 32) (v667 : BitVec 32) (k0_hw152 : k0_chk152 arg25 arg26 v667) (k0_t10 : Fin (k0_t10_loop arg26 v667).trips), ∀ a, (k0_off467 arg26 v667 k0_t10) a + S1x128.size a ≤ S256x128.size a := fun arg25 arg26 v667 k0_hw152 k0_t10 => k0_hw152.2.1.2.2.2.2.2.2.2.2.2.2.2.2.2.2.2.2.2.2.2.2.2.2.2.2.2.2.2.2.2.2.2 k0_t10
theorem k0_off468_inb : ∀ (arg25 : BitVec 32) (arg26 : BitVec 32) (v667 : BitVec 32) (k0_hw152 : k0_chk152 arg25 arg26 v667) (k0_t10 : Fin (k0_t10_loop arg26 v667).trips), ∀ a, (k0_off468 arg25 arg26 v667 k0_t10) a + S1x1.size a ≤ S24x1536.size a := fun arg25 arg26 v667 k0_hw152 k0_t10 => k0_hw152.2.2.1 k0_t10
theorem k0_off470_inb : ∀ (arg25 : BitVec 32) (arg26 : BitVec 32) (v667 : BitVec 32) (k0_hw152 : k0_chk152 arg25 arg26 v667) (k0_t10 : Fin (k0_t10_loop arg26 v667).trips), ∀ a, (k0_off470 arg26 v667 k0_t10) a + S1x128.size a ≤ S256x128.size a := fun arg25 arg26 v667 k0_hw152 k0_t10 => k0_hw152.2.2.2 k0_t10

def k0_off471 (arg25 : BitVec 32) : Fin 1 → Nat :=
  let v682 : Index := Scalar.indexCast arg25
  ![v682.toNat]
@[reducible] def k0_t11_loop (arg26 : BitVec 32) (v683 : BitVec 32) : Scf.Loop 32 :=
  let c0_i32_511 : BitVec 32 := 0#32
  let c256_i32_501 : BitVec 32 := 256#32
  let v684 : BitVec 32 := Scalar.muli arg26 c256_i32_501
  let v685 : BitVec 32 := Scalar.subi v683 v684
  let c256_i32_502 : BitVec 32 := 256#32
  let v686 : BitVec 32 := Scalar.minsi v685 c256_i32_502
  let c15_i32_503 : BitVec 32 := 15#32
  let v687 : BitVec 32 := Scalar.addi v686 c15_i32_503
  let c16_i32_504 : BitVec 32 := 16#32
  let v688 : BitVec 32 := Scalar.divsi v687 c16_i32_504
  let c0_i32_505 : BitVec 32 := 0#32
  let v689 : BitVec 32 := Scalar.subi v688 c0_i32_505
  let c1_i32_506 : BitVec 32 := 1#32
  let c1_i32_507 : BitVec 32 := 1#32
  let v690 : BitVec 32 := Scalar.subi c1_i32_506 c1_i32_507
  let v691 : BitVec 32 := Scalar.addi v689 v690
  let c1_i32_508 : BitVec 32 := 1#32
  let v692 : BitVec 32 := Scalar.divsi v691 c1_i32_508
  let v693 : BitVec 32 := Scalar.subi v692 c0_i32_511
  let c1_i32_512 : BitVec 32 := 1#32
  let v695 : BitVec 32 := Scalar.divsi v693 c1_i32_512
  let v696 : BitVec 32 := Scalar.muli v695 c1_i32_512
  let v697 : BitVec 32 := Scalar.addi c0_i32_511 v696
  let c1_i32_513 : BitVec 32 := 1#32
  ⟨c0_i32_511, v697, c1_i32_513⟩

def k0_off472 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  ![v662.toNat]
def k0_off473 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c0_i32_576 : BitVec 32 := 0#32
  let c0_i32_577 : BitVec 32 := 0#32
  ![v662.toNat, 0, 0]
def k0_off474 : Fin 2 → Nat :=
  let c0_i32_574 : BitVec 32 := 0#32
  let c2_i32_575 : BitVec 32 := 2#32
  let v848 : BitVec 32 := Scalar.shrui c0_i32_574 c2_i32_575
  let c0_i32_578 : BitVec 32 := 0#32
  ![v848.toNat, 0]
def k0_off475 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c1_i32_581 : BitVec 32 := 1#32
  let c0_i32_582 : BitVec 32 := 0#32
  ![v662.toNat, 1, 0]
def k0_off476 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c2_i32_586 : BitVec 32 := 2#32
  let c0_i32_587 : BitVec 32 := 0#32
  ![v662.toNat, 2, 0]
def k0_off477 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c3_i32_591 : BitVec 32 := 3#32
  let c0_i32_592 : BitVec 32 := 0#32
  ![v662.toNat, 3, 0]
def k0_off478 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c4_i32_596 : BitVec 32 := 4#32
  let c0_i32_597 : BitVec 32 := 0#32
  ![v662.toNat, 4, 0]
def k0_off479 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c5_i32_601 : BitVec 32 := 5#32
  let c0_i32_602 : BitVec 32 := 0#32
  ![v662.toNat, 5, 0]
def k0_off480 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c6_i32_606 : BitVec 32 := 6#32
  let c0_i32_607 : BitVec 32 := 0#32
  ![v662.toNat, 6, 0]
def k0_off481 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c7_i32_611 : BitVec 32 := 7#32
  let c0_i32_612 : BitVec 32 := 0#32
  ![v662.toNat, 7, 0]
def k0_off482 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c8_i32_616 : BitVec 32 := 8#32
  let c0_i32_617 : BitVec 32 := 0#32
  ![v662.toNat, 8, 0]
def k0_off483 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c9_i32_621 : BitVec 32 := 9#32
  let c0_i32_622 : BitVec 32 := 0#32
  ![v662.toNat, 9, 0]
def k0_off484 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c10_i32_626 : BitVec 32 := 10#32
  let c0_i32_627 : BitVec 32 := 0#32
  ![v662.toNat, 10, 0]
def k0_off485 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c11_i32_631 : BitVec 32 := 11#32
  let c0_i32_632 : BitVec 32 := 0#32
  ![v662.toNat, 11, 0]
def k0_off486 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c12_i32_636 : BitVec 32 := 12#32
  let c0_i32_637 : BitVec 32 := 0#32
  ![v662.toNat, 12, 0]
def k0_off487 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c13_i32_641 : BitVec 32 := 13#32
  let c0_i32_642 : BitVec 32 := 0#32
  ![v662.toNat, 13, 0]
def k0_off488 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c14_i32_646 : BitVec 32 := 14#32
  let c0_i32_647 : BitVec 32 := 0#32
  ![v662.toNat, 14, 0]
def k0_off489 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c15_i32_651 : BitVec 32 := 15#32
  let c0_i32_652 : BitVec 32 := 0#32
  ![v662.toNat, 15, 0]
@[reducible] def k0_t12_loop (arg26 : BitVec 32) (v683 : BitVec 32) : Scf.Loop 32 :=
  let c0_i32_511 : BitVec 32 := 0#32
  let c256_i32_501 : BitVec 32 := 256#32
  let v684 : BitVec 32 := Scalar.muli arg26 c256_i32_501
  let v685 : BitVec 32 := Scalar.subi v683 v684
  let c256_i32_502 : BitVec 32 := 256#32
  let v686 : BitVec 32 := Scalar.minsi v685 c256_i32_502
  let c15_i32_503 : BitVec 32 := 15#32
  let v687 : BitVec 32 := Scalar.addi v686 c15_i32_503
  let c16_i32_504 : BitVec 32 := 16#32
  let v688 : BitVec 32 := Scalar.divsi v687 c16_i32_504
  let c0_i32_505 : BitVec 32 := 0#32
  let v689 : BitVec 32 := Scalar.subi v688 c0_i32_505
  let c1_i32_506 : BitVec 32 := 1#32
  let c1_i32_507 : BitVec 32 := 1#32
  let v690 : BitVec 32 := Scalar.subi c1_i32_506 c1_i32_507
  let v691 : BitVec 32 := Scalar.addi v689 v690
  let c1_i32_508 : BitVec 32 := 1#32
  let v692 : BitVec 32 := Scalar.divsi v691 c1_i32_508
  let v693 : BitVec 32 := Scalar.subi v692 c0_i32_511
  let c1_i32_512 : BitVec 32 := 1#32
  let v695 : BitVec 32 := Scalar.divsi v693 c1_i32_512
  let v696 : BitVec 32 := Scalar.muli v695 c1_i32_512
  let v697 : BitVec 32 := Scalar.addi c0_i32_511 v696
  let v694 : BitVec 32 := Scalar.addi c0_i32_511 v693
  let c1_i32_514 : BitVec 32 := 1#32
  ⟨v697, v694, c1_i32_514⟩
def k0_off490 (v616 : BitVec 32) (k0_t6 : Fin (k0_t6_loop v616).trips) : Fin 1 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  ![v662.toNat]
def k0_off491 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c0_i32_576 : BitVec 32 := 0#32
  let c0_i32_577 : BitVec 32 := 0#32
  ![v662.toNat, 0, 0]
def k0_off492 : Fin 2 → Nat :=
  let c0_i32_574 : BitVec 32 := 0#32
  let c2_i32_575 : BitVec 32 := 2#32
  let v848 : BitVec 32 := Scalar.shrui c0_i32_574 c2_i32_575
  let c0_i32_578 : BitVec 32 := 0#32
  ![v848.toNat, 0]
def k0_off493 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c1_i32_581 : BitVec 32 := 1#32
  let c0_i32_582 : BitVec 32 := 0#32
  ![v662.toNat, 1, 0]
def k0_off494 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c2_i32_586 : BitVec 32 := 2#32
  let c0_i32_587 : BitVec 32 := 0#32
  ![v662.toNat, 2, 0]
def k0_off495 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c3_i32_591 : BitVec 32 := 3#32
  let c0_i32_592 : BitVec 32 := 0#32
  ![v662.toNat, 3, 0]
def k0_off496 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c4_i32_596 : BitVec 32 := 4#32
  let c0_i32_597 : BitVec 32 := 0#32
  ![v662.toNat, 4, 0]
def k0_off497 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c5_i32_601 : BitVec 32 := 5#32
  let c0_i32_602 : BitVec 32 := 0#32
  ![v662.toNat, 5, 0]
def k0_off498 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c6_i32_606 : BitVec 32 := 6#32
  let c0_i32_607 : BitVec 32 := 0#32
  ![v662.toNat, 6, 0]
def k0_off499 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c7_i32_611 : BitVec 32 := 7#32
  let c0_i32_612 : BitVec 32 := 0#32
  ![v662.toNat, 7, 0]
def k0_off500 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c8_i32_616 : BitVec 32 := 8#32
  let c0_i32_617 : BitVec 32 := 0#32
  ![v662.toNat, 8, 0]
def k0_off501 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c9_i32_621 : BitVec 32 := 9#32
  let c0_i32_622 : BitVec 32 := 0#32
  ![v662.toNat, 9, 0]
def k0_off502 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c10_i32_626 : BitVec 32 := 10#32
  let c0_i32_627 : BitVec 32 := 0#32
  ![v662.toNat, 10, 0]
def k0_off503 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c11_i32_631 : BitVec 32 := 11#32
  let c0_i32_632 : BitVec 32 := 0#32
  ![v662.toNat, 11, 0]
def k0_off504 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c12_i32_636 : BitVec 32 := 12#32
  let c0_i32_637 : BitVec 32 := 0#32
  ![v662.toNat, 12, 0]
def k0_off505 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c13_i32_641 : BitVec 32 := 13#32
  let c0_i32_642 : BitVec 32 := 0#32
  ![v662.toNat, 13, 0]
def k0_off506 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c14_i32_646 : BitVec 32 := 14#32
  let c0_i32_647 : BitVec 32 := 0#32
  ![v662.toNat, 14, 0]
def k0_off507 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let c15_i32_651 : BitVec 32 := 15#32
  let c0_i32_652 : BitVec 32 := 0#32
  ![v662.toNat, 15, 0]

def k0_chk185_0 (v616 : BitVec 32) (k0_t6 : Fin (k0_t6_loop v616).trips) (arg26 : BitVec 32) (v683 : BitVec 32) : Prop :=
  ((k0_t11_loop arg26 v683).OK) ∧
  (∀ k0_t11 : Fin (k0_t11_loop arg26 v683).trips, ∀ a, (k0_off472 v616 k0_t6) a + S1.size a ≤ S3.size a) ∧
  (∀ k0_t11 : Fin (k0_t11_loop arg26 v683).trips, ∀ a, (k0_off473 v616 k0_t6) a + S1x1x256.size a ≤ S3x256x256.size a) ∧
  (∀ k0_t11 : Fin (k0_t11_loop arg26 v683).trips, ∀ a, (k0_off475 v616 k0_t6) a + S1x1x256.size a ≤ S3x256x256.size a) ∧
  (∀ k0_t11 : Fin (k0_t11_loop arg26 v683).trips, ∀ a, (k0_off476 v616 k0_t6) a + S1x1x256.size a ≤ S3x256x256.size a) ∧
  (∀ k0_t11 : Fin (k0_t11_loop arg26 v683).trips, ∀ a, (k0_off477 v616 k0_t6) a + S1x1x256.size a ≤ S3x256x256.size a) ∧
  (∀ k0_t11 : Fin (k0_t11_loop arg26 v683).trips, ∀ a, (k0_off478 v616 k0_t6) a + S1x1x256.size a ≤ S3x256x256.size a) ∧
  (∀ k0_t11 : Fin (k0_t11_loop arg26 v683).trips, ∀ a, (k0_off479 v616 k0_t6) a + S1x1x256.size a ≤ S3x256x256.size a) ∧
  (∀ k0_t11 : Fin (k0_t11_loop arg26 v683).trips, ∀ a, (k0_off480 v616 k0_t6) a + S1x1x256.size a ≤ S3x256x256.size a) ∧
  (∀ k0_t11 : Fin (k0_t11_loop arg26 v683).trips, ∀ a, (k0_off481 v616 k0_t6) a + S1x1x256.size a ≤ S3x256x256.size a) ∧
  (∀ k0_t11 : Fin (k0_t11_loop arg26 v683).trips, ∀ a, (k0_off482 v616 k0_t6) a + S1x1x256.size a ≤ S3x256x256.size a) ∧
  (∀ k0_t11 : Fin (k0_t11_loop arg26 v683).trips, ∀ a, (k0_off483 v616 k0_t6) a + S1x1x256.size a ≤ S3x256x256.size a) ∧
  (∀ k0_t11 : Fin (k0_t11_loop arg26 v683).trips, ∀ a, (k0_off484 v616 k0_t6) a + S1x1x256.size a ≤ S3x256x256.size a) ∧
  (∀ k0_t11 : Fin (k0_t11_loop arg26 v683).trips, ∀ a, (k0_off485 v616 k0_t6) a + S1x1x256.size a ≤ S3x256x256.size a) ∧
  (∀ k0_t11 : Fin (k0_t11_loop arg26 v683).trips, ∀ a, (k0_off486 v616 k0_t6) a + S1x1x256.size a ≤ S3x256x256.size a) ∧
  (∀ k0_t11 : Fin (k0_t11_loop arg26 v683).trips, ∀ a, (k0_off487 v616 k0_t6) a + S1x1x256.size a ≤ S3x256x256.size a) ∧
  (∀ k0_t11 : Fin (k0_t11_loop arg26 v683).trips, ∀ a, (k0_off488 v616 k0_t6) a + S1x1x256.size a ≤ S3x256x256.size a) ∧
  (∀ k0_t11 : Fin (k0_t11_loop arg26 v683).trips, ∀ a, (k0_off489 v616 k0_t6) a + S1x1x256.size a ≤ S3x256x256.size a) ∧
  ((k0_t12_loop arg26 v683).OK) ∧
  (∀ k0_t12 : Fin (k0_t12_loop arg26 v683).trips, ∀ a, (k0_off490 v616 k0_t6) a + S1.size a ≤ S3.size a) ∧
  (∀ k0_t12 : Fin (k0_t12_loop arg26 v683).trips, ∀ a, (k0_off491 v616 k0_t6) a + S1x1x256.size a ≤ S3x256x256.size a) ∧
  (∀ k0_t12 : Fin (k0_t12_loop arg26 v683).trips, ∀ a, (k0_off493 v616 k0_t6) a + S1x1x256.size a ≤ S3x256x256.size a) ∧
  (∀ k0_t12 : Fin (k0_t12_loop arg26 v683).trips, ∀ a, (k0_off494 v616 k0_t6) a + S1x1x256.size a ≤ S3x256x256.size a) ∧
  (∀ k0_t12 : Fin (k0_t12_loop arg26 v683).trips, ∀ a, (k0_off495 v616 k0_t6) a + S1x1x256.size a ≤ S3x256x256.size a) ∧
  (∀ k0_t12 : Fin (k0_t12_loop arg26 v683).trips, ∀ a, (k0_off496 v616 k0_t6) a + S1x1x256.size a ≤ S3x256x256.size a) ∧
  (∀ k0_t12 : Fin (k0_t12_loop arg26 v683).trips, ∀ a, (k0_off497 v616 k0_t6) a + S1x1x256.size a ≤ S3x256x256.size a) ∧
  (∀ k0_t12 : Fin (k0_t12_loop arg26 v683).trips, ∀ a, (k0_off498 v616 k0_t6) a + S1x1x256.size a ≤ S3x256x256.size a) ∧
  (∀ k0_t12 : Fin (k0_t12_loop arg26 v683).trips, ∀ a, (k0_off499 v616 k0_t6) a + S1x1x256.size a ≤ S3x256x256.size a) ∧
  (∀ k0_t12 : Fin (k0_t12_loop arg26 v683).trips, ∀ a, (k0_off500 v616 k0_t6) a + S1x1x256.size a ≤ S3x256x256.size a) ∧
  (∀ k0_t12 : Fin (k0_t12_loop arg26 v683).trips, ∀ a, (k0_off501 v616 k0_t6) a + S1x1x256.size a ≤ S3x256x256.size a) ∧
  (∀ k0_t12 : Fin (k0_t12_loop arg26 v683).trips, ∀ a, (k0_off502 v616 k0_t6) a + S1x1x256.size a ≤ S3x256x256.size a) ∧
  (∀ k0_t12 : Fin (k0_t12_loop arg26 v683).trips, ∀ a, (k0_off503 v616 k0_t6) a + S1x1x256.size a ≤ S3x256x256.size a)
def k0_chk185_1 (v616 : BitVec 32) (k0_t6 : Fin (k0_t6_loop v616).trips) (arg26 : BitVec 32) (v683 : BitVec 32) : Prop :=
  (∀ k0_t12 : Fin (k0_t12_loop arg26 v683).trips, ∀ a, (k0_off504 v616 k0_t6) a + S1x1x256.size a ≤ S3x256x256.size a) ∧
  (∀ k0_t12 : Fin (k0_t12_loop arg26 v683).trips, ∀ a, (k0_off505 v616 k0_t6) a + S1x1x256.size a ≤ S3x256x256.size a) ∧
  (∀ k0_t12 : Fin (k0_t12_loop arg26 v683).trips, ∀ a, (k0_off506 v616 k0_t6) a + S1x1x256.size a ≤ S3x256x256.size a) ∧
  (∀ k0_t12 : Fin (k0_t12_loop arg26 v683).trips, ∀ a, (k0_off507 v616 k0_t6) a + S1x1x256.size a ≤ S3x256x256.size a)
def k0_chk185 (v616 : BitVec 32) (k0_t6 : Fin (k0_t6_loop v616).trips) (arg26 : BitVec 32) (v683 : BitVec 32) : Prop :=
  k0_chk185_0 v616 k0_t6 arg26 v683 ∧
  k0_chk185_1 v616 k0_t6 arg26 v683
theorem k0_t11_ok : ∀ (v616 : BitVec 32) (k0_t6 : Fin (k0_t6_loop v616).trips) (arg26 : BitVec 32) (v683 : BitVec 32) (k0_hw185 : k0_chk185 v616 k0_t6 arg26 v683), (k0_t11_loop arg26 v683).OK := fun v616 k0_t6 arg26 v683 k0_hw185 => k0_hw185.1.1
theorem k0_off472_inb : ∀ (v616 : BitVec 32) (k0_t6 : Fin (k0_t6_loop v616).trips) (arg26 : BitVec 32) (v683 : BitVec 32) (k0_hw185 : k0_chk185 v616 k0_t6 arg26 v683) (k0_t11 : Fin (k0_t11_loop arg26 v683).trips), ∀ a, (k0_off472 v616 k0_t6) a + S1.size a ≤ S3.size a := fun v616 k0_t6 arg26 v683 k0_hw185 k0_t11 => k0_hw185.1.2.1 k0_t11
theorem k0_off473_inb : ∀ (v616 : BitVec 32) (k0_t6 : Fin (k0_t6_loop v616).trips) (arg26 : BitVec 32) (v683 : BitVec 32) (k0_hw185 : k0_chk185 v616 k0_t6 arg26 v683) (k0_t11 : Fin (k0_t11_loop arg26 v683).trips), ∀ a, (k0_off473 v616 k0_t6) a + S1x1x256.size a ≤ S3x256x256.size a := fun v616 k0_t6 arg26 v683 k0_hw185 k0_t11 => k0_hw185.1.2.2.1 k0_t11
theorem k0_off475_inb : ∀ (v616 : BitVec 32) (k0_t6 : Fin (k0_t6_loop v616).trips) (arg26 : BitVec 32) (v683 : BitVec 32) (k0_hw185 : k0_chk185 v616 k0_t6 arg26 v683) (k0_t11 : Fin (k0_t11_loop arg26 v683).trips), ∀ a, (k0_off475 v616 k0_t6) a + S1x1x256.size a ≤ S3x256x256.size a := fun v616 k0_t6 arg26 v683 k0_hw185 k0_t11 => k0_hw185.1.2.2.2.1 k0_t11
theorem k0_off476_inb : ∀ (v616 : BitVec 32) (k0_t6 : Fin (k0_t6_loop v616).trips) (arg26 : BitVec 32) (v683 : BitVec 32) (k0_hw185 : k0_chk185 v616 k0_t6 arg26 v683) (k0_t11 : Fin (k0_t11_loop arg26 v683).trips), ∀ a, (k0_off476 v616 k0_t6) a + S1x1x256.size a ≤ S3x256x256.size a := fun v616 k0_t6 arg26 v683 k0_hw185 k0_t11 => k0_hw185.1.2.2.2.2.1 k0_t11
theorem k0_off477_inb : ∀ (v616 : BitVec 32) (k0_t6 : Fin (k0_t6_loop v616).trips) (arg26 : BitVec 32) (v683 : BitVec 32) (k0_hw185 : k0_chk185 v616 k0_t6 arg26 v683) (k0_t11 : Fin (k0_t11_loop arg26 v683).trips), ∀ a, (k0_off477 v616 k0_t6) a + S1x1x256.size a ≤ S3x256x256.size a := fun v616 k0_t6 arg26 v683 k0_hw185 k0_t11 => k0_hw185.1.2.2.2.2.2.1 k0_t11
theorem k0_off478_inb : ∀ (v616 : BitVec 32) (k0_t6 : Fin (k0_t6_loop v616).trips) (arg26 : BitVec 32) (v683 : BitVec 32) (k0_hw185 : k0_chk185 v616 k0_t6 arg26 v683) (k0_t11 : Fin (k0_t11_loop arg26 v683).trips), ∀ a, (k0_off478 v616 k0_t6) a + S1x1x256.size a ≤ S3x256x256.size a := fun v616 k0_t6 arg26 v683 k0_hw185 k0_t11 => k0_hw185.1.2.2.2.2.2.2.1 k0_t11
theorem k0_off479_inb : ∀ (v616 : BitVec 32) (k0_t6 : Fin (k0_t6_loop v616).trips) (arg26 : BitVec 32) (v683 : BitVec 32) (k0_hw185 : k0_chk185 v616 k0_t6 arg26 v683) (k0_t11 : Fin (k0_t11_loop arg26 v683).trips), ∀ a, (k0_off479 v616 k0_t6) a + S1x1x256.size a ≤ S3x256x256.size a := fun v616 k0_t6 arg26 v683 k0_hw185 k0_t11 => k0_hw185.1.2.2.2.2.2.2.2.1 k0_t11
theorem k0_off480_inb : ∀ (v616 : BitVec 32) (k0_t6 : Fin (k0_t6_loop v616).trips) (arg26 : BitVec 32) (v683 : BitVec 32) (k0_hw185 : k0_chk185 v616 k0_t6 arg26 v683) (k0_t11 : Fin (k0_t11_loop arg26 v683).trips), ∀ a, (k0_off480 v616 k0_t6) a + S1x1x256.size a ≤ S3x256x256.size a := fun v616 k0_t6 arg26 v683 k0_hw185 k0_t11 => k0_hw185.1.2.2.2.2.2.2.2.2.1 k0_t11
theorem k0_off481_inb : ∀ (v616 : BitVec 32) (k0_t6 : Fin (k0_t6_loop v616).trips) (arg26 : BitVec 32) (v683 : BitVec 32) (k0_hw185 : k0_chk185 v616 k0_t6 arg26 v683) (k0_t11 : Fin (k0_t11_loop arg26 v683).trips), ∀ a, (k0_off481 v616 k0_t6) a + S1x1x256.size a ≤ S3x256x256.size a := fun v616 k0_t6 arg26 v683 k0_hw185 k0_t11 => k0_hw185.1.2.2.2.2.2.2.2.2.2.1 k0_t11
theorem k0_off482_inb : ∀ (v616 : BitVec 32) (k0_t6 : Fin (k0_t6_loop v616).trips) (arg26 : BitVec 32) (v683 : BitVec 32) (k0_hw185 : k0_chk185 v616 k0_t6 arg26 v683) (k0_t11 : Fin (k0_t11_loop arg26 v683).trips), ∀ a, (k0_off482 v616 k0_t6) a + S1x1x256.size a ≤ S3x256x256.size a := fun v616 k0_t6 arg26 v683 k0_hw185 k0_t11 => k0_hw185.1.2.2.2.2.2.2.2.2.2.2.1 k0_t11
theorem k0_off483_inb : ∀ (v616 : BitVec 32) (k0_t6 : Fin (k0_t6_loop v616).trips) (arg26 : BitVec 32) (v683 : BitVec 32) (k0_hw185 : k0_chk185 v616 k0_t6 arg26 v683) (k0_t11 : Fin (k0_t11_loop arg26 v683).trips), ∀ a, (k0_off483 v616 k0_t6) a + S1x1x256.size a ≤ S3x256x256.size a := fun v616 k0_t6 arg26 v683 k0_hw185 k0_t11 => k0_hw185.1.2.2.2.2.2.2.2.2.2.2.2.1 k0_t11
theorem k0_off484_inb : ∀ (v616 : BitVec 32) (k0_t6 : Fin (k0_t6_loop v616).trips) (arg26 : BitVec 32) (v683 : BitVec 32) (k0_hw185 : k0_chk185 v616 k0_t6 arg26 v683) (k0_t11 : Fin (k0_t11_loop arg26 v683).trips), ∀ a, (k0_off484 v616 k0_t6) a + S1x1x256.size a ≤ S3x256x256.size a := fun v616 k0_t6 arg26 v683 k0_hw185 k0_t11 => k0_hw185.1.2.2.2.2.2.2.2.2.2.2.2.2.1 k0_t11
theorem k0_off485_inb : ∀ (v616 : BitVec 32) (k0_t6 : Fin (k0_t6_loop v616).trips) (arg26 : BitVec 32) (v683 : BitVec 32) (k0_hw185 : k0_chk185 v616 k0_t6 arg26 v683) (k0_t11 : Fin (k0_t11_loop arg26 v683).trips), ∀ a, (k0_off485 v616 k0_t6) a + S1x1x256.size a ≤ S3x256x256.size a := fun v616 k0_t6 arg26 v683 k0_hw185 k0_t11 => k0_hw185.1.2.2.2.2.2.2.2.2.2.2.2.2.2.1 k0_t11
theorem k0_off486_inb : ∀ (v616 : BitVec 32) (k0_t6 : Fin (k0_t6_loop v616).trips) (arg26 : BitVec 32) (v683 : BitVec 32) (k0_hw185 : k0_chk185 v616 k0_t6 arg26 v683) (k0_t11 : Fin (k0_t11_loop arg26 v683).trips), ∀ a, (k0_off486 v616 k0_t6) a + S1x1x256.size a ≤ S3x256x256.size a := fun v616 k0_t6 arg26 v683 k0_hw185 k0_t11 => k0_hw185.1.2.2.2.2.2.2.2.2.2.2.2.2.2.2.1 k0_t11
theorem k0_off487_inb : ∀ (v616 : BitVec 32) (k0_t6 : Fin (k0_t6_loop v616).trips) (arg26 : BitVec 32) (v683 : BitVec 32) (k0_hw185 : k0_chk185 v616 k0_t6 arg26 v683) (k0_t11 : Fin (k0_t11_loop arg26 v683).trips), ∀ a, (k0_off487 v616 k0_t6) a + S1x1x256.size a ≤ S3x256x256.size a := fun v616 k0_t6 arg26 v683 k0_hw185 k0_t11 => k0_hw185.1.2.2.2.2.2.2.2.2.2.2.2.2.2.2.2.1 k0_t11
theorem k0_off488_inb : ∀ (v616 : BitVec 32) (k0_t6 : Fin (k0_t6_loop v616).trips) (arg26 : BitVec 32) (v683 : BitVec 32) (k0_hw185 : k0_chk185 v616 k0_t6 arg26 v683) (k0_t11 : Fin (k0_t11_loop arg26 v683).trips), ∀ a, (k0_off488 v616 k0_t6) a + S1x1x256.size a ≤ S3x256x256.size a := fun v616 k0_t6 arg26 v683 k0_hw185 k0_t11 => k0_hw185.1.2.2.2.2.2.2.2.2.2.2.2.2.2.2.2.2.1 k0_t11
theorem k0_off489_inb : ∀ (v616 : BitVec 32) (k0_t6 : Fin (k0_t6_loop v616).trips) (arg26 : BitVec 32) (v683 : BitVec 32) (k0_hw185 : k0_chk185 v616 k0_t6 arg26 v683) (k0_t11 : Fin (k0_t11_loop arg26 v683).trips), ∀ a, (k0_off489 v616 k0_t6) a + S1x1x256.size a ≤ S3x256x256.size a := fun v616 k0_t6 arg26 v683 k0_hw185 k0_t11 => k0_hw185.1.2.2.2.2.2.2.2.2.2.2.2.2.2.2.2.2.2.1 k0_t11
theorem k0_t12_ok : ∀ (v616 : BitVec 32) (k0_t6 : Fin (k0_t6_loop v616).trips) (arg26 : BitVec 32) (v683 : BitVec 32) (k0_hw185 : k0_chk185 v616 k0_t6 arg26 v683), (k0_t12_loop arg26 v683).OK := fun v616 k0_t6 arg26 v683 k0_hw185 => k0_hw185.1.2.2.2.2.2.2.2.2.2.2.2.2.2.2.2.2.2.2.1
theorem k0_off490_inb : ∀ (v616 : BitVec 32) (k0_t6 : Fin (k0_t6_loop v616).trips) (arg26 : BitVec 32) (v683 : BitVec 32) (k0_hw185 : k0_chk185 v616 k0_t6 arg26 v683) (k0_t12 : Fin (k0_t12_loop arg26 v683).trips), ∀ a, (k0_off490 v616 k0_t6) a + S1.size a ≤ S3.size a := fun v616 k0_t6 arg26 v683 k0_hw185 k0_t12 => k0_hw185.1.2.2.2.2.2.2.2.2.2.2.2.2.2.2.2.2.2.2.2.1 k0_t12
theorem k0_off491_inb : ∀ (v616 : BitVec 32) (k0_t6 : Fin (k0_t6_loop v616).trips) (arg26 : BitVec 32) (v683 : BitVec 32) (k0_hw185 : k0_chk185 v616 k0_t6 arg26 v683) (k0_t12 : Fin (k0_t12_loop arg26 v683).trips), ∀ a, (k0_off491 v616 k0_t6) a + S1x1x256.size a ≤ S3x256x256.size a := fun v616 k0_t6 arg26 v683 k0_hw185 k0_t12 => k0_hw185.1.2.2.2.2.2.2.2.2.2.2.2.2.2.2.2.2.2.2.2.2.1 k0_t12
theorem k0_off493_inb : ∀ (v616 : BitVec 32) (k0_t6 : Fin (k0_t6_loop v616).trips) (arg26 : BitVec 32) (v683 : BitVec 32) (k0_hw185 : k0_chk185 v616 k0_t6 arg26 v683) (k0_t12 : Fin (k0_t12_loop arg26 v683).trips), ∀ a, (k0_off493 v616 k0_t6) a + S1x1x256.size a ≤ S3x256x256.size a := fun v616 k0_t6 arg26 v683 k0_hw185 k0_t12 => k0_hw185.1.2.2.2.2.2.2.2.2.2.2.2.2.2.2.2.2.2.2.2.2.2.1 k0_t12
theorem k0_off494_inb : ∀ (v616 : BitVec 32) (k0_t6 : Fin (k0_t6_loop v616).trips) (arg26 : BitVec 32) (v683 : BitVec 32) (k0_hw185 : k0_chk185 v616 k0_t6 arg26 v683) (k0_t12 : Fin (k0_t12_loop arg26 v683).trips), ∀ a, (k0_off494 v616 k0_t6) a + S1x1x256.size a ≤ S3x256x256.size a := fun v616 k0_t6 arg26 v683 k0_hw185 k0_t12 => k0_hw185.1.2.2.2.2.2.2.2.2.2.2.2.2.2.2.2.2.2.2.2.2.2.2.1 k0_t12
theorem k0_off495_inb : ∀ (v616 : BitVec 32) (k0_t6 : Fin (k0_t6_loop v616).trips) (arg26 : BitVec 32) (v683 : BitVec 32) (k0_hw185 : k0_chk185 v616 k0_t6 arg26 v683) (k0_t12 : Fin (k0_t12_loop arg26 v683).trips), ∀ a, (k0_off495 v616 k0_t6) a + S1x1x256.size a ≤ S3x256x256.size a := fun v616 k0_t6 arg26 v683 k0_hw185 k0_t12 => k0_hw185.1.2.2.2.2.2.2.2.2.2.2.2.2.2.2.2.2.2.2.2.2.2.2.2.1 k0_t12
theorem k0_off496_inb : ∀ (v616 : BitVec 32) (k0_t6 : Fin (k0_t6_loop v616).trips) (arg26 : BitVec 32) (v683 : BitVec 32) (k0_hw185 : k0_chk185 v616 k0_t6 arg26 v683) (k0_t12 : Fin (k0_t12_loop arg26 v683).trips), ∀ a, (k0_off496 v616 k0_t6) a + S1x1x256.size a ≤ S3x256x256.size a := fun v616 k0_t6 arg26 v683 k0_hw185 k0_t12 => k0_hw185.1.2.2.2.2.2.2.2.2.2.2.2.2.2.2.2.2.2.2.2.2.2.2.2.2.1 k0_t12
theorem k0_off497_inb : ∀ (v616 : BitVec 32) (k0_t6 : Fin (k0_t6_loop v616).trips) (arg26 : BitVec 32) (v683 : BitVec 32) (k0_hw185 : k0_chk185 v616 k0_t6 arg26 v683) (k0_t12 : Fin (k0_t12_loop arg26 v683).trips), ∀ a, (k0_off497 v616 k0_t6) a + S1x1x256.size a ≤ S3x256x256.size a := fun v616 k0_t6 arg26 v683 k0_hw185 k0_t12 => k0_hw185.1.2.2.2.2.2.2.2.2.2.2.2.2.2.2.2.2.2.2.2.2.2.2.2.2.2.1 k0_t12
theorem k0_off498_inb : ∀ (v616 : BitVec 32) (k0_t6 : Fin (k0_t6_loop v616).trips) (arg26 : BitVec 32) (v683 : BitVec 32) (k0_hw185 : k0_chk185 v616 k0_t6 arg26 v683) (k0_t12 : Fin (k0_t12_loop arg26 v683).trips), ∀ a, (k0_off498 v616 k0_t6) a + S1x1x256.size a ≤ S3x256x256.size a := fun v616 k0_t6 arg26 v683 k0_hw185 k0_t12 => k0_hw185.1.2.2.2.2.2.2.2.2.2.2.2.2.2.2.2.2.2.2.2.2.2.2.2.2.2.2.1 k0_t12
theorem k0_off499_inb : ∀ (v616 : BitVec 32) (k0_t6 : Fin (k0_t6_loop v616).trips) (arg26 : BitVec 32) (v683 : BitVec 32) (k0_hw185 : k0_chk185 v616 k0_t6 arg26 v683) (k0_t12 : Fin (k0_t12_loop arg26 v683).trips), ∀ a, (k0_off499 v616 k0_t6) a + S1x1x256.size a ≤ S3x256x256.size a := fun v616 k0_t6 arg26 v683 k0_hw185 k0_t12 => k0_hw185.1.2.2.2.2.2.2.2.2.2.2.2.2.2.2.2.2.2.2.2.2.2.2.2.2.2.2.2.1 k0_t12
theorem k0_off500_inb : ∀ (v616 : BitVec 32) (k0_t6 : Fin (k0_t6_loop v616).trips) (arg26 : BitVec 32) (v683 : BitVec 32) (k0_hw185 : k0_chk185 v616 k0_t6 arg26 v683) (k0_t12 : Fin (k0_t12_loop arg26 v683).trips), ∀ a, (k0_off500 v616 k0_t6) a + S1x1x256.size a ≤ S3x256x256.size a := fun v616 k0_t6 arg26 v683 k0_hw185 k0_t12 => k0_hw185.1.2.2.2.2.2.2.2.2.2.2.2.2.2.2.2.2.2.2.2.2.2.2.2.2.2.2.2.2.1 k0_t12
theorem k0_off501_inb : ∀ (v616 : BitVec 32) (k0_t6 : Fin (k0_t6_loop v616).trips) (arg26 : BitVec 32) (v683 : BitVec 32) (k0_hw185 : k0_chk185 v616 k0_t6 arg26 v683) (k0_t12 : Fin (k0_t12_loop arg26 v683).trips), ∀ a, (k0_off501 v616 k0_t6) a + S1x1x256.size a ≤ S3x256x256.size a := fun v616 k0_t6 arg26 v683 k0_hw185 k0_t12 => k0_hw185.1.2.2.2.2.2.2.2.2.2.2.2.2.2.2.2.2.2.2.2.2.2.2.2.2.2.2.2.2.2.1 k0_t12
theorem k0_off502_inb : ∀ (v616 : BitVec 32) (k0_t6 : Fin (k0_t6_loop v616).trips) (arg26 : BitVec 32) (v683 : BitVec 32) (k0_hw185 : k0_chk185 v616 k0_t6 arg26 v683) (k0_t12 : Fin (k0_t12_loop arg26 v683).trips), ∀ a, (k0_off502 v616 k0_t6) a + S1x1x256.size a ≤ S3x256x256.size a := fun v616 k0_t6 arg26 v683 k0_hw185 k0_t12 => k0_hw185.1.2.2.2.2.2.2.2.2.2.2.2.2.2.2.2.2.2.2.2.2.2.2.2.2.2.2.2.2.2.2.1 k0_t12
theorem k0_off503_inb : ∀ (v616 : BitVec 32) (k0_t6 : Fin (k0_t6_loop v616).trips) (arg26 : BitVec 32) (v683 : BitVec 32) (k0_hw185 : k0_chk185 v616 k0_t6 arg26 v683) (k0_t12 : Fin (k0_t12_loop arg26 v683).trips), ∀ a, (k0_off503 v616 k0_t6) a + S1x1x256.size a ≤ S3x256x256.size a := fun v616 k0_t6 arg26 v683 k0_hw185 k0_t12 => k0_hw185.1.2.2.2.2.2.2.2.2.2.2.2.2.2.2.2.2.2.2.2.2.2.2.2.2.2.2.2.2.2.2.2 k0_t12
theorem k0_off504_inb : ∀ (v616 : BitVec 32) (k0_t6 : Fin (k0_t6_loop v616).trips) (arg26 : BitVec 32) (v683 : BitVec 32) (k0_hw185 : k0_chk185 v616 k0_t6 arg26 v683) (k0_t12 : Fin (k0_t12_loop arg26 v683).trips), ∀ a, (k0_off504 v616 k0_t6) a + S1x1x256.size a ≤ S3x256x256.size a := fun v616 k0_t6 arg26 v683 k0_hw185 k0_t12 => k0_hw185.2.1 k0_t12
theorem k0_off505_inb : ∀ (v616 : BitVec 32) (k0_t6 : Fin (k0_t6_loop v616).trips) (arg26 : BitVec 32) (v683 : BitVec 32) (k0_hw185 : k0_chk185 v616 k0_t6 arg26 v683) (k0_t12 : Fin (k0_t12_loop arg26 v683).trips), ∀ a, (k0_off505 v616 k0_t6) a + S1x1x256.size a ≤ S3x256x256.size a := fun v616 k0_t6 arg26 v683 k0_hw185 k0_t12 => k0_hw185.2.2.1 k0_t12
theorem k0_off506_inb : ∀ (v616 : BitVec 32) (k0_t6 : Fin (k0_t6_loop v616).trips) (arg26 : BitVec 32) (v683 : BitVec 32) (k0_hw185 : k0_chk185 v616 k0_t6 arg26 v683) (k0_t12 : Fin (k0_t12_loop arg26 v683).trips), ∀ a, (k0_off506 v616 k0_t6) a + S1x1x256.size a ≤ S3x256x256.size a := fun v616 k0_t6 arg26 v683 k0_hw185 k0_t12 => k0_hw185.2.2.2.1 k0_t12
theorem k0_off507_inb : ∀ (v616 : BitVec 32) (k0_t6 : Fin (k0_t6_loop v616).trips) (arg26 : BitVec 32) (v683 : BitVec 32) (k0_hw185 : k0_chk185 v616 k0_t6 arg26 v683) (k0_t12 : Fin (k0_t12_loop arg26 v683).trips), ∀ a, (k0_off507 v616 k0_t6) a + S1x1x256.size a ≤ S3x256x256.size a := fun v616 k0_t6 arg26 v683 k0_hw185 k0_t12 => k0_hw185.2.2.2.2 k0_t12

def k0_off508 (arg25 : BitVec 32) : Fin 1 → Nat :=
  let v698 : Index := Scalar.indexCast arg25
  ![v698.toNat]
def k0_off509 (arg25 : BitVec 32) : Fin 2 → Nat :=
  let v700 : Index := Scalar.indexCast arg25
  let c0_515 : Index := 0#32
  ![v700.toNat, 0]
def k0_off510 (arg25 : BitVec 32) (arg26 : BitVec 32) : Fin 3 → Nat :=
  let v707 : Index := Scalar.indexCast arg25
  let c2_i32_517 : BitVec 32 := 2#32
  let v706 : BitVec 32 := Scalar.muli arg26 c2_i32_517
  let v708 : Index := Scalar.indexCast v706
  let c0_518 : Index := 0#32
  ![v707.toNat, v708.toNat, 0]

def k0_off511 (v616 : BitVec 32) (k0_t6 : Fin (k0_t6_loop v616).trips) : Fin 3 → Nat :=
  let c0_i32_478 : BitVec 32 := 0#32
  let c1_i32_482 : BitVec 32 := 1#32
  let arg24 : BitVec 32 := Scf.iv c0_i32_478 c1_i32_482 k0_t6
  let c3_i32_484 : BitVec 32 := 3#32
  let v662 : BitVec 32 := Scalar.remsi arg24 c3_i32_484
  let v717 : Index := Scalar.indexCast v662
  let c0_520 : Index := 0#32
  let c0_521 : Index := 0#32
  ![v717.toNat, 0, 0]
def k0_mult57 (arg26 : BitVec 32) : BitVec 32 :=
  let c256_i32_558 : BitVec 32 := 256#32
  let v809 : BitVec 32 := Scalar.muli arg26 c256_i32_558
  v809
def k0_off512 (arg25 : BitVec 32) (arg26 : BitVec 32) : Fin 2 → Nat :=
  let v811 : Index := Scalar.indexCast arg25
  let c256_i32_558 : BitVec 32 := 256#32
  let v809 : BitVec 32 := Scalar.muli arg26 c256_i32_558
  let v810 : BitVec 32 := v809
  let v812 : Index := Scalar.indexCast v810
  ![v811.toNat, v812.toNat]

def k0_chk186 (arg25 : BitVec 32) (arg26 : BitVec 32) : Prop :=
  (∀ a, (k0_off510 arg25 arg26) a + S1x2x128.size a ≤ S24x12x128.size a) ∧
  (256 ∣ (k0_mult57 arg26).toNat) ∧
  (∀ a, (k0_off512 arg25 arg26) a + S1x256.size a ≤ S24x1536.size a)
theorem k0_off510_inb : ∀ (arg25 : BitVec 32) (arg26 : BitVec 32) (k0_hw186 : k0_chk186 arg25 arg26), ∀ a, (k0_off510 arg25 arg26) a + S1x2x128.size a ≤ S24x12x128.size a := fun arg25 arg26 k0_hw186 => k0_hw186.1
theorem k0_mult57_dvd : ∀ (arg25 : BitVec 32) (arg26 : BitVec 32) (k0_hw186 : k0_chk186 arg25 arg26), 256 ∣ (k0_mult57 arg26).toNat := fun arg25 arg26 k0_hw186 => k0_hw186.2.1
theorem k0_off512_inb : ∀ (arg25 : BitVec 32) (arg26 : BitVec 32) (k0_hw186 : k0_chk186 arg25 arg26), ∀ a, (k0_off512 arg25 arg26) a + S1x256.size a ≤ S24x1536.size a := fun arg25 arg26 k0_hw186 => k0_hw186.2.2

def k0_off513 (arg25 : BitVec 32) : Fin 2 → Nat :=
  let v824 : Index := Scalar.indexCast arg25
  let c0_561 : Index := 0#32
  ![v824.toNat, 0]

def k0_chk151 (arg25 : BitVec 32) : Prop :=
  (∀ a, (k0_off374 arg25) a + S1.size a ≤ S24.size a) ∧
  (∀ a, (k0_off471 arg25) a + S1.size a ≤ S24.size a) ∧
  (∀ a, (k0_off508 arg25) a + S1.size a ≤ S24.size a) ∧
  (∀ a, (k0_off509 arg25) a + S1x256.size a ≤ S32x256.size a) ∧
  (∀ a, (k0_off513 arg25) a + S1x256.size a ≤ S24x256.size a)
theorem k0_off374_inb : ∀ (arg25 : BitVec 32) (k0_hw151 : k0_chk151 arg25), ∀ a, (k0_off374 arg25) a + S1.size a ≤ S24.size a := fun arg25 k0_hw151 => k0_hw151.1
theorem k0_off471_inb : ∀ (arg25 : BitVec 32) (k0_hw151 : k0_chk151 arg25), ∀ a, (k0_off471 arg25) a + S1.size a ≤ S24.size a := fun arg25 k0_hw151 => k0_hw151.2.1
theorem k0_off508_inb : ∀ (arg25 : BitVec 32) (k0_hw151 : k0_chk151 arg25), ∀ a, (k0_off508 arg25) a + S1.size a ≤ S24.size a := fun arg25 k0_hw151 => k0_hw151.2.2.1
theorem k0_off509_inb : ∀ (arg25 : BitVec 32) (k0_hw151 : k0_chk151 arg25), ∀ a, (k0_off509 arg25) a + S1x256.size a ≤ S32x256.size a := fun arg25 k0_hw151 => k0_hw151.2.2.2.1
theorem k0_off513_inb : ∀ (arg25 : BitVec 32) (k0_hw151 : k0_chk151 arg25), ∀ a, (k0_off513 arg25) a + S1x256.size a ≤ S24x256.size a := fun arg25 k0_hw151 => k0_hw151.2.2.2.2

def k0_off514 (arg29 : BitVec 32) : Fin 1 → Nat :=
  let c23_i32_564 : BitVec 32 := 23#32
  let v832 : BitVec 32 := Scalar.minsi arg29 c23_i32_564
  let v834 : Index := Scalar.indexCast v832
  ![v834.toNat]

def k0_chk117 (arg29 : BitVec 32) : Prop :=
  (∀ (k0_h2 : k0_cond2 arg29 = 1#1), ∀ a, (k0_off245 arg29) a + S1.size a ≤ S24.size a) ∧
  (∀ a, (k0_off514 arg29) a + S1.size a ≤ S24.size a)
theorem k0_off245_inb : ∀ (arg29 : BitVec 32) (k0_hw117 : k0_chk117 arg29), ∀ (k0_h2 : k0_cond2 arg29 = 1#1), ∀ a, (k0_off245 arg29) a + S1.size a ≤ S24.size a := fun arg29 k0_hw117 k0_h2 => k0_hw117.1 k0_h2
theorem k0_off514_inb : ∀ (arg29 : BitVec 32) (k0_hw117 : k0_chk117 arg29), ∀ a, (k0_off514 arg29) a + S1.size a ≤ S24.size a := fun arg29 k0_hw117 => k0_hw117.2

@[reducible] def k0_t13_loop (v616 : BitVec 32) : Scf.Loop 32 :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let v656 : BitVec 32 := Scalar.addi c0_i32_478 v655
  let c1_i32_483 : BitVec 32 := 1#32
  ⟨v659, v656, c1_i32_483⟩
def k0_off515 (arg29 : BitVec 32) : Fin 1 → Nat :=
  let v848 : Index := Scalar.indexCast arg29
  ![v848.toNat]
def k0_cond3 (arg29 : BitVec 32) : BitVec 1 :=
  let c24_i32_485 : BitVec 32 := 24#32
  let v663 : BitVec 1 := Scalar.cmpi .slt arg29 c24_i32_485
  let v664 : BitVec 32 := Scalar.extui v663
  let c0_i32_486 : BitVec 32 := 0#32
  let v665 : BitVec 1 := Scalar.cmpi .ne v664 c0_i32_486
  v665

@[reducible] def k0_t14_loop (arg30 : BitVec 32) (v849 : BitVec 32) : Scf.Loop 32 :=
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_588 : BitVec 32 := 1#32
  ⟨c0_i32_586, v863, c1_i32_588⟩

def k0_off516 (arg29 : BitVec 32) (arg30 : BitVec 32) (v849 : BitVec 32) (k0_t14 : Fin (k0_t14_loop arg30 v849).trips) : Fin 2 → Nat :=
  let v870 : Index := Scalar.indexCast arg29
  let c256_i32_592 : BitVec 32 := 256#32
  let v868 : BitVec 32 := Scalar.muli arg30 c256_i32_592
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_590 : BitVec 32 := 16#32
  let v866 : BitVec 32 := Scalar.muli v865 c16_i32_590
  let c0_i32_591 : BitVec 32 := 0#32
  let v867 : BitVec 32 := Scalar.addi v866 c0_i32_591
  let v869 : BitVec 32 := Scalar.addi v868 v867
  let v871 : Index := Scalar.indexCast v869
  ![v870.toNat, v871.toNat]
def k0_off517 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off518 (v616 : BitVec 32) (k0_t13 : Fin (k0_t13_loop v616).trips) (arg30 : BitVec 32) (v849 : BitVec 32) (k0_t14 : Fin (k0_t14_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_590 : BitVec 32 := 16#32
  let v866 : BitVec 32 := Scalar.muli v865 c16_i32_590
  let c0_i32_591 : BitVec 32 := 0#32
  let v867 : BitVec 32 := Scalar.addi v866 c0_i32_591
  let c0_i32_594 : BitVec 32 := 0#32
  ![v847.toNat, v867.toNat, 0]
def k0_off519 (v872 : BitVec 32) : Fin 2 → Nat :=
  let c2_i32_593 : BitVec 32 := 2#32
  let v873 : BitVec 32 := Scalar.shrui v872 c2_i32_593
  let c0_i32_595 : BitVec 32 := 0#32
  ![v873.toNat, 0]

def k0_chk189 (arg29 : BitVec 32) (v872 : BitVec 32) : Prop :=
  (∀ (k0_h3 : k0_cond3 arg29 = 1#1), ∀ a, (k0_off519 v872) a + S1x256.size a ≤ S250000x256.size a)
theorem k0_off519_inb : ∀ (arg29 : BitVec 32) (v872 : BitVec 32) (k0_hw189 : k0_chk189 arg29 v872), ∀ (k0_h3 : k0_cond3 arg29 = 1#1), ∀ a, (k0_off519 v872) a + S1x256.size a ≤ S250000x256.size a := fun arg29 v872 k0_hw189 k0_h3 => k0_hw189 k0_h3

def k0_off520 (arg29 : BitVec 32) (arg30 : BitVec 32) (v849 : BitVec 32) (k0_t14 : Fin (k0_t14_loop arg30 v849).trips) : Fin 2 → Nat :=
  let v883 : Index := Scalar.indexCast arg29
  let c256_i32_598 : BitVec 32 := 256#32
  let v881 : BitVec 32 := Scalar.muli arg30 c256_i32_598
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_596 : BitVec 32 := 16#32
  let v879 : BitVec 32 := Scalar.muli v865 c16_i32_596
  let c1_i32_597 : BitVec 32 := 1#32
  let v880 : BitVec 32 := Scalar.addi v879 c1_i32_597
  let v882 : BitVec 32 := Scalar.addi v881 v880
  let v884 : Index := Scalar.indexCast v882
  ![v883.toNat, v884.toNat]
def k0_off521 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off522 (v616 : BitVec 32) (k0_t13 : Fin (k0_t13_loop v616).trips) (arg30 : BitVec 32) (v849 : BitVec 32) (k0_t14 : Fin (k0_t14_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_596 : BitVec 32 := 16#32
  let v879 : BitVec 32 := Scalar.muli v865 c16_i32_596
  let c1_i32_597 : BitVec 32 := 1#32
  let v880 : BitVec 32 := Scalar.addi v879 c1_i32_597
  let c0_i32_600 : BitVec 32 := 0#32
  ![v847.toNat, v880.toNat, 0]
def k0_off523 (v885 : BitVec 32) : Fin 2 → Nat :=
  let c2_i32_599 : BitVec 32 := 2#32
  let v886 : BitVec 32 := Scalar.shrui v885 c2_i32_599
  let c0_i32_601 : BitVec 32 := 0#32
  ![v886.toNat, 0]

def k0_chk190 (arg29 : BitVec 32) (v885 : BitVec 32) : Prop :=
  (∀ (k0_h3 : k0_cond3 arg29 = 1#1), ∀ a, (k0_off523 v885) a + S1x256.size a ≤ S250000x256.size a)
theorem k0_off523_inb : ∀ (arg29 : BitVec 32) (v885 : BitVec 32) (k0_hw190 : k0_chk190 arg29 v885), ∀ (k0_h3 : k0_cond3 arg29 = 1#1), ∀ a, (k0_off523 v885) a + S1x256.size a ≤ S250000x256.size a := fun arg29 v885 k0_hw190 k0_h3 => k0_hw190 k0_h3

def k0_off524 (arg29 : BitVec 32) (arg30 : BitVec 32) (v849 : BitVec 32) (k0_t14 : Fin (k0_t14_loop arg30 v849).trips) : Fin 2 → Nat :=
  let v896 : Index := Scalar.indexCast arg29
  let c256_i32_604 : BitVec 32 := 256#32
  let v894 : BitVec 32 := Scalar.muli arg30 c256_i32_604
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_602 : BitVec 32 := 16#32
  let v892 : BitVec 32 := Scalar.muli v865 c16_i32_602
  let c2_i32_603 : BitVec 32 := 2#32
  let v893 : BitVec 32 := Scalar.addi v892 c2_i32_603
  let v895 : BitVec 32 := Scalar.addi v894 v893
  let v897 : Index := Scalar.indexCast v895
  ![v896.toNat, v897.toNat]
def k0_off525 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off526 (v616 : BitVec 32) (k0_t13 : Fin (k0_t13_loop v616).trips) (arg30 : BitVec 32) (v849 : BitVec 32) (k0_t14 : Fin (k0_t14_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_602 : BitVec 32 := 16#32
  let v892 : BitVec 32 := Scalar.muli v865 c16_i32_602
  let c2_i32_603 : BitVec 32 := 2#32
  let v893 : BitVec 32 := Scalar.addi v892 c2_i32_603
  let c0_i32_606 : BitVec 32 := 0#32
  ![v847.toNat, v893.toNat, 0]
def k0_off527 (v898 : BitVec 32) : Fin 2 → Nat :=
  let c2_i32_605 : BitVec 32 := 2#32
  let v899 : BitVec 32 := Scalar.shrui v898 c2_i32_605
  let c0_i32_607 : BitVec 32 := 0#32
  ![v899.toNat, 0]

def k0_chk191 (arg29 : BitVec 32) (v898 : BitVec 32) : Prop :=
  (∀ (k0_h3 : k0_cond3 arg29 = 1#1), ∀ a, (k0_off527 v898) a + S1x256.size a ≤ S250000x256.size a)
theorem k0_off527_inb : ∀ (arg29 : BitVec 32) (v898 : BitVec 32) (k0_hw191 : k0_chk191 arg29 v898), ∀ (k0_h3 : k0_cond3 arg29 = 1#1), ∀ a, (k0_off527 v898) a + S1x256.size a ≤ S250000x256.size a := fun arg29 v898 k0_hw191 k0_h3 => k0_hw191 k0_h3

def k0_off528 (arg29 : BitVec 32) (arg30 : BitVec 32) (v849 : BitVec 32) (k0_t14 : Fin (k0_t14_loop arg30 v849).trips) : Fin 2 → Nat :=
  let v909 : Index := Scalar.indexCast arg29
  let c256_i32_610 : BitVec 32 := 256#32
  let v907 : BitVec 32 := Scalar.muli arg30 c256_i32_610
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_608 : BitVec 32 := 16#32
  let v905 : BitVec 32 := Scalar.muli v865 c16_i32_608
  let c3_i32_609 : BitVec 32 := 3#32
  let v906 : BitVec 32 := Scalar.addi v905 c3_i32_609
  let v908 : BitVec 32 := Scalar.addi v907 v906
  let v910 : Index := Scalar.indexCast v908
  ![v909.toNat, v910.toNat]
def k0_off529 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off530 (v616 : BitVec 32) (k0_t13 : Fin (k0_t13_loop v616).trips) (arg30 : BitVec 32) (v849 : BitVec 32) (k0_t14 : Fin (k0_t14_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_608 : BitVec 32 := 16#32
  let v905 : BitVec 32 := Scalar.muli v865 c16_i32_608
  let c3_i32_609 : BitVec 32 := 3#32
  let v906 : BitVec 32 := Scalar.addi v905 c3_i32_609
  let c0_i32_612 : BitVec 32 := 0#32
  ![v847.toNat, v906.toNat, 0]
def k0_off531 (v911 : BitVec 32) : Fin 2 → Nat :=
  let c2_i32_611 : BitVec 32 := 2#32
  let v912 : BitVec 32 := Scalar.shrui v911 c2_i32_611
  let c0_i32_613 : BitVec 32 := 0#32
  ![v912.toNat, 0]

def k0_chk192 (arg29 : BitVec 32) (v911 : BitVec 32) : Prop :=
  (∀ (k0_h3 : k0_cond3 arg29 = 1#1), ∀ a, (k0_off531 v911) a + S1x256.size a ≤ S250000x256.size a)
theorem k0_off531_inb : ∀ (arg29 : BitVec 32) (v911 : BitVec 32) (k0_hw192 : k0_chk192 arg29 v911), ∀ (k0_h3 : k0_cond3 arg29 = 1#1), ∀ a, (k0_off531 v911) a + S1x256.size a ≤ S250000x256.size a := fun arg29 v911 k0_hw192 k0_h3 => k0_hw192 k0_h3

def k0_off532 (arg29 : BitVec 32) (arg30 : BitVec 32) (v849 : BitVec 32) (k0_t14 : Fin (k0_t14_loop arg30 v849).trips) : Fin 2 → Nat :=
  let v922 : Index := Scalar.indexCast arg29
  let c256_i32_616 : BitVec 32 := 256#32
  let v920 : BitVec 32 := Scalar.muli arg30 c256_i32_616
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_614 : BitVec 32 := 16#32
  let v918 : BitVec 32 := Scalar.muli v865 c16_i32_614
  let c4_i32_615 : BitVec 32 := 4#32
  let v919 : BitVec 32 := Scalar.addi v918 c4_i32_615
  let v921 : BitVec 32 := Scalar.addi v920 v919
  let v923 : Index := Scalar.indexCast v921
  ![v922.toNat, v923.toNat]
def k0_off533 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off534 (v616 : BitVec 32) (k0_t13 : Fin (k0_t13_loop v616).trips) (arg30 : BitVec 32) (v849 : BitVec 32) (k0_t14 : Fin (k0_t14_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_614 : BitVec 32 := 16#32
  let v918 : BitVec 32 := Scalar.muli v865 c16_i32_614
  let c4_i32_615 : BitVec 32 := 4#32
  let v919 : BitVec 32 := Scalar.addi v918 c4_i32_615
  let c0_i32_618 : BitVec 32 := 0#32
  ![v847.toNat, v919.toNat, 0]
def k0_off535 (v924 : BitVec 32) : Fin 2 → Nat :=
  let c2_i32_617 : BitVec 32 := 2#32
  let v925 : BitVec 32 := Scalar.shrui v924 c2_i32_617
  let c0_i32_619 : BitVec 32 := 0#32
  ![v925.toNat, 0]

def k0_chk193 (arg29 : BitVec 32) (v924 : BitVec 32) : Prop :=
  (∀ (k0_h3 : k0_cond3 arg29 = 1#1), ∀ a, (k0_off535 v924) a + S1x256.size a ≤ S250000x256.size a)
theorem k0_off535_inb : ∀ (arg29 : BitVec 32) (v924 : BitVec 32) (k0_hw193 : k0_chk193 arg29 v924), ∀ (k0_h3 : k0_cond3 arg29 = 1#1), ∀ a, (k0_off535 v924) a + S1x256.size a ≤ S250000x256.size a := fun arg29 v924 k0_hw193 k0_h3 => k0_hw193 k0_h3

def k0_off536 (arg29 : BitVec 32) (arg30 : BitVec 32) (v849 : BitVec 32) (k0_t14 : Fin (k0_t14_loop arg30 v849).trips) : Fin 2 → Nat :=
  let v935 : Index := Scalar.indexCast arg29
  let c256_i32_622 : BitVec 32 := 256#32
  let v933 : BitVec 32 := Scalar.muli arg30 c256_i32_622
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_620 : BitVec 32 := 16#32
  let v931 : BitVec 32 := Scalar.muli v865 c16_i32_620
  let c5_i32_621 : BitVec 32 := 5#32
  let v932 : BitVec 32 := Scalar.addi v931 c5_i32_621
  let v934 : BitVec 32 := Scalar.addi v933 v932
  let v936 : Index := Scalar.indexCast v934
  ![v935.toNat, v936.toNat]
def k0_off537 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off538 (v616 : BitVec 32) (k0_t13 : Fin (k0_t13_loop v616).trips) (arg30 : BitVec 32) (v849 : BitVec 32) (k0_t14 : Fin (k0_t14_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_620 : BitVec 32 := 16#32
  let v931 : BitVec 32 := Scalar.muli v865 c16_i32_620
  let c5_i32_621 : BitVec 32 := 5#32
  let v932 : BitVec 32 := Scalar.addi v931 c5_i32_621
  let c0_i32_624 : BitVec 32 := 0#32
  ![v847.toNat, v932.toNat, 0]
def k0_off539 (v937 : BitVec 32) : Fin 2 → Nat :=
  let c2_i32_623 : BitVec 32 := 2#32
  let v938 : BitVec 32 := Scalar.shrui v937 c2_i32_623
  let c0_i32_625 : BitVec 32 := 0#32
  ![v938.toNat, 0]

def k0_chk194 (arg29 : BitVec 32) (v937 : BitVec 32) : Prop :=
  (∀ (k0_h3 : k0_cond3 arg29 = 1#1), ∀ a, (k0_off539 v937) a + S1x256.size a ≤ S250000x256.size a)
theorem k0_off539_inb : ∀ (arg29 : BitVec 32) (v937 : BitVec 32) (k0_hw194 : k0_chk194 arg29 v937), ∀ (k0_h3 : k0_cond3 arg29 = 1#1), ∀ a, (k0_off539 v937) a + S1x256.size a ≤ S250000x256.size a := fun arg29 v937 k0_hw194 k0_h3 => k0_hw194 k0_h3

def k0_off540 (arg29 : BitVec 32) (arg30 : BitVec 32) (v849 : BitVec 32) (k0_t14 : Fin (k0_t14_loop arg30 v849).trips) : Fin 2 → Nat :=
  let v948 : Index := Scalar.indexCast arg29
  let c256_i32_628 : BitVec 32 := 256#32
  let v946 : BitVec 32 := Scalar.muli arg30 c256_i32_628
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_626 : BitVec 32 := 16#32
  let v944 : BitVec 32 := Scalar.muli v865 c16_i32_626
  let c6_i32_627 : BitVec 32 := 6#32
  let v945 : BitVec 32 := Scalar.addi v944 c6_i32_627
  let v947 : BitVec 32 := Scalar.addi v946 v945
  let v949 : Index := Scalar.indexCast v947
  ![v948.toNat, v949.toNat]
def k0_off541 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off542 (v616 : BitVec 32) (k0_t13 : Fin (k0_t13_loop v616).trips) (arg30 : BitVec 32) (v849 : BitVec 32) (k0_t14 : Fin (k0_t14_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_626 : BitVec 32 := 16#32
  let v944 : BitVec 32 := Scalar.muli v865 c16_i32_626
  let c6_i32_627 : BitVec 32 := 6#32
  let v945 : BitVec 32 := Scalar.addi v944 c6_i32_627
  let c0_i32_630 : BitVec 32 := 0#32
  ![v847.toNat, v945.toNat, 0]
def k0_off543 (v950 : BitVec 32) : Fin 2 → Nat :=
  let c2_i32_629 : BitVec 32 := 2#32
  let v951 : BitVec 32 := Scalar.shrui v950 c2_i32_629
  let c0_i32_631 : BitVec 32 := 0#32
  ![v951.toNat, 0]

def k0_chk195 (arg29 : BitVec 32) (v950 : BitVec 32) : Prop :=
  (∀ (k0_h3 : k0_cond3 arg29 = 1#1), ∀ a, (k0_off543 v950) a + S1x256.size a ≤ S250000x256.size a)
theorem k0_off543_inb : ∀ (arg29 : BitVec 32) (v950 : BitVec 32) (k0_hw195 : k0_chk195 arg29 v950), ∀ (k0_h3 : k0_cond3 arg29 = 1#1), ∀ a, (k0_off543 v950) a + S1x256.size a ≤ S250000x256.size a := fun arg29 v950 k0_hw195 k0_h3 => k0_hw195 k0_h3

def k0_off544 (arg29 : BitVec 32) (arg30 : BitVec 32) (v849 : BitVec 32) (k0_t14 : Fin (k0_t14_loop arg30 v849).trips) : Fin 2 → Nat :=
  let v961 : Index := Scalar.indexCast arg29
  let c256_i32_634 : BitVec 32 := 256#32
  let v959 : BitVec 32 := Scalar.muli arg30 c256_i32_634
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_632 : BitVec 32 := 16#32
  let v957 : BitVec 32 := Scalar.muli v865 c16_i32_632
  let c7_i32_633 : BitVec 32 := 7#32
  let v958 : BitVec 32 := Scalar.addi v957 c7_i32_633
  let v960 : BitVec 32 := Scalar.addi v959 v958
  let v962 : Index := Scalar.indexCast v960
  ![v961.toNat, v962.toNat]
def k0_off545 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off546 (v616 : BitVec 32) (k0_t13 : Fin (k0_t13_loop v616).trips) (arg30 : BitVec 32) (v849 : BitVec 32) (k0_t14 : Fin (k0_t14_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_632 : BitVec 32 := 16#32
  let v957 : BitVec 32 := Scalar.muli v865 c16_i32_632
  let c7_i32_633 : BitVec 32 := 7#32
  let v958 : BitVec 32 := Scalar.addi v957 c7_i32_633
  let c0_i32_636 : BitVec 32 := 0#32
  ![v847.toNat, v958.toNat, 0]
def k0_off547 (v963 : BitVec 32) : Fin 2 → Nat :=
  let c2_i32_635 : BitVec 32 := 2#32
  let v964 : BitVec 32 := Scalar.shrui v963 c2_i32_635
  let c0_i32_637 : BitVec 32 := 0#32
  ![v964.toNat, 0]

def k0_chk196 (arg29 : BitVec 32) (v963 : BitVec 32) : Prop :=
  (∀ (k0_h3 : k0_cond3 arg29 = 1#1), ∀ a, (k0_off547 v963) a + S1x256.size a ≤ S250000x256.size a)
theorem k0_off547_inb : ∀ (arg29 : BitVec 32) (v963 : BitVec 32) (k0_hw196 : k0_chk196 arg29 v963), ∀ (k0_h3 : k0_cond3 arg29 = 1#1), ∀ a, (k0_off547 v963) a + S1x256.size a ≤ S250000x256.size a := fun arg29 v963 k0_hw196 k0_h3 => k0_hw196 k0_h3

def k0_off548 (arg29 : BitVec 32) (arg30 : BitVec 32) (v849 : BitVec 32) (k0_t14 : Fin (k0_t14_loop arg30 v849).trips) : Fin 2 → Nat :=
  let v974 : Index := Scalar.indexCast arg29
  let c256_i32_640 : BitVec 32 := 256#32
  let v972 : BitVec 32 := Scalar.muli arg30 c256_i32_640
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_638 : BitVec 32 := 16#32
  let v970 : BitVec 32 := Scalar.muli v865 c16_i32_638
  let c8_i32_639 : BitVec 32 := 8#32
  let v971 : BitVec 32 := Scalar.addi v970 c8_i32_639
  let v973 : BitVec 32 := Scalar.addi v972 v971
  let v975 : Index := Scalar.indexCast v973
  ![v974.toNat, v975.toNat]
def k0_off549 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off550 (v616 : BitVec 32) (k0_t13 : Fin (k0_t13_loop v616).trips) (arg30 : BitVec 32) (v849 : BitVec 32) (k0_t14 : Fin (k0_t14_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_638 : BitVec 32 := 16#32
  let v970 : BitVec 32 := Scalar.muli v865 c16_i32_638
  let c8_i32_639 : BitVec 32 := 8#32
  let v971 : BitVec 32 := Scalar.addi v970 c8_i32_639
  let c0_i32_642 : BitVec 32 := 0#32
  ![v847.toNat, v971.toNat, 0]
def k0_off551 (v976 : BitVec 32) : Fin 2 → Nat :=
  let c2_i32_641 : BitVec 32 := 2#32
  let v977 : BitVec 32 := Scalar.shrui v976 c2_i32_641
  let c0_i32_643 : BitVec 32 := 0#32
  ![v977.toNat, 0]

def k0_chk197 (arg29 : BitVec 32) (v976 : BitVec 32) : Prop :=
  (∀ (k0_h3 : k0_cond3 arg29 = 1#1), ∀ a, (k0_off551 v976) a + S1x256.size a ≤ S250000x256.size a)
theorem k0_off551_inb : ∀ (arg29 : BitVec 32) (v976 : BitVec 32) (k0_hw197 : k0_chk197 arg29 v976), ∀ (k0_h3 : k0_cond3 arg29 = 1#1), ∀ a, (k0_off551 v976) a + S1x256.size a ≤ S250000x256.size a := fun arg29 v976 k0_hw197 k0_h3 => k0_hw197 k0_h3

def k0_off552 (arg29 : BitVec 32) (arg30 : BitVec 32) (v849 : BitVec 32) (k0_t14 : Fin (k0_t14_loop arg30 v849).trips) : Fin 2 → Nat :=
  let v987 : Index := Scalar.indexCast arg29
  let c256_i32_646 : BitVec 32 := 256#32
  let v985 : BitVec 32 := Scalar.muli arg30 c256_i32_646
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_644 : BitVec 32 := 16#32
  let v983 : BitVec 32 := Scalar.muli v865 c16_i32_644
  let c9_i32_645 : BitVec 32 := 9#32
  let v984 : BitVec 32 := Scalar.addi v983 c9_i32_645
  let v986 : BitVec 32 := Scalar.addi v985 v984
  let v988 : Index := Scalar.indexCast v986
  ![v987.toNat, v988.toNat]
def k0_off553 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off554 (v616 : BitVec 32) (k0_t13 : Fin (k0_t13_loop v616).trips) (arg30 : BitVec 32) (v849 : BitVec 32) (k0_t14 : Fin (k0_t14_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_644 : BitVec 32 := 16#32
  let v983 : BitVec 32 := Scalar.muli v865 c16_i32_644
  let c9_i32_645 : BitVec 32 := 9#32
  let v984 : BitVec 32 := Scalar.addi v983 c9_i32_645
  let c0_i32_648 : BitVec 32 := 0#32
  ![v847.toNat, v984.toNat, 0]
def k0_off555 (v989 : BitVec 32) : Fin 2 → Nat :=
  let c2_i32_647 : BitVec 32 := 2#32
  let v990 : BitVec 32 := Scalar.shrui v989 c2_i32_647
  let c0_i32_649 : BitVec 32 := 0#32
  ![v990.toNat, 0]

def k0_chk198 (arg29 : BitVec 32) (v989 : BitVec 32) : Prop :=
  (∀ (k0_h3 : k0_cond3 arg29 = 1#1), ∀ a, (k0_off555 v989) a + S1x256.size a ≤ S250000x256.size a)
theorem k0_off555_inb : ∀ (arg29 : BitVec 32) (v989 : BitVec 32) (k0_hw198 : k0_chk198 arg29 v989), ∀ (k0_h3 : k0_cond3 arg29 = 1#1), ∀ a, (k0_off555 v989) a + S1x256.size a ≤ S250000x256.size a := fun arg29 v989 k0_hw198 k0_h3 => k0_hw198 k0_h3

def k0_off556 (arg29 : BitVec 32) (arg30 : BitVec 32) (v849 : BitVec 32) (k0_t14 : Fin (k0_t14_loop arg30 v849).trips) : Fin 2 → Nat :=
  let v1000 : Index := Scalar.indexCast arg29
  let c256_i32_652 : BitVec 32 := 256#32
  let v998 : BitVec 32 := Scalar.muli arg30 c256_i32_652
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_650 : BitVec 32 := 16#32
  let v996 : BitVec 32 := Scalar.muli v865 c16_i32_650
  let c10_i32_651 : BitVec 32 := 10#32
  let v997 : BitVec 32 := Scalar.addi v996 c10_i32_651
  let v999 : BitVec 32 := Scalar.addi v998 v997
  let v1001 : Index := Scalar.indexCast v999
  ![v1000.toNat, v1001.toNat]
def k0_off557 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off558 (v616 : BitVec 32) (k0_t13 : Fin (k0_t13_loop v616).trips) (arg30 : BitVec 32) (v849 : BitVec 32) (k0_t14 : Fin (k0_t14_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_650 : BitVec 32 := 16#32
  let v996 : BitVec 32 := Scalar.muli v865 c16_i32_650
  let c10_i32_651 : BitVec 32 := 10#32
  let v997 : BitVec 32 := Scalar.addi v996 c10_i32_651
  let c0_i32_654 : BitVec 32 := 0#32
  ![v847.toNat, v997.toNat, 0]
def k0_off559 (v1002 : BitVec 32) : Fin 2 → Nat :=
  let c2_i32_653 : BitVec 32 := 2#32
  let v1003 : BitVec 32 := Scalar.shrui v1002 c2_i32_653
  let c0_i32_655 : BitVec 32 := 0#32
  ![v1003.toNat, 0]

def k0_chk199 (arg29 : BitVec 32) (v1002 : BitVec 32) : Prop :=
  (∀ (k0_h3 : k0_cond3 arg29 = 1#1), ∀ a, (k0_off559 v1002) a + S1x256.size a ≤ S250000x256.size a)
theorem k0_off559_inb : ∀ (arg29 : BitVec 32) (v1002 : BitVec 32) (k0_hw199 : k0_chk199 arg29 v1002), ∀ (k0_h3 : k0_cond3 arg29 = 1#1), ∀ a, (k0_off559 v1002) a + S1x256.size a ≤ S250000x256.size a := fun arg29 v1002 k0_hw199 k0_h3 => k0_hw199 k0_h3

def k0_off560 (arg29 : BitVec 32) (arg30 : BitVec 32) (v849 : BitVec 32) (k0_t14 : Fin (k0_t14_loop arg30 v849).trips) : Fin 2 → Nat :=
  let v1013 : Index := Scalar.indexCast arg29
  let c256_i32_658 : BitVec 32 := 256#32
  let v1011 : BitVec 32 := Scalar.muli arg30 c256_i32_658
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_656 : BitVec 32 := 16#32
  let v1009 : BitVec 32 := Scalar.muli v865 c16_i32_656
  let c11_i32_657 : BitVec 32 := 11#32
  let v1010 : BitVec 32 := Scalar.addi v1009 c11_i32_657
  let v1012 : BitVec 32 := Scalar.addi v1011 v1010
  let v1014 : Index := Scalar.indexCast v1012
  ![v1013.toNat, v1014.toNat]
def k0_off561 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off562 (v616 : BitVec 32) (k0_t13 : Fin (k0_t13_loop v616).trips) (arg30 : BitVec 32) (v849 : BitVec 32) (k0_t14 : Fin (k0_t14_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_656 : BitVec 32 := 16#32
  let v1009 : BitVec 32 := Scalar.muli v865 c16_i32_656
  let c11_i32_657 : BitVec 32 := 11#32
  let v1010 : BitVec 32 := Scalar.addi v1009 c11_i32_657
  let c0_i32_660 : BitVec 32 := 0#32
  ![v847.toNat, v1010.toNat, 0]
def k0_off563 (v1015 : BitVec 32) : Fin 2 → Nat :=
  let c2_i32_659 : BitVec 32 := 2#32
  let v1016 : BitVec 32 := Scalar.shrui v1015 c2_i32_659
  let c0_i32_661 : BitVec 32 := 0#32
  ![v1016.toNat, 0]

def k0_chk200 (arg29 : BitVec 32) (v1015 : BitVec 32) : Prop :=
  (∀ (k0_h3 : k0_cond3 arg29 = 1#1), ∀ a, (k0_off563 v1015) a + S1x256.size a ≤ S250000x256.size a)
theorem k0_off563_inb : ∀ (arg29 : BitVec 32) (v1015 : BitVec 32) (k0_hw200 : k0_chk200 arg29 v1015), ∀ (k0_h3 : k0_cond3 arg29 = 1#1), ∀ a, (k0_off563 v1015) a + S1x256.size a ≤ S250000x256.size a := fun arg29 v1015 k0_hw200 k0_h3 => k0_hw200 k0_h3

def k0_off564 (arg29 : BitVec 32) (arg30 : BitVec 32) (v849 : BitVec 32) (k0_t14 : Fin (k0_t14_loop arg30 v849).trips) : Fin 2 → Nat :=
  let v1026 : Index := Scalar.indexCast arg29
  let c256_i32_664 : BitVec 32 := 256#32
  let v1024 : BitVec 32 := Scalar.muli arg30 c256_i32_664
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_662 : BitVec 32 := 16#32
  let v1022 : BitVec 32 := Scalar.muli v865 c16_i32_662
  let c12_i32_663 : BitVec 32 := 12#32
  let v1023 : BitVec 32 := Scalar.addi v1022 c12_i32_663
  let v1025 : BitVec 32 := Scalar.addi v1024 v1023
  let v1027 : Index := Scalar.indexCast v1025
  ![v1026.toNat, v1027.toNat]
def k0_off565 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off566 (v616 : BitVec 32) (k0_t13 : Fin (k0_t13_loop v616).trips) (arg30 : BitVec 32) (v849 : BitVec 32) (k0_t14 : Fin (k0_t14_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_662 : BitVec 32 := 16#32
  let v1022 : BitVec 32 := Scalar.muli v865 c16_i32_662
  let c12_i32_663 : BitVec 32 := 12#32
  let v1023 : BitVec 32 := Scalar.addi v1022 c12_i32_663
  let c0_i32_666 : BitVec 32 := 0#32
  ![v847.toNat, v1023.toNat, 0]
def k0_off567 (v1028 : BitVec 32) : Fin 2 → Nat :=
  let c2_i32_665 : BitVec 32 := 2#32
  let v1029 : BitVec 32 := Scalar.shrui v1028 c2_i32_665
  let c0_i32_667 : BitVec 32 := 0#32
  ![v1029.toNat, 0]

def k0_chk201 (arg29 : BitVec 32) (v1028 : BitVec 32) : Prop :=
  (∀ (k0_h3 : k0_cond3 arg29 = 1#1), ∀ a, (k0_off567 v1028) a + S1x256.size a ≤ S250000x256.size a)
theorem k0_off567_inb : ∀ (arg29 : BitVec 32) (v1028 : BitVec 32) (k0_hw201 : k0_chk201 arg29 v1028), ∀ (k0_h3 : k0_cond3 arg29 = 1#1), ∀ a, (k0_off567 v1028) a + S1x256.size a ≤ S250000x256.size a := fun arg29 v1028 k0_hw201 k0_h3 => k0_hw201 k0_h3

def k0_off568 (arg29 : BitVec 32) (arg30 : BitVec 32) (v849 : BitVec 32) (k0_t14 : Fin (k0_t14_loop arg30 v849).trips) : Fin 2 → Nat :=
  let v1039 : Index := Scalar.indexCast arg29
  let c256_i32_670 : BitVec 32 := 256#32
  let v1037 : BitVec 32 := Scalar.muli arg30 c256_i32_670
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_668 : BitVec 32 := 16#32
  let v1035 : BitVec 32 := Scalar.muli v865 c16_i32_668
  let c13_i32_669 : BitVec 32 := 13#32
  let v1036 : BitVec 32 := Scalar.addi v1035 c13_i32_669
  let v1038 : BitVec 32 := Scalar.addi v1037 v1036
  let v1040 : Index := Scalar.indexCast v1038
  ![v1039.toNat, v1040.toNat]
def k0_off569 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off570 (v616 : BitVec 32) (k0_t13 : Fin (k0_t13_loop v616).trips) (arg30 : BitVec 32) (v849 : BitVec 32) (k0_t14 : Fin (k0_t14_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_668 : BitVec 32 := 16#32
  let v1035 : BitVec 32 := Scalar.muli v865 c16_i32_668
  let c13_i32_669 : BitVec 32 := 13#32
  let v1036 : BitVec 32 := Scalar.addi v1035 c13_i32_669
  let c0_i32_672 : BitVec 32 := 0#32
  ![v847.toNat, v1036.toNat, 0]
def k0_off571 (v1041 : BitVec 32) : Fin 2 → Nat :=
  let c2_i32_671 : BitVec 32 := 2#32
  let v1042 : BitVec 32 := Scalar.shrui v1041 c2_i32_671
  let c0_i32_673 : BitVec 32 := 0#32
  ![v1042.toNat, 0]

def k0_chk202 (arg29 : BitVec 32) (v1041 : BitVec 32) : Prop :=
  (∀ (k0_h3 : k0_cond3 arg29 = 1#1), ∀ a, (k0_off571 v1041) a + S1x256.size a ≤ S250000x256.size a)
theorem k0_off571_inb : ∀ (arg29 : BitVec 32) (v1041 : BitVec 32) (k0_hw202 : k0_chk202 arg29 v1041), ∀ (k0_h3 : k0_cond3 arg29 = 1#1), ∀ a, (k0_off571 v1041) a + S1x256.size a ≤ S250000x256.size a := fun arg29 v1041 k0_hw202 k0_h3 => k0_hw202 k0_h3

def k0_off572 (arg29 : BitVec 32) (arg30 : BitVec 32) (v849 : BitVec 32) (k0_t14 : Fin (k0_t14_loop arg30 v849).trips) : Fin 2 → Nat :=
  let v1052 : Index := Scalar.indexCast arg29
  let c256_i32_676 : BitVec 32 := 256#32
  let v1050 : BitVec 32 := Scalar.muli arg30 c256_i32_676
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_674 : BitVec 32 := 16#32
  let v1048 : BitVec 32 := Scalar.muli v865 c16_i32_674
  let c14_i32_675 : BitVec 32 := 14#32
  let v1049 : BitVec 32 := Scalar.addi v1048 c14_i32_675
  let v1051 : BitVec 32 := Scalar.addi v1050 v1049
  let v1053 : Index := Scalar.indexCast v1051
  ![v1052.toNat, v1053.toNat]
def k0_off573 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off574 (v616 : BitVec 32) (k0_t13 : Fin (k0_t13_loop v616).trips) (arg30 : BitVec 32) (v849 : BitVec 32) (k0_t14 : Fin (k0_t14_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_674 : BitVec 32 := 16#32
  let v1048 : BitVec 32 := Scalar.muli v865 c16_i32_674
  let c14_i32_675 : BitVec 32 := 14#32
  let v1049 : BitVec 32 := Scalar.addi v1048 c14_i32_675
  let c0_i32_678 : BitVec 32 := 0#32
  ![v847.toNat, v1049.toNat, 0]
def k0_off575 (v1054 : BitVec 32) : Fin 2 → Nat :=
  let c2_i32_677 : BitVec 32 := 2#32
  let v1055 : BitVec 32 := Scalar.shrui v1054 c2_i32_677
  let c0_i32_679 : BitVec 32 := 0#32
  ![v1055.toNat, 0]

def k0_chk203 (arg29 : BitVec 32) (v1054 : BitVec 32) : Prop :=
  (∀ (k0_h3 : k0_cond3 arg29 = 1#1), ∀ a, (k0_off575 v1054) a + S1x256.size a ≤ S250000x256.size a)
theorem k0_off575_inb : ∀ (arg29 : BitVec 32) (v1054 : BitVec 32) (k0_hw203 : k0_chk203 arg29 v1054), ∀ (k0_h3 : k0_cond3 arg29 = 1#1), ∀ a, (k0_off575 v1054) a + S1x256.size a ≤ S250000x256.size a := fun arg29 v1054 k0_hw203 k0_h3 => k0_hw203 k0_h3

def k0_off576 (arg29 : BitVec 32) (arg30 : BitVec 32) (v849 : BitVec 32) (k0_t14 : Fin (k0_t14_loop arg30 v849).trips) : Fin 2 → Nat :=
  let v1065 : Index := Scalar.indexCast arg29
  let c256_i32_682 : BitVec 32 := 256#32
  let v1063 : BitVec 32 := Scalar.muli arg30 c256_i32_682
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_680 : BitVec 32 := 16#32
  let v1061 : BitVec 32 := Scalar.muli v865 c16_i32_680
  let c15_i32_681 : BitVec 32 := 15#32
  let v1062 : BitVec 32 := Scalar.addi v1061 c15_i32_681
  let v1064 : BitVec 32 := Scalar.addi v1063 v1062
  let v1066 : Index := Scalar.indexCast v1064
  ![v1065.toNat, v1066.toNat]
def k0_off577 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off578 (v616 : BitVec 32) (k0_t13 : Fin (k0_t13_loop v616).trips) (arg30 : BitVec 32) (v849 : BitVec 32) (k0_t14 : Fin (k0_t14_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c1_i32_588 : BitVec 32 := 1#32
  let arg31 : BitVec 32 := Scf.iv c0_i32_586 c1_i32_588 k0_t14
  let c1_i32_584 : BitVec 32 := 1#32
  let v864 : BitVec 32 := Scalar.muli arg31 c1_i32_584
  let v865 : BitVec 32 := Scalar.addi c0_i32_585 v864
  let c16_i32_680 : BitVec 32 := 16#32
  let v1061 : BitVec 32 := Scalar.muli v865 c16_i32_680
  let c15_i32_681 : BitVec 32 := 15#32
  let v1062 : BitVec 32 := Scalar.addi v1061 c15_i32_681
  let c0_i32_684 : BitVec 32 := 0#32
  ![v847.toNat, v1062.toNat, 0]
def k0_off579 (v1067 : BitVec 32) : Fin 2 → Nat :=
  let c2_i32_683 : BitVec 32 := 2#32
  let v1068 : BitVec 32 := Scalar.shrui v1067 c2_i32_683
  let c0_i32_685 : BitVec 32 := 0#32
  ![v1068.toNat, 0]

def k0_chk204 (arg29 : BitVec 32) (v1067 : BitVec 32) : Prop :=
  (∀ (k0_h3 : k0_cond3 arg29 = 1#1), ∀ a, (k0_off579 v1067) a + S1x256.size a ≤ S250000x256.size a)
theorem k0_off579_inb : ∀ (arg29 : BitVec 32) (v1067 : BitVec 32) (k0_hw204 : k0_chk204 arg29 v1067), ∀ (k0_h3 : k0_cond3 arg29 = 1#1), ∀ a, (k0_off579 v1067) a + S1x256.size a ≤ S250000x256.size a := fun arg29 v1067 k0_hw204 k0_h3 => k0_hw204 k0_h3

@[reducible] def k0_t15_loop (arg30 : BitVec 32) (v849 : BitVec 32) : Scf.Loop 32 :=
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let v860 : BitVec 32 := Scalar.addi c0_i32_586 v859
  let c1_i32_589 : BitVec 32 := 1#32
  ⟨v863, v860, c1_i32_589⟩
def k0_off580 (arg29 : BitVec 32) (arg30 : BitVec 32) (v849 : BitVec 32) (k0_t15 : Fin (k0_t15_loop arg30 v849).trips) : Fin 2 → Nat :=
  let v870 : Index := Scalar.indexCast arg29
  let c256_i32_592 : BitVec 32 := 256#32
  let v868 : BitVec 32 := Scalar.muli arg30 c256_i32_592
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_590 : BitVec 32 := 16#32
  let v866 : BitVec 32 := Scalar.muli v865 c16_i32_590
  let c0_i32_591 : BitVec 32 := 0#32
  let v867 : BitVec 32 := Scalar.addi v866 c0_i32_591
  let v869 : BitVec 32 := Scalar.addi v868 v867
  let v871 : Index := Scalar.indexCast v869
  ![v870.toNat, v871.toNat]
def k0_off581 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off582 (v616 : BitVec 32) (k0_t13 : Fin (k0_t13_loop v616).trips) (arg30 : BitVec 32) (v849 : BitVec 32) (k0_t15 : Fin (k0_t15_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_590 : BitVec 32 := 16#32
  let v866 : BitVec 32 := Scalar.muli v865 c16_i32_590
  let c0_i32_591 : BitVec 32 := 0#32
  let v867 : BitVec 32 := Scalar.addi v866 c0_i32_591
  let c0_i32_594 : BitVec 32 := 0#32
  ![v847.toNat, v867.toNat, 0]
def k0_off583 (v872 : BitVec 32) : Fin 2 → Nat :=
  let c2_i32_593 : BitVec 32 := 2#32
  let v873 : BitVec 32 := Scalar.shrui v872 c2_i32_593
  let c0_i32_595 : BitVec 32 := 0#32
  ![v873.toNat, 0]

def k0_chk205 (arg29 : BitVec 32) (v872 : BitVec 32) : Prop :=
  (∀ (k0_h3 : k0_cond3 arg29 = 1#1), ∀ a, (k0_off583 v872) a + S1x256.size a ≤ S250000x256.size a)
theorem k0_off583_inb : ∀ (arg29 : BitVec 32) (v872 : BitVec 32) (k0_hw205 : k0_chk205 arg29 v872), ∀ (k0_h3 : k0_cond3 arg29 = 1#1), ∀ a, (k0_off583 v872) a + S1x256.size a ≤ S250000x256.size a := fun arg29 v872 k0_hw205 k0_h3 => k0_hw205 k0_h3

def k0_off584 (arg29 : BitVec 32) (arg30 : BitVec 32) (v849 : BitVec 32) (k0_t15 : Fin (k0_t15_loop arg30 v849).trips) : Fin 2 → Nat :=
  let v883 : Index := Scalar.indexCast arg29
  let c256_i32_598 : BitVec 32 := 256#32
  let v881 : BitVec 32 := Scalar.muli arg30 c256_i32_598
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_596 : BitVec 32 := 16#32
  let v879 : BitVec 32 := Scalar.muli v865 c16_i32_596
  let c1_i32_597 : BitVec 32 := 1#32
  let v880 : BitVec 32 := Scalar.addi v879 c1_i32_597
  let v882 : BitVec 32 := Scalar.addi v881 v880
  let v884 : Index := Scalar.indexCast v882
  ![v883.toNat, v884.toNat]
def k0_off585 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off586 (v616 : BitVec 32) (k0_t13 : Fin (k0_t13_loop v616).trips) (arg30 : BitVec 32) (v849 : BitVec 32) (k0_t15 : Fin (k0_t15_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_596 : BitVec 32 := 16#32
  let v879 : BitVec 32 := Scalar.muli v865 c16_i32_596
  let c1_i32_597 : BitVec 32 := 1#32
  let v880 : BitVec 32 := Scalar.addi v879 c1_i32_597
  let c0_i32_600 : BitVec 32 := 0#32
  ![v847.toNat, v880.toNat, 0]
def k0_off587 (v885 : BitVec 32) : Fin 2 → Nat :=
  let c2_i32_599 : BitVec 32 := 2#32
  let v886 : BitVec 32 := Scalar.shrui v885 c2_i32_599
  let c0_i32_601 : BitVec 32 := 0#32
  ![v886.toNat, 0]

def k0_chk206 (arg29 : BitVec 32) (v885 : BitVec 32) : Prop :=
  (∀ (k0_h3 : k0_cond3 arg29 = 1#1), ∀ a, (k0_off587 v885) a + S1x256.size a ≤ S250000x256.size a)
theorem k0_off587_inb : ∀ (arg29 : BitVec 32) (v885 : BitVec 32) (k0_hw206 : k0_chk206 arg29 v885), ∀ (k0_h3 : k0_cond3 arg29 = 1#1), ∀ a, (k0_off587 v885) a + S1x256.size a ≤ S250000x256.size a := fun arg29 v885 k0_hw206 k0_h3 => k0_hw206 k0_h3

def k0_off588 (arg29 : BitVec 32) (arg30 : BitVec 32) (v849 : BitVec 32) (k0_t15 : Fin (k0_t15_loop arg30 v849).trips) : Fin 2 → Nat :=
  let v896 : Index := Scalar.indexCast arg29
  let c256_i32_604 : BitVec 32 := 256#32
  let v894 : BitVec 32 := Scalar.muli arg30 c256_i32_604
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_602 : BitVec 32 := 16#32
  let v892 : BitVec 32 := Scalar.muli v865 c16_i32_602
  let c2_i32_603 : BitVec 32 := 2#32
  let v893 : BitVec 32 := Scalar.addi v892 c2_i32_603
  let v895 : BitVec 32 := Scalar.addi v894 v893
  let v897 : Index := Scalar.indexCast v895
  ![v896.toNat, v897.toNat]
def k0_off589 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off590 (v616 : BitVec 32) (k0_t13 : Fin (k0_t13_loop v616).trips) (arg30 : BitVec 32) (v849 : BitVec 32) (k0_t15 : Fin (k0_t15_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_602 : BitVec 32 := 16#32
  let v892 : BitVec 32 := Scalar.muli v865 c16_i32_602
  let c2_i32_603 : BitVec 32 := 2#32
  let v893 : BitVec 32 := Scalar.addi v892 c2_i32_603
  let c0_i32_606 : BitVec 32 := 0#32
  ![v847.toNat, v893.toNat, 0]
def k0_off591 (v898 : BitVec 32) : Fin 2 → Nat :=
  let c2_i32_605 : BitVec 32 := 2#32
  let v899 : BitVec 32 := Scalar.shrui v898 c2_i32_605
  let c0_i32_607 : BitVec 32 := 0#32
  ![v899.toNat, 0]

def k0_chk207 (arg29 : BitVec 32) (v898 : BitVec 32) : Prop :=
  (∀ (k0_h3 : k0_cond3 arg29 = 1#1), ∀ a, (k0_off591 v898) a + S1x256.size a ≤ S250000x256.size a)
theorem k0_off591_inb : ∀ (arg29 : BitVec 32) (v898 : BitVec 32) (k0_hw207 : k0_chk207 arg29 v898), ∀ (k0_h3 : k0_cond3 arg29 = 1#1), ∀ a, (k0_off591 v898) a + S1x256.size a ≤ S250000x256.size a := fun arg29 v898 k0_hw207 k0_h3 => k0_hw207 k0_h3

def k0_off592 (arg29 : BitVec 32) (arg30 : BitVec 32) (v849 : BitVec 32) (k0_t15 : Fin (k0_t15_loop arg30 v849).trips) : Fin 2 → Nat :=
  let v909 : Index := Scalar.indexCast arg29
  let c256_i32_610 : BitVec 32 := 256#32
  let v907 : BitVec 32 := Scalar.muli arg30 c256_i32_610
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_608 : BitVec 32 := 16#32
  let v905 : BitVec 32 := Scalar.muli v865 c16_i32_608
  let c3_i32_609 : BitVec 32 := 3#32
  let v906 : BitVec 32 := Scalar.addi v905 c3_i32_609
  let v908 : BitVec 32 := Scalar.addi v907 v906
  let v910 : Index := Scalar.indexCast v908
  ![v909.toNat, v910.toNat]
def k0_off593 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off594 (v616 : BitVec 32) (k0_t13 : Fin (k0_t13_loop v616).trips) (arg30 : BitVec 32) (v849 : BitVec 32) (k0_t15 : Fin (k0_t15_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_608 : BitVec 32 := 16#32
  let v905 : BitVec 32 := Scalar.muli v865 c16_i32_608
  let c3_i32_609 : BitVec 32 := 3#32
  let v906 : BitVec 32 := Scalar.addi v905 c3_i32_609
  let c0_i32_612 : BitVec 32 := 0#32
  ![v847.toNat, v906.toNat, 0]
def k0_off595 (v911 : BitVec 32) : Fin 2 → Nat :=
  let c2_i32_611 : BitVec 32 := 2#32
  let v912 : BitVec 32 := Scalar.shrui v911 c2_i32_611
  let c0_i32_613 : BitVec 32 := 0#32
  ![v912.toNat, 0]

def k0_chk208 (arg29 : BitVec 32) (v911 : BitVec 32) : Prop :=
  (∀ (k0_h3 : k0_cond3 arg29 = 1#1), ∀ a, (k0_off595 v911) a + S1x256.size a ≤ S250000x256.size a)
theorem k0_off595_inb : ∀ (arg29 : BitVec 32) (v911 : BitVec 32) (k0_hw208 : k0_chk208 arg29 v911), ∀ (k0_h3 : k0_cond3 arg29 = 1#1), ∀ a, (k0_off595 v911) a + S1x256.size a ≤ S250000x256.size a := fun arg29 v911 k0_hw208 k0_h3 => k0_hw208 k0_h3

def k0_off596 (arg29 : BitVec 32) (arg30 : BitVec 32) (v849 : BitVec 32) (k0_t15 : Fin (k0_t15_loop arg30 v849).trips) : Fin 2 → Nat :=
  let v922 : Index := Scalar.indexCast arg29
  let c256_i32_616 : BitVec 32 := 256#32
  let v920 : BitVec 32 := Scalar.muli arg30 c256_i32_616
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_614 : BitVec 32 := 16#32
  let v918 : BitVec 32 := Scalar.muli v865 c16_i32_614
  let c4_i32_615 : BitVec 32 := 4#32
  let v919 : BitVec 32 := Scalar.addi v918 c4_i32_615
  let v921 : BitVec 32 := Scalar.addi v920 v919
  let v923 : Index := Scalar.indexCast v921
  ![v922.toNat, v923.toNat]
def k0_off597 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off598 (v616 : BitVec 32) (k0_t13 : Fin (k0_t13_loop v616).trips) (arg30 : BitVec 32) (v849 : BitVec 32) (k0_t15 : Fin (k0_t15_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_614 : BitVec 32 := 16#32
  let v918 : BitVec 32 := Scalar.muli v865 c16_i32_614
  let c4_i32_615 : BitVec 32 := 4#32
  let v919 : BitVec 32 := Scalar.addi v918 c4_i32_615
  let c0_i32_618 : BitVec 32 := 0#32
  ![v847.toNat, v919.toNat, 0]
def k0_off599 (v924 : BitVec 32) : Fin 2 → Nat :=
  let c2_i32_617 : BitVec 32 := 2#32
  let v925 : BitVec 32 := Scalar.shrui v924 c2_i32_617
  let c0_i32_619 : BitVec 32 := 0#32
  ![v925.toNat, 0]

def k0_chk209 (arg29 : BitVec 32) (v924 : BitVec 32) : Prop :=
  (∀ (k0_h3 : k0_cond3 arg29 = 1#1), ∀ a, (k0_off599 v924) a + S1x256.size a ≤ S250000x256.size a)
theorem k0_off599_inb : ∀ (arg29 : BitVec 32) (v924 : BitVec 32) (k0_hw209 : k0_chk209 arg29 v924), ∀ (k0_h3 : k0_cond3 arg29 = 1#1), ∀ a, (k0_off599 v924) a + S1x256.size a ≤ S250000x256.size a := fun arg29 v924 k0_hw209 k0_h3 => k0_hw209 k0_h3

def k0_off600 (arg29 : BitVec 32) (arg30 : BitVec 32) (v849 : BitVec 32) (k0_t15 : Fin (k0_t15_loop arg30 v849).trips) : Fin 2 → Nat :=
  let v935 : Index := Scalar.indexCast arg29
  let c256_i32_622 : BitVec 32 := 256#32
  let v933 : BitVec 32 := Scalar.muli arg30 c256_i32_622
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_620 : BitVec 32 := 16#32
  let v931 : BitVec 32 := Scalar.muli v865 c16_i32_620
  let c5_i32_621 : BitVec 32 := 5#32
  let v932 : BitVec 32 := Scalar.addi v931 c5_i32_621
  let v934 : BitVec 32 := Scalar.addi v933 v932
  let v936 : Index := Scalar.indexCast v934
  ![v935.toNat, v936.toNat]
def k0_off601 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off602 (v616 : BitVec 32) (k0_t13 : Fin (k0_t13_loop v616).trips) (arg30 : BitVec 32) (v849 : BitVec 32) (k0_t15 : Fin (k0_t15_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_620 : BitVec 32 := 16#32
  let v931 : BitVec 32 := Scalar.muli v865 c16_i32_620
  let c5_i32_621 : BitVec 32 := 5#32
  let v932 : BitVec 32 := Scalar.addi v931 c5_i32_621
  let c0_i32_624 : BitVec 32 := 0#32
  ![v847.toNat, v932.toNat, 0]
def k0_off603 (v937 : BitVec 32) : Fin 2 → Nat :=
  let c2_i32_623 : BitVec 32 := 2#32
  let v938 : BitVec 32 := Scalar.shrui v937 c2_i32_623
  let c0_i32_625 : BitVec 32 := 0#32
  ![v938.toNat, 0]

def k0_chk210 (arg29 : BitVec 32) (v937 : BitVec 32) : Prop :=
  (∀ (k0_h3 : k0_cond3 arg29 = 1#1), ∀ a, (k0_off603 v937) a + S1x256.size a ≤ S250000x256.size a)
theorem k0_off603_inb : ∀ (arg29 : BitVec 32) (v937 : BitVec 32) (k0_hw210 : k0_chk210 arg29 v937), ∀ (k0_h3 : k0_cond3 arg29 = 1#1), ∀ a, (k0_off603 v937) a + S1x256.size a ≤ S250000x256.size a := fun arg29 v937 k0_hw210 k0_h3 => k0_hw210 k0_h3

def k0_off604 (arg29 : BitVec 32) (arg30 : BitVec 32) (v849 : BitVec 32) (k0_t15 : Fin (k0_t15_loop arg30 v849).trips) : Fin 2 → Nat :=
  let v948 : Index := Scalar.indexCast arg29
  let c256_i32_628 : BitVec 32 := 256#32
  let v946 : BitVec 32 := Scalar.muli arg30 c256_i32_628
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_626 : BitVec 32 := 16#32
  let v944 : BitVec 32 := Scalar.muli v865 c16_i32_626
  let c6_i32_627 : BitVec 32 := 6#32
  let v945 : BitVec 32 := Scalar.addi v944 c6_i32_627
  let v947 : BitVec 32 := Scalar.addi v946 v945
  let v949 : Index := Scalar.indexCast v947
  ![v948.toNat, v949.toNat]
def k0_off605 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off606 (v616 : BitVec 32) (k0_t13 : Fin (k0_t13_loop v616).trips) (arg30 : BitVec 32) (v849 : BitVec 32) (k0_t15 : Fin (k0_t15_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_626 : BitVec 32 := 16#32
  let v944 : BitVec 32 := Scalar.muli v865 c16_i32_626
  let c6_i32_627 : BitVec 32 := 6#32
  let v945 : BitVec 32 := Scalar.addi v944 c6_i32_627
  let c0_i32_630 : BitVec 32 := 0#32
  ![v847.toNat, v945.toNat, 0]
def k0_off607 (v950 : BitVec 32) : Fin 2 → Nat :=
  let c2_i32_629 : BitVec 32 := 2#32
  let v951 : BitVec 32 := Scalar.shrui v950 c2_i32_629
  let c0_i32_631 : BitVec 32 := 0#32
  ![v951.toNat, 0]

def k0_chk211 (arg29 : BitVec 32) (v950 : BitVec 32) : Prop :=
  (∀ (k0_h3 : k0_cond3 arg29 = 1#1), ∀ a, (k0_off607 v950) a + S1x256.size a ≤ S250000x256.size a)
theorem k0_off607_inb : ∀ (arg29 : BitVec 32) (v950 : BitVec 32) (k0_hw211 : k0_chk211 arg29 v950), ∀ (k0_h3 : k0_cond3 arg29 = 1#1), ∀ a, (k0_off607 v950) a + S1x256.size a ≤ S250000x256.size a := fun arg29 v950 k0_hw211 k0_h3 => k0_hw211 k0_h3

def k0_off608 (arg29 : BitVec 32) (arg30 : BitVec 32) (v849 : BitVec 32) (k0_t15 : Fin (k0_t15_loop arg30 v849).trips) : Fin 2 → Nat :=
  let v961 : Index := Scalar.indexCast arg29
  let c256_i32_634 : BitVec 32 := 256#32
  let v959 : BitVec 32 := Scalar.muli arg30 c256_i32_634
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_632 : BitVec 32 := 16#32
  let v957 : BitVec 32 := Scalar.muli v865 c16_i32_632
  let c7_i32_633 : BitVec 32 := 7#32
  let v958 : BitVec 32 := Scalar.addi v957 c7_i32_633
  let v960 : BitVec 32 := Scalar.addi v959 v958
  let v962 : Index := Scalar.indexCast v960
  ![v961.toNat, v962.toNat]
def k0_off609 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off610 (v616 : BitVec 32) (k0_t13 : Fin (k0_t13_loop v616).trips) (arg30 : BitVec 32) (v849 : BitVec 32) (k0_t15 : Fin (k0_t15_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_632 : BitVec 32 := 16#32
  let v957 : BitVec 32 := Scalar.muli v865 c16_i32_632
  let c7_i32_633 : BitVec 32 := 7#32
  let v958 : BitVec 32 := Scalar.addi v957 c7_i32_633
  let c0_i32_636 : BitVec 32 := 0#32
  ![v847.toNat, v958.toNat, 0]
def k0_off611 (v963 : BitVec 32) : Fin 2 → Nat :=
  let c2_i32_635 : BitVec 32 := 2#32
  let v964 : BitVec 32 := Scalar.shrui v963 c2_i32_635
  let c0_i32_637 : BitVec 32 := 0#32
  ![v964.toNat, 0]

def k0_chk212 (arg29 : BitVec 32) (v963 : BitVec 32) : Prop :=
  (∀ (k0_h3 : k0_cond3 arg29 = 1#1), ∀ a, (k0_off611 v963) a + S1x256.size a ≤ S250000x256.size a)
theorem k0_off611_inb : ∀ (arg29 : BitVec 32) (v963 : BitVec 32) (k0_hw212 : k0_chk212 arg29 v963), ∀ (k0_h3 : k0_cond3 arg29 = 1#1), ∀ a, (k0_off611 v963) a + S1x256.size a ≤ S250000x256.size a := fun arg29 v963 k0_hw212 k0_h3 => k0_hw212 k0_h3

def k0_off612 (arg29 : BitVec 32) (arg30 : BitVec 32) (v849 : BitVec 32) (k0_t15 : Fin (k0_t15_loop arg30 v849).trips) : Fin 2 → Nat :=
  let v974 : Index := Scalar.indexCast arg29
  let c256_i32_640 : BitVec 32 := 256#32
  let v972 : BitVec 32 := Scalar.muli arg30 c256_i32_640
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_638 : BitVec 32 := 16#32
  let v970 : BitVec 32 := Scalar.muli v865 c16_i32_638
  let c8_i32_639 : BitVec 32 := 8#32
  let v971 : BitVec 32 := Scalar.addi v970 c8_i32_639
  let v973 : BitVec 32 := Scalar.addi v972 v971
  let v975 : Index := Scalar.indexCast v973
  ![v974.toNat, v975.toNat]
def k0_off613 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off614 (v616 : BitVec 32) (k0_t13 : Fin (k0_t13_loop v616).trips) (arg30 : BitVec 32) (v849 : BitVec 32) (k0_t15 : Fin (k0_t15_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_638 : BitVec 32 := 16#32
  let v970 : BitVec 32 := Scalar.muli v865 c16_i32_638
  let c8_i32_639 : BitVec 32 := 8#32
  let v971 : BitVec 32 := Scalar.addi v970 c8_i32_639
  let c0_i32_642 : BitVec 32 := 0#32
  ![v847.toNat, v971.toNat, 0]
def k0_off615 (v976 : BitVec 32) : Fin 2 → Nat :=
  let c2_i32_641 : BitVec 32 := 2#32
  let v977 : BitVec 32 := Scalar.shrui v976 c2_i32_641
  let c0_i32_643 : BitVec 32 := 0#32
  ![v977.toNat, 0]

def k0_chk213 (arg29 : BitVec 32) (v976 : BitVec 32) : Prop :=
  (∀ (k0_h3 : k0_cond3 arg29 = 1#1), ∀ a, (k0_off615 v976) a + S1x256.size a ≤ S250000x256.size a)
theorem k0_off615_inb : ∀ (arg29 : BitVec 32) (v976 : BitVec 32) (k0_hw213 : k0_chk213 arg29 v976), ∀ (k0_h3 : k0_cond3 arg29 = 1#1), ∀ a, (k0_off615 v976) a + S1x256.size a ≤ S250000x256.size a := fun arg29 v976 k0_hw213 k0_h3 => k0_hw213 k0_h3

def k0_off616 (arg29 : BitVec 32) (arg30 : BitVec 32) (v849 : BitVec 32) (k0_t15 : Fin (k0_t15_loop arg30 v849).trips) : Fin 2 → Nat :=
  let v987 : Index := Scalar.indexCast arg29
  let c256_i32_646 : BitVec 32 := 256#32
  let v985 : BitVec 32 := Scalar.muli arg30 c256_i32_646
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_644 : BitVec 32 := 16#32
  let v983 : BitVec 32 := Scalar.muli v865 c16_i32_644
  let c9_i32_645 : BitVec 32 := 9#32
  let v984 : BitVec 32 := Scalar.addi v983 c9_i32_645
  let v986 : BitVec 32 := Scalar.addi v985 v984
  let v988 : Index := Scalar.indexCast v986
  ![v987.toNat, v988.toNat]
def k0_off617 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off618 (v616 : BitVec 32) (k0_t13 : Fin (k0_t13_loop v616).trips) (arg30 : BitVec 32) (v849 : BitVec 32) (k0_t15 : Fin (k0_t15_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_644 : BitVec 32 := 16#32
  let v983 : BitVec 32 := Scalar.muli v865 c16_i32_644
  let c9_i32_645 : BitVec 32 := 9#32
  let v984 : BitVec 32 := Scalar.addi v983 c9_i32_645
  let c0_i32_648 : BitVec 32 := 0#32
  ![v847.toNat, v984.toNat, 0]
def k0_off619 (v989 : BitVec 32) : Fin 2 → Nat :=
  let c2_i32_647 : BitVec 32 := 2#32
  let v990 : BitVec 32 := Scalar.shrui v989 c2_i32_647
  let c0_i32_649 : BitVec 32 := 0#32
  ![v990.toNat, 0]

def k0_chk214 (arg29 : BitVec 32) (v989 : BitVec 32) : Prop :=
  (∀ (k0_h3 : k0_cond3 arg29 = 1#1), ∀ a, (k0_off619 v989) a + S1x256.size a ≤ S250000x256.size a)
theorem k0_off619_inb : ∀ (arg29 : BitVec 32) (v989 : BitVec 32) (k0_hw214 : k0_chk214 arg29 v989), ∀ (k0_h3 : k0_cond3 arg29 = 1#1), ∀ a, (k0_off619 v989) a + S1x256.size a ≤ S250000x256.size a := fun arg29 v989 k0_hw214 k0_h3 => k0_hw214 k0_h3

def k0_off620 (arg29 : BitVec 32) (arg30 : BitVec 32) (v849 : BitVec 32) (k0_t15 : Fin (k0_t15_loop arg30 v849).trips) : Fin 2 → Nat :=
  let v1000 : Index := Scalar.indexCast arg29
  let c256_i32_652 : BitVec 32 := 256#32
  let v998 : BitVec 32 := Scalar.muli arg30 c256_i32_652
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_650 : BitVec 32 := 16#32
  let v996 : BitVec 32 := Scalar.muli v865 c16_i32_650
  let c10_i32_651 : BitVec 32 := 10#32
  let v997 : BitVec 32 := Scalar.addi v996 c10_i32_651
  let v999 : BitVec 32 := Scalar.addi v998 v997
  let v1001 : Index := Scalar.indexCast v999
  ![v1000.toNat, v1001.toNat]
def k0_off621 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off622 (v616 : BitVec 32) (k0_t13 : Fin (k0_t13_loop v616).trips) (arg30 : BitVec 32) (v849 : BitVec 32) (k0_t15 : Fin (k0_t15_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_650 : BitVec 32 := 16#32
  let v996 : BitVec 32 := Scalar.muli v865 c16_i32_650
  let c10_i32_651 : BitVec 32 := 10#32
  let v997 : BitVec 32 := Scalar.addi v996 c10_i32_651
  let c0_i32_654 : BitVec 32 := 0#32
  ![v847.toNat, v997.toNat, 0]
def k0_off623 (v1002 : BitVec 32) : Fin 2 → Nat :=
  let c2_i32_653 : BitVec 32 := 2#32
  let v1003 : BitVec 32 := Scalar.shrui v1002 c2_i32_653
  let c0_i32_655 : BitVec 32 := 0#32
  ![v1003.toNat, 0]

def k0_chk215 (arg29 : BitVec 32) (v1002 : BitVec 32) : Prop :=
  (∀ (k0_h3 : k0_cond3 arg29 = 1#1), ∀ a, (k0_off623 v1002) a + S1x256.size a ≤ S250000x256.size a)
theorem k0_off623_inb : ∀ (arg29 : BitVec 32) (v1002 : BitVec 32) (k0_hw215 : k0_chk215 arg29 v1002), ∀ (k0_h3 : k0_cond3 arg29 = 1#1), ∀ a, (k0_off623 v1002) a + S1x256.size a ≤ S250000x256.size a := fun arg29 v1002 k0_hw215 k0_h3 => k0_hw215 k0_h3

def k0_off624 (arg29 : BitVec 32) (arg30 : BitVec 32) (v849 : BitVec 32) (k0_t15 : Fin (k0_t15_loop arg30 v849).trips) : Fin 2 → Nat :=
  let v1013 : Index := Scalar.indexCast arg29
  let c256_i32_658 : BitVec 32 := 256#32
  let v1011 : BitVec 32 := Scalar.muli arg30 c256_i32_658
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_656 : BitVec 32 := 16#32
  let v1009 : BitVec 32 := Scalar.muli v865 c16_i32_656
  let c11_i32_657 : BitVec 32 := 11#32
  let v1010 : BitVec 32 := Scalar.addi v1009 c11_i32_657
  let v1012 : BitVec 32 := Scalar.addi v1011 v1010
  let v1014 : Index := Scalar.indexCast v1012
  ![v1013.toNat, v1014.toNat]
def k0_off625 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off626 (v616 : BitVec 32) (k0_t13 : Fin (k0_t13_loop v616).trips) (arg30 : BitVec 32) (v849 : BitVec 32) (k0_t15 : Fin (k0_t15_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_656 : BitVec 32 := 16#32
  let v1009 : BitVec 32 := Scalar.muli v865 c16_i32_656
  let c11_i32_657 : BitVec 32 := 11#32
  let v1010 : BitVec 32 := Scalar.addi v1009 c11_i32_657
  let c0_i32_660 : BitVec 32 := 0#32
  ![v847.toNat, v1010.toNat, 0]
def k0_off627 (v1015 : BitVec 32) : Fin 2 → Nat :=
  let c2_i32_659 : BitVec 32 := 2#32
  let v1016 : BitVec 32 := Scalar.shrui v1015 c2_i32_659
  let c0_i32_661 : BitVec 32 := 0#32
  ![v1016.toNat, 0]

def k0_chk216 (arg29 : BitVec 32) (v1015 : BitVec 32) : Prop :=
  (∀ (k0_h3 : k0_cond3 arg29 = 1#1), ∀ a, (k0_off627 v1015) a + S1x256.size a ≤ S250000x256.size a)
theorem k0_off627_inb : ∀ (arg29 : BitVec 32) (v1015 : BitVec 32) (k0_hw216 : k0_chk216 arg29 v1015), ∀ (k0_h3 : k0_cond3 arg29 = 1#1), ∀ a, (k0_off627 v1015) a + S1x256.size a ≤ S250000x256.size a := fun arg29 v1015 k0_hw216 k0_h3 => k0_hw216 k0_h3

def k0_off628 (arg29 : BitVec 32) (arg30 : BitVec 32) (v849 : BitVec 32) (k0_t15 : Fin (k0_t15_loop arg30 v849).trips) : Fin 2 → Nat :=
  let v1026 : Index := Scalar.indexCast arg29
  let c256_i32_664 : BitVec 32 := 256#32
  let v1024 : BitVec 32 := Scalar.muli arg30 c256_i32_664
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_662 : BitVec 32 := 16#32
  let v1022 : BitVec 32 := Scalar.muli v865 c16_i32_662
  let c12_i32_663 : BitVec 32 := 12#32
  let v1023 : BitVec 32 := Scalar.addi v1022 c12_i32_663
  let v1025 : BitVec 32 := Scalar.addi v1024 v1023
  let v1027 : Index := Scalar.indexCast v1025
  ![v1026.toNat, v1027.toNat]
def k0_off629 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off630 (v616 : BitVec 32) (k0_t13 : Fin (k0_t13_loop v616).trips) (arg30 : BitVec 32) (v849 : BitVec 32) (k0_t15 : Fin (k0_t15_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_662 : BitVec 32 := 16#32
  let v1022 : BitVec 32 := Scalar.muli v865 c16_i32_662
  let c12_i32_663 : BitVec 32 := 12#32
  let v1023 : BitVec 32 := Scalar.addi v1022 c12_i32_663
  let c0_i32_666 : BitVec 32 := 0#32
  ![v847.toNat, v1023.toNat, 0]
def k0_off631 (v1028 : BitVec 32) : Fin 2 → Nat :=
  let c2_i32_665 : BitVec 32 := 2#32
  let v1029 : BitVec 32 := Scalar.shrui v1028 c2_i32_665
  let c0_i32_667 : BitVec 32 := 0#32
  ![v1029.toNat, 0]

def k0_chk217 (arg29 : BitVec 32) (v1028 : BitVec 32) : Prop :=
  (∀ (k0_h3 : k0_cond3 arg29 = 1#1), ∀ a, (k0_off631 v1028) a + S1x256.size a ≤ S250000x256.size a)
theorem k0_off631_inb : ∀ (arg29 : BitVec 32) (v1028 : BitVec 32) (k0_hw217 : k0_chk217 arg29 v1028), ∀ (k0_h3 : k0_cond3 arg29 = 1#1), ∀ a, (k0_off631 v1028) a + S1x256.size a ≤ S250000x256.size a := fun arg29 v1028 k0_hw217 k0_h3 => k0_hw217 k0_h3

def k0_off632 (arg29 : BitVec 32) (arg30 : BitVec 32) (v849 : BitVec 32) (k0_t15 : Fin (k0_t15_loop arg30 v849).trips) : Fin 2 → Nat :=
  let v1039 : Index := Scalar.indexCast arg29
  let c256_i32_670 : BitVec 32 := 256#32
  let v1037 : BitVec 32 := Scalar.muli arg30 c256_i32_670
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_668 : BitVec 32 := 16#32
  let v1035 : BitVec 32 := Scalar.muli v865 c16_i32_668
  let c13_i32_669 : BitVec 32 := 13#32
  let v1036 : BitVec 32 := Scalar.addi v1035 c13_i32_669
  let v1038 : BitVec 32 := Scalar.addi v1037 v1036
  let v1040 : Index := Scalar.indexCast v1038
  ![v1039.toNat, v1040.toNat]
def k0_off633 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off634 (v616 : BitVec 32) (k0_t13 : Fin (k0_t13_loop v616).trips) (arg30 : BitVec 32) (v849 : BitVec 32) (k0_t15 : Fin (k0_t15_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_668 : BitVec 32 := 16#32
  let v1035 : BitVec 32 := Scalar.muli v865 c16_i32_668
  let c13_i32_669 : BitVec 32 := 13#32
  let v1036 : BitVec 32 := Scalar.addi v1035 c13_i32_669
  let c0_i32_672 : BitVec 32 := 0#32
  ![v847.toNat, v1036.toNat, 0]
def k0_off635 (v1041 : BitVec 32) : Fin 2 → Nat :=
  let c2_i32_671 : BitVec 32 := 2#32
  let v1042 : BitVec 32 := Scalar.shrui v1041 c2_i32_671
  let c0_i32_673 : BitVec 32 := 0#32
  ![v1042.toNat, 0]

def k0_chk218 (arg29 : BitVec 32) (v1041 : BitVec 32) : Prop :=
  (∀ (k0_h3 : k0_cond3 arg29 = 1#1), ∀ a, (k0_off635 v1041) a + S1x256.size a ≤ S250000x256.size a)
theorem k0_off635_inb : ∀ (arg29 : BitVec 32) (v1041 : BitVec 32) (k0_hw218 : k0_chk218 arg29 v1041), ∀ (k0_h3 : k0_cond3 arg29 = 1#1), ∀ a, (k0_off635 v1041) a + S1x256.size a ≤ S250000x256.size a := fun arg29 v1041 k0_hw218 k0_h3 => k0_hw218 k0_h3

def k0_off636 (arg29 : BitVec 32) (arg30 : BitVec 32) (v849 : BitVec 32) (k0_t15 : Fin (k0_t15_loop arg30 v849).trips) : Fin 2 → Nat :=
  let v1052 : Index := Scalar.indexCast arg29
  let c256_i32_676 : BitVec 32 := 256#32
  let v1050 : BitVec 32 := Scalar.muli arg30 c256_i32_676
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_674 : BitVec 32 := 16#32
  let v1048 : BitVec 32 := Scalar.muli v865 c16_i32_674
  let c14_i32_675 : BitVec 32 := 14#32
  let v1049 : BitVec 32 := Scalar.addi v1048 c14_i32_675
  let v1051 : BitVec 32 := Scalar.addi v1050 v1049
  let v1053 : Index := Scalar.indexCast v1051
  ![v1052.toNat, v1053.toNat]
def k0_off637 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off638 (v616 : BitVec 32) (k0_t13 : Fin (k0_t13_loop v616).trips) (arg30 : BitVec 32) (v849 : BitVec 32) (k0_t15 : Fin (k0_t15_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_674 : BitVec 32 := 16#32
  let v1048 : BitVec 32 := Scalar.muli v865 c16_i32_674
  let c14_i32_675 : BitVec 32 := 14#32
  let v1049 : BitVec 32 := Scalar.addi v1048 c14_i32_675
  let c0_i32_678 : BitVec 32 := 0#32
  ![v847.toNat, v1049.toNat, 0]
def k0_off639 (v1054 : BitVec 32) : Fin 2 → Nat :=
  let c2_i32_677 : BitVec 32 := 2#32
  let v1055 : BitVec 32 := Scalar.shrui v1054 c2_i32_677
  let c0_i32_679 : BitVec 32 := 0#32
  ![v1055.toNat, 0]

def k0_chk219 (arg29 : BitVec 32) (v1054 : BitVec 32) : Prop :=
  (∀ (k0_h3 : k0_cond3 arg29 = 1#1), ∀ a, (k0_off639 v1054) a + S1x256.size a ≤ S250000x256.size a)
theorem k0_off639_inb : ∀ (arg29 : BitVec 32) (v1054 : BitVec 32) (k0_hw219 : k0_chk219 arg29 v1054), ∀ (k0_h3 : k0_cond3 arg29 = 1#1), ∀ a, (k0_off639 v1054) a + S1x256.size a ≤ S250000x256.size a := fun arg29 v1054 k0_hw219 k0_h3 => k0_hw219 k0_h3

def k0_off640 (arg29 : BitVec 32) (arg30 : BitVec 32) (v849 : BitVec 32) (k0_t15 : Fin (k0_t15_loop arg30 v849).trips) : Fin 2 → Nat :=
  let v1065 : Index := Scalar.indexCast arg29
  let c256_i32_682 : BitVec 32 := 256#32
  let v1063 : BitVec 32 := Scalar.muli arg30 c256_i32_682
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_680 : BitVec 32 := 16#32
  let v1061 : BitVec 32 := Scalar.muli v865 c16_i32_680
  let c15_i32_681 : BitVec 32 := 15#32
  let v1062 : BitVec 32 := Scalar.addi v1061 c15_i32_681
  let v1064 : BitVec 32 := Scalar.addi v1063 v1062
  let v1066 : Index := Scalar.indexCast v1064
  ![v1065.toNat, v1066.toNat]
def k0_off641 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  ![v847.toNat]
def k0_off642 (v616 : BitVec 32) (k0_t13 : Fin (k0_t13_loop v616).trips) (arg30 : BitVec 32) (v849 : BitVec 32) (k0_t15 : Fin (k0_t15_loop arg30 v849).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c2_i32_574 : BitVec 32 := 2#32
  let v846 : BitVec 32 := Scalar.addi arg24 c2_i32_574
  let c3_i32_575 : BitVec 32 := 3#32
  let v847 : BitVec 32 := Scalar.remsi v846 c3_i32_575
  let c0_i32_585 : BitVec 32 := 0#32
  let c0_i32_586 : BitVec 32 := 0#32
  let c256_i32_576 : BitVec 32 := 256#32
  let v850 : BitVec 32 := Scalar.muli arg30 c256_i32_576
  let v851 : BitVec 32 := Scalar.subi v849 v850
  let c256_i32_577 : BitVec 32 := 256#32
  let v852 : BitVec 32 := Scalar.minsi v851 c256_i32_577
  let c15_i32_578 : BitVec 32 := 15#32
  let v853 : BitVec 32 := Scalar.addi v852 c15_i32_578
  let c16_i32_579 : BitVec 32 := 16#32
  let v854 : BitVec 32 := Scalar.divsi v853 c16_i32_579
  let c0_i32_580 : BitVec 32 := 0#32
  let v855 : BitVec 32 := Scalar.subi v854 c0_i32_580
  let c1_i32_581 : BitVec 32 := 1#32
  let c1_i32_582 : BitVec 32 := 1#32
  let v856 : BitVec 32 := Scalar.subi c1_i32_581 c1_i32_582
  let v857 : BitVec 32 := Scalar.addi v855 v856
  let c1_i32_583 : BitVec 32 := 1#32
  let v858 : BitVec 32 := Scalar.divsi v857 c1_i32_583
  let v859 : BitVec 32 := Scalar.subi v858 c0_i32_586
  let c1_i32_587 : BitVec 32 := 1#32
  let v861 : BitVec 32 := Scalar.divsi v859 c1_i32_587
  let v862 : BitVec 32 := Scalar.muli v861 c1_i32_587
  let v863 : BitVec 32 := Scalar.addi c0_i32_586 v862
  let c1_i32_589 : BitVec 32 := 1#32
  let arg31 : BitVec 32 := Scf.iv v863 c1_i32_589 k0_t15
  let c1_i32_584 : BitVec 32 := 1#32
  let v864 : BitVec 32 := Scalar.muli arg31 c1_i32_584
  let v865 : BitVec 32 := Scalar.addi c0_i32_585 v864
  let c16_i32_680 : BitVec 32 := 16#32
  let v1061 : BitVec 32 := Scalar.muli v865 c16_i32_680
  let c15_i32_681 : BitVec 32 := 15#32
  let v1062 : BitVec 32 := Scalar.addi v1061 c15_i32_681
  let c0_i32_684 : BitVec 32 := 0#32
  ![v847.toNat, v1062.toNat, 0]

def k0_chk188_0 (v616 : BitVec 32) (k0_t13 : Fin (k0_t13_loop v616).trips) (arg29 : BitVec 32) (arg30 : BitVec 32) (v849 : BitVec 32) : Prop :=
  (∀ (k0_h3 : k0_cond3 arg29 = 1#1), (k0_t14_loop arg30 v849).OK) ∧
  (∀ k0_t14 : Fin (k0_t14_loop arg30 v849).trips, ∀ (k0_h3 : k0_cond3 arg29 = 1#1), ∀ a, (k0_off516 arg29 arg30 v849 k0_t14) a + S1x1.size a ≤ S24x1536.size a) ∧
  (∀ k0_t14 : Fin (k0_t14_loop arg30 v849).trips, ∀ (k0_h3 : k0_cond3 arg29 = 1#1), ∀ a, (k0_off517 v616 k0_t13) a + S1.size a ≤ S3.size a) ∧
  (∀ k0_t14 : Fin (k0_t14_loop arg30 v849).trips, ∀ (k0_h3 : k0_cond3 arg29 = 1#1), ∀ a, (k0_off518 v616 k0_t13 arg30 v849 k0_t14) a + S1x1x256.size a ≤ S3x256x256.size a) ∧
  (∀ k0_t14 : Fin (k0_t14_loop arg30 v849).trips, ∀ (k0_h3 : k0_cond3 arg29 = 1#1), ∀ a, (k0_off520 arg29 arg30 v849 k0_t14) a + S1x1.size a ≤ S24x1536.size a) ∧
  (∀ k0_t14 : Fin (k0_t14_loop arg30 v849).trips, ∀ (k0_h3 : k0_cond3 arg29 = 1#1), ∀ a, (k0_off521 v616 k0_t13) a + S1.size a ≤ S3.size a) ∧
  (∀ k0_t14 : Fin (k0_t14_loop arg30 v849).trips, ∀ (k0_h3 : k0_cond3 arg29 = 1#1), ∀ a, (k0_off522 v616 k0_t13 arg30 v849 k0_t14) a + S1x1x256.size a ≤ S3x256x256.size a) ∧
  (∀ k0_t14 : Fin (k0_t14_loop arg30 v849).trips, ∀ (k0_h3 : k0_cond3 arg29 = 1#1), ∀ a, (k0_off524 arg29 arg30 v849 k0_t14) a + S1x1.size a ≤ S24x1536.size a) ∧
  (∀ k0_t14 : Fin (k0_t14_loop arg30 v849).trips, ∀ (k0_h3 : k0_cond3 arg29 = 1#1), ∀ a, (k0_off525 v616 k0_t13) a + S1.size a ≤ S3.size a) ∧
  (∀ k0_t14 : Fin (k0_t14_loop arg30 v849).trips, ∀ (k0_h3 : k0_cond3 arg29 = 1#1), ∀ a, (k0_off526 v616 k0_t13 arg30 v849 k0_t14) a + S1x1x256.size a ≤ S3x256x256.size a) ∧
  (∀ k0_t14 : Fin (k0_t14_loop arg30 v849).trips, ∀ (k0_h3 : k0_cond3 arg29 = 1#1), ∀ a, (k0_off528 arg29 arg30 v849 k0_t14) a + S1x1.size a ≤ S24x1536.size a) ∧
  (∀ k0_t14 : Fin (k0_t14_loop arg30 v849).trips, ∀ (k0_h3 : k0_cond3 arg29 = 1#1), ∀ a, (k0_off529 v616 k0_t13) a + S1.size a ≤ S3.size a) ∧
  (∀ k0_t14 : Fin (k0_t14_loop arg30 v849).trips, ∀ (k0_h3 : k0_cond3 arg29 = 1#1), ∀ a, (k0_off530 v616 k0_t13 arg30 v849 k0_t14) a + S1x1x256.size a ≤ S3x256x256.size a) ∧
  (∀ k0_t14 : Fin (k0_t14_loop arg30 v849).trips, ∀ (k0_h3 : k0_cond3 arg29 = 1#1), ∀ a, (k0_off532 arg29 arg30 v849 k0_t14) a + S1x1.size a ≤ S24x1536.size a) ∧
  (∀ k0_t14 : Fin (k0_t14_loop arg30 v849).trips, ∀ (k0_h3 : k0_cond3 arg29 = 1#1), ∀ a, (k0_off533 v616 k0_t13) a + S1.size a ≤ S3.size a) ∧
  (∀ k0_t14 : Fin (k0_t14_loop arg30 v849).trips, ∀ (k0_h3 : k0_cond3 arg29 = 1#1), ∀ a, (k0_off534 v616 k0_t13 arg30 v849 k0_t14) a + S1x1x256.size a ≤ S3x256x256.size a) ∧
  (∀ k0_t14 : Fin (k0_t14_loop arg30 v849).trips, ∀ (k0_h3 : k0_cond3 arg29 = 1#1), ∀ a, (k0_off536 arg29 arg30 v849 k0_t14) a + S1x1.size a ≤ S24x1536.size a) ∧
  (∀ k0_t14 : Fin (k0_t14_loop arg30 v849).trips, ∀ (k0_h3 : k0_cond3 arg29 = 1#1), ∀ a, (k0_off537 v616 k0_t13) a + S1.size a ≤ S3.size a) ∧
  (∀ k0_t14 : Fin (k0_t14_loop arg30 v849).trips, ∀ (k0_h3 : k0_cond3 arg29 = 1#1), ∀ a, (k0_off538 v616 k0_t13 arg30 v849 k0_t14) a + S1x1x256.size a ≤ S3x256x256.size a) ∧
  (∀ k0_t14 : Fin (k0_t14_loop arg30 v849).trips, ∀ (k0_h3 : k0_cond3 arg29 = 1#1), ∀ a, (k0_off540 arg29 arg30 v849 k0_t14) a + S1x1.size a ≤ S24x1536.size a) ∧
  (∀ k0_t14 : Fin (k0_t14_loop arg30 v849).trips, ∀ (k0_h3 : k0_cond3 arg29 = 1#1), ∀ a, (k0_off541 v616 k0_t13) a + S1.size a ≤ S3.size a) ∧
  (∀ k0_t14 : Fin (k0_t14_loop arg30 v849).trips, ∀ (k0_h3 : k0_cond3 arg29 = 1#1), ∀ a, (k0_off542 v616 k0_t13 arg30 v849 k0_t14) a + S1x1x256.size a ≤ S3x256x256.size a) ∧
  (∀ k0_t14 : Fin (k0_t14_loop arg30 v849).trips, ∀ (k0_h3 : k0_cond3 arg29 = 1#1), ∀ a, (k0_off544 arg29 arg30 v849 k0_t14) a + S1x1.size a ≤ S24x1536.size a) ∧
  (∀ k0_t14 : Fin (k0_t14_loop arg30 v849).trips, ∀ (k0_h3 : k0_cond3 arg29 = 1#1), ∀ a, (k0_off545 v616 k0_t13) a + S1.size a ≤ S3.size a) ∧
  (∀ k0_t14 : Fin (k0_t14_loop arg30 v849).trips, ∀ (k0_h3 : k0_cond3 arg29 = 1#1), ∀ a, (k0_off546 v616 k0_t13 arg30 v849 k0_t14) a + S1x1x256.size a ≤ S3x256x256.size a) ∧
  (∀ k0_t14 : Fin (k0_t14_loop arg30 v849).trips, ∀ (k0_h3 : k0_cond3 arg29 = 1#1), ∀ a, (k0_off548 arg29 arg30 v849 k0_t14) a + S1x1.size a ≤ S24x1536.size a) ∧
  (∀ k0_t14 : Fin (k0_t14_loop arg30 v849).trips, ∀ (k0_h3 : k0_cond3 arg29 = 1#1), ∀ a, (k0_off549 v616 k0_t13) a + S1.size a ≤ S3.size a) ∧
  (∀ k0_t14 : Fin (k0_t14_loop arg30 v849).trips, ∀ (k0_h3 : k0_cond3 arg29 = 1#1), ∀ a, (k0_off550 v616 k0_t13 arg30 v849 k0_t14) a + S1x1x256.size a ≤ S3x256x256.size a) ∧
  (∀ k0_t14 : Fin (k0_t14_loop arg30 v849).trips, ∀ (k0_h3 : k0_cond3 arg29 = 1#1), ∀ a, (k0_off552 arg29 arg30 v849 k0_t14) a + S1x1.size a ≤ S24x1536.size a) ∧
  (∀ k0_t14 : Fin (k0_t14_loop arg30 v849).trips, ∀ (k0_h3 : k0_cond3 arg29 = 1#1), ∀ a, (k0_off553 v616 k0_t13) a + S1.size a ≤ S3.size a) ∧
  (∀ k0_t14 : Fin (k0_t14_loop arg30 v849).trips, ∀ (k0_h3 : k0_cond3 arg29 = 1#1), ∀ a, (k0_off554 v616 k0_t13 arg30 v849 k0_t14) a + S1x1x256.size a ≤ S3x256x256.size a) ∧
  (∀ k0_t14 : Fin (k0_t14_loop arg30 v849).trips, ∀ (k0_h3 : k0_cond3 arg29 = 1#1), ∀ a, (k0_off556 arg29 arg30 v849 k0_t14) a + S1x1.size a ≤ S24x1536.size a)
def k0_chk188_1 (v616 : BitVec 32) (k0_t13 : Fin (k0_t13_loop v616).trips) (arg29 : BitVec 32) (arg30 : BitVec 32) (v849 : BitVec 32) : Prop :=
  (∀ k0_t14 : Fin (k0_t14_loop arg30 v849).trips, ∀ (k0_h3 : k0_cond3 arg29 = 1#1), ∀ a, (k0_off557 v616 k0_t13) a + S1.size a ≤ S3.size a) ∧
  (∀ k0_t14 : Fin (k0_t14_loop arg30 v849).trips, ∀ (k0_h3 : k0_cond3 arg29 = 1#1), ∀ a, (k0_off558 v616 k0_t13 arg30 v849 k0_t14) a + S1x1x256.size a ≤ S3x256x256.size a) ∧
  (∀ k0_t14 : Fin (k0_t14_loop arg30 v849).trips, ∀ (k0_h3 : k0_cond3 arg29 = 1#1), ∀ a, (k0_off560 arg29 arg30 v849 k0_t14) a + S1x1.size a ≤ S24x1536.size a) ∧
  (∀ k0_t14 : Fin (k0_t14_loop arg30 v849).trips, ∀ (k0_h3 : k0_cond3 arg29 = 1#1), ∀ a, (k0_off561 v616 k0_t13) a + S1.size a ≤ S3.size a) ∧
  (∀ k0_t14 : Fin (k0_t14_loop arg30 v849).trips, ∀ (k0_h3 : k0_cond3 arg29 = 1#1), ∀ a, (k0_off562 v616 k0_t13 arg30 v849 k0_t14) a + S1x1x256.size a ≤ S3x256x256.size a) ∧
  (∀ k0_t14 : Fin (k0_t14_loop arg30 v849).trips, ∀ (k0_h3 : k0_cond3 arg29 = 1#1), ∀ a, (k0_off564 arg29 arg30 v849 k0_t14) a + S1x1.size a ≤ S24x1536.size a) ∧
  (∀ k0_t14 : Fin (k0_t14_loop arg30 v849).trips, ∀ (k0_h3 : k0_cond3 arg29 = 1#1), ∀ a, (k0_off565 v616 k0_t13) a + S1.size a ≤ S3.size a) ∧
  (∀ k0_t14 : Fin (k0_t14_loop arg30 v849).trips, ∀ (k0_h3 : k0_cond3 arg29 = 1#1), ∀ a, (k0_off566 v616 k0_t13 arg30 v849 k0_t14) a + S1x1x256.size a ≤ S3x256x256.size a) ∧
  (∀ k0_t14 : Fin (k0_t14_loop arg30 v849).trips, ∀ (k0_h3 : k0_cond3 arg29 = 1#1), ∀ a, (k0_off568 arg29 arg30 v849 k0_t14) a + S1x1.size a ≤ S24x1536.size a) ∧
  (∀ k0_t14 : Fin (k0_t14_loop arg30 v849).trips, ∀ (k0_h3 : k0_cond3 arg29 = 1#1), ∀ a, (k0_off569 v616 k0_t13) a + S1.size a ≤ S3.size a) ∧
  (∀ k0_t14 : Fin (k0_t14_loop arg30 v849).trips, ∀ (k0_h3 : k0_cond3 arg29 = 1#1), ∀ a, (k0_off570 v616 k0_t13 arg30 v849 k0_t14) a + S1x1x256.size a ≤ S3x256x256.size a) ∧
  (∀ k0_t14 : Fin (k0_t14_loop arg30 v849).trips, ∀ (k0_h3 : k0_cond3 arg29 = 1#1), ∀ a, (k0_off572 arg29 arg30 v849 k0_t14) a + S1x1.size a ≤ S24x1536.size a) ∧
  (∀ k0_t14 : Fin (k0_t14_loop arg30 v849).trips, ∀ (k0_h3 : k0_cond3 arg29 = 1#1), ∀ a, (k0_off573 v616 k0_t13) a + S1.size a ≤ S3.size a) ∧
  (∀ k0_t14 : Fin (k0_t14_loop arg30 v849).trips, ∀ (k0_h3 : k0_cond3 arg29 = 1#1), ∀ a, (k0_off574 v616 k0_t13 arg30 v849 k0_t14) a + S1x1x256.size a ≤ S3x256x256.size a) ∧
  (∀ k0_t14 : Fin (k0_t14_loop arg30 v849).trips, ∀ (k0_h3 : k0_cond3 arg29 = 1#1), ∀ a, (k0_off576 arg29 arg30 v849 k0_t14) a + S1x1.size a ≤ S24x1536.size a) ∧
  (∀ k0_t14 : Fin (k0_t14_loop arg30 v849).trips, ∀ (k0_h3 : k0_cond3 arg29 = 1#1), ∀ a, (k0_off577 v616 k0_t13) a + S1.size a ≤ S3.size a) ∧
  (∀ k0_t14 : Fin (k0_t14_loop arg30 v849).trips, ∀ (k0_h3 : k0_cond3 arg29 = 1#1), ∀ a, (k0_off578 v616 k0_t13 arg30 v849 k0_t14) a + S1x1x256.size a ≤ S3x256x256.size a) ∧
  (∀ (k0_h3 : k0_cond3 arg29 = 1#1), (k0_t15_loop arg30 v849).OK) ∧
  (∀ k0_t15 : Fin (k0_t15_loop arg30 v849).trips, ∀ (k0_h3 : k0_cond3 arg29 = 1#1), ∀ a, (k0_off580 arg29 arg30 v849 k0_t15) a + S1x1.size a ≤ S24x1536.size a) ∧
  (∀ k0_t15 : Fin (k0_t15_loop arg30 v849).trips, ∀ (k0_h3 : k0_cond3 arg29 = 1#1), ∀ a, (k0_off581 v616 k0_t13) a + S1.size a ≤ S3.size a) ∧
  (∀ k0_t15 : Fin (k0_t15_loop arg30 v849).trips, ∀ (k0_h3 : k0_cond3 arg29 = 1#1), ∀ a, (k0_off582 v616 k0_t13 arg30 v849 k0_t15) a + S1x1x256.size a ≤ S3x256x256.size a) ∧
  (∀ k0_t15 : Fin (k0_t15_loop arg30 v849).trips, ∀ (k0_h3 : k0_cond3 arg29 = 1#1), ∀ a, (k0_off584 arg29 arg30 v849 k0_t15) a + S1x1.size a ≤ S24x1536.size a) ∧
  (∀ k0_t15 : Fin (k0_t15_loop arg30 v849).trips, ∀ (k0_h3 : k0_cond3 arg29 = 1#1), ∀ a, (k0_off585 v616 k0_t13) a + S1.size a ≤ S3.size a) ∧
  (∀ k0_t15 : Fin (k0_t15_loop arg30 v849).trips, ∀ (k0_h3 : k0_cond3 arg29 = 1#1), ∀ a, (k0_off586 v616 k0_t13 arg30 v849 k0_t15) a + S1x1x256.size a ≤ S3x256x256.size a) ∧
  (∀ k0_t15 : Fin (k0_t15_loop arg30 v849).trips, ∀ (k0_h3 : k0_cond3 arg29 = 1#1), ∀ a, (k0_off588 arg29 arg30 v849 k0_t15) a + S1x1.size a ≤ S24x1536.size a) ∧
  (∀ k0_t15 : Fin (k0_t15_loop arg30 v849).trips, ∀ (k0_h3 : k0_cond3 arg29 = 1#1), ∀ a, (k0_off589 v616 k0_t13) a + S1.size a ≤ S3.size a) ∧
  (∀ k0_t15 : Fin (k0_t15_loop arg30 v849).trips, ∀ (k0_h3 : k0_cond3 arg29 = 1#1), ∀ a, (k0_off590 v616 k0_t13 arg30 v849 k0_t15) a + S1x1x256.size a ≤ S3x256x256.size a) ∧
  (∀ k0_t15 : Fin (k0_t15_loop arg30 v849).trips, ∀ (k0_h3 : k0_cond3 arg29 = 1#1), ∀ a, (k0_off592 arg29 arg30 v849 k0_t15) a + S1x1.size a ≤ S24x1536.size a) ∧
  (∀ k0_t15 : Fin (k0_t15_loop arg30 v849).trips, ∀ (k0_h3 : k0_cond3 arg29 = 1#1), ∀ a, (k0_off593 v616 k0_t13) a + S1.size a ≤ S3.size a) ∧
  (∀ k0_t15 : Fin (k0_t15_loop arg30 v849).trips, ∀ (k0_h3 : k0_cond3 arg29 = 1#1), ∀ a, (k0_off594 v616 k0_t13 arg30 v849 k0_t15) a + S1x1x256.size a ≤ S3x256x256.size a) ∧
  (∀ k0_t15 : Fin (k0_t15_loop arg30 v849).trips, ∀ (k0_h3 : k0_cond3 arg29 = 1#1), ∀ a, (k0_off596 arg29 arg30 v849 k0_t15) a + S1x1.size a ≤ S24x1536.size a) ∧
  (∀ k0_t15 : Fin (k0_t15_loop arg30 v849).trips, ∀ (k0_h3 : k0_cond3 arg29 = 1#1), ∀ a, (k0_off597 v616 k0_t13) a + S1.size a ≤ S3.size a)
def k0_chk188_2 (v616 : BitVec 32) (k0_t13 : Fin (k0_t13_loop v616).trips) (arg29 : BitVec 32) (arg30 : BitVec 32) (v849 : BitVec 32) : Prop :=
  (∀ k0_t15 : Fin (k0_t15_loop arg30 v849).trips, ∀ (k0_h3 : k0_cond3 arg29 = 1#1), ∀ a, (k0_off598 v616 k0_t13 arg30 v849 k0_t15) a + S1x1x256.size a ≤ S3x256x256.size a) ∧
  (∀ k0_t15 : Fin (k0_t15_loop arg30 v849).trips, ∀ (k0_h3 : k0_cond3 arg29 = 1#1), ∀ a, (k0_off600 arg29 arg30 v849 k0_t15) a + S1x1.size a ≤ S24x1536.size a) ∧
  (∀ k0_t15 : Fin (k0_t15_loop arg30 v849).trips, ∀ (k0_h3 : k0_cond3 arg29 = 1#1), ∀ a, (k0_off601 v616 k0_t13) a + S1.size a ≤ S3.size a) ∧
  (∀ k0_t15 : Fin (k0_t15_loop arg30 v849).trips, ∀ (k0_h3 : k0_cond3 arg29 = 1#1), ∀ a, (k0_off602 v616 k0_t13 arg30 v849 k0_t15) a + S1x1x256.size a ≤ S3x256x256.size a) ∧
  (∀ k0_t15 : Fin (k0_t15_loop arg30 v849).trips, ∀ (k0_h3 : k0_cond3 arg29 = 1#1), ∀ a, (k0_off604 arg29 arg30 v849 k0_t15) a + S1x1.size a ≤ S24x1536.size a) ∧
  (∀ k0_t15 : Fin (k0_t15_loop arg30 v849).trips, ∀ (k0_h3 : k0_cond3 arg29 = 1#1), ∀ a, (k0_off605 v616 k0_t13) a + S1.size a ≤ S3.size a) ∧
  (∀ k0_t15 : Fin (k0_t15_loop arg30 v849).trips, ∀ (k0_h3 : k0_cond3 arg29 = 1#1), ∀ a, (k0_off606 v616 k0_t13 arg30 v849 k0_t15) a + S1x1x256.size a ≤ S3x256x256.size a) ∧
  (∀ k0_t15 : Fin (k0_t15_loop arg30 v849).trips, ∀ (k0_h3 : k0_cond3 arg29 = 1#1), ∀ a, (k0_off608 arg29 arg30 v849 k0_t15) a + S1x1.size a ≤ S24x1536.size a) ∧
  (∀ k0_t15 : Fin (k0_t15_loop arg30 v849).trips, ∀ (k0_h3 : k0_cond3 arg29 = 1#1), ∀ a, (k0_off609 v616 k0_t13) a + S1.size a ≤ S3.size a) ∧
  (∀ k0_t15 : Fin (k0_t15_loop arg30 v849).trips, ∀ (k0_h3 : k0_cond3 arg29 = 1#1), ∀ a, (k0_off610 v616 k0_t13 arg30 v849 k0_t15) a + S1x1x256.size a ≤ S3x256x256.size a) ∧
  (∀ k0_t15 : Fin (k0_t15_loop arg30 v849).trips, ∀ (k0_h3 : k0_cond3 arg29 = 1#1), ∀ a, (k0_off612 arg29 arg30 v849 k0_t15) a + S1x1.size a ≤ S24x1536.size a) ∧
  (∀ k0_t15 : Fin (k0_t15_loop arg30 v849).trips, ∀ (k0_h3 : k0_cond3 arg29 = 1#1), ∀ a, (k0_off613 v616 k0_t13) a + S1.size a ≤ S3.size a) ∧
  (∀ k0_t15 : Fin (k0_t15_loop arg30 v849).trips, ∀ (k0_h3 : k0_cond3 arg29 = 1#1), ∀ a, (k0_off614 v616 k0_t13 arg30 v849 k0_t15) a + S1x1x256.size a ≤ S3x256x256.size a) ∧
  (∀ k0_t15 : Fin (k0_t15_loop arg30 v849).trips, ∀ (k0_h3 : k0_cond3 arg29 = 1#1), ∀ a, (k0_off616 arg29 arg30 v849 k0_t15) a + S1x1.size a ≤ S24x1536.size a) ∧
  (∀ k0_t15 : Fin (k0_t15_loop arg30 v849).trips, ∀ (k0_h3 : k0_cond3 arg29 = 1#1), ∀ a, (k0_off617 v616 k0_t13) a + S1.size a ≤ S3.size a) ∧
  (∀ k0_t15 : Fin (k0_t15_loop arg30 v849).trips, ∀ (k0_h3 : k0_cond3 arg29 = 1#1), ∀ a, (k0_off618 v616 k0_t13 arg30 v849 k0_t15) a + S1x1x256.size a ≤ S3x256x256.size a) ∧
  (∀ k0_t15 : Fin (k0_t15_loop arg30 v849).trips, ∀ (k0_h3 : k0_cond3 arg29 = 1#1), ∀ a, (k0_off620 arg29 arg30 v849 k0_t15) a + S1x1.size a ≤ S24x1536.size a) ∧
  (∀ k0_t15 : Fin (k0_t15_loop arg30 v849).trips, ∀ (k0_h3 : k0_cond3 arg29 = 1#1), ∀ a, (k0_off621 v616 k0_t13) a + S1.size a ≤ S3.size a) ∧
  (∀ k0_t15 : Fin (k0_t15_loop arg30 v849).trips, ∀ (k0_h3 : k0_cond3 arg29 = 1#1), ∀ a, (k0_off622 v616 k0_t13 arg30 v849 k0_t15) a + S1x1x256.size a ≤ S3x256x256.size a) ∧
  (∀ k0_t15 : Fin (k0_t15_loop arg30 v849).trips, ∀ (k0_h3 : k0_cond3 arg29 = 1#1), ∀ a, (k0_off624 arg29 arg30 v849 k0_t15) a + S1x1.size a ≤ S24x1536.size a) ∧
  (∀ k0_t15 : Fin (k0_t15_loop arg30 v849).trips, ∀ (k0_h3 : k0_cond3 arg29 = 1#1), ∀ a, (k0_off625 v616 k0_t13) a + S1.size a ≤ S3.size a) ∧
  (∀ k0_t15 : Fin (k0_t15_loop arg30 v849).trips, ∀ (k0_h3 : k0_cond3 arg29 = 1#1), ∀ a, (k0_off626 v616 k0_t13 arg30 v849 k0_t15) a + S1x1x256.size a ≤ S3x256x256.size a) ∧
  (∀ k0_t15 : Fin (k0_t15_loop arg30 v849).trips, ∀ (k0_h3 : k0_cond3 arg29 = 1#1), ∀ a, (k0_off628 arg29 arg30 v849 k0_t15) a + S1x1.size a ≤ S24x1536.size a) ∧
  (∀ k0_t15 : Fin (k0_t15_loop arg30 v849).trips, ∀ (k0_h3 : k0_cond3 arg29 = 1#1), ∀ a, (k0_off629 v616 k0_t13) a + S1.size a ≤ S3.size a) ∧
  (∀ k0_t15 : Fin (k0_t15_loop arg30 v849).trips, ∀ (k0_h3 : k0_cond3 arg29 = 1#1), ∀ a, (k0_off630 v616 k0_t13 arg30 v849 k0_t15) a + S1x1x256.size a ≤ S3x256x256.size a) ∧
  (∀ k0_t15 : Fin (k0_t15_loop arg30 v849).trips, ∀ (k0_h3 : k0_cond3 arg29 = 1#1), ∀ a, (k0_off632 arg29 arg30 v849 k0_t15) a + S1x1.size a ≤ S24x1536.size a) ∧
  (∀ k0_t15 : Fin (k0_t15_loop arg30 v849).trips, ∀ (k0_h3 : k0_cond3 arg29 = 1#1), ∀ a, (k0_off633 v616 k0_t13) a + S1.size a ≤ S3.size a) ∧
  (∀ k0_t15 : Fin (k0_t15_loop arg30 v849).trips, ∀ (k0_h3 : k0_cond3 arg29 = 1#1), ∀ a, (k0_off634 v616 k0_t13 arg30 v849 k0_t15) a + S1x1x256.size a ≤ S3x256x256.size a) ∧
  (∀ k0_t15 : Fin (k0_t15_loop arg30 v849).trips, ∀ (k0_h3 : k0_cond3 arg29 = 1#1), ∀ a, (k0_off636 arg29 arg30 v849 k0_t15) a + S1x1.size a ≤ S24x1536.size a) ∧
  (∀ k0_t15 : Fin (k0_t15_loop arg30 v849).trips, ∀ (k0_h3 : k0_cond3 arg29 = 1#1), ∀ a, (k0_off637 v616 k0_t13) a + S1.size a ≤ S3.size a) ∧
  (∀ k0_t15 : Fin (k0_t15_loop arg30 v849).trips, ∀ (k0_h3 : k0_cond3 arg29 = 1#1), ∀ a, (k0_off638 v616 k0_t13 arg30 v849 k0_t15) a + S1x1x256.size a ≤ S3x256x256.size a) ∧
  (∀ k0_t15 : Fin (k0_t15_loop arg30 v849).trips, ∀ (k0_h3 : k0_cond3 arg29 = 1#1), ∀ a, (k0_off640 arg29 arg30 v849 k0_t15) a + S1x1.size a ≤ S24x1536.size a)
def k0_chk188_3 (v616 : BitVec 32) (k0_t13 : Fin (k0_t13_loop v616).trips) (arg29 : BitVec 32) (arg30 : BitVec 32) (v849 : BitVec 32) : Prop :=
  (∀ k0_t15 : Fin (k0_t15_loop arg30 v849).trips, ∀ (k0_h3 : k0_cond3 arg29 = 1#1), ∀ a, (k0_off641 v616 k0_t13) a + S1.size a ≤ S3.size a) ∧
  (∀ k0_t15 : Fin (k0_t15_loop arg30 v849).trips, ∀ (k0_h3 : k0_cond3 arg29 = 1#1), ∀ a, (k0_off642 v616 k0_t13 arg30 v849 k0_t15) a + S1x1x256.size a ≤ S3x256x256.size a)
def k0_chk188 (v616 : BitVec 32) (k0_t13 : Fin (k0_t13_loop v616).trips) (arg29 : BitVec 32) (arg30 : BitVec 32) (v849 : BitVec 32) : Prop :=
  k0_chk188_0 v616 k0_t13 arg29 arg30 v849 ∧
  k0_chk188_1 v616 k0_t13 arg29 arg30 v849 ∧
  k0_chk188_2 v616 k0_t13 arg29 arg30 v849 ∧
  k0_chk188_3 v616 k0_t13 arg29 arg30 v849
theorem k0_t14_ok : ∀ (v616 : BitVec 32) (k0_t13 : Fin (k0_t13_loop v616).trips) (arg29 : BitVec 32) (arg30 : BitVec 32) (v849 : BitVec 32) (k0_hw188 : k0_chk188 v616 k0_t13 arg29 arg30 v849), ∀ (k0_h3 : k0_cond3 arg29 = 1#1), (k0_t14_loop arg30 v849).OK := fun v616 k0_t13 arg29 arg30 v849 k0_hw188 k0_h3 => k0_hw188.1.1 k0_h3
theorem k0_off516_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off516 arg29 arg30 v849 k0_t14) a + S1x1.size a ≤ S24x1536.size a := fun v616 k0_t13 arg29 arg30 v849 k0_hw188 k0_t14 k0_h3 => k0_hw188.1.2.1 k0_t14 k0_h3
theorem k0_off517_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off517 v616 k0_t13) a + S1.size a ≤ S3.size a := fun v616 k0_t13 arg29 arg30 v849 k0_hw188 k0_t14 k0_h3 => k0_hw188.1.2.2.1 k0_t14 k0_h3
theorem k0_off518_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off518 v616 k0_t13 arg30 v849 k0_t14) a + S1x1x256.size a ≤ S3x256x256.size a := fun v616 k0_t13 arg29 arg30 v849 k0_hw188 k0_t14 k0_h3 => k0_hw188.1.2.2.2.1 k0_t14 k0_h3
theorem k0_off520_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off520 arg29 arg30 v849 k0_t14) a + S1x1.size a ≤ S24x1536.size a := fun v616 k0_t13 arg29 arg30 v849 k0_hw188 k0_t14 k0_h3 => k0_hw188.1.2.2.2.2.1 k0_t14 k0_h3
theorem k0_off521_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off521 v616 k0_t13) a + S1.size a ≤ S3.size a := fun v616 k0_t13 arg29 arg30 v849 k0_hw188 k0_t14 k0_h3 => k0_hw188.1.2.2.2.2.2.1 k0_t14 k0_h3
theorem k0_off522_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off522 v616 k0_t13 arg30 v849 k0_t14) a + S1x1x256.size a ≤ S3x256x256.size a := fun v616 k0_t13 arg29 arg30 v849 k0_hw188 k0_t14 k0_h3 => k0_hw188.1.2.2.2.2.2.2.1 k0_t14 k0_h3
theorem k0_off524_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off524 arg29 arg30 v849 k0_t14) a + S1x1.size a ≤ S24x1536.size a := fun v616 k0_t13 arg29 arg30 v849 k0_hw188 k0_t14 k0_h3 => k0_hw188.1.2.2.2.2.2.2.2.1 k0_t14 k0_h3
theorem k0_off525_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off525 v616 k0_t13) a + S1.size a ≤ S3.size a := fun v616 k0_t13 arg29 arg30 v849 k0_hw188 k0_t14 k0_h3 => k0_hw188.1.2.2.2.2.2.2.2.2.1 k0_t14 k0_h3
theorem k0_off526_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off526 v616 k0_t13 arg30 v849 k0_t14) a + S1x1x256.size a ≤ S3x256x256.size a := fun v616 k0_t13 arg29 arg30 v849 k0_hw188 k0_t14 k0_h3 => k0_hw188.1.2.2.2.2.2.2.2.2.2.1 k0_t14 k0_h3
theorem k0_off528_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off528 arg29 arg30 v849 k0_t14) a + S1x1.size a ≤ S24x1536.size a := fun v616 k0_t13 arg29 arg30 v849 k0_hw188 k0_t14 k0_h3 => k0_hw188.1.2.2.2.2.2.2.2.2.2.2.1 k0_t14 k0_h3
theorem k0_off529_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off529 v616 k0_t13) a + S1.size a ≤ S3.size a := fun v616 k0_t13 arg29 arg30 v849 k0_hw188 k0_t14 k0_h3 => k0_hw188.1.2.2.2.2.2.2.2.2.2.2.2.1 k0_t14 k0_h3
theorem k0_off530_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off530 v616 k0_t13 arg30 v849 k0_t14) a + S1x1x256.size a ≤ S3x256x256.size a := fun v616 k0_t13 arg29 arg30 v849 k0_hw188 k0_t14 k0_h3 => k0_hw188.1.2.2.2.2.2.2.2.2.2.2.2.2.1 k0_t14 k0_h3
theorem k0_off532_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off532 arg29 arg30 v849 k0_t14) a + S1x1.size a ≤ S24x1536.size a := fun v616 k0_t13 arg29 arg30 v849 k0_hw188 k0_t14 k0_h3 => k0_hw188.1.2.2.2.2.2.2.2.2.2.2.2.2.2.1 k0_t14 k0_h3
theorem k0_off533_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off533 v616 k0_t13) a + S1.size a ≤ S3.size a := fun v616 k0_t13 arg29 arg30 v849 k0_hw188 k0_t14 k0_h3 => k0_hw188.1.2.2.2.2.2.2.2.2.2.2.2.2.2.2.1 k0_t14 k0_h3
theorem k0_off534_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off534 v616 k0_t13 arg30 v849 k0_t14) a + S1x1x256.size a ≤ S3x256x256.size a := fun v616 k0_t13 arg29 arg30 v849 k0_hw188 k0_t14 k0_h3 => k0_hw188.1.2.2.2.2.2.2.2.2.2.2.2.2.2.2.2.1 k0_t14 k0_h3
theorem k0_off536_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off536 arg29 arg30 v849 k0_t14) a + S1x1.size a ≤ S24x1536.size a := fun v616 k0_t13 arg29 arg30 v849 k0_hw188 k0_t14 k0_h3 => k0_hw188.1.2.2.2.2.2.2.2.2.2.2.2.2.2.2.2.2.1 k0_t14 k0_h3
theorem k0_off537_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off537 v616 k0_t13) a + S1.size a ≤ S3.size a := fun v616 k0_t13 arg29 arg30 v849 k0_hw188 k0_t14 k0_h3 => k0_hw188.1.2.2.2.2.2.2.2.2.2.2.2.2.2.2.2.2.2.1 k0_t14 k0_h3
theorem k0_off538_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off538 v616 k0_t13 arg30 v849 k0_t14) a + S1x1x256.size a ≤ S3x256x256.size a := fun v616 k0_t13 arg29 arg30 v849 k0_hw188 k0_t14 k0_h3 => k0_hw188.1.2.2.2.2.2.2.2.2.2.2.2.2.2.2.2.2.2.2.1 k0_t14 k0_h3
theorem k0_off540_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off540 arg29 arg30 v849 k0_t14) a + S1x1.size a ≤ S24x1536.size a := fun v616 k0_t13 arg29 arg30 v849 k0_hw188 k0_t14 k0_h3 => k0_hw188.1.2.2.2.2.2.2.2.2.2.2.2.2.2.2.2.2.2.2.2.1 k0_t14 k0_h3
theorem k0_off541_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off541 v616 k0_t13) a + S1.size a ≤ S3.size a := fun v616 k0_t13 arg29 arg30 v849 k0_hw188 k0_t14 k0_h3 => k0_hw188.1.2.2.2.2.2.2.2.2.2.2.2.2.2.2.2.2.2.2.2.2.1 k0_t14 k0_h3
theorem k0_off542_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off542 v616 k0_t13 arg30 v849 k0_t14) a + S1x1x256.size a ≤ S3x256x256.size a := fun v616 k0_t13 arg29 arg30 v849 k0_hw188 k0_t14 k0_h3 => k0_hw188.1.2.2.2.2.2.2.2.2.2.2.2.2.2.2.2.2.2.2.2.2.2.1 k0_t14 k0_h3
theorem k0_off544_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off544 arg29 arg30 v849 k0_t14) a + S1x1.size a ≤ S24x1536.size a := fun v616 k0_t13 arg29 arg30 v849 k0_hw188 k0_t14 k0_h3 => k0_hw188.1.2.2.2.2.2.2.2.2.2.2.2.2.2.2.2.2.2.2.2.2.2.2.1 k0_t14 k0_h3
theorem k0_off545_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off545 v616 k0_t13) a + S1.size a ≤ S3.size a := fun v616 k0_t13 arg29 arg30 v849 k0_hw188 k0_t14 k0_h3 => k0_hw188.1.2.2.2.2.2.2.2.2.2.2.2.2.2.2.2.2.2.2.2.2.2.2.2.1 k0_t14 k0_h3
theorem k0_off546_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off546 v616 k0_t13 arg30 v849 k0_t14) a + S1x1x256.size a ≤ S3x256x256.size a := fun v616 k0_t13 arg29 arg30 v849 k0_hw188 k0_t14 k0_h3 => k0_hw188.1.2.2.2.2.2.2.2.2.2.2.2.2.2.2.2.2.2.2.2.2.2.2.2.2.1 k0_t14 k0_h3
theorem k0_off548_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off548 arg29 arg30 v849 k0_t14) a + S1x1.size a ≤ S24x1536.size a := fun v616 k0_t13 arg29 arg30 v849 k0_hw188 k0_t14 k0_h3 => k0_hw188.1.2.2.2.2.2.2.2.2.2.2.2.2.2.2.2.2.2.2.2.2.2.2.2.2.2.1 k0_t14 k0_h3
theorem k0_off549_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off549 v616 k0_t13) a + S1.size a ≤ S3.size a := fun v616 k0_t13 arg29 arg30 v849 k0_hw188 k0_t14 k0_h3 => k0_hw188.1.2.2.2.2.2.2.2.2.2.2.2.2.2.2.2.2.2.2.2.2.2.2.2.2.2.2.1 k0_t14 k0_h3
theorem k0_off550_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off550 v616 k0_t13 arg30 v849 k0_t14) a + S1x1x256.size a ≤ S3x256x256.size a := fun v616 k0_t13 arg29 arg30 v849 k0_hw188 k0_t14 k0_h3 => k0_hw188.1.2.2.2.2.2.2.2.2.2.2.2.2.2.2.2.2.2.2.2.2.2.2.2.2.2.2.2.1 k0_t14 k0_h3
theorem k0_off552_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off552 arg29 arg30 v849 k0_t14) a + S1x1.size a ≤ S24x1536.size a := fun v616 k0_t13 arg29 arg30 v849 k0_hw188 k0_t14 k0_h3 => k0_hw188.1.2.2.2.2.2.2.2.2.2.2.2.2.2.2.2.2.2.2.2.2.2.2.2.2.2.2.2.2.1 k0_t14 k0_h3
theorem k0_off553_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off553 v616 k0_t13) a + S1.size a ≤ S3.size a := fun v616 k0_t13 arg29 arg30 v849 k0_hw188 k0_t14 k0_h3 => k0_hw188.1.2.2.2.2.2.2.2.2.2.2.2.2.2.2.2.2.2.2.2.2.2.2.2.2.2.2.2.2.2.1 k0_t14 k0_h3
theorem k0_off554_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off554 v616 k0_t13 arg30 v849 k0_t14) a + S1x1x256.size a ≤ S3x256x256.size a := fun v616 k0_t13 arg29 arg30 v849 k0_hw188 k0_t14 k0_h3 => k0_hw188.1.2.2.2.2.2.2.2.2.2.2.2.2.2.2.2.2.2.2.2.2.2.2.2.2.2.2.2.2.2.2.1 k0_t14 k0_h3
theorem k0_off556_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off556 arg29 arg30 v849 k0_t14) a + S1x1.size a ≤ S24x1536.size a := fun v616 k0_t13 arg29 arg30 v849 k0_hw188 k0_t14 k0_h3 => k0_hw188.1.2.2.2.2.2.2.2.2.2.2.2.2.2.2.2.2.2.2.2.2.2.2.2.2.2.2.2.2.2.2.2 k0_t14 k0_h3
theorem k0_off557_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off557 v616 k0_t13) a + S1.size a ≤ S3.size a := fun v616 k0_t13 arg29 arg30 v849 k0_hw188 k0_t14 k0_h3 => k0_hw188.2.1.1 k0_t14 k0_h3
theorem k0_off558_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off558 v616 k0_t13 arg30 v849 k0_t14) a + S1x1x256.size a ≤ S3x256x256.size a := fun v616 k0_t13 arg29 arg30 v849 k0_hw188 k0_t14 k0_h3 => k0_hw188.2.1.2.1 k0_t14 k0_h3
theorem k0_off560_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off560 arg29 arg30 v849 k0_t14) a + S1x1.size a ≤ S24x1536.size a := fun v616 k0_t13 arg29 arg30 v849 k0_hw188 k0_t14 k0_h3 => k0_hw188.2.1.2.2.1 k0_t14 k0_h3
theorem k0_off561_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off561 v616 k0_t13) a + S1.size a ≤ S3.size a := fun v616 k0_t13 arg29 arg30 v849 k0_hw188 k0_t14 k0_h3 => k0_hw188.2.1.2.2.2.1 k0_t14 k0_h3
theorem k0_off562_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off562 v616 k0_t13 arg30 v849 k0_t14) a + S1x1x256.size a ≤ S3x256x256.size a := fun v616 k0_t13 arg29 arg30 v849 k0_hw188 k0_t14 k0_h3 => k0_hw188.2.1.2.2.2.2.1 k0_t14 k0_h3
theorem k0_off564_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off564 arg29 arg30 v849 k0_t14) a + S1x1.size a ≤ S24x1536.size a := fun v616 k0_t13 arg29 arg30 v849 k0_hw188 k0_t14 k0_h3 => k0_hw188.2.1.2.2.2.2.2.1 k0_t14 k0_h3
theorem k0_off565_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off565 v616 k0_t13) a + S1.size a ≤ S3.size a := fun v616 k0_t13 arg29 arg30 v849 k0_hw188 k0_t14 k0_h3 => k0_hw188.2.1.2.2.2.2.2.2.1 k0_t14 k0_h3
theorem k0_off566_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off566 v616 k0_t13 arg30 v849 k0_t14) a + S1x1x256.size a ≤ S3x256x256.size a := fun v616 k0_t13 arg29 arg30 v849 k0_hw188 k0_t14 k0_h3 => k0_hw188.2.1.2.2.2.2.2.2.2.1 k0_t14 k0_h3
theorem k0_off568_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off568 arg29 arg30 v849 k0_t14) a + S1x1.size a ≤ S24x1536.size a := fun v616 k0_t13 arg29 arg30 v849 k0_hw188 k0_t14 k0_h3 => k0_hw188.2.1.2.2.2.2.2.2.2.2.1 k0_t14 k0_h3
theorem k0_off569_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off569 v616 k0_t13) a + S1.size a ≤ S3.size a := fun v616 k0_t13 arg29 arg30 v849 k0_hw188 k0_t14 k0_h3 => k0_hw188.2.1.2.2.2.2.2.2.2.2.2.1 k0_t14 k0_h3
theorem k0_off570_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off570 v616 k0_t13 arg30 v849 k0_t14) a + S1x1x256.size a ≤ S3x256x256.size a := fun v616 k0_t13 arg29 arg30 v849 k0_hw188 k0_t14 k0_h3 => k0_hw188.2.1.2.2.2.2.2.2.2.2.2.2.1 k0_t14 k0_h3
theorem k0_off572_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off572 arg29 arg30 v849 k0_t14) a + S1x1.size a ≤ S24x1536.size a := fun v616 k0_t13 arg29 arg30 v849 k0_hw188 k0_t14 k0_h3 => k0_hw188.2.1.2.2.2.2.2.2.2.2.2.2.2.1 k0_t14 k0_h3
theorem k0_off573_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off573 v616 k0_t13) a + S1.size a ≤ S3.size a := fun v616 k0_t13 arg29 arg30 v849 k0_hw188 k0_t14 k0_h3 => k0_hw188.2.1.2.2.2.2.2.2.2.2.2.2.2.2.1 k0_t14 k0_h3
theorem k0_off574_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off574 v616 k0_t13 arg30 v849 k0_t14) a + S1x1x256.size a ≤ S3x256x256.size a := fun v616 k0_t13 arg29 arg30 v849 k0_hw188 k0_t14 k0_h3 => k0_hw188.2.1.2.2.2.2.2.2.2.2.2.2.2.2.2.1 k0_t14 k0_h3
theorem k0_off576_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off576 arg29 arg30 v849 k0_t14) a + S1x1.size a ≤ S24x1536.size a := fun v616 k0_t13 arg29 arg30 v849 k0_hw188 k0_t14 k0_h3 => k0_hw188.2.1.2.2.2.2.2.2.2.2.2.2.2.2.2.2.1 k0_t14 k0_h3
theorem k0_off577_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off577 v616 k0_t13) a + S1.size a ≤ S3.size a := fun v616 k0_t13 arg29 arg30 v849 k0_hw188 k0_t14 k0_h3 => k0_hw188.2.1.2.2.2.2.2.2.2.2.2.2.2.2.2.2.2.1 k0_t14 k0_h3
theorem k0_off578_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t14 : Fin (k0_t14_loop arg30 v849).trips), ∀ (k0_h3 : k0_cond3 arg29 = 1#1), ∀ a, (k0_off578 v616 k0_t13 arg30 v849 k0_t14) a + S1x1x256.size a ≤ S3x256x256.size a := fun v616 k0_t13 arg29 arg30 v849 k0_hw188 k0_t14 k0_h3 => k0_hw188.2.1.2.2.2.2.2.2.2.2.2.2.2.2.2.2.2.2.1 k0_t14 k0_h3
theorem k0_t15_ok : ∀ (v616 : BitVec 32) (k0_t13 : Fin (k0_t13_loop v616).trips) (arg29 : BitVec 32) (arg30 : BitVec 32) (v849 : BitVec 32) (k0_hw188 : k0_chk188 v616 k0_t13 arg29 arg30 v849), ∀ (k0_h3 : k0_cond3 arg29 = 1#1), (k0_t15_loop arg30 v849).OK := fun v616 k0_t13 arg29 arg30 v849 k0_hw188 k0_h3 => k0_hw188.2.1.2.2.2.2.2.2.2.2.2.2.2.2.2.2.2.2.2.1 k0_h3
theorem k0_off580_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off580 arg29 arg30 v849 k0_t15) a + S1x1.size a ≤ S24x1536.size a := fun v616 k0_t13 arg29 arg30 v849 k0_hw188 k0_t15 k0_h3 => k0_hw188.2.1.2.2.2.2.2.2.2.2.2.2.2.2.2.2.2.2.2.2.1 k0_t15 k0_h3
theorem k0_off581_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off581 v616 k0_t13) a + S1.size a ≤ S3.size a := fun v616 k0_t13 arg29 arg30 v849 k0_hw188 k0_t15 k0_h3 => k0_hw188.2.1.2.2.2.2.2.2.2.2.2.2.2.2.2.2.2.2.2.2.2.1 k0_t15 k0_h3
theorem k0_off582_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off582 v616 k0_t13 arg30 v849 k0_t15) a + S1x1x256.size a ≤ S3x256x256.size a := fun v616 k0_t13 arg29 arg30 v849 k0_hw188 k0_t15 k0_h3 => k0_hw188.2.1.2.2.2.2.2.2.2.2.2.2.2.2.2.2.2.2.2.2.2.2.1 k0_t15 k0_h3
theorem k0_off584_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off584 arg29 arg30 v849 k0_t15) a + S1x1.size a ≤ S24x1536.size a := fun v616 k0_t13 arg29 arg30 v849 k0_hw188 k0_t15 k0_h3 => k0_hw188.2.1.2.2.2.2.2.2.2.2.2.2.2.2.2.2.2.2.2.2.2.2.2.1 k0_t15 k0_h3
theorem k0_off585_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off585 v616 k0_t13) a + S1.size a ≤ S3.size a := fun v616 k0_t13 arg29 arg30 v849 k0_hw188 k0_t15 k0_h3 => k0_hw188.2.1.2.2.2.2.2.2.2.2.2.2.2.2.2.2.2.2.2.2.2.2.2.2.1 k0_t15 k0_h3
theorem k0_off586_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off586 v616 k0_t13 arg30 v849 k0_t15) a + S1x1x256.size a ≤ S3x256x256.size a := fun v616 k0_t13 arg29 arg30 v849 k0_hw188 k0_t15 k0_h3 => k0_hw188.2.1.2.2.2.2.2.2.2.2.2.2.2.2.2.2.2.2.2.2.2.2.2.2.2.1 k0_t15 k0_h3
theorem k0_off588_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off588 arg29 arg30 v849 k0_t15) a + S1x1.size a ≤ S24x1536.size a := fun v616 k0_t13 arg29 arg30 v849 k0_hw188 k0_t15 k0_h3 => k0_hw188.2.1.2.2.2.2.2.2.2.2.2.2.2.2.2.2.2.2.2.2.2.2.2.2.2.2.1 k0_t15 k0_h3
theorem k0_off589_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off589 v616 k0_t13) a + S1.size a ≤ S3.size a := fun v616 k0_t13 arg29 arg30 v849 k0_hw188 k0_t15 k0_h3 => k0_hw188.2.1.2.2.2.2.2.2.2.2.2.2.2.2.2.2.2.2.2.2.2.2.2.2.2.2.2.1 k0_t15 k0_h3
theorem k0_off590_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off590 v616 k0_t13 arg30 v849 k0_t15) a + S1x1x256.size a ≤ S3x256x256.size a := fun v616 k0_t13 arg29 arg30 v849 k0_hw188 k0_t15 k0_h3 => k0_hw188.2.1.2.2.2.2.2.2.2.2.2.2.2.2.2.2.2.2.2.2.2.2.2.2.2.2.2.2.1 k0_t15 k0_h3
theorem k0_off592_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off592 arg29 arg30 v849 k0_t15) a + S1x1.size a ≤ S24x1536.size a := fun v616 k0_t13 arg29 arg30 v849 k0_hw188 k0_t15 k0_h3 => k0_hw188.2.1.2.2.2.2.2.2.2.2.2.2.2.2.2.2.2.2.2.2.2.2.2.2.2.2.2.2.2.1 k0_t15 k0_h3
theorem k0_off593_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off593 v616 k0_t13) a + S1.size a ≤ S3.size a := fun v616 k0_t13 arg29 arg30 v849 k0_hw188 k0_t15 k0_h3 => k0_hw188.2.1.2.2.2.2.2.2.2.2.2.2.2.2.2.2.2.2.2.2.2.2.2.2.2.2.2.2.2.2.1 k0_t15 k0_h3
theorem k0_off594_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off594 v616 k0_t13 arg30 v849 k0_t15) a + S1x1x256.size a ≤ S3x256x256.size a := fun v616 k0_t13 arg29 arg30 v849 k0_hw188 k0_t15 k0_h3 => k0_hw188.2.1.2.2.2.2.2.2.2.2.2.2.2.2.2.2.2.2.2.2.2.2.2.2.2.2.2.2.2.2.2.1 k0_t15 k0_h3
theorem k0_off596_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off596 arg29 arg30 v849 k0_t15) a + S1x1.size a ≤ S24x1536.size a := fun v616 k0_t13 arg29 arg30 v849 k0_hw188 k0_t15 k0_h3 => k0_hw188.2.1.2.2.2.2.2.2.2.2.2.2.2.2.2.2.2.2.2.2.2.2.2.2.2.2.2.2.2.2.2.2.1 k0_t15 k0_h3
theorem k0_off597_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off597 v616 k0_t13) a + S1.size a ≤ S3.size a := fun v616 k0_t13 arg29 arg30 v849 k0_hw188 k0_t15 k0_h3 => k0_hw188.2.1.2.2.2.2.2.2.2.2.2.2.2.2.2.2.2.2.2.2.2.2.2.2.2.2.2.2.2.2.2.2.2 k0_t15 k0_h3
theorem k0_off598_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off598 v616 k0_t13 arg30 v849 k0_t15) a + S1x1x256.size a ≤ S3x256x256.size a := fun v616 k0_t13 arg29 arg30 v849 k0_hw188 k0_t15 k0_h3 => k0_hw188.2.2.1.1 k0_t15 k0_h3
theorem k0_off600_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off600 arg29 arg30 v849 k0_t15) a + S1x1.size a ≤ S24x1536.size a := fun v616 k0_t13 arg29 arg30 v849 k0_hw188 k0_t15 k0_h3 => k0_hw188.2.2.1.2.1 k0_t15 k0_h3
theorem k0_off601_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off601 v616 k0_t13) a + S1.size a ≤ S3.size a := fun v616 k0_t13 arg29 arg30 v849 k0_hw188 k0_t15 k0_h3 => k0_hw188.2.2.1.2.2.1 k0_t15 k0_h3
theorem k0_off602_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off602 v616 k0_t13 arg30 v849 k0_t15) a + S1x1x256.size a ≤ S3x256x256.size a := fun v616 k0_t13 arg29 arg30 v849 k0_hw188 k0_t15 k0_h3 => k0_hw188.2.2.1.2.2.2.1 k0_t15 k0_h3
theorem k0_off604_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off604 arg29 arg30 v849 k0_t15) a + S1x1.size a ≤ S24x1536.size a := fun v616 k0_t13 arg29 arg30 v849 k0_hw188 k0_t15 k0_h3 => k0_hw188.2.2.1.2.2.2.2.1 k0_t15 k0_h3
theorem k0_off605_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off605 v616 k0_t13) a + S1.size a ≤ S3.size a := fun v616 k0_t13 arg29 arg30 v849 k0_hw188 k0_t15 k0_h3 => k0_hw188.2.2.1.2.2.2.2.2.1 k0_t15 k0_h3
theorem k0_off606_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off606 v616 k0_t13 arg30 v849 k0_t15) a + S1x1x256.size a ≤ S3x256x256.size a := fun v616 k0_t13 arg29 arg30 v849 k0_hw188 k0_t15 k0_h3 => k0_hw188.2.2.1.2.2.2.2.2.2.1 k0_t15 k0_h3
theorem k0_off608_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off608 arg29 arg30 v849 k0_t15) a + S1x1.size a ≤ S24x1536.size a := fun v616 k0_t13 arg29 arg30 v849 k0_hw188 k0_t15 k0_h3 => k0_hw188.2.2.1.2.2.2.2.2.2.2.1 k0_t15 k0_h3
theorem k0_off609_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off609 v616 k0_t13) a + S1.size a ≤ S3.size a := fun v616 k0_t13 arg29 arg30 v849 k0_hw188 k0_t15 k0_h3 => k0_hw188.2.2.1.2.2.2.2.2.2.2.2.1 k0_t15 k0_h3
theorem k0_off610_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off610 v616 k0_t13 arg30 v849 k0_t15) a + S1x1x256.size a ≤ S3x256x256.size a := fun v616 k0_t13 arg29 arg30 v849 k0_hw188 k0_t15 k0_h3 => k0_hw188.2.2.1.2.2.2.2.2.2.2.2.2.1 k0_t15 k0_h3
theorem k0_off612_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off612 arg29 arg30 v849 k0_t15) a + S1x1.size a ≤ S24x1536.size a := fun v616 k0_t13 arg29 arg30 v849 k0_hw188 k0_t15 k0_h3 => k0_hw188.2.2.1.2.2.2.2.2.2.2.2.2.2.1 k0_t15 k0_h3
theorem k0_off613_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off613 v616 k0_t13) a + S1.size a ≤ S3.size a := fun v616 k0_t13 arg29 arg30 v849 k0_hw188 k0_t15 k0_h3 => k0_hw188.2.2.1.2.2.2.2.2.2.2.2.2.2.2.1 k0_t15 k0_h3
theorem k0_off614_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off614 v616 k0_t13 arg30 v849 k0_t15) a + S1x1x256.size a ≤ S3x256x256.size a := fun v616 k0_t13 arg29 arg30 v849 k0_hw188 k0_t15 k0_h3 => k0_hw188.2.2.1.2.2.2.2.2.2.2.2.2.2.2.2.1 k0_t15 k0_h3
theorem k0_off616_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off616 arg29 arg30 v849 k0_t15) a + S1x1.size a ≤ S24x1536.size a := fun v616 k0_t13 arg29 arg30 v849 k0_hw188 k0_t15 k0_h3 => k0_hw188.2.2.1.2.2.2.2.2.2.2.2.2.2.2.2.2.1 k0_t15 k0_h3
theorem k0_off617_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off617 v616 k0_t13) a + S1.size a ≤ S3.size a := fun v616 k0_t13 arg29 arg30 v849 k0_hw188 k0_t15 k0_h3 => k0_hw188.2.2.1.2.2.2.2.2.2.2.2.2.2.2.2.2.2.1 k0_t15 k0_h3
theorem k0_off618_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off618 v616 k0_t13 arg30 v849 k0_t15) a + S1x1x256.size a ≤ S3x256x256.size a := fun v616 k0_t13 arg29 arg30 v849 k0_hw188 k0_t15 k0_h3 => k0_hw188.2.2.1.2.2.2.2.2.2.2.2.2.2.2.2.2.2.2.1 k0_t15 k0_h3
theorem k0_off620_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off620 arg29 arg30 v849 k0_t15) a + S1x1.size a ≤ S24x1536.size a := fun v616 k0_t13 arg29 arg30 v849 k0_hw188 k0_t15 k0_h3 => k0_hw188.2.2.1.2.2.2.2.2.2.2.2.2.2.2.2.2.2.2.2.1 k0_t15 k0_h3
theorem k0_off621_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off621 v616 k0_t13) a + S1.size a ≤ S3.size a := fun v616 k0_t13 arg29 arg30 v849 k0_hw188 k0_t15 k0_h3 => k0_hw188.2.2.1.2.2.2.2.2.2.2.2.2.2.2.2.2.2.2.2.2.1 k0_t15 k0_h3
theorem k0_off622_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off622 v616 k0_t13 arg30 v849 k0_t15) a + S1x1x256.size a ≤ S3x256x256.size a := fun v616 k0_t13 arg29 arg30 v849 k0_hw188 k0_t15 k0_h3 => k0_hw188.2.2.1.2.2.2.2.2.2.2.2.2.2.2.2.2.2.2.2.2.2.1 k0_t15 k0_h3
theorem k0_off624_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off624 arg29 arg30 v849 k0_t15) a + S1x1.size a ≤ S24x1536.size a := fun v616 k0_t13 arg29 arg30 v849 k0_hw188 k0_t15 k0_h3 => k0_hw188.2.2.1.2.2.2.2.2.2.2.2.2.2.2.2.2.2.2.2.2.2.2.1 k0_t15 k0_h3
theorem k0_off625_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off625 v616 k0_t13) a + S1.size a ≤ S3.size a := fun v616 k0_t13 arg29 arg30 v849 k0_hw188 k0_t15 k0_h3 => k0_hw188.2.2.1.2.2.2.2.2.2.2.2.2.2.2.2.2.2.2.2.2.2.2.2.1 k0_t15 k0_h3
theorem k0_off626_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off626 v616 k0_t13 arg30 v849 k0_t15) a + S1x1x256.size a ≤ S3x256x256.size a := fun v616 k0_t13 arg29 arg30 v849 k0_hw188 k0_t15 k0_h3 => k0_hw188.2.2.1.2.2.2.2.2.2.2.2.2.2.2.2.2.2.2.2.2.2.2.2.2.1 k0_t15 k0_h3
theorem k0_off628_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off628 arg29 arg30 v849 k0_t15) a + S1x1.size a ≤ S24x1536.size a := fun v616 k0_t13 arg29 arg30 v849 k0_hw188 k0_t15 k0_h3 => k0_hw188.2.2.1.2.2.2.2.2.2.2.2.2.2.2.2.2.2.2.2.2.2.2.2.2.2.1 k0_t15 k0_h3
theorem k0_off629_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off629 v616 k0_t13) a + S1.size a ≤ S3.size a := fun v616 k0_t13 arg29 arg30 v849 k0_hw188 k0_t15 k0_h3 => k0_hw188.2.2.1.2.2.2.2.2.2.2.2.2.2.2.2.2.2.2.2.2.2.2.2.2.2.2.1 k0_t15 k0_h3
theorem k0_off630_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off630 v616 k0_t13 arg30 v849 k0_t15) a + S1x1x256.size a ≤ S3x256x256.size a := fun v616 k0_t13 arg29 arg30 v849 k0_hw188 k0_t15 k0_h3 => k0_hw188.2.2.1.2.2.2.2.2.2.2.2.2.2.2.2.2.2.2.2.2.2.2.2.2.2.2.2.1 k0_t15 k0_h3
theorem k0_off632_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off632 arg29 arg30 v849 k0_t15) a + S1x1.size a ≤ S24x1536.size a := fun v616 k0_t13 arg29 arg30 v849 k0_hw188 k0_t15 k0_h3 => k0_hw188.2.2.1.2.2.2.2.2.2.2.2.2.2.2.2.2.2.2.2.2.2.2.2.2.2.2.2.2.1 k0_t15 k0_h3
theorem k0_off633_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off633 v616 k0_t13) a + S1.size a ≤ S3.size a := fun v616 k0_t13 arg29 arg30 v849 k0_hw188 k0_t15 k0_h3 => k0_hw188.2.2.1.2.2.2.2.2.2.2.2.2.2.2.2.2.2.2.2.2.2.2.2.2.2.2.2.2.2.1 k0_t15 k0_h3
theorem k0_off634_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off634 v616 k0_t13 arg30 v849 k0_t15) a + S1x1x256.size a ≤ S3x256x256.size a := fun v616 k0_t13 arg29 arg30 v849 k0_hw188 k0_t15 k0_h3 => k0_hw188.2.2.1.2.2.2.2.2.2.2.2.2.2.2.2.2.2.2.2.2.2.2.2.2.2.2.2.2.2.2.1 k0_t15 k0_h3
theorem k0_off636_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off636 arg29 arg30 v849 k0_t15) a + S1x1.size a ≤ S24x1536.size a := fun v616 k0_t13 arg29 arg30 v849 k0_hw188 k0_t15 k0_h3 => k0_hw188.2.2.1.2.2.2.2.2.2.2.2.2.2.2.2.2.2.2.2.2.2.2.2.2.2.2.2.2.2.2.2.1 k0_t15 k0_h3
theorem k0_off637_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off637 v616 k0_t13) a + S1.size a ≤ S3.size a := fun v616 k0_t13 arg29 arg30 v849 k0_hw188 k0_t15 k0_h3 => k0_hw188.2.2.1.2.2.2.2.2.2.2.2.2.2.2.2.2.2.2.2.2.2.2.2.2.2.2.2.2.2.2.2.2.1 k0_t15 k0_h3
theorem k0_off638_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off638 v616 k0_t13 arg30 v849 k0_t15) a + S1x1x256.size a ≤ S3x256x256.size a := fun v616 k0_t13 arg29 arg30 v849 k0_hw188 k0_t15 k0_h3 => k0_hw188.2.2.1.2.2.2.2.2.2.2.2.2.2.2.2.2.2.2.2.2.2.2.2.2.2.2.2.2.2.2.2.2.2.1 k0_t15 k0_h3
theorem k0_off640_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off640 arg29 arg30 v849 k0_t15) a + S1x1.size a ≤ S24x1536.size a := fun v616 k0_t13 arg29 arg30 v849 k0_hw188 k0_t15 k0_h3 => k0_hw188.2.2.1.2.2.2.2.2.2.2.2.2.2.2.2.2.2.2.2.2.2.2.2.2.2.2.2.2.2.2.2.2.2.2 k0_t15 k0_h3
theorem k0_off641_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off641 v616 k0_t13) a + S1.size a ≤ S3.size a := fun v616 k0_t13 arg29 arg30 v849 k0_hw188 k0_t15 k0_h3 => k0_hw188.2.2.2.1 k0_t15 k0_h3
theorem k0_off642_inb : ∀ (v616 : BitVec 32) (k0_t13 : Fin (k0_t13_loop v616).trips) (arg29 : BitVec 32) (arg30 : BitVec 32) (v849 : BitVec 32) (k0_hw188 : k0_chk188 v616 k0_t13 arg29 arg30 v849) (k0_t15 : Fin (k0_t15_loop arg30 v849).trips), ∀ (k0_h3 : k0_cond3 arg29 = 1#1), ∀ a, (k0_off642 v616 k0_t13 arg30 v849 k0_t15) a + S1x1x256.size a ≤ S3x256x256.size a := fun v616 k0_t13 arg29 arg30 v849 k0_hw188 k0_t15 k0_h3 => k0_hw188.2.2.2.2 k0_t15 k0_h3

def k0_off643 (v1067 : BitVec 32) : Fin 2 → Nat :=
  let c2_i32_683 : BitVec 32 := 2#32
  let v1068 : BitVec 32 := Scalar.shrui v1067 c2_i32_683
  let c0_i32_685 : BitVec 32 := 0#32
  ![v1068.toNat, 0]

def k0_chk220 (arg29 : BitVec 32) (v1067 : BitVec 32) : Prop :=
  (∀ (k0_h3 : k0_cond3 arg29 = 1#1), ∀ a, (k0_off643 v1067) a + S1x256.size a ≤ S250000x256.size a)
theorem k0_off643_inb : ∀ (arg29 : BitVec 32) (v1067 : BitVec 32) (k0_hw220 : k0_chk220 arg29 v1067), ∀ (k0_h3 : k0_cond3 arg29 = 1#1), ∀ a, (k0_off643 v1067) a + S1x256.size a ≤ S250000x256.size a := fun arg29 v1067 k0_hw220 k0_h3 => k0_hw220 k0_h3

def k0_off644 (arg25 : BitVec 32) : Fin 1 → Nat :=
  let v666 : Index := Scalar.indexCast arg25
  ![v666.toNat]

@[reducible] def k0_t16_loop (arg26 : BitVec 32) (v667 : BitVec 32) : Scf.Loop 32 :=
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_499 : BitVec 32 := 1#32
  ⟨c0_i32_497, v681, c1_i32_499⟩

def k0_off645 (arg25 : BitVec 32) (arg26 : BitVec 32) (v667 : BitVec 32) (k0_t16 : Fin (k0_t16_loop arg26 v667).trips) : Fin 2 → Nat :=
  let v852 : Index := Scalar.indexCast arg25
  let c256_i32_576 : BitVec 32 := 256#32
  let v850 : BitVec 32 := Scalar.muli arg26 c256_i32_576
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_574 : BitVec 32 := 16#32
  let v848 : BitVec 32 := Scalar.muli v847 c16_i32_574
  let c0_i32_575 : BitVec 32 := 0#32
  let v849 : BitVec 32 := Scalar.addi v848 c0_i32_575
  let v851 : BitVec 32 := Scalar.addi v850 v849
  let v853 : Index := Scalar.indexCast v851
  ![v852.toNat, v853.toNat]
def k0_mult58 (v854 : BitVec 32) : BitVec 32 :=
  let c7_i32_577 : BitVec 32 := 7#32
  let v855 : BitVec 32 := Scalar.shrui v854 c7_i32_577
  let c128_i32_578 : BitVec 32 := 128#32
  let v856 : BitVec 32 := Scalar.muli v855 c128_i32_578
  v856

def k0_off646 (v854 : BitVec 32) : Fin 1 → Nat :=
  let c7_i32_577 : BitVec 32 := 7#32
  let v855 : BitVec 32 := Scalar.shrui v854 c7_i32_577
  let c128_i32_578 : BitVec 32 := 128#32
  let v856 : BitVec 32 := Scalar.muli v855 c128_i32_578
  let v857 : BitVec 32 := v856
  let v858 : Index := Scalar.indexCast v857
  ![v858.toNat]

def k0_chk223 (v854 : BitVec 32) : Prop :=
  (128 ∣ (k0_mult58 v854).toNat) ∧
  (∀ a, (k0_off646 v854) a + S128.size a ≤ S1000000.size a)
theorem k0_mult58_dvd : ∀ (v854 : BitVec 32) (k0_hw223 : k0_chk223 v854), 128 ∣ (k0_mult58 v854).toNat := fun v854 k0_hw223 => k0_hw223.1
theorem k0_off646_inb : ∀ (v854 : BitVec 32) (k0_hw223 : k0_chk223 v854), ∀ a, (k0_off646 v854) a + S128.size a ≤ S1000000.size a := fun v854 k0_hw223 => k0_hw223.2

def k0_off647 (arg26 : BitVec 32) (v667 : BitVec 32) (k0_t16 : Fin (k0_t16_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_574 : BitVec 32 := 16#32
  let v848 : BitVec 32 := Scalar.muli v847 c16_i32_574
  let c0_i32_575 : BitVec 32 := 0#32
  let v849 : BitVec 32 := Scalar.addi v848 c0_i32_575
  let v861 : Index := Scalar.indexCast v849
  let c0_579 : Index := 0#32
  ![v861.toNat, 0]
def k0_off648 (arg25 : BitVec 32) (arg26 : BitVec 32) (v667 : BitVec 32) (k0_t16 : Fin (k0_t16_loop arg26 v667).trips) : Fin 2 → Nat :=
  let v869 : Index := Scalar.indexCast arg25
  let c256_i32_582 : BitVec 32 := 256#32
  let v867 : BitVec 32 := Scalar.muli arg26 c256_i32_582
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_580 : BitVec 32 := 16#32
  let v865 : BitVec 32 := Scalar.muli v847 c16_i32_580
  let c1_i32_581 : BitVec 32 := 1#32
  let v866 : BitVec 32 := Scalar.addi v865 c1_i32_581
  let v868 : BitVec 32 := Scalar.addi v867 v866
  let v870 : Index := Scalar.indexCast v868
  ![v869.toNat, v870.toNat]
def k0_mult59 (v871 : BitVec 32) : BitVec 32 :=
  let c7_i32_583 : BitVec 32 := 7#32
  let v872 : BitVec 32 := Scalar.shrui v871 c7_i32_583
  let c128_i32_584 : BitVec 32 := 128#32
  let v873 : BitVec 32 := Scalar.muli v872 c128_i32_584
  v873

def k0_off649 (v871 : BitVec 32) : Fin 1 → Nat :=
  let c7_i32_583 : BitVec 32 := 7#32
  let v872 : BitVec 32 := Scalar.shrui v871 c7_i32_583
  let c128_i32_584 : BitVec 32 := 128#32
  let v873 : BitVec 32 := Scalar.muli v872 c128_i32_584
  let v874 : BitVec 32 := v873
  let v875 : Index := Scalar.indexCast v874
  ![v875.toNat]

def k0_chk224 (v871 : BitVec 32) : Prop :=
  (128 ∣ (k0_mult59 v871).toNat) ∧
  (∀ a, (k0_off649 v871) a + S128.size a ≤ S1000000.size a)
theorem k0_mult59_dvd : ∀ (v871 : BitVec 32) (k0_hw224 : k0_chk224 v871), 128 ∣ (k0_mult59 v871).toNat := fun v871 k0_hw224 => k0_hw224.1
theorem k0_off649_inb : ∀ (v871 : BitVec 32) (k0_hw224 : k0_chk224 v871), ∀ a, (k0_off649 v871) a + S128.size a ≤ S1000000.size a := fun v871 k0_hw224 => k0_hw224.2

def k0_off650 (arg26 : BitVec 32) (v667 : BitVec 32) (k0_t16 : Fin (k0_t16_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_580 : BitVec 32 := 16#32
  let v865 : BitVec 32 := Scalar.muli v847 c16_i32_580
  let c1_i32_581 : BitVec 32 := 1#32
  let v866 : BitVec 32 := Scalar.addi v865 c1_i32_581
  let v878 : Index := Scalar.indexCast v866
  let c0_585 : Index := 0#32
  ![v878.toNat, 0]
def k0_off651 (arg25 : BitVec 32) (arg26 : BitVec 32) (v667 : BitVec 32) (k0_t16 : Fin (k0_t16_loop arg26 v667).trips) : Fin 2 → Nat :=
  let v886 : Index := Scalar.indexCast arg25
  let c256_i32_588 : BitVec 32 := 256#32
  let v884 : BitVec 32 := Scalar.muli arg26 c256_i32_588
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_586 : BitVec 32 := 16#32
  let v882 : BitVec 32 := Scalar.muli v847 c16_i32_586
  let c2_i32_587 : BitVec 32 := 2#32
  let v883 : BitVec 32 := Scalar.addi v882 c2_i32_587
  let v885 : BitVec 32 := Scalar.addi v884 v883
  let v887 : Index := Scalar.indexCast v885
  ![v886.toNat, v887.toNat]
def k0_mult60 (v888 : BitVec 32) : BitVec 32 :=
  let c7_i32_589 : BitVec 32 := 7#32
  let v889 : BitVec 32 := Scalar.shrui v888 c7_i32_589
  let c128_i32_590 : BitVec 32 := 128#32
  let v890 : BitVec 32 := Scalar.muli v889 c128_i32_590
  v890

def k0_off652 (v888 : BitVec 32) : Fin 1 → Nat :=
  let c7_i32_589 : BitVec 32 := 7#32
  let v889 : BitVec 32 := Scalar.shrui v888 c7_i32_589
  let c128_i32_590 : BitVec 32 := 128#32
  let v890 : BitVec 32 := Scalar.muli v889 c128_i32_590
  let v891 : BitVec 32 := v890
  let v892 : Index := Scalar.indexCast v891
  ![v892.toNat]

def k0_chk225 (v888 : BitVec 32) : Prop :=
  (128 ∣ (k0_mult60 v888).toNat) ∧
  (∀ a, (k0_off652 v888) a + S128.size a ≤ S1000000.size a)
theorem k0_mult60_dvd : ∀ (v888 : BitVec 32) (k0_hw225 : k0_chk225 v888), 128 ∣ (k0_mult60 v888).toNat := fun v888 k0_hw225 => k0_hw225.1
theorem k0_off652_inb : ∀ (v888 : BitVec 32) (k0_hw225 : k0_chk225 v888), ∀ a, (k0_off652 v888) a + S128.size a ≤ S1000000.size a := fun v888 k0_hw225 => k0_hw225.2

def k0_off653 (arg26 : BitVec 32) (v667 : BitVec 32) (k0_t16 : Fin (k0_t16_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_586 : BitVec 32 := 16#32
  let v882 : BitVec 32 := Scalar.muli v847 c16_i32_586
  let c2_i32_587 : BitVec 32 := 2#32
  let v883 : BitVec 32 := Scalar.addi v882 c2_i32_587
  let v895 : Index := Scalar.indexCast v883
  let c0_591 : Index := 0#32
  ![v895.toNat, 0]
def k0_off654 (arg25 : BitVec 32) (arg26 : BitVec 32) (v667 : BitVec 32) (k0_t16 : Fin (k0_t16_loop arg26 v667).trips) : Fin 2 → Nat :=
  let v903 : Index := Scalar.indexCast arg25
  let c256_i32_594 : BitVec 32 := 256#32
  let v901 : BitVec 32 := Scalar.muli arg26 c256_i32_594
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_592 : BitVec 32 := 16#32
  let v899 : BitVec 32 := Scalar.muli v847 c16_i32_592
  let c3_i32_593 : BitVec 32 := 3#32
  let v900 : BitVec 32 := Scalar.addi v899 c3_i32_593
  let v902 : BitVec 32 := Scalar.addi v901 v900
  let v904 : Index := Scalar.indexCast v902
  ![v903.toNat, v904.toNat]
def k0_mult61 (v905 : BitVec 32) : BitVec 32 :=
  let c7_i32_595 : BitVec 32 := 7#32
  let v906 : BitVec 32 := Scalar.shrui v905 c7_i32_595
  let c128_i32_596 : BitVec 32 := 128#32
  let v907 : BitVec 32 := Scalar.muli v906 c128_i32_596
  v907

def k0_off655 (v905 : BitVec 32) : Fin 1 → Nat :=
  let c7_i32_595 : BitVec 32 := 7#32
  let v906 : BitVec 32 := Scalar.shrui v905 c7_i32_595
  let c128_i32_596 : BitVec 32 := 128#32
  let v907 : BitVec 32 := Scalar.muli v906 c128_i32_596
  let v908 : BitVec 32 := v907
  let v909 : Index := Scalar.indexCast v908
  ![v909.toNat]

def k0_chk226 (v905 : BitVec 32) : Prop :=
  (128 ∣ (k0_mult61 v905).toNat) ∧
  (∀ a, (k0_off655 v905) a + S128.size a ≤ S1000000.size a)
theorem k0_mult61_dvd : ∀ (v905 : BitVec 32) (k0_hw226 : k0_chk226 v905), 128 ∣ (k0_mult61 v905).toNat := fun v905 k0_hw226 => k0_hw226.1
theorem k0_off655_inb : ∀ (v905 : BitVec 32) (k0_hw226 : k0_chk226 v905), ∀ a, (k0_off655 v905) a + S128.size a ≤ S1000000.size a := fun v905 k0_hw226 => k0_hw226.2

def k0_off656 (arg26 : BitVec 32) (v667 : BitVec 32) (k0_t16 : Fin (k0_t16_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_592 : BitVec 32 := 16#32
  let v899 : BitVec 32 := Scalar.muli v847 c16_i32_592
  let c3_i32_593 : BitVec 32 := 3#32
  let v900 : BitVec 32 := Scalar.addi v899 c3_i32_593
  let v912 : Index := Scalar.indexCast v900
  let c0_597 : Index := 0#32
  ![v912.toNat, 0]
def k0_off657 (arg25 : BitVec 32) (arg26 : BitVec 32) (v667 : BitVec 32) (k0_t16 : Fin (k0_t16_loop arg26 v667).trips) : Fin 2 → Nat :=
  let v920 : Index := Scalar.indexCast arg25
  let c256_i32_600 : BitVec 32 := 256#32
  let v918 : BitVec 32 := Scalar.muli arg26 c256_i32_600
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_598 : BitVec 32 := 16#32
  let v916 : BitVec 32 := Scalar.muli v847 c16_i32_598
  let c4_i32_599 : BitVec 32 := 4#32
  let v917 : BitVec 32 := Scalar.addi v916 c4_i32_599
  let v919 : BitVec 32 := Scalar.addi v918 v917
  let v921 : Index := Scalar.indexCast v919
  ![v920.toNat, v921.toNat]
def k0_mult62 (v922 : BitVec 32) : BitVec 32 :=
  let c7_i32_601 : BitVec 32 := 7#32
  let v923 : BitVec 32 := Scalar.shrui v922 c7_i32_601
  let c128_i32_602 : BitVec 32 := 128#32
  let v924 : BitVec 32 := Scalar.muli v923 c128_i32_602
  v924

def k0_off658 (v922 : BitVec 32) : Fin 1 → Nat :=
  let c7_i32_601 : BitVec 32 := 7#32
  let v923 : BitVec 32 := Scalar.shrui v922 c7_i32_601
  let c128_i32_602 : BitVec 32 := 128#32
  let v924 : BitVec 32 := Scalar.muli v923 c128_i32_602
  let v925 : BitVec 32 := v924
  let v926 : Index := Scalar.indexCast v925
  ![v926.toNat]

def k0_chk227 (v922 : BitVec 32) : Prop :=
  (128 ∣ (k0_mult62 v922).toNat) ∧
  (∀ a, (k0_off658 v922) a + S128.size a ≤ S1000000.size a)
theorem k0_mult62_dvd : ∀ (v922 : BitVec 32) (k0_hw227 : k0_chk227 v922), 128 ∣ (k0_mult62 v922).toNat := fun v922 k0_hw227 => k0_hw227.1
theorem k0_off658_inb : ∀ (v922 : BitVec 32) (k0_hw227 : k0_chk227 v922), ∀ a, (k0_off658 v922) a + S128.size a ≤ S1000000.size a := fun v922 k0_hw227 => k0_hw227.2

def k0_off659 (arg26 : BitVec 32) (v667 : BitVec 32) (k0_t16 : Fin (k0_t16_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_598 : BitVec 32 := 16#32
  let v916 : BitVec 32 := Scalar.muli v847 c16_i32_598
  let c4_i32_599 : BitVec 32 := 4#32
  let v917 : BitVec 32 := Scalar.addi v916 c4_i32_599
  let v929 : Index := Scalar.indexCast v917
  let c0_603 : Index := 0#32
  ![v929.toNat, 0]
def k0_off660 (arg25 : BitVec 32) (arg26 : BitVec 32) (v667 : BitVec 32) (k0_t16 : Fin (k0_t16_loop arg26 v667).trips) : Fin 2 → Nat :=
  let v937 : Index := Scalar.indexCast arg25
  let c256_i32_606 : BitVec 32 := 256#32
  let v935 : BitVec 32 := Scalar.muli arg26 c256_i32_606
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_604 : BitVec 32 := 16#32
  let v933 : BitVec 32 := Scalar.muli v847 c16_i32_604
  let c5_i32_605 : BitVec 32 := 5#32
  let v934 : BitVec 32 := Scalar.addi v933 c5_i32_605
  let v936 : BitVec 32 := Scalar.addi v935 v934
  let v938 : Index := Scalar.indexCast v936
  ![v937.toNat, v938.toNat]
def k0_mult63 (v939 : BitVec 32) : BitVec 32 :=
  let c7_i32_607 : BitVec 32 := 7#32
  let v940 : BitVec 32 := Scalar.shrui v939 c7_i32_607
  let c128_i32_608 : BitVec 32 := 128#32
  let v941 : BitVec 32 := Scalar.muli v940 c128_i32_608
  v941

def k0_off661 (v939 : BitVec 32) : Fin 1 → Nat :=
  let c7_i32_607 : BitVec 32 := 7#32
  let v940 : BitVec 32 := Scalar.shrui v939 c7_i32_607
  let c128_i32_608 : BitVec 32 := 128#32
  let v941 : BitVec 32 := Scalar.muli v940 c128_i32_608
  let v942 : BitVec 32 := v941
  let v943 : Index := Scalar.indexCast v942
  ![v943.toNat]

def k0_chk228 (v939 : BitVec 32) : Prop :=
  (128 ∣ (k0_mult63 v939).toNat) ∧
  (∀ a, (k0_off661 v939) a + S128.size a ≤ S1000000.size a)
theorem k0_mult63_dvd : ∀ (v939 : BitVec 32) (k0_hw228 : k0_chk228 v939), 128 ∣ (k0_mult63 v939).toNat := fun v939 k0_hw228 => k0_hw228.1
theorem k0_off661_inb : ∀ (v939 : BitVec 32) (k0_hw228 : k0_chk228 v939), ∀ a, (k0_off661 v939) a + S128.size a ≤ S1000000.size a := fun v939 k0_hw228 => k0_hw228.2

def k0_off662 (arg26 : BitVec 32) (v667 : BitVec 32) (k0_t16 : Fin (k0_t16_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_604 : BitVec 32 := 16#32
  let v933 : BitVec 32 := Scalar.muli v847 c16_i32_604
  let c5_i32_605 : BitVec 32 := 5#32
  let v934 : BitVec 32 := Scalar.addi v933 c5_i32_605
  let v946 : Index := Scalar.indexCast v934
  let c0_609 : Index := 0#32
  ![v946.toNat, 0]
def k0_off663 (arg25 : BitVec 32) (arg26 : BitVec 32) (v667 : BitVec 32) (k0_t16 : Fin (k0_t16_loop arg26 v667).trips) : Fin 2 → Nat :=
  let v954 : Index := Scalar.indexCast arg25
  let c256_i32_612 : BitVec 32 := 256#32
  let v952 : BitVec 32 := Scalar.muli arg26 c256_i32_612
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_610 : BitVec 32 := 16#32
  let v950 : BitVec 32 := Scalar.muli v847 c16_i32_610
  let c6_i32_611 : BitVec 32 := 6#32
  let v951 : BitVec 32 := Scalar.addi v950 c6_i32_611
  let v953 : BitVec 32 := Scalar.addi v952 v951
  let v955 : Index := Scalar.indexCast v953
  ![v954.toNat, v955.toNat]
def k0_mult64 (v956 : BitVec 32) : BitVec 32 :=
  let c7_i32_613 : BitVec 32 := 7#32
  let v957 : BitVec 32 := Scalar.shrui v956 c7_i32_613
  let c128_i32_614 : BitVec 32 := 128#32
  let v958 : BitVec 32 := Scalar.muli v957 c128_i32_614
  v958

def k0_off664 (v956 : BitVec 32) : Fin 1 → Nat :=
  let c7_i32_613 : BitVec 32 := 7#32
  let v957 : BitVec 32 := Scalar.shrui v956 c7_i32_613
  let c128_i32_614 : BitVec 32 := 128#32
  let v958 : BitVec 32 := Scalar.muli v957 c128_i32_614
  let v959 : BitVec 32 := v958
  let v960 : Index := Scalar.indexCast v959
  ![v960.toNat]

def k0_chk229 (v956 : BitVec 32) : Prop :=
  (128 ∣ (k0_mult64 v956).toNat) ∧
  (∀ a, (k0_off664 v956) a + S128.size a ≤ S1000000.size a)
theorem k0_mult64_dvd : ∀ (v956 : BitVec 32) (k0_hw229 : k0_chk229 v956), 128 ∣ (k0_mult64 v956).toNat := fun v956 k0_hw229 => k0_hw229.1
theorem k0_off664_inb : ∀ (v956 : BitVec 32) (k0_hw229 : k0_chk229 v956), ∀ a, (k0_off664 v956) a + S128.size a ≤ S1000000.size a := fun v956 k0_hw229 => k0_hw229.2

def k0_off665 (arg26 : BitVec 32) (v667 : BitVec 32) (k0_t16 : Fin (k0_t16_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_610 : BitVec 32 := 16#32
  let v950 : BitVec 32 := Scalar.muli v847 c16_i32_610
  let c6_i32_611 : BitVec 32 := 6#32
  let v951 : BitVec 32 := Scalar.addi v950 c6_i32_611
  let v963 : Index := Scalar.indexCast v951
  let c0_615 : Index := 0#32
  ![v963.toNat, 0]
def k0_off666 (arg25 : BitVec 32) (arg26 : BitVec 32) (v667 : BitVec 32) (k0_t16 : Fin (k0_t16_loop arg26 v667).trips) : Fin 2 → Nat :=
  let v971 : Index := Scalar.indexCast arg25
  let c256_i32_618 : BitVec 32 := 256#32
  let v969 : BitVec 32 := Scalar.muli arg26 c256_i32_618
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_616 : BitVec 32 := 16#32
  let v967 : BitVec 32 := Scalar.muli v847 c16_i32_616
  let c7_i32_617 : BitVec 32 := 7#32
  let v968 : BitVec 32 := Scalar.addi v967 c7_i32_617
  let v970 : BitVec 32 := Scalar.addi v969 v968
  let v972 : Index := Scalar.indexCast v970
  ![v971.toNat, v972.toNat]
def k0_mult65 (v973 : BitVec 32) : BitVec 32 :=
  let c7_i32_619 : BitVec 32 := 7#32
  let v974 : BitVec 32 := Scalar.shrui v973 c7_i32_619
  let c128_i32_620 : BitVec 32 := 128#32
  let v975 : BitVec 32 := Scalar.muli v974 c128_i32_620
  v975

def k0_off667 (v973 : BitVec 32) : Fin 1 → Nat :=
  let c7_i32_619 : BitVec 32 := 7#32
  let v974 : BitVec 32 := Scalar.shrui v973 c7_i32_619
  let c128_i32_620 : BitVec 32 := 128#32
  let v975 : BitVec 32 := Scalar.muli v974 c128_i32_620
  let v976 : BitVec 32 := v975
  let v977 : Index := Scalar.indexCast v976
  ![v977.toNat]

def k0_chk230 (v973 : BitVec 32) : Prop :=
  (128 ∣ (k0_mult65 v973).toNat) ∧
  (∀ a, (k0_off667 v973) a + S128.size a ≤ S1000000.size a)
theorem k0_mult65_dvd : ∀ (v973 : BitVec 32) (k0_hw230 : k0_chk230 v973), 128 ∣ (k0_mult65 v973).toNat := fun v973 k0_hw230 => k0_hw230.1
theorem k0_off667_inb : ∀ (v973 : BitVec 32) (k0_hw230 : k0_chk230 v973), ∀ a, (k0_off667 v973) a + S128.size a ≤ S1000000.size a := fun v973 k0_hw230 => k0_hw230.2

def k0_off668 (arg26 : BitVec 32) (v667 : BitVec 32) (k0_t16 : Fin (k0_t16_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_616 : BitVec 32 := 16#32
  let v967 : BitVec 32 := Scalar.muli v847 c16_i32_616
  let c7_i32_617 : BitVec 32 := 7#32
  let v968 : BitVec 32 := Scalar.addi v967 c7_i32_617
  let v980 : Index := Scalar.indexCast v968
  let c0_621 : Index := 0#32
  ![v980.toNat, 0]
def k0_off669 (arg25 : BitVec 32) (arg26 : BitVec 32) (v667 : BitVec 32) (k0_t16 : Fin (k0_t16_loop arg26 v667).trips) : Fin 2 → Nat :=
  let v988 : Index := Scalar.indexCast arg25
  let c256_i32_624 : BitVec 32 := 256#32
  let v986 : BitVec 32 := Scalar.muli arg26 c256_i32_624
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_622 : BitVec 32 := 16#32
  let v984 : BitVec 32 := Scalar.muli v847 c16_i32_622
  let c8_i32_623 : BitVec 32 := 8#32
  let v985 : BitVec 32 := Scalar.addi v984 c8_i32_623
  let v987 : BitVec 32 := Scalar.addi v986 v985
  let v989 : Index := Scalar.indexCast v987
  ![v988.toNat, v989.toNat]
def k0_mult66 (v990 : BitVec 32) : BitVec 32 :=
  let c7_i32_625 : BitVec 32 := 7#32
  let v991 : BitVec 32 := Scalar.shrui v990 c7_i32_625
  let c128_i32_626 : BitVec 32 := 128#32
  let v992 : BitVec 32 := Scalar.muli v991 c128_i32_626
  v992

def k0_off670 (v990 : BitVec 32) : Fin 1 → Nat :=
  let c7_i32_625 : BitVec 32 := 7#32
  let v991 : BitVec 32 := Scalar.shrui v990 c7_i32_625
  let c128_i32_626 : BitVec 32 := 128#32
  let v992 : BitVec 32 := Scalar.muli v991 c128_i32_626
  let v993 : BitVec 32 := v992
  let v994 : Index := Scalar.indexCast v993
  ![v994.toNat]

def k0_chk231 (v990 : BitVec 32) : Prop :=
  (128 ∣ (k0_mult66 v990).toNat) ∧
  (∀ a, (k0_off670 v990) a + S128.size a ≤ S1000000.size a)
theorem k0_mult66_dvd : ∀ (v990 : BitVec 32) (k0_hw231 : k0_chk231 v990), 128 ∣ (k0_mult66 v990).toNat := fun v990 k0_hw231 => k0_hw231.1
theorem k0_off670_inb : ∀ (v990 : BitVec 32) (k0_hw231 : k0_chk231 v990), ∀ a, (k0_off670 v990) a + S128.size a ≤ S1000000.size a := fun v990 k0_hw231 => k0_hw231.2

def k0_off671 (arg26 : BitVec 32) (v667 : BitVec 32) (k0_t16 : Fin (k0_t16_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_622 : BitVec 32 := 16#32
  let v984 : BitVec 32 := Scalar.muli v847 c16_i32_622
  let c8_i32_623 : BitVec 32 := 8#32
  let v985 : BitVec 32 := Scalar.addi v984 c8_i32_623
  let v997 : Index := Scalar.indexCast v985
  let c0_627 : Index := 0#32
  ![v997.toNat, 0]
def k0_off672 (arg25 : BitVec 32) (arg26 : BitVec 32) (v667 : BitVec 32) (k0_t16 : Fin (k0_t16_loop arg26 v667).trips) : Fin 2 → Nat :=
  let v1005 : Index := Scalar.indexCast arg25
  let c256_i32_630 : BitVec 32 := 256#32
  let v1003 : BitVec 32 := Scalar.muli arg26 c256_i32_630
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_628 : BitVec 32 := 16#32
  let v1001 : BitVec 32 := Scalar.muli v847 c16_i32_628
  let c9_i32_629 : BitVec 32 := 9#32
  let v1002 : BitVec 32 := Scalar.addi v1001 c9_i32_629
  let v1004 : BitVec 32 := Scalar.addi v1003 v1002
  let v1006 : Index := Scalar.indexCast v1004
  ![v1005.toNat, v1006.toNat]
def k0_mult67 (v1007 : BitVec 32) : BitVec 32 :=
  let c7_i32_631 : BitVec 32 := 7#32
  let v1008 : BitVec 32 := Scalar.shrui v1007 c7_i32_631
  let c128_i32_632 : BitVec 32 := 128#32
  let v1009 : BitVec 32 := Scalar.muli v1008 c128_i32_632
  v1009

def k0_off673 (v1007 : BitVec 32) : Fin 1 → Nat :=
  let c7_i32_631 : BitVec 32 := 7#32
  let v1008 : BitVec 32 := Scalar.shrui v1007 c7_i32_631
  let c128_i32_632 : BitVec 32 := 128#32
  let v1009 : BitVec 32 := Scalar.muli v1008 c128_i32_632
  let v1010 : BitVec 32 := v1009
  let v1011 : Index := Scalar.indexCast v1010
  ![v1011.toNat]

def k0_chk232 (v1007 : BitVec 32) : Prop :=
  (128 ∣ (k0_mult67 v1007).toNat) ∧
  (∀ a, (k0_off673 v1007) a + S128.size a ≤ S1000000.size a)
theorem k0_mult67_dvd : ∀ (v1007 : BitVec 32) (k0_hw232 : k0_chk232 v1007), 128 ∣ (k0_mult67 v1007).toNat := fun v1007 k0_hw232 => k0_hw232.1
theorem k0_off673_inb : ∀ (v1007 : BitVec 32) (k0_hw232 : k0_chk232 v1007), ∀ a, (k0_off673 v1007) a + S128.size a ≤ S1000000.size a := fun v1007 k0_hw232 => k0_hw232.2

def k0_off674 (arg26 : BitVec 32) (v667 : BitVec 32) (k0_t16 : Fin (k0_t16_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_628 : BitVec 32 := 16#32
  let v1001 : BitVec 32 := Scalar.muli v847 c16_i32_628
  let c9_i32_629 : BitVec 32 := 9#32
  let v1002 : BitVec 32 := Scalar.addi v1001 c9_i32_629
  let v1014 : Index := Scalar.indexCast v1002
  let c0_633 : Index := 0#32
  ![v1014.toNat, 0]
def k0_off675 (arg25 : BitVec 32) (arg26 : BitVec 32) (v667 : BitVec 32) (k0_t16 : Fin (k0_t16_loop arg26 v667).trips) : Fin 2 → Nat :=
  let v1022 : Index := Scalar.indexCast arg25
  let c256_i32_636 : BitVec 32 := 256#32
  let v1020 : BitVec 32 := Scalar.muli arg26 c256_i32_636
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_634 : BitVec 32 := 16#32
  let v1018 : BitVec 32 := Scalar.muli v847 c16_i32_634
  let c10_i32_635 : BitVec 32 := 10#32
  let v1019 : BitVec 32 := Scalar.addi v1018 c10_i32_635
  let v1021 : BitVec 32 := Scalar.addi v1020 v1019
  let v1023 : Index := Scalar.indexCast v1021
  ![v1022.toNat, v1023.toNat]
def k0_mult68 (v1024 : BitVec 32) : BitVec 32 :=
  let c7_i32_637 : BitVec 32 := 7#32
  let v1025 : BitVec 32 := Scalar.shrui v1024 c7_i32_637
  let c128_i32_638 : BitVec 32 := 128#32
  let v1026 : BitVec 32 := Scalar.muli v1025 c128_i32_638
  v1026

def k0_off676 (v1024 : BitVec 32) : Fin 1 → Nat :=
  let c7_i32_637 : BitVec 32 := 7#32
  let v1025 : BitVec 32 := Scalar.shrui v1024 c7_i32_637
  let c128_i32_638 : BitVec 32 := 128#32
  let v1026 : BitVec 32 := Scalar.muli v1025 c128_i32_638
  let v1027 : BitVec 32 := v1026
  let v1028 : Index := Scalar.indexCast v1027
  ![v1028.toNat]

def k0_chk233 (v1024 : BitVec 32) : Prop :=
  (128 ∣ (k0_mult68 v1024).toNat) ∧
  (∀ a, (k0_off676 v1024) a + S128.size a ≤ S1000000.size a)
theorem k0_mult68_dvd : ∀ (v1024 : BitVec 32) (k0_hw233 : k0_chk233 v1024), 128 ∣ (k0_mult68 v1024).toNat := fun v1024 k0_hw233 => k0_hw233.1
theorem k0_off676_inb : ∀ (v1024 : BitVec 32) (k0_hw233 : k0_chk233 v1024), ∀ a, (k0_off676 v1024) a + S128.size a ≤ S1000000.size a := fun v1024 k0_hw233 => k0_hw233.2

def k0_off677 (arg26 : BitVec 32) (v667 : BitVec 32) (k0_t16 : Fin (k0_t16_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_634 : BitVec 32 := 16#32
  let v1018 : BitVec 32 := Scalar.muli v847 c16_i32_634
  let c10_i32_635 : BitVec 32 := 10#32
  let v1019 : BitVec 32 := Scalar.addi v1018 c10_i32_635
  let v1031 : Index := Scalar.indexCast v1019
  let c0_639 : Index := 0#32
  ![v1031.toNat, 0]
def k0_off678 (arg25 : BitVec 32) (arg26 : BitVec 32) (v667 : BitVec 32) (k0_t16 : Fin (k0_t16_loop arg26 v667).trips) : Fin 2 → Nat :=
  let v1039 : Index := Scalar.indexCast arg25
  let c256_i32_642 : BitVec 32 := 256#32
  let v1037 : BitVec 32 := Scalar.muli arg26 c256_i32_642
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_640 : BitVec 32 := 16#32
  let v1035 : BitVec 32 := Scalar.muli v847 c16_i32_640
  let c11_i32_641 : BitVec 32 := 11#32
  let v1036 : BitVec 32 := Scalar.addi v1035 c11_i32_641
  let v1038 : BitVec 32 := Scalar.addi v1037 v1036
  let v1040 : Index := Scalar.indexCast v1038
  ![v1039.toNat, v1040.toNat]
def k0_mult69 (v1041 : BitVec 32) : BitVec 32 :=
  let c7_i32_643 : BitVec 32 := 7#32
  let v1042 : BitVec 32 := Scalar.shrui v1041 c7_i32_643
  let c128_i32_644 : BitVec 32 := 128#32
  let v1043 : BitVec 32 := Scalar.muli v1042 c128_i32_644
  v1043

def k0_off679 (v1041 : BitVec 32) : Fin 1 → Nat :=
  let c7_i32_643 : BitVec 32 := 7#32
  let v1042 : BitVec 32 := Scalar.shrui v1041 c7_i32_643
  let c128_i32_644 : BitVec 32 := 128#32
  let v1043 : BitVec 32 := Scalar.muli v1042 c128_i32_644
  let v1044 : BitVec 32 := v1043
  let v1045 : Index := Scalar.indexCast v1044
  ![v1045.toNat]

def k0_chk234 (v1041 : BitVec 32) : Prop :=
  (128 ∣ (k0_mult69 v1041).toNat) ∧
  (∀ a, (k0_off679 v1041) a + S128.size a ≤ S1000000.size a)
theorem k0_mult69_dvd : ∀ (v1041 : BitVec 32) (k0_hw234 : k0_chk234 v1041), 128 ∣ (k0_mult69 v1041).toNat := fun v1041 k0_hw234 => k0_hw234.1
theorem k0_off679_inb : ∀ (v1041 : BitVec 32) (k0_hw234 : k0_chk234 v1041), ∀ a, (k0_off679 v1041) a + S128.size a ≤ S1000000.size a := fun v1041 k0_hw234 => k0_hw234.2

def k0_off680 (arg26 : BitVec 32) (v667 : BitVec 32) (k0_t16 : Fin (k0_t16_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_640 : BitVec 32 := 16#32
  let v1035 : BitVec 32 := Scalar.muli v847 c16_i32_640
  let c11_i32_641 : BitVec 32 := 11#32
  let v1036 : BitVec 32 := Scalar.addi v1035 c11_i32_641
  let v1048 : Index := Scalar.indexCast v1036
  let c0_645 : Index := 0#32
  ![v1048.toNat, 0]
def k0_off681 (arg25 : BitVec 32) (arg26 : BitVec 32) (v667 : BitVec 32) (k0_t16 : Fin (k0_t16_loop arg26 v667).trips) : Fin 2 → Nat :=
  let v1056 : Index := Scalar.indexCast arg25
  let c256_i32_648 : BitVec 32 := 256#32
  let v1054 : BitVec 32 := Scalar.muli arg26 c256_i32_648
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_646 : BitVec 32 := 16#32
  let v1052 : BitVec 32 := Scalar.muli v847 c16_i32_646
  let c12_i32_647 : BitVec 32 := 12#32
  let v1053 : BitVec 32 := Scalar.addi v1052 c12_i32_647
  let v1055 : BitVec 32 := Scalar.addi v1054 v1053
  let v1057 : Index := Scalar.indexCast v1055
  ![v1056.toNat, v1057.toNat]
def k0_mult70 (v1058 : BitVec 32) : BitVec 32 :=
  let c7_i32_649 : BitVec 32 := 7#32
  let v1059 : BitVec 32 := Scalar.shrui v1058 c7_i32_649
  let c128_i32_650 : BitVec 32 := 128#32
  let v1060 : BitVec 32 := Scalar.muli v1059 c128_i32_650
  v1060

def k0_off682 (v1058 : BitVec 32) : Fin 1 → Nat :=
  let c7_i32_649 : BitVec 32 := 7#32
  let v1059 : BitVec 32 := Scalar.shrui v1058 c7_i32_649
  let c128_i32_650 : BitVec 32 := 128#32
  let v1060 : BitVec 32 := Scalar.muli v1059 c128_i32_650
  let v1061 : BitVec 32 := v1060
  let v1062 : Index := Scalar.indexCast v1061
  ![v1062.toNat]

def k0_chk235 (v1058 : BitVec 32) : Prop :=
  (128 ∣ (k0_mult70 v1058).toNat) ∧
  (∀ a, (k0_off682 v1058) a + S128.size a ≤ S1000000.size a)
theorem k0_mult70_dvd : ∀ (v1058 : BitVec 32) (k0_hw235 : k0_chk235 v1058), 128 ∣ (k0_mult70 v1058).toNat := fun v1058 k0_hw235 => k0_hw235.1
theorem k0_off682_inb : ∀ (v1058 : BitVec 32) (k0_hw235 : k0_chk235 v1058), ∀ a, (k0_off682 v1058) a + S128.size a ≤ S1000000.size a := fun v1058 k0_hw235 => k0_hw235.2

def k0_off683 (arg26 : BitVec 32) (v667 : BitVec 32) (k0_t16 : Fin (k0_t16_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_646 : BitVec 32 := 16#32
  let v1052 : BitVec 32 := Scalar.muli v847 c16_i32_646
  let c12_i32_647 : BitVec 32 := 12#32
  let v1053 : BitVec 32 := Scalar.addi v1052 c12_i32_647
  let v1065 : Index := Scalar.indexCast v1053
  let c0_651 : Index := 0#32
  ![v1065.toNat, 0]
def k0_off684 (arg25 : BitVec 32) (arg26 : BitVec 32) (v667 : BitVec 32) (k0_t16 : Fin (k0_t16_loop arg26 v667).trips) : Fin 2 → Nat :=
  let v1073 : Index := Scalar.indexCast arg25
  let c256_i32_654 : BitVec 32 := 256#32
  let v1071 : BitVec 32 := Scalar.muli arg26 c256_i32_654
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_652 : BitVec 32 := 16#32
  let v1069 : BitVec 32 := Scalar.muli v847 c16_i32_652
  let c13_i32_653 : BitVec 32 := 13#32
  let v1070 : BitVec 32 := Scalar.addi v1069 c13_i32_653
  let v1072 : BitVec 32 := Scalar.addi v1071 v1070
  let v1074 : Index := Scalar.indexCast v1072
  ![v1073.toNat, v1074.toNat]
def k0_mult71 (v1075 : BitVec 32) : BitVec 32 :=
  let c7_i32_655 : BitVec 32 := 7#32
  let v1076 : BitVec 32 := Scalar.shrui v1075 c7_i32_655
  let c128_i32_656 : BitVec 32 := 128#32
  let v1077 : BitVec 32 := Scalar.muli v1076 c128_i32_656
  v1077

def k0_off685 (v1075 : BitVec 32) : Fin 1 → Nat :=
  let c7_i32_655 : BitVec 32 := 7#32
  let v1076 : BitVec 32 := Scalar.shrui v1075 c7_i32_655
  let c128_i32_656 : BitVec 32 := 128#32
  let v1077 : BitVec 32 := Scalar.muli v1076 c128_i32_656
  let v1078 : BitVec 32 := v1077
  let v1079 : Index := Scalar.indexCast v1078
  ![v1079.toNat]

def k0_chk236 (v1075 : BitVec 32) : Prop :=
  (128 ∣ (k0_mult71 v1075).toNat) ∧
  (∀ a, (k0_off685 v1075) a + S128.size a ≤ S1000000.size a)
theorem k0_mult71_dvd : ∀ (v1075 : BitVec 32) (k0_hw236 : k0_chk236 v1075), 128 ∣ (k0_mult71 v1075).toNat := fun v1075 k0_hw236 => k0_hw236.1
theorem k0_off685_inb : ∀ (v1075 : BitVec 32) (k0_hw236 : k0_chk236 v1075), ∀ a, (k0_off685 v1075) a + S128.size a ≤ S1000000.size a := fun v1075 k0_hw236 => k0_hw236.2

def k0_off686 (arg26 : BitVec 32) (v667 : BitVec 32) (k0_t16 : Fin (k0_t16_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_652 : BitVec 32 := 16#32
  let v1069 : BitVec 32 := Scalar.muli v847 c16_i32_652
  let c13_i32_653 : BitVec 32 := 13#32
  let v1070 : BitVec 32 := Scalar.addi v1069 c13_i32_653
  let v1082 : Index := Scalar.indexCast v1070
  let c0_657 : Index := 0#32
  ![v1082.toNat, 0]
def k0_off687 (arg25 : BitVec 32) (arg26 : BitVec 32) (v667 : BitVec 32) (k0_t16 : Fin (k0_t16_loop arg26 v667).trips) : Fin 2 → Nat :=
  let v1090 : Index := Scalar.indexCast arg25
  let c256_i32_660 : BitVec 32 := 256#32
  let v1088 : BitVec 32 := Scalar.muli arg26 c256_i32_660
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_658 : BitVec 32 := 16#32
  let v1086 : BitVec 32 := Scalar.muli v847 c16_i32_658
  let c14_i32_659 : BitVec 32 := 14#32
  let v1087 : BitVec 32 := Scalar.addi v1086 c14_i32_659
  let v1089 : BitVec 32 := Scalar.addi v1088 v1087
  let v1091 : Index := Scalar.indexCast v1089
  ![v1090.toNat, v1091.toNat]
def k0_mult72 (v1092 : BitVec 32) : BitVec 32 :=
  let c7_i32_661 : BitVec 32 := 7#32
  let v1093 : BitVec 32 := Scalar.shrui v1092 c7_i32_661
  let c128_i32_662 : BitVec 32 := 128#32
  let v1094 : BitVec 32 := Scalar.muli v1093 c128_i32_662
  v1094

def k0_off688 (v1092 : BitVec 32) : Fin 1 → Nat :=
  let c7_i32_661 : BitVec 32 := 7#32
  let v1093 : BitVec 32 := Scalar.shrui v1092 c7_i32_661
  let c128_i32_662 : BitVec 32 := 128#32
  let v1094 : BitVec 32 := Scalar.muli v1093 c128_i32_662
  let v1095 : BitVec 32 := v1094
  let v1096 : Index := Scalar.indexCast v1095
  ![v1096.toNat]

def k0_chk237 (v1092 : BitVec 32) : Prop :=
  (128 ∣ (k0_mult72 v1092).toNat) ∧
  (∀ a, (k0_off688 v1092) a + S128.size a ≤ S1000000.size a)
theorem k0_mult72_dvd : ∀ (v1092 : BitVec 32) (k0_hw237 : k0_chk237 v1092), 128 ∣ (k0_mult72 v1092).toNat := fun v1092 k0_hw237 => k0_hw237.1
theorem k0_off688_inb : ∀ (v1092 : BitVec 32) (k0_hw237 : k0_chk237 v1092), ∀ a, (k0_off688 v1092) a + S128.size a ≤ S1000000.size a := fun v1092 k0_hw237 => k0_hw237.2

def k0_off689 (arg26 : BitVec 32) (v667 : BitVec 32) (k0_t16 : Fin (k0_t16_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_658 : BitVec 32 := 16#32
  let v1086 : BitVec 32 := Scalar.muli v847 c16_i32_658
  let c14_i32_659 : BitVec 32 := 14#32
  let v1087 : BitVec 32 := Scalar.addi v1086 c14_i32_659
  let v1099 : Index := Scalar.indexCast v1087
  let c0_663 : Index := 0#32
  ![v1099.toNat, 0]
def k0_off690 (arg25 : BitVec 32) (arg26 : BitVec 32) (v667 : BitVec 32) (k0_t16 : Fin (k0_t16_loop arg26 v667).trips) : Fin 2 → Nat :=
  let v1107 : Index := Scalar.indexCast arg25
  let c256_i32_666 : BitVec 32 := 256#32
  let v1105 : BitVec 32 := Scalar.muli arg26 c256_i32_666
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_664 : BitVec 32 := 16#32
  let v1103 : BitVec 32 := Scalar.muli v847 c16_i32_664
  let c15_i32_665 : BitVec 32 := 15#32
  let v1104 : BitVec 32 := Scalar.addi v1103 c15_i32_665
  let v1106 : BitVec 32 := Scalar.addi v1105 v1104
  let v1108 : Index := Scalar.indexCast v1106
  ![v1107.toNat, v1108.toNat]
def k0_mult73 (v1109 : BitVec 32) : BitVec 32 :=
  let c7_i32_667 : BitVec 32 := 7#32
  let v1110 : BitVec 32 := Scalar.shrui v1109 c7_i32_667
  let c128_i32_668 : BitVec 32 := 128#32
  let v1111 : BitVec 32 := Scalar.muli v1110 c128_i32_668
  v1111

def k0_off691 (v1109 : BitVec 32) : Fin 1 → Nat :=
  let c7_i32_667 : BitVec 32 := 7#32
  let v1110 : BitVec 32 := Scalar.shrui v1109 c7_i32_667
  let c128_i32_668 : BitVec 32 := 128#32
  let v1111 : BitVec 32 := Scalar.muli v1110 c128_i32_668
  let v1112 : BitVec 32 := v1111
  let v1113 : Index := Scalar.indexCast v1112
  ![v1113.toNat]

def k0_chk238 (v1109 : BitVec 32) : Prop :=
  (128 ∣ (k0_mult73 v1109).toNat) ∧
  (∀ a, (k0_off691 v1109) a + S128.size a ≤ S1000000.size a)
theorem k0_mult73_dvd : ∀ (v1109 : BitVec 32) (k0_hw238 : k0_chk238 v1109), 128 ∣ (k0_mult73 v1109).toNat := fun v1109 k0_hw238 => k0_hw238.1
theorem k0_off691_inb : ∀ (v1109 : BitVec 32) (k0_hw238 : k0_chk238 v1109), ∀ a, (k0_off691 v1109) a + S128.size a ≤ S1000000.size a := fun v1109 k0_hw238 => k0_hw238.2

def k0_off692 (arg26 : BitVec 32) (v667 : BitVec 32) (k0_t16 : Fin (k0_t16_loop arg26 v667).trips) : Fin 2 → Nat :=
  let c0_i32_496 : BitVec 32 := 0#32
  let c0_i32_497 : BitVec 32 := 0#32
  let c1_i32_499 : BitVec 32 := 1#32
  let arg31 : BitVec 32 := Scf.iv c0_i32_497 c1_i32_499 k0_t16
  let c1_i32_495 : BitVec 32 := 1#32
  let v846 : BitVec 32 := Scalar.muli arg31 c1_i32_495
  let v847 : BitVec 32 := Scalar.addi c0_i32_496 v846
  let c16_i32_664 : BitVec 32 := 16#32
  let v1103 : BitVec 32 := Scalar.muli v847 c16_i32_664
  let c15_i32_665 : BitVec 32 := 15#32
  let v1104 : BitVec 32 := Scalar.addi v1103 c15_i32_665
  let v1116 : Index := Scalar.indexCast v1104
  let c0_669 : Index := 0#32
  ![v1116.toNat, 0]
@[reducible] def k0_t17_loop (arg26 : BitVec 32) (v667 : BitVec 32) : Scf.Loop 32 :=
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let v678 : BitVec 32 := Scalar.addi c0_i32_497 v677
  let c1_i32_500 : BitVec 32 := 1#32
  ⟨v681, v678, c1_i32_500⟩
def k0_off693 (arg25 : BitVec 32) (arg26 : BitVec 32) (v667 : BitVec 32) (k0_t17 : Fin (k0_t17_loop arg26 v667).trips) : Fin 2 → Nat :=
  let v852 : Index := Scalar.indexCast arg25
  let c256_i32_576 : BitVec 32 := 256#32
  let v850 : BitVec 32 := Scalar.muli arg26 c256_i32_576
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_574 : BitVec 32 := 16#32
  let v848 : BitVec 32 := Scalar.muli v847 c16_i32_574
  let c0_i32_575 : BitVec 32 := 0#32
  let v849 : BitVec 32 := Scalar.addi v848 c0_i32_575
  let v851 : BitVec 32 := Scalar.addi v850 v849
  let v853 : Index := Scalar.indexCast v851
  ![v852.toNat, v853.toNat]
def k0_mult74 (v854 : BitVec 32) : BitVec 32 :=
  let c7_i32_577 : BitVec 32 := 7#32
  let v855 : BitVec 32 := Scalar.shrui v854 c7_i32_577
  let c128_i32_578 : BitVec 32 := 128#32
  let v856 : BitVec 32 := Scalar.muli v855 c128_i32_578
  v856

def k0_off694 (v854 : BitVec 32) : Fin 1 → Nat :=
  let c7_i32_577 : BitVec 32 := 7#32
  let v855 : BitVec 32 := Scalar.shrui v854 c7_i32_577
  let c128_i32_578 : BitVec 32 := 128#32
  let v856 : BitVec 32 := Scalar.muli v855 c128_i32_578
  let v857 : BitVec 32 := v856
  let v858 : Index := Scalar.indexCast v857
  ![v858.toNat]

def k0_chk239 (v854 : BitVec 32) : Prop :=
  (128 ∣ (k0_mult74 v854).toNat) ∧
  (∀ a, (k0_off694 v854) a + S128.size a ≤ S1000000.size a)
theorem k0_mult74_dvd : ∀ (v854 : BitVec 32) (k0_hw239 : k0_chk239 v854), 128 ∣ (k0_mult74 v854).toNat := fun v854 k0_hw239 => k0_hw239.1
theorem k0_off694_inb : ∀ (v854 : BitVec 32) (k0_hw239 : k0_chk239 v854), ∀ a, (k0_off694 v854) a + S128.size a ≤ S1000000.size a := fun v854 k0_hw239 => k0_hw239.2

def k0_off695 (arg26 : BitVec 32) (v667 : BitVec 32) (k0_t17 : Fin (k0_t17_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_574 : BitVec 32 := 16#32
  let v848 : BitVec 32 := Scalar.muli v847 c16_i32_574
  let c0_i32_575 : BitVec 32 := 0#32
  let v849 : BitVec 32 := Scalar.addi v848 c0_i32_575
  let v861 : Index := Scalar.indexCast v849
  let c0_579 : Index := 0#32
  ![v861.toNat, 0]
def k0_off696 (arg25 : BitVec 32) (arg26 : BitVec 32) (v667 : BitVec 32) (k0_t17 : Fin (k0_t17_loop arg26 v667).trips) : Fin 2 → Nat :=
  let v869 : Index := Scalar.indexCast arg25
  let c256_i32_582 : BitVec 32 := 256#32
  let v867 : BitVec 32 := Scalar.muli arg26 c256_i32_582
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_580 : BitVec 32 := 16#32
  let v865 : BitVec 32 := Scalar.muli v847 c16_i32_580
  let c1_i32_581 : BitVec 32 := 1#32
  let v866 : BitVec 32 := Scalar.addi v865 c1_i32_581
  let v868 : BitVec 32 := Scalar.addi v867 v866
  let v870 : Index := Scalar.indexCast v868
  ![v869.toNat, v870.toNat]
def k0_mult75 (v871 : BitVec 32) : BitVec 32 :=
  let c7_i32_583 : BitVec 32 := 7#32
  let v872 : BitVec 32 := Scalar.shrui v871 c7_i32_583
  let c128_i32_584 : BitVec 32 := 128#32
  let v873 : BitVec 32 := Scalar.muli v872 c128_i32_584
  v873

def k0_off697 (v871 : BitVec 32) : Fin 1 → Nat :=
  let c7_i32_583 : BitVec 32 := 7#32
  let v872 : BitVec 32 := Scalar.shrui v871 c7_i32_583
  let c128_i32_584 : BitVec 32 := 128#32
  let v873 : BitVec 32 := Scalar.muli v872 c128_i32_584
  let v874 : BitVec 32 := v873
  let v875 : Index := Scalar.indexCast v874
  ![v875.toNat]

def k0_chk240 (v871 : BitVec 32) : Prop :=
  (128 ∣ (k0_mult75 v871).toNat) ∧
  (∀ a, (k0_off697 v871) a + S128.size a ≤ S1000000.size a)
theorem k0_mult75_dvd : ∀ (v871 : BitVec 32) (k0_hw240 : k0_chk240 v871), 128 ∣ (k0_mult75 v871).toNat := fun v871 k0_hw240 => k0_hw240.1
theorem k0_off697_inb : ∀ (v871 : BitVec 32) (k0_hw240 : k0_chk240 v871), ∀ a, (k0_off697 v871) a + S128.size a ≤ S1000000.size a := fun v871 k0_hw240 => k0_hw240.2

def k0_off698 (arg26 : BitVec 32) (v667 : BitVec 32) (k0_t17 : Fin (k0_t17_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_580 : BitVec 32 := 16#32
  let v865 : BitVec 32 := Scalar.muli v847 c16_i32_580
  let c1_i32_581 : BitVec 32 := 1#32
  let v866 : BitVec 32 := Scalar.addi v865 c1_i32_581
  let v878 : Index := Scalar.indexCast v866
  let c0_585 : Index := 0#32
  ![v878.toNat, 0]
def k0_off699 (arg25 : BitVec 32) (arg26 : BitVec 32) (v667 : BitVec 32) (k0_t17 : Fin (k0_t17_loop arg26 v667).trips) : Fin 2 → Nat :=
  let v886 : Index := Scalar.indexCast arg25
  let c256_i32_588 : BitVec 32 := 256#32
  let v884 : BitVec 32 := Scalar.muli arg26 c256_i32_588
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_586 : BitVec 32 := 16#32
  let v882 : BitVec 32 := Scalar.muli v847 c16_i32_586
  let c2_i32_587 : BitVec 32 := 2#32
  let v883 : BitVec 32 := Scalar.addi v882 c2_i32_587
  let v885 : BitVec 32 := Scalar.addi v884 v883
  let v887 : Index := Scalar.indexCast v885
  ![v886.toNat, v887.toNat]
def k0_mult76 (v888 : BitVec 32) : BitVec 32 :=
  let c7_i32_589 : BitVec 32 := 7#32
  let v889 : BitVec 32 := Scalar.shrui v888 c7_i32_589
  let c128_i32_590 : BitVec 32 := 128#32
  let v890 : BitVec 32 := Scalar.muli v889 c128_i32_590
  v890

def k0_off700 (v888 : BitVec 32) : Fin 1 → Nat :=
  let c7_i32_589 : BitVec 32 := 7#32
  let v889 : BitVec 32 := Scalar.shrui v888 c7_i32_589
  let c128_i32_590 : BitVec 32 := 128#32
  let v890 : BitVec 32 := Scalar.muli v889 c128_i32_590
  let v891 : BitVec 32 := v890
  let v892 : Index := Scalar.indexCast v891
  ![v892.toNat]

def k0_chk241 (v888 : BitVec 32) : Prop :=
  (128 ∣ (k0_mult76 v888).toNat) ∧
  (∀ a, (k0_off700 v888) a + S128.size a ≤ S1000000.size a)
theorem k0_mult76_dvd : ∀ (v888 : BitVec 32) (k0_hw241 : k0_chk241 v888), 128 ∣ (k0_mult76 v888).toNat := fun v888 k0_hw241 => k0_hw241.1
theorem k0_off700_inb : ∀ (v888 : BitVec 32) (k0_hw241 : k0_chk241 v888), ∀ a, (k0_off700 v888) a + S128.size a ≤ S1000000.size a := fun v888 k0_hw241 => k0_hw241.2

def k0_off701 (arg26 : BitVec 32) (v667 : BitVec 32) (k0_t17 : Fin (k0_t17_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_586 : BitVec 32 := 16#32
  let v882 : BitVec 32 := Scalar.muli v847 c16_i32_586
  let c2_i32_587 : BitVec 32 := 2#32
  let v883 : BitVec 32 := Scalar.addi v882 c2_i32_587
  let v895 : Index := Scalar.indexCast v883
  let c0_591 : Index := 0#32
  ![v895.toNat, 0]
def k0_off702 (arg25 : BitVec 32) (arg26 : BitVec 32) (v667 : BitVec 32) (k0_t17 : Fin (k0_t17_loop arg26 v667).trips) : Fin 2 → Nat :=
  let v903 : Index := Scalar.indexCast arg25
  let c256_i32_594 : BitVec 32 := 256#32
  let v901 : BitVec 32 := Scalar.muli arg26 c256_i32_594
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_592 : BitVec 32 := 16#32
  let v899 : BitVec 32 := Scalar.muli v847 c16_i32_592
  let c3_i32_593 : BitVec 32 := 3#32
  let v900 : BitVec 32 := Scalar.addi v899 c3_i32_593
  let v902 : BitVec 32 := Scalar.addi v901 v900
  let v904 : Index := Scalar.indexCast v902
  ![v903.toNat, v904.toNat]
def k0_mult77 (v905 : BitVec 32) : BitVec 32 :=
  let c7_i32_595 : BitVec 32 := 7#32
  let v906 : BitVec 32 := Scalar.shrui v905 c7_i32_595
  let c128_i32_596 : BitVec 32 := 128#32
  let v907 : BitVec 32 := Scalar.muli v906 c128_i32_596
  v907

def k0_off703 (v905 : BitVec 32) : Fin 1 → Nat :=
  let c7_i32_595 : BitVec 32 := 7#32
  let v906 : BitVec 32 := Scalar.shrui v905 c7_i32_595
  let c128_i32_596 : BitVec 32 := 128#32
  let v907 : BitVec 32 := Scalar.muli v906 c128_i32_596
  let v908 : BitVec 32 := v907
  let v909 : Index := Scalar.indexCast v908
  ![v909.toNat]

def k0_chk242 (v905 : BitVec 32) : Prop :=
  (128 ∣ (k0_mult77 v905).toNat) ∧
  (∀ a, (k0_off703 v905) a + S128.size a ≤ S1000000.size a)
theorem k0_mult77_dvd : ∀ (v905 : BitVec 32) (k0_hw242 : k0_chk242 v905), 128 ∣ (k0_mult77 v905).toNat := fun v905 k0_hw242 => k0_hw242.1
theorem k0_off703_inb : ∀ (v905 : BitVec 32) (k0_hw242 : k0_chk242 v905), ∀ a, (k0_off703 v905) a + S128.size a ≤ S1000000.size a := fun v905 k0_hw242 => k0_hw242.2

def k0_off704 (arg26 : BitVec 32) (v667 : BitVec 32) (k0_t17 : Fin (k0_t17_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_592 : BitVec 32 := 16#32
  let v899 : BitVec 32 := Scalar.muli v847 c16_i32_592
  let c3_i32_593 : BitVec 32 := 3#32
  let v900 : BitVec 32 := Scalar.addi v899 c3_i32_593
  let v912 : Index := Scalar.indexCast v900
  let c0_597 : Index := 0#32
  ![v912.toNat, 0]
def k0_off705 (arg25 : BitVec 32) (arg26 : BitVec 32) (v667 : BitVec 32) (k0_t17 : Fin (k0_t17_loop arg26 v667).trips) : Fin 2 → Nat :=
  let v920 : Index := Scalar.indexCast arg25
  let c256_i32_600 : BitVec 32 := 256#32
  let v918 : BitVec 32 := Scalar.muli arg26 c256_i32_600
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_598 : BitVec 32 := 16#32
  let v916 : BitVec 32 := Scalar.muli v847 c16_i32_598
  let c4_i32_599 : BitVec 32 := 4#32
  let v917 : BitVec 32 := Scalar.addi v916 c4_i32_599
  let v919 : BitVec 32 := Scalar.addi v918 v917
  let v921 : Index := Scalar.indexCast v919
  ![v920.toNat, v921.toNat]
def k0_mult78 (v922 : BitVec 32) : BitVec 32 :=
  let c7_i32_601 : BitVec 32 := 7#32
  let v923 : BitVec 32 := Scalar.shrui v922 c7_i32_601
  let c128_i32_602 : BitVec 32 := 128#32
  let v924 : BitVec 32 := Scalar.muli v923 c128_i32_602
  v924

def k0_off706 (v922 : BitVec 32) : Fin 1 → Nat :=
  let c7_i32_601 : BitVec 32 := 7#32
  let v923 : BitVec 32 := Scalar.shrui v922 c7_i32_601
  let c128_i32_602 : BitVec 32 := 128#32
  let v924 : BitVec 32 := Scalar.muli v923 c128_i32_602
  let v925 : BitVec 32 := v924
  let v926 : Index := Scalar.indexCast v925
  ![v926.toNat]

def k0_chk243 (v922 : BitVec 32) : Prop :=
  (128 ∣ (k0_mult78 v922).toNat) ∧
  (∀ a, (k0_off706 v922) a + S128.size a ≤ S1000000.size a)
theorem k0_mult78_dvd : ∀ (v922 : BitVec 32) (k0_hw243 : k0_chk243 v922), 128 ∣ (k0_mult78 v922).toNat := fun v922 k0_hw243 => k0_hw243.1
theorem k0_off706_inb : ∀ (v922 : BitVec 32) (k0_hw243 : k0_chk243 v922), ∀ a, (k0_off706 v922) a + S128.size a ≤ S1000000.size a := fun v922 k0_hw243 => k0_hw243.2

def k0_off707 (arg26 : BitVec 32) (v667 : BitVec 32) (k0_t17 : Fin (k0_t17_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_598 : BitVec 32 := 16#32
  let v916 : BitVec 32 := Scalar.muli v847 c16_i32_598
  let c4_i32_599 : BitVec 32 := 4#32
  let v917 : BitVec 32 := Scalar.addi v916 c4_i32_599
  let v929 : Index := Scalar.indexCast v917
  let c0_603 : Index := 0#32
  ![v929.toNat, 0]
def k0_off708 (arg25 : BitVec 32) (arg26 : BitVec 32) (v667 : BitVec 32) (k0_t17 : Fin (k0_t17_loop arg26 v667).trips) : Fin 2 → Nat :=
  let v937 : Index := Scalar.indexCast arg25
  let c256_i32_606 : BitVec 32 := 256#32
  let v935 : BitVec 32 := Scalar.muli arg26 c256_i32_606
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_604 : BitVec 32 := 16#32
  let v933 : BitVec 32 := Scalar.muli v847 c16_i32_604
  let c5_i32_605 : BitVec 32 := 5#32
  let v934 : BitVec 32 := Scalar.addi v933 c5_i32_605
  let v936 : BitVec 32 := Scalar.addi v935 v934
  let v938 : Index := Scalar.indexCast v936
  ![v937.toNat, v938.toNat]
def k0_mult79 (v939 : BitVec 32) : BitVec 32 :=
  let c7_i32_607 : BitVec 32 := 7#32
  let v940 : BitVec 32 := Scalar.shrui v939 c7_i32_607
  let c128_i32_608 : BitVec 32 := 128#32
  let v941 : BitVec 32 := Scalar.muli v940 c128_i32_608
  v941

def k0_off709 (v939 : BitVec 32) : Fin 1 → Nat :=
  let c7_i32_607 : BitVec 32 := 7#32
  let v940 : BitVec 32 := Scalar.shrui v939 c7_i32_607
  let c128_i32_608 : BitVec 32 := 128#32
  let v941 : BitVec 32 := Scalar.muli v940 c128_i32_608
  let v942 : BitVec 32 := v941
  let v943 : Index := Scalar.indexCast v942
  ![v943.toNat]

def k0_chk244 (v939 : BitVec 32) : Prop :=
  (128 ∣ (k0_mult79 v939).toNat) ∧
  (∀ a, (k0_off709 v939) a + S128.size a ≤ S1000000.size a)
theorem k0_mult79_dvd : ∀ (v939 : BitVec 32) (k0_hw244 : k0_chk244 v939), 128 ∣ (k0_mult79 v939).toNat := fun v939 k0_hw244 => k0_hw244.1
theorem k0_off709_inb : ∀ (v939 : BitVec 32) (k0_hw244 : k0_chk244 v939), ∀ a, (k0_off709 v939) a + S128.size a ≤ S1000000.size a := fun v939 k0_hw244 => k0_hw244.2

def k0_off710 (arg26 : BitVec 32) (v667 : BitVec 32) (k0_t17 : Fin (k0_t17_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_604 : BitVec 32 := 16#32
  let v933 : BitVec 32 := Scalar.muli v847 c16_i32_604
  let c5_i32_605 : BitVec 32 := 5#32
  let v934 : BitVec 32 := Scalar.addi v933 c5_i32_605
  let v946 : Index := Scalar.indexCast v934
  let c0_609 : Index := 0#32
  ![v946.toNat, 0]
def k0_off711 (arg25 : BitVec 32) (arg26 : BitVec 32) (v667 : BitVec 32) (k0_t17 : Fin (k0_t17_loop arg26 v667).trips) : Fin 2 → Nat :=
  let v954 : Index := Scalar.indexCast arg25
  let c256_i32_612 : BitVec 32 := 256#32
  let v952 : BitVec 32 := Scalar.muli arg26 c256_i32_612
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_610 : BitVec 32 := 16#32
  let v950 : BitVec 32 := Scalar.muli v847 c16_i32_610
  let c6_i32_611 : BitVec 32 := 6#32
  let v951 : BitVec 32 := Scalar.addi v950 c6_i32_611
  let v953 : BitVec 32 := Scalar.addi v952 v951
  let v955 : Index := Scalar.indexCast v953
  ![v954.toNat, v955.toNat]
def k0_mult80 (v956 : BitVec 32) : BitVec 32 :=
  let c7_i32_613 : BitVec 32 := 7#32
  let v957 : BitVec 32 := Scalar.shrui v956 c7_i32_613
  let c128_i32_614 : BitVec 32 := 128#32
  let v958 : BitVec 32 := Scalar.muli v957 c128_i32_614
  v958

def k0_off712 (v956 : BitVec 32) : Fin 1 → Nat :=
  let c7_i32_613 : BitVec 32 := 7#32
  let v957 : BitVec 32 := Scalar.shrui v956 c7_i32_613
  let c128_i32_614 : BitVec 32 := 128#32
  let v958 : BitVec 32 := Scalar.muli v957 c128_i32_614
  let v959 : BitVec 32 := v958
  let v960 : Index := Scalar.indexCast v959
  ![v960.toNat]

def k0_chk245 (v956 : BitVec 32) : Prop :=
  (128 ∣ (k0_mult80 v956).toNat) ∧
  (∀ a, (k0_off712 v956) a + S128.size a ≤ S1000000.size a)
theorem k0_mult80_dvd : ∀ (v956 : BitVec 32) (k0_hw245 : k0_chk245 v956), 128 ∣ (k0_mult80 v956).toNat := fun v956 k0_hw245 => k0_hw245.1
theorem k0_off712_inb : ∀ (v956 : BitVec 32) (k0_hw245 : k0_chk245 v956), ∀ a, (k0_off712 v956) a + S128.size a ≤ S1000000.size a := fun v956 k0_hw245 => k0_hw245.2

def k0_off713 (arg26 : BitVec 32) (v667 : BitVec 32) (k0_t17 : Fin (k0_t17_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_610 : BitVec 32 := 16#32
  let v950 : BitVec 32 := Scalar.muli v847 c16_i32_610
  let c6_i32_611 : BitVec 32 := 6#32
  let v951 : BitVec 32 := Scalar.addi v950 c6_i32_611
  let v963 : Index := Scalar.indexCast v951
  let c0_615 : Index := 0#32
  ![v963.toNat, 0]
def k0_off714 (arg25 : BitVec 32) (arg26 : BitVec 32) (v667 : BitVec 32) (k0_t17 : Fin (k0_t17_loop arg26 v667).trips) : Fin 2 → Nat :=
  let v971 : Index := Scalar.indexCast arg25
  let c256_i32_618 : BitVec 32 := 256#32
  let v969 : BitVec 32 := Scalar.muli arg26 c256_i32_618
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_616 : BitVec 32 := 16#32
  let v967 : BitVec 32 := Scalar.muli v847 c16_i32_616
  let c7_i32_617 : BitVec 32 := 7#32
  let v968 : BitVec 32 := Scalar.addi v967 c7_i32_617
  let v970 : BitVec 32 := Scalar.addi v969 v968
  let v972 : Index := Scalar.indexCast v970
  ![v971.toNat, v972.toNat]
def k0_mult81 (v973 : BitVec 32) : BitVec 32 :=
  let c7_i32_619 : BitVec 32 := 7#32
  let v974 : BitVec 32 := Scalar.shrui v973 c7_i32_619
  let c128_i32_620 : BitVec 32 := 128#32
  let v975 : BitVec 32 := Scalar.muli v974 c128_i32_620
  v975

def k0_off715 (v973 : BitVec 32) : Fin 1 → Nat :=
  let c7_i32_619 : BitVec 32 := 7#32
  let v974 : BitVec 32 := Scalar.shrui v973 c7_i32_619
  let c128_i32_620 : BitVec 32 := 128#32
  let v975 : BitVec 32 := Scalar.muli v974 c128_i32_620
  let v976 : BitVec 32 := v975
  let v977 : Index := Scalar.indexCast v976
  ![v977.toNat]

def k0_chk246 (v973 : BitVec 32) : Prop :=
  (128 ∣ (k0_mult81 v973).toNat) ∧
  (∀ a, (k0_off715 v973) a + S128.size a ≤ S1000000.size a)
theorem k0_mult81_dvd : ∀ (v973 : BitVec 32) (k0_hw246 : k0_chk246 v973), 128 ∣ (k0_mult81 v973).toNat := fun v973 k0_hw246 => k0_hw246.1
theorem k0_off715_inb : ∀ (v973 : BitVec 32) (k0_hw246 : k0_chk246 v973), ∀ a, (k0_off715 v973) a + S128.size a ≤ S1000000.size a := fun v973 k0_hw246 => k0_hw246.2

def k0_off716 (arg26 : BitVec 32) (v667 : BitVec 32) (k0_t17 : Fin (k0_t17_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_616 : BitVec 32 := 16#32
  let v967 : BitVec 32 := Scalar.muli v847 c16_i32_616
  let c7_i32_617 : BitVec 32 := 7#32
  let v968 : BitVec 32 := Scalar.addi v967 c7_i32_617
  let v980 : Index := Scalar.indexCast v968
  let c0_621 : Index := 0#32
  ![v980.toNat, 0]
def k0_off717 (arg25 : BitVec 32) (arg26 : BitVec 32) (v667 : BitVec 32) (k0_t17 : Fin (k0_t17_loop arg26 v667).trips) : Fin 2 → Nat :=
  let v988 : Index := Scalar.indexCast arg25
  let c256_i32_624 : BitVec 32 := 256#32
  let v986 : BitVec 32 := Scalar.muli arg26 c256_i32_624
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_622 : BitVec 32 := 16#32
  let v984 : BitVec 32 := Scalar.muli v847 c16_i32_622
  let c8_i32_623 : BitVec 32 := 8#32
  let v985 : BitVec 32 := Scalar.addi v984 c8_i32_623
  let v987 : BitVec 32 := Scalar.addi v986 v985
  let v989 : Index := Scalar.indexCast v987
  ![v988.toNat, v989.toNat]
def k0_mult82 (v990 : BitVec 32) : BitVec 32 :=
  let c7_i32_625 : BitVec 32 := 7#32
  let v991 : BitVec 32 := Scalar.shrui v990 c7_i32_625
  let c128_i32_626 : BitVec 32 := 128#32
  let v992 : BitVec 32 := Scalar.muli v991 c128_i32_626
  v992

def k0_off718 (v990 : BitVec 32) : Fin 1 → Nat :=
  let c7_i32_625 : BitVec 32 := 7#32
  let v991 : BitVec 32 := Scalar.shrui v990 c7_i32_625
  let c128_i32_626 : BitVec 32 := 128#32
  let v992 : BitVec 32 := Scalar.muli v991 c128_i32_626
  let v993 : BitVec 32 := v992
  let v994 : Index := Scalar.indexCast v993
  ![v994.toNat]

def k0_chk247 (v990 : BitVec 32) : Prop :=
  (128 ∣ (k0_mult82 v990).toNat) ∧
  (∀ a, (k0_off718 v990) a + S128.size a ≤ S1000000.size a)
theorem k0_mult82_dvd : ∀ (v990 : BitVec 32) (k0_hw247 : k0_chk247 v990), 128 ∣ (k0_mult82 v990).toNat := fun v990 k0_hw247 => k0_hw247.1
theorem k0_off718_inb : ∀ (v990 : BitVec 32) (k0_hw247 : k0_chk247 v990), ∀ a, (k0_off718 v990) a + S128.size a ≤ S1000000.size a := fun v990 k0_hw247 => k0_hw247.2

def k0_off719 (arg26 : BitVec 32) (v667 : BitVec 32) (k0_t17 : Fin (k0_t17_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_622 : BitVec 32 := 16#32
  let v984 : BitVec 32 := Scalar.muli v847 c16_i32_622
  let c8_i32_623 : BitVec 32 := 8#32
  let v985 : BitVec 32 := Scalar.addi v984 c8_i32_623
  let v997 : Index := Scalar.indexCast v985
  let c0_627 : Index := 0#32
  ![v997.toNat, 0]
def k0_off720 (arg25 : BitVec 32) (arg26 : BitVec 32) (v667 : BitVec 32) (k0_t17 : Fin (k0_t17_loop arg26 v667).trips) : Fin 2 → Nat :=
  let v1005 : Index := Scalar.indexCast arg25
  let c256_i32_630 : BitVec 32 := 256#32
  let v1003 : BitVec 32 := Scalar.muli arg26 c256_i32_630
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_628 : BitVec 32 := 16#32
  let v1001 : BitVec 32 := Scalar.muli v847 c16_i32_628
  let c9_i32_629 : BitVec 32 := 9#32
  let v1002 : BitVec 32 := Scalar.addi v1001 c9_i32_629
  let v1004 : BitVec 32 := Scalar.addi v1003 v1002
  let v1006 : Index := Scalar.indexCast v1004
  ![v1005.toNat, v1006.toNat]
def k0_mult83 (v1007 : BitVec 32) : BitVec 32 :=
  let c7_i32_631 : BitVec 32 := 7#32
  let v1008 : BitVec 32 := Scalar.shrui v1007 c7_i32_631
  let c128_i32_632 : BitVec 32 := 128#32
  let v1009 : BitVec 32 := Scalar.muli v1008 c128_i32_632
  v1009

def k0_off721 (v1007 : BitVec 32) : Fin 1 → Nat :=
  let c7_i32_631 : BitVec 32 := 7#32
  let v1008 : BitVec 32 := Scalar.shrui v1007 c7_i32_631
  let c128_i32_632 : BitVec 32 := 128#32
  let v1009 : BitVec 32 := Scalar.muli v1008 c128_i32_632
  let v1010 : BitVec 32 := v1009
  let v1011 : Index := Scalar.indexCast v1010
  ![v1011.toNat]

def k0_chk248 (v1007 : BitVec 32) : Prop :=
  (128 ∣ (k0_mult83 v1007).toNat) ∧
  (∀ a, (k0_off721 v1007) a + S128.size a ≤ S1000000.size a)
theorem k0_mult83_dvd : ∀ (v1007 : BitVec 32) (k0_hw248 : k0_chk248 v1007), 128 ∣ (k0_mult83 v1007).toNat := fun v1007 k0_hw248 => k0_hw248.1
theorem k0_off721_inb : ∀ (v1007 : BitVec 32) (k0_hw248 : k0_chk248 v1007), ∀ a, (k0_off721 v1007) a + S128.size a ≤ S1000000.size a := fun v1007 k0_hw248 => k0_hw248.2

def k0_off722 (arg26 : BitVec 32) (v667 : BitVec 32) (k0_t17 : Fin (k0_t17_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_628 : BitVec 32 := 16#32
  let v1001 : BitVec 32 := Scalar.muli v847 c16_i32_628
  let c9_i32_629 : BitVec 32 := 9#32
  let v1002 : BitVec 32 := Scalar.addi v1001 c9_i32_629
  let v1014 : Index := Scalar.indexCast v1002
  let c0_633 : Index := 0#32
  ![v1014.toNat, 0]
def k0_off723 (arg25 : BitVec 32) (arg26 : BitVec 32) (v667 : BitVec 32) (k0_t17 : Fin (k0_t17_loop arg26 v667).trips) : Fin 2 → Nat :=
  let v1022 : Index := Scalar.indexCast arg25
  let c256_i32_636 : BitVec 32 := 256#32
  let v1020 : BitVec 32 := Scalar.muli arg26 c256_i32_636
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_634 : BitVec 32 := 16#32
  let v1018 : BitVec 32 := Scalar.muli v847 c16_i32_634
  let c10_i32_635 : BitVec 32 := 10#32
  let v1019 : BitVec 32 := Scalar.addi v1018 c10_i32_635
  let v1021 : BitVec 32 := Scalar.addi v1020 v1019
  let v1023 : Index := Scalar.indexCast v1021
  ![v1022.toNat, v1023.toNat]
def k0_mult84 (v1024 : BitVec 32) : BitVec 32 :=
  let c7_i32_637 : BitVec 32 := 7#32
  let v1025 : BitVec 32 := Scalar.shrui v1024 c7_i32_637
  let c128_i32_638 : BitVec 32 := 128#32
  let v1026 : BitVec 32 := Scalar.muli v1025 c128_i32_638
  v1026

def k0_off724 (v1024 : BitVec 32) : Fin 1 → Nat :=
  let c7_i32_637 : BitVec 32 := 7#32
  let v1025 : BitVec 32 := Scalar.shrui v1024 c7_i32_637
  let c128_i32_638 : BitVec 32 := 128#32
  let v1026 : BitVec 32 := Scalar.muli v1025 c128_i32_638
  let v1027 : BitVec 32 := v1026
  let v1028 : Index := Scalar.indexCast v1027
  ![v1028.toNat]

def k0_chk249 (v1024 : BitVec 32) : Prop :=
  (128 ∣ (k0_mult84 v1024).toNat) ∧
  (∀ a, (k0_off724 v1024) a + S128.size a ≤ S1000000.size a)
theorem k0_mult84_dvd : ∀ (v1024 : BitVec 32) (k0_hw249 : k0_chk249 v1024), 128 ∣ (k0_mult84 v1024).toNat := fun v1024 k0_hw249 => k0_hw249.1
theorem k0_off724_inb : ∀ (v1024 : BitVec 32) (k0_hw249 : k0_chk249 v1024), ∀ a, (k0_off724 v1024) a + S128.size a ≤ S1000000.size a := fun v1024 k0_hw249 => k0_hw249.2

def k0_off725 (arg26 : BitVec 32) (v667 : BitVec 32) (k0_t17 : Fin (k0_t17_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_634 : BitVec 32 := 16#32
  let v1018 : BitVec 32 := Scalar.muli v847 c16_i32_634
  let c10_i32_635 : BitVec 32 := 10#32
  let v1019 : BitVec 32 := Scalar.addi v1018 c10_i32_635
  let v1031 : Index := Scalar.indexCast v1019
  let c0_639 : Index := 0#32
  ![v1031.toNat, 0]
def k0_off726 (arg25 : BitVec 32) (arg26 : BitVec 32) (v667 : BitVec 32) (k0_t17 : Fin (k0_t17_loop arg26 v667).trips) : Fin 2 → Nat :=
  let v1039 : Index := Scalar.indexCast arg25
  let c256_i32_642 : BitVec 32 := 256#32
  let v1037 : BitVec 32 := Scalar.muli arg26 c256_i32_642
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_640 : BitVec 32 := 16#32
  let v1035 : BitVec 32 := Scalar.muli v847 c16_i32_640
  let c11_i32_641 : BitVec 32 := 11#32
  let v1036 : BitVec 32 := Scalar.addi v1035 c11_i32_641
  let v1038 : BitVec 32 := Scalar.addi v1037 v1036
  let v1040 : Index := Scalar.indexCast v1038
  ![v1039.toNat, v1040.toNat]
def k0_mult85 (v1041 : BitVec 32) : BitVec 32 :=
  let c7_i32_643 : BitVec 32 := 7#32
  let v1042 : BitVec 32 := Scalar.shrui v1041 c7_i32_643
  let c128_i32_644 : BitVec 32 := 128#32
  let v1043 : BitVec 32 := Scalar.muli v1042 c128_i32_644
  v1043

def k0_off727 (v1041 : BitVec 32) : Fin 1 → Nat :=
  let c7_i32_643 : BitVec 32 := 7#32
  let v1042 : BitVec 32 := Scalar.shrui v1041 c7_i32_643
  let c128_i32_644 : BitVec 32 := 128#32
  let v1043 : BitVec 32 := Scalar.muli v1042 c128_i32_644
  let v1044 : BitVec 32 := v1043
  let v1045 : Index := Scalar.indexCast v1044
  ![v1045.toNat]

def k0_chk250 (v1041 : BitVec 32) : Prop :=
  (128 ∣ (k0_mult85 v1041).toNat) ∧
  (∀ a, (k0_off727 v1041) a + S128.size a ≤ S1000000.size a)
theorem k0_mult85_dvd : ∀ (v1041 : BitVec 32) (k0_hw250 : k0_chk250 v1041), 128 ∣ (k0_mult85 v1041).toNat := fun v1041 k0_hw250 => k0_hw250.1
theorem k0_off727_inb : ∀ (v1041 : BitVec 32) (k0_hw250 : k0_chk250 v1041), ∀ a, (k0_off727 v1041) a + S128.size a ≤ S1000000.size a := fun v1041 k0_hw250 => k0_hw250.2

def k0_off728 (arg26 : BitVec 32) (v667 : BitVec 32) (k0_t17 : Fin (k0_t17_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_640 : BitVec 32 := 16#32
  let v1035 : BitVec 32 := Scalar.muli v847 c16_i32_640
  let c11_i32_641 : BitVec 32 := 11#32
  let v1036 : BitVec 32 := Scalar.addi v1035 c11_i32_641
  let v1048 : Index := Scalar.indexCast v1036
  let c0_645 : Index := 0#32
  ![v1048.toNat, 0]
def k0_off729 (arg25 : BitVec 32) (arg26 : BitVec 32) (v667 : BitVec 32) (k0_t17 : Fin (k0_t17_loop arg26 v667).trips) : Fin 2 → Nat :=
  let v1056 : Index := Scalar.indexCast arg25
  let c256_i32_648 : BitVec 32 := 256#32
  let v1054 : BitVec 32 := Scalar.muli arg26 c256_i32_648
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_646 : BitVec 32 := 16#32
  let v1052 : BitVec 32 := Scalar.muli v847 c16_i32_646
  let c12_i32_647 : BitVec 32 := 12#32
  let v1053 : BitVec 32 := Scalar.addi v1052 c12_i32_647
  let v1055 : BitVec 32 := Scalar.addi v1054 v1053
  let v1057 : Index := Scalar.indexCast v1055
  ![v1056.toNat, v1057.toNat]
def k0_mult86 (v1058 : BitVec 32) : BitVec 32 :=
  let c7_i32_649 : BitVec 32 := 7#32
  let v1059 : BitVec 32 := Scalar.shrui v1058 c7_i32_649
  let c128_i32_650 : BitVec 32 := 128#32
  let v1060 : BitVec 32 := Scalar.muli v1059 c128_i32_650
  v1060

def k0_off730 (v1058 : BitVec 32) : Fin 1 → Nat :=
  let c7_i32_649 : BitVec 32 := 7#32
  let v1059 : BitVec 32 := Scalar.shrui v1058 c7_i32_649
  let c128_i32_650 : BitVec 32 := 128#32
  let v1060 : BitVec 32 := Scalar.muli v1059 c128_i32_650
  let v1061 : BitVec 32 := v1060
  let v1062 : Index := Scalar.indexCast v1061
  ![v1062.toNat]

def k0_chk251 (v1058 : BitVec 32) : Prop :=
  (128 ∣ (k0_mult86 v1058).toNat) ∧
  (∀ a, (k0_off730 v1058) a + S128.size a ≤ S1000000.size a)
theorem k0_mult86_dvd : ∀ (v1058 : BitVec 32) (k0_hw251 : k0_chk251 v1058), 128 ∣ (k0_mult86 v1058).toNat := fun v1058 k0_hw251 => k0_hw251.1
theorem k0_off730_inb : ∀ (v1058 : BitVec 32) (k0_hw251 : k0_chk251 v1058), ∀ a, (k0_off730 v1058) a + S128.size a ≤ S1000000.size a := fun v1058 k0_hw251 => k0_hw251.2

def k0_off731 (arg26 : BitVec 32) (v667 : BitVec 32) (k0_t17 : Fin (k0_t17_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_646 : BitVec 32 := 16#32
  let v1052 : BitVec 32 := Scalar.muli v847 c16_i32_646
  let c12_i32_647 : BitVec 32 := 12#32
  let v1053 : BitVec 32 := Scalar.addi v1052 c12_i32_647
  let v1065 : Index := Scalar.indexCast v1053
  let c0_651 : Index := 0#32
  ![v1065.toNat, 0]
def k0_off732 (arg25 : BitVec 32) (arg26 : BitVec 32) (v667 : BitVec 32) (k0_t17 : Fin (k0_t17_loop arg26 v667).trips) : Fin 2 → Nat :=
  let v1073 : Index := Scalar.indexCast arg25
  let c256_i32_654 : BitVec 32 := 256#32
  let v1071 : BitVec 32 := Scalar.muli arg26 c256_i32_654
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_652 : BitVec 32 := 16#32
  let v1069 : BitVec 32 := Scalar.muli v847 c16_i32_652
  let c13_i32_653 : BitVec 32 := 13#32
  let v1070 : BitVec 32 := Scalar.addi v1069 c13_i32_653
  let v1072 : BitVec 32 := Scalar.addi v1071 v1070
  let v1074 : Index := Scalar.indexCast v1072
  ![v1073.toNat, v1074.toNat]
def k0_mult87 (v1075 : BitVec 32) : BitVec 32 :=
  let c7_i32_655 : BitVec 32 := 7#32
  let v1076 : BitVec 32 := Scalar.shrui v1075 c7_i32_655
  let c128_i32_656 : BitVec 32 := 128#32
  let v1077 : BitVec 32 := Scalar.muli v1076 c128_i32_656
  v1077

def k0_off733 (v1075 : BitVec 32) : Fin 1 → Nat :=
  let c7_i32_655 : BitVec 32 := 7#32
  let v1076 : BitVec 32 := Scalar.shrui v1075 c7_i32_655
  let c128_i32_656 : BitVec 32 := 128#32
  let v1077 : BitVec 32 := Scalar.muli v1076 c128_i32_656
  let v1078 : BitVec 32 := v1077
  let v1079 : Index := Scalar.indexCast v1078
  ![v1079.toNat]

def k0_chk252 (v1075 : BitVec 32) : Prop :=
  (128 ∣ (k0_mult87 v1075).toNat) ∧
  (∀ a, (k0_off733 v1075) a + S128.size a ≤ S1000000.size a)
theorem k0_mult87_dvd : ∀ (v1075 : BitVec 32) (k0_hw252 : k0_chk252 v1075), 128 ∣ (k0_mult87 v1075).toNat := fun v1075 k0_hw252 => k0_hw252.1
theorem k0_off733_inb : ∀ (v1075 : BitVec 32) (k0_hw252 : k0_chk252 v1075), ∀ a, (k0_off733 v1075) a + S128.size a ≤ S1000000.size a := fun v1075 k0_hw252 => k0_hw252.2

def k0_off734 (arg26 : BitVec 32) (v667 : BitVec 32) (k0_t17 : Fin (k0_t17_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_652 : BitVec 32 := 16#32
  let v1069 : BitVec 32 := Scalar.muli v847 c16_i32_652
  let c13_i32_653 : BitVec 32 := 13#32
  let v1070 : BitVec 32 := Scalar.addi v1069 c13_i32_653
  let v1082 : Index := Scalar.indexCast v1070
  let c0_657 : Index := 0#32
  ![v1082.toNat, 0]
def k0_off735 (arg25 : BitVec 32) (arg26 : BitVec 32) (v667 : BitVec 32) (k0_t17 : Fin (k0_t17_loop arg26 v667).trips) : Fin 2 → Nat :=
  let v1090 : Index := Scalar.indexCast arg25
  let c256_i32_660 : BitVec 32 := 256#32
  let v1088 : BitVec 32 := Scalar.muli arg26 c256_i32_660
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_658 : BitVec 32 := 16#32
  let v1086 : BitVec 32 := Scalar.muli v847 c16_i32_658
  let c14_i32_659 : BitVec 32 := 14#32
  let v1087 : BitVec 32 := Scalar.addi v1086 c14_i32_659
  let v1089 : BitVec 32 := Scalar.addi v1088 v1087
  let v1091 : Index := Scalar.indexCast v1089
  ![v1090.toNat, v1091.toNat]
def k0_mult88 (v1092 : BitVec 32) : BitVec 32 :=
  let c7_i32_661 : BitVec 32 := 7#32
  let v1093 : BitVec 32 := Scalar.shrui v1092 c7_i32_661
  let c128_i32_662 : BitVec 32 := 128#32
  let v1094 : BitVec 32 := Scalar.muli v1093 c128_i32_662
  v1094

def k0_off736 (v1092 : BitVec 32) : Fin 1 → Nat :=
  let c7_i32_661 : BitVec 32 := 7#32
  let v1093 : BitVec 32 := Scalar.shrui v1092 c7_i32_661
  let c128_i32_662 : BitVec 32 := 128#32
  let v1094 : BitVec 32 := Scalar.muli v1093 c128_i32_662
  let v1095 : BitVec 32 := v1094
  let v1096 : Index := Scalar.indexCast v1095
  ![v1096.toNat]

def k0_chk253 (v1092 : BitVec 32) : Prop :=
  (128 ∣ (k0_mult88 v1092).toNat) ∧
  (∀ a, (k0_off736 v1092) a + S128.size a ≤ S1000000.size a)
theorem k0_mult88_dvd : ∀ (v1092 : BitVec 32) (k0_hw253 : k0_chk253 v1092), 128 ∣ (k0_mult88 v1092).toNat := fun v1092 k0_hw253 => k0_hw253.1
theorem k0_off736_inb : ∀ (v1092 : BitVec 32) (k0_hw253 : k0_chk253 v1092), ∀ a, (k0_off736 v1092) a + S128.size a ≤ S1000000.size a := fun v1092 k0_hw253 => k0_hw253.2

def k0_off737 (arg26 : BitVec 32) (v667 : BitVec 32) (k0_t17 : Fin (k0_t17_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_658 : BitVec 32 := 16#32
  let v1086 : BitVec 32 := Scalar.muli v847 c16_i32_658
  let c14_i32_659 : BitVec 32 := 14#32
  let v1087 : BitVec 32 := Scalar.addi v1086 c14_i32_659
  let v1099 : Index := Scalar.indexCast v1087
  let c0_663 : Index := 0#32
  ![v1099.toNat, 0]
def k0_off738 (arg25 : BitVec 32) (arg26 : BitVec 32) (v667 : BitVec 32) (k0_t17 : Fin (k0_t17_loop arg26 v667).trips) : Fin 2 → Nat :=
  let v1107 : Index := Scalar.indexCast arg25
  let c256_i32_666 : BitVec 32 := 256#32
  let v1105 : BitVec 32 := Scalar.muli arg26 c256_i32_666
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_664 : BitVec 32 := 16#32
  let v1103 : BitVec 32 := Scalar.muli v847 c16_i32_664
  let c15_i32_665 : BitVec 32 := 15#32
  let v1104 : BitVec 32 := Scalar.addi v1103 c15_i32_665
  let v1106 : BitVec 32 := Scalar.addi v1105 v1104
  let v1108 : Index := Scalar.indexCast v1106
  ![v1107.toNat, v1108.toNat]
def k0_mult89 (v1109 : BitVec 32) : BitVec 32 :=
  let c7_i32_667 : BitVec 32 := 7#32
  let v1110 : BitVec 32 := Scalar.shrui v1109 c7_i32_667
  let c128_i32_668 : BitVec 32 := 128#32
  let v1111 : BitVec 32 := Scalar.muli v1110 c128_i32_668
  v1111

def k0_off739 (v1109 : BitVec 32) : Fin 1 → Nat :=
  let c7_i32_667 : BitVec 32 := 7#32
  let v1110 : BitVec 32 := Scalar.shrui v1109 c7_i32_667
  let c128_i32_668 : BitVec 32 := 128#32
  let v1111 : BitVec 32 := Scalar.muli v1110 c128_i32_668
  let v1112 : BitVec 32 := v1111
  let v1113 : Index := Scalar.indexCast v1112
  ![v1113.toNat]

def k0_chk254 (v1109 : BitVec 32) : Prop :=
  (128 ∣ (k0_mult89 v1109).toNat) ∧
  (∀ a, (k0_off739 v1109) a + S128.size a ≤ S1000000.size a)
theorem k0_mult89_dvd : ∀ (v1109 : BitVec 32) (k0_hw254 : k0_chk254 v1109), 128 ∣ (k0_mult89 v1109).toNat := fun v1109 k0_hw254 => k0_hw254.1
theorem k0_off739_inb : ∀ (v1109 : BitVec 32) (k0_hw254 : k0_chk254 v1109), ∀ a, (k0_off739 v1109) a + S128.size a ≤ S1000000.size a := fun v1109 k0_hw254 => k0_hw254.2

def k0_off740 (arg26 : BitVec 32) (v667 : BitVec 32) (k0_t17 : Fin (k0_t17_loop arg26 v667).trips) : Fin 2 → Nat :=
  let c0_i32_496 : BitVec 32 := 0#32
  let c0_i32_497 : BitVec 32 := 0#32
  let c256_i32_487 : BitVec 32 := 256#32
  let v668 : BitVec 32 := Scalar.muli arg26 c256_i32_487
  let v669 : BitVec 32 := Scalar.subi v667 v668
  let c256_i32_488 : BitVec 32 := 256#32
  let v670 : BitVec 32 := Scalar.minsi v669 c256_i32_488
  let c15_i32_489 : BitVec 32 := 15#32
  let v671 : BitVec 32 := Scalar.addi v670 c15_i32_489
  let c16_i32_490 : BitVec 32 := 16#32
  let v672 : BitVec 32 := Scalar.divsi v671 c16_i32_490
  let c0_i32_491 : BitVec 32 := 0#32
  let v673 : BitVec 32 := Scalar.subi v672 c0_i32_491
  let c1_i32_492 : BitVec 32 := 1#32
  let c1_i32_493 : BitVec 32 := 1#32
  let v674 : BitVec 32 := Scalar.subi c1_i32_492 c1_i32_493
  let v675 : BitVec 32 := Scalar.addi v673 v674
  let c1_i32_494 : BitVec 32 := 1#32
  let v676 : BitVec 32 := Scalar.divsi v675 c1_i32_494
  let v677 : BitVec 32 := Scalar.subi v676 c0_i32_497
  let c1_i32_498 : BitVec 32 := 1#32
  let v679 : BitVec 32 := Scalar.divsi v677 c1_i32_498
  let v680 : BitVec 32 := Scalar.muli v679 c1_i32_498
  let v681 : BitVec 32 := Scalar.addi c0_i32_497 v680
  let c1_i32_500 : BitVec 32 := 1#32
  let arg31 : BitVec 32 := Scf.iv v681 c1_i32_500 k0_t17
  let c1_i32_495 : BitVec 32 := 1#32
  let v846 : BitVec 32 := Scalar.muli arg31 c1_i32_495
  let v847 : BitVec 32 := Scalar.addi c0_i32_496 v846
  let c16_i32_664 : BitVec 32 := 16#32
  let v1103 : BitVec 32 := Scalar.muli v847 c16_i32_664
  let c15_i32_665 : BitVec 32 := 15#32
  let v1104 : BitVec 32 := Scalar.addi v1103 c15_i32_665
  let v1116 : Index := Scalar.indexCast v1104
  let c0_669 : Index := 0#32
  ![v1116.toNat, 0]

def k0_chk222_0 (arg25 : BitVec 32) (arg26 : BitVec 32) (v667 : BitVec 32) : Prop :=
  ((k0_t16_loop arg26 v667).OK) ∧
  (∀ k0_t16 : Fin (k0_t16_loop arg26 v667).trips, ∀ a, (k0_off645 arg25 arg26 v667 k0_t16) a + S1x1.size a ≤ S24x1536.size a) ∧
  (∀ k0_t16 : Fin (k0_t16_loop arg26 v667).trips, ∀ a, (k0_off647 arg26 v667 k0_t16) a + S1x128.size a ≤ S256x128.size a) ∧
  (∀ k0_t16 : Fin (k0_t16_loop arg26 v667).trips, ∀ a, (k0_off648 arg25 arg26 v667 k0_t16) a + S1x1.size a ≤ S24x1536.size a) ∧
  (∀ k0_t16 : Fin (k0_t16_loop arg26 v667).trips, ∀ a, (k0_off650 arg26 v667 k0_t16) a + S1x128.size a ≤ S256x128.size a) ∧
  (∀ k0_t16 : Fin (k0_t16_loop arg26 v667).trips, ∀ a, (k0_off651 arg25 arg26 v667 k0_t16) a + S1x1.size a ≤ S24x1536.size a) ∧
  (∀ k0_t16 : Fin (k0_t16_loop arg26 v667).trips, ∀ a, (k0_off653 arg26 v667 k0_t16) a + S1x128.size a ≤ S256x128.size a) ∧
  (∀ k0_t16 : Fin (k0_t16_loop arg26 v667).trips, ∀ a, (k0_off654 arg25 arg26 v667 k0_t16) a + S1x1.size a ≤ S24x1536.size a) ∧
  (∀ k0_t16 : Fin (k0_t16_loop arg26 v667).trips, ∀ a, (k0_off656 arg26 v667 k0_t16) a + S1x128.size a ≤ S256x128.size a) ∧
  (∀ k0_t16 : Fin (k0_t16_loop arg26 v667).trips, ∀ a, (k0_off657 arg25 arg26 v667 k0_t16) a + S1x1.size a ≤ S24x1536.size a) ∧
  (∀ k0_t16 : Fin (k0_t16_loop arg26 v667).trips, ∀ a, (k0_off659 arg26 v667 k0_t16) a + S1x128.size a ≤ S256x128.size a) ∧
  (∀ k0_t16 : Fin (k0_t16_loop arg26 v667).trips, ∀ a, (k0_off660 arg25 arg26 v667 k0_t16) a + S1x1.size a ≤ S24x1536.size a) ∧
  (∀ k0_t16 : Fin (k0_t16_loop arg26 v667).trips, ∀ a, (k0_off662 arg26 v667 k0_t16) a + S1x128.size a ≤ S256x128.size a) ∧
  (∀ k0_t16 : Fin (k0_t16_loop arg26 v667).trips, ∀ a, (k0_off663 arg25 arg26 v667 k0_t16) a + S1x1.size a ≤ S24x1536.size a) ∧
  (∀ k0_t16 : Fin (k0_t16_loop arg26 v667).trips, ∀ a, (k0_off665 arg26 v667 k0_t16) a + S1x128.size a ≤ S256x128.size a) ∧
  (∀ k0_t16 : Fin (k0_t16_loop arg26 v667).trips, ∀ a, (k0_off666 arg25 arg26 v667 k0_t16) a + S1x1.size a ≤ S24x1536.size a) ∧
  (∀ k0_t16 : Fin (k0_t16_loop arg26 v667).trips, ∀ a, (k0_off668 arg26 v667 k0_t16) a + S1x128.size a ≤ S256x128.size a) ∧
  (∀ k0_t16 : Fin (k0_t16_loop arg26 v667).trips, ∀ a, (k0_off669 arg25 arg26 v667 k0_t16) a + S1x1.size a ≤ S24x1536.size a) ∧
  (∀ k0_t16 : Fin (k0_t16_loop arg26 v667).trips, ∀ a, (k0_off671 arg26 v667 k0_t16) a + S1x128.size a ≤ S256x128.size a) ∧
  (∀ k0_t16 : Fin (k0_t16_loop arg26 v667).trips, ∀ a, (k0_off672 arg25 arg26 v667 k0_t16) a + S1x1.size a ≤ S24x1536.size a) ∧
  (∀ k0_t16 : Fin (k0_t16_loop arg26 v667).trips, ∀ a, (k0_off674 arg26 v667 k0_t16) a + S1x128.size a ≤ S256x128.size a) ∧
  (∀ k0_t16 : Fin (k0_t16_loop arg26 v667).trips, ∀ a, (k0_off675 arg25 arg26 v667 k0_t16) a + S1x1.size a ≤ S24x1536.size a) ∧
  (∀ k0_t16 : Fin (k0_t16_loop arg26 v667).trips, ∀ a, (k0_off677 arg26 v667 k0_t16) a + S1x128.size a ≤ S256x128.size a) ∧
  (∀ k0_t16 : Fin (k0_t16_loop arg26 v667).trips, ∀ a, (k0_off678 arg25 arg26 v667 k0_t16) a + S1x1.size a ≤ S24x1536.size a) ∧
  (∀ k0_t16 : Fin (k0_t16_loop arg26 v667).trips, ∀ a, (k0_off680 arg26 v667 k0_t16) a + S1x128.size a ≤ S256x128.size a) ∧
  (∀ k0_t16 : Fin (k0_t16_loop arg26 v667).trips, ∀ a, (k0_off681 arg25 arg26 v667 k0_t16) a + S1x1.size a ≤ S24x1536.size a) ∧
  (∀ k0_t16 : Fin (k0_t16_loop arg26 v667).trips, ∀ a, (k0_off683 arg26 v667 k0_t16) a + S1x128.size a ≤ S256x128.size a) ∧
  (∀ k0_t16 : Fin (k0_t16_loop arg26 v667).trips, ∀ a, (k0_off684 arg25 arg26 v667 k0_t16) a + S1x1.size a ≤ S24x1536.size a) ∧
  (∀ k0_t16 : Fin (k0_t16_loop arg26 v667).trips, ∀ a, (k0_off686 arg26 v667 k0_t16) a + S1x128.size a ≤ S256x128.size a) ∧
  (∀ k0_t16 : Fin (k0_t16_loop arg26 v667).trips, ∀ a, (k0_off687 arg25 arg26 v667 k0_t16) a + S1x1.size a ≤ S24x1536.size a) ∧
  (∀ k0_t16 : Fin (k0_t16_loop arg26 v667).trips, ∀ a, (k0_off689 arg26 v667 k0_t16) a + S1x128.size a ≤ S256x128.size a) ∧
  (∀ k0_t16 : Fin (k0_t16_loop arg26 v667).trips, ∀ a, (k0_off690 arg25 arg26 v667 k0_t16) a + S1x1.size a ≤ S24x1536.size a)
def k0_chk222_1 (arg25 : BitVec 32) (arg26 : BitVec 32) (v667 : BitVec 32) : Prop :=
  (∀ k0_t16 : Fin (k0_t16_loop arg26 v667).trips, ∀ a, (k0_off692 arg26 v667 k0_t16) a + S1x128.size a ≤ S256x128.size a) ∧
  ((k0_t17_loop arg26 v667).OK) ∧
  (∀ k0_t17 : Fin (k0_t17_loop arg26 v667).trips, ∀ a, (k0_off693 arg25 arg26 v667 k0_t17) a + S1x1.size a ≤ S24x1536.size a) ∧
  (∀ k0_t17 : Fin (k0_t17_loop arg26 v667).trips, ∀ a, (k0_off695 arg26 v667 k0_t17) a + S1x128.size a ≤ S256x128.size a) ∧
  (∀ k0_t17 : Fin (k0_t17_loop arg26 v667).trips, ∀ a, (k0_off696 arg25 arg26 v667 k0_t17) a + S1x1.size a ≤ S24x1536.size a) ∧
  (∀ k0_t17 : Fin (k0_t17_loop arg26 v667).trips, ∀ a, (k0_off698 arg26 v667 k0_t17) a + S1x128.size a ≤ S256x128.size a) ∧
  (∀ k0_t17 : Fin (k0_t17_loop arg26 v667).trips, ∀ a, (k0_off699 arg25 arg26 v667 k0_t17) a + S1x1.size a ≤ S24x1536.size a) ∧
  (∀ k0_t17 : Fin (k0_t17_loop arg26 v667).trips, ∀ a, (k0_off701 arg26 v667 k0_t17) a + S1x128.size a ≤ S256x128.size a) ∧
  (∀ k0_t17 : Fin (k0_t17_loop arg26 v667).trips, ∀ a, (k0_off702 arg25 arg26 v667 k0_t17) a + S1x1.size a ≤ S24x1536.size a) ∧
  (∀ k0_t17 : Fin (k0_t17_loop arg26 v667).trips, ∀ a, (k0_off704 arg26 v667 k0_t17) a + S1x128.size a ≤ S256x128.size a) ∧
  (∀ k0_t17 : Fin (k0_t17_loop arg26 v667).trips, ∀ a, (k0_off705 arg25 arg26 v667 k0_t17) a + S1x1.size a ≤ S24x1536.size a) ∧
  (∀ k0_t17 : Fin (k0_t17_loop arg26 v667).trips, ∀ a, (k0_off707 arg26 v667 k0_t17) a + S1x128.size a ≤ S256x128.size a) ∧
  (∀ k0_t17 : Fin (k0_t17_loop arg26 v667).trips, ∀ a, (k0_off708 arg25 arg26 v667 k0_t17) a + S1x1.size a ≤ S24x1536.size a) ∧
  (∀ k0_t17 : Fin (k0_t17_loop arg26 v667).trips, ∀ a, (k0_off710 arg26 v667 k0_t17) a + S1x128.size a ≤ S256x128.size a) ∧
  (∀ k0_t17 : Fin (k0_t17_loop arg26 v667).trips, ∀ a, (k0_off711 arg25 arg26 v667 k0_t17) a + S1x1.size a ≤ S24x1536.size a) ∧
  (∀ k0_t17 : Fin (k0_t17_loop arg26 v667).trips, ∀ a, (k0_off713 arg26 v667 k0_t17) a + S1x128.size a ≤ S256x128.size a) ∧
  (∀ k0_t17 : Fin (k0_t17_loop arg26 v667).trips, ∀ a, (k0_off714 arg25 arg26 v667 k0_t17) a + S1x1.size a ≤ S24x1536.size a) ∧
  (∀ k0_t17 : Fin (k0_t17_loop arg26 v667).trips, ∀ a, (k0_off716 arg26 v667 k0_t17) a + S1x128.size a ≤ S256x128.size a) ∧
  (∀ k0_t17 : Fin (k0_t17_loop arg26 v667).trips, ∀ a, (k0_off717 arg25 arg26 v667 k0_t17) a + S1x1.size a ≤ S24x1536.size a) ∧
  (∀ k0_t17 : Fin (k0_t17_loop arg26 v667).trips, ∀ a, (k0_off719 arg26 v667 k0_t17) a + S1x128.size a ≤ S256x128.size a) ∧
  (∀ k0_t17 : Fin (k0_t17_loop arg26 v667).trips, ∀ a, (k0_off720 arg25 arg26 v667 k0_t17) a + S1x1.size a ≤ S24x1536.size a) ∧
  (∀ k0_t17 : Fin (k0_t17_loop arg26 v667).trips, ∀ a, (k0_off722 arg26 v667 k0_t17) a + S1x128.size a ≤ S256x128.size a) ∧
  (∀ k0_t17 : Fin (k0_t17_loop arg26 v667).trips, ∀ a, (k0_off723 arg25 arg26 v667 k0_t17) a + S1x1.size a ≤ S24x1536.size a) ∧
  (∀ k0_t17 : Fin (k0_t17_loop arg26 v667).trips, ∀ a, (k0_off725 arg26 v667 k0_t17) a + S1x128.size a ≤ S256x128.size a) ∧
  (∀ k0_t17 : Fin (k0_t17_loop arg26 v667).trips, ∀ a, (k0_off726 arg25 arg26 v667 k0_t17) a + S1x1.size a ≤ S24x1536.size a) ∧
  (∀ k0_t17 : Fin (k0_t17_loop arg26 v667).trips, ∀ a, (k0_off728 arg26 v667 k0_t17) a + S1x128.size a ≤ S256x128.size a) ∧
  (∀ k0_t17 : Fin (k0_t17_loop arg26 v667).trips, ∀ a, (k0_off729 arg25 arg26 v667 k0_t17) a + S1x1.size a ≤ S24x1536.size a) ∧
  (∀ k0_t17 : Fin (k0_t17_loop arg26 v667).trips, ∀ a, (k0_off731 arg26 v667 k0_t17) a + S1x128.size a ≤ S256x128.size a) ∧
  (∀ k0_t17 : Fin (k0_t17_loop arg26 v667).trips, ∀ a, (k0_off732 arg25 arg26 v667 k0_t17) a + S1x1.size a ≤ S24x1536.size a) ∧
  (∀ k0_t17 : Fin (k0_t17_loop arg26 v667).trips, ∀ a, (k0_off734 arg26 v667 k0_t17) a + S1x128.size a ≤ S256x128.size a) ∧
  (∀ k0_t17 : Fin (k0_t17_loop arg26 v667).trips, ∀ a, (k0_off735 arg25 arg26 v667 k0_t17) a + S1x1.size a ≤ S24x1536.size a) ∧
  (∀ k0_t17 : Fin (k0_t17_loop arg26 v667).trips, ∀ a, (k0_off737 arg26 v667 k0_t17) a + S1x128.size a ≤ S256x128.size a)
def k0_chk222_2 (arg25 : BitVec 32) (arg26 : BitVec 32) (v667 : BitVec 32) : Prop :=
  (∀ k0_t17 : Fin (k0_t17_loop arg26 v667).trips, ∀ a, (k0_off738 arg25 arg26 v667 k0_t17) a + S1x1.size a ≤ S24x1536.size a) ∧
  (∀ k0_t17 : Fin (k0_t17_loop arg26 v667).trips, ∀ a, (k0_off740 arg26 v667 k0_t17) a + S1x128.size a ≤ S256x128.size a)
def k0_chk222 (arg25 : BitVec 32) (arg26 : BitVec 32) (v667 : BitVec 32) : Prop :=
  k0_chk222_0 arg25 arg26 v667 ∧
  k0_chk222_1 arg25 arg26 v667 ∧
  k0_chk222_2 arg25 arg26 v667
theorem k0_t16_ok : ∀ (arg25 : BitVec 32) (arg26 : BitVec 32) (v667 : BitVec 32) (k0_hw222 : k0_chk222 arg25 arg26 v667), (k0_t16_loop arg26 v667).OK := fun arg25 arg26 v667 k0_hw222 => k0_hw222.1.1
theorem k0_off645_inb : ∀ (arg25 : BitVec 32) (arg26 : BitVec 32) (v667 : BitVec 32) (k0_hw222 : k0_chk222 arg25 arg26 v667) (k0_t16 : Fin (k0_t16_loop arg26 v667).trips), ∀ a, (k0_off645 arg25 arg26 v667 k0_t16) a + S1x1.size a ≤ S24x1536.size a := fun arg25 arg26 v667 k0_hw222 k0_t16 => k0_hw222.1.2.1 k0_t16
theorem k0_off647_inb : ∀ (arg25 : BitVec 32) (arg26 : BitVec 32) (v667 : BitVec 32) (k0_hw222 : k0_chk222 arg25 arg26 v667) (k0_t16 : Fin (k0_t16_loop arg26 v667).trips), ∀ a, (k0_off647 arg26 v667 k0_t16) a + S1x128.size a ≤ S256x128.size a := fun arg25 arg26 v667 k0_hw222 k0_t16 => k0_hw222.1.2.2.1 k0_t16
theorem k0_off648_inb : ∀ (arg25 : BitVec 32) (arg26 : BitVec 32) (v667 : BitVec 32) (k0_hw222 : k0_chk222 arg25 arg26 v667) (k0_t16 : Fin (k0_t16_loop arg26 v667).trips), ∀ a, (k0_off648 arg25 arg26 v667 k0_t16) a + S1x1.size a ≤ S24x1536.size a := fun arg25 arg26 v667 k0_hw222 k0_t16 => k0_hw222.1.2.2.2.1 k0_t16
theorem k0_off650_inb : ∀ (arg25 : BitVec 32) (arg26 : BitVec 32) (v667 : BitVec 32) (k0_hw222 : k0_chk222 arg25 arg26 v667) (k0_t16 : Fin (k0_t16_loop arg26 v667).trips), ∀ a, (k0_off650 arg26 v667 k0_t16) a + S1x128.size a ≤ S256x128.size a := fun arg25 arg26 v667 k0_hw222 k0_t16 => k0_hw222.1.2.2.2.2.1 k0_t16
theorem k0_off651_inb : ∀ (arg25 : BitVec 32) (arg26 : BitVec 32) (v667 : BitVec 32) (k0_hw222 : k0_chk222 arg25 arg26 v667) (k0_t16 : Fin (k0_t16_loop arg26 v667).trips), ∀ a, (k0_off651 arg25 arg26 v667 k0_t16) a + S1x1.size a ≤ S24x1536.size a := fun arg25 arg26 v667 k0_hw222 k0_t16 => k0_hw222.1.2.2.2.2.2.1 k0_t16
theorem k0_off653_inb : ∀ (arg25 : BitVec 32) (arg26 : BitVec 32) (v667 : BitVec 32) (k0_hw222 : k0_chk222 arg25 arg26 v667) (k0_t16 : Fin (k0_t16_loop arg26 v667).trips), ∀ a, (k0_off653 arg26 v667 k0_t16) a + S1x128.size a ≤ S256x128.size a := fun arg25 arg26 v667 k0_hw222 k0_t16 => k0_hw222.1.2.2.2.2.2.2.1 k0_t16
theorem k0_off654_inb : ∀ (arg25 : BitVec 32) (arg26 : BitVec 32) (v667 : BitVec 32) (k0_hw222 : k0_chk222 arg25 arg26 v667) (k0_t16 : Fin (k0_t16_loop arg26 v667).trips), ∀ a, (k0_off654 arg25 arg26 v667 k0_t16) a + S1x1.size a ≤ S24x1536.size a := fun arg25 arg26 v667 k0_hw222 k0_t16 => k0_hw222.1.2.2.2.2.2.2.2.1 k0_t16
theorem k0_off656_inb : ∀ (arg25 : BitVec 32) (arg26 : BitVec 32) (v667 : BitVec 32) (k0_hw222 : k0_chk222 arg25 arg26 v667) (k0_t16 : Fin (k0_t16_loop arg26 v667).trips), ∀ a, (k0_off656 arg26 v667 k0_t16) a + S1x128.size a ≤ S256x128.size a := fun arg25 arg26 v667 k0_hw222 k0_t16 => k0_hw222.1.2.2.2.2.2.2.2.2.1 k0_t16
theorem k0_off657_inb : ∀ (arg25 : BitVec 32) (arg26 : BitVec 32) (v667 : BitVec 32) (k0_hw222 : k0_chk222 arg25 arg26 v667) (k0_t16 : Fin (k0_t16_loop arg26 v667).trips), ∀ a, (k0_off657 arg25 arg26 v667 k0_t16) a + S1x1.size a ≤ S24x1536.size a := fun arg25 arg26 v667 k0_hw222 k0_t16 => k0_hw222.1.2.2.2.2.2.2.2.2.2.1 k0_t16
theorem k0_off659_inb : ∀ (arg25 : BitVec 32) (arg26 : BitVec 32) (v667 : BitVec 32) (k0_hw222 : k0_chk222 arg25 arg26 v667) (k0_t16 : Fin (k0_t16_loop arg26 v667).trips), ∀ a, (k0_off659 arg26 v667 k0_t16) a + S1x128.size a ≤ S256x128.size a := fun arg25 arg26 v667 k0_hw222 k0_t16 => k0_hw222.1.2.2.2.2.2.2.2.2.2.2.1 k0_t16
theorem k0_off660_inb : ∀ (arg25 : BitVec 32) (arg26 : BitVec 32) (v667 : BitVec 32) (k0_hw222 : k0_chk222 arg25 arg26 v667) (k0_t16 : Fin (k0_t16_loop arg26 v667).trips), ∀ a, (k0_off660 arg25 arg26 v667 k0_t16) a + S1x1.size a ≤ S24x1536.size a := fun arg25 arg26 v667 k0_hw222 k0_t16 => k0_hw222.1.2.2.2.2.2.2.2.2.2.2.2.1 k0_t16
theorem k0_off662_inb : ∀ (arg25 : BitVec 32) (arg26 : BitVec 32) (v667 : BitVec 32) (k0_hw222 : k0_chk222 arg25 arg26 v667) (k0_t16 : Fin (k0_t16_loop arg26 v667).trips), ∀ a, (k0_off662 arg26 v667 k0_t16) a + S1x128.size a ≤ S256x128.size a := fun arg25 arg26 v667 k0_hw222 k0_t16 => k0_hw222.1.2.2.2.2.2.2.2.2.2.2.2.2.1 k0_t16
theorem k0_off663_inb : ∀ (arg25 : BitVec 32) (arg26 : BitVec 32) (v667 : BitVec 32) (k0_hw222 : k0_chk222 arg25 arg26 v667) (k0_t16 : Fin (k0_t16_loop arg26 v667).trips), ∀ a, (k0_off663 arg25 arg26 v667 k0_t16) a + S1x1.size a ≤ S24x1536.size a := fun arg25 arg26 v667 k0_hw222 k0_t16 => k0_hw222.1.2.2.2.2.2.2.2.2.2.2.2.2.2.1 k0_t16
theorem k0_off665_inb : ∀ (arg25 : BitVec 32) (arg26 : BitVec 32) (v667 : BitVec 32) (k0_hw222 : k0_chk222 arg25 arg26 v667) (k0_t16 : Fin (k0_t16_loop arg26 v667).trips), ∀ a, (k0_off665 arg26 v667 k0_t16) a + S1x128.size a ≤ S256x128.size a := fun arg25 arg26 v667 k0_hw222 k0_t16 => k0_hw222.1.2.2.2.2.2.2.2.2.2.2.2.2.2.2.1 k0_t16
theorem k0_off666_inb : ∀ (arg25 : BitVec 32) (arg26 : BitVec 32) (v667 : BitVec 32) (k0_hw222 : k0_chk222 arg25 arg26 v667) (k0_t16 : Fin (k0_t16_loop arg26 v667).trips), ∀ a, (k0_off666 arg25 arg26 v667 k0_t16) a + S1x1.size a ≤ S24x1536.size a := fun arg25 arg26 v667 k0_hw222 k0_t16 => k0_hw222.1.2.2.2.2.2.2.2.2.2.2.2.2.2.2.2.1 k0_t16
theorem k0_off668_inb : ∀ (arg25 : BitVec 32) (arg26 : BitVec 32) (v667 : BitVec 32) (k0_hw222 : k0_chk222 arg25 arg26 v667) (k0_t16 : Fin (k0_t16_loop arg26 v667).trips), ∀ a, (k0_off668 arg26 v667 k0_t16) a + S1x128.size a ≤ S256x128.size a := fun arg25 arg26 v667 k0_hw222 k0_t16 => k0_hw222.1.2.2.2.2.2.2.2.2.2.2.2.2.2.2.2.2.1 k0_t16
theorem k0_off669_inb : ∀ (arg25 : BitVec 32) (arg26 : BitVec 32) (v667 : BitVec 32) (k0_hw222 : k0_chk222 arg25 arg26 v667) (k0_t16 : Fin (k0_t16_loop arg26 v667).trips), ∀ a, (k0_off669 arg25 arg26 v667 k0_t16) a + S1x1.size a ≤ S24x1536.size a := fun arg25 arg26 v667 k0_hw222 k0_t16 => k0_hw222.1.2.2.2.2.2.2.2.2.2.2.2.2.2.2.2.2.2.1 k0_t16
theorem k0_off671_inb : ∀ (arg25 : BitVec 32) (arg26 : BitVec 32) (v667 : BitVec 32) (k0_hw222 : k0_chk222 arg25 arg26 v667) (k0_t16 : Fin (k0_t16_loop arg26 v667).trips), ∀ a, (k0_off671 arg26 v667 k0_t16) a + S1x128.size a ≤ S256x128.size a := fun arg25 arg26 v667 k0_hw222 k0_t16 => k0_hw222.1.2.2.2.2.2.2.2.2.2.2.2.2.2.2.2.2.2.2.1 k0_t16
theorem k0_off672_inb : ∀ (arg25 : BitVec 32) (arg26 : BitVec 32) (v667 : BitVec 32) (k0_hw222 : k0_chk222 arg25 arg26 v667) (k0_t16 : Fin (k0_t16_loop arg26 v667).trips), ∀ a, (k0_off672 arg25 arg26 v667 k0_t16) a + S1x1.size a ≤ S24x1536.size a := fun arg25 arg26 v667 k0_hw222 k0_t16 => k0_hw222.1.2.2.2.2.2.2.2.2.2.2.2.2.2.2.2.2.2.2.2.1 k0_t16
theorem k0_off674_inb : ∀ (arg25 : BitVec 32) (arg26 : BitVec 32) (v667 : BitVec 32) (k0_hw222 : k0_chk222 arg25 arg26 v667) (k0_t16 : Fin (k0_t16_loop arg26 v667).trips), ∀ a, (k0_off674 arg26 v667 k0_t16) a + S1x128.size a ≤ S256x128.size a := fun arg25 arg26 v667 k0_hw222 k0_t16 => k0_hw222.1.2.2.2.2.2.2.2.2.2.2.2.2.2.2.2.2.2.2.2.2.1 k0_t16
theorem k0_off675_inb : ∀ (arg25 : BitVec 32) (arg26 : BitVec 32) (v667 : BitVec 32) (k0_hw222 : k0_chk222 arg25 arg26 v667) (k0_t16 : Fin (k0_t16_loop arg26 v667).trips), ∀ a, (k0_off675 arg25 arg26 v667 k0_t16) a + S1x1.size a ≤ S24x1536.size a := fun arg25 arg26 v667 k0_hw222 k0_t16 => k0_hw222.1.2.2.2.2.2.2.2.2.2.2.2.2.2.2.2.2.2.2.2.2.2.1 k0_t16
theorem k0_off677_inb : ∀ (arg25 : BitVec 32) (arg26 : BitVec 32) (v667 : BitVec 32) (k0_hw222 : k0_chk222 arg25 arg26 v667) (k0_t16 : Fin (k0_t16_loop arg26 v667).trips), ∀ a, (k0_off677 arg26 v667 k0_t16) a + S1x128.size a ≤ S256x128.size a := fun arg25 arg26 v667 k0_hw222 k0_t16 => k0_hw222.1.2.2.2.2.2.2.2.2.2.2.2.2.2.2.2.2.2.2.2.2.2.2.1 k0_t16
theorem k0_off678_inb : ∀ (arg25 : BitVec 32) (arg26 : BitVec 32) (v667 : BitVec 32) (k0_hw222 : k0_chk222 arg25 arg26 v667) (k0_t16 : Fin (k0_t16_loop arg26 v667).trips), ∀ a, (k0_off678 arg25 arg26 v667 k0_t16) a + S1x1.size a ≤ S24x1536.size a := fun arg25 arg26 v667 k0_hw222 k0_t16 => k0_hw222.1.2.2.2.2.2.2.2.2.2.2.2.2.2.2.2.2.2.2.2.2.2.2.2.1 k0_t16
theorem k0_off680_inb : ∀ (arg25 : BitVec 32) (arg26 : BitVec 32) (v667 : BitVec 32) (k0_hw222 : k0_chk222 arg25 arg26 v667) (k0_t16 : Fin (k0_t16_loop arg26 v667).trips), ∀ a, (k0_off680 arg26 v667 k0_t16) a + S1x128.size a ≤ S256x128.size a := fun arg25 arg26 v667 k0_hw222 k0_t16 => k0_hw222.1.2.2.2.2.2.2.2.2.2.2.2.2.2.2.2.2.2.2.2.2.2.2.2.2.1 k0_t16
theorem k0_off681_inb : ∀ (arg25 : BitVec 32) (arg26 : BitVec 32) (v667 : BitVec 32) (k0_hw222 : k0_chk222 arg25 arg26 v667) (k0_t16 : Fin (k0_t16_loop arg26 v667).trips), ∀ a, (k0_off681 arg25 arg26 v667 k0_t16) a + S1x1.size a ≤ S24x1536.size a := fun arg25 arg26 v667 k0_hw222 k0_t16 => k0_hw222.1.2.2.2.2.2.2.2.2.2.2.2.2.2.2.2.2.2.2.2.2.2.2.2.2.2.1 k0_t16
theorem k0_off683_inb : ∀ (arg25 : BitVec 32) (arg26 : BitVec 32) (v667 : BitVec 32) (k0_hw222 : k0_chk222 arg25 arg26 v667) (k0_t16 : Fin (k0_t16_loop arg26 v667).trips), ∀ a, (k0_off683 arg26 v667 k0_t16) a + S1x128.size a ≤ S256x128.size a := fun arg25 arg26 v667 k0_hw222 k0_t16 => k0_hw222.1.2.2.2.2.2.2.2.2.2.2.2.2.2.2.2.2.2.2.2.2.2.2.2.2.2.2.1 k0_t16
theorem k0_off684_inb : ∀ (arg25 : BitVec 32) (arg26 : BitVec 32) (v667 : BitVec 32) (k0_hw222 : k0_chk222 arg25 arg26 v667) (k0_t16 : Fin (k0_t16_loop arg26 v667).trips), ∀ a, (k0_off684 arg25 arg26 v667 k0_t16) a + S1x1.size a ≤ S24x1536.size a := fun arg25 arg26 v667 k0_hw222 k0_t16 => k0_hw222.1.2.2.2.2.2.2.2.2.2.2.2.2.2.2.2.2.2.2.2.2.2.2.2.2.2.2.2.1 k0_t16
theorem k0_off686_inb : ∀ (arg25 : BitVec 32) (arg26 : BitVec 32) (v667 : BitVec 32) (k0_hw222 : k0_chk222 arg25 arg26 v667) (k0_t16 : Fin (k0_t16_loop arg26 v667).trips), ∀ a, (k0_off686 arg26 v667 k0_t16) a + S1x128.size a ≤ S256x128.size a := fun arg25 arg26 v667 k0_hw222 k0_t16 => k0_hw222.1.2.2.2.2.2.2.2.2.2.2.2.2.2.2.2.2.2.2.2.2.2.2.2.2.2.2.2.2.1 k0_t16
theorem k0_off687_inb : ∀ (arg25 : BitVec 32) (arg26 : BitVec 32) (v667 : BitVec 32) (k0_hw222 : k0_chk222 arg25 arg26 v667) (k0_t16 : Fin (k0_t16_loop arg26 v667).trips), ∀ a, (k0_off687 arg25 arg26 v667 k0_t16) a + S1x1.size a ≤ S24x1536.size a := fun arg25 arg26 v667 k0_hw222 k0_t16 => k0_hw222.1.2.2.2.2.2.2.2.2.2.2.2.2.2.2.2.2.2.2.2.2.2.2.2.2.2.2.2.2.2.1 k0_t16
theorem k0_off689_inb : ∀ (arg25 : BitVec 32) (arg26 : BitVec 32) (v667 : BitVec 32) (k0_hw222 : k0_chk222 arg25 arg26 v667) (k0_t16 : Fin (k0_t16_loop arg26 v667).trips), ∀ a, (k0_off689 arg26 v667 k0_t16) a + S1x128.size a ≤ S256x128.size a := fun arg25 arg26 v667 k0_hw222 k0_t16 => k0_hw222.1.2.2.2.2.2.2.2.2.2.2.2.2.2.2.2.2.2.2.2.2.2.2.2.2.2.2.2.2.2.2.1 k0_t16
theorem k0_off690_inb : ∀ (arg25 : BitVec 32) (arg26 : BitVec 32) (v667 : BitVec 32) (k0_hw222 : k0_chk222 arg25 arg26 v667) (k0_t16 : Fin (k0_t16_loop arg26 v667).trips), ∀ a, (k0_off690 arg25 arg26 v667 k0_t16) a + S1x1.size a ≤ S24x1536.size a := fun arg25 arg26 v667 k0_hw222 k0_t16 => k0_hw222.1.2.2.2.2.2.2.2.2.2.2.2.2.2.2.2.2.2.2.2.2.2.2.2.2.2.2.2.2.2.2.2 k0_t16
theorem k0_off692_inb : ∀ (arg25 : BitVec 32) (arg26 : BitVec 32) (v667 : BitVec 32) (k0_hw222 : k0_chk222 arg25 arg26 v667) (k0_t16 : Fin (k0_t16_loop arg26 v667).trips), ∀ a, (k0_off692 arg26 v667 k0_t16) a + S1x128.size a ≤ S256x128.size a := fun arg25 arg26 v667 k0_hw222 k0_t16 => k0_hw222.2.1.1 k0_t16
theorem k0_t17_ok : ∀ (arg25 : BitVec 32) (arg26 : BitVec 32) (v667 : BitVec 32) (k0_hw222 : k0_chk222 arg25 arg26 v667), (k0_t17_loop arg26 v667).OK := fun arg25 arg26 v667 k0_hw222 => k0_hw222.2.1.2.1
theorem k0_off693_inb : ∀ (arg25 : BitVec 32) (arg26 : BitVec 32) (v667 : BitVec 32) (k0_hw222 : k0_chk222 arg25 arg26 v667) (k0_t17 : Fin (k0_t17_loop arg26 v667).trips), ∀ a, (k0_off693 arg25 arg26 v667 k0_t17) a + S1x1.size a ≤ S24x1536.size a := fun arg25 arg26 v667 k0_hw222 k0_t17 => k0_hw222.2.1.2.2.1 k0_t17
theorem k0_off695_inb : ∀ (arg25 : BitVec 32) (arg26 : BitVec 32) (v667 : BitVec 32) (k0_hw222 : k0_chk222 arg25 arg26 v667) (k0_t17 : Fin (k0_t17_loop arg26 v667).trips), ∀ a, (k0_off695 arg26 v667 k0_t17) a + S1x128.size a ≤ S256x128.size a := fun arg25 arg26 v667 k0_hw222 k0_t17 => k0_hw222.2.1.2.2.2.1 k0_t17
theorem k0_off696_inb : ∀ (arg25 : BitVec 32) (arg26 : BitVec 32) (v667 : BitVec 32) (k0_hw222 : k0_chk222 arg25 arg26 v667) (k0_t17 : Fin (k0_t17_loop arg26 v667).trips), ∀ a, (k0_off696 arg25 arg26 v667 k0_t17) a + S1x1.size a ≤ S24x1536.size a := fun arg25 arg26 v667 k0_hw222 k0_t17 => k0_hw222.2.1.2.2.2.2.1 k0_t17
theorem k0_off698_inb : ∀ (arg25 : BitVec 32) (arg26 : BitVec 32) (v667 : BitVec 32) (k0_hw222 : k0_chk222 arg25 arg26 v667) (k0_t17 : Fin (k0_t17_loop arg26 v667).trips), ∀ a, (k0_off698 arg26 v667 k0_t17) a + S1x128.size a ≤ S256x128.size a := fun arg25 arg26 v667 k0_hw222 k0_t17 => k0_hw222.2.1.2.2.2.2.2.1 k0_t17
theorem k0_off699_inb : ∀ (arg25 : BitVec 32) (arg26 : BitVec 32) (v667 : BitVec 32) (k0_hw222 : k0_chk222 arg25 arg26 v667) (k0_t17 : Fin (k0_t17_loop arg26 v667).trips), ∀ a, (k0_off699 arg25 arg26 v667 k0_t17) a + S1x1.size a ≤ S24x1536.size a := fun arg25 arg26 v667 k0_hw222 k0_t17 => k0_hw222.2.1.2.2.2.2.2.2.1 k0_t17
theorem k0_off701_inb : ∀ (arg25 : BitVec 32) (arg26 : BitVec 32) (v667 : BitVec 32) (k0_hw222 : k0_chk222 arg25 arg26 v667) (k0_t17 : Fin (k0_t17_loop arg26 v667).trips), ∀ a, (k0_off701 arg26 v667 k0_t17) a + S1x128.size a ≤ S256x128.size a := fun arg25 arg26 v667 k0_hw222 k0_t17 => k0_hw222.2.1.2.2.2.2.2.2.2.1 k0_t17
theorem k0_off702_inb : ∀ (arg25 : BitVec 32) (arg26 : BitVec 32) (v667 : BitVec 32) (k0_hw222 : k0_chk222 arg25 arg26 v667) (k0_t17 : Fin (k0_t17_loop arg26 v667).trips), ∀ a, (k0_off702 arg25 arg26 v667 k0_t17) a + S1x1.size a ≤ S24x1536.size a := fun arg25 arg26 v667 k0_hw222 k0_t17 => k0_hw222.2.1.2.2.2.2.2.2.2.2.1 k0_t17
theorem k0_off704_inb : ∀ (arg25 : BitVec 32) (arg26 : BitVec 32) (v667 : BitVec 32) (k0_hw222 : k0_chk222 arg25 arg26 v667) (k0_t17 : Fin (k0_t17_loop arg26 v667).trips), ∀ a, (k0_off704 arg26 v667 k0_t17) a + S1x128.size a ≤ S256x128.size a := fun arg25 arg26 v667 k0_hw222 k0_t17 => k0_hw222.2.1.2.2.2.2.2.2.2.2.2.1 k0_t17
theorem k0_off705_inb : ∀ (arg25 : BitVec 32) (arg26 : BitVec 32) (v667 : BitVec 32) (k0_hw222 : k0_chk222 arg25 arg26 v667) (k0_t17 : Fin (k0_t17_loop arg26 v667).trips), ∀ a, (k0_off705 arg25 arg26 v667 k0_t17) a + S1x1.size a ≤ S24x1536.size a := fun arg25 arg26 v667 k0_hw222 k0_t17 => k0_hw222.2.1.2.2.2.2.2.2.2.2.2.2.1 k0_t17
theorem k0_off707_inb : ∀ (arg25 : BitVec 32) (arg26 : BitVec 32) (v667 : BitVec 32) (k0_hw222 : k0_chk222 arg25 arg26 v667) (k0_t17 : Fin (k0_t17_loop arg26 v667).trips), ∀ a, (k0_off707 arg26 v667 k0_t17) a + S1x128.size a ≤ S256x128.size a := fun arg25 arg26 v667 k0_hw222 k0_t17 => k0_hw222.2.1.2.2.2.2.2.2.2.2.2.2.2.1 k0_t17
theorem k0_off708_inb : ∀ (arg25 : BitVec 32) (arg26 : BitVec 32) (v667 : BitVec 32) (k0_hw222 : k0_chk222 arg25 arg26 v667) (k0_t17 : Fin (k0_t17_loop arg26 v667).trips), ∀ a, (k0_off708 arg25 arg26 v667 k0_t17) a + S1x1.size a ≤ S24x1536.size a := fun arg25 arg26 v667 k0_hw222 k0_t17 => k0_hw222.2.1.2.2.2.2.2.2.2.2.2.2.2.2.1 k0_t17
theorem k0_off710_inb : ∀ (arg25 : BitVec 32) (arg26 : BitVec 32) (v667 : BitVec 32) (k0_hw222 : k0_chk222 arg25 arg26 v667) (k0_t17 : Fin (k0_t17_loop arg26 v667).trips), ∀ a, (k0_off710 arg26 v667 k0_t17) a + S1x128.size a ≤ S256x128.size a := fun arg25 arg26 v667 k0_hw222 k0_t17 => k0_hw222.2.1.2.2.2.2.2.2.2.2.2.2.2.2.2.1 k0_t17
theorem k0_off711_inb : ∀ (arg25 : BitVec 32) (arg26 : BitVec 32) (v667 : BitVec 32) (k0_hw222 : k0_chk222 arg25 arg26 v667) (k0_t17 : Fin (k0_t17_loop arg26 v667).trips), ∀ a, (k0_off711 arg25 arg26 v667 k0_t17) a + S1x1.size a ≤ S24x1536.size a := fun arg25 arg26 v667 k0_hw222 k0_t17 => k0_hw222.2.1.2.2.2.2.2.2.2.2.2.2.2.2.2.2.1 k0_t17
theorem k0_off713_inb : ∀ (arg25 : BitVec 32) (arg26 : BitVec 32) (v667 : BitVec 32) (k0_hw222 : k0_chk222 arg25 arg26 v667) (k0_t17 : Fin (k0_t17_loop arg26 v667).trips), ∀ a, (k0_off713 arg26 v667 k0_t17) a + S1x128.size a ≤ S256x128.size a := fun arg25 arg26 v667 k0_hw222 k0_t17 => k0_hw222.2.1.2.2.2.2.2.2.2.2.2.2.2.2.2.2.2.1 k0_t17
theorem k0_off714_inb : ∀ (arg25 : BitVec 32) (arg26 : BitVec 32) (v667 : BitVec 32) (k0_hw222 : k0_chk222 arg25 arg26 v667) (k0_t17 : Fin (k0_t17_loop arg26 v667).trips), ∀ a, (k0_off714 arg25 arg26 v667 k0_t17) a + S1x1.size a ≤ S24x1536.size a := fun arg25 arg26 v667 k0_hw222 k0_t17 => k0_hw222.2.1.2.2.2.2.2.2.2.2.2.2.2.2.2.2.2.2.1 k0_t17
theorem k0_off716_inb : ∀ (arg25 : BitVec 32) (arg26 : BitVec 32) (v667 : BitVec 32) (k0_hw222 : k0_chk222 arg25 arg26 v667) (k0_t17 : Fin (k0_t17_loop arg26 v667).trips), ∀ a, (k0_off716 arg26 v667 k0_t17) a + S1x128.size a ≤ S256x128.size a := fun arg25 arg26 v667 k0_hw222 k0_t17 => k0_hw222.2.1.2.2.2.2.2.2.2.2.2.2.2.2.2.2.2.2.2.1 k0_t17
theorem k0_off717_inb : ∀ (arg25 : BitVec 32) (arg26 : BitVec 32) (v667 : BitVec 32) (k0_hw222 : k0_chk222 arg25 arg26 v667) (k0_t17 : Fin (k0_t17_loop arg26 v667).trips), ∀ a, (k0_off717 arg25 arg26 v667 k0_t17) a + S1x1.size a ≤ S24x1536.size a := fun arg25 arg26 v667 k0_hw222 k0_t17 => k0_hw222.2.1.2.2.2.2.2.2.2.2.2.2.2.2.2.2.2.2.2.2.1 k0_t17
theorem k0_off719_inb : ∀ (arg25 : BitVec 32) (arg26 : BitVec 32) (v667 : BitVec 32) (k0_hw222 : k0_chk222 arg25 arg26 v667) (k0_t17 : Fin (k0_t17_loop arg26 v667).trips), ∀ a, (k0_off719 arg26 v667 k0_t17) a + S1x128.size a ≤ S256x128.size a := fun arg25 arg26 v667 k0_hw222 k0_t17 => k0_hw222.2.1.2.2.2.2.2.2.2.2.2.2.2.2.2.2.2.2.2.2.2.1 k0_t17
theorem k0_off720_inb : ∀ (arg25 : BitVec 32) (arg26 : BitVec 32) (v667 : BitVec 32) (k0_hw222 : k0_chk222 arg25 arg26 v667) (k0_t17 : Fin (k0_t17_loop arg26 v667).trips), ∀ a, (k0_off720 arg25 arg26 v667 k0_t17) a + S1x1.size a ≤ S24x1536.size a := fun arg25 arg26 v667 k0_hw222 k0_t17 => k0_hw222.2.1.2.2.2.2.2.2.2.2.2.2.2.2.2.2.2.2.2.2.2.2.1 k0_t17
theorem k0_off722_inb : ∀ (arg25 : BitVec 32) (arg26 : BitVec 32) (v667 : BitVec 32) (k0_hw222 : k0_chk222 arg25 arg26 v667) (k0_t17 : Fin (k0_t17_loop arg26 v667).trips), ∀ a, (k0_off722 arg26 v667 k0_t17) a + S1x128.size a ≤ S256x128.size a := fun arg25 arg26 v667 k0_hw222 k0_t17 => k0_hw222.2.1.2.2.2.2.2.2.2.2.2.2.2.2.2.2.2.2.2.2.2.2.2.1 k0_t17
theorem k0_off723_inb : ∀ (arg25 : BitVec 32) (arg26 : BitVec 32) (v667 : BitVec 32) (k0_hw222 : k0_chk222 arg25 arg26 v667) (k0_t17 : Fin (k0_t17_loop arg26 v667).trips), ∀ a, (k0_off723 arg25 arg26 v667 k0_t17) a + S1x1.size a ≤ S24x1536.size a := fun arg25 arg26 v667 k0_hw222 k0_t17 => k0_hw222.2.1.2.2.2.2.2.2.2.2.2.2.2.2.2.2.2.2.2.2.2.2.2.2.1 k0_t17
theorem k0_off725_inb : ∀ (arg25 : BitVec 32) (arg26 : BitVec 32) (v667 : BitVec 32) (k0_hw222 : k0_chk222 arg25 arg26 v667) (k0_t17 : Fin (k0_t17_loop arg26 v667).trips), ∀ a, (k0_off725 arg26 v667 k0_t17) a + S1x128.size a ≤ S256x128.size a := fun arg25 arg26 v667 k0_hw222 k0_t17 => k0_hw222.2.1.2.2.2.2.2.2.2.2.2.2.2.2.2.2.2.2.2.2.2.2.2.2.2.1 k0_t17
theorem k0_off726_inb : ∀ (arg25 : BitVec 32) (arg26 : BitVec 32) (v667 : BitVec 32) (k0_hw222 : k0_chk222 arg25 arg26 v667) (k0_t17 : Fin (k0_t17_loop arg26 v667).trips), ∀ a, (k0_off726 arg25 arg26 v667 k0_t17) a + S1x1.size a ≤ S24x1536.size a := fun arg25 arg26 v667 k0_hw222 k0_t17 => k0_hw222.2.1.2.2.2.2.2.2.2.2.2.2.2.2.2.2.2.2.2.2.2.2.2.2.2.2.1 k0_t17
theorem k0_off728_inb : ∀ (arg25 : BitVec 32) (arg26 : BitVec 32) (v667 : BitVec 32) (k0_hw222 : k0_chk222 arg25 arg26 v667) (k0_t17 : Fin (k0_t17_loop arg26 v667).trips), ∀ a, (k0_off728 arg26 v667 k0_t17) a + S1x128.size a ≤ S256x128.size a := fun arg25 arg26 v667 k0_hw222 k0_t17 => k0_hw222.2.1.2.2.2.2.2.2.2.2.2.2.2.2.2.2.2.2.2.2.2.2.2.2.2.2.2.1 k0_t17
theorem k0_off729_inb : ∀ (arg25 : BitVec 32) (arg26 : BitVec 32) (v667 : BitVec 32) (k0_hw222 : k0_chk222 arg25 arg26 v667) (k0_t17 : Fin (k0_t17_loop arg26 v667).trips), ∀ a, (k0_off729 arg25 arg26 v667 k0_t17) a + S1x1.size a ≤ S24x1536.size a := fun arg25 arg26 v667 k0_hw222 k0_t17 => k0_hw222.2.1.2.2.2.2.2.2.2.2.2.2.2.2.2.2.2.2.2.2.2.2.2.2.2.2.2.2.1 k0_t17
theorem k0_off731_inb : ∀ (arg25 : BitVec 32) (arg26 : BitVec 32) (v667 : BitVec 32) (k0_hw222 : k0_chk222 arg25 arg26 v667) (k0_t17 : Fin (k0_t17_loop arg26 v667).trips), ∀ a, (k0_off731 arg26 v667 k0_t17) a + S1x128.size a ≤ S256x128.size a := fun arg25 arg26 v667 k0_hw222 k0_t17 => k0_hw222.2.1.2.2.2.2.2.2.2.2.2.2.2.2.2.2.2.2.2.2.2.2.2.2.2.2.2.2.2.1 k0_t17
theorem k0_off732_inb : ∀ (arg25 : BitVec 32) (arg26 : BitVec 32) (v667 : BitVec 32) (k0_hw222 : k0_chk222 arg25 arg26 v667) (k0_t17 : Fin (k0_t17_loop arg26 v667).trips), ∀ a, (k0_off732 arg25 arg26 v667 k0_t17) a + S1x1.size a ≤ S24x1536.size a := fun arg25 arg26 v667 k0_hw222 k0_t17 => k0_hw222.2.1.2.2.2.2.2.2.2.2.2.2.2.2.2.2.2.2.2.2.2.2.2.2.2.2.2.2.2.2.1 k0_t17
theorem k0_off734_inb : ∀ (arg25 : BitVec 32) (arg26 : BitVec 32) (v667 : BitVec 32) (k0_hw222 : k0_chk222 arg25 arg26 v667) (k0_t17 : Fin (k0_t17_loop arg26 v667).trips), ∀ a, (k0_off734 arg26 v667 k0_t17) a + S1x128.size a ≤ S256x128.size a := fun arg25 arg26 v667 k0_hw222 k0_t17 => k0_hw222.2.1.2.2.2.2.2.2.2.2.2.2.2.2.2.2.2.2.2.2.2.2.2.2.2.2.2.2.2.2.2.1 k0_t17
theorem k0_off735_inb : ∀ (arg25 : BitVec 32) (arg26 : BitVec 32) (v667 : BitVec 32) (k0_hw222 : k0_chk222 arg25 arg26 v667) (k0_t17 : Fin (k0_t17_loop arg26 v667).trips), ∀ a, (k0_off735 arg25 arg26 v667 k0_t17) a + S1x1.size a ≤ S24x1536.size a := fun arg25 arg26 v667 k0_hw222 k0_t17 => k0_hw222.2.1.2.2.2.2.2.2.2.2.2.2.2.2.2.2.2.2.2.2.2.2.2.2.2.2.2.2.2.2.2.2.1 k0_t17
theorem k0_off737_inb : ∀ (arg25 : BitVec 32) (arg26 : BitVec 32) (v667 : BitVec 32) (k0_hw222 : k0_chk222 arg25 arg26 v667) (k0_t17 : Fin (k0_t17_loop arg26 v667).trips), ∀ a, (k0_off737 arg26 v667 k0_t17) a + S1x128.size a ≤ S256x128.size a := fun arg25 arg26 v667 k0_hw222 k0_t17 => k0_hw222.2.1.2.2.2.2.2.2.2.2.2.2.2.2.2.2.2.2.2.2.2.2.2.2.2.2.2.2.2.2.2.2.2 k0_t17
theorem k0_off738_inb : ∀ (arg25 : BitVec 32) (arg26 : BitVec 32) (v667 : BitVec 32) (k0_hw222 : k0_chk222 arg25 arg26 v667) (k0_t17 : Fin (k0_t17_loop arg26 v667).trips), ∀ a, (k0_off738 arg25 arg26 v667 k0_t17) a + S1x1.size a ≤ S24x1536.size a := fun arg25 arg26 v667 k0_hw222 k0_t17 => k0_hw222.2.2.1 k0_t17
theorem k0_off740_inb : ∀ (arg25 : BitVec 32) (arg26 : BitVec 32) (v667 : BitVec 32) (k0_hw222 : k0_chk222 arg25 arg26 v667) (k0_t17 : Fin (k0_t17_loop arg26 v667).trips), ∀ a, (k0_off740 arg26 v667 k0_t17) a + S1x128.size a ≤ S256x128.size a := fun arg25 arg26 v667 k0_hw222 k0_t17 => k0_hw222.2.2.2 k0_t17

def k0_off741 (arg25 : BitVec 32) : Fin 1 → Nat :=
  let v682 : Index := Scalar.indexCast arg25
  ![v682.toNat]
@[reducible] def k0_t18_loop (arg26 : BitVec 32) (v683 : BitVec 32) : Scf.Loop 32 :=
  let c0_i32_511 : BitVec 32 := 0#32
  let c256_i32_501 : BitVec 32 := 256#32
  let v684 : BitVec 32 := Scalar.muli arg26 c256_i32_501
  let v685 : BitVec 32 := Scalar.subi v683 v684
  let c256_i32_502 : BitVec 32 := 256#32
  let v686 : BitVec 32 := Scalar.minsi v685 c256_i32_502
  let c15_i32_503 : BitVec 32 := 15#32
  let v687 : BitVec 32 := Scalar.addi v686 c15_i32_503
  let c16_i32_504 : BitVec 32 := 16#32
  let v688 : BitVec 32 := Scalar.divsi v687 c16_i32_504
  let c0_i32_505 : BitVec 32 := 0#32
  let v689 : BitVec 32 := Scalar.subi v688 c0_i32_505
  let c1_i32_506 : BitVec 32 := 1#32
  let c1_i32_507 : BitVec 32 := 1#32
  let v690 : BitVec 32 := Scalar.subi c1_i32_506 c1_i32_507
  let v691 : BitVec 32 := Scalar.addi v689 v690
  let c1_i32_508 : BitVec 32 := 1#32
  let v692 : BitVec 32 := Scalar.divsi v691 c1_i32_508
  let v693 : BitVec 32 := Scalar.subi v692 c0_i32_511
  let c1_i32_512 : BitVec 32 := 1#32
  let v695 : BitVec 32 := Scalar.divsi v693 c1_i32_512
  let v696 : BitVec 32 := Scalar.muli v695 c1_i32_512
  let v697 : BitVec 32 := Scalar.addi c0_i32_511 v696
  let c1_i32_513 : BitVec 32 := 1#32
  ⟨c0_i32_511, v697, c1_i32_513⟩

def k0_off742 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  ![v662.toNat]
def k0_off743 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c0_i32_576 : BitVec 32 := 0#32
  let c0_i32_577 : BitVec 32 := 0#32
  ![v662.toNat, 0, 0]
def k0_off744 : Fin 2 → Nat :=
  let c0_i32_574 : BitVec 32 := 0#32
  let c2_i32_575 : BitVec 32 := 2#32
  let v848 : BitVec 32 := Scalar.shrui c0_i32_574 c2_i32_575
  let c0_i32_578 : BitVec 32 := 0#32
  ![v848.toNat, 0]
def k0_off745 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c1_i32_581 : BitVec 32 := 1#32
  let c0_i32_582 : BitVec 32 := 0#32
  ![v662.toNat, 1, 0]
def k0_off746 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c2_i32_586 : BitVec 32 := 2#32
  let c0_i32_587 : BitVec 32 := 0#32
  ![v662.toNat, 2, 0]
def k0_off747 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c3_i32_591 : BitVec 32 := 3#32
  let c0_i32_592 : BitVec 32 := 0#32
  ![v662.toNat, 3, 0]
def k0_off748 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c4_i32_596 : BitVec 32 := 4#32
  let c0_i32_597 : BitVec 32 := 0#32
  ![v662.toNat, 4, 0]
def k0_off749 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c5_i32_601 : BitVec 32 := 5#32
  let c0_i32_602 : BitVec 32 := 0#32
  ![v662.toNat, 5, 0]
def k0_off750 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c6_i32_606 : BitVec 32 := 6#32
  let c0_i32_607 : BitVec 32 := 0#32
  ![v662.toNat, 6, 0]
def k0_off751 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c7_i32_611 : BitVec 32 := 7#32
  let c0_i32_612 : BitVec 32 := 0#32
  ![v662.toNat, 7, 0]
def k0_off752 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c8_i32_616 : BitVec 32 := 8#32
  let c0_i32_617 : BitVec 32 := 0#32
  ![v662.toNat, 8, 0]
def k0_off753 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c9_i32_621 : BitVec 32 := 9#32
  let c0_i32_622 : BitVec 32 := 0#32
  ![v662.toNat, 9, 0]
def k0_off754 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c10_i32_626 : BitVec 32 := 10#32
  let c0_i32_627 : BitVec 32 := 0#32
  ![v662.toNat, 10, 0]
def k0_off755 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c11_i32_631 : BitVec 32 := 11#32
  let c0_i32_632 : BitVec 32 := 0#32
  ![v662.toNat, 11, 0]
def k0_off756 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c12_i32_636 : BitVec 32 := 12#32
  let c0_i32_637 : BitVec 32 := 0#32
  ![v662.toNat, 12, 0]
def k0_off757 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c13_i32_641 : BitVec 32 := 13#32
  let c0_i32_642 : BitVec 32 := 0#32
  ![v662.toNat, 13, 0]
def k0_off758 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c14_i32_646 : BitVec 32 := 14#32
  let c0_i32_647 : BitVec 32 := 0#32
  ![v662.toNat, 14, 0]
def k0_off759 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c15_i32_651 : BitVec 32 := 15#32
  let c0_i32_652 : BitVec 32 := 0#32
  ![v662.toNat, 15, 0]
@[reducible] def k0_t19_loop (arg26 : BitVec 32) (v683 : BitVec 32) : Scf.Loop 32 :=
  let c0_i32_511 : BitVec 32 := 0#32
  let c256_i32_501 : BitVec 32 := 256#32
  let v684 : BitVec 32 := Scalar.muli arg26 c256_i32_501
  let v685 : BitVec 32 := Scalar.subi v683 v684
  let c256_i32_502 : BitVec 32 := 256#32
  let v686 : BitVec 32 := Scalar.minsi v685 c256_i32_502
  let c15_i32_503 : BitVec 32 := 15#32
  let v687 : BitVec 32 := Scalar.addi v686 c15_i32_503
  let c16_i32_504 : BitVec 32 := 16#32
  let v688 : BitVec 32 := Scalar.divsi v687 c16_i32_504
  let c0_i32_505 : BitVec 32 := 0#32
  let v689 : BitVec 32 := Scalar.subi v688 c0_i32_505
  let c1_i32_506 : BitVec 32 := 1#32
  let c1_i32_507 : BitVec 32 := 1#32
  let v690 : BitVec 32 := Scalar.subi c1_i32_506 c1_i32_507
  let v691 : BitVec 32 := Scalar.addi v689 v690
  let c1_i32_508 : BitVec 32 := 1#32
  let v692 : BitVec 32 := Scalar.divsi v691 c1_i32_508
  let v693 : BitVec 32 := Scalar.subi v692 c0_i32_511
  let c1_i32_512 : BitVec 32 := 1#32
  let v695 : BitVec 32 := Scalar.divsi v693 c1_i32_512
  let v696 : BitVec 32 := Scalar.muli v695 c1_i32_512
  let v697 : BitVec 32 := Scalar.addi c0_i32_511 v696
  let v694 : BitVec 32 := Scalar.addi c0_i32_511 v693
  let c1_i32_514 : BitVec 32 := 1#32
  ⟨v697, v694, c1_i32_514⟩
def k0_off760 (v616 : BitVec 32) (k0_t13 : Fin (k0_t13_loop v616).trips) : Fin 1 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  ![v662.toNat]
def k0_off761 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c0_i32_576 : BitVec 32 := 0#32
  let c0_i32_577 : BitVec 32 := 0#32
  ![v662.toNat, 0, 0]
def k0_off762 : Fin 2 → Nat :=
  let c0_i32_574 : BitVec 32 := 0#32
  let c2_i32_575 : BitVec 32 := 2#32
  let v848 : BitVec 32 := Scalar.shrui c0_i32_574 c2_i32_575
  let c0_i32_578 : BitVec 32 := 0#32
  ![v848.toNat, 0]
def k0_off763 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c1_i32_581 : BitVec 32 := 1#32
  let c0_i32_582 : BitVec 32 := 0#32
  ![v662.toNat, 1, 0]
def k0_off764 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c2_i32_586 : BitVec 32 := 2#32
  let c0_i32_587 : BitVec 32 := 0#32
  ![v662.toNat, 2, 0]
def k0_off765 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c3_i32_591 : BitVec 32 := 3#32
  let c0_i32_592 : BitVec 32 := 0#32
  ![v662.toNat, 3, 0]
def k0_off766 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c4_i32_596 : BitVec 32 := 4#32
  let c0_i32_597 : BitVec 32 := 0#32
  ![v662.toNat, 4, 0]
def k0_off767 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c5_i32_601 : BitVec 32 := 5#32
  let c0_i32_602 : BitVec 32 := 0#32
  ![v662.toNat, 5, 0]
def k0_off768 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c6_i32_606 : BitVec 32 := 6#32
  let c0_i32_607 : BitVec 32 := 0#32
  ![v662.toNat, 6, 0]
def k0_off769 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c7_i32_611 : BitVec 32 := 7#32
  let c0_i32_612 : BitVec 32 := 0#32
  ![v662.toNat, 7, 0]
def k0_off770 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c8_i32_616 : BitVec 32 := 8#32
  let c0_i32_617 : BitVec 32 := 0#32
  ![v662.toNat, 8, 0]
def k0_off771 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c9_i32_621 : BitVec 32 := 9#32
  let c0_i32_622 : BitVec 32 := 0#32
  ![v662.toNat, 9, 0]
def k0_off772 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c10_i32_626 : BitVec 32 := 10#32
  let c0_i32_627 : BitVec 32 := 0#32
  ![v662.toNat, 10, 0]
def k0_off773 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c11_i32_631 : BitVec 32 := 11#32
  let c0_i32_632 : BitVec 32 := 0#32
  ![v662.toNat, 11, 0]
def k0_off774 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c12_i32_636 : BitVec 32 := 12#32
  let c0_i32_637 : BitVec 32 := 0#32
  ![v662.toNat, 12, 0]
def k0_off775 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c13_i32_641 : BitVec 32 := 13#32
  let c0_i32_642 : BitVec 32 := 0#32
  ![v662.toNat, 13, 0]
def k0_off776 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c14_i32_646 : BitVec 32 := 14#32
  let c0_i32_647 : BitVec 32 := 0#32
  ![v662.toNat, 14, 0]
def k0_off777 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let c15_i32_651 : BitVec 32 := 15#32
  let c0_i32_652 : BitVec 32 := 0#32
  ![v662.toNat, 15, 0]

def k0_chk255_0 (v616 : BitVec 32) (k0_t13 : Fin (k0_t13_loop v616).trips) (arg26 : BitVec 32) (v683 : BitVec 32) : Prop :=
  ((k0_t18_loop arg26 v683).OK) ∧
  (∀ k0_t18 : Fin (k0_t18_loop arg26 v683).trips, ∀ a, (k0_off742 v616 k0_t13) a + S1.size a ≤ S3.size a) ∧
  (∀ k0_t18 : Fin (k0_t18_loop arg26 v683).trips, ∀ a, (k0_off743 v616 k0_t13) a + S1x1x256.size a ≤ S3x256x256.size a) ∧
  (∀ k0_t18 : Fin (k0_t18_loop arg26 v683).trips, ∀ a, (k0_off745 v616 k0_t13) a + S1x1x256.size a ≤ S3x256x256.size a) ∧
  (∀ k0_t18 : Fin (k0_t18_loop arg26 v683).trips, ∀ a, (k0_off746 v616 k0_t13) a + S1x1x256.size a ≤ S3x256x256.size a) ∧
  (∀ k0_t18 : Fin (k0_t18_loop arg26 v683).trips, ∀ a, (k0_off747 v616 k0_t13) a + S1x1x256.size a ≤ S3x256x256.size a) ∧
  (∀ k0_t18 : Fin (k0_t18_loop arg26 v683).trips, ∀ a, (k0_off748 v616 k0_t13) a + S1x1x256.size a ≤ S3x256x256.size a) ∧
  (∀ k0_t18 : Fin (k0_t18_loop arg26 v683).trips, ∀ a, (k0_off749 v616 k0_t13) a + S1x1x256.size a ≤ S3x256x256.size a) ∧
  (∀ k0_t18 : Fin (k0_t18_loop arg26 v683).trips, ∀ a, (k0_off750 v616 k0_t13) a + S1x1x256.size a ≤ S3x256x256.size a) ∧
  (∀ k0_t18 : Fin (k0_t18_loop arg26 v683).trips, ∀ a, (k0_off751 v616 k0_t13) a + S1x1x256.size a ≤ S3x256x256.size a) ∧
  (∀ k0_t18 : Fin (k0_t18_loop arg26 v683).trips, ∀ a, (k0_off752 v616 k0_t13) a + S1x1x256.size a ≤ S3x256x256.size a) ∧
  (∀ k0_t18 : Fin (k0_t18_loop arg26 v683).trips, ∀ a, (k0_off753 v616 k0_t13) a + S1x1x256.size a ≤ S3x256x256.size a) ∧
  (∀ k0_t18 : Fin (k0_t18_loop arg26 v683).trips, ∀ a, (k0_off754 v616 k0_t13) a + S1x1x256.size a ≤ S3x256x256.size a) ∧
  (∀ k0_t18 : Fin (k0_t18_loop arg26 v683).trips, ∀ a, (k0_off755 v616 k0_t13) a + S1x1x256.size a ≤ S3x256x256.size a) ∧
  (∀ k0_t18 : Fin (k0_t18_loop arg26 v683).trips, ∀ a, (k0_off756 v616 k0_t13) a + S1x1x256.size a ≤ S3x256x256.size a) ∧
  (∀ k0_t18 : Fin (k0_t18_loop arg26 v683).trips, ∀ a, (k0_off757 v616 k0_t13) a + S1x1x256.size a ≤ S3x256x256.size a) ∧
  (∀ k0_t18 : Fin (k0_t18_loop arg26 v683).trips, ∀ a, (k0_off758 v616 k0_t13) a + S1x1x256.size a ≤ S3x256x256.size a) ∧
  (∀ k0_t18 : Fin (k0_t18_loop arg26 v683).trips, ∀ a, (k0_off759 v616 k0_t13) a + S1x1x256.size a ≤ S3x256x256.size a) ∧
  ((k0_t19_loop arg26 v683).OK) ∧
  (∀ k0_t19 : Fin (k0_t19_loop arg26 v683).trips, ∀ a, (k0_off760 v616 k0_t13) a + S1.size a ≤ S3.size a) ∧
  (∀ k0_t19 : Fin (k0_t19_loop arg26 v683).trips, ∀ a, (k0_off761 v616 k0_t13) a + S1x1x256.size a ≤ S3x256x256.size a) ∧
  (∀ k0_t19 : Fin (k0_t19_loop arg26 v683).trips, ∀ a, (k0_off763 v616 k0_t13) a + S1x1x256.size a ≤ S3x256x256.size a) ∧
  (∀ k0_t19 : Fin (k0_t19_loop arg26 v683).trips, ∀ a, (k0_off764 v616 k0_t13) a + S1x1x256.size a ≤ S3x256x256.size a) ∧
  (∀ k0_t19 : Fin (k0_t19_loop arg26 v683).trips, ∀ a, (k0_off765 v616 k0_t13) a + S1x1x256.size a ≤ S3x256x256.size a) ∧
  (∀ k0_t19 : Fin (k0_t19_loop arg26 v683).trips, ∀ a, (k0_off766 v616 k0_t13) a + S1x1x256.size a ≤ S3x256x256.size a) ∧
  (∀ k0_t19 : Fin (k0_t19_loop arg26 v683).trips, ∀ a, (k0_off767 v616 k0_t13) a + S1x1x256.size a ≤ S3x256x256.size a) ∧
  (∀ k0_t19 : Fin (k0_t19_loop arg26 v683).trips, ∀ a, (k0_off768 v616 k0_t13) a + S1x1x256.size a ≤ S3x256x256.size a) ∧
  (∀ k0_t19 : Fin (k0_t19_loop arg26 v683).trips, ∀ a, (k0_off769 v616 k0_t13) a + S1x1x256.size a ≤ S3x256x256.size a) ∧
  (∀ k0_t19 : Fin (k0_t19_loop arg26 v683).trips, ∀ a, (k0_off770 v616 k0_t13) a + S1x1x256.size a ≤ S3x256x256.size a) ∧
  (∀ k0_t19 : Fin (k0_t19_loop arg26 v683).trips, ∀ a, (k0_off771 v616 k0_t13) a + S1x1x256.size a ≤ S3x256x256.size a) ∧
  (∀ k0_t19 : Fin (k0_t19_loop arg26 v683).trips, ∀ a, (k0_off772 v616 k0_t13) a + S1x1x256.size a ≤ S3x256x256.size a) ∧
  (∀ k0_t19 : Fin (k0_t19_loop arg26 v683).trips, ∀ a, (k0_off773 v616 k0_t13) a + S1x1x256.size a ≤ S3x256x256.size a)
def k0_chk255_1 (v616 : BitVec 32) (k0_t13 : Fin (k0_t13_loop v616).trips) (arg26 : BitVec 32) (v683 : BitVec 32) : Prop :=
  (∀ k0_t19 : Fin (k0_t19_loop arg26 v683).trips, ∀ a, (k0_off774 v616 k0_t13) a + S1x1x256.size a ≤ S3x256x256.size a) ∧
  (∀ k0_t19 : Fin (k0_t19_loop arg26 v683).trips, ∀ a, (k0_off775 v616 k0_t13) a + S1x1x256.size a ≤ S3x256x256.size a) ∧
  (∀ k0_t19 : Fin (k0_t19_loop arg26 v683).trips, ∀ a, (k0_off776 v616 k0_t13) a + S1x1x256.size a ≤ S3x256x256.size a) ∧
  (∀ k0_t19 : Fin (k0_t19_loop arg26 v683).trips, ∀ a, (k0_off777 v616 k0_t13) a + S1x1x256.size a ≤ S3x256x256.size a)
def k0_chk255 (v616 : BitVec 32) (k0_t13 : Fin (k0_t13_loop v616).trips) (arg26 : BitVec 32) (v683 : BitVec 32) : Prop :=
  k0_chk255_0 v616 k0_t13 arg26 v683 ∧
  k0_chk255_1 v616 k0_t13 arg26 v683
theorem k0_t18_ok : ∀ (v616 : BitVec 32) (k0_t13 : Fin (k0_t13_loop v616).trips) (arg26 : BitVec 32) (v683 : BitVec 32) (k0_hw255 : k0_chk255 v616 k0_t13 arg26 v683), (k0_t18_loop arg26 v683).OK := fun v616 k0_t13 arg26 v683 k0_hw255 => k0_hw255.1.1
theorem k0_off742_inb : ∀ (v616 : BitVec 32) (k0_t13 : Fin (k0_t13_loop v616).trips) (arg26 : BitVec 32) (v683 : BitVec 32) (k0_hw255 : k0_chk255 v616 k0_t13 arg26 v683) (k0_t18 : Fin (k0_t18_loop arg26 v683).trips), ∀ a, (k0_off742 v616 k0_t13) a + S1.size a ≤ S3.size a := fun v616 k0_t13 arg26 v683 k0_hw255 k0_t18 => k0_hw255.1.2.1 k0_t18
theorem k0_off743_inb : ∀ (v616 : BitVec 32) (k0_t13 : Fin (k0_t13_loop v616).trips) (arg26 : BitVec 32) (v683 : BitVec 32) (k0_hw255 : k0_chk255 v616 k0_t13 arg26 v683) (k0_t18 : Fin (k0_t18_loop arg26 v683).trips), ∀ a, (k0_off743 v616 k0_t13) a + S1x1x256.size a ≤ S3x256x256.size a := fun v616 k0_t13 arg26 v683 k0_hw255 k0_t18 => k0_hw255.1.2.2.1 k0_t18
theorem k0_off745_inb : ∀ (v616 : BitVec 32) (k0_t13 : Fin (k0_t13_loop v616).trips) (arg26 : BitVec 32) (v683 : BitVec 32) (k0_hw255 : k0_chk255 v616 k0_t13 arg26 v683) (k0_t18 : Fin (k0_t18_loop arg26 v683).trips), ∀ a, (k0_off745 v616 k0_t13) a + S1x1x256.size a ≤ S3x256x256.size a := fun v616 k0_t13 arg26 v683 k0_hw255 k0_t18 => k0_hw255.1.2.2.2.1 k0_t18
theorem k0_off746_inb : ∀ (v616 : BitVec 32) (k0_t13 : Fin (k0_t13_loop v616).trips) (arg26 : BitVec 32) (v683 : BitVec 32) (k0_hw255 : k0_chk255 v616 k0_t13 arg26 v683) (k0_t18 : Fin (k0_t18_loop arg26 v683).trips), ∀ a, (k0_off746 v616 k0_t13) a + S1x1x256.size a ≤ S3x256x256.size a := fun v616 k0_t13 arg26 v683 k0_hw255 k0_t18 => k0_hw255.1.2.2.2.2.1 k0_t18
theorem k0_off747_inb : ∀ (v616 : BitVec 32) (k0_t13 : Fin (k0_t13_loop v616).trips) (arg26 : BitVec 32) (v683 : BitVec 32) (k0_hw255 : k0_chk255 v616 k0_t13 arg26 v683) (k0_t18 : Fin (k0_t18_loop arg26 v683).trips), ∀ a, (k0_off747 v616 k0_t13) a + S1x1x256.size a ≤ S3x256x256.size a := fun v616 k0_t13 arg26 v683 k0_hw255 k0_t18 => k0_hw255.1.2.2.2.2.2.1 k0_t18
theorem k0_off748_inb : ∀ (v616 : BitVec 32) (k0_t13 : Fin (k0_t13_loop v616).trips) (arg26 : BitVec 32) (v683 : BitVec 32) (k0_hw255 : k0_chk255 v616 k0_t13 arg26 v683) (k0_t18 : Fin (k0_t18_loop arg26 v683).trips), ∀ a, (k0_off748 v616 k0_t13) a + S1x1x256.size a ≤ S3x256x256.size a := fun v616 k0_t13 arg26 v683 k0_hw255 k0_t18 => k0_hw255.1.2.2.2.2.2.2.1 k0_t18
theorem k0_off749_inb : ∀ (v616 : BitVec 32) (k0_t13 : Fin (k0_t13_loop v616).trips) (arg26 : BitVec 32) (v683 : BitVec 32) (k0_hw255 : k0_chk255 v616 k0_t13 arg26 v683) (k0_t18 : Fin (k0_t18_loop arg26 v683).trips), ∀ a, (k0_off749 v616 k0_t13) a + S1x1x256.size a ≤ S3x256x256.size a := fun v616 k0_t13 arg26 v683 k0_hw255 k0_t18 => k0_hw255.1.2.2.2.2.2.2.2.1 k0_t18
theorem k0_off750_inb : ∀ (v616 : BitVec 32) (k0_t13 : Fin (k0_t13_loop v616).trips) (arg26 : BitVec 32) (v683 : BitVec 32) (k0_hw255 : k0_chk255 v616 k0_t13 arg26 v683) (k0_t18 : Fin (k0_t18_loop arg26 v683).trips), ∀ a, (k0_off750 v616 k0_t13) a + S1x1x256.size a ≤ S3x256x256.size a := fun v616 k0_t13 arg26 v683 k0_hw255 k0_t18 => k0_hw255.1.2.2.2.2.2.2.2.2.1 k0_t18
theorem k0_off751_inb : ∀ (v616 : BitVec 32) (k0_t13 : Fin (k0_t13_loop v616).trips) (arg26 : BitVec 32) (v683 : BitVec 32) (k0_hw255 : k0_chk255 v616 k0_t13 arg26 v683) (k0_t18 : Fin (k0_t18_loop arg26 v683).trips), ∀ a, (k0_off751 v616 k0_t13) a + S1x1x256.size a ≤ S3x256x256.size a := fun v616 k0_t13 arg26 v683 k0_hw255 k0_t18 => k0_hw255.1.2.2.2.2.2.2.2.2.2.1 k0_t18
theorem k0_off752_inb : ∀ (v616 : BitVec 32) (k0_t13 : Fin (k0_t13_loop v616).trips) (arg26 : BitVec 32) (v683 : BitVec 32) (k0_hw255 : k0_chk255 v616 k0_t13 arg26 v683) (k0_t18 : Fin (k0_t18_loop arg26 v683).trips), ∀ a, (k0_off752 v616 k0_t13) a + S1x1x256.size a ≤ S3x256x256.size a := fun v616 k0_t13 arg26 v683 k0_hw255 k0_t18 => k0_hw255.1.2.2.2.2.2.2.2.2.2.2.1 k0_t18
theorem k0_off753_inb : ∀ (v616 : BitVec 32) (k0_t13 : Fin (k0_t13_loop v616).trips) (arg26 : BitVec 32) (v683 : BitVec 32) (k0_hw255 : k0_chk255 v616 k0_t13 arg26 v683) (k0_t18 : Fin (k0_t18_loop arg26 v683).trips), ∀ a, (k0_off753 v616 k0_t13) a + S1x1x256.size a ≤ S3x256x256.size a := fun v616 k0_t13 arg26 v683 k0_hw255 k0_t18 => k0_hw255.1.2.2.2.2.2.2.2.2.2.2.2.1 k0_t18
theorem k0_off754_inb : ∀ (v616 : BitVec 32) (k0_t13 : Fin (k0_t13_loop v616).trips) (arg26 : BitVec 32) (v683 : BitVec 32) (k0_hw255 : k0_chk255 v616 k0_t13 arg26 v683) (k0_t18 : Fin (k0_t18_loop arg26 v683).trips), ∀ a, (k0_off754 v616 k0_t13) a + S1x1x256.size a ≤ S3x256x256.size a := fun v616 k0_t13 arg26 v683 k0_hw255 k0_t18 => k0_hw255.1.2.2.2.2.2.2.2.2.2.2.2.2.1 k0_t18
theorem k0_off755_inb : ∀ (v616 : BitVec 32) (k0_t13 : Fin (k0_t13_loop v616).trips) (arg26 : BitVec 32) (v683 : BitVec 32) (k0_hw255 : k0_chk255 v616 k0_t13 arg26 v683) (k0_t18 : Fin (k0_t18_loop arg26 v683).trips), ∀ a, (k0_off755 v616 k0_t13) a + S1x1x256.size a ≤ S3x256x256.size a := fun v616 k0_t13 arg26 v683 k0_hw255 k0_t18 => k0_hw255.1.2.2.2.2.2.2.2.2.2.2.2.2.2.1 k0_t18
theorem k0_off756_inb : ∀ (v616 : BitVec 32) (k0_t13 : Fin (k0_t13_loop v616).trips) (arg26 : BitVec 32) (v683 : BitVec 32) (k0_hw255 : k0_chk255 v616 k0_t13 arg26 v683) (k0_t18 : Fin (k0_t18_loop arg26 v683).trips), ∀ a, (k0_off756 v616 k0_t13) a + S1x1x256.size a ≤ S3x256x256.size a := fun v616 k0_t13 arg26 v683 k0_hw255 k0_t18 => k0_hw255.1.2.2.2.2.2.2.2.2.2.2.2.2.2.2.1 k0_t18
theorem k0_off757_inb : ∀ (v616 : BitVec 32) (k0_t13 : Fin (k0_t13_loop v616).trips) (arg26 : BitVec 32) (v683 : BitVec 32) (k0_hw255 : k0_chk255 v616 k0_t13 arg26 v683) (k0_t18 : Fin (k0_t18_loop arg26 v683).trips), ∀ a, (k0_off757 v616 k0_t13) a + S1x1x256.size a ≤ S3x256x256.size a := fun v616 k0_t13 arg26 v683 k0_hw255 k0_t18 => k0_hw255.1.2.2.2.2.2.2.2.2.2.2.2.2.2.2.2.1 k0_t18
theorem k0_off758_inb : ∀ (v616 : BitVec 32) (k0_t13 : Fin (k0_t13_loop v616).trips) (arg26 : BitVec 32) (v683 : BitVec 32) (k0_hw255 : k0_chk255 v616 k0_t13 arg26 v683) (k0_t18 : Fin (k0_t18_loop arg26 v683).trips), ∀ a, (k0_off758 v616 k0_t13) a + S1x1x256.size a ≤ S3x256x256.size a := fun v616 k0_t13 arg26 v683 k0_hw255 k0_t18 => k0_hw255.1.2.2.2.2.2.2.2.2.2.2.2.2.2.2.2.2.1 k0_t18
theorem k0_off759_inb : ∀ (v616 : BitVec 32) (k0_t13 : Fin (k0_t13_loop v616).trips) (arg26 : BitVec 32) (v683 : BitVec 32) (k0_hw255 : k0_chk255 v616 k0_t13 arg26 v683) (k0_t18 : Fin (k0_t18_loop arg26 v683).trips), ∀ a, (k0_off759 v616 k0_t13) a + S1x1x256.size a ≤ S3x256x256.size a := fun v616 k0_t13 arg26 v683 k0_hw255 k0_t18 => k0_hw255.1.2.2.2.2.2.2.2.2.2.2.2.2.2.2.2.2.2.1 k0_t18
theorem k0_t19_ok : ∀ (v616 : BitVec 32) (k0_t13 : Fin (k0_t13_loop v616).trips) (arg26 : BitVec 32) (v683 : BitVec 32) (k0_hw255 : k0_chk255 v616 k0_t13 arg26 v683), (k0_t19_loop arg26 v683).OK := fun v616 k0_t13 arg26 v683 k0_hw255 => k0_hw255.1.2.2.2.2.2.2.2.2.2.2.2.2.2.2.2.2.2.2.1
theorem k0_off760_inb : ∀ (v616 : BitVec 32) (k0_t13 : Fin (k0_t13_loop v616).trips) (arg26 : BitVec 32) (v683 : BitVec 32) (k0_hw255 : k0_chk255 v616 k0_t13 arg26 v683) (k0_t19 : Fin (k0_t19_loop arg26 v683).trips), ∀ a, (k0_off760 v616 k0_t13) a + S1.size a ≤ S3.size a := fun v616 k0_t13 arg26 v683 k0_hw255 k0_t19 => k0_hw255.1.2.2.2.2.2.2.2.2.2.2.2.2.2.2.2.2.2.2.2.1 k0_t19
theorem k0_off761_inb : ∀ (v616 : BitVec 32) (k0_t13 : Fin (k0_t13_loop v616).trips) (arg26 : BitVec 32) (v683 : BitVec 32) (k0_hw255 : k0_chk255 v616 k0_t13 arg26 v683) (k0_t19 : Fin (k0_t19_loop arg26 v683).trips), ∀ a, (k0_off761 v616 k0_t13) a + S1x1x256.size a ≤ S3x256x256.size a := fun v616 k0_t13 arg26 v683 k0_hw255 k0_t19 => k0_hw255.1.2.2.2.2.2.2.2.2.2.2.2.2.2.2.2.2.2.2.2.2.1 k0_t19
theorem k0_off763_inb : ∀ (v616 : BitVec 32) (k0_t13 : Fin (k0_t13_loop v616).trips) (arg26 : BitVec 32) (v683 : BitVec 32) (k0_hw255 : k0_chk255 v616 k0_t13 arg26 v683) (k0_t19 : Fin (k0_t19_loop arg26 v683).trips), ∀ a, (k0_off763 v616 k0_t13) a + S1x1x256.size a ≤ S3x256x256.size a := fun v616 k0_t13 arg26 v683 k0_hw255 k0_t19 => k0_hw255.1.2.2.2.2.2.2.2.2.2.2.2.2.2.2.2.2.2.2.2.2.2.1 k0_t19
theorem k0_off764_inb : ∀ (v616 : BitVec 32) (k0_t13 : Fin (k0_t13_loop v616).trips) (arg26 : BitVec 32) (v683 : BitVec 32) (k0_hw255 : k0_chk255 v616 k0_t13 arg26 v683) (k0_t19 : Fin (k0_t19_loop arg26 v683).trips), ∀ a, (k0_off764 v616 k0_t13) a + S1x1x256.size a ≤ S3x256x256.size a := fun v616 k0_t13 arg26 v683 k0_hw255 k0_t19 => k0_hw255.1.2.2.2.2.2.2.2.2.2.2.2.2.2.2.2.2.2.2.2.2.2.2.1 k0_t19
theorem k0_off765_inb : ∀ (v616 : BitVec 32) (k0_t13 : Fin (k0_t13_loop v616).trips) (arg26 : BitVec 32) (v683 : BitVec 32) (k0_hw255 : k0_chk255 v616 k0_t13 arg26 v683) (k0_t19 : Fin (k0_t19_loop arg26 v683).trips), ∀ a, (k0_off765 v616 k0_t13) a + S1x1x256.size a ≤ S3x256x256.size a := fun v616 k0_t13 arg26 v683 k0_hw255 k0_t19 => k0_hw255.1.2.2.2.2.2.2.2.2.2.2.2.2.2.2.2.2.2.2.2.2.2.2.2.1 k0_t19
theorem k0_off766_inb : ∀ (v616 : BitVec 32) (k0_t13 : Fin (k0_t13_loop v616).trips) (arg26 : BitVec 32) (v683 : BitVec 32) (k0_hw255 : k0_chk255 v616 k0_t13 arg26 v683) (k0_t19 : Fin (k0_t19_loop arg26 v683).trips), ∀ a, (k0_off766 v616 k0_t13) a + S1x1x256.size a ≤ S3x256x256.size a := fun v616 k0_t13 arg26 v683 k0_hw255 k0_t19 => k0_hw255.1.2.2.2.2.2.2.2.2.2.2.2.2.2.2.2.2.2.2.2.2.2.2.2.2.1 k0_t19
theorem k0_off767_inb : ∀ (v616 : BitVec 32) (k0_t13 : Fin (k0_t13_loop v616).trips) (arg26 : BitVec 32) (v683 : BitVec 32) (k0_hw255 : k0_chk255 v616 k0_t13 arg26 v683) (k0_t19 : Fin (k0_t19_loop arg26 v683).trips), ∀ a, (k0_off767 v616 k0_t13) a + S1x1x256.size a ≤ S3x256x256.size a := fun v616 k0_t13 arg26 v683 k0_hw255 k0_t19 => k0_hw255.1.2.2.2.2.2.2.2.2.2.2.2.2.2.2.2.2.2.2.2.2.2.2.2.2.2.1 k0_t19
theorem k0_off768_inb : ∀ (v616 : BitVec 32) (k0_t13 : Fin (k0_t13_loop v616).trips) (arg26 : BitVec 32) (v683 : BitVec 32) (k0_hw255 : k0_chk255 v616 k0_t13 arg26 v683) (k0_t19 : Fin (k0_t19_loop arg26 v683).trips), ∀ a, (k0_off768 v616 k0_t13) a + S1x1x256.size a ≤ S3x256x256.size a := fun v616 k0_t13 arg26 v683 k0_hw255 k0_t19 => k0_hw255.1.2.2.2.2.2.2.2.2.2.2.2.2.2.2.2.2.2.2.2.2.2.2.2.2.2.2.1 k0_t19
theorem k0_off769_inb : ∀ (v616 : BitVec 32) (k0_t13 : Fin (k0_t13_loop v616).trips) (arg26 : BitVec 32) (v683 : BitVec 32) (k0_hw255 : k0_chk255 v616 k0_t13 arg26 v683) (k0_t19 : Fin (k0_t19_loop arg26 v683).trips), ∀ a, (k0_off769 v616 k0_t13) a + S1x1x256.size a ≤ S3x256x256.size a := fun v616 k0_t13 arg26 v683 k0_hw255 k0_t19 => k0_hw255.1.2.2.2.2.2.2.2.2.2.2.2.2.2.2.2.2.2.2.2.2.2.2.2.2.2.2.2.1 k0_t19
theorem k0_off770_inb : ∀ (v616 : BitVec 32) (k0_t13 : Fin (k0_t13_loop v616).trips) (arg26 : BitVec 32) (v683 : BitVec 32) (k0_hw255 : k0_chk255 v616 k0_t13 arg26 v683) (k0_t19 : Fin (k0_t19_loop arg26 v683).trips), ∀ a, (k0_off770 v616 k0_t13) a + S1x1x256.size a ≤ S3x256x256.size a := fun v616 k0_t13 arg26 v683 k0_hw255 k0_t19 => k0_hw255.1.2.2.2.2.2.2.2.2.2.2.2.2.2.2.2.2.2.2.2.2.2.2.2.2.2.2.2.2.1 k0_t19
theorem k0_off771_inb : ∀ (v616 : BitVec 32) (k0_t13 : Fin (k0_t13_loop v616).trips) (arg26 : BitVec 32) (v683 : BitVec 32) (k0_hw255 : k0_chk255 v616 k0_t13 arg26 v683) (k0_t19 : Fin (k0_t19_loop arg26 v683).trips), ∀ a, (k0_off771 v616 k0_t13) a + S1x1x256.size a ≤ S3x256x256.size a := fun v616 k0_t13 arg26 v683 k0_hw255 k0_t19 => k0_hw255.1.2.2.2.2.2.2.2.2.2.2.2.2.2.2.2.2.2.2.2.2.2.2.2.2.2.2.2.2.2.1 k0_t19
theorem k0_off772_inb : ∀ (v616 : BitVec 32) (k0_t13 : Fin (k0_t13_loop v616).trips) (arg26 : BitVec 32) (v683 : BitVec 32) (k0_hw255 : k0_chk255 v616 k0_t13 arg26 v683) (k0_t19 : Fin (k0_t19_loop arg26 v683).trips), ∀ a, (k0_off772 v616 k0_t13) a + S1x1x256.size a ≤ S3x256x256.size a := fun v616 k0_t13 arg26 v683 k0_hw255 k0_t19 => k0_hw255.1.2.2.2.2.2.2.2.2.2.2.2.2.2.2.2.2.2.2.2.2.2.2.2.2.2.2.2.2.2.2.1 k0_t19
theorem k0_off773_inb : ∀ (v616 : BitVec 32) (k0_t13 : Fin (k0_t13_loop v616).trips) (arg26 : BitVec 32) (v683 : BitVec 32) (k0_hw255 : k0_chk255 v616 k0_t13 arg26 v683) (k0_t19 : Fin (k0_t19_loop arg26 v683).trips), ∀ a, (k0_off773 v616 k0_t13) a + S1x1x256.size a ≤ S3x256x256.size a := fun v616 k0_t13 arg26 v683 k0_hw255 k0_t19 => k0_hw255.1.2.2.2.2.2.2.2.2.2.2.2.2.2.2.2.2.2.2.2.2.2.2.2.2.2.2.2.2.2.2.2 k0_t19
theorem k0_off774_inb : ∀ (v616 : BitVec 32) (k0_t13 : Fin (k0_t13_loop v616).trips) (arg26 : BitVec 32) (v683 : BitVec 32) (k0_hw255 : k0_chk255 v616 k0_t13 arg26 v683) (k0_t19 : Fin (k0_t19_loop arg26 v683).trips), ∀ a, (k0_off774 v616 k0_t13) a + S1x1x256.size a ≤ S3x256x256.size a := fun v616 k0_t13 arg26 v683 k0_hw255 k0_t19 => k0_hw255.2.1 k0_t19
theorem k0_off775_inb : ∀ (v616 : BitVec 32) (k0_t13 : Fin (k0_t13_loop v616).trips) (arg26 : BitVec 32) (v683 : BitVec 32) (k0_hw255 : k0_chk255 v616 k0_t13 arg26 v683) (k0_t19 : Fin (k0_t19_loop arg26 v683).trips), ∀ a, (k0_off775 v616 k0_t13) a + S1x1x256.size a ≤ S3x256x256.size a := fun v616 k0_t13 arg26 v683 k0_hw255 k0_t19 => k0_hw255.2.2.1 k0_t19
theorem k0_off776_inb : ∀ (v616 : BitVec 32) (k0_t13 : Fin (k0_t13_loop v616).trips) (arg26 : BitVec 32) (v683 : BitVec 32) (k0_hw255 : k0_chk255 v616 k0_t13 arg26 v683) (k0_t19 : Fin (k0_t19_loop arg26 v683).trips), ∀ a, (k0_off776 v616 k0_t13) a + S1x1x256.size a ≤ S3x256x256.size a := fun v616 k0_t13 arg26 v683 k0_hw255 k0_t19 => k0_hw255.2.2.2.1 k0_t19
theorem k0_off777_inb : ∀ (v616 : BitVec 32) (k0_t13 : Fin (k0_t13_loop v616).trips) (arg26 : BitVec 32) (v683 : BitVec 32) (k0_hw255 : k0_chk255 v616 k0_t13 arg26 v683) (k0_t19 : Fin (k0_t19_loop arg26 v683).trips), ∀ a, (k0_off777 v616 k0_t13) a + S1x1x256.size a ≤ S3x256x256.size a := fun v616 k0_t13 arg26 v683 k0_hw255 k0_t19 => k0_hw255.2.2.2.2 k0_t19

def k0_off778 (arg25 : BitVec 32) : Fin 1 → Nat :=
  let v698 : Index := Scalar.indexCast arg25
  ![v698.toNat]
def k0_off779 (arg25 : BitVec 32) : Fin 2 → Nat :=
  let v700 : Index := Scalar.indexCast arg25
  let c0_515 : Index := 0#32
  ![v700.toNat, 0]
def k0_off780 (arg25 : BitVec 32) (arg26 : BitVec 32) : Fin 3 → Nat :=
  let v707 : Index := Scalar.indexCast arg25
  let c2_i32_517 : BitVec 32 := 2#32
  let v706 : BitVec 32 := Scalar.muli arg26 c2_i32_517
  let v708 : Index := Scalar.indexCast v706
  let c0_518 : Index := 0#32
  ![v707.toNat, v708.toNat, 0]

def k0_off781 (v616 : BitVec 32) (k0_t13 : Fin (k0_t13_loop v616).trips) : Fin 3 → Nat :=
  let c0_i32_478 : BitVec 32 := 0#32
  let v655 : BitVec 32 := Scalar.subi v616 c0_i32_478
  let c1_i32_481 : BitVec 32 := 1#32
  let v657 : BitVec 32 := Scalar.divsi v655 c1_i32_481
  let v658 : BitVec 32 := Scalar.muli v657 c1_i32_481
  let v659 : BitVec 32 := Scalar.addi c0_i32_478 v658
  let c1_i32_483 : BitVec 32 := 1#32
  let arg24 : BitVec 32 := Scf.iv v659 c1_i32_483 k0_t13
  let c3_i32_484 : BitVec 32 := 3#32
  let v662 : BitVec 32 := Scalar.remsi arg24 c3_i32_484
  let v717 : Index := Scalar.indexCast v662
  let c0_520 : Index := 0#32
  let c0_521 : Index := 0#32
  ![v717.toNat, 0, 0]

def k0_chk116 (v616 : BitVec 32) : Prop :=
  ((k0_t6_loop v616).OK) ∧
  (∀ k0_t6 : Fin (k0_t6_loop v616).trips, ∀ a, (k0_off511 v616 k0_t6) a + S1x256x256.size a ≤ S3x256x256.size a) ∧
  ((k0_t13_loop v616).OK) ∧
  (∀ k0_t13 : Fin (k0_t13_loop v616).trips, ∀ a, (k0_off781 v616 k0_t13) a + S1x256x256.size a ≤ S3x256x256.size a)
theorem k0_t6_ok : ∀ (v616 : BitVec 32) (k0_hw116 : k0_chk116 v616), (k0_t6_loop v616).OK := fun v616 k0_hw116 => k0_hw116.1
theorem k0_off511_inb : ∀ (v616 : BitVec 32) (k0_hw116 : k0_chk116 v616) (k0_t6 : Fin (k0_t6_loop v616).trips), ∀ a, (k0_off511 v616 k0_t6) a + S1x256x256.size a ≤ S3x256x256.size a := fun v616 k0_hw116 k0_t6 => k0_hw116.2.1 k0_t6
theorem k0_t13_ok : ∀ (v616 : BitVec 32) (k0_hw116 : k0_chk116 v616), (k0_t13_loop v616).OK := fun v616 k0_hw116 => k0_hw116.2.2.1
theorem k0_off781_inb : ∀ (v616 : BitVec 32) (k0_hw116 : k0_chk116 v616) (k0_t13 : Fin (k0_t13_loop v616).trips), ∀ a, (k0_off781 v616 k0_t13) a + S1x256x256.size a ≤ S3x256x256.size a := fun v616 k0_hw116 k0_t13 => k0_hw116.2.2.2 k0_t13

def k0_mult90 (arg26 : BitVec 32) : BitVec 32 :=
  let c256_i32_558 : BitVec 32 := 256#32
  let v809 : BitVec 32 := Scalar.muli arg26 c256_i32_558
  v809
def k0_off782 (arg25 : BitVec 32) (arg26 : BitVec 32) : Fin 2 → Nat :=
  let v811 : Index := Scalar.indexCast arg25
  let c256_i32_558 : BitVec 32 := 256#32
  let v809 : BitVec 32 := Scalar.muli arg26 c256_i32_558
  let v810 : BitVec 32 := v809
  let v812 : Index := Scalar.indexCast v810
  ![v811.toNat, v812.toNat]

def k0_chk256 (arg25 : BitVec 32) (arg26 : BitVec 32) : Prop :=
  (∀ a, (k0_off780 arg25 arg26) a + S1x2x128.size a ≤ S24x12x128.size a) ∧
  (256 ∣ (k0_mult90 arg26).toNat) ∧
  (∀ a, (k0_off782 arg25 arg26) a + S1x256.size a ≤ S24x1536.size a)
theorem k0_off780_inb : ∀ (arg25 : BitVec 32) (arg26 : BitVec 32) (k0_hw256 : k0_chk256 arg25 arg26), ∀ a, (k0_off780 arg25 arg26) a + S1x2x128.size a ≤ S24x12x128.size a := fun arg25 arg26 k0_hw256 => k0_hw256.1
theorem k0_mult90_dvd : ∀ (arg25 : BitVec 32) (arg26 : BitVec 32) (k0_hw256 : k0_chk256 arg25 arg26), 256 ∣ (k0_mult90 arg26).toNat := fun arg25 arg26 k0_hw256 => k0_hw256.2.1
theorem k0_off782_inb : ∀ (arg25 : BitVec 32) (arg26 : BitVec 32) (k0_hw256 : k0_chk256 arg25 arg26), ∀ a, (k0_off782 arg25 arg26) a + S1x256.size a ≤ S24x1536.size a := fun arg25 arg26 k0_hw256 => k0_hw256.2.2

def k0_off783 (arg25 : BitVec 32) : Fin 2 → Nat :=
  let v824 : Index := Scalar.indexCast arg25
  let c0_561 : Index := 0#32
  ![v824.toNat, 0]

def k0_chk221 (arg25 : BitVec 32) : Prop :=
  (∀ a, (k0_off644 arg25) a + S1.size a ≤ S24.size a) ∧
  (∀ a, (k0_off741 arg25) a + S1.size a ≤ S24.size a) ∧
  (∀ a, (k0_off778 arg25) a + S1.size a ≤ S24.size a) ∧
  (∀ a, (k0_off779 arg25) a + S1x256.size a ≤ S32x256.size a) ∧
  (∀ a, (k0_off783 arg25) a + S1x256.size a ≤ S24x256.size a)
theorem k0_off644_inb : ∀ (arg25 : BitVec 32) (k0_hw221 : k0_chk221 arg25), ∀ a, (k0_off644 arg25) a + S1.size a ≤ S24.size a := fun arg25 k0_hw221 => k0_hw221.1
theorem k0_off741_inb : ∀ (arg25 : BitVec 32) (k0_hw221 : k0_chk221 arg25), ∀ a, (k0_off741 arg25) a + S1.size a ≤ S24.size a := fun arg25 k0_hw221 => k0_hw221.2.1
theorem k0_off778_inb : ∀ (arg25 : BitVec 32) (k0_hw221 : k0_chk221 arg25), ∀ a, (k0_off778 arg25) a + S1.size a ≤ S24.size a := fun arg25 k0_hw221 => k0_hw221.2.2.1
theorem k0_off779_inb : ∀ (arg25 : BitVec 32) (k0_hw221 : k0_chk221 arg25), ∀ a, (k0_off779 arg25) a + S1x256.size a ≤ S32x256.size a := fun arg25 k0_hw221 => k0_hw221.2.2.2.1
theorem k0_off783_inb : ∀ (arg25 : BitVec 32) (k0_hw221 : k0_chk221 arg25), ∀ a, (k0_off783 arg25) a + S1x256.size a ≤ S24x256.size a := fun arg25 k0_hw221 => k0_hw221.2.2.2.2

def k0_off784 (arg29 : BitVec 32) : Fin 1 → Nat :=
  let c23_i32_564 : BitVec 32 := 23#32
  let v832 : BitVec 32 := Scalar.minsi arg29 c23_i32_564
  let v834 : Index := Scalar.indexCast v832
  ![v834.toNat]

def k0_chk187 (arg29 : BitVec 32) : Prop :=
  (∀ (k0_h3 : k0_cond3 arg29 = 1#1), ∀ a, (k0_off515 arg29) a + S1.size a ≤ S24.size a) ∧
  (∀ a, (k0_off784 arg29) a + S1.size a ≤ S24.size a)
theorem k0_off515_inb : ∀ (arg29 : BitVec 32) (k0_hw187 : k0_chk187 arg29), ∀ (k0_h3 : k0_cond3 arg29 = 1#1), ∀ a, (k0_off515 arg29) a + S1.size a ≤ S24.size a := fun arg29 k0_hw187 k0_h3 => k0_hw187.1 k0_h3
theorem k0_off784_inb : ∀ (arg29 : BitVec 32) (k0_hw187 : k0_chk187 arg29), ∀ a, (k0_off784 arg29) a + S1.size a ≤ S24.size a := fun arg29 k0_hw187 => k0_hw187.2

abbrev stage0_0 : Fin 1 → Memref sig .tc .smem S24 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S24x1536 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S24 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x12x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .smem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S24x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S24x1536 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== ReferenceIdeal.lean ====
abbrev S1000000x256 : Shape := ⟨2, ![1000000, 256]⟩
abbrev S1000000 : Shape := ⟨1, ![1000000]⟩
abbrev S24x1536 : Shape := ⟨2, ![24, 1536]⟩
abbrev S24 : Shape := ⟨1, ![24]⟩
abbrev S1024x200 : Shape := ⟨2, ![1024, 200]⟩
abbrev S200 : Shape := ⟨1, ![200]⟩
abbrev S200x80 : Shape := ⟨2, ![200, 80]⟩
abbrev S80 : Shape := ⟨1, ![80]⟩
abbrev S1 : Shape := ⟨1, ![1]⟩
abbrev S_ : Shape := ⟨0, ![]⟩
abbrev S24x1536x1 : Shape := ⟨3, ![24, 1536, 1]⟩
abbrev S24x1536x256 : Shape := ⟨3, ![24, 1536, 256]⟩
abbrev S24x1 : Shape := ⟨2, ![24, 1]⟩
abbrev S24x256 : Shape := ⟨2, ![24, 256]⟩
abbrev S24x1x256 : Shape := ⟨3, ![24, 1, 256]⟩
abbrev S24x1536x1024 : Shape := ⟨3, ![24, 1536, 1024]⟩
abbrev S24x1536x200 : Shape := ⟨3, ![24, 1536, 200]⟩
abbrev S1x1x200 : Shape := ⟨3, ![1, 1, 200]⟩
abbrev S24x1536x80 : Shape := ⟨3, ![24, 1536, 80]⟩
abbrev S1x1x80 : Shape := ⟨3, ![1, 1, 80]⟩
abbrev S1536 : Shape := ⟨1, ![1536]⟩
abbrev S1x1536 : Shape := ⟨2, ![1, 1536]⟩

abbrev nBuf : Space → Nat
  | .hbm => 111
  | .vmem => 0
  | .smem => 0
  | _ => 0

abbrev bufTy : (tb : Table) → Fin (tcTables nBuf tb) → BufTy
  | .hbm, ⟨0, _⟩ => ⟨S1000000x256, .i8⟩
  | .hbm, ⟨1, _⟩ => ⟨S1000000, .f32⟩
  | .hbm, ⟨2, _⟩ => ⟨S24x1536, .i32⟩
  | .hbm, ⟨3, _⟩ => ⟨S24, .i32⟩
  | .hbm, ⟨4, _⟩ => ⟨S24, .i32⟩
  | .hbm, ⟨5, _⟩ => ⟨S1024x200, .bf16⟩
  | .hbm, ⟨6, _⟩ => ⟨S200, .f32⟩
  | .hbm, ⟨7, _⟩ => ⟨S200, .f32⟩
  | .hbm, ⟨8, _⟩ => ⟨S200x80, .bf16⟩
  | .hbm, ⟨9, _⟩ => ⟨S80, .f32⟩
  | .hbm, ⟨10, _⟩ => ⟨S80, .f32⟩
  | .hbm, ⟨11, _⟩ => ⟨S80, .bf16⟩
  | .hbm, ⟨12, _⟩ => ⟨S1, .f32⟩
  | .hbm, ⟨13, _⟩ => ⟨S_, .i32⟩
  | .hbm, ⟨14, _⟩ => ⟨S24x1536, .i32⟩
  | .hbm, ⟨15, _⟩ => ⟨S24x1536, .i1⟩
  | .hbm, ⟨16, _⟩ => ⟨S_, .i32⟩
  | .hbm, ⟨17, _⟩ => ⟨S24x1536, .i32⟩
  | .hbm, ⟨18, _⟩ => ⟨S24x1536, .i32⟩
  | .hbm, ⟨19, _⟩ => ⟨S24x1536, .i32⟩
  | .hbm, ⟨20, _⟩ => ⟨S24x1536x1, .i32⟩
  | .hbm, ⟨21, _⟩ => ⟨S24x1536x256, .i8⟩
  | .hbm, ⟨22, _⟩ => ⟨S_, .i32⟩
  | .hbm, ⟨23, _⟩ => ⟨S24x1536, .i32⟩
  | .hbm, ⟨24, _⟩ => ⟨S24x1536, .i1⟩
  | .hbm, ⟨25, _⟩ => ⟨S_, .i32⟩
  | .hbm, ⟨26, _⟩ => ⟨S24x1536, .i32⟩
  | .hbm, ⟨27, _⟩ => ⟨S24x1536, .i32⟩
  | .hbm, ⟨28, _⟩ => ⟨S24x1536, .i32⟩
  | .hbm, ⟨29, _⟩ => ⟨S24x1536x1, .i32⟩
  | .hbm, ⟨30, _⟩ => ⟨S24x1536, .f32⟩
  | .hbm, ⟨31, _⟩ => ⟨S24x1536, .bf16⟩
  | .hbm, ⟨32, _⟩ => ⟨S24x1536x256, .i32⟩
  | .hbm, ⟨33, _⟩ => ⟨S24x1536x256, .bf16⟩
  | .hbm, ⟨34, _⟩ => ⟨S24x1536x1, .bf16⟩
  | .hbm, ⟨35, _⟩ => ⟨S24x1536x256, .bf16⟩
  | .hbm, ⟨36, _⟩ => ⟨S24x1536x256, .bf16⟩
  | .hbm, ⟨37, _⟩ => ⟨S_, .i32⟩
  | .hbm, ⟨38, _⟩ => ⟨S24, .i32⟩
  | .hbm, ⟨39, _⟩ => ⟨S24, .i1⟩
  | .hbm, ⟨40, _⟩ => ⟨S_, .i32⟩
  | .hbm, ⟨41, _⟩ => ⟨S24, .i32⟩
  | .hbm, ⟨42, _⟩ => ⟨S24, .i32⟩
  | .hbm, ⟨43, _⟩ => ⟨S24, .i32⟩
  | .hbm, ⟨44, _⟩ => ⟨S24x1, .i32⟩
  | .hbm, ⟨45, _⟩ => ⟨S24x256, .i8⟩
  | .hbm, ⟨46, _⟩ => ⟨S_, .i32⟩
  | .hbm, ⟨47, _⟩ => ⟨S24, .i32⟩
  | .hbm, ⟨48, _⟩ => ⟨S24, .i1⟩
  | .hbm, ⟨49, _⟩ => ⟨S_, .i32⟩
  | .hbm, ⟨50, _⟩ => ⟨S24, .i32⟩
  | .hbm, ⟨51, _⟩ => ⟨S24, .i32⟩
  | .hbm, ⟨52, _⟩ => ⟨S24, .i32⟩
  | .hbm, ⟨53, _⟩ => ⟨S24x1, .i32⟩
  | .hbm, ⟨54, _⟩ => ⟨S24, .f32⟩
  | .hbm, ⟨55, _⟩ => ⟨S24, .bf16⟩
  | .hbm, ⟨56, _⟩ => ⟨S24x256, .i32⟩
  | .hbm, ⟨57, _⟩ => ⟨S24x256, .bf16⟩
  | .hbm, ⟨58, _⟩ => ⟨S24x1, .bf16⟩
  | .hbm, ⟨59, _⟩ => ⟨S24x256, .bf16⟩
  | .hbm, ⟨60, _⟩ => ⟨S24x256, .bf16⟩
  | .hbm, ⟨61, _⟩ => ⟨S24x1536x256, .f32⟩
  | .hbm, ⟨62, _⟩ => ⟨S24x256, .f32⟩
  | .hbm, ⟨63, _⟩ => ⟨S24x1x256, .f32⟩
  | .hbm, ⟨64, _⟩ => ⟨S24x1x256, .bf16⟩
  | .hbm, ⟨65, _⟩ => ⟨S24x1536x256, .bf16⟩
  | .hbm, ⟨66, _⟩ => ⟨S24x1536x256, .f32⟩
  | .hbm, ⟨67, _⟩ => ⟨S24x1536x256, .f32⟩
  | .hbm, ⟨68, _⟩ => ⟨S24x1536x256, .bf16⟩
  | .hbm, ⟨69, _⟩ => ⟨S24x1536x256, .f32⟩
  | .hbm, ⟨70, _⟩ => ⟨S24x1536x256, .f32⟩
  | .hbm, ⟨71, _⟩ => ⟨S24x1536x256, .bf16⟩
  | .hbm, ⟨72, _⟩ => ⟨S24x1536x1024, .bf16⟩
  | .hbm, ⟨73, _⟩ => ⟨S24x1536x200, .f32⟩
  | .hbm, ⟨74, _⟩ => ⟨S1x1x200, .f32⟩
  | .hbm, ⟨75, _⟩ => ⟨S24x1536x200, .f32⟩
  | .hbm, ⟨76, _⟩ => ⟨S24x1536x200, .f32⟩
  | .hbm, ⟨77, _⟩ => ⟨S_, .f32⟩
  | .hbm, ⟨78, _⟩ => ⟨S24x1536x200, .f32⟩
  | .hbm, ⟨79, _⟩ => ⟨S24x1536x200, .i1⟩
  | .hbm, ⟨80, _⟩ => ⟨S1x1x200, .f32⟩
  | .hbm, ⟨81, _⟩ => ⟨S24x1536x200, .f32⟩
  | .hbm, ⟨82, _⟩ => ⟨S24x1536x200, .f32⟩
  | .hbm, ⟨83, _⟩ => ⟨S24x1536x200, .f32⟩
  | .hbm, ⟨84, _⟩ => ⟨S24x1536x200, .bf16⟩
  | .hbm, ⟨85, _⟩ => ⟨S24x1536x80, .f32⟩
  | .hbm, ⟨86, _⟩ => ⟨S1x1x80, .f32⟩
  | .hbm, ⟨87, _⟩ => ⟨S24x1536x80, .f32⟩
  | .hbm, ⟨88, _⟩ => ⟨S24x1536x80, .f32⟩
  | .hbm, ⟨89, _⟩ => ⟨S_, .f32⟩
  | .hbm, ⟨90, _⟩ => ⟨S24x1536x80, .f32⟩
  | .hbm, ⟨91, _⟩ => ⟨S24x1536x80, .i1⟩
  | .hbm, ⟨92, _⟩ => ⟨S1x1x80, .f32⟩
  | .hbm, ⟨93, _⟩ => ⟨S24x1536x80, .f32⟩
  | .hbm, ⟨94, _⟩ => ⟨S24x1536x80, .f32⟩
  | .hbm, ⟨95, _⟩ => ⟨S24x1536x80, .f32⟩
  | .hbm, ⟨96, _⟩ => ⟨S24x1536x80, .bf16⟩
  | .hbm, ⟨97, _⟩ => ⟨S24x1536, .f32⟩
  | .hbm, ⟨98, _⟩ => ⟨S_, .f32⟩
  | .hbm, ⟨99, _⟩ => ⟨S24x1536, .f32⟩
  | .hbm, ⟨100, _⟩ => ⟨S24x1536, .f32⟩
  | .hbm, ⟨101, _⟩ => ⟨S1536, .i32⟩
  | .hbm, ⟨102, _⟩ => ⟨S1x1536, .i32⟩
  | .hbm, ⟨103, _⟩ => ⟨S24x1, .i32⟩
  | .hbm, ⟨104, _⟩ => ⟨S24x1536, .i32⟩
  | .hbm, ⟨105, _⟩ => ⟨S24x1536, .i32⟩
  | .hbm, ⟨106, _⟩ => ⟨S24x1536, .i1⟩
  | .hbm, ⟨107, _⟩ => ⟨S_, .f32⟩
  | .hbm, ⟨108, _⟩ => ⟨S_, .f32⟩
  | .hbm, ⟨109, _⟩ => ⟨S24x1536, .f32⟩
  | .hbm, ⟨110, _⟩ => ⟨S24x1536, .f32⟩
  | _, _ => ⟨S1000000x256, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_c_6 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_7 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_cst_8 : Ref sig .tc := ⟨.hbm, 107, rfl⟩
abbrev main_call2_v0 : Ref sig .tc := ⟨.hbm, 108, rfl⟩
abbrev main_call2_v1 : Ref sig .tc := ⟨.hbm, 109, rfl⟩
abbrev main_v84 : Ref sig .tc := ⟨.hbm, 110, rfl⟩

abbrev nD : Nat := 1
abbrev τ : Topo := Topo.v7x

variable {F : FTy → Type} [FloatOps F]
-- ==== Proof.RefFrame.lean ====
/-
  The reference runs to its end with its arguments unchanged and every semaphore at zero: it is a list of host operations, none of
  which writes an argument.
-/
module

public import proofs.«01_k».proof.Defs
public import proofs.«01_k».proof.Proof.Gen.ReferenceIdeal
public import proofs.«01_k».proof.Proof.Gen.Pre_rows_exist
public import Idealize.ShloMosaic.Lib.Claim
public import Idealize.ShloMosaic.Lib.Quiescent

@[expose] public section

namespace Cert.Proof

open Idealize.ShloMosaic Idealize.ShloMosaic.TcCoe Idealize.SL.Sem

set_option maxRecDepth 8192 in
set_option maxHeartbeats 40000000 in
/-- The reference's frame. -/
theorem frame_ri : Cert.quiescent_ReferenceIdeal := by
  intro m g hpre
  hlo_run
  all_goals first
    | exact Idealize.ShloMosaic.sem_eq_zero_of_no_sems (show Cert.ReferenceIdeal.sig.nSem + Cert.ReferenceIdeal.sig.nDmaSem = 0 from by decide) _
    | simp

end Cert.Proof
-- ==== Proof.Domain.lean ====
/-
  What the precondition says of the words the program is launched with: every id, of a history or of a target, names a row whose
  scale lies in a whole line of 128, and no length exceeds the history.
-/
module

public import proofs.«01_k».proof.Proof.Gen.Pre_rows_exist
public import Idealize.ShloMosaic.Lib.ReduceAll
public import Idealize.ShloMosaic.Lib.Affine
public import Idealize.ShloMosaic.PureOps.Ideal

@[expose] public section

noncomputable section

namespace Cert.Pre_rows_exist.Hand

open Cert.Pre_rows_exist Cert.Pre_rows_exist.Gen Cert.Pre_rows_exist.Facts
open Idealize.ShloMosaic

variable {F : FTy → Type} [FloatOps F]

instance : Subsingleton S_.Idx := ⟨fun a b => funext fun i => i.elim0⟩

theorem small_of {w : BitVec 32} (h0 : (0#32).toInt ≤ w.toInt) (h1 : w.toInt < (999936#32).toInt) : w.toNat < 999936 := by
  have e0 : (0#32 : BitVec 32).toInt = 0 := by decide
  have e1 : (999936#32 : BitVec 32).toInt = 999936 := by decide
  rw [e0] at h0; rw [e1] at h1
  have := BitVec.toInt_eq_toNat_cond w
  have := w.isLt
  omega

theorem and_l [Cert.Pre_rows_exist.Facts] {x y : IVec S_ 1} {j : S_.Idx} (h : andi x y j = 1#1) : x j = 1#1 := (IntOp.andi_eq_one.1 h).1
theorem and_r {x y : IVec S_ 1} {j : S_.Idx} (h : andi x y j = 1#1) : y j = 1#1 := (IntOp.andi_eq_one.1 h).2

set_option maxHeartbeats 1000000 in
theorem bounds [Cert.Pre_rows_exist.Facts] (a0 : IVec S1000000x256 8) (a1 : FVec F S1000000 .f32) (a2 : IVec S24x1536 32) (a3 a4 : IVec S24 32)
    (a5 : FVec F S1024x200 .bf16) (a6 a7 : FVec F S200 .f32) (a8 : FVec F S200x80 .bf16) (a9 a10 : FVec F S80 .f32) (a11 : FVec F S80 .bf16) (a12 : FVec F S1 .f32)
    (j : S_.Idx) (h : fn (F := F) a0 a1 a2 a3 a4 a5 a6 a7 a8 a9 a10 a11 a12 j = 1#1) :
    (∀ x, (a2 x).toNat < 999936) ∧ (∀ x, (a4 x).toNat < 999936) ∧ (∀ x, (a3 x).toInt ≤ 1536) := by
  unfold fn fn_part1 at h
  have hl := and_r h
  have h := and_l h
  have ht := and_r h
  have hi := and_l h
  refine ⟨fun x => ?_, fun x => ?_, fun x => ?_⟩
  · have e := IntOp.andi_eq_one.1 (Host.reduce_andi_all _ _ _ _ j hi x)
    exact small_of (IntOp.cmpi_sge.1 e.1) (IntOp.cmpi_slt.1 e.2)
  · have e := IntOp.andi_eq_one.1 (Host.reduce_andi_all _ _ _ _ j ht x)
    exact small_of (IntOp.cmpi_sge.1 e.1) (IntOp.cmpi_slt.1 e.2)
  · exact IntOp.cmpi_sle.1 (Host.reduce_andi_all _ _ _ _ j hl x)

end Cert.Pre_rows_exist.Hand
-- ==== Proof.Base.lean ====
/-
  The objects the proof talks about: the kernel's buffers under short names, the sets of buffer elements one
  gathered row occupies, and the step that starts one row's copy.
-/
module

public import proofs.«01_k».proof.Proof.Gen.KernelIdeal.Launch
public import proofs.«01_k».proof.Proof.Gen.KernelIdeal.Skeleton
public import Idealize.ShloMosaic.Lib.Batch
public import Idealize.ShloMosaic.Lib.Ring
public import Idealize.ShloMosaic.Lib.Tactic
public import Idealize.ShloMosaic.Lib.Pipeline.FrameBody
public import Idealize.ShloMosaic.Lib.MixedBatch

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

/-- The proof's assertions: the pipeline library's beside the transfers' counters. -/
local notation "𝕄" => MT nD τ sig Unit (Elt F) ℕ (Pipeline.UD sig nD τ) ℕ

/-! ## The kernel's buffers -/

abbrev aIds : Memref sig .tc .smem S24x1536 .i32 := Memref.whole cc0_stg1_0
abbrev hWords : Memref sig .tc .hbm S250000x256 .i32 := Memref.whole main_v2
abbrev hScl : Memref sig .tc .hbm S1000000 .f32 := Memref.whole main_arg1
abbrev sRows : Memref sig .tc .vmem S3x256x256 .i32 := Memref.whole cc0_scratch0

/-- The whole buffer `b` of core `c`, at full share, holding `f`. -/
abbrev pt (c : Dev nD) (b : Ref sig .tc) (f : Buf (Elt F) ((c : Thread nD τ).loc b)) : sProp 𝕄 :=
  ((c : Thread nD τ).loc b) ↦{fullShare} f

/-- The counters' algebra inside the proof's. -/
abbrev EC : UEmb Counters 𝕄 := countersEmb

/-! ## The elements of the row ring -/

/-- The ring elements of slot `s`, rows `lo` up to (not including) `hi`. -/
def rowsSet (s lo hi : ℕ) : Finset S3x256x256.Idx :=
  Finset.univ.filter fun x => (x 0).val = s ∧ lo ≤ (x 1).val ∧ (x 1).val < hi

theorem mem_rowsSet {s lo hi : ℕ} {x : S3x256x256.Idx} :
    x ∈ rowsSet s lo hi ↔ (x 0).val = s ∧ lo ≤ (x 1).val ∧ (x 1).val < hi := by simp [rowsSet]

/-- The first row of a range, taken off. -/
theorem rowsSet_head {s lo hi : ℕ} (h : lo < hi) : rowsSet s lo hi = rowsSet s lo (lo + 1) ∪ rowsSet s (lo + 1) hi := by
  ext x; simp only [Finset.mem_union, mem_rowsSet]; omega
theorem rowsSet_disj {s a b d : ℕ} : Disjoint (rowsSet s a b) (rowsSet s b d) := by
  rw [Finset.disjoint_left]; intro x; simp only [mem_rowsSet]; omega

/-- The block the kernel copies one row into is row `r` of slot `s`. -/
theorem rowBlock_set (o : Fin 3 → ℕ) (h : ∀ a, o a + S1x1x256.size a ≤ S3x256x256.size a) {s r : ℕ} (ho : o = ![s, r, 0]) :
    ((sRows.slice (Rect.unit (s := S3x256x256) o S1x1x256.size h) (fun _ => rfl)).squeeze S1x256 squeezes_S1x1x256_S1x256).view.set
      = rowsSet s r (r + 1) := by
  refine (View.set_reshape _ _).trans ((View.set_slice_whole _ _).trans ?_)
  subst ho
  ext x
  rw [mem_rowsSet]
  refine (Rect.mem_set_unit).trans ?_
  have h2 : (x 2).val < 256 := (x 2).isLt
  constructor
  · intro H
    have H0 := H 0; have H1 := H 1
    simp [S1x1x256] at H0 H1
    omega
  · rintro ⟨H0, H1, H2⟩ a
    fin_cases a <;> simp [S1x1x256]
    · omega
    · omega
    · exact h2

/-! ## Starting one row's copy -/

/-- Where entry `l` of row `r` of slot `s` sits in the ring, and entry `l` of word row `q` in the word array. -/
def ringAt (s : Fin 3) (r l : Fin 256) : S3x256x256.Idx := fun a => match a with | 0 => s | 1 => r | 2 => l
def wordAt (q : Fin 250000) (l : Fin 256) : S250000x256.Idx := fun a => match a with | 0 => q | 1 => l

abbrev RingBuf (F : FTy → Type) [FloatOps F] (c : Dev nD) := Buf (Elt F) ((c : Thread nD τ).loc cc0_scratch0)
abbrev WordBuf (F : FTy → Type) [FloatOps F] (c : Dev nD) := Buf (Elt F) ((c : Thread nD τ).loc main_v2)

/-- The units one row's copy credits its semaphore with. -/
def rowN : ℕ := cc0_scratch0.dmaCredit S1x256 .i32
theorem rowN_pos : 0 < rowN := by unfold rowN; decide

/-- What row `t`'s copy hands back: the row at the gathered contents `G`, and its share of the word array. -/
def rowDeliv (c : Dev nD) (s : ℕ) (q0 : PosShare TreeShare) (fw : WordBuf F c) (G : RingBuf F c) (n : ℕ) (t : Fin n) : sProp 𝕄 :=
  iprop((((c : Thread nD τ).loc cc0_scratch0) ↦[rowsSet s t.val (t.val + 1)]{fullShare} G)
    ∗ (((c : Thread nD τ).loc main_v2) ↦{shareTokN q0 t.val} fw))

instance (c : Dev nD) (s : ℕ) (q0 : PosShare TreeShare) (fw : WordBuf F c) (G : RingBuf F c) (n : ℕ) (t : Fin n) :
    Storable (upEmb : UEmb _ 𝕄) (rowDeliv c s q0 fw G n t) := by unfold rowDeliv; infer_instance

/-- The batch of a slot's copies: `k` started, none of their units consumed yet (or `u` of them). -/
abbrev RowBatch (c : Dev nD) (sm : SemLoc sig) (s : ℕ) (q0 : PosShare TreeShare) (fw : WordBuf F c) (G : RingBuf F c) (n k u : ℕ) : sProp 𝕄 :=
  Batch EC (c : Thread nD τ) sm () rowN (rowDeliv c s q0 fw G n) k u

/-- A slot whose first `k` rows' copies have started, of the `n` its block needs. -/
def Filling (c : Dev nD) (sm : SemLoc sig) (s : ℕ) (q0 : PosShare TreeShare) (fw : WordBuf F c) (G f : RingBuf F c) (n k : ℕ) : sProp 𝕄 :=
  iprop((((c : Thread nD τ).loc cc0_scratch0) ↦[rowsSet s k 256]{fullShare} f)
    ∗ (((c : Thread nD τ).loc main_v2) ↦{shareDrop q0 k} fw) ∗ RowBatch c sm s q0 fw G n k 0)

end Cert.KernelIdeal.Hand
-- ==== Proof.Issue.lean ====
module

public import proofs.«01_k».proof.Proof.Base

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

/-- What the copy of word row `q` into ring row `(s, j)` leaves there: that word row. -/
theorem row_landed {o : Fin 3 → ℕ} {h : ∀ a, o a + S1x1x256.size a ≤ S3x256x256.size a}
    {o' : Fin 2 → ℕ} {h' : ∀ a, o' a + S1x256.size a ≤ S250000x256.size a}
    (s : Fin 3) (fw : WordBuf F c) (G f : RingBuf F c) (j : ℕ) (hj : j < 256) (q : Fin 250000) (ho : o = ![s.val, j, 0]) (ho' : o' = ![q.val, 0])
    (hG : ∀ l, G (ringAt s ⟨j, hj⟩ l) = fw (wordAt q l)) :
    ∀ x ∈ rowsSet s j (j + 1),
      ((sRows.slice (Rect.unit (s := S3x256x256) o S1x1x256.size h) (fun _ => rfl)).squeeze S1x256 squeezes_S1x1x256_S1x256).view.write (Elt F) f
        ((hWords.slice (Rect.unit (s := S250000x256) o' S1x256.size h') (fun _ => rfl)).view.read (Elt F) fw) Finset.univ x = G x := by
  intro x hx
  rw [← rowBlock_set o h ho] at hx
  subst ho ho'
  obtain ⟨y, -, rfl⟩ := Finset.mem_map.1 hx
  rw [View.write_emb_of_mem _ _ (Finset.mem_univ y)]
  have e1 : ((sRows.slice (Rect.unit (s := S3x256x256) ![s.val, j, 0] S1x1x256.size h) (fun _ => rfl)).squeeze S1x256 squeezes_S1x1x256_S1x256).view.emb y
      = ringAt s ⟨j, hj⟩ (y 1) := by
    show (Rect.unit (s := S3x256x256) ![s.val, j, 0] S1x1x256.size h).emb (Shape.reshapeEquiv squeezes_S1x1x256_S1x256.numel_eq y) = _
    have hr : Shape.reshapeEquiv squeezes_S1x1x256_S1x256.numel_eq y = (Fin.cons (⟨0, Nat.one_pos⟩ : Fin 1) y : S1x1x256.Idx) :=
      Shape.reshapeEquiv_cons_one (d := ![1, 256]) squeezes_S1x1x256_S1x256.numel_eq y
    rw [hr]
    funext a
    apply Fin.ext
    have h0 : (y 0).val < 1 := (y 0).isLt
    fin_cases a
    · show s.val + 1 * 0 = s.val; omega
    · show j + 1 * (y 0).val = j; omega
    · show 0 + 1 * (y 1).val = (y 1).val; omega
  have e2 : (hWords.slice (Rect.unit (s := S250000x256) ![q.val, 0] S1x256.size h') (fun _ => rfl)).view.emb y = wordAt q (y 1) := by
    show (Rect.unit (s := S250000x256) ![q.val, 0] S1x256.size h').emb y = _
    funext a
    apply Fin.ext
    have h0 : (y 0).val < 1 := (y 0).isLt
    fin_cases a
    · show q.val + 1 * (y 0).val = q.val; omega
    · show 0 + 1 * (y 1).val = (y 1).val; omega
  rw [e1]
  exact Eq.trans (congrArg fw e2) (hG (y 1)).symm

theorem wp_issue_row {o : Fin 3 → ℕ} {h : ∀ a, o a + S1x1x256.size a ≤ S3x256x256.size a}
    {o' : Fin 2 → ℕ} {h' : ∀ a, o' a + S1x256.size a ≤ S250000x256.size a} {sm : DmaSem sig}
    {hsrc : (hWords.slice (Rect.unit (s := S250000x256) o' S1x256.size h') (fun _ => rfl)).view.WordExact}
    {hdst} {hsem} {k : PUnit → Prog (TpuEff nD τ sig (Elt F) Λ₀ .tc) α} {Q : α → sProp 𝕄}
    (s : Fin 3) (q0 : PosShare TreeShare) (fw : WordBuf F c) (G f : RingBuf F c) (n j : ℕ)
    (hj : j < n) (hj' : j < 256) (q : Fin 250000) (ho : o = ![s.val, j, 0]) (ho' : o' = ![q.val, 0])
    (hG : ∀ l, G (ringAt s ⟨j, hj'⟩ l) = fw (wordAt q l)) :
    Filling c (.dma sm) s q0 fw G f n j
      ⊢ iprop((Filling c (.dma sm) s q0 fw G f n (j + 1) -∗ wp frame (wpE defs 𝒱 (c : Thread nD τ) bd) Set.univ (k ⟨⟩) Q)
        -∗ wp frame (wpE defs 𝒱 (c : Thread nD τ) bd) Set.univ
          (.op (.enqueueDma (hWords.slice (Rect.unit (s := S250000x256) o' S1x256.size h') (fun _ => rfl))
            (.here ((sRows.slice (Rect.unit (s := S3x256x256) o S1x1x256.size h) (fun _ => rfl)).squeeze S1x256 squeezes_S1x1x256_S1x256))
            (.dma sm) hsrc hdst hsem) k) Q) := by
  unfold Filling RowBatch Batch
  iintro ⟨Hd, Hw, ⟨%γ, %γ₀, %κ, #Hinv, HI, H0, Hcred⟩⟩ Hk
  ihave HI' := (show bigSep (pending j) (fun t => count EC (γ t) 0) ⊢ iprop(count EC (γ ⟨j, hj⟩) 0 ∗ bigSep (pending (j + 1)) (fun t => count EC (γ t) 0))
    from Entails.of_eq (by rw [pending_succ hj, bigSep_insert (not_mem_pending_succ hj)]; rfl)) $$ HI
  icases HI' with ⟨Ht, HI⟩
  ihave Hw' := (pointsTo_share (PosShare.mem_left_op_right _)).1 $$ Hw
  icases Hw' with ⟨Hw, Htok⟩
  ihave Htok' := (pointsTo_split_subset (Finset.subset_univ (hWords.slice (Rect.unit (s := S250000x256) o' S1x256.size h') (fun _ => rfl)).view.set)).1 $$ Htok
  icases Htok' with ⟨Hsrc, Hcompl⟩
  have hrw : ((c : Thread nD τ).loc cc0_scratch0 ↦[rowsSet s j 256]{fullShare} f : sProp 𝕄)
      ⊢ iprop(((c : Thread nD τ).loc cc0_scratch0 ↦[rowsSet s j (j + 1)]{fullShare} f) ∗ ((c : Thread nD τ).loc cc0_scratch0 ↦[rowsSet s (j + 1) 256]{fullShare} f)) := by
    rw [rowsSet_head (lo := j) (hi := 256) (by omega)]
    exact (pointsTo_union rowsSet_disj).1
  ihave Hd' := hrw $$ Hd
  icases Hd' with ⟨Hrow, Hd⟩
  have hN : ((sRows.slice (Rect.unit (s := S3x256x256) o S1x1x256.size h) (fun _ => rfl)).squeeze S1x256 squeezes_S1x1x256_S1x256).view.amount (.dma sm) = rowN := rfl
  have hres : iprop(((c : Thread nD τ).loc main_v2 ↦[Finset.univ \ (hWords.slice (Rect.unit (s := S250000x256) o' S1x256.size h') (fun _ => rfl)).view.set]{shareTokN q0 j} fw)
      ∗ (((sRows.slice (Rect.unit (s := S3x256x256) o S1x1x256.size h) (fun _ => rfl)).squeeze S1x256 squeezes_S1x1x256_S1x256).view.loc (c : Thread nD τ) ↦[rowsSet s j (j + 1)]{fullShare}
          ((sRows.slice (Rect.unit (s := S3x256x256) o S1x1x256.size h) (fun _ => rfl)).squeeze S1x256 squeezes_S1x1x256_S1x256).view.write (Elt F) f
            ((hWords.slice (Rect.unit (s := S250000x256) o' S1x256.size h') (fun _ => rfl)).view.read (Elt F) fw) Finset.univ)
      ∗ ((hWords.slice (Rect.unit (s := S250000x256) o' S1x256.size h') (fun _ => rfl)).view.loc (c : Thread nD τ)
          ↦[(hWords.slice (Rect.unit (s := S250000x256) o' S1x256.size h') (fun _ => rfl)).view.set]{shareTokN q0 j} fw))
      ⊢ (rowDeliv c s q0 fw G n ⟨j, hj⟩ : sProp 𝕄) := by
    unfold rowDeliv
    iintro ⟨Hcompl, Hrow, Hsrc⟩
    isplitl [Hrow]
    · iapply (Entails.of_eq (pointsTo_congr (row_landed c (h := h) (h' := h') s fw G f j hj' q ho ho' hG)))
      iexact Hrow
    · iapply (pointsTo_split_subset (Finset.subset_univ (hWords.slice (Rect.unit (s := S250000x256) o' S1x256.size h') (fun _ => rfl)).view.set)).2
      isplitl [Hsrc]; · iexact Hsrc
      iexact Hcompl
  iapply (wp_enqueueDma 𝒱 (c : Thread nD τ) bd Set.univ () rowN (src := hWords.slice (Rect.unit (s := S250000x256) o' S1x256.size h') (fun _ => rfl))
    (dst := (sRows.slice (Rect.unit (s := S3x256x256) o S1x1x256.size h) (fun _ => rfl)).squeeze S1x256 squeezes_S1x1x256_S1x256) hN) $$ [Hsrc Hrow] [Ht Hcompl]
  · isplitl [Hsrc]; · iexact Hsrc
    iapply (pointsTo_writeUpdate (c : Thread nD τ) (v := ((sRows.slice (Rect.unit (s := S3x256x256) o S1x1x256.size h) (fun _ => rfl)).squeeze S1x256 squeezes_S1x1x256_S1x256).view) (S := rowsSet s j (j + 1)) (le_of_eq (rowBlock_set o h ho))) $$ Hrow
  · iapply (batch_creditUpdate_with EC ⟨j, hj⟩ (D := rowDeliv c s q0 fw G n) hres)
    isplitr; · iexact Hinv
    isplitl [Ht]; · iexact Ht
    iexact Hcompl
  iintro Hcred'
  iapply Hk
  isplitl [Hd]; · iexact Hd
  isplitl [Hw]; · iexact Hw
  iexists γ, γ₀, κ
  isplitr; · iexact Hinv
  isplitl [HI]; · iexact HI
  isplitl [H0]; · iexact H0
  rw [show (j + 1) * rowN - 0 = (j * rowN - 0) + rowN by rw [Nat.succ_mul]; omega, ← tallyAt_add]
  icombine Hcred Hcred' as H
  iexact H

end Cert.KernelIdeal.Hand
-- ==== Proof.Words.lean ====
/-
  The 32-bit words the kernel computes its loop bounds and offsets in, as integers.
-/
module

public import proofs.«01_k».proof.Proof.Base

@[expose] public section

noncomputable section

namespace Cert.KernelIdeal.Hand

open Cert.KernelIdeal Cert.KernelIdeal.Gen
open Idealize.ShloMosaic

theorem w_add_zero (x : BitVec 32) : Scalar.addi 0#32 x = x := by simp [Scalar.addi, IntOp.addi]
theorem w_mul_one (x : BitVec 32) : Scalar.muli x 1#32 = x := by simp [Scalar.muli, IntOp.muli]
theorem w_sub_zero (x : BitVec 32) : Scalar.subi x 0#32 = x := by simp [Scalar.subi, IntOp.subi]
theorem w_add_zero' (x : BitVec 32) : Scalar.addi x 0#32 = x := by simp [Scalar.addi, IntOp.addi]
theorem w_sub_self : Scalar.subi 1#32 1#32 = 0#32 := rfl
theorem w_div_one (x : BitVec 32) : Scalar.divsi x 1#32 = x := by
  have hc : ¬ IntOp.SDivCorner x 1#32 := by
    unfold IntOp.SDivCorner
    rintro (h | ⟨-, h⟩) <;> exact absurd h (by decide)
  unfold Scalar.divsi IntOp.divsi
  rw [if_neg hc]
  apply BitVec.eq_of_toInt_eq
  rw [BitVec.toInt_sdiv_of_ne_or_ne _ _ (Or.inr (by decide))]
  simp

/-- The number of 16-row groups an issue loop runs over, from the number of rows still to fetch. -/
def ubOf (d : BitVec 32) : BitVec 32 :=
  Scalar.addi 0#32 (Scalar.muli (Scalar.divsi (Scalar.subi (Scalar.divsi (Scalar.addi (Scalar.subi (Scalar.divsi (Scalar.addi (Scalar.minsi d 256#32) 15#32) 16#32) 0#32) (Scalar.subi 1#32 1#32)) 1#32) 0#32) 1#32) 1#32)

/-- The same count as a natural number. -/
def grpOf (z : ℤ) : ℕ := ((min z 256 + 15).tdiv 16).toNat

theorem grpOf_le (z : ℤ) : grpOf z ≤ 16 := by
  unfold grpOf
  rcases le_or_gt 0 (min z 256 + 15) with h | h
  · rw [Int.tdiv_eq_ediv_of_nonneg h]
    have : min z 256 ≤ 256 := min_le_right _ _
    omega
  · have h2 := Int.neg_tdiv (min z 256 + 15) 16
    have h3 : (0:ℤ) ≤ (-(min z 256 + 15)).tdiv 16 := Int.tdiv_nonneg (by omega) (by decide)
    rw [h2] at h3
    have h4 : ((min z 256 + 15).tdiv 16).toNat = 0 := Int.toNat_of_nonpos (by omega)
    omega

theorem ubOf_toInt (d : BitVec 32) : (ubOf d).toInt = (min d.toInt 256 + 15).tdiv 16 := by
  unfold ubOf
  rw [w_sub_self, w_add_zero, w_mul_one, w_div_one, w_sub_zero, w_div_one, w_add_zero', w_sub_zero]
  have hm : (Scalar.minsi d 256#32).toInt = min d.toInt 256 := by
    unfold Scalar.minsi IntOp.minsi
    rw [BitVec.slt_eq_decide, show (256#32).toInt = 256 from rfl]
    split
    · rename_i h; rw [decide_eq_true_eq] at h; omega
    · rename_i h; rw [decide_eq_true_eq] at h; rw [show (256#32).toInt = 256 from rfl]; omega
  have hd := BitVec.le_toInt d
  have ha : (Scalar.addi (Scalar.minsi d 256#32) 15#32).toInt = min d.toInt 256 + 15 := by
    show ((Scalar.minsi d 256#32) + 15#32).toInt = _
    rw [BitVec.toInt_add, hm, show (15#32).toInt = 15 from rfl]
    apply Int.bmod_eq_of_le <;> omega
  have hc : ¬ IntOp.SDivCorner (Scalar.addi (Scalar.minsi d 256#32) 15#32) 16#32 := by
    unfold IntOp.SDivCorner
    rintro (h | ⟨-, h⟩) <;> exact absurd h (by decide)
  unfold Scalar.divsi IntOp.divsi
  rw [if_neg hc, BitVec.toInt_sdiv_of_ne_or_ne _ _ (Or.inr (by decide)), ha]
  rfl

theorem trips_one (u : BitVec 32) : Scf.trips 0#32 u 1#32 = u.toInt.toNat := by
  unfold Scf.trips
  simp

theorem trips_ubOf (d : BitVec 32) : Scf.trips 0#32 (ubOf d) 1#32 = grpOf d.toInt := by
  rw [trips_one, ubOf_toInt]; rfl

theorem ok_ubOf (d : BitVec 32) : (⟨0#32, ubOf d, 1#32⟩ : Scf.Loop 32).OK := by
  unfold Scf.Loop.OK Scf.OK
  refine ⟨show (0:ℤ) < (1#32).toInt by decide, ?_⟩
  have h1 := grpOf_le d.toInt
  have h2 : Scf.trips 0#32 (ubOf d) 1#32 = grpOf d.toInt := trips_ubOf d
  rw [h2]
  show (0#32).toInt + (grpOf d.toInt : ℤ) * (1#32).toInt < 2 ^ (32 - 1)
  rw [show (0#32).toInt = 0 from rfl, show (1#32).toInt = 1 from rfl]
  omega

theorem trips_self (x : BitVec 32) : Scf.trips x x 1#32 = 0 := by unfold Scf.trips; simp

theorem ok_self (x : BitVec 32) : (⟨x, x, 1#32⟩ : Scf.Loop 32).OK := by
  unfold Scf.Loop.OK Scf.OK
  have h2 : Scf.trips x x 1#32 = 0 := trips_self x
  show 0 < (1#32).toInt ∧ x.toInt + (Scf.trips x x 1#32 : ℤ) * (1#32).toInt < 2 ^ (32 - 1)
  rw [h2]
  refine ⟨show (0:ℤ) < (1#32).toInt by decide, ?_⟩
  have := BitVec.toInt_lt (x := x)
  simpa using this

/-- The row a loop's trip `t` names, `u` rows into the trip's group of sixteen. -/
def rowW (t : ℕ) (u : BitVec 32) : BitVec 32 :=
  Scalar.addi (Scalar.muli (Scalar.addi 0#32 (Scalar.muli (Scf.iv 0#32 1#32 t) 1#32)) 16#32) u

theorem rowW_toNat (t u : ℕ) (ht : t < 16) (hu : u < 16) : (rowW t (BitVec.ofNat 32 u)).toNat = 16 * t + u := by
  unfold rowW
  rw [w_add_zero, w_mul_one]
  have : Scf.iv 0#32 1#32 t = BitVec.ofNat 32 t := by unfold Scf.iv; simp
  rw [this]
  show (BitVec.ofNat 32 t * 16#32 + BitVec.ofNat 32 u).toNat = _
  simp only [BitVec.toNat_add, BitVec.toNat_mul, BitVec.toNat_ofNat]
  omega

/-- The row's place in the whole sequence: block `kw`, row `r`. -/
theorem seqW_toNat (kw r : BitVec 32) (hk : kw.toNat ≤ 6) (hr : r.toNat < 256) :
    (Scalar.addi (Scalar.muli kw 256#32) r).toNat = 256 * kw.toNat + r.toNat := by
  show (kw * 256#32 + r).toNat = _
  simp only [BitVec.toNat_add, BitVec.toNat_mul, BitVec.toNat_ofNat]
  omega

/-- An id's row of words: a quarter of the id. -/
theorem shr2_toNat (v : BitVec 32) : (Scalar.shrui v 2#32).toNat = v.toNat / 4 := by
  unfold Scalar.shrui IntOp.shrui
  rw [if_pos (by decide), BitVec.ushiftRight_eq', BitVec.toNat_ushiftRight]
  simp [Nat.shiftRight_eq_div_pow]

end Cert.KernelIdeal.Hand
-- ==== Proof.Row.lean ====
/-
  One row of an issue loop: the id is loaded, checked, and its word row's copy started.
-/
module

public import proofs.«01_k».proof.Proof.Issue
public import proofs.«01_k».proof.Proof.Words

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

abbrev IdBuf (F : FTy → Type) [FloatOps F] (c : Dev nD) := Buf (Elt F) ((c : Thread nD τ).loc cc0_stg1_0)

/-- The ids buffer at row `b`, position `p`. -/
def idIx (b : Fin 24) (p : Fin 1536) : S24x1536.Idx := fun a => match a with | 0 => b | 1 => p

/-- The id of row `r` of block `kw` of batch row `b`. -/
def idAt {c : Dev nD} (fi : IdBuf F c) (b : Fin 24) (kw : Fin 6) (r : Fin 256) : BitVec 32 :=
  fi (idIx b ⟨256 * kw.val + r.val, by omega⟩)

/-- The word row an id lies in. -/
def quart (v : BitVec 32) : Fin 250000 := ⟨min (v.toNat / 4) 249999, by omega⟩

/-- What a slot holds once every row of block `kw` of batch row `b` has been gathered. -/
def gathered {c : Dev nD} (fw : WordBuf F c) (fi : IdBuf F c) (b : Fin 24) (kw : Fin 6) : RingBuf F c :=
  fun x => fw (wordAt (quart (idAt fi b kw (x 1))) (x 2))

/-- Every id names a row of the scales the kernel can load a whole line around. -/
def IdsOk {c : Dev nD} (fi : IdBuf F c) : Prop := ∀ x, (show BitVec 32 from fi x).toNat < 999936

theorem ids_read {o : Fin 2 → ℕ} {h : ∀ a, o a + S1x1.size a ≤ S24x1536.size a} (fi : IdBuf F c) (b : Fin 24) (kw : Fin 6) (r : Fin 256)
    (ho : o = ![b.val, 256 * kw.val + r.val]) (hp) :
    (aIds.access (Rect.unit (s := S24x1536) o S1x1.size h)).read (Elt F) fi (Shape.Idx.first hp) = idAt fi b kw r := by
  subst ho
  unfold idAt
  show fi _ = fi _
  congr 1
  funext a
  apply Fin.ext
  fin_cases a
  · show b.val + 1 * 0 = b.val; omega
  · show 256 * kw.val + r.val + 1 * 0 = 256 * kw.val + r.val; omega

theorem row_inb (v : BitVec 32) (hv : v.toNat < 999936) {o : Fin 2 → ℕ} (ho : o = ![(Scalar.shrui v 2#32).toNat, 0]) :
    ∀ a, o a + S1x256.size a ≤ S250000x256.size a := by
  subst ho
  have := shr2_toNat v
  intro a
  fin_cases a
  · show (Scalar.shrui v 2#32).toNat + 1 ≤ 250000; omega
  · show 0 + 256 ≤ 256; omega

/-- The load of one id. -/
theorem wp_ids {oi : Fin 2 → ℕ} {hi : ∀ a, oi a + S1x1.size a ≤ S24x1536.size a} {n1} {r1}
    {K : BitVec 32 → Prog (TpuEff nD τ sig (Elt F) Λ₀ .tc) α} {Q : α → sProp 𝕄}
    (fi : IdBuf F c) (b : Fin 24) (kw : Fin 6) (r : Fin 256) (hoi : oi = ![b.val, 256 * kw.val + r.val]) :
    pt c cc0_stg1_0 fi
      ⊢ iprop((pt c cc0_stg1_0 fi -∗ wp frame (wpE defs 𝒱 (c : Thread nD τ) bd) Set.univ (K (idAt fi b kw r)) Q)
        -∗ wp frame (wpE defs 𝒱 (c : Thread nD τ) bd) Set.univ
          (smemLoad aIds (Rect.unit (s := S24x1536) oi S1x1.size hi) n1 r1 >>= fun v : Elt F .i32 => K v) Q) := by
  rw [← ids_read (h := hi) c fi b kw r hoi (by rw [n1]; decide)]
  exact wp_load_rect 𝒱 (c : Thread nD τ) bd Set.univ (m := aIds) (r := Rect.unit (s := S24x1536) oi S1x1.size hi) (S := Finset.univ) (q := fullShare) (f := fi)
    (k := fun f => K (f (Shape.Idx.first _))) (Finset.subset_univ _)

theorem wp_row {oi : Fin 2 → ℕ} {hi : ∀ a, oi a + S1x1.size a ≤ S24x1536.size a} {n1} {r1}
    {P : BitVec 32 → Prop} {dec : ∀ v, Decidable (P v)}
    {o : Fin 3 → ℕ} {h : ∀ a, o a + S1x1x256.size a ≤ S3x256x256.size a}
    {o' : BitVec 32 → Fin 2 → ℕ} {h' : ∀ v, P v → ∀ a, o' v a + S1x256.size a ≤ S250000x256.size a} {sm sm' : DmaSem sig}
    {hsrc : ∀ (v : BitVec 32) (hP : P v), (hWords.slice (Rect.unit (s := S250000x256) (o' v) S1x256.size (h' v hP)) (fun _ => rfl)).view.WordExact}
    {hdst : ((sRows.slice (Rect.unit (s := S3x256x256) o S1x1x256.size h) (fun _ => rfl)).squeeze S1x256 squeezes_S1x1x256_S1x256).view.WordExact} {hsem : DmaTarget.Typed .hbm (.dma sm') (DmaTarget.here (nD := nD) (p := (Proc.tc : Proc τ)) ((sRows.slice (Rect.unit (s := S3x256x256) o S1x1x256.size h) (fun _ => rfl)).squeeze S1x256 squeezes_S1x1x256_S1x256))}
    {k : (v : BitVec 32) → PLift (P v) → PUnit → Prog (TpuEff nD τ sig (Elt F) Λ₀ .tc) α} {Q : α → sProp 𝕄}
    (s : Fin 3) (q0 : PosShare TreeShare) (fw : WordBuf F c) (fi : IdBuf F c) (f : RingBuf F c) (b : Fin 24) (kw : Fin 6) (n j : ℕ)
    (hj : j < n) (hj' : j < 256) (hfi : IdsOk fi)
    (hoi : oi = ![b.val, 256 * kw.val + j]) (ho : o = ![s.val, j, 0]) (ho' : ∀ v, o' v = ![(Scalar.shrui v 2#32).toNat, 0])
    (hP : ∀ v : BitVec 32, v.toNat < 999936 → P v) (hsm : sm' = sm) :
    iprop(pt c cc0_stg1_0 fi ∗ Filling c (.dma sm) s q0 fw (gathered fw fi b kw) f n j)
      ⊢ iprop((pt c cc0_stg1_0 fi ∗ Filling c (.dma sm) s q0 fw (gathered fw fi b kw) f n (j + 1)
            -∗ wp frame (wpE defs 𝒱 (c : Thread nD τ) bd) Set.univ (k (idAt fi b kw ⟨j, hj'⟩) ⟨hP _ (hfi _)⟩ ⟨⟩) Q)
        -∗ wp frame (wpE defs 𝒱 (c : Thread nD τ) bd) Set.univ
          (smemLoad aIds (Rect.unit (s := S24x1536) oi S1x1.size hi) n1 r1 >>= fun v : Elt F .i32 =>
            Prog.lift (TpuEff.assume (P v) (dec v)) >>= fun hh =>
            Prog.lift (.enqueueDma (hWords.slice (Rect.unit (s := S250000x256) (o' v) S1x256.size (h' v hh.down)) (fun _ => rfl))
            (.here ((sRows.slice (Rect.unit (s := S3x256x256) o S1x1x256.size h) (fun _ => rfl)).squeeze S1x256 squeezes_S1x1x256_S1x256))
            (.dma sm') (hsrc v hh.down) hdst hsem) >>= fun u => k v hh u) Q) := by
  subst hsm
  iintro ⟨Hi, HF⟩ Hk
  iapply (wp_ids 𝒱 c bd (oi := oi) (hi := hi) fi b kw ⟨j, hj'⟩ hoi) $$ Hi
  iintro Hi
  have hq : o' (idAt fi b kw ⟨j, hj'⟩) = ![(quart (idAt fi b kw ⟨j, hj'⟩)).val, 0] := by
    rw [ho', shr2_toNat]
    have : (idAt fi b kw ⟨j, hj'⟩).toNat < 999936 := hfi _
    show _ = ![min ((idAt fi b kw ⟨j, hj'⟩).toNat / 4) 249999, 0]
    rw [min_eq_left (by omega)]
  have hok : P (idAt fi b kw ⟨j, hj'⟩) := hP _ (hfi _)
  iapply (wp_assume 𝒱 (c : Thread nD τ) bd Set.univ hok)
  iapply (wp_issue_row 𝒱 c bd s q0 fw (gathered fw fi b kw) f n j hj hj' (quart (idAt fi b kw ⟨j, hj'⟩)) ho hq (fun l => rfl)) $$ HF
  iintro HF
  simp only [Prog.bind_ret]
  iapply Hk
  isplitl [Hi]; · iexact Hi
  iexact HF

/-! ## Where one row of a loop's trip lies -/

theorem off_ids {b kw t u : ℕ} {wb wk : BitVec 32} (hb : wb.toNat = b) (hk : wk.toNat = kw) (hkw : kw < 6) (ht : t < 16) (hu : u < 16) :
    (![(Scalar.indexCast wb).toNat, (Scalar.indexCast (Scalar.addi (Scalar.muli wk 256#32) (rowW t (BitVec.ofNat 32 u)))).toNat] : Fin 2 → ℕ)
      = ![b, 256 * kw + (16 * t + u)] := by
  show (![wb.toNat, (Scalar.addi (Scalar.muli wk 256#32) (rowW t (BitVec.ofNat 32 u))).toNat] : Fin 2 → ℕ) = _
  rw [seqW_toNat _ _ (by omega) (by rw [rowW_toNat _ _ ht hu]; omega), rowW_toNat _ _ ht hu, hb, hk]

theorem off_ids_first {t u : ℕ} (ht : t < 16) (hu : u < 16) :
    (![0, (Scalar.indexCast (Scalar.addi 0#32 (rowW t (BitVec.ofNat 32 u)))).toNat] : Fin 2 → ℕ) = ![0, 256 * 0 + (16 * t + u)] := by
  rw [w_add_zero]
  show (![0, (rowW t (BitVec.ofNat 32 u)).toNat] : Fin 2 → ℕ) = _
  rw [rowW_toNat _ _ ht hu, Nat.mul_zero, Nat.zero_add]

theorem off_ring {s t u : ℕ} {ws : BitVec 32} (hs : ws.toNat = s) (ht : t < 16) (hu : u < 16) :
    (![ws.toNat, (rowW t (BitVec.ofNat 32 u)).toNat, 0] : Fin 3 → ℕ) = ![s, 16 * t + u, 0] := by
  rw [rowW_toNat _ _ ht hu, hs]

/-- The semaphore of ring slot `s`. -/
def slotSem (s : Fin 3) : DmaSem sig := match s with
  | 0 => (16 : Fin 19) | 1 => (17 : Fin 19) | 2 => (18 : Fin 19)

theorem slot_sem {o : Fin 1 → ℕ} {h : ∀ a, o a + S1.size a ≤ S3.size a} (s : Fin 3) (ho : o = ![s.val]) :
    ((cc0_scratch6.slice (Rect.unit (s := S3) o S1.size h)).squeeze S_ squeezes_S1_S_).sem = slotSem s := by
  subst ho
  decide +revert +kernel

end Cert.KernelIdeal.Hand
-- ==== Proof.Gather.lean ====
/-
  One row of the loop that gathers the lines of scales around each id.
-/
module

public import proofs.«01_k».proof.Proof.Row
public import Idealize.ShloMosaic.Lib.Pipeline.Value

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

abbrev sLine : Memref sig .tc .vmem S256x128 .f32 := Memref.whole cc0_scratch1
abbrev sScl : Memref sig .tc .vmem S1000000 .f32 := Memref.whole cc0_scratch2
abbrev LineBuf (F : FTy → Type) [FloatOps F] (c : Dev nD) := Buf (Elt F) ((c : Thread nD τ).loc cc0_scratch1)
abbrev SclBuf (F : FTy → Type) [FloatOps F] (c : Dev nD) := Buf (Elt F) ((c : Thread nD τ).loc cc0_scratch2)

/-- Entry `p` of the scales. -/
def sclAt (p : ℕ) : S1000000.Idx := fun a => match a with | 0 => (⟨min p 999999, by omega⟩ : Fin 1000000)

/-- The lines' buffer once the first `j` rows of block `kw` of batch row `b` have been gathered. -/
def lineBuf {c : Dev nD} (fs : SclBuf F c) (fi : IdBuf F c) (b : Fin 24) (kw : Fin 6) (g0 : LineBuf F c) (j : ℕ) : LineBuf F c :=
  fun x => if (x 0).val < j then fs (sclAt ((idAt fi b kw (x 0)).toNat / 128 * 128 + (x 1).val)) else g0 x

theorem shr7_toNat (v : BitVec 32) : (Scalar.muli (Scalar.shrui v 7#32) 128#32).toNat = v.toNat / 128 * 128 := by
  have h : (Scalar.shrui v 7#32).toNat = v.toNat / 128 := by
    unfold Scalar.shrui IntOp.shrui
    rw [if_pos (by decide), BitVec.ushiftRight_eq', BitVec.toNat_ushiftRight]
    simp [Nat.shiftRight_eq_div_pow]
  show (Scalar.shrui v 7#32 * 128#32).toNat = _
  rw [BitVec.toNat_mul, h]
  have := v.isLt
  simp only [BitVec.toNat_ofNat]
  omega

theorem line_inb (v : BitVec 32) (hv : v.toNat < 999936) {o : Fin 1 → ℕ} (ho : o = ![(Scalar.muli (Scalar.shrui v 7#32) 128#32).toNat]) :
    ∀ a, o a + S128.size a ≤ S1000000.size a := by
  subst ho
  have := shr7_toNat v
  intro a
  fin_cases a
  show (Scalar.muli (Scalar.shrui v 7#32) 128#32).toNat + 128 ≤ 1000000
  omega

theorem off_line {t u : ℕ} (ht : t < 16) (hu : u < 16) :
    (![(Scalar.indexCast (rowW t (BitVec.ofNat 32 u))).toNat, 0] : Fin 2 → ℕ) = ![16 * t + u, 0] := by
  show (![(rowW t (BitVec.ofNat 32 u)).toNat, 0] : Fin 2 → ℕ) = _
  rw [rowW_toNat _ _ ht hu]

theorem line_dvd (v : BitVec 32) : 128 ∣ (Scalar.muli (Scalar.shrui v 7#32) 128#32).toNat := by
  rw [shr7_toNat]; exact Dvd.intro_left _ rfl

/-- The line a row's store leaves. -/
theorem line_write {o : Fin 2 → ℕ} {h : ∀ a, o a + S1x128.size a ≤ S256x128.size a}
    {o19 : Fin 1 → ℕ} {h19 : ∀ a, o19 a + S128.size a ≤ S1000000.size a}
    (fs : SclBuf F c) (fi : IdBuf F c) (b : Fin 24) (kw : Fin 6) (g0 : LineBuf F c) (j : ℕ) (hj' : j < 256) (hfi : IdsOk fi)
    (ho : o = ![j, 0]) (ho19 : o19 = ![(Scalar.muli (Scalar.shrui (idAt fi b kw ⟨j, hj'⟩) 7#32) 128#32).toNat]) :
    (sLine.access (Rect.unit (s := S256x128) o S1x128.size h)).write (Elt F) (lineBuf fs fi b kw g0 j)
        (shapeCast S1x128 (shapeCast S1x128 ((sScl.access (Rect.unit (s := S1000000) o19 S128.size h19)).read (Elt F) fs) shapeCasts_S128_S1x128) shapeCasts_S1x128_S1x128)
        Finset.univ
      = lineBuf fs fi b kw g0 (j + 1) := by
  subst ho ho19
  rw [shapeCast_self]
  have hid : (idAt fi b kw ⟨j, hj'⟩).toNat < 999936 := hfi _
  have hsh := shr7_toNat (idAt fi b kw ⟨j, hj'⟩)
  funext x
  by_cases hx : (x 0).val = j
  · have h1 : (x 1).val < 128 := (x 1).isLt
    have ex : (Rect.unit (s := S256x128) ![j, 0] S1x128.size h).emb (fun a => match a with | 0 => (⟨0, Nat.one_pos⟩ : Fin 1) | 1 => (⟨(x 1).val, h1⟩ : Fin 128)) = x := by
      funext a
      apply Fin.ext
      fin_cases a
      · show j + 1 * 0 = (x 0).val; omega
      · show 0 + 1 * (x 1).val = (x 1).val; omega
    have ew := View.write_emb_of_mem (v := sLine.access (Rect.unit (s := S256x128) ![j, 0] S1x128.size h)) (lineBuf fs fi b kw g0 j)
      (shapeCast S1x128 ((sScl.access (Rect.unit (s := S1000000) ![(Scalar.muli (Scalar.shrui (idAt fi b kw ⟨j, hj'⟩) 7#32) 128#32).toNat] S128.size h19)).read (Elt F) fs) shapeCasts_S128_S1x128)
      (Finset.mem_univ (fun a => match a with | 0 => (⟨0, Nat.one_pos⟩ : Fin 1) | 1 => (⟨(x 1).val, h1⟩ : Fin 128)))
    rw [show (sLine.access (Rect.unit (s := S256x128) ![j, 0] S1x128.size h)).emb (fun a => match a with | 0 => (⟨0, Nat.one_pos⟩ : Fin 1) | 1 => (⟨(x 1).val, h1⟩ : Fin 128)) = x from ex] at ew
    refine ew.trans ?_
    have hc : shapeCast S1x128 ((sScl.access (Rect.unit (s := S1000000) ![(Scalar.muli (Scalar.shrui (idAt fi b kw ⟨j, hj'⟩) 7#32) 128#32).toNat] S128.size h19)).read (Elt F) fs) shapeCasts_S128_S1x128
        (fun a => match a with | 0 => (⟨0, Nat.one_pos⟩ : Fin 1) | 1 => (⟨(x 1).val, h1⟩ : Fin 128))
        = (sScl.access (Rect.unit (s := S1000000) ![(Scalar.muli (Scalar.shrui (idAt fi b kw ⟨j, hj'⟩) 7#32) 128#32).toNat] S128.size h19)).read (Elt F) fs (fun a => match a with | 0 => (⟨(x 1).val, h1⟩ : Fin 128)) := by
      unfold shapeCast
      refine congrArg _ ?_
      have hr : Shape.reshapeEquiv (s := S1x128) (s' := S128) shapeCasts_S128_S1x128.symm (fun a => match a with | 0 => (⟨(x 1).val, h1⟩ : Fin 128))
          = (Fin.cons (⟨0, Nat.one_pos⟩ : Fin 1) (fun a => match a with | 0 => (⟨(x 1).val, h1⟩ : Fin 128)) : S1x128.Idx) :=
        Shape.reshapeEquiv_cons_one (d := ![128]) _ _
      have he : (fun a => match a with | 0 => (⟨0, Nat.one_pos⟩ : Fin 1) | 1 => (⟨(x 1).val, h1⟩ : Fin 128) : S1x128.Idx)
          = (Fin.cons (⟨0, Nat.one_pos⟩ : Fin 1) (fun a => match a with | 0 => (⟨(x 1).val, h1⟩ : Fin 128)) : S1x128.Idx) := by
        funext a; fin_cases a <;> rfl
      refine (congrArg _ (he.trans hr.symm)).trans ?_
      rw [Shape.reshapeEquiv_reshapeEquiv, Shape.reshapeEquiv_self]
      funext a; fin_cases a; rfl
    refine (show _ = _ from hc).trans ?_
    unfold lineBuf
    rw [if_pos (by omega)]
    have ej : x 0 = (⟨j, hj'⟩ : Fin 256) := Fin.ext hx
    show fs _ = fs _
    congr 1
    funext a
    apply Fin.ext
    fin_cases a
    show (Scalar.muli (Scalar.shrui (idAt fi b kw ⟨j, hj'⟩) 7#32) 128#32).toNat + 1 * (x 1).val = min ((idAt fi b kw (x 0)).toNat / 128 * 128 + (x 1).val) 999999
    rw [ej, hsh]
    omega
  · rw [View.write_of_not_mem _ _ _ (by
      intro hm
      obtain ⟨y, -, rfl⟩ := Finset.mem_map.1 hm
      have h0 : (y 0).val < 1 := (y 0).isLt
      exact hx (show j + 1 * (y 0).val = j by omega))]
    unfold lineBuf
    by_cases hl : (x 0).val < j
    · rw [if_pos hl, if_pos (by omega)]
    · rw [if_neg hl, if_neg (by omega)]

theorem wp_gather {oi : Fin 2 → ℕ} {hi : ∀ a, oi a + S1x1.size a ≤ S24x1536.size a} {n1} {r1}
    {P : BitVec 32 → Prop} {dec : ∀ v, Decidable (P v)}
    {o : Fin 2 → ℕ} {h : ∀ a, o a + S1x128.size a ≤ S256x128.size a}
    {o19 : BitVec 32 → Fin 1 → ℕ} {h19 : ∀ v, P v → ∀ a, o19 v a + S128.size a ≤ S1000000.size a}
    {LA : ∀ v (hh : P v), sScl.view.LoadsAt (Rect.unit (s := S1000000) (o19 v) S128.size (h19 v hh)).toLoadRect}
    {LB : sLine.view.LoadsAt (Rect.unit (s := S256x128) o S1x128.size h).toLoadRect}
    {hx : (sLine.access (Rect.unit (s := S256x128) o S1x128.size h)).Stores Finset.univ} {hm : (Finset.univ : Finset (Rect.unit (s := S256x128) o S1x128.size h).shape.Idx) = Finset.univ ∨ ∀ a, (Rect.unit (s := S256x128) o S1x128.size h).stride a = 1}
    {pay : Vec F S128 .f32 → FVec F S1x128 .f32}
    {k : (v : BitVec 32) → PLift (P v) → Vec F S128 .f32 → Vec F S1x128 .f32 → PUnit → Prog (TpuEff nD τ sig (Elt F) Λ₀ .tc) α} {Q : α → sProp 𝕄}
    (fs : SclBuf F c) (fi : IdBuf F c) (b : Fin 24) (kw : Fin 6) (g0 : LineBuf F c) (j : ℕ) (hj' : j < 256) (hfi : IdsOk fi)
    (hoi : oi = ![b.val, 256 * kw.val + j]) (ho : o = ![j, 0])
    (ho19 : ∀ v, o19 v = ![(Scalar.muli (Scalar.shrui v 7#32) 128#32).toNat])
    (hP : ∀ v : BitVec 32, v.toNat < 999936 → P v)
    (hpay : ∀ w, pay w = shapeCast S1x128 (shapeCast S1x128 w shapeCasts_S128_S1x128) shapeCasts_S1x128_S1x128) :
    iprop(pt c cc0_stg1_0 fi ∗ pt c cc0_scratch2 fs ∗ pt c cc0_scratch1 (lineBuf fs fi b kw g0 j))
      ⊢ iprop((∀ w g, pt c cc0_stg1_0 fi ∗ pt c cc0_scratch2 fs ∗ pt c cc0_scratch1 (lineBuf fs fi b kw g0 (j + 1))
            -∗ wp frame (wpE defs 𝒱 (c : Thread nD τ) bd) Set.univ (k (idAt fi b kw ⟨j, hj'⟩) ⟨hP _ (hfi _)⟩ w g ⟨⟩) Q)
        -∗ wp frame (wpE defs 𝒱 (c : Thread nD τ) bd) Set.univ
          (smemLoad aIds (Rect.unit (s := S24x1536) oi S1x1.size hi) n1 r1 >>= fun v : Elt F .i32 =>
            Prog.lift (TpuEff.assume (P v) (dec v)) >>= fun hh =>
            Prog.lift (.load sScl (Rect.unit (s := S1000000) (o19 v) S128.size (h19 v hh.down)).toLoadRect (LA v hh.down)) >>= fun w =>
            Prog.lift (.load sLine (Rect.unit (s := S256x128) o S1x128.size h).toLoadRect LB) >>= fun g =>
            Prog.lift (.store sLine (Rect.unit (s := S256x128) o S1x128.size h) (pay w) Finset.univ hx hm) >>= fun u => k v hh w g u) Q) := by
  iintro ⟨Hi, Hs, Hl⟩ Hk
  iapply (wp_ids 𝒱 c bd (oi := oi) (hi := hi) fi b kw ⟨j, hj'⟩ hoi) $$ Hi
  iintro Hi
  have hok : P (idAt fi b kw ⟨j, hj'⟩) := hP _ (hfi _)
  simp only [Prog.bind_lift]
  iapply (wp_assume 𝒱 (c : Thread nD τ) bd Set.univ hok)
  iapply (wp_load_rect 𝒱 (c : Thread nD τ) bd Set.univ (m := sScl) (r := Rect.unit (s := S1000000) (o19 (idAt fi b kw ⟨j, hj'⟩)) S128.size (h19 _ hok)) (S := Finset.univ) (q := fullShare) (f := fs) (Finset.subset_univ _)) $$ Hs
  iintro Hs
  iapply (wp_load_rect 𝒱 (c : Thread nD τ) bd Set.univ (m := sLine) (r := Rect.unit (s := S256x128) o S1x128.size h) (S := Finset.univ) (q := fullShare) (f := lineBuf fs fi b kw g0 j) (Finset.subset_univ _)) $$ Hl
  iintro Hl
  rw [hpay]
  iapply (wp_store 𝒱 (c : Thread nD τ) bd Set.univ (m := sLine) (r := Rect.unit (s := S256x128) o S1x128.size h) (S := Finset.univ) (f := lineBuf fs fi b kw g0 j) (Finset.subset_univ _)) $$ Hl
  rw [line_write c fs fi b kw g0 j hj' hfi ho (ho19 _)]
  iintro Hl
  iapply Hk
  isplitl [Hi]; · iexact Hi
  isplitl [Hs]; · iexact Hs
  iexact Hl

end Cert.KernelIdeal.Hand
-- ==== Proof.Lens.lean ====
/-
  The loads of a length and of a target's id, and the steps of the prologue that start a target row's copy and gather
  the line of scales around a target's id.
-/
module

public import proofs.«01_k».proof.Proof.Gather

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

abbrev aLens : Memref sig .tc .smem S24 .i32 := Memref.whole cc0_stg0_0
abbrev aTgt : Memref sig .tc .smem S24 .i32 := Memref.whole cc0_stg2_0
abbrev LenBuf (F : FTy → Type) [FloatOps F] (c : Dev nD) := Buf (Elt F) ((c : Thread nD τ).loc cc0_stg0_0)
abbrev TgtBuf (F : FTy → Type) [FloatOps F] (c : Dev nD) := Buf (Elt F) ((c : Thread nD τ).loc cc0_stg2_0)

def ix24 (b : Fin 24) : S24.Idx := fun a => match a with | 0 => b

/-- The length of a batch row. -/
def lenAt {c : Dev nD} (fl : LenBuf F c) (b : Fin 24) : BitVec 32 := fl (ix24 b)

/-- The targets' ids as if they were the history's, so that the steps over the history's serve them. -/
def fakeIds {c : Dev nD} (ft : TgtBuf F c) : IdBuf F c := fun x => (ft (ix24 ⟨min (x 1).val 23, by omega⟩) : BitVec 32)

def TgtsOk {c : Dev nD} (ft : TgtBuf F c) : Prop := ∀ x, (show BitVec 32 from ft x).toNat < 999936

theorem fakeIds_ok {c : Dev nD} {ft : TgtBuf F c} (h : TgtsOk ft) : IdsOk (fakeIds ft) := fun _ => h _

theorem len_read {o : Fin 1 → ℕ} {h : ∀ a, o a + S1.size a ≤ S24.size a} (fl : LenBuf F c) (b : Fin 24)
    (ho : o = ![b.val]) (hp) :
    (aLens.access (Rect.unit (s := S24) o S1.size h)).read (Elt F) fl (Shape.Idx.first hp) = lenAt fl b := by
  subst ho
  unfold lenAt
  show fl _ = fl _
  congr 1
  funext a
  apply Fin.ext
  fin_cases a
  show b.val + 1 * 0 = b.val; omega

theorem tgt_read {o : Fin 1 → ℕ} {h : ∀ a, o a + S1.size a ≤ S24.size a} (ft : TgtBuf F c) (r : Fin 256) (h24 : r.val < 24)
    (ho : o = ![r.val]) (hp) :
    (aTgt.access (Rect.unit (s := S24) o S1.size h)).read (Elt F) ft (Shape.Idx.first hp) = idAt (fakeIds ft) 0 0 r := by
  subst ho
  unfold idAt fakeIds
  show ft _ = ft _
  congr 1
  funext a
  apply Fin.ext
  fin_cases a
  show r.val + 1 * 0 = min (256 * 0 + r.val) 23; omega

/-- The load of one length. -/
theorem wp_len {oi : Fin 1 → ℕ} {hi : ∀ a, oi a + S1.size a ≤ S24.size a} {n1} {r1}
    {K : BitVec 32 → Prog (TpuEff nD τ sig (Elt F) Λ₀ .tc) α} {Q : α → sProp 𝕄}
    (fl : LenBuf F c) (b : Fin 24) (hoi : oi = ![b.val]) :
    pt c cc0_stg0_0 fl
      ⊢ iprop((pt c cc0_stg0_0 fl -∗ wp frame (wpE defs 𝒱 (c : Thread nD τ) bd) Set.univ (K (lenAt fl b)) Q)
        -∗ wp frame (wpE defs 𝒱 (c : Thread nD τ) bd) Set.univ
          (smemLoad aLens (Rect.unit (s := S24) oi S1.size hi) n1 r1 >>= fun v : Elt F .i32 => K v) Q) := by
  rw [← len_read (h := hi) c fl b hoi (by rw [n1]; decide)]
  exact wp_load_rect 𝒱 (c : Thread nD τ) bd Set.univ (m := aLens) (r := Rect.unit (s := S24) oi S1.size hi) (S := Finset.univ) (q := fullShare) (f := fl)
    (k := fun f => K (f (Shape.Idx.first _))) (Finset.subset_univ _)

/-- The load of one target's id. -/
theorem wp_tgt {oi : Fin 1 → ℕ} {hi : ∀ a, oi a + S1.size a ≤ S24.size a} {n1} {r1}
    {K : BitVec 32 → Prog (TpuEff nD τ sig (Elt F) Λ₀ .tc) α} {Q : α → sProp 𝕄}
    (ft : TgtBuf F c) (r : Fin 256) (h24 : r.val < 24) (hoi : oi = ![r.val]) :
    pt c cc0_stg2_0 ft
      ⊢ iprop((pt c cc0_stg2_0 ft -∗ wp frame (wpE defs 𝒱 (c : Thread nD τ) bd) Set.univ (K (idAt (fakeIds ft) 0 0 r)) Q)
        -∗ wp frame (wpE defs 𝒱 (c : Thread nD τ) bd) Set.univ
          (smemLoad aTgt (Rect.unit (s := S24) oi S1.size hi) n1 r1 >>= fun v : Elt F .i32 => K v) Q) := by
  rw [← tgt_read (h := hi) c ft r h24 hoi (by rw [n1]; decide)]
  exact wp_load_rect 𝒱 (c : Thread nD τ) bd Set.univ (m := aTgt) (r := Rect.unit (s := S24) oi S1.size hi) (S := Finset.univ) (q := fullShare) (f := ft)
    (k := fun f => K (f (Shape.Idx.first _))) (Finset.subset_univ _)

theorem wp_trow {oi : Fin 1 → ℕ} {hi : ∀ a, oi a + S1.size a ≤ S24.size a} {n1} {r1}
    {P : BitVec 32 → Prop} {dec : ∀ v, Decidable (P v)}
    {o : Fin 3 → ℕ} {h : ∀ a, o a + S1x1x256.size a ≤ S3x256x256.size a}
    {o' : BitVec 32 → Fin 2 → ℕ} {h' : ∀ v, P v → ∀ a, o' v a + S1x256.size a ≤ S250000x256.size a} {sm sm' : DmaSem sig}
    {hsrc : ∀ (v : BitVec 32) (hP : P v), (hWords.slice (Rect.unit (s := S250000x256) (o' v) S1x256.size (h' v hP)) (fun _ => rfl)).view.WordExact}
    {hdst : ((sRows.slice (Rect.unit (s := S3x256x256) o S1x1x256.size h) (fun _ => rfl)).squeeze S1x256 squeezes_S1x1x256_S1x256).view.WordExact} {hsem : DmaTarget.Typed .hbm (.dma sm') (DmaTarget.here (nD := nD) (p := (Proc.tc : Proc τ)) ((sRows.slice (Rect.unit (s := S3x256x256) o S1x1x256.size h) (fun _ => rfl)).squeeze S1x256 squeezes_S1x1x256_S1x256))}
    {k : (v : BitVec 32) → PLift (P v) → PUnit → Prog (TpuEff nD τ sig (Elt F) Λ₀ .tc) α} {Q : α → sProp 𝕄}
    (s : Fin 3) (q0 : PosShare TreeShare) (fw : WordBuf F c) (ft : TgtBuf F c) (f : RingBuf F c) (n j : ℕ)
    (hj : j < n) (hj' : j < 256) (h24 : j < 24) (hfi : TgtsOk ft)
    (hoi : oi = ![j]) (ho : o = ![s.val, j, 0]) (ho' : ∀ v, o' v = ![(Scalar.shrui v 2#32).toNat, 0])
    (hP : ∀ v : BitVec 32, v.toNat < 999936 → P v) (hsm : sm' = sm) :
    iprop(pt c cc0_stg2_0 ft ∗ Filling c (.dma sm) s q0 fw (gathered fw (fakeIds ft) 0 0) f n j)
      ⊢ iprop((pt c cc0_stg2_0 ft ∗ Filling c (.dma sm) s q0 fw (gathered fw (fakeIds ft) 0 0) f n (j + 1)
            -∗ wp frame (wpE defs 𝒱 (c : Thread nD τ) bd) Set.univ (k (idAt (fakeIds ft) 0 0 ⟨j, hj'⟩) ⟨hP _ (fakeIds_ok hfi _)⟩ ⟨⟩) Q)
        -∗ wp frame (wpE defs 𝒱 (c : Thread nD τ) bd) Set.univ
          (smemLoad aTgt (Rect.unit (s := S24) oi S1.size hi) n1 r1 >>= fun v : Elt F .i32 =>
            Prog.lift (TpuEff.assume (P v) (dec v)) >>= fun hh =>
            Prog.lift (.enqueueDma (hWords.slice (Rect.unit (s := S250000x256) (o' v) S1x256.size (h' v hh.down)) (fun _ => rfl))
            (.here ((sRows.slice (Rect.unit (s := S3x256x256) o S1x1x256.size h) (fun _ => rfl)).squeeze S1x256 squeezes_S1x1x256_S1x256))
            (.dma sm') (hsrc v hh.down) hdst hsem) >>= fun u => k v hh u) Q) := by
  subst hsm
  iintro ⟨Hi, HF⟩ Hk
  iapply (wp_tgt 𝒱 c bd (oi := oi) (hi := hi) ft ⟨j, hj'⟩ h24 hoi) $$ Hi
  iintro Hi
  have hq : o' (idAt (fakeIds ft) 0 0 ⟨j, hj'⟩) = ![(quart (idAt (fakeIds ft) 0 0 ⟨j, hj'⟩)).val, 0] := by
    rw [ho', shr2_toNat]
    have : (idAt (fakeIds ft) 0 0 ⟨j, hj'⟩).toNat < 999936 := fakeIds_ok hfi _
    show _ = ![min ((idAt (fakeIds ft) 0 0 ⟨j, hj'⟩).toNat / 4) 249999, 0]
    rw [min_eq_left (by omega)]
  have hok : P (idAt (fakeIds ft) 0 0 ⟨j, hj'⟩) := hP _ (fakeIds_ok hfi _)
  iapply (wp_assume 𝒱 (c : Thread nD τ) bd Set.univ hok)
  iapply (wp_issue_row 𝒱 c bd s q0 fw (gathered fw (fakeIds ft) 0 0) f n j hj hj' (quart (idAt (fakeIds ft) 0 0 ⟨j, hj'⟩)) ho hq (fun l => rfl)) $$ HF
  iintro HF
  simp only [Prog.bind_ret]
  iapply Hk
  isplitl [Hi]; · iexact Hi
  iexact HF

theorem wp_tgather {oi : Fin 1 → ℕ} {hi : ∀ a, oi a + S1.size a ≤ S24.size a} {n1} {r1}
    {P : BitVec 32 → Prop} {dec : ∀ v, Decidable (P v)}
    {o : Fin 2 → ℕ} {h : ∀ a, o a + S1x128.size a ≤ S256x128.size a}
    {o19 : BitVec 32 → Fin 1 → ℕ} {h19 : ∀ v, P v → ∀ a, o19 v a + S128.size a ≤ S1000000.size a}
    {LA : ∀ v (hh : P v), sScl.view.LoadsAt (Rect.unit (s := S1000000) (o19 v) S128.size (h19 v hh)).toLoadRect}
    {LB : sLine.view.LoadsAt (Rect.unit (s := S256x128) o S1x128.size h).toLoadRect}
    {hx : (sLine.access (Rect.unit (s := S256x128) o S1x128.size h)).Stores Finset.univ} {hm : (Finset.univ : Finset (Rect.unit (s := S256x128) o S1x128.size h).shape.Idx) = Finset.univ ∨ ∀ a, (Rect.unit (s := S256x128) o S1x128.size h).stride a = 1}
    {pay : Vec F S128 .f32 → FVec F S1x128 .f32}
    {k : (v : BitVec 32) → PLift (P v) → Vec F S128 .f32 → Vec F S1x128 .f32 → PUnit → Prog (TpuEff nD τ sig (Elt F) Λ₀ .tc) α} {Q : α → sProp 𝕄}
    (fs : SclBuf F c) (ft : TgtBuf F c) (g0 : LineBuf F c) (j : ℕ) (hj' : j < 256) (h24 : j < 24) (hfi : TgtsOk ft)
    (hoi : oi = ![j]) (ho : o = ![j, 0])
    (ho19 : ∀ v, o19 v = ![(Scalar.muli (Scalar.shrui v 7#32) 128#32).toNat])
    (hP : ∀ v : BitVec 32, v.toNat < 999936 → P v)
    (hpay : ∀ w, pay w = shapeCast S1x128 (shapeCast S1x128 w shapeCasts_S128_S1x128) shapeCasts_S1x128_S1x128) :
    iprop(pt c cc0_stg2_0 ft ∗ pt c cc0_scratch2 fs ∗ pt c cc0_scratch1 (lineBuf fs (fakeIds ft) 0 0 g0 j))
      ⊢ iprop((∀ w g, pt c cc0_stg2_0 ft ∗ pt c cc0_scratch2 fs ∗ pt c cc0_scratch1 (lineBuf fs (fakeIds ft) 0 0 g0 (j + 1))
            -∗ wp frame (wpE defs 𝒱 (c : Thread nD τ) bd) Set.univ (k (idAt (fakeIds ft) 0 0 ⟨j, hj'⟩) ⟨hP _ (fakeIds_ok hfi _)⟩ w g ⟨⟩) Q)
        -∗ wp frame (wpE defs 𝒱 (c : Thread nD τ) bd) Set.univ
          (smemLoad aTgt (Rect.unit (s := S24) oi S1.size hi) n1 r1 >>= fun v : Elt F .i32 =>
            Prog.lift (TpuEff.assume (P v) (dec v)) >>= fun hh =>
            Prog.lift (.load sScl (Rect.unit (s := S1000000) (o19 v) S128.size (h19 v hh.down)).toLoadRect (LA v hh.down)) >>= fun w =>
            Prog.lift (.load sLine (Rect.unit (s := S256x128) o S1x128.size h).toLoadRect LB) >>= fun g =>
            Prog.lift (.store sLine (Rect.unit (s := S256x128) o S1x128.size h) (pay w) Finset.univ hx hm) >>= fun u => k v hh w g u) Q) := by
  iintro ⟨Hi, Hs, Hl⟩ Hk
  iapply (wp_tgt 𝒱 c bd (oi := oi) (hi := hi) ft ⟨j, hj'⟩ h24 hoi) $$ Hi
  iintro Hi
  have hok : P (idAt (fakeIds ft) 0 0 ⟨j, hj'⟩) := hP _ (fakeIds_ok hfi _)
  simp only [Prog.bind_lift]
  iapply (wp_assume 𝒱 (c : Thread nD τ) bd Set.univ hok)
  iapply (wp_load_rect 𝒱 (c : Thread nD τ) bd Set.univ (m := sScl) (r := Rect.unit (s := S1000000) (o19 (idAt (fakeIds ft) 0 0 ⟨j, hj'⟩)) S128.size (h19 _ hok)) (S := Finset.univ) (q := fullShare) (f := fs) (Finset.subset_univ _)) $$ Hs
  iintro Hs
  iapply (wp_load_rect 𝒱 (c : Thread nD τ) bd Set.univ (m := sLine) (r := Rect.unit (s := S256x128) o S1x128.size h) (S := Finset.univ) (q := fullShare) (f := lineBuf fs (fakeIds ft) 0 0 g0 j) (Finset.subset_univ _)) $$ Hl
  iintro Hl
  rw [hpay]
  iapply (wp_store 𝒱 (c : Thread nD τ) bd Set.univ (m := sLine) (r := Rect.unit (s := S256x128) o S1x128.size h) (S := Finset.univ) (f := lineBuf fs (fakeIds ft) 0 0 g0 j) (Finset.subset_univ _)) $$ Hl
  rw [line_write c fs (fakeIds ft) 0 0 g0 j hj' (fakeIds_ok hfi) ho (ho19 _)]
  iintro Hl
  iapply Hk
  isplitl [Hi]; · iexact Hi
  isplitl [Hs]; · iexact Hs
  iexact Hl

end Cert.KernelIdeal.Hand
-- ==== Proof.Wait.lean ====
/-
  The waits on a slot's copies, and what the slot is once they are all over.
-/
module

public import proofs.«01_k».proof.Proof.Row

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

/-- The core owes nothing, whatever it has waited for. -/
def noDebt (c : Dev nD) : sProp 𝕄 := iprop(∃ W, owes (c : Thread nD τ) 0 W)

theorem wp_wait_row {o : Fin 3 → ℕ} {h : ∀ a, o a + S1x1x256.size a ≤ S3x256x256.size a}
    {o' : Fin 2 → ℕ} {h' : ∀ a, o' a + S1x256.size a ≤ S250000x256.size a} {sm sm' : DmaSem sig}
    {hsrc : (hWords.slice (Rect.unit (s := S250000x256) o' S1x256.size h') (fun _ => rfl)).view.WordExact}
    {hdst : ((sRows.slice (Rect.unit (s := S3x256x256) o S1x1x256.size h) (fun _ => rfl)).squeeze S1x256 squeezes_S1x1x256_S1x256).view.WordExact}
    {k : PUnit → Prog (TpuEff nD τ sig (Elt F) Λ₀ .tc) α} {Q : α → sProp 𝕄}
    (s : ℕ) (q0 : PosShare TreeShare) (fw : WordBuf F c) (G : RingBuf F c) (n j : ℕ) (hj : j < n) (hsm : sm' = sm) :
    iprop(RowBatch c (.dma sm) s q0 fw G n n (rowN * j) ∗ noDebt c)
      ⊢ iprop((RowBatch c (.dma sm) s q0 fw G n n (rowN * (j + 1)) ∗ noDebt c
            -∗ wp frame (wpE defs 𝒱 (c : Thread nD τ) bd) Set.univ (k ⟨⟩) Q)
        -∗ wp frame (wpE defs 𝒱 (c : Thread nD τ) bd) Set.univ
          (Prog.lift (.waitDma2 sm' (hWords.slice (Rect.unit (s := S250000x256) o' S1x256.size h') (fun _ => rfl))
            ((sRows.slice (Rect.unit (s := S3x256x256) o S1x1x256.size h) (fun _ => rfl)).squeeze S1x256 squeezes_S1x1x256_S1x256) hsrc hdst) >>= fun u => k u) Q) := by
  subst hsm
  unfold noDebt
  iintro ⟨HB, %W, HO⟩ Hk
  simp only [Prog.bind_lift]
  have hu : rowN * j + 1 * rowN ≤ rowN * n := by
    have : rowN * (j + 1) ≤ rowN * n := Nat.mul_le_mul_left _ hj
    rw [Nat.mul_succ] at this; omega
  iapply (wp_waitBatchMul EC 𝒱 (c : Thread nD τ) bd
    (dstw := ((sRows.slice (Rect.unit (s := S3x256x256) o S1x1x256.size h) (fun _ => rfl)).squeeze S1x256 squeezes_S1x1x256_S1x256)) () (N := rowN) 1 (Nat.one_mul _).symm hu) $$ [HB HO]
  · isplitl [HB]; · iexact HB
    iexact HO
  rw [show rowN * j + 1 * rowN = rowN * (j + 1) by rw [Nat.mul_succ]; omega]
  iintro ⟨HB, HO⟩
  iapply Hk
  isplitl [HB]; · iexact HB
  iexists _
  iexact HO

/-- An idle slot: the whole of it, its semaphore at rest and its share of the word array. -/
def Idle (c : Dev nD) (s : Fin 3) (q0 : PosShare TreeShare) (fw : WordBuf F c) (f : RingBuf F c) : sProp 𝕄 :=
  iprop((((c : Thread nD τ).loc cc0_scratch0) ↦[rowsSet s 0 256]{fullShare} f)
    ∗ (((c : Thread nD τ).loc main_v2) ↦{q0} fw) ∗ semVal ((c : Thread nD τ), .dma (slotSem s)) 0)

/-- The rows below `n` gathered, the rest as they were. -/
def filled {c : Dev nD} (G f : RingBuf F c) (n : ℕ) : RingBuf F c := fun x => if (x 1).val < n then G x else f x

/-- An idle slot's batch opens: nothing of its block has started. -/
theorem idle_open (s : Fin 3) (q0 : PosShare TreeShare) (fw : WordBuf F c) (G f : RingBuf F c) (n : ℕ) {E : Set ℕ} :
    Idle c s q0 fw f ⊢ (|={E}=> Filling c (.dma (slotSem s)) s q0 fw G f n 0 : sProp 𝕄) := by
  unfold Idle Filling RowBatch
  iintro ⟨Hr, Hw, Hv⟩
  imod (batch_alloc' EC (c : Thread nD τ) () rowN (rowDeliv c s q0 fw G n) (E := E)) $$ Hv with HB
  imodintro
  isplitl [Hr]; · iexact Hr
  isplitl [Hw]; · iexact Hw
  iexact HB

/-- A full batch all of whose units have been waited for gives the slot back. -/
theorem idle_close (s : Fin 3) (q0 : PosShare TreeShare) (fw : WordBuf F c) (G f : RingBuf F c) (n : ℕ) (hn : n ≤ 256) :
    iprop((((c : Thread nD τ).loc cc0_scratch0) ↦[rowsSet s n 256]{fullShare} f)
      ∗ (((c : Thread nD τ).loc main_v2) ↦{shareDrop q0 n} fw) ∗ RowBatch c (.dma (slotSem s)) s q0 fw G n n (rowN * n))
      ⊢ (|={Set.univ}=> Idle c s q0 fw (filled G f n) : sProp 𝕄) := by
  unfold RowBatch
  iintro ⟨Hr, Hw, HB⟩
  imod (batch_collect' EC (c : Thread nD τ) rowN_pos) $$ HB with ⟨HD, Hv⟩
  imodintro
  have hD : bigSep Finset.univ (rowDeliv c s q0 fw G n)
      ⊢ iprop(((((c : Thread nD τ).loc cc0_scratch0) ↦[rowsSet s 0 n]{fullShare} G))
        ∗ bigSep Finset.univ (fun i : Fin n => ((c : Thread nD τ).loc main_v2) ↦{shareTok q0 n i} fw) : sProp 𝕄) := by
    have he : bigSep Finset.univ (rowDeliv c s q0 fw G n)
        = iprop(bigSep Finset.univ (fun t : Fin n => ((c : Thread nD τ).loc cc0_scratch0) ↦[rowsSet s t.val (t.val + 1)]{fullShare} G)
          ∗ bigSep Finset.univ (fun i : Fin n => ((c : Thread nD τ).loc main_v2) ↦{shareTok q0 n i} fw) : sProp 𝕄) := by
      exact BI.bigSep_sep _ (fun t : Fin n => ((c : Thread nD τ).loc cc0_scratch0) ↦[rowsSet s t.val (t.val + 1)]{fullShare} G) (fun i : Fin n => ((c : Thread nD τ).loc main_v2) ↦{shareTok q0 n i} fw)
    have hd : ∀ t ∈ (Finset.univ : Finset (Fin n)), ∀ t' ∈ (Finset.univ : Finset (Fin n)), t ≠ t' →
        Disjoint (rowsSet s t.val (t.val + 1)) (rowsSet s t'.val (t'.val + 1)) := fun t _ t' _ hne => by
      rw [Finset.disjoint_left]; intro x hx hx'
      rw [mem_rowsSet] at hx hx'
      exact hne (Fin.ext (by omega))
    have hset : (Finset.univ : Finset (Fin n)).biUnion (fun t => rowsSet s t.val (t.val + 1)) = rowsSet s 0 n := by
      ext x
      simp only [Finset.mem_biUnion, Finset.mem_univ, _root_.true_and, mem_rowsSet]
      constructor
      · rintro ⟨t, h0, h1, h2⟩; have := t.isLt; omega
      · rintro ⟨h0, h1, h2⟩; exact ⟨⟨(x 1).val, h2⟩, h0, le_rfl, Nat.lt_succ_self _⟩
    have hj := pointsTo_biUnion (Finset.univ : Finset (Fin n)) (fun t => rowsSet s t.val (t.val + 1)) hd (q := fullShare) (f := G)
      (Ix := Unit) (Name := ℕ) (U := Pipeline.UD sig nD τ) (Lvl := ℕ) (ℓ := (c : Thread nD τ).loc cc0_scratch0)
    rw [hset] at hj
    rw [he, hj]
  ihave HD' := hD $$ HD
  icases HD' with ⟨HG, Ht⟩
  unfold Idle
  isplitl [Hr HG]
  · have hu : iprop(((((c : Thread nD τ).loc cc0_scratch0) ↦[rowsSet s 0 n]{fullShare} G)) ∗ (((c : Thread nD τ).loc cc0_scratch0) ↦[rowsSet s n 256]{fullShare} f))
        ⊢ (((c : Thread nD τ).loc cc0_scratch0) ↦[rowsSet s 0 256]{fullShare} (filled G f n) : sProp 𝕄) := by
      rw [show rowsSet s 0 256 = rowsSet s 0 n ∪ rowsSet s n 256 by ext x; simp only [Finset.mem_union, mem_rowsSet]; omega]
      rw [pointsTo_congr (f := G) (g := filled G f n) (fun x hx => by rw [mem_rowsSet] at hx; unfold filled; rw [if_pos hx.2.2]),
        pointsTo_congr (f := f) (g := filled G f n) (fun x hx => by rw [mem_rowsSet] at hx; unfold filled; rw [if_neg (by omega)])]
      exact (pointsTo_union rowsSet_disj).2
    iapply hu
    isplitl [HG]; · iexact HG
    iexact Hr
  isplitl [Hw Ht]
  · iapply (pointsTo_toks_join q0 n)
    isplitl [Hw]; · iexact Hw
    iexact Ht
  iexact Hv

end Cert.KernelIdeal.Hand
-- ==== Proof.Positions.lean ====
/-
  The order in which the kernel takes the blocks: for each batch row its blocks of 256 history rows, one block at
  least. `pos i` is the i-th (batch row, block); a row past the last is written 24.
-/
module

public import proofs.«01_k».proof.Proof.Words

@[expose] public section

noncomputable section

namespace Cert.KernelIdeal.Hand

open Idealize.ShloMosaic

/-- The number of blocks a length needs, as the kernel computes it. -/
def nbW (v : BitVec 32) : BitVec 32 := Scalar.maxsi (Scalar.divsi (Scalar.addi v 255#32) 256#32) 1#32

/-- The next batch row and the next block, as the kernel computes them from the length of the batch row. -/
def advB (v b k : BitVec 32) : BitVec 32 :=
  Scalar.select (Scalar.cmpi .slt b 24#32) (Scalar.select (Scalar.cmpi .sge (Scalar.addi k 1#32) (nbW v)) (Scalar.addi (Scalar.minsi b 23#32) 1#32) (Scalar.minsi b 23#32)) 24#32
def advK (v k : BitVec 32) : BitVec 32 :=
  Scalar.select (Scalar.cmpi .sge (Scalar.addi k 1#32) (nbW v)) 0#32 (Scalar.addi k 1#32)

theorem w_select {α : Type} (b : Bool) (x y : α) : Scalar.select (BitVec.ofBool b) x y = if b then x else y := by
  cases b <;> rfl

theorem toInt_small {x : BitVec 32} (h : x.toNat < 1000) : x.toInt = x.toNat := by
  rw [BitVec.toInt_eq_toNat_cond, if_pos (by omega)]

/-- A length that fits the history: what the precondition grants. -/
def LenOk (v : BitVec 32) : Prop := v.toInt ≤ 1536

theorem nbW_toInt {v : BitVec 32} (hv : LenOk v) : (nbW v).toInt = max ((v.toInt + 255).tdiv 256) 1 := by
  unfold LenOk at hv
  have hl := BitVec.le_toInt v
  have ha : (Scalar.addi v 255#32).toInt = v.toInt + 255 := by
    show (v + 255#32).toInt = _
    rw [BitVec.toInt_add, show (255#32).toInt = 255 from rfl]
    apply Int.bmod_eq_of_le <;> omega
  have hc : ¬ IntOp.SDivCorner (Scalar.addi v 255#32) 256#32 := by
    unfold IntOp.SDivCorner
    rintro (h | ⟨-, h⟩) <;> exact absurd h (by decide)
  have hd : (Scalar.divsi (Scalar.addi v 255#32) 256#32).toInt = (v.toInt + 255).tdiv 256 := by
    unfold Scalar.divsi IntOp.divsi
    rw [if_neg hc, BitVec.toInt_sdiv_of_ne_or_ne _ _ (Or.inr (by decide)), ha]
    rfl
  unfold nbW Scalar.maxsi IntOp.maxsi
  rw [BitVec.slt_eq_decide, hd, show (1#32).toInt = 1 from rfl]
  split
  · rename_i h; rw [decide_eq_true_eq] at h; rw [hd]; omega
  · rename_i h; rw [decide_eq_true_eq] at h; rw [show (1#32).toInt = 1 from rfl]; omega

theorem nbW_bounds {v : BitVec 32} (hv : LenOk v) : 1 ≤ (nbW v).toNat ∧ (nbW v).toNat ≤ 6 := by
  have h := nbW_toInt hv
  unfold LenOk at hv
  have h2 : (v.toInt + 255).tdiv 256 ≤ 6 := by
    rcases le_or_gt 0 (v.toInt + 255) with hp | hp
    · rw [Int.tdiv_eq_ediv_of_nonneg hp]; omega
    · have h3 := Int.neg_tdiv (v.toInt + 255) 256
      have h4 : (0:ℤ) ≤ (-(v.toInt + 255)).tdiv 256 := Int.tdiv_nonneg (by omega) (by decide)
      omega
  have h5 : (nbW v).toInt = (nbW v).toNat := by
    rw [BitVec.toInt_eq_toNat_cond] at h ⊢
    split
    · rfl
    · rename_i hh; rw [if_neg hh] at h; omega
  omega

/-- The number of blocks of a batch row. -/
def nb (v : BitVec 32) : ℕ := (nbW v).toNat

/-- A batch row number kept below 24. -/
def fin24 (b : ℕ) : Fin 24 := ⟨min b 23, by omega⟩
def fin6 (k : ℕ) : Fin 6 := ⟨min k 5, by omega⟩

theorem sge_nb {v k : BitVec 32} (hv : LenOk v) (hk : k.toNat < 6) :
    Scalar.cmpi .sge (Scalar.addi k 1#32) (nbW v) = BitVec.ofBool (decide (nb v ≤ k.toNat + 1)) := by
  have hb := nbW_bounds hv
  have ha : (Scalar.addi k 1#32).toNat = k.toNat + 1 := by
    show (k + 1#32).toNat = _
    simp only [BitVec.toNat_add, BitVec.toNat_ofNat]; omega
  unfold Scalar.cmpi IntOp.cmpi
  congr 1
  simp only [BitVec.sle_eq_decide]
  rw [toInt_small (x := nbW v) (by omega), toInt_small (x := Scalar.addi k 1#32) (by omega), ha]
  unfold nb
  rw [decide_eq_decide]; omega

/-- The next position. -/
def stepPos (L : Fin 24 → BitVec 32) (p : ℕ × ℕ) : ℕ × ℕ :=
  (if p.1 < 24 then (if nb (L (fin24 p.1)) ≤ p.2 + 1 then p.1 + 1 else p.1) else 24, if nb (L (fin24 p.1)) ≤ p.2 + 1 then 0 else p.2 + 1)

def pos (L : Fin 24 → BitVec 32) : ℕ → ℕ × ℕ
  | 0 => (0, 0)
  | i + 1 => stepPos L (pos L i)

/-- The blocks of the batch rows before `b`. -/
def pre (L : Fin 24 → BitVec 32) : ℕ → ℕ
  | 0 => 0
  | b + 1 => pre L b + nb (L (fin24 b))

variable {L : Fin 24 → BitVec 32} (hL : ∀ b, LenOk (L b))

theorem slt_24 {b : BitVec 32} (hb : b.toNat ≤ 24) : Scalar.cmpi .slt b 24#32 = BitVec.ofBool (decide (b.toNat < 24)) := by
  unfold Scalar.cmpi IntOp.cmpi
  congr 1
  simp only [BitVec.slt_eq_decide]
  rw [toInt_small (x := b) (by omega), show (24#32).toInt = 24 from rfl, decide_eq_decide]; omega

theorem min_23 {b : BitVec 32} (hb : b.toNat ≤ 24) : (Scalar.minsi b 23#32).toNat = (fin24 b.toNat).val := by
  unfold Scalar.minsi IntOp.minsi fin24
  rw [BitVec.slt_eq_decide, toInt_small (x := b) (by omega), show (23#32).toInt = 23 from rfl]
  show _ = min b.toNat 23
  split
  · rename_i h; rw [decide_eq_true_eq] at h; omega
  · rename_i h; rw [decide_eq_true_eq] at h; rw [show (23#32).toNat = 23 from rfl]; omega

include hL in
theorem adv_toNat {b k : BitVec 32} (hb : b.toNat ≤ 24) (hk : k.toNat < 6) :
    ((advB (L (fin24 b.toNat)) b k).toNat, (advK (L (fin24 b.toNat)) k).toNat) = stepPos L (b.toNat, k.toNat) := by
  have ha : (Scalar.addi k 1#32).toNat = k.toNat + 1 := by
    show (k + 1#32).toNat = _
    simp only [BitVec.toNat_add, BitVec.toNat_ofNat]; omega
  have hm := min_23 hb
  have hm1 : (Scalar.addi (Scalar.minsi b 23#32) 1#32).toNat = (fin24 b.toNat).val + 1 := by
    show (Scalar.minsi b 23#32 + 1#32).toNat = _
    have := (fin24 b.toNat).isLt
    simp only [BitVec.toNat_add, BitVec.toNat_ofNat]; omega
  have hf : b.toNat < 24 → (fin24 b.toNat).val = b.toNat := fun h => by show min b.toNat 23 = _; omega
  unfold advB advK stepPos
  rw [slt_24 hb, sge_nb (hL _) hk, w_select, w_select, w_select]
  simp only [decide_eq_true_eq]
  by_cases h1 : b.toNat < 24
  · rw [if_pos h1, if_pos h1]
    by_cases h2 : nb (L (fin24 b.toNat)) ≤ k.toNat + 1
    · simp only [if_pos h2]; rw [hm1, hf h1]; rfl
    · simp only [if_neg h2]; rw [hm, hf h1, ha]
  · rw [if_neg h1, if_neg h1]
    by_cases h2 : nb (L (fin24 b.toNat)) ≤ k.toNat + 1
    · simp only [if_pos h2]; rfl
    · simp only [if_neg h2]; rw [ha]; rfl

include hL in
theorem pos_facts (i : ℕ) : (pos L i).1 ≤ 24 ∧ (pos L i).2 < 6
    ∧ ((pos L i).1 < 24 → pre L (pos L i).1 + (pos L i).2 = i ∧ (pos L i).2 < nb (L (fin24 (pos L i).1)))
    ∧ ((pos L i).1 = 24 → pre L 24 ≤ i) := by
  induction i with
  | zero =>
    refine ⟨Nat.zero_le _, (by decide : 0 < 6), fun _ => ⟨rfl, ?_⟩, fun h => absurd h (by decide : ¬ 0 = 24)⟩
    exact (nbW_bounds (hL _)).1
  | succ i ih =>
    obtain ⟨h1, h2, h3, h4⟩ := ih
    have hb := nbW_bounds (hL (fin24 (pos L i).1))
    show (stepPos L (pos L i)).1 ≤ 24 ∧ (stepPos L (pos L i)).2 < 6 ∧ ((stepPos L (pos L i)).1 < 24 → pre L (stepPos L (pos L i)).1 + (stepPos L (pos L i)).2 = i + 1 ∧ (stepPos L (pos L i)).2 < nb (L (fin24 (stepPos L (pos L i)).1))) ∧ ((stepPos L (pos L i)).1 = 24 → pre L 24 ≤ i + 1)
    generalize pos L i = p at *
    obtain ⟨b, k⟩ := p
    dsimp only at h1 h2 h3 h4 hb
    unfold stepPos
    dsimp only
    have hnb : nb (L (fin24 b)) = (nbW (L (fin24 b))).toNat := rfl
    by_cases hlt : b < 24
    · obtain ⟨h5, h6⟩ := h3 hlt
      rw [if_pos hlt]
      by_cases hk : nb (L (fin24 b)) ≤ k + 1
      · rw [if_pos hk, if_pos hk]
        have hp : pre L (b + 1) = i + 1 := by show pre L b + nb (L (fin24 b)) = i + 1; omega
        refine ⟨by omega, by decide, fun _ => ⟨by omega, (nbW_bounds (hL _)).1⟩, fun h => ?_⟩
        rw [← h, hp]
      · rw [if_neg hk, if_neg hk]
        exact ⟨by omega, by omega, fun _ => ⟨by omega, by omega⟩, fun h => by omega⟩
    · rw [if_neg hlt]
      have : b = 24 := by omega
      have h7 := h4 this
      refine ⟨le_rfl, ?_, fun h => absurd h (by decide), fun _ => by omega⟩
      split
      · decide
      · omega

theorem pre_mono {a b : ℕ} (h : a ≤ b) : pre L a ≤ pre L b := by
  induction h with
  | refl => exact le_rfl
  | step _ ih => exact ih.trans (Nat.le_add_right _ _)

include hL in
/-- Before all blocks are done, the position is a batch row's. -/
theorem pos_lt {i : ℕ} (h : i < pre L 24) : (pos L i).1 < 24 := by
  obtain ⟨h1, -, -, h4⟩ := pos_facts hL i
  rcases Nat.lt_or_ge (pos L i).1 24 with h5 | h5
  · exact h5
  · have := h4 (by omega); omega

include hL in
/-- Afterwards there is none left. -/
theorem pos_end {i : ℕ} (h : pre L 24 ≤ i) : (pos L i).1 = 24 := by
  obtain ⟨h1, -, h3, -⟩ := pos_facts hL i
  rcases Nat.lt_or_ge (pos L i).1 24 with h5 | h5
  · obtain ⟨h6, h7⟩ := h3 h5
    have h8 : pre L ((pos L i).1 + 1) ≤ pre L 24 := pre_mono (by omega)
    have h9 : pre L ((pos L i).1 + 1) = pre L (pos L i).1 + nb (L (fin24 (pos L i).1)) := rfl
    omega
  · omega

include hL in
theorem pre_le (b : ℕ) : pre L b ≤ 6 * b := by
  induction b with
  | zero => exact le_rfl
  | succ b ih =>
    have := (nbW_bounds (hL (fin24 b))).2
    show pre L b + nb (L (fin24 b)) ≤ _
    unfold nb; omega

include hL in
theorem pre_add {b : ℕ} (hb : b < 24) {acc : BitVec 32} (ha : acc.toNat = pre L b) :
    (Scalar.addi acc (nbW (L (fin24 b)))).toNat = pre L (b + 1) := by
  have h1 := pre_le hL b
  have h2 := (nbW_bounds (hL (fin24 b))).2
  show (acc + nbW (L (fin24 b))).toNat = pre L b + (nbW (L (fin24 b))).toNat
  rw [BitVec.toNat_add, ha]; omega

end Cert.KernelIdeal.Hand
-- ==== Proof.Slots.lean ====
/-
  What a ring slot holds while the kernel runs, and small rules for loads, stores and cuts in a program.
-/
module

public import proofs.«01_k».proof.Proof.Lens
public import proofs.«01_k».proof.Proof.Wait
public import proofs.«01_k».proof.Proof.Positions

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

/-- A program's front part run to a condition that the rest starts from. -/
theorem wp_cut {β : Type} {p : Prog (TpuEff nD τ sig (Elt F) Λ₀ .tc) β} {k : β → Prog (TpuEff nD τ sig (Elt F) Λ₀ .tc) α} {Q : α → sProp 𝕄}
    {P : sProp 𝕄} {Φ : β → sProp 𝕄} (h : P ⊢ wp frame (wpE defs 𝒱 (c : Thread nD τ) bd) Set.univ p Φ) :
    P ⊢ iprop((∀ a, Φ a -∗ wp frame (wpE defs 𝒱 (c : Thread nD τ) bd) Set.univ (k a) Q)
      -∗ wp frame (wpE defs 𝒱 (c : Thread nD τ) bd) Set.univ (p >>= k) Q) := by
  rw [wp_bind]
  exact h.trans (wp_wand _ _ _)

/-- A branch whose condition holds, and one whose condition fails. -/
theorem wp_if_pos {C : Prop} [Decidable C] (hc : C) {t : C → Prog (TpuEff nD τ sig (Elt F) Λ₀ .tc) α} {e : ¬ C → Prog (TpuEff nD τ sig (Elt F) Λ₀ .tc) α} {Q : α → sProp 𝕄} :
    wp frame (wpE defs 𝒱 (c : Thread nD τ) bd) Set.univ (t hc) Q ⊢ wp frame (wpE defs 𝒱 (c : Thread nD τ) bd) Set.univ (dite C t e) Q := by
  rw [dif_pos hc]
theorem wp_if_neg {C : Prop} [Decidable C] (hc : ¬ C) {t : C → Prog (TpuEff nD τ sig (Elt F) Λ₀ .tc) α} {e : ¬ C → Prog (TpuEff nD τ sig (Elt F) Λ₀ .tc) α} {Q : α → sProp 𝕄} :
    wp frame (wpE defs 𝒱 (c : Thread nD τ) bd) Set.univ (e hc) Q ⊢ wp frame (wpE defs 𝒱 (c : Thread nD τ) bd) Set.univ (dite C t e) Q := by
  rw [dif_neg hc]

/-- A load at offsets known to be others. -/
theorem wp_ld {cs : CoreSpace} {s : Shape} {e : EltTy} (m : Memref sig .tc cs s e) {sz : Fin s.rank → ℕ} (o o' : Fin s.rank → ℕ) (ho : o = o')
    (h : ∀ a, o a + sz a ≤ s.size a) (h' : ∀ a, o' a + sz a ≤ s.size a)
    {hl : m.view.LoadsAt (Rect.unit (s := s) o sz h).toLoadRect} {S : Finset (Idx (m.view.loc (c : Thread nD τ)))} {q : PosShare TreeShare}
    {f : Buf (Elt F) (m.view.loc (c : Thread nD τ))} (hS : (m.access (Rect.unit (s := s) o' sz h')).set ⊆ S)
    {k : (Shape.Idx ⟨s.rank, sz⟩ → Elt F e) → Prog (TpuEff nD τ sig (Elt F) Λ₀ .tc) α} {Q : α → sProp 𝕄} :
    (m.view.loc (c : Thread nD τ) ↦[S]{q} f)
      ⊢ iprop(((m.view.loc (c : Thread nD τ) ↦[S]{q} f) -∗ wp frame (wpE defs 𝒱 (c : Thread nD τ) bd) Set.univ (k ((m.access (Rect.unit (s := s) o' sz h')).read (Elt F) f)) Q)
        -∗ wp frame (wpE defs 𝒱 (c : Thread nD τ) bd) Set.univ (Prog.lift (.load m (Rect.unit (s := s) o sz h).toLoadRect hl) >>= k) Q) := by
  subst ho
  exact wp_load_rect 𝒱 (c : Thread nD τ) bd Set.univ (m := m) (r := Rect.unit (s := s) o sz h) (S := S) (q := q) (f := f) (k := k) hS

/-- A store at offsets known to be others. -/
theorem wp_st {cs : CoreSpace} {s : Shape} {e : EltTy} (m : Memref sig .tc cs s e) {sz : Fin s.rank → ℕ} (o o' : Fin s.rank → ℕ) (ho : o = o')
    (h : ∀ a, o a + sz a ≤ s.size a) (h' : ∀ a, o' a + sz a ≤ s.size a) {w : Shape.Idx ⟨s.rank, sz⟩ → Elt F e}
    {hx : (m.access (Rect.unit (s := s) o sz h)).Stores Finset.univ} {hm}
    {f : Buf (Elt F) (m.view.loc (c : Thread nD τ))}
    {k : PUnit → Prog (TpuEff nD τ sig (Elt F) Λ₀ .tc) α} {Q : α → sProp 𝕄} :
    (m.view.loc (c : Thread nD τ) ↦{fullShare} f)
      ⊢ iprop(((m.view.loc (c : Thread nD τ) ↦{fullShare} ((m.access (Rect.unit (s := s) o' sz h')).write (Elt F) f w Finset.univ)) -∗ wp frame (wpE defs 𝒱 (c : Thread nD τ) bd) Set.univ (k ⟨⟩) Q)
        -∗ wp frame (wpE defs 𝒱 (c : Thread nD τ) bd) Set.univ (Prog.lift (.store m (Rect.unit (s := s) o sz h) w Finset.univ hx hm) >>= k) Q) := by
  subst ho
  exact wp_store 𝒱 (c : Thread nD τ) bd Set.univ (m := m) (r := Rect.unit (s := s) o sz h) (S := Finset.univ) (f := f) (k := k) (Finset.subset_univ _)

/-! ## The slots -/

theorem iv_ofNat (t : ℕ) : Scf.iv 0#32 1#32 t = BitVec.ofNat 32 t := by
  unfold Scf.iv
  rw [BitVec.mul_one, BitVec.zero_add]

theorem rem3 {t : ℕ} (ht : t < 1000) : (Scalar.remsi (BitVec.ofNat 32 t) 3#32).toNat = t % 3 := by
  have hc : ¬ IntOp.SDivCorner (BitVec.ofNat 32 t) 3#32 := by
    unfold IntOp.SDivCorner
    rintro (h | ⟨-, h⟩) <;> exact absurd h (by decide)
  unfold Scalar.remsi IntOp.remsi
  rw [if_neg hc]
  have h1 : (BitVec.ofNat 32 t).msb = false := by
    rw [BitVec.msb_eq_false_iff_two_mul_lt, BitVec.toNat_ofNat]; omega
  rw [BitVec.srem_eq, h1, show (3#32).msb = false from rfl]
  show (BitVec.ofNat 32 t % 3#32).toNat = _
  rw [BitVec.toNat_umod, BitVec.toNat_ofNat, show (3#32).toNat = 3 from rfl]
  omega

theorem iv_rem {t : ℕ} (ht : t < 900) : (Scalar.remsi (Scf.iv 0#32 1#32 t) 3#32).toNat = t % 3 := by
  rw [iv_ofNat]; exact rem3 (by omega)

theorem iv_rem2 {t : ℕ} (ht : t < 900) : (Scalar.remsi (Scalar.addi (Scf.iv 0#32 1#32 t) 2#32) 3#32).toNat = (t + 2) % 3 := by
  rw [iv_ofNat, show Scalar.addi (BitVec.ofNat 32 t) 2#32 = BitVec.ofNat 32 (t + 2) from (BitVec.ofNat_add t 2).symm]
  exact rem3 (by omega)

def fin3 (i : ℕ) : Fin 3 := ⟨i % 3, Nat.mod_lt _ (by decide)⟩

theorem fin3_add (i : ℕ) : fin3 (i + 3) = fin3 i := Fin.ext (by show (i + 3) % 3 = i % 3; omega)

theorem ofNat_toNat' {n : ℕ} (h : n < 1000) : (BitVec.ofNat 32 n).toNat = n := by rw [BitVec.toNat_ofNat]; omega
theorem eq_ofNat {x : BitVec 32} {n : ℕ} (h : x.toNat = n) : x = BitVec.ofNat 32 n := by
  subst h; rw [BitVec.ofNat_toNat, BitVec.setWidth_eq]

/-- The rows the kernel gathers of block `k` of a batch row of length `v`: whole groups of sixteen. -/
def rowsOf (v : BitVec 32) (k : ℕ) : ℕ := 16 * grpOf (Scalar.subi v (Scalar.muli (BitVec.ofNat 32 k) 256#32)).toInt

theorem rowsOf_le (v : BitVec 32) (k : ℕ) : rowsOf v k ≤ 256 := by
  unfold rowsOf; have := grpOf_le (Scalar.subi v (Scalar.muli (BitVec.ofNat 32 k) 256#32)).toInt; omega

/-- A slot with a position's block on its way, or idle when there is no such block. -/
def SlotF (c : Dev nD) (q : Fin 3 → PosShare TreeShare) (fl : LenBuf F c) (fi : IdBuf F c) (fw : WordBuf F c) (s : Fin 3) (p : ℕ × ℕ) : sProp 𝕄 :=
  if p.1 < 24 then
    iprop(∃ f, Filling c (.dma (slotSem s)) s (q s) fw (gathered fw fi (fin24 p.1) (fin6 p.2)) f (rowsOf (lenAt fl (fin24 p.1)) p.2) (rowsOf (lenAt fl (fin24 p.1)) p.2))
  else iprop(∃ f, Idle c s (q s) fw f)

theorem cond2_iff : ∀ b : Fin 25, k0_cond2 (BitVec.ofNat 32 b.val) = 1#1 ↔ b.val < 24 := by decide

theorem rowsSet_slot {o : Fin 3 → ℕ} {h : ∀ a, o a + S1x256x256.size a ≤ S3x256x256.size a} {s : ℕ} (ho : o = ![s, 0, 0]) :
    (sRows.access (Rect.unit (s := S3x256x256) o S1x256x256.size h)).set ⊆ rowsSet s 0 256 := by
  subst ho
  intro x hx
  rw [mem_rowsSet]
  have hx : x ∈ ((View.whole cc0_scratch0).slice (Rect.unit (s := S3x256x256) ![s, 0, 0] S1x256x256.size h)).set := hx
  rw [View.set_slice_whole] at hx
  have hx := (Rect.mem_set_unit).1 hx
  have H0 := hx 0; have H1 := hx 1
  simp [S1x256x256] at H0 H1
  omega

end Cert.KernelIdeal.Hand
-- ==== Proof.Turn.lean ====
/-
  What one block's turn leaves in the score and in the interest, as functions of the kernel's inputs.
-/
module

public import proofs.«01_k».proof.Proof.Slots

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

/-- The contents of the kernel's inputs. -/
structure Ins (F : FTy → Type) [FloatOps F] (c : Dev nD) where
  fl : Buf (Elt F) ((c : Thread nD τ).loc cc0_stg0_0)
  fi : Buf (Elt F) ((c : Thread nD τ).loc cc0_stg1_0)
  ft : Buf (Elt F) ((c : Thread nD τ).loc cc0_stg2_0)
  fw : Buf (Elt F) ((c : Thread nD τ).loc main_v2)
  fs : Buf (Elt F) ((c : Thread nD τ).loc cc0_scratch2)
  idb : Buf (Elt F) ((c : Thread nD τ).loc cc0_stg3_0)
  tg : Buf (Elt F) ((c : Thread nD τ).loc cc0_stg4_0)
  w1 : Buf (Elt F) ((c : Thread nD τ).loc cc0_stg5_0)
  b1 : Buf (Elt F) ((c : Thread nD τ).loc cc0_stg6_0)
  a1 : Buf (Elt F) ((c : Thread nD τ).loc cc0_stg7_0)
  w2 : Buf (Elt F) ((c : Thread nD τ).loc cc0_stg8_0)
  b2 : Buf (Elt F) ((c : Thread nD τ).loc cc0_stg9_0)
  a2 : Buf (Elt F) ((c : Thread nD τ).loc cc0_stg10_0)
  w3 : Buf (Elt F) ((c : Thread nD τ).loc cc0_stg11_0)
  b3 : Buf (Elt F) ((c : Thread nD τ).loc cc0_stg12_0)

abbrev ScoreBuf (F : FTy → Type) [FloatOps F] (c : Dev nD) := Buf (Elt F) ((c : Thread nD τ).loc cc0_stg14_0)
abbrev IntBuf (F : FTy → Type) [FloatOps F] (c : Dev nD) := Buf (Elt F) ((c : Thread nD τ).loc cc0_stg13_0)
abbrev TfBuf (F : FTy → Type) [FloatOps F] (c : Dev nD) := Buf (Elt F) ((c : Thread nD τ).loc cc0_scratch3)
abbrev TwBuf (F : FTy → Type) [FloatOps F] (c : Dev nD) := Buf (Elt F) ((c : Thread nD τ).loc cc0_scratch4)

theorem inb_tf (b : Fin 24) : ∀ a, (![b.val, 0] : Fin 2 → ℕ) a + S1x256.size a ≤ S32x256.size a := fun a => by
  match a with
  | 0 => exact (show b.val + 1 ≤ 32 by omega)
  | 1 => exact (show 0 + 256 ≤ 256 by omega)
theorem inb_int (b : Fin 24) : ∀ a, (![b.val, 0] : Fin 2 → ℕ) a + S1x256.size a ≤ S24x256.size a := fun a => by
  match a with
  | 0 => exact (show b.val + 1 ≤ 24 by omega)
  | 1 => exact (show 0 + 256 ≤ 256 by omega)
theorem inb_score (b : Fin 24) (k : Fin 6) : ∀ a, (![b.val, 256 * k.val] : Fin 2 → ℕ) a + S1x256.size a ≤ S24x1536.size a := fun a => by
  match a with
  | 0 => exact (show b.val + 1 ≤ 24 by omega)
  | 1 => exact (show 256 * k.val + 256 ≤ 1536 by omega)
theorem inb_idb (b : Fin 24) (k : Fin 6) : ∀ a, (![b.val, 2 * k.val, 0] : Fin 3 → ℕ) a + S1x2x128.size a ≤ S24x12x128.size a := fun a => by
  match a with
  | 0 => exact (show b.val + 1 ≤ 24 by omega)
  | 1 => exact (show 2 * k.val + 2 ≤ 12 by omega)
  | 2 => exact (show 0 + 128 ≤ 128 by omega)
theorem inb_ring (s : Fin 3) : ∀ a, (![s.val, 0, 0] : Fin 3 → ℕ) a + S1x256x256.size a ≤ S3x256x256.size a := fun a => by
  match a with
  | 0 => exact (show s.val + 1 ≤ 3 by omega)
  | 1 => exact (show 0 + 256 ≤ 256 by omega)
  | 2 => exact (show 0 + 256 ≤ 256 by omega)

variable {c}

def rdTf (tf : TfBuf F c) (b : Fin 24) : Vec F S1x256 .f32 := ((Memref.whole cc0_scratch3).access (Rect.unit (s := S32x256) ![b.val, 0] S1x256.size (inb_tf b))).read (Elt F) tf
def rdTw (tw : TwBuf F c) (b : Fin 24) : Vec F S1x256 .f32 := ((Memref.whole cc0_scratch4).access (Rect.unit (s := S32x256) ![b.val, 0] S1x256.size (inb_tf b))).read (Elt F) tw
def rdInt (it : IntBuf F c) (b : Fin 24) : Vec F S1x256 .f32 := ((Memref.whole cc0_stg13_0).access (Rect.unit (s := S24x256) ![b.val, 0] S1x256.size (inb_int b))).read (Elt F) it
def rdIds (I : Ins F c) (b : Fin 24) (k : Fin 6) : Vec F S1x2x128 .i32 := ((Memref.whole cc0_stg3_0).access (Rect.unit (s := S24x12x128) ![b.val, 2 * k.val, 0] S1x2x128.size (inb_idb b k))).read (Elt F) I.idb
def rdRing (ring : RingBuf F c) (s : Fin 3) : Vec F S1x256x256 .i32 := (sRows.access (Rect.unit (s := S3x256x256) ![s.val, 0, 0] S1x256x256.size (inb_ring s))).read (Elt F) ring
def rdLine (g : LineBuf F c) : Vec F S256x128 .f32 := (sLine.access (Rect.unit (s := S256x128) ![0, 0] S256x128.size inb_S256x128_S256x128_0_0)).read (Elt F) g
def rdWa (I : Ins F c) : Vec F S256x256 .bf16 := ((Memref.whole cc0_stg5_0).access (Rect.unit (s := S1024x256) ![0, 0] S256x256.size inb_S1024x256_S256x256_0_0)).read (Elt F) I.w1
def rdWc (I : Ins F c) : Vec F S256x256 .bf16 := ((Memref.whole cc0_stg5_0).access (Rect.unit (s := S1024x256) ![512, 0] S256x256.size inb_S1024x256_S256x256_512_0)).read (Elt F) I.w1
def rdWd (I : Ins F c) : Vec F S256x256 .bf16 := ((Memref.whole cc0_stg5_0).access (Rect.unit (s := S1024x256) ![768, 0] S256x256.size inb_S1024x256_S256x256_768_0)).read (Elt F) I.w1
def rdA1 (I : Ins F c) : Vec F S1x256 .f32 := ((Memref.whole cc0_stg7_0).access (Rect.unit (s := S1x256) ![0, 0] S1x256.size inb_S1x256_S1x256_0_0)).read (Elt F) I.a1
def rdW2 (I : Ins F c) : Vec F S256x128 .bf16 := ((Memref.whole cc0_stg8_0).access (Rect.unit (s := S256x128) ![0, 0] S256x128.size inb_S256x128_S256x128_0_0)).read (Elt F) I.w2
def rdB2 (I : Ins F c) : Vec F S1x128 .f32 := ((Memref.whole cc0_stg9_0).access (Rect.unit (s := S1x128) ![0, 0] S1x128.size inb_S1x128_S1x128_0_0)).read (Elt F) I.b2
def rdA2 (I : Ins F c) : Vec F S1x128 .f32 := ((Memref.whole cc0_stg10_0).access (Rect.unit (s := S1x128) ![0, 0] S1x128.size inb_S1x128_S1x128_0_0)).read (Elt F) I.a2
def rdW3 (I : Ins F c) : Vec F S8x128 .bf16 := ((Memref.whole cc0_stg11_0).access (Rect.unit (s := S8x128) ![0, 0] S8x128.size inb_S8x128_S8x128_0_0)).read (Elt F) I.w3
def ix11 : S1x1.Idx := fun a => match a with | 0 => (0 : Fin 1) | 1 => (0 : Fin 1)
def rdB3 (I : Ins F c) : Elt F .f32 := I.b3 ix11

/-- The hidden rows of a block: the gathered rows at their scales, rows past the length zero. -/
def hRows (I : Ins F c) (s : Fin 3) (b : Fin 24) (k : ℕ) (ring : RingBuf F c) (g : LineBuf F c) : FVec F S256x256 .bf16 :=
  k0_pay42 (k0_pay38 (F := F) (rdIds I b (fin6 k))) (k0_pay39 (F := F) (rdRing ring s)) (rdLine g) (k0_pay40 (F := F) (BitVec.ofNat 32 k) (lenAt I.fl b)) (iota .tc S256x128 32 [1] iota_S256x128_d1_w32) (k0_pay41 (F := F) (rdIds I b (fin6 k)))

/-- The scores of a block. -/
def scoreRow (I : Ins F c) (tf : TfBuf F c) (tw : TwBuf F c) (s : Fin 3) (b : Fin 24) (k : ℕ) (ring : RingBuf F c) (g : LineBuf F c) : FVec F S1x256 .f32 :=
  k0_pay45 (BitVec.ofNat 32 k) (lenAt I.fl b)
    (k0_pay43 (k0_pay37 (rdTf tf b)) (rdTw tw b) (k0_pay38 (F := F) (rdIds I b (fin6 k))) (k0_pay39 (F := F) (rdRing ring s)) (rdLine g) (k0_pay40 (F := F) (BitVec.ofNat 32 k) (lenAt I.fl b)) (iota .tc S256x128 32 [1] iota_S256x128_d1_w32) (k0_pay41 (F := F) (rdIds I b (fin6 k))) (rdWa I) (rdWc I) (rdWd I))
    (k0_pay44 (F := F)) (rdA1 I) (rdW2 I) (rdB2 I) (rdA2 I) (rdW3 I) (rdB3 I)

def newScore (I : Ins F c) (tf : TfBuf F c) (tw : TwBuf F c) (s : Fin 3) (b : Fin 24) (k : ℕ) (ring : RingBuf F c) (g : LineBuf F c) (sc : ScoreBuf F c) : ScoreBuf F c :=
  ((Memref.whole cc0_stg14_0).access (Rect.unit (s := S24x1536) ![b.val, 256 * (fin6 k).val] S1x256.size (inb_score b (fin6 k)))).write (Elt F) sc (scoreRow I tf tw s b k ring g) Finset.univ

def newInt (I : Ins F c) (tf : TfBuf F c) (tw : TwBuf F c) (s : Fin 3) (b : Fin 24) (k : ℕ) (ring : RingBuf F c) (g : LineBuf F c) (it : IntBuf F c) : IntBuf F c :=
  ((Memref.whole cc0_stg13_0).access (Rect.unit (s := S24x256) ![b.val, 0] S1x256.size (inb_int b))).write (Elt F) it (k0_pay1 (hRows I s b k ring g) (scoreRow I tf tw s b k ring g) (rdInt it b)) Finset.univ

/-- A property the turns keep: what is known of the score and the interest when `i` blocks are done. -/
def Keeps (I : Ins F c) (tf : TfBuf F c) (tw : TwBuf F c) (R : ℕ → ScoreBuf F c → IntBuf F c → Prop) : Prop :=
  ∀ i, i < pre (lenAt I.fl) 24 → ∀ (f : RingBuf F c) (g0 : LineBuf F c) (sc : ScoreBuf F c) (it : IntBuf F c), R i sc it →
    ∀ (b : Fin 24) (k : ℕ), (pos (lenAt I.fl) i) = (b.val, k) → k < 6 →
    R (i + 1)
      (newScore I tf tw (fin3 i) b k (filled (gathered I.fw I.fi b (fin6 k)) f (rowsOf (lenAt I.fl b) k)) (lineBuf I.fs I.fi b (fin6 k) g0 (rowsOf (lenAt I.fl b) k)) sc)
      (newInt I tf tw (fin3 i) b k (filled (gathered I.fw I.fi b (fin6 k)) f (rowsOf (lenAt I.fl b) k)) (lineBuf I.fs I.fi b (fin6 k) g0 (rowsOf (lenAt I.fl b) k)) it)

end Cert.KernelIdeal.Hand
-- ==== Proof.GatherLoop.lean ====
module

public import proofs.«01_k».proof.Proof.Gather

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)

/-- One trip of the loop that gathers the lines of scales. -/
theorem t9_step {arg0 : Memref sig .tc .smem S24 .i32} {harg0 : arg0.IsWhole} {arg2 : Memref sig .tc .smem S24 .i32} {harg2 : arg2.IsWhole} {arg4 : Memref sig .tc .hbm S1000000 .f32} {harg4 : arg4.IsWhole} {arg5 : Memref sig .tc .vmem S24x12x128 .i32} {harg5 : arg5.IsWhole} {arg6 : Memref sig .tc .vmem S1x128 .i32} {harg6 : arg6.IsWhole} {arg7 : Memref sig .tc .vmem S1024x256 .bf16} {harg7 : arg7.IsWhole} {arg8 : Memref sig .tc .vmem S1x256 .f32} {harg8 : arg8.IsWhole} {arg9 : Memref sig .tc .vmem S1x256 .f32} {harg9 : arg9.IsWhole} {arg10 : Memref sig .tc .vmem S256x128 .bf16} {harg10 : arg10.IsWhole} {arg11 : Memref sig .tc .vmem S1x128 .f32} {harg11 : arg11.IsWhole} {arg12 : Memref sig .tc .vmem S1x128 .f32} {harg12 : arg12.IsWhole} {arg13 : Memref sig .tc .vmem S8x128 .bf16} {harg13 : arg13.IsWhole} {arg14 : Memref sig .tc .smem S1x1 .f32} {harg14 : arg14.IsWhole} {arg15 : Memref sig .tc .vmem S24x256 .f32} {harg15 : arg15.IsWhole} {arg16 : Memref sig .tc .vmem S24x1536 .f32} {harg16 : arg16.IsWhole} {arg20 : Memref sig .tc .vmem S32x256 .f32} {harg20 : arg20.IsWhole} {arg21 : Memref sig .tc .vmem S32x256 .f32} {harg21 : arg21.IsWhole} {arg22 : DmaSems sig S_} {v616 : BitVec 32} {c0_i32_478 : BitVec 32} {c1_i32_482 : BitVec 32} {k0_t6 : Fin (k0_t6_loop v616).trips} {arg25 : BitVec 32} {arg26 : BitVec 32} {arg29 : BitVec 32} {arg30 : BitVec 32} {v667 : Elt F .i32} {k0_hw152 : k0_chk152 arg25 arg26 v667}
    (fs : SclBuf F c) (fi : IdBuf F c) (b : Fin 24) (kw : Fin 6) (g0 : LineBuf F c)
    (hfi : IdsOk fi) (hb : arg25.toNat = b.val) (hk : arg26.toNat = kw.val)
    (hT : (k0_t9_loop arg26 v667).trips ≤ 16) (t : Fin (k0_t9_loop arg26 v667).trips) :
    iprop(pt c cc0_stg1_0 fi ∗ pt c cc0_scratch2 fs ∗ pt c cc0_scratch1 (lineBuf fs fi b kw g0 (16 * t.val)))
      ⊢ wp frame (wpE defs 𝒱 (c : Thread nD τ) bd) Set.univ (k0_t9_body arg0 harg0 aIds (Memref.isWhole_whole _) arg2 harg2 hWords (Memref.isWhole_whole _) arg4 harg4 arg5 harg5 arg6 harg6 arg7 harg7 arg8 harg8 arg9 harg9 arg10 harg10 arg11 harg11 arg12 harg12 arg13 harg13 arg14 harg14 arg15 harg15 arg16 harg16 sRows (Memref.isWhole_whole _) sLine (Memref.isWhole_whole _) sScl (Memref.isWhole_whole _) arg20 harg20 arg21 harg21 arg22 cc0_scratch6 v616 c0_i32_478 c1_i32_482 k0_t6 arg25 arg26 arg29 arg30 v667 k0_hw152 t ())
        (fun _ => iprop(pt c cc0_stg1_0 fi ∗ pt c cc0_scratch2 fs ∗ pt c cc0_scratch1 (lineBuf fs fi b kw g0 (16 * (t.val + 1))))) := by
  have ht : t.val < 16 := by have := t.isLt; omega
  unfold k0_t9_body
  simp only [k0_part35_eq_skeleton, k0_part36_eq_skeleton, k0_part37_eq_skeleton, k0_part38_eq_skeleton, k0_part39_eq_skeleton, k0_part40_eq_skeleton]
  unfold k0_part35_skel k0_part36_skel k0_part37_skel k0_part38_skel k0_part39_skel k0_part40_skel
  simp only [Prog.bind_assoc, Prog.bind_ret, Prog.pure_eq_ret]
  iintro H
  iapply (wp_gather 𝒱 c bd fs fi b kw g0 (16 * t.val + 0) (by omega) hfi
    (by exact off_ids (u := 0) hb hk kw.isLt ht (by decide)) (by exact off_line (u := 0) ht (by decide)) (fun v => rfl)
    (fun v hv => ⟨line_dvd v, line_inb v hv rfl⟩) (fun _ => rfl)) $$ H
  iintro %w_0 %y_0 H
  iapply (wp_gather 𝒱 c bd fs fi b kw g0 (16 * t.val + 1) (by omega) hfi
    (by exact off_ids (u := 1) hb hk kw.isLt ht (by decide)) (by exact off_line (u := 1) ht (by decide)) (fun v => rfl)
    (fun v hv => ⟨line_dvd v, line_inb v hv rfl⟩) (fun _ => rfl)) $$ H
  iintro %w_1 %y_1 H
  iapply (wp_gather 𝒱 c bd fs fi b kw g0 (16 * t.val + 2) (by omega) hfi
    (by exact off_ids (u := 2) hb hk kw.isLt ht (by decide)) (by exact off_line (u := 2) ht (by decide)) (fun v => rfl)
    (fun v hv => ⟨line_dvd v, line_inb v hv rfl⟩) (fun _ => rfl)) $$ H
  iintro %w_2 %y_2 H
  iapply (wp_gather 𝒱 c bd fs fi b kw g0 (16 * t.val + 3) (by omega) hfi
    (by exact off_ids (u := 3) hb hk kw.isLt ht (by decide)) (by exact off_line (u := 3) ht (by decide)) (fun v => rfl)
    (fun v hv => ⟨line_dvd v, line_inb v hv rfl⟩) (fun _ => rfl)) $$ H
  iintro %w_3 %y_3 H
  iapply (wp_gather 𝒱 c bd fs fi b kw g0 (16 * t.val + 4) (by omega) hfi
    (by exact off_ids (u := 4) hb hk kw.isLt ht (by decide)) (by exact off_line (u := 4) ht (by decide)) (fun v => rfl)
    (fun v hv => ⟨line_dvd v, line_inb v hv rfl⟩) (fun _ => rfl)) $$ H
  iintro %w_4 %y_4 H
  iapply (wp_gather 𝒱 c bd fs fi b kw g0 (16 * t.val + 5) (by omega) hfi
    (by exact off_ids (u := 5) hb hk kw.isLt ht (by decide)) (by exact off_line (u := 5) ht (by decide)) (fun v => rfl)
    (fun v hv => ⟨line_dvd v, line_inb v hv rfl⟩) (fun _ => rfl)) $$ H
  iintro %w_5 %y_5 H
  iapply (wp_gather 𝒱 c bd fs fi b kw g0 (16 * t.val + 6) (by omega) hfi
    (by exact off_ids (u := 6) hb hk kw.isLt ht (by decide)) (by exact off_line (u := 6) ht (by decide)) (fun v => rfl)
    (fun v hv => ⟨line_dvd v, line_inb v hv rfl⟩) (fun _ => rfl)) $$ H
  iintro %w_6 %y_6 H
  iapply (wp_gather 𝒱 c bd fs fi b kw g0 (16 * t.val + 7) (by omega) hfi
    (by exact off_ids (u := 7) hb hk kw.isLt ht (by decide)) (by exact off_line (u := 7) ht (by decide)) (fun v => rfl)
    (fun v hv => ⟨line_dvd v, line_inb v hv rfl⟩) (fun _ => rfl)) $$ H
  iintro %w_7 %y_7 H
  iapply (wp_gather 𝒱 c bd fs fi b kw g0 (16 * t.val + 8) (by omega) hfi
    (by exact off_ids (u := 8) hb hk kw.isLt ht (by decide)) (by exact off_line (u := 8) ht (by decide)) (fun v => rfl)
    (fun v hv => ⟨line_dvd v, line_inb v hv rfl⟩) (fun _ => rfl)) $$ H
  iintro %w_8 %y_8 H
  iapply (wp_gather 𝒱 c bd fs fi b kw g0 (16 * t.val + 9) (by omega) hfi
    (by exact off_ids (u := 9) hb hk kw.isLt ht (by decide)) (by exact off_line (u := 9) ht (by decide)) (fun v => rfl)
    (fun v hv => ⟨line_dvd v, line_inb v hv rfl⟩) (fun _ => rfl)) $$ H
  iintro %w_9 %y_9 H
  iapply (wp_gather 𝒱 c bd fs fi b kw g0 (16 * t.val + 10) (by omega) hfi
    (by exact off_ids (u := 10) hb hk kw.isLt ht (by decide)) (by exact off_line (u := 10) ht (by decide)) (fun v => rfl)
    (fun v hv => ⟨line_dvd v, line_inb v hv rfl⟩) (fun _ => rfl)) $$ H
  iintro %w_10 %y_10 H
  iapply (wp_gather 𝒱 c bd fs fi b kw g0 (16 * t.val + 11) (by omega) hfi
    (by exact off_ids (u := 11) hb hk kw.isLt ht (by decide)) (by exact off_line (u := 11) ht (by decide)) (fun v => rfl)
    (fun v hv => ⟨line_dvd v, line_inb v hv rfl⟩) (fun _ => rfl)) $$ H
  iintro %w_11 %y_11 H
  iapply (wp_gather 𝒱 c bd fs fi b kw g0 (16 * t.val + 12) (by omega) hfi
    (by exact off_ids (u := 12) hb hk kw.isLt ht (by decide)) (by exact off_line (u := 12) ht (by decide)) (fun v => rfl)
    (fun v hv => ⟨line_dvd v, line_inb v hv rfl⟩) (fun _ => rfl)) $$ H
  iintro %w_12 %y_12 H
  iapply (wp_gather 𝒱 c bd fs fi b kw g0 (16 * t.val + 13) (by omega) hfi
    (by exact off_ids (u := 13) hb hk kw.isLt ht (by decide)) (by exact off_line (u := 13) ht (by decide)) (fun v => rfl)
    (fun v hv => ⟨line_dvd v, line_inb v hv rfl⟩) (fun _ => rfl)) $$ H
  iintro %w_13 %y_13 H
  iapply (wp_gather 𝒱 c bd fs fi b kw g0 (16 * t.val + 14) (by omega) hfi
    (by exact off_ids (u := 14) hb hk kw.isLt ht (by decide)) (by exact off_line (u := 14) ht (by decide)) (fun v => rfl)
    (fun v hv => ⟨line_dvd v, line_inb v hv rfl⟩) (fun _ => rfl)) $$ H
  iintro %w_14 %y_14 H
  iapply (wp_gather 𝒱 c bd fs fi b kw g0 (16 * t.val + 15) (by omega) hfi
    (by exact off_ids (u := 15) hb hk kw.isLt ht (by decide)) (by exact off_line (u := 15) ht (by decide)) (fun v => rfl)
    (fun v hv => ⟨line_dvd v, line_inb v hv rfl⟩) (fun _ => rfl)) $$ H
  iintro %w_15 %y_15 H
  iapply (le_wp_ret _ _ _)
  iexact H

end Cert.KernelIdeal.Hand
-- ==== Proof.IssueAhead.lean ====
module

public import proofs.«01_k».proof.Proof.Row

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)

/-- One trip of the loop that starts the copies two blocks ahead: sixteen rows more of the slot are on their way. -/
theorem t7_step {arg0 : Memref sig .tc .smem S24 .i32} {harg0 : arg0.IsWhole} {arg2 : Memref sig .tc .smem S24 .i32} {harg2 : arg2.IsWhole} {arg4 : Memref sig .tc .hbm S1000000 .f32} {harg4 : arg4.IsWhole} {arg5 : Memref sig .tc .vmem S24x12x128 .i32} {harg5 : arg5.IsWhole} {arg6 : Memref sig .tc .vmem S1x128 .i32} {harg6 : arg6.IsWhole} {arg7 : Memref sig .tc .vmem S1024x256 .bf16} {harg7 : arg7.IsWhole} {arg8 : Memref sig .tc .vmem S1x256 .f32} {harg8 : arg8.IsWhole} {arg9 : Memref sig .tc .vmem S1x256 .f32} {harg9 : arg9.IsWhole} {arg10 : Memref sig .tc .vmem S256x128 .bf16} {harg10 : arg10.IsWhole} {arg11 : Memref sig .tc .vmem S1x128 .f32} {harg11 : arg11.IsWhole} {arg12 : Memref sig .tc .vmem S1x128 .f32} {harg12 : arg12.IsWhole} {arg13 : Memref sig .tc .vmem S8x128 .bf16} {harg13 : arg13.IsWhole} {arg14 : Memref sig .tc .smem S1x1 .f32} {harg14 : arg14.IsWhole} {arg15 : Memref sig .tc .vmem S24x256 .f32} {harg15 : arg15.IsWhole} {arg16 : Memref sig .tc .vmem S24x1536 .f32} {harg16 : arg16.IsWhole} {arg18 : Memref sig .tc .vmem S256x128 .f32} {harg18 : arg18.IsWhole} {arg19 : Memref sig .tc .vmem S1000000 .f32} {harg19 : arg19.IsWhole} {arg20 : Memref sig .tc .vmem S32x256 .f32} {harg20 : arg20.IsWhole} {arg21 : Memref sig .tc .vmem S32x256 .f32} {harg21 : arg21.IsWhole} {arg22 : DmaSems sig S_} {v616 : BitVec 32} {c0_i32_478 : BitVec 32} {c1_i32_482 : BitVec 32} {k0_t6 : Fin (k0_t6_loop v616).trips} {arg25 : BitVec 32} {arg26 : BitVec 32} {arg29 : BitVec 32} {arg30 : BitVec 32} {k0_h2 : k0_cond2 arg29 = 1#1} {v849 : Elt F .i32} {k0_hw118 : k0_chk118 v616 k0_t6 arg29 arg30 v849}
    (s : Fin 3) (q0 : PosShare TreeShare) (fw : WordBuf F c) (fi : IdBuf F c) (f : RingBuf F c) (b : Fin 24) (kw : Fin 6) (n : ℕ)
    (hfi : IdsOk fi) (hb : (arg29).toNat = b.val) (hk : (arg30).toNat = kw.val)
    (hs : (Scalar.remsi (Scalar.addi (Scf.iv 0#32 1#32 k0_t6) 2#32) 3#32).toNat = s.val)
    (hn : n = 16 * (k0_t7_loop arg30 v849).trips) (hT : (k0_t7_loop arg30 v849).trips ≤ 16)
    (t : Fin (k0_t7_loop arg30 v849).trips) :
    iprop(pt c cc0_stg1_0 fi ∗ Filling c (.dma (slotSem s)) s q0 fw (gathered fw fi b kw) f n (16 * t.val))
      ⊢ wp frame (wpE defs 𝒱 (c : Thread nD τ) bd) Set.univ (k0_t7_body arg0 harg0 aIds (Memref.isWhole_whole _) arg2 harg2 hWords (Memref.isWhole_whole _) arg4 harg4 arg5 harg5 arg6 harg6 arg7 harg7 arg8 harg8 arg9 harg9 arg10 harg10 arg11 harg11 arg12 harg12 arg13 harg13 arg14 harg14 arg15 harg15 arg16 harg16 sRows (Memref.isWhole_whole _) arg18 harg18 arg19 harg19 arg20 harg20 arg21 harg21 arg22 cc0_scratch6 v616 c0_i32_478 c1_i32_482 k0_t6 arg25 arg26 arg29 arg30 k0_h2 v849 k0_hw118 t ())
        (fun _ => iprop(pt c cc0_stg1_0 fi ∗ Filling c (.dma (slotSem s)) s q0 fw (gathered fw fi b kw) f n (16 * (t.val + 1)))) := by
  have ht : t.val < 16 := by have := t.isLt; omega
  have hj : 16 * t.val + 16 ≤ n := by have := t.isLt; omega
  unfold k0_t7_body
  simp only [k0_part25_eq_skeleton, k0_part26_eq_skeleton, k0_part27_eq_skeleton, k0_part28_eq_skeleton, k0_part29_eq_skeleton]
  unfold k0_part25_skel k0_part26_skel k0_part27_skel k0_part28_skel k0_part29_skel
  simp only [Prog.bind_assoc, Prog.bind_ret, Prog.pure_eq_ret]
  iintro H
  iapply (wp_row 𝒱 c bd s q0 fw fi f b kw n (16 * t.val + 0) (by omega) (by omega) hfi
    (by exact off_ids (u := 0) hb hk kw.isLt ht (by decide)) (by exact off_ring (u := 0) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 1) (by omega) (by omega) hfi
    (by exact off_ids (u := 1) hb hk kw.isLt ht (by decide)) (by exact off_ring (u := 1) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 2) (by omega) (by omega) hfi
    (by exact off_ids (u := 2) hb hk kw.isLt ht (by decide)) (by exact off_ring (u := 2) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 3) (by omega) (by omega) hfi
    (by exact off_ids (u := 3) hb hk kw.isLt ht (by decide)) (by exact off_ring (u := 3) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 4) (by omega) (by omega) hfi
    (by exact off_ids (u := 4) hb hk kw.isLt ht (by decide)) (by exact off_ring (u := 4) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 5) (by omega) (by omega) hfi
    (by exact off_ids (u := 5) hb hk kw.isLt ht (by decide)) (by exact off_ring (u := 5) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 6) (by omega) (by omega) hfi
    (by exact off_ids (u := 6) hb hk kw.isLt ht (by decide)) (by exact off_ring (u := 6) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 7) (by omega) (by omega) hfi
    (by exact off_ids (u := 7) hb hk kw.isLt ht (by decide)) (by exact off_ring (u := 7) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 8) (by omega) (by omega) hfi
    (by exact off_ids (u := 8) hb hk kw.isLt ht (by decide)) (by exact off_ring (u := 8) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 9) (by omega) (by omega) hfi
    (by exact off_ids (u := 9) hb hk kw.isLt ht (by decide)) (by exact off_ring (u := 9) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 10) (by omega) (by omega) hfi
    (by exact off_ids (u := 10) hb hk kw.isLt ht (by decide)) (by exact off_ring (u := 10) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 11) (by omega) (by omega) hfi
    (by exact off_ids (u := 11) hb hk kw.isLt ht (by decide)) (by exact off_ring (u := 11) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 12) (by omega) (by omega) hfi
    (by exact off_ids (u := 12) hb hk kw.isLt ht (by decide)) (by exact off_ring (u := 12) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 13) (by omega) (by omega) hfi
    (by exact off_ids (u := 13) hb hk kw.isLt ht (by decide)) (by exact off_ring (u := 13) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 14) (by omega) (by omega) hfi
    (by exact off_ids (u := 14) hb hk kw.isLt ht (by decide)) (by exact off_ring (u := 14) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 15) (by omega) (by omega) hfi
    (by exact off_ids (u := 15) hb hk kw.isLt ht (by decide)) (by exact off_ring (u := 15) hs ht (by decide)) (fun v => rfl)
    (fun v hv => fun _ => row_inb v hv rfl) (slot_sem s (by exact congrArg (fun z => ![z]) hs))) $$ H
  iintro H
  iapply (le_wp_ret _ _ _)
  iexact H

end Cert.KernelIdeal.Hand
-- ==== Proof.Checks.lean ====
module

public import proofs.«01_k».proof.Proof.Gather

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

/-- The remainder loop after a loop unrolled by one has no trips. -/
theorem rem_trips (x : BitVec 32) : Scf.trips (Scalar.addi 0#32 (Scalar.muli (Scalar.divsi (Scalar.subi x 0#32) 1#32) 1#32)) (Scalar.addi 0#32 (Scalar.subi x 0#32)) 1#32 = 0 := by
  rw [w_sub_zero, w_div_one, w_mul_one]; exact trips_self _

theorem rem_ok (x : BitVec 32) : (⟨Scalar.addi 0#32 (Scalar.muli (Scalar.divsi (Scalar.subi x 0#32) 1#32) 1#32), Scalar.addi 0#32 (Scalar.subi x 0#32), 1#32⟩ : Scf.Loop 32).OK := by
  rw [w_sub_zero, w_div_one, w_mul_one]; exact ok_self _

theorem ids_inb {b kw t u : ℕ} (hb : b < 24) (hkw : kw < 6) (ht : t < 16) (hu : u < 16) {o : Fin 2 → ℕ} (ho : o = ![b, 256 * kw + (16 * t + u)]) :
    ∀ a, o a + S1x1.size a ≤ S24x1536.size a := by
  subst ho; intro a
  match a with
  | 0 => exact (show b + 1 ≤ 24 by omega)
  | 1 => exact (show 256 * kw + (16 * t + u) + 1 ≤ 1536 by omega)

theorem ring_inb {s r : ℕ} (hs : s < 3) (hr : r < 256) {o : Fin 3 → ℕ} (ho : o = ![s, r, 0]) : ∀ a, o a + S1x1x256.size a ≤ S3x256x256.size a := by
  subst ho; intro a
  match a with
  | 0 => exact (show s + 1 ≤ 3 by omega)
  | 1 => exact (show r + 1 ≤ 256 by omega)
  | 2 => exact (show 0 + 256 ≤ 256 by omega)

theorem sem_inb {s : ℕ} (hs : s < 3) : ∀ a, (![s] : Fin 1 → ℕ) a + S1.size a ≤ S3.size a := by
  intro a
  match a with
  | 0 => exact (show s + 1 ≤ 3 by omega)

theorem lens_inb {b : ℕ} (hb : b < 24) : ∀ a, (![b] : Fin 1 → ℕ) a + S1.size a ≤ S24.size a := by
  intro a
  match a with
  | 0 => exact (show b + 1 ≤ 24 by omega)

theorem line_inb' {r : ℕ} (hr : r < 256) {o : Fin 2 → ℕ} (ho : o = ![r, 0]) : ∀ a, o a + S1x128.size a ≤ S256x128.size a := by
  subst ho; intro a
  match a with
  | 0 => exact (show r + 1 ≤ 256 by omega)
  | 1 => exact (show 0 + 128 ≤ 128 by omega)

theorem trip_lt (d : BitVec 32) (t : Fin (Scf.trips 0#32 (ubOf d) 1#32)) : t.val < 16 := by
  have h1 := t.isLt
  have h2 := trips_ubOf d
  have h3 := grpOf_le d.toInt
  omega

theorem chk49_0_ok {v617 : BitVec 32} (hs : 0 < 3) : k0_chk49_0 v617 :=
  ⟨ok_ubOf _,
   fun t => ids_inb (u := 0) (b := 0) (kw := 0) (by decide) (by decide) (trip_lt _ t) (by decide) (by exact off_ids_first (u := 0) (trip_lt _ t) (by decide)),
   fun t => ring_inb (s := 0) (by decide) (show 16 * t.val + 0 < 256 by have := (trip_lt _ t); omega) (by exact off_ring (s := 0) (ws := 0#32) (u := 0) rfl (trip_lt _ t) (by decide)),
   fun t => ids_inb (u := 1) (b := 0) (kw := 0) (by decide) (by decide) (trip_lt _ t) (by decide) (by exact off_ids_first (u := 1) (trip_lt _ t) (by decide)),
   fun t => ring_inb (s := 0) (by decide) (show 16 * t.val + 1 < 256 by have := (trip_lt _ t); omega) (by exact off_ring (s := 0) (ws := 0#32) (u := 1) rfl (trip_lt _ t) (by decide)),
   fun t => ids_inb (u := 2) (b := 0) (kw := 0) (by decide) (by decide) (trip_lt _ t) (by decide) (by exact off_ids_first (u := 2) (trip_lt _ t) (by decide)),
   fun t => ring_inb (s := 0) (by decide) (show 16 * t.val + 2 < 256 by have := (trip_lt _ t); omega) (by exact off_ring (s := 0) (ws := 0#32) (u := 2) rfl (trip_lt _ t) (by decide)),
   fun t => ids_inb (u := 3) (b := 0) (kw := 0) (by decide) (by decide) (trip_lt _ t) (by decide) (by exact off_ids_first (u := 3) (trip_lt _ t) (by decide)),
   fun t => ring_inb (s := 0) (by decide) (show 16 * t.val + 3 < 256 by have := (trip_lt _ t); omega) (by exact off_ring (s := 0) (ws := 0#32) (u := 3) rfl (trip_lt _ t) (by decide)),
   fun t => ids_inb (u := 4) (b := 0) (kw := 0) (by decide) (by decide) (trip_lt _ t) (by decide) (by exact off_ids_first (u := 4) (trip_lt _ t) (by decide)),
   fun t => ring_inb (s := 0) (by decide) (show 16 * t.val + 4 < 256 by have := (trip_lt _ t); omega) (by exact off_ring (s := 0) (ws := 0#32) (u := 4) rfl (trip_lt _ t) (by decide)),
   fun t => ids_inb (u := 5) (b := 0) (kw := 0) (by decide) (by decide) (trip_lt _ t) (by decide) (by exact off_ids_first (u := 5) (trip_lt _ t) (by decide)),
   fun t => ring_inb (s := 0) (by decide) (show 16 * t.val + 5 < 256 by have := (trip_lt _ t); omega) (by exact off_ring (s := 0) (ws := 0#32) (u := 5) rfl (trip_lt _ t) (by decide)),
   fun t => ids_inb (u := 6) (b := 0) (kw := 0) (by decide) (by decide) (trip_lt _ t) (by decide) (by exact off_ids_first (u := 6) (trip_lt _ t) (by decide)),
   fun t => ring_inb (s := 0) (by decide) (show 16 * t.val + 6 < 256 by have := (trip_lt _ t); omega) (by exact off_ring (s := 0) (ws := 0#32) (u := 6) rfl (trip_lt _ t) (by decide)),
   fun t => ids_inb (u := 7) (b := 0) (kw := 0) (by decide) (by decide) (trip_lt _ t) (by decide) (by exact off_ids_first (u := 7) (trip_lt _ t) (by decide)),
   fun t => ring_inb (s := 0) (by decide) (show 16 * t.val + 7 < 256 by have := (trip_lt _ t); omega) (by exact off_ring (s := 0) (ws := 0#32) (u := 7) rfl (trip_lt _ t) (by decide)),
   fun t => ids_inb (u := 8) (b := 0) (kw := 0) (by decide) (by decide) (trip_lt _ t) (by decide) (by exact off_ids_first (u := 8) (trip_lt _ t) (by decide)),
   fun t => ring_inb (s := 0) (by decide) (show 16 * t.val + 8 < 256 by have := (trip_lt _ t); omega) (by exact off_ring (s := 0) (ws := 0#32) (u := 8) rfl (trip_lt _ t) (by decide)),
   fun t => ids_inb (u := 9) (b := 0) (kw := 0) (by decide) (by decide) (trip_lt _ t) (by decide) (by exact off_ids_first (u := 9) (trip_lt _ t) (by decide)),
   fun t => ring_inb (s := 0) (by decide) (show 16 * t.val + 9 < 256 by have := (trip_lt _ t); omega) (by exact off_ring (s := 0) (ws := 0#32) (u := 9) rfl (trip_lt _ t) (by decide)),
   fun t => ids_inb (u := 10) (b := 0) (kw := 0) (by decide) (by decide) (trip_lt _ t) (by decide) (by exact off_ids_first (u := 10) (trip_lt _ t) (by decide)),
   fun t => ring_inb (s := 0) (by decide) (show 16 * t.val + 10 < 256 by have := (trip_lt _ t); omega) (by exact off_ring (s := 0) (ws := 0#32) (u := 10) rfl (trip_lt _ t) (by decide)),
   fun t => ids_inb (u := 11) (b := 0) (kw := 0) (by decide) (by decide) (trip_lt _ t) (by decide) (by exact off_ids_first (u := 11) (trip_lt _ t) (by decide)),
   fun t => ring_inb (s := 0) (by decide) (show 16 * t.val + 11 < 256 by have := (trip_lt _ t); omega) (by exact off_ring (s := 0) (ws := 0#32) (u := 11) rfl (trip_lt _ t) (by decide)),
   fun t => ids_inb (u := 12) (b := 0) (kw := 0) (by decide) (by decide) (trip_lt _ t) (by decide) (by exact off_ids_first (u := 12) (trip_lt _ t) (by decide)),
   fun t => ring_inb (s := 0) (by decide) (show 16 * t.val + 12 < 256 by have := (trip_lt _ t); omega) (by exact off_ring (s := 0) (ws := 0#32) (u := 12) rfl (trip_lt _ t) (by decide)),
   fun t => ids_inb (u := 13) (b := 0) (kw := 0) (by decide) (by decide) (trip_lt _ t) (by decide) (by exact off_ids_first (u := 13) (trip_lt _ t) (by decide)),
   fun t => ring_inb (s := 0) (by decide) (show 16 * t.val + 13 < 256 by have := (trip_lt _ t); omega) (by exact off_ring (s := 0) (ws := 0#32) (u := 13) rfl (trip_lt _ t) (by decide)),
   fun t => ids_inb (u := 14) (b := 0) (kw := 0) (by decide) (by decide) (trip_lt _ t) (by decide) (by exact off_ids_first (u := 14) (trip_lt _ t) (by decide)),
   fun t => ring_inb (s := 0) (by decide) (show 16 * t.val + 14 < 256 by have := (trip_lt _ t); omega) (by exact off_ring (s := 0) (ws := 0#32) (u := 14) rfl (trip_lt _ t) (by decide)),
   fun t => ids_inb (u := 15) (b := 0) (kw := 0) (by decide) (by decide) (trip_lt _ t) (by decide) (by exact off_ids_first (u := 15) (trip_lt _ t) (by decide))⟩

theorem chk49_1_ok {v617 : BitVec 32} (hs : 0 < 3) : k0_chk49_1 v617 :=
  ⟨fun t => ring_inb (s := 0) (by decide) (show 16 * t.val + 15 < 256 by have := (trip_lt _ t); omega) (by exact off_ring (s := 0) (ws := 0#32) (u := 15) rfl (trip_lt _ t) (by decide)),
   rem_ok _,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim⟩

theorem chk49_2_ok {v617 : BitVec 32} (hs : 0 < 3) : k0_chk49_2 v617 :=
  ⟨fun t => (Nat.not_lt_zero _ (lt_of_lt_of_eq t.isLt (rem_trips _))).elim,
   fun t => (Nat.not_lt_zero _ (lt_of_lt_of_eq t.isLt (rem_trips _))).elim⟩

theorem chk49_ok {v617 : BitVec 32} (hs : 0 < 3) : k0_chk49 v617 :=
  ⟨chk49_0_ok hs, chk49_1_ok hs, chk49_2_ok hs⟩

theorem chk83_0_ok {v631 v663 : BitVec 32} (hb : (Scalar.select (Scalar.cmpi .sle (Scalar.maxsi (Scalar.divsi (Scalar.addi v631 255#32) 256#32) 1#32) 1#32) 1#32 0#32).toNat < 24) (hk : (Scalar.select (Scalar.cmpi .sle (Scalar.maxsi (Scalar.divsi (Scalar.addi v631 255#32) 256#32) 1#32) 1#32) 0#32 1#32).toNat < 6) : k0_chk83_0 v631 v663 :=
  ⟨fun _ => ok_ubOf _,
   fun t _ => ids_inb (u := 0) hb hk (trip_lt _ t) (by decide) (by exact off_ids (u := 0) rfl rfl hk (trip_lt _ t) (by decide)),
   fun t _ => ring_inb (s := 1) (by decide) (show 16 * t.val + 0 < 256 by have := (trip_lt _ t); omega) (by exact off_ring (s := 1) (ws := 1#32) (u := 0) rfl (trip_lt _ t) (by decide)),
   fun t _ => ids_inb (u := 1) hb hk (trip_lt _ t) (by decide) (by exact off_ids (u := 1) rfl rfl hk (trip_lt _ t) (by decide)),
   fun t _ => ring_inb (s := 1) (by decide) (show 16 * t.val + 1 < 256 by have := (trip_lt _ t); omega) (by exact off_ring (s := 1) (ws := 1#32) (u := 1) rfl (trip_lt _ t) (by decide)),
   fun t _ => ids_inb (u := 2) hb hk (trip_lt _ t) (by decide) (by exact off_ids (u := 2) rfl rfl hk (trip_lt _ t) (by decide)),
   fun t _ => ring_inb (s := 1) (by decide) (show 16 * t.val + 2 < 256 by have := (trip_lt _ t); omega) (by exact off_ring (s := 1) (ws := 1#32) (u := 2) rfl (trip_lt _ t) (by decide)),
   fun t _ => ids_inb (u := 3) hb hk (trip_lt _ t) (by decide) (by exact off_ids (u := 3) rfl rfl hk (trip_lt _ t) (by decide)),
   fun t _ => ring_inb (s := 1) (by decide) (show 16 * t.val + 3 < 256 by have := (trip_lt _ t); omega) (by exact off_ring (s := 1) (ws := 1#32) (u := 3) rfl (trip_lt _ t) (by decide)),
   fun t _ => ids_inb (u := 4) hb hk (trip_lt _ t) (by decide) (by exact off_ids (u := 4) rfl rfl hk (trip_lt _ t) (by decide)),
   fun t _ => ring_inb (s := 1) (by decide) (show 16 * t.val + 4 < 256 by have := (trip_lt _ t); omega) (by exact off_ring (s := 1) (ws := 1#32) (u := 4) rfl (trip_lt _ t) (by decide)),
   fun t _ => ids_inb (u := 5) hb hk (trip_lt _ t) (by decide) (by exact off_ids (u := 5) rfl rfl hk (trip_lt _ t) (by decide)),
   fun t _ => ring_inb (s := 1) (by decide) (show 16 * t.val + 5 < 256 by have := (trip_lt _ t); omega) (by exact off_ring (s := 1) (ws := 1#32) (u := 5) rfl (trip_lt _ t) (by decide)),
   fun t _ => ids_inb (u := 6) hb hk (trip_lt _ t) (by decide) (by exact off_ids (u := 6) rfl rfl hk (trip_lt _ t) (by decide)),
   fun t _ => ring_inb (s := 1) (by decide) (show 16 * t.val + 6 < 256 by have := (trip_lt _ t); omega) (by exact off_ring (s := 1) (ws := 1#32) (u := 6) rfl (trip_lt _ t) (by decide)),
   fun t _ => ids_inb (u := 7) hb hk (trip_lt _ t) (by decide) (by exact off_ids (u := 7) rfl rfl hk (trip_lt _ t) (by decide)),
   fun t _ => ring_inb (s := 1) (by decide) (show 16 * t.val + 7 < 256 by have := (trip_lt _ t); omega) (by exact off_ring (s := 1) (ws := 1#32) (u := 7) rfl (trip_lt _ t) (by decide)),
   fun t _ => ids_inb (u := 8) hb hk (trip_lt _ t) (by decide) (by exact off_ids (u := 8) rfl rfl hk (trip_lt _ t) (by decide)),
   fun t _ => ring_inb (s := 1) (by decide) (show 16 * t.val + 8 < 256 by have := (trip_lt _ t); omega) (by exact off_ring (s := 1) (ws := 1#32) (u := 8) rfl (trip_lt _ t) (by decide)),
   fun t _ => ids_inb (u := 9) hb hk (trip_lt _ t) (by decide) (by exact off_ids (u := 9) rfl rfl hk (trip_lt _ t) (by decide)),
   fun t _ => ring_inb (s := 1) (by decide) (show 16 * t.val + 9 < 256 by have := (trip_lt _ t); omega) (by exact off_ring (s := 1) (ws := 1#32) (u := 9) rfl (trip_lt _ t) (by decide)),
   fun t _ => ids_inb (u := 10) hb hk (trip_lt _ t) (by decide) (by exact off_ids (u := 10) rfl rfl hk (trip_lt _ t) (by decide)),
   fun t _ => ring_inb (s := 1) (by decide) (show 16 * t.val + 10 < 256 by have := (trip_lt _ t); omega) (by exact off_ring (s := 1) (ws := 1#32) (u := 10) rfl (trip_lt _ t) (by decide)),
   fun t _ => ids_inb (u := 11) hb hk (trip_lt _ t) (by decide) (by exact off_ids (u := 11) rfl rfl hk (trip_lt _ t) (by decide)),
   fun t _ => ring_inb (s := 1) (by decide) (show 16 * t.val + 11 < 256 by have := (trip_lt _ t); omega) (by exact off_ring (s := 1) (ws := 1#32) (u := 11) rfl (trip_lt _ t) (by decide)),
   fun t _ => ids_inb (u := 12) hb hk (trip_lt _ t) (by decide) (by exact off_ids (u := 12) rfl rfl hk (trip_lt _ t) (by decide)),
   fun t _ => ring_inb (s := 1) (by decide) (show 16 * t.val + 12 < 256 by have := (trip_lt _ t); omega) (by exact off_ring (s := 1) (ws := 1#32) (u := 12) rfl (trip_lt _ t) (by decide)),
   fun t _ => ids_inb (u := 13) hb hk (trip_lt _ t) (by decide) (by exact off_ids (u := 13) rfl rfl hk (trip_lt _ t) (by decide)),
   fun t _ => ring_inb (s := 1) (by decide) (show 16 * t.val + 13 < 256 by have := (trip_lt _ t); omega) (by exact off_ring (s := 1) (ws := 1#32) (u := 13) rfl (trip_lt _ t) (by decide)),
   fun t _ => ids_inb (u := 14) hb hk (trip_lt _ t) (by decide) (by exact off_ids (u := 14) rfl rfl hk (trip_lt _ t) (by decide)),
   fun t _ => ring_inb (s := 1) (by decide) (show 16 * t.val + 14 < 256 by have := (trip_lt _ t); omega) (by exact off_ring (s := 1) (ws := 1#32) (u := 14) rfl (trip_lt _ t) (by decide)),
   fun t _ => ids_inb (u := 15) hb hk (trip_lt _ t) (by decide) (by exact off_ids (u := 15) rfl rfl hk (trip_lt _ t) (by decide))⟩

theorem chk83_1_ok {v631 v663 : BitVec 32} (hb : (Scalar.select (Scalar.cmpi .sle (Scalar.maxsi (Scalar.divsi (Scalar.addi v631 255#32) 256#32) 1#32) 1#32) 1#32 0#32).toNat < 24) (hk : (Scalar.select (Scalar.cmpi .sle (Scalar.maxsi (Scalar.divsi (Scalar.addi v631 255#32) 256#32) 1#32) 1#32) 0#32 1#32).toNat < 6) : k0_chk83_1 v631 v663 :=
  ⟨fun t _ => ring_inb (s := 1) (by decide) (show 16 * t.val + 15 < 256 by have := (trip_lt _ t); omega) (by exact off_ring (s := 1) (ws := 1#32) (u := 15) rfl (trip_lt _ t) (by decide)),
   fun _ => rem_ok _,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim⟩

theorem chk83_2_ok {v631 v663 : BitVec 32} (hb : (Scalar.select (Scalar.cmpi .sle (Scalar.maxsi (Scalar.divsi (Scalar.addi v631 255#32) 256#32) 1#32) 1#32) 1#32 0#32).toNat < 24) (hk : (Scalar.select (Scalar.cmpi .sle (Scalar.maxsi (Scalar.divsi (Scalar.addi v631 255#32) 256#32) 1#32) 1#32) 0#32 1#32).toNat < 6) : k0_chk83_2 v631 v663 :=
  ⟨fun t => (Nat.not_lt_zero _ (lt_of_lt_of_eq t.isLt (rem_trips _))).elim,
   fun t => (Nat.not_lt_zero _ (lt_of_lt_of_eq t.isLt (rem_trips _))).elim⟩

theorem chk83_ok {v631 v663 : BitVec 32} (hb : (Scalar.select (Scalar.cmpi .sle (Scalar.maxsi (Scalar.divsi (Scalar.addi v631 255#32) 256#32) 1#32) 1#32) 1#32 0#32).toNat < 24) (hk : (Scalar.select (Scalar.cmpi .sle (Scalar.maxsi (Scalar.divsi (Scalar.addi v631 255#32) 256#32) 1#32) 1#32) 0#32 1#32).toNat < 6) : k0_chk83 v631 v663 :=
  ⟨chk83_0_ok hb hk, chk83_1_ok hb hk, chk83_2_ok hb hk⟩

theorem chk118_0_ok {v616 : BitVec 32} {k0_t6 : Fin (k0_t6_loop v616).trips} {arg29 arg30 v849 : BitVec 32} (hb : arg29.toNat < 24) (hk : arg30.toNat < 6) (hs : (Scalar.remsi (Scalar.addi (Scf.iv 0#32 1#32 k0_t6) 2#32) 3#32).toNat < 3) : k0_chk118_0 v616 k0_t6 arg29 arg30 v849 :=
  ⟨fun _ => ok_ubOf _,
   fun t _ => ids_inb (u := 0) hb hk (trip_lt _ t) (by decide) (by exact off_ids (u := 0) rfl rfl hk (trip_lt _ t) (by decide)),
   fun t _ => sem_inb hs,
   fun t _ => ring_inb hs (show 16 * t.val + 0 < 256 by have := (trip_lt _ t); omega) (by exact off_ring (u := 0) rfl (trip_lt _ t) (by decide)),
   fun t _ => ids_inb (u := 1) hb hk (trip_lt _ t) (by decide) (by exact off_ids (u := 1) rfl rfl hk (trip_lt _ t) (by decide)),
   fun t _ => sem_inb hs,
   fun t _ => ring_inb hs (show 16 * t.val + 1 < 256 by have := (trip_lt _ t); omega) (by exact off_ring (u := 1) rfl (trip_lt _ t) (by decide)),
   fun t _ => ids_inb (u := 2) hb hk (trip_lt _ t) (by decide) (by exact off_ids (u := 2) rfl rfl hk (trip_lt _ t) (by decide)),
   fun t _ => sem_inb hs,
   fun t _ => ring_inb hs (show 16 * t.val + 2 < 256 by have := (trip_lt _ t); omega) (by exact off_ring (u := 2) rfl (trip_lt _ t) (by decide)),
   fun t _ => ids_inb (u := 3) hb hk (trip_lt _ t) (by decide) (by exact off_ids (u := 3) rfl rfl hk (trip_lt _ t) (by decide)),
   fun t _ => sem_inb hs,
   fun t _ => ring_inb hs (show 16 * t.val + 3 < 256 by have := (trip_lt _ t); omega) (by exact off_ring (u := 3) rfl (trip_lt _ t) (by decide)),
   fun t _ => ids_inb (u := 4) hb hk (trip_lt _ t) (by decide) (by exact off_ids (u := 4) rfl rfl hk (trip_lt _ t) (by decide)),
   fun t _ => sem_inb hs,
   fun t _ => ring_inb hs (show 16 * t.val + 4 < 256 by have := (trip_lt _ t); omega) (by exact off_ring (u := 4) rfl (trip_lt _ t) (by decide)),
   fun t _ => ids_inb (u := 5) hb hk (trip_lt _ t) (by decide) (by exact off_ids (u := 5) rfl rfl hk (trip_lt _ t) (by decide)),
   fun t _ => sem_inb hs,
   fun t _ => ring_inb hs (show 16 * t.val + 5 < 256 by have := (trip_lt _ t); omega) (by exact off_ring (u := 5) rfl (trip_lt _ t) (by decide)),
   fun t _ => ids_inb (u := 6) hb hk (trip_lt _ t) (by decide) (by exact off_ids (u := 6) rfl rfl hk (trip_lt _ t) (by decide)),
   fun t _ => sem_inb hs,
   fun t _ => ring_inb hs (show 16 * t.val + 6 < 256 by have := (trip_lt _ t); omega) (by exact off_ring (u := 6) rfl (trip_lt _ t) (by decide)),
   fun t _ => ids_inb (u := 7) hb hk (trip_lt _ t) (by decide) (by exact off_ids (u := 7) rfl rfl hk (trip_lt _ t) (by decide)),
   fun t _ => sem_inb hs,
   fun t _ => ring_inb hs (show 16 * t.val + 7 < 256 by have := (trip_lt _ t); omega) (by exact off_ring (u := 7) rfl (trip_lt _ t) (by decide)),
   fun t _ => ids_inb (u := 8) hb hk (trip_lt _ t) (by decide) (by exact off_ids (u := 8) rfl rfl hk (trip_lt _ t) (by decide)),
   fun t _ => sem_inb hs,
   fun t _ => ring_inb hs (show 16 * t.val + 8 < 256 by have := (trip_lt _ t); omega) (by exact off_ring (u := 8) rfl (trip_lt _ t) (by decide)),
   fun t _ => ids_inb (u := 9) hb hk (trip_lt _ t) (by decide) (by exact off_ids (u := 9) rfl rfl hk (trip_lt _ t) (by decide)),
   fun t _ => sem_inb hs,
   fun t _ => ring_inb hs (show 16 * t.val + 9 < 256 by have := (trip_lt _ t); omega) (by exact off_ring (u := 9) rfl (trip_lt _ t) (by decide)),
   fun t _ => ids_inb (u := 10) hb hk (trip_lt _ t) (by decide) (by exact off_ids (u := 10) rfl rfl hk (trip_lt _ t) (by decide))⟩

theorem chk118_1_ok {v616 : BitVec 32} {k0_t6 : Fin (k0_t6_loop v616).trips} {arg29 arg30 v849 : BitVec 32} (hb : arg29.toNat < 24) (hk : arg30.toNat < 6) (hs : (Scalar.remsi (Scalar.addi (Scf.iv 0#32 1#32 k0_t6) 2#32) 3#32).toNat < 3) : k0_chk118_1 v616 k0_t6 arg29 arg30 v849 :=
  ⟨fun t _ => sem_inb hs,
   fun t _ => ring_inb hs (show 16 * t.val + 10 < 256 by have := (trip_lt _ t); omega) (by exact off_ring (u := 10) rfl (trip_lt _ t) (by decide)),
   fun t _ => ids_inb (u := 11) hb hk (trip_lt _ t) (by decide) (by exact off_ids (u := 11) rfl rfl hk (trip_lt _ t) (by decide)),
   fun t _ => sem_inb hs,
   fun t _ => ring_inb hs (show 16 * t.val + 11 < 256 by have := (trip_lt _ t); omega) (by exact off_ring (u := 11) rfl (trip_lt _ t) (by decide)),
   fun t _ => ids_inb (u := 12) hb hk (trip_lt _ t) (by decide) (by exact off_ids (u := 12) rfl rfl hk (trip_lt _ t) (by decide)),
   fun t _ => sem_inb hs,
   fun t _ => ring_inb hs (show 16 * t.val + 12 < 256 by have := (trip_lt _ t); omega) (by exact off_ring (u := 12) rfl (trip_lt _ t) (by decide)),
   fun t _ => ids_inb (u := 13) hb hk (trip_lt _ t) (by decide) (by exact off_ids (u := 13) rfl rfl hk (trip_lt _ t) (by decide)),
   fun t _ => sem_inb hs,
   fun t _ => ring_inb hs (show 16 * t.val + 13 < 256 by have := (trip_lt _ t); omega) (by exact off_ring (u := 13) rfl (trip_lt _ t) (by decide)),
   fun t _ => ids_inb (u := 14) hb hk (trip_lt _ t) (by decide) (by exact off_ids (u := 14) rfl rfl hk (trip_lt _ t) (by decide)),
   fun t _ => sem_inb hs,
   fun t _ => ring_inb hs (show 16 * t.val + 14 < 256 by have := (trip_lt _ t); omega) (by exact off_ring (u := 14) rfl (trip_lt _ t) (by decide)),
   fun t _ => ids_inb (u := 15) hb hk (trip_lt _ t) (by decide) (by exact off_ids (u := 15) rfl rfl hk (trip_lt _ t) (by decide)),
   fun t _ => sem_inb hs,
   fun t _ => ring_inb hs (show 16 * t.val + 15 < 256 by have := (trip_lt _ t); omega) (by exact off_ring (u := 15) rfl (trip_lt _ t) (by decide)),
   fun _ => rem_ok _,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim⟩

theorem chk118_2_ok {v616 : BitVec 32} {k0_t6 : Fin (k0_t6_loop v616).trips} {arg29 arg30 v849 : BitVec 32} (hb : arg29.toNat < 24) (hk : arg30.toNat < 6) (hs : (Scalar.remsi (Scalar.addi (Scf.iv 0#32 1#32 k0_t6) 2#32) 3#32).toNat < 3) : k0_chk118_2 v616 k0_t6 arg29 arg30 v849 :=
  ⟨fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim⟩

theorem chk118_3_ok {v616 : BitVec 32} {k0_t6 : Fin (k0_t6_loop v616).trips} {arg29 arg30 v849 : BitVec 32} (hb : arg29.toNat < 24) (hk : arg30.toNat < 6) (hs : (Scalar.remsi (Scalar.addi (Scf.iv 0#32 1#32 k0_t6) 2#32) 3#32).toNat < 3) : k0_chk118_3 v616 k0_t6 arg29 arg30 v849 :=
  ⟨fun t => (Nat.not_lt_zero _ (lt_of_lt_of_eq t.isLt (rem_trips _))).elim,
   fun t => (Nat.not_lt_zero _ (lt_of_lt_of_eq t.isLt (rem_trips _))).elim⟩

theorem chk118_ok {v616 : BitVec 32} {k0_t6 : Fin (k0_t6_loop v616).trips} {arg29 arg30 v849 : BitVec 32} (hb : arg29.toNat < 24) (hk : arg30.toNat < 6) (hs : (Scalar.remsi (Scalar.addi (Scf.iv 0#32 1#32 k0_t6) 2#32) 3#32).toNat < 3) : k0_chk118 v616 k0_t6 arg29 arg30 v849 :=
  ⟨chk118_0_ok hb hk hs, chk118_1_ok hb hk hs, chk118_2_ok hb hk hs, chk118_3_ok hb hk hs⟩

theorem chk152_0_ok {arg25 arg26 v667 : BitVec 32} (hb : arg25.toNat < 24) (hk : arg26.toNat < 6) : k0_chk152_0 arg25 arg26 v667 :=
  ⟨ok_ubOf _,
   fun t => ids_inb (u := 0) hb hk (trip_lt _ t) (by decide) (by exact off_ids (u := 0) rfl rfl hk (trip_lt _ t) (by decide)),
   fun t => line_inb' (show 16 * t.val + 0 < 256 by have := (trip_lt _ t); omega) (by exact off_line (u := 0) (trip_lt _ t) (by decide)),
   fun t => ids_inb (u := 1) hb hk (trip_lt _ t) (by decide) (by exact off_ids (u := 1) rfl rfl hk (trip_lt _ t) (by decide)),
   fun t => line_inb' (show 16 * t.val + 1 < 256 by have := (trip_lt _ t); omega) (by exact off_line (u := 1) (trip_lt _ t) (by decide)),
   fun t => ids_inb (u := 2) hb hk (trip_lt _ t) (by decide) (by exact off_ids (u := 2) rfl rfl hk (trip_lt _ t) (by decide)),
   fun t => line_inb' (show 16 * t.val + 2 < 256 by have := (trip_lt _ t); omega) (by exact off_line (u := 2) (trip_lt _ t) (by decide)),
   fun t => ids_inb (u := 3) hb hk (trip_lt _ t) (by decide) (by exact off_ids (u := 3) rfl rfl hk (trip_lt _ t) (by decide)),
   fun t => line_inb' (show 16 * t.val + 3 < 256 by have := (trip_lt _ t); omega) (by exact off_line (u := 3) (trip_lt _ t) (by decide)),
   fun t => ids_inb (u := 4) hb hk (trip_lt _ t) (by decide) (by exact off_ids (u := 4) rfl rfl hk (trip_lt _ t) (by decide)),
   fun t => line_inb' (show 16 * t.val + 4 < 256 by have := (trip_lt _ t); omega) (by exact off_line (u := 4) (trip_lt _ t) (by decide)),
   fun t => ids_inb (u := 5) hb hk (trip_lt _ t) (by decide) (by exact off_ids (u := 5) rfl rfl hk (trip_lt _ t) (by decide)),
   fun t => line_inb' (show 16 * t.val + 5 < 256 by have := (trip_lt _ t); omega) (by exact off_line (u := 5) (trip_lt _ t) (by decide)),
   fun t => ids_inb (u := 6) hb hk (trip_lt _ t) (by decide) (by exact off_ids (u := 6) rfl rfl hk (trip_lt _ t) (by decide)),
   fun t => line_inb' (show 16 * t.val + 6 < 256 by have := (trip_lt _ t); omega) (by exact off_line (u := 6) (trip_lt _ t) (by decide)),
   fun t => ids_inb (u := 7) hb hk (trip_lt _ t) (by decide) (by exact off_ids (u := 7) rfl rfl hk (trip_lt _ t) (by decide)),
   fun t => line_inb' (show 16 * t.val + 7 < 256 by have := (trip_lt _ t); omega) (by exact off_line (u := 7) (trip_lt _ t) (by decide)),
   fun t => ids_inb (u := 8) hb hk (trip_lt _ t) (by decide) (by exact off_ids (u := 8) rfl rfl hk (trip_lt _ t) (by decide)),
   fun t => line_inb' (show 16 * t.val + 8 < 256 by have := (trip_lt _ t); omega) (by exact off_line (u := 8) (trip_lt _ t) (by decide)),
   fun t => ids_inb (u := 9) hb hk (trip_lt _ t) (by decide) (by exact off_ids (u := 9) rfl rfl hk (trip_lt _ t) (by decide)),
   fun t => line_inb' (show 16 * t.val + 9 < 256 by have := (trip_lt _ t); omega) (by exact off_line (u := 9) (trip_lt _ t) (by decide)),
   fun t => ids_inb (u := 10) hb hk (trip_lt _ t) (by decide) (by exact off_ids (u := 10) rfl rfl hk (trip_lt _ t) (by decide)),
   fun t => line_inb' (show 16 * t.val + 10 < 256 by have := (trip_lt _ t); omega) (by exact off_line (u := 10) (trip_lt _ t) (by decide)),
   fun t => ids_inb (u := 11) hb hk (trip_lt _ t) (by decide) (by exact off_ids (u := 11) rfl rfl hk (trip_lt _ t) (by decide)),
   fun t => line_inb' (show 16 * t.val + 11 < 256 by have := (trip_lt _ t); omega) (by exact off_line (u := 11) (trip_lt _ t) (by decide)),
   fun t => ids_inb (u := 12) hb hk (trip_lt _ t) (by decide) (by exact off_ids (u := 12) rfl rfl hk (trip_lt _ t) (by decide)),
   fun t => line_inb' (show 16 * t.val + 12 < 256 by have := (trip_lt _ t); omega) (by exact off_line (u := 12) (trip_lt _ t) (by decide)),
   fun t => ids_inb (u := 13) hb hk (trip_lt _ t) (by decide) (by exact off_ids (u := 13) rfl rfl hk (trip_lt _ t) (by decide)),
   fun t => line_inb' (show 16 * t.val + 13 < 256 by have := (trip_lt _ t); omega) (by exact off_line (u := 13) (trip_lt _ t) (by decide)),
   fun t => ids_inb (u := 14) hb hk (trip_lt _ t) (by decide) (by exact off_ids (u := 14) rfl rfl hk (trip_lt _ t) (by decide)),
   fun t => line_inb' (show 16 * t.val + 14 < 256 by have := (trip_lt _ t); omega) (by exact off_line (u := 14) (trip_lt _ t) (by decide)),
   fun t => ids_inb (u := 15) hb hk (trip_lt _ t) (by decide) (by exact off_ids (u := 15) rfl rfl hk (trip_lt _ t) (by decide))⟩

theorem chk152_1_ok {arg25 arg26 v667 : BitVec 32} (hb : arg25.toNat < 24) (hk : arg26.toNat < 6) : k0_chk152_1 arg25 arg26 v667 :=
  ⟨fun t => line_inb' (show 16 * t.val + 15 < 256 by have := (trip_lt _ t); omega) (by exact off_line (u := 15) (trip_lt _ t) (by decide)),
   rem_ok _,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim⟩

theorem chk152_2_ok {arg25 arg26 v667 : BitVec 32} (hb : arg25.toNat < 24) (hk : arg26.toNat < 6) : k0_chk152_2 arg25 arg26 v667 :=
  ⟨fun t => (Nat.not_lt_zero _ (lt_of_lt_of_eq t.isLt (rem_trips _))).elim,
   fun t => (Nat.not_lt_zero _ (lt_of_lt_of_eq t.isLt (rem_trips _))).elim⟩

theorem chk152_ok {arg25 arg26 v667 : BitVec 32} (hb : arg25.toNat < 24) (hk : arg26.toNat < 6) : k0_chk152 arg25 arg26 v667 :=
  ⟨chk152_0_ok hb hk, chk152_1_ok hb hk, chk152_2_ok hb hk⟩

theorem chk185_0_ok {v616 : BitVec 32} {k0_t6 : Fin (k0_t6_loop v616).trips} {arg26 v683 : BitVec 32} (hs : (Scalar.remsi (Scf.iv 0#32 1#32 k0_t6) 3#32).toNat < 3) : k0_chk185_0 v616 k0_t6 arg26 v683 :=
  ⟨ok_ubOf _,
   fun t => sem_inb hs,
   fun t => ring_inb hs (show 0 < 256 by decide) rfl,
   fun t => ring_inb hs (show 1 < 256 by decide) rfl,
   fun t => ring_inb hs (show 2 < 256 by decide) rfl,
   fun t => ring_inb hs (show 3 < 256 by decide) rfl,
   fun t => ring_inb hs (show 4 < 256 by decide) rfl,
   fun t => ring_inb hs (show 5 < 256 by decide) rfl,
   fun t => ring_inb hs (show 6 < 256 by decide) rfl,
   fun t => ring_inb hs (show 7 < 256 by decide) rfl,
   fun t => ring_inb hs (show 8 < 256 by decide) rfl,
   fun t => ring_inb hs (show 9 < 256 by decide) rfl,
   fun t => ring_inb hs (show 10 < 256 by decide) rfl,
   fun t => ring_inb hs (show 11 < 256 by decide) rfl,
   fun t => ring_inb hs (show 12 < 256 by decide) rfl,
   fun t => ring_inb hs (show 13 < 256 by decide) rfl,
   fun t => ring_inb hs (show 14 < 256 by decide) rfl,
   fun t => ring_inb hs (show 15 < 256 by decide) rfl,
   rem_ok _,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim⟩

theorem chk185_1_ok {v616 : BitVec 32} {k0_t6 : Fin (k0_t6_loop v616).trips} {arg26 v683 : BitVec 32} (hs : (Scalar.remsi (Scf.iv 0#32 1#32 k0_t6) 3#32).toNat < 3) : k0_chk185_1 v616 k0_t6 arg26 v683 :=
  ⟨fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim⟩

theorem chk185_ok {v616 : BitVec 32} {k0_t6 : Fin (k0_t6_loop v616).trips} {arg26 v683 : BitVec 32} (hs : (Scalar.remsi (Scf.iv 0#32 1#32 k0_t6) 3#32).toNat < 3) : k0_chk185 v616 k0_t6 arg26 v683 :=
  ⟨chk185_0_ok hs, chk185_1_ok hs⟩

end Cert.KernelIdeal.Hand
-- ==== Proof.Body53.lean ====
/-
  The first part of one block's turn: the copies of the block two ahead are started, and the scales' lines of this
  block gathered.
-/
module

public import proofs.«01_k».proof.Proof.Slots
public import proofs.«01_k».proof.Proof.GatherLoop
public import proofs.«01_k».proof.Proof.IssueAhead
public import proofs.«01_k».proof.Proof.Checks

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

theorem chk186_ok {b k : ℕ} (hb : b < 24) (hk : k < 6) : k0_chk186 (BitVec.ofNat 32 b) (BitVec.ofNat 32 k) := by
  revert hk; revert k
  have e : ∀ k : Fin 6, (Scalar.muli (BitVec.ofNat 32 k.val) 2#32).toNat = 2 * k.val ∧ (Scalar.muli (BitVec.ofNat 32 k.val) 256#32).toNat = 256 * k.val := by decide
  intro k hk
  obtain ⟨e1, e2⟩ := e ⟨k, hk⟩; dsimp only at e1 e2
  have hb' : (BitVec.ofNat 32 b).toNat = b := ofNat_toNat' (by omega)
  refine ⟨fun a => ?_, ?_, fun a => ?_⟩
  · match a with
    | 0 => exact (show (BitVec.ofNat 32 b).toNat + 1 ≤ 24 by omega)
    | 1 => exact (show (Scalar.muli (BitVec.ofNat 32 k) 2#32).toNat + 2 ≤ 12 by omega)
    | 2 => exact (show 0 + 128 ≤ 128 by omega)
  · show 256 ∣ (Scalar.muli (BitVec.ofNat 32 k) 256#32).toNat
    rw [e2]; exact Nat.dvd_mul_right _ _
  · match a with
    | 0 => exact (show (BitVec.ofNat 32 b).toNat + 1 ≤ 24 by omega)
    | 1 => exact (show (Scalar.muli (BitVec.ofNat 32 k) 256#32).toNat + 256 ≤ 1536 by omega)

theorem chk151_ok {b : ℕ} (hb : b < 24) : k0_chk151 (BitVec.ofNat 32 b) := by
  have hb' : (BitVec.ofNat 32 b).toNat = b := ofNat_toNat' (by omega)
  have h1 : ∀ a, (![(BitVec.ofNat 32 b).toNat] : Fin 1 → ℕ) a + S1.size a ≤ S24.size a := lens_inb (by omega)
  refine ⟨h1, h1, h1, fun a => ?_, fun a => ?_⟩
  · match a with
    | 0 => exact (show (BitVec.ofNat 32 b).toNat + 1 ≤ 32 by omega)
    | 1 => exact (show 0 + 256 ≤ 256 by omega)
  · match a with
    | 0 => exact (show (BitVec.ofNat 32 b).toNat + 1 ≤ 24 by omega)
    | 1 => exact (show 0 + 256 ≤ 256 by omega)

theorem chk117_ok {b : ℕ} (hb : b ≤ 24) : k0_chk117 (BitVec.ofNat 32 b) := by
  have hb' : (BitVec.ofNat 32 b).toNat = b := ofNat_toNat' (by omega)
  refine ⟨fun h => ?_, ?_⟩
  · have : b < 24 := (cond2_iff ⟨b, by omega⟩).1 h
    exact lens_inb (show (BitVec.ofNat 32 b).toNat < 24 by omega)
  · exact lens_inb (show (Scalar.minsi (BitVec.ofNat 32 b) 23#32).toNat < 24 by rw [min_23 (by omega)]; exact (fin24 _).isLt)

theorem off_len {b : ℕ} (hb : b < 24) : (![(Scalar.indexCast (BitVec.ofNat 32 b)).toNat] : Fin 1 → ℕ) = ![(fin24 b).val] := by
  show (![(BitVec.ofNat 32 b).toNat] : Fin 1 → ℕ) = _
  rw [ofNat_toNat' (by omega)]
  show _ = ![min b 23]
  rw [min_eq_left (by omega)]

theorem fin24_val {b : ℕ} (hb : b < 24) : (fin24 b).val = b := min_eq_left (by omega)
theorem fin6_val {b : ℕ} (hb : b < 6) : (fin6 b).val = b := min_eq_left (by omega)

theorem trips7 (k : ℕ) (v : BitVec 32) : 16 * (k0_t7_loop (BitVec.ofNat 32 k) v).trips = rowsOf v k :=
  congrArg (16 * ·) (trips_ubOf _)
theorem trips9 (k : ℕ) (v : BitVec 32) : 16 * (k0_t9_loop (BitVec.ofNat 32 k) v).trips = rowsOf v k :=
  congrArg (16 * ·) (trips_ubOf _)

theorem part53_ok (q : Fin 3 → PosShare TreeShare) (fl : LenBuf F c) (fi : IdBuf F c) (fw : WordBuf F c) (fs : SclBuf F c) (hfi : IdsOk fi)
    {b k b2 k2 : ℕ} (hb : b < 24) (hk : k < 6) (hb2 : b2 ≤ 24) (hk2 : k2 < 6)
    (v616 : BitVec 32) (t : Fin (k0_t6_loop v616).trips) (ht : t.val < 900) :
    iprop(pt c cc0_stg0_0 fl ∗ pt c cc0_stg1_0 fi ∗ pt c cc0_scratch2 fs ∗ (∃ g0, pt c cc0_scratch1 g0) ∗ (∃ f, Idle c (fin3 (t.val + 2)) (q (fin3 (t.val + 2))) fw f))
      ⊢ wp frame (wpE defs 𝒱 (c : Thread nD τ) bd) Set.univ (k0_part53 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v616 0#32 1#32 t (BitVec.ofNat 32 b) (BitVec.ofNat 32 k) (BitVec.ofNat 32 b2) (BitVec.ofNat 32 k2))
        (fun a => iprop(⌜a.2.2.2.2.1 = lenAt fl (fin24 b)⌝ ∗ pt c cc0_stg0_0 fl ∗ pt c cc0_stg1_0 fi ∗ pt c cc0_scratch2 fs
          ∗ (∃ g0, pt c cc0_scratch1 (lineBuf fs fi (fin24 b) (fin6 k) g0 (rowsOf (lenAt fl (fin24 b)) k)))
          ∗ SlotF c q fl fi fw (fin3 (t.val + 2)) (b2, k2))) := by
  have hbn : (BitVec.ofNat 32 b).toNat = b := ofNat_toNat' (by omega)
  have hkn : (BitVec.ofNat 32 k).toNat = k := ofNat_toNat' (by omega)
  have hbn2 : (BitVec.ofNat 32 b2).toNat = b2 := ofNat_toNat' (by omega)
  have hkn2 : (BitVec.ofNat 32 k2).toNat = k2 := ofNat_toNat' (by omega)
  rw [k0_part53_eq_skeleton]
  unfold k0_part53_skel
  simp only [Prog.bind_assoc, Prog.bind_ret, Prog.pure_eq_ret]
  iintro ⟨Hl, Hi, Hs, ⟨%g0, Hg⟩, ⟨%f, HI⟩⟩
  iapply (wp_assume 𝒱 (c : Thread nD τ) bd Set.univ (chk186_ok hb hk))
  iapply (wp_assume 𝒱 (c : Thread nD τ) bd Set.univ (chk151_ok hb))
  iapply (wp_assume 𝒱 (c : Thread nD τ) bd Set.univ (chk117_ok hb2))
  have tr : ∀ x : BitVec 32, Scf.trips (Scalar.addi 0#32 (Scalar.muli (Scalar.divsi (Scalar.subi x 0#32) 1#32) 1#32)) (Scalar.addi 0#32 (Scalar.subi x 0#32)) 1#32 = 0 := rem_trips
  have hT7 : ∀ v, (k0_t7_loop (BitVec.ofNat 32 k2) v).trips ≤ 16 := fun v => by have := trips7 k2 v; have := rowsOf_le v k2; omega
  have hT9 : ∀ v, (k0_t9_loop (BitVec.ofNat 32 k) v).trips ≤ 16 := fun v => by have := trips9 k v; have := rowsOf_le v k; omega
  have hs2 : (Scalar.remsi (Scalar.addi (Scf.iv 0#32 1#32 t.val) 2#32) 3#32).toNat = (fin3 (t.val + 2)).val := iv_rem2 ht
  by_cases hc : k0_cond2 (BitVec.ofNat 32 b2) = 1#1
  · have hlt : b2 < 24 := (cond2_iff ⟨b2, by omega⟩).1 hc
    iapply (wp_if_pos 𝒱 c bd hc)
    iapply (wp_len 𝒱 c bd fl (fin24 b2) (off_len hlt)) $$ Hl
    iintro Hl
    iapply (wp_assume 𝒱 (c : Thread nD τ) bd Set.univ (chk118_ok (v616 := v616) (k0_t6 := t) (arg29 := BitVec.ofNat 32 b2) (arg30 := BitVec.ofNat 32 k2) (v849 := lenAt fl (fin24 b2)) (by omega) (by omega) (by rw [hs2]; exact (fin3 _).isLt)))
    imod (idle_open c (fin3 (t.val + 2)) (q (fin3 (t.val + 2))) fw (gathered fw fi (fin24 b2) (fin6 k2)) f (rowsOf (lenAt fl (fin24 b2)) k2)) $$ HI with HF
    iapply (Scf.wp_for_bind _ _ _ _ _ _ _ _ _ (fun n _ => iprop(pt c cc0_stg1_0 fi ∗ Filling c (.dma (slotSem (fin3 (t.val + 2)))) (fin3 (t.val + 2)) (q (fin3 (t.val + 2))) fw (gathered fw fi (fin24 b2) (fin6 k2)) f (rowsOf (lenAt fl (fin24 b2)) k2) (16 * n)))
      (fun t' acc => t7_step 𝒱 c bd (fin3 (t.val + 2)) (q (fin3 (t.val + 2))) fw fi f (fin24 b2) (fin6 k2) (rowsOf (lenAt fl (fin24 b2)) k2) hfi (by rw [fin24_val hlt]; exact hbn2) (by rw [fin6_val hk2]; exact hkn2) hs2 (trips7 _ _).symm (hT7 _) t')) $$ [Hi HF]
    · isplitl [Hi]; · iexact Hi
      iexact HF
    iintro %_ ⟨Hi, HF⟩
    iapply (Scf.wp_for0_bind' _ _ _ _ _ _ _ _ _ (tr _) _ _ _ .rfl)
    ihave HS : SlotF c q fl fi fw (fin3 (t.val + 2)) (b2, k2) $$ [HF]
    · unfold SlotF
      rw [if_pos hlt]
      iexists f
      rw [trips7]
      iexact HF
    iapply (wp_len 𝒱 c bd fl (fin24 b) (off_len hb)) $$ Hl
    iintro Hl
    iapply (wp_assume 𝒱 (c : Thread nD τ) bd Set.univ (chk152_ok (arg25 := BitVec.ofNat 32 b) (arg26 := BitVec.ofNat 32 k) (v667 := lenAt fl (fin24 b)) (by omega) (by omega)))
    iapply (Scf.wp_for_bind _ _ _ _ _ _ _ _ _ (fun n _ => iprop(pt c cc0_stg1_0 fi ∗ pt c cc0_scratch2 fs ∗ pt c cc0_scratch1 (lineBuf fs fi (fin24 b) (fin6 k) g0 (16 * n))))
      (fun t' acc => t9_step 𝒱 c bd fs fi (fin24 b) (fin6 k) g0 hfi (by rw [fin24_val hb]; exact hbn) (by rw [fin6_val hk]; exact hkn) (hT9 _) t')) $$ [Hi Hs Hg]
    · isplitl [Hi]; · iexact Hi
      isplitl [Hs]; · iexact Hs
      iexact Hg
    iintro %_ ⟨Hi, Hs, Hg⟩
    iapply (Scf.wp_for0_bind' _ _ _ _ _ _ _ _ _ (tr _) _ _ _ .rfl)
    iapply (wp_len 𝒱 c bd fl (fin24 b) (off_len hb)) $$ Hl
    iintro Hl
    iapply (wp_assume 𝒱 (c : Thread nD τ) bd Set.univ (chk185_ok (v616 := v616) (k0_t6 := t) (arg26 := BitVec.ofNat 32 k) (v683 := lenAt fl (fin24 b)) (by rw [iv_rem ht]; exact Nat.mod_lt _ (by decide))))
    iapply (le_wp_ret _ _ _)
    isplitr
    · ipureintro; rfl
    isplitl [Hl]; · iexact Hl
    isplitl [Hi]; · iexact Hi
    isplitl [Hs]; · iexact Hs
    isplitl [Hg]
    · iexists g0
      rw [trips9]
      iexact Hg
    iexact HS
  · have hlt : ¬ b2 < 24 := fun h => hc ((cond2_iff ⟨b2, by omega⟩).2 h)
    iapply (wp_if_neg 𝒱 c bd hc)
    ihave HS : SlotF c q fl fi fw (fin3 (t.val + 2)) (b2, k2) $$ [HI]
    · unfold SlotF
      rw [if_neg hlt]
      iexists f
      iexact HI
    iapply (wp_len 𝒱 c bd fl (fin24 b) (off_len hb)) $$ Hl
    iintro Hl
    iapply (wp_assume 𝒱 (c : Thread nD τ) bd Set.univ (chk152_ok (arg25 := BitVec.ofNat 32 b) (arg26 := BitVec.ofNat 32 k) (v667 := lenAt fl (fin24 b)) (by omega) (by omega)))
    iapply (Scf.wp_for_bind _ _ _ _ _ _ _ _ _ (fun n _ => iprop(pt c cc0_stg1_0 fi ∗ pt c cc0_scratch2 fs ∗ pt c cc0_scratch1 (lineBuf fs fi (fin24 b) (fin6 k) g0 (16 * n))))
      (fun t' acc => t9_step 𝒱 c bd fs fi (fin24 b) (fin6 k) g0 hfi (by rw [fin24_val hb]; exact hbn) (by rw [fin6_val hk]; exact hkn) (hT9 _) t')) $$ [Hi Hs Hg]
    · isplitl [Hi]; · iexact Hi
      isplitl [Hs]; · iexact Hs
      iexact Hg
    iintro %_ ⟨Hi, Hs, Hg⟩
    iapply (Scf.wp_for0_bind' _ _ _ _ _ _ _ _ _ (tr _) _ _ _ .rfl)
    iapply (wp_len 𝒱 c bd fl (fin24 b) (off_len hb)) $$ Hl
    iintro Hl
    iapply (wp_assume 𝒱 (c : Thread nD τ) bd Set.univ (chk185_ok (v616 := v616) (k0_t6 := t) (arg26 := BitVec.ofNat 32 k) (v683 := lenAt fl (fin24 b)) (by rw [iv_rem ht]; exact Nat.mod_lt _ (by decide))))
    iapply (le_wp_ret _ _ _)
    isplitr
    · ipureintro; rfl
    isplitl [Hl]; · iexact Hl
    isplitl [Hi]; · iexact Hi
    isplitl [Hs]; · iexact Hs
    isplitl [Hg]
    · iexists g0
      rw [trips9]
      iexact Hg
    iexact HS

end Cert.KernelIdeal.Hand
-- ==== Proof.WaitLoop.lean ====
module

public import proofs.«01_k».proof.Proof.Wait

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)

/-- One trip of the loop that waits for a slot's copies: sixteen rows more are known to be over. -/
theorem t11_step {arg0 : Memref sig .tc .smem S24 .i32} {harg0 : arg0.IsWhole} {arg2 : Memref sig .tc .smem S24 .i32} {harg2 : arg2.IsWhole} {arg4 : Memref sig .tc .hbm S1000000 .f32} {harg4 : arg4.IsWhole} {arg5 : Memref sig .tc .vmem S24x12x128 .i32} {harg5 : arg5.IsWhole} {arg6 : Memref sig .tc .vmem S1x128 .i32} {harg6 : arg6.IsWhole} {arg7 : Memref sig .tc .vmem S1024x256 .bf16} {harg7 : arg7.IsWhole} {arg8 : Memref sig .tc .vmem S1x256 .f32} {harg8 : arg8.IsWhole} {arg9 : Memref sig .tc .vmem S1x256 .f32} {harg9 : arg9.IsWhole} {arg10 : Memref sig .tc .vmem S256x128 .bf16} {harg10 : arg10.IsWhole} {arg11 : Memref sig .tc .vmem S1x128 .f32} {harg11 : arg11.IsWhole} {arg12 : Memref sig .tc .vmem S1x128 .f32} {harg12 : arg12.IsWhole} {arg13 : Memref sig .tc .vmem S8x128 .bf16} {harg13 : arg13.IsWhole} {arg14 : Memref sig .tc .smem S1x1 .f32} {harg14 : arg14.IsWhole} {arg15 : Memref sig .tc .vmem S24x256 .f32} {harg15 : arg15.IsWhole} {arg16 : Memref sig .tc .vmem S24x1536 .f32} {harg16 : arg16.IsWhole} {arg18 : Memref sig .tc .vmem S256x128 .f32} {harg18 : arg18.IsWhole} {arg19 : Memref sig .tc .vmem S1000000 .f32} {harg19 : arg19.IsWhole} {arg20 : Memref sig .tc .vmem S32x256 .f32} {harg20 : arg20.IsWhole} {arg21 : Memref sig .tc .vmem S32x256 .f32} {harg21 : arg21.IsWhole} {arg22 : DmaSems sig S_} {v616 : BitVec 32} {k0_hw116 : k0_chk116 v616} {k0_t6 : Fin (k0_t6_loop v616).trips} {arg25 : BitVec 32} {arg26 : BitVec 32} {k0_hw186 : k0_chk186 arg25 arg26} {k0_hw151 : k0_chk151 arg25} {v662 : BitVec 32} {v683 : Elt F .i32} {k0_hw185 : k0_chk185 v616 k0_t6 arg26 v683} {v689 : BitVec 32} {c1_i32_506 : BitVec 32}
    (s : Fin 3) (q0 : PosShare TreeShare) (fw : WordBuf F c) (G : RingBuf F c) (n : ℕ)
    (hs : (Scalar.remsi (Scf.iv 0#32 1#32 k0_t6) 3#32).toNat = s.val)
    (hn : n = 16 * (k0_t11_loop arg26 v683).trips)
    (t : Fin (k0_t11_loop arg26 v683).trips) :
    iprop(RowBatch c (.dma (slotSem s)) s q0 fw G n n (rowN * (16 * t.val)) ∗ noDebt c)
      ⊢ wp frame (wpE defs 𝒱 (c : Thread nD τ) bd) Set.univ (k0_t11_body arg0 harg0 aIds (Memref.isWhole_whole _) arg2 harg2 hWords (Memref.isWhole_whole _) arg4 harg4 arg5 harg5 arg6 harg6 arg7 harg7 arg8 harg8 arg9 harg9 arg10 harg10 arg11 harg11 arg12 harg12 arg13 harg13 arg14 harg14 arg15 harg15 arg16 harg16 sRows (Memref.isWhole_whole _) arg18 harg18 arg19 harg19 arg20 harg20 arg21 harg21 arg22 cc0_scratch6 v616 k0_hw116 k0_t6 arg25 arg26 k0_hw186 k0_hw151 v662 v683 k0_hw185 v689 c1_i32_506 t ())
        (fun _ => iprop(RowBatch c (.dma (slotSem s)) s q0 fw G n n (rowN * (16 * (t.val + 1))) ∗ noDebt c)) := by
  have hj : 16 * t.val + 16 ≤ n := by have := t.isLt; omega
  unfold k0_t11_body
  simp only [k0_part47_eq_skeleton, k0_part48_eq_skeleton, k0_part49_eq_skeleton]
  unfold k0_part47_skel k0_part48_skel k0_part49_skel
  simp only [Prog.bind_assoc, Prog.bind_ret, Prog.pure_eq_ret]
  iintro H
  iapply (wp_wait_row 𝒱 c bd s q0 fw G n (16 * t.val + 0) (by omega) (slot_sem s (by exact congrArg (fun z => ![z]) hs))) $$ H
  iintro H
  iapply (wp_wait_row 𝒱 c bd s q0 fw G n (16 * t.val + 1) (by omega) (slot_sem s (by exact congrArg (fun z => ![z]) hs))) $$ H
  iintro H
  iapply (wp_wait_row 𝒱 c bd s q0 fw G n (16 * t.val + 2) (by omega) (slot_sem s (by exact congrArg (fun z => ![z]) hs))) $$ H
  iintro H
  iapply (wp_wait_row 𝒱 c bd s q0 fw G n (16 * t.val + 3) (by omega) (slot_sem s (by exact congrArg (fun z => ![z]) hs))) $$ H
  iintro H
  iapply (wp_wait_row 𝒱 c bd s q0 fw G n (16 * t.val + 4) (by omega) (slot_sem s (by exact congrArg (fun z => ![z]) hs))) $$ H
  iintro H
  iapply (wp_wait_row 𝒱 c bd s q0 fw G n (16 * t.val + 5) (by omega) (slot_sem s (by exact congrArg (fun z => ![z]) hs))) $$ H
  iintro H
  iapply (wp_wait_row 𝒱 c bd s q0 fw G n (16 * t.val + 6) (by omega) (slot_sem s (by exact congrArg (fun z => ![z]) hs))) $$ H
  iintro H
  iapply (wp_wait_row 𝒱 c bd s q0 fw G n (16 * t.val + 7) (by omega) (slot_sem s (by exact congrArg (fun z => ![z]) hs))) $$ H
  iintro H
  iapply (wp_wait_row 𝒱 c bd s q0 fw G n (16 * t.val + 8) (by omega) (slot_sem s (by exact congrArg (fun z => ![z]) hs))) $$ H
  iintro H
  iapply (wp_wait_row 𝒱 c bd s q0 fw G n (16 * t.val + 9) (by omega) (slot_sem s (by exact congrArg (fun z => ![z]) hs))) $$ H
  iintro H
  iapply (wp_wait_row 𝒱 c bd s q0 fw G n (16 * t.val + 10) (by omega) (slot_sem s (by exact congrArg (fun z => ![z]) hs))) $$ H
  iintro H
  iapply (wp_wait_row 𝒱 c bd s q0 fw G n (16 * t.val + 11) (by omega) (slot_sem s (by exact congrArg (fun z => ![z]) hs))) $$ H
  iintro H
  iapply (wp_wait_row 𝒱 c bd s q0 fw G n (16 * t.val + 12) (by omega) (slot_sem s (by exact congrArg (fun z => ![z]) hs))) $$ H
  iintro H
  iapply (wp_wait_row 𝒱 c bd s q0 fw G n (16 * t.val + 13) (by omega) (slot_sem s (by exact congrArg (fun z => ![z]) hs))) $$ H
  iintro H
  iapply (wp_wait_row 𝒱 c bd s q0 fw G n (16 * t.val + 14) (by omega) (slot_sem s (by exact congrArg (fun z => ![z]) hs))) $$ H
  iintro H
  iapply (wp_wait_row 𝒱 c bd s q0 fw G n (16 * t.val + 15) (by omega) (slot_sem s (by exact congrArg (fun z => ![z]) hs))) $$ H
  iintro H
  iapply (le_wp_ret _ _ _)
  iexact H

end Cert.KernelIdeal.Hand
-- ==== Proof.Body.lean ====
/-
  One block's turn: from what the kernel holds when `i` blocks are done to what it holds when `i + 1` are.
-/
module

public import proofs.«01_k».proof.Proof.Turn
public import proofs.«01_k».proof.Proof.Body53
public import proofs.«01_k».proof.Proof.WaitLoop

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

/-- What the kernel holds when `i` blocks are done, the loop's variables at the next three positions. -/
def Inv (q : Fin 3 → PosShare TreeShare) (I : Ins F c) (tf : TfBuf F c) (tw : TwBuf F c) (R : ℕ → ScoreBuf F c → IntBuf F c → Prop) (i : ℕ)
    (acc : BitVec 32 × BitVec 32 × BitVec 32 × BitVec 32 × BitVec 32 × BitVec 32) : sProp 𝕄 :=
  iprop(⌜acc = (BitVec.ofNat 32 (pos (lenAt I.fl) i).1, BitVec.ofNat 32 (pos (lenAt I.fl) i).2, BitVec.ofNat 32 (pos (lenAt I.fl) (i + 1)).1, BitVec.ofNat 32 (pos (lenAt I.fl) (i + 1)).2, BitVec.ofNat 32 (pos (lenAt I.fl) (i + 2)).1, BitVec.ofNat 32 (pos (lenAt I.fl) (i + 2)).2)⌝
    ∗ (pt c cc0_stg0_0 I.fl ∗ pt c cc0_stg1_0 I.fi ∗ pt c cc0_scratch2 I.fs ∗ pt c cc0_scratch3 tf ∗ pt c cc0_scratch4 tw ∗ pt c cc0_stg3_0 I.idb ∗ pt c cc0_stg5_0 I.w1 ∗ pt c cc0_stg7_0 I.a1 ∗ pt c cc0_stg8_0 I.w2 ∗ pt c cc0_stg9_0 I.b2 ∗ pt c cc0_stg10_0 I.a2 ∗ pt c cc0_stg11_0 I.w3 ∗ pt c cc0_stg12_0 I.b3) ∗ (∃ g0, pt c cc0_scratch1 g0)
    ∗ SlotF c q I.fl I.fi I.fw (fin3 i) (pos (lenAt I.fl) i) ∗ SlotF c q I.fl I.fi I.fw (fin3 (i + 1)) (pos (lenAt I.fl) (i + 1)) ∗ (∃ f, Idle c (fin3 (i + 2)) (q (fin3 (i + 2))) I.fw f)
    ∗ noDebt c ∗ (∃ sc it, pt c cc0_stg14_0 sc ∗ pt c cc0_stg13_0 it ∗ ⌜R i sc it⌝))

theorem adv_ofNat {L : Fin 24 → BitVec 32} (hL : ∀ b, LenOk (L b)) {b k : ℕ} (hb : b ≤ 24) (hk : k < 6) :
    advB (L (fin24 b)) (BitVec.ofNat 32 b) (BitVec.ofNat 32 k) = BitVec.ofNat 32 (stepPos L (b, k)).1
      ∧ advK (L (fin24 b)) (BitVec.ofNat 32 k) = BitVec.ofNat 32 (stepPos L (b, k)).2 := by
  have e1 : (BitVec.ofNat 32 b).toNat = b := ofNat_toNat' (by omega)
  have e2 : (BitVec.ofNat 32 k).toNat = k := ofNat_toNat' (by omega)
  have h := adv_toNat hL (b := BitVec.ofNat 32 b) (k := BitVec.ofNat 32 k) (by omega) (by omega)
  rw [e1, e2] at h
  exact ⟨eq_ofNat (congrArg Prod.fst h), eq_ofNat (congrArg Prod.snd h)⟩

theorem trips11 (k : ℕ) (v : BitVec 32) : 16 * (k0_t11_loop (BitVec.ofNat 32 k) v).trips = rowsOf v k :=
  congrArg (16 * ·) (trips_ubOf _)

/-- The load of the last bias. -/
theorem wp_b3 {h : ∀ a, (![0, 0] : Fin 2 → ℕ) a + S1x1.size a ≤ S1x1.size a} {n1} {r1}
    {K : Elt F .f32 → Prog (TpuEff nD τ sig (Elt F) Λ₀ .tc) α} {Q : α → sProp 𝕄} (I : Ins F c) :
    pt c cc0_stg12_0 I.b3
      ⊢ iprop((pt c cc0_stg12_0 I.b3 -∗ wp frame (wpE defs 𝒱 (c : Thread nD τ) bd) Set.univ (K (rdB3 I)) Q)
        -∗ wp frame (wpE defs 𝒱 (c : Thread nD τ) bd) Set.univ
          (smemLoad (Memref.whole cc0_stg12_0 : Memref sig .tc .smem S1x1 .f32) (Rect.unit (s := S1x1) ![0, 0] S1x1.size h) n1 r1 >>= fun v : Elt F .f32 => K v) Q) := by
  have e : ((Memref.whole cc0_stg12_0 : Memref sig .tc .smem S1x1 .f32).access (Rect.unit (s := S1x1) ![0, 0] S1x1.size h)).read (Elt F) I.b3 (Shape.Idx.first (by rw [n1]; decide)) = rdB3 I := by
    unfold rdB3
    show I.b3 _ = I.b3 _
    congr 1
    funext a
    apply Fin.ext
    fin_cases a <;> rfl
  rw [← e]
  exact wp_load_rect 𝒱 (c : Thread nD τ) bd Set.univ (m := (Memref.whole cc0_stg12_0 : Memref sig .tc .smem S1x1 .f32)) (r := Rect.unit (s := S1x1) ![0, 0] S1x1.size h) (S := Finset.univ) (q := fullShare) (f := I.b3)
    (k := fun f => K (f (Shape.Idx.first _))) (Finset.subset_univ _)

theorem off509_eq {b : ℕ} (hb : b < 24) : k0_off509 (BitVec.ofNat 32 b) = ![(fin24 b).val, 0] := by
  rw [fin24_val hb]; exact congrArg (fun z => ![z, 0]) (ofNat_toNat' (n := b) (by omega))
theorem off513_eq {b : ℕ} (hb : b < 24) : k0_off513 (BitVec.ofNat 32 b) = ![(fin24 b).val, 0] := by
  rw [fin24_val hb]; exact congrArg (fun z => ![z, 0]) (ofNat_toNat' (n := b) (by omega))
theorem muls6 : ∀ k : Fin 6, (Scalar.muli (BitVec.ofNat 32 k.val) 2#32).toNat = 2 * k.val ∧ (Scalar.muli (BitVec.ofNat 32 k.val) 256#32).toNat = 256 * k.val := by decide
theorem off510_eq {b k : ℕ} (hb : b < 24) (hk : k < 6) : k0_off510 (BitVec.ofNat 32 b) (BitVec.ofNat 32 k) = ![(fin24 b).val, 2 * (fin6 k).val, 0] := by
  have h := (muls6 (fin6 k)).1
  rw [fin6_val hk] at h
  rw [fin24_val hb, fin6_val hk]; exact congrArg₂ (fun z w => ![z, w, 0]) (ofNat_toNat' (n := b) (by omega)) h
theorem off512_eq {b k : ℕ} (hb : b < 24) (hk : k < 6) : k0_off512 (BitVec.ofNat 32 b) (BitVec.ofNat 32 k) = ![(fin24 b).val, 256 * (fin6 k).val] := by
  have h := (muls6 (fin6 k)).2
  rw [fin6_val hk] at h
  rw [fin24_val hb, fin6_val hk]; exact congrArg₂ (fun z w => ![z, w]) (ofNat_toNat' (n := b) (by omega)) h
theorem off511_eq {v616 : BitVec 32} (t : Fin (k0_t6_loop v616).trips) (ht : t.val < 900) : k0_off511 v616 t = ![(fin3 t.val).val, 0, 0] :=
  congrArg (fun z => ![z, 0, 0]) (iv_rem ht)
theorem off514_eq {b : ℕ} (hb : b ≤ 24) : k0_off514 (BitVec.ofNat 32 b) = ![(fin24 b).val] := by
  refine (congrArg (fun z => ![z]) (min_23 (b := BitVec.ofNat 32 b) ?_)).trans ?_
  · rw [ofNat_toNat' (by omega)]; exact hb
  · rw [ofNat_toNat' (by omega)]

/-- One block's turn, at its position `(b, k)`, the next `p1` and the one after, `(b2, k2)`. -/
theorem body_core (q : Fin 3 → PosShare TreeShare) (I : Ins F c) (tf : TfBuf F c) (tw : TwBuf F c) (R : ScoreBuf F c → IntBuf F c → Prop)
    (hfi : IdsOk I.fi) (hL : ∀ b, LenOk (lenAt I.fl b))
    (v616 : BitVec 32) (hw : k0_chk116 v616) (t : Fin (k0_t6_loop v616).trips) (ht9 : t.val < 900) {b k b2 k2 : ℕ} (p1 p3 : ℕ × ℕ)
    (hb24 : b < 24) (hk6 : k < 6) (hb2 : b2 ≤ 24) (hk2 : k2 < 6) (sc : ScoreBuf F c) (it : IntBuf F c)
    (hp3 : advB (lenAt I.fl (fin24 b2)) (BitVec.ofNat 32 b2) (BitVec.ofNat 32 k2) = BitVec.ofNat 32 p3.1 ∧ advK (lenAt I.fl (fin24 b2)) (BitVec.ofNat 32 k2) = BitVec.ofNat 32 p3.2)
    (hkeep : ∀ (f : RingBuf F c) (g0 : LineBuf F c), R
      (newScore I tf tw (fin3 t.val) (fin24 b) k (filled (gathered I.fw I.fi (fin24 b) (fin6 k)) f (rowsOf (lenAt I.fl (fin24 b)) k)) (lineBuf I.fs I.fi (fin24 b) (fin6 k) g0 (rowsOf (lenAt I.fl (fin24 b)) k)) sc)
      (newInt I tf tw (fin3 t.val) (fin24 b) k (filled (gathered I.fw I.fi (fin24 b) (fin6 k)) f (rowsOf (lenAt I.fl (fin24 b)) k)) (lineBuf I.fs I.fi (fin24 b) (fin6 k) g0 (rowsOf (lenAt I.fl (fin24 b)) k)) it)) :
    iprop((pt c cc0_stg0_0 I.fl ∗ pt c cc0_stg1_0 I.fi ∗ pt c cc0_scratch2 I.fs ∗ pt c cc0_scratch3 tf ∗ pt c cc0_scratch4 tw ∗ pt c cc0_stg3_0 I.idb ∗ pt c cc0_stg5_0 I.w1 ∗ pt c cc0_stg7_0 I.a1 ∗ pt c cc0_stg8_0 I.w2 ∗ pt c cc0_stg9_0 I.b2 ∗ pt c cc0_stg10_0 I.a2 ∗ pt c cc0_stg11_0 I.w3 ∗ pt c cc0_stg12_0 I.b3) ∗ (∃ g0, pt c cc0_scratch1 g0)
      ∗ (∃ f, Filling c (.dma (slotSem (fin3 t.val))) (fin3 t.val) (q (fin3 t.val)) I.fw (gathered I.fw I.fi (fin24 b) (fin6 k)) f (rowsOf (lenAt I.fl (fin24 b)) k) (rowsOf (lenAt I.fl (fin24 b)) k))
      ∗ (∃ f, Idle c (fin3 (t.val + 2)) (q (fin3 (t.val + 2))) I.fw f)
      ∗ noDebt c ∗ pt c cc0_stg14_0 sc ∗ pt c cc0_stg13_0 it)
    ⊢ wp frame (wpE defs 𝒱 (c : Thread nD τ) bd) Set.univ (k0_t6_body aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v616 hw t (BitVec.ofNat 32 b, BitVec.ofNat 32 k, BitVec.ofNat 32 p1.1, BitVec.ofNat 32 p1.2, BitVec.ofNat 32 b2, BitVec.ofNat 32 k2))
      (fun acc => iprop(⌜acc = (BitVec.ofNat 32 p1.1, BitVec.ofNat 32 p1.2, BitVec.ofNat 32 b2, BitVec.ofNat 32 k2, BitVec.ofNat 32 p3.1, BitVec.ofNat 32 p3.2)⌝
        ∗ (pt c cc0_stg0_0 I.fl ∗ pt c cc0_stg1_0 I.fi ∗ pt c cc0_scratch2 I.fs ∗ pt c cc0_scratch3 tf ∗ pt c cc0_scratch4 tw ∗ pt c cc0_stg3_0 I.idb ∗ pt c cc0_stg5_0 I.w1 ∗ pt c cc0_stg7_0 I.a1 ∗ pt c cc0_stg8_0 I.w2 ∗ pt c cc0_stg9_0 I.b2 ∗ pt c cc0_stg10_0 I.a2 ∗ pt c cc0_stg11_0 I.w3 ∗ pt c cc0_stg12_0 I.b3) ∗ (∃ g0, pt c cc0_scratch1 g0) ∗ SlotF c q I.fl I.fi I.fw (fin3 (t.val + 2)) (b2, k2) ∗ (∃ f, Idle c (fin3 t.val) (q (fin3 t.val)) I.fw f)
        ∗ noDebt c ∗ (∃ sc it, pt c cc0_stg14_0 sc ∗ pt c cc0_stg13_0 it ∗ ⌜R sc it⌝))) := by
  iintro ⟨⟨Hl, Hi, Hs, Htf, Htw, Hid, Hw1, Ha1, Hw2, Hb2, Ha2, Hw3, Hb3⟩, Hg, HSa, HI, HO, Hsc, Hit⟩
  unfold k0_t6_body
  simp only [k0_part54_eq_skeleton, k0_part55_eq_skeleton, k0_part56_eq_skeleton]
  unfold k0_part54_skel k0_part55_skel k0_part56_skel
  simp only [Prog.bind_assoc, Prog.bind_ret, Prog.pure_eq_ret]
  rw [wp_bind]
  iapply ((part53_ok 𝒱 c bd q I.fl I.fi I.fw I.fs hfi hb24 hk6 hb2 hk2 v616 t ht9).trans (wp_wand _ _ _)) $$ [Hl Hi Hs Hg HI]
  · isplitl [Hl]; · iexact Hl
    isplitl [Hi]; · iexact Hi
    isplitl [Hs]; · iexact Hs
    isplitl [Hg]; · iexact Hg
    iexact HI
  iintro %r ⟨%hv683, Hl, Hi, Hs, ⟨%g0, Hg⟩, HSc⟩
  obtain ⟨h1, h2, h3, v662, v683, h4, v689, v690⟩ := r
  dsimp only at hv683
  subst hv683
  dsimp only
  icases HSa with ⟨%f, HF⟩
  unfold Filling
  icases HF with ⟨Hring, Hsh, HB⟩
  iapply (Scf.wp_for_bind _ _ _ _ _ _ _ _ _ (fun n _ => iprop(RowBatch c (.dma (slotSem (fin3 t.val))) (fin3 t.val) (q (fin3 t.val)) I.fw (gathered I.fw I.fi (fin24 b) (fin6 k)) (rowsOf (lenAt I.fl (fin24 b)) k) (rowsOf (lenAt I.fl (fin24 b)) k) (rowN * (16 * n)) ∗ noDebt c))
    (fun t' acc => t11_step 𝒱 c bd (fin3 t.val) (q (fin3 t.val)) I.fw (gathered I.fw I.fi (fin24 b) (fin6 k)) (rowsOf (lenAt I.fl (fin24 b)) k) (iv_rem ht9) (trips11 _ _).symm t')) $$ [HB HO]
  · isplitl [HB]; · iexact HB
    iexact HO
  iintro %_ ⟨HB, HO⟩
  rw [trips11]
  iapply (Scf.wp_for0_bind' _ _ _ _ _ _ _ _ _ (rem_trips _) _ _ _ .rfl)
  imod (idle_close c (fin3 t.val) (q (fin3 t.val)) I.fw (gathered I.fw I.fi (fin24 b) (fin6 k)) f (rowsOf (lenAt I.fl (fin24 b)) k) (rowsOf_le _ _)) $$ [Hring Hsh HB] with HI
  · isplitl [Hring]; · iexact Hring
    isplitl [Hsh]; · iexact Hsh
    iexact HB
  unfold Idle
  icases HI with ⟨Hring, Hsh, Hsv⟩
  iapply (wp_len 𝒱 c bd I.fl (fin24 b) (off_len hb24)) $$ Hl
  iintro Hl
  iapply (wp_ld 𝒱 c bd (Memref.whole cc0_scratch3) _ ![(fin24 b).val, 0] (off509_eq hb24) _ (inb_tf (fin24 b)) (S := Finset.univ) (q := fullShare) (f := tf) (Finset.subset_univ _)) $$ Htf
  iintro Htf
  iapply (wp_ld 𝒱 c bd (Memref.whole cc0_scratch4) _ ![(fin24 b).val, 0] (off509_eq hb24) _ (inb_tf (fin24 b)) (S := Finset.univ) (q := fullShare) (f := tw) (Finset.subset_univ _)) $$ Htw
  iintro Htw
  iapply (wp_ld 𝒱 c bd (Memref.whole cc0_stg3_0) _ ![(fin24 b).val, 2 * (fin6 k).val, 0] (off510_eq hb24 hk6) _ (inb_idb (fin24 b) (fin6 k)) (S := Finset.univ) (q := fullShare) (f := I.idb) (Finset.subset_univ _)) $$ Hid
  iintro Hid
  iapply (wp_ld 𝒱 c bd sRows _ ![(fin3 t.val).val, 0, 0] (off511_eq t ht9) _ (inb_ring (fin3 t.val)) (S := rowsSet (fin3 t.val).val 0 256) (q := fullShare) (f := filled (gathered I.fw I.fi (fin24 b) (fin6 k)) f (rowsOf (lenAt I.fl (fin24 b)) k)) (rowsSet_slot rfl)) $$ Hring
  iintro Hring
  iapply (wp_ld 𝒱 c bd sLine _ ![0, 0] rfl _ inb_S256x128_S256x128_0_0 (S := Finset.univ) (q := fullShare) (f := lineBuf I.fs I.fi (fin24 b) (fin6 k) g0 (rowsOf (lenAt I.fl (fin24 b)) k)) (Finset.subset_univ _)) $$ Hg
  iintro Hg
  iapply (wp_ld 𝒱 c bd (Memref.whole cc0_stg5_0) _ ![0, 0] rfl _ inb_S1024x256_S256x256_0_0 (S := Finset.univ) (q := fullShare) (f := I.w1) (Finset.subset_univ _)) $$ Hw1
  iintro Hw1
  iapply (wp_ld 𝒱 c bd (Memref.whole cc0_stg5_0) _ ![512, 0] rfl _ inb_S1024x256_S256x256_512_0 (S := Finset.univ) (q := fullShare) (f := I.w1) (Finset.subset_univ _)) $$ Hw1
  iintro Hw1
  iapply (wp_ld 𝒱 c bd (Memref.whole cc0_stg5_0) _ ![768, 0] rfl _ inb_S1024x256_S256x256_768_0 (S := Finset.univ) (q := fullShare) (f := I.w1) (Finset.subset_univ _)) $$ Hw1
  iintro Hw1
  iapply (wp_ld 𝒱 c bd (Memref.whole cc0_stg7_0) _ ![0, 0] rfl _ inb_S1x256_S1x256_0_0 (S := Finset.univ) (q := fullShare) (f := I.a1) (Finset.subset_univ _)) $$ Ha1
  iintro Ha1
  iapply (wp_ld 𝒱 c bd (Memref.whole cc0_stg8_0) _ ![0, 0] rfl _ inb_S256x128_S256x128_0_0 (S := Finset.univ) (q := fullShare) (f := I.w2) (Finset.subset_univ _)) $$ Hw2
  iintro Hw2
  iapply (wp_ld 𝒱 c bd (Memref.whole cc0_stg9_0) _ ![0, 0] rfl _ inb_S1x128_S1x128_0_0 (S := Finset.univ) (q := fullShare) (f := I.b2) (Finset.subset_univ _)) $$ Hb2
  iintro Hb2
  iapply (wp_ld 𝒱 c bd (Memref.whole cc0_stg10_0) _ ![0, 0] rfl _ inb_S1x128_S1x128_0_0 (S := Finset.univ) (q := fullShare) (f := I.a2) (Finset.subset_univ _)) $$ Ha2
  iintro Ha2
  iapply (wp_ld 𝒱 c bd (Memref.whole cc0_stg11_0) _ ![0, 0] rfl _ inb_S8x128_S8x128_0_0 (S := Finset.univ) (q := fullShare) (f := I.w3) (Finset.subset_univ _)) $$ Hw3
  iintro Hw3
  iapply (wp_b3 𝒱 c bd I) $$ Hb3
  iintro Hb3
  iapply (wp_ld 𝒱 c bd (Memref.whole cc0_stg14_0) _ ![(fin24 b).val, 256 * (fin6 k).val] (off512_eq hb24 hk6) _ (inb_score (fin24 b) (fin6 k)) (S := Finset.univ) (q := fullShare) (f := sc) (Finset.subset_univ _)) $$ Hsc
  iintro Hsc
  iapply (wp_st 𝒱 c bd (Memref.whole cc0_stg14_0) _ ![(fin24 b).val, 256 * (fin6 k).val] (off512_eq hb24 hk6) _ (inb_score (fin24 b) (fin6 k)) (f := sc)) $$ Hsc
  iintro Hsc
  iapply (wp_ld 𝒱 c bd (Memref.whole cc0_stg13_0) _ ![(fin24 b).val, 0] (off513_eq hb24) _ (inb_int (fin24 b)) (S := Finset.univ) (q := fullShare) (f := it) (Finset.subset_univ _)) $$ Hit
  iintro Hit
  iapply (wp_ld 𝒱 c bd (Memref.whole cc0_stg13_0) _ ![(fin24 b).val, 0] (off513_eq hb24) _ (inb_int (fin24 b)) (S := Finset.univ) (q := fullShare) (f := it) (Finset.subset_univ _)) $$ Hit
  iintro Hit
  iapply (wp_st 𝒱 c bd (Memref.whole cc0_stg13_0) _ ![(fin24 b).val, 0] (off513_eq hb24) _ (inb_int (fin24 b)) (f := it)) $$ Hit
  iintro Hit
  iapply (wp_len 𝒱 c bd I.fl (fin24 b2) (off514_eq hb2)) $$ Hl
  iintro Hl
  iapply (le_wp_ret _ _ _)
  isplitr
  · ipureintro
    exact congrArg₂ (fun x y => (_, _, _, _, x, y)) hp3.1 hp3.2
  isplitl [Hl Hi Hs Htf Htw Hid Hw1 Ha1 Hw2 Hb2 Ha2 Hw3 Hb3]
  · isplitl [Hl]; · iexact Hl
    isplitl [Hi]; · iexact Hi
    isplitl [Hs]; · iexact Hs
    isplitl [Htf]; · iexact Htf
    isplitl [Htw]; · iexact Htw
    isplitl [Hid]; · iexact Hid
    isplitl [Hw1]; · iexact Hw1
    isplitl [Ha1]; · iexact Ha1
    isplitl [Hw2]; · iexact Hw2
    isplitl [Hb2]; · iexact Hb2
    isplitl [Ha2]; · iexact Ha2
    isplitl [Hw3]; · iexact Hw3
    iexact Hb3
  isplitl [Hg]; · iexists _; iexact Hg
  isplitl [HSc]; · iexact HSc
  isplitl [Hring Hsh Hsv]
  · iexists _
    isplitl [Hring]; · iexact Hring
    isplitl [Hsh]; · iexact Hsh
    iexact Hsv
  isplitl [HO]; · iexact HO
  iexists _, _
  isplitl [Hsc]; · iexact Hsc
  isplitl [Hit]; · iexact Hit
  ipureintro
  exact hkeep f g0

/-- One block's turn. -/
theorem body_ok (q : Fin 3 → PosShare TreeShare) (I : Ins F c) (tf : TfBuf F c) (tw : TwBuf F c) (R : ℕ → ScoreBuf F c → IntBuf F c → Prop)
    (hfi : IdsOk I.fi) (hL : ∀ b, LenOk (lenAt I.fl b)) (hR : Keeps I tf tw R)
    (v616 : BitVec 32) (hw : k0_chk116 v616) (t : Fin (k0_t6_loop v616).trips) (ht : t.val < pre (lenAt I.fl) 24) (acc : BitVec 32 × BitVec 32 × BitVec 32 × BitVec 32 × BitVec 32 × BitVec 32) :
    Inv c q I tf tw R t.val acc ⊢ wp frame (wpE defs 𝒱 (c : Thread nD τ) bd) Set.univ (k0_t6_body aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v616 hw t acc) (Inv c q I tf tw R (t.val + 1)) := by
  have ht9 : t.val < 900 := by have := pre_le hL 24; omega
  obtain ⟨-, hk6, -, -⟩ := pos_facts hL t.val
  obtain ⟨hb2, hk2, -, -⟩ := pos_facts hL (t.val + 2)
  have hb24 := pos_lt hL ht
  have hp3 := adv_ofNat (L := lenAt I.fl) hL hb2 hk2
  have hS : SlotF c q I.fl I.fi I.fw (fin3 t.val) (pos (lenAt I.fl) t.val) = iprop(∃ f, Filling c (.dma (slotSem (fin3 t.val))) (fin3 t.val) (q (fin3 t.val)) I.fw (gathered I.fw I.fi (fin24 (pos (lenAt I.fl) t.val).1) (fin6 (pos (lenAt I.fl) t.val).2)) f (rowsOf (lenAt I.fl (fin24 (pos (lenAt I.fl) t.val).1)) (pos (lenAt I.fl) t.val).2) (rowsOf (lenAt I.fl (fin24 (pos (lenAt I.fl) t.val).1)) (pos (lenAt I.fl) t.val).2)) := by
    unfold SlotF; rw [if_pos hb24]
  have e3 : fin3 (t.val + 1 + 2) = fin3 t.val := fin3_add t.val
  unfold Inv
  iintro ⟨%hacc, HRO, Hg, HSa, HSb, HI, HO, %sc, %it, Hsc, Hit, %hr⟩
  subst hacc
  ihave HSa' : (iprop(∃ f, Filling c (.dma (slotSem (fin3 t.val))) (fin3 t.val) (q (fin3 t.val)) I.fw (gathered I.fw I.fi (fin24 (pos (lenAt I.fl) t.val).1) (fin6 (pos (lenAt I.fl) t.val).2)) f (rowsOf (lenAt I.fl (fin24 (pos (lenAt I.fl) t.val).1)) (pos (lenAt I.fl) t.val).2) (rowsOf (lenAt I.fl (fin24 (pos (lenAt I.fl) t.val).1)) (pos (lenAt I.fl) t.val).2))) $$ [HSa]
  · iapply (Entails.of_eq hS) $$ HSa
  iapply ((body_core 𝒱 c bd q I tf tw (R (t.val + 1)) hfi hL v616 hw t ht9 (b := (pos (lenAt I.fl) t.val).1) (k := (pos (lenAt I.fl) t.val).2) (b2 := (pos (lenAt I.fl) (t.val + 2)).1) (k2 := (pos (lenAt I.fl) (t.val + 2)).2) (pos (lenAt I.fl) (t.val + 1)) (pos (lenAt I.fl) (t.val + 3)) hb24 hk6 hb2 hk2 sc it hp3
    (fun f g0 => hR t.val ht f g0 sc it hr (fin24 (pos (lenAt I.fl) t.val).1) (pos (lenAt I.fl) t.val).2 (by rw [fin24_val hb24]) hk6)).trans (wp_wand _ _ _)) $$ [HRO Hg HSa' HI HO Hsc Hit]
  · isplitl [HRO]; · iexact HRO
    isplitl [Hg]; · iexact Hg
    isplitl [HSa']; · iexact HSa'
    isplitl [HI]; · iexact HI
    isplitl [HO]; · iexact HO
    isplitl [Hsc]; · iexact Hsc
    iexact Hit
  iintro %acc ⟨%hacc, HRO, Hg, HSc, HI, HO, HR⟩
  isplitr
  · ipureintro; exact hacc
  isplitl [HRO]; · iexact HRO
  isplitl [Hg]; · iexact Hg
  isplitl [HSb]; · iexact HSb
  isplitl [HSc]; · iexact HSc
  isplitl [HI]; · iapply (Entails.of_eq (congrArg (fun s => iprop(∃ f, Idle c s (q s) I.fw f)) e3.symm)) $$ HI
  isplitl [HO]; · iexact HO
  iexact HR

end Cert.KernelIdeal.Hand
-- ==== Proof.SclCopy.lean ====
/-
  The copy of the scales into the core's memory: its start and its wait.
-/
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

/-- The scales' copy's semaphore. -/
abbrev sclSem : DmaSem sig := (15 : Fin 19)
def sclN : ℕ := cc0_scratch2.dmaCredit S1000000 .f32
theorem sclN_pos : 0 < sclN := by unfold sclN; decide

/-- The scales as the core's own buffer. -/
def copied {c : Dev nD} (fa : Buf (Elt F) ((c : Thread nD τ).loc main_arg1)) : SclBuf F c := hScl.view.read (Elt F) fa

/-- What the copy hands back. -/
def sclDeliv (c : Dev nD) (fa : Buf (Elt F) ((c : Thread nD τ).loc main_arg1)) (_ : Fin 1) : sProp 𝕄 :=
  iprop(pt c cc0_scratch2 (copied fa) ∗ pt c main_arg1 fa)

instance (c : Dev nD) (fa : Buf (Elt F) ((c : Thread nD τ).loc main_arg1)) (t : Fin 1) :
    Storable (upEmb : UEmb _ 𝕄) (sclDeliv c fa t) := by unfold sclDeliv; infer_instance

/-- The copy's start. -/
theorem wp_issue_scl {sm : DmaSem sig} (hsm : sm = sclSem) {hsrc : hScl.view.WordExact} {hdst : sScl.view.WordExact} {hsem : DmaTarget.Typed .hbm (.dma sm) (DmaTarget.here (nD := nD) (p := (Proc.tc : Proc τ)) sScl)}
    {k : PUnit → Prog (TpuEff nD τ sig (Elt F) Λ₀ .tc) α} {Q : α → sProp 𝕄}
    (fa : Buf (Elt F) ((c : Thread nD τ).loc main_arg1)) (f0 : SclBuf F c) :
    iprop(pt c main_arg1 fa ∗ pt c cc0_scratch2 f0 ∗ semVal ((c : Thread nD τ), .dma sclSem) 0)
      ⊢ iprop((Batch EC (c : Thread nD τ) (.dma sclSem) () sclN (sclDeliv c fa) 1 0 -∗ wp frame (wpE defs 𝒱 (c : Thread nD τ) bd) Set.univ (k ⟨⟩) Q)
        -∗ wp frame (wpE defs 𝒱 (c : Thread nD τ) bd) Set.univ
          (Prog.lift (.enqueueDma hScl (.here sScl) (.dma sm) hsrc hdst hsem) >>= k) Q) := by
  subst hsm
  simp only [Prog.bind_lift]
  iintro ⟨Ha, Hs, Hv⟩ Hk
  imod (batch_alloc' EC (c : Thread nD τ) () sclN (sclDeliv c fa) (E := Set.univ)) $$ Hv with HB
  unfold Batch
  icases HB with ⟨%γ, %γ₀, %κ, #Hinv, HI, H0, Hcred⟩
  ihave HI' := (show bigSep (pending 0) (fun t : Fin 1 => count EC (γ t) 0) ⊢ iprop(count EC (γ ⟨0, Nat.one_pos⟩) 0 ∗ bigSep (pending 1) (fun t : Fin 1 => count EC (γ t) 0))
    from Entails.of_eq (by rw [pending_succ (Nat.one_pos : 0 < 1), bigSep_insert (not_mem_pending_succ (Nat.one_pos : 0 < 1))]; rfl)) $$ HI
  icases HI' with ⟨Ht, HI⟩
  have hN : sScl.view.amount (.dma sclSem) = sclN := rfl
  have hres : iprop(emp ∗ (sScl.view.loc (c : Thread nD τ) ↦{fullShare} sScl.view.write (Elt F) f0 (hScl.view.read (Elt F) fa) Finset.univ)
      ∗ (hScl.view.loc (c : Thread nD τ) ↦[hScl.view.set]{fullShare} fa))
      ⊢ (sclDeliv c fa ⟨0, Nat.one_pos⟩ : sProp 𝕄) := by
    unfold sclDeliv
    iintro ⟨-, Hd, Hs⟩
    isplitl [Hd]
    · iapply (Entails.of_eq (congrArg (fun g => pt c cc0_scratch2 g) (View.write_whole_univ (Val := Elt F) cc0_scratch2 f0 (hScl.view.read (Elt F) fa)))) $$ Hd
    · iapply (Entails.of_eq (congrArg (fun S => ((c : Thread nD τ).loc main_arg1 ↦[S]{fullShare} fa : sProp 𝕄)) (View.set_whole main_arg1))) $$ Hs
  iapply (wp_enqueueDma 𝒱 (c : Thread nD τ) bd Set.univ () sclN (src := hScl) (dst := sScl) hN) $$ [Ha Hs] [Ht]
  · isplitl [Ha]
    · iapply (Entails.of_eq (congrArg (fun S => ((c : Thread nD τ).loc main_arg1 ↦[S]{fullShare} fa : sProp 𝕄)) (View.set_whole main_arg1).symm)) $$ Ha
    iapply (pointsTo_writeUpdate (c : Thread nD τ) (v := sScl.view) (S := Finset.univ) (Finset.subset_univ _)) $$ Hs
  · iapply (batch_creditUpdate_with EC ⟨0, Nat.one_pos⟩ (D := sclDeliv c fa) hres)
    isplitr; · iexact Hinv
    isplitl [Ht]; · iexact Ht
    iempintro
  iintro Hcred'
  iapply Hk
  iexists γ, γ₀, κ
  isplitr; · iexact Hinv
  isplitl [HI]; · iexact HI
  isplitl [H0]; · iexact H0
  rw [show 1 * sclN - 0 = (0 * sclN - 0) + sclN by omega, ← tallyAt_add]
  icombine Hcred Hcred' as H
  iexact H

/-- The copy's wait: the scales are in. -/
theorem wp_wait_scl {sm : DmaSem sig} (hsm : sm = sclSem) {hsrc : hScl.view.WordExact} {hdst : sScl.view.WordExact}
    {k : PUnit → Prog (TpuEff nD τ sig (Elt F) Λ₀ .tc) α} {Q : α → sProp 𝕄}
    (fa : Buf (Elt F) ((c : Thread nD τ).loc main_arg1)) :
    iprop(Batch EC (c : Thread nD τ) (.dma sclSem) () sclN (sclDeliv c fa) 1 0 ∗ noDebt c)
      ⊢ iprop((pt c cc0_scratch2 (copied fa) ∗ pt c main_arg1 fa ∗ semVal ((c : Thread nD τ), .dma sclSem) 0 ∗ noDebt c -∗ wp frame (wpE defs 𝒱 (c : Thread nD τ) bd) Set.univ (k ⟨⟩) Q)
        -∗ wp frame (wpE defs 𝒱 (c : Thread nD τ) bd) Set.univ
          (Prog.lift (.waitDma2 sm hScl sScl hsrc hdst) >>= k) Q) := by
  subst hsm
  simp only [Prog.bind_lift]
  unfold noDebt
  iintro ⟨HB, %W, HO⟩ Hk
  have hu : 0 + 1 * sclN ≤ sclN * 1 := by omega
  iapply (wp_waitBatchMul EC 𝒱 (c : Thread nD τ) bd (dstw := sScl) () (N := sclN) (D := sclDeliv c fa) 1 (Nat.one_mul _).symm hu) $$ [HB HO]
  · isplitl [HB]; · iexact HB
    iexact HO
  iintro ⟨HB, HO⟩
  ihave HB' := (Entails.of_eq (congrArg (fun u => Batch EC (c : Thread nD τ) (.dma sclSem) () sclN (sclDeliv c fa) 1 u) (show 0 + 1 * sclN = sclN * 1 by omega))) $$ HB
  imod (batch_collect' EC (c : Thread nD τ) sclN_pos) $$ HB' with ⟨HD, Hv⟩
  ihave HD' := (show bigSep Finset.univ (sclDeliv c fa) ⊢ (sclDeliv c fa 0 : sProp 𝕄) from Entails.of_eq (by rw [Finset.univ_unique, BI.bigSep_singleton]; rfl)) $$ HD
  unfold sclDeliv
  icases HD' with ⟨Hs, Ha⟩
  iapply Hk
  isplitl [Hs]; · iexact Hs
  isplitl [Ha]; · iexact Ha
  isplitl [Hv]; · iexact Hv
  iexists _
  iexact HO

end Cert.KernelIdeal.Hand
-- ==== Proof.Open.lean ====
/-
  The start of the kernel: the targets' rows are sent for, and the scales are brought in.
-/
module

public import proofs.«01_k».proof.Proof.SclCopy

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

/-- The zeros the ring, the interest and the score start from. -/
abbrev ring0 (f : RingBuf F c) : RingBuf F c := (sRows.access (Rect.unit (s := S3x256x256) ![0, 0, 0] S3x256x256.size inb_S3x256x256_S3x256x256_0_0_0)).write (Elt F) f (k0_pay89) Finset.univ
abbrev int0 (f : IntBuf F c) : IntBuf F c := ((Memref.whole cc0_stg13_0 : Memref sig .tc .vmem S24x256 .f32).access (Rect.unit (s := S24x256) ![0, 0] S24x256.size inb_S24x256_S24x256_0_0)).write (Elt F) f (k0_pay90 (F := F)) Finset.univ
abbrev score0 (f : ScoreBuf F c) : ScoreBuf F c := ((Memref.whole cc0_stg14_0 : Memref sig .tc .vmem S24x1536 .f32).access (Rect.unit (s := S24x1536) ![0, 0] S24x1536.size inb_S24x1536_S24x1536_0_0)).write (Elt F) f (k0_pay91 (F := F)) Finset.univ

theorem ring_split (f : RingBuf F c) : pt c cc0_scratch0 f ⊢ iprop((((c : Thread nD τ).loc cc0_scratch0) ↦[rowsSet 0 0 256]{fullShare} f)
    ∗ (((c : Thread nD τ).loc cc0_scratch0) ↦[rowsSet 1 0 256]{fullShare} f) ∗ (((c : Thread nD τ).loc cc0_scratch0) ↦[rowsSet 2 0 256]{fullShare} f) : sProp 𝕄) := by
  have hU : (Finset.univ : Finset S3x256x256.Idx) = rowsSet 0 0 256 ∪ (rowsSet 1 0 256 ∪ rowsSet 2 0 256) := by
    ext x
    simp only [Finset.mem_univ, Finset.mem_union, mem_rowsSet, _root_.true_iff]
    have h0 : (x 0).val < 3 := (x 0).isLt
    have h1 : (x 1).val < 256 := (x 1).isLt
    omega
  have hd1 : Disjoint (rowsSet 0 0 256) (rowsSet 1 0 256 ∪ rowsSet 2 0 256) := by
    rw [Finset.disjoint_left]; intro x; simp only [Finset.mem_union, mem_rowsSet]; omega
  have hd2 : Disjoint (rowsSet 1 0 256) (rowsSet 2 0 256) := by
    rw [Finset.disjoint_left]; intro x; simp only [mem_rowsSet]; omega
  refine (Entails.of_eq (congrArg (fun S => ((c : Thread nD τ).loc cc0_scratch0 ↦[S]{fullShare} f : sProp 𝕄)) hU)).trans ?_
  refine (pointsTo_union hd1).1.trans ?_
  iintro ⟨H0, H1⟩
  isplitl [H0]; · iexact H0
  iapply (pointsTo_union hd2).1 $$ H1

/-- Parts 89 to 95. -/
theorem open_ok {K : FVec F S1x128 .f32 → Prog (TpuEff nD τ sig (Elt F) Λ₀ .tc) α} {Q : α → sProp 𝕄}
    (q0 : PosShare TreeShare) (fw : WordBuf F c) (ft : TgtBuf F c) (fa : Buf (Elt F) ((c : Thread nD τ).loc main_arg1)) (hft : TgtsOk ft) :
    iprop(pt c cc0_stg2_0 ft ∗ pt c main_arg1 fa ∗ (∃ f, pt c cc0_scratch2 f) ∗ semVal ((c : Thread nD τ), .dma sclSem) 0
      ∗ (∃ f, pt c cc0_scratch0 f) ∗ (∃ f, pt c cc0_stg13_0 f) ∗ (∃ f, pt c cc0_stg14_0 f)
      ∗ (((c : Thread nD τ).loc main_v2) ↦{q0} fw) ∗ semVal ((c : Thread nD τ), .dma (slotSem 0)) 0 ∗ noDebt c)
    ⊢ iprop((∀ w f r0 i0 s0, ⌜f = ring0 c r0⌝ ∗ ⌜∃ h, w = (sScl.access (Rect.unit (s := S1000000) ![(Scalar.muli (Scalar.shrui (idAt (fakeIds ft) 0 0 0) 7#32) 128#32).toNat] S128.size h)).read (Elt F) (copied fa)⌝
        ∗ pt c cc0_stg2_0 ft ∗ pt c main_arg1 fa ∗ pt c cc0_scratch2 (copied fa) ∗ semVal ((c : Thread nD τ), .dma sclSem) 0
        ∗ pt c cc0_stg13_0 (int0 c i0) ∗ pt c cc0_stg14_0 (score0 c s0)
        ∗ Filling c (.dma (slotSem 0)) (0 : Fin 3).val q0 fw (gathered fw (fakeIds ft) 0 0) f 24 24 ∗ (((c : Thread nD τ).loc cc0_scratch0) ↦[rowsSet 1 0 256]{fullShare} f) ∗ (((c : Thread nD τ).loc cc0_scratch0) ↦[rowsSet 2 0 256]{fullShare} f) ∗ noDebt c
        -∗ wp frame (wpE defs 𝒱 (c : Thread nD τ) bd) Set.univ (K (k0_pay92 w)) Q)
      -∗ wp frame (wpE defs 𝒱 (c : Thread nD τ) bd) Set.univ (do
        let r1 ← k0_part89 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6
        let v50 ← k0_part90 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r1.1 r1.2
        let r3 ← k0_part91 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v50
        let r4 ← k0_part92 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r3.1 r3.2
        let r5 ← k0_part93 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r4.1 r4.2
        let v155 ← k0_part94 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r5.1 r5.2
        let v182 ← k0_part95 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v155
        K v182) Q) := by
  simp only [k0_part89_eq_skeleton, k0_part90_eq_skeleton, k0_part91_eq_skeleton, k0_part92_eq_skeleton, k0_part93_eq_skeleton, k0_part94_eq_skeleton, k0_part95_eq_skeleton]
  unfold k0_part89_skel k0_part90_skel k0_part91_skel k0_part92_skel k0_part93_skel k0_part94_skel k0_part95_skel
  simp only [Prog.bind_assoc, Prog.bind_ret, Prog.pure_eq_ret]
  iintro ⟨Hft, Ha, ⟨%s2, Hs⟩, Hv15, ⟨%r0, Hr⟩, ⟨%i0, Hit⟩, ⟨%s0, Hsc⟩, Hw, Hv0, HO⟩ Hk
  iapply (wp_issue_scl 𝒱 c bd rfl fa s2) $$ [Ha Hs Hv15]
  · isplitl [Ha]; · iexact Ha
    isplitl [Hs]; · iexact Hs
    iexact Hv15
  iintro HB
  iapply (wp_ld 𝒱 c bd sRows _ ![0, 0, 0] rfl _ inb_S3x256x256_S3x256x256_0_0_0 (S := Finset.univ) (q := fullShare) (f := r0) (Finset.subset_univ _)) $$ Hr
  iintro Hr
  iapply (wp_st 𝒱 c bd sRows _ ![0, 0, 0] rfl _ inb_S3x256x256_S3x256x256_0_0_0 (f := r0)) $$ Hr
  iintro Hr
  iapply (wp_ld 𝒱 c bd (Memref.whole cc0_stg13_0) _ ![0, 0] rfl _ inb_S24x256_S24x256_0_0 (S := Finset.univ) (q := fullShare) (f := i0) (Finset.subset_univ _)) $$ Hit
  iintro Hit
  iapply (wp_st 𝒱 c bd (Memref.whole cc0_stg13_0) _ ![0, 0] rfl _ inb_S24x256_S24x256_0_0 (f := i0)) $$ Hit
  iintro Hit
  iapply (wp_ld 𝒱 c bd (Memref.whole cc0_stg14_0) _ ![0, 0] rfl _ inb_S24x1536_S24x1536_0_0 (S := Finset.univ) (q := fullShare) (f := s0) (Finset.subset_univ _)) $$ Hsc
  iintro Hsc
  iapply (wp_st 𝒱 c bd (Memref.whole cc0_stg14_0) _ ![0, 0] rfl _ inb_S24x1536_S24x1536_0_0 (f := s0)) $$ Hsc
  iintro Hsc
  ihave Hr' := (ring_split c (ring0 c r0)) $$ Hr
  icases Hr' with ⟨Hr, Hr1, Hr2⟩
  ihave HI : (Idle c 0 q0 fw (ring0 c r0)) $$ [Hr Hw Hv0]
  · unfold Idle
    isplitl [Hr]; · iexact Hr
    isplitl [Hw]; · iexact Hw
    iexact Hv0
  imod (idle_open c 0 q0 fw (gathered fw (fakeIds ft) 0 0) (ring0 c r0) 24) $$ HI with HF
  ihave H : iprop(pt c cc0_stg2_0 ft ∗ Filling c (.dma (slotSem 0)) (0 : Fin 3).val q0 fw (gathered fw (fakeIds ft) 0 0) (ring0 c r0) 24 0) $$ [Hft HF]
  · isplitl [Hft]; · iexact Hft
    iexact HF
  iapply (wp_trow 𝒱 c bd (0 : Fin 3) q0 fw ft (ring0 c r0) 24 0 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 1 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 2 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 3 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 4 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 5 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 6 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 7 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 8 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 9 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 10 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 11 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 12 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 13 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 14 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 15 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 16 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 17 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 18 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 19 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 20 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 21 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 22 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 23 (by decide) (by decide) (by decide) hft rfl rfl (fun v => rfl)
    (fun v hv => row_inb v hv rfl) (slot_sem (0 : Fin 3) rfl)) $$ H
  iintro H
  icases H with ⟨Hft, HF⟩
  iapply (wp_wait_scl 𝒱 c bd rfl fa) $$ [HB HO]
  · isplitl [HB]; · iexact HB
    iexact HO
  iintro ⟨Hs, Ha, Hv15, HO⟩
  iapply (wp_tgt 𝒱 c bd ft (⟨0, by decide⟩ : Fin 256) (by decide) rfl) $$ Hft
  iintro Hft
  have hok : k0_chk25 (idAt (fakeIds ft) 0 0 0) := ⟨line_dvd _, line_inb _ (fakeIds_ok hft _) rfl⟩
  iapply (wp_assume 𝒱 (c : Thread nD τ) bd Set.univ hok)
  iapply (wp_ld 𝒱 c bd sScl _ ![(Scalar.muli (Scalar.shrui (idAt (fakeIds ft) 0 0 0) 7#32) 128#32).toNat] rfl _ (line_inb _ (fakeIds_ok hft _) rfl) (S := Finset.univ) (q := fullShare) (f := copied fa) (Finset.subset_univ _)) $$ Hs
  iintro Hs
  iapply Hk $$ %_ %(ring0 c r0) %r0 %i0 %s0
  isplitr; · ipureintro; rfl
  isplitr; · ipureintro; exact ⟨line_inb _ (fakeIds_ok hft _) rfl, rfl⟩
  isplitl [Hft]; · iexact Hft
  isplitl [Ha]; · iexact Ha
  isplitl [Hs]; · iexact Hs
  isplitl [Hv15]; · iexact Hv15
  isplitl [Hit]; · iexact Hit
  isplitl [Hsc]; · iexact Hsc
  isplitl [HF]; · iexact HF
  isplitl [Hr1]; · iexact Hr1
  isplitl [Hr2]; · iexact Hr2
  iexact HO

end Cert.KernelIdeal.Hand
-- ==== Proof.Lines.lean ====
/-
  The targets' lines of scales are gathered, and the targets' rows waited for.
-/
module

public import proofs.«01_k».proof.Proof.SclCopy

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

/-- Parts 96 to 102. -/
theorem lines_ok {K : PUnit → Prog (TpuEff nD τ sig (Elt F) Λ₀ .tc) α} {Q : α → sProp 𝕄}
    (q0 : PosShare TreeShare) (fw : WordBuf F c) (ft : TgtBuf F c) (fs : SclBuf F c) (g0 : LineBuf F c) (hft : TgtsOk ft) (w : Vec F S128 .f32)
    (hw : ∃ h, w = (sScl.access (Rect.unit (s := S1000000) ![(Scalar.muli (Scalar.shrui (idAt (fakeIds ft) 0 0 0) 7#32) 128#32).toNat] S128.size h)).read (Elt F) fs) :
    iprop(pt c cc0_stg2_0 ft ∗ pt c cc0_scratch2 fs ∗ pt c cc0_scratch1 g0 ∗ RowBatch c (.dma (slotSem 0)) 0 q0 fw (gathered fw (fakeIds ft) 0 0) 24 24 (rowN * 0) ∗ noDebt c)
    ⊢ iprop((pt c cc0_stg2_0 ft ∗ pt c cc0_scratch2 fs ∗ pt c cc0_scratch1 (lineBuf fs (fakeIds ft) 0 0 g0 24) ∗ RowBatch c (.dma (slotSem 0)) 0 q0 fw (gathered fw (fakeIds ft) 0 0) 24 24 (rowN * 1) ∗ noDebt c
        -∗ wp frame (wpE defs 𝒱 (c : Thread nD τ) bd) Set.univ (K ⟨⟩) Q)
      -∗ wp frame (wpE defs 𝒱 (c : Thread nD τ) bd) Set.univ (do
        let r1 ← k0_part96 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 (k0_pay92 w)
        let r2 ← k0_part97 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r1.1 r1.2.1 r1.2.2
        let r3 ← k0_part98 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r2.1 r2.2
        let v322 ← k0_part99 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r3.1 r3.2.1 r3.2.2.1 r3.2.2.2
        let r4 ← k0_part100 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v322
        let v395 ← k0_part101 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r4.1 r4.2.1 r4.2.2
        let u ← k0_part102 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v395
        K u) Q) := by
  obtain ⟨hin, rfl⟩ := hw
  simp only [k0_part96_eq_skeleton, k0_part97_eq_skeleton, k0_part98_eq_skeleton, k0_part99_eq_skeleton, k0_part100_eq_skeleton, k0_part101_eq_skeleton, k0_part102_eq_skeleton]
  unfold k0_part96_skel k0_part97_skel k0_part98_skel k0_part99_skel k0_part100_skel k0_part101_skel k0_part102_skel
  simp only [Prog.bind_assoc, Prog.bind_ret, Prog.pure_eq_ret]
  iintro ⟨Hft, Hs, Hg, HB, HO⟩ Hk
  iapply (wp_ld 𝒱 c bd sLine _ ![0, 0] rfl _ inb_S256x128_S1x128_0_0 (S := Finset.univ) (q := fullShare) (f := g0) (Finset.subset_univ _)) $$ Hg
  iintro Hg
  iapply (wp_st 𝒱 c bd sLine _ ![0, 0] rfl _ inb_S256x128_S1x128_0_0 (f := g0)) $$ Hg
  iintro Hg
  have hz : (sLine.access (Rect.unit (s := S256x128) ![0, 0] S1x128.size inb_S256x128_S1x128_0_0)).write (Elt F) g0 (k0_pay93 (k0_pay92 ((sScl.access (Rect.unit (s := S1000000) ![(Scalar.muli (Scalar.shrui (idAt (fakeIds ft) 0 0 0) 7#32) 128#32).toNat] S128.size hin)).read (Elt F) fs))) Finset.univ
      = lineBuf fs (fakeIds ft) 0 0 g0 1 := by
    have h0 : lineBuf fs (fakeIds ft) 0 0 g0 0 = g0 := by funext x; unfold lineBuf; rw [if_neg (Nat.not_lt_zero _)]
    have h := line_write c (h := inb_S256x128_S1x128_0_0) (h19 := hin) fs (fakeIds ft) 0 0 g0 0 (by decide) (fakeIds_ok hft) rfl rfl
    rw [h0] at h
    exact h
  ihave H : iprop(pt c cc0_stg2_0 ft ∗ pt c cc0_scratch2 fs ∗ pt c cc0_scratch1 (lineBuf fs (fakeIds ft) 0 0 g0 1)) $$ [Hft Hs Hg]
  · isplitl [Hft]; · iexact Hft
    isplitl [Hs]; · iexact Hs
    iapply (Entails.of_eq (congrArg (fun g => pt c cc0_scratch1 g) hz)) $$ Hg
  iapply (wp_tgather 𝒱 c bd fs ft g0 1 (by decide) (by decide) hft rfl rfl (fun v => rfl)
    (fun v hv => ⟨line_dvd v, line_inb v hv rfl⟩) (fun _ => rfl)) $$ H
  iintro %w_1 %y_1 H
  iapply (wp_tgather 𝒱 c bd fs ft g0 2 (by decide) (by decide) hft rfl rfl (fun v => rfl)
    (fun v hv => ⟨line_dvd v, line_inb v hv rfl⟩) (fun _ => rfl)) $$ H
  iintro %w_2 %y_2 H
  iapply (wp_tgather 𝒱 c bd fs ft g0 3 (by decide) (by decide) hft rfl rfl (fun v => rfl)
    (fun v hv => ⟨line_dvd v, line_inb v hv rfl⟩) (fun _ => rfl)) $$ H
  iintro %w_3 %y_3 H
  iapply (wp_tgather 𝒱 c bd fs ft g0 4 (by decide) (by decide) hft rfl rfl (fun v => rfl)
    (fun v hv => ⟨line_dvd v, line_inb v hv rfl⟩) (fun _ => rfl)) $$ H
  iintro %w_4 %y_4 H
  iapply (wp_tgather 𝒱 c bd fs ft g0 5 (by decide) (by decide) hft rfl rfl (fun v => rfl)
    (fun v hv => ⟨line_dvd v, line_inb v hv rfl⟩) (fun _ => rfl)) $$ H
  iintro %w_5 %y_5 H
  iapply (wp_tgather 𝒱 c bd fs ft g0 6 (by decide) (by decide) hft rfl rfl (fun v => rfl)
    (fun v hv => ⟨line_dvd v, line_inb v hv rfl⟩) (fun _ => rfl)) $$ H
  iintro %w_6 %y_6 H
  iapply (wp_tgather 𝒱 c bd fs ft g0 7 (by decide) (by decide) hft rfl rfl (fun v => rfl)
    (fun v hv => ⟨line_dvd v, line_inb v hv rfl⟩) (fun _ => rfl)) $$ H
  iintro %w_7 %y_7 H
  iapply (wp_tgather 𝒱 c bd fs ft g0 8 (by decide) (by decide) hft rfl rfl (fun v => rfl)
    (fun v hv => ⟨line_dvd v, line_inb v hv rfl⟩) (fun _ => rfl)) $$ H
  iintro %w_8 %y_8 H
  iapply (wp_tgather 𝒱 c bd fs ft g0 9 (by decide) (by decide) hft rfl rfl (fun v => rfl)
    (fun v hv => ⟨line_dvd v, line_inb v hv rfl⟩) (fun _ => rfl)) $$ H
  iintro %w_9 %y_9 H
  iapply (wp_tgather 𝒱 c bd fs ft g0 10 (by decide) (by decide) hft rfl rfl (fun v => rfl)
    (fun v hv => ⟨line_dvd v, line_inb v hv rfl⟩) (fun _ => rfl)) $$ H
  iintro %w_10 %y_10 H
  iapply (wp_tgather 𝒱 c bd fs ft g0 11 (by decide) (by decide) hft rfl rfl (fun v => rfl)
    (fun v hv => ⟨line_dvd v, line_inb v hv rfl⟩) (fun _ => rfl)) $$ H
  iintro %w_11 %y_11 H
  iapply (wp_tgather 𝒱 c bd fs ft g0 12 (by decide) (by decide) hft rfl rfl (fun v => rfl)
    (fun v hv => ⟨line_dvd v, line_inb v hv rfl⟩) (fun _ => rfl)) $$ H
  iintro %w_12 %y_12 H
  iapply (wp_tgather 𝒱 c bd fs ft g0 13 (by decide) (by decide) hft rfl rfl (fun v => rfl)
    (fun v hv => ⟨line_dvd v, line_inb v hv rfl⟩) (fun _ => rfl)) $$ H
  iintro %w_13 %y_13 H
  iapply (wp_tgather 𝒱 c bd fs ft g0 14 (by decide) (by decide) hft rfl rfl (fun v => rfl)
    (fun v hv => ⟨line_dvd v, line_inb v hv rfl⟩) (fun _ => rfl)) $$ H
  iintro %w_14 %y_14 H
  iapply (wp_tgather 𝒱 c bd fs ft g0 15 (by decide) (by decide) hft rfl rfl (fun v => rfl)
    (fun v hv => ⟨line_dvd v, line_inb v hv rfl⟩) (fun _ => rfl)) $$ H
  iintro %w_15 %y_15 H
  iapply (wp_tgather 𝒱 c bd fs ft g0 16 (by decide) (by decide) hft rfl rfl (fun v => rfl)
    (fun v hv => ⟨line_dvd v, line_inb v hv rfl⟩) (fun _ => rfl)) $$ H
  iintro %w_16 %y_16 H
  iapply (wp_tgather 𝒱 c bd fs ft g0 17 (by decide) (by decide) hft rfl rfl (fun v => rfl)
    (fun v hv => ⟨line_dvd v, line_inb v hv rfl⟩) (fun _ => rfl)) $$ H
  iintro %w_17 %y_17 H
  iapply (wp_tgather 𝒱 c bd fs ft g0 18 (by decide) (by decide) hft rfl rfl (fun v => rfl)
    (fun v hv => ⟨line_dvd v, line_inb v hv rfl⟩) (fun _ => rfl)) $$ H
  iintro %w_18 %y_18 H
  iapply (wp_tgather 𝒱 c bd fs ft g0 19 (by decide) (by decide) hft rfl rfl (fun v => rfl)
    (fun v hv => ⟨line_dvd v, line_inb v hv rfl⟩) (fun _ => rfl)) $$ H
  iintro %w_19 %y_19 H
  iapply (wp_tgather 𝒱 c bd fs ft g0 20 (by decide) (by decide) hft rfl rfl (fun v => rfl)
    (fun v hv => ⟨line_dvd v, line_inb v hv rfl⟩) (fun _ => rfl)) $$ H
  iintro %w_20 %y_20 H
  iapply (wp_tgather 𝒱 c bd fs ft g0 21 (by decide) (by decide) hft rfl rfl (fun v => rfl)
    (fun v hv => ⟨line_dvd v, line_inb v hv rfl⟩) (fun _ => rfl)) $$ H
  iintro %w_21 %y_21 H
  iapply (wp_tgather 𝒱 c bd fs ft g0 22 (by decide) (by decide) hft rfl rfl (fun v => rfl)
    (fun v hv => ⟨line_dvd v, line_inb v hv rfl⟩) (fun _ => rfl)) $$ H
  iintro %w_22 %y_22 H
  iapply (wp_tgather 𝒱 c bd fs ft g0 23 (by decide) (by decide) hft rfl rfl (fun v => rfl)
    (fun v hv => ⟨line_dvd v, line_inb v hv rfl⟩) (fun _ => rfl)) $$ H
  iintro %w_23 %y_23 H
  ihave HW : iprop(RowBatch c (.dma (slotSem 0)) 0 q0 fw (gathered fw (fakeIds ft) 0 0) 24 24 (rowN * 0) ∗ noDebt c) $$ [HB HO]
  · isplitl [HB]; · iexact HB
    iexact HO
  iapply (wp_wait_row 𝒱 c bd 0 q0 fw (gathered fw (fakeIds ft) 0 0) 24 0 (by decide) (slot_sem (0 : Fin 3) rfl)) $$ HW
  iintro HW
  icases HW with ⟨HB, HO⟩
  icases H with ⟨Hft, Hs, Hg⟩
  iapply Hk
  isplitl [Hft]; · iexact Hft
  isplitl [Hs]; · iexact Hs
  isplitl [Hg]; · iexact Hg
  isplitl [HB]; · iexact HB
  iexact HO

/-- Parts 103 to 107. -/
theorem waits_ok {K : PUnit → Prog (TpuEff nD τ sig (Elt F) Λ₀ .tc) α} {Q : α → sProp 𝕄}
    (q0 : PosShare TreeShare) (fw : WordBuf F c) (ft : TgtBuf F c) :
    iprop(RowBatch c (.dma (slotSem 0)) 0 q0 fw (gathered fw (fakeIds ft) 0 0) 24 24 (rowN * 1) ∗ noDebt c)
    ⊢ iprop((RowBatch c (.dma (slotSem 0)) 0 q0 fw (gathered fw (fakeIds ft) 0 0) 24 24 (rowN * 23) ∗ noDebt c -∗ wp frame (wpE defs 𝒱 (c : Thread nD τ) bd) Set.univ (K ⟨⟩) Q)
      -∗ wp frame (wpE defs 𝒱 (c : Thread nD τ) bd) Set.univ (do
        let z ← k0_part103 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6
        k0_part104 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 z
        k0_part105 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6
        k0_part106 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6
        let u ← k0_part107 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6
        K u) Q) := by
  simp only [k0_part103_eq_skeleton, k0_part104_eq_skeleton, k0_part105_eq_skeleton, k0_part106_eq_skeleton, k0_part107_eq_skeleton]
  unfold k0_part103_skel k0_part104_skel k0_part105_skel k0_part106_skel k0_part107_skel
  simp only [Prog.bind_assoc, Prog.bind_ret, Prog.pure_eq_ret]
  iintro HW Hk
  iapply (wp_wait_row 𝒱 c bd 0 q0 fw (gathered fw (fakeIds ft) 0 0) 24 1 (by decide) (slot_sem (0 : Fin 3) rfl)) $$ HW
  iintro HW
  iapply (wp_wait_row 𝒱 c bd 0 q0 fw (gathered fw (fakeIds ft) 0 0) 24 2 (by decide) (slot_sem (0 : Fin 3) rfl)) $$ HW
  iintro HW
  iapply (wp_wait_row 𝒱 c bd 0 q0 fw (gathered fw (fakeIds ft) 0 0) 24 3 (by decide) (slot_sem (0 : Fin 3) rfl)) $$ HW
  iintro HW
  iapply (wp_wait_row 𝒱 c bd 0 q0 fw (gathered fw (fakeIds ft) 0 0) 24 4 (by decide) (slot_sem (0 : Fin 3) rfl)) $$ HW
  iintro HW
  iapply (wp_wait_row 𝒱 c bd 0 q0 fw (gathered fw (fakeIds ft) 0 0) 24 5 (by decide) (slot_sem (0 : Fin 3) rfl)) $$ HW
  iintro HW
  iapply (wp_wait_row 𝒱 c bd 0 q0 fw (gathered fw (fakeIds ft) 0 0) 24 6 (by decide) (slot_sem (0 : Fin 3) rfl)) $$ HW
  iintro HW
  iapply (wp_wait_row 𝒱 c bd 0 q0 fw (gathered fw (fakeIds ft) 0 0) 24 7 (by decide) (slot_sem (0 : Fin 3) rfl)) $$ HW
  iintro HW
  iapply (wp_wait_row 𝒱 c bd 0 q0 fw (gathered fw (fakeIds ft) 0 0) 24 8 (by decide) (slot_sem (0 : Fin 3) rfl)) $$ HW
  iintro HW
  iapply (wp_wait_row 𝒱 c bd 0 q0 fw (gathered fw (fakeIds ft) 0 0) 24 9 (by decide) (slot_sem (0 : Fin 3) rfl)) $$ HW
  iintro HW
  iapply (wp_wait_row 𝒱 c bd 0 q0 fw (gathered fw (fakeIds ft) 0 0) 24 10 (by decide) (slot_sem (0 : Fin 3) rfl)) $$ HW
  iintro HW
  iapply (wp_wait_row 𝒱 c bd 0 q0 fw (gathered fw (fakeIds ft) 0 0) 24 11 (by decide) (slot_sem (0 : Fin 3) rfl)) $$ HW
  iintro HW
  iapply (wp_wait_row 𝒱 c bd 0 q0 fw (gathered fw (fakeIds ft) 0 0) 24 12 (by decide) (slot_sem (0 : Fin 3) rfl)) $$ HW
  iintro HW
  iapply (wp_wait_row 𝒱 c bd 0 q0 fw (gathered fw (fakeIds ft) 0 0) 24 13 (by decide) (slot_sem (0 : Fin 3) rfl)) $$ HW
  iintro HW
  iapply (wp_wait_row 𝒱 c bd 0 q0 fw (gathered fw (fakeIds ft) 0 0) 24 14 (by decide) (slot_sem (0 : Fin 3) rfl)) $$ HW
  iintro HW
  iapply (wp_wait_row 𝒱 c bd 0 q0 fw (gathered fw (fakeIds ft) 0 0) 24 15 (by decide) (slot_sem (0 : Fin 3) rfl)) $$ HW
  iintro HW
  iapply (wp_wait_row 𝒱 c bd 0 q0 fw (gathered fw (fakeIds ft) 0 0) 24 16 (by decide) (slot_sem (0 : Fin 3) rfl)) $$ HW
  iintro HW
  iapply (wp_wait_row 𝒱 c bd 0 q0 fw (gathered fw (fakeIds ft) 0 0) 24 17 (by decide) (slot_sem (0 : Fin 3) rfl)) $$ HW
  iintro HW
  iapply (wp_wait_row 𝒱 c bd 0 q0 fw (gathered fw (fakeIds ft) 0 0) 24 18 (by decide) (slot_sem (0 : Fin 3) rfl)) $$ HW
  iintro HW
  iapply (wp_wait_row 𝒱 c bd 0 q0 fw (gathered fw (fakeIds ft) 0 0) 24 19 (by decide) (slot_sem (0 : Fin 3) rfl)) $$ HW
  iintro HW
  iapply (wp_wait_row 𝒱 c bd 0 q0 fw (gathered fw (fakeIds ft) 0 0) 24 20 (by decide) (slot_sem (0 : Fin 3) rfl)) $$ HW
  iintro HW
  iapply (wp_wait_row 𝒱 c bd 0 q0 fw (gathered fw (fakeIds ft) 0 0) 24 21 (by decide) (slot_sem (0 : Fin 3) rfl)) $$ HW
  iintro HW
  iapply (wp_wait_row 𝒱 c bd 0 q0 fw (gathered fw (fakeIds ft) 0 0) 24 22 (by decide) (slot_sem (0 : Fin 3) rfl)) $$ HW
  iintro HW
  iapply Hk
  iexact HW

end Cert.KernelIdeal.Hand
-- ==== Proof.Second.lean ====
/-
  Where the kernel's first two blocks lie, and that the main loop's assumptions hold.
-/
module

public import proofs.«01_k».proof.Proof.Open
public import proofs.«01_k».proof.Proof.Lines

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

theorem pos_two (L : Fin 24 → BitVec 32) : pos L 2 = stepPos L ((pos L 1).1, (pos L 1).2) := by
  show stepPos L (pos L 1) = _
  generalize pos L 1 = p; cases p; rfl

/-- An assumption that holds is passed. -/
theorem wp_asm {φ : Prop} {d : Decidable φ} {K : PLift φ → Prog (TpuEff nD τ sig (Elt F) Λ₀ .tc) α} {Q : α → sProp 𝕄} (h : φ) :
    wp frame (wpE defs 𝒱 (c : Thread nD τ) bd) Set.univ (K ⟨h⟩) Q ⊢ wp frame (wpE defs 𝒱 (c : Thread nD τ) bd) Set.univ (Prog.lift (.assume φ d) >>= K) Q :=
  wp_assume 𝒱 (c : Thread nD τ) bd Set.univ h

theorem trips_small {v : BitVec 32} (hv : v.toNat < 1000) : Scf.trips 0#32 v 1#32 = v.toNat := by
  rw [trips_one, toInt_small hv]; omega

theorem t6_ub (v : BitVec 32) : (k0_t6_loop v).ub = v := by
  show Scalar.addi 0#32 (Scalar.muli (Scalar.divsi (Scalar.subi v 0#32) 1#32) 1#32) = v
  rw [w_sub_zero, w_div_one, w_mul_one]
  show 0#32 + v = v
  simp

theorem t6_trips {v : BitVec 32} (hv : v.toNat < 1000) : (k0_t6_loop v).trips = v.toNat := by
  have h := t6_ub v
  show Scf.trips 0#32 (k0_t6_loop v).ub 1#32 = _
  rw [h]; exact trips_small hv

theorem t6_ok {v : BitVec 32} (hv : v.toNat < 1000) : (k0_t6_loop v).OK := by
  have h := t6_ub v
  show Scf.OK 0#32 (k0_t6_loop v).ub 1#32
  rw [h]
  refine ⟨show (0:ℤ) < (1#32).toInt by decide, ?_⟩
  rw [trips_small hv, show (0#32).toInt = 0 from rfl, show (1#32).toInt = 1 from rfl]
  omega

theorem chk116_ok {v : BitVec 32} (hv : v.toNat < 900) : k0_chk116 v :=
  ⟨t6_ok (by omega), fun t => by
      have ht : t.val < 900 := by
        have h1 := t.isLt
        have h2 := t6_trips (v := v) (by omega)
        omega
      rw [off511_eq t ht]; exact inb_ring (fin3 t.val),
    rem_ok _, fun t => (Nat.not_lt_zero _ (lt_of_lt_of_eq t.isLt (rem_trips _))).elim⟩

theorem sle_nb {v : BitVec 32} (hv : LenOk v) : Scalar.cmpi .sle (nbW v) 1#32 = BitVec.ofBool (decide (nb v ≤ 1)) := by
  have hb := nbW_bounds hv
  have h : (nbW v).sle 1#32 = decide (nb v ≤ 1) := by
    have h1 : (1#32 : BitVec 32).toInt = 1 := rfl
    have h2 := toInt_small (x := nbW v) (by omega)
    rw [BitVec.sle_eq_decide, h1, h2]
    unfold nb
    by_cases hc : (nbW v).toNat ≤ 1
    · rw [decide_eq_true hc, decide_eq_true (by omega)]
    · rw [decide_eq_false hc, decide_eq_false (by omega)]
  exact congrArg BitVec.ofBool h

/-- The batch row and the block of the second block. -/
theorem second {L : Fin 24 → BitVec 32} (hL : ∀ b, LenOk (L b)) :
    Scalar.select (Scalar.cmpi .sle (nbW (L 0)) 1#32) 1#32 0#32 = BitVec.ofNat 32 (pos L 1).1
      ∧ Scalar.select (Scalar.cmpi .sle (nbW (L 0)) 1#32) 0#32 1#32 = BitVec.ofNat 32 (pos L 1).2
      ∧ (pos L 1).1 < 24 ∧ (pos L 1).2 < 6 := by
  have h0 : fin24 0 = (0 : Fin 24) := rfl
  have e1 : pos L 1 = (if nb (L 0) ≤ 1 then 1 else 0, if nb (L 0) ≤ 1 then 0 else 1) := by
    show stepPos L (0, 0) = _
    unfold stepPos
    rw [if_pos (show (0:ℕ) < 24 by decide), h0]
  rw [sle_nb (hL 0), w_select, w_select, e1]
  by_cases h : nb (L 0) ≤ 1
  · simp [h]
  · simp [h]

theorem cond1_ok (v : BitVec 32) : k0_cond1 v = 1#1 := by
  have h : ∀ z : BitVec 1, Scalar.cmpi .ne (Scalar.extui (Scalar.cmpi .slt (Scalar.select z 1#32 0#32) 24#32) : BitVec 32) 0#32 = 1#1 := by decide
  exact h _

theorem off50_eq (t : Fin k0_t1_loop.trips) : k0_off50 t = ![t.val] := by
  have ht : t.val < 24 := lt_of_lt_of_eq t.isLt (show k0_t1_loop.trips = 24 by decide)
  show ![(Scf.iv 0#32 1#32 t.val).toNat] = _
  rw [iv_ofNat, ofNat_toNat' (by omega)]

theorem inb_ring32 : ∀ a, (![0, 0, 0] : Fin 3 → ℕ) a + S1x32x256.size a ≤ S3x256x256.size a := inb_S3x256x256_S1x32x256_0_0_0

theorem rowsSet_32 {h : ∀ a, (![0, 0, 0] : Fin 3 → ℕ) a + S1x32x256.size a ≤ S3x256x256.size a} :
    (sRows.access (Rect.unit (s := S3x256x256) ![0, 0, 0] S1x32x256.size h)).set ⊆ rowsSet 0 0 256 := by
  intro x hx
  rw [mem_rowsSet]
  have hx : x ∈ ((View.whole cc0_scratch0).slice (Rect.unit (s := S3x256x256) ![0, 0, 0] S1x32x256.size h)).set := hx
  rw [View.set_slice_whole] at hx
  have hx := (Rect.mem_set_unit).1 hx
  have H0 := hx 0; have H1 := hx 1
  simp [S1x32x256] at H0 H1
  omega

/-- What the targets' part of the kernel computes with: the rows, the lines and the ids it reads. -/
abbrev rdTg (I : Ins F c) : Vec F S1x128 .i32 := ((Memref.whole cc0_stg4_0 : Memref sig .tc .vmem S1x128 .i32).access (Rect.unit (s := S1x128) ![0, 0] S1x128.size inb_S1x128_S1x128_0_0)).read (Elt F) I.tg
abbrev rdRows32 (f : RingBuf F c) : Vec F S1x32x256 .i32 := (sRows.access (Rect.unit (s := S3x256x256) ![0, 0, 0] S1x32x256.size inb_S3x256x256_S1x32x256_0_0_0)).read (Elt F) f
abbrev rdLine32 (g : LineBuf F c) : Vec F S32x128 .f32 := (sLine.access (Rect.unit (s := S256x128) ![0, 0] S32x128.size inb_S256x128_S32x128_0_0)).read (Elt F) g

/-- The targets' rows as gathered over what the ring held, and their lines. -/
abbrev tRows (I : Ins F c) (f : RingBuf F c) : IVec S32x256 32 := k0_pay120 (rdRows32 c (filled (gathered I.fw (fakeIds I.ft) 0 0) f 24))
abbrev tScl (I : Ins F c) (g : LineBuf F c) : FVec F S32x1 .f32 := k0_pay121 (rdTg c I) (rdLine32 c (lineBuf I.fs (fakeIds I.ft) 0 0 g 24))
abbrev tIds (I : Ins F c) : IVec S32x1 32 := k0_pay122 (rdTg c I)

/-- The targets' features the kernel keeps. -/
def TfOk (I : Ins F c) (tf : TfBuf F c) : Prop := ∃ f g t0, tf = ((Memref.whole cc0_scratch3 : Memref sig .tc .vmem S32x256 .f32).access (Rect.unit (s := S32x256) ![0, 0] S32x256.size inb_S32x256_S32x256_0_0)).write (Elt F) t0 (k0_pay124 (tRows c I f) (tScl c I g) (tIds c I)) Finset.univ
/-- Their share of the first layer. -/
def TwOk (I : Ins F c) (tw : TwBuf F c) : Prop := ∃ f g t0, tw = ((Memref.whole cc0_scratch4 : Memref sig .tc .vmem S32x256 .f32).access (Rect.unit (s := S32x256) ![0, 0] S32x256.size inb_S32x256_S32x256_0_0)).write (Elt F) t0
  (k0_pay125 (tRows c I f) (tScl c I g) (tIds c I)
    (((Memref.whole cc0_stg5_0 : Memref sig .tc .vmem S1024x256 .bf16).access (Rect.unit (s := S1024x256) ![256, 0] S256x256.size inb_S1024x256_S256x256_256_0)).read (Elt F) I.w1)
    (((Memref.whole cc0_stg6_0 : Memref sig .tc .vmem S1x256 .f32).access (Rect.unit (s := S1x256) ![0, 0] S1x256.size inb_S1x256_S1x256_0_0)).read (Elt F) I.b1)) Finset.univ

end Cert.KernelIdeal.Hand
-- ==== Proof.IssueFirst.lean ====
module

public import proofs.«01_k».proof.Proof.Row

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)

/-- One trip of the loop that starts the first block's copies. -/
theorem t2_step {arg0 : Memref sig .tc .smem S24 .i32} {harg0 : arg0.IsWhole} {arg2 : Memref sig .tc .smem S24 .i32} {harg2 : arg2.IsWhole} {arg4 : Memref sig .tc .hbm S1000000 .f32} {harg4 : arg4.IsWhole} {arg5 : Memref sig .tc .vmem S24x12x128 .i32} {harg5 : arg5.IsWhole} {arg6 : Memref sig .tc .vmem S1x128 .i32} {harg6 : arg6.IsWhole} {arg7 : Memref sig .tc .vmem S1024x256 .bf16} {harg7 : arg7.IsWhole} {arg8 : Memref sig .tc .vmem S1x256 .f32} {harg8 : arg8.IsWhole} {arg9 : Memref sig .tc .vmem S1x256 .f32} {harg9 : arg9.IsWhole} {arg10 : Memref sig .tc .vmem S256x128 .bf16} {harg10 : arg10.IsWhole} {arg11 : Memref sig .tc .vmem S1x128 .f32} {harg11 : arg11.IsWhole} {arg12 : Memref sig .tc .vmem S1x128 .f32} {harg12 : arg12.IsWhole} {arg13 : Memref sig .tc .vmem S8x128 .bf16} {harg13 : arg13.IsWhole} {arg14 : Memref sig .tc .smem S1x1 .f32} {harg14 : arg14.IsWhole} {arg15 : Memref sig .tc .vmem S24x256 .f32} {harg15 : arg15.IsWhole} {arg16 : Memref sig .tc .vmem S24x1536 .f32} {harg16 : arg16.IsWhole} {arg18 : Memref sig .tc .vmem S256x128 .f32} {harg18 : arg18.IsWhole} {arg19 : Memref sig .tc .vmem S1000000 .f32} {harg19 : arg19.IsWhole} {arg20 : Memref sig .tc .vmem S32x256 .f32} {harg20 : arg20.IsWhole} {arg21 : Memref sig .tc .vmem S32x256 .f32} {harg21 : arg21.IsWhole} {arg22 : DmaSems sig S_} {v617 : Elt F .i32} {k0_hw49 : k0_chk49 v617} {v624 : BitVec 32} {c1_i32_451 : BitVec 32}
    (q0 : PosShare TreeShare) (fw : WordBuf F c) (fi : IdBuf F c) (f : RingBuf F c) (n : ℕ)
    (hfi : IdsOk fi)
    (hn : n = 16 * (k0_t2_loop v617).trips) (hT : (k0_t2_loop v617).trips ≤ 16)
    (t : Fin (k0_t2_loop v617).trips) :
    iprop(pt c cc0_stg1_0 fi ∗ Filling c (.dma (slotSem 0)) (0 : Fin 3).val q0 fw (gathered fw fi 0 0) f n (16 * t.val))
      ⊢ wp frame (wpE defs 𝒱 (c : Thread nD τ) bd) Set.univ (k0_t2_body arg0 harg0 aIds (Memref.isWhole_whole _) arg2 harg2 hWords (Memref.isWhole_whole _) arg4 harg4 arg5 harg5 arg6 harg6 arg7 harg7 arg8 harg8 arg9 harg9 arg10 harg10 arg11 harg11 arg12 harg12 arg13 harg13 arg14 harg14 arg15 harg15 arg16 harg16 sRows (Memref.isWhole_whole _) arg18 harg18 arg19 harg19 arg20 harg20 arg21 harg21 arg22 cc0_scratch6 v617 k0_hw49 v624 c1_i32_451 t ())
        (fun _ => iprop(pt c cc0_stg1_0 fi ∗ Filling c (.dma (slotSem 0)) (0 : Fin 3).val q0 fw (gathered fw fi 0 0) f n (16 * (t.val + 1)))) := by
  have ht : t.val < 16 := by have := t.isLt; omega
  have hj : 16 * t.val + 16 ≤ n := by have := t.isLt; omega
  unfold k0_t2_body
  simp only [k0_part6_eq_skeleton]
  unfold k0_part6_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.bind_assoc, Prog.bind_ret, Prog.pure_eq_ret]
  iintro H
  iapply (wp_row 𝒱 c bd (0 : Fin 3) q0 fw fi f (0 : Fin 24) (0 : Fin 6) n (16 * t.val + 0) (by omega) (by omega) hfi
    (by exact off_ids_first (u := 0) ht (by decide)) (by exact off_ring (s := 0) (ws := 0#32) (u := 0) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 1) (by omega) (by omega) hfi
    (by exact off_ids_first (u := 1) ht (by decide)) (by exact off_ring (s := 0) (ws := 0#32) (u := 1) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 2) (by omega) (by omega) hfi
    (by exact off_ids_first (u := 2) ht (by decide)) (by exact off_ring (s := 0) (ws := 0#32) (u := 2) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 3) (by omega) (by omega) hfi
    (by exact off_ids_first (u := 3) ht (by decide)) (by exact off_ring (s := 0) (ws := 0#32) (u := 3) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 4) (by omega) (by omega) hfi
    (by exact off_ids_first (u := 4) ht (by decide)) (by exact off_ring (s := 0) (ws := 0#32) (u := 4) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 5) (by omega) (by omega) hfi
    (by exact off_ids_first (u := 5) ht (by decide)) (by exact off_ring (s := 0) (ws := 0#32) (u := 5) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 6) (by omega) (by omega) hfi
    (by exact off_ids_first (u := 6) ht (by decide)) (by exact off_ring (s := 0) (ws := 0#32) (u := 6) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 7) (by omega) (by omega) hfi
    (by exact off_ids_first (u := 7) ht (by decide)) (by exact off_ring (s := 0) (ws := 0#32) (u := 7) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 8) (by omega) (by omega) hfi
    (by exact off_ids_first (u := 8) ht (by decide)) (by exact off_ring (s := 0) (ws := 0#32) (u := 8) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 9) (by omega) (by omega) hfi
    (by exact off_ids_first (u := 9) ht (by decide)) (by exact off_ring (s := 0) (ws := 0#32) (u := 9) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 10) (by omega) (by omega) hfi
    (by exact off_ids_first (u := 10) ht (by decide)) (by exact off_ring (s := 0) (ws := 0#32) (u := 10) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 11) (by omega) (by omega) hfi
    (by exact off_ids_first (u := 11) ht (by decide)) (by exact off_ring (s := 0) (ws := 0#32) (u := 11) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 12) (by omega) (by omega) hfi
    (by exact off_ids_first (u := 12) ht (by decide)) (by exact off_ring (s := 0) (ws := 0#32) (u := 12) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 13) (by omega) (by omega) hfi
    (by exact off_ids_first (u := 13) ht (by decide)) (by exact off_ring (s := 0) (ws := 0#32) (u := 13) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 14) (by omega) (by omega) hfi
    (by exact off_ids_first (u := 14) ht (by decide)) (by exact off_ring (s := 0) (ws := 0#32) (u := 14) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 15) (by omega) (by omega) hfi
    (by exact off_ids_first (u := 15) ht (by decide)) (by exact off_ring (s := 0) (ws := 0#32) (u := 15) rfl ht (by decide)) (fun v => rfl)
    (fun v hv => row_inb v hv rfl) (slot_sem (0 : Fin 3) rfl)) $$ H
  iintro H
  iapply (le_wp_ret _ _ _)
  iexact H

end Cert.KernelIdeal.Hand
-- ==== Proof.IssueSecond.lean ====
module

public import proofs.«01_k».proof.Proof.Row

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)

/-- One trip of the loop that starts the second block's copies. -/
theorem t4_step {arg0 : Memref sig .tc .smem S24 .i32} {harg0 : arg0.IsWhole} {arg2 : Memref sig .tc .smem S24 .i32} {harg2 : arg2.IsWhole} {arg4 : Memref sig .tc .hbm S1000000 .f32} {harg4 : arg4.IsWhole} {arg5 : Memref sig .tc .vmem S24x12x128 .i32} {harg5 : arg5.IsWhole} {arg6 : Memref sig .tc .vmem S1x128 .i32} {harg6 : arg6.IsWhole} {arg7 : Memref sig .tc .vmem S1024x256 .bf16} {harg7 : arg7.IsWhole} {arg8 : Memref sig .tc .vmem S1x256 .f32} {harg8 : arg8.IsWhole} {arg9 : Memref sig .tc .vmem S1x256 .f32} {harg9 : arg9.IsWhole} {arg10 : Memref sig .tc .vmem S256x128 .bf16} {harg10 : arg10.IsWhole} {arg11 : Memref sig .tc .vmem S1x128 .f32} {harg11 : arg11.IsWhole} {arg12 : Memref sig .tc .vmem S1x128 .f32} {harg12 : arg12.IsWhole} {arg13 : Memref sig .tc .vmem S8x128 .bf16} {harg13 : arg13.IsWhole} {arg14 : Memref sig .tc .smem S1x1 .f32} {harg14 : arg14.IsWhole} {arg15 : Memref sig .tc .vmem S24x256 .f32} {harg15 : arg15.IsWhole} {arg16 : Memref sig .tc .vmem S24x1536 .f32} {harg16 : arg16.IsWhole} {arg18 : Memref sig .tc .vmem S256x128 .f32} {harg18 : arg18.IsWhole} {arg19 : Memref sig .tc .vmem S1000000 .f32} {harg19 : arg19.IsWhole} {arg20 : Memref sig .tc .vmem S32x256 .f32} {harg20 : arg20.IsWhole} {arg21 : Memref sig .tc .vmem S32x256 .f32} {harg21 : arg21.IsWhole} {arg22 : DmaSems sig S_} {v617 : Elt F .i32} {k0_hw49 : k0_chk49 v617} {v624 : BitVec 32} {c1_i32_451 : BitVec 32} {v631 : Elt F .i32} {v636 : BitVec 32} {v637 : BitVec 32} {k0_h1 : k0_cond1 v631 = 1#1} {v663 : Elt F .i32} {k0_hw83 : k0_chk83 v631 v663}
    (q0 : PosShare TreeShare) (fw : WordBuf F c) (fi : IdBuf F c) (f : RingBuf F c) (b : Fin 24) (kw : Fin 6) (n : ℕ)
    (hfi : IdsOk fi) (hb : (Scalar.select (Scalar.cmpi .sle (Scalar.maxsi (Scalar.divsi (Scalar.addi v631 255#32) 256#32) 1#32) 1#32) 1#32 0#32).toNat = b.val) (hk : (Scalar.select (Scalar.cmpi .sle (Scalar.maxsi (Scalar.divsi (Scalar.addi v631 255#32) 256#32) 1#32) 1#32) 0#32 1#32).toNat = kw.val)
    (hn : n = 16 * (k0_t4_loop v631 v663).trips) (hT : (k0_t4_loop v631 v663).trips ≤ 16)
    (t : Fin (k0_t4_loop v631 v663).trips) :
    iprop(pt c cc0_stg1_0 fi ∗ Filling c (.dma (slotSem 1)) (1 : Fin 3).val q0 fw (gathered fw fi b kw) f n (16 * t.val))
      ⊢ wp frame (wpE defs 𝒱 (c : Thread nD τ) bd) Set.univ (k0_t4_body arg0 harg0 aIds (Memref.isWhole_whole _) arg2 harg2 hWords (Memref.isWhole_whole _) arg4 harg4 arg5 harg5 arg6 harg6 arg7 harg7 arg8 harg8 arg9 harg9 arg10 harg10 arg11 harg11 arg12 harg12 arg13 harg13 arg14 harg14 arg15 harg15 arg16 harg16 sRows (Memref.isWhole_whole _) arg18 harg18 arg19 harg19 arg20 harg20 arg21 harg21 arg22 cc0_scratch6 v617 k0_hw49 v624 c1_i32_451 v631 v636 v637 k0_h1 v663 k0_hw83 t ())
        (fun _ => iprop(pt c cc0_stg1_0 fi ∗ Filling c (.dma (slotSem 1)) (1 : Fin 3).val q0 fw (gathered fw fi b kw) f n (16 * (t.val + 1)))) := by
  have ht : t.val < 16 := by have := t.isLt; omega
  have hj : 16 * t.val + 16 ≤ n := by have := t.isLt; omega
  unfold k0_t4_body
  simp only [k0_part13_eq_skeleton, k0_part14_eq_skeleton, k0_part15_eq_skeleton, k0_part16_eq_skeleton, k0_part17_eq_skeleton, k0_part18_eq_skeleton]
  unfold k0_part13_skel k0_part14_skel k0_part15_skel k0_part16_skel k0_part17_skel k0_part18_skel
  simp only [Prog.bind_assoc, Prog.bind_ret, Prog.pure_eq_ret]
  iintro H
  iapply (wp_row 𝒱 c bd (1 : Fin 3) q0 fw fi f b kw n (16 * t.val + 0) (by omega) (by omega) hfi
    (by exact off_ids (u := 0) hb hk kw.isLt ht (by decide)) (by exact off_ring (s := 1) (ws := 1#32) (u := 0) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 1) (by omega) (by omega) hfi
    (by exact off_ids (u := 1) hb hk kw.isLt ht (by decide)) (by exact off_ring (s := 1) (ws := 1#32) (u := 1) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 2) (by omega) (by omega) hfi
    (by exact off_ids (u := 2) hb hk kw.isLt ht (by decide)) (by exact off_ring (s := 1) (ws := 1#32) (u := 2) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 3) (by omega) (by omega) hfi
    (by exact off_ids (u := 3) hb hk kw.isLt ht (by decide)) (by exact off_ring (s := 1) (ws := 1#32) (u := 3) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 4) (by omega) (by omega) hfi
    (by exact off_ids (u := 4) hb hk kw.isLt ht (by decide)) (by exact off_ring (s := 1) (ws := 1#32) (u := 4) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 5) (by omega) (by omega) hfi
    (by exact off_ids (u := 5) hb hk kw.isLt ht (by decide)) (by exact off_ring (s := 1) (ws := 1#32) (u := 5) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 6) (by omega) (by omega) hfi
    (by exact off_ids (u := 6) hb hk kw.isLt ht (by decide)) (by exact off_ring (s := 1) (ws := 1#32) (u := 6) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 7) (by omega) (by omega) hfi
    (by exact off_ids (u := 7) hb hk kw.isLt ht (by decide)) (by exact off_ring (s := 1) (ws := 1#32) (u := 7) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 8) (by omega) (by omega) hfi
    (by exact off_ids (u := 8) hb hk kw.isLt ht (by decide)) (by exact off_ring (s := 1) (ws := 1#32) (u := 8) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 9) (by omega) (by omega) hfi
    (by exact off_ids (u := 9) hb hk kw.isLt ht (by decide)) (by exact off_ring (s := 1) (ws := 1#32) (u := 9) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 10) (by omega) (by omega) hfi
    (by exact off_ids (u := 10) hb hk kw.isLt ht (by decide)) (by exact off_ring (s := 1) (ws := 1#32) (u := 10) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 11) (by omega) (by omega) hfi
    (by exact off_ids (u := 11) hb hk kw.isLt ht (by decide)) (by exact off_ring (s := 1) (ws := 1#32) (u := 11) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 12) (by omega) (by omega) hfi
    (by exact off_ids (u := 12) hb hk kw.isLt ht (by decide)) (by exact off_ring (s := 1) (ws := 1#32) (u := 12) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 13) (by omega) (by omega) hfi
    (by exact off_ids (u := 13) hb hk kw.isLt ht (by decide)) (by exact off_ring (s := 1) (ws := 1#32) (u := 13) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 14) (by omega) (by omega) hfi
    (by exact off_ids (u := 14) hb hk kw.isLt ht (by decide)) (by exact off_ring (s := 1) (ws := 1#32) (u := 14) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 15) (by omega) (by omega) hfi
    (by exact off_ids (u := 15) hb hk kw.isLt ht (by decide)) (by exact off_ring (s := 1) (ws := 1#32) (u := 15) rfl ht (by decide)) (fun v => rfl)
    (fun v hv => fun _ => row_inb v hv rfl) (slot_sem (1 : Fin 3) rfl)) $$ H
  iintro H
  iapply (le_wp_ret _ _ _)
  iexact H

end Cert.KernelIdeal.Hand
-- ==== Proof.Ahead.lean ====
/-
  The targets' features, the number of blocks, and the first two blocks' copies.
-/
module

public import proofs.«01_k».proof.Proof.Second
public import proofs.«01_k».proof.Proof.IssueFirst
public import proofs.«01_k».proof.Proof.IssueSecond

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

/-- Part 108: the last of the targets' rows is waited for, and the first slot is idle again. -/
theorem last_ok {K : (Σ' (_ : IVec S32x256 32) (_ : FVec F S32x1 .f32), IVec S32x1 32) → Prog (TpuEff nD τ sig (Elt F) Λ₀ .tc) α} {Q : α → sProp 𝕄}
    (q : Fin 3 → PosShare TreeShare) (I : Ins F c) (f : RingBuf F c) (g0 : LineBuf F c) :
    iprop(pt c cc0_stg4_0 I.tg ∗ pt c cc0_scratch1 (lineBuf I.fs (fakeIds I.ft) 0 0 g0 24)
      ∗ (((c : Thread nD τ).loc cc0_scratch0) ↦[rowsSet 0 24 256]{fullShare} f)
      ∗ (((c : Thread nD τ).loc main_v2) ↦{shareDrop (q 0) 24} I.fw) ∗ RowBatch c (.dma (slotSem 0)) 0 (q 0) I.fw (gathered I.fw (fakeIds I.ft) 0 0) 24 24 (rowN * 23) ∗ noDebt c)
    ⊢ iprop((pt c cc0_stg4_0 I.tg ∗ (∃ g0, pt c cc0_scratch1 g0) ∗ (∃ f, Idle c 0 (q 0) I.fw f) ∗ noDebt c -∗ wp frame (wpE defs 𝒱 (c : Thread nD τ) bd) Set.univ (K ⟨tRows c I f, tScl c I g0, tIds c I⟩) Q)
      -∗ wp frame (wpE defs 𝒱 (c : Thread nD τ) bd) Set.univ (k0_part108 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 >>= K) Q) := by
  rw [k0_part108_eq_skeleton]
  unfold k0_part108_skel
  simp only [Prog.bind_assoc, Prog.bind_ret, Prog.pure_eq_ret]
  iintro ⟨Htg, Hg, Hr, Hw, HB, HO⟩ Hk
  iapply (wp_wait_row 𝒱 c bd 0 (q 0) I.fw (gathered I.fw (fakeIds I.ft) 0 0) 24 23 (by decide) (slot_sem (0 : Fin 3) rfl)) $$ [HB HO]
  · isplitl [HB]; · iexact HB
    iexact HO
  iintro ⟨HB, HO⟩
  imod (idle_close c 0 (q 0) I.fw (gathered I.fw (fakeIds I.ft) 0 0) f 24 (by decide)) $$ [Hr Hw HB] with HI
  · isplitl [Hr]; · iexact Hr
    isplitl [Hw]; · iexact Hw
    iexact HB
  unfold Idle
  icases HI with ⟨Hr, Hw, Hv⟩
  iapply (wp_ld 𝒱 c bd (Memref.whole cc0_stg4_0) _ ![0, 0] rfl _ inb_S1x128_S1x128_0_0 (S := Finset.univ) (q := fullShare) (f := I.tg) (Finset.subset_univ _)) $$ Htg
  iintro Htg
  iapply (wp_ld 𝒱 c bd sRows _ ![0, 0, 0] rfl _ inb_S3x256x256_S1x32x256_0_0_0 (S := rowsSet (0 : Fin 3).val 0 256) (q := fullShare) (f := filled (gathered I.fw (fakeIds I.ft) 0 0) f 24) rowsSet_32) $$ Hr
  iintro Hr
  iapply (wp_ld 𝒱 c bd sLine _ ![0, 0] rfl _ inb_S256x128_S32x128_0_0 (S := Finset.univ) (q := fullShare) (f := lineBuf I.fs (fakeIds I.ft) 0 0 g0 24) (Finset.subset_univ _)) $$ Hg
  iintro Hg
  iapply Hk
  isplitl [Htg]; · iexact Htg
  isplitl [Hg]; · iexists _; iexact Hg
  isplitl [Hr Hw Hv]
  · iexists _
    isplitl [Hr]; · iexact Hr
    isplitl [Hw]; · iexact Hw
    iexact Hv
  iexact HO

/-- One step of the count of the blocks. -/
theorem count_step (I : Ins F c) (hL : ∀ b, LenOk (lenAt I.fl b)) (v571 : IVec S32x256 32) (v585 : FVec F S32x1 .f32) (v592 : IVec S32x1 32) (t : Fin k0_t1_loop.trips) (acc : BitVec 32) :
    iprop(⌜acc.toNat = pre (lenAt I.fl) t.val⌝ ∗ pt c cc0_stg0_0 I.fl)
    ⊢ wp frame (wpE defs 𝒱 (c : Thread nD τ) bd) Set.univ (k0_t1_body aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v571 v585 v592 t acc) (fun acc => iprop(⌜acc.toNat = pre (lenAt I.fl) (t.val + 1)⌝ ∗ pt c cc0_stg0_0 I.fl)) := by
  have ht : t.val < 24 := lt_of_lt_of_eq t.isLt (show k0_t1_loop.trips = 24 by decide)
  unfold k0_t1_body
  iintro ⟨%ha, Hl⟩
  have hp := pre_add hL ht ha
  iapply (wp_len 𝒱 c bd I.fl (fin24 t.val) ((off50_eq t).trans (by rw [fin24_val ht]))) $$ Hl
  iintro Hl
  iapply (le_wp_ret _ _ _)
  isplitr
  · ipureintro; exact hp
  iexact Hl

/-- Part 109: the targets' features are kept, and the blocks counted. -/
theorem count_ok {K : (Σ' (v616 : BitVec 32) (_ : k0_chk116 v616) (v617 : Elt F .i32) (_ : k0_chk49 v617) (_ : BitVec 32), BitVec 32) → Prog (TpuEff nD τ sig (Elt F) Λ₀ .tc) α} {Q : α → sProp 𝕄}
    (I : Ins F c) (f : RingBuf F c) (g0 : LineBuf F c) (hL : ∀ b, LenOk (lenAt I.fl b)) :
    iprop(pt c cc0_stg0_0 I.fl ∗ (∃ t, pt c cc0_scratch3 t) ∗ (∃ t, pt c cc0_scratch4 t) ∗ pt c cc0_stg5_0 I.w1 ∗ pt c cc0_stg6_0 I.b1)
    ⊢ iprop((∀ tf tw v616 h116 h49 v624 v1, ⌜TfOk c I tf⌝ ∗ ⌜TwOk c I tw⌝ ∗ ⌜v616.toNat = pre (lenAt I.fl) 24⌝
        ∗ pt c cc0_stg0_0 I.fl ∗ pt c cc0_scratch3 tf ∗ pt c cc0_scratch4 tw ∗ pt c cc0_stg5_0 I.w1 ∗ pt c cc0_stg6_0 I.b1
        -∗ wp frame (wpE defs 𝒱 (c : Thread nD τ) bd) Set.univ (K ⟨v616, h116, lenAt I.fl 0, h49, v624, v1⟩) Q)
      -∗ wp frame (wpE defs 𝒱 (c : Thread nD τ) bd) Set.univ (k0_part109 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 (tRows c I f) (tScl c I g0) (tIds c I) >>= K) Q) := by
  rw [k0_part109_eq_skeleton]
  unfold k0_part109_skel
  simp only [Prog.bind_assoc, Prog.bind_ret, Prog.pure_eq_ret]
  iintro ⟨Hl, ⟨%t3, H3⟩, ⟨%t4, H4⟩, Hw1, Hb1⟩ Hk
  iapply (wp_ld 𝒱 c bd (Memref.whole cc0_scratch3) _ ![0, 0] rfl _ inb_S32x256_S32x256_0_0 (S := Finset.univ) (q := fullShare) (f := t3) (Finset.subset_univ _)) $$ H3
  iintro H3
  iapply (wp_st 𝒱 c bd (Memref.whole cc0_scratch3) _ ![0, 0] rfl _ inb_S32x256_S32x256_0_0 (f := t3)) $$ H3
  iintro H3
  iapply (wp_ld 𝒱 c bd (Memref.whole cc0_stg5_0) _ ![256, 0] rfl _ inb_S1024x256_S256x256_256_0 (S := Finset.univ) (q := fullShare) (f := I.w1) (Finset.subset_univ _)) $$ Hw1
  iintro Hw1
  iapply (wp_ld 𝒱 c bd (Memref.whole cc0_stg6_0) _ ![0, 0] rfl _ inb_S1x256_S1x256_0_0 (S := Finset.univ) (q := fullShare) (f := I.b1) (Finset.subset_univ _)) $$ Hb1
  iintro Hb1
  iapply (wp_ld 𝒱 c bd (Memref.whole cc0_scratch4) _ ![0, 0] rfl _ inb_S32x256_S32x256_0_0 (S := Finset.univ) (q := fullShare) (f := t4) (Finset.subset_univ _)) $$ H4
  iintro H4
  iapply (wp_st 𝒱 c bd (Memref.whole cc0_scratch4) _ ![0, 0] rfl _ inb_S32x256_S32x256_0_0 (f := t4)) $$ H4
  iintro H4
  iapply (Scf.wp_for_bind _ _ _ _ _ _ _ _ _ (fun n (acc : BitVec 32) => iprop(⌜acc.toNat = pre (lenAt I.fl) n⌝ ∗ pt c cc0_stg0_0 I.fl))
    (fun t acc => count_step 𝒱 c bd I hL _ _ _ t acc)) $$ [Hl]
  · isplitr; · ipureintro; rfl
    iexact Hl
  iintro %v616 ⟨%hv, Hl⟩
  have hv : v616.toNat = pre (lenAt I.fl) 24 := hv
  have hv9 : v616.toNat < 900 := by have := pre_le hL 24; omega
  iapply (wp_asm 𝒱 c bd (chk116_ok hv9))
  iapply (wp_len 𝒱 c bd (oi := ![0]) (hi := inb_S24_S1_0) I.fl (0 : Fin 24) rfl) $$ Hl
  iintro Hl
  iapply (wp_asm 𝒱 c bd (chk49_ok (v617 := lenAt I.fl 0) (by decide)))
  iapply Hk $$ %_ %_ %v616 %(chk116_ok hv9) %(chk49_ok (by decide)) %_ %_
  isplitr; · ipureintro; exact ⟨f, g0, t3, rfl⟩
  isplitr; · ipureintro; exact ⟨f, g0, t4, rfl⟩
  isplitr; · ipureintro; exact hv
  isplitl [Hl]; · iexact Hl
  isplitl [H3]; · iexact H3
  isplitl [H4]; · iexact H4
  isplitl [Hw1]; · iexact Hw1
  iexact Hb1

theorem trips2 (v : BitVec 32) : 16 * (k0_t2_loop v).trips = rowsOf v 0 := congrArg (16 * ·) (trips_ubOf _)
theorem trips4 (v : BitVec 32) (k : ℕ) (v' : BitVec 32)
    (hk : Scalar.select (Scalar.cmpi .sle (Scalar.maxsi (Scalar.divsi (Scalar.addi v 255#32) 256#32) 1#32) 1#32) 0#32 1#32 = BitVec.ofNat 32 k) : 16 * (k0_t4_loop v v').trips = rowsOf v' k := by
  unfold rowsOf
  rw [← hk]
  exact congrArg (16 * ·) (trips_ubOf _)

theorem off147_eq (v : BitVec 32) : k0_off147 v = ![(Scalar.select (Scalar.cmpi .sle (nbW v) 1#32) 1#32 0#32).toNat] := by
  unfold k0_off147 nbW Scalar.indexCast
  rfl
theorem off244_eq (v : BitVec 32) : k0_off244 v = ![(Scalar.minsi (Scalar.select (Scalar.cmpi .sle (nbW v) 1#32) 1#32 0#32) 23#32).toNat] := by
  unfold k0_off244 nbW Scalar.indexCast
  rfl

/-- The facts the second block's copies need, on the words the kernel computes. -/
theorem ahead_facts (fl : LenBuf F c) (hL : ∀ b, LenOk (lenAt fl b)) :
    (pos (lenAt fl) 1).1 < 24 ∧ (pos (lenAt fl) 1).2 < 6
    ∧ (Scalar.select (Scalar.cmpi .sle (Scalar.maxsi (Scalar.divsi (Scalar.addi (lenAt fl 0) 255#32) 256#32) 1#32) 1#32) 1#32 0#32) = BitVec.ofNat 32 (pos (lenAt fl) 1).1 ∧ (Scalar.select (Scalar.cmpi .sle (Scalar.maxsi (Scalar.divsi (Scalar.addi (lenAt fl 0) 255#32) 256#32) 1#32) 1#32) 0#32 1#32) = BitVec.ofNat 32 (pos (lenAt fl) 1).2
    ∧ (Scalar.select (Scalar.cmpi .sle (Scalar.maxsi (Scalar.divsi (Scalar.addi (lenAt fl 0) 255#32) 256#32) 1#32) 1#32) 1#32 0#32).toNat = (pos (lenAt fl) 1).1 ∧ (Scalar.select (Scalar.cmpi .sle (Scalar.maxsi (Scalar.divsi (Scalar.addi (lenAt fl 0) 255#32) 256#32) 1#32) 1#32) 0#32 1#32).toNat = (pos (lenAt fl) 1).2
    ∧ k0_off147 (lenAt fl 0) = ![(fin24 (pos (lenAt fl) 1).1).val] ∧ k0_off244 (lenAt fl 0) = ![(fin24 (pos (lenAt fl) 1).1).val] ∧ k0_chk82 (lenAt fl 0)
    ∧ Scalar.select (Scalar.cmpi .slt (Scalar.select (Scalar.cmpi .sle (Scalar.maxsi (Scalar.divsi (Scalar.addi (lenAt fl 0) 255#32) 256#32) 1#32) 1#32) 1#32 0#32) 24#32) (Scalar.select (Scalar.cmpi .sge (Scalar.addi (Scalar.select (Scalar.cmpi .sle (Scalar.maxsi (Scalar.divsi (Scalar.addi (lenAt fl 0) 255#32) 256#32) 1#32) 1#32) 0#32 1#32) 1#32) (Scalar.maxsi (Scalar.divsi (Scalar.addi (lenAt fl (fin24 (pos (lenAt fl) 1).1)) 255#32) 256#32) 1#32)) (Scalar.addi (Scalar.minsi (Scalar.select (Scalar.cmpi .sle (Scalar.maxsi (Scalar.divsi (Scalar.addi (lenAt fl 0) 255#32) 256#32) 1#32) 1#32) 1#32 0#32) 23#32) 1#32) (Scalar.minsi (Scalar.select (Scalar.cmpi .sle (Scalar.maxsi (Scalar.divsi (Scalar.addi (lenAt fl 0) 255#32) 256#32) 1#32) 1#32) 1#32 0#32) 23#32)) 24#32 = BitVec.ofNat 32 (pos (lenAt fl) 2).1
    ∧ Scalar.select (Scalar.cmpi .sge (Scalar.addi (Scalar.select (Scalar.cmpi .sle (Scalar.maxsi (Scalar.divsi (Scalar.addi (lenAt fl 0) 255#32) 256#32) 1#32) 1#32) 0#32 1#32) 1#32) (Scalar.maxsi (Scalar.divsi (Scalar.addi (lenAt fl (fin24 (pos (lenAt fl) 1).1)) 255#32) 256#32) 1#32)) 0#32 (Scalar.addi (Scalar.select (Scalar.cmpi .sle (Scalar.maxsi (Scalar.divsi (Scalar.addi (lenAt fl 0) 255#32) 256#32) 1#32) 1#32) 0#32 1#32) 1#32) = BitVec.ofNat 32 (pos (lenAt fl) 2).2 := by
  obtain ⟨e1, e2, hp, hk⟩ := second hL
  have hpn : (BitVec.ofNat 32 (pos (lenAt fl) 1).1).toNat = (pos (lenAt fl) 1).1 := ofNat_toNat' (by omega)
  have hkn : (BitVec.ofNat 32 (pos (lenAt fl) 1).2).toNat = (pos (lenAt fl) 1).2 := ofNat_toNat' (by omega)
  have t1 := congrArg BitVec.toNat e1
  have t2 := congrArg BitVec.toNat e2
  rw [hpn] at t1
  rw [hkn] at t2
  have f1 := fin24_val hp
  have f2 := fin6_val hk
  have o147 : k0_off147 (lenAt fl 0) = ![(fin24 (pos (lenAt fl) 1).1).val] := by rw [off147_eq, f1, t1]
  have o244 : k0_off244 (lenAt fl 0) = ![(fin24 (pos (lenAt fl) 1).1).val] := by
    have hm := min_23 (b := Scalar.select (Scalar.cmpi .sle (nbW (lenAt fl 0)) 1#32) 1#32 0#32) (by omega)
    rw [t1] at hm
    rw [off244_eq, hm]
  have hadv := adv_ofNat (L := lenAt fl) hL (b := (pos (lenAt fl) 1).1) (k := (pos (lenAt fl) 1).2) (by omega) hk
  have h636 : advB (lenAt fl (fin24 (pos (lenAt fl) 1).1)) (Scalar.select (Scalar.cmpi .sle (nbW (lenAt fl 0)) 1#32) 1#32 0#32) (Scalar.select (Scalar.cmpi .sle (nbW (lenAt fl 0)) 1#32) 0#32 1#32) = BitVec.ofNat 32 (pos (lenAt fl) 2).1 := by
    rw [e1, e2, pos_two]; exact hadv.1
  have h637 : advK (lenAt fl (fin24 (pos (lenAt fl) 1).1)) (Scalar.select (Scalar.cmpi .sle (nbW (lenAt fl 0)) 1#32) 0#32 1#32) = BitVec.ofNat 32 (pos (lenAt fl) 2).2 := by
    rw [e2, pos_two]; exact hadv.2
  have h82 : k0_chk82 (lenAt fl 0) := by
    unfold k0_chk82
    rw [o147, o244]
    exact ⟨fun _ => lens_inb (fin24 _).isLt, lens_inb (fin24 _).isLt⟩
  have e1' := e1
  have e2' := e2
  unfold nbW at e1' e2' t1 t2
  unfold advB nbW at h636
  unfold advK nbW at h637
  exact ⟨hp, hk, e1', e2', t1, t2, o147, o244, h82, h636, h637⟩

theorem slot_of (q : Fin 3 → PosShare TreeShare) (fl : LenBuf F c) (fi : IdBuf F c) (fw : WordBuf F c) (s : Fin 3) {p : ℕ × ℕ} (hp : p.1 < 24) :
    iprop(∃ f, Filling c (.dma (slotSem s)) s (q s) fw (gathered fw fi (fin24 p.1) (fin6 p.2)) f (rowsOf (lenAt fl (fin24 p.1)) p.2) (rowsOf (lenAt fl (fin24 p.1)) p.2)) ⊢ (SlotF c q fl fi fw s p : sProp 𝕄) := by
  unfold SlotF
  exact Entails.of_eq (if_pos hp).symm

theorem slot_first (q : Fin 3 → PosShare TreeShare) (fl : LenBuf F c) (fi : IdBuf F c) (fw : WordBuf F c) :
    iprop(∃ f, Filling c (.dma (slotSem 0)) (0 : Fin 3).val (q 0) fw (gathered fw fi 0 0) f (rowsOf (lenAt fl 0) 0) (rowsOf (lenAt fl 0) 0)) ⊢ (SlotF c q fl fi fw 0 (0, 0) : sProp 𝕄) :=
  slot_of c q fl fi fw 0 (p := (0, 0)) (show (0:ℕ) < 24 by decide)

attribute [local irreducible] k0_cond1 k0_off147 k0_off244 k0_chk82 k0_chk83 Scalar.select Scalar.cmpi Scalar.maxsi Scalar.divsi in
/-- Part 110: the first two blocks' copies. -/
theorem ahead_ok {K : (Σ' (_ : BitVec 32) (_ : BitVec 32) (_ : BitVec 32) (_ : BitVec 32) (_ : BitVec 1), BitVec 32) → Prog (TpuEff nD τ sig (Elt F) Λ₀ .tc) α} {Q : α → sProp 𝕄}
    (q : Fin 3 → PosShare TreeShare) (fl : LenBuf F c) (fi : IdBuf F c) (fw : WordBuf F c) (hfi : IdsOk fi) (hL : ∀ b, LenOk (lenAt fl b)) (h49 : k0_chk49 (lenAt fl 0)) (v624 v1 : BitVec 32) :
    iprop(pt c cc0_stg0_0 fl ∗ pt c cc0_stg1_0 fi ∗ (∃ f, Idle c 0 (q 0) fw f) ∗ (∃ f, Idle c 1 (q 1) fw f))
    ⊢ iprop((∀ v636 v637 v650 v652 v653, ⌜v636 = BitVec.ofNat 32 (pos (lenAt fl) 1).1⌝ ∗ ⌜v637 = BitVec.ofNat 32 (pos (lenAt fl) 1).2⌝ ∗ ⌜Scalar.select v653 v650 24#32 = BitVec.ofNat 32 (pos (lenAt fl) 2).1⌝ ∗ ⌜v652 = BitVec.ofNat 32 (pos (lenAt fl) 2).2⌝
        ∗ pt c cc0_stg0_0 fl ∗ pt c cc0_stg1_0 fi ∗ SlotF c q fl fi fw 0 (0, 0) ∗ SlotF c q fl fi fw 1 (pos (lenAt fl) 1)
        -∗ wp frame (wpE defs 𝒱 (c : Thread nD τ) bd) Set.univ (K ⟨v636, v637, v650, v652, v653, 24#32⟩) Q)
      -∗ wp frame (wpE defs 𝒱 (c : Thread nD τ) bd) Set.univ (k0_part110 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 (lenAt fl 0) h49 v624 v1 >>= K) Q) := by
  obtain ⟨hp, hk, e1', e2', t1, t2, o147, o244, h82, h636, h637⟩ := ahead_facts c fl hL
  have g1 := fin24_val hp
  have g2 := fin6_val hk
  have hS0 := slot_first c q fl fi fw
  have hS1 := slot_of c q fl fi fw 1 hp
  rw [wp_bind, k0_part110_eq_skeleton]
  unfold k0_part110_skel
  simp only [Prog.bind_assoc, Prog.bind_ret, Prog.pure_eq_ret]
  iintro ⟨Hl, Hi, ⟨%f0, HI0⟩, ⟨%f1, HI1⟩⟩ Hk
  imod (idle_open c 0 (q 0) fw (gathered fw fi 0 0) f0 (rowsOf (lenAt fl 0) 0)) $$ HI0 with HF0
  iapply (Scf.wp_for_bind _ _ _ _ _ _ _ _ _ (fun n _ => iprop(pt c cc0_stg1_0 fi ∗ Filling c (.dma (slotSem 0)) (0 : Fin 3).val (q 0) fw (gathered fw fi 0 0) f0 (rowsOf (lenAt fl 0) 0) (16 * n)))
    (fun t acc => t2_step 𝒱 c bd (q 0) fw fi f0 (rowsOf (lenAt fl 0) 0) hfi (trips2 _).symm (by have h1 := trips2 (lenAt fl 0); have h2 := rowsOf_le (lenAt fl 0) 0; omega) t)) $$ [Hi HF0]
  · isplitl [Hi]; · iexact Hi
    iexact HF0
  iintro %_ ⟨Hi, HF0⟩
  iapply (Scf.wp_for0_bind' _ _ _ _ _ _ _ _ _ (rem_trips _) _ _ _ .rfl)
  iapply (wp_len 𝒱 c bd (oi := ![0]) (hi := inb_S24_S1_0) fl (0 : Fin 24) rfl) $$ Hl
  iintro Hl
  iapply (wp_asm 𝒱 c bd h82)
  iapply (wp_if_pos 𝒱 c bd (cond1_ok (lenAt fl 0)))
  iapply (wp_len 𝒱 c bd fl (fin24 (pos (lenAt fl) 1).1) o147) $$ Hl
  iintro Hl
  iapply (wp_asm 𝒱 c bd (chk83_ok (v631 := lenAt fl 0) (v663 := lenAt fl (fin24 (pos (lenAt fl) 1).1)) (lt_of_eq_of_lt t1 hp) (lt_of_eq_of_lt t2 hk)))
  imod (idle_open c 1 (q 1) fw (gathered fw fi (fin24 (pos (lenAt fl) 1).1) (fin6 (pos (lenAt fl) 1).2)) f1 (rowsOf (lenAt fl (fin24 (pos (lenAt fl) 1).1)) (pos (lenAt fl) 1).2)) $$ HI1 with HF1
  iapply (Scf.wp_for_bind _ _ _ _ _ _ _ _ _ (fun n _ => iprop(pt c cc0_stg1_0 fi ∗ Filling c (.dma (slotSem 1)) (1 : Fin 3).val (q 1) fw (gathered fw fi (fin24 (pos (lenAt fl) 1).1) (fin6 (pos (lenAt fl) 1).2)) f1 (rowsOf (lenAt fl (fin24 (pos (lenAt fl) 1).1)) (pos (lenAt fl) 1).2) (16 * n)))
    (fun t acc => t4_step 𝒱 c bd (q 1) fw fi f1 (fin24 (pos (lenAt fl) 1).1) (fin6 (pos (lenAt fl) 1).2) (rowsOf (lenAt fl (fin24 (pos (lenAt fl) 1).1)) (pos (lenAt fl) 1).2) hfi (t1.trans g1.symm) (t2.trans g2.symm) (trips4 _ _ _ e2').symm
      (by have h1 := trips4 (lenAt fl 0) (pos (lenAt fl) 1).2 (lenAt fl (fin24 (pos (lenAt fl) 1).1)) e2'; have h2 := rowsOf_le (lenAt fl (fin24 (pos (lenAt fl) 1).1)) (pos (lenAt fl) 1).2; omega) t)) $$ [Hi HF1]
  · isplitl [Hi]; · iexact Hi
    iexact HF1
  iintro %_ ⟨Hi, HF1⟩
  iapply (Scf.wp_for0_bind' _ _ _ _ _ _ _ _ _ (rem_trips _) _ _ _ .rfl)
  iapply (wp_len 𝒱 c bd fl (fin24 (pos (lenAt fl) 1).1) o244) $$ Hl
  iintro Hl
  ihave HS0 := hS0 $$ [HF0]
  · iexists f0
    iapply (Entails.of_eq (congrArg (fun n => Filling c (.dma (slotSem 0)) (0 : Fin 3).val (q 0) fw (gathered fw fi 0 0) f0 (rowsOf (lenAt fl 0) 0) n) (trips2 (lenAt fl 0)))) $$ HF0
  ihave HS1 := hS1 $$ [HF1]
  · iexists f1
    iapply (Entails.of_eq (congrArg (fun n => Filling c (.dma (slotSem 1)) (1 : Fin 3).val (q 1) fw (gathered fw fi (fin24 (pos (lenAt fl) 1).1) (fin6 (pos (lenAt fl) 1).2)) f1 (rowsOf (lenAt fl (fin24 (pos (lenAt fl) 1).1)) (pos (lenAt fl) 1).2) n) (trips4 (lenAt fl 0) _ (lenAt fl (fin24 (pos (lenAt fl) 1).1)) e2'))) $$ HF1
  iapply (le_wp_ret _ _ _)
  iapply Hk $$ %_ %_ %_ %_ %_
  isplitr; · ipureintro; exact e1'
  isplitr; · ipureintro; exact e2'
  isplitr; · ipureintro; exact h636
  isplitr; · ipureintro; exact h637
  isplitl [Hl]; · iexact Hl
  isplitl [Hi]; · iexact Hi
  isplitl [HS0]; · iexact HS0
  iexact HS1

end Cert.KernelIdeal.Hand
-- ==== Proof.Finish.lean ====
/-
  The main loop, and the whole kernel.
-/
module

public import proofs.«01_k».proof.Proof.Ahead
public import Idealize.ShloMosaic.Lib.Ring.Trips

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Ring

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

/-- The share of the words each slot's copies read. -/
abbrev qs : Fin 3 → PosShare TreeShare := shares3 fullShare

/-- A slot with no copies under way. -/
abbrev Free (I : Ins F c) (s : Fin 3) : sProp 𝕄 := iprop(∃ f, Idle c s (qs s) I.fw f)

theorem ring_join (f0 f1 f2 : RingBuf F c) :
    iprop((((c : Thread nD τ).loc cc0_scratch0) ↦[rowsSet 0 0 256]{fullShare} f0) ∗ (((c : Thread nD τ).loc cc0_scratch0) ↦[rowsSet 1 0 256]{fullShare} f1) ∗ (((c : Thread nD τ).loc cc0_scratch0) ↦[rowsSet 2 0 256]{fullShare} f2))
      ⊢ (iprop(∃ f, pt c cc0_scratch0 f) : sProp 𝕄) := by
  have hU : rowsSet 0 0 256 ∪ (rowsSet 1 0 256 ∪ rowsSet 2 0 256) = (Finset.univ : Finset S3x256x256.Idx) := by
    ext x
    simp only [Finset.mem_univ, Finset.mem_union, mem_rowsSet, _root_.iff_true]
    have h0 : (x 0).val < 3 := (x 0).isLt
    have h1 : (x 1).val < 256 := (x 1).isLt
    omega
  have hd1 : Disjoint (rowsSet 0 0 256) (rowsSet 1 0 256 ∪ rowsSet 2 0 256) := by
    rw [Finset.disjoint_left]; intro x; simp only [Finset.mem_union, mem_rowsSet]; omega
  have hd2 : Disjoint (rowsSet 1 0 256) (rowsSet 2 0 256) := by
    rw [Finset.disjoint_left]; intro x; simp only [mem_rowsSet]; omega
  iintro ⟨H0, H1, H2⟩
  ihave H12 := (pointsTo_join (ℓ := (c : Thread nD τ).loc cc0_scratch0) hd2) $$ [H1 H2]
  · isplitl [H1]; · iexact H1
    iexact H2
  ihave H := (pointsTo_join (ℓ := (c : Thread nD τ).loc cc0_scratch0) hd1) $$ [H0 H12]
  · isplitl [H0]; · iexact H0
    iexact H12
  iexists _
  iapply (Entails.of_eq (congrArg (fun S => ((c : Thread nD τ).loc cc0_scratch0 ↦[S]{fullShare} _ : sProp 𝕄)) hU)) $$ H

theorem turn_slots (W : Fin 3 → sProp 𝕄) (i : ℕ) : iprop(W (fin3 i) ∗ W (fin3 (i + 1)) ∗ W (fin3 (i + 2))) ⊢ iprop(W 0 ∗ W 1 ∗ W 2) := by
  have h : i % 3 = 0 ∨ i % 3 = 1 ∨ i % 3 = 2 := by omega
  rcases h with h | h | h
  · have e0 : fin3 i = 0 := Fin.ext h
    have e1 : fin3 (i + 1) = 1 := Fin.ext (show (i + 1) % 3 = 1 by omega)
    have e2 : fin3 (i + 2) = 2 := Fin.ext (show (i + 2) % 3 = 2 by omega)
    rw [e0, e1, e2]
  · have e0 : fin3 i = 1 := Fin.ext h
    have e1 : fin3 (i + 1) = 2 := Fin.ext (show (i + 1) % 3 = 2 by omega)
    have e2 : fin3 (i + 2) = 0 := Fin.ext (show (i + 2) % 3 = 0 by omega)
    rw [e0, e1, e2]
    iintro ⟨H0, H1, H2⟩
    isplitl [H2]; · iexact H2
    isplitl [H0]; · iexact H0
    iexact H1
  · have e0 : fin3 i = 2 := Fin.ext h
    have e1 : fin3 (i + 1) = 0 := Fin.ext (show (i + 1) % 3 = 0 by omega)
    have e2 : fin3 (i + 2) = 1 := Fin.ext (show (i + 2) % 3 = 1 by omega)
    rw [e0, e1, e2]
    iintro ⟨H0, H1, H2⟩
    isplitl [H1]; · iexact H1
    isplitl [H2]; · iexact H2
    iexact H0

theorem slot_free (I : Ins F c) (s : Fin 3) (p : ℕ × ℕ) (hp : p.1 = 24) : (SlotF c qs I.fl I.fi I.fw s p : sProp 𝕄) ⊢ Free c I s := by
  unfold SlotF
  exact Entails.of_eq (if_neg (by omega))

/-- Three idle slots are the whole ring and all the words. -/
theorem slots_join (I : Ins F c) : iprop(Free c I 0 ∗ Free c I 1 ∗ Free c I 2) ⊢
    (iprop((∃ f, pt c cc0_scratch0 f) ∗ pt c main_v2 I.fw ∗ semVal ((c : Thread nD τ), .dma (slotSem 0)) 0 ∗ semVal ((c : Thread nD τ), .dma (slotSem 1)) 0 ∗ semVal ((c : Thread nD τ), .dma (slotSem 2)) 0) : sProp 𝕄) := by
  unfold Free Idle
  iintro ⟨⟨%f0, H0, W0, V0⟩, ⟨%f1, H1, W1, V1⟩, ⟨%f2, H2, W2, V2⟩⟩
  isplitl [H0 H1 H2]
  · iapply (ring_join c f0 f1 f2)
    isplitl [H0]; · iexact H0
    isplitl [H1]; · iexact H1
    iexact H2
  isplitl [W0 W1 W2]
  · iapply (pointsTo_thirds fullShare I.fw).2
    isplitl [W0]; · iexact W0
    isplitl [W1]; · iexact W1
    iexact W2
  isplitl [V0]; · iexact V0
  isplitl [V1]; · iexact V1
  iexact V2

/-- What the kernel's main loop leaves. -/
abbrev Done (I : Ins F c) (R : ℕ → ScoreBuf F c → IntBuf F c → Prop) : sProp 𝕄 :=
  iprop(pt c cc0_stg0_0 I.fl ∗ pt c cc0_stg1_0 I.fi ∗ pt c cc0_scratch2 I.fs ∗ (∃ f, pt c cc0_scratch3 f) ∗ (∃ f, pt c cc0_scratch4 f) ∗ pt c cc0_stg3_0 I.idb ∗ pt c cc0_stg5_0 I.w1 ∗ pt c cc0_stg7_0 I.a1 ∗ pt c cc0_stg8_0 I.w2 ∗ pt c cc0_stg9_0 I.b2 ∗ pt c cc0_stg10_0 I.a2 ∗ pt c cc0_stg11_0 I.w3 ∗ pt c cc0_stg12_0 I.b3
    ∗ (∃ g, pt c cc0_scratch1 g) ∗ (∃ f, pt c cc0_scratch0 f) ∗ pt c main_v2 I.fw ∗ semVal ((c : Thread nD τ), .dma (slotSem 0)) 0 ∗ semVal ((c : Thread nD τ), .dma (slotSem 1)) 0 ∗ semVal ((c : Thread nD τ), .dma (slotSem 2)) 0
    ∗ noDebt c ∗ (∃ i sc it, pt c cc0_stg14_0 sc ∗ pt c cc0_stg13_0 it ∗ ⌜i = pre (lenAt I.fl) 24⌝ ∗ ⌜R i sc it⌝))

theorem inv_end (I : Ins F c) (tf : TfBuf F c) (tw : TwBuf F c) (R : ℕ → ScoreBuf F c → IntBuf F c → Prop) (hL : ∀ b, LenOk (lenAt I.fl b))
    (i : ℕ) (hi : i = pre (lenAt I.fl) 24) (acc) : Inv c qs I tf tw R i acc ⊢ (Done c I R : sProp 𝕄) := by
  have p0 := pos_end hL (le_of_eq hi.symm)
  have p1 := pos_end hL (show pre (lenAt I.fl) 24 ≤ i + 1 by omega)
  unfold Inv Done
  iintro ⟨-, ⟨H1, H2, H3, H4, H5, H6, H7, H8, H9, H10, H11, H12, H13⟩, Hg, HSa, HSb, HI, HO, %sc, %it, Hsc, Hit, %hr⟩
  ihave HSa := (slot_free c I (fin3 i) _ p0) $$ HSa
  ihave HSb := (slot_free c I (fin3 (i + 1)) _ p1) $$ HSb
  ihave HT := (turn_slots (Free c I) i) $$ [HSa HSb HI]
  · isplitl [HSa]; · iexact HSa
    isplitl [HSb]; · iexact HSb
    iexact HI
  ihave HJ := (slots_join c I) $$ HT
  icases HJ with ⟨HR, HW, V0, V1, V2⟩
  isplitl [H1]; · iexact H1
  isplitl [H2]; · iexact H2
  isplitl [H3]; · iexact H3
  isplitl [H4]; · iexists _; iexact H4
  isplitl [H5]; · iexists _; iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [Hg]; · iexact Hg
  isplitl [HR]; · iexact HR
  isplitl [HW]; · iexact HW
  isplitl [V0]; · iexact V0
  isplitl [V1]; · iexact V1
  isplitl [V2]; · iexact V2
  isplitl [HO]; · iexact HO
  iexists i, sc, it
  isplitl [Hsc]; · iexact Hsc
  isplitl [Hit]; · iexact Hit
  isplitr; · ipureintro; exact hi
  ipureintro; exact hr

/-- The two loops that end the kernel, as printed. -/
abbrev loops (v616 : BitVec 32) (hw : k0_chk116 v616) (x0 : BitVec 32 × BitVec 32 × BitVec 32 × BitVec 32 × BitVec 32 × BitVec 32) : Prog (TpuEff nD τ sig (Elt F) Λ₀ .tc) PUnit := do
  let r ← Scf.Loop.for (k0_t6_loop v616) (k0_t6_ok v616 hw) x0 (k0_t6_body aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v616 hw)
  let s ← Scf.Loop.for (k0_t13_loop v616) (k0_t13_ok v616 hw) (r.1, r.2.1, r.2.2.1, r.2.2.2.1, r.2.2.2.2.1, r.2.2.2.2.2) (k0_t13_body aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v616 hw (Scalar.addi 0#32 (Scalar.muli (Scalar.divsi (Scalar.subi v616 0#32) 1#32) 1#32)))
  pure ⟨⟩

theorem loops_ok (I : Ins F c) (tf : TfBuf F c) (tw : TwBuf F c) (R : ℕ → ScoreBuf F c → IntBuf F c → Prop)
    (hfi : IdsOk I.fi) (hL : ∀ b, LenOk (lenAt I.fl b)) (hR : Keeps I tf tw R)
    (v616 : BitVec 32) (hw : k0_chk116 v616) (hv : v616.toNat = pre (lenAt I.fl) 24) (x0) :
    Inv c qs I tf tw R 0 x0 ⊢ wp frame (wpE defs 𝒱 (c : Thread nD τ) bd) Set.univ (loops v616 hw x0) (fun _ => Done c I R) := by
  have hv9 : v616.toNat < 900 := by have := pre_le hL 24; omega
  have htr := t6_trips (v := v616) (by omega)
  unfold loops
  iintro H
  iapply (Scf.wp_for_bind _ _ _ _ _ _ _ _ _ (fun n acc => Inv c qs I tf tw R n acc)
    (fun t acc => body_ok 𝒱 c bd qs I tf tw R hfi hL hR v616 hw t (lt_of_lt_of_eq t.isLt (htr.trans hv)) acc)) $$ H
  iintro %acc H
  iapply (Scf.wp_for0_bind' _ _ _ _ _ _ _ _ _ (rem_trips _) _ _ _ .rfl)
  iapply (le_wp_ret _ _ _)
  iapply (inv_end c I tf tw R hL _ (htr.trans hv) acc) $$ H

end Cert.KernelIdeal.Hand
-- ==== Proof.Whole.lean ====
/-
  The whole kernel.
-/
module

public import proofs.«01_k».proof.Proof.Finish
public import Idealize.ShloMosaic.Lib.Ring.Trips

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Ring

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

/-- The kernel from the first two blocks' copies on. -/
abbrev prog4 : Prog (TpuEff nD τ sig (Elt F) Λ₀ .tc) PUnit := do
  let r ← k0_part108 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6
  let s ← k0_part109 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r.1 r.2.1 r.2.2
  let p ← k0_part110 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 s.2.2.1 s.2.2.2.1 s.2.2.2.2.1 s.2.2.2.2.2
  loops s.1 s.2.1 (0#32, 0#32, p.1, p.2.1, Scalar.select p.2.2.2.2.1 p.2.2.1 p.2.2.2.2.2, p.2.2.2.1)
/-- The kernel from the waits for the targets' rows on. -/
abbrev prog3 : Prog (TpuEff nD τ sig (Elt F) Λ₀ .tc) PUnit := do
  let z ← k0_part103 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6
  k0_part104 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 z
  k0_part105 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6
  k0_part106 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6
  let u ← k0_part107 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6
  prog4
/-- The kernel from the targets' lines of scales on. -/
abbrev prog2 (v182 : FVec F S1x128 .f32) : Prog (TpuEff nD τ sig (Elt F) Λ₀ .tc) PUnit := do
  let r1 ← k0_part96 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v182
  let r2 ← k0_part97 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r1.1 r1.2.1 r1.2.2
  let r3 ← k0_part98 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r2.1 r2.2
  let v322 ← k0_part99 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r3.1 r3.2.1 r3.2.2.1 r3.2.2.2
  let r4 ← k0_part100 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v322
  let v395 ← k0_part101 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r4.1 r4.2.1 r4.2.2
  let u ← k0_part102 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v395
  prog3
/-- The kernel. -/
abbrev prog1 : Prog (TpuEff nD τ sig (Elt F) Λ₀ .tc) PUnit := do
  let r1 ← k0_part89 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6
  let v50 ← k0_part90 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r1.1 r1.2
  let r3 ← k0_part91 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v50
  let r4 ← k0_part92 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r3.1 r3.2
  let r5 ← k0_part93 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r4.1 r4.2
  let v155 ← k0_part94 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r5.1 r5.2
  let v182 ← k0_part95 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v155
  prog2 v182

set_option maxRecDepth 65536 in
theorem din_eq : cc0_din (F := F) aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 = prog1 := by
  rw [cc0_din_eq_skeleton]
  unfold cc0_din_skel
  rfl

theorem inv_start (fl : LenBuf F c) {v636 v637 v654 v652 : BitVec 32} (e1 : v636 = BitVec.ofNat 32 (pos (lenAt fl) 1).1) (e2 : v637 = BitVec.ofNat 32 (pos (lenAt fl) 1).2)
    (e3 : v654 = BitVec.ofNat 32 (pos (lenAt fl) 2).1) (e4 : v652 = BitVec.ofNat 32 (pos (lenAt fl) 2).2) :
    ((0#32, 0#32, v636, v637, v654, v652) : BitVec 32 × BitVec 32 × BitVec 32 × BitVec 32 × BitVec 32 × BitVec 32)
      = (BitVec.ofNat 32 (pos (lenAt fl) 0).1, BitVec.ofNat 32 (pos (lenAt fl) 0).2, BitVec.ofNat 32 (pos (lenAt fl) (0 + 1)).1, BitVec.ofNat 32 (pos (lenAt fl) (0 + 1)).2, BitVec.ofNat 32 (pos (lenAt fl) (0 + 2)).1, BitVec.ofNat 32 (pos (lenAt fl) (0 + 2)).2) := by
  rw [e1, e2, e3, e4]
  rfl

/-- Its ids and lengths are in range. -/
structure InsOk (I : Ins F c) : Prop where
  ids : IdsOk I.fi
  tgts : TgtsOk I.ft
  lens : ∀ b, LenOk (lenAt I.fl b)

/-- What the body starts from, and what it leaves. -/
abbrev Start (I : Ins F c) (fa : Buf (Elt F) ((c : Thread nD τ).loc main_arg1)) : sProp 𝕄 :=
  iprop((pt c cc0_stg0_0 I.fl ∗ pt c cc0_stg1_0 I.fi ∗ pt c cc0_stg2_0 I.ft ∗ pt c cc0_stg3_0 I.idb ∗ pt c cc0_stg4_0 I.tg ∗ pt c cc0_stg5_0 I.w1 ∗ pt c cc0_stg6_0 I.b1 ∗ pt c cc0_stg7_0 I.a1 ∗ pt c cc0_stg8_0 I.w2 ∗ pt c cc0_stg9_0 I.b2 ∗ pt c cc0_stg10_0 I.a2 ∗ pt c cc0_stg11_0 I.w3 ∗ pt c cc0_stg12_0 I.b3)
    ∗ ((∃ f, pt c cc0_scratch0 f) ∗ (∃ f, pt c cc0_scratch1 f) ∗ (∃ f, pt c cc0_scratch2 f) ∗ (∃ f, pt c cc0_scratch3 f) ∗ (∃ f, pt c cc0_scratch4 f))
    ∗ (semVal ((c : Thread nD τ), .dma sclSem) 0 ∗ semVal ((c : Thread nD τ), .dma (slotSem 0)) 0 ∗ semVal ((c : Thread nD τ), .dma (slotSem 1)) 0 ∗ semVal ((c : Thread nD τ), .dma (slotSem 2)) 0)
    ∗ (pt c main_v2 I.fw ∗ pt c main_arg1 fa) ∗ noDebt c)

/-- The whole kernel: it keeps its inputs, puts every semaphore back to zero, and leaves in the score's and the interest's
    buffers what every turn of the main loop keeps. -/
theorem whole_ok (I : Ins F c) (fa : Buf (Elt F) ((c : Thread nD τ).loc main_arg1)) (hI : InsOk c I) (hfs : I.fs = copied fa) (R : ℕ → ScoreBuf F c → IntBuf F c → Prop)
    (hR0 : ∀ s0 i0, R 0 (score0 c s0) (int0 c i0)) (hR : ∀ tf tw, TfOk c I tf → TwOk c I tw → Keeps I tf tw R) :
    iprop(Start c I fa ∗ (∃ f, pt c cc0_stg13_0 f) ∗ (∃ f, pt c cc0_stg14_0 f)) ⊢ wp frame (wpE defs 𝒱 (c : Thread nD τ) bd) Set.univ (cc0_din aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6)
      (fun _ => iprop(Start c I fa ∗ (∃ i sc it, pt c cc0_stg14_0 sc ∗ pt c cc0_stg13_0 it ∗ ⌜i = pre (lenAt I.fl) 24⌝ ∗ ⌜R i sc it⌝))) := by
  obtain ⟨hfi, hft, hL⟩ := hI
  rw [din_eq]
  unfold Start
  iintro ⟨⟨⟨H0, H1, H2, H3, H4, H5, H6, H7, H8, H9, H10, H11, H12⟩, ⟨HS0, ⟨%g0, HS1⟩, HS2, HS3, HS4⟩, ⟨Hv15, Hv0, Hv1, Hv2⟩, ⟨Hw, Ha⟩, HO⟩, H13, H14⟩
  ihave HW := (pointsTo_thirds fullShare I.fw).1 $$ Hw
  icases HW with ⟨Hw0, Hw1, Hw2⟩
  iapply (open_ok 𝒱 c bd (qs 0) I.fw I.ft fa hft) $$ [H2 Ha HS2 Hv15 HS0 H13 H14 Hw0 Hv0 HO]
  · isplitl [H2]; · iexact H2
    isplitl [Ha]; · iexact Ha
    isplitl [HS2]; · iexact HS2
    isplitl [Hv15]; · iexact Hv15
    isplitl [HS0]; · iexact HS0
    isplitl [H13]; · iexact H13
    isplitl [H14]; · iexact H14
    isplitl [Hw0]; · iexact Hw0
    isplitl [Hv0]; · iexact Hv0
    iexact HO
  iintro %w %f %r0 %i0 %s0 ⟨-, %hw, H2, Ha, HS2, Hv15, H13, H14, HF, HR1, HR2, HO⟩
  have hw' : ∃ h, w = (sScl.access (Rect.unit (s := S1000000) ![(Scalar.muli (Scalar.shrui (idAt (fakeIds I.ft) 0 0 0) 7#32) 128#32).toNat] S128.size h)).read (Elt F) I.fs := by
    rw [hfs]; exact hw
  ihave HS2 := (Entails.of_eq (congrArg (fun f => (pt c cc0_scratch2 f : sProp 𝕄)) hfs.symm)) $$ HS2
  unfold Filling
  icases HF with ⟨Hrow, Hsh, HB⟩
  iapply (lines_ok 𝒱 c bd (qs 0) I.fw I.ft I.fs g0 hft w hw') $$ [H2 HS2 HS1 HB HO]
  · isplitl [H2]; · iexact H2
    isplitl [HS2]; · iexact HS2
    isplitl [HS1]; · iexact HS1
    isplitl [HB]; · iexact HB
    iexact HO
  iintro ⟨H2, HS2, HS1, HB, HO⟩
  iapply (waits_ok 𝒱 c bd (qs 0) I.fw I.ft) $$ [HB HO]
  · isplitl [HB]; · iexact HB
    iexact HO
  iintro ⟨HB, HO⟩
  iapply (last_ok 𝒱 c bd qs I f g0) $$ [H4 HS1 Hrow Hsh HB HO]
  · isplitl [H4]; · iexact H4
    isplitl [HS1]; · iexact HS1
    isplitl [Hrow]; · iexact Hrow
    isplitl [Hsh]; · iexact Hsh
    isplitl [HB]; · iexact HB
    iexact HO
  iintro ⟨H4, HS1, HI0, HO⟩
  iapply (count_ok 𝒱 c bd I f g0 hL) $$ [H0 HS3 HS4 H5 H6]
  · isplitl [H0]; · iexact H0
    isplitl [HS3]; · iexact HS3
    isplitl [HS4]; · iexact HS4
    isplitl [H5]; · iexact H5
    iexact H6
  iintro %tf %tw %v616 %h116 %h49 %v624 %v1 ⟨%htf, %htw, %hv, H0, HS3, HS4, H5, H6⟩
  iapply (ahead_ok 𝒱 c bd qs I.fl I.fi I.fw hfi hL h49 v624 v1) $$ [H0 H1 HI0 HR1 Hw1 Hv1]
  · isplitl [H0]; · iexact H0
    isplitl [H1]; · iexact H1
    isplitl [HI0]; · iexact HI0
    iexists f
    unfold Idle
    isplitl [HR1]; · iexact HR1
    isplitl [Hw1]; · iexact Hw1
    iexact Hv1
  iintro %v636 %v637 %v650 %v652 %v653 ⟨%e1, %e2, %e3, %e4, H0, H1, HSa, HSb⟩
  iapply wp_wand $$ [H0 H1 H3 H5 H7 H8 H9 H10 H11 H12 H13 H14 HS1 HS2 HS3 HS4 HSa HSb HR2 Hw2 Hv2 HO]
  · iapply (loops_ok 𝒱 c bd I tf tw R hfi hL (hR tf tw htf htw) v616 h116 hv _)
    unfold Inv
    isplitr; · ipureintro; exact inv_start c I.fl e1 e2 e3 e4
    isplitl [H0 H1 H3 H5 H7 H8 H9 H10 H11 H12 HS2 HS3 HS4]
    · isplitl [H0]; · iexact H0
      isplitl [H1]; · iexact H1
      isplitl [HS2]; · iexact HS2
      isplitl [HS3]; · iexact HS3
      isplitl [HS4]; · iexact HS4
      isplitl [H3]; · iexact H3
      isplitl [H5]; · iexact H5
      isplitl [H7]; · iexact H7
      isplitl [H8]; · iexact H8
      isplitl [H9]; · iexact H9
      isplitl [H10]; · iexact H10
      isplitl [H11]; · iexact H11
      iexact H12
    isplitl [HS1]; · iexact HS1
    isplitl [HSa]; · iexact HSa
    isplitl [HSb]; · iexact HSb
    isplitl [HR2 Hw2 Hv2]
    · iexists f
      unfold Idle
      isplitl [HR2]; · iexact HR2
      isplitl [Hw2]; · iexact Hw2
      iexact Hv2
    isplitl [HO]; · iexact HO
    iexists _, _
    isplitl [H14]; · iexact H14
    isplitl [H13]; · iexact H13
    ipureintro; exact hR0 s0 i0
  iintro %u HD
  unfold Done
  icases HD with ⟨H0, H1, HS2, HS3, HS4, H3, H5, H7, H8, H9, H10, H11, H12, HS1, HS0, Hw, Hv0, Hv1, Hv2, HO, HR⟩
  isplitr [HR]
  · isplitl [H0 H1 H2 H3 H4 H5 H6 H7 H8 H9 H10 H11 H12]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [HS0 HS1 HS2 HS3 HS4]
    · isplitl [HS0]; · iexact HS0
      isplitl [HS1]; · iexact HS1
      isplitl [HS2]; · iexists _; iexact HS2
      isplitl [HS3]; · iexact HS3
      iexact HS4
    isplitl [Hv15 Hv0 Hv1 Hv2]
    · isplitl [Hv15]; · iexact Hv15
      isplitl [Hv0]; · iexact Hv0
      isplitl [Hv1]; · iexact Hv1
      iexact Hv2
    isplitl [Hw Ha]
    · isplitl [Hw]; · iexact Hw
      iexact Ha
    iexact HO
  iexact HR

end Cert.KernelIdeal.Hand
-- ==== Proof.Run.lean ====
/-
  The kernel's body at its one point: it keeps its inputs and leaves in the score's buffer what every turn of the main loop keeps.
  The interest's buffer is left unnamed.
-/
module

public import proofs.«01_k».proof.Proof.Whole
public import proofs.«01_k».proof.Proof.Gen.KernelIdeal.Frame
public import Idealize.ShloMosaic.Lib.Pipeline.FrameSuffixR
public import Idealize.ShloMosaic.Lib.Pipeline.DatRel
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-- The ids and the lengths the program is launched with are in range. -/
structure MemOk (c : Dev nD) : Prop where
  ids : ∀ x, (show BitVec 32 from m ((c : Thread nD τ).loc main_arg2) x).toNat < 999936
  tgts : ∀ x, (show BitVec 32 from m ((c : Thread nD τ).loc main_arg4) x).toNat < 999936
  lens : ∀ x, (show BitVec 32 from m ((c : Thread nD τ).loc main_arg3) x).toInt ≤ 1536

theorem keeps_true (c : Dev nD) (I : Ins F c) (tf : TfBuf F c) (tw : TwBuf F c) : Keeps I tf tw (fun _ _ _ => True) := by
  unfold Keeps
  intros
  trivial

/-! ## The program around the kernel -/

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain (([] : List (List (HloOp τ sig (Elt F)))).map StableHlo.seq)) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] [] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) (fun c => (main_chain c).trans (congrArg Pipeline.chain (List.append_nil _).symm))

/-! ## What the kernel uses of its own -/

abbrev osem0 : Fin 4 → SemLoc sig := fun j => (![SemLoc.dma 15, SemLoc.dma 16, SemLoc.dma 17, SemLoc.dma 18] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0 ∗ semVal ((c : Thread nD τ), SemLoc.dma 16) 0 ∗ semVal ((c : Thread nD τ), SemLoc.dma 17) 0
          ∗ semVal ((c : Thread nD τ), SemLoc.dma 18) 0) := by
  rw [Pipeline.ownSems0_eq_of_list c osem0 [0, 1, 2, 3] (by decide) (by decide)]; rfl
/-- The arrays the kernel copies from itself: the packed rows and the scales. -/
def H0 : Finset (Ref sig .tc) := {main_v2, main_arg1}
theorem H0_sub : H0 ⊆ Pipeline.restRefs sig spec0 := by decide
theorem hbmPts0_eq (c : Dev nD) :
    (bigSep H0 (fun b => ((c : Thread nD τ).loc b) ↦{fullShare} V m c b) : sProp 𝕄)
      = iprop(pt c main_v2 (V m c main_v2) ∗ pt c main_arg1 (V m c main_arg1)) := by
  rw [BI.bigSep_eq_bigSepL_of_eq [main_v2, main_arg1] (by decide) (by decide)]; rfl
theorem PhiD0_eq (c : Dev nD) :
    (Pipeline.ΦD osem0 spec0 H0 (V m) c : sProp 𝕄)
      = iprop(iprop((∃ f, pt c cc0_scratch0 f) ∗ (∃ f, pt c cc0_scratch1 f) ∗ (∃ f, pt c cc0_scratch2 f) ∗ (∃ f, pt c cc0_scratch3 f) ∗ (∃ f, pt c cc0_scratch4 f))
          ∗ (∃ r, prngReg c r)
          ∗ iprop(semVal ((c : Thread nD τ), .dma sclSem) 0 ∗ semVal ((c : Thread nD τ), .dma (slotSem 0)) 0 ∗ semVal ((c : Thread nD τ), .dma (slotSem 1)) 0
              ∗ semVal ((c : Thread nD τ), .dma (slotSem 2)) 0)
          ∗ iprop(pt c main_v2 (V m c main_v2) ∗ pt c main_arg1 (V m c main_arg1))) := by
  rw [Pipeline.ΦD_eq, scopedRest0_eq, ownSems00_eq, hbmPts0_eq]; rfl

/-! ## The body at the one point -/

/-- The two results' windows are the ones left unnamed. -/
def forgets0 : Fin 15 → Bool := fun w => decide (13 ≤ w.val)

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)
abbrev ms0_10 (t : Fin cfg0.N) := win0_10.stage (cfg0.slots t 10)
abbrev ms0_11 (t : Fin cfg0.N) := win0_11.stage (cfg0.slots t 11)
abbrev ms0_12 (t : Fin cfg0.N) := win0_12.stage (cfg0.slots t 12)
abbrev ms0_13 (t : Fin cfg0.N) := win0_13.stage (cfg0.slots t 13)
abbrev ms0_14 (t : Fin cfg0.N) := win0_14.stage (cfg0.slots t 14)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ X, owns (c : Thread nD τ) (ms0_13 t) fullShare X)
    ∗ (∃ X, owns (c : Thread nD τ) (ms0_14 t) fullShare X))
def bodyPost {c : Dev nD} (Q : ScoreBuf F c → Prop) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ X, ⌜True⌝ ∗ owns (c : Thread nD τ) (ms0_13 t) fullShare X)
    ∗ (∃ X, ⌜Q X⌝ ∗ owns (c : Thread nD τ) (ms0_14 t) fullShare X))

/-- The contents the kernel is given. -/
def ins (c : Dev nD) (t : Fin cfg0.N) : Ins F c :=
  ⟨iblk m c 0 t, iblk m c 1 t, iblk m c 2 t, V m c main_v2, copied (V m c main_arg1), iblk m c 3 t, iblk m c 4 t, iblk m c 5 t, iblk m c 6 t, iblk m c 7 t, iblk m c 8 t, iblk m c 9 t, iblk m c 10 t, iblk m c 11 t, iblk m c 12 t⟩

theorem ins_ok (c : Dev nD) (t : Fin cfg0.N) (h : MemOk m c) : InsOk c (ins m c t) where
  ids := fun x => by
    show (show BitVec 32 from iblk m c 1 t x).toNat < 999936
    unfold iblk
    have e := V_main_arg2 m c
    have := h.ids
    rw [← e] at this
    exact this _
  tgts := fun x => by
    show (show BitVec 32 from iblk m c 2 t x).toNat < 999936
    unfold iblk
    have e := V_main_arg4 m c
    have := h.tgts
    rw [← e] at this
    exact this _
  lens := fun b => by
    show (show BitVec 32 from iblk m c 0 t (ix24 b)).toInt ≤ 1536
    unfold iblk
    have e := V_main_arg3 m c
    have := h.lens
    rw [← e] at this
    exact this _

/-- `Q` is what some property kept by every turn says of the score at the end. -/
def Kept {c : Dev nD} (Q : ScoreBuf F c → Prop) : Prop :=
  ∃ R : ℕ → ScoreBuf F c → IntBuf F c → Prop, (∀ s0 i0, R 0 (score0 c s0) (int0 c i0))
    ∧ (∀ tf tw, TfOk c (ins m c ⟨0, Nat.zero_lt_one⟩) tf → TwOk c (ins m c ⟨0, Nat.zero_lt_one⟩) tw → Keeps (ins m c ⟨0, Nat.zero_lt_one⟩) tf tw R)
    ∧ ∀ i sc it, i = pre (lenAt (ins m c ⟨0, Nat.zero_lt_one⟩).fl) 24 → R i sc it → Q sc

theorem kept_true (c : Dev nD) : Kept m (fun _ : ScoreBuf F c => True) :=
  ⟨fun _ _ _ => True, fun _ _ => trivial, fun tf tw _ _ => keeps_true c _ tf tw, fun _ _ _ _ _ => trivial⟩

set_option maxHeartbeats 4000000 in
theorem sound_body {c : Dev nD} (Q : ScoreBuf F c → Prop) (hQ : Kept m Q) (t : Fin cfg0.N) (hm : MemOk m c) :
    bodyPre m c t ⊢ wp frame (wpE (defs₀ (F := F)) Variants.none c none) Set.univ (bodyAt0 t) (fun _ => bodyPost m Q t) := by
  unfold bodyPre bodyPost
  rw [show (dats m 0 c).Φ t.succ = (dats m 0 c).Φ t.castSucc from rfl]
  rw [show (dats m 0 c).Φ t.castSucc = Pipeline.ΦD osem0 spec0 H0 (V m) c from rfl, PhiD0_eq]
  simp only [before0_0, after0_0, before0_1, after0_1, before0_2, after0_2, before0_3, after0_3, before0_4, after0_4, before0_5, after0_5, before0_6, after0_6, before0_7, after0_7, before0_8, after0_8, before0_9, after0_9, before0_10, after0_10, before0_11, after0_11, before0_12, after0_12]
  unfold Dat.owesAt Pipeline.owesWithin
  rw [show (dats m 0 c).owed t.castSucc = 0 from rfl, show (dats m 0 c).owed t.succ = 0 from rfl]
  obtain rfl : t = (⟨0, Nat.zero_lt_one⟩ : Fin cfg0.N) := Fin.ext (Nat.lt_one_iff.mp t.isLt)
  obtain ⟨R, hR0, hR, hRQ⟩ := hQ
  have hW := whole_ok (defs := defs₀ (F := F)) Variants.none c none (ins m c ⟨0, Nat.zero_lt_one⟩) (V m c main_arg1) (ins_ok m c ⟨0, Nat.zero_lt_one⟩ hm) rfl R hR0 hR
  have hB : bodyAt0 (F := F) (⟨0, Nat.zero_lt_one⟩ : Fin cfg0.N) = cc0_din aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 := rfl
  rw [hB]
  iintro ⟨⟨HS, Hg, HQ, HA⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  ihave H0 := (Entails.of_eq (owns_whole (c : Thread nD τ) cc0_stg0_0 fullShare _)) $$ H0
  ihave H1 := (Entails.of_eq (owns_whole (c : Thread nD τ) cc0_stg1_0 fullShare _)) $$ H1
  ihave H2 := (Entails.of_eq (owns_whole (c : Thread nD τ) cc0_stg2_0 fullShare _)) $$ H2
  ihave H3 := (Entails.of_eq (owns_whole (c : Thread nD τ) cc0_stg3_0 fullShare _)) $$ H3
  ihave H4 := (Entails.of_eq (owns_whole (c : Thread nD τ) cc0_stg4_0 fullShare _)) $$ H4
  ihave H5 := (Entails.of_eq (owns_whole (c : Thread nD τ) cc0_stg5_0 fullShare _)) $$ H5
  ihave H6 := (Entails.of_eq (owns_whole (c : Thread nD τ) cc0_stg6_0 fullShare _)) $$ H6
  ihave H7 := (Entails.of_eq (owns_whole (c : Thread nD τ) cc0_stg7_0 fullShare _)) $$ H7
  ihave H8 := (Entails.of_eq (owns_whole (c : Thread nD τ) cc0_stg8_0 fullShare _)) $$ H8
  ihave H9 := (Entails.of_eq (owns_whole (c : Thread nD τ) cc0_stg9_0 fullShare _)) $$ H9
  ihave H10 := (Entails.of_eq (owns_whole (c : Thread nD τ) cc0_stg10_0 fullShare _)) $$ H10
  ihave H11 := (Entails.of_eq (owns_whole (c : Thread nD τ) cc0_stg11_0 fullShare _)) $$ H11
  ihave H12 := (Entails.of_eq (owns_whole (c : Thread nD τ) cc0_stg12_0 fullShare _)) $$ H12
  ihave H13 := (Entails.of_eq (owns_whole (c : Thread nD τ) cc0_stg13_0 fullShare _)) $$ H13
  ihave H14 := (Entails.of_eq (owns_whole (c : Thread nD τ) cc0_stg14_0 fullShare _)) $$ H14
  iapply wp_wand $$ [HS HQ HA HW H0 H1 H2 H3 H4 H5 H6 H7 H8 H9 H10 H11 H12 H13 H14]
  · iapply hW
    isplitr [H13 H14]
    · unfold Start
      isplitl [H0 H1 H2 H3 H4 H5 H6 H7 H8 H9 H10 H11 H12]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      isplitl [HS]; · iexact HS
      isplitl [HQ]; · iexact HQ
      isplitl [HA]; · iexact HA
      unfold noDebt
      iexists W
      iexact HW
    isplitl [H13]
    · iexists _; iexact H13
    iexists _; iexact H14
  iintro %u HP
  unfold Start
  icases HP with ⟨⟨⟨H0, H1, H2, H3, H4, H5, H6, H7, H8, H9, H10, H11, H12⟩, HS, HQ, HA, HO⟩, ⟨%i, %sc, %it, H14, H13, %hi, %hr⟩⟩
  isplitl [HS Hg HQ HA]
  · isplitl [HS]; · iexact HS
    isplitl [Hg]; · iexact Hg
    isplitl [HQ]; · iexact HQ
    iexact HA
  isplitl [HO]
  · unfold noDebt
    icases HO with ⟨%W', HO⟩
    iexists W'; isplitr; · ipureintro; exact fun _ _ => Or.inl trivial
    iexact HO
  isplitl [H0]; · iapply (Entails.of_eq (owns_whole (c : Thread nD τ) cc0_stg0_0 fullShare _).symm); iexact H0
  isplitl [H1]; · iapply (Entails.of_eq (owns_whole (c : Thread nD τ) cc0_stg1_0 fullShare _).symm); iexact H1
  isplitl [H2]; · iapply (Entails.of_eq (owns_whole (c : Thread nD τ) cc0_stg2_0 fullShare _).symm); iexact H2
  isplitl [H3]; · iapply (Entails.of_eq (owns_whole (c : Thread nD τ) cc0_stg3_0 fullShare _).symm); iexact H3
  isplitl [H4]; · iapply (Entails.of_eq (owns_whole (c : Thread nD τ) cc0_stg4_0 fullShare _).symm); iexact H4
  isplitl [H5]; · iapply (Entails.of_eq (owns_whole (c : Thread nD τ) cc0_stg5_0 fullShare _).symm); iexact H5
  isplitl [H6]; · iapply (Entails.of_eq (owns_whole (c : Thread nD τ) cc0_stg6_0 fullShare _).symm); iexact H6
  isplitl [H7]; · iapply (Entails.of_eq (owns_whole (c : Thread nD τ) cc0_stg7_0 fullShare _).symm); iexact H7
  isplitl [H8]; · iapply (Entails.of_eq (owns_whole (c : Thread nD τ) cc0_stg8_0 fullShare _).symm); iexact H8
  isplitl [H9]; · iapply (Entails.of_eq (owns_whole (c : Thread nD τ) cc0_stg9_0 fullShare _).symm); iexact H9
  isplitl [H10]; · iapply (Entails.of_eq (owns_whole (c : Thread nD τ) cc0_stg10_0 fullShare _).symm); iexact H10
  isplitl [H11]; · iapply (Entails.of_eq (owns_whole (c : Thread nD τ) cc0_stg11_0 fullShare _).symm); iexact H11
  isplitl [H12]; · iapply (Entails.of_eq (owns_whole (c : Thread nD τ) cc0_stg12_0 fullShare _).symm); iexact H12
  isplitl [H13]
  · iexists _; isplitr; · ipureintro; exact trivial
    iapply (Entails.of_eq (owns_whole (c : Thread nD τ) cc0_stg13_0 fullShare _).symm); iexact H13
  iexists _; isplitr; · ipureintro; exact hRQ _ _ _ hi hr
  iapply (Entails.of_eq (owns_whole (c : Thread nD τ) cc0_stg14_0 fullShare _).symm); iexact H14

end Cert.KernelIdeal.Hand

end
-- ==== Proof.Launched.lean ====
/-
  The launch: the whole program runs, nothing faults, its arguments end unchanged and every semaphore at zero, whenever the ids and
  lengths it is launched with are in range; and the score it returns is one of which what every turn keeps is true.
-/
module

public import proofs.«01_k».proof.Proof.Run
public import proofs.«01_k».proof.Proof.Gen.KernelIdeal.Frame
public import Idealize.ShloMosaic.Lib.Pipeline.FrameSuffixR
public import Idealize.ShloMosaic.Lib.Pipeline.DatRel
public import Idealize.ShloMosaic.Lib.Pipeline.ArrRel

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-- What is said of the two results' windows: the score's meets `Q`. -/
def said {c : Dev nD} (Q : ScoreBuf F c → Prop) (w : Fin cfg0.W) (_ : Fin cfg0.N) (X : (cfg0.win w).block.Idx → Elt F (cfg0.win w).elt) : Prop :=
  match w, X with
  | ⟨14, _⟩, X => Q X
  | _, _ => True

theorem defs₀_row (t : Fin cfg0.N) : defs₀ (F := F) .tc cfg0.body (cfg0.bodyArgs t (cfg0.slots t)) = bodyAt0 t := by
  unfold defs₀; rw [Defs.onTc_tc]

def bodyPreQ {c : Dev nD} (Q : ScoreBuf F c → Prop) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ Y, ⌜((dats m 0 c).toRRel forgets0 (said Q)).Finds 13 t Y⌝ ∗ owns (c : Thread nD τ) (ms0_13 t) fullShare Y)
    ∗ (∃ Y, ⌜((dats m 0 c).toRRel forgets0 (said Q)).Finds 14 t Y⌝ ∗ owns (c : Thread nD τ) (ms0_14 t) fullShare Y))
theorem body_pre {c : Dev nD} (Q : ScoreBuf F c → Prop) (t : Fin cfg0.N) : bodyPreQ m Q t ⊢ bodyPre m c t := by
  unfold bodyPreQ bodyPre
  iintro ⟨HΦ, HO, H0, H1, H2, H3, H4, H5, H6, H7, H8, H9, H10, H11, H12, ⟨%Y13, -, H13⟩, ⟨%Y14, -, H14⟩⟩
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists Y13; iexact H13
  iexists Y14; iexact H14

theorem body_obligation {c : Dev nD} (Q : ScoreBuf F c → Prop) (hQ : Kept m Q) (hm : MemOk m c) :
    Pipeline.BodyObligationRel (dats (F := F) m 0 c) (defs₀ (F := F)) Variants.none () Set.univ forgets0 (said Q) := fun t => by
  rw [bigSep_W0, bigSep_W0, defs₀_row]
  exact triple_restated ((body_pre m Q t).trans (sound_body m Q hQ t hm)) rfl .rfl fun _ => .rfl

/-! ## The run -/

theorem sfxD_sub : ∀ ops ∈ ([] : List (List (HloOp τ sig (Elt F)))), ∀ op ∈ ops,
    op.bufs ⊆ Pipeline.tailRefsBut sig Pipeline.Prefetch.none spec0 H0 := fun _ h => absurd h List.not_mem_nil
theorem sfxD_fresh : ∀ ops ∈ ([] : List (List (HloOp τ sig (Elt F)))), ∀ op ∈ ops, op.fresh = ∅ := fun _ h => absurd h List.not_mem_nil
theorem sfxD_keeps : ∀ ops ∈ ([] : List (List (HloOp τ sig (Elt F)))), ∀ op ∈ ops, ∀ w,
    Proc.devRef .tc (Pipeline.arrRef spec0 w) ∉ op.writes := fun _ h => absurd h List.not_mem_nil

/-- What the core's buffers hold when the kernel is entered. -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b))

/-- No host line follows the kernel. -/
def T0 : Finset (Ref sig .tc) := ∅
theorem sfxT : ∀ ops ∈ ([] : List (List (HloOp τ sig (Elt F)))), ∀ op ∈ ops, ∀ b : Ref sig .tc, Proc.devRef .tc b ∈ op.writes → b ∈ T0 :=
  fun _ h => absurd h List.not_mem_nil

set_option backward.isDefEq.respectTransparency.types false in
theorem run_main (Q : (c : Dev nD) → ScoreBuf F c → Prop) (hQ : ∀ c, Kept m (Q c)) (hm : ∀ c, MemOk m c) : θ_run defs (onTc (τ := τ) (main (F := F))) (s₀ m ρ)
    (fun r => Pipeline.RDat.FramePostR (cfgs 0) (fun c => (dats m 0 c).toRRel forgets0 (said (Q c))) T0 (V m) r ∧ r.2.sem = fun _ => 0) :=
  Pipeline.RDat.θ_run_frame_dma_around_T (Q' := _) cfgs (0 : Fin 1) launch0 osem0 defs₀ Variants.none (fun c => (dats m 0 c).toRRel forgets0 (said (Q c))) ownSemFacts0 H0 T0 H0_sub m ρ main
    (hbody := fun c => (body_obligation m (Q c) (hQ c) (hm c)).toRRel) (hshare := fun c => (dats m 0 c).share_full fun _ => rfl)
    (howed := fun _ _ => rfl) (V₀ := V0 m) (opss := []) (hsub := sfxD_sub) (hfresh := sfxD_fresh) (hkeep := sfxD_keeps) (hT := sfxT)
    (hmain := hmainD m Variants.none) (hA := A_eq m) (hin := fun _ => .rfl) (hout := fun _ => .rfl)

/-- What is said of the score's window is true of the array the program returns. -/
theorem score_said {c : Dev nD} (Q : ScoreBuf F c → Prop) (G : Buf (Elt F) ((c : Thread nD τ).loc main_v19_1))
    (hG : ((dats m 0 c).toRRel forgets0 (said Q)).ArrAt 14 cfg0.N G) : Q G := by
  obtain ⟨X, hX, hj⟩ := hG.emb_eq_of_wholeAt (t₀ := ⟨0, Nat.zero_lt_one⟩) (by decide +kernel)
  have hq : Q X := (dats m 0 c).toRRel_leaves (w := 14) rfl hX
  have e : G = X := funext fun j => hj j
  rw [e]; exact hq

/-- The lengths the kernel is given are the program's. -/
theorem lenAt_ins (c : Dev nD) (b : Fin 24) : lenAt (ins m c ⟨0, Nat.zero_lt_one⟩).fl b = m ((c : Thread nD τ).loc main_arg3) (ix24 b) := by
  show iblk m c 0 ⟨0, Nat.zero_lt_one⟩ (ix24 b) = _
  unfold iblk
  refine Eq.trans ?_ (congrFun (V_main_arg3 m c) (ix24 b))
  refine congrArg (V m c main_arg3) ?_
  funext a; fin_cases a
  apply Fin.ext
  show 0 + 1 * b.val = b.val
  omega

/-- The frame: the program ends, its arguments unchanged and every semaphore at zero. -/
theorem frame (hm : ∀ c, MemOk m c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ ⟨h, hs⟩ => ⟨fun c => ⟨
      ((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      (((Pipeline.RDat.ArrAt_in _ 1 rfl _).le _ ((h c).1 1)).trans (V_main_arg2 m c)),
      (((Pipeline.RDat.ArrAt_in _ 0 rfl _).le _ ((h c).1 0)).trans (V_main_arg3 m c)),
      (((Pipeline.RDat.ArrAt_in _ 2 rfl _).le _ ((h c).1 2)).trans (V_main_arg4 m c)),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      ((h c).2 main_arg10 (Finset.mem_sdiff.mpr ⟨Pipeline.mem_restRefs_of main_arg10 (by decide) (by decide), by decide⟩)).trans (V_main_arg10 m c),
      ((h c).2 main_arg11 (Finset.mem_sdiff.mpr ⟨Pipeline.mem_restRefs_of main_arg11 (by decide) (by decide), by decide⟩)).trans (V_main_arg11 m c),
      ((h c).2 main_arg12 (Finset.mem_sdiff.mpr ⟨Pipeline.mem_restRefs_of main_arg12 (by decide) (by decide), by decide⟩)).trans (V_main_arg12 m c)⟩, hs⟩) (run_main m ρ (fun _ _ => True) (fun c => kept_true m c) hm)

/-- The same, with what is known of the score. -/
theorem score_run (Q : (c : Dev nD) → ScoreBuf F c → Prop) (hQ : ∀ c, Kept m (Q c)) (hm : ∀ c, MemOk m c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ Q c (r.2.mem ((c.tc : Thread nD τ).loc main_v19_1)))) :=
  (θ_run defs _ _).mono (fun _ ⟨h, hs⟩ => fun c => ⟨
      ((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      (((Pipeline.RDat.ArrAt_in _ 1 rfl _).le _ ((h c).1 1)).trans (V_main_arg2 m c)),
      (((Pipeline.RDat.ArrAt_in _ 0 rfl _).le _ ((h c).1 0)).trans (V_main_arg3 m c)),
      (((Pipeline.RDat.ArrAt_in _ 2 rfl _).le _ ((h c).1 2)).trans (V_main_arg4 m c)),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      ((h c).2 main_arg10 (Finset.mem_sdiff.mpr ⟨Pipeline.mem_restRefs_of main_arg10 (by decide) (by decide), by decide⟩)).trans (V_main_arg10 m c),
      ((h c).2 main_arg11 (Finset.mem_sdiff.mpr ⟨Pipeline.mem_restRefs_of main_arg11 (by decide) (by decide), by decide⟩)).trans (V_main_arg11 m c),
      ((h c).2 main_arg12 (Finset.mem_sdiff.mpr ⟨Pipeline.mem_restRefs_of main_arg12 (by decide) (by decide), by decide⟩)).trans (V_main_arg12 m c),
      score_said m (Q c) _ ((h c).1 14)⟩) (run_main m ρ Q hQ hm)

end Cert.KernelIdeal.Hand

end
-- ==== Proof.Mask.lean ====
/-
  The score past the end of a list: what the kernel starts from is zero there, and every turn leaves zero there.
-/
module

public import proofs.«01_k».proof.Proof.Whole

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI

variable {F : FTy → Type} [FloatOps F]
variable {c : Dev nD}

/-- The zero the kernel fills and masks with. -/
def zeroF : F .f32 := Scalar.ofBits .f32 0x00000000#32

/-- The score is zero at every position at or past the end of its list. -/
def PastZero (fl : LenBuf F c) (sc : ScoreBuf F c) : Prop :=
  ∀ (b : Fin 24) (p : Fin 1536), (lenAt fl b).toInt ≤ p.val → sc (idIx b p) = (zeroF : F .f32)

theorem pastZero_start (fl : LenBuf F c) (s0 : ScoreBuf F c) : PastZero fl (score0 c s0) := by
  intro b p _
  have ew := View.write_emb_of_mem (v := ((Memref.whole cc0_stg14_0 : Memref sig .tc .vmem S24x1536 .f32).access (Rect.unit (s := S24x1536) ![0, 0] S24x1536.size inb_S24x1536_S24x1536_0_0))) s0
    (k0_pay91 (F := F)) (Finset.mem_univ (idIx b p))
  have ex : ((Memref.whole cc0_stg14_0 : Memref sig .tc .vmem S24x1536 .f32).access (Rect.unit (s := S24x1536) ![0, 0] S24x1536.size inb_S24x1536_S24x1536_0_0)).emb (idIx b p) = idIx b p := by
    funext a
    apply Fin.ext
    fin_cases a
    · show 0 + 1 * b.val = b.val; omega
    · show 0 + 1 * p.val = p.val; omega
  rw [ex] at ew
  exact ew.trans rfl

/-- A column of a block, counted from the start of the history. -/
theorem col_toInt {k : ℕ} (hk : k < 6) {r : ℕ} (hr : r < 256) :
    (Scalar.muli (BitVec.ofNat 32 k) 256#32 + BitVec.ofNat 32 r).toInt = 256 * k + r := by
  have e : (Scalar.muli (BitVec.ofNat 32 k) 256#32 + BitVec.ofNat 32 r).toNat = 256 * k + r := by
    show (BitVec.ofNat 32 k * 256#32 + BitVec.ofNat 32 r).toNat = _
    simp only [BitVec.toNat_add, BitVec.toNat_mul, BitVec.toNat_ofNat]
    omega
  rw [BitVec.toInt_eq_toNat_cond, e, if_pos (by omega)]
  push_cast; rfl

def ixRow (r : Fin 256) : S1x256.Idx := fun a => match a with | 0 => (0 : Fin 1) | 1 => r

theorem select_of_zero {s : Shape} {α : Type} {m : IVec s 1} {x y : s.Idx → α} {i : s.Idx} (h : m i = 0#1) : select m x y i = y i := by
  show (if m i = 1 then x i else y i) = y i
  rw [h]
  rfl

/-- A block's scores are zero at the columns at or past the end of the list. -/
theorem scoreRow_past (I : Ins F c) (tf : TfBuf F c) (tw : TwBuf F c) (s : Fin 3) (b : Fin 24) {k : ℕ} (hk : k < 6) (ring : RingBuf F c) (g : LineBuf F c)
    (r : Fin 256) (h : (lenAt I.fl b).toInt ≤ (256 * k + r.val : ℕ)) : scoreRow I tf tw s b k ring g (ixRow r) = (zeroF : F .f32) := by
  have hc := col_toInt hk r.isLt
  unfold scoreRow k0_pay45
  refine (select_of_zero ?_).trans rfl
  show BitVec.ofBool (BitVec.slt (Scalar.muli (BitVec.ofNat 32 k) 256#32 + BitVec.ofNat 32 (0 * 256 + r.val)) (lenAt I.fl b)) = 0#1
  rw [Nat.zero_mul, Nat.zero_add, BitVec.slt_eq_decide, hc, decide_eq_false (by push_cast at h; omega)]
  rfl

theorem pastZero_turn (I : Ins F c) (tf : TfBuf F c) (tw : TwBuf F c) (s : Fin 3) (b : Fin 24) {k : ℕ} (hk : k < 6) (ring : RingBuf F c) (g : LineBuf F c)
    (sc : ScoreBuf F c) (h : PastZero I.fl sc) : PastZero I.fl (newScore I tf tw s b k ring g sc) := by
  intro b' p hp
  have hk6 : (fin6 k).val = k := fin6_val hk
  unfold newScore
  by_cases hx : b' = b ∧ 256 * k ≤ p.val ∧ p.val < 256 * k + 256
  · obtain ⟨rfl, h1, h2⟩ := hx
    have ew := View.write_emb_of_mem (v := ((Memref.whole cc0_stg14_0).access (Rect.unit (s := S24x1536) ![b'.val, 256 * (fin6 k).val] S1x256.size (inb_score b' (fin6 k))))) sc
      (scoreRow I tf tw s b' k ring g) (Finset.mem_univ (ixRow ⟨p.val - 256 * k, by omega⟩))
    have ex : ((Memref.whole cc0_stg14_0).access (Rect.unit (s := S24x1536) ![b'.val, 256 * (fin6 k).val] S1x256.size (inb_score b' (fin6 k)))).emb (ixRow ⟨p.val - 256 * k, by omega⟩) = idIx b' p := by
      funext a
      apply Fin.ext
      fin_cases a
      · show b'.val + 1 * 0 = b'.val; omega
      · show 256 * (fin6 k).val + 1 * (p.val - 256 * k) = p.val; omega
    rw [ex] at ew
    refine ew.trans ?_
    exact scoreRow_past I tf tw s b' hk ring g _ (by
      show _ ≤ ((256 * k + (p.val - 256 * k) : ℕ) : ℤ)
      rw [Nat.add_sub_cancel' h1]; exact hp)
  · rw [View.write_of_not_mem _ _ _ (by
      intro hm
      obtain ⟨y, -, hy⟩ := Finset.mem_map.1 hm
      have h0 : (y 0).val < 1 := (y 0).isLt
      have h1 : (y 1).val < 256 := (y 1).isLt
      have e0 : b.val + 1 * (y 0).val = b'.val := congrArg (fun z : S24x1536.Idx => (z 0).val) hy
      have e1 : 256 * (fin6 k).val + 1 * (y 1).val = p.val := congrArg (fun z : S24x1536.Idx => (z 1).val) hy
      exact hx ⟨Fin.ext (by omega), by omega, by omega⟩)]
    exact h b' p hp

/-- Every turn keeps the score zero past the end of its list. -/
theorem keeps_pastZero (I : Ins F c) (tf : TfBuf F c) (tw : TwBuf F c) : Keeps I tf tw (fun _ sc _ => PastZero I.fl sc) := by
  intro i _ f g0 sc it h b k _ hk
  exact pastZero_turn I tf tw _ b hk _ _ sc h

end Cert.KernelIdeal.Hand

end
-- ==== Proof.Plain.lean ====
/-
  The score of a pair of rows, written plainly: two layers with a rectifier over the four features side by side. And the same from the
  features one by one, with the layers' columns padded by zeros.
-/
module

public import Idealize.ShloMosaic.PureOps.Ideal
public import Mathlib.Algebra.BigOperators.Fin

@[expose] public section

noncomputable section

namespace Cert.Din

/-- The rectifier with slope `a` below zero. -/
def prelu (z a : EReal) : EReal := if 0 ≤ z then z else a * z

/-- A history row, a target row, their difference and their product side by side. -/
def feat (h t : Fin 256 → EReal) (x : Fin 1024) : EReal :=
  if e : x.val < 256 then h ⟨x.val, e⟩
  else if e : x.val - 256 < 256 then t ⟨x.val - 256, e⟩
  else if e : x.val - 256 - 256 < 256 then h ⟨x.val - 256 - 256, e⟩ - t ⟨x.val - 256 - 256, e⟩
  else h ⟨x.val - 256 - 256 - 256, by omega⟩ * t ⟨x.val - 256 - 256 - 256, by omega⟩

/-- The first layer before its rectifier. -/
def layerOne (W1 : Fin 1024 → Fin 200 → EReal) (B1 : Fin 200 → EReal) (h t : Fin 256 → EReal) (j : Fin 200) : EReal :=
  ∑ x : Fin 1024, feat h t x * W1 x j + B1 j

/-- The second layer before its rectifier. -/
def layerTwo (W2 : Fin 200 → Fin 80 → EReal) (A1 : Fin 200 → EReal) (B2 : Fin 80 → EReal) (z : Fin 200 → EReal) (x : Fin 80) : EReal :=
  ∑ j : Fin 200, prelu (z j) (A1 j) * W2 j x + B2 x

/-- The score from the second layer. -/
def layerThree (W3 A2 : Fin 80 → EReal) (B3 : EReal) (z : Fin 80 → EReal) : EReal :=
  ∑ x : Fin 80, prelu (z x) (A2 x) * W3 x + B3

/-- The first layer from its features one by one, padded. -/
def padOne (W : Fin 1024 → Fin 256 → EReal) (B : Fin 256 → EReal) (h t : Fin 256 → EReal) (j : Fin 256) : EReal :=
  ∑ x : Fin 256, h x * W ⟨x.val, by omega⟩ j
    + ∑ x : Fin 256, (h x - t x) * W ⟨512 + x.val, by omega⟩ j
    + ∑ x : Fin 256, h x * t x * W ⟨768 + x.val, by omega⟩ j
    + (∑ x : Fin 256, t x * W ⟨256 + x.val, by omega⟩ j + B j)

theorem feat_sum (f : Fin 1024 → EReal) (h t : Fin 256 → EReal) :
    ∑ x : Fin 1024, feat h t x * f x = ∑ x : Fin 256, h x * f ⟨x.val, by omega⟩ + ∑ x : Fin 256, t x * f ⟨256 + x.val, by omega⟩
      + ∑ x : Fin 256, (h x - t x) * f ⟨512 + x.val, by omega⟩ + ∑ x : Fin 256, h x * t x * f ⟨768 + x.val, by omega⟩ := by
  rw [show (∑ x : Fin 1024, feat h t x * f x) = ∑ x : Fin (256 + 256 + 256 + 256), feat h t x * f x from rfl, Fin.sum_univ_add, Fin.sum_univ_add, Fin.sum_univ_add]
  refine congrArg₂ (· + ·) (congrArg₂ (· + ·) (congrArg₂ (· + ·) ?_ ?_) ?_) ?_
  · refine Finset.sum_congr rfl fun x _ => ?_
    refine congrArg₂ (· * ·) ?_ rfl
    unfold feat
    rw [dif_pos (show ((Fin.castAdd 256 (Fin.castAdd 256 (Fin.castAdd 256 x))) : Fin 1024).val < 256 from x.isLt)]; rfl
  · refine Finset.sum_congr rfl fun x _ => ?_
    have e : ((Fin.castAdd 256 (Fin.castAdd 256 (Fin.natAdd 256 x))) : Fin 1024).val = 256 + x.val := rfl
    refine congrArg₂ (· * ·) ?_ rfl
    unfold feat
    rw [dif_neg (by rw [e]; omega), dif_pos (by rw [e]; omega)]
    exact congrArg t (Fin.ext (by show _ - 256 = _; rw [e]; omega))
  · refine Finset.sum_congr rfl fun x _ => ?_
    have e : ((Fin.castAdd 256 (Fin.natAdd (256 + 256) x)) : Fin 1024).val = 512 + x.val := rfl
    refine congrArg₂ (· * ·) ?_ rfl
    unfold feat
    rw [dif_neg (by rw [e]; omega), dif_neg (by rw [e]; omega), dif_pos (by rw [e]; omega)]
    have e' : (⟨((Fin.castAdd 256 (Fin.natAdd (256 + 256) x)) : Fin 1024).val - 256 - 256, by rw [e]; omega⟩ : Fin 256) = x := Fin.ext (by show _ - 256 - 256 = _; rw [e]; omega)
    rw [e']
  · refine Finset.sum_congr rfl fun x _ => ?_
    have e : ((Fin.natAdd (256 + 256 + 256) x) : Fin 1024).val = 768 + x.val := rfl
    refine congrArg₂ (· * ·) ?_ rfl
    unfold feat
    rw [dif_neg (by rw [e]; omega), dif_neg (by rw [e]; omega), dif_neg (by rw [e]; omega)]
    have e' : (⟨((Fin.natAdd (256 + 256 + 256) x) : Fin 1024).val - 256 - 256 - 256, by rw [e]; omega⟩ : Fin 256) = x := Fin.ext (by show _ - 256 - 256 - 256 = _; rw [e]; omega)
    rw [e']

variable {W1 : Fin 1024 → Fin 200 → EReal} {B1 A1 : Fin 200 → EReal} {W2 : Fin 200 → Fin 80 → EReal} {B2 A2 W3 : Fin 80 → EReal} {B3 : EReal}
variable {W : Fin 1024 → Fin 256 → EReal} {B A : Fin 256 → EReal} {U : Fin 256 → Fin 128 → EReal} {D C X : Fin 128 → EReal}

theorem padOne_eq (hW : ∀ x (j : Fin 200), W x ⟨j.val, by omega⟩ = W1 x j) (hB : ∀ j : Fin 200, B ⟨j.val, by omega⟩ = B1 j) (h t : Fin 256 → EReal) (j : Fin 200) :
    padOne W B h t ⟨j.val, by omega⟩ = layerOne W1 B1 h t j := by
  unfold padOne layerOne
  simp only [hW, hB]
  rw [feat_sum (fun x => W1 x j) h t]
  generalize (∑ x : Fin 256, h x * W1 ⟨x.val, _⟩ j) = a
  generalize (∑ x : Fin 256, t x * W1 ⟨256 + x.val, _⟩ j) = b
  generalize (∑ x : Fin 256, (h x - t x) * W1 ⟨512 + x.val, _⟩ j) = c
  generalize (∑ x : Fin 256, h x * t x * W1 ⟨768 + x.val, _⟩ j) = d
  generalize B1 j = e
  rw [← add_assoc]
  refine congrArg (· + e) ?_
  rw [add_right_comm a c d, add_assoc a d c, add_assoc a b c, add_assoc a (b + c) d, add_assoc a (d + c) b]
  refine congrArg (a + ·) ?_
  rw [add_comm d c, add_right_comm c d b, add_comm c b]

/-- A sum whose last terms are zero stops before them. -/
theorem sum_pad {n k : ℕ} (f : Fin (n + k) → EReal) (h : ∀ x : Fin (n + k), n ≤ x.val → f x = 0) : ∑ x, f x = ∑ x : Fin n, f ⟨x.val, by omega⟩ := by
  rw [Fin.sum_univ_add, Finset.sum_eq_zero (s := Finset.univ) (f := fun x : Fin k => f (Fin.natAdd n x)) (fun x _ => h _ (Nat.le_add_right _ _)), add_zero]
  rfl

/-- The padded layers compute the plain ones. -/
theorem pad_score (hW : ∀ x (j : Fin 200), W x ⟨j.val, by omega⟩ = W1 x j) (hB : ∀ j : Fin 200, B ⟨j.val, by omega⟩ = B1 j) (hA : ∀ j : Fin 200, A ⟨j.val, by omega⟩ = A1 j)
    (hU : ∀ (j : Fin 200) (x : Fin 80), U ⟨j.val, by omega⟩ ⟨x.val, by omega⟩ = W2 j x) (hU0 : ∀ (j : Fin 256) (x : Fin 128), 200 ≤ j.val → U j x = 0)
    (hD : ∀ x : Fin 80, D ⟨x.val, by omega⟩ = B2 x) (hC : ∀ x : Fin 80, C ⟨x.val, by omega⟩ = A2 x)
    (hX : ∀ x : Fin 80, X ⟨x.val, by omega⟩ = W3 x) (hX0 : ∀ x : Fin 128, 80 ≤ x.val → X x = 0) (h t : Fin 256 → EReal) :
    ∑ x : Fin 128, X x * prelu (∑ j : Fin 256, prelu (padOne W B h t j) (A j) * U j x + D x) (C x) + B3
      = layerThree W3 A2 B3 (layerTwo W2 A1 B2 (layerOne W1 B1 h t)) := by
  unfold layerThree
  refine congrArg (· + B3) ?_
  refine (sum_pad (n := 80) (k := 48) (fun x : Fin 128 => X x * prelu (∑ j : Fin 256, prelu (padOne W B h t j) (A j) * U j x + D x) (C x)) (fun x hx => by
    show X x * _ = 0
    rw [hX0 x hx, zero_mul])).trans ?_
  refine Finset.sum_congr rfl fun x _ => ?_
  show X ⟨x.val, _⟩ * prelu (∑ j : Fin 256, prelu (padOne W B h t j) (A j) * U j ⟨x.val, _⟩ + D ⟨x.val, _⟩) (C ⟨x.val, _⟩) = _
  rw [hX, hC, hD, mul_comm]
  refine congrArg (fun z => prelu z (A2 x) * W3 x) ?_
  unfold layerTwo
  refine congrArg (· + B2 x) ?_
  refine (sum_pad (n := 200) (k := 56) (fun j : Fin 256 => prelu (padOne W B h t j) (A j) * U j ⟨x.val, by omega⟩) (fun j hj => by
    show _ * U j _ = 0
    rw [hU0 j _ hj, mul_zero])).trans ?_
  refine Finset.sum_congr rfl fun j _ => ?_
  show prelu (padOne W B h t ⟨j.val, _⟩) (A ⟨j.val, _⟩) * U ⟨j.val, _⟩ ⟨x.val, _⟩ = _
  rw [hU, hA, padOne_eq hW hB]

end Cert.Din

end
-- ==== Proof.Value.lean ====
/-
  What one block of the kernel computes over the extended reals: the gathered rows at their scales, the first layer from its three
  products and the target's share, and the score of a row.
-/
module

public import proofs.«01_k».proof.Proof.Mask
public import proofs.«01_k».proof.Proof.Plain
public import Idealize.ShloMosaic.Lib.Pointwise

@[expose] public section

noncomputable section

namespace Cert.KernelIdeal.Hand

open Cert.KernelIdeal Cert.KernelIdeal.Gen
open Idealize.ShloMosaic Idealize.ShloMosaic.TcCoe Idealize.ShloMosaic.Tactic
open Cert.Din

variable {c : Dev nD}

/-! ## The values -/

/-- The byte of word `w` that id `v` names, read signed. -/
def codeOf (w v : BitVec 32) : BitVec 32 :=
  IntOp.shrsi ArithUnit.vector (IntOp.shli ArithUnit.vector w (IntOp.subi (24#32) (IntOp.shli ArithUnit.vector (IntOp.andi v 3#32) 3#32))) 24#32

/-- Entry `d` of the row of the table that id `v` names: its code at its scale. -/
def rowAt (I : Ins Ideal c) (v : BitVec 32) (d : Fin 256) : EReal :=
  FloatOps.sitofp (F := Ideal) FTy.f32 (codeOf (I.fw (wordAt (quart v) d)) v) * (show EReal from I.fs (sclAt v.toNat))

/-- The first layer of a pair of rows before its rectifier. -/
def zOne (I : Ins Ideal c) (h t : Fin 256 → EReal) (j : Fin 256) : EReal :=
  padOne (fun x j => I.w1 (ix2 x j)) (fun j => I.b1 (ix2 0 j)) h t j

/-- The score of a pair of rows. -/
def scoreOf (I : Ins Ideal c) (h t : Fin 256 → EReal) : EReal :=
  ∑ x : Fin 128, (show EReal from I.w3 (ix2 0 x)) * prelu (∑ j : Fin 256, prelu (zOne I h t j) (I.a1 (ix2 0 j)) * (show EReal from I.w2 (ix2 j x)) + (show EReal from I.b2 (ix2 0 x))) (I.a2 (ix2 0 x))
    + (show EReal from I.b3 (ix2 0 0))

/-! ## Reads -/

theorem idIx_eq (b : Fin 24) (p : Fin 1536) : idIx b p = ix2 b p := by funext a; fin_cases a <;> rfl
theorem ixRow_eq (r : Fin 256) : ixRow r = ix2 0 r := by funext a; fin_cases a <;> rfl
theorem ix11_eq : ix11 = ix2 0 0 := by funext a; fin_cases a <;> rfl
theorem ix24_eq (b : Fin 24) : ix24 b = ix1 b := by funext a; fin_cases a; rfl

theorem rdTf_at (tf : TfBuf Ideal c) (b : Fin 24) (d : Fin 256) : rdTf tf b (ix2 0 d) = tf (ix2 ⟨b.val, by omega⟩ d) := by
  refine congrArg tf ?_
  funext a; apply Fin.ext; fin_cases a
  · exact (by omega : b.val + 1 * 0 = b.val)
  · exact (by omega : 0 + 1 * d.val = d.val)
theorem rdTw_at (tw : TwBuf Ideal c) (b : Fin 24) (d : Fin 256) : rdTw tw b (ix2 0 d) = tw (ix2 ⟨b.val, by omega⟩ d) := by
  refine congrArg tw ?_
  funext a; apply Fin.ext; fin_cases a
  · exact (by omega : b.val + 1 * 0 = b.val)
  · exact (by omega : 0 + 1 * d.val = d.val)
theorem rdIds_at (I : Ins Ideal c) (b : Fin 24) (k : Fin 6) (e : Fin 2) (l : Fin 128) : rdIds I b k (ix3 0 e l) = I.idb (ix3 b ⟨2 * k.val + e.val, by omega⟩ l) := by
  refine congrArg I.idb ?_
  funext a; apply Fin.ext; fin_cases a
  · exact (by omega : b.val + 1 * 0 = b.val)
  · exact (by omega : 2 * k.val + 1 * e.val = 2 * k.val + e.val)
  · exact (by omega : 0 + 1 * l.val = l.val)
theorem rdRing_at (ring : RingBuf Ideal c) (s : Fin 3) (r d : Fin 256) : rdRing ring s (ix3 0 r d) = ring (ix3 s r d) := by
  refine congrArg ring ?_
  funext a; apply Fin.ext; fin_cases a
  · exact (by omega : s.val + 1 * 0 = s.val)
  · exact (by omega : 0 + 1 * r.val = r.val)
  · exact (by omega : 0 + 1 * d.val = d.val)
theorem rdLine_at (g : LineBuf Ideal c) (r : Fin 256) (x : Fin 128) : rdLine g (ix2 r x) = g (ix2 r x) := by
  refine congrArg g ?_
  funext a; apply Fin.ext; fin_cases a
  · exact (by omega : 0 + 1 * r.val = r.val)
  · exact (by omega : 0 + 1 * x.val = x.val)
theorem rdWa_at (I : Ins Ideal c) (x j : Fin 256) : rdWa I (ix2 x j) = I.w1 (ix2 ⟨x.val, by omega⟩ j) := by
  refine congrArg I.w1 ?_
  funext a; apply Fin.ext; fin_cases a
  · exact (by omega : 0 + 1 * x.val = x.val)
  · exact (by omega : 0 + 1 * j.val = j.val)
theorem rdWc_at (I : Ins Ideal c) (x j : Fin 256) : rdWc I (ix2 x j) = I.w1 (ix2 ⟨512 + x.val, by omega⟩ j) := by
  refine congrArg I.w1 ?_
  funext a; apply Fin.ext; fin_cases a
  · exact (by omega : 512 + 1 * x.val = 512 + x.val)
  · exact (by omega : 0 + 1 * j.val = j.val)
theorem rdWd_at (I : Ins Ideal c) (x j : Fin 256) : rdWd I (ix2 x j) = I.w1 (ix2 ⟨768 + x.val, by omega⟩ j) := by
  refine congrArg I.w1 ?_
  funext a; apply Fin.ext; fin_cases a
  · exact (by omega : 768 + 1 * x.val = 768 + x.val)
  · exact (by omega : 0 + 1 * j.val = j.val)
theorem rdA1_at (I : Ins Ideal c) (j : Fin 256) : rdA1 I (ix2 0 j) = I.a1 (ix2 0 j) := by
  refine congrArg I.a1 ?_
  funext a; apply Fin.ext; fin_cases a
  · rfl
  · exact (by omega : 0 + 1 * j.val = j.val)
theorem rdW2_at (I : Ins Ideal c) (j : Fin 256) (x : Fin 128) : rdW2 I (ix2 j x) = I.w2 (ix2 j x) := by
  refine congrArg I.w2 ?_
  funext a; apply Fin.ext; fin_cases a
  · exact (by omega : 0 + 1 * j.val = j.val)
  · exact (by omega : 0 + 1 * x.val = x.val)
theorem rdB2_at (I : Ins Ideal c) (j : Fin 128) : rdB2 I (ix2 0 j) = I.b2 (ix2 0 j) := by
  refine congrArg I.b2 ?_
  funext a; apply Fin.ext; fin_cases a
  · rfl
  · exact (by omega : 0 + 1 * j.val = j.val)
theorem rdA2_at (I : Ins Ideal c) (j : Fin 128) : rdA2 I (ix2 0 j) = I.a2 (ix2 0 j) := by
  refine congrArg I.a2 ?_
  funext a; apply Fin.ext; fin_cases a
  · rfl
  · exact (by omega : 0 + 1 * j.val = j.val)
theorem rdW3_at (I : Ins Ideal c) (j : Fin 128) : rdW3 I (ix2 0 j) = I.w3 (ix2 0 j) := by
  refine congrArg I.w3 ?_
  funext a; apply Fin.ext; fin_cases a
  · rfl
  · exact (by omega : 0 + 1 * j.val = j.val)

/-! ## One row of a block -/

theorem and127 (v : BitVec 32) : (IntOp.andi v 127#32).toNat = v.toNat % 128 := by
  show (v &&& 127#32).toNat = _
  rw [BitVec.toNat_and]
  exact Nat.and_two_pow_sub_one_eq_mod _ 7

/-- The lane of a line that an id names, picked out by a sum over the lanes. -/
theorem pick_lane (f : Fin 128 → EReal) (v : BitVec 32) :
    ∑ x : Fin 128, Scalar.select (IntOp.cmpi CmpIPredicate.eq (BitVec.ofNat 32 x.val) (IntOp.andi v 127#32)) (f x) 0 = f ⟨v.toNat % 128, Nat.mod_lt _ (by decide)⟩ := by
  rw [Finset.sum_eq_single (⟨v.toNat % 128, Nat.mod_lt _ (by decide)⟩ : Fin 128)]
  · have h : BitVec.ofNat 32 (v.toNat % 128) = IntOp.andi v 127#32 := BitVec.eq_of_toNat_eq (by rw [and127, BitVec.toNat_ofNat]; omega)
    show (if BitVec.ofBool (BitVec.ofNat 32 (v.toNat % 128) == IntOp.andi v 127#32) = 1 then _ else _) = _
    rw [h, beq_self_eq_true]; rfl
  · intro x _ hx
    have h : (BitVec.ofNat 32 x.val == IntOp.andi v 127#32) = false := by
      rw [beq_eq_false_iff_ne]
      intro e
      have := congrArg BitVec.toNat e
      rw [and127, BitVec.toNat_ofNat] at this
      exact hx (Fin.ext (by show x.val = v.toNat % 128; omega))
    show (if BitVec.ofBool (BitVec.ofNat 32 x.val == IntOp.andi v 127#32) = 1 then _ else _) = _
    rw [h]; rfl
  · intro h; exact absurd (Finset.mem_univ _) h

theorem pay42_at (v716 : IVec S256x1 32) (v719 : IVec S256x256 32) (v720 : Vec Ideal S256x128 .f32) (v725 : IVec S256x1 1) (v728 : IVec S256x1 32) (r d : Fin 256)
    (v w : BitVec 32) (hv : v716 (ix2 r 0) = v) (h28 : v728 (ix2 r 0) = IntOp.andi v 127#32) (hm : v725 (ix2 r 0) = 1#1) (hw : v719 (ix2 r d) = w) :
    k0_pay42 (F := Ideal) v716 v719 v720 v725 (iota .tc S256x128 32 [1] iota_S256x128_d1_w32) v728 (ix2 r d)
      = FloatOps.sitofp (F := Ideal) FTy.f32 (codeOf w v) * (v720 (ix2 r ⟨v.toNat % 128, Nat.mod_lt _ (by decide)⟩) : EReal) := by
  pointwise [k0_pay42]
  rw [hv, h28, hm, hw, pick_lane (fun x => v720 (ix2 r x)) v]
  rfl

theorem pay38_at (v : Vec Ideal S1x2x128 .i32) (r : Fin 256) : k0_pay38 (F := Ideal) v (ix2 r 0) = v (ix3 0 ⟨r.val / 128, by omega⟩ ⟨r.val % 128, by omega⟩) := by
  pointwise [k0_pay38]
  split
  · congr 2
    · exact Fin.ext (by show 0 = r.val / 128; omega)
    · exact Fin.ext (by show r.val = r.val % 128; omega)
  · congr 2
    · exact Fin.ext (by show 1 = r.val / 128; omega)
    · exact Fin.ext (by show r.val - 128 = r.val % 128; omega)
theorem pay41_at (v : Vec Ideal S1x2x128 .i32) (r : Fin 256) : k0_pay41 (F := Ideal) v (ix2 r 0) = IntOp.andi (k0_pay38 (F := Ideal) v (ix2 r 0)) 127#32 := rfl
theorem pay39_at (v : Vec Ideal S1x256x256 .i32) (r d : Fin 256) : k0_pay39 (F := Ideal) v (ix2 r d) = v (ix3 0 r d) := by
  pointwise [k0_pay39]
theorem pay40_at (I : Ins Ideal c) (b : Fin 24) {k : ℕ} (hk : k < 6) (r : Fin 256) (h : ((256 * k + r.val : ℕ) : ℤ) < (lenAt I.fl b).toInt) :
    k0_pay40 (F := Ideal) (BitVec.ofNat 32 k) (lenAt I.fl b) (ix2 r 0) = 1#1 := by
  have hc := col_toInt hk r.isLt
  pointwise [k0_pay40]
  show BitVec.ofBool (BitVec.slt (Scalar.muli (BitVec.ofNat 32 k) 256#32 + BitVec.ofNat 32 r.val) (lenAt I.fl b)) = 1#1
  rw [BitVec.slt_eq_decide, hc, decide_eq_true (by push_cast at h; omega)]
  rfl

theorem pay45_at (a : BitVec 32) (v699 : Elt Ideal .i32) (v770 v773 v779 v782 v788 v794 v798) (r : Fin 256)
    (hm : IntOp.cmpi CmpIPredicate.slt (IntOp.addi (Scalar.muli a 256#32) (BitVec.ofNat 32 r.val)) v699 = 1#1) :
    k0_pay45 (F := Ideal) a v699 v770 (k0_pay44 (F := Ideal)) v773 v779 v782 v788 v794 v798 (ix2 0 r)
      = ∑ x : Fin 128, (v794 (ix2 0 x) : EReal) * prelu (∑ j : Fin 256, prelu (v770 (ix2 r j)) (v773 (ix2 0 j)) * (v779 (ix2 j x) : EReal) + v782 (ix2 0 x)) (v788 (ix2 0 x)) + v798 := by
  pointwise [k0_pay45, k0_pay44]
  rw [hm]
  rfl

theorem pay43_at (v702 : FVec Ideal S1x256 .bf16) (v704 : Vec Ideal S1x256 .f32) (v716 v719 v720 v725 v726 v728 v758 v761 v765) (r j : Fin 256) :
    k0_pay43 (F := Ideal) v702 v704 v716 v719 v720 v725 v726 v728 v758 v761 v765 (ix2 r j)
      = ∑ x : Fin 256, (k0_pay42 (F := Ideal) v716 v719 v720 v725 v726 v728 (ix2 r x) : EReal) * (v758 (ix2 x j) : EReal)
        + ∑ x : Fin 256, ((k0_pay42 (F := Ideal) v716 v719 v720 v725 v726 v728 (ix2 r x) : EReal) - v702 (ix2 0 x)) * (v761 (ix2 x j) : EReal)
        + ∑ x : Fin 256, (k0_pay42 (F := Ideal) v716 v719 v720 v725 v726 v728 (ix2 r x) : EReal) * v702 (ix2 0 x) * (v765 (ix2 x j) : EReal)
        + (v704 (ix2 0 j) : EReal) := by
  pointwise [k0_pay43]

end Cert.KernelIdeal.Hand
-- ==== Proof.Rows.lean ====
/-
  A block's scores: the row of the history that a position's id names, against the row of its list's target.
-/
module

public import proofs.«01_k».proof.Proof.Value

@[expose] public section

noncomputable section

namespace Cert.KernelIdeal.Hand

open Cert.KernelIdeal Cert.KernelIdeal.Gen
open Idealize.ShloMosaic Idealize.ShloMosaic.TcCoe Idealize.ShloMosaic.Tactic
open Cert.Din

variable {c : Dev nD}

/-- The rows of a block that lie inside its list are gathered. -/
theorem lt_rowsOf {v : BitVec 32} (hv : LenOk v) {k r : ℕ} (hk : k < 6) (hr : r < 256) (h : ((256 * k + r : ℕ) : ℤ) < v.toInt) : r < rowsOf v k := by
  unfold LenOk at hv
  have hl := BitVec.le_toInt v
  have e1 : (Scalar.muli (BitVec.ofNat 32 k) 256#32).toInt = 256 * k := by
    have e : (Scalar.muli (BitVec.ofNat 32 k) 256#32).toNat = 256 * k := by
      show (BitVec.ofNat 32 k * 256#32).toNat = _
      simp only [BitVec.toNat_mul, BitVec.toNat_ofNat]
      omega
    rw [BitVec.toInt_eq_toNat_cond, e, if_pos (by omega)]
    push_cast; rfl
  have e2 : (Scalar.subi v (Scalar.muli (BitVec.ofNat 32 k) 256#32)).toInt = v.toInt - 256 * k := by
    show (v - Scalar.muli (BitVec.ofNat 32 k) 256#32).toInt = _
    rw [BitVec.toInt_sub, e1]
    apply Int.bmod_eq_of_le <;> omega
  unfold rowsOf grpOf
  rw [e2]
  push_cast at h
  have hm : (0 : ℤ) ≤ min (v.toInt - 256 * k) 256 + 15 := by
    have : (0 : ℤ) ≤ min (v.toInt - 256 * k) 256 := le_min (by omega) (by omega)
    omega
  rw [Int.tdiv_eq_ediv_of_nonneg hm]
  have h3 : (r : ℤ) < min (v.toInt - 256 * k) 256 := lt_min (by omega) (by omega)
  omega

theorem and_lane (v : BitVec 32) : v.toNat / 128 * 128 + v.toNat % 128 = v.toNat := by omega

/-- The ids in the two layouts that the kernel is given agree. -/
structure Agree (I : Ins Ideal c) : Prop where
  ids : ∀ (b : Fin 24) (k : Fin 6) (r : Fin 256), I.idb (ix3 b ⟨2 * k.val + r.val / 128, by omega⟩ ⟨r.val % 128, by omega⟩) = idAt I.fi b k r
  tgts : ∀ b : Fin 24, I.tg (ix2 0 ⟨b.val, by omega⟩) = I.ft (ix24 b)

section Block
variable (I : Ins Ideal c) (hI : InsOk c I) (hA : Agree I) (b : Fin 24) {k : ℕ} (hk : k < 6) (r : Fin 256) (h : ((256 * k + r.val : ℕ) : ℤ) < (lenAt I.fl b).toInt)
  (s : Fin 3) (f : RingBuf Ideal c) (g0 : LineBuf Ideal c)

include hI hA hk h in
/-- The hidden row of a position is the row that its id names. -/
theorem hRow_at (d : Fin 256) :
    k0_pay42 (F := Ideal) (k0_pay38 (F := Ideal) (rdIds I b (fin6 k))) (k0_pay39 (F := Ideal) (rdRing (filled (gathered I.fw I.fi b (fin6 k)) f (rowsOf (lenAt I.fl b) k)) s))
      (rdLine (lineBuf I.fs I.fi b (fin6 k) g0 (rowsOf (lenAt I.fl b) k))) (k0_pay40 (F := Ideal) (BitVec.ofNat 32 k) (lenAt I.fl b)) (iota .tc S256x128 32 [1] iota_S256x128_d1_w32)
      (k0_pay41 (F := Ideal) (rdIds I b (fin6 k))) (ix2 r d)
      = rowAt I (idAt I.fi b (fin6 k) r) d := by
  have hr : r.val < rowsOf (lenAt I.fl b) k := lt_rowsOf (hI.lens b) hk r.isLt h
  have hv : k0_pay38 (F := Ideal) (rdIds I b (fin6 k)) (ix2 r 0) = idAt I.fi b (fin6 k) r := by
    rw [pay38_at, rdIds_at]
    exact hA.ids b (fin6 k) r
  refine (pay42_at _ _ _ _ _ r d (idAt I.fi b (fin6 k) r) (I.fw (wordAt (quart (idAt I.fi b (fin6 k) r)) d)) hv ?_ ?_ ?_).trans ?_
  · rw [pay41_at, hv]
  · exact pay40_at I b hk r h
  · rw [pay39_at, rdRing_at]
    show (if r.val < rowsOf (lenAt I.fl b) k then _ else _) = _
    rw [if_pos hr]; rfl
  · rw [rdLine_at]
    unfold rowAt
    refine congrArg (FloatOps.sitofp (F := Ideal) FTy.f32 (codeOf (I.fw (wordAt (quart (idAt I.fi b (fin6 k) r)) d)) (idAt I.fi b (fin6 k) r)) * ·) ?_
    show (if r.val < rowsOf (lenAt I.fl b) k then I.fs (sclAt ((idAt I.fi b (fin6 k) r).toNat / 128 * 128 + (idAt I.fi b (fin6 k) r).toNat % 128)) else _) = _
    rw [if_pos hr, and_lane]

include hI hA hk h in
/-- The score of a position inside its list. -/
theorem scoreRow_at (tf : TfBuf Ideal c) (tw : TwBuf Ideal c) (t : Fin 256 → EReal) (htf : ∀ d, tf (ix2 ⟨b.val, by omega⟩ d) = t d)
    (htw : ∀ j, tw (ix2 ⟨b.val, by omega⟩ j) = ∑ x : Fin 256, t x * (show EReal from I.w1 (ix2 ⟨256 + x.val, by omega⟩ j)) + (show EReal from I.b1 (ix2 0 j))) :
    scoreRow I tf tw s b k (filled (gathered I.fw I.fi b (fin6 k)) f (rowsOf (lenAt I.fl b) k)) (lineBuf I.fs I.fi b (fin6 k) g0 (rowsOf (lenAt I.fl b) k)) (ixRow r)
      = scoreOf I (rowAt I (idAt I.fi b (fin6 k) r)) t := by
  have hc := col_toInt hk r.isLt
  rw [ixRow_eq]
  unfold scoreRow
  refine (pay45_at _ _ _ _ _ _ _ _ _ r ?_).trans ?_
  · show BitVec.ofBool (BitVec.slt (Scalar.muli (BitVec.ofNat 32 k) 256#32 + BitVec.ofNat 32 r.val) (lenAt I.fl b)) = 1#1
    rw [BitVec.slt_eq_decide, hc, decide_eq_true (by push_cast at h; omega)]
    rfl
  have hz : ∀ j : Fin 256, k0_pay43 (F := Ideal) (k0_pay37 (rdTf tf b)) (rdTw tw b) (k0_pay38 (F := Ideal) (rdIds I b (fin6 k))) (k0_pay39 (F := Ideal) (rdRing (filled (gathered I.fw I.fi b (fin6 k)) f (rowsOf (lenAt I.fl b) k)) s))
      (rdLine (lineBuf I.fs I.fi b (fin6 k) g0 (rowsOf (lenAt I.fl b) k))) (k0_pay40 (F := Ideal) (BitVec.ofNat 32 k) (lenAt I.fl b)) (iota .tc S256x128 32 [1] iota_S256x128_d1_w32)
      (k0_pay41 (F := Ideal) (rdIds I b (fin6 k))) (rdWa I) (rdWc I) (rdWd I) (ix2 r j) = zOne I (rowAt I (idAt I.fi b (fin6 k) r)) t j := by
    intro j
    refine (pay43_at _ _ _ _ _ _ _ _ _ _ _ r j).trans ?_
    have e37 : ∀ x, k0_pay37 (rdTf tf b) (ix2 0 x) = t x := fun x => (rdTf_at tf b x).trans (htf x)
    simp only [hRow_at I hI hA b hk r h s f g0, e37, rdWa_at, rdWc_at, rdWd_at, rdTw_at, htw]
    rfl
  unfold scoreOf
  refine congrArg₂ (· + ·) (Finset.sum_congr rfl fun x _ => ?_) (congrArg I.b3 ix11_eq)
  rw [rdW3_at, rdA2_at, rdB2_at]
  refine congrArg (fun z : EReal => (show EReal from I.w3 (ix2 0 x)) * prelu (z + (show EReal from I.b2 (ix2 0 x))) (I.a2 (ix2 0 x))) (Finset.sum_congr rfl fun j _ => ?_)
  rw [hz, rdA1_at, rdW2_at]
end Block

/-! ## The targets -/

theorem pay119_at (v : Vec Ideal S1x128 .i32) (r : Fin 32) : k0_pay119 (F := Ideal) v (ix2 r 0) = v (ix2 0 ⟨r.val, by omega⟩) := by
  pointwise [k0_pay119]
theorem pay120_at (v : Vec Ideal S1x32x256 .i32) (r : Fin 32) (d : Fin 256) : k0_pay120 (F := Ideal) v (ix2 r d) = v (ix3 0 r d) := by
  pointwise [k0_pay120]
theorem pay121_at (v : Vec Ideal S1x128 .i32) (g : Vec Ideal S32x128 .f32) (r : Fin 32) (hr : r.val < 24) (u : BitVec 32) (hu : v (ix2 0 ⟨r.val, by omega⟩) = u) :
    k0_pay121 (F := Ideal) v g (ix2 r 0) = g (ix2 r ⟨u.toNat % 128, Nat.mod_lt _ (by decide)⟩) := by
  pointwise [k0_pay121, k0_pay119]
  rw [hu, pick_lane (fun x => g (ix2 r x)) u]
  have e : IntOp.cmpi CmpIPredicate.slt (BitVec.ofNat 32 r.val) 24#32 = 1#1 := by
    show BitVec.ofBool (BitVec.slt (BitVec.ofNat 32 r.val) 24#32) = 1#1
    rw [BitVec.slt_eq_decide, decide_eq_true (by rw [BitVec.toInt_eq_toNat_cond, BitVec.toNat_ofNat, if_pos (by omega), show (24#32).toInt = 24 from rfl]; omega)]
    rfl
  rw [e]; rfl
theorem pay122_at (v : Vec Ideal S1x128 .i32) (r : Fin 32) (u : BitVec 32) (hu : v (ix2 0 ⟨r.val, by omega⟩) = u) :
    k0_pay122 (F := Ideal) v (ix2 r 0) = IntOp.subi (24#32) (IntOp.shli ArithUnit.vector (IntOp.andi u 3#32) 3#32) := by
  pointwise [k0_pay122, k0_pay119]
  rw [hu]
theorem pay123_at (w : IVec S32x256 32) (e : FVec Ideal S32x1 .f32) (n : IVec S32x1 32) (r : Fin 32) (d : Fin 256) :
    k0_pay123 (F := Ideal) w e n (ix2 r d) = FloatOps.sitofp (F := Ideal) FTy.f32 (IntOp.shrsi ArithUnit.vector (IntOp.shli ArithUnit.vector (w (ix2 r d)) (n (ix2 r 0))) 24#32) * (show EReal from e (ix2 r 0)) := by
  pointwise [k0_pay123]
theorem pay124_at (w : IVec S32x256 32) (e : FVec Ideal S32x1 .f32) (n : IVec S32x1 32) (r : Fin 32) (d : Fin 256) :
    k0_pay124 (F := Ideal) w e n (ix2 r d) = k0_pay123 (F := Ideal) w e n (ix2 r d) := by
  pointwise [k0_pay124, k0_pay123]
theorem pay125_at (w : IVec S32x256 32) (e : FVec Ideal S32x1 .f32) (n : IVec S32x1 32) (u : Vec Ideal S256x256 .bf16) (y : Vec Ideal S1x256 .f32) (r : Fin 32) (j : Fin 256) :
    k0_pay125 (F := Ideal) w e n u y (ix2 r j) = ∑ x : Fin 256, (show EReal from k0_pay123 (F := Ideal) w e n (ix2 r x)) * (show EReal from u (ix2 x j)) + (show EReal from y (ix2 0 j)) := by
  pointwise [k0_pay125, k0_pay123]

theorem rdTg_at (I : Ins Ideal c) (x : Fin 128) : rdTg c I (ix2 0 x) = I.tg (ix2 0 x) := by
  refine congrArg I.tg ?_
  funext a; apply Fin.ext; fin_cases a
  · rfl
  · exact (by omega : 0 + 1 * x.val = x.val)
theorem rdRows32_at (f : RingBuf Ideal c) (r : Fin 32) (d : Fin 256) : rdRows32 c f (ix3 0 r d) = f (ix3 0 ⟨r.val, by omega⟩ d) := by
  refine congrArg f ?_
  funext a; apply Fin.ext; fin_cases a
  · rfl
  · exact (by omega : 0 + 1 * r.val = r.val)
  · exact (by omega : 0 + 1 * d.val = d.val)
theorem rdLine32_at (g : LineBuf Ideal c) (r : Fin 32) (x : Fin 128) : rdLine32 c g (ix2 r x) = g (ix2 ⟨r.val, by omega⟩ x) := by
  refine congrArg g ?_
  funext a; apply Fin.ext; fin_cases a
  · exact (by omega : 0 + 1 * r.val = r.val)
  · exact (by omega : 0 + 1 * x.val = x.val)

/-- The row that a list's target names. -/
theorem tgtRow_at (I : Ins Ideal c) (hA : Agree I) (f : RingBuf Ideal c) (g : LineBuf Ideal c) (b : Fin 24) (d : Fin 256) :
    k0_pay123 (F := Ideal) (tRows c I f) (tScl c I g) (tIds c I) (ix2 ⟨b.val, by omega⟩ d) = rowAt I (I.ft (ix24 b)) d := by
  have hid : idAt (fakeIds I.ft) 0 0 ⟨b.val, by omega⟩ = I.ft (ix24 b) := congrArg (fun q : Fin 24 => I.ft (ix24 q)) (Fin.ext (by show min (256 * 0 + b.val) 23 = b.val; omega))
  have hu : rdTg c I (ix2 0 ⟨b.val, by omega⟩) = I.ft (ix24 b) := (rdTg_at I _).trans (hA.tgts b)
  rw [pay123_at]
  have e1 : tRows c I f (ix2 ⟨b.val, by omega⟩ d) = I.fw (wordAt (quart (I.ft (ix24 b))) d) := by
    refine (pay120_at _ _ _).trans ((rdRows32_at _ _ _).trans ?_)
    show (if b.val < 24 then I.fw (wordAt (quart (idAt (fakeIds I.ft) 0 0 ⟨b.val, _⟩)) d) else _) = _
    rw [if_pos b.isLt, hid]
  have e2 : tScl c I g (ix2 ⟨b.val, by omega⟩ 0) = I.fs (sclAt (show BitVec 32 from I.ft (ix24 b)).toNat) := by
    refine (pay121_at _ _ _ b.isLt _ hu).trans ((rdLine32_at _ _ _).trans ?_)
    show (if b.val < 24 then I.fs (sclAt ((idAt (fakeIds I.ft) 0 0 ⟨b.val, _⟩).toNat / 128 * 128 + (show BitVec 32 from I.ft (ix24 b)).toNat % 128)) else _) = _
    rw [if_pos b.isLt, hid, and_lane]
  have e3 : tIds c I (ix2 ⟨b.val, by omega⟩ 0) = _ := pay122_at (rdTg c I) ⟨b.val, by omega⟩ _ hu
  rw [e1, e2, e3]
  rfl

theorem tf_at (I : Ins Ideal c) (hA : Agree I) (tf : TfBuf Ideal c) (h : TfOk c I tf) (b : Fin 24) (d : Fin 256) : tf (ix2 ⟨b.val, by omega⟩ d) = rowAt I (I.ft (ix24 b)) d := by
  obtain ⟨f, g, t0, rfl⟩ := h
  have ew := View.write_emb_of_mem (v := ((Memref.whole cc0_scratch3 : Memref sig .tc .vmem S32x256 .f32).access (Rect.unit (s := S32x256) ![0, 0] S32x256.size inb_S32x256_S32x256_0_0))) t0
    (k0_pay124 (F := Ideal) (tRows c I f) (tScl c I g) (tIds c I)) (Finset.mem_univ (ix2 (⟨b.val, by omega⟩ : Fin 32) d))
  have ex : ((Memref.whole cc0_scratch3 : Memref sig .tc .vmem S32x256 .f32).access (Rect.unit (s := S32x256) ![0, 0] S32x256.size inb_S32x256_S32x256_0_0)).emb (ix2 (⟨b.val, by omega⟩ : Fin 32) d) = ix2 (⟨b.val, by omega⟩ : Fin 32) d := by
    funext a
    apply Fin.ext
    fin_cases a
    · show 0 + 1 * b.val = b.val; omega
    · show 0 + 1 * d.val = d.val; omega
  rw [ex] at ew
  exact ew.trans ((pay124_at _ _ _ _ _).trans (tgtRow_at I hA f g b d))

theorem tw_at (I : Ins Ideal c) (hA : Agree I) (tw : TwBuf Ideal c) (h : TwOk c I tw) (b : Fin 24) (j : Fin 256) :
    tw (ix2 ⟨b.val, by omega⟩ j) = ∑ x : Fin 256, rowAt I (I.ft (ix24 b)) x * (show EReal from I.w1 (ix2 ⟨256 + x.val, by omega⟩ j)) + (show EReal from I.b1 (ix2 0 j)) := by
  obtain ⟨f, g, t0, rfl⟩ := h
  have ew := View.write_emb_of_mem (v := ((Memref.whole cc0_scratch4 : Memref sig .tc .vmem S32x256 .f32).access (Rect.unit (s := S32x256) ![0, 0] S32x256.size inb_S32x256_S32x256_0_0))) t0
    (k0_pay125 (F := Ideal) (tRows c I f) (tScl c I g) (tIds c I)
    (((Memref.whole cc0_stg5_0 : Memref sig .tc .vmem S1024x256 .bf16).access (Rect.unit (s := S1024x256) ![256, 0] S256x256.size inb_S1024x256_S256x256_256_0)).read (Elt Ideal) I.w1)
    (((Memref.whole cc0_stg6_0 : Memref sig .tc .vmem S1x256 .f32).access (Rect.unit (s := S1x256) ![0, 0] S1x256.size inb_S1x256_S1x256_0_0)).read (Elt Ideal) I.b1)) (Finset.mem_univ (ix2 (⟨b.val, by omega⟩ : Fin 32) j))
  have ex : ((Memref.whole cc0_scratch4 : Memref sig .tc .vmem S32x256 .f32).access (Rect.unit (s := S32x256) ![0, 0] S32x256.size inb_S32x256_S32x256_0_0)).emb (ix2 (⟨b.val, by omega⟩ : Fin 32) j) = ix2 (⟨b.val, by omega⟩ : Fin 32) j := by
    funext a
    apply Fin.ext
    fin_cases a
    · show 0 + 1 * b.val = b.val; omega
    · show 0 + 1 * j.val = j.val; omega
  rw [ex] at ew
  refine ew.trans ((pay125_at _ _ _ _ _ _ _).trans ?_)
  refine congrArg₂ (· + ·) (Finset.sum_congr rfl fun x _ => congrArg₂ (· * ·) (tgtRow_at I hA f g b x) ?_) ?_
  · refine congrArg I.w1 ?_
    funext a; apply Fin.ext; fin_cases a
    · exact (by omega : 256 + 1 * x.val = 256 + x.val)
    · exact (by omega : 0 + 1 * j.val = j.val)
  · refine congrArg I.b1 ?_
    funext a; apply Fin.ext; fin_cases a
    · rfl
    · exact (by omega : 0 + 1 * j.val = j.val)

end Cert.KernelIdeal.Hand

end
-- ==== Proof.Inputs.lean ====
/-
  What the kernel is given, from the program's arguments: the padded layers, the ids in blocks, the table four rows to a word row.
-/
module

public import proofs.«01_k».proof.Proof.Run
public import proofs.«01_k».proof.Proof.Rows
public import Idealize.ShloMosaic.Lib.Pointwise
public import Idealize.ShloMosaic.Lib.StableHlo.ReadAt
public import Idealize.ShloMosaic.Lib.BitcastConvert

@[expose] public section

noncomputable section

namespace Cert.KernelIdeal.Hand

open Cert.KernelIdeal Cert.KernelIdeal.Gen
open Idealize.ShloMosaic Idealize.ShloMosaic.TcCoe Idealize.ShloMosaic.Tactic
open Cert.Din

variable (m : (ℓ : Loc nD τ sig) → Buf (Elt Ideal) ℓ) (c : Dev nD)
set_option maxHeartbeats 2000000

/-! ## What the host lines before the kernel leave -/

theorem V_v6 (a : Fin 1024) (j : Fin 256) : (V m c main_v6 : S1024x256.Idx → EReal) (ix2 a j)
    = if h : j.val < 200 then (show EReal from m ((c : Thread nD τ).loc main_arg5) (ix2 a ⟨j.val, h⟩)) else FloatOps.sitofp (F := Ideal) FTy.bf16 0#32 := by
  unfold V
  after_reads_at
theorem V_v8 (a : Fin 1) (j : Fin 256) : (V m c main_v8 : S1x256.Idx → EReal) (ix2 a j)
    = if h : j.val < 200 then (show EReal from m ((c : Thread nD τ).loc main_arg6) (ix1 ⟨j.val, h⟩)) else FloatOps.sitofp (F := Ideal) FTy.f32 0#32 := by
  unfold V
  after_reads_at
theorem V_v10 (a : Fin 1) (j : Fin 256) : (V m c main_v10 : S1x256.Idx → EReal) (ix2 a j)
    = if h : j.val < 200 then (show EReal from m ((c : Thread nD τ).loc main_arg7) (ix1 ⟨j.val, h⟩)) else FloatOps.sitofp (F := Ideal) FTy.f32 0#32 := by
  unfold V
  after_reads_at
theorem V_v11 (a : Fin 256) (j : Fin 128) : (V m c main_v11 : S256x128.Idx → EReal) (ix2 a j)
    = if h : a.val < 200 ∧ j.val < 80 then (show EReal from m ((c : Thread nD τ).loc main_arg8) (ix2 ⟨a.val, h.1⟩ ⟨j.val, h.2⟩)) else FloatOps.sitofp (F := Ideal) FTy.bf16 0#32 := by
  unfold V
  after_reads_at
theorem V_v13 (a : Fin 1) (j : Fin 128) : (V m c main_v13 : S1x128.Idx → EReal) (ix2 a j)
    = if h : j.val < 80 then (show EReal from m ((c : Thread nD τ).loc main_arg9) (ix1 ⟨j.val, h⟩)) else FloatOps.sitofp (F := Ideal) FTy.f32 0#32 := by
  unfold V
  after_reads_at
theorem V_v15 (a : Fin 1) (j : Fin 128) : (V m c main_v15 : S1x128.Idx → EReal) (ix2 a j)
    = if h : j.val < 80 then (show EReal from m ((c : Thread nD τ).loc main_arg10) (ix1 ⟨j.val, h⟩)) else FloatOps.sitofp (F := Ideal) FTy.f32 0#32 := by
  unfold V
  after_reads_at
theorem V_v17 (a : Fin 8) (j : Fin 128) : (V m c main_v17 : S8x128.Idx → EReal) (ix2 a j)
    = if h : a.val < 1 ∧ j.val < 80 then (show EReal from m ((c : Thread nD τ).loc main_arg11) (ix1 ⟨j.val, h.2⟩)) else FloatOps.sitofp (F := Ideal) FTy.bf16 0#32 := by
  unfold V
  after_reads_at
theorem V_v18 (a b : Fin 1) : (V m c main_v18 : S1x1.Idx → EReal) (ix2 a b) = m ((c : Thread nD τ).loc main_arg12) (ix1 0) := by
  unfold V
  after_reads_at
theorem V_v3 (b : Fin 24) (a : Fin 12) (j : Fin 128) : (V m c main_v3 : S24x12x128.Idx → BitVec 32) (ix3 b a j) = m ((c : Thread nD τ).loc main_arg2) (ix2 b ⟨a.val * 128 + j.val, by omega⟩) := by
  unfold V
  after_reads_at
theorem V_v5 (b : Fin 24) : (V m c main_v5 : S1x128.Idx → BitVec 32) (ix2 0 ⟨b.val, by omega⟩) = m ((c : Thread nD τ).loc main_arg4) (ix1 b) := by
  unfold V
  after_reads_at
theorem V_v2 (a : Fin 250000) (j : Fin 256) (q : ℕ) (hq : q < 32) : ((V m c main_v2 : S250000x256.Idx → BitVec 32) (ix2 a j)).getLsbD q
    = (show BitVec 8 from m ((c : Thread nD τ).loc main_arg0) (ix2 ⟨a.val * 4 + q / 8, by omega⟩ j)).getLsbD (q % 8) := by
  unfold V
  after_reads_at
  rw [Host.bitcastConvertWiden_getLsbD _ _ _ _ _ q hq]
  refine congrArg (fun z : BitVec 8 => z.getLsbD (q % 8)) ?_
  refine congrArg (m ((c : Thread nD τ).loc main_arg0)) ?_
  funext b
  fin_cases b <;> rfl

end Cert.KernelIdeal.Hand

end
-- ==== Proof.Bytes.lean ====
/-
  A byte of a word: the kernel shifts the byte that an id's last two bits name to the top of the word and back down with its sign.
-/
module

public import proofs.«01_k».proof.Proof.Value

@[expose] public section

noncomputable section

namespace Cert.KernelIdeal.Hand

open Idealize.ShloMosaic

theorem byte_of (w : BitVec 32) (x : BitVec 8) (k q : ℕ) (hk : k + 8 * q = 24) (h : ∀ i, i < 8 → w.getLsbD (8 * q + i) = x.getLsbD i) :
    (w <<< k).sshiftRight 24 = x.signExtend 32 := by
  apply BitVec.eq_of_getLsbD_eq
  intro i hi
  have e : ∀ i, i < 8 → (w <<< k).getLsbD (24 + i) = x.getLsbD i := by
    intro i hi
    rw [BitVec.getLsbD_shiftLeft, ← h i hi]
    have h1 : 24 + i - k = 8 * q + i := by omega
    rw [h1]
    simp [show 24 + i < 32 by omega, show ¬ (24 + i < k) by omega]
  have em : (w <<< k).msb = x.msb := by
    rw [BitVec.msb_eq_getLsbD_last, BitVec.msb_eq_getLsbD_last]
    exact e 7 (by omega)
  rw [BitVec.getLsbD_sshiftRight, BitVec.getLsbD_signExtend, em]
  by_cases h8 : i < 8
  · rw [if_pos (by omega), if_pos h8, e i h8]
    simp [hi]
  · rw [if_neg (by omega), if_neg h8]
    simp [hi]

theorem codeOf_byte (w v : BitVec 32) (x : BitVec 8) (h : ∀ i, i < 8 → w.getLsbD (8 * (v.toNat % 4) + i) = x.getLsbD i) : codeOf w v = x.signExtend 32 := by
  have ha : (v &&& 3#32).toNat = v.toNat % 4 := by
    rw [BitVec.toNat_and]
    exact Nat.and_two_pow_sub_one_eq_mod v.toNat 2
  have hc : ∀ q : ℕ, q < 4 → v.toNat % 4 = q → codeOf w v = x.signExtend 32 := by
    intro q hq hv
    have hv' : v &&& 3#32 = BitVec.ofNat 32 q := BitVec.eq_of_toNat_eq (by rw [ha, hv, BitVec.toNat_ofNat]; omega)
    have hs : codeOf w v = (w <<< (24 - 8 * q)).sshiftRight 24 := by
      show IntOp.shrsi ArithUnit.vector (IntOp.shli ArithUnit.vector w (IntOp.subi (24#32) (IntOp.shli ArithUnit.vector (v &&& 3#32) 3#32))) 24#32 = _
      rw [hv']
      interval_cases q <;> rfl
    rw [hs]
    exact byte_of w x _ q (by omega) (by rw [← hv]; exact h)
  exact hc _ (Nat.mod_lt _ (by decide)) rfl

end Cert.KernelIdeal.Hand

end
-- ==== Proof.Given.lean ====
/-
  The kernel's plain score, from the program's arguments: its row is the table's row, and its padded layers are the plain ones.
-/
module

public import proofs.«01_k».proof.Proof.Inputs
public import proofs.«01_k».proof.Proof.Bytes

@[expose] public section

noncomputable section

namespace Cert.KernelIdeal.Hand

open Cert.KernelIdeal Cert.KernelIdeal.Gen
open Idealize.ShloMosaic Idealize.ShloMosaic.TcCoe Idealize.ShloMosaic.Tactic
open Cert.Din

variable (m : (ℓ : Loc nD τ sig) → Buf (Elt Ideal) ℓ) (c : Dev nD)

/-- What the kernel is given. -/
abbrev given : Ins Ideal c := ins m c ⟨0, Nat.zero_lt_one⟩

theorem given_w1 (a : Fin 1024) (j : Fin 256) : (given m c).w1 (ix2 a j) = V m c main_v6 (ix2 a j) := by
  show iblk m c 5 ⟨0, Nat.zero_lt_one⟩ (ix2 a j : S1024x256.Idx) = _
  unfold iblk
  refine congrArg (V m c main_v6) ?_
  funext x; apply Fin.ext; fin_cases x
  · exact (by omega : 0 + 1 * a.val = a.val)
  · exact (by omega : 0 + 1 * j.val = j.val)
theorem given_b1 (a : Fin 1) (j : Fin 256) : (given m c).b1 (ix2 a j) = V m c main_v8 (ix2 a j) := by
  show iblk m c 6 ⟨0, Nat.zero_lt_one⟩ (ix2 a j : S1x256.Idx) = _
  unfold iblk
  refine congrArg (V m c main_v8) ?_
  funext x; apply Fin.ext; fin_cases x
  · exact (by omega : 0 + 1 * a.val = a.val)
  · exact (by omega : 0 + 1 * j.val = j.val)
theorem given_a1 (a : Fin 1) (j : Fin 256) : (given m c).a1 (ix2 a j) = V m c main_v10 (ix2 a j) := by
  show iblk m c 7 ⟨0, Nat.zero_lt_one⟩ (ix2 a j : S1x256.Idx) = _
  unfold iblk
  refine congrArg (V m c main_v10) ?_
  funext x; apply Fin.ext; fin_cases x
  · exact (by omega : 0 + 1 * a.val = a.val)
  · exact (by omega : 0 + 1 * j.val = j.val)
theorem given_w2 (a : Fin 256) (j : Fin 128) : (given m c).w2 (ix2 a j) = V m c main_v11 (ix2 a j) := by
  show iblk m c 8 ⟨0, Nat.zero_lt_one⟩ (ix2 a j : S256x128.Idx) = _
  unfold iblk
  refine congrArg (V m c main_v11) ?_
  funext x; apply Fin.ext; fin_cases x
  · exact (by omega : 0 + 1 * a.val = a.val)
  · exact (by omega : 0 + 1 * j.val = j.val)
theorem given_b2 (a : Fin 1) (j : Fin 128) : (given m c).b2 (ix2 a j) = V m c main_v13 (ix2 a j) := by
  show iblk m c 9 ⟨0, Nat.zero_lt_one⟩ (ix2 a j : S1x128.Idx) = _
  unfold iblk
  refine congrArg (V m c main_v13) ?_
  funext x; apply Fin.ext; fin_cases x
  · exact (by omega : 0 + 1 * a.val = a.val)
  · exact (by omega : 0 + 1 * j.val = j.val)
theorem given_a2 (a : Fin 1) (j : Fin 128) : (given m c).a2 (ix2 a j) = V m c main_v15 (ix2 a j) := by
  show iblk m c 10 ⟨0, Nat.zero_lt_one⟩ (ix2 a j : S1x128.Idx) = _
  unfold iblk
  refine congrArg (V m c main_v15) ?_
  funext x; apply Fin.ext; fin_cases x
  · exact (by omega : 0 + 1 * a.val = a.val)
  · exact (by omega : 0 + 1 * j.val = j.val)
theorem given_w3 (a : Fin 8) (j : Fin 128) : (given m c).w3 (ix2 a j) = V m c main_v17 (ix2 a j) := by
  show iblk m c 11 ⟨0, Nat.zero_lt_one⟩ (ix2 a j : S8x128.Idx) = _
  unfold iblk
  refine congrArg (V m c main_v17) ?_
  funext x; apply Fin.ext; fin_cases x
  · exact (by omega : 0 + 1 * a.val = a.val)
  · exact (by omega : 0 + 1 * j.val = j.val)
theorem given_b3 (a j : Fin 1) : (given m c).b3 (ix2 a j) = V m c main_v18 (ix2 a j) := by
  show iblk m c 12 ⟨0, Nat.zero_lt_one⟩ (ix2 a j : S1x1.Idx) = _
  unfold iblk
  refine congrArg (V m c main_v18) ?_
  funext x; apply Fin.ext; fin_cases x
  · exact (by omega : 0 + 1 * a.val = a.val)
  · exact (by omega : 0 + 1 * j.val = j.val)
theorem given_idb (b : Fin 24) (a : Fin 12) (j : Fin 128) : (given m c).idb (ix3 b a j) = V m c main_v3 (ix3 b a j) := by
  show iblk m c 3 ⟨0, Nat.zero_lt_one⟩ (ix3 b a j : S24x12x128.Idx) = _
  unfold iblk
  refine congrArg (V m c main_v3) ?_
  funext x; apply Fin.ext; fin_cases x
  · exact (by omega : 0 + 1 * b.val = b.val)
  · exact (by omega : 0 + 1 * a.val = a.val)
  · exact (by omega : 0 + 1 * j.val = j.val)
theorem given_tg (a : Fin 1) (j : Fin 128) : (given m c).tg (ix2 a j) = V m c main_v5 (ix2 a j) := by
  show iblk m c 4 ⟨0, Nat.zero_lt_one⟩ (ix2 a j : S1x128.Idx) = _
  unfold iblk
  refine congrArg (V m c main_v5) ?_
  funext x; apply Fin.ext; fin_cases x
  · exact (by omega : 0 + 1 * a.val = a.val)
  · exact (by omega : 0 + 1 * j.val = j.val)
theorem given_fi (b : Fin 24) (p : Fin 1536) : (given m c).fi (idIx b p) = m ((c : Thread nD τ).loc main_arg2) (ix2 b p) := by
  show iblk m c 1 ⟨0, Nat.zero_lt_one⟩ (idIx b p) = _
  unfold iblk
  refine Eq.trans ?_ (congrFun (V_main_arg2 m c) (ix2 b p))
  refine congrArg (V m c main_arg2) ?_
  funext x; apply Fin.ext; fin_cases x
  · exact (by omega : 0 + 1 * b.val = b.val)
  · exact (by omega : 0 + 1 * p.val = p.val)
theorem given_ft (b : Fin 24) : (given m c).ft (ix24 b) = m ((c : Thread nD τ).loc main_arg4) (ix1 b) := by
  show iblk m c 2 ⟨0, Nat.zero_lt_one⟩ (ix24 b) = _
  unfold iblk
  refine Eq.trans ?_ (congrFun (V_main_arg4 m c) (ix1 b))
  refine congrArg (V m c main_arg4) ?_
  funext x; apply Fin.ext; fin_cases x
  exact (by omega : 0 + 1 * b.val = b.val)
theorem given_fs (p : ℕ) : (given m c).fs (sclAt p) = m ((c : Thread nD τ).loc main_arg1) (ix1 ⟨min p 999999, by omega⟩) := by
  refine Eq.trans ?_ (congrFun (V_main_arg1 m c) (ix1 ⟨min p 999999, by omega⟩))
  show copied (V m c main_arg1) (sclAt p) = _
  unfold copied
  refine congrArg (V m c main_arg1) ?_
  funext x; apply Fin.ext; fin_cases x
  rfl

theorem given_agree : Agree (given m c) where
  ids := fun b k r => by
    rw [given_idb, V_v3]
    unfold idAt
    rw [given_fi]
    refine congrArg (fun q : Fin 1536 => m ((c : Thread nD τ).loc main_arg2) (ix2 b q)) (Fin.ext ?_)
    show (2 * k.val + r.val / 128) * 128 + r.val % 128 = 256 * k.val + r.val
    omega
  tgts := fun b => by rw [given_tg, V_v5, given_ft]

/-- Entry `d` of the row that id `v` names: its code at its scale. -/
def tableRow (T : IVec S1000000x256 8) (S : S1000000.Idx → EReal) (v : BitVec 32) (d : Fin 256) : EReal :=
  FloatOps.sitofp (F := Ideal) FTy.f32 ((T (ix2 ⟨min v.toNat 999999, by omega⟩ d)).signExtend 32) * S (ix1 ⟨min v.toNat 999999, by omega⟩)

theorem given_row (v : BitVec 32) (h : v.toNat < 999936) (d : Fin 256) :
    rowAt (given m c) v d = tableRow (m ((c : Thread nD τ).loc main_arg0)) (m ((c : Thread nD τ).loc main_arg1)) v d := by
  have ew : wordAt (quart v) d = ix2 (quart v) d := by funext a; fin_cases a <;> rfl
  unfold rowAt tableRow
  rw [given_fs]
  refine congrArg (fun z : BitVec 32 => FloatOps.sitofp (F := Ideal) FTy.f32 z * (show EReal from m ((c : Thread nD τ).loc main_arg1) (ix1 ⟨min v.toNat 999999, by omega⟩))) ?_
  refine codeOf_byte _ _ _ fun i hi => ?_
  rw [ew]
  refine (V_v2 m c (quart v) d _ (by omega)).trans ?_
  have e2 : (8 * (v.toNat % 4) + i) % 8 = i := by omega
  rw [e2]
  refine congrArg (fun q : Fin 1000000 => (show BitVec 8 from m ((c : Thread nD τ).loc main_arg0) (ix2 q d)).getLsbD i) (Fin.ext ?_)
  show min (v.toNat / 4) 249999 * 4 + (8 * (v.toNat % 4) + i) / 8 = min v.toNat 999999
  omega

theorem sitofp_zero (φ : FTy) : FloatOps.sitofp (F := Ideal) φ 0#32 = (0 : EReal) := by
  show ((((0#32 : BitVec 32).toInt : ℝ)) : EReal) = 0
  simp

theorem given_score (h t : Fin 256 → EReal) : scoreOf (given m c) h t
    = layerThree (fun x => m ((c : Thread nD τ).loc main_arg11) (ix1 x)) (fun x => m ((c : Thread nD τ).loc main_arg10) (ix1 x)) (m ((c : Thread nD τ).loc main_arg12) (ix1 0))
    (layerTwo (fun j x => m ((c : Thread nD τ).loc main_arg8) (ix2 j x)) (fun j => m ((c : Thread nD τ).loc main_arg7) (ix1 j)) (fun x => m ((c : Thread nD τ).loc main_arg9) (ix1 x))
      (layerOne (fun x j => m ((c : Thread nD τ).loc main_arg5) (ix2 x j)) (fun j => m ((c : Thread nD τ).loc main_arg6) (ix1 j)) h t)) := by
  unfold scoreOf zOne
  rw [given_b3, V_v18]
  refine pad_score (W := fun x j => (given m c).w1 (ix2 x j)) (B := fun j => (given m c).b1 (ix2 0 j)) (A := fun j => (given m c).a1 (ix2 0 j)) (U := fun j x => (given m c).w2 (ix2 j x))
    (D := fun x => (given m c).b2 (ix2 0 x)) (C := fun x => (given m c).a2 (ix2 0 x)) (X := fun x => (given m c).w3 (ix2 0 x)) ?_ ?_ ?_ ?_ ?_ ?_ ?_ ?_ ?_ h t
  · intro x j
    exact (given_w1 m c _ _).trans ((V_v6 m c _ _).trans (dif_pos j.isLt))
  · intro j
    exact (given_b1 m c _ _).trans ((V_v8 m c _ _).trans (dif_pos j.isLt))
  · intro j
    exact (given_a1 m c _ _).trans ((V_v10 m c _ _).trans (dif_pos j.isLt))
  · intro j x
    exact (given_w2 m c _ _).trans ((V_v11 m c _ _).trans (dif_pos ⟨j.isLt, x.isLt⟩))
  · intro j x hj
    exact (given_w2 m c _ _).trans ((V_v11 m c _ _).trans ((dif_neg fun e => absurd e.1 (Nat.not_lt.mpr hj)).trans (sitofp_zero _)))
  · intro x
    exact (given_b2 m c _ _).trans ((V_v13 m c _ _).trans (dif_pos x.isLt))
  · intro x
    exact (given_a2 m c _ _).trans ((V_v15 m c _ _).trans (dif_pos x.isLt))
  · intro x
    exact (given_w3 m c _ _).trans ((V_v17 m c _ _).trans (dif_pos ⟨Nat.zero_lt_one, x.isLt⟩))
  · intro x hx
    exact (given_w3 m c _ _).trans ((V_v17 m c _ _).trans ((dif_neg fun e => absurd e.2 (Nat.not_lt.mpr hx)).trans (sitofp_zero _)))

end Cert.KernelIdeal.Hand

end
-- ==== Proof.Scores.lean ====
/-
  The score at the end of the run: the plain score inside each list, zero past it.
-/
module

public import proofs.«01_k».proof.Proof.Rows
public import proofs.«01_k».proof.Proof.Launched

@[expose] public section

noncomputable section

namespace Cert.KernelIdeal.Hand

open Cert.KernelIdeal Cert.KernelIdeal.Gen
open Idealize.ShloMosaic Idealize.ShloMosaic.TcCoe Idealize.ShloMosaic.Tactic
open Cert.Din

variable {c : Dev nD}

/-- The score of position `p` of list `b`, from the row its id names and the row the list's target names. -/
def scoreAt (I : Ins Ideal c) (b : Fin 24) (p : Fin 1536) : EReal := scoreOf I (rowAt I (I.fi (idIx b p))) (rowAt I (I.ft (ix24 b)))

/-- After `i` turns the score is zero past every list, and right at every position of the blocks already done. -/
def ScoredTo (I : Ins Ideal c) (i : ℕ) (sc : ScoreBuf Ideal c) : Prop :=
  PastZero I.fl sc ∧ ∀ (b : Fin 24) (p : Fin 1536), (p.val : ℤ) < (lenAt I.fl b).toInt → pre (lenAt I.fl) b.val + p.val / 256 < i → sc (idIx b p) = scoreAt I b p

theorem done_start (I : Ins Ideal c) (s0 : ScoreBuf Ideal c) : ScoredTo I 0 (score0 c s0) :=
  ⟨pastZero_start _ _, fun _ _ _ h => absurd h (Nat.not_lt_zero _)⟩

/-- A position inside a list lies in one of the list's blocks. -/
theorem block_lt {v : BitVec 32} (hv : LenOk v) {p : ℕ} (h : (p : ℤ) < v.toInt) : p / 256 < nb v := by
  have h1 := nbW_toInt hv
  have hb := nbW_bounds hv
  rw [Int.tdiv_eq_ediv_of_nonneg (by omega), BitVec.toInt_eq_toNat_cond, if_pos (by omega)] at h1
  unfold nb
  have h2 : (v.toInt + 255) / 256 ≤ ((nbW v).toNat : ℤ) := h1 ▸ le_max_left _ _
  omega

theorem fin24_self (b : Fin 24) : fin24 b.val = b := Fin.ext (min_eq_left (by omega))

theorem pre_block {L : Fin 24 → BitVec 32} (b : Fin 24) : pre L (b.val + 1) = pre L b.val + nb (L b) := by
  show pre L b.val + nb (L (fin24 b.val)) = _
  rw [fin24_self]

theorem keeps_done (I : Ins Ideal c) (hI : InsOk c I) (hA : Agree I) (tf : TfBuf Ideal c) (tw : TwBuf Ideal c) (htf : TfOk c I tf) (htw : TwOk c I tw) :
    Keeps I tf tw (fun i sc _ => ScoredTo I i sc) := by
  intro i hi f g0 sc it h b k hp hk
  obtain ⟨hz, hd⟩ := h
  refine ⟨pastZero_turn I tf tw _ b hk _ _ sc hz, fun b' p hl hlt => ?_⟩
  have hk6 : (fin6 k).val = k := fin6_val hk
  obtain ⟨-, -, hpos, -⟩ := pos_facts (L := lenAt I.fl) hI.lens i
  rw [hp] at hpos
  obtain ⟨hpe, hkn⟩ := hpos b.isLt
  dsimp only at hpe hkn
  rw [fin24_self] at hkn
  unfold newScore
  by_cases hx : b' = b ∧ 256 * k ≤ p.val ∧ p.val < 256 * k + 256
  · obtain ⟨rfl, h1, h2⟩ := hx
    have hr : 256 * k + (⟨p.val - 256 * k, by omega⟩ : Fin 256).val = p.val := Nat.add_sub_cancel' h1
    have ew := View.write_emb_of_mem (v := ((Memref.whole cc0_stg14_0).access (Rect.unit (s := S24x1536) ![b'.val, 256 * (fin6 k).val] S1x256.size (inb_score b' (fin6 k))))) sc
      (scoreRow I tf tw (fin3 i) b' k (filled (gathered I.fw I.fi b' (fin6 k)) f (rowsOf (lenAt I.fl b') k)) (lineBuf I.fs I.fi b' (fin6 k) g0 (rowsOf (lenAt I.fl b') k))) (Finset.mem_univ (ixRow ⟨p.val - 256 * k, by omega⟩))
    have ex : ((Memref.whole cc0_stg14_0).access (Rect.unit (s := S24x1536) ![b'.val, 256 * (fin6 k).val] S1x256.size (inb_score b' (fin6 k)))).emb (ixRow ⟨p.val - 256 * k, by omega⟩) = idIx b' p := by
      funext a
      apply Fin.ext
      fin_cases a
      · show b'.val + 1 * 0 = b'.val; omega
      · show 256 * (fin6 k).val + 1 * (p.val - 256 * k) = p.val; omega
    rw [ex] at ew
    refine ew.trans ?_
    refine (scoreRow_at I hI hA b' hk ⟨p.val - 256 * k, by omega⟩ (by rw [hr]; exact hl) (fin3 i) f g0 tf tw (rowAt I (I.ft (ix24 b')))
      (fun d => tf_at I hA tf htf b' d) (fun j => tw_at I hA tw htw b' j)).trans ?_
    unfold scoreAt
    refine congrArg (fun v => scoreOf I (rowAt I v) (rowAt I (I.ft (ix24 b')))) ?_
    show I.fi (idIx b' ⟨256 * (fin6 k).val + (p.val - 256 * k), _⟩) = I.fi (idIx b' p)
    exact congrArg (fun q : Fin 1536 => I.fi (idIx b' q)) (Fin.ext (by show 256 * (fin6 k).val + (p.val - 256 * k) = p.val; omega))
  · rw [View.write_of_not_mem _ _ _ (by
      intro hm
      obtain ⟨y, -, hy⟩ := Finset.mem_map.1 hm
      have h0 : (y 0).val < 1 := (y 0).isLt
      have h1 : (y 1).val < 256 := (y 1).isLt
      have e0 : b.val + 1 * (y 0).val = b'.val := congrArg (fun z : S24x1536.Idx => (z 0).val) hy
      have e1 : 256 * (fin6 k).val + 1 * (y 1).val = p.val := congrArg (fun z : S24x1536.Idx => (z 1).val) hy
      exact hx ⟨Fin.ext (by omega), by omega, by omega⟩)]
    refine hd b' p hl ?_
    by_contra hn
    have he : pre (lenAt I.fl) b'.val + p.val / 256 = pre (lenAt I.fl) b.val + k := by omega
    have hbl := block_lt (hI.lens b') hl
    rcases lt_trichotomy b'.val b.val with hb | hb | hb
    · have hm := pre_mono (L := lenAt I.fl) (Nat.succ_le_of_lt hb)
      rw [Nat.succ_eq_add_one, pre_block] at hm
      omega
    · have hbb : b' = b := Fin.ext hb
      subst hbb
      exact hx ⟨rfl, by omega, by omega⟩
    · have hm := pre_mono (L := lenAt I.fl) (Nat.succ_le_of_lt hb)
      rw [Nat.succ_eq_add_one, pre_block] at hm
      omega

/-- What is said of the score at the end. -/
def Scored (I : Ins Ideal c) (sc : ScoreBuf Ideal c) : Prop :=
  ∀ (b : Fin 24) (p : Fin 1536), sc (idIx b p) = if (p.val : ℤ) < (lenAt I.fl b).toInt then scoreAt I b p else (zeroF : Ideal .f32)

theorem done_end (I : Ins Ideal c) (hI : InsOk c I) (sc : ScoreBuf Ideal c) (h : ScoredTo I (pre (lenAt I.fl) 24) sc) : Scored I sc := by
  intro b p
  by_cases hl : (p.val : ℤ) < (lenAt I.fl b).toInt
  · rw [if_pos hl]
    refine h.2 b p hl ?_
    have hbl := block_lt (hI.lens b) hl
    have hm := pre_mono (L := lenAt I.fl) (show b.val + 1 ≤ 24 from b.isLt)
    rw [pre_block] at hm
    omega
  · rw [if_neg hl]
    exact h.1 b p (by omega)

variable (m : (ℓ : Loc nD τ sig) → Buf (Elt Ideal) ℓ)

theorem kept_scored (hm : MemOk m c) (hA : Agree (ins m c ⟨0, Nat.zero_lt_one⟩)) : Kept m (Scored (ins m c ⟨0, Nat.zero_lt_one⟩)) :=
  ⟨fun i sc _ => ScoredTo (ins m c ⟨0, Nat.zero_lt_one⟩) i sc, fun s0 _ => done_start _ s0,
    fun tf tw htf htw => keeps_done _ (ins_ok m c _ hm) hA tf tw htf htw,
    fun i sc it hi h => done_end _ (ins_ok m c _ hm) sc (Eq.mp (congrArg (fun n : ℕ => ScoredTo (ins m c ⟨0, Nat.zero_lt_one⟩) n sc) hi) h)⟩

end Cert.KernelIdeal.Hand

end
-- ==== Proof.Result.lean ====
/-
  The score the kernel returns, as one array of the program's arguments.
-/
module

public import proofs.«01_k».proof.Proof.Given
public import proofs.«01_k».proof.Proof.Scores

@[expose] public section

noncomputable section

namespace Cert.KernelIdeal.Hand

open Cert.KernelIdeal Cert.KernelIdeal.Gen
open Idealize.ShloMosaic Idealize.ShloMosaic.TcCoe Idealize.ShloMosaic.Tactic
open Cert.Din

variable (m : (ℓ : Loc nD τ sig) → Buf (Elt Ideal) ℓ) (c : Dev nD)

/-- The score of position `p` of list `b` in plain layers. -/
def plainScore (b : Fin 24) (p : Fin 1536) : EReal :=
  layerThree (fun x => m ((c : Thread nD τ).loc main_arg11) (ix1 x)) (fun x => m ((c : Thread nD τ).loc main_arg10) (ix1 x)) (m ((c : Thread nD τ).loc main_arg12) (ix1 0))
    (layerTwo (fun j x => m ((c : Thread nD τ).loc main_arg8) (ix2 j x)) (fun j => m ((c : Thread nD τ).loc main_arg7) (ix1 j)) (fun x => m ((c : Thread nD τ).loc main_arg9) (ix1 x))
      (layerOne (fun x j => m ((c : Thread nD τ).loc main_arg5) (ix2 x j)) (fun j => m ((c : Thread nD τ).loc main_arg6) (ix1 j))
        (tableRow (m ((c : Thread nD τ).loc main_arg0)) (m ((c : Thread nD τ).loc main_arg1)) (m ((c : Thread nD τ).loc main_arg2) (ix2 b p)))
        (tableRow (m ((c : Thread nD τ).loc main_arg0)) (m ((c : Thread nD τ).loc main_arg1)) (m ((c : Thread nD τ).loc main_arg4) (ix1 b)))))

/-- The array of scores: the plain score inside each list, zero past it. -/
def scoreArr (x : S24x1536.Idx) : EReal :=
  if ((x 1).val : ℤ) < (show BitVec 32 from m ((c : Thread nD τ).loc main_arg3) (ix1 (x 0))).toInt then plainScore m c (x 0) (x 1) else 0

theorem score_plain (hm : MemOk m c) (b : Fin 24) (p : Fin 1536) : scoreAt (given m c) b p = plainScore m c b p := by
  have h1 : rowAt (given m c) ((given m c).fi (idIx b p)) = tableRow (m ((c : Thread nD τ).loc main_arg0)) (m ((c : Thread nD τ).loc main_arg1)) (m ((c : Thread nD τ).loc main_arg2) (ix2 b p)) := by
    funext d
    rw [given_fi]
    exact given_row m c _ (hm.ids _) d
  have h2 : rowAt (given m c) ((given m c).ft (ix24 b)) = tableRow (m ((c : Thread nD τ).loc main_arg0)) (m ((c : Thread nD τ).loc main_arg1)) (m ((c : Thread nD τ).loc main_arg4) (ix1 b)) := by
    funext d
    rw [given_ft]
    exact given_row m c _ (hm.tgts _) d
  unfold scoreAt
  rw [h1, h2, given_score]
  rfl

theorem scored_at (hm : MemOk m c) (sc : ScoreBuf Ideal c) (h : Scored (given m c) sc) (b : Fin 24) (p : Fin 1536) : sc (idIx b p) = scoreArr m c (idIx b p) := by
  have e24 : ix24 b = ix1 b := by funext a; fin_cases a; rfl
  have hl : lenAt (given m c).fl b = m ((c : Thread nD τ).loc main_arg3) (ix1 b) := (lenAt_ins m c b).trans (congrArg (m ((c : Thread nD τ).loc main_arg3)) e24)
  refine (h b p).trans ?_
  rw [hl, score_plain m c hm]
  exact congrArg (fun z : EReal => if (p.val : ℤ) < (show BitVec 32 from m ((c : Thread nD τ).loc main_arg3) (ix1 b)).toInt then plainScore m c b p else z) Ideal.ofBits_zero_f32

theorem scored_arr (hm : MemOk m c) (sc : ScoreBuf Ideal c) (h : Scored (given m c) sc) : sc = scoreArr m c := by
  funext x
  have ex : x = idIx (x 0) (x 1) := by funext a; fin_cases a <;> rfl
  exact (congrArg sc ex).trans ((scored_at m c hm sc h (x 0) (x 1)).trans (congrArg (scoreArr m c) ex).symm)

end Cert.KernelIdeal.Hand

end
-- ==== Proof.RefOps.lean ====
/-
  The reference's host operations in seven groups, one after another: the history's rows, the targets' rows, their difference and product,
  the features side by side, the first layer, the second layer, and the score.
-/
module

public import proofs.«01_k».proof.Proof.Gen.ReferenceIdeal
public import Idealize.ShloMosaic.Lib.StableHlo.Run

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The four features side by side. -/
def fn_main_v51 : (main_v19 : Ref sig .tc).ty.Contents (Elt F) → (main_v44 : Ref sig .tc).ty.Contents (Elt F) → (main_v47 : Ref sig .tc).ty.Contents (Elt F) → (main_v50 : Ref sig .tc).ty.Contents (Elt F) → (main_v51 : Ref sig .tc).ty.Contents (Elt F) :=
  (fun u0 u1 u2 u3 => (concatenate S24x1536x1024 2 [⟨S24x1536x256, (u0 : (⟨S24x1536x256, .bf16⟩ : BufTy).Contents (Elt F))⟩, ⟨S24x1536x256, (u1 : (⟨S24x1536x256, .bf16⟩ : BufTy).Contents (Elt F))⟩, ⟨S24x1536x256, (u2 : (⟨S24x1536x256, .bf16⟩ : BufTy).Contents (Elt F))⟩, ⟨S24x1536x256, (u3 : (⟨S24x1536x256, .bf16⟩ : BufTy).Contents (Elt F))⟩] concatenates_S24x1536x256_S24x1536x256_S24x1536x256_S24x1536x256_S24x1536x1024_d2 : (⟨S24x1536x1024, .bf16⟩ : BufTy).Contents (Elt F)))

/-- The history's rows: codes at their scales. -/
abbrev opsA : List (HloOp τ sig (Elt F)) :=
  [ nullary main_c (constantI S_ 32 0#32),
    unary main_c main_v0 (broadcastInDim S24x1536 ![] bcast_S_S24x1536 : (⟨S_, .i32⟩ : BufTy).Contents (Elt F) → (⟨S24x1536, .i32⟩ : BufTy).Contents (Elt F)),
    binary main_arg2 main_v0 main_v1 (cmpi .slt : (⟨S24x1536, .i32⟩ : BufTy).Contents (Elt F) → (⟨S24x1536, .i32⟩ : BufTy).Contents (Elt F) → (⟨S24x1536, .i1⟩ : BufTy).Contents (Elt F)),
    nullary main_c_0 (constantI S_ 32 1000000#32),
    unary main_c_0 main_v2 (broadcastInDim S24x1536 ![] bcast_S_S24x1536 : (⟨S_, .i32⟩ : BufTy).Contents (Elt F) → (⟨S24x1536, .i32⟩ : BufTy).Contents (Elt F)),
    binary main_arg2 main_v2 main_v3 (addi : (⟨S24x1536, .i32⟩ : BufTy).Contents (Elt F) → (⟨S24x1536, .i32⟩ : BufTy).Contents (Elt F) → (⟨S24x1536, .i32⟩ : BufTy).Contents (Elt F)),
    ternary main_v1 main_v3 main_arg2 main_v4 (select : (⟨S24x1536, .i1⟩ : BufTy).Contents (Elt F) → (⟨S24x1536, .i32⟩ : BufTy).Contents (Elt F) → (⟨S24x1536, .i32⟩ : BufTy).Contents (Elt F) → (⟨S24x1536, .i32⟩ : BufTy).Contents (Elt F)),
    unary main_v4 main_v5 (broadcastInDim S24x1536x1 ![0, 1] bcast_S24x1536_S24x1536x1_0_1 : (⟨S24x1536, .i32⟩ : BufTy).Contents (Elt F) → (⟨S24x1536x1, .i32⟩ : BufTy).Contents (Elt F)),
    binary main_arg0 main_v5 main_v6 ((fun x i => Host.gather gather_S1000000x256_S24x1536x1_S24x1536x256_2_0_n_n_0_2_1256 x i) : (⟨S1000000x256, .i8⟩ : BufTy).Contents (Elt F) → (⟨S24x1536x1, .i32⟩ : BufTy).Contents (Elt F) → (⟨S24x1536x256, .i8⟩ : BufTy).Contents (Elt F)),
    nullary main_c_1 (constantI S_ 32 0#32),
    unary main_c_1 main_v7 (broadcastInDim S24x1536 ![] bcast_S_S24x1536 : (⟨S_, .i32⟩ : BufTy).Contents (Elt F) → (⟨S24x1536, .i32⟩ : BufTy).Contents (Elt F)),
    binary main_arg2 main_v7 main_v8 (cmpi .slt : (⟨S24x1536, .i32⟩ : BufTy).Contents (Elt F) → (⟨S24x1536, .i32⟩ : BufTy).Contents (Elt F) → (⟨S24x1536, .i1⟩ : BufTy).Contents (Elt F)),
    nullary main_c_2 (constantI S_ 32 1000000#32),
    unary main_c_2 main_v9 (broadcastInDim S24x1536 ![] bcast_S_S24x1536 : (⟨S_, .i32⟩ : BufTy).Contents (Elt F) → (⟨S24x1536, .i32⟩ : BufTy).Contents (Elt F)),
    binary main_arg2 main_v9 main_v10 (addi : (⟨S24x1536, .i32⟩ : BufTy).Contents (Elt F) → (⟨S24x1536, .i32⟩ : BufTy).Contents (Elt F) → (⟨S24x1536, .i32⟩ : BufTy).Contents (Elt F)),
    ternary main_v8 main_v10 main_arg2 main_v11 (select : (⟨S24x1536, .i1⟩ : BufTy).Contents (Elt F) → (⟨S24x1536, .i32⟩ : BufTy).Contents (Elt F) → (⟨S24x1536, .i32⟩ : BufTy).Contents (Elt F) → (⟨S24x1536, .i32⟩ : BufTy).Contents (Elt F)),
    unary main_v11 main_v12 (broadcastInDim S24x1536x1 ![0, 1] bcast_S24x1536_S24x1536x1_0_1 : (⟨S24x1536, .i32⟩ : BufTy).Contents (Elt F) → (⟨S24x1536x1, .i32⟩ : BufTy).Contents (Elt F)),
    binary main_arg1 main_v12 main_v13 ((fun x i => Host.gather gather_S1000000_S24x1536x1_S24x1536_n_0_n_n_0_2_1 x i) : (⟨S1000000, .f32⟩ : BufTy).Contents (Elt F) → (⟨S24x1536x1, .i32⟩ : BufTy).Contents (Elt F) → (⟨S24x1536, .f32⟩ : BufTy).Contents (Elt F)),
    unary main_v13 main_v14 ((truncf .bf16 · bitsLt_bf16_f32) : (⟨S24x1536, .f32⟩ : BufTy).Contents (Elt F) → (⟨S24x1536, .bf16⟩ : BufTy).Contents (Elt F)),
    unary main_v6 main_v15 ((extsi 32 · natLt_8_32) : (⟨S24x1536x256, .i8⟩ : BufTy).Contents (Elt F) → (⟨S24x1536x256, .i32⟩ : BufTy).Contents (Elt F)),
    unary main_v15 main_v16 (sitofp .bf16 : (⟨S24x1536x256, .i32⟩ : BufTy).Contents (Elt F) → (⟨S24x1536x256, .bf16⟩ : BufTy).Contents (Elt F)),
    unary main_v14 main_v17 (broadcastInDim S24x1536x1 ![0, 1] bcast_S24x1536_S24x1536x1_0_1 : (⟨S24x1536, .bf16⟩ : BufTy).Contents (Elt F) → (⟨S24x1536x1, .bf16⟩ : BufTy).Contents (Elt F)),
    unary main_v17 main_v18 (broadcastInDim S24x1536x256 ![0, 1, 2] bcast_S24x1536x1_S24x1536x256_0_1_2 : (⟨S24x1536x1, .bf16⟩ : BufTy).Contents (Elt F) → (⟨S24x1536x256, .bf16⟩ : BufTy).Contents (Elt F)),
    binary main_v16 main_v18 main_v19 (mulf : (⟨S24x1536x256, .bf16⟩ : BufTy).Contents (Elt F) → (⟨S24x1536x256, .bf16⟩ : BufTy).Contents (Elt F) → (⟨S24x1536x256, .bf16⟩ : BufTy).Contents (Elt F)) ]

/-- The targets' rows. -/
abbrev opsB : List (HloOp τ sig (Elt F)) :=
  [ nullary main_c_3 (constantI S_ 32 0#32),
    unary main_c_3 main_v20 (broadcastInDim S24 ![] bcast_S_S24 : (⟨S_, .i32⟩ : BufTy).Contents (Elt F) → (⟨S24, .i32⟩ : BufTy).Contents (Elt F)),
    binary main_arg4 main_v20 main_v21 (cmpi .slt : (⟨S24, .i32⟩ : BufTy).Contents (Elt F) → (⟨S24, .i32⟩ : BufTy).Contents (Elt F) → (⟨S24, .i1⟩ : BufTy).Contents (Elt F)),
    nullary main_c_4 (constantI S_ 32 1000000#32),
    unary main_c_4 main_v22 (broadcastInDim S24 ![] bcast_S_S24 : (⟨S_, .i32⟩ : BufTy).Contents (Elt F) → (⟨S24, .i32⟩ : BufTy).Contents (Elt F)),
    binary main_arg4 main_v22 main_v23 (addi : (⟨S24, .i32⟩ : BufTy).Contents (Elt F) → (⟨S24, .i32⟩ : BufTy).Contents (Elt F) → (⟨S24, .i32⟩ : BufTy).Contents (Elt F)),
    ternary main_v21 main_v23 main_arg4 main_v24 (select : (⟨S24, .i1⟩ : BufTy).Contents (Elt F) → (⟨S24, .i32⟩ : BufTy).Contents (Elt F) → (⟨S24, .i32⟩ : BufTy).Contents (Elt F) → (⟨S24, .i32⟩ : BufTy).Contents (Elt F)),
    unary main_v24 main_v25 (broadcastInDim S24x1 ![0] bcast_S24_S24x1_0 : (⟨S24, .i32⟩ : BufTy).Contents (Elt F) → (⟨S24x1, .i32⟩ : BufTy).Contents (Elt F)),
    binary main_arg0 main_v25 main_v26 ((fun x i => Host.gather gather_S1000000x256_S24x1_S24x256_1_0_n_n_0_1_1256 x i) : (⟨S1000000x256, .i8⟩ : BufTy).Contents (Elt F) → (⟨S24x1, .i32⟩ : BufTy).Contents (Elt F) → (⟨S24x256, .i8⟩ : BufTy).Contents (Elt F)),
    nullary main_c_5 (constantI S_ 32 0#32),
    unary main_c_5 main_v27 (broadcastInDim S24 ![] bcast_S_S24 : (⟨S_, .i32⟩ : BufTy).Contents (Elt F) → (⟨S24, .i32⟩ : BufTy).Contents (Elt F)),
    binary main_arg4 main_v27 main_v28 (cmpi .slt : (⟨S24, .i32⟩ : BufTy).Contents (Elt F) → (⟨S24, .i32⟩ : BufTy).Contents (Elt F) → (⟨S24, .i1⟩ : BufTy).Contents (Elt F)),
    nullary main_c_6 (constantI S_ 32 1000000#32),
    unary main_c_6 main_v29 (broadcastInDim S24 ![] bcast_S_S24 : (⟨S_, .i32⟩ : BufTy).Contents (Elt F) → (⟨S24, .i32⟩ : BufTy).Contents (Elt F)),
    binary main_arg4 main_v29 main_v30 (addi : (⟨S24, .i32⟩ : BufTy).Contents (Elt F) → (⟨S24, .i32⟩ : BufTy).Contents (Elt F) → (⟨S24, .i32⟩ : BufTy).Contents (Elt F)),
    ternary main_v28 main_v30 main_arg4 main_v31 (select : (⟨S24, .i1⟩ : BufTy).Contents (Elt F) → (⟨S24, .i32⟩ : BufTy).Contents (Elt F) → (⟨S24, .i32⟩ : BufTy).Contents (Elt F) → (⟨S24, .i32⟩ : BufTy).Contents (Elt F)),
    unary main_v31 main_v32 (broadcastInDim S24x1 ![0] bcast_S24_S24x1_0 : (⟨S24, .i32⟩ : BufTy).Contents (Elt F) → (⟨S24x1, .i32⟩ : BufTy).Contents (Elt F)),
    binary main_arg1 main_v32 main_v33 ((fun x i => Host.gather gather_S1000000_S24x1_S24_n_0_n_n_0_1_1 x i) : (⟨S1000000, .f32⟩ : BufTy).Contents (Elt F) → (⟨S24x1, .i32⟩ : BufTy).Contents (Elt F) → (⟨S24, .f32⟩ : BufTy).Contents (Elt F)),
    unary main_v33 main_v34 ((truncf .bf16 · bitsLt_bf16_f32) : (⟨S24, .f32⟩ : BufTy).Contents (Elt F) → (⟨S24, .bf16⟩ : BufTy).Contents (Elt F)),
    unary main_v26 main_v35 ((extsi 32 · natLt_8_32) : (⟨S24x256, .i8⟩ : BufTy).Contents (Elt F) → (⟨S24x256, .i32⟩ : BufTy).Contents (Elt F)),
    unary main_v35 main_v36 (sitofp .bf16 : (⟨S24x256, .i32⟩ : BufTy).Contents (Elt F) → (⟨S24x256, .bf16⟩ : BufTy).Contents (Elt F)),
    unary main_v34 main_v37 (broadcastInDim S24x1 ![0] bcast_S24_S24x1_0 : (⟨S24, .bf16⟩ : BufTy).Contents (Elt F) → (⟨S24x1, .bf16⟩ : BufTy).Contents (Elt F)),
    unary main_v37 main_v38 (broadcastInDim S24x256 ![0, 1] bcast_S24x1_S24x256_0_1 : (⟨S24x1, .bf16⟩ : BufTy).Contents (Elt F) → (⟨S24x256, .bf16⟩ : BufTy).Contents (Elt F)),
    binary main_v36 main_v38 main_v39 (mulf : (⟨S24x256, .bf16⟩ : BufTy).Contents (Elt F) → (⟨S24x256, .bf16⟩ : BufTy).Contents (Elt F) → (⟨S24x256, .bf16⟩ : BufTy).Contents (Elt F)) ]

/-- Their difference and their product. -/
abbrev opsC : List (HloOp τ sig (Elt F)) :=
  [ unary main_v19 main_v40 ((extf .f32 · bitsLt_bf16_f32) : (⟨S24x1536x256, .bf16⟩ : BufTy).Contents (Elt F) → (⟨S24x1536x256, .f32⟩ : BufTy).Contents (Elt F)),
    unary main_v39 main_v41 ((extf .f32 · bitsLt_bf16_f32) : (⟨S24x256, .bf16⟩ : BufTy).Contents (Elt F) → (⟨S24x256, .f32⟩ : BufTy).Contents (Elt F)),
    unary main_v41 main_v42 (broadcastInDim S24x1x256 ![0, 2] bcast_S24x256_S24x1x256_0_2 : (⟨S24x256, .f32⟩ : BufTy).Contents (Elt F) → (⟨S24x1x256, .f32⟩ : BufTy).Contents (Elt F)),
    unary main_v39 main_v43 (broadcastInDim S24x1x256 ![0, 2] bcast_S24x256_S24x1x256_0_2 : (⟨S24x256, .bf16⟩ : BufTy).Contents (Elt F) → (⟨S24x1x256, .bf16⟩ : BufTy).Contents (Elt F)),
    unary main_v43 main_v44 (broadcastInDim S24x1536x256 ![0, 1, 2] bcast_S24x1x256_S24x1536x256_0_1_2 : (⟨S24x1x256, .bf16⟩ : BufTy).Contents (Elt F) → (⟨S24x1536x256, .bf16⟩ : BufTy).Contents (Elt F)),
    unary main_v42 main_v45 (broadcastInDim S24x1536x256 ![0, 1, 2] bcast_S24x1x256_S24x1536x256_0_1_2 : (⟨S24x1x256, .f32⟩ : BufTy).Contents (Elt F) → (⟨S24x1536x256, .f32⟩ : BufTy).Contents (Elt F)),
    binary main_v40 main_v45 main_v46 (subf : (⟨S24x1536x256, .f32⟩ : BufTy).Contents (Elt F) → (⟨S24x1536x256, .f32⟩ : BufTy).Contents (Elt F) → (⟨S24x1536x256, .f32⟩ : BufTy).Contents (Elt F)),
    unary main_v46 main_v47 ((truncf .bf16 · bitsLt_bf16_f32) : (⟨S24x1536x256, .f32⟩ : BufTy).Contents (Elt F) → (⟨S24x1536x256, .bf16⟩ : BufTy).Contents (Elt F)),
    unary main_v42 main_v48 (broadcastInDim S24x1536x256 ![0, 1, 2] bcast_S24x1x256_S24x1536x256_0_1_2 : (⟨S24x1x256, .f32⟩ : BufTy).Contents (Elt F) → (⟨S24x1536x256, .f32⟩ : BufTy).Contents (Elt F)),
    binary main_v40 main_v48 main_v49 (mulf : (⟨S24x1536x256, .f32⟩ : BufTy).Contents (Elt F) → (⟨S24x1536x256, .f32⟩ : BufTy).Contents (Elt F) → (⟨S24x1536x256, .f32⟩ : BufTy).Contents (Elt F)),
    unary main_v49 main_v50 ((truncf .bf16 · bitsLt_bf16_f32) : (⟨S24x1536x256, .f32⟩ : BufTy).Contents (Elt F) → (⟨S24x1536x256, .bf16⟩ : BufTy).Contents (Elt F)) ]

/-- The features side by side. -/
abbrev opsD : List (HloOp τ sig (Elt F)) :=
  [ nary ![main_v19, main_v44, main_v47, main_v50] main_v51 (fun u => fn_main_v51 (F := F) (u 0) (u 1) (u 2) (u 3)) ]

/-- The first layer before its rectifier. -/
abbrev opsE : List (HloOp τ sig (Elt F)) :=
  [ binary main_v51 main_arg5 main_v52 ((fun l r => Host.dotGeneral dot_S24x1536x1024_S1024x200_S24x1536x200_2_0_01_1_n_n none l r) : (⟨S24x1536x1024, .bf16⟩ : BufTy).Contents (Elt F) → (⟨S1024x200, .bf16⟩ : BufTy).Contents (Elt F) → (⟨S24x1536x200, .f32⟩ : BufTy).Contents (Elt F)),
    unary main_arg6 main_v53 (broadcastInDim S1x1x200 ![2] bcast_S200_S1x1x200_2 : (⟨S200, .f32⟩ : BufTy).Contents (Elt F) → (⟨S1x1x200, .f32⟩ : BufTy).Contents (Elt F)),
    unary main_v53 main_v54 (broadcastInDim S24x1536x200 ![0, 1, 2] bcast_S1x1x200_S24x1536x200_0_1_2 : (⟨S1x1x200, .f32⟩ : BufTy).Contents (Elt F) → (⟨S24x1536x200, .f32⟩ : BufTy).Contents (Elt F)),
    binary main_v52 main_v54 main_v55 (addf : (⟨S24x1536x200, .f32⟩ : BufTy).Contents (Elt F) → (⟨S24x1536x200, .f32⟩ : BufTy).Contents (Elt F) → (⟨S24x1536x200, .f32⟩ : BufTy).Contents (Elt F)) ]

/-- The second layer before its rectifier. -/
abbrev opsF : List (HloOp τ sig (Elt F)) :=
  [ nullary main_cst (constant S_ .f32 0x00000000#32),
    unary main_cst main_v56 (broadcastInDim S24x1536x200 ![] bcast_S_S24x1536x200 : (⟨S_, .f32⟩ : BufTy).Contents (Elt F) → (⟨S24x1536x200, .f32⟩ : BufTy).Contents (Elt F)),
    binary main_v55 main_v56 main_v57 (cmpf .oge : (⟨S24x1536x200, .f32⟩ : BufTy).Contents (Elt F) → (⟨S24x1536x200, .f32⟩ : BufTy).Contents (Elt F) → (⟨S24x1536x200, .i1⟩ : BufTy).Contents (Elt F)),
    unary main_arg7 main_v58 (broadcastInDim S1x1x200 ![2] bcast_S200_S1x1x200_2 : (⟨S200, .f32⟩ : BufTy).Contents (Elt F) → (⟨S1x1x200, .f32⟩ : BufTy).Contents (Elt F)),
    unary main_v58 main_v59 (broadcastInDim S24x1536x200 ![0, 1, 2] bcast_S1x1x200_S24x1536x200_0_1_2 : (⟨S1x1x200, .f32⟩ : BufTy).Contents (Elt F) → (⟨S24x1536x200, .f32⟩ : BufTy).Contents (Elt F)),
    binary main_v59 main_v55 main_v60 (mulf : (⟨S24x1536x200, .f32⟩ : BufTy).Contents (Elt F) → (⟨S24x1536x200, .f32⟩ : BufTy).Contents (Elt F) → (⟨S24x1536x200, .f32⟩ : BufTy).Contents (Elt F)),
    TRef.ternary (TRef.of (T := ⟨S24x1536x200, .i1⟩) main_v57) (TRef.of (T := ⟨S24x1536x200, .f32⟩) main_v55) (TRef.of (T := ⟨S24x1536x200, .f32⟩) main_v60) (TRef.of (T := ⟨S24x1536x200, .f32⟩) main_v61) select,
    unary main_v61 main_v62 ((truncf .bf16 · bitsLt_bf16_f32) : (⟨S24x1536x200, .f32⟩ : BufTy).Contents (Elt F) → (⟨S24x1536x200, .bf16⟩ : BufTy).Contents (Elt F)),
    binary main_v62 main_arg8 main_v63 ((fun l r => Host.dotGeneral dot_S24x1536x200_S200x80_S24x1536x80_2_0_01_1_n_n none l r) : (⟨S24x1536x200, .bf16⟩ : BufTy).Contents (Elt F) → (⟨S200x80, .bf16⟩ : BufTy).Contents (Elt F) → (⟨S24x1536x80, .f32⟩ : BufTy).Contents (Elt F)),
    unary main_arg9 main_v64 (broadcastInDim S1x1x80 ![2] bcast_S80_S1x1x80_2 : (⟨S80, .f32⟩ : BufTy).Contents (Elt F) → (⟨S1x1x80, .f32⟩ : BufTy).Contents (Elt F)),
    unary main_v64 main_v65 (broadcastInDim S24x1536x80 ![0, 1, 2] bcast_S1x1x80_S24x1536x80_0_1_2 : (⟨S1x1x80, .f32⟩ : BufTy).Contents (Elt F) → (⟨S24x1536x80, .f32⟩ : BufTy).Contents (Elt F)),
    binary main_v63 main_v65 main_v66 (addf : (⟨S24x1536x80, .f32⟩ : BufTy).Contents (Elt F) → (⟨S24x1536x80, .f32⟩ : BufTy).Contents (Elt F) → (⟨S24x1536x80, .f32⟩ : BufTy).Contents (Elt F)) ]

/-- The score. -/
abbrev opsG : List (HloOp τ sig (Elt F)) :=
  [ nullary main_cst_7 (constant S_ .f32 0x00000000#32),
    unary main_cst_7 main_v67 (broadcastInDim S24x1536x80 ![] bcast_S_S24x1536x80 : (⟨S_, .f32⟩ : BufTy).Contents (Elt F) → (⟨S24x1536x80, .f32⟩ : BufTy).Contents (Elt F)),
    binary main_v66 main_v67 main_v68 (cmpf .oge : (⟨S24x1536x80, .f32⟩ : BufTy).Contents (Elt F) → (⟨S24x1536x80, .f32⟩ : BufTy).Contents (Elt F) → (⟨S24x1536x80, .i1⟩ : BufTy).Contents (Elt F)),
    unary main_arg10 main_v69 (broadcastInDim S1x1x80 ![2] bcast_S80_S1x1x80_2 : (⟨S80, .f32⟩ : BufTy).Contents (Elt F) → (⟨S1x1x80, .f32⟩ : BufTy).Contents (Elt F)),
    unary main_v69 main_v70 (broadcastInDim S24x1536x80 ![0, 1, 2] bcast_S1x1x80_S24x1536x80_0_1_2 : (⟨S1x1x80, .f32⟩ : BufTy).Contents (Elt F) → (⟨S24x1536x80, .f32⟩ : BufTy).Contents (Elt F)),
    binary main_v70 main_v66 main_v71 (mulf : (⟨S24x1536x80, .f32⟩ : BufTy).Contents (Elt F) → (⟨S24x1536x80, .f32⟩ : BufTy).Contents (Elt F) → (⟨S24x1536x80, .f32⟩ : BufTy).Contents (Elt F)),
    TRef.ternary (TRef.of (T := ⟨S24x1536x80, .i1⟩) main_v68) (TRef.of (T := ⟨S24x1536x80, .f32⟩) main_v66) (TRef.of (T := ⟨S24x1536x80, .f32⟩) main_v71) (TRef.of (T := ⟨S24x1536x80, .f32⟩) main_v72) select,
    unary main_v72 main_v73 ((truncf .bf16 · bitsLt_bf16_f32) : (⟨S24x1536x80, .f32⟩ : BufTy).Contents (Elt F) → (⟨S24x1536x80, .bf16⟩ : BufTy).Contents (Elt F)),
    binary main_v73 main_arg11 main_v74 ((fun l r => Host.dotGeneral dot_S24x1536x80_S80_S24x1536_2_0_01_n_n_n none l r) : (⟨S24x1536x80, .bf16⟩ : BufTy).Contents (Elt F) → (⟨S80, .bf16⟩ : BufTy).Contents (Elt F) → (⟨S24x1536, .f32⟩ : BufTy).Contents (Elt F)),
    reshape main_arg12 main_v75 (rfl : (.f32 : EltTy) = .f32) shapeCasts_S1_S_,
    unary main_v75 main_v76 (broadcastInDim S24x1536 ![] bcast_S_S24x1536 : (⟨S_, .f32⟩ : BufTy).Contents (Elt F) → (⟨S24x1536, .f32⟩ : BufTy).Contents (Elt F)),
    binary main_v74 main_v76 main_v77 (addf : (⟨S24x1536, .f32⟩ : BufTy).Contents (Elt F) → (⟨S24x1536, .f32⟩ : BufTy).Contents (Elt F) → (⟨S24x1536, .f32⟩ : BufTy).Contents (Elt F)),
    nullary main_v78 (iotaInDim S1536 32 0),
    unary main_v78 main_v79 (broadcastInDim S1x1536 ![1] bcast_S1536_S1x1536_1 : (⟨S1536, .i32⟩ : BufTy).Contents (Elt F) → (⟨S1x1536, .i32⟩ : BufTy).Contents (Elt F)),
    unary main_arg3 main_v80 (broadcastInDim S24x1 ![0] bcast_S24_S24x1_0 : (⟨S24, .i32⟩ : BufTy).Contents (Elt F) → (⟨S24x1, .i32⟩ : BufTy).Contents (Elt F)),
    unary main_v79 main_v81 (broadcastInDim S24x1536 ![0, 1] bcast_S1x1536_S24x1536_0_1 : (⟨S1x1536, .i32⟩ : BufTy).Contents (Elt F) → (⟨S24x1536, .i32⟩ : BufTy).Contents (Elt F)),
    unary main_v80 main_v82 (broadcastInDim S24x1536 ![0, 1] bcast_S24x1_S24x1536_0_1 : (⟨S24x1, .i32⟩ : BufTy).Contents (Elt F) → (⟨S24x1536, .i32⟩ : BufTy).Contents (Elt F)),
    binary main_v81 main_v82 main_v83 (cmpi .slt : (⟨S24x1536, .i32⟩ : BufTy).Contents (Elt F) → (⟨S24x1536, .i32⟩ : BufTy).Contents (Elt F) → (⟨S24x1536, .i1⟩ : BufTy).Contents (Elt F)),
    nullary main_cst_8 (constant S_ .f32 0x00000000#32),
    TRef.unary (TRef.of (T := ⟨S_, .f32⟩) main_cst_8) (TRef.of (T := ⟨S_, .f32⟩) main_call2_v0) id,
    TRef.unary (TRef.of (T := ⟨S_, .f32⟩) main_call2_v0) (TRef.of (T := ⟨S24x1536, .f32⟩) main_call2_v1) (broadcastInDim S24x1536 ![] bcast_S_S24x1536),
    TRef.ternary (TRef.of (T := ⟨S24x1536, .i1⟩) main_v83) (TRef.of (T := ⟨S24x1536, .f32⟩) main_v77) (TRef.of (T := ⟨S24x1536, .f32⟩) main_call2_v1) (TRef.of (T := ⟨S24x1536, .f32⟩) main_v84) select ]

/-- All of them. -/
abbrev ops : List (HloOp τ sig (Elt F)) := opsA ++ (opsB ++ (opsC ++ (opsD ++ (opsE ++ (opsF ++ opsG)))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., unary_bufs_sub .., unary_bufs_sub .., binary_bufs_sub .., unary_bufs_sub .., nary_bufs_sub .., binary_bufs_sub .., unary_bufs_sub .., unary_bufs_sub .., binary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., unary_bufs_sub .., unary_bufs_sub .., binary_bufs_sub .., ternary_bufs_sub .., unary_bufs_sub .., binary_bufs_sub .., reshape_bufs_sub .., unary_bufs_sub .., binary_bufs_sub .., nullary_bufs_sub .., unary_bufs_sub .., unary_bufs_sub .., unary_bufs_sub .., unary_bufs_sub .., binary_bufs_sub .., nullary_bufs_sub .., unary_bufs_sub .., unary_bufs_sub .., ternary_bufs_sub ..⟩

end Cert.ReferenceIdeal.Hand

end
-- ==== Proof.RefRead.lean ====
/-
  What the reference computes: its score at a position, from its arguments, as the plain layers of the rows that its ids name.
-/
module

public import proofs.«01_k».proof.Proof.RefOps
public import proofs.«01_k».proof.Proof.Plain
public import Idealize.ShloMosaic.Lib.Pointwise
public import Idealize.ShloMosaic.Lib.StableHlo.ReadAt
public import Idealize.ShloMosaic.Lib.Pipeline.Frame
public import Idealize.ShloMosaic.Lib.Routing.OpsSearch
public import Idealize.ShloMosaic.Lib.ValueIdxCore

@[expose] public section

noncomputable section

namespace Cert.ReferenceIdeal.Hand

open Cert.ReferenceIdeal Cert.ReferenceIdeal.Gen
open Idealize.ShloMosaic Idealize.ShloMosaic.TcCoe Idealize.ShloMosaic.Tactic
open Cert.Din

/-- Entry `d` of the row that id `v` names: its code at its scale. -/
def rowOf (T : IVec S1000000x256 8) (S : S1000000.Idx → EReal) (v : BitVec 32) (d : Fin 256) : EReal :=
  FloatOps.sitofp (F := Ideal) FTy.f32 ((T (ix2 ⟨min v.toNat 999999, by omega⟩ d)).signExtend 32) * S (ix1 ⟨min v.toNat 999999, by omega⟩)

/-! ## The gathers -/

theorem toInt_small {v : BitVec 32} (h : v.toNat < 999936) : v.toInt.toNat = v.toNat := by
  rw [BitVec.toInt_eq_toNat_cond, if_pos (by omega)]; rfl

theorem rows_at {α : Type} (x : S1000000x256.Idx → α) (idx : IVec S24x1536x1 32) (b : Fin 24) (p : Fin 1536) (d : Fin 256) :
    Host.gather gather_S1000000x256_S24x1536x1_S24x1536x256_2_0_n_n_0_2_1256 x idx (ix3 b p d) = x (ix2 ⟨min (idx (ix3 b p 0)).toInt.toNat 999999, by omega⟩ d) := by
  unfold Host.gather
  refine congrArg x (funext fun a => Fin.ext ?_)
  match a with
  | ⟨0, _⟩ =>
    show (gather_S1000000x256_S24x1536x1_S24x1536x256_2_0_n_n_0_2_1256).start (ix3 b p d) idx 0 + (gather_S1000000x256_S24x1536x1_S24x1536x256_2_0_n_n_0_2_1256).batchCoord (ix3 b p d) 0 + (gather_S1000000x256_S24x1536x1_S24x1536x256_2_0_n_n_0_2_1256).offCoord (ix3 b p d) 0 = _
    rw [GatherDims.batchCoord_eq_zero _ _ _ List.not_mem_nil, GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S1000000x256_S24x1536x1_S24x1536x256_2_0_n_n_0_2_1256).startIndexMap from List.mem_singleton.mpr rfl)]
    have hsi : (gather_S1000000x256_S24x1536x1_S24x1536x256_2_0_n_n_0_2_1256).siIdx (ix3 b p d) ⟨List.idxOf (0 : Fin 2) (gather_S1000000x256_S24x1536x1_S24x1536x256_2_0_n_n_0_2_1256).startIndexMap,
        List.idxOf_lt_length_iff.2 (List.mem_singleton.mpr rfl)⟩ = ix3 b p 0 := by
      funext e; refine Fin.ext ?_
      match e with
      | ⟨0, _⟩ => rfl
      | ⟨1, _⟩ => rfl
      | ⟨2, _⟩ => rfl
    rw [hsi]
    rfl
  | ⟨1, _⟩ =>
    show (gather_S1000000x256_S24x1536x1_S24x1536x256_2_0_n_n_0_2_1256).start (ix3 b p d) idx 1 + (gather_S1000000x256_S24x1536x1_S24x1536x256_2_0_n_n_0_2_1256).batchCoord (ix3 b p d) 1 + (gather_S1000000x256_S24x1536x1_S24x1536x256_2_0_n_n_0_2_1256).offCoord (ix3 b p d) 1 = d.val
    rw [GatherDims.batchCoord_eq_zero _ _ _ List.not_mem_nil, Nat.add_zero]
    unfold GatherDims.start
    rw [dif_neg (show (1 : Fin 2) ∉ (gather_S1000000x256_S24x1536x1_S24x1536x256_2_0_n_n_0_2_1256).startIndexMap from fun h => by have := List.mem_singleton.mp h; exact absurd this (by decide)), Nat.zero_add]
    rfl

theorem scl_at {α : Type} (x : S1000000.Idx → α) (idx : IVec S24x1536x1 32) (b : Fin 24) (p : Fin 1536) :
    Host.gather gather_S1000000_S24x1536x1_S24x1536_n_0_n_n_0_2_1 x idx (ix2 b p) = x (ix1 ⟨min (idx (ix3 b p 0)).toInt.toNat 999999, by omega⟩) := by
  refine (ValueIdx.gather_take_apply (N := 1000000) (R := 24) (C := 1536) (by decide) gather_S1000000_S24x1536x1_S24x1536_n_0_n_n_0_2_1_wf x idx (ix2 b p)).trans ?_
  have e : ValueIdx.takeIdx (R := 24) (C := 1536) (ix2 b p) = ix3 b p 0 := by
    funext a; apply Fin.ext; fin_cases a <;> rfl
  exact congrArg (fun q : Fin 1000000 => x (ix1 q)) (Fin.ext (by show min (idx _).toInt.toNat (1000000 - 1) = _; rw [e]))

theorem rows_of {α : Type} (x : S1000000x256.Idx → α) (idx : IVec S24x1536x1 32) (b : Fin 24) (p : Fin 1536) (d : Fin 256) (v : BitVec 32) (hv : idx (ix3 b p 0) = v) (h : v.toNat < 999936) :
    Host.gather gather_S1000000x256_S24x1536x1_S24x1536x256_2_0_n_n_0_2_1256 x idx (ix3 b p d) = x (ix2 ⟨min v.toNat 999999, by omega⟩ d) := by
  rw [rows_at]
  exact congrArg (fun q : Fin 1000000 => x (ix2 q d)) (Fin.ext (by show min (idx (ix3 b p 0)).toInt.toNat 999999 = _; rw [hv, toInt_small h]))

theorem scl_of {α : Type} (x : S1000000.Idx → α) (idx : IVec S24x1536x1 32) (b : Fin 24) (p : Fin 1536) (v : BitVec 32) (hv : idx (ix3 b p 0) = v) (h : v.toNat < 999936) :
    Host.gather gather_S1000000_S24x1536x1_S24x1536_n_0_n_n_0_2_1 x idx (ix2 b p) = x (ix1 ⟨min v.toNat 999999, by omega⟩) := by
  rw [scl_at]
  exact congrArg (fun q : Fin 1000000 => x (ix1 q)) (Fin.ext (by show min (idx (ix3 b p 0)).toInt.toNat 999999 = _; rw [hv, toInt_small h]))

theorem ofNat_small {v : BitVec 32} : v = BitVec.ofNat 32 v.toNat := by rw [BitVec.ofNat_toNat, BitVec.setWidth_eq]

theorem tgt_rows_at {α : Type} (x : S1000000x256.Idx → α) (idx : IVec S24x1 32) (b : Fin 24) (d : Fin 256) (v : BitVec 32) (hv : idx (ix2 b 0) = v) (h : v.toNat < 999936) :
    Host.gather gather_S1000000x256_S24x1_S24x256_1_0_n_n_0_1_1256 x idx (ix2 b d) = x (ix2 ⟨min v.toNat 999999, by omega⟩ d) := by
  have e : (⟨min v.toNat 999999, by omega⟩ : Fin 1000000) = ⟨v.toNat, by omega⟩ := Fin.ext (min_eq_left (by omega))
  rw [e]
  exact Idealize.ShloMosaic.Routing.gather_row (nb := 1000000) (B := 256) (n := 24) _ rfl rfl rfl rfl rfl x idx b d ⟨v.toNat, by omega⟩ (hv.trans ofNat_small) (by decide)

theorem tgt_scl_at {α : Type} (x : S1000000.Idx → α) (idx : IVec S24x1 32) (b : Fin 24) (v : BitVec 32) (hv : idx (ix2 b 0) = v) (h : v.toNat < 999936) :
    Host.gather gather_S1000000_S24x1_S24_n_0_n_n_0_1_1 x idx (ix1 b) = x (ix1 ⟨min v.toNat 999999, by omega⟩) := by
  have e : (⟨min v.toNat 999999, by omega⟩ : Fin 1000000) = ⟨v.toNat, by omega⟩ := Fin.ext (min_eq_left (by omega))
  rw [e]
  exact Idealize.ShloMosaic.Routing.take_ap (N := 1000000) (n := 24) _ rfl rfl rfl rfl x idx b (by omega) (by omega) (hv.trans ofNat_small)

/-- An id that is not negative is looked up as it stands. -/
theorem wrap_id {v : BitVec 32} (h : v.toNat < 999936) (x : BitVec 32) : Scalar.select (IntOp.cmpi CmpIPredicate.slt v 0#32) x v = v := by
  have e : IntOp.cmpi CmpIPredicate.slt v 0#32 = 0#1 := by
    show BitVec.ofBool (BitVec.slt v 0#32) = 0#1
    rw [BitVec.slt_eq_decide, decide_eq_false (by rw [BitVec.toInt_eq_toNat_cond, if_pos (by omega)]; simp)]
    rfl
  rw [e]; rfl

variable (V : Valuation τ sig (Elt Ideal))

set_option maxHeartbeats 2000000

theorem readA (b : Fin 24) (p : Fin 1536) (d : Fin 256) (h : (show BitVec 32 from V main_arg2 (ix2 b p)).toNat < 999936) :
    StableHlo.after opsA V main_v19 (ix3 b p d) = rowOf (V main_arg0) (V main_arg1) (V main_arg2 (ix2 b p)) d := by
  after_reads_at
  rw [rows_of _ _ _ _ _ (V main_arg2 (ix2 b p)) (by pointwise; exact wrap_id h _) h, scl_of _ _ _ _ (V main_arg2 (ix2 b p)) (by pointwise; exact wrap_id h _) h]
  rfl

theorem readB (b : Fin 24) (d : Fin 256) (h : (show BitVec 32 from V main_arg4 (ix1 b)).toNat < 999936) :
    StableHlo.after opsB V main_v39 (ix2 b d) = rowOf (V main_arg0) (V main_arg1) (V main_arg4 (ix1 b)) d := by
  after_reads_at
  rw [tgt_rows_at _ _ _ _ (V main_arg4 (ix1 b)) (by pointwise; exact wrap_id h _) h, tgt_scl_at _ _ _ (V main_arg4 (ix1 b)) (by pointwise; exact wrap_id h _) h]
  rfl

theorem readC44 (b : Fin 24) (p : Fin 1536) (d : Fin 256) : StableHlo.after opsC V main_v44 (ix3 b p d) = V main_v39 (ix2 b d) := by
  after_reads_at
theorem readC47 (b : Fin 24) (p : Fin 1536) (d : Fin 256) : StableHlo.after opsC V main_v47 (ix3 b p d) = (show EReal from V main_v19 (ix3 b p d)) - (show EReal from V main_v39 (ix2 b d)) := by
  after_reads_at
theorem readC50 (b : Fin 24) (p : Fin 1536) (d : Fin 256) : StableHlo.after opsC V main_v50 (ix3 b p d) = (show EReal from V main_v19 (ix3 b p d)) * (show EReal from V main_v39 (ix2 b d)) := by
  after_reads_at

theorem readD (b : Fin 24) (p : Fin 1536) (d : Fin 1024) : StableHlo.after opsD V main_v51 (ix3 b p d)
    = if h : d.val < 256 then V main_v19 (ix3 b p ⟨d.val, h⟩) else if h : d.val - 256 < 256 then V main_v44 (ix3 b p ⟨d.val - 256, h⟩)
      else if h : d.val - 256 - 256 < 256 then V main_v47 (ix3 b p ⟨d.val - 256 - 256, h⟩) else V main_v50 (ix3 b p ⟨d.val - 256 - 256 - 256, by omega⟩) := by
  after_reads_simp
  unfold fn_main_v51
  dsimp only [Matrix.cons_val]
  pointwise

theorem readE (b : Fin 24) (p : Fin 1536) (j : Fin 200) : StableHlo.after opsE V main_v55 (ix3 b p j)
    = ∑ x : Fin 1024, (show EReal from V main_v51 (ix3 b p x)) * (show EReal from V main_arg5 (ix2 x j)) + (show EReal from V main_arg6 (ix1 j)) := by
  after_reads_at

theorem readF (b : Fin 24) (p : Fin 1536) (x : Fin 80) : StableHlo.after opsF V main_v66 (ix3 b p x)
    = layerTwo (fun j x => V main_arg8 (ix2 j x)) (fun j => V main_arg7 (ix1 j)) (fun x => V main_arg9 (ix1 x)) (fun j => V main_v55 (ix3 b p j)) x := by
  after_reads_at
  rfl

theorem readG (b : Fin 24) (p : Fin 1536) : StableHlo.after opsG V main_v84 (ix2 b p)
    = Scalar.select (IntOp.cmpi CmpIPredicate.slt (BitVec.ofNat 32 p.val) (V main_arg3 (ix1 b)))
        (layerThree (fun x => V main_arg11 (ix1 x)) (fun x => V main_arg10 (ix1 x)) (V main_arg12 (ix1 0)) (fun x => V main_v66 (ix3 b p x)) : EReal) 0 := by
  after_reads_at
  exact congrArg (fun z : EReal => Scalar.select _ _ z) Ideal.ofBits_zero_f32

end Cert.ReferenceIdeal.Hand

end
-- ==== Proof.RefAll.lean ====
/-
  The reference's score at a position, from its arguments, and the reference's run to its end.
-/
module

public import proofs.«01_k».proof.Proof.RefRead

@[expose] public section

noncomputable section

namespace Cert.ReferenceIdeal.Hand

open Cert.ReferenceIdeal Cert.ReferenceIdeal.Gen
open Idealize.ShloMosaic Idealize.ShloMosaic.TcCoe Idealize.ShloMosaic.Tactic
open Cert.Din

variable (V : Valuation τ sig (Elt Ideal))

set_option maxHeartbeats 2000000

/-! ## What each group leaves alone -/

theorem keepA : StableHlo.after opsA V main_arg0 = V main_arg0 ∧ StableHlo.after opsA V main_arg1 = V main_arg1 ∧ StableHlo.after opsA V main_arg3 = V main_arg3 ∧ StableHlo.after opsA V main_arg4 = V main_arg4 ∧ StableHlo.after opsA V main_arg5 = V main_arg5
    ∧ StableHlo.after opsA V main_arg6 = V main_arg6 ∧ StableHlo.after opsA V main_arg7 = V main_arg7 ∧ StableHlo.after opsA V main_arg8 = V main_arg8 ∧ StableHlo.after opsA V main_arg9 = V main_arg9
    ∧ StableHlo.after opsA V main_arg10 = V main_arg10 ∧ StableHlo.after opsA V main_arg11 = V main_arg11 ∧ StableHlo.after opsA V main_arg12 = V main_arg12 := by
  refine ⟨?_, ?_, ?_, ?_, ?_, ?_, ?_, ?_, ?_, ?_, ?_, ?_⟩ <;> after_reads_simp
theorem keepB : StableHlo.after opsB V main_v19 = V main_v19 ∧ StableHlo.after opsB V main_arg3 = V main_arg3 ∧ StableHlo.after opsB V main_arg5 = V main_arg5
    ∧ StableHlo.after opsB V main_arg6 = V main_arg6 ∧ StableHlo.after opsB V main_arg7 = V main_arg7 ∧ StableHlo.after opsB V main_arg8 = V main_arg8 ∧ StableHlo.after opsB V main_arg9 = V main_arg9
    ∧ StableHlo.after opsB V main_arg10 = V main_arg10 ∧ StableHlo.after opsB V main_arg11 = V main_arg11 ∧ StableHlo.after opsB V main_arg12 = V main_arg12 := by
  refine ⟨?_, ?_, ?_, ?_, ?_, ?_, ?_, ?_, ?_, ?_⟩ <;> after_reads_simp
theorem keepC : StableHlo.after opsC V main_v19 = V main_v19 ∧ StableHlo.after opsC V main_arg3 = V main_arg3 ∧ StableHlo.after opsC V main_arg5 = V main_arg5
    ∧ StableHlo.after opsC V main_arg6 = V main_arg6 ∧ StableHlo.after opsC V main_arg7 = V main_arg7 ∧ StableHlo.after opsC V main_arg8 = V main_arg8 ∧ StableHlo.after opsC V main_arg9 = V main_arg9
    ∧ StableHlo.after opsC V main_arg10 = V main_arg10 ∧ StableHlo.after opsC V main_arg11 = V main_arg11 ∧ StableHlo.after opsC V main_arg12 = V main_arg12 := by
  refine ⟨?_, ?_, ?_, ?_, ?_, ?_, ?_, ?_, ?_, ?_⟩ <;> after_reads_simp
theorem keepD : StableHlo.after opsD V main_arg3 = V main_arg3 ∧ StableHlo.after opsD V main_arg5 = V main_arg5
    ∧ StableHlo.after opsD V main_arg6 = V main_arg6 ∧ StableHlo.after opsD V main_arg7 = V main_arg7 ∧ StableHlo.after opsD V main_arg8 = V main_arg8 ∧ StableHlo.after opsD V main_arg9 = V main_arg9
    ∧ StableHlo.after opsD V main_arg10 = V main_arg10 ∧ StableHlo.after opsD V main_arg11 = V main_arg11 ∧ StableHlo.after opsD V main_arg12 = V main_arg12 := by
  refine ⟨?_, ?_, ?_, ?_, ?_, ?_, ?_, ?_, ?_⟩ <;> after_reads_simp
theorem keepE : StableHlo.after opsE V main_arg3 = V main_arg3
    ∧ StableHlo.after opsE V main_arg7 = V main_arg7 ∧ StableHlo.after opsE V main_arg8 = V main_arg8 ∧ StableHlo.after opsE V main_arg9 = V main_arg9
    ∧ StableHlo.after opsE V main_arg10 = V main_arg10 ∧ StableHlo.after opsE V main_arg11 = V main_arg11 ∧ StableHlo.after opsE V main_arg12 = V main_arg12 := by
  refine ⟨?_, ?_, ?_, ?_, ?_, ?_, ?_⟩ <;> after_reads_simp
theorem keepF : StableHlo.after opsF V main_arg3 = V main_arg3
    ∧ StableHlo.after opsF V main_arg10 = V main_arg10 ∧ StableHlo.after opsF V main_arg11 = V main_arg11 ∧ StableHlo.after opsF V main_arg12 = V main_arg12 := by
  refine ⟨?_, ?_, ?_, ?_⟩ <;> after_reads_simp

/-! ## The groups together -/

/-- The score of position `p` of list `b` as the reference computes it. -/
def refScore (b : Fin 24) (p : Fin 1536) : EReal :=
  layerThree (fun x => V main_arg11 (ix1 x)) (fun x => V main_arg10 (ix1 x)) (V main_arg12 (ix1 0))
    (layerTwo (fun j x => V main_arg8 (ix2 j x)) (fun j => V main_arg7 (ix1 j)) (fun x => V main_arg9 (ix1 x))
      (layerOne (fun x j => V main_arg5 (ix2 x j)) (fun j => V main_arg6 (ix1 j))
        (rowOf (V main_arg0) (V main_arg1) (V main_arg2 (ix2 b p))) (rowOf (V main_arg0) (V main_arg1) (V main_arg4 (ix1 b)))))

/-- The features the first layer reads, from the two rows. -/
theorem feat_read (h t : Fin 256 → EReal) (d : Fin 1024) :
    (if e : d.val < 256 then h ⟨d.val, e⟩ else if e : d.val - 256 < 256 then t ⟨d.val - 256, e⟩
      else if e : d.val - 256 - 256 < 256 then h ⟨d.val - 256 - 256, e⟩ - t ⟨d.val - 256 - 256, e⟩ else h ⟨d.val - 256 - 256 - 256, by omega⟩ * t ⟨d.val - 256 - 256 - 256, by omega⟩)
      = feat h t d := by
  unfold feat
  split_ifs <;> first | rfl | (exfalso; omega) | skip

theorem read_score (b : Fin 24) (p : Fin 1536) (h2 : (show BitVec 32 from V main_arg2 (ix2 b p)).toNat < 999936) (h4 : (show BitVec 32 from V main_arg4 (ix1 b)).toNat < 999936) :
    StableHlo.after ops V main_v84 (ix2 b p)
      = Scalar.select (IntOp.cmpi CmpIPredicate.slt (BitVec.ofNat 32 p.val) (V main_arg3 (ix1 b))) (refScore V b p) 0 := by
  unfold ops
  simp only [StableHlo.after_append]
  rw [readG]
  obtain ⟨a0, a1, a3, a4, a5, a6, a7, a8, a9, a10, a11, a12⟩ := keepA V
  have rA := fun d => readA V b p d h2
  generalize StableHlo.after opsA V = VA at *
  obtain ⟨b19, b3, b5, b6, b7, b8, b9, b10, b11, b12⟩ := keepB VA
  have rB := fun d => readB VA b d (by rw [a4]; exact h4)
  generalize StableHlo.after opsB VA = VB at *
  obtain ⟨c19, c3, c5, c6, c7, c8, c9, c10, c11, c12⟩ := keepC VB
  have rC1 := fun d => readC44 VB b p d
  have rC2 := fun d => readC47 VB b p d
  have rC3 := fun d => readC50 VB b p d
  generalize StableHlo.after opsC VB = VC at *
  obtain ⟨d3, d5, d6, d7, d8, d9, d10, d11, d12⟩ := keepD VC
  have rD := fun d => readD VC b p d
  generalize StableHlo.after opsD VC = VD at *
  obtain ⟨e3, e7, e8, e9, e10, e11, e12⟩ := keepE VD
  have rE := fun j => readE VD b p j
  generalize StableHlo.after opsE VD = VE at *
  obtain ⟨f3, f10, f11, f12⟩ := keepF VE
  have rF := fun x => readF VE b p x
  generalize StableHlo.after opsF VE = VF at *
  have kD : ∀ d, (show EReal from VD main_v51 (ix3 b p d)) = feat (rowOf (V main_arg0) (V main_arg1) (V main_arg2 (ix2 b p))) (rowOf (V main_arg0) (V main_arg1) (V main_arg4 (ix1 b))) d := by
    intro d
    refine (rD d).trans ?_
    rw [← feat_read]
    simp only [rC1, rC2, rC3, c19, b19, rA, rB, a0, a1, a4]
  have kE : ∀ j, (show EReal from VE main_v55 (ix3 b p j)) = layerOne (fun x j => V main_arg5 (ix2 x j)) (fun j => V main_arg6 (ix1 j)) (rowOf (V main_arg0) (V main_arg1) (V main_arg2 (ix2 b p))) (rowOf (V main_arg0) (V main_arg1) (V main_arg4 (ix1 b))) j := by
    intro j
    refine (rE j).trans ?_
    unfold layerOne
    rw [d5, c5, b5, a5, d6, c6, b6, a6]
    exact congrArg (fun z : EReal => z + (show EReal from V main_arg6 (ix1 j))) (Finset.sum_congr rfl fun x _ => congrArg (fun z : EReal => z * (show EReal from V main_arg5 (ix2 x j))) (kD x))
  have kF : ∀ x, (show EReal from VF main_v66 (ix3 b p x)) = layerTwo (fun j x => V main_arg8 (ix2 j x)) (fun j => V main_arg7 (ix1 j)) (fun x => V main_arg9 (ix1 x)) (layerOne (fun x j => V main_arg5 (ix2 x j)) (fun j => V main_arg6 (ix1 j)) (rowOf (V main_arg0) (V main_arg1) (V main_arg2 (ix2 b p))) (rowOf (V main_arg0) (V main_arg1) (V main_arg4 (ix1 b)))) x := by
    intro x
    refine (rF x).trans ?_
    rw [e8, d8, c8, b8, a8, e7, d7, c7, b7, a7, e9, d9, c9, b9, a9]
    exact congrArg (fun z : Fin 200 → EReal => layerTwo _ _ _ z x) (funext kE)
  rw [f3, e3, d3, c3, b3, a3, f10, e10, d10, c10, b10, a10, f11, e11, d11, c11, b11, a11, f12, e12, d12, c12, b12, a12]
  exact congrArg (fun z : Fin 80 → EReal => Scalar.select _ (layerThree _ _ _ z) (0 : EReal)) (funext kF)

/-- The reference runs to its end, every buffer as its operations leave it. -/
theorem refRun (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = StableHlo.after ops (StableHlo.launchContents m d) (Proc.devRef .tc b) :=
  StableHlo.run_seq scopedRefs_eq scopedSems_eq defs main (fun _ => ops) main_eq (fun _ => ops_sub) m ρ

end Cert.ReferenceIdeal.Hand

end
-- ==== Proof.K.Base.lean ====
/-
  The objects the proof talks about: the kernel's buffers under short names, the sets of buffer elements one
  gathered row occupies, and the step that starts one row's copy.
-/
module

public import proofs.«01_k».proof.Proof.Gen.Kernel.Launch
public import proofs.«01_k».proof.Proof.Gen.Kernel.Skeleton
public import Idealize.ShloMosaic.Lib.Batch
public import Idealize.ShloMosaic.Lib.Ring
public import Idealize.ShloMosaic.Lib.Tactic
public import Idealize.ShloMosaic.Lib.Pipeline.FrameBody
public import Idealize.ShloMosaic.Lib.MixedBatch

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

/-- The proof's assertions: the pipeline library's beside the transfers' counters. -/
local notation "𝕄" => MT nD τ sig Unit (Elt F) ℕ (Pipeline.UD sig nD τ) ℕ

/-! ## The kernel's buffers -/

abbrev aIds : Memref sig .tc .smem S24x1536 .i32 := Memref.whole cc0_stg1_0
abbrev hWords : Memref sig .tc .hbm S250000x256 .i32 := Memref.whole main_v2
abbrev hScl : Memref sig .tc .hbm S1000000 .f32 := Memref.whole main_arg1
abbrev sRows : Memref sig .tc .vmem S3x256x256 .i32 := Memref.whole cc0_scratch0

/-- The whole buffer `b` of core `c`, at full share, holding `f`. -/
abbrev pt (c : Dev nD) (b : Ref sig .tc) (f : Buf (Elt F) ((c : Thread nD τ).loc b)) : sProp 𝕄 :=
  ((c : Thread nD τ).loc b) ↦{fullShare} f

/-- The counters' algebra inside the proof's. -/
abbrev EC : UEmb Counters 𝕄 := countersEmb

/-! ## The elements of the row ring -/

/-- The ring elements of slot `s`, rows `lo` up to (not including) `hi`. -/
def rowsSet (s lo hi : ℕ) : Finset S3x256x256.Idx :=
  Finset.univ.filter fun x => (x 0).val = s ∧ lo ≤ (x 1).val ∧ (x 1).val < hi

theorem mem_rowsSet {s lo hi : ℕ} {x : S3x256x256.Idx} :
    x ∈ rowsSet s lo hi ↔ (x 0).val = s ∧ lo ≤ (x 1).val ∧ (x 1).val < hi := by simp [rowsSet]

/-- The first row of a range, taken off. -/
theorem rowsSet_head {s lo hi : ℕ} (h : lo < hi) : rowsSet s lo hi = rowsSet s lo (lo + 1) ∪ rowsSet s (lo + 1) hi := by
  ext x; simp only [Finset.mem_union, mem_rowsSet]; omega
theorem rowsSet_disj {s a b d : ℕ} : Disjoint (rowsSet s a b) (rowsSet s b d) := by
  rw [Finset.disjoint_left]; intro x; simp only [mem_rowsSet]; omega

/-- The block the kernel copies one row into is row `r` of slot `s`. -/
theorem rowBlock_set (o : Fin 3 → ℕ) (h : ∀ a, o a + S1x1x256.size a ≤ S3x256x256.size a) {s r : ℕ} (ho : o = ![s, r, 0]) :
    ((sRows.slice (Rect.unit (s := S3x256x256) o S1x1x256.size h) (fun _ => rfl)).squeeze S1x256 squeezes_S1x1x256_S1x256).view.set
      = rowsSet s r (r + 1) := by
  refine (View.set_reshape _ _).trans ((View.set_slice_whole _ _).trans ?_)
  subst ho
  ext x
  rw [mem_rowsSet]
  refine (Rect.mem_set_unit).trans ?_
  have h2 : (x 2).val < 256 := (x 2).isLt
  constructor
  · intro H
    have H0 := H 0; have H1 := H 1
    simp [S1x1x256] at H0 H1
    omega
  · rintro ⟨H0, H1, H2⟩ a
    fin_cases a <;> simp [S1x1x256]
    · omega
    · omega
    · exact h2

/-! ## Starting one row's copy -/

/-- Where entry `l` of row `r` of slot `s` sits in the ring, and entry `l` of word row `q` in the word array. -/
def ringAt (s : Fin 3) (r l : Fin 256) : S3x256x256.Idx := fun a => match a with | 0 => s | 1 => r | 2 => l
def wordAt (q : Fin 250000) (l : Fin 256) : S250000x256.Idx := fun a => match a with | 0 => q | 1 => l

abbrev RingBuf (F : FTy → Type) [FloatOps F] (c : Dev nD) := Buf (Elt F) ((c : Thread nD τ).loc cc0_scratch0)
abbrev WordBuf (F : FTy → Type) [FloatOps F] (c : Dev nD) := Buf (Elt F) ((c : Thread nD τ).loc main_v2)

/-- The units one row's copy credits its semaphore with. -/
def rowN : ℕ := cc0_scratch0.dmaCredit S1x256 .i32
theorem rowN_pos : 0 < rowN := by unfold rowN; decide

/-- What row `t`'s copy hands back: the row at the gathered contents `G`, and its share of the word array. -/
def rowDeliv (c : Dev nD) (s : ℕ) (q0 : PosShare TreeShare) (fw : WordBuf F c) (G : RingBuf F c) (n : ℕ) (t : Fin n) : sProp 𝕄 :=
  iprop((((c : Thread nD τ).loc cc0_scratch0) ↦[rowsSet s t.val (t.val + 1)]{fullShare} G)
    ∗ (((c : Thread nD τ).loc main_v2) ↦{shareTokN q0 t.val} fw))

instance (c : Dev nD) (s : ℕ) (q0 : PosShare TreeShare) (fw : WordBuf F c) (G : RingBuf F c) (n : ℕ) (t : Fin n) :
    Storable (upEmb : UEmb _ 𝕄) (rowDeliv c s q0 fw G n t) := by unfold rowDeliv; infer_instance

/-- The batch of a slot's copies: `k` started, none of their units consumed yet (or `u` of them). -/
abbrev RowBatch (c : Dev nD) (sm : SemLoc sig) (s : ℕ) (q0 : PosShare TreeShare) (fw : WordBuf F c) (G : RingBuf F c) (n k u : ℕ) : sProp 𝕄 :=
  Batch EC (c : Thread nD τ) sm () rowN (rowDeliv c s q0 fw G n) k u

/-- A slot whose first `k` rows' copies have started, of the `n` its block needs. -/
def Filling (c : Dev nD) (sm : SemLoc sig) (s : ℕ) (q0 : PosShare TreeShare) (fw : WordBuf F c) (G f : RingBuf F c) (n k : ℕ) : sProp 𝕄 :=
  iprop((((c : Thread nD τ).loc cc0_scratch0) ↦[rowsSet s k 256]{fullShare} f)
    ∗ (((c : Thread nD τ).loc main_v2) ↦{shareDrop q0 k} fw) ∗ RowBatch c sm s q0 fw G n k 0)

end Cert.Kernel.Hand
-- ==== Proof.K.Issue.lean ====
module

public import proofs.«01_k».proof.Proof.K.Base

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

/-- What the copy of word row `q` into ring row `(s, j)` leaves there: that word row. -/
theorem row_landed {o : Fin 3 → ℕ} {h : ∀ a, o a + S1x1x256.size a ≤ S3x256x256.size a}
    {o' : Fin 2 → ℕ} {h' : ∀ a, o' a + S1x256.size a ≤ S250000x256.size a}
    (s : Fin 3) (fw : WordBuf F c) (G f : RingBuf F c) (j : ℕ) (hj : j < 256) (q : Fin 250000) (ho : o = ![s.val, j, 0]) (ho' : o' = ![q.val, 0])
    (hG : ∀ l, G (ringAt s ⟨j, hj⟩ l) = fw (wordAt q l)) :
    ∀ x ∈ rowsSet s j (j + 1),
      ((sRows.slice (Rect.unit (s := S3x256x256) o S1x1x256.size h) (fun _ => rfl)).squeeze S1x256 squeezes_S1x1x256_S1x256).view.write (Elt F) f
        ((hWords.slice (Rect.unit (s := S250000x256) o' S1x256.size h') (fun _ => rfl)).view.read (Elt F) fw) Finset.univ x = G x := by
  intro x hx
  rw [← rowBlock_set o h ho] at hx
  subst ho ho'
  obtain ⟨y, -, rfl⟩ := Finset.mem_map.1 hx
  rw [View.write_emb_of_mem _ _ (Finset.mem_univ y)]
  have e1 : ((sRows.slice (Rect.unit (s := S3x256x256) ![s.val, j, 0] S1x1x256.size h) (fun _ => rfl)).squeeze S1x256 squeezes_S1x1x256_S1x256).view.emb y
      = ringAt s ⟨j, hj⟩ (y 1) := by
    show (Rect.unit (s := S3x256x256) ![s.val, j, 0] S1x1x256.size h).emb (Shape.reshapeEquiv squeezes_S1x1x256_S1x256.numel_eq y) = _
    have hr : Shape.reshapeEquiv squeezes_S1x1x256_S1x256.numel_eq y = (Fin.cons (⟨0, Nat.one_pos⟩ : Fin 1) y : S1x1x256.Idx) :=
      Shape.reshapeEquiv_cons_one (d := ![1, 256]) squeezes_S1x1x256_S1x256.numel_eq y
    rw [hr]
    funext a
    apply Fin.ext
    have h0 : (y 0).val < 1 := (y 0).isLt
    fin_cases a
    · show s.val + 1 * 0 = s.val; omega
    · show j + 1 * (y 0).val = j; omega
    · show 0 + 1 * (y 1).val = (y 1).val; omega
  have e2 : (hWords.slice (Rect.unit (s := S250000x256) ![q.val, 0] S1x256.size h') (fun _ => rfl)).view.emb y = wordAt q (y 1) := by
    show (Rect.unit (s := S250000x256) ![q.val, 0] S1x256.size h').emb y = _
    funext a
    apply Fin.ext
    have h0 : (y 0).val < 1 := (y 0).isLt
    fin_cases a
    · show q.val + 1 * (y 0).val = q.val; omega
    · show 0 + 1 * (y 1).val = (y 1).val; omega
  rw [e1]
  exact Eq.trans (congrArg fw e2) (hG (y 1)).symm

theorem wp_issue_row {o : Fin 3 → ℕ} {h : ∀ a, o a + S1x1x256.size a ≤ S3x256x256.size a}
    {o' : Fin 2 → ℕ} {h' : ∀ a, o' a + S1x256.size a ≤ S250000x256.size a} {sm : DmaSem sig}
    {hsrc : (hWords.slice (Rect.unit (s := S250000x256) o' S1x256.size h') (fun _ => rfl)).view.WordExact}
    {hdst} {hsem} {k : PUnit → Prog (TpuEff nD τ sig (Elt F) Λ₀ .tc) α} {Q : α → sProp 𝕄}
    (s : Fin 3) (q0 : PosShare TreeShare) (fw : WordBuf F c) (G f : RingBuf F c) (n j : ℕ)
    (hj : j < n) (hj' : j < 256) (q : Fin 250000) (ho : o = ![s.val, j, 0]) (ho' : o' = ![q.val, 0])
    (hG : ∀ l, G (ringAt s ⟨j, hj'⟩ l) = fw (wordAt q l)) :
    Filling c (.dma sm) s q0 fw G f n j
      ⊢ iprop((Filling c (.dma sm) s q0 fw G f n (j + 1) -∗ wp frame (wpE defs 𝒱 (c : Thread nD τ) bd) Set.univ (k ⟨⟩) Q)
        -∗ wp frame (wpE defs 𝒱 (c : Thread nD τ) bd) Set.univ
          (.op (.enqueueDma (hWords.slice (Rect.unit (s := S250000x256) o' S1x256.size h') (fun _ => rfl))
            (.here ((sRows.slice (Rect.unit (s := S3x256x256) o S1x1x256.size h) (fun _ => rfl)).squeeze S1x256 squeezes_S1x1x256_S1x256))
            (.dma sm) hsrc hdst hsem) k) Q) := by
  unfold Filling RowBatch Batch
  iintro ⟨Hd, Hw, ⟨%γ, %γ₀, %κ, #Hinv, HI, H0, Hcred⟩⟩ Hk
  ihave HI' := (show bigSep (pending j) (fun t => count EC (γ t) 0) ⊢ iprop(count EC (γ ⟨j, hj⟩) 0 ∗ bigSep (pending (j + 1)) (fun t => count EC (γ t) 0))
    from Entails.of_eq (by rw [pending_succ hj, bigSep_insert (not_mem_pending_succ hj)]; rfl)) $$ HI
  icases HI' with ⟨Ht, HI⟩
  ihave Hw' := (pointsTo_share (PosShare.mem_left_op_right _)).1 $$ Hw
  icases Hw' with ⟨Hw, Htok⟩
  ihave Htok' := (pointsTo_split_subset (Finset.subset_univ (hWords.slice (Rect.unit (s := S250000x256) o' S1x256.size h') (fun _ => rfl)).view.set)).1 $$ Htok
  icases Htok' with ⟨Hsrc, Hcompl⟩
  have hrw : ((c : Thread nD τ).loc cc0_scratch0 ↦[rowsSet s j 256]{fullShare} f : sProp 𝕄)
      ⊢ iprop(((c : Thread nD τ).loc cc0_scratch0 ↦[rowsSet s j (j + 1)]{fullShare} f) ∗ ((c : Thread nD τ).loc cc0_scratch0 ↦[rowsSet s (j + 1) 256]{fullShare} f)) := by
    rw [rowsSet_head (lo := j) (hi := 256) (by omega)]
    exact (pointsTo_union rowsSet_disj).1
  ihave Hd' := hrw $$ Hd
  icases Hd' with ⟨Hrow, Hd⟩
  have hN : ((sRows.slice (Rect.unit (s := S3x256x256) o S1x1x256.size h) (fun _ => rfl)).squeeze S1x256 squeezes_S1x1x256_S1x256).view.amount (.dma sm) = rowN := rfl
  have hres : iprop(((c : Thread nD τ).loc main_v2 ↦[Finset.univ \ (hWords.slice (Rect.unit (s := S250000x256) o' S1x256.size h') (fun _ => rfl)).view.set]{shareTokN q0 j} fw)
      ∗ (((sRows.slice (Rect.unit (s := S3x256x256) o S1x1x256.size h) (fun _ => rfl)).squeeze S1x256 squeezes_S1x1x256_S1x256).view.loc (c : Thread nD τ) ↦[rowsSet s j (j + 1)]{fullShare}
          ((sRows.slice (Rect.unit (s := S3x256x256) o S1x1x256.size h) (fun _ => rfl)).squeeze S1x256 squeezes_S1x1x256_S1x256).view.write (Elt F) f
            ((hWords.slice (Rect.unit (s := S250000x256) o' S1x256.size h') (fun _ => rfl)).view.read (Elt F) fw) Finset.univ)
      ∗ ((hWords.slice (Rect.unit (s := S250000x256) o' S1x256.size h') (fun _ => rfl)).view.loc (c : Thread nD τ)
          ↦[(hWords.slice (Rect.unit (s := S250000x256) o' S1x256.size h') (fun _ => rfl)).view.set]{shareTokN q0 j} fw))
      ⊢ (rowDeliv c s q0 fw G n ⟨j, hj⟩ : sProp 𝕄) := by
    unfold rowDeliv
    iintro ⟨Hcompl, Hrow, Hsrc⟩
    isplitl [Hrow]
    · iapply (Entails.of_eq (pointsTo_congr (row_landed c (h := h) (h' := h') s fw G f j hj' q ho ho' hG)))
      iexact Hrow
    · iapply (pointsTo_split_subset (Finset.subset_univ (hWords.slice (Rect.unit (s := S250000x256) o' S1x256.size h') (fun _ => rfl)).view.set)).2
      isplitl [Hsrc]; · iexact Hsrc
      iexact Hcompl
  iapply (wp_enqueueDma 𝒱 (c : Thread nD τ) bd Set.univ () rowN (src := hWords.slice (Rect.unit (s := S250000x256) o' S1x256.size h') (fun _ => rfl))
    (dst := (sRows.slice (Rect.unit (s := S3x256x256) o S1x1x256.size h) (fun _ => rfl)).squeeze S1x256 squeezes_S1x1x256_S1x256) hN) $$ [Hsrc Hrow] [Ht Hcompl]
  · isplitl [Hsrc]; · iexact Hsrc
    iapply (pointsTo_writeUpdate (c : Thread nD τ) (v := ((sRows.slice (Rect.unit (s := S3x256x256) o S1x1x256.size h) (fun _ => rfl)).squeeze S1x256 squeezes_S1x1x256_S1x256).view) (S := rowsSet s j (j + 1)) (le_of_eq (rowBlock_set o h ho))) $$ Hrow
  · iapply (batch_creditUpdate_with EC ⟨j, hj⟩ (D := rowDeliv c s q0 fw G n) hres)
    isplitr; · iexact Hinv
    isplitl [Ht]; · iexact Ht
    iexact Hcompl
  iintro Hcred'
  iapply Hk
  isplitl [Hd]; · iexact Hd
  isplitl [Hw]; · iexact Hw
  iexists γ, γ₀, κ
  isplitr; · iexact Hinv
  isplitl [HI]; · iexact HI
  isplitl [H0]; · iexact H0
  rw [show (j + 1) * rowN - 0 = (j * rowN - 0) + rowN by rw [Nat.succ_mul]; omega, ← tallyAt_add]
  icombine Hcred Hcred' as H
  iexact H

end Cert.Kernel.Hand
-- ==== Proof.K.Words.lean ====
/-
  The 32-bit words the kernel computes its loop bounds and offsets in, as integers.
-/
module

public import proofs.«01_k».proof.Proof.K.Base

@[expose] public section

noncomputable section

namespace Cert.Kernel.Hand

open Cert.Kernel Cert.Kernel.Gen
open Idealize.ShloMosaic

theorem w_add_zero (x : BitVec 32) : Scalar.addi 0#32 x = x := by simp [Scalar.addi, IntOp.addi]
theorem w_mul_one (x : BitVec 32) : Scalar.muli x 1#32 = x := by simp [Scalar.muli, IntOp.muli]
theorem w_sub_zero (x : BitVec 32) : Scalar.subi x 0#32 = x := by simp [Scalar.subi, IntOp.subi]
theorem w_add_zero' (x : BitVec 32) : Scalar.addi x 0#32 = x := by simp [Scalar.addi, IntOp.addi]
theorem w_sub_self : Scalar.subi 1#32 1#32 = 0#32 := rfl
theorem w_div_one (x : BitVec 32) : Scalar.divsi x 1#32 = x := by
  have hc : ¬ IntOp.SDivCorner x 1#32 := by
    unfold IntOp.SDivCorner
    rintro (h | ⟨-, h⟩) <;> exact absurd h (by decide)
  unfold Scalar.divsi IntOp.divsi
  rw [if_neg hc]
  apply BitVec.eq_of_toInt_eq
  rw [BitVec.toInt_sdiv_of_ne_or_ne _ _ (Or.inr (by decide))]
  simp

/-- The number of 16-row groups an issue loop runs over, from the number of rows still to fetch. -/
def ubOf (d : BitVec 32) : BitVec 32 :=
  Scalar.addi 0#32 (Scalar.muli (Scalar.divsi (Scalar.subi (Scalar.divsi (Scalar.addi (Scalar.subi (Scalar.divsi (Scalar.addi (Scalar.minsi d 256#32) 15#32) 16#32) 0#32) (Scalar.subi 1#32 1#32)) 1#32) 0#32) 1#32) 1#32)

/-- The same count as a natural number. -/
def grpOf (z : ℤ) : ℕ := ((min z 256 + 15).tdiv 16).toNat

theorem grpOf_le (z : ℤ) : grpOf z ≤ 16 := by
  unfold grpOf
  rcases le_or_gt 0 (min z 256 + 15) with h | h
  · rw [Int.tdiv_eq_ediv_of_nonneg h]
    have : min z 256 ≤ 256 := min_le_right _ _
    omega
  · have h2 := Int.neg_tdiv (min z 256 + 15) 16
    have h3 : (0:ℤ) ≤ (-(min z 256 + 15)).tdiv 16 := Int.tdiv_nonneg (by omega) (by decide)
    rw [h2] at h3
    have h4 : ((min z 256 + 15).tdiv 16).toNat = 0 := Int.toNat_of_nonpos (by omega)
    omega

theorem ubOf_toInt (d : BitVec 32) : (ubOf d).toInt = (min d.toInt 256 + 15).tdiv 16 := by
  unfold ubOf
  rw [w_sub_self, w_add_zero, w_mul_one, w_div_one, w_sub_zero, w_div_one, w_add_zero', w_sub_zero]
  have hm : (Scalar.minsi d 256#32).toInt = min d.toInt 256 := by
    unfold Scalar.minsi IntOp.minsi
    rw [BitVec.slt_eq_decide, show (256#32).toInt = 256 from rfl]
    split
    · rename_i h; rw [decide_eq_true_eq] at h; omega
    · rename_i h; rw [decide_eq_true_eq] at h; rw [show (256#32).toInt = 256 from rfl]; omega
  have hd := BitVec.le_toInt d
  have ha : (Scalar.addi (Scalar.minsi d 256#32) 15#32).toInt = min d.toInt 256 + 15 := by
    show ((Scalar.minsi d 256#32) + 15#32).toInt = _
    rw [BitVec.toInt_add, hm, show (15#32).toInt = 15 from rfl]
    apply Int.bmod_eq_of_le <;> omega
  have hc : ¬ IntOp.SDivCorner (Scalar.addi (Scalar.minsi d 256#32) 15#32) 16#32 := by
    unfold IntOp.SDivCorner
    rintro (h | ⟨-, h⟩) <;> exact absurd h (by decide)
  unfold Scalar.divsi IntOp.divsi
  rw [if_neg hc, BitVec.toInt_sdiv_of_ne_or_ne _ _ (Or.inr (by decide)), ha]
  rfl

theorem trips_one (u : BitVec 32) : Scf.trips 0#32 u 1#32 = u.toInt.toNat := by
  unfold Scf.trips
  simp

theorem trips_ubOf (d : BitVec 32) : Scf.trips 0#32 (ubOf d) 1#32 = grpOf d.toInt := by
  rw [trips_one, ubOf_toInt]; rfl

theorem ok_ubOf (d : BitVec 32) : (⟨0#32, ubOf d, 1#32⟩ : Scf.Loop 32).OK := by
  unfold Scf.Loop.OK Scf.OK
  refine ⟨show (0:ℤ) < (1#32).toInt by decide, ?_⟩
  have h1 := grpOf_le d.toInt
  have h2 : Scf.trips 0#32 (ubOf d) 1#32 = grpOf d.toInt := trips_ubOf d
  rw [h2]
  show (0#32).toInt + (grpOf d.toInt : ℤ) * (1#32).toInt < 2 ^ (32 - 1)
  rw [show (0#32).toInt = 0 from rfl, show (1#32).toInt = 1 from rfl]
  omega

theorem trips_self (x : BitVec 32) : Scf.trips x x 1#32 = 0 := by unfold Scf.trips; simp

theorem ok_self (x : BitVec 32) : (⟨x, x, 1#32⟩ : Scf.Loop 32).OK := by
  unfold Scf.Loop.OK Scf.OK
  have h2 : Scf.trips x x 1#32 = 0 := trips_self x
  show 0 < (1#32).toInt ∧ x.toInt + (Scf.trips x x 1#32 : ℤ) * (1#32).toInt < 2 ^ (32 - 1)
  rw [h2]
  refine ⟨show (0:ℤ) < (1#32).toInt by decide, ?_⟩
  have := BitVec.toInt_lt (x := x)
  simpa using this

/-- The row a loop's trip `t` names, `u` rows into the trip's group of sixteen. -/
def rowW (t : ℕ) (u : BitVec 32) : BitVec 32 :=
  Scalar.addi (Scalar.muli (Scalar.addi 0#32 (Scalar.muli (Scf.iv 0#32 1#32 t) 1#32)) 16#32) u

theorem rowW_toNat (t u : ℕ) (ht : t < 16) (hu : u < 16) : (rowW t (BitVec.ofNat 32 u)).toNat = 16 * t + u := by
  unfold rowW
  rw [w_add_zero, w_mul_one]
  have : Scf.iv 0#32 1#32 t = BitVec.ofNat 32 t := by unfold Scf.iv; simp
  rw [this]
  show (BitVec.ofNat 32 t * 16#32 + BitVec.ofNat 32 u).toNat = _
  simp only [BitVec.toNat_add, BitVec.toNat_mul, BitVec.toNat_ofNat]
  omega

/-- The row's place in the whole sequence: block `kw`, row `r`. -/
theorem seqW_toNat (kw r : BitVec 32) (hk : kw.toNat ≤ 6) (hr : r.toNat < 256) :
    (Scalar.addi (Scalar.muli kw 256#32) r).toNat = 256 * kw.toNat + r.toNat := by
  show (kw * 256#32 + r).toNat = _
  simp only [BitVec.toNat_add, BitVec.toNat_mul, BitVec.toNat_ofNat]
  omega

/-- An id's row of words: a quarter of the id. -/
theorem shr2_toNat (v : BitVec 32) : (Scalar.shrui v 2#32).toNat = v.toNat / 4 := by
  unfold Scalar.shrui IntOp.shrui
  rw [if_pos (by decide), BitVec.ushiftRight_eq', BitVec.toNat_ushiftRight]
  simp [Nat.shiftRight_eq_div_pow]

end Cert.Kernel.Hand
-- ==== Proof.K.Row.lean ====
/-
  One row of an issue loop: the id is loaded, checked, and its word row's copy started.
-/
module

public import proofs.«01_k».proof.Proof.K.Issue
public import proofs.«01_k».proof.Proof.K.Words

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

abbrev IdBuf (F : FTy → Type) [FloatOps F] (c : Dev nD) := Buf (Elt F) ((c : Thread nD τ).loc cc0_stg1_0)

/-- The ids buffer at row `b`, position `p`. -/
def idIx (b : Fin 24) (p : Fin 1536) : S24x1536.Idx := fun a => match a with | 0 => b | 1 => p

/-- The id of row `r` of block `kw` of batch row `b`. -/
def idAt {c : Dev nD} (fi : IdBuf F c) (b : Fin 24) (kw : Fin 6) (r : Fin 256) : BitVec 32 :=
  fi (idIx b ⟨256 * kw.val + r.val, by omega⟩)

/-- The word row an id lies in. -/
def quart (v : BitVec 32) : Fin 250000 := ⟨min (v.toNat / 4) 249999, by omega⟩

/-- What a slot holds once every row of block `kw` of batch row `b` has been gathered. -/
def gathered {c : Dev nD} (fw : WordBuf F c) (fi : IdBuf F c) (b : Fin 24) (kw : Fin 6) : RingBuf F c :=
  fun x => fw (wordAt (quart (idAt fi b kw (x 1))) (x 2))

/-- Every id names a row of the scales the kernel can load a whole line around. -/
def IdsOk {c : Dev nD} (fi : IdBuf F c) : Prop := ∀ x, (show BitVec 32 from fi x).toNat < 999936

theorem ids_read {o : Fin 2 → ℕ} {h : ∀ a, o a + S1x1.size a ≤ S24x1536.size a} (fi : IdBuf F c) (b : Fin 24) (kw : Fin 6) (r : Fin 256)
    (ho : o = ![b.val, 256 * kw.val + r.val]) (hp) :
    (aIds.access (Rect.unit (s := S24x1536) o S1x1.size h)).read (Elt F) fi (Shape.Idx.first hp) = idAt fi b kw r := by
  subst ho
  unfold idAt
  show fi _ = fi _
  congr 1
  funext a
  apply Fin.ext
  fin_cases a
  · show b.val + 1 * 0 = b.val; omega
  · show 256 * kw.val + r.val + 1 * 0 = 256 * kw.val + r.val; omega

theorem row_inb (v : BitVec 32) (hv : v.toNat < 999936) {o : Fin 2 → ℕ} (ho : o = ![(Scalar.shrui v 2#32).toNat, 0]) :
    ∀ a, o a + S1x256.size a ≤ S250000x256.size a := by
  subst ho
  have := shr2_toNat v
  intro a
  fin_cases a
  · show (Scalar.shrui v 2#32).toNat + 1 ≤ 250000; omega
  · show 0 + 256 ≤ 256; omega

/-- The load of one id. -/
theorem wp_ids {oi : Fin 2 → ℕ} {hi : ∀ a, oi a + S1x1.size a ≤ S24x1536.size a} {n1} {r1}
    {K : BitVec 32 → Prog (TpuEff nD τ sig (Elt F) Λ₀ .tc) α} {Q : α → sProp 𝕄}
    (fi : IdBuf F c) (b : Fin 24) (kw : Fin 6) (r : Fin 256) (hoi : oi = ![b.val, 256 * kw.val + r.val]) :
    pt c cc0_stg1_0 fi
      ⊢ iprop((pt c cc0_stg1_0 fi -∗ wp frame (wpE defs 𝒱 (c : Thread nD τ) bd) Set.univ (K (idAt fi b kw r)) Q)
        -∗ wp frame (wpE defs 𝒱 (c : Thread nD τ) bd) Set.univ
          (smemLoad aIds (Rect.unit (s := S24x1536) oi S1x1.size hi) n1 r1 >>= fun v : Elt F .i32 => K v) Q) := by
  rw [← ids_read (h := hi) c fi b kw r hoi (by rw [n1]; decide)]
  exact wp_load_rect 𝒱 (c : Thread nD τ) bd Set.univ (m := aIds) (r := Rect.unit (s := S24x1536) oi S1x1.size hi) (S := Finset.univ) (q := fullShare) (f := fi)
    (k := fun f => K (f (Shape.Idx.first _))) (Finset.subset_univ _)

theorem wp_row {oi : Fin 2 → ℕ} {hi : ∀ a, oi a + S1x1.size a ≤ S24x1536.size a} {n1} {r1}
    {P : BitVec 32 → Prop} {dec : ∀ v, Decidable (P v)}
    {o : Fin 3 → ℕ} {h : ∀ a, o a + S1x1x256.size a ≤ S3x256x256.size a}
    {o' : BitVec 32 → Fin 2 → ℕ} {h' : ∀ v, P v → ∀ a, o' v a + S1x256.size a ≤ S250000x256.size a} {sm sm' : DmaSem sig}
    {hsrc : ∀ (v : BitVec 32) (hP : P v), (hWords.slice (Rect.unit (s := S250000x256) (o' v) S1x256.size (h' v hP)) (fun _ => rfl)).view.WordExact}
    {hdst : ((sRows.slice (Rect.unit (s := S3x256x256) o S1x1x256.size h) (fun _ => rfl)).squeeze S1x256 squeezes_S1x1x256_S1x256).view.WordExact} {hsem : DmaTarget.Typed .hbm (.dma sm') (DmaTarget.here (nD := nD) (p := (Proc.tc : Proc τ)) ((sRows.slice (Rect.unit (s := S3x256x256) o S1x1x256.size h) (fun _ => rfl)).squeeze S1x256 squeezes_S1x1x256_S1x256))}
    {k : (v : BitVec 32) → PLift (P v) → PUnit → Prog (TpuEff nD τ sig (Elt F) Λ₀ .tc) α} {Q : α → sProp 𝕄}
    (s : Fin 3) (q0 : PosShare TreeShare) (fw : WordBuf F c) (fi : IdBuf F c) (f : RingBuf F c) (b : Fin 24) (kw : Fin 6) (n j : ℕ)
    (hj : j < n) (hj' : j < 256) (hfi : IdsOk fi)
    (hoi : oi = ![b.val, 256 * kw.val + j]) (ho : o = ![s.val, j, 0]) (ho' : ∀ v, o' v = ![(Scalar.shrui v 2#32).toNat, 0])
    (hP : ∀ v : BitVec 32, v.toNat < 999936 → P v) (hsm : sm' = sm) :
    iprop(pt c cc0_stg1_0 fi ∗ Filling c (.dma sm) s q0 fw (gathered fw fi b kw) f n j)
      ⊢ iprop((pt c cc0_stg1_0 fi ∗ Filling c (.dma sm) s q0 fw (gathered fw fi b kw) f n (j + 1)
            -∗ wp frame (wpE defs 𝒱 (c : Thread nD τ) bd) Set.univ (k (idAt fi b kw ⟨j, hj'⟩) ⟨hP _ (hfi _)⟩ ⟨⟩) Q)
        -∗ wp frame (wpE defs 𝒱 (c : Thread nD τ) bd) Set.univ
          (smemLoad aIds (Rect.unit (s := S24x1536) oi S1x1.size hi) n1 r1 >>= fun v : Elt F .i32 =>
            Prog.lift (TpuEff.assume (P v) (dec v)) >>= fun hh =>
            Prog.lift (.enqueueDma (hWords.slice (Rect.unit (s := S250000x256) (o' v) S1x256.size (h' v hh.down)) (fun _ => rfl))
            (.here ((sRows.slice (Rect.unit (s := S3x256x256) o S1x1x256.size h) (fun _ => rfl)).squeeze S1x256 squeezes_S1x1x256_S1x256))
            (.dma sm') (hsrc v hh.down) hdst hsem) >>= fun u => k v hh u) Q) := by
  subst hsm
  iintro ⟨Hi, HF⟩ Hk
  iapply (wp_ids 𝒱 c bd (oi := oi) (hi := hi) fi b kw ⟨j, hj'⟩ hoi) $$ Hi
  iintro Hi
  have hq : o' (idAt fi b kw ⟨j, hj'⟩) = ![(quart (idAt fi b kw ⟨j, hj'⟩)).val, 0] := by
    rw [ho', shr2_toNat]
    have : (idAt fi b kw ⟨j, hj'⟩).toNat < 999936 := hfi _
    show _ = ![min ((idAt fi b kw ⟨j, hj'⟩).toNat / 4) 249999, 0]
    rw [min_eq_left (by omega)]
  have hok : P (idAt fi b kw ⟨j, hj'⟩) := hP _ (hfi _)
  iapply (wp_assume 𝒱 (c : Thread nD τ) bd Set.univ hok)
  iapply (wp_issue_row 𝒱 c bd s q0 fw (gathered fw fi b kw) f n j hj hj' (quart (idAt fi b kw ⟨j, hj'⟩)) ho hq (fun l => rfl)) $$ HF
  iintro HF
  simp only [Prog.bind_ret]
  iapply Hk
  isplitl [Hi]; · iexact Hi
  iexact HF

/-! ## Where one row of a loop's trip lies -/

theorem off_ids {b kw t u : ℕ} {wb wk : BitVec 32} (hb : wb.toNat = b) (hk : wk.toNat = kw) (hkw : kw < 6) (ht : t < 16) (hu : u < 16) :
    (![(Scalar.indexCast wb).toNat, (Scalar.indexCast (Scalar.addi (Scalar.muli wk 256#32) (rowW t (BitVec.ofNat 32 u)))).toNat] : Fin 2 → ℕ)
      = ![b, 256 * kw + (16 * t + u)] := by
  show (![wb.toNat, (Scalar.addi (Scalar.muli wk 256#32) (rowW t (BitVec.ofNat 32 u))).toNat] : Fin 2 → ℕ) = _
  rw [seqW_toNat _ _ (by omega) (by rw [rowW_toNat _ _ ht hu]; omega), rowW_toNat _ _ ht hu, hb, hk]

theorem off_ids_first {t u : ℕ} (ht : t < 16) (hu : u < 16) :
    (![0, (Scalar.indexCast (Scalar.addi 0#32 (rowW t (BitVec.ofNat 32 u)))).toNat] : Fin 2 → ℕ) = ![0, 256 * 0 + (16 * t + u)] := by
  rw [w_add_zero]
  show (![0, (rowW t (BitVec.ofNat 32 u)).toNat] : Fin 2 → ℕ) = _
  rw [rowW_toNat _ _ ht hu, Nat.mul_zero, Nat.zero_add]

theorem off_ring {s t u : ℕ} {ws : BitVec 32} (hs : ws.toNat = s) (ht : t < 16) (hu : u < 16) :
    (![ws.toNat, (rowW t (BitVec.ofNat 32 u)).toNat, 0] : Fin 3 → ℕ) = ![s, 16 * t + u, 0] := by
  rw [rowW_toNat _ _ ht hu, hs]

/-- The semaphore of ring slot `s`. -/
def slotSem (s : Fin 3) : DmaSem sig := match s with
  | 0 => (16 : Fin 19) | 1 => (17 : Fin 19) | 2 => (18 : Fin 19)

theorem slot_sem {o : Fin 1 → ℕ} {h : ∀ a, o a + S1.size a ≤ S3.size a} (s : Fin 3) (ho : o = ![s.val]) :
    ((cc0_scratch6.slice (Rect.unit (s := S3) o S1.size h)).squeeze S_ squeezes_S1_S_).sem = slotSem s := by
  subst ho
  decide +revert +kernel

end Cert.Kernel.Hand
-- ==== Proof.K.Gather.lean ====
/-
  One row of the loop that gathers the lines of scales around each id.
-/
module

public import proofs.«01_k».proof.Proof.K.Row
public import Idealize.ShloMosaic.Lib.Pipeline.Value

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

abbrev sLine : Memref sig .tc .vmem S256x128 .f32 := Memref.whole cc0_scratch1
abbrev sScl : Memref sig .tc .vmem S1000000 .f32 := Memref.whole cc0_scratch2
abbrev LineBuf (F : FTy → Type) [FloatOps F] (c : Dev nD) := Buf (Elt F) ((c : Thread nD τ).loc cc0_scratch1)
abbrev SclBuf (F : FTy → Type) [FloatOps F] (c : Dev nD) := Buf (Elt F) ((c : Thread nD τ).loc cc0_scratch2)

/-- Entry `p` of the scales. -/
def sclAt (p : ℕ) : S1000000.Idx := fun a => match a with | 0 => (⟨min p 999999, by omega⟩ : Fin 1000000)

/-- The lines' buffer once the first `j` rows of block `kw` of batch row `b` have been gathered. -/
def lineBuf {c : Dev nD} (fs : SclBuf F c) (fi : IdBuf F c) (b : Fin 24) (kw : Fin 6) (g0 : LineBuf F c) (j : ℕ) : LineBuf F c :=
  fun x => if (x 0).val < j then fs (sclAt ((idAt fi b kw (x 0)).toNat / 128 * 128 + (x 1).val)) else g0 x

theorem shr7_toNat (v : BitVec 32) : (Scalar.muli (Scalar.shrui v 7#32) 128#32).toNat = v.toNat / 128 * 128 := by
  have h : (Scalar.shrui v 7#32).toNat = v.toNat / 128 := by
    unfold Scalar.shrui IntOp.shrui
    rw [if_pos (by decide), BitVec.ushiftRight_eq', BitVec.toNat_ushiftRight]
    simp [Nat.shiftRight_eq_div_pow]
  show (Scalar.shrui v 7#32 * 128#32).toNat = _
  rw [BitVec.toNat_mul, h]
  have := v.isLt
  simp only [BitVec.toNat_ofNat]
  omega

theorem line_inb (v : BitVec 32) (hv : v.toNat < 999936) {o : Fin 1 → ℕ} (ho : o = ![(Scalar.muli (Scalar.shrui v 7#32) 128#32).toNat]) :
    ∀ a, o a + S128.size a ≤ S1000000.size a := by
  subst ho
  have := shr7_toNat v
  intro a
  fin_cases a
  show (Scalar.muli (Scalar.shrui v 7#32) 128#32).toNat + 128 ≤ 1000000
  omega

theorem off_line {t u : ℕ} (ht : t < 16) (hu : u < 16) :
    (![(Scalar.indexCast (rowW t (BitVec.ofNat 32 u))).toNat, 0] : Fin 2 → ℕ) = ![16 * t + u, 0] := by
  show (![(rowW t (BitVec.ofNat 32 u)).toNat, 0] : Fin 2 → ℕ) = _
  rw [rowW_toNat _ _ ht hu]

theorem line_dvd (v : BitVec 32) : 128 ∣ (Scalar.muli (Scalar.shrui v 7#32) 128#32).toNat := by
  rw [shr7_toNat]; exact Dvd.intro_left _ rfl

/-- The line a row's store leaves. -/
theorem line_write {o : Fin 2 → ℕ} {h : ∀ a, o a + S1x128.size a ≤ S256x128.size a}
    {o19 : Fin 1 → ℕ} {h19 : ∀ a, o19 a + S128.size a ≤ S1000000.size a}
    (fs : SclBuf F c) (fi : IdBuf F c) (b : Fin 24) (kw : Fin 6) (g0 : LineBuf F c) (j : ℕ) (hj' : j < 256) (hfi : IdsOk fi)
    (ho : o = ![j, 0]) (ho19 : o19 = ![(Scalar.muli (Scalar.shrui (idAt fi b kw ⟨j, hj'⟩) 7#32) 128#32).toNat]) :
    (sLine.access (Rect.unit (s := S256x128) o S1x128.size h)).write (Elt F) (lineBuf fs fi b kw g0 j)
        (shapeCast S1x128 (shapeCast S1x128 ((sScl.access (Rect.unit (s := S1000000) o19 S128.size h19)).read (Elt F) fs) shapeCasts_S128_S1x128) shapeCasts_S1x128_S1x128)
        Finset.univ
      = lineBuf fs fi b kw g0 (j + 1) := by
  subst ho ho19
  rw [shapeCast_self]
  have hid : (idAt fi b kw ⟨j, hj'⟩).toNat < 999936 := hfi _
  have hsh := shr7_toNat (idAt fi b kw ⟨j, hj'⟩)
  funext x
  by_cases hx : (x 0).val = j
  · have h1 : (x 1).val < 128 := (x 1).isLt
    have ex : (Rect.unit (s := S256x128) ![j, 0] S1x128.size h).emb (fun a => match a with | 0 => (⟨0, Nat.one_pos⟩ : Fin 1) | 1 => (⟨(x 1).val, h1⟩ : Fin 128)) = x := by
      funext a
      apply Fin.ext
      fin_cases a
      · show j + 1 * 0 = (x 0).val; omega
      · show 0 + 1 * (x 1).val = (x 1).val; omega
    have ew := View.write_emb_of_mem (v := sLine.access (Rect.unit (s := S256x128) ![j, 0] S1x128.size h)) (lineBuf fs fi b kw g0 j)
      (shapeCast S1x128 ((sScl.access (Rect.unit (s := S1000000) ![(Scalar.muli (Scalar.shrui (idAt fi b kw ⟨j, hj'⟩) 7#32) 128#32).toNat] S128.size h19)).read (Elt F) fs) shapeCasts_S128_S1x128)
      (Finset.mem_univ (fun a => match a with | 0 => (⟨0, Nat.one_pos⟩ : Fin 1) | 1 => (⟨(x 1).val, h1⟩ : Fin 128)))
    rw [show (sLine.access (Rect.unit (s := S256x128) ![j, 0] S1x128.size h)).emb (fun a => match a with | 0 => (⟨0, Nat.one_pos⟩ : Fin 1) | 1 => (⟨(x 1).val, h1⟩ : Fin 128)) = x from ex] at ew
    refine ew.trans ?_
    have hc : shapeCast S1x128 ((sScl.access (Rect.unit (s := S1000000) ![(Scalar.muli (Scalar.shrui (idAt fi b kw ⟨j, hj'⟩) 7#32) 128#32).toNat] S128.size h19)).read (Elt F) fs) shapeCasts_S128_S1x128
        (fun a => match a with | 0 => (⟨0, Nat.one_pos⟩ : Fin 1) | 1 => (⟨(x 1).val, h1⟩ : Fin 128))
        = (sScl.access (Rect.unit (s := S1000000) ![(Scalar.muli (Scalar.shrui (idAt fi b kw ⟨j, hj'⟩) 7#32) 128#32).toNat] S128.size h19)).read (Elt F) fs (fun a => match a with | 0 => (⟨(x 1).val, h1⟩ : Fin 128)) := by
      unfold shapeCast
      refine congrArg _ ?_
      have hr : Shape.reshapeEquiv (s := S1x128) (s' := S128) shapeCasts_S128_S1x128.symm (fun a => match a with | 0 => (⟨(x 1).val, h1⟩ : Fin 128))
          = (Fin.cons (⟨0, Nat.one_pos⟩ : Fin 1) (fun a => match a with | 0 => (⟨(x 1).val, h1⟩ : Fin 128)) : S1x128.Idx) :=
        Shape.reshapeEquiv_cons_one (d := ![128]) _ _
      have he : (fun a => match a with | 0 => (⟨0, Nat.one_pos⟩ : Fin 1) | 1 => (⟨(x 1).val, h1⟩ : Fin 128) : S1x128.Idx)
          = (Fin.cons (⟨0, Nat.one_pos⟩ : Fin 1) (fun a => match a with | 0 => (⟨(x 1).val, h1⟩ : Fin 128)) : S1x128.Idx) := by
        funext a; fin_cases a <;> rfl
      refine (congrArg _ (he.trans hr.symm)).trans ?_
      rw [Shape.reshapeEquiv_reshapeEquiv, Shape.reshapeEquiv_self]
      funext a; fin_cases a; rfl
    refine (show _ = _ from hc).trans ?_
    unfold lineBuf
    rw [if_pos (by omega)]
    have ej : x 0 = (⟨j, hj'⟩ : Fin 256) := Fin.ext hx
    show fs _ = fs _
    congr 1
    funext a
    apply Fin.ext
    fin_cases a
    show (Scalar.muli (Scalar.shrui (idAt fi b kw ⟨j, hj'⟩) 7#32) 128#32).toNat + 1 * (x 1).val = min ((idAt fi b kw (x 0)).toNat / 128 * 128 + (x 1).val) 999999
    rw [ej, hsh]
    omega
  · rw [View.write_of_not_mem _ _ _ (by
      intro hm
      obtain ⟨y, -, rfl⟩ := Finset.mem_map.1 hm
      have h0 : (y 0).val < 1 := (y 0).isLt
      exact hx (show j + 1 * (y 0).val = j by omega))]
    unfold lineBuf
    by_cases hl : (x 0).val < j
    · rw [if_pos hl, if_pos (by omega)]
    · rw [if_neg hl, if_neg (by omega)]

theorem wp_gather {oi : Fin 2 → ℕ} {hi : ∀ a, oi a + S1x1.size a ≤ S24x1536.size a} {n1} {r1}
    {P : BitVec 32 → Prop} {dec : ∀ v, Decidable (P v)}
    {o : Fin 2 → ℕ} {h : ∀ a, o a + S1x128.size a ≤ S256x128.size a}
    {o19 : BitVec 32 → Fin 1 → ℕ} {h19 : ∀ v, P v → ∀ a, o19 v a + S128.size a ≤ S1000000.size a}
    {LA : ∀ v (hh : P v), sScl.view.LoadsAt (Rect.unit (s := S1000000) (o19 v) S128.size (h19 v hh)).toLoadRect}
    {LB : sLine.view.LoadsAt (Rect.unit (s := S256x128) o S1x128.size h).toLoadRect}
    {hx : (sLine.access (Rect.unit (s := S256x128) o S1x128.size h)).Stores Finset.univ} {hm : (Finset.univ : Finset (Rect.unit (s := S256x128) o S1x128.size h).shape.Idx) = Finset.univ ∨ ∀ a, (Rect.unit (s := S256x128) o S1x128.size h).stride a = 1}
    {pay : Vec F S128 .f32 → FVec F S1x128 .f32}
    {k : (v : BitVec 32) → PLift (P v) → Vec F S128 .f32 → Vec F S1x128 .f32 → PUnit → Prog (TpuEff nD τ sig (Elt F) Λ₀ .tc) α} {Q : α → sProp 𝕄}
    (fs : SclBuf F c) (fi : IdBuf F c) (b : Fin 24) (kw : Fin 6) (g0 : LineBuf F c) (j : ℕ) (hj' : j < 256) (hfi : IdsOk fi)
    (hoi : oi = ![b.val, 256 * kw.val + j]) (ho : o = ![j, 0])
    (ho19 : ∀ v, o19 v = ![(Scalar.muli (Scalar.shrui v 7#32) 128#32).toNat])
    (hP : ∀ v : BitVec 32, v.toNat < 999936 → P v)
    (hpay : ∀ w, pay w = shapeCast S1x128 (shapeCast S1x128 w shapeCasts_S128_S1x128) shapeCasts_S1x128_S1x128) :
    iprop(pt c cc0_stg1_0 fi ∗ pt c cc0_scratch2 fs ∗ pt c cc0_scratch1 (lineBuf fs fi b kw g0 j))
      ⊢ iprop((∀ w g, pt c cc0_stg1_0 fi ∗ pt c cc0_scratch2 fs ∗ pt c cc0_scratch1 (lineBuf fs fi b kw g0 (j + 1))
            -∗ wp frame (wpE defs 𝒱 (c : Thread nD τ) bd) Set.univ (k (idAt fi b kw ⟨j, hj'⟩) ⟨hP _ (hfi _)⟩ w g ⟨⟩) Q)
        -∗ wp frame (wpE defs 𝒱 (c : Thread nD τ) bd) Set.univ
          (smemLoad aIds (Rect.unit (s := S24x1536) oi S1x1.size hi) n1 r1 >>= fun v : Elt F .i32 =>
            Prog.lift (TpuEff.assume (P v) (dec v)) >>= fun hh =>
            Prog.lift (.load sScl (Rect.unit (s := S1000000) (o19 v) S128.size (h19 v hh.down)).toLoadRect (LA v hh.down)) >>= fun w =>
            Prog.lift (.load sLine (Rect.unit (s := S256x128) o S1x128.size h).toLoadRect LB) >>= fun g =>
            Prog.lift (.store sLine (Rect.unit (s := S256x128) o S1x128.size h) (pay w) Finset.univ hx hm) >>= fun u => k v hh w g u) Q) := by
  iintro ⟨Hi, Hs, Hl⟩ Hk
  iapply (wp_ids 𝒱 c bd (oi := oi) (hi := hi) fi b kw ⟨j, hj'⟩ hoi) $$ Hi
  iintro Hi
  have hok : P (idAt fi b kw ⟨j, hj'⟩) := hP _ (hfi _)
  simp only [Prog.bind_lift]
  iapply (wp_assume 𝒱 (c : Thread nD τ) bd Set.univ hok)
  iapply (wp_load_rect 𝒱 (c : Thread nD τ) bd Set.univ (m := sScl) (r := Rect.unit (s := S1000000) (o19 (idAt fi b kw ⟨j, hj'⟩)) S128.size (h19 _ hok)) (S := Finset.univ) (q := fullShare) (f := fs) (Finset.subset_univ _)) $$ Hs
  iintro Hs
  iapply (wp_load_rect 𝒱 (c : Thread nD τ) bd Set.univ (m := sLine) (r := Rect.unit (s := S256x128) o S1x128.size h) (S := Finset.univ) (q := fullShare) (f := lineBuf fs fi b kw g0 j) (Finset.subset_univ _)) $$ Hl
  iintro Hl
  rw [hpay]
  iapply (wp_store 𝒱 (c : Thread nD τ) bd Set.univ (m := sLine) (r := Rect.unit (s := S256x128) o S1x128.size h) (S := Finset.univ) (f := lineBuf fs fi b kw g0 j) (Finset.subset_univ _)) $$ Hl
  rw [line_write c fs fi b kw g0 j hj' hfi ho (ho19 _)]
  iintro Hl
  iapply Hk
  isplitl [Hi]; · iexact Hi
  isplitl [Hs]; · iexact Hs
  iexact Hl

end Cert.Kernel.Hand
-- ==== Proof.K.Lens.lean ====
/-
  The loads of a length and of a target's id, and the steps of the prologue that start a target row's copy and gather
  the line of scales around a target's id.
-/
module

public import proofs.«01_k».proof.Proof.K.Gather

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

abbrev aLens : Memref sig .tc .smem S24 .i32 := Memref.whole cc0_stg0_0
abbrev aTgt : Memref sig .tc .smem S24 .i32 := Memref.whole cc0_stg2_0
abbrev LenBuf (F : FTy → Type) [FloatOps F] (c : Dev nD) := Buf (Elt F) ((c : Thread nD τ).loc cc0_stg0_0)
abbrev TgtBuf (F : FTy → Type) [FloatOps F] (c : Dev nD) := Buf (Elt F) ((c : Thread nD τ).loc cc0_stg2_0)

def ix24 (b : Fin 24) : S24.Idx := fun a => match a with | 0 => b

/-- The length of a batch row. -/
def lenAt {c : Dev nD} (fl : LenBuf F c) (b : Fin 24) : BitVec 32 := fl (ix24 b)

/-- The targets' ids as if they were the history's, so that the steps over the history's serve them. -/
def fakeIds {c : Dev nD} (ft : TgtBuf F c) : IdBuf F c := fun x => (ft (ix24 ⟨min (x 1).val 23, by omega⟩) : BitVec 32)

def TgtsOk {c : Dev nD} (ft : TgtBuf F c) : Prop := ∀ x, (show BitVec 32 from ft x).toNat < 999936

theorem fakeIds_ok {c : Dev nD} {ft : TgtBuf F c} (h : TgtsOk ft) : IdsOk (fakeIds ft) := fun _ => h _

theorem len_read {o : Fin 1 → ℕ} {h : ∀ a, o a + S1.size a ≤ S24.size a} (fl : LenBuf F c) (b : Fin 24)
    (ho : o = ![b.val]) (hp) :
    (aLens.access (Rect.unit (s := S24) o S1.size h)).read (Elt F) fl (Shape.Idx.first hp) = lenAt fl b := by
  subst ho
  unfold lenAt
  show fl _ = fl _
  congr 1
  funext a
  apply Fin.ext
  fin_cases a
  show b.val + 1 * 0 = b.val; omega

theorem tgt_read {o : Fin 1 → ℕ} {h : ∀ a, o a + S1.size a ≤ S24.size a} (ft : TgtBuf F c) (r : Fin 256) (h24 : r.val < 24)
    (ho : o = ![r.val]) (hp) :
    (aTgt.access (Rect.unit (s := S24) o S1.size h)).read (Elt F) ft (Shape.Idx.first hp) = idAt (fakeIds ft) 0 0 r := by
  subst ho
  unfold idAt fakeIds
  show ft _ = ft _
  congr 1
  funext a
  apply Fin.ext
  fin_cases a
  show r.val + 1 * 0 = min (256 * 0 + r.val) 23; omega

/-- The load of one length. -/
theorem wp_len {oi : Fin 1 → ℕ} {hi : ∀ a, oi a + S1.size a ≤ S24.size a} {n1} {r1}
    {K : BitVec 32 → Prog (TpuEff nD τ sig (Elt F) Λ₀ .tc) α} {Q : α → sProp 𝕄}
    (fl : LenBuf F c) (b : Fin 24) (hoi : oi = ![b.val]) :
    pt c cc0_stg0_0 fl
      ⊢ iprop((pt c cc0_stg0_0 fl -∗ wp frame (wpE defs 𝒱 (c : Thread nD τ) bd) Set.univ (K (lenAt fl b)) Q)
        -∗ wp frame (wpE defs 𝒱 (c : Thread nD τ) bd) Set.univ
          (smemLoad aLens (Rect.unit (s := S24) oi S1.size hi) n1 r1 >>= fun v : Elt F .i32 => K v) Q) := by
  rw [← len_read (h := hi) c fl b hoi (by rw [n1]; decide)]
  exact wp_load_rect 𝒱 (c : Thread nD τ) bd Set.univ (m := aLens) (r := Rect.unit (s := S24) oi S1.size hi) (S := Finset.univ) (q := fullShare) (f := fl)
    (k := fun f => K (f (Shape.Idx.first _))) (Finset.subset_univ _)

/-- The load of one target's id. -/
theorem wp_tgt {oi : Fin 1 → ℕ} {hi : ∀ a, oi a + S1.size a ≤ S24.size a} {n1} {r1}
    {K : BitVec 32 → Prog (TpuEff nD τ sig (Elt F) Λ₀ .tc) α} {Q : α → sProp 𝕄}
    (ft : TgtBuf F c) (r : Fin 256) (h24 : r.val < 24) (hoi : oi = ![r.val]) :
    pt c cc0_stg2_0 ft
      ⊢ iprop((pt c cc0_stg2_0 ft -∗ wp frame (wpE defs 𝒱 (c : Thread nD τ) bd) Set.univ (K (idAt (fakeIds ft) 0 0 r)) Q)
        -∗ wp frame (wpE defs 𝒱 (c : Thread nD τ) bd) Set.univ
          (smemLoad aTgt (Rect.unit (s := S24) oi S1.size hi) n1 r1 >>= fun v : Elt F .i32 => K v) Q) := by
  rw [← tgt_read (h := hi) c ft r h24 hoi (by rw [n1]; decide)]
  exact wp_load_rect 𝒱 (c : Thread nD τ) bd Set.univ (m := aTgt) (r := Rect.unit (s := S24) oi S1.size hi) (S := Finset.univ) (q := fullShare) (f := ft)
    (k := fun f => K (f (Shape.Idx.first _))) (Finset.subset_univ _)

theorem wp_trow {oi : Fin 1 → ℕ} {hi : ∀ a, oi a + S1.size a ≤ S24.size a} {n1} {r1}
    {P : BitVec 32 → Prop} {dec : ∀ v, Decidable (P v)}
    {o : Fin 3 → ℕ} {h : ∀ a, o a + S1x1x256.size a ≤ S3x256x256.size a}
    {o' : BitVec 32 → Fin 2 → ℕ} {h' : ∀ v, P v → ∀ a, o' v a + S1x256.size a ≤ S250000x256.size a} {sm sm' : DmaSem sig}
    {hsrc : ∀ (v : BitVec 32) (hP : P v), (hWords.slice (Rect.unit (s := S250000x256) (o' v) S1x256.size (h' v hP)) (fun _ => rfl)).view.WordExact}
    {hdst : ((sRows.slice (Rect.unit (s := S3x256x256) o S1x1x256.size h) (fun _ => rfl)).squeeze S1x256 squeezes_S1x1x256_S1x256).view.WordExact} {hsem : DmaTarget.Typed .hbm (.dma sm') (DmaTarget.here (nD := nD) (p := (Proc.tc : Proc τ)) ((sRows.slice (Rect.unit (s := S3x256x256) o S1x1x256.size h) (fun _ => rfl)).squeeze S1x256 squeezes_S1x1x256_S1x256))}
    {k : (v : BitVec 32) → PLift (P v) → PUnit → Prog (TpuEff nD τ sig (Elt F) Λ₀ .tc) α} {Q : α → sProp 𝕄}
    (s : Fin 3) (q0 : PosShare TreeShare) (fw : WordBuf F c) (ft : TgtBuf F c) (f : RingBuf F c) (n j : ℕ)
    (hj : j < n) (hj' : j < 256) (h24 : j < 24) (hfi : TgtsOk ft)
    (hoi : oi = ![j]) (ho : o = ![s.val, j, 0]) (ho' : ∀ v, o' v = ![(Scalar.shrui v 2#32).toNat, 0])
    (hP : ∀ v : BitVec 32, v.toNat < 999936 → P v) (hsm : sm' = sm) :
    iprop(pt c cc0_stg2_0 ft ∗ Filling c (.dma sm) s q0 fw (gathered fw (fakeIds ft) 0 0) f n j)
      ⊢ iprop((pt c cc0_stg2_0 ft ∗ Filling c (.dma sm) s q0 fw (gathered fw (fakeIds ft) 0 0) f n (j + 1)
            -∗ wp frame (wpE defs 𝒱 (c : Thread nD τ) bd) Set.univ (k (idAt (fakeIds ft) 0 0 ⟨j, hj'⟩) ⟨hP _ (fakeIds_ok hfi _)⟩ ⟨⟩) Q)
        -∗ wp frame (wpE defs 𝒱 (c : Thread nD τ) bd) Set.univ
          (smemLoad aTgt (Rect.unit (s := S24) oi S1.size hi) n1 r1 >>= fun v : Elt F .i32 =>
            Prog.lift (TpuEff.assume (P v) (dec v)) >>= fun hh =>
            Prog.lift (.enqueueDma (hWords.slice (Rect.unit (s := S250000x256) (o' v) S1x256.size (h' v hh.down)) (fun _ => rfl))
            (.here ((sRows.slice (Rect.unit (s := S3x256x256) o S1x1x256.size h) (fun _ => rfl)).squeeze S1x256 squeezes_S1x1x256_S1x256))
            (.dma sm') (hsrc v hh.down) hdst hsem) >>= fun u => k v hh u) Q) := by
  subst hsm
  iintro ⟨Hi, HF⟩ Hk
  iapply (wp_tgt 𝒱 c bd (oi := oi) (hi := hi) ft ⟨j, hj'⟩ h24 hoi) $$ Hi
  iintro Hi
  have hq : o' (idAt (fakeIds ft) 0 0 ⟨j, hj'⟩) = ![(quart (idAt (fakeIds ft) 0 0 ⟨j, hj'⟩)).val, 0] := by
    rw [ho', shr2_toNat]
    have : (idAt (fakeIds ft) 0 0 ⟨j, hj'⟩).toNat < 999936 := fakeIds_ok hfi _
    show _ = ![min ((idAt (fakeIds ft) 0 0 ⟨j, hj'⟩).toNat / 4) 249999, 0]
    rw [min_eq_left (by omega)]
  have hok : P (idAt (fakeIds ft) 0 0 ⟨j, hj'⟩) := hP _ (fakeIds_ok hfi _)
  iapply (wp_assume 𝒱 (c : Thread nD τ) bd Set.univ hok)
  iapply (wp_issue_row 𝒱 c bd s q0 fw (gathered fw (fakeIds ft) 0 0) f n j hj hj' (quart (idAt (fakeIds ft) 0 0 ⟨j, hj'⟩)) ho hq (fun l => rfl)) $$ HF
  iintro HF
  simp only [Prog.bind_ret]
  iapply Hk
  isplitl [Hi]; · iexact Hi
  iexact HF

theorem wp_tgather {oi : Fin 1 → ℕ} {hi : ∀ a, oi a + S1.size a ≤ S24.size a} {n1} {r1}
    {P : BitVec 32 → Prop} {dec : ∀ v, Decidable (P v)}
    {o : Fin 2 → ℕ} {h : ∀ a, o a + S1x128.size a ≤ S256x128.size a}
    {o19 : BitVec 32 → Fin 1 → ℕ} {h19 : ∀ v, P v → ∀ a, o19 v a + S128.size a ≤ S1000000.size a}
    {LA : ∀ v (hh : P v), sScl.view.LoadsAt (Rect.unit (s := S1000000) (o19 v) S128.size (h19 v hh)).toLoadRect}
    {LB : sLine.view.LoadsAt (Rect.unit (s := S256x128) o S1x128.size h).toLoadRect}
    {hx : (sLine.access (Rect.unit (s := S256x128) o S1x128.size h)).Stores Finset.univ} {hm : (Finset.univ : Finset (Rect.unit (s := S256x128) o S1x128.size h).shape.Idx) = Finset.univ ∨ ∀ a, (Rect.unit (s := S256x128) o S1x128.size h).stride a = 1}
    {pay : Vec F S128 .f32 → FVec F S1x128 .f32}
    {k : (v : BitVec 32) → PLift (P v) → Vec F S128 .f32 → Vec F S1x128 .f32 → PUnit → Prog (TpuEff nD τ sig (Elt F) Λ₀ .tc) α} {Q : α → sProp 𝕄}
    (fs : SclBuf F c) (ft : TgtBuf F c) (g0 : LineBuf F c) (j : ℕ) (hj' : j < 256) (h24 : j < 24) (hfi : TgtsOk ft)
    (hoi : oi = ![j]) (ho : o = ![j, 0])
    (ho19 : ∀ v, o19 v = ![(Scalar.muli (Scalar.shrui v 7#32) 128#32).toNat])
    (hP : ∀ v : BitVec 32, v.toNat < 999936 → P v)
    (hpay : ∀ w, pay w = shapeCast S1x128 (shapeCast S1x128 w shapeCasts_S128_S1x128) shapeCasts_S1x128_S1x128) :
    iprop(pt c cc0_stg2_0 ft ∗ pt c cc0_scratch2 fs ∗ pt c cc0_scratch1 (lineBuf fs (fakeIds ft) 0 0 g0 j))
      ⊢ iprop((∀ w g, pt c cc0_stg2_0 ft ∗ pt c cc0_scratch2 fs ∗ pt c cc0_scratch1 (lineBuf fs (fakeIds ft) 0 0 g0 (j + 1))
            -∗ wp frame (wpE defs 𝒱 (c : Thread nD τ) bd) Set.univ (k (idAt (fakeIds ft) 0 0 ⟨j, hj'⟩) ⟨hP _ (fakeIds_ok hfi _)⟩ w g ⟨⟩) Q)
        -∗ wp frame (wpE defs 𝒱 (c : Thread nD τ) bd) Set.univ
          (smemLoad aTgt (Rect.unit (s := S24) oi S1.size hi) n1 r1 >>= fun v : Elt F .i32 =>
            Prog.lift (TpuEff.assume (P v) (dec v)) >>= fun hh =>
            Prog.lift (.load sScl (Rect.unit (s := S1000000) (o19 v) S128.size (h19 v hh.down)).toLoadRect (LA v hh.down)) >>= fun w =>
            Prog.lift (.load sLine (Rect.unit (s := S256x128) o S1x128.size h).toLoadRect LB) >>= fun g =>
            Prog.lift (.store sLine (Rect.unit (s := S256x128) o S1x128.size h) (pay w) Finset.univ hx hm) >>= fun u => k v hh w g u) Q) := by
  iintro ⟨Hi, Hs, Hl⟩ Hk
  iapply (wp_tgt 𝒱 c bd (oi := oi) (hi := hi) ft ⟨j, hj'⟩ h24 hoi) $$ Hi
  iintro Hi
  have hok : P (idAt (fakeIds ft) 0 0 ⟨j, hj'⟩) := hP _ (fakeIds_ok hfi _)
  simp only [Prog.bind_lift]
  iapply (wp_assume 𝒱 (c : Thread nD τ) bd Set.univ hok)
  iapply (wp_load_rect 𝒱 (c : Thread nD τ) bd Set.univ (m := sScl) (r := Rect.unit (s := S1000000) (o19 (idAt (fakeIds ft) 0 0 ⟨j, hj'⟩)) S128.size (h19 _ hok)) (S := Finset.univ) (q := fullShare) (f := fs) (Finset.subset_univ _)) $$ Hs
  iintro Hs
  iapply (wp_load_rect 𝒱 (c : Thread nD τ) bd Set.univ (m := sLine) (r := Rect.unit (s := S256x128) o S1x128.size h) (S := Finset.univ) (q := fullShare) (f := lineBuf fs (fakeIds ft) 0 0 g0 j) (Finset.subset_univ _)) $$ Hl
  iintro Hl
  rw [hpay]
  iapply (wp_store 𝒱 (c : Thread nD τ) bd Set.univ (m := sLine) (r := Rect.unit (s := S256x128) o S1x128.size h) (S := Finset.univ) (f := lineBuf fs (fakeIds ft) 0 0 g0 j) (Finset.subset_univ _)) $$ Hl
  rw [line_write c fs (fakeIds ft) 0 0 g0 j hj' (fakeIds_ok hfi) ho (ho19 _)]
  iintro Hl
  iapply Hk
  isplitl [Hi]; · iexact Hi
  isplitl [Hs]; · iexact Hs
  iexact Hl

end Cert.Kernel.Hand
-- ==== Proof.K.Wait.lean ====
/-
  The waits on a slot's copies, and what the slot is once they are all over.
-/
module

public import proofs.«01_k».proof.Proof.K.Row

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

/-- The core owes nothing, whatever it has waited for. -/
def noDebt (c : Dev nD) : sProp 𝕄 := iprop(∃ W, owes (c : Thread nD τ) 0 W)

theorem wp_wait_row {o : Fin 3 → ℕ} {h : ∀ a, o a + S1x1x256.size a ≤ S3x256x256.size a}
    {o' : Fin 2 → ℕ} {h' : ∀ a, o' a + S1x256.size a ≤ S250000x256.size a} {sm sm' : DmaSem sig}
    {hsrc : (hWords.slice (Rect.unit (s := S250000x256) o' S1x256.size h') (fun _ => rfl)).view.WordExact}
    {hdst : ((sRows.slice (Rect.unit (s := S3x256x256) o S1x1x256.size h) (fun _ => rfl)).squeeze S1x256 squeezes_S1x1x256_S1x256).view.WordExact}
    {k : PUnit → Prog (TpuEff nD τ sig (Elt F) Λ₀ .tc) α} {Q : α → sProp 𝕄}
    (s : ℕ) (q0 : PosShare TreeShare) (fw : WordBuf F c) (G : RingBuf F c) (n j : ℕ) (hj : j < n) (hsm : sm' = sm) :
    iprop(RowBatch c (.dma sm) s q0 fw G n n (rowN * j) ∗ noDebt c)
      ⊢ iprop((RowBatch c (.dma sm) s q0 fw G n n (rowN * (j + 1)) ∗ noDebt c
            -∗ wp frame (wpE defs 𝒱 (c : Thread nD τ) bd) Set.univ (k ⟨⟩) Q)
        -∗ wp frame (wpE defs 𝒱 (c : Thread nD τ) bd) Set.univ
          (Prog.lift (.waitDma2 sm' (hWords.slice (Rect.unit (s := S250000x256) o' S1x256.size h') (fun _ => rfl))
            ((sRows.slice (Rect.unit (s := S3x256x256) o S1x1x256.size h) (fun _ => rfl)).squeeze S1x256 squeezes_S1x1x256_S1x256) hsrc hdst) >>= fun u => k u) Q) := by
  subst hsm
  unfold noDebt
  iintro ⟨HB, %W, HO⟩ Hk
  simp only [Prog.bind_lift]
  have hu : rowN * j + 1 * rowN ≤ rowN * n := by
    have : rowN * (j + 1) ≤ rowN * n := Nat.mul_le_mul_left _ hj
    rw [Nat.mul_succ] at this; omega
  iapply (wp_waitBatchMul EC 𝒱 (c : Thread nD τ) bd
    (dstw := ((sRows.slice (Rect.unit (s := S3x256x256) o S1x1x256.size h) (fun _ => rfl)).squeeze S1x256 squeezes_S1x1x256_S1x256)) () (N := rowN) 1 (Nat.one_mul _).symm hu) $$ [HB HO]
  · isplitl [HB]; · iexact HB
    iexact HO
  rw [show rowN * j + 1 * rowN = rowN * (j + 1) by rw [Nat.mul_succ]; omega]
  iintro ⟨HB, HO⟩
  iapply Hk
  isplitl [HB]; · iexact HB
  iexists _
  iexact HO

/-- An idle slot: the whole of it, its semaphore at rest and its share of the word array. -/
def Idle (c : Dev nD) (s : Fin 3) (q0 : PosShare TreeShare) (fw : WordBuf F c) (f : RingBuf F c) : sProp 𝕄 :=
  iprop((((c : Thread nD τ).loc cc0_scratch0) ↦[rowsSet s 0 256]{fullShare} f)
    ∗ (((c : Thread nD τ).loc main_v2) ↦{q0} fw) ∗ semVal ((c : Thread nD τ), .dma (slotSem s)) 0)

/-- The rows below `n` gathered, the rest as they were. -/
def filled {c : Dev nD} (G f : RingBuf F c) (n : ℕ) : RingBuf F c := fun x => if (x 1).val < n then G x else f x

/-- An idle slot's batch opens: nothing of its block has started. -/
theorem idle_open (s : Fin 3) (q0 : PosShare TreeShare) (fw : WordBuf F c) (G f : RingBuf F c) (n : ℕ) {E : Set ℕ} :
    Idle c s q0 fw f ⊢ (|={E}=> Filling c (.dma (slotSem s)) s q0 fw G f n 0 : sProp 𝕄) := by
  unfold Idle Filling RowBatch
  iintro ⟨Hr, Hw, Hv⟩
  imod (batch_alloc' EC (c : Thread nD τ) () rowN (rowDeliv c s q0 fw G n) (E := E)) $$ Hv with HB
  imodintro
  isplitl [Hr]; · iexact Hr
  isplitl [Hw]; · iexact Hw
  iexact HB

/-- A full batch all of whose units have been waited for gives the slot back. -/
theorem idle_close (s : Fin 3) (q0 : PosShare TreeShare) (fw : WordBuf F c) (G f : RingBuf F c) (n : ℕ) (hn : n ≤ 256) :
    iprop((((c : Thread nD τ).loc cc0_scratch0) ↦[rowsSet s n 256]{fullShare} f)
      ∗ (((c : Thread nD τ).loc main_v2) ↦{shareDrop q0 n} fw) ∗ RowBatch c (.dma (slotSem s)) s q0 fw G n n (rowN * n))
      ⊢ (|={Set.univ}=> Idle c s q0 fw (filled G f n) : sProp 𝕄) := by
  unfold RowBatch
  iintro ⟨Hr, Hw, HB⟩
  imod (batch_collect' EC (c : Thread nD τ) rowN_pos) $$ HB with ⟨HD, Hv⟩
  imodintro
  have hD : bigSep Finset.univ (rowDeliv c s q0 fw G n)
      ⊢ iprop(((((c : Thread nD τ).loc cc0_scratch0) ↦[rowsSet s 0 n]{fullShare} G))
        ∗ bigSep Finset.univ (fun i : Fin n => ((c : Thread nD τ).loc main_v2) ↦{shareTok q0 n i} fw) : sProp 𝕄) := by
    have he : bigSep Finset.univ (rowDeliv c s q0 fw G n)
        = iprop(bigSep Finset.univ (fun t : Fin n => ((c : Thread nD τ).loc cc0_scratch0) ↦[rowsSet s t.val (t.val + 1)]{fullShare} G)
          ∗ bigSep Finset.univ (fun i : Fin n => ((c : Thread nD τ).loc main_v2) ↦{shareTok q0 n i} fw) : sProp 𝕄) := by
      exact BI.bigSep_sep _ (fun t : Fin n => ((c : Thread nD τ).loc cc0_scratch0) ↦[rowsSet s t.val (t.val + 1)]{fullShare} G) (fun i : Fin n => ((c : Thread nD τ).loc main_v2) ↦{shareTok q0 n i} fw)
    have hd : ∀ t ∈ (Finset.univ : Finset (Fin n)), ∀ t' ∈ (Finset.univ : Finset (Fin n)), t ≠ t' →
        Disjoint (rowsSet s t.val (t.val + 1)) (rowsSet s t'.val (t'.val + 1)) := fun t _ t' _ hne => by
      rw [Finset.disjoint_left]; intro x hx hx'
      rw [mem_rowsSet] at hx hx'
      exact hne (Fin.ext (by omega))
    have hset : (Finset.univ : Finset (Fin n)).biUnion (fun t => rowsSet s t.val (t.val + 1)) = rowsSet s 0 n := by
      ext x
      simp only [Finset.mem_biUnion, Finset.mem_univ, _root_.true_and, mem_rowsSet]
      constructor
      · rintro ⟨t, h0, h1, h2⟩; have := t.isLt; omega
      · rintro ⟨h0, h1, h2⟩; exact ⟨⟨(x 1).val, h2⟩, h0, le_rfl, Nat.lt_succ_self _⟩
    have hj := pointsTo_biUnion (Finset.univ : Finset (Fin n)) (fun t => rowsSet s t.val (t.val + 1)) hd (q := fullShare) (f := G)
      (Ix := Unit) (Name := ℕ) (U := Pipeline.UD sig nD τ) (Lvl := ℕ) (ℓ := (c : Thread nD τ).loc cc0_scratch0)
    rw [hset] at hj
    rw [he, hj]
  ihave HD' := hD $$ HD
  icases HD' with ⟨HG, Ht⟩
  unfold Idle
  isplitl [Hr HG]
  · have hu : iprop(((((c : Thread nD τ).loc cc0_scratch0) ↦[rowsSet s 0 n]{fullShare} G)) ∗ (((c : Thread nD τ).loc cc0_scratch0) ↦[rowsSet s n 256]{fullShare} f))
        ⊢ (((c : Thread nD τ).loc cc0_scratch0) ↦[rowsSet s 0 256]{fullShare} (filled G f n) : sProp 𝕄) := by
      rw [show rowsSet s 0 256 = rowsSet s 0 n ∪ rowsSet s n 256 by ext x; simp only [Finset.mem_union, mem_rowsSet]; omega]
      rw [pointsTo_congr (f := G) (g := filled G f n) (fun x hx => by rw [mem_rowsSet] at hx; unfold filled; rw [if_pos hx.2.2]),
        pointsTo_congr (f := f) (g := filled G f n) (fun x hx => by rw [mem_rowsSet] at hx; unfold filled; rw [if_neg (by omega)])]
      exact (pointsTo_union rowsSet_disj).2
    iapply hu
    isplitl [HG]; · iexact HG
    iexact Hr
  isplitl [Hw Ht]
  · iapply (pointsTo_toks_join q0 n)
    isplitl [Hw]; · iexact Hw
    iexact Ht
  iexact Hv

end Cert.Kernel.Hand
-- ==== Proof.K.Positions.lean ====
/-
  The order in which the kernel takes the blocks: for each batch row its blocks of 256 history rows, one block at
  least. `pos i` is the i-th (batch row, block); a row past the last is written 24.
-/
module

public import proofs.«01_k».proof.Proof.K.Words

@[expose] public section

noncomputable section

namespace Cert.Kernel.Hand

open Idealize.ShloMosaic

/-- The number of blocks a length needs, as the kernel computes it. -/
def nbW (v : BitVec 32) : BitVec 32 := Scalar.maxsi (Scalar.divsi (Scalar.addi v 255#32) 256#32) 1#32

/-- The next batch row and the next block, as the kernel computes them from the length of the batch row. -/
def advB (v b k : BitVec 32) : BitVec 32 :=
  Scalar.select (Scalar.cmpi .slt b 24#32) (Scalar.select (Scalar.cmpi .sge (Scalar.addi k 1#32) (nbW v)) (Scalar.addi (Scalar.minsi b 23#32) 1#32) (Scalar.minsi b 23#32)) 24#32
def advK (v k : BitVec 32) : BitVec 32 :=
  Scalar.select (Scalar.cmpi .sge (Scalar.addi k 1#32) (nbW v)) 0#32 (Scalar.addi k 1#32)

theorem w_select {α : Type} (b : Bool) (x y : α) : Scalar.select (BitVec.ofBool b) x y = if b then x else y := by
  cases b <;> rfl

theorem toInt_small {x : BitVec 32} (h : x.toNat < 1000) : x.toInt = x.toNat := by
  rw [BitVec.toInt_eq_toNat_cond, if_pos (by omega)]

/-- A length that fits the history: what the precondition grants. -/
def LenOk (v : BitVec 32) : Prop := v.toInt ≤ 1536

theorem nbW_toInt {v : BitVec 32} (hv : LenOk v) : (nbW v).toInt = max ((v.toInt + 255).tdiv 256) 1 := by
  unfold LenOk at hv
  have hl := BitVec.le_toInt v
  have ha : (Scalar.addi v 255#32).toInt = v.toInt + 255 := by
    show (v + 255#32).toInt = _
    rw [BitVec.toInt_add, show (255#32).toInt = 255 from rfl]
    apply Int.bmod_eq_of_le <;> omega
  have hc : ¬ IntOp.SDivCorner (Scalar.addi v 255#32) 256#32 := by
    unfold IntOp.SDivCorner
    rintro (h | ⟨-, h⟩) <;> exact absurd h (by decide)
  have hd : (Scalar.divsi (Scalar.addi v 255#32) 256#32).toInt = (v.toInt + 255).tdiv 256 := by
    unfold Scalar.divsi IntOp.divsi
    rw [if_neg hc, BitVec.toInt_sdiv_of_ne_or_ne _ _ (Or.inr (by decide)), ha]
    rfl
  unfold nbW Scalar.maxsi IntOp.maxsi
  rw [BitVec.slt_eq_decide, hd, show (1#32).toInt = 1 from rfl]
  split
  · rename_i h; rw [decide_eq_true_eq] at h; rw [hd]; omega
  · rename_i h; rw [decide_eq_true_eq] at h; rw [show (1#32).toInt = 1 from rfl]; omega

theorem nbW_bounds {v : BitVec 32} (hv : LenOk v) : 1 ≤ (nbW v).toNat ∧ (nbW v).toNat ≤ 6 := by
  have h := nbW_toInt hv
  unfold LenOk at hv
  have h2 : (v.toInt + 255).tdiv 256 ≤ 6 := by
    rcases le_or_gt 0 (v.toInt + 255) with hp | hp
    · rw [Int.tdiv_eq_ediv_of_nonneg hp]; omega
    · have h3 := Int.neg_tdiv (v.toInt + 255) 256
      have h4 : (0:ℤ) ≤ (-(v.toInt + 255)).tdiv 256 := Int.tdiv_nonneg (by omega) (by decide)
      omega
  have h5 : (nbW v).toInt = (nbW v).toNat := by
    rw [BitVec.toInt_eq_toNat_cond] at h ⊢
    split
    · rfl
    · rename_i hh; rw [if_neg hh] at h; omega
  omega

/-- The number of blocks of a batch row. -/
def nb (v : BitVec 32) : ℕ := (nbW v).toNat

/-- A batch row number kept below 24. -/
def fin24 (b : ℕ) : Fin 24 := ⟨min b 23, by omega⟩
def fin6 (k : ℕ) : Fin 6 := ⟨min k 5, by omega⟩

theorem sge_nb {v k : BitVec 32} (hv : LenOk v) (hk : k.toNat < 6) :
    Scalar.cmpi .sge (Scalar.addi k 1#32) (nbW v) = BitVec.ofBool (decide (nb v ≤ k.toNat + 1)) := by
  have hb := nbW_bounds hv
  have ha : (Scalar.addi k 1#32).toNat = k.toNat + 1 := by
    show (k + 1#32).toNat = _
    simp only [BitVec.toNat_add, BitVec.toNat_ofNat]; omega
  unfold Scalar.cmpi IntOp.cmpi
  congr 1
  simp only [BitVec.sle_eq_decide]
  rw [toInt_small (x := nbW v) (by omega), toInt_small (x := Scalar.addi k 1#32) (by omega), ha]
  unfold nb
  rw [decide_eq_decide]; omega

/-- The next position. -/
def stepPos (L : Fin 24 → BitVec 32) (p : ℕ × ℕ) : ℕ × ℕ :=
  (if p.1 < 24 then (if nb (L (fin24 p.1)) ≤ p.2 + 1 then p.1 + 1 else p.1) else 24, if nb (L (fin24 p.1)) ≤ p.2 + 1 then 0 else p.2 + 1)

def pos (L : Fin 24 → BitVec 32) : ℕ → ℕ × ℕ
  | 0 => (0, 0)
  | i + 1 => stepPos L (pos L i)

/-- The blocks of the batch rows before `b`. -/
def pre (L : Fin 24 → BitVec 32) : ℕ → ℕ
  | 0 => 0
  | b + 1 => pre L b + nb (L (fin24 b))

variable {L : Fin 24 → BitVec 32} (hL : ∀ b, LenOk (L b))

theorem slt_24 {b : BitVec 32} (hb : b.toNat ≤ 24) : Scalar.cmpi .slt b 24#32 = BitVec.ofBool (decide (b.toNat < 24)) := by
  unfold Scalar.cmpi IntOp.cmpi
  congr 1
  simp only [BitVec.slt_eq_decide]
  rw [toInt_small (x := b) (by omega), show (24#32).toInt = 24 from rfl, decide_eq_decide]; omega

theorem min_23 {b : BitVec 32} (hb : b.toNat ≤ 24) : (Scalar.minsi b 23#32).toNat = (fin24 b.toNat).val := by
  unfold Scalar.minsi IntOp.minsi fin24
  rw [BitVec.slt_eq_decide, toInt_small (x := b) (by omega), show (23#32).toInt = 23 from rfl]
  show _ = min b.toNat 23
  split
  · rename_i h; rw [decide_eq_true_eq] at h; omega
  · rename_i h; rw [decide_eq_true_eq] at h; rw [show (23#32).toNat = 23 from rfl]; omega

include hL in
theorem adv_toNat {b k : BitVec 32} (hb : b.toNat ≤ 24) (hk : k.toNat < 6) :
    ((advB (L (fin24 b.toNat)) b k).toNat, (advK (L (fin24 b.toNat)) k).toNat) = stepPos L (b.toNat, k.toNat) := by
  have ha : (Scalar.addi k 1#32).toNat = k.toNat + 1 := by
    show (k + 1#32).toNat = _
    simp only [BitVec.toNat_add, BitVec.toNat_ofNat]; omega
  have hm := min_23 hb
  have hm1 : (Scalar.addi (Scalar.minsi b 23#32) 1#32).toNat = (fin24 b.toNat).val + 1 := by
    show (Scalar.minsi b 23#32 + 1#32).toNat = _
    have := (fin24 b.toNat).isLt
    simp only [BitVec.toNat_add, BitVec.toNat_ofNat]; omega
  have hf : b.toNat < 24 → (fin24 b.toNat).val = b.toNat := fun h => by show min b.toNat 23 = _; omega
  unfold advB advK stepPos
  rw [slt_24 hb, sge_nb (hL _) hk, w_select, w_select, w_select]
  simp only [decide_eq_true_eq]
  by_cases h1 : b.toNat < 24
  · rw [if_pos h1, if_pos h1]
    by_cases h2 : nb (L (fin24 b.toNat)) ≤ k.toNat + 1
    · simp only [if_pos h2]; rw [hm1, hf h1]; rfl
    · simp only [if_neg h2]; rw [hm, hf h1, ha]
  · rw [if_neg h1, if_neg h1]
    by_cases h2 : nb (L (fin24 b.toNat)) ≤ k.toNat + 1
    · simp only [if_pos h2]; rfl
    · simp only [if_neg h2]; rw [ha]; rfl

include hL in
theorem pos_facts (i : ℕ) : (pos L i).1 ≤ 24 ∧ (pos L i).2 < 6
    ∧ ((pos L i).1 < 24 → pre L (pos L i).1 + (pos L i).2 = i ∧ (pos L i).2 < nb (L (fin24 (pos L i).1)))
    ∧ ((pos L i).1 = 24 → pre L 24 ≤ i) := by
  induction i with
  | zero =>
    refine ⟨Nat.zero_le _, (by decide : 0 < 6), fun _ => ⟨rfl, ?_⟩, fun h => absurd h (by decide : ¬ 0 = 24)⟩
    exact (nbW_bounds (hL _)).1
  | succ i ih =>
    obtain ⟨h1, h2, h3, h4⟩ := ih
    have hb := nbW_bounds (hL (fin24 (pos L i).1))
    show (stepPos L (pos L i)).1 ≤ 24 ∧ (stepPos L (pos L i)).2 < 6 ∧ ((stepPos L (pos L i)).1 < 24 → pre L (stepPos L (pos L i)).1 + (stepPos L (pos L i)).2 = i + 1 ∧ (stepPos L (pos L i)).2 < nb (L (fin24 (stepPos L (pos L i)).1))) ∧ ((stepPos L (pos L i)).1 = 24 → pre L 24 ≤ i + 1)
    generalize pos L i = p at *
    obtain ⟨b, k⟩ := p
    dsimp only at h1 h2 h3 h4 hb
    unfold stepPos
    dsimp only
    have hnb : nb (L (fin24 b)) = (nbW (L (fin24 b))).toNat := rfl
    by_cases hlt : b < 24
    · obtain ⟨h5, h6⟩ := h3 hlt
      rw [if_pos hlt]
      by_cases hk : nb (L (fin24 b)) ≤ k + 1
      · rw [if_pos hk, if_pos hk]
        have hp : pre L (b + 1) = i + 1 := by show pre L b + nb (L (fin24 b)) = i + 1; omega
        refine ⟨by omega, by decide, fun _ => ⟨by omega, (nbW_bounds (hL _)).1⟩, fun h => ?_⟩
        rw [← h, hp]
      · rw [if_neg hk, if_neg hk]
        exact ⟨by omega, by omega, fun _ => ⟨by omega, by omega⟩, fun h => by omega⟩
    · rw [if_neg hlt]
      have : b = 24 := by omega
      have h7 := h4 this
      refine ⟨le_rfl, ?_, fun h => absurd h (by decide), fun _ => by omega⟩
      split
      · decide
      · omega

theorem pre_mono {a b : ℕ} (h : a ≤ b) : pre L a ≤ pre L b := by
  induction h with
  | refl => exact le_rfl
  | step _ ih => exact ih.trans (Nat.le_add_right _ _)

include hL in
/-- Before all blocks are done, the position is a batch row's. -/
theorem pos_lt {i : ℕ} (h : i < pre L 24) : (pos L i).1 < 24 := by
  obtain ⟨h1, -, -, h4⟩ := pos_facts hL i
  rcases Nat.lt_or_ge (pos L i).1 24 with h5 | h5
  · exact h5
  · have := h4 (by omega); omega

include hL in
/-- Afterwards there is none left. -/
theorem pos_end {i : ℕ} (h : pre L 24 ≤ i) : (pos L i).1 = 24 := by
  obtain ⟨h1, -, h3, -⟩ := pos_facts hL i
  rcases Nat.lt_or_ge (pos L i).1 24 with h5 | h5
  · obtain ⟨h6, h7⟩ := h3 h5
    have h8 : pre L ((pos L i).1 + 1) ≤ pre L 24 := pre_mono (by omega)
    have h9 : pre L ((pos L i).1 + 1) = pre L (pos L i).1 + nb (L (fin24 (pos L i).1)) := rfl
    omega
  · omega

include hL in
theorem pre_le (b : ℕ) : pre L b ≤ 6 * b := by
  induction b with
  | zero => exact le_rfl
  | succ b ih =>
    have := (nbW_bounds (hL (fin24 b))).2
    show pre L b + nb (L (fin24 b)) ≤ _
    unfold nb; omega

include hL in
theorem pre_add {b : ℕ} (hb : b < 24) {acc : BitVec 32} (ha : acc.toNat = pre L b) :
    (Scalar.addi acc (nbW (L (fin24 b)))).toNat = pre L (b + 1) := by
  have h1 := pre_le hL b
  have h2 := (nbW_bounds (hL (fin24 b))).2
  show (acc + nbW (L (fin24 b))).toNat = pre L b + (nbW (L (fin24 b))).toNat
  rw [BitVec.toNat_add, ha]; omega

end Cert.Kernel.Hand
-- ==== Proof.K.Slots.lean ====
/-
  What a ring slot holds while the kernel runs, and small rules for loads, stores and cuts in a program.
-/
module

public import proofs.«01_k».proof.Proof.K.Lens
public import proofs.«01_k».proof.Proof.K.Wait
public import proofs.«01_k».proof.Proof.K.Positions

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

/-- A program's front part run to a condition that the rest starts from. -/
theorem wp_cut {β : Type} {p : Prog (TpuEff nD τ sig (Elt F) Λ₀ .tc) β} {k : β → Prog (TpuEff nD τ sig (Elt F) Λ₀ .tc) α} {Q : α → sProp 𝕄}
    {P : sProp 𝕄} {Φ : β → sProp 𝕄} (h : P ⊢ wp frame (wpE defs 𝒱 (c : Thread nD τ) bd) Set.univ p Φ) :
    P ⊢ iprop((∀ a, Φ a -∗ wp frame (wpE defs 𝒱 (c : Thread nD τ) bd) Set.univ (k a) Q)
      -∗ wp frame (wpE defs 𝒱 (c : Thread nD τ) bd) Set.univ (p >>= k) Q) := by
  rw [wp_bind]
  exact h.trans (wp_wand _ _ _)

/-- A branch whose condition holds, and one whose condition fails. -/
theorem wp_if_pos {C : Prop} [Decidable C] (hc : C) {t : C → Prog (TpuEff nD τ sig (Elt F) Λ₀ .tc) α} {e : ¬ C → Prog (TpuEff nD τ sig (Elt F) Λ₀ .tc) α} {Q : α → sProp 𝕄} :
    wp frame (wpE defs 𝒱 (c : Thread nD τ) bd) Set.univ (t hc) Q ⊢ wp frame (wpE defs 𝒱 (c : Thread nD τ) bd) Set.univ (dite C t e) Q := by
  rw [dif_pos hc]
theorem wp_if_neg {C : Prop} [Decidable C] (hc : ¬ C) {t : C → Prog (TpuEff nD τ sig (Elt F) Λ₀ .tc) α} {e : ¬ C → Prog (TpuEff nD τ sig (Elt F) Λ₀ .tc) α} {Q : α → sProp 𝕄} :
    wp frame (wpE defs 𝒱 (c : Thread nD τ) bd) Set.univ (e hc) Q ⊢ wp frame (wpE defs 𝒱 (c : Thread nD τ) bd) Set.univ (dite C t e) Q := by
  rw [dif_neg hc]

/-- A load at offsets known to be others. -/
theorem wp_ld {cs : CoreSpace} {s : Shape} {e : EltTy} (m : Memref sig .tc cs s e) {sz : Fin s.rank → ℕ} (o o' : Fin s.rank → ℕ) (ho : o = o')
    (h : ∀ a, o a + sz a ≤ s.size a) (h' : ∀ a, o' a + sz a ≤ s.size a)
    {hl : m.view.LoadsAt (Rect.unit (s := s) o sz h).toLoadRect} {S : Finset (Idx (m.view.loc (c : Thread nD τ)))} {q : PosShare TreeShare}
    {f : Buf (Elt F) (m.view.loc (c : Thread nD τ))} (hS : (m.access (Rect.unit (s := s) o' sz h')).set ⊆ S)
    {k : (Shape.Idx ⟨s.rank, sz⟩ → Elt F e) → Prog (TpuEff nD τ sig (Elt F) Λ₀ .tc) α} {Q : α → sProp 𝕄} :
    (m.view.loc (c : Thread nD τ) ↦[S]{q} f)
      ⊢ iprop(((m.view.loc (c : Thread nD τ) ↦[S]{q} f) -∗ wp frame (wpE defs 𝒱 (c : Thread nD τ) bd) Set.univ (k ((m.access (Rect.unit (s := s) o' sz h')).read (Elt F) f)) Q)
        -∗ wp frame (wpE defs 𝒱 (c : Thread nD τ) bd) Set.univ (Prog.lift (.load m (Rect.unit (s := s) o sz h).toLoadRect hl) >>= k) Q) := by
  subst ho
  exact wp_load_rect 𝒱 (c : Thread nD τ) bd Set.univ (m := m) (r := Rect.unit (s := s) o sz h) (S := S) (q := q) (f := f) (k := k) hS

/-- A store at offsets known to be others. -/
theorem wp_st {cs : CoreSpace} {s : Shape} {e : EltTy} (m : Memref sig .tc cs s e) {sz : Fin s.rank → ℕ} (o o' : Fin s.rank → ℕ) (ho : o = o')
    (h : ∀ a, o a + sz a ≤ s.size a) (h' : ∀ a, o' a + sz a ≤ s.size a) {w : Shape.Idx ⟨s.rank, sz⟩ → Elt F e}
    {hx : (m.access (Rect.unit (s := s) o sz h)).Stores Finset.univ} {hm}
    {f : Buf (Elt F) (m.view.loc (c : Thread nD τ))}
    {k : PUnit → Prog (TpuEff nD τ sig (Elt F) Λ₀ .tc) α} {Q : α → sProp 𝕄} :
    (m.view.loc (c : Thread nD τ) ↦{fullShare} f)
      ⊢ iprop(((m.view.loc (c : Thread nD τ) ↦{fullShare} ((m.access (Rect.unit (s := s) o' sz h')).write (Elt F) f w Finset.univ)) -∗ wp frame (wpE defs 𝒱 (c : Thread nD τ) bd) Set.univ (k ⟨⟩) Q)
        -∗ wp frame (wpE defs 𝒱 (c : Thread nD τ) bd) Set.univ (Prog.lift (.store m (Rect.unit (s := s) o sz h) w Finset.univ hx hm) >>= k) Q) := by
  subst ho
  exact wp_store 𝒱 (c : Thread nD τ) bd Set.univ (m := m) (r := Rect.unit (s := s) o sz h) (S := Finset.univ) (f := f) (k := k) (Finset.subset_univ _)

/-! ## The slots -/

theorem iv_ofNat (t : ℕ) : Scf.iv 0#32 1#32 t = BitVec.ofNat 32 t := by
  unfold Scf.iv
  rw [BitVec.mul_one, BitVec.zero_add]

theorem rem3 {t : ℕ} (ht : t < 1000) : (Scalar.remsi (BitVec.ofNat 32 t) 3#32).toNat = t % 3 := by
  have hc : ¬ IntOp.SDivCorner (BitVec.ofNat 32 t) 3#32 := by
    unfold IntOp.SDivCorner
    rintro (h | ⟨-, h⟩) <;> exact absurd h (by decide)
  unfold Scalar.remsi IntOp.remsi
  rw [if_neg hc]
  have h1 : (BitVec.ofNat 32 t).msb = false := by
    rw [BitVec.msb_eq_false_iff_two_mul_lt, BitVec.toNat_ofNat]; omega
  rw [BitVec.srem_eq, h1, show (3#32).msb = false from rfl]
  show (BitVec.ofNat 32 t % 3#32).toNat = _
  rw [BitVec.toNat_umod, BitVec.toNat_ofNat, show (3#32).toNat = 3 from rfl]
  omega

theorem iv_rem {t : ℕ} (ht : t < 900) : (Scalar.remsi (Scf.iv 0#32 1#32 t) 3#32).toNat = t % 3 := by
  rw [iv_ofNat]; exact rem3 (by omega)

theorem iv_rem2 {t : ℕ} (ht : t < 900) : (Scalar.remsi (Scalar.addi (Scf.iv 0#32 1#32 t) 2#32) 3#32).toNat = (t + 2) % 3 := by
  rw [iv_ofNat, show Scalar.addi (BitVec.ofNat 32 t) 2#32 = BitVec.ofNat 32 (t + 2) from (BitVec.ofNat_add t 2).symm]
  exact rem3 (by omega)

def fin3 (i : ℕ) : Fin 3 := ⟨i % 3, Nat.mod_lt _ (by decide)⟩

theorem fin3_add (i : ℕ) : fin3 (i + 3) = fin3 i := Fin.ext (by show (i + 3) % 3 = i % 3; omega)

theorem ofNat_toNat' {n : ℕ} (h : n < 1000) : (BitVec.ofNat 32 n).toNat = n := by rw [BitVec.toNat_ofNat]; omega
theorem eq_ofNat {x : BitVec 32} {n : ℕ} (h : x.toNat = n) : x = BitVec.ofNat 32 n := by
  subst h; rw [BitVec.ofNat_toNat, BitVec.setWidth_eq]

/-- The rows the kernel gathers of block `k` of a batch row of length `v`: whole groups of sixteen. -/
def rowsOf (v : BitVec 32) (k : ℕ) : ℕ := 16 * grpOf (Scalar.subi v (Scalar.muli (BitVec.ofNat 32 k) 256#32)).toInt

theorem rowsOf_le (v : BitVec 32) (k : ℕ) : rowsOf v k ≤ 256 := by
  unfold rowsOf; have := grpOf_le (Scalar.subi v (Scalar.muli (BitVec.ofNat 32 k) 256#32)).toInt; omega

/-- A slot with a position's block on its way, or idle when there is no such block. -/
def SlotF (c : Dev nD) (q : Fin 3 → PosShare TreeShare) (fl : LenBuf F c) (fi : IdBuf F c) (fw : WordBuf F c) (s : Fin 3) (p : ℕ × ℕ) : sProp 𝕄 :=
  if p.1 < 24 then
    iprop(∃ f, Filling c (.dma (slotSem s)) s (q s) fw (gathered fw fi (fin24 p.1) (fin6 p.2)) f (rowsOf (lenAt fl (fin24 p.1)) p.2) (rowsOf (lenAt fl (fin24 p.1)) p.2))
  else iprop(∃ f, Idle c s (q s) fw f)

theorem cond2_iff : ∀ b : Fin 25, k0_cond2 (BitVec.ofNat 32 b.val) = 1#1 ↔ b.val < 24 := by decide

theorem rowsSet_slot {o : Fin 3 → ℕ} {h : ∀ a, o a + S1x256x256.size a ≤ S3x256x256.size a} {s : ℕ} (ho : o = ![s, 0, 0]) :
    (sRows.access (Rect.unit (s := S3x256x256) o S1x256x256.size h)).set ⊆ rowsSet s 0 256 := by
  subst ho
  intro x hx
  rw [mem_rowsSet]
  have hx : x ∈ ((View.whole cc0_scratch0).slice (Rect.unit (s := S3x256x256) ![s, 0, 0] S1x256x256.size h)).set := hx
  rw [View.set_slice_whole] at hx
  have hx := (Rect.mem_set_unit).1 hx
  have H0 := hx 0; have H1 := hx 1
  simp [S1x256x256] at H0 H1
  omega

end Cert.Kernel.Hand
-- ==== Proof.K.Turn.lean ====
/-
  What one block's turn leaves in the score and in the interest, as functions of the kernel's inputs.
-/
module

public import proofs.«01_k».proof.Proof.K.Slots

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

/-- The contents of the kernel's inputs. -/
structure Ins (F : FTy → Type) [FloatOps F] (c : Dev nD) where
  fl : Buf (Elt F) ((c : Thread nD τ).loc cc0_stg0_0)
  fi : Buf (Elt F) ((c : Thread nD τ).loc cc0_stg1_0)
  ft : Buf (Elt F) ((c : Thread nD τ).loc cc0_stg2_0)
  fw : Buf (Elt F) ((c : Thread nD τ).loc main_v2)
  fs : Buf (Elt F) ((c : Thread nD τ).loc cc0_scratch2)
  idb : Buf (Elt F) ((c : Thread nD τ).loc cc0_stg3_0)
  tg : Buf (Elt F) ((c : Thread nD τ).loc cc0_stg4_0)
  w1 : Buf (Elt F) ((c : Thread nD τ).loc cc0_stg5_0)
  b1 : Buf (Elt F) ((c : Thread nD τ).loc cc0_stg6_0)
  a1 : Buf (Elt F) ((c : Thread nD τ).loc cc0_stg7_0)
  w2 : Buf (Elt F) ((c : Thread nD τ).loc cc0_stg8_0)
  b2 : Buf (Elt F) ((c : Thread nD τ).loc cc0_stg9_0)
  a2 : Buf (Elt F) ((c : Thread nD τ).loc cc0_stg10_0)
  w3 : Buf (Elt F) ((c : Thread nD τ).loc cc0_stg11_0)
  b3 : Buf (Elt F) ((c : Thread nD τ).loc cc0_stg12_0)

abbrev ScoreBuf (F : FTy → Type) [FloatOps F] (c : Dev nD) := Buf (Elt F) ((c : Thread nD τ).loc cc0_stg14_0)
abbrev IntBuf (F : FTy → Type) [FloatOps F] (c : Dev nD) := Buf (Elt F) ((c : Thread nD τ).loc cc0_stg13_0)
abbrev TfBuf (F : FTy → Type) [FloatOps F] (c : Dev nD) := Buf (Elt F) ((c : Thread nD τ).loc cc0_scratch3)
abbrev TwBuf (F : FTy → Type) [FloatOps F] (c : Dev nD) := Buf (Elt F) ((c : Thread nD τ).loc cc0_scratch4)

theorem inb_tf (b : Fin 24) : ∀ a, (![b.val, 0] : Fin 2 → ℕ) a + S1x256.size a ≤ S32x256.size a := fun a => by
  match a with
  | 0 => exact (show b.val + 1 ≤ 32 by omega)
  | 1 => exact (show 0 + 256 ≤ 256 by omega)
theorem inb_int (b : Fin 24) : ∀ a, (![b.val, 0] : Fin 2 → ℕ) a + S1x256.size a ≤ S24x256.size a := fun a => by
  match a with
  | 0 => exact (show b.val + 1 ≤ 24 by omega)
  | 1 => exact (show 0 + 256 ≤ 256 by omega)
theorem inb_score (b : Fin 24) (k : Fin 6) : ∀ a, (![b.val, 256 * k.val] : Fin 2 → ℕ) a + S1x256.size a ≤ S24x1536.size a := fun a => by
  match a with
  | 0 => exact (show b.val + 1 ≤ 24 by omega)
  | 1 => exact (show 256 * k.val + 256 ≤ 1536 by omega)
theorem inb_idb (b : Fin 24) (k : Fin 6) : ∀ a, (![b.val, 2 * k.val, 0] : Fin 3 → ℕ) a + S1x2x128.size a ≤ S24x12x128.size a := fun a => by
  match a with
  | 0 => exact (show b.val + 1 ≤ 24 by omega)
  | 1 => exact (show 2 * k.val + 2 ≤ 12 by omega)
  | 2 => exact (show 0 + 128 ≤ 128 by omega)
theorem inb_ring (s : Fin 3) : ∀ a, (![s.val, 0, 0] : Fin 3 → ℕ) a + S1x256x256.size a ≤ S3x256x256.size a := fun a => by
  match a with
  | 0 => exact (show s.val + 1 ≤ 3 by omega)
  | 1 => exact (show 0 + 256 ≤ 256 by omega)
  | 2 => exact (show 0 + 256 ≤ 256 by omega)

variable {c}

def rdTf (tf : TfBuf F c) (b : Fin 24) : Vec F S1x256 .f32 := ((Memref.whole cc0_scratch3).access (Rect.unit (s := S32x256) ![b.val, 0] S1x256.size (inb_tf b))).read (Elt F) tf
def rdTw (tw : TwBuf F c) (b : Fin 24) : Vec F S1x256 .f32 := ((Memref.whole cc0_scratch4).access (Rect.unit (s := S32x256) ![b.val, 0] S1x256.size (inb_tf b))).read (Elt F) tw
def rdInt (it : IntBuf F c) (b : Fin 24) : Vec F S1x256 .f32 := ((Memref.whole cc0_stg13_0).access (Rect.unit (s := S24x256) ![b.val, 0] S1x256.size (inb_int b))).read (Elt F) it
def rdIds (I : Ins F c) (b : Fin 24) (k : Fin 6) : Vec F S1x2x128 .i32 := ((Memref.whole cc0_stg3_0).access (Rect.unit (s := S24x12x128) ![b.val, 2 * k.val, 0] S1x2x128.size (inb_idb b k))).read (Elt F) I.idb
def rdRing (ring : RingBuf F c) (s : Fin 3) : Vec F S1x256x256 .i32 := (sRows.access (Rect.unit (s := S3x256x256) ![s.val, 0, 0] S1x256x256.size (inb_ring s))).read (Elt F) ring
def rdLine (g : LineBuf F c) : Vec F S256x128 .f32 := (sLine.access (Rect.unit (s := S256x128) ![0, 0] S256x128.size inb_S256x128_S256x128_0_0)).read (Elt F) g
def rdWa (I : Ins F c) : Vec F S256x256 .bf16 := ((Memref.whole cc0_stg5_0).access (Rect.unit (s := S1024x256) ![0, 0] S256x256.size inb_S1024x256_S256x256_0_0)).read (Elt F) I.w1
def rdWc (I : Ins F c) : Vec F S256x256 .bf16 := ((Memref.whole cc0_stg5_0).access (Rect.unit (s := S1024x256) ![512, 0] S256x256.size inb_S1024x256_S256x256_512_0)).read (Elt F) I.w1
def rdWd (I : Ins F c) : Vec F S256x256 .bf16 := ((Memref.whole cc0_stg5_0).access (Rect.unit (s := S1024x256) ![768, 0] S256x256.size inb_S1024x256_S256x256_768_0)).read (Elt F) I.w1
def rdA1 (I : Ins F c) : Vec F S1x256 .f32 := ((Memref.whole cc0_stg7_0).access (Rect.unit (s := S1x256) ![0, 0] S1x256.size inb_S1x256_S1x256_0_0)).read (Elt F) I.a1
def rdW2 (I : Ins F c) : Vec F S256x128 .bf16 := ((Memref.whole cc0_stg8_0).access (Rect.unit (s := S256x128) ![0, 0] S256x128.size inb_S256x128_S256x128_0_0)).read (Elt F) I.w2
def rdB2 (I : Ins F c) : Vec F S1x128 .f32 := ((Memref.whole cc0_stg9_0).access (Rect.unit (s := S1x128) ![0, 0] S1x128.size inb_S1x128_S1x128_0_0)).read (Elt F) I.b2
def rdA2 (I : Ins F c) : Vec F S1x128 .f32 := ((Memref.whole cc0_stg10_0).access (Rect.unit (s := S1x128) ![0, 0] S1x128.size inb_S1x128_S1x128_0_0)).read (Elt F) I.a2
def rdW3 (I : Ins F c) : Vec F S8x128 .bf16 := ((Memref.whole cc0_stg11_0).access (Rect.unit (s := S8x128) ![0, 0] S8x128.size inb_S8x128_S8x128_0_0)).read (Elt F) I.w3
def ix11 : S1x1.Idx := fun a => match a with | 0 => (0 : Fin 1) | 1 => (0 : Fin 1)
def rdB3 (I : Ins F c) : Elt F .f32 := I.b3 ix11

/-- The hidden rows of a block: the gathered rows at their scales, rows past the length zero. -/
def hRows (I : Ins F c) (s : Fin 3) (b : Fin 24) (k : ℕ) (ring : RingBuf F c) (g : LineBuf F c) : FVec F S256x256 .bf16 :=
  k0_pay42 (k0_pay38 (F := F) (rdIds I b (fin6 k))) (k0_pay39 (F := F) (rdRing ring s)) (rdLine g) (k0_pay40 (F := F) (BitVec.ofNat 32 k) (lenAt I.fl b)) (iota .tc S256x128 32 [1] iota_S256x128_d1_w32) (k0_pay41 (F := F) (rdIds I b (fin6 k)))

/-- The scores of a block. -/
def scoreRow (I : Ins F c) (tf : TfBuf F c) (tw : TwBuf F c) (s : Fin 3) (b : Fin 24) (k : ℕ) (ring : RingBuf F c) (g : LineBuf F c) : FVec F S1x256 .f32 :=
  k0_pay45 (BitVec.ofNat 32 k) (lenAt I.fl b)
    (k0_pay43 (k0_pay37 (rdTf tf b)) (rdTw tw b) (k0_pay38 (F := F) (rdIds I b (fin6 k))) (k0_pay39 (F := F) (rdRing ring s)) (rdLine g) (k0_pay40 (F := F) (BitVec.ofNat 32 k) (lenAt I.fl b)) (iota .tc S256x128 32 [1] iota_S256x128_d1_w32) (k0_pay41 (F := F) (rdIds I b (fin6 k))) (rdWa I) (rdWc I) (rdWd I))
    (k0_pay44 (F := F)) (rdA1 I) (rdW2 I) (rdB2 I) (rdA2 I) (rdW3 I) (rdB3 I)

def newScore (I : Ins F c) (tf : TfBuf F c) (tw : TwBuf F c) (s : Fin 3) (b : Fin 24) (k : ℕ) (ring : RingBuf F c) (g : LineBuf F c) (sc : ScoreBuf F c) : ScoreBuf F c :=
  ((Memref.whole cc0_stg14_0).access (Rect.unit (s := S24x1536) ![b.val, 256 * (fin6 k).val] S1x256.size (inb_score b (fin6 k)))).write (Elt F) sc (scoreRow I tf tw s b k ring g) Finset.univ

def newInt (I : Ins F c) (tf : TfBuf F c) (tw : TwBuf F c) (s : Fin 3) (b : Fin 24) (k : ℕ) (ring : RingBuf F c) (g : LineBuf F c) (it : IntBuf F c) : IntBuf F c :=
  ((Memref.whole cc0_stg13_0).access (Rect.unit (s := S24x256) ![b.val, 0] S1x256.size (inb_int b))).write (Elt F) it (k0_pay1 (hRows I s b k ring g) (scoreRow I tf tw s b k ring g) (rdInt it b)) Finset.univ

/-- A property the turns keep: what is known of the score and the interest when `i` blocks are done. -/
def Keeps (I : Ins F c) (tf : TfBuf F c) (tw : TwBuf F c) (R : ℕ → ScoreBuf F c → IntBuf F c → Prop) : Prop :=
  ∀ i, i < pre (lenAt I.fl) 24 → ∀ (f : RingBuf F c) (g0 : LineBuf F c) (sc : ScoreBuf F c) (it : IntBuf F c), R i sc it →
    ∀ (b : Fin 24) (k : ℕ), (pos (lenAt I.fl) i) = (b.val, k) → k < 6 →
    R (i + 1)
      (newScore I tf tw (fin3 i) b k (filled (gathered I.fw I.fi b (fin6 k)) f (rowsOf (lenAt I.fl b) k)) (lineBuf I.fs I.fi b (fin6 k) g0 (rowsOf (lenAt I.fl b) k)) sc)
      (newInt I tf tw (fin3 i) b k (filled (gathered I.fw I.fi b (fin6 k)) f (rowsOf (lenAt I.fl b) k)) (lineBuf I.fs I.fi b (fin6 k) g0 (rowsOf (lenAt I.fl b) k)) it)

end Cert.Kernel.Hand
-- ==== Proof.K.GatherLoop.lean ====
module

public import proofs.«01_k».proof.Proof.K.Gather

@[expose] public section

set_option maxRecDepth 65536
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)

/-- One trip of the loop that gathers the lines of scales. -/
theorem t9_step {arg0 : Memref sig .tc .smem S24 .i32} {harg0 : arg0.IsWhole} {arg2 : Memref sig .tc .smem S24 .i32} {harg2 : arg2.IsWhole} {arg4 : Memref sig .tc .hbm S1000000 .f32} {harg4 : arg4.IsWhole} {arg5 : Memref sig .tc .vmem S24x12x128 .i32} {harg5 : arg5.IsWhole} {arg6 : Memref sig .tc .vmem S1x128 .i32} {harg6 : arg6.IsWhole} {arg7 : Memref sig .tc .vmem S1024x256 .bf16} {harg7 : arg7.IsWhole} {arg8 : Memref sig .tc .vmem S1x256 .f32} {harg8 : arg8.IsWhole} {arg9 : Memref sig .tc .vmem S1x256 .f32} {harg9 : arg9.IsWhole} {arg10 : Memref sig .tc .vmem S256x128 .bf16} {harg10 : arg10.IsWhole} {arg11 : Memref sig .tc .vmem S1x128 .f32} {harg11 : arg11.IsWhole} {arg12 : Memref sig .tc .vmem S1x128 .f32} {harg12 : arg12.IsWhole} {arg13 : Memref sig .tc .vmem S8x128 .bf16} {harg13 : arg13.IsWhole} {arg14 : Memref sig .tc .smem S1x1 .f32} {harg14 : arg14.IsWhole} {arg15 : Memref sig .tc .vmem S24x256 .f32} {harg15 : arg15.IsWhole} {arg16 : Memref sig .tc .vmem S24x1536 .f32} {harg16 : arg16.IsWhole} {arg20 : Memref sig .tc .vmem S32x256 .f32} {harg20 : arg20.IsWhole} {arg21 : Memref sig .tc .vmem S32x256 .f32} {harg21 : arg21.IsWhole} {arg22 : DmaSems sig S_} {v616 : BitVec 32} {c0_i32_478 : BitVec 32} {c1_i32_482 : BitVec 32} {k0_t6 : Fin (k0_t6_loop v616).trips} {arg25 : BitVec 32} {arg26 : BitVec 32} {arg29 : BitVec 32} {arg30 : BitVec 32} {v667 : Elt F .i32} {k0_hw152 : k0_chk152 arg25 arg26 v667}
    (fs : SclBuf F c) (fi : IdBuf F c) (b : Fin 24) (kw : Fin 6) (g0 : LineBuf F c)
    (hfi : IdsOk fi) (hb : arg25.toNat = b.val) (hk : arg26.toNat = kw.val)
    (hT : (k0_t9_loop arg26 v667).trips ≤ 16) (t : Fin (k0_t9_loop arg26 v667).trips) :
    iprop(pt c cc0_stg1_0 fi ∗ pt c cc0_scratch2 fs ∗ pt c cc0_scratch1 (lineBuf fs fi b kw g0 (16 * t.val)))
      ⊢ wp frame (wpE defs 𝒱 (c : Thread nD τ) bd) Set.univ (k0_t9_body arg0 harg0 aIds (Memref.isWhole_whole _) arg2 harg2 hWords (Memref.isWhole_whole _) arg4 harg4 arg5 harg5 arg6 harg6 arg7 harg7 arg8 harg8 arg9 harg9 arg10 harg10 arg11 harg11 arg12 harg12 arg13 harg13 arg14 harg14 arg15 harg15 arg16 harg16 sRows (Memref.isWhole_whole _) sLine (Memref.isWhole_whole _) sScl (Memref.isWhole_whole _) arg20 harg20 arg21 harg21 arg22 cc0_scratch6 v616 c0_i32_478 c1_i32_482 k0_t6 arg25 arg26 arg29 arg30 v667 k0_hw152 t ())
        (fun _ => iprop(pt c cc0_stg1_0 fi ∗ pt c cc0_scratch2 fs ∗ pt c cc0_scratch1 (lineBuf fs fi b kw g0 (16 * (t.val + 1))))) := by
  have ht : t.val < 16 := by have := t.isLt; omega
  unfold k0_t9_body
  simp only [k0_part35_eq_skeleton, k0_part36_eq_skeleton, k0_part37_eq_skeleton, k0_part38_eq_skeleton, k0_part39_eq_skeleton, k0_part40_eq_skeleton]
  unfold k0_part35_skel k0_part36_skel k0_part37_skel k0_part38_skel k0_part39_skel k0_part40_skel
  simp only [Prog.bind_assoc, Prog.bind_ret, Prog.pure_eq_ret]
  iintro H
  iapply (wp_gather 𝒱 c bd fs fi b kw g0 (16 * t.val + 0) (by omega) hfi
    (by exact off_ids (u := 0) hb hk kw.isLt ht (by decide)) (by exact off_line (u := 0) ht (by decide)) (fun v => rfl)
    (fun v hv => ⟨line_dvd v, line_inb v hv rfl⟩) (fun _ => rfl)) $$ H
  iintro %w_0 %y_0 H
  iapply (wp_gather 𝒱 c bd fs fi b kw g0 (16 * t.val + 1) (by omega) hfi
    (by exact off_ids (u := 1) hb hk kw.isLt ht (by decide)) (by exact off_line (u := 1) ht (by decide)) (fun v => rfl)
    (fun v hv => ⟨line_dvd v, line_inb v hv rfl⟩) (fun _ => rfl)) $$ H
  iintro %w_1 %y_1 H
  iapply (wp_gather 𝒱 c bd fs fi b kw g0 (16 * t.val + 2) (by omega) hfi
    (by exact off_ids (u := 2) hb hk kw.isLt ht (by decide)) (by exact off_line (u := 2) ht (by decide)) (fun v => rfl)
    (fun v hv => ⟨line_dvd v, line_inb v hv rfl⟩) (fun _ => rfl)) $$ H
  iintro %w_2 %y_2 H
  iapply (wp_gather 𝒱 c bd fs fi b kw g0 (16 * t.val + 3) (by omega) hfi
    (by exact off_ids (u := 3) hb hk kw.isLt ht (by decide)) (by exact off_line (u := 3) ht (by decide)) (fun v => rfl)
    (fun v hv => ⟨line_dvd v, line_inb v hv rfl⟩) (fun _ => rfl)) $$ H
  iintro %w_3 %y_3 H
  iapply (wp_gather 𝒱 c bd fs fi b kw g0 (16 * t.val + 4) (by omega) hfi
    (by exact off_ids (u := 4) hb hk kw.isLt ht (by decide)) (by exact off_line (u := 4) ht (by decide)) (fun v => rfl)
    (fun v hv => ⟨line_dvd v, line_inb v hv rfl⟩) (fun _ => rfl)) $$ H
  iintro %w_4 %y_4 H
  iapply (wp_gather 𝒱 c bd fs fi b kw g0 (16 * t.val + 5) (by omega) hfi
    (by exact off_ids (u := 5) hb hk kw.isLt ht (by decide)) (by exact off_line (u := 5) ht (by decide)) (fun v => rfl)
    (fun v hv => ⟨line_dvd v, line_inb v hv rfl⟩) (fun _ => rfl)) $$ H
  iintro %w_5 %y_5 H
  iapply (wp_gather 𝒱 c bd fs fi b kw g0 (16 * t.val + 6) (by omega) hfi
    (by exact off_ids (u := 6) hb hk kw.isLt ht (by decide)) (by exact off_line (u := 6) ht (by decide)) (fun v => rfl)
    (fun v hv => ⟨line_dvd v, line_inb v hv rfl⟩) (fun _ => rfl)) $$ H
  iintro %w_6 %y_6 H
  iapply (wp_gather 𝒱 c bd fs fi b kw g0 (16 * t.val + 7) (by omega) hfi
    (by exact off_ids (u := 7) hb hk kw.isLt ht (by decide)) (by exact off_line (u := 7) ht (by decide)) (fun v => rfl)
    (fun v hv => ⟨line_dvd v, line_inb v hv rfl⟩) (fun _ => rfl)) $$ H
  iintro %w_7 %y_7 H
  iapply (wp_gather 𝒱 c bd fs fi b kw g0 (16 * t.val + 8) (by omega) hfi
    (by exact off_ids (u := 8) hb hk kw.isLt ht (by decide)) (by exact off_line (u := 8) ht (by decide)) (fun v => rfl)
    (fun v hv => ⟨line_dvd v, line_inb v hv rfl⟩) (fun _ => rfl)) $$ H
  iintro %w_8 %y_8 H
  iapply (wp_gather 𝒱 c bd fs fi b kw g0 (16 * t.val + 9) (by omega) hfi
    (by exact off_ids (u := 9) hb hk kw.isLt ht (by decide)) (by exact off_line (u := 9) ht (by decide)) (fun v => rfl)
    (fun v hv => ⟨line_dvd v, line_inb v hv rfl⟩) (fun _ => rfl)) $$ H
  iintro %w_9 %y_9 H
  iapply (wp_gather 𝒱 c bd fs fi b kw g0 (16 * t.val + 10) (by omega) hfi
    (by exact off_ids (u := 10) hb hk kw.isLt ht (by decide)) (by exact off_line (u := 10) ht (by decide)) (fun v => rfl)
    (fun v hv => ⟨line_dvd v, line_inb v hv rfl⟩) (fun _ => rfl)) $$ H
  iintro %w_10 %y_10 H
  iapply (wp_gather 𝒱 c bd fs fi b kw g0 (16 * t.val + 11) (by omega) hfi
    (by exact off_ids (u := 11) hb hk kw.isLt ht (by decide)) (by exact off_line (u := 11) ht (by decide)) (fun v => rfl)
    (fun v hv => ⟨line_dvd v, line_inb v hv rfl⟩) (fun _ => rfl)) $$ H
  iintro %w_11 %y_11 H
  iapply (wp_gather 𝒱 c bd fs fi b kw g0 (16 * t.val + 12) (by omega) hfi
    (by exact off_ids (u := 12) hb hk kw.isLt ht (by decide)) (by exact off_line (u := 12) ht (by decide)) (fun v => rfl)
    (fun v hv => ⟨line_dvd v, line_inb v hv rfl⟩) (fun _ => rfl)) $$ H
  iintro %w_12 %y_12 H
  iapply (wp_gather 𝒱 c bd fs fi b kw g0 (16 * t.val + 13) (by omega) hfi
    (by exact off_ids (u := 13) hb hk kw.isLt ht (by decide)) (by exact off_line (u := 13) ht (by decide)) (fun v => rfl)
    (fun v hv => ⟨line_dvd v, line_inb v hv rfl⟩) (fun _ => rfl)) $$ H
  iintro %w_13 %y_13 H
  iapply (wp_gather 𝒱 c bd fs fi b kw g0 (16 * t.val + 14) (by omega) hfi
    (by exact off_ids (u := 14) hb hk kw.isLt ht (by decide)) (by exact off_line (u := 14) ht (by decide)) (fun v => rfl)
    (fun v hv => ⟨line_dvd v, line_inb v hv rfl⟩) (fun _ => rfl)) $$ H
  iintro %w_14 %y_14 H
  iapply (wp_gather 𝒱 c bd fs fi b kw g0 (16 * t.val + 15) (by omega) hfi
    (by exact off_ids (u := 15) hb hk kw.isLt ht (by decide)) (by exact off_line (u := 15) ht (by decide)) (fun v => rfl)
    (fun v hv => ⟨line_dvd v, line_inb v hv rfl⟩) (fun _ => rfl)) $$ H
  iintro %w_15 %y_15 H
  iapply (le_wp_ret _ _ _)
  iexact H

end Cert.Kernel.Hand
-- ==== Proof.K.IssueAhead.lean ====
module

public import proofs.«01_k».proof.Proof.K.Row

@[expose] public section

set_option maxRecDepth 65536
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)

/-- One trip of the loop that starts the copies two blocks ahead: sixteen rows more of the slot are on their way. -/
theorem t7_step {arg0 : Memref sig .tc .smem S24 .i32} {harg0 : arg0.IsWhole} {arg2 : Memref sig .tc .smem S24 .i32} {harg2 : arg2.IsWhole} {arg4 : Memref sig .tc .hbm S1000000 .f32} {harg4 : arg4.IsWhole} {arg5 : Memref sig .tc .vmem S24x12x128 .i32} {harg5 : arg5.IsWhole} {arg6 : Memref sig .tc .vmem S1x128 .i32} {harg6 : arg6.IsWhole} {arg7 : Memref sig .tc .vmem S1024x256 .bf16} {harg7 : arg7.IsWhole} {arg8 : Memref sig .tc .vmem S1x256 .f32} {harg8 : arg8.IsWhole} {arg9 : Memref sig .tc .vmem S1x256 .f32} {harg9 : arg9.IsWhole} {arg10 : Memref sig .tc .vmem S256x128 .bf16} {harg10 : arg10.IsWhole} {arg11 : Memref sig .tc .vmem S1x128 .f32} {harg11 : arg11.IsWhole} {arg12 : Memref sig .tc .vmem S1x128 .f32} {harg12 : arg12.IsWhole} {arg13 : Memref sig .tc .vmem S8x128 .bf16} {harg13 : arg13.IsWhole} {arg14 : Memref sig .tc .smem S1x1 .f32} {harg14 : arg14.IsWhole} {arg15 : Memref sig .tc .vmem S24x256 .f32} {harg15 : arg15.IsWhole} {arg16 : Memref sig .tc .vmem S24x1536 .f32} {harg16 : arg16.IsWhole} {arg18 : Memref sig .tc .vmem S256x128 .f32} {harg18 : arg18.IsWhole} {arg19 : Memref sig .tc .vmem S1000000 .f32} {harg19 : arg19.IsWhole} {arg20 : Memref sig .tc .vmem S32x256 .f32} {harg20 : arg20.IsWhole} {arg21 : Memref sig .tc .vmem S32x256 .f32} {harg21 : arg21.IsWhole} {arg22 : DmaSems sig S_} {v616 : BitVec 32} {c0_i32_478 : BitVec 32} {c1_i32_482 : BitVec 32} {k0_t6 : Fin (k0_t6_loop v616).trips} {arg25 : BitVec 32} {arg26 : BitVec 32} {arg29 : BitVec 32} {arg30 : BitVec 32} {k0_h2 : k0_cond2 arg29 = 1#1} {v849 : Elt F .i32} {k0_hw118 : k0_chk118 v616 k0_t6 arg29 arg30 v849}
    (s : Fin 3) (q0 : PosShare TreeShare) (fw : WordBuf F c) (fi : IdBuf F c) (f : RingBuf F c) (b : Fin 24) (kw : Fin 6) (n : ℕ)
    (hfi : IdsOk fi) (hb : (arg29).toNat = b.val) (hk : (arg30).toNat = kw.val)
    (hs : (Scalar.remsi (Scalar.addi (Scf.iv 0#32 1#32 k0_t6) 2#32) 3#32).toNat = s.val)
    (hn : n = 16 * (k0_t7_loop arg30 v849).trips) (hT : (k0_t7_loop arg30 v849).trips ≤ 16)
    (t : Fin (k0_t7_loop arg30 v849).trips) :
    iprop(pt c cc0_stg1_0 fi ∗ Filling c (.dma (slotSem s)) s q0 fw (gathered fw fi b kw) f n (16 * t.val))
      ⊢ wp frame (wpE defs 𝒱 (c : Thread nD τ) bd) Set.univ (k0_t7_body arg0 harg0 aIds (Memref.isWhole_whole _) arg2 harg2 hWords (Memref.isWhole_whole _) arg4 harg4 arg5 harg5 arg6 harg6 arg7 harg7 arg8 harg8 arg9 harg9 arg10 harg10 arg11 harg11 arg12 harg12 arg13 harg13 arg14 harg14 arg15 harg15 arg16 harg16 sRows (Memref.isWhole_whole _) arg18 harg18 arg19 harg19 arg20 harg20 arg21 harg21 arg22 cc0_scratch6 v616 c0_i32_478 c1_i32_482 k0_t6 arg25 arg26 arg29 arg30 k0_h2 v849 k0_hw118 t ())
        (fun _ => iprop(pt c cc0_stg1_0 fi ∗ Filling c (.dma (slotSem s)) s q0 fw (gathered fw fi b kw) f n (16 * (t.val + 1)))) := by
  have ht : t.val < 16 := by have := t.isLt; omega
  have hj : 16 * t.val + 16 ≤ n := by have := t.isLt; omega
  unfold k0_t7_body
  simp only [k0_part25_eq_skeleton, k0_part26_eq_skeleton, k0_part27_eq_skeleton, k0_part28_eq_skeleton, k0_part29_eq_skeleton]
  unfold k0_part25_skel k0_part26_skel k0_part27_skel k0_part28_skel k0_part29_skel
  simp only [Prog.bind_assoc, Prog.bind_ret, Prog.pure_eq_ret]
  iintro H
  iapply (wp_row 𝒱 c bd s q0 fw fi f b kw n (16 * t.val + 0) (by omega) (by omega) hfi
    (by exact off_ids (u := 0) hb hk kw.isLt ht (by decide)) (by exact off_ring (u := 0) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 1) (by omega) (by omega) hfi
    (by exact off_ids (u := 1) hb hk kw.isLt ht (by decide)) (by exact off_ring (u := 1) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 2) (by omega) (by omega) hfi
    (by exact off_ids (u := 2) hb hk kw.isLt ht (by decide)) (by exact off_ring (u := 2) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 3) (by omega) (by omega) hfi
    (by exact off_ids (u := 3) hb hk kw.isLt ht (by decide)) (by exact off_ring (u := 3) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 4) (by omega) (by omega) hfi
    (by exact off_ids (u := 4) hb hk kw.isLt ht (by decide)) (by exact off_ring (u := 4) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 5) (by omega) (by omega) hfi
    (by exact off_ids (u := 5) hb hk kw.isLt ht (by decide)) (by exact off_ring (u := 5) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 6) (by omega) (by omega) hfi
    (by exact off_ids (u := 6) hb hk kw.isLt ht (by decide)) (by exact off_ring (u := 6) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 7) (by omega) (by omega) hfi
    (by exact off_ids (u := 7) hb hk kw.isLt ht (by decide)) (by exact off_ring (u := 7) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 8) (by omega) (by omega) hfi
    (by exact off_ids (u := 8) hb hk kw.isLt ht (by decide)) (by exact off_ring (u := 8) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 9) (by omega) (by omega) hfi
    (by exact off_ids (u := 9) hb hk kw.isLt ht (by decide)) (by exact off_ring (u := 9) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 10) (by omega) (by omega) hfi
    (by exact off_ids (u := 10) hb hk kw.isLt ht (by decide)) (by exact off_ring (u := 10) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 11) (by omega) (by omega) hfi
    (by exact off_ids (u := 11) hb hk kw.isLt ht (by decide)) (by exact off_ring (u := 11) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 12) (by omega) (by omega) hfi
    (by exact off_ids (u := 12) hb hk kw.isLt ht (by decide)) (by exact off_ring (u := 12) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 13) (by omega) (by omega) hfi
    (by exact off_ids (u := 13) hb hk kw.isLt ht (by decide)) (by exact off_ring (u := 13) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 14) (by omega) (by omega) hfi
    (by exact off_ids (u := 14) hb hk kw.isLt ht (by decide)) (by exact off_ring (u := 14) hs ht (by decide)) (fun v => rfl)
    (fun v hv => fun _ => row_inb v hv rfl) (slot_sem s (by exact congrArg (fun z => ![z]) hs))) $$ H
  iintro H
  iapply (wp_row 𝒱 c bd s q0 fw fi f b kw n (16 * t.val + 15) (by omega) (by omega) hfi
    (by exact off_ids (u := 15) hb hk kw.isLt ht (by decide)) (by exact off_ring (u := 15) hs ht (by decide)) (fun v => rfl)
    (fun v hv => fun _ => row_inb v hv rfl) (slot_sem s (by exact congrArg (fun z => ![z]) hs))) $$ H
  iintro H
  iapply (le_wp_ret _ _ _)
  iexact H

end Cert.Kernel.Hand
-- ==== Proof.K.Checks.lean ====
module

public import proofs.«01_k».proof.Proof.K.Gather

@[expose] public section

set_option maxRecDepth 65536
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

/-- The remainder loop after a loop unrolled by one has no trips. -/
theorem rem_trips (x : BitVec 32) : Scf.trips (Scalar.addi 0#32 (Scalar.muli (Scalar.divsi (Scalar.subi x 0#32) 1#32) 1#32)) (Scalar.addi 0#32 (Scalar.subi x 0#32)) 1#32 = 0 := by
  rw [w_sub_zero, w_div_one, w_mul_one]; exact trips_self _

theorem rem_ok (x : BitVec 32) : (⟨Scalar.addi 0#32 (Scalar.muli (Scalar.divsi (Scalar.subi x 0#32) 1#32) 1#32), Scalar.addi 0#32 (Scalar.subi x 0#32), 1#32⟩ : Scf.Loop 32).OK := by
  rw [w_sub_zero, w_div_one, w_mul_one]; exact ok_self _

theorem ids_inb {b kw t u : ℕ} (hb : b < 24) (hkw : kw < 6) (ht : t < 16) (hu : u < 16) {o : Fin 2 → ℕ} (ho : o = ![b, 256 * kw + (16 * t + u)]) :
    ∀ a, o a + S1x1.size a ≤ S24x1536.size a := by
  subst ho; intro a
  match a with
  | 0 => exact (show b + 1 ≤ 24 by omega)
  | 1 => exact (show 256 * kw + (16 * t + u) + 1 ≤ 1536 by omega)

theorem ring_inb {s r : ℕ} (hs : s < 3) (hr : r < 256) {o : Fin 3 → ℕ} (ho : o = ![s, r, 0]) : ∀ a, o a + S1x1x256.size a ≤ S3x256x256.size a := by
  subst ho; intro a
  match a with
  | 0 => exact (show s + 1 ≤ 3 by omega)
  | 1 => exact (show r + 1 ≤ 256 by omega)
  | 2 => exact (show 0 + 256 ≤ 256 by omega)

theorem sem_inb {s : ℕ} (hs : s < 3) : ∀ a, (![s] : Fin 1 → ℕ) a + S1.size a ≤ S3.size a := by
  intro a
  match a with
  | 0 => exact (show s + 1 ≤ 3 by omega)

theorem lens_inb {b : ℕ} (hb : b < 24) : ∀ a, (![b] : Fin 1 → ℕ) a + S1.size a ≤ S24.size a := by
  intro a
  match a with
  | 0 => exact (show b + 1 ≤ 24 by omega)

theorem line_inb' {r : ℕ} (hr : r < 256) {o : Fin 2 → ℕ} (ho : o = ![r, 0]) : ∀ a, o a + S1x128.size a ≤ S256x128.size a := by
  subst ho; intro a
  match a with
  | 0 => exact (show r + 1 ≤ 256 by omega)
  | 1 => exact (show 0 + 128 ≤ 128 by omega)

theorem trip_lt (d : BitVec 32) (t : Fin (Scf.trips 0#32 (ubOf d) 1#32)) : t.val < 16 := by
  have h1 := t.isLt
  have h2 := trips_ubOf d
  have h3 := grpOf_le d.toInt
  omega

theorem chk49_0_ok {v617 : BitVec 32} (hs : 0 < 3) : k0_chk49_0 v617 :=
  ⟨ok_ubOf _,
   fun t => ids_inb (u := 0) (b := 0) (kw := 0) (by decide) (by decide) (trip_lt _ t) (by decide) (by exact off_ids_first (u := 0) (trip_lt _ t) (by decide)),
   fun t => ring_inb (s := 0) (by decide) (show 16 * t.val + 0 < 256 by have := (trip_lt _ t); omega) (by exact off_ring (s := 0) (ws := 0#32) (u := 0) rfl (trip_lt _ t) (by decide)),
   fun t => ids_inb (u := 1) (b := 0) (kw := 0) (by decide) (by decide) (trip_lt _ t) (by decide) (by exact off_ids_first (u := 1) (trip_lt _ t) (by decide)),
   fun t => ring_inb (s := 0) (by decide) (show 16 * t.val + 1 < 256 by have := (trip_lt _ t); omega) (by exact off_ring (s := 0) (ws := 0#32) (u := 1) rfl (trip_lt _ t) (by decide)),
   fun t => ids_inb (u := 2) (b := 0) (kw := 0) (by decide) (by decide) (trip_lt _ t) (by decide) (by exact off_ids_first (u := 2) (trip_lt _ t) (by decide)),
   fun t => ring_inb (s := 0) (by decide) (show 16 * t.val + 2 < 256 by have := (trip_lt _ t); omega) (by exact off_ring (s := 0) (ws := 0#32) (u := 2) rfl (trip_lt _ t) (by decide)),
   fun t => ids_inb (u := 3) (b := 0) (kw := 0) (by decide) (by decide) (trip_lt _ t) (by decide) (by exact off_ids_first (u := 3) (trip_lt _ t) (by decide)),
   fun t => ring_inb (s := 0) (by decide) (show 16 * t.val + 3 < 256 by have := (trip_lt _ t); omega) (by exact off_ring (s := 0) (ws := 0#32) (u := 3) rfl (trip_lt _ t) (by decide)),
   fun t => ids_inb (u := 4) (b := 0) (kw := 0) (by decide) (by decide) (trip_lt _ t) (by decide) (by exact off_ids_first (u := 4) (trip_lt _ t) (by decide)),
   fun t => ring_inb (s := 0) (by decide) (show 16 * t.val + 4 < 256 by have := (trip_lt _ t); omega) (by exact off_ring (s := 0) (ws := 0#32) (u := 4) rfl (trip_lt _ t) (by decide)),
   fun t => ids_inb (u := 5) (b := 0) (kw := 0) (by decide) (by decide) (trip_lt _ t) (by decide) (by exact off_ids_first (u := 5) (trip_lt _ t) (by decide)),
   fun t => ring_inb (s := 0) (by decide) (show 16 * t.val + 5 < 256 by have := (trip_lt _ t); omega) (by exact off_ring (s := 0) (ws := 0#32) (u := 5) rfl (trip_lt _ t) (by decide)),
   fun t => ids_inb (u := 6) (b := 0) (kw := 0) (by decide) (by decide) (trip_lt _ t) (by decide) (by exact off_ids_first (u := 6) (trip_lt _ t) (by decide)),
   fun t => ring_inb (s := 0) (by decide) (show 16 * t.val + 6 < 256 by have := (trip_lt _ t); omega) (by exact off_ring (s := 0) (ws := 0#32) (u := 6) rfl (trip_lt _ t) (by decide)),
   fun t => ids_inb (u := 7) (b := 0) (kw := 0) (by decide) (by decide) (trip_lt _ t) (by decide) (by exact off_ids_first (u := 7) (trip_lt _ t) (by decide)),
   fun t => ring_inb (s := 0) (by decide) (show 16 * t.val + 7 < 256 by have := (trip_lt _ t); omega) (by exact off_ring (s := 0) (ws := 0#32) (u := 7) rfl (trip_lt _ t) (by decide)),
   fun t => ids_inb (u := 8) (b := 0) (kw := 0) (by decide) (by decide) (trip_lt _ t) (by decide) (by exact off_ids_first (u := 8) (trip_lt _ t) (by decide)),
   fun t => ring_inb (s := 0) (by decide) (show 16 * t.val + 8 < 256 by have := (trip_lt _ t); omega) (by exact off_ring (s := 0) (ws := 0#32) (u := 8) rfl (trip_lt _ t) (by decide)),
   fun t => ids_inb (u := 9) (b := 0) (kw := 0) (by decide) (by decide) (trip_lt _ t) (by decide) (by exact off_ids_first (u := 9) (trip_lt _ t) (by decide)),
   fun t => ring_inb (s := 0) (by decide) (show 16 * t.val + 9 < 256 by have := (trip_lt _ t); omega) (by exact off_ring (s := 0) (ws := 0#32) (u := 9) rfl (trip_lt _ t) (by decide)),
   fun t => ids_inb (u := 10) (b := 0) (kw := 0) (by decide) (by decide) (trip_lt _ t) (by decide) (by exact off_ids_first (u := 10) (trip_lt _ t) (by decide)),
   fun t => ring_inb (s := 0) (by decide) (show 16 * t.val + 10 < 256 by have := (trip_lt _ t); omega) (by exact off_ring (s := 0) (ws := 0#32) (u := 10) rfl (trip_lt _ t) (by decide)),
   fun t => ids_inb (u := 11) (b := 0) (kw := 0) (by decide) (by decide) (trip_lt _ t) (by decide) (by exact off_ids_first (u := 11) (trip_lt _ t) (by decide)),
   fun t => ring_inb (s := 0) (by decide) (show 16 * t.val + 11 < 256 by have := (trip_lt _ t); omega) (by exact off_ring (s := 0) (ws := 0#32) (u := 11) rfl (trip_lt _ t) (by decide)),
   fun t => ids_inb (u := 12) (b := 0) (kw := 0) (by decide) (by decide) (trip_lt _ t) (by decide) (by exact off_ids_first (u := 12) (trip_lt _ t) (by decide)),
   fun t => ring_inb (s := 0) (by decide) (show 16 * t.val + 12 < 256 by have := (trip_lt _ t); omega) (by exact off_ring (s := 0) (ws := 0#32) (u := 12) rfl (trip_lt _ t) (by decide)),
   fun t => ids_inb (u := 13) (b := 0) (kw := 0) (by decide) (by decide) (trip_lt _ t) (by decide) (by exact off_ids_first (u := 13) (trip_lt _ t) (by decide)),
   fun t => ring_inb (s := 0) (by decide) (show 16 * t.val + 13 < 256 by have := (trip_lt _ t); omega) (by exact off_ring (s := 0) (ws := 0#32) (u := 13) rfl (trip_lt _ t) (by decide)),
   fun t => ids_inb (u := 14) (b := 0) (kw := 0) (by decide) (by decide) (trip_lt _ t) (by decide) (by exact off_ids_first (u := 14) (trip_lt _ t) (by decide)),
   fun t => ring_inb (s := 0) (by decide) (show 16 * t.val + 14 < 256 by have := (trip_lt _ t); omega) (by exact off_ring (s := 0) (ws := 0#32) (u := 14) rfl (trip_lt _ t) (by decide)),
   fun t => ids_inb (u := 15) (b := 0) (kw := 0) (by decide) (by decide) (trip_lt _ t) (by decide) (by exact off_ids_first (u := 15) (trip_lt _ t) (by decide))⟩

theorem chk49_1_ok {v617 : BitVec 32} (hs : 0 < 3) : k0_chk49_1 v617 :=
  ⟨fun t => ring_inb (s := 0) (by decide) (show 16 * t.val + 15 < 256 by have := (trip_lt _ t); omega) (by exact off_ring (s := 0) (ws := 0#32) (u := 15) rfl (trip_lt _ t) (by decide)),
   rem_ok _,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim⟩

theorem chk49_2_ok {v617 : BitVec 32} (hs : 0 < 3) : k0_chk49_2 v617 :=
  ⟨fun t => (Nat.not_lt_zero _ (lt_of_lt_of_eq t.isLt (rem_trips _))).elim,
   fun t => (Nat.not_lt_zero _ (lt_of_lt_of_eq t.isLt (rem_trips _))).elim⟩

theorem chk49_ok {v617 : BitVec 32} (hs : 0 < 3) : k0_chk49 v617 :=
  ⟨chk49_0_ok hs, chk49_1_ok hs, chk49_2_ok hs⟩

theorem chk83_0_ok {v631 v663 : BitVec 32} (hb : (Scalar.select (Scalar.cmpi .sle (Scalar.maxsi (Scalar.divsi (Scalar.addi v631 255#32) 256#32) 1#32) 1#32) 1#32 0#32).toNat < 24) (hk : (Scalar.select (Scalar.cmpi .sle (Scalar.maxsi (Scalar.divsi (Scalar.addi v631 255#32) 256#32) 1#32) 1#32) 0#32 1#32).toNat < 6) : k0_chk83_0 v631 v663 :=
  ⟨fun _ => ok_ubOf _,
   fun t _ => ids_inb (u := 0) hb hk (trip_lt _ t) (by decide) (by exact off_ids (u := 0) rfl rfl hk (trip_lt _ t) (by decide)),
   fun t _ => ring_inb (s := 1) (by decide) (show 16 * t.val + 0 < 256 by have := (trip_lt _ t); omega) (by exact off_ring (s := 1) (ws := 1#32) (u := 0) rfl (trip_lt _ t) (by decide)),
   fun t _ => ids_inb (u := 1) hb hk (trip_lt _ t) (by decide) (by exact off_ids (u := 1) rfl rfl hk (trip_lt _ t) (by decide)),
   fun t _ => ring_inb (s := 1) (by decide) (show 16 * t.val + 1 < 256 by have := (trip_lt _ t); omega) (by exact off_ring (s := 1) (ws := 1#32) (u := 1) rfl (trip_lt _ t) (by decide)),
   fun t _ => ids_inb (u := 2) hb hk (trip_lt _ t) (by decide) (by exact off_ids (u := 2) rfl rfl hk (trip_lt _ t) (by decide)),
   fun t _ => ring_inb (s := 1) (by decide) (show 16 * t.val + 2 < 256 by have := (trip_lt _ t); omega) (by exact off_ring (s := 1) (ws := 1#32) (u := 2) rfl (trip_lt _ t) (by decide)),
   fun t _ => ids_inb (u := 3) hb hk (trip_lt _ t) (by decide) (by exact off_ids (u := 3) rfl rfl hk (trip_lt _ t) (by decide)),
   fun t _ => ring_inb (s := 1) (by decide) (show 16 * t.val + 3 < 256 by have := (trip_lt _ t); omega) (by exact off_ring (s := 1) (ws := 1#32) (u := 3) rfl (trip_lt _ t) (by decide)),
   fun t _ => ids_inb (u := 4) hb hk (trip_lt _ t) (by decide) (by exact off_ids (u := 4) rfl rfl hk (trip_lt _ t) (by decide)),
   fun t _ => ring_inb (s := 1) (by decide) (show 16 * t.val + 4 < 256 by have := (trip_lt _ t); omega) (by exact off_ring (s := 1) (ws := 1#32) (u := 4) rfl (trip_lt _ t) (by decide)),
   fun t _ => ids_inb (u := 5) hb hk (trip_lt _ t) (by decide) (by exact off_ids (u := 5) rfl rfl hk (trip_lt _ t) (by decide)),
   fun t _ => ring_inb (s := 1) (by decide) (show 16 * t.val + 5 < 256 by have := (trip_lt _ t); omega) (by exact off_ring (s := 1) (ws := 1#32) (u := 5) rfl (trip_lt _ t) (by decide)),
   fun t _ => ids_inb (u := 6) hb hk (trip_lt _ t) (by decide) (by exact off_ids (u := 6) rfl rfl hk (trip_lt _ t) (by decide)),
   fun t _ => ring_inb (s := 1) (by decide) (show 16 * t.val + 6 < 256 by have := (trip_lt _ t); omega) (by exact off_ring (s := 1) (ws := 1#32) (u := 6) rfl (trip_lt _ t) (by decide)),
   fun t _ => ids_inb (u := 7) hb hk (trip_lt _ t) (by decide) (by exact off_ids (u := 7) rfl rfl hk (trip_lt _ t) (by decide)),
   fun t _ => ring_inb (s := 1) (by decide) (show 16 * t.val + 7 < 256 by have := (trip_lt _ t); omega) (by exact off_ring (s := 1) (ws := 1#32) (u := 7) rfl (trip_lt _ t) (by decide)),
   fun t _ => ids_inb (u := 8) hb hk (trip_lt _ t) (by decide) (by exact off_ids (u := 8) rfl rfl hk (trip_lt _ t) (by decide)),
   fun t _ => ring_inb (s := 1) (by decide) (show 16 * t.val + 8 < 256 by have := (trip_lt _ t); omega) (by exact off_ring (s := 1) (ws := 1#32) (u := 8) rfl (trip_lt _ t) (by decide)),
   fun t _ => ids_inb (u := 9) hb hk (trip_lt _ t) (by decide) (by exact off_ids (u := 9) rfl rfl hk (trip_lt _ t) (by decide)),
   fun t _ => ring_inb (s := 1) (by decide) (show 16 * t.val + 9 < 256 by have := (trip_lt _ t); omega) (by exact off_ring (s := 1) (ws := 1#32) (u := 9) rfl (trip_lt _ t) (by decide)),
   fun t _ => ids_inb (u := 10) hb hk (trip_lt _ t) (by decide) (by exact off_ids (u := 10) rfl rfl hk (trip_lt _ t) (by decide)),
   fun t _ => ring_inb (s := 1) (by decide) (show 16 * t.val + 10 < 256 by have := (trip_lt _ t); omega) (by exact off_ring (s := 1) (ws := 1#32) (u := 10) rfl (trip_lt _ t) (by decide)),
   fun t _ => ids_inb (u := 11) hb hk (trip_lt _ t) (by decide) (by exact off_ids (u := 11) rfl rfl hk (trip_lt _ t) (by decide)),
   fun t _ => ring_inb (s := 1) (by decide) (show 16 * t.val + 11 < 256 by have := (trip_lt _ t); omega) (by exact off_ring (s := 1) (ws := 1#32) (u := 11) rfl (trip_lt _ t) (by decide)),
   fun t _ => ids_inb (u := 12) hb hk (trip_lt _ t) (by decide) (by exact off_ids (u := 12) rfl rfl hk (trip_lt _ t) (by decide)),
   fun t _ => ring_inb (s := 1) (by decide) (show 16 * t.val + 12 < 256 by have := (trip_lt _ t); omega) (by exact off_ring (s := 1) (ws := 1#32) (u := 12) rfl (trip_lt _ t) (by decide)),
   fun t _ => ids_inb (u := 13) hb hk (trip_lt _ t) (by decide) (by exact off_ids (u := 13) rfl rfl hk (trip_lt _ t) (by decide)),
   fun t _ => ring_inb (s := 1) (by decide) (show 16 * t.val + 13 < 256 by have := (trip_lt _ t); omega) (by exact off_ring (s := 1) (ws := 1#32) (u := 13) rfl (trip_lt _ t) (by decide)),
   fun t _ => ids_inb (u := 14) hb hk (trip_lt _ t) (by decide) (by exact off_ids (u := 14) rfl rfl hk (trip_lt _ t) (by decide)),
   fun t _ => ring_inb (s := 1) (by decide) (show 16 * t.val + 14 < 256 by have := (trip_lt _ t); omega) (by exact off_ring (s := 1) (ws := 1#32) (u := 14) rfl (trip_lt _ t) (by decide)),
   fun t _ => ids_inb (u := 15) hb hk (trip_lt _ t) (by decide) (by exact off_ids (u := 15) rfl rfl hk (trip_lt _ t) (by decide))⟩

theorem chk83_1_ok {v631 v663 : BitVec 32} (hb : (Scalar.select (Scalar.cmpi .sle (Scalar.maxsi (Scalar.divsi (Scalar.addi v631 255#32) 256#32) 1#32) 1#32) 1#32 0#32).toNat < 24) (hk : (Scalar.select (Scalar.cmpi .sle (Scalar.maxsi (Scalar.divsi (Scalar.addi v631 255#32) 256#32) 1#32) 1#32) 0#32 1#32).toNat < 6) : k0_chk83_1 v631 v663 :=
  ⟨fun t _ => ring_inb (s := 1) (by decide) (show 16 * t.val + 15 < 256 by have := (trip_lt _ t); omega) (by exact off_ring (s := 1) (ws := 1#32) (u := 15) rfl (trip_lt _ t) (by decide)),
   fun _ => rem_ok _,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim⟩

theorem chk83_2_ok {v631 v663 : BitVec 32} (hb : (Scalar.select (Scalar.cmpi .sle (Scalar.maxsi (Scalar.divsi (Scalar.addi v631 255#32) 256#32) 1#32) 1#32) 1#32 0#32).toNat < 24) (hk : (Scalar.select (Scalar.cmpi .sle (Scalar.maxsi (Scalar.divsi (Scalar.addi v631 255#32) 256#32) 1#32) 1#32) 0#32 1#32).toNat < 6) : k0_chk83_2 v631 v663 :=
  ⟨fun t => (Nat.not_lt_zero _ (lt_of_lt_of_eq t.isLt (rem_trips _))).elim,
   fun t => (Nat.not_lt_zero _ (lt_of_lt_of_eq t.isLt (rem_trips _))).elim⟩

theorem chk83_ok {v631 v663 : BitVec 32} (hb : (Scalar.select (Scalar.cmpi .sle (Scalar.maxsi (Scalar.divsi (Scalar.addi v631 255#32) 256#32) 1#32) 1#32) 1#32 0#32).toNat < 24) (hk : (Scalar.select (Scalar.cmpi .sle (Scalar.maxsi (Scalar.divsi (Scalar.addi v631 255#32) 256#32) 1#32) 1#32) 0#32 1#32).toNat < 6) : k0_chk83 v631 v663 :=
  ⟨chk83_0_ok hb hk, chk83_1_ok hb hk, chk83_2_ok hb hk⟩

theorem chk118_0_ok {v616 : BitVec 32} {k0_t6 : Fin (k0_t6_loop v616).trips} {arg29 arg30 v849 : BitVec 32} (hb : arg29.toNat < 24) (hk : arg30.toNat < 6) (hs : (Scalar.remsi (Scalar.addi (Scf.iv 0#32 1#32 k0_t6) 2#32) 3#32).toNat < 3) : k0_chk118_0 v616 k0_t6 arg29 arg30 v849 :=
  ⟨fun _ => ok_ubOf _,
   fun t _ => ids_inb (u := 0) hb hk (trip_lt _ t) (by decide) (by exact off_ids (u := 0) rfl rfl hk (trip_lt _ t) (by decide)),
   fun t _ => sem_inb hs,
   fun t _ => ring_inb hs (show 16 * t.val + 0 < 256 by have := (trip_lt _ t); omega) (by exact off_ring (u := 0) rfl (trip_lt _ t) (by decide)),
   fun t _ => ids_inb (u := 1) hb hk (trip_lt _ t) (by decide) (by exact off_ids (u := 1) rfl rfl hk (trip_lt _ t) (by decide)),
   fun t _ => sem_inb hs,
   fun t _ => ring_inb hs (show 16 * t.val + 1 < 256 by have := (trip_lt _ t); omega) (by exact off_ring (u := 1) rfl (trip_lt _ t) (by decide)),
   fun t _ => ids_inb (u := 2) hb hk (trip_lt _ t) (by decide) (by exact off_ids (u := 2) rfl rfl hk (trip_lt _ t) (by decide)),
   fun t _ => sem_inb hs,
   fun t _ => ring_inb hs (show 16 * t.val + 2 < 256 by have := (trip_lt _ t); omega) (by exact off_ring (u := 2) rfl (trip_lt _ t) (by decide)),
   fun t _ => ids_inb (u := 3) hb hk (trip_lt _ t) (by decide) (by exact off_ids (u := 3) rfl rfl hk (trip_lt _ t) (by decide)),
   fun t _ => sem_inb hs,
   fun t _ => ring_inb hs (show 16 * t.val + 3 < 256 by have := (trip_lt _ t); omega) (by exact off_ring (u := 3) rfl (trip_lt _ t) (by decide)),
   fun t _ => ids_inb (u := 4) hb hk (trip_lt _ t) (by decide) (by exact off_ids (u := 4) rfl rfl hk (trip_lt _ t) (by decide)),
   fun t _ => sem_inb hs,
   fun t _ => ring_inb hs (show 16 * t.val + 4 < 256 by have := (trip_lt _ t); omega) (by exact off_ring (u := 4) rfl (trip_lt _ t) (by decide)),
   fun t _ => ids_inb (u := 5) hb hk (trip_lt _ t) (by decide) (by exact off_ids (u := 5) rfl rfl hk (trip_lt _ t) (by decide)),
   fun t _ => sem_inb hs,
   fun t _ => ring_inb hs (show 16 * t.val + 5 < 256 by have := (trip_lt _ t); omega) (by exact off_ring (u := 5) rfl (trip_lt _ t) (by decide)),
   fun t _ => ids_inb (u := 6) hb hk (trip_lt _ t) (by decide) (by exact off_ids (u := 6) rfl rfl hk (trip_lt _ t) (by decide)),
   fun t _ => sem_inb hs,
   fun t _ => ring_inb hs (show 16 * t.val + 6 < 256 by have := (trip_lt _ t); omega) (by exact off_ring (u := 6) rfl (trip_lt _ t) (by decide)),
   fun t _ => ids_inb (u := 7) hb hk (trip_lt _ t) (by decide) (by exact off_ids (u := 7) rfl rfl hk (trip_lt _ t) (by decide)),
   fun t _ => sem_inb hs,
   fun t _ => ring_inb hs (show 16 * t.val + 7 < 256 by have := (trip_lt _ t); omega) (by exact off_ring (u := 7) rfl (trip_lt _ t) (by decide)),
   fun t _ => ids_inb (u := 8) hb hk (trip_lt _ t) (by decide) (by exact off_ids (u := 8) rfl rfl hk (trip_lt _ t) (by decide)),
   fun t _ => sem_inb hs,
   fun t _ => ring_inb hs (show 16 * t.val + 8 < 256 by have := (trip_lt _ t); omega) (by exact off_ring (u := 8) rfl (trip_lt _ t) (by decide)),
   fun t _ => ids_inb (u := 9) hb hk (trip_lt _ t) (by decide) (by exact off_ids (u := 9) rfl rfl hk (trip_lt _ t) (by decide)),
   fun t _ => sem_inb hs,
   fun t _ => ring_inb hs (show 16 * t.val + 9 < 256 by have := (trip_lt _ t); omega) (by exact off_ring (u := 9) rfl (trip_lt _ t) (by decide)),
   fun t _ => ids_inb (u := 10) hb hk (trip_lt _ t) (by decide) (by exact off_ids (u := 10) rfl rfl hk (trip_lt _ t) (by decide))⟩

theorem chk118_1_ok {v616 : BitVec 32} {k0_t6 : Fin (k0_t6_loop v616).trips} {arg29 arg30 v849 : BitVec 32} (hb : arg29.toNat < 24) (hk : arg30.toNat < 6) (hs : (Scalar.remsi (Scalar.addi (Scf.iv 0#32 1#32 k0_t6) 2#32) 3#32).toNat < 3) : k0_chk118_1 v616 k0_t6 arg29 arg30 v849 :=
  ⟨fun t _ => sem_inb hs,
   fun t _ => ring_inb hs (show 16 * t.val + 10 < 256 by have := (trip_lt _ t); omega) (by exact off_ring (u := 10) rfl (trip_lt _ t) (by decide)),
   fun t _ => ids_inb (u := 11) hb hk (trip_lt _ t) (by decide) (by exact off_ids (u := 11) rfl rfl hk (trip_lt _ t) (by decide)),
   fun t _ => sem_inb hs,
   fun t _ => ring_inb hs (show 16 * t.val + 11 < 256 by have := (trip_lt _ t); omega) (by exact off_ring (u := 11) rfl (trip_lt _ t) (by decide)),
   fun t _ => ids_inb (u := 12) hb hk (trip_lt _ t) (by decide) (by exact off_ids (u := 12) rfl rfl hk (trip_lt _ t) (by decide)),
   fun t _ => sem_inb hs,
   fun t _ => ring_inb hs (show 16 * t.val + 12 < 256 by have := (trip_lt _ t); omega) (by exact off_ring (u := 12) rfl (trip_lt _ t) (by decide)),
   fun t _ => ids_inb (u := 13) hb hk (trip_lt _ t) (by decide) (by exact off_ids (u := 13) rfl rfl hk (trip_lt _ t) (by decide)),
   fun t _ => sem_inb hs,
   fun t _ => ring_inb hs (show 16 * t.val + 13 < 256 by have := (trip_lt _ t); omega) (by exact off_ring (u := 13) rfl (trip_lt _ t) (by decide)),
   fun t _ => ids_inb (u := 14) hb hk (trip_lt _ t) (by decide) (by exact off_ids (u := 14) rfl rfl hk (trip_lt _ t) (by decide)),
   fun t _ => sem_inb hs,
   fun t _ => ring_inb hs (show 16 * t.val + 14 < 256 by have := (trip_lt _ t); omega) (by exact off_ring (u := 14) rfl (trip_lt _ t) (by decide)),
   fun t _ => ids_inb (u := 15) hb hk (trip_lt _ t) (by decide) (by exact off_ids (u := 15) rfl rfl hk (trip_lt _ t) (by decide)),
   fun t _ => sem_inb hs,
   fun t _ => ring_inb hs (show 16 * t.val + 15 < 256 by have := (trip_lt _ t); omega) (by exact off_ring (u := 15) rfl (trip_lt _ t) (by decide)),
   fun _ => rem_ok _,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim⟩

theorem chk118_2_ok {v616 : BitVec 32} {k0_t6 : Fin (k0_t6_loop v616).trips} {arg29 arg30 v849 : BitVec 32} (hb : arg29.toNat < 24) (hk : arg30.toNat < 6) (hs : (Scalar.remsi (Scalar.addi (Scf.iv 0#32 1#32 k0_t6) 2#32) 3#32).toNat < 3) : k0_chk118_2 v616 k0_t6 arg29 arg30 v849 :=
  ⟨fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim⟩

theorem chk118_3_ok {v616 : BitVec 32} {k0_t6 : Fin (k0_t6_loop v616).trips} {arg29 arg30 v849 : BitVec 32} (hb : arg29.toNat < 24) (hk : arg30.toNat < 6) (hs : (Scalar.remsi (Scalar.addi (Scf.iv 0#32 1#32 k0_t6) 2#32) 3#32).toNat < 3) : k0_chk118_3 v616 k0_t6 arg29 arg30 v849 :=
  ⟨fun t => (Nat.not_lt_zero _ (lt_of_lt_of_eq t.isLt (rem_trips _))).elim,
   fun t => (Nat.not_lt_zero _ (lt_of_lt_of_eq t.isLt (rem_trips _))).elim⟩

theorem chk118_ok {v616 : BitVec 32} {k0_t6 : Fin (k0_t6_loop v616).trips} {arg29 arg30 v849 : BitVec 32} (hb : arg29.toNat < 24) (hk : arg30.toNat < 6) (hs : (Scalar.remsi (Scalar.addi (Scf.iv 0#32 1#32 k0_t6) 2#32) 3#32).toNat < 3) : k0_chk118 v616 k0_t6 arg29 arg30 v849 :=
  ⟨chk118_0_ok hb hk hs, chk118_1_ok hb hk hs, chk118_2_ok hb hk hs, chk118_3_ok hb hk hs⟩

theorem chk152_0_ok {arg25 arg26 v667 : BitVec 32} (hb : arg25.toNat < 24) (hk : arg26.toNat < 6) : k0_chk152_0 arg25 arg26 v667 :=
  ⟨ok_ubOf _,
   fun t => ids_inb (u := 0) hb hk (trip_lt _ t) (by decide) (by exact off_ids (u := 0) rfl rfl hk (trip_lt _ t) (by decide)),
   fun t => line_inb' (show 16 * t.val + 0 < 256 by have := (trip_lt _ t); omega) (by exact off_line (u := 0) (trip_lt _ t) (by decide)),
   fun t => ids_inb (u := 1) hb hk (trip_lt _ t) (by decide) (by exact off_ids (u := 1) rfl rfl hk (trip_lt _ t) (by decide)),
   fun t => line_inb' (show 16 * t.val + 1 < 256 by have := (trip_lt _ t); omega) (by exact off_line (u := 1) (trip_lt _ t) (by decide)),
   fun t => ids_inb (u := 2) hb hk (trip_lt _ t) (by decide) (by exact off_ids (u := 2) rfl rfl hk (trip_lt _ t) (by decide)),
   fun t => line_inb' (show 16 * t.val + 2 < 256 by have := (trip_lt _ t); omega) (by exact off_line (u := 2) (trip_lt _ t) (by decide)),
   fun t => ids_inb (u := 3) hb hk (trip_lt _ t) (by decide) (by exact off_ids (u := 3) rfl rfl hk (trip_lt _ t) (by decide)),
   fun t => line_inb' (show 16 * t.val + 3 < 256 by have := (trip_lt _ t); omega) (by exact off_line (u := 3) (trip_lt _ t) (by decide)),
   fun t => ids_inb (u := 4) hb hk (trip_lt _ t) (by decide) (by exact off_ids (u := 4) rfl rfl hk (trip_lt _ t) (by decide)),
   fun t => line_inb' (show 16 * t.val + 4 < 256 by have := (trip_lt _ t); omega) (by exact off_line (u := 4) (trip_lt _ t) (by decide)),
   fun t => ids_inb (u := 5) hb hk (trip_lt _ t) (by decide) (by exact off_ids (u := 5) rfl rfl hk (trip_lt _ t) (by decide)),
   fun t => line_inb' (show 16 * t.val + 5 < 256 by have := (trip_lt _ t); omega) (by exact off_line (u := 5) (trip_lt _ t) (by decide)),
   fun t => ids_inb (u := 6) hb hk (trip_lt _ t) (by decide) (by exact off_ids (u := 6) rfl rfl hk (trip_lt _ t) (by decide)),
   fun t => line_inb' (show 16 * t.val + 6 < 256 by have := (trip_lt _ t); omega) (by exact off_line (u := 6) (trip_lt _ t) (by decide)),
   fun t => ids_inb (u := 7) hb hk (trip_lt _ t) (by decide) (by exact off_ids (u := 7) rfl rfl hk (trip_lt _ t) (by decide)),
   fun t => line_inb' (show 16 * t.val + 7 < 256 by have := (trip_lt _ t); omega) (by exact off_line (u := 7) (trip_lt _ t) (by decide)),
   fun t => ids_inb (u := 8) hb hk (trip_lt _ t) (by decide) (by exact off_ids (u := 8) rfl rfl hk (trip_lt _ t) (by decide)),
   fun t => line_inb' (show 16 * t.val + 8 < 256 by have := (trip_lt _ t); omega) (by exact off_line (u := 8) (trip_lt _ t) (by decide)),
   fun t => ids_inb (u := 9) hb hk (trip_lt _ t) (by decide) (by exact off_ids (u := 9) rfl rfl hk (trip_lt _ t) (by decide)),
   fun t => line_inb' (show 16 * t.val + 9 < 256 by have := (trip_lt _ t); omega) (by exact off_line (u := 9) (trip_lt _ t) (by decide)),
   fun t => ids_inb (u := 10) hb hk (trip_lt _ t) (by decide) (by exact off_ids (u := 10) rfl rfl hk (trip_lt _ t) (by decide)),
   fun t => line_inb' (show 16 * t.val + 10 < 256 by have := (trip_lt _ t); omega) (by exact off_line (u := 10) (trip_lt _ t) (by decide)),
   fun t => ids_inb (u := 11) hb hk (trip_lt _ t) (by decide) (by exact off_ids (u := 11) rfl rfl hk (trip_lt _ t) (by decide)),
   fun t => line_inb' (show 16 * t.val + 11 < 256 by have := (trip_lt _ t); omega) (by exact off_line (u := 11) (trip_lt _ t) (by decide)),
   fun t => ids_inb (u := 12) hb hk (trip_lt _ t) (by decide) (by exact off_ids (u := 12) rfl rfl hk (trip_lt _ t) (by decide)),
   fun t => line_inb' (show 16 * t.val + 12 < 256 by have := (trip_lt _ t); omega) (by exact off_line (u := 12) (trip_lt _ t) (by decide)),
   fun t => ids_inb (u := 13) hb hk (trip_lt _ t) (by decide) (by exact off_ids (u := 13) rfl rfl hk (trip_lt _ t) (by decide)),
   fun t => line_inb' (show 16 * t.val + 13 < 256 by have := (trip_lt _ t); omega) (by exact off_line (u := 13) (trip_lt _ t) (by decide)),
   fun t => ids_inb (u := 14) hb hk (trip_lt _ t) (by decide) (by exact off_ids (u := 14) rfl rfl hk (trip_lt _ t) (by decide)),
   fun t => line_inb' (show 16 * t.val + 14 < 256 by have := (trip_lt _ t); omega) (by exact off_line (u := 14) (trip_lt _ t) (by decide)),
   fun t => ids_inb (u := 15) hb hk (trip_lt _ t) (by decide) (by exact off_ids (u := 15) rfl rfl hk (trip_lt _ t) (by decide))⟩

theorem chk152_1_ok {arg25 arg26 v667 : BitVec 32} (hb : arg25.toNat < 24) (hk : arg26.toNat < 6) : k0_chk152_1 arg25 arg26 v667 :=
  ⟨fun t => line_inb' (show 16 * t.val + 15 < 256 by have := (trip_lt _ t); omega) (by exact off_line (u := 15) (trip_lt _ t) (by decide)),
   rem_ok _,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim⟩

theorem chk152_2_ok {arg25 arg26 v667 : BitVec 32} (hb : arg25.toNat < 24) (hk : arg26.toNat < 6) : k0_chk152_2 arg25 arg26 v667 :=
  ⟨fun t => (Nat.not_lt_zero _ (lt_of_lt_of_eq t.isLt (rem_trips _))).elim,
   fun t => (Nat.not_lt_zero _ (lt_of_lt_of_eq t.isLt (rem_trips _))).elim⟩

theorem chk152_ok {arg25 arg26 v667 : BitVec 32} (hb : arg25.toNat < 24) (hk : arg26.toNat < 6) : k0_chk152 arg25 arg26 v667 :=
  ⟨chk152_0_ok hb hk, chk152_1_ok hb hk, chk152_2_ok hb hk⟩

theorem chk185_0_ok {v616 : BitVec 32} {k0_t6 : Fin (k0_t6_loop v616).trips} {arg26 v683 : BitVec 32} (hs : (Scalar.remsi (Scf.iv 0#32 1#32 k0_t6) 3#32).toNat < 3) : k0_chk185_0 v616 k0_t6 arg26 v683 :=
  ⟨ok_ubOf _,
   fun t => sem_inb hs,
   fun t => ring_inb hs (show 0 < 256 by decide) rfl,
   fun t => ring_inb hs (show 1 < 256 by decide) rfl,
   fun t => ring_inb hs (show 2 < 256 by decide) rfl,
   fun t => ring_inb hs (show 3 < 256 by decide) rfl,
   fun t => ring_inb hs (show 4 < 256 by decide) rfl,
   fun t => ring_inb hs (show 5 < 256 by decide) rfl,
   fun t => ring_inb hs (show 6 < 256 by decide) rfl,
   fun t => ring_inb hs (show 7 < 256 by decide) rfl,
   fun t => ring_inb hs (show 8 < 256 by decide) rfl,
   fun t => ring_inb hs (show 9 < 256 by decide) rfl,
   fun t => ring_inb hs (show 10 < 256 by decide) rfl,
   fun t => ring_inb hs (show 11 < 256 by decide) rfl,
   fun t => ring_inb hs (show 12 < 256 by decide) rfl,
   fun t => ring_inb hs (show 13 < 256 by decide) rfl,
   fun t => ring_inb hs (show 14 < 256 by decide) rfl,
   fun t => ring_inb hs (show 15 < 256 by decide) rfl,
   rem_ok _,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim⟩

theorem chk185_1_ok {v616 : BitVec 32} {k0_t6 : Fin (k0_t6_loop v616).trips} {arg26 v683 : BitVec 32} (hs : (Scalar.remsi (Scf.iv 0#32 1#32 k0_t6) 3#32).toNat < 3) : k0_chk185_1 v616 k0_t6 arg26 v683 :=
  ⟨fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim,
   fun t => (Nat.not_lt_zero _ (lt_of_lt_of_eq t.isLt (rem_trips _))).elim⟩

theorem chk185_ok {v616 : BitVec 32} {k0_t6 : Fin (k0_t6_loop v616).trips} {arg26 v683 : BitVec 32} (hs : (Scalar.remsi (Scf.iv 0#32 1#32 k0_t6) 3#32).toNat < 3) : k0_chk185 v616 k0_t6 arg26 v683 :=
  ⟨chk185_0_ok hs, chk185_1_ok hs⟩

end Cert.Kernel.Hand
-- ==== Proof.K.Body53.lean ====
/-
  The first part of one block's turn: the copies of the block two ahead are started, and the scales' lines of this
  block gathered.
-/
module

public import proofs.«01_k».proof.Proof.K.Slots
public import proofs.«01_k».proof.Proof.K.GatherLoop
public import proofs.«01_k».proof.Proof.K.IssueAhead
public import proofs.«01_k».proof.Proof.K.Checks

@[expose] public section

set_option maxRecDepth 65536
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

theorem chk186_ok {b k : ℕ} (hb : b < 24) (hk : k < 6) : k0_chk186 (BitVec.ofNat 32 b) (BitVec.ofNat 32 k) := by
  revert hk; revert k
  have e : ∀ k : Fin 6, (Scalar.muli (BitVec.ofNat 32 k.val) 2#32).toNat = 2 * k.val ∧ (Scalar.muli (BitVec.ofNat 32 k.val) 256#32).toNat = 256 * k.val := by decide
  intro k hk
  obtain ⟨e1, e2⟩ := e ⟨k, hk⟩; dsimp only at e1 e2
  have hb' : (BitVec.ofNat 32 b).toNat = b := ofNat_toNat' (by omega)
  refine ⟨fun a => ?_, ?_, fun a => ?_⟩
  · match a with
    | 0 => exact (show (BitVec.ofNat 32 b).toNat + 1 ≤ 24 by omega)
    | 1 => exact (show (Scalar.muli (BitVec.ofNat 32 k) 2#32).toNat + 2 ≤ 12 by omega)
    | 2 => exact (show 0 + 128 ≤ 128 by omega)
  · show 256 ∣ (Scalar.muli (BitVec.ofNat 32 k) 256#32).toNat
    rw [e2]; exact Nat.dvd_mul_right _ _
  · match a with
    | 0 => exact (show (BitVec.ofNat 32 b).toNat + 1 ≤ 24 by omega)
    | 1 => exact (show (Scalar.muli (BitVec.ofNat 32 k) 256#32).toNat + 256 ≤ 1536 by omega)

theorem chk151_ok {b : ℕ} (hb : b < 24) : k0_chk151 (BitVec.ofNat 32 b) := by
  have hb' : (BitVec.ofNat 32 b).toNat = b := ofNat_toNat' (by omega)
  have h1 : ∀ a, (![(BitVec.ofNat 32 b).toNat] : Fin 1 → ℕ) a + S1.size a ≤ S24.size a := lens_inb (by omega)
  refine ⟨h1, h1, h1, fun a => ?_, fun a => ?_⟩
  · match a with
    | 0 => exact (show (BitVec.ofNat 32 b).toNat + 1 ≤ 32 by omega)
    | 1 => exact (show 0 + 256 ≤ 256 by omega)
  · match a with
    | 0 => exact (show (BitVec.ofNat 32 b).toNat + 1 ≤ 24 by omega)
    | 1 => exact (show 0 + 256 ≤ 256 by omega)

theorem chk117_ok {b : ℕ} (hb : b ≤ 24) : k0_chk117 (BitVec.ofNat 32 b) := by
  have hb' : (BitVec.ofNat 32 b).toNat = b := ofNat_toNat' (by omega)
  refine ⟨fun h => ?_, ?_⟩
  · have : b < 24 := (cond2_iff ⟨b, by omega⟩).1 h
    exact lens_inb (show (BitVec.ofNat 32 b).toNat < 24 by omega)
  · exact lens_inb (show (Scalar.minsi (BitVec.ofNat 32 b) 23#32).toNat < 24 by rw [min_23 (by omega)]; exact (fin24 _).isLt)

theorem off_len {b : ℕ} (hb : b < 24) : (![(Scalar.indexCast (BitVec.ofNat 32 b)).toNat] : Fin 1 → ℕ) = ![(fin24 b).val] := by
  show (![(BitVec.ofNat 32 b).toNat] : Fin 1 → ℕ) = _
  rw [ofNat_toNat' (by omega)]
  show _ = ![min b 23]
  rw [min_eq_left (by omega)]

theorem fin24_val {b : ℕ} (hb : b < 24) : (fin24 b).val = b := min_eq_left (by omega)
theorem fin6_val {b : ℕ} (hb : b < 6) : (fin6 b).val = b := min_eq_left (by omega)

theorem trips7 (k : ℕ) (v : BitVec 32) : 16 * (k0_t7_loop (BitVec.ofNat 32 k) v).trips = rowsOf v k :=
  congrArg (16 * ·) (trips_ubOf _)
theorem trips9 (k : ℕ) (v : BitVec 32) : 16 * (k0_t9_loop (BitVec.ofNat 32 k) v).trips = rowsOf v k :=
  congrArg (16 * ·) (trips_ubOf _)

theorem part53_ok (q : Fin 3 → PosShare TreeShare) (fl : LenBuf F c) (fi : IdBuf F c) (fw : WordBuf F c) (fs : SclBuf F c) (hfi : IdsOk fi)
    {b k b2 k2 : ℕ} (hb : b < 24) (hk : k < 6) (hb2 : b2 ≤ 24) (hk2 : k2 < 6)
    (v616 : BitVec 32) (t : Fin (k0_t6_loop v616).trips) (ht : t.val < 900) :
    iprop(pt c cc0_stg0_0 fl ∗ pt c cc0_stg1_0 fi ∗ pt c cc0_scratch2 fs ∗ (∃ g0, pt c cc0_scratch1 g0) ∗ (∃ f, Idle c (fin3 (t.val + 2)) (q (fin3 (t.val + 2))) fw f))
      ⊢ wp frame (wpE defs 𝒱 (c : Thread nD τ) bd) Set.univ (k0_part53 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v616 0#32 1#32 t (BitVec.ofNat 32 b) (BitVec.ofNat 32 k) (BitVec.ofNat 32 b2) (BitVec.ofNat 32 k2))
        (fun a => iprop(⌜a.2.2.2.2.1 = lenAt fl (fin24 b)⌝ ∗ pt c cc0_stg0_0 fl ∗ pt c cc0_stg1_0 fi ∗ pt c cc0_scratch2 fs
          ∗ (∃ g0, pt c cc0_scratch1 (lineBuf fs fi (fin24 b) (fin6 k) g0 (rowsOf (lenAt fl (fin24 b)) k)))
          ∗ SlotF c q fl fi fw (fin3 (t.val + 2)) (b2, k2))) := by
  have hbn : (BitVec.ofNat 32 b).toNat = b := ofNat_toNat' (by omega)
  have hkn : (BitVec.ofNat 32 k).toNat = k := ofNat_toNat' (by omega)
  have hbn2 : (BitVec.ofNat 32 b2).toNat = b2 := ofNat_toNat' (by omega)
  have hkn2 : (BitVec.ofNat 32 k2).toNat = k2 := ofNat_toNat' (by omega)
  rw [k0_part53_eq_skeleton]
  unfold k0_part53_skel
  simp only [Prog.bind_assoc, Prog.bind_ret, Prog.pure_eq_ret]
  iintro ⟨Hl, Hi, Hs, ⟨%g0, Hg⟩, ⟨%f, HI⟩⟩
  iapply (wp_assume 𝒱 (c : Thread nD τ) bd Set.univ (chk186_ok hb hk))
  iapply (wp_assume 𝒱 (c : Thread nD τ) bd Set.univ (chk151_ok hb))
  iapply (wp_assume 𝒱 (c : Thread nD τ) bd Set.univ (chk117_ok hb2))
  have tr : ∀ x : BitVec 32, Scf.trips (Scalar.addi 0#32 (Scalar.muli (Scalar.divsi (Scalar.subi x 0#32) 1#32) 1#32)) (Scalar.addi 0#32 (Scalar.subi x 0#32)) 1#32 = 0 := rem_trips
  have hT7 : ∀ v, (k0_t7_loop (BitVec.ofNat 32 k2) v).trips ≤ 16 := fun v => by have := trips7 k2 v; have := rowsOf_le v k2; omega
  have hT9 : ∀ v, (k0_t9_loop (BitVec.ofNat 32 k) v).trips ≤ 16 := fun v => by have := trips9 k v; have := rowsOf_le v k; omega
  have hs2 : (Scalar.remsi (Scalar.addi (Scf.iv 0#32 1#32 t.val) 2#32) 3#32).toNat = (fin3 (t.val + 2)).val := iv_rem2 ht
  by_cases hc : k0_cond2 (BitVec.ofNat 32 b2) = 1#1
  · have hlt : b2 < 24 := (cond2_iff ⟨b2, by omega⟩).1 hc
    iapply (wp_if_pos 𝒱 c bd hc)
    iapply (wp_len 𝒱 c bd fl (fin24 b2) (off_len hlt)) $$ Hl
    iintro Hl
    iapply (wp_assume 𝒱 (c : Thread nD τ) bd Set.univ (chk118_ok (v616 := v616) (k0_t6 := t) (arg29 := BitVec.ofNat 32 b2) (arg30 := BitVec.ofNat 32 k2) (v849 := lenAt fl (fin24 b2)) (by omega) (by omega) (by rw [hs2]; exact (fin3 _).isLt)))
    imod (idle_open c (fin3 (t.val + 2)) (q (fin3 (t.val + 2))) fw (gathered fw fi (fin24 b2) (fin6 k2)) f (rowsOf (lenAt fl (fin24 b2)) k2)) $$ HI with HF
    iapply (Scf.wp_for_bind _ _ _ _ _ _ _ _ _ (fun n _ => iprop(pt c cc0_stg1_0 fi ∗ Filling c (.dma (slotSem (fin3 (t.val + 2)))) (fin3 (t.val + 2)) (q (fin3 (t.val + 2))) fw (gathered fw fi (fin24 b2) (fin6 k2)) f (rowsOf (lenAt fl (fin24 b2)) k2) (16 * n)))
      (fun t' acc => t7_step 𝒱 c bd (fin3 (t.val + 2)) (q (fin3 (t.val + 2))) fw fi f (fin24 b2) (fin6 k2) (rowsOf (lenAt fl (fin24 b2)) k2) hfi (by rw [fin24_val hlt]; exact hbn2) (by rw [fin6_val hk2]; exact hkn2) hs2 (trips7 _ _).symm (hT7 _) t')) $$ [Hi HF]
    · isplitl [Hi]; · iexact Hi
      iexact HF
    iintro %_ ⟨Hi, HF⟩
    iapply (Scf.wp_for0_bind' _ _ _ _ _ _ _ _ _ (tr _) _ _ _ .rfl)
    ihave HS : SlotF c q fl fi fw (fin3 (t.val + 2)) (b2, k2) $$ [HF]
    · unfold SlotF
      rw [if_pos hlt]
      iexists f
      rw [trips7]
      iexact HF
    iapply (wp_len 𝒱 c bd fl (fin24 b) (off_len hb)) $$ Hl
    iintro Hl
    iapply (wp_assume 𝒱 (c : Thread nD τ) bd Set.univ (chk152_ok (arg25 := BitVec.ofNat 32 b) (arg26 := BitVec.ofNat 32 k) (v667 := lenAt fl (fin24 b)) (by omega) (by omega)))
    iapply (Scf.wp_for_bind _ _ _ _ _ _ _ _ _ (fun n _ => iprop(pt c cc0_stg1_0 fi ∗ pt c cc0_scratch2 fs ∗ pt c cc0_scratch1 (lineBuf fs fi (fin24 b) (fin6 k) g0 (16 * n))))
      (fun t' acc => t9_step 𝒱 c bd fs fi (fin24 b) (fin6 k) g0 hfi (by rw [fin24_val hb]; exact hbn) (by rw [fin6_val hk]; exact hkn) (hT9 _) t')) $$ [Hi Hs Hg]
    · isplitl [Hi]; · iexact Hi
      isplitl [Hs]; · iexact Hs
      iexact Hg
    iintro %_ ⟨Hi, Hs, Hg⟩
    iapply (Scf.wp_for0_bind' _ _ _ _ _ _ _ _ _ (tr _) _ _ _ .rfl)
    iapply (wp_len 𝒱 c bd fl (fin24 b) (off_len hb)) $$ Hl
    iintro Hl
    iapply (wp_assume 𝒱 (c : Thread nD τ) bd Set.univ (chk185_ok (v616 := v616) (k0_t6 := t) (arg26 := BitVec.ofNat 32 k) (v683 := lenAt fl (fin24 b)) (by rw [iv_rem ht]; exact Nat.mod_lt _ (by decide))))
    iapply (le_wp_ret _ _ _)
    isplitr
    · ipureintro; rfl
    isplitl [Hl]; · iexact Hl
    isplitl [Hi]; · iexact Hi
    isplitl [Hs]; · iexact Hs
    isplitl [Hg]
    · iexists g0
      rw [trips9]
      iexact Hg
    iexact HS
  · have hlt : ¬ b2 < 24 := fun h => hc ((cond2_iff ⟨b2, by omega⟩).2 h)
    iapply (wp_if_neg 𝒱 c bd hc)
    ihave HS : SlotF c q fl fi fw (fin3 (t.val + 2)) (b2, k2) $$ [HI]
    · unfold SlotF
      rw [if_neg hlt]
      iexists f
      iexact HI
    iapply (wp_len 𝒱 c bd fl (fin24 b) (off_len hb)) $$ Hl
    iintro Hl
    iapply (wp_assume 𝒱 (c : Thread nD τ) bd Set.univ (chk152_ok (arg25 := BitVec.ofNat 32 b) (arg26 := BitVec.ofNat 32 k) (v667 := lenAt fl (fin24 b)) (by omega) (by omega)))
    iapply (Scf.wp_for_bind _ _ _ _ _ _ _ _ _ (fun n _ => iprop(pt c cc0_stg1_0 fi ∗ pt c cc0_scratch2 fs ∗ pt c cc0_scratch1 (lineBuf fs fi (fin24 b) (fin6 k) g0 (16 * n))))
      (fun t' acc => t9_step 𝒱 c bd fs fi (fin24 b) (fin6 k) g0 hfi (by rw [fin24_val hb]; exact hbn) (by rw [fin6_val hk]; exact hkn) (hT9 _) t')) $$ [Hi Hs Hg]
    · isplitl [Hi]; · iexact Hi
      isplitl [Hs]; · iexact Hs
      iexact Hg
    iintro %_ ⟨Hi, Hs, Hg⟩
    iapply (Scf.wp_for0_bind' _ _ _ _ _ _ _ _ _ (tr _) _ _ _ .rfl)
    iapply (wp_len 𝒱 c bd fl (fin24 b) (off_len hb)) $$ Hl
    iintro Hl
    iapply (wp_assume 𝒱 (c : Thread nD τ) bd Set.univ (chk185_ok (v616 := v616) (k0_t6 := t) (arg26 := BitVec.ofNat 32 k) (v683 := lenAt fl (fin24 b)) (by rw [iv_rem ht]; exact Nat.mod_lt _ (by decide))))
    iapply (le_wp_ret _ _ _)
    isplitr
    · ipureintro; rfl
    isplitl [Hl]; · iexact Hl
    isplitl [Hi]; · iexact Hi
    isplitl [Hs]; · iexact Hs
    isplitl [Hg]
    · iexists g0
      rw [trips9]
      iexact Hg
    iexact HS

end Cert.Kernel.Hand
-- ==== Proof.K.WaitLoop.lean ====
module

public import proofs.«01_k».proof.Proof.K.Wait

@[expose] public section

set_option maxRecDepth 65536
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)

/-- One trip of the loop that waits for a slot's copies: sixteen rows more are known to be over. -/
theorem t11_step {arg0 : Memref sig .tc .smem S24 .i32} {harg0 : arg0.IsWhole} {arg2 : Memref sig .tc .smem S24 .i32} {harg2 : arg2.IsWhole} {arg4 : Memref sig .tc .hbm S1000000 .f32} {harg4 : arg4.IsWhole} {arg5 : Memref sig .tc .vmem S24x12x128 .i32} {harg5 : arg5.IsWhole} {arg6 : Memref sig .tc .vmem S1x128 .i32} {harg6 : arg6.IsWhole} {arg7 : Memref sig .tc .vmem S1024x256 .bf16} {harg7 : arg7.IsWhole} {arg8 : Memref sig .tc .vmem S1x256 .f32} {harg8 : arg8.IsWhole} {arg9 : Memref sig .tc .vmem S1x256 .f32} {harg9 : arg9.IsWhole} {arg10 : Memref sig .tc .vmem S256x128 .bf16} {harg10 : arg10.IsWhole} {arg11 : Memref sig .tc .vmem S1x128 .f32} {harg11 : arg11.IsWhole} {arg12 : Memref sig .tc .vmem S1x128 .f32} {harg12 : arg12.IsWhole} {arg13 : Memref sig .tc .vmem S8x128 .bf16} {harg13 : arg13.IsWhole} {arg14 : Memref sig .tc .smem S1x1 .f32} {harg14 : arg14.IsWhole} {arg15 : Memref sig .tc .vmem S24x256 .f32} {harg15 : arg15.IsWhole} {arg16 : Memref sig .tc .vmem S24x1536 .f32} {harg16 : arg16.IsWhole} {arg18 : Memref sig .tc .vmem S256x128 .f32} {harg18 : arg18.IsWhole} {arg19 : Memref sig .tc .vmem S1000000 .f32} {harg19 : arg19.IsWhole} {arg20 : Memref sig .tc .vmem S32x256 .f32} {harg20 : arg20.IsWhole} {arg21 : Memref sig .tc .vmem S32x256 .f32} {harg21 : arg21.IsWhole} {arg22 : DmaSems sig S_} {v616 : BitVec 32} {k0_hw116 : k0_chk116 v616} {k0_t6 : Fin (k0_t6_loop v616).trips} {arg25 : BitVec 32} {arg26 : BitVec 32} {k0_hw186 : k0_chk186 arg25 arg26} {k0_hw151 : k0_chk151 arg25} {v662 : BitVec 32} {v683 : Elt F .i32} {k0_hw185 : k0_chk185 v616 k0_t6 arg26 v683} {v689 : BitVec 32} {c1_i32_506 : BitVec 32}
    (s : Fin 3) (q0 : PosShare TreeShare) (fw : WordBuf F c) (G : RingBuf F c) (n : ℕ)
    (hs : (Scalar.remsi (Scf.iv 0#32 1#32 k0_t6) 3#32).toNat = s.val)
    (hn : n = 16 * (k0_t11_loop arg26 v683).trips)
    (t : Fin (k0_t11_loop arg26 v683).trips) :
    iprop(RowBatch c (.dma (slotSem s)) s q0 fw G n n (rowN * (16 * t.val)) ∗ noDebt c)
      ⊢ wp frame (wpE defs 𝒱 (c : Thread nD τ) bd) Set.univ (k0_t11_body arg0 harg0 aIds (Memref.isWhole_whole _) arg2 harg2 hWords (Memref.isWhole_whole _) arg4 harg4 arg5 harg5 arg6 harg6 arg7 harg7 arg8 harg8 arg9 harg9 arg10 harg10 arg11 harg11 arg12 harg12 arg13 harg13 arg14 harg14 arg15 harg15 arg16 harg16 sRows (Memref.isWhole_whole _) arg18 harg18 arg19 harg19 arg20 harg20 arg21 harg21 arg22 cc0_scratch6 v616 k0_hw116 k0_t6 arg25 arg26 k0_hw186 k0_hw151 v662 v683 k0_hw185 v689 c1_i32_506 t ())
        (fun _ => iprop(RowBatch c (.dma (slotSem s)) s q0 fw G n n (rowN * (16 * (t.val + 1))) ∗ noDebt c)) := by
  have hj : 16 * t.val + 16 ≤ n := by have := t.isLt; omega
  unfold k0_t11_body
  simp only [k0_part47_eq_skeleton, k0_part48_eq_skeleton, k0_part49_eq_skeleton]
  unfold k0_part47_skel k0_part48_skel k0_part49_skel
  simp only [Prog.bind_assoc, Prog.bind_ret, Prog.pure_eq_ret]
  iintro H
  iapply (wp_wait_row 𝒱 c bd s q0 fw G n (16 * t.val + 0) (by omega) (slot_sem s (by exact congrArg (fun z => ![z]) hs))) $$ H
  iintro H
  iapply (wp_wait_row 𝒱 c bd s q0 fw G n (16 * t.val + 1) (by omega) (slot_sem s (by exact congrArg (fun z => ![z]) hs))) $$ H
  iintro H
  iapply (wp_wait_row 𝒱 c bd s q0 fw G n (16 * t.val + 2) (by omega) (slot_sem s (by exact congrArg (fun z => ![z]) hs))) $$ H
  iintro H
  iapply (wp_wait_row 𝒱 c bd s q0 fw G n (16 * t.val + 3) (by omega) (slot_sem s (by exact congrArg (fun z => ![z]) hs))) $$ H
  iintro H
  iapply (wp_wait_row 𝒱 c bd s q0 fw G n (16 * t.val + 4) (by omega) (slot_sem s (by exact congrArg (fun z => ![z]) hs))) $$ H
  iintro H
  iapply (wp_wait_row 𝒱 c bd s q0 fw G n (16 * t.val + 5) (by omega) (slot_sem s (by exact congrArg (fun z => ![z]) hs))) $$ H
  iintro H
  iapply (wp_wait_row 𝒱 c bd s q0 fw G n (16 * t.val + 6) (by omega) (slot_sem s (by exact congrArg (fun z => ![z]) hs))) $$ H
  iintro H
  iapply (wp_wait_row 𝒱 c bd s q0 fw G n (16 * t.val + 7) (by omega) (slot_sem s (by exact congrArg (fun z => ![z]) hs))) $$ H
  iintro H
  iapply (wp_wait_row 𝒱 c bd s q0 fw G n (16 * t.val + 8) (by omega) (slot_sem s (by exact congrArg (fun z => ![z]) hs))) $$ H
  iintro H
  iapply (wp_wait_row 𝒱 c bd s q0 fw G n (16 * t.val + 9) (by omega) (slot_sem s (by exact congrArg (fun z => ![z]) hs))) $$ H
  iintro H
  iapply (wp_wait_row 𝒱 c bd s q0 fw G n (16 * t.val + 10) (by omega) (slot_sem s (by exact congrArg (fun z => ![z]) hs))) $$ H
  iintro H
  iapply (wp_wait_row 𝒱 c bd s q0 fw G n (16 * t.val + 11) (by omega) (slot_sem s (by exact congrArg (fun z => ![z]) hs))) $$ H
  iintro H
  iapply (wp_wait_row 𝒱 c bd s q0 fw G n (16 * t.val + 12) (by omega) (slot_sem s (by exact congrArg (fun z => ![z]) hs))) $$ H
  iintro H
  iapply (wp_wait_row 𝒱 c bd s q0 fw G n (16 * t.val + 13) (by omega) (slot_sem s (by exact congrArg (fun z => ![z]) hs))) $$ H
  iintro H
  iapply (wp_wait_row 𝒱 c bd s q0 fw G n (16 * t.val + 14) (by omega) (slot_sem s (by exact congrArg (fun z => ![z]) hs))) $$ H
  iintro H
  iapply (wp_wait_row 𝒱 c bd s q0 fw G n (16 * t.val + 15) (by omega) (slot_sem s (by exact congrArg (fun z => ![z]) hs))) $$ H
  iintro H
  iapply (le_wp_ret _ _ _)
  iexact H

end Cert.Kernel.Hand
-- ==== Proof.K.Body.lean ====
/-
  One block's turn: from what the kernel holds when `i` blocks are done to what it holds when `i + 1` are.
-/
module

public import proofs.«01_k».proof.Proof.K.Turn
public import proofs.«01_k».proof.Proof.K.Body53
public import proofs.«01_k».proof.Proof.K.WaitLoop

@[expose] public section

set_option maxRecDepth 65536
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

/-- What the kernel holds when `i` blocks are done, the loop's variables at the next three positions. -/
def Inv (q : Fin 3 → PosShare TreeShare) (I : Ins F c) (tf : TfBuf F c) (tw : TwBuf F c) (R : ℕ → ScoreBuf F c → IntBuf F c → Prop) (i : ℕ)
    (acc : BitVec 32 × BitVec 32 × BitVec 32 × BitVec 32 × BitVec 32 × BitVec 32) : sProp 𝕄 :=
  iprop(⌜acc = (BitVec.ofNat 32 (pos (lenAt I.fl) i).1, BitVec.ofNat 32 (pos (lenAt I.fl) i).2, BitVec.ofNat 32 (pos (lenAt I.fl) (i + 1)).1, BitVec.ofNat 32 (pos (lenAt I.fl) (i + 1)).2, BitVec.ofNat 32 (pos (lenAt I.fl) (i + 2)).1, BitVec.ofNat 32 (pos (lenAt I.fl) (i + 2)).2)⌝
    ∗ (pt c cc0_stg0_0 I.fl ∗ pt c cc0_stg1_0 I.fi ∗ pt c cc0_scratch2 I.fs ∗ pt c cc0_scratch3 tf ∗ pt c cc0_scratch4 tw ∗ pt c cc0_stg3_0 I.idb ∗ pt c cc0_stg5_0 I.w1 ∗ pt c cc0_stg7_0 I.a1 ∗ pt c cc0_stg8_0 I.w2 ∗ pt c cc0_stg9_0 I.b2 ∗ pt c cc0_stg10_0 I.a2 ∗ pt c cc0_stg11_0 I.w3 ∗ pt c cc0_stg12_0 I.b3) ∗ (∃ g0, pt c cc0_scratch1 g0)
    ∗ SlotF c q I.fl I.fi I.fw (fin3 i) (pos (lenAt I.fl) i) ∗ SlotF c q I.fl I.fi I.fw (fin3 (i + 1)) (pos (lenAt I.fl) (i + 1)) ∗ (∃ f, Idle c (fin3 (i + 2)) (q (fin3 (i + 2))) I.fw f)
    ∗ noDebt c ∗ (∃ sc it, pt c cc0_stg14_0 sc ∗ pt c cc0_stg13_0 it ∗ ⌜R i sc it⌝))

theorem adv_ofNat {L : Fin 24 → BitVec 32} (hL : ∀ b, LenOk (L b)) {b k : ℕ} (hb : b ≤ 24) (hk : k < 6) :
    advB (L (fin24 b)) (BitVec.ofNat 32 b) (BitVec.ofNat 32 k) = BitVec.ofNat 32 (stepPos L (b, k)).1
      ∧ advK (L (fin24 b)) (BitVec.ofNat 32 k) = BitVec.ofNat 32 (stepPos L (b, k)).2 := by
  have e1 : (BitVec.ofNat 32 b).toNat = b := ofNat_toNat' (by omega)
  have e2 : (BitVec.ofNat 32 k).toNat = k := ofNat_toNat' (by omega)
  have h := adv_toNat hL (b := BitVec.ofNat 32 b) (k := BitVec.ofNat 32 k) (by omega) (by omega)
  rw [e1, e2] at h
  exact ⟨eq_ofNat (congrArg Prod.fst h), eq_ofNat (congrArg Prod.snd h)⟩

theorem trips11 (k : ℕ) (v : BitVec 32) : 16 * (k0_t11_loop (BitVec.ofNat 32 k) v).trips = rowsOf v k :=
  congrArg (16 * ·) (trips_ubOf _)

/-- The load of the last bias. -/
theorem wp_b3 {h : ∀ a, (![0, 0] : Fin 2 → ℕ) a + S1x1.size a ≤ S1x1.size a} {n1} {r1}
    {K : Elt F .f32 → Prog (TpuEff nD τ sig (Elt F) Λ₀ .tc) α} {Q : α → sProp 𝕄} (I : Ins F c) :
    pt c cc0_stg12_0 I.b3
      ⊢ iprop((pt c cc0_stg12_0 I.b3 -∗ wp frame (wpE defs 𝒱 (c : Thread nD τ) bd) Set.univ (K (rdB3 I)) Q)
        -∗ wp frame (wpE defs 𝒱 (c : Thread nD τ) bd) Set.univ
          (smemLoad (Memref.whole cc0_stg12_0 : Memref sig .tc .smem S1x1 .f32) (Rect.unit (s := S1x1) ![0, 0] S1x1.size h) n1 r1 >>= fun v : Elt F .f32 => K v) Q) := by
  have e : ((Memref.whole cc0_stg12_0 : Memref sig .tc .smem S1x1 .f32).access (Rect.unit (s := S1x1) ![0, 0] S1x1.size h)).read (Elt F) I.b3 (Shape.Idx.first (by rw [n1]; decide)) = rdB3 I := by
    unfold rdB3
    show I.b3 _ = I.b3 _
    congr 1
    funext a
    apply Fin.ext
    fin_cases a <;> rfl
  rw [← e]
  exact wp_load_rect 𝒱 (c : Thread nD τ) bd Set.univ (m := (Memref.whole cc0_stg12_0 : Memref sig .tc .smem S1x1 .f32)) (r := Rect.unit (s := S1x1) ![0, 0] S1x1.size h) (S := Finset.univ) (q := fullShare) (f := I.b3)
    (k := fun f => K (f (Shape.Idx.first _))) (Finset.subset_univ _)

theorem off509_eq {b : ℕ} (hb : b < 24) : k0_off509 (BitVec.ofNat 32 b) = ![(fin24 b).val, 0] := by
  rw [fin24_val hb]; exact congrArg (fun z => ![z, 0]) (ofNat_toNat' (n := b) (by omega))
theorem off513_eq {b : ℕ} (hb : b < 24) : k0_off513 (BitVec.ofNat 32 b) = ![(fin24 b).val, 0] := by
  rw [fin24_val hb]; exact congrArg (fun z => ![z, 0]) (ofNat_toNat' (n := b) (by omega))
theorem muls6 : ∀ k : Fin 6, (Scalar.muli (BitVec.ofNat 32 k.val) 2#32).toNat = 2 * k.val ∧ (Scalar.muli (BitVec.ofNat 32 k.val) 256#32).toNat = 256 * k.val := by decide
theorem off510_eq {b k : ℕ} (hb : b < 24) (hk : k < 6) : k0_off510 (BitVec.ofNat 32 b) (BitVec.ofNat 32 k) = ![(fin24 b).val, 2 * (fin6 k).val, 0] := by
  have h := (muls6 (fin6 k)).1
  rw [fin6_val hk] at h
  rw [fin24_val hb, fin6_val hk]; exact congrArg₂ (fun z w => ![z, w, 0]) (ofNat_toNat' (n := b) (by omega)) h
theorem off512_eq {b k : ℕ} (hb : b < 24) (hk : k < 6) : k0_off512 (BitVec.ofNat 32 b) (BitVec.ofNat 32 k) = ![(fin24 b).val, 256 * (fin6 k).val] := by
  have h := (muls6 (fin6 k)).2
  rw [fin6_val hk] at h
  rw [fin24_val hb, fin6_val hk]; exact congrArg₂ (fun z w => ![z, w]) (ofNat_toNat' (n := b) (by omega)) h
theorem off511_eq {v616 : BitVec 32} (t : Fin (k0_t6_loop v616).trips) (ht : t.val < 900) : k0_off511 v616 t = ![(fin3 t.val).val, 0, 0] :=
  congrArg (fun z => ![z, 0, 0]) (iv_rem ht)
theorem off514_eq {b : ℕ} (hb : b ≤ 24) : k0_off514 (BitVec.ofNat 32 b) = ![(fin24 b).val] := by
  refine (congrArg (fun z => ![z]) (min_23 (b := BitVec.ofNat 32 b) ?_)).trans ?_
  · rw [ofNat_toNat' (by omega)]; exact hb
  · rw [ofNat_toNat' (by omega)]

/-- One block's turn, at its position `(b, k)`, the next `p1` and the one after, `(b2, k2)`. -/
theorem body_core (q : Fin 3 → PosShare TreeShare) (I : Ins F c) (tf : TfBuf F c) (tw : TwBuf F c) (R : ScoreBuf F c → IntBuf F c → Prop)
    (hfi : IdsOk I.fi) (hL : ∀ b, LenOk (lenAt I.fl b))
    (v616 : BitVec 32) (hw : k0_chk116 v616) (t : Fin (k0_t6_loop v616).trips) (ht9 : t.val < 900) {b k b2 k2 : ℕ} (p1 p3 : ℕ × ℕ)
    (hb24 : b < 24) (hk6 : k < 6) (hb2 : b2 ≤ 24) (hk2 : k2 < 6) (sc : ScoreBuf F c) (it : IntBuf F c)
    (hp3 : advB (lenAt I.fl (fin24 b2)) (BitVec.ofNat 32 b2) (BitVec.ofNat 32 k2) = BitVec.ofNat 32 p3.1 ∧ advK (lenAt I.fl (fin24 b2)) (BitVec.ofNat 32 k2) = BitVec.ofNat 32 p3.2)
    (hkeep : ∀ (f : RingBuf F c) (g0 : LineBuf F c), R
      (newScore I tf tw (fin3 t.val) (fin24 b) k (filled (gathered I.fw I.fi (fin24 b) (fin6 k)) f (rowsOf (lenAt I.fl (fin24 b)) k)) (lineBuf I.fs I.fi (fin24 b) (fin6 k) g0 (rowsOf (lenAt I.fl (fin24 b)) k)) sc)
      (newInt I tf tw (fin3 t.val) (fin24 b) k (filled (gathered I.fw I.fi (fin24 b) (fin6 k)) f (rowsOf (lenAt I.fl (fin24 b)) k)) (lineBuf I.fs I.fi (fin24 b) (fin6 k) g0 (rowsOf (lenAt I.fl (fin24 b)) k)) it)) :
    iprop((pt c cc0_stg0_0 I.fl ∗ pt c cc0_stg1_0 I.fi ∗ pt c cc0_scratch2 I.fs ∗ pt c cc0_scratch3 tf ∗ pt c cc0_scratch4 tw ∗ pt c cc0_stg3_0 I.idb ∗ pt c cc0_stg5_0 I.w1 ∗ pt c cc0_stg7_0 I.a1 ∗ pt c cc0_stg8_0 I.w2 ∗ pt c cc0_stg9_0 I.b2 ∗ pt c cc0_stg10_0 I.a2 ∗ pt c cc0_stg11_0 I.w3 ∗ pt c cc0_stg12_0 I.b3) ∗ (∃ g0, pt c cc0_scratch1 g0)
      ∗ (∃ f, Filling c (.dma (slotSem (fin3 t.val))) (fin3 t.val) (q (fin3 t.val)) I.fw (gathered I.fw I.fi (fin24 b) (fin6 k)) f (rowsOf (lenAt I.fl (fin24 b)) k) (rowsOf (lenAt I.fl (fin24 b)) k))
      ∗ (∃ f, Idle c (fin3 (t.val + 2)) (q (fin3 (t.val + 2))) I.fw f)
      ∗ noDebt c ∗ pt c cc0_stg14_0 sc ∗ pt c cc0_stg13_0 it)
    ⊢ wp frame (wpE defs 𝒱 (c : Thread nD τ) bd) Set.univ (k0_t6_body aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v616 hw t (BitVec.ofNat 32 b, BitVec.ofNat 32 k, BitVec.ofNat 32 p1.1, BitVec.ofNat 32 p1.2, BitVec.ofNat 32 b2, BitVec.ofNat 32 k2))
      (fun acc => iprop(⌜acc = (BitVec.ofNat 32 p1.1, BitVec.ofNat 32 p1.2, BitVec.ofNat 32 b2, BitVec.ofNat 32 k2, BitVec.ofNat 32 p3.1, BitVec.ofNat 32 p3.2)⌝
        ∗ (pt c cc0_stg0_0 I.fl ∗ pt c cc0_stg1_0 I.fi ∗ pt c cc0_scratch2 I.fs ∗ pt c cc0_scratch3 tf ∗ pt c cc0_scratch4 tw ∗ pt c cc0_stg3_0 I.idb ∗ pt c cc0_stg5_0 I.w1 ∗ pt c cc0_stg7_0 I.a1 ∗ pt c cc0_stg8_0 I.w2 ∗ pt c cc0_stg9_0 I.b2 ∗ pt c cc0_stg10_0 I.a2 ∗ pt c cc0_stg11_0 I.w3 ∗ pt c cc0_stg12_0 I.b3) ∗ (∃ g0, pt c cc0_scratch1 g0) ∗ SlotF c q I.fl I.fi I.fw (fin3 (t.val + 2)) (b2, k2) ∗ (∃ f, Idle c (fin3 t.val) (q (fin3 t.val)) I.fw f)
        ∗ noDebt c ∗ (∃ sc it, pt c cc0_stg14_0 sc ∗ pt c cc0_stg13_0 it ∗ ⌜R sc it⌝))) := by
  iintro ⟨⟨Hl, Hi, Hs, Htf, Htw, Hid, Hw1, Ha1, Hw2, Hb2, Ha2, Hw3, Hb3⟩, Hg, HSa, HI, HO, Hsc, Hit⟩
  unfold k0_t6_body
  simp only [k0_part54_eq_skeleton, k0_part55_eq_skeleton, k0_part56_eq_skeleton]
  unfold k0_part54_skel k0_part55_skel k0_part56_skel
  simp only [Prog.bind_assoc, Prog.bind_ret, Prog.pure_eq_ret]
  rw [wp_bind]
  iapply ((part53_ok 𝒱 c bd q I.fl I.fi I.fw I.fs hfi hb24 hk6 hb2 hk2 v616 t ht9).trans (wp_wand _ _ _)) $$ [Hl Hi Hs Hg HI]
  · isplitl [Hl]; · iexact Hl
    isplitl [Hi]; · iexact Hi
    isplitl [Hs]; · iexact Hs
    isplitl [Hg]; · iexact Hg
    iexact HI
  iintro %r ⟨%hv683, Hl, Hi, Hs, ⟨%g0, Hg⟩, HSc⟩
  obtain ⟨h1, h2, h3, v662, v683, h4, v689, v690⟩ := r
  dsimp only at hv683
  subst hv683
  dsimp only
  icases HSa with ⟨%f, HF⟩
  unfold Filling
  icases HF with ⟨Hring, Hsh, HB⟩
  iapply (Scf.wp_for_bind _ _ _ _ _ _ _ _ _ (fun n _ => iprop(RowBatch c (.dma (slotSem (fin3 t.val))) (fin3 t.val) (q (fin3 t.val)) I.fw (gathered I.fw I.fi (fin24 b) (fin6 k)) (rowsOf (lenAt I.fl (fin24 b)) k) (rowsOf (lenAt I.fl (fin24 b)) k) (rowN * (16 * n)) ∗ noDebt c))
    (fun t' acc => t11_step 𝒱 c bd (fin3 t.val) (q (fin3 t.val)) I.fw (gathered I.fw I.fi (fin24 b) (fin6 k)) (rowsOf (lenAt I.fl (fin24 b)) k) (iv_rem ht9) (trips11 _ _).symm t')) $$ [HB HO]
  · isplitl [HB]; · iexact HB
    iexact HO
  iintro %_ ⟨HB, HO⟩
  rw [trips11]
  iapply (Scf.wp_for0_bind' _ _ _ _ _ _ _ _ _ (rem_trips _) _ _ _ .rfl)
  imod (idle_close c (fin3 t.val) (q (fin3 t.val)) I.fw (gathered I.fw I.fi (fin24 b) (fin6 k)) f (rowsOf (lenAt I.fl (fin24 b)) k) (rowsOf_le _ _)) $$ [Hring Hsh HB] with HI
  · isplitl [Hring]; · iexact Hring
    isplitl [Hsh]; · iexact Hsh
    iexact HB
  unfold Idle
  icases HI with ⟨Hring, Hsh, Hsv⟩
  iapply (wp_len 𝒱 c bd I.fl (fin24 b) (off_len hb24)) $$ Hl
  iintro Hl
  iapply (wp_ld 𝒱 c bd (Memref.whole cc0_scratch3) _ ![(fin24 b).val, 0] (off509_eq hb24) _ (inb_tf (fin24 b)) (S := Finset.univ) (q := fullShare) (f := tf) (Finset.subset_univ _)) $$ Htf
  iintro Htf
  iapply (wp_ld 𝒱 c bd (Memref.whole cc0_scratch4) _ ![(fin24 b).val, 0] (off509_eq hb24) _ (inb_tf (fin24 b)) (S := Finset.univ) (q := fullShare) (f := tw) (Finset.subset_univ _)) $$ Htw
  iintro Htw
  iapply (wp_ld 𝒱 c bd (Memref.whole cc0_stg3_0) _ ![(fin24 b).val, 2 * (fin6 k).val, 0] (off510_eq hb24 hk6) _ (inb_idb (fin24 b) (fin6 k)) (S := Finset.univ) (q := fullShare) (f := I.idb) (Finset.subset_univ _)) $$ Hid
  iintro Hid
  iapply (wp_ld 𝒱 c bd sRows _ ![(fin3 t.val).val, 0, 0] (off511_eq t ht9) _ (inb_ring (fin3 t.val)) (S := rowsSet (fin3 t.val).val 0 256) (q := fullShare) (f := filled (gathered I.fw I.fi (fin24 b) (fin6 k)) f (rowsOf (lenAt I.fl (fin24 b)) k)) (rowsSet_slot rfl)) $$ Hring
  iintro Hring
  iapply (wp_ld 𝒱 c bd sLine _ ![0, 0] rfl _ inb_S256x128_S256x128_0_0 (S := Finset.univ) (q := fullShare) (f := lineBuf I.fs I.fi (fin24 b) (fin6 k) g0 (rowsOf (lenAt I.fl (fin24 b)) k)) (Finset.subset_univ _)) $$ Hg
  iintro Hg
  iapply (wp_ld 𝒱 c bd (Memref.whole cc0_stg5_0) _ ![0, 0] rfl _ inb_S1024x256_S256x256_0_0 (S := Finset.univ) (q := fullShare) (f := I.w1) (Finset.subset_univ _)) $$ Hw1
  iintro Hw1
  iapply (wp_ld 𝒱 c bd (Memref.whole cc0_stg5_0) _ ![512, 0] rfl _ inb_S1024x256_S256x256_512_0 (S := Finset.univ) (q := fullShare) (f := I.w1) (Finset.subset_univ _)) $$ Hw1
  iintro Hw1
  iapply (wp_ld 𝒱 c bd (Memref.whole cc0_stg5_0) _ ![768, 0] rfl _ inb_S1024x256_S256x256_768_0 (S := Finset.univ) (q := fullShare) (f := I.w1) (Finset.subset_univ _)) $$ Hw1
  iintro Hw1
  iapply (wp_ld 𝒱 c bd (Memref.whole cc0_stg7_0) _ ![0, 0] rfl _ inb_S1x256_S1x256_0_0 (S := Finset.univ) (q := fullShare) (f := I.a1) (Finset.subset_univ _)) $$ Ha1
  iintro Ha1
  iapply (wp_ld 𝒱 c bd (Memref.whole cc0_stg8_0) _ ![0, 0] rfl _ inb_S256x128_S256x128_0_0 (S := Finset.univ) (q := fullShare) (f := I.w2) (Finset.subset_univ _)) $$ Hw2
  iintro Hw2
  iapply (wp_ld 𝒱 c bd (Memref.whole cc0_stg9_0) _ ![0, 0] rfl _ inb_S1x128_S1x128_0_0 (S := Finset.univ) (q := fullShare) (f := I.b2) (Finset.subset_univ _)) $$ Hb2
  iintro Hb2
  iapply (wp_ld 𝒱 c bd (Memref.whole cc0_stg10_0) _ ![0, 0] rfl _ inb_S1x128_S1x128_0_0 (S := Finset.univ) (q := fullShare) (f := I.a2) (Finset.subset_univ _)) $$ Ha2
  iintro Ha2
  iapply (wp_ld 𝒱 c bd (Memref.whole cc0_stg11_0) _ ![0, 0] rfl _ inb_S8x128_S8x128_0_0 (S := Finset.univ) (q := fullShare) (f := I.w3) (Finset.subset_univ _)) $$ Hw3
  iintro Hw3
  iapply (wp_b3 𝒱 c bd I) $$ Hb3
  iintro Hb3
  iapply (wp_ld 𝒱 c bd (Memref.whole cc0_stg14_0) _ ![(fin24 b).val, 256 * (fin6 k).val] (off512_eq hb24 hk6) _ (inb_score (fin24 b) (fin6 k)) (S := Finset.univ) (q := fullShare) (f := sc) (Finset.subset_univ _)) $$ Hsc
  iintro Hsc
  iapply (wp_st 𝒱 c bd (Memref.whole cc0_stg14_0) _ ![(fin24 b).val, 256 * (fin6 k).val] (off512_eq hb24 hk6) _ (inb_score (fin24 b) (fin6 k)) (f := sc)) $$ Hsc
  iintro Hsc
  iapply (wp_ld 𝒱 c bd (Memref.whole cc0_stg13_0) _ ![(fin24 b).val, 0] (off513_eq hb24) _ (inb_int (fin24 b)) (S := Finset.univ) (q := fullShare) (f := it) (Finset.subset_univ _)) $$ Hit
  iintro Hit
  iapply (wp_ld 𝒱 c bd (Memref.whole cc0_stg13_0) _ ![(fin24 b).val, 0] (off513_eq hb24) _ (inb_int (fin24 b)) (S := Finset.univ) (q := fullShare) (f := it) (Finset.subset_univ _)) $$ Hit
  iintro Hit
  iapply (wp_st 𝒱 c bd (Memref.whole cc0_stg13_0) _ ![(fin24 b).val, 0] (off513_eq hb24) _ (inb_int (fin24 b)) (f := it)) $$ Hit
  iintro Hit
  iapply (wp_len 𝒱 c bd I.fl (fin24 b2) (off514_eq hb2)) $$ Hl
  iintro Hl
  iapply (le_wp_ret _ _ _)
  isplitr
  · ipureintro
    exact congrArg₂ (fun x y => (_, _, _, _, x, y)) hp3.1 hp3.2
  isplitl [Hl Hi Hs Htf Htw Hid Hw1 Ha1 Hw2 Hb2 Ha2 Hw3 Hb3]
  · isplitl [Hl]; · iexact Hl
    isplitl [Hi]; · iexact Hi
    isplitl [Hs]; · iexact Hs
    isplitl [Htf]; · iexact Htf
    isplitl [Htw]; · iexact Htw
    isplitl [Hid]; · iexact Hid
    isplitl [Hw1]; · iexact Hw1
    isplitl [Ha1]; · iexact Ha1
    isplitl [Hw2]; · iexact Hw2
    isplitl [Hb2]; · iexact Hb2
    isplitl [Ha2]; · iexact Ha2
    isplitl [Hw3]; · iexact Hw3
    iexact Hb3
  isplitl [Hg]; · iexists _; iexact Hg
  isplitl [HSc]; · iexact HSc
  isplitl [Hring Hsh Hsv]
  · iexists _
    isplitl [Hring]; · iexact Hring
    isplitl [Hsh]; · iexact Hsh
    iexact Hsv
  isplitl [HO]; · iexact HO
  iexists _, _
  isplitl [Hsc]; · iexact Hsc
  isplitl [Hit]; · iexact Hit
  ipureintro
  exact hkeep f g0

/-- One block's turn. -/
theorem body_ok (q : Fin 3 → PosShare TreeShare) (I : Ins F c) (tf : TfBuf F c) (tw : TwBuf F c) (R : ℕ → ScoreBuf F c → IntBuf F c → Prop)
    (hfi : IdsOk I.fi) (hL : ∀ b, LenOk (lenAt I.fl b)) (hR : Keeps I tf tw R)
    (v616 : BitVec 32) (hw : k0_chk116 v616) (t : Fin (k0_t6_loop v616).trips) (ht : t.val < pre (lenAt I.fl) 24) (acc : BitVec 32 × BitVec 32 × BitVec 32 × BitVec 32 × BitVec 32 × BitVec 32) :
    Inv c q I tf tw R t.val acc ⊢ wp frame (wpE defs 𝒱 (c : Thread nD τ) bd) Set.univ (k0_t6_body aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v616 hw t acc) (Inv c q I tf tw R (t.val + 1)) := by
  have ht9 : t.val < 900 := by have := pre_le hL 24; omega
  obtain ⟨-, hk6, -, -⟩ := pos_facts hL t.val
  obtain ⟨hb2, hk2, -, -⟩ := pos_facts hL (t.val + 2)
  have hb24 := pos_lt hL ht
  have hp3 := adv_ofNat (L := lenAt I.fl) hL hb2 hk2
  have hS : SlotF c q I.fl I.fi I.fw (fin3 t.val) (pos (lenAt I.fl) t.val) = iprop(∃ f, Filling c (.dma (slotSem (fin3 t.val))) (fin3 t.val) (q (fin3 t.val)) I.fw (gathered I.fw I.fi (fin24 (pos (lenAt I.fl) t.val).1) (fin6 (pos (lenAt I.fl) t.val).2)) f (rowsOf (lenAt I.fl (fin24 (pos (lenAt I.fl) t.val).1)) (pos (lenAt I.fl) t.val).2) (rowsOf (lenAt I.fl (fin24 (pos (lenAt I.fl) t.val).1)) (pos (lenAt I.fl) t.val).2)) := by
    unfold SlotF; rw [if_pos hb24]
  have e3 : fin3 (t.val + 1 + 2) = fin3 t.val := fin3_add t.val
  unfold Inv
  iintro ⟨%hacc, HRO, Hg, HSa, HSb, HI, HO, %sc, %it, Hsc, Hit, %hr⟩
  subst hacc
  ihave HSa' : (iprop(∃ f, Filling c (.dma (slotSem (fin3 t.val))) (fin3 t.val) (q (fin3 t.val)) I.fw (gathered I.fw I.fi (fin24 (pos (lenAt I.fl) t.val).1) (fin6 (pos (lenAt I.fl) t.val).2)) f (rowsOf (lenAt I.fl (fin24 (pos (lenAt I.fl) t.val).1)) (pos (lenAt I.fl) t.val).2) (rowsOf (lenAt I.fl (fin24 (pos (lenAt I.fl) t.val).1)) (pos (lenAt I.fl) t.val).2))) $$ [HSa]
  · iapply (Entails.of_eq hS) $$ HSa
  iapply ((body_core 𝒱 c bd q I tf tw (R (t.val + 1)) hfi hL v616 hw t ht9 (b := (pos (lenAt I.fl) t.val).1) (k := (pos (lenAt I.fl) t.val).2) (b2 := (pos (lenAt I.fl) (t.val + 2)).1) (k2 := (pos (lenAt I.fl) (t.val + 2)).2) (pos (lenAt I.fl) (t.val + 1)) (pos (lenAt I.fl) (t.val + 3)) hb24 hk6 hb2 hk2 sc it hp3
    (fun f g0 => hR t.val ht f g0 sc it hr (fin24 (pos (lenAt I.fl) t.val).1) (pos (lenAt I.fl) t.val).2 (by rw [fin24_val hb24]) hk6)).trans (wp_wand _ _ _)) $$ [HRO Hg HSa' HI HO Hsc Hit]
  · isplitl [HRO]; · iexact HRO
    isplitl [Hg]; · iexact Hg
    isplitl [HSa']; · iexact HSa'
    isplitl [HI]; · iexact HI
    isplitl [HO]; · iexact HO
    isplitl [Hsc]; · iexact Hsc
    iexact Hit
  iintro %acc ⟨%hacc, HRO, Hg, HSc, HI, HO, HR⟩
  isplitr
  · ipureintro; exact hacc
  isplitl [HRO]; · iexact HRO
  isplitl [Hg]; · iexact Hg
  isplitl [HSb]; · iexact HSb
  isplitl [HSc]; · iexact HSc
  isplitl [HI]; · iapply (Entails.of_eq (congrArg (fun s => iprop(∃ f, Idle c s (q s) I.fw f)) e3.symm)) $$ HI
  isplitl [HO]; · iexact HO
  iexact HR

end Cert.Kernel.Hand
-- ==== Proof.K.SclCopy.lean ====
/-
  The copy of the scales into the core's memory: its start and its wait.
-/
module

public import proofs.«01_k».proof.Proof.K.Body

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

/-- The scales' copy's semaphore. -/
abbrev sclSem : DmaSem sig := (15 : Fin 19)
def sclN : ℕ := cc0_scratch2.dmaCredit S1000000 .f32
theorem sclN_pos : 0 < sclN := by unfold sclN; decide

/-- The scales as the core's own buffer. -/
def copied {c : Dev nD} (fa : Buf (Elt F) ((c : Thread nD τ).loc main_arg1)) : SclBuf F c := hScl.view.read (Elt F) fa

/-- What the copy hands back. -/
def sclDeliv (c : Dev nD) (fa : Buf (Elt F) ((c : Thread nD τ).loc main_arg1)) (_ : Fin 1) : sProp 𝕄 :=
  iprop(pt c cc0_scratch2 (copied fa) ∗ pt c main_arg1 fa)

instance (c : Dev nD) (fa : Buf (Elt F) ((c : Thread nD τ).loc main_arg1)) (t : Fin 1) :
    Storable (upEmb : UEmb _ 𝕄) (sclDeliv c fa t) := by unfold sclDeliv; infer_instance

/-- The copy's start. -/
theorem wp_issue_scl {sm : DmaSem sig} (hsm : sm = sclSem) {hsrc : hScl.view.WordExact} {hdst : sScl.view.WordExact} {hsem : DmaTarget.Typed .hbm (.dma sm) (DmaTarget.here (nD := nD) (p := (Proc.tc : Proc τ)) sScl)}
    {k : PUnit → Prog (TpuEff nD τ sig (Elt F) Λ₀ .tc) α} {Q : α → sProp 𝕄}
    (fa : Buf (Elt F) ((c : Thread nD τ).loc main_arg1)) (f0 : SclBuf F c) :
    iprop(pt c main_arg1 fa ∗ pt c cc0_scratch2 f0 ∗ semVal ((c : Thread nD τ), .dma sclSem) 0)
      ⊢ iprop((Batch EC (c : Thread nD τ) (.dma sclSem) () sclN (sclDeliv c fa) 1 0 -∗ wp frame (wpE defs 𝒱 (c : Thread nD τ) bd) Set.univ (k ⟨⟩) Q)
        -∗ wp frame (wpE defs 𝒱 (c : Thread nD τ) bd) Set.univ
          (Prog.lift (.enqueueDma hScl (.here sScl) (.dma sm) hsrc hdst hsem) >>= k) Q) := by
  subst hsm
  simp only [Prog.bind_lift]
  iintro ⟨Ha, Hs, Hv⟩ Hk
  imod (batch_alloc' EC (c : Thread nD τ) () sclN (sclDeliv c fa) (E := Set.univ)) $$ Hv with HB
  unfold Batch
  icases HB with ⟨%γ, %γ₀, %κ, #Hinv, HI, H0, Hcred⟩
  ihave HI' := (show bigSep (pending 0) (fun t : Fin 1 => count EC (γ t) 0) ⊢ iprop(count EC (γ ⟨0, Nat.one_pos⟩) 0 ∗ bigSep (pending 1) (fun t : Fin 1 => count EC (γ t) 0))
    from Entails.of_eq (by rw [pending_succ (Nat.one_pos : 0 < 1), bigSep_insert (not_mem_pending_succ (Nat.one_pos : 0 < 1))]; rfl)) $$ HI
  icases HI' with ⟨Ht, HI⟩
  have hN : sScl.view.amount (.dma sclSem) = sclN := rfl
  have hres : iprop(emp ∗ (sScl.view.loc (c : Thread nD τ) ↦{fullShare} sScl.view.write (Elt F) f0 (hScl.view.read (Elt F) fa) Finset.univ)
      ∗ (hScl.view.loc (c : Thread nD τ) ↦[hScl.view.set]{fullShare} fa))
      ⊢ (sclDeliv c fa ⟨0, Nat.one_pos⟩ : sProp 𝕄) := by
    unfold sclDeliv
    iintro ⟨-, Hd, Hs⟩
    isplitl [Hd]
    · iapply (Entails.of_eq (congrArg (fun g => pt c cc0_scratch2 g) (View.write_whole_univ (Val := Elt F) cc0_scratch2 f0 (hScl.view.read (Elt F) fa)))) $$ Hd
    · iapply (Entails.of_eq (congrArg (fun S => ((c : Thread nD τ).loc main_arg1 ↦[S]{fullShare} fa : sProp 𝕄)) (View.set_whole main_arg1))) $$ Hs
  iapply (wp_enqueueDma 𝒱 (c : Thread nD τ) bd Set.univ () sclN (src := hScl) (dst := sScl) hN) $$ [Ha Hs] [Ht]
  · isplitl [Ha]
    · iapply (Entails.of_eq (congrArg (fun S => ((c : Thread nD τ).loc main_arg1 ↦[S]{fullShare} fa : sProp 𝕄)) (View.set_whole main_arg1).symm)) $$ Ha
    iapply (pointsTo_writeUpdate (c : Thread nD τ) (v := sScl.view) (S := Finset.univ) (Finset.subset_univ _)) $$ Hs
  · iapply (batch_creditUpdate_with EC ⟨0, Nat.one_pos⟩ (D := sclDeliv c fa) hres)
    isplitr; · iexact Hinv
    isplitl [Ht]; · iexact Ht
    iempintro
  iintro Hcred'
  iapply Hk
  iexists γ, γ₀, κ
  isplitr; · iexact Hinv
  isplitl [HI]; · iexact HI
  isplitl [H0]; · iexact H0
  rw [show 1 * sclN - 0 = (0 * sclN - 0) + sclN by omega, ← tallyAt_add]
  icombine Hcred Hcred' as H
  iexact H

/-- The copy's wait: the scales are in. -/
theorem wp_wait_scl {sm : DmaSem sig} (hsm : sm = sclSem) {hsrc : hScl.view.WordExact} {hdst : sScl.view.WordExact}
    {k : PUnit → Prog (TpuEff nD τ sig (Elt F) Λ₀ .tc) α} {Q : α → sProp 𝕄}
    (fa : Buf (Elt F) ((c : Thread nD τ).loc main_arg1)) :
    iprop(Batch EC (c : Thread nD τ) (.dma sclSem) () sclN (sclDeliv c fa) 1 0 ∗ noDebt c)
      ⊢ iprop((pt c cc0_scratch2 (copied fa) ∗ pt c main_arg1 fa ∗ semVal ((c : Thread nD τ), .dma sclSem) 0 ∗ noDebt c -∗ wp frame (wpE defs 𝒱 (c : Thread nD τ) bd) Set.univ (k ⟨⟩) Q)
        -∗ wp frame (wpE defs 𝒱 (c : Thread nD τ) bd) Set.univ
          (Prog.lift (.waitDma2 sm hScl sScl hsrc hdst) >>= k) Q) := by
  subst hsm
  simp only [Prog.bind_lift]
  unfold noDebt
  iintro ⟨HB, %W, HO⟩ Hk
  have hu : 0 + 1 * sclN ≤ sclN * 1 := by omega
  iapply (wp_waitBatchMul EC 𝒱 (c : Thread nD τ) bd (dstw := sScl) () (N := sclN) (D := sclDeliv c fa) 1 (Nat.one_mul _).symm hu) $$ [HB HO]
  · isplitl [HB]; · iexact HB
    iexact HO
  iintro ⟨HB, HO⟩
  ihave HB' := (Entails.of_eq (congrArg (fun u => Batch EC (c : Thread nD τ) (.dma sclSem) () sclN (sclDeliv c fa) 1 u) (show 0 + 1 * sclN = sclN * 1 by omega))) $$ HB
  imod (batch_collect' EC (c : Thread nD τ) sclN_pos) $$ HB' with ⟨HD, Hv⟩
  ihave HD' := (show bigSep Finset.univ (sclDeliv c fa) ⊢ (sclDeliv c fa 0 : sProp 𝕄) from Entails.of_eq (by rw [Finset.univ_unique, BI.bigSep_singleton]; rfl)) $$ HD
  unfold sclDeliv
  icases HD' with ⟨Hs, Ha⟩
  iapply Hk
  isplitl [Hs]; · iexact Hs
  isplitl [Ha]; · iexact Ha
  isplitl [Hv]; · iexact Hv
  iexists _
  iexact HO

end Cert.Kernel.Hand
-- ==== Proof.K.Open.lean ====
/-
  The start of the kernel: the targets' rows are sent for, and the scales are brought in.
-/
module

public import proofs.«01_k».proof.Proof.K.SclCopy

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

/-- The zeros the ring, the interest and the score start from. -/
abbrev ring0 (f : RingBuf F c) : RingBuf F c := (sRows.access (Rect.unit (s := S3x256x256) ![0, 0, 0] S3x256x256.size inb_S3x256x256_S3x256x256_0_0_0)).write (Elt F) f (k0_pay89) Finset.univ
abbrev int0 (f : IntBuf F c) : IntBuf F c := ((Memref.whole cc0_stg13_0 : Memref sig .tc .vmem S24x256 .f32).access (Rect.unit (s := S24x256) ![0, 0] S24x256.size inb_S24x256_S24x256_0_0)).write (Elt F) f (k0_pay90 (F := F)) Finset.univ
abbrev score0 (f : ScoreBuf F c) : ScoreBuf F c := ((Memref.whole cc0_stg14_0 : Memref sig .tc .vmem S24x1536 .f32).access (Rect.unit (s := S24x1536) ![0, 0] S24x1536.size inb_S24x1536_S24x1536_0_0)).write (Elt F) f (k0_pay91 (F := F)) Finset.univ

theorem ring_split (f : RingBuf F c) : pt c cc0_scratch0 f ⊢ iprop((((c : Thread nD τ).loc cc0_scratch0) ↦[rowsSet 0 0 256]{fullShare} f)
    ∗ (((c : Thread nD τ).loc cc0_scratch0) ↦[rowsSet 1 0 256]{fullShare} f) ∗ (((c : Thread nD τ).loc cc0_scratch0) ↦[rowsSet 2 0 256]{fullShare} f) : sProp 𝕄) := by
  have hU : (Finset.univ : Finset S3x256x256.Idx) = rowsSet 0 0 256 ∪ (rowsSet 1 0 256 ∪ rowsSet 2 0 256) := by
    ext x
    simp only [Finset.mem_univ, Finset.mem_union, mem_rowsSet, _root_.true_iff]
    have h0 : (x 0).val < 3 := (x 0).isLt
    have h1 : (x 1).val < 256 := (x 1).isLt
    omega
  have hd1 : Disjoint (rowsSet 0 0 256) (rowsSet 1 0 256 ∪ rowsSet 2 0 256) := by
    rw [Finset.disjoint_left]; intro x; simp only [Finset.mem_union, mem_rowsSet]; omega
  have hd2 : Disjoint (rowsSet 1 0 256) (rowsSet 2 0 256) := by
    rw [Finset.disjoint_left]; intro x; simp only [mem_rowsSet]; omega
  refine (Entails.of_eq (congrArg (fun S => ((c : Thread nD τ).loc cc0_scratch0 ↦[S]{fullShare} f : sProp 𝕄)) hU)).trans ?_
  refine (pointsTo_union hd1).1.trans ?_
  iintro ⟨H0, H1⟩
  isplitl [H0]; · iexact H0
  iapply (pointsTo_union hd2).1 $$ H1

/-- Parts 89 to 95. -/
theorem open_ok {K : FVec F S1x128 .f32 → Prog (TpuEff nD τ sig (Elt F) Λ₀ .tc) α} {Q : α → sProp 𝕄}
    (q0 : PosShare TreeShare) (fw : WordBuf F c) (ft : TgtBuf F c) (fa : Buf (Elt F) ((c : Thread nD τ).loc main_arg1)) (hft : TgtsOk ft) :
    iprop(pt c cc0_stg2_0 ft ∗ pt c main_arg1 fa ∗ (∃ f, pt c cc0_scratch2 f) ∗ semVal ((c : Thread nD τ), .dma sclSem) 0
      ∗ (∃ f, pt c cc0_scratch0 f) ∗ (∃ f, pt c cc0_stg13_0 f) ∗ (∃ f, pt c cc0_stg14_0 f)
      ∗ (((c : Thread nD τ).loc main_v2) ↦{q0} fw) ∗ semVal ((c : Thread nD τ), .dma (slotSem 0)) 0 ∗ noDebt c)
    ⊢ iprop((∀ w f r0 i0 s0, ⌜f = ring0 c r0⌝ ∗ ⌜∃ h, w = (sScl.access (Rect.unit (s := S1000000) ![(Scalar.muli (Scalar.shrui (idAt (fakeIds ft) 0 0 0) 7#32) 128#32).toNat] S128.size h)).read (Elt F) (copied fa)⌝
        ∗ pt c cc0_stg2_0 ft ∗ pt c main_arg1 fa ∗ pt c cc0_scratch2 (copied fa) ∗ semVal ((c : Thread nD τ), .dma sclSem) 0
        ∗ pt c cc0_stg13_0 (int0 c i0) ∗ pt c cc0_stg14_0 (score0 c s0)
        ∗ Filling c (.dma (slotSem 0)) (0 : Fin 3).val q0 fw (gathered fw (fakeIds ft) 0 0) f 24 24 ∗ (((c : Thread nD τ).loc cc0_scratch0) ↦[rowsSet 1 0 256]{fullShare} f) ∗ (((c : Thread nD τ).loc cc0_scratch0) ↦[rowsSet 2 0 256]{fullShare} f) ∗ noDebt c
        -∗ wp frame (wpE defs 𝒱 (c : Thread nD τ) bd) Set.univ (K (k0_pay92 w)) Q)
      -∗ wp frame (wpE defs 𝒱 (c : Thread nD τ) bd) Set.univ (do
        let r1 ← k0_part89 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6
        let v50 ← k0_part90 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r1.1 r1.2
        let r3 ← k0_part91 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v50
        let r4 ← k0_part92 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r3.1 r3.2
        let r5 ← k0_part93 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r4.1 r4.2
        let v155 ← k0_part94 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r5.1 r5.2
        let v182 ← k0_part95 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v155
        K v182) Q) := by
  simp only [k0_part89_eq_skeleton, k0_part90_eq_skeleton, k0_part91_eq_skeleton, k0_part92_eq_skeleton, k0_part93_eq_skeleton, k0_part94_eq_skeleton, k0_part95_eq_skeleton]
  unfold k0_part89_skel k0_part90_skel k0_part91_skel k0_part92_skel k0_part93_skel k0_part94_skel k0_part95_skel
  simp only [Prog.bind_assoc, Prog.bind_ret, Prog.pure_eq_ret]
  iintro ⟨Hft, Ha, ⟨%s2, Hs⟩, Hv15, ⟨%r0, Hr⟩, ⟨%i0, Hit⟩, ⟨%s0, Hsc⟩, Hw, Hv0, HO⟩ Hk
  iapply (wp_issue_scl 𝒱 c bd rfl fa s2) $$ [Ha Hs Hv15]
  · isplitl [Ha]; · iexact Ha
    isplitl [Hs]; · iexact Hs
    iexact Hv15
  iintro HB
  iapply (wp_ld 𝒱 c bd sRows _ ![0, 0, 0] rfl _ inb_S3x256x256_S3x256x256_0_0_0 (S := Finset.univ) (q := fullShare) (f := r0) (Finset.subset_univ _)) $$ Hr
  iintro Hr
  iapply (wp_st 𝒱 c bd sRows _ ![0, 0, 0] rfl _ inb_S3x256x256_S3x256x256_0_0_0 (f := r0)) $$ Hr
  iintro Hr
  iapply (wp_ld 𝒱 c bd (Memref.whole cc0_stg13_0) _ ![0, 0] rfl _ inb_S24x256_S24x256_0_0 (S := Finset.univ) (q := fullShare) (f := i0) (Finset.subset_univ _)) $$ Hit
  iintro Hit
  iapply (wp_st 𝒱 c bd (Memref.whole cc0_stg13_0) _ ![0, 0] rfl _ inb_S24x256_S24x256_0_0 (f := i0)) $$ Hit
  iintro Hit
  iapply (wp_ld 𝒱 c bd (Memref.whole cc0_stg14_0) _ ![0, 0] rfl _ inb_S24x1536_S24x1536_0_0 (S := Finset.univ) (q := fullShare) (f := s0) (Finset.subset_univ _)) $$ Hsc
  iintro Hsc
  iapply (wp_st 𝒱 c bd (Memref.whole cc0_stg14_0) _ ![0, 0] rfl _ inb_S24x1536_S24x1536_0_0 (f := s0)) $$ Hsc
  iintro Hsc
  ihave Hr' := (ring_split c (ring0 c r0)) $$ Hr
  icases Hr' with ⟨Hr, Hr1, Hr2⟩
  ihave HI : (Idle c 0 q0 fw (ring0 c r0)) $$ [Hr Hw Hv0]
  · unfold Idle
    isplitl [Hr]; · iexact Hr
    isplitl [Hw]; · iexact Hw
    iexact Hv0
  imod (idle_open c 0 q0 fw (gathered fw (fakeIds ft) 0 0) (ring0 c r0) 24) $$ HI with HF
  ihave H : iprop(pt c cc0_stg2_0 ft ∗ Filling c (.dma (slotSem 0)) (0 : Fin 3).val q0 fw (gathered fw (fakeIds ft) 0 0) (ring0 c r0) 24 0) $$ [Hft HF]
  · isplitl [Hft]; · iexact Hft
    iexact HF
  iapply (wp_trow 𝒱 c bd (0 : Fin 3) q0 fw ft (ring0 c r0) 24 0 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 1 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 2 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 3 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 4 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 5 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 6 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 7 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 8 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 9 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 10 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 11 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 12 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 13 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 14 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 15 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 16 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 17 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 18 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 19 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 20 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 21 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 22 (by decide) (by decide) (by decide) hft rfl rfl (fun v => rfl)
    (fun v hv => row_inb v hv rfl) (slot_sem (0 : Fin 3) rfl)) $$ H
  iintro H
  iapply (wp_trow 𝒱 c bd (0 : Fin 3) q0 fw ft (ring0 c r0) 24 23 (by decide) (by decide) (by decide) hft rfl rfl (fun v => rfl)
    (fun v hv => row_inb v hv rfl) (slot_sem (0 : Fin 3) rfl)) $$ H
  iintro H
  icases H with ⟨Hft, HF⟩
  iapply (wp_wait_scl 𝒱 c bd rfl fa) $$ [HB HO]
  · isplitl [HB]; · iexact HB
    iexact HO
  iintro ⟨Hs, Ha, Hv15, HO⟩
  iapply (wp_tgt 𝒱 c bd ft (⟨0, by decide⟩ : Fin 256) (by decide) rfl) $$ Hft
  iintro Hft
  have hok : k0_chk25 (idAt (fakeIds ft) 0 0 0) := ⟨line_dvd _, line_inb _ (fakeIds_ok hft _) rfl⟩
  iapply (wp_assume 𝒱 (c : Thread nD τ) bd Set.univ hok)
  iapply (wp_ld 𝒱 c bd sScl _ ![(Scalar.muli (Scalar.shrui (idAt (fakeIds ft) 0 0 0) 7#32) 128#32).toNat] rfl _ (line_inb _ (fakeIds_ok hft _) rfl) (S := Finset.univ) (q := fullShare) (f := copied fa) (Finset.subset_univ _)) $$ Hs
  iintro Hs
  iapply Hk $$ %_ %(ring0 c r0) %r0 %i0 %s0
  isplitr; · ipureintro; rfl
  isplitr; · ipureintro; exact ⟨line_inb _ (fakeIds_ok hft _) rfl, rfl⟩
  isplitl [Hft]; · iexact Hft
  isplitl [Ha]; · iexact Ha
  isplitl [Hs]; · iexact Hs
  isplitl [Hv15]; · iexact Hv15
  isplitl [Hit]; · iexact Hit
  isplitl [Hsc]; · iexact Hsc
  isplitl [HF]; · iexact HF
  isplitl [Hr1]; · iexact Hr1
  isplitl [Hr2]; · iexact Hr2
  iexact HO

end Cert.Kernel.Hand
-- ==== Proof.K.Lines.lean ====
/-
  The targets' lines of scales are gathered, and the targets' rows waited for.
-/
module

public import proofs.«01_k».proof.Proof.K.SclCopy

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

/-- Parts 96 to 102. -/
theorem lines_ok {K : PUnit → Prog (TpuEff nD τ sig (Elt F) Λ₀ .tc) α} {Q : α → sProp 𝕄}
    (q0 : PosShare TreeShare) (fw : WordBuf F c) (ft : TgtBuf F c) (fs : SclBuf F c) (g0 : LineBuf F c) (hft : TgtsOk ft) (w : Vec F S128 .f32)
    (hw : ∃ h, w = (sScl.access (Rect.unit (s := S1000000) ![(Scalar.muli (Scalar.shrui (idAt (fakeIds ft) 0 0 0) 7#32) 128#32).toNat] S128.size h)).read (Elt F) fs) :
    iprop(pt c cc0_stg2_0 ft ∗ pt c cc0_scratch2 fs ∗ pt c cc0_scratch1 g0 ∗ RowBatch c (.dma (slotSem 0)) 0 q0 fw (gathered fw (fakeIds ft) 0 0) 24 24 (rowN * 0) ∗ noDebt c)
    ⊢ iprop((pt c cc0_stg2_0 ft ∗ pt c cc0_scratch2 fs ∗ pt c cc0_scratch1 (lineBuf fs (fakeIds ft) 0 0 g0 24) ∗ RowBatch c (.dma (slotSem 0)) 0 q0 fw (gathered fw (fakeIds ft) 0 0) 24 24 (rowN * 1) ∗ noDebt c
        -∗ wp frame (wpE defs 𝒱 (c : Thread nD τ) bd) Set.univ (K ⟨⟩) Q)
      -∗ wp frame (wpE defs 𝒱 (c : Thread nD τ) bd) Set.univ (do
        let r1 ← k0_part96 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 (k0_pay92 w)
        let r2 ← k0_part97 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r1.1 r1.2.1 r1.2.2
        let r3 ← k0_part98 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r2.1 r2.2
        let v322 ← k0_part99 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r3.1 r3.2.1 r3.2.2.1 r3.2.2.2
        let r4 ← k0_part100 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v322
        let v395 ← k0_part101 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r4.1 r4.2.1 r4.2.2
        let u ← k0_part102 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v395
        K u) Q) := by
  obtain ⟨hin, rfl⟩ := hw
  simp only [k0_part96_eq_skeleton, k0_part97_eq_skeleton, k0_part98_eq_skeleton, k0_part99_eq_skeleton, k0_part100_eq_skeleton, k0_part101_eq_skeleton, k0_part102_eq_skeleton]
  unfold k0_part96_skel k0_part97_skel k0_part98_skel k0_part99_skel k0_part100_skel k0_part101_skel k0_part102_skel
  simp only [Prog.bind_assoc, Prog.bind_ret, Prog.pure_eq_ret]
  iintro ⟨Hft, Hs, Hg, HB, HO⟩ Hk
  iapply (wp_ld 𝒱 c bd sLine _ ![0, 0] rfl _ inb_S256x128_S1x128_0_0 (S := Finset.univ) (q := fullShare) (f := g0) (Finset.subset_univ _)) $$ Hg
  iintro Hg
  iapply (wp_st 𝒱 c bd sLine _ ![0, 0] rfl _ inb_S256x128_S1x128_0_0 (f := g0)) $$ Hg
  iintro Hg
  have hz : (sLine.access (Rect.unit (s := S256x128) ![0, 0] S1x128.size inb_S256x128_S1x128_0_0)).write (Elt F) g0 (k0_pay93 (k0_pay92 ((sScl.access (Rect.unit (s := S1000000) ![(Scalar.muli (Scalar.shrui (idAt (fakeIds ft) 0 0 0) 7#32) 128#32).toNat] S128.size hin)).read (Elt F) fs))) Finset.univ
      = lineBuf fs (fakeIds ft) 0 0 g0 1 := by
    have h0 : lineBuf fs (fakeIds ft) 0 0 g0 0 = g0 := by funext x; unfold lineBuf; rw [if_neg (Nat.not_lt_zero _)]
    have h := line_write c (h := inb_S256x128_S1x128_0_0) (h19 := hin) fs (fakeIds ft) 0 0 g0 0 (by decide) (fakeIds_ok hft) rfl rfl
    rw [h0] at h
    exact h
  ihave H : iprop(pt c cc0_stg2_0 ft ∗ pt c cc0_scratch2 fs ∗ pt c cc0_scratch1 (lineBuf fs (fakeIds ft) 0 0 g0 1)) $$ [Hft Hs Hg]
  · isplitl [Hft]; · iexact Hft
    isplitl [Hs]; · iexact Hs
    iapply (Entails.of_eq (congrArg (fun g => pt c cc0_scratch1 g) hz)) $$ Hg
  iapply (wp_tgather 𝒱 c bd fs ft g0 1 (by decide) (by decide) hft rfl rfl (fun v => rfl)
    (fun v hv => ⟨line_dvd v, line_inb v hv rfl⟩) (fun _ => rfl)) $$ H
  iintro %w_1 %y_1 H
  iapply (wp_tgather 𝒱 c bd fs ft g0 2 (by decide) (by decide) hft rfl rfl (fun v => rfl)
    (fun v hv => ⟨line_dvd v, line_inb v hv rfl⟩) (fun _ => rfl)) $$ H
  iintro %w_2 %y_2 H
  iapply (wp_tgather 𝒱 c bd fs ft g0 3 (by decide) (by decide) hft rfl rfl (fun v => rfl)
    (fun v hv => ⟨line_dvd v, line_inb v hv rfl⟩) (fun _ => rfl)) $$ H
  iintro %w_3 %y_3 H
  iapply (wp_tgather 𝒱 c bd fs ft g0 4 (by decide) (by decide) hft rfl rfl (fun v => rfl)
    (fun v hv => ⟨line_dvd v, line_inb v hv rfl⟩) (fun _ => rfl)) $$ H
  iintro %w_4 %y_4 H
  iapply (wp_tgather 𝒱 c bd fs ft g0 5 (by decide) (by decide) hft rfl rfl (fun v => rfl)
    (fun v hv => ⟨line_dvd v, line_inb v hv rfl⟩) (fun _ => rfl)) $$ H
  iintro %w_5 %y_5 H
  iapply (wp_tgather 𝒱 c bd fs ft g0 6 (by decide) (by decide) hft rfl rfl (fun v => rfl)
    (fun v hv => ⟨line_dvd v, line_inb v hv rfl⟩) (fun _ => rfl)) $$ H
  iintro %w_6 %y_6 H
  iapply (wp_tgather 𝒱 c bd fs ft g0 7 (by decide) (by decide) hft rfl rfl (fun v => rfl)
    (fun v hv => ⟨line_dvd v, line_inb v hv rfl⟩) (fun _ => rfl)) $$ H
  iintro %w_7 %y_7 H
  iapply (wp_tgather 𝒱 c bd fs ft g0 8 (by decide) (by decide) hft rfl rfl (fun v => rfl)
    (fun v hv => ⟨line_dvd v, line_inb v hv rfl⟩) (fun _ => rfl)) $$ H
  iintro %w_8 %y_8 H
  iapply (wp_tgather 𝒱 c bd fs ft g0 9 (by decide) (by decide) hft rfl rfl (fun v => rfl)
    (fun v hv => ⟨line_dvd v, line_inb v hv rfl⟩) (fun _ => rfl)) $$ H
  iintro %w_9 %y_9 H
  iapply (wp_tgather 𝒱 c bd fs ft g0 10 (by decide) (by decide) hft rfl rfl (fun v => rfl)
    (fun v hv => ⟨line_dvd v, line_inb v hv rfl⟩) (fun _ => rfl)) $$ H
  iintro %w_10 %y_10 H
  iapply (wp_tgather 𝒱 c bd fs ft g0 11 (by decide) (by decide) hft rfl rfl (fun v => rfl)
    (fun v hv => ⟨line_dvd v, line_inb v hv rfl⟩) (fun _ => rfl)) $$ H
  iintro %w_11 %y_11 H
  iapply (wp_tgather 𝒱 c bd fs ft g0 12 (by decide) (by decide) hft rfl rfl (fun v => rfl)
    (fun v hv => ⟨line_dvd v, line_inb v hv rfl⟩) (fun _ => rfl)) $$ H
  iintro %w_12 %y_12 H
  iapply (wp_tgather 𝒱 c bd fs ft g0 13 (by decide) (by decide) hft rfl rfl (fun v => rfl)
    (fun v hv => ⟨line_dvd v, line_inb v hv rfl⟩) (fun _ => rfl)) $$ H
  iintro %w_13 %y_13 H
  iapply (wp_tgather 𝒱 c bd fs ft g0 14 (by decide) (by decide) hft rfl rfl (fun v => rfl)
    (fun v hv => ⟨line_dvd v, line_inb v hv rfl⟩) (fun _ => rfl)) $$ H
  iintro %w_14 %y_14 H
  iapply (wp_tgather 𝒱 c bd fs ft g0 15 (by decide) (by decide) hft rfl rfl (fun v => rfl)
    (fun v hv => ⟨line_dvd v, line_inb v hv rfl⟩) (fun _ => rfl)) $$ H
  iintro %w_15 %y_15 H
  iapply (wp_tgather 𝒱 c bd fs ft g0 16 (by decide) (by decide) hft rfl rfl (fun v => rfl)
    (fun v hv => ⟨line_dvd v, line_inb v hv rfl⟩) (fun _ => rfl)) $$ H
  iintro %w_16 %y_16 H
  iapply (wp_tgather 𝒱 c bd fs ft g0 17 (by decide) (by decide) hft rfl rfl (fun v => rfl)
    (fun v hv => ⟨line_dvd v, line_inb v hv rfl⟩) (fun _ => rfl)) $$ H
  iintro %w_17 %y_17 H
  iapply (wp_tgather 𝒱 c bd fs ft g0 18 (by decide) (by decide) hft rfl rfl (fun v => rfl)
    (fun v hv => ⟨line_dvd v, line_inb v hv rfl⟩) (fun _ => rfl)) $$ H
  iintro %w_18 %y_18 H
  iapply (wp_tgather 𝒱 c bd fs ft g0 19 (by decide) (by decide) hft rfl rfl (fun v => rfl)
    (fun v hv => ⟨line_dvd v, line_inb v hv rfl⟩) (fun _ => rfl)) $$ H
  iintro %w_19 %y_19 H
  iapply (wp_tgather 𝒱 c bd fs ft g0 20 (by decide) (by decide) hft rfl rfl (fun v => rfl)
    (fun v hv => ⟨line_dvd v, line_inb v hv rfl⟩) (fun _ => rfl)) $$ H
  iintro %w_20 %y_20 H
  iapply (wp_tgather 𝒱 c bd fs ft g0 21 (by decide) (by decide) hft rfl rfl (fun v => rfl)
    (fun v hv => ⟨line_dvd v, line_inb v hv rfl⟩) (fun _ => rfl)) $$ H
  iintro %w_21 %y_21 H
  iapply (wp_tgather 𝒱 c bd fs ft g0 22 (by decide) (by decide) hft rfl rfl (fun v => rfl)
    (fun v hv => ⟨line_dvd v, line_inb v hv rfl⟩) (fun _ => rfl)) $$ H
  iintro %w_22 %y_22 H
  iapply (wp_tgather 𝒱 c bd fs ft g0 23 (by decide) (by decide) hft rfl rfl (fun v => rfl)
    (fun v hv => ⟨line_dvd v, line_inb v hv rfl⟩) (fun _ => rfl)) $$ H
  iintro %w_23 %y_23 H
  ihave HW : iprop(RowBatch c (.dma (slotSem 0)) 0 q0 fw (gathered fw (fakeIds ft) 0 0) 24 24 (rowN * 0) ∗ noDebt c) $$ [HB HO]
  · isplitl [HB]; · iexact HB
    iexact HO
  iapply (wp_wait_row 𝒱 c bd 0 q0 fw (gathered fw (fakeIds ft) 0 0) 24 0 (by decide) (slot_sem (0 : Fin 3) rfl)) $$ HW
  iintro HW
  icases HW with ⟨HB, HO⟩
  icases H with ⟨Hft, Hs, Hg⟩
  iapply Hk
  isplitl [Hft]; · iexact Hft
  isplitl [Hs]; · iexact Hs
  isplitl [Hg]; · iexact Hg
  isplitl [HB]; · iexact HB
  iexact HO

/-- Parts 103 to 107. -/
theorem waits_ok {K : PUnit → Prog (TpuEff nD τ sig (Elt F) Λ₀ .tc) α} {Q : α → sProp 𝕄}
    (q0 : PosShare TreeShare) (fw : WordBuf F c) (ft : TgtBuf F c) :
    iprop(RowBatch c (.dma (slotSem 0)) 0 q0 fw (gathered fw (fakeIds ft) 0 0) 24 24 (rowN * 1) ∗ noDebt c)
    ⊢ iprop((RowBatch c (.dma (slotSem 0)) 0 q0 fw (gathered fw (fakeIds ft) 0 0) 24 24 (rowN * 23) ∗ noDebt c -∗ wp frame (wpE defs 𝒱 (c : Thread nD τ) bd) Set.univ (K ⟨⟩) Q)
      -∗ wp frame (wpE defs 𝒱 (c : Thread nD τ) bd) Set.univ (do
        let z ← k0_part103 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6
        k0_part104 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 z
        k0_part105 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6
        k0_part106 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6
        let u ← k0_part107 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6
        K u) Q) := by
  simp only [k0_part103_eq_skeleton, k0_part104_eq_skeleton, k0_part105_eq_skeleton, k0_part106_eq_skeleton, k0_part107_eq_skeleton]
  unfold k0_part103_skel k0_part104_skel k0_part105_skel k0_part106_skel k0_part107_skel
  simp only [Prog.bind_assoc, Prog.bind_ret, Prog.pure_eq_ret]
  iintro HW Hk
  iapply (wp_wait_row 𝒱 c bd 0 q0 fw (gathered fw (fakeIds ft) 0 0) 24 1 (by decide) (slot_sem (0 : Fin 3) rfl)) $$ HW
  iintro HW
  iapply (wp_wait_row 𝒱 c bd 0 q0 fw (gathered fw (fakeIds ft) 0 0) 24 2 (by decide) (slot_sem (0 : Fin 3) rfl)) $$ HW
  iintro HW
  iapply (wp_wait_row 𝒱 c bd 0 q0 fw (gathered fw (fakeIds ft) 0 0) 24 3 (by decide) (slot_sem (0 : Fin 3) rfl)) $$ HW
  iintro HW
  iapply (wp_wait_row 𝒱 c bd 0 q0 fw (gathered fw (fakeIds ft) 0 0) 24 4 (by decide) (slot_sem (0 : Fin 3) rfl)) $$ HW
  iintro HW
  iapply (wp_wait_row 𝒱 c bd 0 q0 fw (gathered fw (fakeIds ft) 0 0) 24 5 (by decide) (slot_sem (0 : Fin 3) rfl)) $$ HW
  iintro HW
  iapply (wp_wait_row 𝒱 c bd 0 q0 fw (gathered fw (fakeIds ft) 0 0) 24 6 (by decide) (slot_sem (0 : Fin 3) rfl)) $$ HW
  iintro HW
  iapply (wp_wait_row 𝒱 c bd 0 q0 fw (gathered fw (fakeIds ft) 0 0) 24 7 (by decide) (slot_sem (0 : Fin 3) rfl)) $$ HW
  iintro HW
  iapply (wp_wait_row 𝒱 c bd 0 q0 fw (gathered fw (fakeIds ft) 0 0) 24 8 (by decide) (slot_sem (0 : Fin 3) rfl)) $$ HW
  iintro HW
  iapply (wp_wait_row 𝒱 c bd 0 q0 fw (gathered fw (fakeIds ft) 0 0) 24 9 (by decide) (slot_sem (0 : Fin 3) rfl)) $$ HW
  iintro HW
  iapply (wp_wait_row 𝒱 c bd 0 q0 fw (gathered fw (fakeIds ft) 0 0) 24 10 (by decide) (slot_sem (0 : Fin 3) rfl)) $$ HW
  iintro HW
  iapply (wp_wait_row 𝒱 c bd 0 q0 fw (gathered fw (fakeIds ft) 0 0) 24 11 (by decide) (slot_sem (0 : Fin 3) rfl)) $$ HW
  iintro HW
  iapply (wp_wait_row 𝒱 c bd 0 q0 fw (gathered fw (fakeIds ft) 0 0) 24 12 (by decide) (slot_sem (0 : Fin 3) rfl)) $$ HW
  iintro HW
  iapply (wp_wait_row 𝒱 c bd 0 q0 fw (gathered fw (fakeIds ft) 0 0) 24 13 (by decide) (slot_sem (0 : Fin 3) rfl)) $$ HW
  iintro HW
  iapply (wp_wait_row 𝒱 c bd 0 q0 fw (gathered fw (fakeIds ft) 0 0) 24 14 (by decide) (slot_sem (0 : Fin 3) rfl)) $$ HW
  iintro HW
  iapply (wp_wait_row 𝒱 c bd 0 q0 fw (gathered fw (fakeIds ft) 0 0) 24 15 (by decide) (slot_sem (0 : Fin 3) rfl)) $$ HW
  iintro HW
  iapply (wp_wait_row 𝒱 c bd 0 q0 fw (gathered fw (fakeIds ft) 0 0) 24 16 (by decide) (slot_sem (0 : Fin 3) rfl)) $$ HW
  iintro HW
  iapply (wp_wait_row 𝒱 c bd 0 q0 fw (gathered fw (fakeIds ft) 0 0) 24 17 (by decide) (slot_sem (0 : Fin 3) rfl)) $$ HW
  iintro HW
  iapply (wp_wait_row 𝒱 c bd 0 q0 fw (gathered fw (fakeIds ft) 0 0) 24 18 (by decide) (slot_sem (0 : Fin 3) rfl)) $$ HW
  iintro HW
  iapply (wp_wait_row 𝒱 c bd 0 q0 fw (gathered fw (fakeIds ft) 0 0) 24 19 (by decide) (slot_sem (0 : Fin 3) rfl)) $$ HW
  iintro HW
  iapply (wp_wait_row 𝒱 c bd 0 q0 fw (gathered fw (fakeIds ft) 0 0) 24 20 (by decide) (slot_sem (0 : Fin 3) rfl)) $$ HW
  iintro HW
  iapply (wp_wait_row 𝒱 c bd 0 q0 fw (gathered fw (fakeIds ft) 0 0) 24 21 (by decide) (slot_sem (0 : Fin 3) rfl)) $$ HW
  iintro HW
  iapply (wp_wait_row 𝒱 c bd 0 q0 fw (gathered fw (fakeIds ft) 0 0) 24 22 (by decide) (slot_sem (0 : Fin 3) rfl)) $$ HW
  iintro HW
  iapply Hk
  iexact HW

end Cert.Kernel.Hand
-- ==== Proof.K.Second.lean ====
/-
  Where the kernel's first two blocks lie, and that the main loop's assumptions hold.
-/
module

public import proofs.«01_k».proof.Proof.K.Open
public import proofs.«01_k».proof.Proof.K.Lines

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

theorem pos_two (L : Fin 24 → BitVec 32) : pos L 2 = stepPos L ((pos L 1).1, (pos L 1).2) := by
  show stepPos L (pos L 1) = _
  generalize pos L 1 = p; cases p; rfl

/-- An assumption that holds is passed. -/
theorem wp_asm {φ : Prop} {d : Decidable φ} {K : PLift φ → Prog (TpuEff nD τ sig (Elt F) Λ₀ .tc) α} {Q : α → sProp 𝕄} (h : φ) :
    wp frame (wpE defs 𝒱 (c : Thread nD τ) bd) Set.univ (K ⟨h⟩) Q ⊢ wp frame (wpE defs 𝒱 (c : Thread nD τ) bd) Set.univ (Prog.lift (.assume φ d) >>= K) Q :=
  wp_assume 𝒱 (c : Thread nD τ) bd Set.univ h

theorem trips_small {v : BitVec 32} (hv : v.toNat < 1000) : Scf.trips 0#32 v 1#32 = v.toNat := by
  rw [trips_one, toInt_small hv]; omega

theorem t6_ub (v : BitVec 32) : (k0_t6_loop v).ub = v := by
  show Scalar.addi 0#32 (Scalar.muli (Scalar.divsi (Scalar.subi v 0#32) 1#32) 1#32) = v
  rw [w_sub_zero, w_div_one, w_mul_one]
  show 0#32 + v = v
  simp

theorem t6_trips {v : BitVec 32} (hv : v.toNat < 1000) : (k0_t6_loop v).trips = v.toNat := by
  have h := t6_ub v
  show Scf.trips 0#32 (k0_t6_loop v).ub 1#32 = _
  rw [h]; exact trips_small hv

theorem t6_ok {v : BitVec 32} (hv : v.toNat < 1000) : (k0_t6_loop v).OK := by
  have h := t6_ub v
  show Scf.OK 0#32 (k0_t6_loop v).ub 1#32
  rw [h]
  refine ⟨show (0:ℤ) < (1#32).toInt by decide, ?_⟩
  rw [trips_small hv, show (0#32).toInt = 0 from rfl, show (1#32).toInt = 1 from rfl]
  omega

theorem chk116_ok {v : BitVec 32} (hv : v.toNat < 900) : k0_chk116 v :=
  ⟨t6_ok (by omega), fun t => by
      have ht : t.val < 900 := by
        have h1 := t.isLt
        have h2 := t6_trips (v := v) (by omega)
        omega
      rw [off511_eq t ht]; exact inb_ring (fin3 t.val),
    rem_ok _, fun t => (Nat.not_lt_zero _ (lt_of_lt_of_eq t.isLt (rem_trips _))).elim⟩

theorem sle_nb {v : BitVec 32} (hv : LenOk v) : Scalar.cmpi .sle (nbW v) 1#32 = BitVec.ofBool (decide (nb v ≤ 1)) := by
  have hb := nbW_bounds hv
  have h : (nbW v).sle 1#32 = decide (nb v ≤ 1) := by
    have h1 : (1#32 : BitVec 32).toInt = 1 := rfl
    have h2 := toInt_small (x := nbW v) (by omega)
    rw [BitVec.sle_eq_decide, h1, h2]
    unfold nb
    by_cases hc : (nbW v).toNat ≤ 1
    · rw [decide_eq_true hc, decide_eq_true (by omega)]
    · rw [decide_eq_false hc, decide_eq_false (by omega)]
  exact congrArg BitVec.ofBool h

/-- The batch row and the block of the second block. -/
theorem second {L : Fin 24 → BitVec 32} (hL : ∀ b, LenOk (L b)) :
    Scalar.select (Scalar.cmpi .sle (nbW (L 0)) 1#32) 1#32 0#32 = BitVec.ofNat 32 (pos L 1).1
      ∧ Scalar.select (Scalar.cmpi .sle (nbW (L 0)) 1#32) 0#32 1#32 = BitVec.ofNat 32 (pos L 1).2
      ∧ (pos L 1).1 < 24 ∧ (pos L 1).2 < 6 := by
  have h0 : fin24 0 = (0 : Fin 24) := rfl
  have e1 : pos L 1 = (if nb (L 0) ≤ 1 then 1 else 0, if nb (L 0) ≤ 1 then 0 else 1) := by
    show stepPos L (0, 0) = _
    unfold stepPos
    rw [if_pos (show (0:ℕ) < 24 by decide), h0]
  rw [sle_nb (hL 0), w_select, w_select, e1]
  by_cases h : nb (L 0) ≤ 1
  · simp [h]
  · simp [h]

theorem cond1_ok (v : BitVec 32) : k0_cond1 v = 1#1 := by
  have h : ∀ z : BitVec 1, Scalar.cmpi .ne (Scalar.extui (Scalar.cmpi .slt (Scalar.select z 1#32 0#32) 24#32) : BitVec 32) 0#32 = 1#1 := by decide
  exact h _

theorem off50_eq (t : Fin k0_t1_loop.trips) : k0_off50 t = ![t.val] := by
  have ht : t.val < 24 := lt_of_lt_of_eq t.isLt (show k0_t1_loop.trips = 24 by decide)
  show ![(Scf.iv 0#32 1#32 t.val).toNat] = _
  rw [iv_ofNat, ofNat_toNat' (by omega)]

theorem inb_ring32 : ∀ a, (![0, 0, 0] : Fin 3 → ℕ) a + S1x32x256.size a ≤ S3x256x256.size a := inb_S3x256x256_S1x32x256_0_0_0

theorem rowsSet_32 {h : ∀ a, (![0, 0, 0] : Fin 3 → ℕ) a + S1x32x256.size a ≤ S3x256x256.size a} :
    (sRows.access (Rect.unit (s := S3x256x256) ![0, 0, 0] S1x32x256.size h)).set ⊆ rowsSet 0 0 256 := by
  intro x hx
  rw [mem_rowsSet]
  have hx : x ∈ ((View.whole cc0_scratch0).slice (Rect.unit (s := S3x256x256) ![0, 0, 0] S1x32x256.size h)).set := hx
  rw [View.set_slice_whole] at hx
  have hx := (Rect.mem_set_unit).1 hx
  have H0 := hx 0; have H1 := hx 1
  simp [S1x32x256] at H0 H1
  omega

/-- What the targets' part of the kernel computes with: the rows, the lines and the ids it reads. -/
abbrev rdTg (I : Ins F c) : Vec F S1x128 .i32 := ((Memref.whole cc0_stg4_0 : Memref sig .tc .vmem S1x128 .i32).access (Rect.unit (s := S1x128) ![0, 0] S1x128.size inb_S1x128_S1x128_0_0)).read (Elt F) I.tg
abbrev rdRows32 (f : RingBuf F c) : Vec F S1x32x256 .i32 := (sRows.access (Rect.unit (s := S3x256x256) ![0, 0, 0] S1x32x256.size inb_S3x256x256_S1x32x256_0_0_0)).read (Elt F) f
abbrev rdLine32 (g : LineBuf F c) : Vec F S32x128 .f32 := (sLine.access (Rect.unit (s := S256x128) ![0, 0] S32x128.size inb_S256x128_S32x128_0_0)).read (Elt F) g

/-- The targets' rows as gathered over what the ring held, and their lines. -/
abbrev tRows (I : Ins F c) (f : RingBuf F c) : IVec S32x256 32 := k0_pay120 (rdRows32 c (filled (gathered I.fw (fakeIds I.ft) 0 0) f 24))
abbrev tScl (I : Ins F c) (g : LineBuf F c) : FVec F S32x1 .f32 := k0_pay121 (rdTg c I) (rdLine32 c (lineBuf I.fs (fakeIds I.ft) 0 0 g 24))
abbrev tIds (I : Ins F c) : IVec S32x1 32 := k0_pay122 (rdTg c I)

/-- The targets' features the kernel keeps. -/
def TfOk (I : Ins F c) (tf : TfBuf F c) : Prop := ∃ f g t0, tf = ((Memref.whole cc0_scratch3 : Memref sig .tc .vmem S32x256 .f32).access (Rect.unit (s := S32x256) ![0, 0] S32x256.size inb_S32x256_S32x256_0_0)).write (Elt F) t0 (k0_pay124 (tRows c I f) (tScl c I g) (tIds c I)) Finset.univ
/-- Their share of the first layer. -/
def TwOk (I : Ins F c) (tw : TwBuf F c) : Prop := ∃ f g t0, tw = ((Memref.whole cc0_scratch4 : Memref sig .tc .vmem S32x256 .f32).access (Rect.unit (s := S32x256) ![0, 0] S32x256.size inb_S32x256_S32x256_0_0)).write (Elt F) t0
  (k0_pay125 (tRows c I f) (tScl c I g) (tIds c I)
    (((Memref.whole cc0_stg5_0 : Memref sig .tc .vmem S1024x256 .bf16).access (Rect.unit (s := S1024x256) ![256, 0] S256x256.size inb_S1024x256_S256x256_256_0)).read (Elt F) I.w1)
    (((Memref.whole cc0_stg6_0 : Memref sig .tc .vmem S1x256 .f32).access (Rect.unit (s := S1x256) ![0, 0] S1x256.size inb_S1x256_S1x256_0_0)).read (Elt F) I.b1)) Finset.univ

end Cert.Kernel.Hand
-- ==== Proof.K.IssueFirst.lean ====
module

public import proofs.«01_k».proof.Proof.K.Row

@[expose] public section

set_option maxRecDepth 65536
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)

/-- One trip of the loop that starts the first block's copies. -/
theorem t2_step {arg0 : Memref sig .tc .smem S24 .i32} {harg0 : arg0.IsWhole} {arg2 : Memref sig .tc .smem S24 .i32} {harg2 : arg2.IsWhole} {arg4 : Memref sig .tc .hbm S1000000 .f32} {harg4 : arg4.IsWhole} {arg5 : Memref sig .tc .vmem S24x12x128 .i32} {harg5 : arg5.IsWhole} {arg6 : Memref sig .tc .vmem S1x128 .i32} {harg6 : arg6.IsWhole} {arg7 : Memref sig .tc .vmem S1024x256 .bf16} {harg7 : arg7.IsWhole} {arg8 : Memref sig .tc .vmem S1x256 .f32} {harg8 : arg8.IsWhole} {arg9 : Memref sig .tc .vmem S1x256 .f32} {harg9 : arg9.IsWhole} {arg10 : Memref sig .tc .vmem S256x128 .bf16} {harg10 : arg10.IsWhole} {arg11 : Memref sig .tc .vmem S1x128 .f32} {harg11 : arg11.IsWhole} {arg12 : Memref sig .tc .vmem S1x128 .f32} {harg12 : arg12.IsWhole} {arg13 : Memref sig .tc .vmem S8x128 .bf16} {harg13 : arg13.IsWhole} {arg14 : Memref sig .tc .smem S1x1 .f32} {harg14 : arg14.IsWhole} {arg15 : Memref sig .tc .vmem S24x256 .f32} {harg15 : arg15.IsWhole} {arg16 : Memref sig .tc .vmem S24x1536 .f32} {harg16 : arg16.IsWhole} {arg18 : Memref sig .tc .vmem S256x128 .f32} {harg18 : arg18.IsWhole} {arg19 : Memref sig .tc .vmem S1000000 .f32} {harg19 : arg19.IsWhole} {arg20 : Memref sig .tc .vmem S32x256 .f32} {harg20 : arg20.IsWhole} {arg21 : Memref sig .tc .vmem S32x256 .f32} {harg21 : arg21.IsWhole} {arg22 : DmaSems sig S_} {v617 : Elt F .i32} {k0_hw49 : k0_chk49 v617} {v624 : BitVec 32} {c1_i32_451 : BitVec 32}
    (q0 : PosShare TreeShare) (fw : WordBuf F c) (fi : IdBuf F c) (f : RingBuf F c) (n : ℕ)
    (hfi : IdsOk fi)
    (hn : n = 16 * (k0_t2_loop v617).trips) (hT : (k0_t2_loop v617).trips ≤ 16)
    (t : Fin (k0_t2_loop v617).trips) :
    iprop(pt c cc0_stg1_0 fi ∗ Filling c (.dma (slotSem 0)) (0 : Fin 3).val q0 fw (gathered fw fi 0 0) f n (16 * t.val))
      ⊢ wp frame (wpE defs 𝒱 (c : Thread nD τ) bd) Set.univ (k0_t2_body arg0 harg0 aIds (Memref.isWhole_whole _) arg2 harg2 hWords (Memref.isWhole_whole _) arg4 harg4 arg5 harg5 arg6 harg6 arg7 harg7 arg8 harg8 arg9 harg9 arg10 harg10 arg11 harg11 arg12 harg12 arg13 harg13 arg14 harg14 arg15 harg15 arg16 harg16 sRows (Memref.isWhole_whole _) arg18 harg18 arg19 harg19 arg20 harg20 arg21 harg21 arg22 cc0_scratch6 v617 k0_hw49 v624 c1_i32_451 t ())
        (fun _ => iprop(pt c cc0_stg1_0 fi ∗ Filling c (.dma (slotSem 0)) (0 : Fin 3).val q0 fw (gathered fw fi 0 0) f n (16 * (t.val + 1)))) := by
  have ht : t.val < 16 := by have := t.isLt; omega
  have hj : 16 * t.val + 16 ≤ n := by have := t.isLt; omega
  unfold k0_t2_body
  simp only [k0_part6_eq_skeleton]
  unfold k0_part6_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [Prog.bind_assoc, Prog.bind_ret, Prog.pure_eq_ret]
  iintro H
  iapply (wp_row 𝒱 c bd (0 : Fin 3) q0 fw fi f (0 : Fin 24) (0 : Fin 6) n (16 * t.val + 0) (by omega) (by omega) hfi
    (by exact off_ids_first (u := 0) ht (by decide)) (by exact off_ring (s := 0) (ws := 0#32) (u := 0) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 1) (by omega) (by omega) hfi
    (by exact off_ids_first (u := 1) ht (by decide)) (by exact off_ring (s := 0) (ws := 0#32) (u := 1) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 2) (by omega) (by omega) hfi
    (by exact off_ids_first (u := 2) ht (by decide)) (by exact off_ring (s := 0) (ws := 0#32) (u := 2) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 3) (by omega) (by omega) hfi
    (by exact off_ids_first (u := 3) ht (by decide)) (by exact off_ring (s := 0) (ws := 0#32) (u := 3) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 4) (by omega) (by omega) hfi
    (by exact off_ids_first (u := 4) ht (by decide)) (by exact off_ring (s := 0) (ws := 0#32) (u := 4) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 5) (by omega) (by omega) hfi
    (by exact off_ids_first (u := 5) ht (by decide)) (by exact off_ring (s := 0) (ws := 0#32) (u := 5) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 6) (by omega) (by omega) hfi
    (by exact off_ids_first (u := 6) ht (by decide)) (by exact off_ring (s := 0) (ws := 0#32) (u := 6) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 7) (by omega) (by omega) hfi
    (by exact off_ids_first (u := 7) ht (by decide)) (by exact off_ring (s := 0) (ws := 0#32) (u := 7) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 8) (by omega) (by omega) hfi
    (by exact off_ids_first (u := 8) ht (by decide)) (by exact off_ring (s := 0) (ws := 0#32) (u := 8) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 9) (by omega) (by omega) hfi
    (by exact off_ids_first (u := 9) ht (by decide)) (by exact off_ring (s := 0) (ws := 0#32) (u := 9) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 10) (by omega) (by omega) hfi
    (by exact off_ids_first (u := 10) ht (by decide)) (by exact off_ring (s := 0) (ws := 0#32) (u := 10) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 11) (by omega) (by omega) hfi
    (by exact off_ids_first (u := 11) ht (by decide)) (by exact off_ring (s := 0) (ws := 0#32) (u := 11) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 12) (by omega) (by omega) hfi
    (by exact off_ids_first (u := 12) ht (by decide)) (by exact off_ring (s := 0) (ws := 0#32) (u := 12) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 13) (by omega) (by omega) hfi
    (by exact off_ids_first (u := 13) ht (by decide)) (by exact off_ring (s := 0) (ws := 0#32) (u := 13) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 14) (by omega) (by omega) hfi
    (by exact off_ids_first (u := 14) ht (by decide)) (by exact off_ring (s := 0) (ws := 0#32) (u := 14) rfl ht (by decide)) (fun v => rfl)
    (fun v hv => row_inb v hv rfl) (slot_sem (0 : Fin 3) rfl)) $$ H
  iintro H
  iapply (wp_row 𝒱 c bd (0 : Fin 3) q0 fw fi f (0 : Fin 24) (0 : Fin 6) n (16 * t.val + 15) (by omega) (by omega) hfi
    (by exact off_ids_first (u := 15) ht (by decide)) (by exact off_ring (s := 0) (ws := 0#32) (u := 15) rfl ht (by decide)) (fun v => rfl)
    (fun v hv => row_inb v hv rfl) (slot_sem (0 : Fin 3) rfl)) $$ H
  iintro H
  iapply (le_wp_ret _ _ _)
  iexact H

end Cert.Kernel.Hand
-- ==== Proof.K.IssueSecond.lean ====
module

public import proofs.«01_k».proof.Proof.K.Row

@[expose] public section

set_option maxRecDepth 65536
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)

/-- One trip of the loop that starts the second block's copies. -/
theorem t4_step {arg0 : Memref sig .tc .smem S24 .i32} {harg0 : arg0.IsWhole} {arg2 : Memref sig .tc .smem S24 .i32} {harg2 : arg2.IsWhole} {arg4 : Memref sig .tc .hbm S1000000 .f32} {harg4 : arg4.IsWhole} {arg5 : Memref sig .tc .vmem S24x12x128 .i32} {harg5 : arg5.IsWhole} {arg6 : Memref sig .tc .vmem S1x128 .i32} {harg6 : arg6.IsWhole} {arg7 : Memref sig .tc .vmem S1024x256 .bf16} {harg7 : arg7.IsWhole} {arg8 : Memref sig .tc .vmem S1x256 .f32} {harg8 : arg8.IsWhole} {arg9 : Memref sig .tc .vmem S1x256 .f32} {harg9 : arg9.IsWhole} {arg10 : Memref sig .tc .vmem S256x128 .bf16} {harg10 : arg10.IsWhole} {arg11 : Memref sig .tc .vmem S1x128 .f32} {harg11 : arg11.IsWhole} {arg12 : Memref sig .tc .vmem S1x128 .f32} {harg12 : arg12.IsWhole} {arg13 : Memref sig .tc .vmem S8x128 .bf16} {harg13 : arg13.IsWhole} {arg14 : Memref sig .tc .smem S1x1 .f32} {harg14 : arg14.IsWhole} {arg15 : Memref sig .tc .vmem S24x256 .f32} {harg15 : arg15.IsWhole} {arg16 : Memref sig .tc .vmem S24x1536 .f32} {harg16 : arg16.IsWhole} {arg18 : Memref sig .tc .vmem S256x128 .f32} {harg18 : arg18.IsWhole} {arg19 : Memref sig .tc .vmem S1000000 .f32} {harg19 : arg19.IsWhole} {arg20 : Memref sig .tc .vmem S32x256 .f32} {harg20 : arg20.IsWhole} {arg21 : Memref sig .tc .vmem S32x256 .f32} {harg21 : arg21.IsWhole} {arg22 : DmaSems sig S_} {v617 : Elt F .i32} {k0_hw49 : k0_chk49 v617} {v624 : BitVec 32} {c1_i32_451 : BitVec 32} {v631 : Elt F .i32} {v636 : BitVec 32} {v637 : BitVec 32} {k0_h1 : k0_cond1 v631 = 1#1} {v663 : Elt F .i32} {k0_hw83 : k0_chk83 v631 v663}
    (q0 : PosShare TreeShare) (fw : WordBuf F c) (fi : IdBuf F c) (f : RingBuf F c) (b : Fin 24) (kw : Fin 6) (n : ℕ)
    (hfi : IdsOk fi) (hb : (Scalar.select (Scalar.cmpi .sle (Scalar.maxsi (Scalar.divsi (Scalar.addi v631 255#32) 256#32) 1#32) 1#32) 1#32 0#32).toNat = b.val) (hk : (Scalar.select (Scalar.cmpi .sle (Scalar.maxsi (Scalar.divsi (Scalar.addi v631 255#32) 256#32) 1#32) 1#32) 0#32 1#32).toNat = kw.val)
    (hn : n = 16 * (k0_t4_loop v631 v663).trips) (hT : (k0_t4_loop v631 v663).trips ≤ 16)
    (t : Fin (k0_t4_loop v631 v663).trips) :
    iprop(pt c cc0_stg1_0 fi ∗ Filling c (.dma (slotSem 1)) (1 : Fin 3).val q0 fw (gathered fw fi b kw) f n (16 * t.val))
      ⊢ wp frame (wpE defs 𝒱 (c : Thread nD τ) bd) Set.univ (k0_t4_body arg0 harg0 aIds (Memref.isWhole_whole _) arg2 harg2 hWords (Memref.isWhole_whole _) arg4 harg4 arg5 harg5 arg6 harg6 arg7 harg7 arg8 harg8 arg9 harg9 arg10 harg10 arg11 harg11 arg12 harg12 arg13 harg13 arg14 harg14 arg15 harg15 arg16 harg16 sRows (Memref.isWhole_whole _) arg18 harg18 arg19 harg19 arg20 harg20 arg21 harg21 arg22 cc0_scratch6 v617 k0_hw49 v624 c1_i32_451 v631 v636 v637 k0_h1 v663 k0_hw83 t ())
        (fun _ => iprop(pt c cc0_stg1_0 fi ∗ Filling c (.dma (slotSem 1)) (1 : Fin 3).val q0 fw (gathered fw fi b kw) f n (16 * (t.val + 1)))) := by
  have ht : t.val < 16 := by have := t.isLt; omega
  have hj : 16 * t.val + 16 ≤ n := by have := t.isLt; omega
  unfold k0_t4_body
  simp only [k0_part13_eq_skeleton, k0_part14_eq_skeleton, k0_part15_eq_skeleton, k0_part16_eq_skeleton, k0_part17_eq_skeleton, k0_part18_eq_skeleton]
  unfold k0_part13_skel k0_part14_skel k0_part15_skel k0_part16_skel k0_part17_skel k0_part18_skel
  simp only [Prog.bind_assoc, Prog.bind_ret, Prog.pure_eq_ret]
  iintro H
  iapply (wp_row 𝒱 c bd (1 : Fin 3) q0 fw fi f b kw n (16 * t.val + 0) (by omega) (by omega) hfi
    (by exact off_ids (u := 0) hb hk kw.isLt ht (by decide)) (by exact off_ring (s := 1) (ws := 1#32) (u := 0) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 1) (by omega) (by omega) hfi
    (by exact off_ids (u := 1) hb hk kw.isLt ht (by decide)) (by exact off_ring (s := 1) (ws := 1#32) (u := 1) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 2) (by omega) (by omega) hfi
    (by exact off_ids (u := 2) hb hk kw.isLt ht (by decide)) (by exact off_ring (s := 1) (ws := 1#32) (u := 2) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 3) (by omega) (by omega) hfi
    (by exact off_ids (u := 3) hb hk kw.isLt ht (by decide)) (by exact off_ring (s := 1) (ws := 1#32) (u := 3) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 4) (by omega) (by omega) hfi
    (by exact off_ids (u := 4) hb hk kw.isLt ht (by decide)) (by exact off_ring (s := 1) (ws := 1#32) (u := 4) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 5) (by omega) (by omega) hfi
    (by exact off_ids (u := 5) hb hk kw.isLt ht (by decide)) (by exact off_ring (s := 1) (ws := 1#32) (u := 5) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 6) (by omega) (by omega) hfi
    (by exact off_ids (u := 6) hb hk kw.isLt ht (by decide)) (by exact off_ring (s := 1) (ws := 1#32) (u := 6) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 7) (by omega) (by omega) hfi
    (by exact off_ids (u := 7) hb hk kw.isLt ht (by decide)) (by exact off_ring (s := 1) (ws := 1#32) (u := 7) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 8) (by omega) (by omega) hfi
    (by exact off_ids (u := 8) hb hk kw.isLt ht (by decide)) (by exact off_ring (s := 1) (ws := 1#32) (u := 8) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 9) (by omega) (by omega) hfi
    (by exact off_ids (u := 9) hb hk kw.isLt ht (by decide)) (by exact off_ring (s := 1) (ws := 1#32) (u := 9) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 10) (by omega) (by omega) hfi
    (by exact off_ids (u := 10) hb hk kw.isLt ht (by decide)) (by exact off_ring (s := 1) (ws := 1#32) (u := 10) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 11) (by omega) (by omega) hfi
    (by exact off_ids (u := 11) hb hk kw.isLt ht (by decide)) (by exact off_ring (s := 1) (ws := 1#32) (u := 11) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 12) (by omega) (by omega) hfi
    (by exact off_ids (u := 12) hb hk kw.isLt ht (by decide)) (by exact off_ring (s := 1) (ws := 1#32) (u := 12) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 13) (by omega) (by omega) hfi
    (by exact off_ids (u := 13) hb hk kw.isLt ht (by decide)) (by exact off_ring (s := 1) (ws := 1#32) (u := 13) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 14) (by omega) (by omega) hfi
    (by exact off_ids (u := 14) hb hk kw.isLt ht (by decide)) (by exact off_ring (s := 1) (ws := 1#32) (u := 14) rfl ht (by decide)) (fun v => rfl)
    (fun v hv => fun _ => row_inb v hv rfl) (slot_sem (1 : Fin 3) rfl)) $$ H
  iintro H
  iapply (wp_row 𝒱 c bd (1 : Fin 3) q0 fw fi f b kw n (16 * t.val + 15) (by omega) (by omega) hfi
    (by exact off_ids (u := 15) hb hk kw.isLt ht (by decide)) (by exact off_ring (s := 1) (ws := 1#32) (u := 15) rfl ht (by decide)) (fun v => rfl)
    (fun v hv => fun _ => row_inb v hv rfl) (slot_sem (1 : Fin 3) rfl)) $$ H
  iintro H
  iapply (le_wp_ret _ _ _)
  iexact H

end Cert.Kernel.Hand
-- ==== Proof.K.Ahead.lean ====
/-
  The targets' features, the number of blocks, and the first two blocks' copies.
-/
module

public import proofs.«01_k».proof.Proof.K.Second
public import proofs.«01_k».proof.Proof.K.IssueFirst
public import proofs.«01_k».proof.Proof.K.IssueSecond

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

/-- Part 108: the last of the targets' rows is waited for, and the first slot is idle again. -/
theorem last_ok {K : (Σ' (_ : IVec S32x256 32) (_ : FVec F S32x1 .f32), IVec S32x1 32) → Prog (TpuEff nD τ sig (Elt F) Λ₀ .tc) α} {Q : α → sProp 𝕄}
    (q : Fin 3 → PosShare TreeShare) (I : Ins F c) (f : RingBuf F c) (g0 : LineBuf F c) :
    iprop(pt c cc0_stg4_0 I.tg ∗ pt c cc0_scratch1 (lineBuf I.fs (fakeIds I.ft) 0 0 g0 24)
      ∗ (((c : Thread nD τ).loc cc0_scratch0) ↦[rowsSet 0 24 256]{fullShare} f)
      ∗ (((c : Thread nD τ).loc main_v2) ↦{shareDrop (q 0) 24} I.fw) ∗ RowBatch c (.dma (slotSem 0)) 0 (q 0) I.fw (gathered I.fw (fakeIds I.ft) 0 0) 24 24 (rowN * 23) ∗ noDebt c)
    ⊢ iprop((pt c cc0_stg4_0 I.tg ∗ (∃ g0, pt c cc0_scratch1 g0) ∗ (∃ f, Idle c 0 (q 0) I.fw f) ∗ noDebt c -∗ wp frame (wpE defs 𝒱 (c : Thread nD τ) bd) Set.univ (K ⟨tRows c I f, tScl c I g0, tIds c I⟩) Q)
      -∗ wp frame (wpE defs 𝒱 (c : Thread nD τ) bd) Set.univ (k0_part108 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 >>= K) Q) := by
  rw [k0_part108_eq_skeleton]
  unfold k0_part108_skel
  simp only [Prog.bind_assoc, Prog.bind_ret, Prog.pure_eq_ret]
  iintro ⟨Htg, Hg, Hr, Hw, HB, HO⟩ Hk
  iapply (wp_wait_row 𝒱 c bd 0 (q 0) I.fw (gathered I.fw (fakeIds I.ft) 0 0) 24 23 (by decide) (slot_sem (0 : Fin 3) rfl)) $$ [HB HO]
  · isplitl [HB]; · iexact HB
    iexact HO
  iintro ⟨HB, HO⟩
  imod (idle_close c 0 (q 0) I.fw (gathered I.fw (fakeIds I.ft) 0 0) f 24 (by decide)) $$ [Hr Hw HB] with HI
  · isplitl [Hr]; · iexact Hr
    isplitl [Hw]; · iexact Hw
    iexact HB
  unfold Idle
  icases HI with ⟨Hr, Hw, Hv⟩
  iapply (wp_ld 𝒱 c bd (Memref.whole cc0_stg4_0) _ ![0, 0] rfl _ inb_S1x128_S1x128_0_0 (S := Finset.univ) (q := fullShare) (f := I.tg) (Finset.subset_univ _)) $$ Htg
  iintro Htg
  iapply (wp_ld 𝒱 c bd sRows _ ![0, 0, 0] rfl _ inb_S3x256x256_S1x32x256_0_0_0 (S := rowsSet (0 : Fin 3).val 0 256) (q := fullShare) (f := filled (gathered I.fw (fakeIds I.ft) 0 0) f 24) rowsSet_32) $$ Hr
  iintro Hr
  iapply (wp_ld 𝒱 c bd sLine _ ![0, 0] rfl _ inb_S256x128_S32x128_0_0 (S := Finset.univ) (q := fullShare) (f := lineBuf I.fs (fakeIds I.ft) 0 0 g0 24) (Finset.subset_univ _)) $$ Hg
  iintro Hg
  iapply Hk
  isplitl [Htg]; · iexact Htg
  isplitl [Hg]; · iexists _; iexact Hg
  isplitl [Hr Hw Hv]
  · iexists _
    isplitl [Hr]; · iexact Hr
    isplitl [Hw]; · iexact Hw
    iexact Hv
  iexact HO

/-- One step of the count of the blocks. -/
theorem count_step (I : Ins F c) (hL : ∀ b, LenOk (lenAt I.fl b)) (v571 : IVec S32x256 32) (v585 : FVec F S32x1 .f32) (v592 : IVec S32x1 32) (t : Fin k0_t1_loop.trips) (acc : BitVec 32) :
    iprop(⌜acc.toNat = pre (lenAt I.fl) t.val⌝ ∗ pt c cc0_stg0_0 I.fl)
    ⊢ wp frame (wpE defs 𝒱 (c : Thread nD τ) bd) Set.univ (k0_t1_body aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v571 v585 v592 t acc) (fun acc => iprop(⌜acc.toNat = pre (lenAt I.fl) (t.val + 1)⌝ ∗ pt c cc0_stg0_0 I.fl)) := by
  have ht : t.val < 24 := lt_of_lt_of_eq t.isLt (show k0_t1_loop.trips = 24 by decide)
  unfold k0_t1_body
  iintro ⟨%ha, Hl⟩
  have hp := pre_add hL ht ha
  iapply (wp_len 𝒱 c bd I.fl (fin24 t.val) ((off50_eq t).trans (by rw [fin24_val ht]))) $$ Hl
  iintro Hl
  iapply (le_wp_ret _ _ _)
  isplitr
  · ipureintro; exact hp
  iexact Hl

/-- Part 109: the targets' features are kept, and the blocks counted. -/
theorem count_ok {K : (Σ' (v616 : BitVec 32) (_ : k0_chk116 v616) (v617 : Elt F .i32) (_ : k0_chk49 v617) (_ : BitVec 32), BitVec 32) → Prog (TpuEff nD τ sig (Elt F) Λ₀ .tc) α} {Q : α → sProp 𝕄}
    (I : Ins F c) (f : RingBuf F c) (g0 : LineBuf F c) (hL : ∀ b, LenOk (lenAt I.fl b)) :
    iprop(pt c cc0_stg0_0 I.fl ∗ (∃ t, pt c cc0_scratch3 t) ∗ (∃ t, pt c cc0_scratch4 t) ∗ pt c cc0_stg5_0 I.w1 ∗ pt c cc0_stg6_0 I.b1)
    ⊢ iprop((∀ tf tw v616 h116 h49 v624 v1, ⌜TfOk c I tf⌝ ∗ ⌜TwOk c I tw⌝ ∗ ⌜v616.toNat = pre (lenAt I.fl) 24⌝
        ∗ pt c cc0_stg0_0 I.fl ∗ pt c cc0_scratch3 tf ∗ pt c cc0_scratch4 tw ∗ pt c cc0_stg5_0 I.w1 ∗ pt c cc0_stg6_0 I.b1
        -∗ wp frame (wpE defs 𝒱 (c : Thread nD τ) bd) Set.univ (K ⟨v616, h116, lenAt I.fl 0, h49, v624, v1⟩) Q)
      -∗ wp frame (wpE defs 𝒱 (c : Thread nD τ) bd) Set.univ (k0_part109 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 (tRows c I f) (tScl c I g0) (tIds c I) >>= K) Q) := by
  rw [k0_part109_eq_skeleton]
  unfold k0_part109_skel
  simp only [Prog.bind_assoc, Prog.bind_ret, Prog.pure_eq_ret]
  iintro ⟨Hl, ⟨%t3, H3⟩, ⟨%t4, H4⟩, Hw1, Hb1⟩ Hk
  iapply (wp_ld 𝒱 c bd (Memref.whole cc0_scratch3) _ ![0, 0] rfl _ inb_S32x256_S32x256_0_0 (S := Finset.univ) (q := fullShare) (f := t3) (Finset.subset_univ _)) $$ H3
  iintro H3
  iapply (wp_st 𝒱 c bd (Memref.whole cc0_scratch3) _ ![0, 0] rfl _ inb_S32x256_S32x256_0_0 (f := t3)) $$ H3
  iintro H3
  iapply (wp_ld 𝒱 c bd (Memref.whole cc0_stg5_0) _ ![256, 0] rfl _ inb_S1024x256_S256x256_256_0 (S := Finset.univ) (q := fullShare) (f := I.w1) (Finset.subset_univ _)) $$ Hw1
  iintro Hw1
  iapply (wp_ld 𝒱 c bd (Memref.whole cc0_stg6_0) _ ![0, 0] rfl _ inb_S1x256_S1x256_0_0 (S := Finset.univ) (q := fullShare) (f := I.b1) (Finset.subset_univ _)) $$ Hb1
  iintro Hb1
  iapply (wp_ld 𝒱 c bd (Memref.whole cc0_scratch4) _ ![0, 0] rfl _ inb_S32x256_S32x256_0_0 (S := Finset.univ) (q := fullShare) (f := t4) (Finset.subset_univ _)) $$ H4
  iintro H4
  iapply (wp_st 𝒱 c bd (Memref.whole cc0_scratch4) _ ![0, 0] rfl _ inb_S32x256_S32x256_0_0 (f := t4)) $$ H4
  iintro H4
  iapply (Scf.wp_for_bind _ _ _ _ _ _ _ _ _ (fun n (acc : BitVec 32) => iprop(⌜acc.toNat = pre (lenAt I.fl) n⌝ ∗ pt c cc0_stg0_0 I.fl))
    (fun t acc => count_step 𝒱 c bd I hL _ _ _ t acc)) $$ [Hl]
  · isplitr; · ipureintro; rfl
    iexact Hl
  iintro %v616 ⟨%hv, Hl⟩
  have hv : v616.toNat = pre (lenAt I.fl) 24 := hv
  have hv9 : v616.toNat < 900 := by have := pre_le hL 24; omega
  iapply (wp_asm 𝒱 c bd (chk116_ok hv9))
  iapply (wp_len 𝒱 c bd (oi := ![0]) (hi := inb_S24_S1_0) I.fl (0 : Fin 24) rfl) $$ Hl
  iintro Hl
  iapply (wp_asm 𝒱 c bd (chk49_ok (v617 := lenAt I.fl 0) (by decide)))
  iapply Hk $$ %_ %_ %v616 %(chk116_ok hv9) %(chk49_ok (by decide)) %_ %_
  isplitr; · ipureintro; exact ⟨f, g0, t3, rfl⟩
  isplitr; · ipureintro; exact ⟨f, g0, t4, rfl⟩
  isplitr; · ipureintro; exact hv
  isplitl [Hl]; · iexact Hl
  isplitl [H3]; · iexact H3
  isplitl [H4]; · iexact H4
  isplitl [Hw1]; · iexact Hw1
  iexact Hb1

theorem trips2 (v : BitVec 32) : 16 * (k0_t2_loop v).trips = rowsOf v 0 := congrArg (16 * ·) (trips_ubOf _)
theorem trips4 (v : BitVec 32) (k : ℕ) (v' : BitVec 32)
    (hk : Scalar.select (Scalar.cmpi .sle (Scalar.maxsi (Scalar.divsi (Scalar.addi v 255#32) 256#32) 1#32) 1#32) 0#32 1#32 = BitVec.ofNat 32 k) : 16 * (k0_t4_loop v v').trips = rowsOf v' k := by
  unfold rowsOf
  rw [← hk]
  exact congrArg (16 * ·) (trips_ubOf _)

theorem off147_eq (v : BitVec 32) : k0_off147 v = ![(Scalar.select (Scalar.cmpi .sle (nbW v) 1#32) 1#32 0#32).toNat] := by
  unfold k0_off147 nbW Scalar.indexCast
  rfl
theorem off244_eq (v : BitVec 32) : k0_off244 v = ![(Scalar.minsi (Scalar.select (Scalar.cmpi .sle (nbW v) 1#32) 1#32 0#32) 23#32).toNat] := by
  unfold k0_off244 nbW Scalar.indexCast
  rfl

/-- The facts the second block's copies need, on the words the kernel computes. -/
theorem ahead_facts (fl : LenBuf F c) (hL : ∀ b, LenOk (lenAt fl b)) :
    (pos (lenAt fl) 1).1 < 24 ∧ (pos (lenAt fl) 1).2 < 6
    ∧ (Scalar.select (Scalar.cmpi .sle (Scalar.maxsi (Scalar.divsi (Scalar.addi (lenAt fl 0) 255#32) 256#32) 1#32) 1#32) 1#32 0#32) = BitVec.ofNat 32 (pos (lenAt fl) 1).1 ∧ (Scalar.select (Scalar.cmpi .sle (Scalar.maxsi (Scalar.divsi (Scalar.addi (lenAt fl 0) 255#32) 256#32) 1#32) 1#32) 0#32 1#32) = BitVec.ofNat 32 (pos (lenAt fl) 1).2
    ∧ (Scalar.select (Scalar.cmpi .sle (Scalar.maxsi (Scalar.divsi (Scalar.addi (lenAt fl 0) 255#32) 256#32) 1#32) 1#32) 1#32 0#32).toNat = (pos (lenAt fl) 1).1 ∧ (Scalar.select (Scalar.cmpi .sle (Scalar.maxsi (Scalar.divsi (Scalar.addi (lenAt fl 0) 255#32) 256#32) 1#32) 1#32) 0#32 1#32).toNat = (pos (lenAt fl) 1).2
    ∧ k0_off147 (lenAt fl 0) = ![(fin24 (pos (lenAt fl) 1).1).val] ∧ k0_off244 (lenAt fl 0) = ![(fin24 (pos (lenAt fl) 1).1).val] ∧ k0_chk82 (lenAt fl 0)
    ∧ Scalar.select (Scalar.cmpi .slt (Scalar.select (Scalar.cmpi .sle (Scalar.maxsi (Scalar.divsi (Scalar.addi (lenAt fl 0) 255#32) 256#32) 1#32) 1#32) 1#32 0#32) 24#32) (Scalar.select (Scalar.cmpi .sge (Scalar.addi (Scalar.select (Scalar.cmpi .sle (Scalar.maxsi (Scalar.divsi (Scalar.addi (lenAt fl 0) 255#32) 256#32) 1#32) 1#32) 0#32 1#32) 1#32) (Scalar.maxsi (Scalar.divsi (Scalar.addi (lenAt fl (fin24 (pos (lenAt fl) 1).1)) 255#32) 256#32) 1#32)) (Scalar.addi (Scalar.minsi (Scalar.select (Scalar.cmpi .sle (Scalar.maxsi (Scalar.divsi (Scalar.addi (lenAt fl 0) 255#32) 256#32) 1#32) 1#32) 1#32 0#32) 23#32) 1#32) (Scalar.minsi (Scalar.select (Scalar.cmpi .sle (Scalar.maxsi (Scalar.divsi (Scalar.addi (lenAt fl 0) 255#32) 256#32) 1#32) 1#32) 1#32 0#32) 23#32)) 24#32 = BitVec.ofNat 32 (pos (lenAt fl) 2).1
    ∧ Scalar.select (Scalar.cmpi .sge (Scalar.addi (Scalar.select (Scalar.cmpi .sle (Scalar.maxsi (Scalar.divsi (Scalar.addi (lenAt fl 0) 255#32) 256#32) 1#32) 1#32) 0#32 1#32) 1#32) (Scalar.maxsi (Scalar.divsi (Scalar.addi (lenAt fl (fin24 (pos (lenAt fl) 1).1)) 255#32) 256#32) 1#32)) 0#32 (Scalar.addi (Scalar.select (Scalar.cmpi .sle (Scalar.maxsi (Scalar.divsi (Scalar.addi (lenAt fl 0) 255#32) 256#32) 1#32) 1#32) 0#32 1#32) 1#32) = BitVec.ofNat 32 (pos (lenAt fl) 2).2 := by
  obtain ⟨e1, e2, hp, hk⟩ := second hL
  have hpn : (BitVec.ofNat 32 (pos (lenAt fl) 1).1).toNat = (pos (lenAt fl) 1).1 := ofNat_toNat' (by omega)
  have hkn : (BitVec.ofNat 32 (pos (lenAt fl) 1).2).toNat = (pos (lenAt fl) 1).2 := ofNat_toNat' (by omega)
  have t1 := congrArg BitVec.toNat e1
  have t2 := congrArg BitVec.toNat e2
  rw [hpn] at t1
  rw [hkn] at t2
  have f1 := fin24_val hp
  have f2 := fin6_val hk
  have o147 : k0_off147 (lenAt fl 0) = ![(fin24 (pos (lenAt fl) 1).1).val] := by rw [off147_eq, f1, t1]
  have o244 : k0_off244 (lenAt fl 0) = ![(fin24 (pos (lenAt fl) 1).1).val] := by
    have hm := min_23 (b := Scalar.select (Scalar.cmpi .sle (nbW (lenAt fl 0)) 1#32) 1#32 0#32) (by omega)
    rw [t1] at hm
    rw [off244_eq, hm]
  have hadv := adv_ofNat (L := lenAt fl) hL (b := (pos (lenAt fl) 1).1) (k := (pos (lenAt fl) 1).2) (by omega) hk
  have h636 : advB (lenAt fl (fin24 (pos (lenAt fl) 1).1)) (Scalar.select (Scalar.cmpi .sle (nbW (lenAt fl 0)) 1#32) 1#32 0#32) (Scalar.select (Scalar.cmpi .sle (nbW (lenAt fl 0)) 1#32) 0#32 1#32) = BitVec.ofNat 32 (pos (lenAt fl) 2).1 := by
    rw [e1, e2, pos_two]; exact hadv.1
  have h637 : advK (lenAt fl (fin24 (pos (lenAt fl) 1).1)) (Scalar.select (Scalar.cmpi .sle (nbW (lenAt fl 0)) 1#32) 0#32 1#32) = BitVec.ofNat 32 (pos (lenAt fl) 2).2 := by
    rw [e2, pos_two]; exact hadv.2
  have h82 : k0_chk82 (lenAt fl 0) := by
    unfold k0_chk82
    rw [o147, o244]
    exact ⟨fun _ => lens_inb (fin24 _).isLt, lens_inb (fin24 _).isLt⟩
  have e1' := e1
  have e2' := e2
  unfold nbW at e1' e2' t1 t2
  unfold advB nbW at h636
  unfold advK nbW at h637
  exact ⟨hp, hk, e1', e2', t1, t2, o147, o244, h82, h636, h637⟩

theorem slot_of (q : Fin 3 → PosShare TreeShare) (fl : LenBuf F c) (fi : IdBuf F c) (fw : WordBuf F c) (s : Fin 3) {p : ℕ × ℕ} (hp : p.1 < 24) :
    iprop(∃ f, Filling c (.dma (slotSem s)) s (q s) fw (gathered fw fi (fin24 p.1) (fin6 p.2)) f (rowsOf (lenAt fl (fin24 p.1)) p.2) (rowsOf (lenAt fl (fin24 p.1)) p.2)) ⊢ (SlotF c q fl fi fw s p : sProp 𝕄) := by
  unfold SlotF
  exact Entails.of_eq (if_pos hp).symm

theorem slot_first (q : Fin 3 → PosShare TreeShare) (fl : LenBuf F c) (fi : IdBuf F c) (fw : WordBuf F c) :
    iprop(∃ f, Filling c (.dma (slotSem 0)) (0 : Fin 3).val (q 0) fw (gathered fw fi 0 0) f (rowsOf (lenAt fl 0) 0) (rowsOf (lenAt fl 0) 0)) ⊢ (SlotF c q fl fi fw 0 (0, 0) : sProp 𝕄) :=
  slot_of c q fl fi fw 0 (p := (0, 0)) (show (0:ℕ) < 24 by decide)

attribute [local irreducible] k0_cond1 k0_off147 k0_off244 k0_chk82 k0_chk83 Scalar.select Scalar.cmpi Scalar.maxsi Scalar.divsi in
/-- Part 110: the first two blocks' copies. -/
theorem ahead_ok {K : (Σ' (_ : BitVec 32) (_ : BitVec 32) (_ : BitVec 32) (_ : BitVec 32) (_ : BitVec 1), BitVec 32) → Prog (TpuEff nD τ sig (Elt F) Λ₀ .tc) α} {Q : α → sProp 𝕄}
    (q : Fin 3 → PosShare TreeShare) (fl : LenBuf F c) (fi : IdBuf F c) (fw : WordBuf F c) (hfi : IdsOk fi) (hL : ∀ b, LenOk (lenAt fl b)) (h49 : k0_chk49 (lenAt fl 0)) (v624 v1 : BitVec 32) :
    iprop(pt c cc0_stg0_0 fl ∗ pt c cc0_stg1_0 fi ∗ (∃ f, Idle c 0 (q 0) fw f) ∗ (∃ f, Idle c 1 (q 1) fw f))
    ⊢ iprop((∀ v636 v637 v650 v652 v653, ⌜v636 = BitVec.ofNat 32 (pos (lenAt fl) 1).1⌝ ∗ ⌜v637 = BitVec.ofNat 32 (pos (lenAt fl) 1).2⌝ ∗ ⌜Scalar.select v653 v650 24#32 = BitVec.ofNat 32 (pos (lenAt fl) 2).1⌝ ∗ ⌜v652 = BitVec.ofNat 32 (pos (lenAt fl) 2).2⌝
        ∗ pt c cc0_stg0_0 fl ∗ pt c cc0_stg1_0 fi ∗ SlotF c q fl fi fw 0 (0, 0) ∗ SlotF c q fl fi fw 1 (pos (lenAt fl) 1)
        -∗ wp frame (wpE defs 𝒱 (c : Thread nD τ) bd) Set.univ (K ⟨v636, v637, v650, v652, v653, 24#32⟩) Q)
      -∗ wp frame (wpE defs 𝒱 (c : Thread nD τ) bd) Set.univ (k0_part110 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 (lenAt fl 0) h49 v624 v1 >>= K) Q) := by
  obtain ⟨hp, hk, e1', e2', t1, t2, o147, o244, h82, h636, h637⟩ := ahead_facts c fl hL
  have g1 := fin24_val hp
  have g2 := fin6_val hk
  have hS0 := slot_first c q fl fi fw
  have hS1 := slot_of c q fl fi fw 1 hp
  rw [wp_bind, k0_part110_eq_skeleton]
  unfold k0_part110_skel
  simp only [Prog.bind_assoc, Prog.bind_ret, Prog.pure_eq_ret]
  iintro ⟨Hl, Hi, ⟨%f0, HI0⟩, ⟨%f1, HI1⟩⟩ Hk
  imod (idle_open c 0 (q 0) fw (gathered fw fi 0 0) f0 (rowsOf (lenAt fl 0) 0)) $$ HI0 with HF0
  iapply (Scf.wp_for_bind _ _ _ _ _ _ _ _ _ (fun n _ => iprop(pt c cc0_stg1_0 fi ∗ Filling c (.dma (slotSem 0)) (0 : Fin 3).val (q 0) fw (gathered fw fi 0 0) f0 (rowsOf (lenAt fl 0) 0) (16 * n)))
    (fun t acc => t2_step 𝒱 c bd (q 0) fw fi f0 (rowsOf (lenAt fl 0) 0) hfi (trips2 _).symm (by have h1 := trips2 (lenAt fl 0); have h2 := rowsOf_le (lenAt fl 0) 0; omega) t)) $$ [Hi HF0]
  · isplitl [Hi]; · iexact Hi
    iexact HF0
  iintro %_ ⟨Hi, HF0⟩
  iapply (Scf.wp_for0_bind' _ _ _ _ _ _ _ _ _ (rem_trips _) _ _ _ .rfl)
  iapply (wp_len 𝒱 c bd (oi := ![0]) (hi := inb_S24_S1_0) fl (0 : Fin 24) rfl) $$ Hl
  iintro Hl
  iapply (wp_asm 𝒱 c bd h82)
  iapply (wp_if_pos 𝒱 c bd (cond1_ok (lenAt fl 0)))
  iapply (wp_len 𝒱 c bd fl (fin24 (pos (lenAt fl) 1).1) o147) $$ Hl
  iintro Hl
  iapply (wp_asm 𝒱 c bd (chk83_ok (v631 := lenAt fl 0) (v663 := lenAt fl (fin24 (pos (lenAt fl) 1).1)) (lt_of_eq_of_lt t1 hp) (lt_of_eq_of_lt t2 hk)))
  imod (idle_open c 1 (q 1) fw (gathered fw fi (fin24 (pos (lenAt fl) 1).1) (fin6 (pos (lenAt fl) 1).2)) f1 (rowsOf (lenAt fl (fin24 (pos (lenAt fl) 1).1)) (pos (lenAt fl) 1).2)) $$ HI1 with HF1
  iapply (Scf.wp_for_bind _ _ _ _ _ _ _ _ _ (fun n _ => iprop(pt c cc0_stg1_0 fi ∗ Filling c (.dma (slotSem 1)) (1 : Fin 3).val (q 1) fw (gathered fw fi (fin24 (pos (lenAt fl) 1).1) (fin6 (pos (lenAt fl) 1).2)) f1 (rowsOf (lenAt fl (fin24 (pos (lenAt fl) 1).1)) (pos (lenAt fl) 1).2) (16 * n)))
    (fun t acc => t4_step 𝒱 c bd (q 1) fw fi f1 (fin24 (pos (lenAt fl) 1).1) (fin6 (pos (lenAt fl) 1).2) (rowsOf (lenAt fl (fin24 (pos (lenAt fl) 1).1)) (pos (lenAt fl) 1).2) hfi (t1.trans g1.symm) (t2.trans g2.symm) (trips4 _ _ _ e2').symm
      (by have h1 := trips4 (lenAt fl 0) (pos (lenAt fl) 1).2 (lenAt fl (fin24 (pos (lenAt fl) 1).1)) e2'; have h2 := rowsOf_le (lenAt fl (fin24 (pos (lenAt fl) 1).1)) (pos (lenAt fl) 1).2; omega) t)) $$ [Hi HF1]
  · isplitl [Hi]; · iexact Hi
    iexact HF1
  iintro %_ ⟨Hi, HF1⟩
  iapply (Scf.wp_for0_bind' _ _ _ _ _ _ _ _ _ (rem_trips _) _ _ _ .rfl)
  iapply (wp_len 𝒱 c bd fl (fin24 (pos (lenAt fl) 1).1) o244) $$ Hl
  iintro Hl
  ihave HS0 := hS0 $$ [HF0]
  · iexists f0
    iapply (Entails.of_eq (congrArg (fun n => Filling c (.dma (slotSem 0)) (0 : Fin 3).val (q 0) fw (gathered fw fi 0 0) f0 (rowsOf (lenAt fl 0) 0) n) (trips2 (lenAt fl 0)))) $$ HF0
  ihave HS1 := hS1 $$ [HF1]
  · iexists f1
    iapply (Entails.of_eq (congrArg (fun n => Filling c (.dma (slotSem 1)) (1 : Fin 3).val (q 1) fw (gathered fw fi (fin24 (pos (lenAt fl) 1).1) (fin6 (pos (lenAt fl) 1).2)) f1 (rowsOf (lenAt fl (fin24 (pos (lenAt fl) 1).1)) (pos (lenAt fl) 1).2) n) (trips4 (lenAt fl 0) _ (lenAt fl (fin24 (pos (lenAt fl) 1).1)) e2'))) $$ HF1
  iapply (le_wp_ret _ _ _)
  iapply Hk $$ %_ %_ %_ %_ %_
  isplitr; · ipureintro; exact e1'
  isplitr; · ipureintro; exact e2'
  isplitr; · ipureintro; exact h636
  isplitr; · ipureintro; exact h637
  isplitl [Hl]; · iexact Hl
  isplitl [Hi]; · iexact Hi
  isplitl [HS0]; · iexact HS0
  iexact HS1

end Cert.Kernel.Hand
-- ==== Proof.K.Finish.lean ====
/-
  The main loop, and the whole kernel.
-/
module

public import proofs.«01_k».proof.Proof.K.Ahead
public import Idealize.ShloMosaic.Lib.Ring.Trips

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Ring

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

/-- The share of the words each slot's copies read. -/
abbrev qs : Fin 3 → PosShare TreeShare := shares3 fullShare

/-- A slot with no copies under way. -/
abbrev Free (I : Ins F c) (s : Fin 3) : sProp 𝕄 := iprop(∃ f, Idle c s (qs s) I.fw f)

theorem ring_join (f0 f1 f2 : RingBuf F c) :
    iprop((((c : Thread nD τ).loc cc0_scratch0) ↦[rowsSet 0 0 256]{fullShare} f0) ∗ (((c : Thread nD τ).loc cc0_scratch0) ↦[rowsSet 1 0 256]{fullShare} f1) ∗ (((c : Thread nD τ).loc cc0_scratch0) ↦[rowsSet 2 0 256]{fullShare} f2))
      ⊢ (iprop(∃ f, pt c cc0_scratch0 f) : sProp 𝕄) := by
  have hU : rowsSet 0 0 256 ∪ (rowsSet 1 0 256 ∪ rowsSet 2 0 256) = (Finset.univ : Finset S3x256x256.Idx) := by
    ext x
    simp only [Finset.mem_univ, Finset.mem_union, mem_rowsSet, _root_.iff_true]
    have h0 : (x 0).val < 3 := (x 0).isLt
    have h1 : (x 1).val < 256 := (x 1).isLt
    omega
  have hd1 : Disjoint (rowsSet 0 0 256) (rowsSet 1 0 256 ∪ rowsSet 2 0 256) := by
    rw [Finset.disjoint_left]; intro x; simp only [Finset.mem_union, mem_rowsSet]; omega
  have hd2 : Disjoint (rowsSet 1 0 256) (rowsSet 2 0 256) := by
    rw [Finset.disjoint_left]; intro x; simp only [mem_rowsSet]; omega
  iintro ⟨H0, H1, H2⟩
  ihave H12 := (pointsTo_join (ℓ := (c : Thread nD τ).loc cc0_scratch0) hd2) $$ [H1 H2]
  · isplitl [H1]; · iexact H1
    iexact H2
  ihave H := (pointsTo_join (ℓ := (c : Thread nD τ).loc cc0_scratch0) hd1) $$ [H0 H12]
  · isplitl [H0]; · iexact H0
    iexact H12
  iexists _
  iapply (Entails.of_eq (congrArg (fun S => ((c : Thread nD τ).loc cc0_scratch0 ↦[S]{fullShare} _ : sProp 𝕄)) hU)) $$ H

theorem turn_slots (W : Fin 3 → sProp 𝕄) (i : ℕ) : iprop(W (fin3 i) ∗ W (fin3 (i + 1)) ∗ W (fin3 (i + 2))) ⊢ iprop(W 0 ∗ W 1 ∗ W 2) := by
  have h : i % 3 = 0 ∨ i % 3 = 1 ∨ i % 3 = 2 := by omega
  rcases h with h | h | h
  · have e0 : fin3 i = 0 := Fin.ext h
    have e1 : fin3 (i + 1) = 1 := Fin.ext (show (i + 1) % 3 = 1 by omega)
    have e2 : fin3 (i + 2) = 2 := Fin.ext (show (i + 2) % 3 = 2 by omega)
    rw [e0, e1, e2]
  · have e0 : fin3 i = 1 := Fin.ext h
    have e1 : fin3 (i + 1) = 2 := Fin.ext (show (i + 1) % 3 = 2 by omega)
    have e2 : fin3 (i + 2) = 0 := Fin.ext (show (i + 2) % 3 = 0 by omega)
    rw [e0, e1, e2]
    iintro ⟨H0, H1, H2⟩
    isplitl [H2]; · iexact H2
    isplitl [H0]; · iexact H0
    iexact H1
  · have e0 : fin3 i = 2 := Fin.ext h
    have e1 : fin3 (i + 1) = 0 := Fin.ext (show (i + 1) % 3 = 0 by omega)
    have e2 : fin3 (i + 2) = 1 := Fin.ext (show (i + 2) % 3 = 1 by omega)
    rw [e0, e1, e2]
    iintro ⟨H0, H1, H2⟩
    isplitl [H1]; · iexact H1
    isplitl [H2]; · iexact H2
    iexact H0

theorem slot_free (I : Ins F c) (s : Fin 3) (p : ℕ × ℕ) (hp : p.1 = 24) : (SlotF c qs I.fl I.fi I.fw s p : sProp 𝕄) ⊢ Free c I s := by
  unfold SlotF
  exact Entails.of_eq (if_neg (by omega))

/-- Three idle slots are the whole ring and all the words. -/
theorem slots_join (I : Ins F c) : iprop(Free c I 0 ∗ Free c I 1 ∗ Free c I 2) ⊢
    (iprop((∃ f, pt c cc0_scratch0 f) ∗ pt c main_v2 I.fw ∗ semVal ((c : Thread nD τ), .dma (slotSem 0)) 0 ∗ semVal ((c : Thread nD τ), .dma (slotSem 1)) 0 ∗ semVal ((c : Thread nD τ), .dma (slotSem 2)) 0) : sProp 𝕄) := by
  unfold Free Idle
  iintro ⟨⟨%f0, H0, W0, V0⟩, ⟨%f1, H1, W1, V1⟩, ⟨%f2, H2, W2, V2⟩⟩
  isplitl [H0 H1 H2]
  · iapply (ring_join c f0 f1 f2)
    isplitl [H0]; · iexact H0
    isplitl [H1]; · iexact H1
    iexact H2
  isplitl [W0 W1 W2]
  · iapply (pointsTo_thirds fullShare I.fw).2
    isplitl [W0]; · iexact W0
    isplitl [W1]; · iexact W1
    iexact W2
  isplitl [V0]; · iexact V0
  isplitl [V1]; · iexact V1
  iexact V2

/-- What the kernel's main loop leaves. -/
abbrev Done (I : Ins F c) (R : ℕ → ScoreBuf F c → IntBuf F c → Prop) : sProp 𝕄 :=
  iprop(pt c cc0_stg0_0 I.fl ∗ pt c cc0_stg1_0 I.fi ∗ pt c cc0_scratch2 I.fs ∗ (∃ f, pt c cc0_scratch3 f) ∗ (∃ f, pt c cc0_scratch4 f) ∗ pt c cc0_stg3_0 I.idb ∗ pt c cc0_stg5_0 I.w1 ∗ pt c cc0_stg7_0 I.a1 ∗ pt c cc0_stg8_0 I.w2 ∗ pt c cc0_stg9_0 I.b2 ∗ pt c cc0_stg10_0 I.a2 ∗ pt c cc0_stg11_0 I.w3 ∗ pt c cc0_stg12_0 I.b3
    ∗ (∃ g, pt c cc0_scratch1 g) ∗ (∃ f, pt c cc0_scratch0 f) ∗ pt c main_v2 I.fw ∗ semVal ((c : Thread nD τ), .dma (slotSem 0)) 0 ∗ semVal ((c : Thread nD τ), .dma (slotSem 1)) 0 ∗ semVal ((c : Thread nD τ), .dma (slotSem 2)) 0
    ∗ noDebt c ∗ (∃ i sc it, pt c cc0_stg14_0 sc ∗ pt c cc0_stg13_0 it ∗ ⌜i = pre (lenAt I.fl) 24⌝ ∗ ⌜R i sc it⌝))

theorem inv_end (I : Ins F c) (tf : TfBuf F c) (tw : TwBuf F c) (R : ℕ → ScoreBuf F c → IntBuf F c → Prop) (hL : ∀ b, LenOk (lenAt I.fl b))
    (i : ℕ) (hi : i = pre (lenAt I.fl) 24) (acc) : Inv c qs I tf tw R i acc ⊢ (Done c I R : sProp 𝕄) := by
  have p0 := pos_end hL (le_of_eq hi.symm)
  have p1 := pos_end hL (show pre (lenAt I.fl) 24 ≤ i + 1 by omega)
  unfold Inv Done
  iintro ⟨-, ⟨H1, H2, H3, H4, H5, H6, H7, H8, H9, H10, H11, H12, H13⟩, Hg, HSa, HSb, HI, HO, %sc, %it, Hsc, Hit, %hr⟩
  ihave HSa := (slot_free c I (fin3 i) _ p0) $$ HSa
  ihave HSb := (slot_free c I (fin3 (i + 1)) _ p1) $$ HSb
  ihave HT := (turn_slots (Free c I) i) $$ [HSa HSb HI]
  · isplitl [HSa]; · iexact HSa
    isplitl [HSb]; · iexact HSb
    iexact HI
  ihave HJ := (slots_join c I) $$ HT
  icases HJ with ⟨HR, HW, V0, V1, V2⟩
  isplitl [H1]; · iexact H1
  isplitl [H2]; · iexact H2
  isplitl [H3]; · iexact H3
  isplitl [H4]; · iexists _; iexact H4
  isplitl [H5]; · iexists _; iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [Hg]; · iexact Hg
  isplitl [HR]; · iexact HR
  isplitl [HW]; · iexact HW
  isplitl [V0]; · iexact V0
  isplitl [V1]; · iexact V1
  isplitl [V2]; · iexact V2
  isplitl [HO]; · iexact HO
  iexists i, sc, it
  isplitl [Hsc]; · iexact Hsc
  isplitl [Hit]; · iexact Hit
  isplitr; · ipureintro; exact hi
  ipureintro; exact hr

/-- The two loops that end the kernel, as printed. -/
abbrev loops (v616 : BitVec 32) (hw : k0_chk116 v616) (x0 : BitVec 32 × BitVec 32 × BitVec 32 × BitVec 32 × BitVec 32 × BitVec 32) : Prog (TpuEff nD τ sig (Elt F) Λ₀ .tc) PUnit := do
  let r ← Scf.Loop.for (k0_t6_loop v616) (k0_t6_ok v616 hw) x0 (k0_t6_body aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v616 hw)
  let s ← Scf.Loop.for (k0_t13_loop v616) (k0_t13_ok v616 hw) (r.1, r.2.1, r.2.2.1, r.2.2.2.1, r.2.2.2.2.1, r.2.2.2.2.2) (k0_t13_body aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v616 hw (Scalar.addi 0#32 (Scalar.muli (Scalar.divsi (Scalar.subi v616 0#32) 1#32) 1#32)))
  pure ⟨⟩

theorem loops_ok (I : Ins F c) (tf : TfBuf F c) (tw : TwBuf F c) (R : ℕ → ScoreBuf F c → IntBuf F c → Prop)
    (hfi : IdsOk I.fi) (hL : ∀ b, LenOk (lenAt I.fl b)) (hR : Keeps I tf tw R)
    (v616 : BitVec 32) (hw : k0_chk116 v616) (hv : v616.toNat = pre (lenAt I.fl) 24) (x0) :
    Inv c qs I tf tw R 0 x0 ⊢ wp frame (wpE defs 𝒱 (c : Thread nD τ) bd) Set.univ (loops v616 hw x0) (fun _ => Done c I R) := by
  have hv9 : v616.toNat < 900 := by have := pre_le hL 24; omega
  have htr := t6_trips (v := v616) (by omega)
  unfold loops
  iintro H
  iapply (Scf.wp_for_bind _ _ _ _ _ _ _ _ _ (fun n acc => Inv c qs I tf tw R n acc)
    (fun t acc => body_ok 𝒱 c bd qs I tf tw R hfi hL hR v616 hw t (lt_of_lt_of_eq t.isLt (htr.trans hv)) acc)) $$ H
  iintro %acc H
  iapply (Scf.wp_for0_bind' _ _ _ _ _ _ _ _ _ (rem_trips _) _ _ _ .rfl)
  iapply (le_wp_ret _ _ _)
  iapply (inv_end c I tf tw R hL _ (htr.trans hv) acc) $$ H

end Cert.Kernel.Hand
-- ==== Proof.K.Whole.lean ====
/-
  The whole kernel.
-/
module

public import proofs.«01_k».proof.Proof.K.Finish
public import Idealize.ShloMosaic.Lib.Ring.Trips

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers Idealize.ShloMosaic.Ring

variable {F : FTy → Type} [FloatOps F]
local notation "𝕄" => MT nD τ sig Unit (Elt F) ℕ (Pipeline.UD sig nD τ) ℕ

variable {defs : Defs nD τ sig (Elt F) Λ₀} (𝒱 : Variants) (c : Dev nD) (bd : Option 𝒱.V)
variable {α : Type}

/-- The kernel from the first two blocks' copies on. -/
abbrev prog4 : Prog (TpuEff nD τ sig (Elt F) Λ₀ .tc) PUnit := do
  let r ← k0_part108 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6
  let s ← k0_part109 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r.1 r.2.1 r.2.2
  let p ← k0_part110 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 s.2.2.1 s.2.2.2.1 s.2.2.2.2.1 s.2.2.2.2.2
  loops s.1 s.2.1 (0#32, 0#32, p.1, p.2.1, Scalar.select p.2.2.2.2.1 p.2.2.1 p.2.2.2.2.2, p.2.2.2.1)
/-- The kernel from the waits for the targets' rows on. -/
abbrev prog3 : Prog (TpuEff nD τ sig (Elt F) Λ₀ .tc) PUnit := do
  let z ← k0_part103 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6
  k0_part104 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 z
  k0_part105 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6
  k0_part106 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6
  let u ← k0_part107 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6
  prog4
/-- The kernel from the targets' lines of scales on. -/
abbrev prog2 (v182 : FVec F S1x128 .f32) : Prog (TpuEff nD τ sig (Elt F) Λ₀ .tc) PUnit := do
  let r1 ← k0_part96 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v182
  let r2 ← k0_part97 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r1.1 r1.2.1 r1.2.2
  let r3 ← k0_part98 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r2.1 r2.2
  let v322 ← k0_part99 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r3.1 r3.2.1 r3.2.2.1 r3.2.2.2
  let r4 ← k0_part100 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v322
  let v395 ← k0_part101 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r4.1 r4.2.1 r4.2.2
  let u ← k0_part102 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v395
  prog3
/-- The kernel. -/
abbrev prog1 : Prog (TpuEff nD τ sig (Elt F) Λ₀ .tc) PUnit := do
  let r1 ← k0_part89 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6
  let v50 ← k0_part90 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r1.1 r1.2
  let r3 ← k0_part91 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v50
  let r4 ← k0_part92 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r3.1 r3.2
  let r5 ← k0_part93 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r4.1 r4.2
  let v155 ← k0_part94 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 r5.1 r5.2
  let v182 ← k0_part95 aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 v155
  prog2 v182

set_option maxRecDepth 65536 in
theorem din_eq : cc0_din (F := F) aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 = prog1 := by
  rw [cc0_din_eq_skeleton]
  unfold cc0_din_skel
  rfl

theorem inv_start (fl : LenBuf F c) {v636 v637 v654 v652 : BitVec 32} (e1 : v636 = BitVec.ofNat 32 (pos (lenAt fl) 1).1) (e2 : v637 = BitVec.ofNat 32 (pos (lenAt fl) 1).2)
    (e3 : v654 = BitVec.ofNat 32 (pos (lenAt fl) 2).1) (e4 : v652 = BitVec.ofNat 32 (pos (lenAt fl) 2).2) :
    ((0#32, 0#32, v636, v637, v654, v652) : BitVec 32 × BitVec 32 × BitVec 32 × BitVec 32 × BitVec 32 × BitVec 32)
      = (BitVec.ofNat 32 (pos (lenAt fl) 0).1, BitVec.ofNat 32 (pos (lenAt fl) 0).2, BitVec.ofNat 32 (pos (lenAt fl) (0 + 1)).1, BitVec.ofNat 32 (pos (lenAt fl) (0 + 1)).2, BitVec.ofNat 32 (pos (lenAt fl) (0 + 2)).1, BitVec.ofNat 32 (pos (lenAt fl) (0 + 2)).2) := by
  rw [e1, e2, e3, e4]
  rfl

/-- Its ids and lengths are in range. -/
structure InsOk (I : Ins F c) : Prop where
  ids : IdsOk I.fi
  tgts : TgtsOk I.ft
  lens : ∀ b, LenOk (lenAt I.fl b)

/-- What the body starts from, and what it leaves. -/
abbrev Start (I : Ins F c) (fa : Buf (Elt F) ((c : Thread nD τ).loc main_arg1)) : sProp 𝕄 :=
  iprop((pt c cc0_stg0_0 I.fl ∗ pt c cc0_stg1_0 I.fi ∗ pt c cc0_stg2_0 I.ft ∗ pt c cc0_stg3_0 I.idb ∗ pt c cc0_stg4_0 I.tg ∗ pt c cc0_stg5_0 I.w1 ∗ pt c cc0_stg6_0 I.b1 ∗ pt c cc0_stg7_0 I.a1 ∗ pt c cc0_stg8_0 I.w2 ∗ pt c cc0_stg9_0 I.b2 ∗ pt c cc0_stg10_0 I.a2 ∗ pt c cc0_stg11_0 I.w3 ∗ pt c cc0_stg12_0 I.b3)
    ∗ ((∃ f, pt c cc0_scratch0 f) ∗ (∃ f, pt c cc0_scratch1 f) ∗ (∃ f, pt c cc0_scratch2 f) ∗ (∃ f, pt c cc0_scratch3 f) ∗ (∃ f, pt c cc0_scratch4 f))
    ∗ (semVal ((c : Thread nD τ), .dma sclSem) 0 ∗ semVal ((c : Thread nD τ), .dma (slotSem 0)) 0 ∗ semVal ((c : Thread nD τ), .dma (slotSem 1)) 0 ∗ semVal ((c : Thread nD τ), .dma (slotSem 2)) 0)
    ∗ (pt c main_v2 I.fw ∗ pt c main_arg1 fa) ∗ noDebt c)

/-- The whole kernel: it keeps its inputs, puts every semaphore back to zero, and leaves in the score's and the interest's
    buffers what every turn of the main loop keeps. -/
theorem whole_ok (I : Ins F c) (fa : Buf (Elt F) ((c : Thread nD τ).loc main_arg1)) (hI : InsOk c I) (hfs : I.fs = copied fa) (R : ℕ → ScoreBuf F c → IntBuf F c → Prop)
    (hR0 : ∀ s0 i0, R 0 (score0 c s0) (int0 c i0)) (hR : ∀ tf tw, TfOk c I tf → TwOk c I tw → Keeps I tf tw R) :
    iprop(Start c I fa ∗ (∃ f, pt c cc0_stg13_0 f) ∗ (∃ f, pt c cc0_stg14_0 f)) ⊢ wp frame (wpE defs 𝒱 (c : Thread nD τ) bd) Set.univ (cc0_din aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6)
      (fun _ => iprop(Start c I fa ∗ (∃ i sc it, pt c cc0_stg14_0 sc ∗ pt c cc0_stg13_0 it ∗ ⌜i = pre (lenAt I.fl) 24⌝ ∗ ⌜R i sc it⌝))) := by
  obtain ⟨hfi, hft, hL⟩ := hI
  rw [din_eq]
  unfold Start
  iintro ⟨⟨⟨H0, H1, H2, H3, H4, H5, H6, H7, H8, H9, H10, H11, H12⟩, ⟨HS0, ⟨%g0, HS1⟩, HS2, HS3, HS4⟩, ⟨Hv15, Hv0, Hv1, Hv2⟩, ⟨Hw, Ha⟩, HO⟩, H13, H14⟩
  ihave HW := (pointsTo_thirds fullShare I.fw).1 $$ Hw
  icases HW with ⟨Hw0, Hw1, Hw2⟩
  iapply (open_ok 𝒱 c bd (qs 0) I.fw I.ft fa hft) $$ [H2 Ha HS2 Hv15 HS0 H13 H14 Hw0 Hv0 HO]
  · isplitl [H2]; · iexact H2
    isplitl [Ha]; · iexact Ha
    isplitl [HS2]; · iexact HS2
    isplitl [Hv15]; · iexact Hv15
    isplitl [HS0]; · iexact HS0
    isplitl [H13]; · iexact H13
    isplitl [H14]; · iexact H14
    isplitl [Hw0]; · iexact Hw0
    isplitl [Hv0]; · iexact Hv0
    iexact HO
  iintro %w %f %r0 %i0 %s0 ⟨-, %hw, H2, Ha, HS2, Hv15, H13, H14, HF, HR1, HR2, HO⟩
  have hw' : ∃ h, w = (sScl.access (Rect.unit (s := S1000000) ![(Scalar.muli (Scalar.shrui (idAt (fakeIds I.ft) 0 0 0) 7#32) 128#32).toNat] S128.size h)).read (Elt F) I.fs := by
    rw [hfs]; exact hw
  ihave HS2 := (Entails.of_eq (congrArg (fun f => (pt c cc0_scratch2 f : sProp 𝕄)) hfs.symm)) $$ HS2
  unfold Filling
  icases HF with ⟨Hrow, Hsh, HB⟩
  iapply (lines_ok 𝒱 c bd (qs 0) I.fw I.ft I.fs g0 hft w hw') $$ [H2 HS2 HS1 HB HO]
  · isplitl [H2]; · iexact H2
    isplitl [HS2]; · iexact HS2
    isplitl [HS1]; · iexact HS1
    isplitl [HB]; · iexact HB
    iexact HO
  iintro ⟨H2, HS2, HS1, HB, HO⟩
  iapply (waits_ok 𝒱 c bd (qs 0) I.fw I.ft) $$ [HB HO]
  · isplitl [HB]; · iexact HB
    iexact HO
  iintro ⟨HB, HO⟩
  iapply (last_ok 𝒱 c bd qs I f g0) $$ [H4 HS1 Hrow Hsh HB HO]
  · isplitl [H4]; · iexact H4
    isplitl [HS1]; · iexact HS1
    isplitl [Hrow]; · iexact Hrow
    isplitl [Hsh]; · iexact Hsh
    isplitl [HB]; · iexact HB
    iexact HO
  iintro ⟨H4, HS1, HI0, HO⟩
  iapply (count_ok 𝒱 c bd I f g0 hL) $$ [H0 HS3 HS4 H5 H6]
  · isplitl [H0]; · iexact H0
    isplitl [HS3]; · iexact HS3
    isplitl [HS4]; · iexact HS4
    isplitl [H5]; · iexact H5
    iexact H6
  iintro %tf %tw %v616 %h116 %h49 %v624 %v1 ⟨%htf, %htw, %hv, H0, HS3, HS4, H5, H6⟩
  iapply (ahead_ok 𝒱 c bd qs I.fl I.fi I.fw hfi hL h49 v624 v1) $$ [H0 H1 HI0 HR1 Hw1 Hv1]
  · isplitl [H0]; · iexact H0
    isplitl [H1]; · iexact H1
    isplitl [HI0]; · iexact HI0
    iexists f
    unfold Idle
    isplitl [HR1]; · iexact HR1
    isplitl [Hw1]; · iexact Hw1
    iexact Hv1
  iintro %v636 %v637 %v650 %v652 %v653 ⟨%e1, %e2, %e3, %e4, H0, H1, HSa, HSb⟩
  iapply wp_wand $$ [H0 H1 H3 H5 H7 H8 H9 H10 H11 H12 H13 H14 HS1 HS2 HS3 HS4 HSa HSb HR2 Hw2 Hv2 HO]
  · iapply (loops_ok 𝒱 c bd I tf tw R hfi hL (hR tf tw htf htw) v616 h116 hv _)
    unfold Inv
    isplitr; · ipureintro; exact inv_start c I.fl e1 e2 e3 e4
    isplitl [H0 H1 H3 H5 H7 H8 H9 H10 H11 H12 HS2 HS3 HS4]
    · isplitl [H0]; · iexact H0
      isplitl [H1]; · iexact H1
      isplitl [HS2]; · iexact HS2
      isplitl [HS3]; · iexact HS3
      isplitl [HS4]; · iexact HS4
      isplitl [H3]; · iexact H3
      isplitl [H5]; · iexact H5
      isplitl [H7]; · iexact H7
      isplitl [H8]; · iexact H8
      isplitl [H9]; · iexact H9
      isplitl [H10]; · iexact H10
      isplitl [H11]; · iexact H11
      iexact H12
    isplitl [HS1]; · iexact HS1
    isplitl [HSa]; · iexact HSa
    isplitl [HSb]; · iexact HSb
    isplitl [HR2 Hw2 Hv2]
    · iexists f
      unfold Idle
      isplitl [HR2]; · iexact HR2
      isplitl [Hw2]; · iexact Hw2
      iexact Hv2
    isplitl [HO]; · iexact HO
    iexists _, _
    isplitl [H14]; · iexact H14
    isplitl [H13]; · iexact H13
    ipureintro; exact hR0 s0 i0
  iintro %u HD
  unfold Done
  icases HD with ⟨H0, H1, HS2, HS3, HS4, H3, H5, H7, H8, H9, H10, H11, H12, HS1, HS0, Hw, Hv0, Hv1, Hv2, HO, HR⟩
  isplitr [HR]
  · isplitl [H0 H1 H2 H3 H4 H5 H6 H7 H8 H9 H10 H11 H12]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    isplitl [HS0 HS1 HS2 HS3 HS4]
    · isplitl [HS0]; · iexact HS0
      isplitl [HS1]; · iexact HS1
      isplitl [HS2]; · iexists _; iexact HS2
      isplitl [HS3]; · iexact HS3
      iexact HS4
    isplitl [Hv15 Hv0 Hv1 Hv2]
    · isplitl [Hv15]; · iexact Hv15
      isplitl [Hv0]; · iexact Hv0
      isplitl [Hv1]; · iexact Hv1
      iexact Hv2
    isplitl [Hw Ha]
    · isplitl [Hw]; · iexact Hw
      iexact Ha
    iexact HO
  iexact HR

end Cert.Kernel.Hand
-- ==== Proof.K.Run.lean ====
/-
  The launch: the whole program runs, nothing faults, its arguments end unchanged and every semaphore at zero, whenever the ids and
  lengths it is launched with are in range. The kernel's two results are left unnamed here.
-/
module

public import proofs.«01_k».proof.Proof.K.Whole
public import proofs.«01_k».proof.Proof.Gen.Kernel.Frame
public import Idealize.ShloMosaic.Lib.Pipeline.FrameSuffixR

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-- The ids and the lengths the program is launched with are in range. -/
structure MemOk (c : Dev nD) : Prop where
  ids : ∀ x, (show BitVec 32 from m ((c : Thread nD τ).loc main_arg2) x).toNat < 999936
  tgts : ∀ x, (show BitVec 32 from m ((c : Thread nD τ).loc main_arg4) x).toNat < 999936
  lens : ∀ x, (show BitVec 32 from m ((c : Thread nD τ).loc main_arg3) x).toInt ≤ 1536

theorem keeps_true (c : Dev nD) (I : Ins F c) (tf : TfBuf F c) (tw : TwBuf F c) : Keeps I tf tw (fun _ _ _ => True) := by
  unfold Keeps
  intros
  trivial

/-! ## The program around the kernel -/

set_option maxHeartbeats 800000 in
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain (([] : List (List (HloOp τ sig (Elt F)))).map StableHlo.seq)) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] [] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) (fun c => (main_chain c).trans (congrArg Pipeline.chain (List.append_nil _).symm))

/-! ## What the kernel uses of its own -/

abbrev osem0 : Fin 4 → SemLoc sig := fun j => (![SemLoc.dma 15, SemLoc.dma 16, SemLoc.dma 17, SemLoc.dma 18] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 15) 0 ∗ semVal ((c : Thread nD τ), SemLoc.dma 16) 0 ∗ semVal ((c : Thread nD τ), SemLoc.dma 17) 0
          ∗ semVal ((c : Thread nD τ), SemLoc.dma 18) 0) := by
  rw [Pipeline.ownSems0_eq_of_list c osem0 [0, 1, 2, 3] (by decide) (by decide)]; rfl
/-- The arrays the kernel copies from itself: the packed rows and the scales. -/
def H0 : Finset (Ref sig .tc) := {main_v2, main_arg1}
theorem H0_sub : H0 ⊆ Pipeline.restRefs sig spec0 := by decide
theorem hbmPts0_eq (c : Dev nD) :
    (bigSep H0 (fun b => ((c : Thread nD τ).loc b) ↦{fullShare} V m c b) : sProp 𝕄)
      = iprop(pt c main_v2 (V m c main_v2) ∗ pt c main_arg1 (V m c main_arg1)) := by
  rw [BI.bigSep_eq_bigSepL_of_eq [main_v2, main_arg1] (by decide) (by decide)]; rfl
theorem PhiD0_eq (c : Dev nD) :
    (Pipeline.ΦD osem0 spec0 H0 (V m) c : sProp 𝕄)
      = iprop(iprop((∃ f, pt c cc0_scratch0 f) ∗ (∃ f, pt c cc0_scratch1 f) ∗ (∃ f, pt c cc0_scratch2 f) ∗ (∃ f, pt c cc0_scratch3 f) ∗ (∃ f, pt c cc0_scratch4 f))
          ∗ (∃ r, prngReg c r)
          ∗ iprop(semVal ((c : Thread nD τ), .dma sclSem) 0 ∗ semVal ((c : Thread nD τ), .dma (slotSem 0)) 0 ∗ semVal ((c : Thread nD τ), .dma (slotSem 1)) 0
              ∗ semVal ((c : Thread nD τ), .dma (slotSem 2)) 0)
          ∗ iprop(pt c main_v2 (V m c main_v2) ∗ pt c main_arg1 (V m c main_arg1))) := by
  rw [Pipeline.ΦD_eq, scopedRest0_eq, ownSems00_eq, hbmPts0_eq]; rfl

/-! ## The body at the one point -/

/-- The two results' windows are the ones left unnamed. -/
def forgets0 : Fin 15 → Bool := fun w => decide (13 ≤ w.val)

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)
abbrev ms0_10 (t : Fin cfg0.N) := win0_10.stage (cfg0.slots t 10)
abbrev ms0_11 (t : Fin cfg0.N) := win0_11.stage (cfg0.slots t 11)
abbrev ms0_12 (t : Fin cfg0.N) := win0_12.stage (cfg0.slots t 12)
abbrev ms0_13 (t : Fin cfg0.N) := win0_13.stage (cfg0.slots t 13)
abbrev ms0_14 (t : Fin cfg0.N) := win0_14.stage (cfg0.slots t 14)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, h⟩ => Pipeline.Dat.unnamed (cfg := cfg0) ⟨13, h⟩ t
    | ⟨14, h⟩ => Pipeline.Dat.unnamed (cfg := cfg0) ⟨14, h⟩ t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ X, owns (c : Thread nD τ) (ms0_13 t) fullShare X)
    ∗ (∃ X, owns (c : Thread nD τ) (ms0_14 t) fullShare X))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ X, owns (c : Thread nD τ) (ms0_13 t) fullShare X)
    ∗ (∃ X, owns (c : Thread nD τ) (ms0_14 t) fullShare X))

/-- The contents the kernel is given. -/
def ins (c : Dev nD) (t : Fin cfg0.N) : Ins F c :=
  ⟨iblk m c 0 t, iblk m c 1 t, iblk m c 2 t, V m c main_v2, copied (V m c main_arg1), iblk m c 3 t, iblk m c 4 t, iblk m c 5 t, iblk m c 6 t, iblk m c 7 t, iblk m c 8 t, iblk m c 9 t, iblk m c 10 t, iblk m c 11 t, iblk m c 12 t⟩

theorem ins_ok (c : Dev nD) (t : Fin cfg0.N) (h : MemOk m c) : InsOk c (ins m c t) where
  ids := fun x => by
    show (show BitVec 32 from iblk m c 1 t x).toNat < 999936
    unfold iblk
    have e := V_main_arg2 m c
    have := h.ids
    rw [← e] at this
    exact this _
  tgts := fun x => by
    show (show BitVec 32 from iblk m c 2 t x).toNat < 999936
    unfold iblk
    have e := V_main_arg4 m c
    have := h.tgts
    rw [← e] at this
    exact this _
  lens := fun b => by
    show (show BitVec 32 from iblk m c 0 t (ix24 b)).toInt ≤ 1536
    unfold iblk
    have e := V_main_arg3 m c
    have := h.lens
    rw [← e] at this
    exact this _

set_option maxHeartbeats 4000000 in
theorem sound_body (c : Dev nD) (t : Fin cfg0.N) (hm : MemOk m c) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl]
  rw [show (dats m 0 c).Φ t.castSucc = Pipeline.ΦD osem0 spec0 H0 (V m) c from rfl, PhiD0_eq]
  simp only [before0_0, after0_0, before0_1, after0_1, before0_2, after0_2, before0_3, after0_3, before0_4, after0_4, before0_5, after0_5, before0_6, after0_6, before0_7, after0_7, before0_8, after0_8, before0_9, after0_9, before0_10, after0_10, before0_11, after0_11, before0_12, after0_12]
  unfold Dat.owesAt Pipeline.owesWithin
  rw [show (dats m 0 c).owed t.castSucc = 0 from rfl, show (dats m 0 c).owed t.succ = 0 from rfl]
  obtain rfl : t = (⟨0, Nat.zero_lt_one⟩ : Fin cfg0.N) := Fin.ext (Nat.lt_one_iff.mp t.isLt)
  have hW := whole_ok (defs := defs₀ (F := F)) Variants.none c none (ins m c ⟨0, Nat.zero_lt_one⟩) (V m c main_arg1) (ins_ok m c ⟨0, Nat.zero_lt_one⟩ hm) rfl (fun _ _ _ => True) (fun _ _ => trivial)
    (fun tf tw _ _ => keeps_true c (ins m c ⟨0, Nat.zero_lt_one⟩) tf tw)
  have hB : bodyAt0 (F := F) (⟨0, Nat.zero_lt_one⟩ : Fin cfg0.N) = cc0_din aLens (Memref.isWhole_whole _) aIds (Memref.isWhole_whole _) aTgt (Memref.isWhole_whole _) hWords (Memref.isWhole_whole _) hScl (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_stg9_0) (Memref.isWhole_whole _) (Memref.whole cc0_stg10_0) (Memref.isWhole_whole _) (Memref.whole cc0_stg11_0) (Memref.isWhole_whole _) (Memref.whole cc0_stg12_0) (Memref.isWhole_whole _) (Memref.whole cc0_stg13_0) (Memref.isWhole_whole _) (Memref.whole cc0_stg14_0) (Memref.isWhole_whole _) sRows (Memref.isWhole_whole _) sLine (Memref.isWhole_whole _) sScl (Memref.isWhole_whole _) (Memref.whole cc0_scratch3) (Memref.isWhole_whole _) (Memref.whole cc0_scratch4) (Memref.isWhole_whole _) cc0_scratch5 cc0_scratch6 := rfl
  rw [hB]
  iintro ⟨⟨HS, Hg, HQ, HA⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  ihave H0 := (Entails.of_eq (owns_whole (c : Thread nD τ) cc0_stg0_0 fullShare _)) $$ H0
  ihave H1 := (Entails.of_eq (owns_whole (c : Thread nD τ) cc0_stg1_0 fullShare _)) $$ H1
  ihave H2 := (Entails.of_eq (owns_whole (c : Thread nD τ) cc0_stg2_0 fullShare _)) $$ H2
  ihave H3 := (Entails.of_eq (owns_whole (c : Thread nD τ) cc0_stg3_0 fullShare _)) $$ H3
  ihave H4 := (Entails.of_eq (owns_whole (c : Thread nD τ) cc0_stg4_0 fullShare _)) $$ H4
  ihave H5 := (Entails.of_eq (owns_whole (c : Thread nD τ) cc0_stg5_0 fullShare _)) $$ H5
  ihave H6 := (Entails.of_eq (owns_whole (c : Thread nD τ) cc0_stg6_0 fullShare _)) $$ H6
  ihave H7 := (Entails.of_eq (owns_whole (c : Thread nD τ) cc0_stg7_0 fullShare _)) $$ H7
  ihave H8 := (Entails.of_eq (owns_whole (c : Thread nD τ) cc0_stg8_0 fullShare _)) $$ H8
  ihave H9 := (Entails.of_eq (owns_whole (c : Thread nD τ) cc0_stg9_0 fullShare _)) $$ H9
  ihave H10 := (Entails.of_eq (owns_whole (c : Thread nD τ) cc0_stg10_0 fullShare _)) $$ H10
  ihave H11 := (Entails.of_eq (owns_whole (c : Thread nD τ) cc0_stg11_0 fullShare _)) $$ H11
  ihave H12 := (Entails.of_eq (owns_whole (c : Thread nD τ) cc0_stg12_0 fullShare _)) $$ H12
  ihave H13 := (Entails.of_eq (owns_whole (c : Thread nD τ) cc0_stg13_0 fullShare _)) $$ H13
  ihave H14 := (Entails.of_eq (owns_whole (c : Thread nD τ) cc0_stg14_0 fullShare _)) $$ H14
  iapply wp_wand $$ [HS HQ HA HW H0 H1 H2 H3 H4 H5 H6 H7 H8 H9 H10 H11 H12 H13 H14]
  · iapply hW
    isplitr [H13 H14]
    · unfold Start
      isplitl [H0 H1 H2 H3 H4 H5 H6 H7 H8 H9 H10 H11 H12]
      · isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      isplitl [HS]; · iexact HS
      isplitl [HQ]; · iexact HQ
      isplitl [HA]; · iexact HA
      unfold noDebt
      iexists W
      iexact HW
    isplitl [H13]
    · iexists _; iexact H13
    iexists _; iexact H14
  iintro %u HP
  unfold Start
  icases HP with ⟨⟨⟨H0, H1, H2, H3, H4, H5, H6, H7, H8, H9, H10, H11, H12⟩, HS, HQ, HA, HO⟩, ⟨%i, %sc, %it, H14, H13, -, -⟩⟩
  isplitl [HS Hg HQ HA]
  · isplitl [HS]; · iexact HS
    isplitl [Hg]; · iexact Hg
    isplitl [HQ]; · iexact HQ
    iexact HA
  isplitl [HO]
  · unfold noDebt
    icases HO with ⟨%W', HO⟩
    iexists W'; isplitr; · ipureintro; exact fun _ _ => Or.inl trivial
    iexact HO
  isplitl [H0]; · iapply (Entails.of_eq (owns_whole (c : Thread nD τ) cc0_stg0_0 fullShare _).symm); iexact H0
  isplitl [H1]; · iapply (Entails.of_eq (owns_whole (c : Thread nD τ) cc0_stg1_0 fullShare _).symm); iexact H1
  isplitl [H2]; · iapply (Entails.of_eq (owns_whole (c : Thread nD τ) cc0_stg2_0 fullShare _).symm); iexact H2
  isplitl [H3]; · iapply (Entails.of_eq (owns_whole (c : Thread nD τ) cc0_stg3_0 fullShare _).symm); iexact H3
  isplitl [H4]; · iapply (Entails.of_eq (owns_whole (c : Thread nD τ) cc0_stg4_0 fullShare _).symm); iexact H4
  isplitl [H5]; · iapply (Entails.of_eq (owns_whole (c : Thread nD τ) cc0_stg5_0 fullShare _).symm); iexact H5
  isplitl [H6]; · iapply (Entails.of_eq (owns_whole (c : Thread nD τ) cc0_stg6_0 fullShare _).symm); iexact H6
  isplitl [H7]; · iapply (Entails.of_eq (owns_whole (c : Thread nD τ) cc0_stg7_0 fullShare _).symm); iexact H7
  isplitl [H8]; · iapply (Entails.of_eq (owns_whole (c : Thread nD τ) cc0_stg8_0 fullShare _).symm); iexact H8
  isplitl [H9]; · iapply (Entails.of_eq (owns_whole (c : Thread nD τ) cc0_stg9_0 fullShare _).symm); iexact H9
  isplitl [H10]; · iapply (Entails.of_eq (owns_whole (c : Thread nD τ) cc0_stg10_0 fullShare _).symm); iexact H10
  isplitl [H11]; · iapply (Entails.of_eq (owns_whole (c : Thread nD τ) cc0_stg11_0 fullShare _).symm); iexact H11
  isplitl [H12]; · iapply (Entails.of_eq (owns_whole (c : Thread nD τ) cc0_stg12_0 fullShare _).symm); iexact H12
  isplitl [H13]
  · iexists _; iapply (Entails.of_eq (owns_whole (c : Thread nD τ) cc0_stg13_0 fullShare _).symm); iexact H13
  iexists _; iapply (Entails.of_eq (owns_whole (c : Thread nD τ) cc0_stg14_0 fullShare _).symm); iexact H14

theorem defs₀_row (t : Fin cfg0.N) : defs₀ (F := F) .tc cfg0.body (cfg0.bodyArgs t (cfg0.slots t)) = bodyAt0 t := by
  unfold defs₀; rw [Defs.onTc_tc]

theorem body_obligation (c : Dev nD) (hm : MemOk m c) : BodyObligation (dats (F := F) m 0 c) (defs₀ (F := F)) Variants.none () Set.univ forgets0 := fun t => by
  rw [bigSep_W0, bigSep_W0, defs₀_row]
  exact triple_restated (sound_body m c t hm) rfl .rfl fun _ => .rfl

/-! ## The run -/

theorem sfxD_sub : ∀ ops ∈ ([] : List (List (HloOp τ sig (Elt F)))), ∀ op ∈ ops,
    op.bufs ⊆ Pipeline.tailRefsBut sig Pipeline.Prefetch.none spec0 H0 := fun _ h => absurd h List.not_mem_nil
theorem sfxD_fresh : ∀ ops ∈ ([] : List (List (HloOp τ sig (Elt F)))), ∀ op ∈ ops, op.fresh = ∅ := fun _ h => absurd h List.not_mem_nil
theorem sfxD_keeps : ∀ ops ∈ ([] : List (List (HloOp τ sig (Elt F)))), ∀ op ∈ ops, ∀ w,
    Proc.devRef .tc (Pipeline.arrRef spec0 w) ∉ op.writes := fun _ h => absurd h List.not_mem_nil

/-- What the core's buffers hold when the kernel is entered. -/
abbrev V0 (c : Dev nD) : Valuation τ sig (Elt F) := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]) (fun b => m (c, b))

/-- No host line follows the kernel. -/
def T0 : Finset (Ref sig .tc) := ∅
theorem sfxT : ∀ ops ∈ ([] : List (List (HloOp τ sig (Elt F)))), ∀ op ∈ ops, ∀ b : Ref sig .tc, Proc.devRef .tc b ∈ op.writes → b ∈ T0 :=
  fun _ h => absurd h List.not_mem_nil

set_option backward.isDefEq.respectTransparency.types false in
theorem run_main (hm : ∀ c, MemOk m c) : θ_run defs (onTc (τ := τ) (main (F := F))) (s₀ m ρ)
    (fun r => Pipeline.RDat.FramePostR (cfgs 0) (fun c => (dats m 0 c).toRForget forgets0) T0 (V m) r ∧ r.2.sem = fun _ => 0) :=
  Pipeline.θ_run_frame_dma_around_T_forget (Q' := _) cfgs (dats m) (0 : Fin 1) launch0 osem0 defs₀ Variants.none forgets0 ownSemFacts0 H0 T0 H0_sub m ρ main
    (hbody := fun c => (body_obligation m c (hm c)).loose) (hshare := fun c => (dats m 0 c).share_full fun _ => rfl)
    (howed := fun _ _ => rfl) (V₀ := V0 m) (opss := []) (hsub := sfxD_sub) (hfresh := sfxD_fresh) (hkeep := sfxD_keeps) (hT := sfxT)
    (hmain := hmainD m Variants.none) (hA := A_eq m) (hin := fun _ => .rfl) (hout := fun _ => .rfl)

/-- The frame: the program ends, its arguments unchanged and every semaphore at zero. -/
theorem frame (hm : ∀ c, MemOk m c) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun _ ⟨h, hs⟩ => ⟨fun c => ⟨
      ((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      (((Pipeline.RDat.ArrAt_in _ 1 rfl _).le _ ((h c).1 1)).trans (V_main_arg2 m c)),
      (((Pipeline.RDat.ArrAt_in _ 0 rfl _).le _ ((h c).1 0)).trans (V_main_arg3 m c)),
      (((Pipeline.RDat.ArrAt_in _ 2 rfl _).le _ ((h c).1 2)).trans (V_main_arg4 m c)),
      ((h c).2 main_arg5 (Finset.mem_sdiff.mpr ⟨Pipeline.mem_restRefs_of main_arg5 (by decide) (by decide), by decide⟩)).trans (V_main_arg5 m c),
      ((h c).2 main_arg6 (Finset.mem_sdiff.mpr ⟨Pipeline.mem_restRefs_of main_arg6 (by decide) (by decide), by decide⟩)).trans (V_main_arg6 m c),
      ((h c).2 main_arg7 (Finset.mem_sdiff.mpr ⟨Pipeline.mem_restRefs_of main_arg7 (by decide) (by decide), by decide⟩)).trans (V_main_arg7 m c),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c),
      ((h c).2 main_arg10 (Finset.mem_sdiff.mpr ⟨Pipeline.mem_restRefs_of main_arg10 (by decide) (by decide), by decide⟩)).trans (V_main_arg10 m c),
      ((h c).2 main_arg11 (Finset.mem_sdiff.mpr ⟨Pipeline.mem_restRefs_of main_arg11 (by decide) (by decide), by decide⟩)).trans (V_main_arg11 m c),
      ((h c).2 main_arg12 (Finset.mem_sdiff.mpr ⟨Pipeline.mem_restRefs_of main_arg12 (by decide) (by decide), by decide⟩)).trans (V_main_arg12 m c)⟩, hs⟩) (run_main m ρ hm)

end Cert.Kernel.Hand

end
-- ==== Proof.lean ====
/-
  The proof of the certificate's claims: the kernel as written and read over the extended reals, and the reference, each run to an
  end with their arguments unchanged and every semaphore at zero; and the kernel's score, equal to the reference's at every position.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.RefFrame
public import proofs.«01_k».proof.Proof.Gen.Pre_rows_exist
public import proofs.«01_k».proof.Proof.Domain
public import proofs.«01_k».proof.Proof.Launched
public import proofs.«01_k».proof.Proof.Mask
public import proofs.«01_k».proof.Proof.Result
public import proofs.«01_k».proof.Proof.RefAll
public import proofs.«01_k».proof.Proof.K.Run
public import Idealize.ShloMosaic.Lib.Quiescent

@[expose] public section

namespace Cert.Proof

open Idealize.ShloMosaic Idealize.ShloMosaic.TcCoe Idealize.SL.Sem

theorem memOk_Kernel (m : (ℓ : Loc Cert.Kernel.nD Cert.Kernel.τ Cert.Kernel.sig) → Buf (Elt Bits) ℓ) (h : Cert.Pre_Kernel m) (c : Dev Cert.Kernel.nD) :
    Cert.Kernel.Hand.MemOk m c :=
  have e := Cert.Pre_rows_exist.Hand.bounds _ _ _ _ _ _ _ _ _ _ _ _ _ (fun i => i.elim0) (congrFun (h c) (fun i => i.elim0))
  ⟨e.1, e.2.1, e.2.2⟩

theorem memOk_KernelIdeal (m : (ℓ : Loc Cert.KernelIdeal.nD Cert.KernelIdeal.τ Cert.KernelIdeal.sig) → Buf (Elt Ideal) ℓ) (h : Cert.Pre_KernelIdeal m)
    (c : Dev Cert.KernelIdeal.nD) : Cert.KernelIdeal.Hand.MemOk m c :=
  have e := Cert.Pre_rows_exist.Hand.bounds _ _ _ _ _ _ _ _ _ _ _ _ _ (fun i => i.elim0) (congrFun (h c) (fun i => i.elim0))
  ⟨e.1, e.2.1, e.2.2⟩

theorem frame_p : Cert.quiescent_Kernel := fun m g h => Cert.Kernel.Hand.frame m g (memOk_Kernel m h)

theorem frame_pi : Cert.quiescent_KernelIdeal := fun m g h => Cert.KernelIdeal.Hand.frame m g (memOk_KernelIdeal m h)

/-- The two programs' memories agree on the arguments. -/
def Agreeing (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) : Prop :=
  ∀ c : Dev Cert.KernelIdeal.nD,
    m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)

theorem pre_ref (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (h : Cert.Pre_KernelIdeal m) (hagree : Agreeing m m') : Cert.Pre_ReferenceIdeal m' := by
  intro c
  obtain ⟨a0, a1, a2, a3, a4, a5, a6, a7, a8, a9, a10, a11, a12⟩ := hagree c
  rw [a0, a1, a2, a3, a4, a5, a6, a7, a8, a9, a10, a11, a12]
  exact h c

/-- The select that the reference masks its score with. -/
theorem select_slt (p : Fin 1536) (v : BitVec 32) (z : EReal) :
    Scalar.select (IntOp.cmpi CmpIPredicate.slt (BitVec.ofNat 32 p.val) v) z 0 = if (p.val : ℤ) < v.toInt then z else 0 := by
  have e : (BitVec.ofNat 32 p.val).toInt = p.val := by
    rw [BitVec.toInt_eq_toNat_cond, BitVec.toNat_ofNat, if_pos (by omega)]
    omega
  have e1 : IntOp.cmpi CmpIPredicate.slt (BitVec.ofNat 32 p.val) v = BitVec.ofBool (decide ((p.val : ℤ) < v.toInt)) := by
    show BitVec.ofBool (BitVec.slt (BitVec.ofNat 32 p.val) v) = _
    rw [BitVec.slt_eq_decide, e]
  rw [e1]
  by_cases h : (p.val : ℤ) < v.toInt
  · rw [if_pos h, decide_eq_true h]; rfl
  · rw [if_neg h, decide_eq_false h]; rfl

/-- The reference's score at a position is the kernel's. -/
theorem ref_at (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (h : Cert.Pre_KernelIdeal m) (hagree : Agreeing m m') (c : Dev Cert.KernelIdeal.nD) (b : Fin 24) (p : Fin 1536) :
    StableHlo.after Cert.ReferenceIdeal.Hand.ops (StableHlo.launchContents m' c) (Proc.devRef .tc Cert.ReferenceIdeal.main_v84) (ix2 b p) = Cert.KernelIdeal.Hand.scoreArr m c (ix2 b p) := by
  have hm := memOk_KernelIdeal m h c
  obtain ⟨a0, a1, a2, a3, a4, a5, a6, a7, a8, a9, a10, a11, a12⟩ := hagree c
  have e2 : StableHlo.launchContents m' c (Proc.devRef .tc Cert.ReferenceIdeal.main_arg2) = m ((c.tc : Thread Cert.KernelIdeal.nD Cert.KernelIdeal.τ).loc Cert.KernelIdeal.main_arg2) := a2
  have e4 : StableHlo.launchContents m' c (Proc.devRef .tc Cert.ReferenceIdeal.main_arg4) = m ((c.tc : Thread Cert.KernelIdeal.nD Cert.KernelIdeal.τ).loc Cert.KernelIdeal.main_arg4) := a4
  have hr := Cert.ReferenceIdeal.Hand.read_score (StableHlo.launchContents m' c) b p (by rw [e2]; exact hm.ids _) (by rw [e4]; exact hm.tgts _)
  refine hr.trans ((select_slt p _ _).trans ?_)
  have hs : Cert.ReferenceIdeal.Hand.refScore (StableHlo.launchContents m' c) b p = Cert.KernelIdeal.Hand.plainScore m c b p := by
    unfold Cert.ReferenceIdeal.Hand.refScore
    rw [e2, e4,
      show StableHlo.launchContents m' c (Proc.devRef .tc Cert.ReferenceIdeal.main_arg0) = m ((c.tc : Thread Cert.KernelIdeal.nD Cert.KernelIdeal.τ).loc Cert.KernelIdeal.main_arg0) from a0,
      show StableHlo.launchContents m' c (Proc.devRef .tc Cert.ReferenceIdeal.main_arg1) = m ((c.tc : Thread Cert.KernelIdeal.nD Cert.KernelIdeal.τ).loc Cert.KernelIdeal.main_arg1) from a1,
      show StableHlo.launchContents m' c (Proc.devRef .tc Cert.ReferenceIdeal.main_arg5) = m ((c.tc : Thread Cert.KernelIdeal.nD Cert.KernelIdeal.τ).loc Cert.KernelIdeal.main_arg5) from a5,
      show StableHlo.launchContents m' c (Proc.devRef .tc Cert.ReferenceIdeal.main_arg6) = m ((c.tc : Thread Cert.KernelIdeal.nD Cert.KernelIdeal.τ).loc Cert.KernelIdeal.main_arg6) from a6,
      show StableHlo.launchContents m' c (Proc.devRef .tc Cert.ReferenceIdeal.main_arg7) = m ((c.tc : Thread Cert.KernelIdeal.nD Cert.KernelIdeal.τ).loc Cert.KernelIdeal.main_arg7) from a7,
      show StableHlo.launchContents m' c (Proc.devRef .tc Cert.ReferenceIdeal.main_arg8) = m ((c.tc : Thread Cert.KernelIdeal.nD Cert.KernelIdeal.τ).loc Cert.KernelIdeal.main_arg8) from a8,
      show StableHlo.launchContents m' c (Proc.devRef .tc Cert.ReferenceIdeal.main_arg9) = m ((c.tc : Thread Cert.KernelIdeal.nD Cert.KernelIdeal.τ).loc Cert.KernelIdeal.main_arg9) from a9,
      show StableHlo.launchContents m' c (Proc.devRef .tc Cert.ReferenceIdeal.main_arg10) = m ((c.tc : Thread Cert.KernelIdeal.nD Cert.KernelIdeal.τ).loc Cert.KernelIdeal.main_arg10) from a10,
      show StableHlo.launchContents m' c (Proc.devRef .tc Cert.ReferenceIdeal.main_arg11) = m ((c.tc : Thread Cert.KernelIdeal.nD Cert.KernelIdeal.τ).loc Cert.KernelIdeal.main_arg11) from a11,
      show StableHlo.launchContents m' c (Proc.devRef .tc Cert.ReferenceIdeal.main_arg12) = m ((c.tc : Thread Cert.KernelIdeal.nD Cert.KernelIdeal.τ).loc Cert.KernelIdeal.main_arg12) from a12]
    rfl
  rw [hs, show StableHlo.launchContents m' c (Proc.devRef .tc Cert.ReferenceIdeal.main_arg3) = m ((c.tc : Thread Cert.KernelIdeal.nD Cert.KernelIdeal.τ).loc Cert.KernelIdeal.main_arg3) from a3]
  rfl

/-- The reference's array of scores is the kernel's. -/
theorem ref_arr (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
    (h : Cert.Pre_KernelIdeal m) (hagree : Agreeing m m') (c : Dev Cert.KernelIdeal.nD) :
    StableHlo.after Cert.ReferenceIdeal.Hand.ops (StableHlo.launchContents m' c) (Proc.devRef .tc Cert.ReferenceIdeal.main_v84) = Cert.KernelIdeal.Hand.scoreArr m c := by
  funext x
  have ex : x = ix2 (x 0) (x 1) := by funext a; fin_cases a <;> rfl
  exact (congrArg (StableHlo.after Cert.ReferenceIdeal.Hand.ops (StableHlo.launchContents m' c) (Proc.devRef .tc Cert.ReferenceIdeal.main_v84)) ex).trans
    ((ref_at m m' h hagree c (x 0) (x 1)).trans (congrArg (Cert.KernelIdeal.Hand.scoreArr m c) ex).symm)

/-- Over the extended reals the kernel's score is the reference's. -/
theorem algebraic : Cert.algebraic_KernelIdeal_ReferenceIdeal := by
  intro m g m' g' hpre hagree
  refine ⟨fun c => Cert.KernelIdeal.Hand.scoreArr m c, ?_, ?_⟩
  · refine (θ_run Cert.KernelIdeal.defs _ _).mono (fun r hr c => ?_) (Cert.KernelIdeal.Hand.score_run m g (fun c => Cert.KernelIdeal.Hand.Scored (Cert.KernelIdeal.Hand.given m c))
      (fun c => Cert.KernelIdeal.Hand.kept_scored m (memOk_KernelIdeal m hpre c) (Cert.KernelIdeal.Hand.given_agree m c)) (memOk_KernelIdeal m hpre))
    obtain ⟨h0, h1, h2, h3, h4, h5, h6, h7, h8, h9, h10, h11, h12, hq⟩ := hr c
    exact ⟨Cert.KernelIdeal.Hand.scored_arr m c (memOk_KernelIdeal m hpre c) _ hq, h0, h1, h2, h3, h4, h5, h6, h7, h8, h9, h10, h11, h12⟩
  · refine θ_run_mono (θ_run_and (Cert.ReferenceIdeal.Hand.refRun m' g') (frame_ri m' g' (pre_ref m m' hpre hagree))) ?_
    intro r hr c
    obtain ⟨hr1, hr2⟩ := hr
    obtain ⟨h0, h1, h2, h3, h4, h5, h6, h7, h8, h9, h10, h11, h12⟩ := hr2.1 c
    exact ⟨(hr1 c Cert.ReferenceIdeal.main_v84).trans (ref_arr m m' hpre hagree c), h0, h1, h2, h3, h4, h5, h6, h7, h8, h9, h10, h11, h12⟩

theorem claim : Cert.Claim :=
  ⟨Cert.Kernel.Gen.facts, Cert.KernelIdeal.Gen.facts, Cert.ReferenceIdeal.Gen.facts, Cert.Pre_rows_exist.Gen.facts,
    frame_p, frame_pi, frame_ri, trivial, algebraic⟩

end Cert.Proof
